-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S6x32x128 : Shape := ⟨3, ![6, 32, 128]⟩
abbrev S15360x16x128 : Shape := ⟨3, ![15360, 16, 128]⟩
abbrev S15360x16 : Shape := ⟨2, ![15360, 16]⟩
abbrev S6x2048 : Shape := ⟨2, ![6, 2048]⟩
abbrev S6 : Shape := ⟨1, ![6]⟩
abbrev S_ : Shape := ⟨0, ![]⟩
abbrev S6x1 : Shape := ⟨2, ![6, 1]⟩

class Facts : Prop where
  bcast_S_S6x2048 : S_.BroadcastsInDim S6x2048 (![] : Fin 0 → Fin S6x2048.rank)
  bcast_S_S6 : S_.BroadcastsInDim S6 (![] : Fin 0 → Fin S6.rank)
  bcast_S6_S6x1_0 : S6.BroadcastsInDim S6x1 (![0] : Fin 1 → Fin S6x1.rank)
  bcast_S6x1_S6x2048_0_1 : S6x1.BroadcastsInDim S6x2048 (![0, 1] : Fin 2 → Fin S6x2048.rank)

variable [Facts]

def fn {F : FTy → Type} [FloatOps F] (main_arg0 : FVec F S6x32x128 .bf16) (main_arg1 : FVec F S15360x16x128 .fp8e4m3) (main_arg2 : FVec F S15360x16x128 .fp8e4m3) (main_arg3 : FVec F S15360x16 .f32) (main_arg4 : IVec S6x2048 32) (main_arg5 : IVec S6 32) : IVec S6x2048 1 :=
  let main_c : IVec S_ 32 := constantI S_ 32 0#32
  let main_v0 : IVec S6x2048 32 := broadcastInDim S6x2048 ![] bcast_S_S6x2048 main_c
  let main_v1 : IVec S6x2048 1 := cmpi .sge main_arg4 main_v0
  let main_c_0 : IVec S_ 32 := constantI S_ 32 15360#32
  let main_v2 : IVec S6x2048 32 := broadcastInDim S6x2048 ![] bcast_S_S6x2048 main_c_0
  let main_v3 : IVec S6x2048 1 := cmpi .slt main_arg4 main_v2
  let main_v4 : IVec S6x2048 1 := andi main_v1 main_v3
  let main_c_1 : IVec S_ 32 := constantI S_ 32 131072#32
  let main_v5 : IVec S6 32 := broadcastInDim S6 ![] bcast_S_S6 main_c_1
  let main_v6 : IVec S6 1 := cmpi .sle main_arg5 main_v5
  let main_v7 : IVec S6x1 1 := broadcastInDim S6x1 ![0] bcast_S6_S6x1_0 main_v6
  let main_v8 : IVec S6x2048 1 := broadcastInDim S6x2048 ![0, 1] bcast_S6x1_S6x2048_0_1 main_v7
  let main_v9 : IVec S6x2048 1 := andi main_v4 main_v8
  main_v9
-- ==== Kernel.lean ====
abbrev S6x32x128 : Shape := ⟨3, ![6, 32, 128]⟩
abbrev S15360x16x128 : Shape := ⟨3, ![15360, 16, 128]⟩
abbrev S15360x16 : Shape := ⟨2, ![15360, 16]⟩
abbrev S6x2048 : Shape := ⟨2, ![6, 2048]⟩
abbrev S6 : Shape := ⟨1, ![6]⟩
abbrev S16x15360 : Shape := ⟨2, ![16, 15360]⟩
abbrev S6x32x2048 : Shape := ⟨3, ![6, 32, 2048]⟩
abbrev S512x16x128 : Shape := ⟨3, ![512, 16, 128]⟩
abbrev S16x512 : Shape := ⟨2, ![16, 512]⟩
abbrev S4x48x256 : Shape := ⟨3, ![4, 48, 256]⟩
abbrev S15360x128 : Shape := ⟨2, ![15360, 128]⟩
abbrev S2048x128 : Shape := ⟨2, ![2048, 128]⟩
abbrev S6x8x128 : Shape := ⟨3, ![6, 8, 128]⟩
abbrev S48x128 : Shape := ⟨2, ![48, 128]⟩
abbrev S1x48x128 : Shape := ⟨3, ![1, 48, 128]⟩
abbrev S8x128 : Shape := ⟨2, ![8, 128]⟩
abbrev S1x128 : Shape := ⟨2, ![1, 128]⟩
abbrev S2x128 : Shape := ⟨2, ![2, 128]⟩
abbrev S64x4x128 : Shape := ⟨3, ![64, 4, 128]⟩
abbrev S256x128 : Shape := ⟨2, ![256, 128]⟩
abbrev S256x256 : Shape := ⟨2, ![256, 256]⟩
abbrev S1x48x256 : Shape := ⟨3, ![1, 48, 256]⟩
abbrev S48x256 : Shape := ⟨2, ![48, 256]⟩
abbrev S8x128x1 : Shape := ⟨3, ![8, 128, 1]⟩
abbrev S128x128 : Shape := ⟨2, ![128, 128]⟩
abbrev S64x128 : Shape := ⟨2, ![64, 128]⟩
abbrev S128x64 : Shape := ⟨2, ![128, 64]⟩
abbrev S1 : Shape := ⟨1, ![1]⟩
abbrev S1x1 : Shape := ⟨2, ![1, 1]⟩
abbrev S1x32 : Shape := ⟨2, ![1, 32]⟩
abbrev S32x128 : Shape := ⟨2, ![32, 128]⟩
abbrev S1x32x128 : Shape := ⟨3, ![1, 32, 128]⟩
abbrev S6x2048x32 : Shape := ⟨3, ![6, 2048, 32]⟩

abbrev nBuf : Space → Nat
  | .hbm => 9
  | .vmem => 13
  | .smem => 2
  | _ => 0

abbrev bufTy : (tb : Table) → Fin (tcTables nBuf tb) → BufTy
  | .hbm, ⟨0, _⟩ => ⟨S6x32x128, .bf16⟩
  | .hbm, ⟨1, _⟩ => ⟨S15360x16x128, .fp8e4m3⟩
  | .hbm, ⟨2, _⟩ => ⟨S15360x16x128, .fp8e4m3⟩
  | .hbm, ⟨3, _⟩ => ⟨S15360x16, .f32⟩
  | .hbm, ⟨4, _⟩ => ⟨S6x2048, .i32⟩
  | .hbm, ⟨5, _⟩ => ⟨S6, .i32⟩
  | .hbm, ⟨6, _⟩ => ⟨S16x15360, .f32⟩
  | .hbm, ⟨7, _⟩ => ⟨S6x32x2048, .f32⟩
  | .hbm, ⟨8, _⟩ => ⟨S6x2048x32, .f32⟩
  | .local _ .vmem, ⟨0, _⟩ => ⟨S6x32x128, .bf16⟩
  | .local _ .vmem, ⟨1, _⟩ => ⟨S512x16x128, .fp8e4m3⟩
  | .local _ .vmem, ⟨2, _⟩ => ⟨S512x16x128, .fp8e4m3⟩
  | .local _ .vmem, ⟨3, _⟩ => ⟨S512x16x128, .fp8e4m3⟩
  | .local _ .vmem, ⟨4, _⟩ => ⟨S512x16x128, .fp8e4m3⟩
  | .local _ .vmem, ⟨5, _⟩ => ⟨S16x512, .f32⟩
  | .local _ .vmem, ⟨6, _⟩ => ⟨S16x512, .f32⟩
  | .local _ .vmem, ⟨7, _⟩ => ⟨S6x32x2048, .f32⟩
  | .local _ .vmem, ⟨8, _⟩ => ⟨S4x48x256, .bf16⟩
  | .local _ .vmem, ⟨9, _⟩ => ⟨S15360x128, .f32⟩
  | .local _ .vmem, ⟨10, _⟩ => ⟨S15360x128, .f32⟩
  | .local _ .vmem, ⟨11, _⟩ => ⟨S2048x128, .f32⟩
  | .local _ .vmem, ⟨12, _⟩ => ⟨S2048x128, .f32⟩
  | .local _ .smem, ⟨0, _⟩ => ⟨S6x2048, .i32⟩
  | .local _ .smem, ⟨1, _⟩ => ⟨S6, .i32⟩
  | _, _ => ⟨S6x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![30], ![false]⟩

def k0_off1 (i : grid0.Coords) (c0_i32_374 : BitVec 32) : Fin 2 → Nat :=
  let arg0 : BitVec 32 := BitVec.ofNat 32 (i 0).val
  let c512_i32 : BitVec 32 := 512#32
  let v1312 : BitVec 32 := Scalar.muli arg0 c512_i32
  let v1313 : BitVec 32 := Scalar.addi v1312 c0_i32_374
  let v1314 : Index := Scalar.indexCast v1313
  let c0_375 : Index := 0#32
  ![v1314.toNat, 0]
def k0_off2 (i : grid0.Coords) (c0_i32_374 : BitVec 32) : Fin 2 → Nat :=
  let arg0 : BitVec 32 := BitVec.ofNat 32 (i 0).val
  let c512_i32 : BitVec 32 := 512#32
  let v1312 : BitVec 32 := Scalar.muli arg0 c512_i32
  let v1313 : BitVec 32 := Scalar.addi v1312 c0_i32_374
  let v1318 : Index := Scalar.indexCast v1313
  let c0_376 : Index := 0#32
  ![v1318.toNat, 0]
def k0_cond2 (i : grid0.Coords) : BitVec 1 :=
  let arg0 : BitVec 32 := BitVec.ofNat 32 (i 0).val
  let c29_i32 : BitVec 32 := 29#32
  let v5072 : BitVec 1 := Scalar.cmpi .eq arg0 c29_i32
  let v5073 : BitVec 32 := Scalar.extui v5072
  let c0_i32_1509 : BitVec 32 := 0#32
  let v5074 : BitVec 1 := Scalar.cmpi .ne v5073 c0_i32_1509
  v5074

@[reducible] def k0_t1_loop (v5075 : BitVec 32) : Scf.Loop 32 :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1531 : BitVec 32 := 1#32
  ⟨c0_i32_1528, v5118, c1_i32_1531⟩

def k0_off3 (v5075 : BitVec 32) (k0_t1 : Fin (k0_t1_loop v5075).trips) : Fin 2 → Nat :=
  let c0_2208 : Index := 0#32
  let c0_i32_1528 : BitVec 32 := 0#32
  let c1_i32_1531 : BitVec 32 := 1#32
  let arg13 : BitVec 32 := Scf.iv c0_i32_1528 c1_i32_1531 k0_t1
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![0, v6553.toNat]
def k0_off4 (v6554 : BitVec 32) : Fin 2 → Nat :=
  let v6555 : Index := Scalar.indexCast v6554
  let c0_2209 : Index := 0#32
  ![v6555.toNat, 0]

def k0_chk2 (i : grid0.Coords) (v6554 : BitVec 32) : Prop :=
  (∀ (k0_h2 : k0_cond2 i = 1#1), ∀ a, (k0_off4 v6554) a + S1x32.size a ≤ S15360x128.size a)
theorem k0_off4_inb : ∀ (i : grid0.Coords) (v6554 : BitVec 32) (k0_hw2 : k0_chk2 i v6554), ∀ (k0_h2 : k0_cond2 i = 1#1), ∀ a, (k0_off4 v6554) a + S1x32.size a ≤ S15360x128.size a := fun i v6554 k0_hw2 k0_h2 => k0_hw2 k0_h2

def k0_off5 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c0_2210 : Index := 0#32
  ![v6557.toNat, 0]
def k0_off6 (v5075 : BitVec 32) (k0_t1 : Fin (k0_t1_loop v5075).trips) : Fin 2 → Nat :=
  let c0_2213 : Index := 0#32
  let c0_i32_1528 : BitVec 32 := 0#32
  let c1_i32_1531 : BitVec 32 := 1#32
  let arg13 : BitVec 32 := Scf.iv c0_i32_1528 c1_i32_1531 k0_t1
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6563 : Index := Scalar.indexCast v6562
  ![0, v6563.toNat]
def k0_off7 (v6564 : BitVec 32) : Fin 2 → Nat :=
  let v6565 : Index := Scalar.indexCast v6564
  let c0_2214 : Index := 0#32
  ![v6565.toNat, 0]

def k0_chk3 (i : grid0.Coords) (v6564 : BitVec 32) : Prop :=
  (∀ (k0_h2 : k0_cond2 i = 1#1), ∀ a, (k0_off7 v6564) a + S1x32.size a ≤ S15360x128.size a)
theorem k0_off7_inb : ∀ (i : grid0.Coords) (v6564 : BitVec 32) (k0_hw3 : k0_chk3 i v6564), ∀ (k0_h2 : k0_cond2 i = 1#1), ∀ a, (k0_off7 v6564) a + S1x32.size a ≤ S15360x128.size a := fun i v6564 k0_hw3 k0_h2 => k0_hw3 k0_h2

def k0_off8 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6567 : Index := Scalar.indexCast v6562
  let c0_2215 : Index := 0#32
  ![v6567.toNat, 0]
def k0_off9 (v5075 : BitVec 32) (k0_t1 : Fin (k0_t1_loop v5075).trips) : Fin 2 → Nat :=
  let c0_2218 : Index := 0#32
  let c0_i32_1528 : BitVec 32 := 0#32
  let c1_i32_1531 : BitVec 32 := 1#32
  let arg13 : BitVec 32 := Scf.iv c0_i32_1528 c1_i32_1531 k0_t1
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6573 : Index := Scalar.indexCast v6572
  ![0, v6573.toNat]
def k0_off10 (v6574 : BitVec 32) : Fin 2 → Nat :=
  let v6575 : Index := Scalar.indexCast v6574
  let c0_2219 : Index := 0#32
  ![v6575.toNat, 0]

def k0_chk4 (i : grid0.Coords) (v6574 : BitVec 32) : Prop :=
  (∀ (k0_h2 : k0_cond2 i = 1#1), ∀ a, (k0_off10 v6574) a + S1x32.size a ≤ S15360x128.size a)
theorem k0_off10_inb : ∀ (i : grid0.Coords) (v6574 : BitVec 32) (k0_hw4 : k0_chk4 i v6574), ∀ (k0_h2 : k0_cond2 i = 1#1), ∀ a, (k0_off10 v6574) a + S1x32.size a ≤ S15360x128.size a := fun i v6574 k0_hw4 k0_h2 => k0_hw4 k0_h2

def k0_off11 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6577 : Index := Scalar.indexCast v6572
  let c0_2220 : Index := 0#32
  ![v6577.toNat, 0]
def k0_off12 (v5075 : BitVec 32) (k0_t1 : Fin (k0_t1_loop v5075).trips) : Fin 2 → Nat :=
  let c0_2223 : Index := 0#32
  let c0_i32_1528 : BitVec 32 := 0#32
  let c1_i32_1531 : BitVec 32 := 1#32
  let arg13 : BitVec 32 := Scf.iv c0_i32_1528 c1_i32_1531 k0_t1
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6583 : Index := Scalar.indexCast v6582
  ![0, v6583.toNat]
def k0_off13 (v6584 : BitVec 32) : Fin 2 → Nat :=
  let v6585 : Index := Scalar.indexCast v6584
  let c0_2224 : Index := 0#32
  ![v6585.toNat, 0]

def k0_chk5 (i : grid0.Coords) (v6584 : BitVec 32) : Prop :=
  (∀ (k0_h2 : k0_cond2 i = 1#1), ∀ a, (k0_off13 v6584) a + S1x32.size a ≤ S15360x128.size a)
theorem k0_off13_inb : ∀ (i : grid0.Coords) (v6584 : BitVec 32) (k0_hw5 : k0_chk5 i v6584), ∀ (k0_h2 : k0_cond2 i = 1#1), ∀ a, (k0_off13 v6584) a + S1x32.size a ≤ S15360x128.size a := fun i v6584 k0_hw5 k0_h2 => k0_hw5 k0_h2

def k0_off14 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6587 : Index := Scalar.indexCast v6582
  let c0_2225 : Index := 0#32
  ![v6587.toNat, 0]
def k0_off15 (v5075 : BitVec 32) (k0_t1 : Fin (k0_t1_loop v5075).trips) : Fin 2 → Nat :=
  let c0_2228 : Index := 0#32
  let c0_i32_1528 : BitVec 32 := 0#32
  let c1_i32_1531 : BitVec 32 := 1#32
  let arg13 : BitVec 32 := Scf.iv c0_i32_1528 c1_i32_1531 k0_t1
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6593 : Index := Scalar.indexCast v6592
  ![0, v6593.toNat]
def k0_off16 (v6594 : BitVec 32) : Fin 2 → Nat :=
  let v6595 : Index := Scalar.indexCast v6594
  let c0_2229 : Index := 0#32
  ![v6595.toNat, 0]

def k0_chk6 (i : grid0.Coords) (v6594 : BitVec 32) : Prop :=
  (∀ (k0_h2 : k0_cond2 i = 1#1), ∀ a, (k0_off16 v6594) a + S1x32.size a ≤ S15360x128.size a)
theorem k0_off16_inb : ∀ (i : grid0.Coords) (v6594 : BitVec 32) (k0_hw6 : k0_chk6 i v6594), ∀ (k0_h2 : k0_cond2 i = 1#1), ∀ a, (k0_off16 v6594) a + S1x32.size a ≤ S15360x128.size a := fun i v6594 k0_hw6 k0_h2 => k0_hw6 k0_h2

def k0_off17 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6597 : Index := Scalar.indexCast v6592
  let c0_2230 : Index := 0#32
  ![v6597.toNat, 0]
def k0_off18 (v5075 : BitVec 32) (k0_t1 : Fin (k0_t1_loop v5075).trips) : Fin 2 → Nat :=
  let c0_2232 : Index := 0#32
  let c0_i32_1528 : BitVec 32 := 0#32
  let c1_i32_1531 : BitVec 32 := 1#32
  let arg13 : BitVec 32 := Scf.iv c0_i32_1528 c1_i32_1531 k0_t1
  let c32_i32_2231 : BitVec 32 := 32#32
  let v6601 : BitVec 32 := Scalar.muli arg13 c32_i32_2231
  let c5_i32 : BitVec 32 := 5#32
  let v6602 : BitVec 32 := Scalar.addi v6601 c5_i32
  let v6603 : Index := Scalar.indexCast v6602
  ![0, v6603.toNat]
def k0_off19 (v6604 : BitVec 32) : Fin 2 → Nat :=
  let v6605 : Index := Scalar.indexCast v6604
  let c0_2233 : Index := 0#32
  ![v6605.toNat, 0]

def k0_chk7 (i : grid0.Coords) (v6604 : BitVec 32) : Prop :=
  (∀ (k0_h2 : k0_cond2 i = 1#1), ∀ a, (k0_off19 v6604) a + S1x32.size a ≤ S15360x128.size a)
theorem k0_off19_inb : ∀ (i : grid0.Coords) (v6604 : BitVec 32) (k0_hw7 : k0_chk7 i v6604), ∀ (k0_h2 : k0_cond2 i = 1#1), ∀ a, (k0_off19 v6604) a + S1x32.size a ≤ S15360x128.size a := fun i v6604 k0_hw7 k0_h2 => k0_hw7 k0_h2

def k0_off20 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2231 : BitVec 32 := 32#32
  let v6601 : BitVec 32 := Scalar.muli arg13 c32_i32_2231
  let c5_i32 : BitVec 32 := 5#32
  let v6602 : BitVec 32 := Scalar.addi v6601 c5_i32
  let v6607 : Index := Scalar.indexCast v6602
  let c0_2234 : Index := 0#32
  ![v6607.toNat, 0]
def k0_off21 (v5075 : BitVec 32) (k0_t1 : Fin (k0_t1_loop v5075).trips) : Fin 2 → Nat :=
  let c0_2236 : Index := 0#32
  let c0_i32_1528 : BitVec 32 := 0#32
  let c1_i32_1531 : BitVec 32 := 1#32
  let arg13 : BitVec 32 := Scf.iv c0_i32_1528 c1_i32_1531 k0_t1
  let c32_i32_2235 : BitVec 32 := 32#32
  let v6611 : BitVec 32 := Scalar.muli arg13 c32_i32_2235
  let c6_i32 : BitVec 32 := 6#32
  let v6612 : BitVec 32 := Scalar.addi v6611 c6_i32
  let v6613 : Index := Scalar.indexCast v6612
  ![0, v6613.toNat]
def k0_off22 (v6614 : BitVec 32) : Fin 2 → Nat :=
  let v6615 : Index := Scalar.indexCast v6614
  let c0_2237 : Index := 0#32
  ![v6615.toNat, 0]

def k0_chk8 (i : grid0.Coords) (v6614 : BitVec 32) : Prop :=
  (∀ (k0_h2 : k0_cond2 i = 1#1), ∀ a, (k0_off22 v6614) a + S1x32.size a ≤ S15360x128.size a)
theorem k0_off22_inb : ∀ (i : grid0.Coords) (v6614 : BitVec 32) (k0_hw8 : k0_chk8 i v6614), ∀ (k0_h2 : k0_cond2 i = 1#1), ∀ a, (k0_off22 v6614) a + S1x32.size a ≤ S15360x128.size a := fun i v6614 k0_hw8 k0_h2 => k0_hw8 k0_h2

def k0_off23 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2235 : BitVec 32 := 32#32
  let v6611 : BitVec 32 := Scalar.muli arg13 c32_i32_2235
  let c6_i32 : BitVec 32 := 6#32
  let v6612 : BitVec 32 := Scalar.addi v6611 c6_i32
  let v6617 : Index := Scalar.indexCast v6612
  let c0_2238 : Index := 0#32
  ![v6617.toNat, 0]
def k0_off24 (v5075 : BitVec 32) (k0_t1 : Fin (k0_t1_loop v5075).trips) : Fin 2 → Nat :=
  let c0_2240 : Index := 0#32
  let c0_i32_1528 : BitVec 32 := 0#32
  let c1_i32_1531 : BitVec 32 := 1#32
  let arg13 : BitVec 32 := Scf.iv c0_i32_1528 c1_i32_1531 k0_t1
  let c32_i32_2239 : BitVec 32 := 32#32
  let v6621 : BitVec 32 := Scalar.muli arg13 c32_i32_2239
  let c7_i32 : BitVec 32 := 7#32
  let v6622 : BitVec 32 := Scalar.addi v6621 c7_i32
  let v6623 : Index := Scalar.indexCast v6622
  ![0, v6623.toNat]
def k0_off25 (v6624 : BitVec 32) : Fin 2 → Nat :=
  let v6625 : Index := Scalar.indexCast v6624
  let c0_2241 : Index := 0#32
  ![v6625.toNat, 0]

def k0_chk9 (i : grid0.Coords) (v6624 : BitVec 32) : Prop :=
  (∀ (k0_h2 : k0_cond2 i = 1#1), ∀ a, (k0_off25 v6624) a + S1x32.size a ≤ S15360x128.size a)
theorem k0_off25_inb : ∀ (i : grid0.Coords) (v6624 : BitVec 32) (k0_hw9 : k0_chk9 i v6624), ∀ (k0_h2 : k0_cond2 i = 1#1), ∀ a, (k0_off25 v6624) a + S1x32.size a ≤ S15360x128.size a := fun i v6624 k0_hw9 k0_h2 => k0_hw9 k0_h2

def k0_off26 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2239 : BitVec 32 := 32#32
  let v6621 : BitVec 32 := Scalar.muli arg13 c32_i32_2239
  let c7_i32 : BitVec 32 := 7#32
  let v6622 : BitVec 32 := Scalar.addi v6621 c7_i32
  let v6627 : Index := Scalar.indexCast v6622
  let c0_2242 : Index := 0#32
  ![v6627.toNat, 0]
def k0_off27 (v5075 : BitVec 32) (k0_t1 : Fin (k0_t1_loop v5075).trips) : Fin 2 → Nat :=
  let c0_2244 : Index := 0#32
  let c0_i32_1528 : BitVec 32 := 0#32
  let c1_i32_1531 : BitVec 32 := 1#32
  let arg13 : BitVec 32 := Scf.iv c0_i32_1528 c1_i32_1531 k0_t1
  let c32_i32_2243 : BitVec 32 := 32#32
  let v6631 : BitVec 32 := Scalar.muli arg13 c32_i32_2243
  let c8_i32 : BitVec 32 := 8#32
  let v6632 : BitVec 32 := Scalar.addi v6631 c8_i32
  let v6633 : Index := Scalar.indexCast v6632
  ![0, v6633.toNat]
def k0_off28 (v6634 : BitVec 32) : Fin 2 → Nat :=
  let v6635 : Index := Scalar.indexCast v6634
  let c0_2245 : Index := 0#32
  ![v6635.toNat, 0]

def k0_chk10 (i : grid0.Coords) (v6634 : BitVec 32) : Prop :=
  (∀ (k0_h2 : k0_cond2 i = 1#1), ∀ a, (k0_off28 v6634) a + S1x32.size a ≤ S15360x128.size a)
theorem k0_off28_inb : ∀ (i : grid0.Coords) (v6634 : BitVec 32) (k0_hw10 : k0_chk10 i v6634), ∀ (k0_h2 : k0_cond2 i = 1#1), ∀ a, (k0_off28 v6634) a + S1x32.size a ≤ S15360x128.size a := fun i v6634 k0_hw10 k0_h2 => k0_hw10 k0_h2

def k0_off29 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2243 : BitVec 32 := 32#32
  let v6631 : BitVec 32 := Scalar.muli arg13 c32_i32_2243
  let c8_i32 : BitVec 32 := 8#32
  let v6632 : BitVec 32 := Scalar.addi v6631 c8_i32
  let v6637 : Index := Scalar.indexCast v6632
  let c0_2246 : Index := 0#32
  ![v6637.toNat, 0]
def k0_off30 (v5075 : BitVec 32) (k0_t1 : Fin (k0_t1_loop v5075).trips) : Fin 2 → Nat :=
  let c0_2248 : Index := 0#32
  let c0_i32_1528 : BitVec 32 := 0#32
  let c1_i32_1531 : BitVec 32 := 1#32
  let arg13 : BitVec 32 := Scf.iv c0_i32_1528 c1_i32_1531 k0_t1
  let c32_i32_2247 : BitVec 32 := 32#32
  let v6641 : BitVec 32 := Scalar.muli arg13 c32_i32_2247
  let c9_i32 : BitVec 32 := 9#32
  let v6642 : BitVec 32 := Scalar.addi v6641 c9_i32
  let v6643 : Index := Scalar.indexCast v6642
  ![0, v6643.toNat]
def k0_off31 (v6644 : BitVec 32) : Fin 2 → Nat :=
  let v6645 : Index := Scalar.indexCast v6644
  let c0_2249 : Index := 0#32
  ![v6645.toNat, 0]

def k0_chk11 (i : grid0.Coords) (v6644 : BitVec 32) : Prop :=
  (∀ (k0_h2 : k0_cond2 i = 1#1), ∀ a, (k0_off31 v6644) a + S1x32.size a ≤ S15360x128.size a)
theorem k0_off31_inb : ∀ (i : grid0.Coords) (v6644 : BitVec 32) (k0_hw11 : k0_chk11 i v6644), ∀ (k0_h2 : k0_cond2 i = 1#1), ∀ a, (k0_off31 v6644) a + S1x32.size a ≤ S15360x128.size a := fun i v6644 k0_hw11 k0_h2 => k0_hw11 k0_h2

def k0_off32 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2247 : BitVec 32 := 32#32
  let v6641 : BitVec 32 := Scalar.muli arg13 c32_i32_2247
  let c9_i32 : BitVec 32 := 9#32
  let v6642 : BitVec 32 := Scalar.addi v6641 c9_i32
  let v6647 : Index := Scalar.indexCast v6642
  let c0_2250 : Index := 0#32
  ![v6647.toNat, 0]
def k0_off33 (v5075 : BitVec 32) (k0_t1 : Fin (k0_t1_loop v5075).trips) : Fin 2 → Nat :=
  let c0_2252 : Index := 0#32
  let c0_i32_1528 : BitVec 32 := 0#32
  let c1_i32_1531 : BitVec 32 := 1#32
  let arg13 : BitVec 32 := Scf.iv c0_i32_1528 c1_i32_1531 k0_t1
  let c32_i32_2251 : BitVec 32 := 32#32
  let v6651 : BitVec 32 := Scalar.muli arg13 c32_i32_2251
  let c10_i32 : BitVec 32 := 10#32
  let v6652 : BitVec 32 := Scalar.addi v6651 c10_i32
  let v6653 : Index := Scalar.indexCast v6652
  ![0, v6653.toNat]
def k0_off34 (v6654 : BitVec 32) : Fin 2 → Nat :=
  let v6655 : Index := Scalar.indexCast v6654
  let c0_2253 : Index := 0#32
  ![v6655.toNat, 0]

def k0_chk12 (i : grid0.Coords) (v6654 : BitVec 32) : Prop :=
  (∀ (k0_h2 : k0_cond2 i = 1#1), ∀ a, (k0_off34 v6654) a + S1x32.size a ≤ S15360x128.size a)
theorem k0_off34_inb : ∀ (i : grid0.Coords) (v6654 : BitVec 32) (k0_hw12 : k0_chk12 i v6654), ∀ (k0_h2 : k0_cond2 i = 1#1), ∀ a, (k0_off34 v6654) a + S1x32.size a ≤ S15360x128.size a := fun i v6654 k0_hw12 k0_h2 => k0_hw12 k0_h2

def k0_off35 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2251 : BitVec 32 := 32#32
  let v6651 : BitVec 32 := Scalar.muli arg13 c32_i32_2251
  let c10_i32 : BitVec 32 := 10#32
  let v6652 : BitVec 32 := Scalar.addi v6651 c10_i32
  let v6657 : Index := Scalar.indexCast v6652
  let c0_2254 : Index := 0#32
  ![v6657.toNat, 0]
def k0_off36 (v5075 : BitVec 32) (k0_t1 : Fin (k0_t1_loop v5075).trips) : Fin 2 → Nat :=
  let c0_2256 : Index := 0#32
  let c0_i32_1528 : BitVec 32 := 0#32
  let c1_i32_1531 : BitVec 32 := 1#32
  let arg13 : BitVec 32 := Scf.iv c0_i32_1528 c1_i32_1531 k0_t1
  let c32_i32_2255 : BitVec 32 := 32#32
  let v6661 : BitVec 32 := Scalar.muli arg13 c32_i32_2255
  let c11_i32 : BitVec 32 := 11#32
  let v6662 : BitVec 32 := Scalar.addi v6661 c11_i32
  let v6663 : Index := Scalar.indexCast v6662
  ![0, v6663.toNat]
def k0_off37 (v6664 : BitVec 32) : Fin 2 → Nat :=
  let v6665 : Index := Scalar.indexCast v6664
  let c0_2257 : Index := 0#32
  ![v6665.toNat, 0]

def k0_chk13 (i : grid0.Coords) (v6664 : BitVec 32) : Prop :=
  (∀ (k0_h2 : k0_cond2 i = 1#1), ∀ a, (k0_off37 v6664) a + S1x32.size a ≤ S15360x128.size a)
theorem k0_off37_inb : ∀ (i : grid0.Coords) (v6664 : BitVec 32) (k0_hw13 : k0_chk13 i v6664), ∀ (k0_h2 : k0_cond2 i = 1#1), ∀ a, (k0_off37 v6664) a + S1x32.size a ≤ S15360x128.size a := fun i v6664 k0_hw13 k0_h2 => k0_hw13 k0_h2

def k0_off38 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2255 : BitVec 32 := 32#32
  let v6661 : BitVec 32 := Scalar.muli arg13 c32_i32_2255
  let c11_i32 : BitVec 32 := 11#32
  let v6662 : BitVec 32 := Scalar.addi v6661 c11_i32
  let v6667 : Index := Scalar.indexCast v6662
  let c0_2258 : Index := 0#32
  ![v6667.toNat, 0]
def k0_off39 (v5075 : BitVec 32) (k0_t1 : Fin (k0_t1_loop v5075).trips) : Fin 2 → Nat :=
  let c0_2260 : Index := 0#32
  let c0_i32_1528 : BitVec 32 := 0#32
  let c1_i32_1531 : BitVec 32 := 1#32
  let arg13 : BitVec 32 := Scf.iv c0_i32_1528 c1_i32_1531 k0_t1
  let c32_i32_2259 : BitVec 32 := 32#32
  let v6671 : BitVec 32 := Scalar.muli arg13 c32_i32_2259
  let c12_i32 : BitVec 32 := 12#32
  let v6672 : BitVec 32 := Scalar.addi v6671 c12_i32
  let v6673 : Index := Scalar.indexCast v6672
  ![0, v6673.toNat]
def k0_off40 (v6674 : BitVec 32) : Fin 2 → Nat :=
  let v6675 : Index := Scalar.indexCast v6674
  let c0_2261 : Index := 0#32
  ![v6675.toNat, 0]

def k0_chk14 (i : grid0.Coords) (v6674 : BitVec 32) : Prop :=
  (∀ (k0_h2 : k0_cond2 i = 1#1), ∀ a, (k0_off40 v6674) a + S1x32.size a ≤ S15360x128.size a)
theorem k0_off40_inb : ∀ (i : grid0.Coords) (v6674 : BitVec 32) (k0_hw14 : k0_chk14 i v6674), ∀ (k0_h2 : k0_cond2 i = 1#1), ∀ a, (k0_off40 v6674) a + S1x32.size a ≤ S15360x128.size a := fun i v6674 k0_hw14 k0_h2 => k0_hw14 k0_h2

def k0_off41 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2259 : BitVec 32 := 32#32
  let v6671 : BitVec 32 := Scalar.muli arg13 c32_i32_2259
  let c12_i32 : BitVec 32 := 12#32
  let v6672 : BitVec 32 := Scalar.addi v6671 c12_i32
  let v6677 : Index := Scalar.indexCast v6672
  let c0_2262 : Index := 0#32
  ![v6677.toNat, 0]
def k0_off42 (v5075 : BitVec 32) (k0_t1 : Fin (k0_t1_loop v5075).trips) : Fin 2 → Nat :=
  let c0_2264 : Index := 0#32
  let c0_i32_1528 : BitVec 32 := 0#32
  let c1_i32_1531 : BitVec 32 := 1#32
  let arg13 : BitVec 32 := Scf.iv c0_i32_1528 c1_i32_1531 k0_t1
  let c32_i32_2263 : BitVec 32 := 32#32
  let v6681 : BitVec 32 := Scalar.muli arg13 c32_i32_2263
  let c13_i32 : BitVec 32 := 13#32
  let v6682 : BitVec 32 := Scalar.addi v6681 c13_i32
  let v6683 : Index := Scalar.indexCast v6682
  ![0, v6683.toNat]
def k0_off43 (v6684 : BitVec 32) : Fin 2 → Nat :=
  let v6685 : Index := Scalar.indexCast v6684
  let c0_2265 : Index := 0#32
  ![v6685.toNat, 0]

def k0_chk15 (i : grid0.Coords) (v6684 : BitVec 32) : Prop :=
  (∀ (k0_h2 : k0_cond2 i = 1#1), ∀ a, (k0_off43 v6684) a + S1x32.size a ≤ S15360x128.size a)
theorem k0_off43_inb : ∀ (i : grid0.Coords) (v6684 : BitVec 32) (k0_hw15 : k0_chk15 i v6684), ∀ (k0_h2 : k0_cond2 i = 1#1), ∀ a, (k0_off43 v6684) a + S1x32.size a ≤ S15360x128.size a := fun i v6684 k0_hw15 k0_h2 => k0_hw15 k0_h2

def k0_off44 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2263 : BitVec 32 := 32#32
  let v6681 : BitVec 32 := Scalar.muli arg13 c32_i32_2263
  let c13_i32 : BitVec 32 := 13#32
  let v6682 : BitVec 32 := Scalar.addi v6681 c13_i32
  let v6687 : Index := Scalar.indexCast v6682
  let c0_2266 : Index := 0#32
  ![v6687.toNat, 0]
def k0_off45 (v5075 : BitVec 32) (k0_t1 : Fin (k0_t1_loop v5075).trips) : Fin 2 → Nat :=
  let c0_2268 : Index := 0#32
  let c0_i32_1528 : BitVec 32 := 0#32
  let c1_i32_1531 : BitVec 32 := 1#32
  let arg13 : BitVec 32 := Scf.iv c0_i32_1528 c1_i32_1531 k0_t1
  let c32_i32_2267 : BitVec 32 := 32#32
  let v6691 : BitVec 32 := Scalar.muli arg13 c32_i32_2267
  let c14_i32 : BitVec 32 := 14#32
  let v6692 : BitVec 32 := Scalar.addi v6691 c14_i32
  let v6693 : Index := Scalar.indexCast v6692
  ![0, v6693.toNat]
def k0_off46 (v6694 : BitVec 32) : Fin 2 → Nat :=
  let v6695 : Index := Scalar.indexCast v6694
  let c0_2269 : Index := 0#32
  ![v6695.toNat, 0]

def k0_chk16 (i : grid0.Coords) (v6694 : BitVec 32) : Prop :=
  (∀ (k0_h2 : k0_cond2 i = 1#1), ∀ a, (k0_off46 v6694) a + S1x32.size a ≤ S15360x128.size a)
theorem k0_off46_inb : ∀ (i : grid0.Coords) (v6694 : BitVec 32) (k0_hw16 : k0_chk16 i v6694), ∀ (k0_h2 : k0_cond2 i = 1#1), ∀ a, (k0_off46 v6694) a + S1x32.size a ≤ S15360x128.size a := fun i v6694 k0_hw16 k0_h2 => k0_hw16 k0_h2

def k0_off47 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2267 : BitVec 32 := 32#32
  let v6691 : BitVec 32 := Scalar.muli arg13 c32_i32_2267
  let c14_i32 : BitVec 32 := 14#32
  let v6692 : BitVec 32 := Scalar.addi v6691 c14_i32
  let v6697 : Index := Scalar.indexCast v6692
  let c0_2270 : Index := 0#32
  ![v6697.toNat, 0]
def k0_off48 (v5075 : BitVec 32) (k0_t1 : Fin (k0_t1_loop v5075).trips) : Fin 2 → Nat :=
  let c0_2272 : Index := 0#32
  let c0_i32_1528 : BitVec 32 := 0#32
  let c1_i32_1531 : BitVec 32 := 1#32
  let arg13 : BitVec 32 := Scf.iv c0_i32_1528 c1_i32_1531 k0_t1
  let c32_i32_2271 : BitVec 32 := 32#32
  let v6701 : BitVec 32 := Scalar.muli arg13 c32_i32_2271
  let c15_i32 : BitVec 32 := 15#32
  let v6702 : BitVec 32 := Scalar.addi v6701 c15_i32
  let v6703 : Index := Scalar.indexCast v6702
  ![0, v6703.toNat]
def k0_off49 (v6704 : BitVec 32) : Fin 2 → Nat :=
  let v6705 : Index := Scalar.indexCast v6704
  let c0_2273 : Index := 0#32
  ![v6705.toNat, 0]

def k0_chk17 (i : grid0.Coords) (v6704 : BitVec 32) : Prop :=
  (∀ (k0_h2 : k0_cond2 i = 1#1), ∀ a, (k0_off49 v6704) a + S1x32.size a ≤ S15360x128.size a)
theorem k0_off49_inb : ∀ (i : grid0.Coords) (v6704 : BitVec 32) (k0_hw17 : k0_chk17 i v6704), ∀ (k0_h2 : k0_cond2 i = 1#1), ∀ a, (k0_off49 v6704) a + S1x32.size a ≤ S15360x128.size a := fun i v6704 k0_hw17 k0_h2 => k0_hw17 k0_h2

def k0_off50 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2271 : BitVec 32 := 32#32
  let v6701 : BitVec 32 := Scalar.muli arg13 c32_i32_2271
  let c15_i32 : BitVec 32 := 15#32
  let v6702 : BitVec 32 := Scalar.addi v6701 c15_i32
  let v6707 : Index := Scalar.indexCast v6702
  let c0_2274 : Index := 0#32
  ![v6707.toNat, 0]
def k0_off51 (v5075 : BitVec 32) (k0_t1 : Fin (k0_t1_loop v5075).trips) : Fin 2 → Nat :=
  let c0_2276 : Index := 0#32
  let c0_i32_1528 : BitVec 32 := 0#32
  let c1_i32_1531 : BitVec 32 := 1#32
  let arg13 : BitVec 32 := Scf.iv c0_i32_1528 c1_i32_1531 k0_t1
  let c32_i32_2275 : BitVec 32 := 32#32
  let v6711 : BitVec 32 := Scalar.muli arg13 c32_i32_2275
  let c16_i32 : BitVec 32 := 16#32
  let v6712 : BitVec 32 := Scalar.addi v6711 c16_i32
  let v6713 : Index := Scalar.indexCast v6712
  ![0, v6713.toNat]
def k0_off52 (v6714 : BitVec 32) : Fin 2 → Nat :=
  let v6715 : Index := Scalar.indexCast v6714
  let c0_2277 : Index := 0#32
  ![v6715.toNat, 0]

def k0_chk18 (i : grid0.Coords) (v6714 : BitVec 32) : Prop :=
  (∀ (k0_h2 : k0_cond2 i = 1#1), ∀ a, (k0_off52 v6714) a + S1x32.size a ≤ S15360x128.size a)
theorem k0_off52_inb : ∀ (i : grid0.Coords) (v6714 : BitVec 32) (k0_hw18 : k0_chk18 i v6714), ∀ (k0_h2 : k0_cond2 i = 1#1), ∀ a, (k0_off52 v6714) a + S1x32.size a ≤ S15360x128.size a := fun i v6714 k0_hw18 k0_h2 => k0_hw18 k0_h2

def k0_off53 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2275 : BitVec 32 := 32#32
  let v6711 : BitVec 32 := Scalar.muli arg13 c32_i32_2275
  let c16_i32 : BitVec 32 := 16#32
  let v6712 : BitVec 32 := Scalar.addi v6711 c16_i32
  let v6717 : Index := Scalar.indexCast v6712
  let c0_2278 : Index := 0#32
  ![v6717.toNat, 0]
def k0_off54 (v5075 : BitVec 32) (k0_t1 : Fin (k0_t1_loop v5075).trips) : Fin 2 → Nat :=
  let c0_2280 : Index := 0#32
  let c0_i32_1528 : BitVec 32 := 0#32
  let c1_i32_1531 : BitVec 32 := 1#32
  let arg13 : BitVec 32 := Scf.iv c0_i32_1528 c1_i32_1531 k0_t1
  let c32_i32_2279 : BitVec 32 := 32#32
  let v6721 : BitVec 32 := Scalar.muli arg13 c32_i32_2279
  let c17_i32 : BitVec 32 := 17#32
  let v6722 : BitVec 32 := Scalar.addi v6721 c17_i32
  let v6723 : Index := Scalar.indexCast v6722
  ![0, v6723.toNat]
def k0_off55 (v6724 : BitVec 32) : Fin 2 → Nat :=
  let v6725 : Index := Scalar.indexCast v6724
  let c0_2281 : Index := 0#32
  ![v6725.toNat, 0]

def k0_chk19 (i : grid0.Coords) (v6724 : BitVec 32) : Prop :=
  (∀ (k0_h2 : k0_cond2 i = 1#1), ∀ a, (k0_off55 v6724) a + S1x32.size a ≤ S15360x128.size a)
theorem k0_off55_inb : ∀ (i : grid0.Coords) (v6724 : BitVec 32) (k0_hw19 : k0_chk19 i v6724), ∀ (k0_h2 : k0_cond2 i = 1#1), ∀ a, (k0_off55 v6724) a + S1x32.size a ≤ S15360x128.size a := fun i v6724 k0_hw19 k0_h2 => k0_hw19 k0_h2

def k0_off56 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2279 : BitVec 32 := 32#32
  let v6721 : BitVec 32 := Scalar.muli arg13 c32_i32_2279
  let c17_i32 : BitVec 32 := 17#32
  let v6722 : BitVec 32 := Scalar.addi v6721 c17_i32
  let v6727 : Index := Scalar.indexCast v6722
  let c0_2282 : Index := 0#32
  ![v6727.toNat, 0]
def k0_off57 (v5075 : BitVec 32) (k0_t1 : Fin (k0_t1_loop v5075).trips) : Fin 2 → Nat :=
  let c0_2284 : Index := 0#32
  let c0_i32_1528 : BitVec 32 := 0#32
  let c1_i32_1531 : BitVec 32 := 1#32
  let arg13 : BitVec 32 := Scf.iv c0_i32_1528 c1_i32_1531 k0_t1
  let c32_i32_2283 : BitVec 32 := 32#32
  let v6731 : BitVec 32 := Scalar.muli arg13 c32_i32_2283
  let c18_i32 : BitVec 32 := 18#32
  let v6732 : BitVec 32 := Scalar.addi v6731 c18_i32
  let v6733 : Index := Scalar.indexCast v6732
  ![0, v6733.toNat]
def k0_off58 (v6734 : BitVec 32) : Fin 2 → Nat :=
  let v6735 : Index := Scalar.indexCast v6734
  let c0_2285 : Index := 0#32
  ![v6735.toNat, 0]

def k0_chk20 (i : grid0.Coords) (v6734 : BitVec 32) : Prop :=
  (∀ (k0_h2 : k0_cond2 i = 1#1), ∀ a, (k0_off58 v6734) a + S1x32.size a ≤ S15360x128.size a)
theorem k0_off58_inb : ∀ (i : grid0.Coords) (v6734 : BitVec 32) (k0_hw20 : k0_chk20 i v6734), ∀ (k0_h2 : k0_cond2 i = 1#1), ∀ a, (k0_off58 v6734) a + S1x32.size a ≤ S15360x128.size a := fun i v6734 k0_hw20 k0_h2 => k0_hw20 k0_h2

def k0_off59 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2283 : BitVec 32 := 32#32
  let v6731 : BitVec 32 := Scalar.muli arg13 c32_i32_2283
  let c18_i32 : BitVec 32 := 18#32
  let v6732 : BitVec 32 := Scalar.addi v6731 c18_i32
  let v6737 : Index := Scalar.indexCast v6732
  let c0_2286 : Index := 0#32
  ![v6737.toNat, 0]
def k0_off60 (v5075 : BitVec 32) (k0_t1 : Fin (k0_t1_loop v5075).trips) : Fin 2 → Nat :=
  let c0_2288 : Index := 0#32
  let c0_i32_1528 : BitVec 32 := 0#32
  let c1_i32_1531 : BitVec 32 := 1#32
  let arg13 : BitVec 32 := Scf.iv c0_i32_1528 c1_i32_1531 k0_t1
  let c32_i32_2287 : BitVec 32 := 32#32
  let v6741 : BitVec 32 := Scalar.muli arg13 c32_i32_2287
  let c19_i32 : BitVec 32 := 19#32
  let v6742 : BitVec 32 := Scalar.addi v6741 c19_i32
  let v6743 : Index := Scalar.indexCast v6742
  ![0, v6743.toNat]
def k0_off61 (v6744 : BitVec 32) : Fin 2 → Nat :=
  let v6745 : Index := Scalar.indexCast v6744
  let c0_2289 : Index := 0#32
  ![v6745.toNat, 0]

def k0_chk21 (i : grid0.Coords) (v6744 : BitVec 32) : Prop :=
  (∀ (k0_h2 : k0_cond2 i = 1#1), ∀ a, (k0_off61 v6744) a + S1x32.size a ≤ S15360x128.size a)
theorem k0_off61_inb : ∀ (i : grid0.Coords) (v6744 : BitVec 32) (k0_hw21 : k0_chk21 i v6744), ∀ (k0_h2 : k0_cond2 i = 1#1), ∀ a, (k0_off61 v6744) a + S1x32.size a ≤ S15360x128.size a := fun i v6744 k0_hw21 k0_h2 => k0_hw21 k0_h2

def k0_off62 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2287 : BitVec 32 := 32#32
  let v6741 : BitVec 32 := Scalar.muli arg13 c32_i32_2287
  let c19_i32 : BitVec 32 := 19#32
  let v6742 : BitVec 32 := Scalar.addi v6741 c19_i32
  let v6747 : Index := Scalar.indexCast v6742
  let c0_2290 : Index := 0#32
  ![v6747.toNat, 0]
def k0_off63 (v5075 : BitVec 32) (k0_t1 : Fin (k0_t1_loop v5075).trips) : Fin 2 → Nat :=
  let c0_2292 : Index := 0#32
  let c0_i32_1528 : BitVec 32 := 0#32
  let c1_i32_1531 : BitVec 32 := 1#32
  let arg13 : BitVec 32 := Scf.iv c0_i32_1528 c1_i32_1531 k0_t1
  let c32_i32_2291 : BitVec 32 := 32#32
  let v6751 : BitVec 32 := Scalar.muli arg13 c32_i32_2291
  let c20_i32 : BitVec 32 := 20#32
  let v6752 : BitVec 32 := Scalar.addi v6751 c20_i32
  let v6753 : Index := Scalar.indexCast v6752
  ![0, v6753.toNat]
def k0_off64 (v6754 : BitVec 32) : Fin 2 → Nat :=
  let v6755 : Index := Scalar.indexCast v6754
  let c0_2293 : Index := 0#32
  ![v6755.toNat, 0]

def k0_chk22 (i : grid0.Coords) (v6754 : BitVec 32) : Prop :=
  (∀ (k0_h2 : k0_cond2 i = 1#1), ∀ a, (k0_off64 v6754) a + S1x32.size a ≤ S15360x128.size a)
theorem k0_off64_inb : ∀ (i : grid0.Coords) (v6754 : BitVec 32) (k0_hw22 : k0_chk22 i v6754), ∀ (k0_h2 : k0_cond2 i = 1#1), ∀ a, (k0_off64 v6754) a + S1x32.size a ≤ S15360x128.size a := fun i v6754 k0_hw22 k0_h2 => k0_hw22 k0_h2

def k0_off65 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2291 : BitVec 32 := 32#32
  let v6751 : BitVec 32 := Scalar.muli arg13 c32_i32_2291
  let c20_i32 : BitVec 32 := 20#32
  let v6752 : BitVec 32 := Scalar.addi v6751 c20_i32
  let v6757 : Index := Scalar.indexCast v6752
  let c0_2294 : Index := 0#32
  ![v6757.toNat, 0]
def k0_off66 (v5075 : BitVec 32) (k0_t1 : Fin (k0_t1_loop v5075).trips) : Fin 2 → Nat :=
  let c0_2296 : Index := 0#32
  let c0_i32_1528 : BitVec 32 := 0#32
  let c1_i32_1531 : BitVec 32 := 1#32
  let arg13 : BitVec 32 := Scf.iv c0_i32_1528 c1_i32_1531 k0_t1
  let c32_i32_2295 : BitVec 32 := 32#32
  let v6761 : BitVec 32 := Scalar.muli arg13 c32_i32_2295
  let c21_i32 : BitVec 32 := 21#32
  let v6762 : BitVec 32 := Scalar.addi v6761 c21_i32
  let v6763 : Index := Scalar.indexCast v6762
  ![0, v6763.toNat]
def k0_off67 (v6764 : BitVec 32) : Fin 2 → Nat :=
  let v6765 : Index := Scalar.indexCast v6764
  let c0_2297 : Index := 0#32
  ![v6765.toNat, 0]

def k0_chk23 (i : grid0.Coords) (v6764 : BitVec 32) : Prop :=
  (∀ (k0_h2 : k0_cond2 i = 1#1), ∀ a, (k0_off67 v6764) a + S1x32.size a ≤ S15360x128.size a)
theorem k0_off67_inb : ∀ (i : grid0.Coords) (v6764 : BitVec 32) (k0_hw23 : k0_chk23 i v6764), ∀ (k0_h2 : k0_cond2 i = 1#1), ∀ a, (k0_off67 v6764) a + S1x32.size a ≤ S15360x128.size a := fun i v6764 k0_hw23 k0_h2 => k0_hw23 k0_h2

def k0_off68 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2295 : BitVec 32 := 32#32
  let v6761 : BitVec 32 := Scalar.muli arg13 c32_i32_2295
  let c21_i32 : BitVec 32 := 21#32
  let v6762 : BitVec 32 := Scalar.addi v6761 c21_i32
  let v6767 : Index := Scalar.indexCast v6762
  let c0_2298 : Index := 0#32
  ![v6767.toNat, 0]
def k0_off69 (v5075 : BitVec 32) (k0_t1 : Fin (k0_t1_loop v5075).trips) : Fin 2 → Nat :=
  let c0_2300 : Index := 0#32
  let c0_i32_1528 : BitVec 32 := 0#32
  let c1_i32_1531 : BitVec 32 := 1#32
  let arg13 : BitVec 32 := Scf.iv c0_i32_1528 c1_i32_1531 k0_t1
  let c32_i32_2299 : BitVec 32 := 32#32
  let v6771 : BitVec 32 := Scalar.muli arg13 c32_i32_2299
  let c22_i32 : BitVec 32 := 22#32
  let v6772 : BitVec 32 := Scalar.addi v6771 c22_i32
  let v6773 : Index := Scalar.indexCast v6772
  ![0, v6773.toNat]
def k0_off70 (v6774 : BitVec 32) : Fin 2 → Nat :=
  let v6775 : Index := Scalar.indexCast v6774
  let c0_2301 : Index := 0#32
  ![v6775.toNat, 0]

def k0_chk24 (i : grid0.Coords) (v6774 : BitVec 32) : Prop :=
  (∀ (k0_h2 : k0_cond2 i = 1#1), ∀ a, (k0_off70 v6774) a + S1x32.size a ≤ S15360x128.size a)
theorem k0_off70_inb : ∀ (i : grid0.Coords) (v6774 : BitVec 32) (k0_hw24 : k0_chk24 i v6774), ∀ (k0_h2 : k0_cond2 i = 1#1), ∀ a, (k0_off70 v6774) a + S1x32.size a ≤ S15360x128.size a := fun i v6774 k0_hw24 k0_h2 => k0_hw24 k0_h2

def k0_off71 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2299 : BitVec 32 := 32#32
  let v6771 : BitVec 32 := Scalar.muli arg13 c32_i32_2299
  let c22_i32 : BitVec 32 := 22#32
  let v6772 : BitVec 32 := Scalar.addi v6771 c22_i32
  let v6777 : Index := Scalar.indexCast v6772
  let c0_2302 : Index := 0#32
  ![v6777.toNat, 0]
def k0_off72 (v5075 : BitVec 32) (k0_t1 : Fin (k0_t1_loop v5075).trips) : Fin 2 → Nat :=
  let c0_2304 : Index := 0#32
  let c0_i32_1528 : BitVec 32 := 0#32
  let c1_i32_1531 : BitVec 32 := 1#32
  let arg13 : BitVec 32 := Scf.iv c0_i32_1528 c1_i32_1531 k0_t1
  let c32_i32_2303 : BitVec 32 := 32#32
  let v6781 : BitVec 32 := Scalar.muli arg13 c32_i32_2303
  let c23_i32 : BitVec 32 := 23#32
  let v6782 : BitVec 32 := Scalar.addi v6781 c23_i32
  let v6783 : Index := Scalar.indexCast v6782
  ![0, v6783.toNat]
def k0_off73 (v6784 : BitVec 32) : Fin 2 → Nat :=
  let v6785 : Index := Scalar.indexCast v6784
  let c0_2305 : Index := 0#32
  ![v6785.toNat, 0]

def k0_chk25 (i : grid0.Coords) (v6784 : BitVec 32) : Prop :=
  (∀ (k0_h2 : k0_cond2 i = 1#1), ∀ a, (k0_off73 v6784) a + S1x32.size a ≤ S15360x128.size a)
theorem k0_off73_inb : ∀ (i : grid0.Coords) (v6784 : BitVec 32) (k0_hw25 : k0_chk25 i v6784), ∀ (k0_h2 : k0_cond2 i = 1#1), ∀ a, (k0_off73 v6784) a + S1x32.size a ≤ S15360x128.size a := fun i v6784 k0_hw25 k0_h2 => k0_hw25 k0_h2

def k0_off74 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2303 : BitVec 32 := 32#32
  let v6781 : BitVec 32 := Scalar.muli arg13 c32_i32_2303
  let c23_i32 : BitVec 32 := 23#32
  let v6782 : BitVec 32 := Scalar.addi v6781 c23_i32
  let v6787 : Index := Scalar.indexCast v6782
  let c0_2306 : Index := 0#32
  ![v6787.toNat, 0]
def k0_off75 (v5075 : BitVec 32) (k0_t1 : Fin (k0_t1_loop v5075).trips) : Fin 2 → Nat :=
  let c0_2308 : Index := 0#32
  let c0_i32_1528 : BitVec 32 := 0#32
  let c1_i32_1531 : BitVec 32 := 1#32
  let arg13 : BitVec 32 := Scf.iv c0_i32_1528 c1_i32_1531 k0_t1
  let c32_i32_2307 : BitVec 32 := 32#32
  let v6791 : BitVec 32 := Scalar.muli arg13 c32_i32_2307
  let c24_i32 : BitVec 32 := 24#32
  let v6792 : BitVec 32 := Scalar.addi v6791 c24_i32
  let v6793 : Index := Scalar.indexCast v6792
  ![0, v6793.toNat]
def k0_off76 (v6794 : BitVec 32) : Fin 2 → Nat :=
  let v6795 : Index := Scalar.indexCast v6794
  let c0_2309 : Index := 0#32
  ![v6795.toNat, 0]

def k0_chk26 (i : grid0.Coords) (v6794 : BitVec 32) : Prop :=
  (∀ (k0_h2 : k0_cond2 i = 1#1), ∀ a, (k0_off76 v6794) a + S1x32.size a ≤ S15360x128.size a)
theorem k0_off76_inb : ∀ (i : grid0.Coords) (v6794 : BitVec 32) (k0_hw26 : k0_chk26 i v6794), ∀ (k0_h2 : k0_cond2 i = 1#1), ∀ a, (k0_off76 v6794) a + S1x32.size a ≤ S15360x128.size a := fun i v6794 k0_hw26 k0_h2 => k0_hw26 k0_h2

def k0_off77 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2307 : BitVec 32 := 32#32
  let v6791 : BitVec 32 := Scalar.muli arg13 c32_i32_2307
  let c24_i32 : BitVec 32 := 24#32
  let v6792 : BitVec 32 := Scalar.addi v6791 c24_i32
  let v6797 : Index := Scalar.indexCast v6792
  let c0_2310 : Index := 0#32
  ![v6797.toNat, 0]
def k0_off78 (v5075 : BitVec 32) (k0_t1 : Fin (k0_t1_loop v5075).trips) : Fin 2 → Nat :=
  let c0_2312 : Index := 0#32
  let c0_i32_1528 : BitVec 32 := 0#32
  let c1_i32_1531 : BitVec 32 := 1#32
  let arg13 : BitVec 32 := Scf.iv c0_i32_1528 c1_i32_1531 k0_t1
  let c32_i32_2311 : BitVec 32 := 32#32
  let v6801 : BitVec 32 := Scalar.muli arg13 c32_i32_2311
  let c25_i32 : BitVec 32 := 25#32
  let v6802 : BitVec 32 := Scalar.addi v6801 c25_i32
  let v6803 : Index := Scalar.indexCast v6802
  ![0, v6803.toNat]
def k0_off79 (v6804 : BitVec 32) : Fin 2 → Nat :=
  let v6805 : Index := Scalar.indexCast v6804
  let c0_2313 : Index := 0#32
  ![v6805.toNat, 0]

def k0_chk27 (i : grid0.Coords) (v6804 : BitVec 32) : Prop :=
  (∀ (k0_h2 : k0_cond2 i = 1#1), ∀ a, (k0_off79 v6804) a + S1x32.size a ≤ S15360x128.size a)
theorem k0_off79_inb : ∀ (i : grid0.Coords) (v6804 : BitVec 32) (k0_hw27 : k0_chk27 i v6804), ∀ (k0_h2 : k0_cond2 i = 1#1), ∀ a, (k0_off79 v6804) a + S1x32.size a ≤ S15360x128.size a := fun i v6804 k0_hw27 k0_h2 => k0_hw27 k0_h2

def k0_off80 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2311 : BitVec 32 := 32#32
  let v6801 : BitVec 32 := Scalar.muli arg13 c32_i32_2311
  let c25_i32 : BitVec 32 := 25#32
  let v6802 : BitVec 32 := Scalar.addi v6801 c25_i32
  let v6807 : Index := Scalar.indexCast v6802
  let c0_2314 : Index := 0#32
  ![v6807.toNat, 0]
def k0_off81 (v5075 : BitVec 32) (k0_t1 : Fin (k0_t1_loop v5075).trips) : Fin 2 → Nat :=
  let c0_2316 : Index := 0#32
  let c0_i32_1528 : BitVec 32 := 0#32
  let c1_i32_1531 : BitVec 32 := 1#32
  let arg13 : BitVec 32 := Scf.iv c0_i32_1528 c1_i32_1531 k0_t1
  let c32_i32_2315 : BitVec 32 := 32#32
  let v6811 : BitVec 32 := Scalar.muli arg13 c32_i32_2315
  let c26_i32 : BitVec 32 := 26#32
  let v6812 : BitVec 32 := Scalar.addi v6811 c26_i32
  let v6813 : Index := Scalar.indexCast v6812
  ![0, v6813.toNat]
def k0_off82 (v6814 : BitVec 32) : Fin 2 → Nat :=
  let v6815 : Index := Scalar.indexCast v6814
  let c0_2317 : Index := 0#32
  ![v6815.toNat, 0]

def k0_chk28 (i : grid0.Coords) (v6814 : BitVec 32) : Prop :=
  (∀ (k0_h2 : k0_cond2 i = 1#1), ∀ a, (k0_off82 v6814) a + S1x32.size a ≤ S15360x128.size a)
theorem k0_off82_inb : ∀ (i : grid0.Coords) (v6814 : BitVec 32) (k0_hw28 : k0_chk28 i v6814), ∀ (k0_h2 : k0_cond2 i = 1#1), ∀ a, (k0_off82 v6814) a + S1x32.size a ≤ S15360x128.size a := fun i v6814 k0_hw28 k0_h2 => k0_hw28 k0_h2

def k0_off83 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2315 : BitVec 32 := 32#32
  let v6811 : BitVec 32 := Scalar.muli arg13 c32_i32_2315
  let c26_i32 : BitVec 32 := 26#32
  let v6812 : BitVec 32 := Scalar.addi v6811 c26_i32
  let v6817 : Index := Scalar.indexCast v6812
  let c0_2318 : Index := 0#32
  ![v6817.toNat, 0]
def k0_off84 (v5075 : BitVec 32) (k0_t1 : Fin (k0_t1_loop v5075).trips) : Fin 2 → Nat :=
  let c0_2320 : Index := 0#32
  let c0_i32_1528 : BitVec 32 := 0#32
  let c1_i32_1531 : BitVec 32 := 1#32
  let arg13 : BitVec 32 := Scf.iv c0_i32_1528 c1_i32_1531 k0_t1
  let c32_i32_2319 : BitVec 32 := 32#32
  let v6821 : BitVec 32 := Scalar.muli arg13 c32_i32_2319
  let c27_i32 : BitVec 32 := 27#32
  let v6822 : BitVec 32 := Scalar.addi v6821 c27_i32
  let v6823 : Index := Scalar.indexCast v6822
  ![0, v6823.toNat]
def k0_off85 (v6824 : BitVec 32) : Fin 2 → Nat :=
  let v6825 : Index := Scalar.indexCast v6824
  let c0_2321 : Index := 0#32
  ![v6825.toNat, 0]

def k0_chk29 (i : grid0.Coords) (v6824 : BitVec 32) : Prop :=
  (∀ (k0_h2 : k0_cond2 i = 1#1), ∀ a, (k0_off85 v6824) a + S1x32.size a ≤ S15360x128.size a)
theorem k0_off85_inb : ∀ (i : grid0.Coords) (v6824 : BitVec 32) (k0_hw29 : k0_chk29 i v6824), ∀ (k0_h2 : k0_cond2 i = 1#1), ∀ a, (k0_off85 v6824) a + S1x32.size a ≤ S15360x128.size a := fun i v6824 k0_hw29 k0_h2 => k0_hw29 k0_h2

def k0_off86 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2319 : BitVec 32 := 32#32
  let v6821 : BitVec 32 := Scalar.muli arg13 c32_i32_2319
  let c27_i32 : BitVec 32 := 27#32
  let v6822 : BitVec 32 := Scalar.addi v6821 c27_i32
  let v6827 : Index := Scalar.indexCast v6822
  let c0_2322 : Index := 0#32
  ![v6827.toNat, 0]
def k0_off87 (v5075 : BitVec 32) (k0_t1 : Fin (k0_t1_loop v5075).trips) : Fin 2 → Nat :=
  let c0_2324 : Index := 0#32
  let c0_i32_1528 : BitVec 32 := 0#32
  let c1_i32_1531 : BitVec 32 := 1#32
  let arg13 : BitVec 32 := Scf.iv c0_i32_1528 c1_i32_1531 k0_t1
  let c32_i32_2323 : BitVec 32 := 32#32
  let v6831 : BitVec 32 := Scalar.muli arg13 c32_i32_2323
  let c28_i32 : BitVec 32 := 28#32
  let v6832 : BitVec 32 := Scalar.addi v6831 c28_i32
  let v6833 : Index := Scalar.indexCast v6832
  ![0, v6833.toNat]
def k0_off88 (v6834 : BitVec 32) : Fin 2 → Nat :=
  let v6835 : Index := Scalar.indexCast v6834
  let c0_2325 : Index := 0#32
  ![v6835.toNat, 0]

def k0_chk30 (i : grid0.Coords) (v6834 : BitVec 32) : Prop :=
  (∀ (k0_h2 : k0_cond2 i = 1#1), ∀ a, (k0_off88 v6834) a + S1x32.size a ≤ S15360x128.size a)
theorem k0_off88_inb : ∀ (i : grid0.Coords) (v6834 : BitVec 32) (k0_hw30 : k0_chk30 i v6834), ∀ (k0_h2 : k0_cond2 i = 1#1), ∀ a, (k0_off88 v6834) a + S1x32.size a ≤ S15360x128.size a := fun i v6834 k0_hw30 k0_h2 => k0_hw30 k0_h2

def k0_off89 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2323 : BitVec 32 := 32#32
  let v6831 : BitVec 32 := Scalar.muli arg13 c32_i32_2323
  let c28_i32 : BitVec 32 := 28#32
  let v6832 : BitVec 32 := Scalar.addi v6831 c28_i32
  let v6837 : Index := Scalar.indexCast v6832
  let c0_2326 : Index := 0#32
  ![v6837.toNat, 0]
def k0_off90 (v5075 : BitVec 32) (k0_t1 : Fin (k0_t1_loop v5075).trips) : Fin 2 → Nat :=
  let c0_2329 : Index := 0#32
  let c0_i32_1528 : BitVec 32 := 0#32
  let c1_i32_1531 : BitVec 32 := 1#32
  let arg13 : BitVec 32 := Scf.iv c0_i32_1528 c1_i32_1531 k0_t1
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6843 : Index := Scalar.indexCast v6842
  ![0, v6843.toNat]
def k0_off91 (v6844 : BitVec 32) : Fin 2 → Nat :=
  let v6845 : Index := Scalar.indexCast v6844
  let c0_2330 : Index := 0#32
  ![v6845.toNat, 0]

def k0_chk31 (i : grid0.Coords) (v6844 : BitVec 32) : Prop :=
  (∀ (k0_h2 : k0_cond2 i = 1#1), ∀ a, (k0_off91 v6844) a + S1x32.size a ≤ S15360x128.size a)
theorem k0_off91_inb : ∀ (i : grid0.Coords) (v6844 : BitVec 32) (k0_hw31 : k0_chk31 i v6844), ∀ (k0_h2 : k0_cond2 i = 1#1), ∀ a, (k0_off91 v6844) a + S1x32.size a ≤ S15360x128.size a := fun i v6844 k0_hw31 k0_h2 => k0_hw31 k0_h2

def k0_off92 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6847 : Index := Scalar.indexCast v6842
  let c0_2331 : Index := 0#32
  ![v6847.toNat, 0]
def k0_off93 (v5075 : BitVec 32) (k0_t1 : Fin (k0_t1_loop v5075).trips) : Fin 2 → Nat :=
  let c0_2333 : Index := 0#32
  let c0_i32_1528 : BitVec 32 := 0#32
  let c1_i32_1531 : BitVec 32 := 1#32
  let arg13 : BitVec 32 := Scf.iv c0_i32_1528 c1_i32_1531 k0_t1
  let c32_i32_2332 : BitVec 32 := 32#32
  let v6851 : BitVec 32 := Scalar.muli arg13 c32_i32_2332
  let c30_i32 : BitVec 32 := 30#32
  let v6852 : BitVec 32 := Scalar.addi v6851 c30_i32
  let v6853 : Index := Scalar.indexCast v6852
  ![0, v6853.toNat]
def k0_off94 (v6854 : BitVec 32) : Fin 2 → Nat :=
  let v6855 : Index := Scalar.indexCast v6854
  let c0_2334 : Index := 0#32
  ![v6855.toNat, 0]

def k0_chk32 (i : grid0.Coords) (v6854 : BitVec 32) : Prop :=
  (∀ (k0_h2 : k0_cond2 i = 1#1), ∀ a, (k0_off94 v6854) a + S1x32.size a ≤ S15360x128.size a)
theorem k0_off94_inb : ∀ (i : grid0.Coords) (v6854 : BitVec 32) (k0_hw32 : k0_chk32 i v6854), ∀ (k0_h2 : k0_cond2 i = 1#1), ∀ a, (k0_off94 v6854) a + S1x32.size a ≤ S15360x128.size a := fun i v6854 k0_hw32 k0_h2 => k0_hw32 k0_h2

def k0_off95 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2332 : BitVec 32 := 32#32
  let v6851 : BitVec 32 := Scalar.muli arg13 c32_i32_2332
  let c30_i32 : BitVec 32 := 30#32
  let v6852 : BitVec 32 := Scalar.addi v6851 c30_i32
  let v6857 : Index := Scalar.indexCast v6852
  let c0_2335 : Index := 0#32
  ![v6857.toNat, 0]
def k0_off96 (v5075 : BitVec 32) (k0_t1 : Fin (k0_t1_loop v5075).trips) : Fin 2 → Nat :=
  let c0_2337 : Index := 0#32
  let c0_i32_1528 : BitVec 32 := 0#32
  let c1_i32_1531 : BitVec 32 := 1#32
  let arg13 : BitVec 32 := Scf.iv c0_i32_1528 c1_i32_1531 k0_t1
  let c32_i32_2336 : BitVec 32 := 32#32
  let v6861 : BitVec 32 := Scalar.muli arg13 c32_i32_2336
  let c31_i32 : BitVec 32 := 31#32
  let v6862 : BitVec 32 := Scalar.addi v6861 c31_i32
  let v6863 : Index := Scalar.indexCast v6862
  ![0, v6863.toNat]
def k0_off97 (v6864 : BitVec 32) : Fin 2 → Nat :=
  let v6865 : Index := Scalar.indexCast v6864
  let c0_2338 : Index := 0#32
  ![v6865.toNat, 0]

def k0_chk33 (i : grid0.Coords) (v6864 : BitVec 32) : Prop :=
  (∀ (k0_h2 : k0_cond2 i = 1#1), ∀ a, (k0_off97 v6864) a + S1x32.size a ≤ S15360x128.size a)
theorem k0_off97_inb : ∀ (i : grid0.Coords) (v6864 : BitVec 32) (k0_hw33 : k0_chk33 i v6864), ∀ (k0_h2 : k0_cond2 i = 1#1), ∀ a, (k0_off97 v6864) a + S1x32.size a ≤ S15360x128.size a := fun i v6864 k0_hw33 k0_h2 => k0_hw33 k0_h2

def k0_off98 (v5075 : BitVec 32) (k0_t1 : Fin (k0_t1_loop v5075).trips) : Fin 2 → Nat :=
  let c0_i32_1528 : BitVec 32 := 0#32
  let c1_i32_1531 : BitVec 32 := 1#32
  let arg13 : BitVec 32 := Scf.iv c0_i32_1528 c1_i32_1531 k0_t1
  let c32_i32_2336 : BitVec 32 := 32#32
  let v6861 : BitVec 32 := Scalar.muli arg13 c32_i32_2336
  let c31_i32 : BitVec 32 := 31#32
  let v6862 : BitVec 32 := Scalar.addi v6861 c31_i32
  let v6867 : Index := Scalar.indexCast v6862
  let c0_2339 : Index := 0#32
  ![v6867.toNat, 0]
@[reducible] def k0_t2_loop (v5075 : BitVec 32) : Scf.Loop 32 :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let v5115 : BitVec 32 := Scalar.addi c0_i32_1528 v5114
  let c1_i32_1532 : BitVec 32 := 1#32
  ⟨v5118, v5115, c1_i32_1532⟩
def k0_off99 (v5075 : BitVec 32) (k0_t2 : Fin (k0_t2_loop v5075).trips) : Fin 2 → Nat :=
  let c0_2208 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![0, v6553.toNat]
def k0_off100 (v6554 : BitVec 32) : Fin 2 → Nat :=
  let v6555 : Index := Scalar.indexCast v6554
  let c0_2209 : Index := 0#32
  ![v6555.toNat, 0]

def k0_chk34 (i : grid0.Coords) (v6554 : BitVec 32) : Prop :=
  (∀ (k0_h2 : k0_cond2 i = 1#1), ∀ a, (k0_off100 v6554) a + S1x32.size a ≤ S15360x128.size a)
theorem k0_off100_inb : ∀ (i : grid0.Coords) (v6554 : BitVec 32) (k0_hw34 : k0_chk34 i v6554), ∀ (k0_h2 : k0_cond2 i = 1#1), ∀ a, (k0_off100 v6554) a + S1x32.size a ≤ S15360x128.size a := fun i v6554 k0_hw34 k0_h2 => k0_hw34 k0_h2

def k0_off101 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c0_2210 : Index := 0#32
  ![v6557.toNat, 0]
def k0_off102 (v5075 : BitVec 32) (k0_t2 : Fin (k0_t2_loop v5075).trips) : Fin 2 → Nat :=
  let c0_2213 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6563 : Index := Scalar.indexCast v6562
  ![0, v6563.toNat]
def k0_off103 (v6564 : BitVec 32) : Fin 2 → Nat :=
  let v6565 : Index := Scalar.indexCast v6564
  let c0_2214 : Index := 0#32
  ![v6565.toNat, 0]

def k0_chk35 (i : grid0.Coords) (v6564 : BitVec 32) : Prop :=
  (∀ (k0_h2 : k0_cond2 i = 1#1), ∀ a, (k0_off103 v6564) a + S1x32.size a ≤ S15360x128.size a)
theorem k0_off103_inb : ∀ (i : grid0.Coords) (v6564 : BitVec 32) (k0_hw35 : k0_chk35 i v6564), ∀ (k0_h2 : k0_cond2 i = 1#1), ∀ a, (k0_off103 v6564) a + S1x32.size a ≤ S15360x128.size a := fun i v6564 k0_hw35 k0_h2 => k0_hw35 k0_h2

def k0_off104 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6567 : Index := Scalar.indexCast v6562
  let c0_2215 : Index := 0#32
  ![v6567.toNat, 0]
def k0_off105 (v5075 : BitVec 32) (k0_t2 : Fin (k0_t2_loop v5075).trips) : Fin 2 → Nat :=
  let c0_2218 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6573 : Index := Scalar.indexCast v6572
  ![0, v6573.toNat]
def k0_off106 (v6574 : BitVec 32) : Fin 2 → Nat :=
  let v6575 : Index := Scalar.indexCast v6574
  let c0_2219 : Index := 0#32
  ![v6575.toNat, 0]

def k0_chk36 (i : grid0.Coords) (v6574 : BitVec 32) : Prop :=
  (∀ (k0_h2 : k0_cond2 i = 1#1), ∀ a, (k0_off106 v6574) a + S1x32.size a ≤ S15360x128.size a)
theorem k0_off106_inb : ∀ (i : grid0.Coords) (v6574 : BitVec 32) (k0_hw36 : k0_chk36 i v6574), ∀ (k0_h2 : k0_cond2 i = 1#1), ∀ a, (k0_off106 v6574) a + S1x32.size a ≤ S15360x128.size a := fun i v6574 k0_hw36 k0_h2 => k0_hw36 k0_h2

def k0_off107 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6577 : Index := Scalar.indexCast v6572
  let c0_2220 : Index := 0#32
  ![v6577.toNat, 0]
def k0_off108 (v5075 : BitVec 32) (k0_t2 : Fin (k0_t2_loop v5075).trips) : Fin 2 → Nat :=
  let c0_2223 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6583 : Index := Scalar.indexCast v6582
  ![0, v6583.toNat]
def k0_off109 (v6584 : BitVec 32) : Fin 2 → Nat :=
  let v6585 : Index := Scalar.indexCast v6584
  let c0_2224 : Index := 0#32
  ![v6585.toNat, 0]

def k0_chk37 (i : grid0.Coords) (v6584 : BitVec 32) : Prop :=
  (∀ (k0_h2 : k0_cond2 i = 1#1), ∀ a, (k0_off109 v6584) a + S1x32.size a ≤ S15360x128.size a)
theorem k0_off109_inb : ∀ (i : grid0.Coords) (v6584 : BitVec 32) (k0_hw37 : k0_chk37 i v6584), ∀ (k0_h2 : k0_cond2 i = 1#1), ∀ a, (k0_off109 v6584) a + S1x32.size a ≤ S15360x128.size a := fun i v6584 k0_hw37 k0_h2 => k0_hw37 k0_h2

def k0_off110 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6587 : Index := Scalar.indexCast v6582
  let c0_2225 : Index := 0#32
  ![v6587.toNat, 0]
def k0_off111 (v5075 : BitVec 32) (k0_t2 : Fin (k0_t2_loop v5075).trips) : Fin 2 → Nat :=
  let c0_2228 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6593 : Index := Scalar.indexCast v6592
  ![0, v6593.toNat]
def k0_off112 (v6594 : BitVec 32) : Fin 2 → Nat :=
  let v6595 : Index := Scalar.indexCast v6594
  let c0_2229 : Index := 0#32
  ![v6595.toNat, 0]

def k0_chk38 (i : grid0.Coords) (v6594 : BitVec 32) : Prop :=
  (∀ (k0_h2 : k0_cond2 i = 1#1), ∀ a, (k0_off112 v6594) a + S1x32.size a ≤ S15360x128.size a)
theorem k0_off112_inb : ∀ (i : grid0.Coords) (v6594 : BitVec 32) (k0_hw38 : k0_chk38 i v6594), ∀ (k0_h2 : k0_cond2 i = 1#1), ∀ a, (k0_off112 v6594) a + S1x32.size a ≤ S15360x128.size a := fun i v6594 k0_hw38 k0_h2 => k0_hw38 k0_h2

def k0_off113 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6597 : Index := Scalar.indexCast v6592
  let c0_2230 : Index := 0#32
  ![v6597.toNat, 0]
def k0_off114 (v5075 : BitVec 32) (k0_t2 : Fin (k0_t2_loop v5075).trips) : Fin 2 → Nat :=
  let c0_2232 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2231 : BitVec 32 := 32#32
  let v6601 : BitVec 32 := Scalar.muli arg13 c32_i32_2231
  let c5_i32 : BitVec 32 := 5#32
  let v6602 : BitVec 32 := Scalar.addi v6601 c5_i32
  let v6603 : Index := Scalar.indexCast v6602
  ![0, v6603.toNat]
def k0_off115 (v6604 : BitVec 32) : Fin 2 → Nat :=
  let v6605 : Index := Scalar.indexCast v6604
  let c0_2233 : Index := 0#32
  ![v6605.toNat, 0]

def k0_chk39 (i : grid0.Coords) (v6604 : BitVec 32) : Prop :=
  (∀ (k0_h2 : k0_cond2 i = 1#1), ∀ a, (k0_off115 v6604) a + S1x32.size a ≤ S15360x128.size a)
theorem k0_off115_inb : ∀ (i : grid0.Coords) (v6604 : BitVec 32) (k0_hw39 : k0_chk39 i v6604), ∀ (k0_h2 : k0_cond2 i = 1#1), ∀ a, (k0_off115 v6604) a + S1x32.size a ≤ S15360x128.size a := fun i v6604 k0_hw39 k0_h2 => k0_hw39 k0_h2

def k0_off116 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2231 : BitVec 32 := 32#32
  let v6601 : BitVec 32 := Scalar.muli arg13 c32_i32_2231
  let c5_i32 : BitVec 32 := 5#32
  let v6602 : BitVec 32 := Scalar.addi v6601 c5_i32
  let v6607 : Index := Scalar.indexCast v6602
  let c0_2234 : Index := 0#32
  ![v6607.toNat, 0]
def k0_off117 (v5075 : BitVec 32) (k0_t2 : Fin (k0_t2_loop v5075).trips) : Fin 2 → Nat :=
  let c0_2236 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2235 : BitVec 32 := 32#32
  let v6611 : BitVec 32 := Scalar.muli arg13 c32_i32_2235
  let c6_i32 : BitVec 32 := 6#32
  let v6612 : BitVec 32 := Scalar.addi v6611 c6_i32
  let v6613 : Index := Scalar.indexCast v6612
  ![0, v6613.toNat]
def k0_off118 (v6614 : BitVec 32) : Fin 2 → Nat :=
  let v6615 : Index := Scalar.indexCast v6614
  let c0_2237 : Index := 0#32
  ![v6615.toNat, 0]

def k0_chk40 (i : grid0.Coords) (v6614 : BitVec 32) : Prop :=
  (∀ (k0_h2 : k0_cond2 i = 1#1), ∀ a, (k0_off118 v6614) a + S1x32.size a ≤ S15360x128.size a)
theorem k0_off118_inb : ∀ (i : grid0.Coords) (v6614 : BitVec 32) (k0_hw40 : k0_chk40 i v6614), ∀ (k0_h2 : k0_cond2 i = 1#1), ∀ a, (k0_off118 v6614) a + S1x32.size a ≤ S15360x128.size a := fun i v6614 k0_hw40 k0_h2 => k0_hw40 k0_h2

def k0_off119 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2235 : BitVec 32 := 32#32
  let v6611 : BitVec 32 := Scalar.muli arg13 c32_i32_2235
  let c6_i32 : BitVec 32 := 6#32
  let v6612 : BitVec 32 := Scalar.addi v6611 c6_i32
  let v6617 : Index := Scalar.indexCast v6612
  let c0_2238 : Index := 0#32
  ![v6617.toNat, 0]
def k0_off120 (v5075 : BitVec 32) (k0_t2 : Fin (k0_t2_loop v5075).trips) : Fin 2 → Nat :=
  let c0_2240 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2239 : BitVec 32 := 32#32
  let v6621 : BitVec 32 := Scalar.muli arg13 c32_i32_2239
  let c7_i32 : BitVec 32 := 7#32
  let v6622 : BitVec 32 := Scalar.addi v6621 c7_i32
  let v6623 : Index := Scalar.indexCast v6622
  ![0, v6623.toNat]
def k0_off121 (v6624 : BitVec 32) : Fin 2 → Nat :=
  let v6625 : Index := Scalar.indexCast v6624
  let c0_2241 : Index := 0#32
  ![v6625.toNat, 0]

def k0_chk41 (i : grid0.Coords) (v6624 : BitVec 32) : Prop :=
  (∀ (k0_h2 : k0_cond2 i = 1#1), ∀ a, (k0_off121 v6624) a + S1x32.size a ≤ S15360x128.size a)
theorem k0_off121_inb : ∀ (i : grid0.Coords) (v6624 : BitVec 32) (k0_hw41 : k0_chk41 i v6624), ∀ (k0_h2 : k0_cond2 i = 1#1), ∀ a, (k0_off121 v6624) a + S1x32.size a ≤ S15360x128.size a := fun i v6624 k0_hw41 k0_h2 => k0_hw41 k0_h2

def k0_off122 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2239 : BitVec 32 := 32#32
  let v6621 : BitVec 32 := Scalar.muli arg13 c32_i32_2239
  let c7_i32 : BitVec 32 := 7#32
  let v6622 : BitVec 32 := Scalar.addi v6621 c7_i32
  let v6627 : Index := Scalar.indexCast v6622
  let c0_2242 : Index := 0#32
  ![v6627.toNat, 0]
def k0_off123 (v5075 : BitVec 32) (k0_t2 : Fin (k0_t2_loop v5075).trips) : Fin 2 → Nat :=
  let c0_2244 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2243 : BitVec 32 := 32#32
  let v6631 : BitVec 32 := Scalar.muli arg13 c32_i32_2243
  let c8_i32 : BitVec 32 := 8#32
  let v6632 : BitVec 32 := Scalar.addi v6631 c8_i32
  let v6633 : Index := Scalar.indexCast v6632
  ![0, v6633.toNat]
def k0_off124 (v6634 : BitVec 32) : Fin 2 → Nat :=
  let v6635 : Index := Scalar.indexCast v6634
  let c0_2245 : Index := 0#32
  ![v6635.toNat, 0]

def k0_chk42 (i : grid0.Coords) (v6634 : BitVec 32) : Prop :=
  (∀ (k0_h2 : k0_cond2 i = 1#1), ∀ a, (k0_off124 v6634) a + S1x32.size a ≤ S15360x128.size a)
theorem k0_off124_inb : ∀ (i : grid0.Coords) (v6634 : BitVec 32) (k0_hw42 : k0_chk42 i v6634), ∀ (k0_h2 : k0_cond2 i = 1#1), ∀ a, (k0_off124 v6634) a + S1x32.size a ≤ S15360x128.size a := fun i v6634 k0_hw42 k0_h2 => k0_hw42 k0_h2

def k0_off125 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2243 : BitVec 32 := 32#32
  let v6631 : BitVec 32 := Scalar.muli arg13 c32_i32_2243
  let c8_i32 : BitVec 32 := 8#32
  let v6632 : BitVec 32 := Scalar.addi v6631 c8_i32
  let v6637 : Index := Scalar.indexCast v6632
  let c0_2246 : Index := 0#32
  ![v6637.toNat, 0]
def k0_off126 (v5075 : BitVec 32) (k0_t2 : Fin (k0_t2_loop v5075).trips) : Fin 2 → Nat :=
  let c0_2248 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2247 : BitVec 32 := 32#32
  let v6641 : BitVec 32 := Scalar.muli arg13 c32_i32_2247
  let c9_i32 : BitVec 32 := 9#32
  let v6642 : BitVec 32 := Scalar.addi v6641 c9_i32
  let v6643 : Index := Scalar.indexCast v6642
  ![0, v6643.toNat]
def k0_off127 (v6644 : BitVec 32) : Fin 2 → Nat :=
  let v6645 : Index := Scalar.indexCast v6644
  let c0_2249 : Index := 0#32
  ![v6645.toNat, 0]

def k0_chk43 (i : grid0.Coords) (v6644 : BitVec 32) : Prop :=
  (∀ (k0_h2 : k0_cond2 i = 1#1), ∀ a, (k0_off127 v6644) a + S1x32.size a ≤ S15360x128.size a)
theorem k0_off127_inb : ∀ (i : grid0.Coords) (v6644 : BitVec 32) (k0_hw43 : k0_chk43 i v6644), ∀ (k0_h2 : k0_cond2 i = 1#1), ∀ a, (k0_off127 v6644) a + S1x32.size a ≤ S15360x128.size a := fun i v6644 k0_hw43 k0_h2 => k0_hw43 k0_h2

def k0_off128 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2247 : BitVec 32 := 32#32
  let v6641 : BitVec 32 := Scalar.muli arg13 c32_i32_2247
  let c9_i32 : BitVec 32 := 9#32
  let v6642 : BitVec 32 := Scalar.addi v6641 c9_i32
  let v6647 : Index := Scalar.indexCast v6642
  let c0_2250 : Index := 0#32
  ![v6647.toNat, 0]
def k0_off129 (v5075 : BitVec 32) (k0_t2 : Fin (k0_t2_loop v5075).trips) : Fin 2 → Nat :=
  let c0_2252 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2251 : BitVec 32 := 32#32
  let v6651 : BitVec 32 := Scalar.muli arg13 c32_i32_2251
  let c10_i32 : BitVec 32 := 10#32
  let v6652 : BitVec 32 := Scalar.addi v6651 c10_i32
  let v6653 : Index := Scalar.indexCast v6652
  ![0, v6653.toNat]
def k0_off130 (v6654 : BitVec 32) : Fin 2 → Nat :=
  let v6655 : Index := Scalar.indexCast v6654
  let c0_2253 : Index := 0#32
  ![v6655.toNat, 0]

def k0_chk44 (i : grid0.Coords) (v6654 : BitVec 32) : Prop :=
  (∀ (k0_h2 : k0_cond2 i = 1#1), ∀ a, (k0_off130 v6654) a + S1x32.size a ≤ S15360x128.size a)
theorem k0_off130_inb : ∀ (i : grid0.Coords) (v6654 : BitVec 32) (k0_hw44 : k0_chk44 i v6654), ∀ (k0_h2 : k0_cond2 i = 1#1), ∀ a, (k0_off130 v6654) a + S1x32.size a ≤ S15360x128.size a := fun i v6654 k0_hw44 k0_h2 => k0_hw44 k0_h2

def k0_off131 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2251 : BitVec 32 := 32#32
  let v6651 : BitVec 32 := Scalar.muli arg13 c32_i32_2251
  let c10_i32 : BitVec 32 := 10#32
  let v6652 : BitVec 32 := Scalar.addi v6651 c10_i32
  let v6657 : Index := Scalar.indexCast v6652
  let c0_2254 : Index := 0#32
  ![v6657.toNat, 0]
def k0_off132 (v5075 : BitVec 32) (k0_t2 : Fin (k0_t2_loop v5075).trips) : Fin 2 → Nat :=
  let c0_2256 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2255 : BitVec 32 := 32#32
  let v6661 : BitVec 32 := Scalar.muli arg13 c32_i32_2255
  let c11_i32 : BitVec 32 := 11#32
  let v6662 : BitVec 32 := Scalar.addi v6661 c11_i32
  let v6663 : Index := Scalar.indexCast v6662
  ![0, v6663.toNat]
def k0_off133 (v6664 : BitVec 32) : Fin 2 → Nat :=
  let v6665 : Index := Scalar.indexCast v6664
  let c0_2257 : Index := 0#32
  ![v6665.toNat, 0]

def k0_chk45 (i : grid0.Coords) (v6664 : BitVec 32) : Prop :=
  (∀ (k0_h2 : k0_cond2 i = 1#1), ∀ a, (k0_off133 v6664) a + S1x32.size a ≤ S15360x128.size a)
theorem k0_off133_inb : ∀ (i : grid0.Coords) (v6664 : BitVec 32) (k0_hw45 : k0_chk45 i v6664), ∀ (k0_h2 : k0_cond2 i = 1#1), ∀ a, (k0_off133 v6664) a + S1x32.size a ≤ S15360x128.size a := fun i v6664 k0_hw45 k0_h2 => k0_hw45 k0_h2

def k0_off134 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2255 : BitVec 32 := 32#32
  let v6661 : BitVec 32 := Scalar.muli arg13 c32_i32_2255
  let c11_i32 : BitVec 32 := 11#32
  let v6662 : BitVec 32 := Scalar.addi v6661 c11_i32
  let v6667 : Index := Scalar.indexCast v6662
  let c0_2258 : Index := 0#32
  ![v6667.toNat, 0]
def k0_off135 (v5075 : BitVec 32) (k0_t2 : Fin (k0_t2_loop v5075).trips) : Fin 2 → Nat :=
  let c0_2260 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2259 : BitVec 32 := 32#32
  let v6671 : BitVec 32 := Scalar.muli arg13 c32_i32_2259
  let c12_i32 : BitVec 32 := 12#32
  let v6672 : BitVec 32 := Scalar.addi v6671 c12_i32
  let v6673 : Index := Scalar.indexCast v6672
  ![0, v6673.toNat]
def k0_off136 (v6674 : BitVec 32) : Fin 2 → Nat :=
  let v6675 : Index := Scalar.indexCast v6674
  let c0_2261 : Index := 0#32
  ![v6675.toNat, 0]

def k0_chk46 (i : grid0.Coords) (v6674 : BitVec 32) : Prop :=
  (∀ (k0_h2 : k0_cond2 i = 1#1), ∀ a, (k0_off136 v6674) a + S1x32.size a ≤ S15360x128.size a)
theorem k0_off136_inb : ∀ (i : grid0.Coords) (v6674 : BitVec 32) (k0_hw46 : k0_chk46 i v6674), ∀ (k0_h2 : k0_cond2 i = 1#1), ∀ a, (k0_off136 v6674) a + S1x32.size a ≤ S15360x128.size a := fun i v6674 k0_hw46 k0_h2 => k0_hw46 k0_h2

def k0_off137 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2259 : BitVec 32 := 32#32
  let v6671 : BitVec 32 := Scalar.muli arg13 c32_i32_2259
  let c12_i32 : BitVec 32 := 12#32
  let v6672 : BitVec 32 := Scalar.addi v6671 c12_i32
  let v6677 : Index := Scalar.indexCast v6672
  let c0_2262 : Index := 0#32
  ![v6677.toNat, 0]
def k0_off138 (v5075 : BitVec 32) (k0_t2 : Fin (k0_t2_loop v5075).trips) : Fin 2 → Nat :=
  let c0_2264 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2263 : BitVec 32 := 32#32
  let v6681 : BitVec 32 := Scalar.muli arg13 c32_i32_2263
  let c13_i32 : BitVec 32 := 13#32
  let v6682 : BitVec 32 := Scalar.addi v6681 c13_i32
  let v6683 : Index := Scalar.indexCast v6682
  ![0, v6683.toNat]
def k0_off139 (v6684 : BitVec 32) : Fin 2 → Nat :=
  let v6685 : Index := Scalar.indexCast v6684
  let c0_2265 : Index := 0#32
  ![v6685.toNat, 0]

def k0_chk47 (i : grid0.Coords) (v6684 : BitVec 32) : Prop :=
  (∀ (k0_h2 : k0_cond2 i = 1#1), ∀ a, (k0_off139 v6684) a + S1x32.size a ≤ S15360x128.size a)
theorem k0_off139_inb : ∀ (i : grid0.Coords) (v6684 : BitVec 32) (k0_hw47 : k0_chk47 i v6684), ∀ (k0_h2 : k0_cond2 i = 1#1), ∀ a, (k0_off139 v6684) a + S1x32.size a ≤ S15360x128.size a := fun i v6684 k0_hw47 k0_h2 => k0_hw47 k0_h2

def k0_off140 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2263 : BitVec 32 := 32#32
  let v6681 : BitVec 32 := Scalar.muli arg13 c32_i32_2263
  let c13_i32 : BitVec 32 := 13#32
  let v6682 : BitVec 32 := Scalar.addi v6681 c13_i32
  let v6687 : Index := Scalar.indexCast v6682
  let c0_2266 : Index := 0#32
  ![v6687.toNat, 0]
def k0_off141 (v5075 : BitVec 32) (k0_t2 : Fin (k0_t2_loop v5075).trips) : Fin 2 → Nat :=
  let c0_2268 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2267 : BitVec 32 := 32#32
  let v6691 : BitVec 32 := Scalar.muli arg13 c32_i32_2267
  let c14_i32 : BitVec 32 := 14#32
  let v6692 : BitVec 32 := Scalar.addi v6691 c14_i32
  let v6693 : Index := Scalar.indexCast v6692
  ![0, v6693.toNat]
def k0_off142 (v6694 : BitVec 32) : Fin 2 → Nat :=
  let v6695 : Index := Scalar.indexCast v6694
  let c0_2269 : Index := 0#32
  ![v6695.toNat, 0]

def k0_chk48 (i : grid0.Coords) (v6694 : BitVec 32) : Prop :=
  (∀ (k0_h2 : k0_cond2 i = 1#1), ∀ a, (k0_off142 v6694) a + S1x32.size a ≤ S15360x128.size a)
theorem k0_off142_inb : ∀ (i : grid0.Coords) (v6694 : BitVec 32) (k0_hw48 : k0_chk48 i v6694), ∀ (k0_h2 : k0_cond2 i = 1#1), ∀ a, (k0_off142 v6694) a + S1x32.size a ≤ S15360x128.size a := fun i v6694 k0_hw48 k0_h2 => k0_hw48 k0_h2

def k0_off143 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2267 : BitVec 32 := 32#32
  let v6691 : BitVec 32 := Scalar.muli arg13 c32_i32_2267
  let c14_i32 : BitVec 32 := 14#32
  let v6692 : BitVec 32 := Scalar.addi v6691 c14_i32
  let v6697 : Index := Scalar.indexCast v6692
  let c0_2270 : Index := 0#32
  ![v6697.toNat, 0]
def k0_off144 (v5075 : BitVec 32) (k0_t2 : Fin (k0_t2_loop v5075).trips) : Fin 2 → Nat :=
  let c0_2272 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2271 : BitVec 32 := 32#32
  let v6701 : BitVec 32 := Scalar.muli arg13 c32_i32_2271
  let c15_i32 : BitVec 32 := 15#32
  let v6702 : BitVec 32 := Scalar.addi v6701 c15_i32
  let v6703 : Index := Scalar.indexCast v6702
  ![0, v6703.toNat]
def k0_off145 (v6704 : BitVec 32) : Fin 2 → Nat :=
  let v6705 : Index := Scalar.indexCast v6704
  let c0_2273 : Index := 0#32
  ![v6705.toNat, 0]

def k0_chk49 (i : grid0.Coords) (v6704 : BitVec 32) : Prop :=
  (∀ (k0_h2 : k0_cond2 i = 1#1), ∀ a, (k0_off145 v6704) a + S1x32.size a ≤ S15360x128.size a)
theorem k0_off145_inb : ∀ (i : grid0.Coords) (v6704 : BitVec 32) (k0_hw49 : k0_chk49 i v6704), ∀ (k0_h2 : k0_cond2 i = 1#1), ∀ a, (k0_off145 v6704) a + S1x32.size a ≤ S15360x128.size a := fun i v6704 k0_hw49 k0_h2 => k0_hw49 k0_h2

def k0_off146 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2271 : BitVec 32 := 32#32
  let v6701 : BitVec 32 := Scalar.muli arg13 c32_i32_2271
  let c15_i32 : BitVec 32 := 15#32
  let v6702 : BitVec 32 := Scalar.addi v6701 c15_i32
  let v6707 : Index := Scalar.indexCast v6702
  let c0_2274 : Index := 0#32
  ![v6707.toNat, 0]
def k0_off147 (v5075 : BitVec 32) (k0_t2 : Fin (k0_t2_loop v5075).trips) : Fin 2 → Nat :=
  let c0_2276 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2275 : BitVec 32 := 32#32
  let v6711 : BitVec 32 := Scalar.muli arg13 c32_i32_2275
  let c16_i32 : BitVec 32 := 16#32
  let v6712 : BitVec 32 := Scalar.addi v6711 c16_i32
  let v6713 : Index := Scalar.indexCast v6712
  ![0, v6713.toNat]
def k0_off148 (v6714 : BitVec 32) : Fin 2 → Nat :=
  let v6715 : Index := Scalar.indexCast v6714
  let c0_2277 : Index := 0#32
  ![v6715.toNat, 0]

def k0_chk50 (i : grid0.Coords) (v6714 : BitVec 32) : Prop :=
  (∀ (k0_h2 : k0_cond2 i = 1#1), ∀ a, (k0_off148 v6714) a + S1x32.size a ≤ S15360x128.size a)
theorem k0_off148_inb : ∀ (i : grid0.Coords) (v6714 : BitVec 32) (k0_hw50 : k0_chk50 i v6714), ∀ (k0_h2 : k0_cond2 i = 1#1), ∀ a, (k0_off148 v6714) a + S1x32.size a ≤ S15360x128.size a := fun i v6714 k0_hw50 k0_h2 => k0_hw50 k0_h2

def k0_off149 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2275 : BitVec 32 := 32#32
  let v6711 : BitVec 32 := Scalar.muli arg13 c32_i32_2275
  let c16_i32 : BitVec 32 := 16#32
  let v6712 : BitVec 32 := Scalar.addi v6711 c16_i32
  let v6717 : Index := Scalar.indexCast v6712
  let c0_2278 : Index := 0#32
  ![v6717.toNat, 0]
def k0_off150 (v5075 : BitVec 32) (k0_t2 : Fin (k0_t2_loop v5075).trips) : Fin 2 → Nat :=
  let c0_2280 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2279 : BitVec 32 := 32#32
  let v6721 : BitVec 32 := Scalar.muli arg13 c32_i32_2279
  let c17_i32 : BitVec 32 := 17#32
  let v6722 : BitVec 32 := Scalar.addi v6721 c17_i32
  let v6723 : Index := Scalar.indexCast v6722
  ![0, v6723.toNat]
def k0_off151 (v6724 : BitVec 32) : Fin 2 → Nat :=
  let v6725 : Index := Scalar.indexCast v6724
  let c0_2281 : Index := 0#32
  ![v6725.toNat, 0]

def k0_chk51 (i : grid0.Coords) (v6724 : BitVec 32) : Prop :=
  (∀ (k0_h2 : k0_cond2 i = 1#1), ∀ a, (k0_off151 v6724) a + S1x32.size a ≤ S15360x128.size a)
theorem k0_off151_inb : ∀ (i : grid0.Coords) (v6724 : BitVec 32) (k0_hw51 : k0_chk51 i v6724), ∀ (k0_h2 : k0_cond2 i = 1#1), ∀ a, (k0_off151 v6724) a + S1x32.size a ≤ S15360x128.size a := fun i v6724 k0_hw51 k0_h2 => k0_hw51 k0_h2

def k0_off152 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2279 : BitVec 32 := 32#32
  let v6721 : BitVec 32 := Scalar.muli arg13 c32_i32_2279
  let c17_i32 : BitVec 32 := 17#32
  let v6722 : BitVec 32 := Scalar.addi v6721 c17_i32
  let v6727 : Index := Scalar.indexCast v6722
  let c0_2282 : Index := 0#32
  ![v6727.toNat, 0]
def k0_off153 (v5075 : BitVec 32) (k0_t2 : Fin (k0_t2_loop v5075).trips) : Fin 2 → Nat :=
  let c0_2284 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2283 : BitVec 32 := 32#32
  let v6731 : BitVec 32 := Scalar.muli arg13 c32_i32_2283
  let c18_i32 : BitVec 32 := 18#32
  let v6732 : BitVec 32 := Scalar.addi v6731 c18_i32
  let v6733 : Index := Scalar.indexCast v6732
  ![0, v6733.toNat]
def k0_off154 (v6734 : BitVec 32) : Fin 2 → Nat :=
  let v6735 : Index := Scalar.indexCast v6734
  let c0_2285 : Index := 0#32
  ![v6735.toNat, 0]

def k0_chk52 (i : grid0.Coords) (v6734 : BitVec 32) : Prop :=
  (∀ (k0_h2 : k0_cond2 i = 1#1), ∀ a, (k0_off154 v6734) a + S1x32.size a ≤ S15360x128.size a)
theorem k0_off154_inb : ∀ (i : grid0.Coords) (v6734 : BitVec 32) (k0_hw52 : k0_chk52 i v6734), ∀ (k0_h2 : k0_cond2 i = 1#1), ∀ a, (k0_off154 v6734) a + S1x32.size a ≤ S15360x128.size a := fun i v6734 k0_hw52 k0_h2 => k0_hw52 k0_h2

def k0_off155 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2283 : BitVec 32 := 32#32
  let v6731 : BitVec 32 := Scalar.muli arg13 c32_i32_2283
  let c18_i32 : BitVec 32 := 18#32
  let v6732 : BitVec 32 := Scalar.addi v6731 c18_i32
  let v6737 : Index := Scalar.indexCast v6732
  let c0_2286 : Index := 0#32
  ![v6737.toNat, 0]
def k0_off156 (v5075 : BitVec 32) (k0_t2 : Fin (k0_t2_loop v5075).trips) : Fin 2 → Nat :=
  let c0_2288 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2287 : BitVec 32 := 32#32
  let v6741 : BitVec 32 := Scalar.muli arg13 c32_i32_2287
  let c19_i32 : BitVec 32 := 19#32
  let v6742 : BitVec 32 := Scalar.addi v6741 c19_i32
  let v6743 : Index := Scalar.indexCast v6742
  ![0, v6743.toNat]
def k0_off157 (v6744 : BitVec 32) : Fin 2 → Nat :=
  let v6745 : Index := Scalar.indexCast v6744
  let c0_2289 : Index := 0#32
  ![v6745.toNat, 0]

def k0_chk53 (i : grid0.Coords) (v6744 : BitVec 32) : Prop :=
  (∀ (k0_h2 : k0_cond2 i = 1#1), ∀ a, (k0_off157 v6744) a + S1x32.size a ≤ S15360x128.size a)
theorem k0_off157_inb : ∀ (i : grid0.Coords) (v6744 : BitVec 32) (k0_hw53 : k0_chk53 i v6744), ∀ (k0_h2 : k0_cond2 i = 1#1), ∀ a, (k0_off157 v6744) a + S1x32.size a ≤ S15360x128.size a := fun i v6744 k0_hw53 k0_h2 => k0_hw53 k0_h2

def k0_off158 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2287 : BitVec 32 := 32#32
  let v6741 : BitVec 32 := Scalar.muli arg13 c32_i32_2287
  let c19_i32 : BitVec 32 := 19#32
  let v6742 : BitVec 32 := Scalar.addi v6741 c19_i32
  let v6747 : Index := Scalar.indexCast v6742
  let c0_2290 : Index := 0#32
  ![v6747.toNat, 0]
def k0_off159 (v5075 : BitVec 32) (k0_t2 : Fin (k0_t2_loop v5075).trips) : Fin 2 → Nat :=
  let c0_2292 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2291 : BitVec 32 := 32#32
  let v6751 : BitVec 32 := Scalar.muli arg13 c32_i32_2291
  let c20_i32 : BitVec 32 := 20#32
  let v6752 : BitVec 32 := Scalar.addi v6751 c20_i32
  let v6753 : Index := Scalar.indexCast v6752
  ![0, v6753.toNat]
def k0_off160 (v6754 : BitVec 32) : Fin 2 → Nat :=
  let v6755 : Index := Scalar.indexCast v6754
  let c0_2293 : Index := 0#32
  ![v6755.toNat, 0]

def k0_chk54 (i : grid0.Coords) (v6754 : BitVec 32) : Prop :=
  (∀ (k0_h2 : k0_cond2 i = 1#1), ∀ a, (k0_off160 v6754) a + S1x32.size a ≤ S15360x128.size a)
theorem k0_off160_inb : ∀ (i : grid0.Coords) (v6754 : BitVec 32) (k0_hw54 : k0_chk54 i v6754), ∀ (k0_h2 : k0_cond2 i = 1#1), ∀ a, (k0_off160 v6754) a + S1x32.size a ≤ S15360x128.size a := fun i v6754 k0_hw54 k0_h2 => k0_hw54 k0_h2

def k0_off161 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2291 : BitVec 32 := 32#32
  let v6751 : BitVec 32 := Scalar.muli arg13 c32_i32_2291
  let c20_i32 : BitVec 32 := 20#32
  let v6752 : BitVec 32 := Scalar.addi v6751 c20_i32
  let v6757 : Index := Scalar.indexCast v6752
  let c0_2294 : Index := 0#32
  ![v6757.toNat, 0]
def k0_off162 (v5075 : BitVec 32) (k0_t2 : Fin (k0_t2_loop v5075).trips) : Fin 2 → Nat :=
  let c0_2296 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2295 : BitVec 32 := 32#32
  let v6761 : BitVec 32 := Scalar.muli arg13 c32_i32_2295
  let c21_i32 : BitVec 32 := 21#32
  let v6762 : BitVec 32 := Scalar.addi v6761 c21_i32
  let v6763 : Index := Scalar.indexCast v6762
  ![0, v6763.toNat]
def k0_off163 (v6764 : BitVec 32) : Fin 2 → Nat :=
  let v6765 : Index := Scalar.indexCast v6764
  let c0_2297 : Index := 0#32
  ![v6765.toNat, 0]

def k0_chk55 (i : grid0.Coords) (v6764 : BitVec 32) : Prop :=
  (∀ (k0_h2 : k0_cond2 i = 1#1), ∀ a, (k0_off163 v6764) a + S1x32.size a ≤ S15360x128.size a)
theorem k0_off163_inb : ∀ (i : grid0.Coords) (v6764 : BitVec 32) (k0_hw55 : k0_chk55 i v6764), ∀ (k0_h2 : k0_cond2 i = 1#1), ∀ a, (k0_off163 v6764) a + S1x32.size a ≤ S15360x128.size a := fun i v6764 k0_hw55 k0_h2 => k0_hw55 k0_h2

def k0_off164 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2295 : BitVec 32 := 32#32
  let v6761 : BitVec 32 := Scalar.muli arg13 c32_i32_2295
  let c21_i32 : BitVec 32 := 21#32
  let v6762 : BitVec 32 := Scalar.addi v6761 c21_i32
  let v6767 : Index := Scalar.indexCast v6762
  let c0_2298 : Index := 0#32
  ![v6767.toNat, 0]
def k0_off165 (v5075 : BitVec 32) (k0_t2 : Fin (k0_t2_loop v5075).trips) : Fin 2 → Nat :=
  let c0_2300 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2299 : BitVec 32 := 32#32
  let v6771 : BitVec 32 := Scalar.muli arg13 c32_i32_2299
  let c22_i32 : BitVec 32 := 22#32
  let v6772 : BitVec 32 := Scalar.addi v6771 c22_i32
  let v6773 : Index := Scalar.indexCast v6772
  ![0, v6773.toNat]
def k0_off166 (v6774 : BitVec 32) : Fin 2 → Nat :=
  let v6775 : Index := Scalar.indexCast v6774
  let c0_2301 : Index := 0#32
  ![v6775.toNat, 0]

def k0_chk56 (i : grid0.Coords) (v6774 : BitVec 32) : Prop :=
  (∀ (k0_h2 : k0_cond2 i = 1#1), ∀ a, (k0_off166 v6774) a + S1x32.size a ≤ S15360x128.size a)
theorem k0_off166_inb : ∀ (i : grid0.Coords) (v6774 : BitVec 32) (k0_hw56 : k0_chk56 i v6774), ∀ (k0_h2 : k0_cond2 i = 1#1), ∀ a, (k0_off166 v6774) a + S1x32.size a ≤ S15360x128.size a := fun i v6774 k0_hw56 k0_h2 => k0_hw56 k0_h2

def k0_off167 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2299 : BitVec 32 := 32#32
  let v6771 : BitVec 32 := Scalar.muli arg13 c32_i32_2299
  let c22_i32 : BitVec 32 := 22#32
  let v6772 : BitVec 32 := Scalar.addi v6771 c22_i32
  let v6777 : Index := Scalar.indexCast v6772
  let c0_2302 : Index := 0#32
  ![v6777.toNat, 0]
def k0_off168 (v5075 : BitVec 32) (k0_t2 : Fin (k0_t2_loop v5075).trips) : Fin 2 → Nat :=
  let c0_2304 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2303 : BitVec 32 := 32#32
  let v6781 : BitVec 32 := Scalar.muli arg13 c32_i32_2303
  let c23_i32 : BitVec 32 := 23#32
  let v6782 : BitVec 32 := Scalar.addi v6781 c23_i32
  let v6783 : Index := Scalar.indexCast v6782
  ![0, v6783.toNat]
def k0_off169 (v6784 : BitVec 32) : Fin 2 → Nat :=
  let v6785 : Index := Scalar.indexCast v6784
  let c0_2305 : Index := 0#32
  ![v6785.toNat, 0]

def k0_chk57 (i : grid0.Coords) (v6784 : BitVec 32) : Prop :=
  (∀ (k0_h2 : k0_cond2 i = 1#1), ∀ a, (k0_off169 v6784) a + S1x32.size a ≤ S15360x128.size a)
theorem k0_off169_inb : ∀ (i : grid0.Coords) (v6784 : BitVec 32) (k0_hw57 : k0_chk57 i v6784), ∀ (k0_h2 : k0_cond2 i = 1#1), ∀ a, (k0_off169 v6784) a + S1x32.size a ≤ S15360x128.size a := fun i v6784 k0_hw57 k0_h2 => k0_hw57 k0_h2

def k0_off170 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2303 : BitVec 32 := 32#32
  let v6781 : BitVec 32 := Scalar.muli arg13 c32_i32_2303
  let c23_i32 : BitVec 32 := 23#32
  let v6782 : BitVec 32 := Scalar.addi v6781 c23_i32
  let v6787 : Index := Scalar.indexCast v6782
  let c0_2306 : Index := 0#32
  ![v6787.toNat, 0]
def k0_off171 (v5075 : BitVec 32) (k0_t2 : Fin (k0_t2_loop v5075).trips) : Fin 2 → Nat :=
  let c0_2308 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2307 : BitVec 32 := 32#32
  let v6791 : BitVec 32 := Scalar.muli arg13 c32_i32_2307
  let c24_i32 : BitVec 32 := 24#32
  let v6792 : BitVec 32 := Scalar.addi v6791 c24_i32
  let v6793 : Index := Scalar.indexCast v6792
  ![0, v6793.toNat]
def k0_off172 (v6794 : BitVec 32) : Fin 2 → Nat :=
  let v6795 : Index := Scalar.indexCast v6794
  let c0_2309 : Index := 0#32
  ![v6795.toNat, 0]

def k0_chk58 (i : grid0.Coords) (v6794 : BitVec 32) : Prop :=
  (∀ (k0_h2 : k0_cond2 i = 1#1), ∀ a, (k0_off172 v6794) a + S1x32.size a ≤ S15360x128.size a)
theorem k0_off172_inb : ∀ (i : grid0.Coords) (v6794 : BitVec 32) (k0_hw58 : k0_chk58 i v6794), ∀ (k0_h2 : k0_cond2 i = 1#1), ∀ a, (k0_off172 v6794) a + S1x32.size a ≤ S15360x128.size a := fun i v6794 k0_hw58 k0_h2 => k0_hw58 k0_h2

def k0_off173 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2307 : BitVec 32 := 32#32
  let v6791 : BitVec 32 := Scalar.muli arg13 c32_i32_2307
  let c24_i32 : BitVec 32 := 24#32
  let v6792 : BitVec 32 := Scalar.addi v6791 c24_i32
  let v6797 : Index := Scalar.indexCast v6792
  let c0_2310 : Index := 0#32
  ![v6797.toNat, 0]
def k0_off174 (v5075 : BitVec 32) (k0_t2 : Fin (k0_t2_loop v5075).trips) : Fin 2 → Nat :=
  let c0_2312 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2311 : BitVec 32 := 32#32
  let v6801 : BitVec 32 := Scalar.muli arg13 c32_i32_2311
  let c25_i32 : BitVec 32 := 25#32
  let v6802 : BitVec 32 := Scalar.addi v6801 c25_i32
  let v6803 : Index := Scalar.indexCast v6802
  ![0, v6803.toNat]
def k0_off175 (v6804 : BitVec 32) : Fin 2 → Nat :=
  let v6805 : Index := Scalar.indexCast v6804
  let c0_2313 : Index := 0#32
  ![v6805.toNat, 0]

def k0_chk59 (i : grid0.Coords) (v6804 : BitVec 32) : Prop :=
  (∀ (k0_h2 : k0_cond2 i = 1#1), ∀ a, (k0_off175 v6804) a + S1x32.size a ≤ S15360x128.size a)
theorem k0_off175_inb : ∀ (i : grid0.Coords) (v6804 : BitVec 32) (k0_hw59 : k0_chk59 i v6804), ∀ (k0_h2 : k0_cond2 i = 1#1), ∀ a, (k0_off175 v6804) a + S1x32.size a ≤ S15360x128.size a := fun i v6804 k0_hw59 k0_h2 => k0_hw59 k0_h2

def k0_off176 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2311 : BitVec 32 := 32#32
  let v6801 : BitVec 32 := Scalar.muli arg13 c32_i32_2311
  let c25_i32 : BitVec 32 := 25#32
  let v6802 : BitVec 32 := Scalar.addi v6801 c25_i32
  let v6807 : Index := Scalar.indexCast v6802
  let c0_2314 : Index := 0#32
  ![v6807.toNat, 0]
def k0_off177 (v5075 : BitVec 32) (k0_t2 : Fin (k0_t2_loop v5075).trips) : Fin 2 → Nat :=
  let c0_2316 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2315 : BitVec 32 := 32#32
  let v6811 : BitVec 32 := Scalar.muli arg13 c32_i32_2315
  let c26_i32 : BitVec 32 := 26#32
  let v6812 : BitVec 32 := Scalar.addi v6811 c26_i32
  let v6813 : Index := Scalar.indexCast v6812
  ![0, v6813.toNat]
def k0_off178 (v6814 : BitVec 32) : Fin 2 → Nat :=
  let v6815 : Index := Scalar.indexCast v6814
  let c0_2317 : Index := 0#32
  ![v6815.toNat, 0]

def k0_chk60 (i : grid0.Coords) (v6814 : BitVec 32) : Prop :=
  (∀ (k0_h2 : k0_cond2 i = 1#1), ∀ a, (k0_off178 v6814) a + S1x32.size a ≤ S15360x128.size a)
theorem k0_off178_inb : ∀ (i : grid0.Coords) (v6814 : BitVec 32) (k0_hw60 : k0_chk60 i v6814), ∀ (k0_h2 : k0_cond2 i = 1#1), ∀ a, (k0_off178 v6814) a + S1x32.size a ≤ S15360x128.size a := fun i v6814 k0_hw60 k0_h2 => k0_hw60 k0_h2

def k0_off179 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2315 : BitVec 32 := 32#32
  let v6811 : BitVec 32 := Scalar.muli arg13 c32_i32_2315
  let c26_i32 : BitVec 32 := 26#32
  let v6812 : BitVec 32 := Scalar.addi v6811 c26_i32
  let v6817 : Index := Scalar.indexCast v6812
  let c0_2318 : Index := 0#32
  ![v6817.toNat, 0]
def k0_off180 (v5075 : BitVec 32) (k0_t2 : Fin (k0_t2_loop v5075).trips) : Fin 2 → Nat :=
  let c0_2320 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2319 : BitVec 32 := 32#32
  let v6821 : BitVec 32 := Scalar.muli arg13 c32_i32_2319
  let c27_i32 : BitVec 32 := 27#32
  let v6822 : BitVec 32 := Scalar.addi v6821 c27_i32
  let v6823 : Index := Scalar.indexCast v6822
  ![0, v6823.toNat]
def k0_off181 (v6824 : BitVec 32) : Fin 2 → Nat :=
  let v6825 : Index := Scalar.indexCast v6824
  let c0_2321 : Index := 0#32
  ![v6825.toNat, 0]

def k0_chk61 (i : grid0.Coords) (v6824 : BitVec 32) : Prop :=
  (∀ (k0_h2 : k0_cond2 i = 1#1), ∀ a, (k0_off181 v6824) a + S1x32.size a ≤ S15360x128.size a)
theorem k0_off181_inb : ∀ (i : grid0.Coords) (v6824 : BitVec 32) (k0_hw61 : k0_chk61 i v6824), ∀ (k0_h2 : k0_cond2 i = 1#1), ∀ a, (k0_off181 v6824) a + S1x32.size a ≤ S15360x128.size a := fun i v6824 k0_hw61 k0_h2 => k0_hw61 k0_h2

def k0_off182 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2319 : BitVec 32 := 32#32
  let v6821 : BitVec 32 := Scalar.muli arg13 c32_i32_2319
  let c27_i32 : BitVec 32 := 27#32
  let v6822 : BitVec 32 := Scalar.addi v6821 c27_i32
  let v6827 : Index := Scalar.indexCast v6822
  let c0_2322 : Index := 0#32
  ![v6827.toNat, 0]
def k0_off183 (v5075 : BitVec 32) (k0_t2 : Fin (k0_t2_loop v5075).trips) : Fin 2 → Nat :=
  let c0_2324 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2323 : BitVec 32 := 32#32
  let v6831 : BitVec 32 := Scalar.muli arg13 c32_i32_2323
  let c28_i32 : BitVec 32 := 28#32
  let v6832 : BitVec 32 := Scalar.addi v6831 c28_i32
  let v6833 : Index := Scalar.indexCast v6832
  ![0, v6833.toNat]
def k0_off184 (v6834 : BitVec 32) : Fin 2 → Nat :=
  let v6835 : Index := Scalar.indexCast v6834
  let c0_2325 : Index := 0#32
  ![v6835.toNat, 0]

def k0_chk62 (i : grid0.Coords) (v6834 : BitVec 32) : Prop :=
  (∀ (k0_h2 : k0_cond2 i = 1#1), ∀ a, (k0_off184 v6834) a + S1x32.size a ≤ S15360x128.size a)
theorem k0_off184_inb : ∀ (i : grid0.Coords) (v6834 : BitVec 32) (k0_hw62 : k0_chk62 i v6834), ∀ (k0_h2 : k0_cond2 i = 1#1), ∀ a, (k0_off184 v6834) a + S1x32.size a ≤ S15360x128.size a := fun i v6834 k0_hw62 k0_h2 => k0_hw62 k0_h2

def k0_off185 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2323 : BitVec 32 := 32#32
  let v6831 : BitVec 32 := Scalar.muli arg13 c32_i32_2323
  let c28_i32 : BitVec 32 := 28#32
  let v6832 : BitVec 32 := Scalar.addi v6831 c28_i32
  let v6837 : Index := Scalar.indexCast v6832
  let c0_2326 : Index := 0#32
  ![v6837.toNat, 0]
def k0_off186 (v5075 : BitVec 32) (k0_t2 : Fin (k0_t2_loop v5075).trips) : Fin 2 → Nat :=
  let c0_2329 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6843 : Index := Scalar.indexCast v6842
  ![0, v6843.toNat]
def k0_off187 (v6844 : BitVec 32) : Fin 2 → Nat :=
  let v6845 : Index := Scalar.indexCast v6844
  let c0_2330 : Index := 0#32
  ![v6845.toNat, 0]

def k0_chk63 (i : grid0.Coords) (v6844 : BitVec 32) : Prop :=
  (∀ (k0_h2 : k0_cond2 i = 1#1), ∀ a, (k0_off187 v6844) a + S1x32.size a ≤ S15360x128.size a)
theorem k0_off187_inb : ∀ (i : grid0.Coords) (v6844 : BitVec 32) (k0_hw63 : k0_chk63 i v6844), ∀ (k0_h2 : k0_cond2 i = 1#1), ∀ a, (k0_off187 v6844) a + S1x32.size a ≤ S15360x128.size a := fun i v6844 k0_hw63 k0_h2 => k0_hw63 k0_h2

def k0_off188 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6847 : Index := Scalar.indexCast v6842
  let c0_2331 : Index := 0#32
  ![v6847.toNat, 0]
def k0_off189 (v5075 : BitVec 32) (k0_t2 : Fin (k0_t2_loop v5075).trips) : Fin 2 → Nat :=
  let c0_2333 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2332 : BitVec 32 := 32#32
  let v6851 : BitVec 32 := Scalar.muli arg13 c32_i32_2332
  let c30_i32 : BitVec 32 := 30#32
  let v6852 : BitVec 32 := Scalar.addi v6851 c30_i32
  let v6853 : Index := Scalar.indexCast v6852
  ![0, v6853.toNat]
def k0_off190 (v6854 : BitVec 32) : Fin 2 → Nat :=
  let v6855 : Index := Scalar.indexCast v6854
  let c0_2334 : Index := 0#32
  ![v6855.toNat, 0]

def k0_chk64 (i : grid0.Coords) (v6854 : BitVec 32) : Prop :=
  (∀ (k0_h2 : k0_cond2 i = 1#1), ∀ a, (k0_off190 v6854) a + S1x32.size a ≤ S15360x128.size a)
theorem k0_off190_inb : ∀ (i : grid0.Coords) (v6854 : BitVec 32) (k0_hw64 : k0_chk64 i v6854), ∀ (k0_h2 : k0_cond2 i = 1#1), ∀ a, (k0_off190 v6854) a + S1x32.size a ≤ S15360x128.size a := fun i v6854 k0_hw64 k0_h2 => k0_hw64 k0_h2

def k0_off191 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2332 : BitVec 32 := 32#32
  let v6851 : BitVec 32 := Scalar.muli arg13 c32_i32_2332
  let c30_i32 : BitVec 32 := 30#32
  let v6852 : BitVec 32 := Scalar.addi v6851 c30_i32
  let v6857 : Index := Scalar.indexCast v6852
  let c0_2335 : Index := 0#32
  ![v6857.toNat, 0]
def k0_off192 (v5075 : BitVec 32) (k0_t2 : Fin (k0_t2_loop v5075).trips) : Fin 2 → Nat :=
  let c0_2337 : Index := 0#32
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2336 : BitVec 32 := 32#32
  let v6861 : BitVec 32 := Scalar.muli arg13 c32_i32_2336
  let c31_i32 : BitVec 32 := 31#32
  let v6862 : BitVec 32 := Scalar.addi v6861 c31_i32
  let v6863 : Index := Scalar.indexCast v6862
  ![0, v6863.toNat]
def k0_off193 (v6864 : BitVec 32) : Fin 2 → Nat :=
  let v6865 : Index := Scalar.indexCast v6864
  let c0_2338 : Index := 0#32
  ![v6865.toNat, 0]

def k0_chk65 (i : grid0.Coords) (v6864 : BitVec 32) : Prop :=
  (∀ (k0_h2 : k0_cond2 i = 1#1), ∀ a, (k0_off193 v6864) a + S1x32.size a ≤ S15360x128.size a)
theorem k0_off193_inb : ∀ (i : grid0.Coords) (v6864 : BitVec 32) (k0_hw65 : k0_chk65 i v6864), ∀ (k0_h2 : k0_cond2 i = 1#1), ∀ a, (k0_off193 v6864) a + S1x32.size a ≤ S15360x128.size a := fun i v6864 k0_hw65 k0_h2 => k0_hw65 k0_h2

def k0_off194 (v5075 : BitVec 32) (k0_t2 : Fin (k0_t2_loop v5075).trips) : Fin 2 → Nat :=
  let c0_i32_1528 : BitVec 32 := 0#32
  let c64_i32 : BitVec 32 := 64#32
  let v5076 : BitVec 32 := Scalar.addi v5075 c64_i32
  let c1_i32_1511 : BitVec 32 := 1#32
  let v5077 : BitVec 32 := Scalar.subi v5076 c1_i32_1511
  let c0_i32_1513 : BitVec 32 := 0#32
  let v5079 : BitVec 1 := Scalar.cmpi .sgt v5077 c0_i32_1513
  let v5080 : BitVec 32 := Scalar.extui v5079
  let c0_i32_1514 : BitVec 32 := 0#32
  let v5081 : BitVec 1 := Scalar.cmpi .slt v5077 c0_i32_1514
  let v5082 : BitVec 32 := Scalar.extui v5081
  let v5083 : BitVec 32 := Scalar.subi v5080 v5082
  let c64_i32_1512 : BitVec 32 := 64#32
  let c0_i32_1515 : BitVec 32 := 0#32
  let v5084 : BitVec 1 := Scalar.cmpi .sgt c64_i32_1512 c0_i32_1515
  let v5085 : BitVec 32 := Scalar.extui v5084
  let c0_i32_1516 : BitVec 32 := 0#32
  let v5086 : BitVec 1 := Scalar.cmpi .slt c64_i32_1512 c0_i32_1516
  let v5087 : BitVec 32 := Scalar.extui v5086
  let v5088 : BitVec 32 := Scalar.subi v5085 v5087
  let v5089 : BitVec 1 := Scalar.cmpi .ne v5083 v5088
  let v5090 : BitVec 32 := Scalar.remsi v5077 c64_i32_1512
  let c0_i32_1517 : BitVec 32 := 0#32
  let v5091 : BitVec 1 := Scalar.cmpi .ne v5090 c0_i32_1517
  let v5092 : BitVec 1 := Scalar.andi v5089 v5091
  let v5078 : BitVec 32 := Scalar.divsi v5077 c64_i32_1512
  let c1_i32_1518 : BitVec 32 := 1#32
  let v5093 : BitVec 32 := Scalar.subi v5078 c1_i32_1518
  let v5094 : BitVec 32 := Scalar.select v5092 v5093 v5078
  let c32_i32_1519 : BitVec 32 := 32#32
  let v5095 : BitVec 32 := Scalar.addi v5094 c32_i32_1519
  let c1_i32_1520 : BitVec 32 := 1#32
  let v5096 : BitVec 32 := Scalar.subi v5095 c1_i32_1520
  let c0_i32_1522 : BitVec 32 := 0#32
  let v5098 : BitVec 1 := Scalar.cmpi .sgt v5096 c0_i32_1522
  let v5099 : BitVec 32 := Scalar.extui v5098
  let c0_i32_1523 : BitVec 32 := 0#32
  let v5100 : BitVec 1 := Scalar.cmpi .slt v5096 c0_i32_1523
  let v5101 : BitVec 32 := Scalar.extui v5100
  let v5102 : BitVec 32 := Scalar.subi v5099 v5101
  let c32_i32_1521 : BitVec 32 := 32#32
  let c0_i32_1524 : BitVec 32 := 0#32
  let v5103 : BitVec 1 := Scalar.cmpi .sgt c32_i32_1521 c0_i32_1524
  let v5104 : BitVec 32 := Scalar.extui v5103
  let c0_i32_1525 : BitVec 32 := 0#32
  let v5105 : BitVec 1 := Scalar.cmpi .slt c32_i32_1521 c0_i32_1525
  let v5106 : BitVec 32 := Scalar.extui v5105
  let v5107 : BitVec 32 := Scalar.subi v5104 v5106
  let v5108 : BitVec 1 := Scalar.cmpi .ne v5102 v5107
  let v5109 : BitVec 32 := Scalar.remsi v5096 c32_i32_1521
  let c0_i32_1526 : BitVec 32 := 0#32
  let v5110 : BitVec 1 := Scalar.cmpi .ne v5109 c0_i32_1526
  let v5111 : BitVec 1 := Scalar.andi v5108 v5110
  let v5097 : BitVec 32 := Scalar.divsi v5096 c32_i32_1521
  let c1_i32_1527 : BitVec 32 := 1#32
  let v5112 : BitVec 32 := Scalar.subi v5097 c1_i32_1527
  let v5113 : BitVec 32 := Scalar.select v5111 v5112 v5097
  let v5114 : BitVec 32 := Scalar.subi v5113 c0_i32_1528
  let c1_i32_1530 : BitVec 32 := 1#32
  let v5116 : BitVec 32 := Scalar.divsi v5114 c1_i32_1530
  let v5117 : BitVec 32 := Scalar.muli v5116 c1_i32_1530
  let v5118 : BitVec 32 := Scalar.addi c0_i32_1528 v5117
  let c1_i32_1532 : BitVec 32 := 1#32
  let arg13 : BitVec 32 := Scf.iv v5118 c1_i32_1532 k0_t2
  let c32_i32_2336 : BitVec 32 := 32#32
  let v6861 : BitVec 32 := Scalar.muli arg13 c32_i32_2336
  let c31_i32 : BitVec 32 := 31#32
  let v6862 : BitVec 32 := Scalar.addi v6861 c31_i32
  let v6867 : Index := Scalar.indexCast v6862
  let c0_2339 : Index := 0#32
  ![v6867.toNat, 0]

def k0_chk1_0 (i : grid0.Coords) (v5075 : BitVec 32) : Prop :=
  (∀ (k0_h2 : k0_cond2 i = 1#1), (k0_t1_loop v5075).OK) ∧
  (∀ k0_t1 : Fin (k0_t1_loop v5075).trips, ∀ (k0_h2 : k0_cond2 i = 1#1), ∀ a, (k0_off3 v5075 k0_t1) a + S1x1.size a ≤ S6x2048.size a) ∧
  (∀ k0_t1 : Fin (k0_t1_loop v5075).trips, ∀ (k0_h2 : k0_cond2 i = 1#1), ∀ a, (k0_off5 v5075 k0_t1) a + S1x32.size a ≤ S2048x128.size a) ∧
  (∀ k0_t1 : Fin (k0_t1_loop v5075).trips, ∀ (k0_h2 : k0_cond2 i = 1#1), ∀ a, (k0_off6 v5075 k0_t1) a + S1x1.size a ≤ S6x2048.size a) ∧
  (∀ k0_t1 : Fin (k0_t1_loop v5075).trips, ∀ (k0_h2 : k0_cond2 i = 1#1), ∀ a, (k0_off8 v5075 k0_t1) a + S1x32.size a ≤ S2048x128.size a) ∧
  (∀ k0_t1 : Fin (k0_t1_loop v5075).trips, ∀ (k0_h2 : k0_cond2 i = 1#1), ∀ a, (k0_off9 v5075 k0_t1) a + S1x1.size a ≤ S6x2048.size a) ∧
  (∀ k0_t1 : Fin (k0_t1_loop v5075).trips, ∀ (k0_h2 : k0_cond2 i = 1#1), ∀ a, (k0_off11 v5075 k0_t1) a + S1x32.size a ≤ S2048x128.size a) ∧
  (∀ k0_t1 : Fin (k0_t1_loop v5075).trips, ∀ (k0_h2 : k0_cond2 i = 1#1), ∀ a, (k0_off12 v5075 k0_t1) a + S1x1.size a ≤ S6x2048.size a) ∧
  (∀ k0_t1 : Fin (k0_t1_loop v5075).trips, ∀ (k0_h2 : k0_cond2 i = 1#1), ∀ a, (k0_off14 v5075 k0_t1) a + S1x32.size a ≤ S2048x128.size a) ∧
  (∀ k0_t1 : Fin (k0_t1_loop v5075).trips, ∀ (k0_h2 : k0_cond2 i = 1#1), ∀ a, (k0_off15 v5075 k0_t1) a + S1x1.size a ≤ S6x2048.size a) ∧
  (∀ k0_t1 : Fin (k0_t1_loop v5075).trips, ∀ (k0_h2 : k0_cond2 i = 1#1), ∀ a, (k0_off17 v5075 k0_t1) a + S1x32.size a ≤ S2048x128.size a) ∧
  (∀ k0_t1 : Fin (k0_t1_loop v5075).trips, ∀ (k0_h2 : k0_cond2 i = 1#1), ∀ a, (k0_off18 v5075 k0_t1) a + S1x1.size a ≤ S6x2048.size a) ∧
  (∀ k0_t1 : Fin (k0_t1_loop v5075).trips, ∀ (k0_h2 : k0_cond2 i = 1#1), ∀ a, (k0_off20 v5075 k0_t1) a + S1x32.size a ≤ S2048x128.size a) ∧
  (∀ k0_t1 : Fin (k0_t1_loop v5075).trips, ∀ (k0_h2 : k0_cond2 i = 1#1), ∀ a, (k0_off21 v5075 k0_t1) a + S1x1.size a ≤ S6x2048.size a) ∧
  (∀ k0_t1 : Fin (k0_t1_loop v5075).trips, ∀ (k0_h2 : k0_cond2 i = 1#1), ∀ a, (k0_off23 v5075 k0_t1) a + S1x32.size a ≤ S2048x128.size a) ∧
  (∀ k0_t1 : Fin (k0_t1_loop v5075).trips, ∀ (k0_h2 : k0_cond2 i = 1#1), ∀ a, (k0_off24 v5075 k0_t1) a + S1x1.size a ≤ S6x2048.size a) ∧
  (∀ k0_t1 : Fin (k0_t1_loop v5075).trips, ∀ (k0_h2 : k0_cond2 i = 1#1), ∀ a, (k0_off26 v5075 k0_t1) a + S1x32.size a ≤ S2048x128.size a) ∧
  (∀ k0_t1 : Fin (k0_t1_loop v5075).trips, ∀ (k0_h2 : k0_cond2 i = 1#1), ∀ a, (k0_off27 v5075 k0_t1) a + S1x1.size a ≤ S6x2048.size a) ∧
  (∀ k0_t1 : Fin (k0_t1_loop v5075).trips, ∀ (k0_h2 : k0_cond2 i = 1#1), ∀ a, (k0_off29 v5075 k0_t1) a + S1x32.size a ≤ S2048x128.size a) ∧
  (∀ k0_t1 : Fin (k0_t1_loop v5075).trips, ∀ (k0_h2 : k0_cond2 i = 1#1), ∀ a, (k0_off30 v5075 k0_t1) a + S1x1.size a ≤ S6x2048.size a) ∧
  (∀ k0_t1 : Fin (k0_t1_loop v5075).trips, ∀ (k0_h2 : k0_cond2 i = 1#1), ∀ a, (k0_off32 v5075 k0_t1) a + S1x32.size a ≤ S2048x128.size a) ∧
  (∀ k0_t1 : Fin (k0_t1_loop v5075).trips, ∀ (k0_h2 : k0_cond2 i = 1#1), ∀ a, (k0_off33 v5075 k0_t1) a + S1x1.size a ≤ S6x2048.size a) ∧
  (∀ k0_t1 : Fin (k0_t1_loop v5075).trips, ∀ (k0_h2 : k0_cond2 i = 1#1), ∀ a, (k0_off35 v5075 k0_t1) a + S1x32.size a ≤ S2048x128.size a) ∧
  (∀ k0_t1 : Fin (k0_t1_loop v5075).trips, ∀ (k0_h2 : k0_cond2 i = 1#1), ∀ a, (k0_off36 v5075 k0_t1) a + S1x1.size a ≤ S6x2048.size a) ∧
  (∀ k0_t1 : Fin (k0_t1_loop v5075).trips, ∀ (k0_h2 : k0_cond2 i = 1#1), ∀ a, (k0_off38 v5075 k0_t1) a + S1x32.size a ≤ S2048x128.size a) ∧
  (∀ k0_t1 : Fin (k0_t1_loop v5075).trips, ∀ (k0_h2 : k0_cond2 i = 1#1), ∀ a, (k0_off39 v5075 k0_t1) a + S1x1.size a ≤ S6x2048.size a) ∧
  (∀ k0_t1 : Fin (k0_t1_loop v5075).trips, ∀ (k0_h2 : k0_cond2 i = 1#1), ∀ a, (k0_off41 v5075 k0_t1) a + S1x32.size a ≤ S2048x128.size a) ∧
  (∀ k0_t1 : Fin (k0_t1_loop v5075).trips, ∀ (k0_h2 : k0_cond2 i = 1#1), ∀ a, (k0_off42 v5075 k0_t1) a + S1x1.size a ≤ S6x2048.size a) ∧
  (∀ k0_t1 : Fin (k0_t1_loop v5075).trips, ∀ (k0_h2 : k0_cond2 i = 1#1), ∀ a, (k0_off44 v5075 k0_t1) a + S1x32.size a ≤ S2048x128.size a) ∧
  (∀ k0_t1 : Fin (k0_t1_loop v5075).trips, ∀ (k0_h2 : k0_cond2 i = 1#1), ∀ a, (k0_off45 v5075 k0_t1) a + S1x1.size a ≤ S6x2048.size a) ∧
  (∀ k0_t1 : Fin (k0_t1_loop v5075).trips, ∀ (k0_h2 : k0_cond2 i = 1#1), ∀ a, (k0_off47 v5075 k0_t1) a + S1x32.size a ≤ S2048x128.size a) ∧
  (∀ k0_t1 : Fin (k0_t1_loop v5075).trips, ∀ (k0_h2 : k0_cond2 i = 1#1), ∀ a, (k0_off48 v5075 k0_t1) a + S1x1.size a ≤ S6x2048.size a)
def k0_chk1_1 (i : grid0.Coords) (v5075 : BitVec 32) : Prop :=
  (∀ k0_t1 : Fin (k0_t1_loop v5075).trips, ∀ (k0_h2 : k0_cond2 i = 1#1), ∀ a, (k0_off50 v5075 k0_t1) a + S1x32.size a ≤ S2048x128.size a) ∧
  (∀ k0_t1 : Fin (k0_t1_loop v5075).trips, ∀ (k0_h2 : k0_cond2 i = 1#1), ∀ a, (k0_off51 v5075 k0_t1) a + S1x1.size a ≤ S6x2048.size a) ∧
  (∀ k0_t1 : Fin (k0_t1_loop v5075).trips, ∀ (k0_h2 : k0_cond2 i = 1#1), ∀ a, (k0_off53 v5075 k0_t1) a + S1x32.size a ≤ S2048x128.size a) ∧
  (∀ k0_t1 : Fin (k0_t1_loop v5075).trips, ∀ (k0_h2 : k0_cond2 i = 1#1), ∀ a, (k0_off54 v5075 k0_t1) a + S1x1.size a ≤ S6x2048.size a) ∧
  (∀ k0_t1 : Fin (k0_t1_loop v5075).trips, ∀ (k0_h2 : k0_cond2 i = 1#1), ∀ a, (k0_off56 v5075 k0_t1) a + S1x32.size a ≤ S2048x128.size a) ∧
  (∀ k0_t1 : Fin (k0_t1_loop v5075).trips, ∀ (k0_h2 : k0_cond2 i = 1#1), ∀ a, (k0_off57 v5075 k0_t1) a + S1x1.size a ≤ S6x2048.size a) ∧
  (∀ k0_t1 : Fin (k0_t1_loop v5075).trips, ∀ (k0_h2 : k0_cond2 i = 1#1), ∀ a, (k0_off59 v5075 k0_t1) a + S1x32.size a ≤ S2048x128.size a) ∧
  (∀ k0_t1 : Fin (k0_t1_loop v5075).trips, ∀ (k0_h2 : k0_cond2 i = 1#1), ∀ a, (k0_off60 v5075 k0_t1) a + S1x1.size a ≤ S6x2048.size a) ∧
  (∀ k0_t1 : Fin (k0_t1_loop v5075).trips, ∀ (k0_h2 : k0_cond2 i = 1#1), ∀ a, (k0_off62 v5075 k0_t1) a + S1x32.size a ≤ S2048x128.size a) ∧
  (∀ k0_t1 : Fin (k0_t1_loop v5075).trips, ∀ (k0_h2 : k0_cond2 i = 1#1), ∀ a, (k0_off63 v5075 k0_t1) a + S1x1.size a ≤ S6x2048.size a) ∧
  (∀ k0_t1 : Fin (k0_t1_loop v5075).trips, ∀ (k0_h2 : k0_cond2 i = 1#1), ∀ a, (k0_off65 v5075 k0_t1) a + S1x32.size a ≤ S2048x128.size a) ∧
  (∀ k0_t1 : Fin (k0_t1_loop v5075).trips, ∀ (k0_h2 : k0_cond2 i = 1#1), ∀ a, (k0_off66 v5075 k0_t1) a + S1x1.size a ≤ S6x2048.size a) ∧
  (∀ k0_t1 : Fin (k0_t1_loop v5075).trips, ∀ (k0_h2 : k0_cond2 i = 1#1), ∀ a, (k0_off68 v5075 k0_t1) a + S1x32.size a ≤ S2048x128.size a) ∧
  (∀ k0_t1 : Fin (k0_t1_loop v5075).trips, ∀ (k0_h2 : k0_cond2 i = 1#1), ∀ a, (k0_off69 v5075 k0_t1) a + S1x1.size a ≤ S6x2048.size a) ∧
  (∀ k0_t1 : Fin (k0_t1_loop v5075).trips, ∀ (k0_h2 : k0_cond2 i = 1#1), ∀ a, (k0_off71 v5075 k0_t1) a + S1x32.size a ≤ S2048x128.size a) ∧
  (∀ k0_t1 : Fin (k0_t1_loop v5075).trips, ∀ (k0_h2 : k0_cond2 i = 1#1), ∀ a, (k0_off72 v5075 k0_t1) a + S1x1.size a ≤ S6x2048.size a) ∧
  (∀ k0_t1 : Fin (k0_t1_loop v5075).trips, ∀ (k0_h2 : k0_cond2 i = 1#1), ∀ a, (k0_off74 v5075 k0_t1) a + S1x32.size a ≤ S2048x128.size a) ∧
  (∀ k0_t1 : Fin (k0_t1_loop v5075).trips, ∀ (k0_h2 : k0_cond2 i = 1#1), ∀ a, (k0_off75 v5075 k0_t1) a + S1x1.size a ≤ S6x2048.size a) ∧
  (∀ k0_t1 : Fin (k0_t1_loop v5075).trips, ∀ (k0_h2 : k0_cond2 i = 1#1), ∀ a, (k0_off77 v5075 k0_t1) a + S1x32.size a ≤ S2048x128.size a) ∧
  (∀ k0_t1 : Fin (k0_t1_loop v5075).trips, ∀ (k0_h2 : k0_cond2 i = 1#1), ∀ a, (k0_off78 v5075 k0_t1) a + S1x1.size a ≤ S6x2048.size a) ∧
  (∀ k0_t1 : Fin (k0_t1_loop v5075).trips, ∀ (k0_h2 : k0_cond2 i = 1#1), ∀ a, (k0_off80 v5075 k0_t1) a + S1x32.size a ≤ S2048x128.size a) ∧
  (∀ k0_t1 : Fin (k0_t1_loop v5075).trips, ∀ (k0_h2 : k0_cond2 i = 1#1), ∀ a, (k0_off81 v5075 k0_t1) a + S1x1.size a ≤ S6x2048.size a) ∧
  (∀ k0_t1 : Fin (k0_t1_loop v5075).trips, ∀ (k0_h2 : k0_cond2 i = 1#1), ∀ a, (k0_off83 v5075 k0_t1) a + S1x32.size a ≤ S2048x128.size a) ∧
  (∀ k0_t1 : Fin (k0_t1_loop v5075).trips, ∀ (k0_h2 : k0_cond2 i = 1#1), ∀ a, (k0_off84 v5075 k0_t1) a + S1x1.size a ≤ S6x2048.size a) ∧
  (∀ k0_t1 : Fin (k0_t1_loop v5075).trips, ∀ (k0_h2 : k0_cond2 i = 1#1), ∀ a, (k0_off86 v5075 k0_t1) a + S1x32.size a ≤ S2048x128.size a) ∧
  (∀ k0_t1 : Fin (k0_t1_loop v5075).trips, ∀ (k0_h2 : k0_cond2 i = 1#1), ∀ a, (k0_off87 v5075 k0_t1) a + S1x1.size a ≤ S6x2048.size a) ∧
  (∀ k0_t1 : Fin (k0_t1_loop v5075).trips, ∀ (k0_h2 : k0_cond2 i = 1#1), ∀ a, (k0_off89 v5075 k0_t1) a + S1x32.size a ≤ S2048x128.size a) ∧
  (∀ k0_t1 : Fin (k0_t1_loop v5075).trips, ∀ (k0_h2 : k0_cond2 i = 1#1), ∀ a, (k0_off90 v5075 k0_t1) a + S1x1.size a ≤ S6x2048.size a) ∧
  (∀ k0_t1 : Fin (k0_t1_loop v5075).trips, ∀ (k0_h2 : k0_cond2 i = 1#1), ∀ a, (k0_off92 v5075 k0_t1) a + S1x32.size a ≤ S2048x128.size a) ∧
  (∀ k0_t1 : Fin (k0_t1_loop v5075).trips, ∀ (k0_h2 : k0_cond2 i = 1#1), ∀ a, (k0_off93 v5075 k0_t1) a + S1x1.size a ≤ S6x2048.size a) ∧
  (∀ k0_t1 : Fin (k0_t1_loop v5075).trips, ∀ (k0_h2 : k0_cond2 i = 1#1), ∀ a, (k0_off95 v5075 k0_t1) a + S1x32.size a ≤ S2048x128.size a) ∧
  (∀ k0_t1 : Fin (k0_t1_loop v5075).trips, ∀ (k0_h2 : k0_cond2 i = 1#1), ∀ a, (k0_off96 v5075 k0_t1) a + S1x1.size a ≤ S6x2048.size a)
def k0_chk1_2 (i : grid0.Coords) (v5075 : BitVec 32) : Prop :=
  (∀ k0_t1 : Fin (k0_t1_loop v5075).trips, ∀ (k0_h2 : k0_cond2 i = 1#1), ∀ a, (k0_off98 v5075 k0_t1) a + S1x32.size a ≤ S2048x128.size a) ∧
  (∀ (k0_h2 : k0_cond2 i = 1#1), (k0_t2_loop v5075).OK) ∧
  (∀ k0_t2 : Fin (k0_t2_loop v5075).trips, ∀ (k0_h2 : k0_cond2 i = 1#1), ∀ a, (k0_off99 v5075 k0_t2) a + S1x1.size a ≤ S6x2048.size a) ∧
  (∀ k0_t2 : Fin (k0_t2_loop v5075).trips, ∀ (k0_h2 : k0_cond2 i = 1#1), ∀ a, (k0_off101 v5075 k0_t2) a + S1x32.size a ≤ S2048x128.size a) ∧
  (∀ k0_t2 : Fin (k0_t2_loop v5075).trips, ∀ (k0_h2 : k0_cond2 i = 1#1), ∀ a, (k0_off102 v5075 k0_t2) a + S1x1.size a ≤ S6x2048.size a) ∧
  (∀ k0_t2 : Fin (k0_t2_loop v5075).trips, ∀ (k0_h2 : k0_cond2 i = 1#1), ∀ a, (k0_off104 v5075 k0_t2) a + S1x32.size a ≤ S2048x128.size a) ∧
  (∀ k0_t2 : Fin (k0_t2_loop v5075).trips, ∀ (k0_h2 : k0_cond2 i = 1#1), ∀ a, (k0_off105 v5075 k0_t2) a + S1x1.size a ≤ S6x2048.size a) ∧
  (∀ k0_t2 : Fin (k0_t2_loop v5075).trips, ∀ (k0_h2 : k0_cond2 i = 1#1), ∀ a, (k0_off107 v5075 k0_t2) a + S1x32.size a ≤ S2048x128.size a) ∧
  (∀ k0_t2 : Fin (k0_t2_loop v5075).trips, ∀ (k0_h2 : k0_cond2 i = 1#1), ∀ a, (k0_off108 v5075 k0_t2) a + S1x1.size a ≤ S6x2048.size a) ∧
  (∀ k0_t2 : Fin (k0_t2_loop v5075).trips, ∀ (k0_h2 : k0_cond2 i = 1#1), ∀ a, (k0_off110 v5075 k0_t2) a + S1x32.size a ≤ S2048x128.size a) ∧
  (∀ k0_t2 : Fin (k0_t2_loop v5075).trips, ∀ (k0_h2 : k0_cond2 i = 1#1), ∀ a, (k0_off111 v5075 k0_t2) a + S1x1.size a ≤ S6x2048.size a) ∧
  (∀ k0_t2 : Fin (k0_t2_loop v5075).trips, ∀ (k0_h2 : k0_cond2 i = 1#1), ∀ a, (k0_off113 v5075 k0_t2) a + S1x32.size a ≤ S2048x128.size a) ∧
  (∀ k0_t2 : Fin (k0_t2_loop v5075).trips, ∀ (k0_h2 : k0_cond2 i = 1#1), ∀ a, (k0_off114 v5075 k0_t2) a + S1x1.size a ≤ S6x2048.size a) ∧
  (∀ k0_t2 : Fin (k0_t2_loop v5075).trips, ∀ (k0_h2 : k0_cond2 i = 1#1), ∀ a, (k0_off116 v5075 k0_t2) a + S1x32.size a ≤ S2048x128.size a) ∧
  (∀ k0_t2 : Fin (k0_t2_loop v5075).trips, ∀ (k0_h2 : k0_cond2 i = 1#1), ∀ a, (k0_off117 v5075 k0_t2) a + S1x1.size a ≤ S6x2048.size a) ∧
  (∀ k0_t2 : Fin (k0_t2_loop v5075).trips, ∀ (k0_h2 : k0_cond2 i = 1#1), ∀ a, (k0_off119 v5075 k0_t2) a + S1x32.size a ≤ S2048x128.size a) ∧
  (∀ k0_t2 : Fin (k0_t2_loop v5075).trips, ∀ (k0_h2 : k0_cond2 i = 1#1), ∀ a, (k0_off120 v5075 k0_t2) a + S1x1.size a ≤ S6x2048.size a) ∧
  (∀ k0_t2 : Fin (k0_t2_loop v5075).trips, ∀ (k0_h2 : k0_cond2 i = 1#1), ∀ a, (k0_off122 v5075 k0_t2) a + S1x32.size a ≤ S2048x128.size a) ∧
  (∀ k0_t2 : Fin (k0_t2_loop v5075).trips, ∀ (k0_h2 : k0_cond2 i = 1#1), ∀ a, (k0_off123 v5075 k0_t2) a + S1x1.size a ≤ S6x2048.size a) ∧
  (∀ k0_t2 : Fin (k0_t2_loop v5075).trips, ∀ (k0_h2 : k0_cond2 i = 1#1), ∀ a, (k0_off125 v5075 k0_t2) a + S1x32.size a ≤ S2048x128.size a) ∧
  (∀ k0_t2 : Fin (k0_t2_loop v5075).trips, ∀ (k0_h2 : k0_cond2 i = 1#1), ∀ a, (k0_off126 v5075 k0_t2) a + S1x1.size a ≤ S6x2048.size a) ∧
  (∀ k0_t2 : Fin (k0_t2_loop v5075).trips, ∀ (k0_h2 : k0_cond2 i = 1#1), ∀ a, (k0_off128 v5075 k0_t2) a + S1x32.size a ≤ S2048x128.size a) ∧
  (∀ k0_t2 : Fin (k0_t2_loop v5075).trips, ∀ (k0_h2 : k0_cond2 i = 1#1), ∀ a, (k0_off129 v5075 k0_t2) a + S1x1.size a ≤ S6x2048.size a) ∧
  (∀ k0_t2 : Fin (k0_t2_loop v5075).trips, ∀ (k0_h2 : k0_cond2 i = 1#1), ∀ a, (k0_off131 v5075 k0_t2) a + S1x32.size a ≤ S2048x128.size a) ∧
  (∀ k0_t2 : Fin (k0_t2_loop v5075).trips, ∀ (k0_h2 : k0_cond2 i = 1#1), ∀ a, (k0_off132 v5075 k0_t2) a + S1x1.size a ≤ S6x2048.size a) ∧
  (∀ k0_t2 : Fin (k0_t2_loop v5075).trips, ∀ (k0_h2 : k0_cond2 i = 1#1), ∀ a, (k0_off134 v5075 k0_t2) a + S1x32.size a ≤ S2048x128.size a) ∧
  (∀ k0_t2 : Fin (k0_t2_loop v5075).trips, ∀ (k0_h2 : k0_cond2 i = 1#1), ∀ a, (k0_off135 v5075 k0_t2) a + S1x1.size a ≤ S6x2048.size a) ∧
  (∀ k0_t2 : Fin (k0_t2_loop v5075).trips, ∀ (k0_h2 : k0_cond2 i = 1#1), ∀ a, (k0_off137 v5075 k0_t2) a + S1x32.size a ≤ S2048x128.size a) ∧
  (∀ k0_t2 : Fin (k0_t2_loop v5075).trips, ∀ (k0_h2 : k0_cond2 i = 1#1), ∀ a, (k0_off138 v5075 k0_t2) a + S1x1.size a ≤ S6x2048.size a) ∧
  (∀ k0_t2 : Fin (k0_t2_loop v5075).trips, ∀ (k0_h2 : k0_cond2 i = 1#1), ∀ a, (k0_off140 v5075 k0_t2) a + S1x32.size a ≤ S2048x128.size a) ∧
  (∀ k0_t2 : Fin (k0_t2_loop v5075).trips, ∀ (k0_h2 : k0_cond2 i = 1#1), ∀ a, (k0_off141 v5075 k0_t2) a + S1x1.size a ≤ S6x2048.size a) ∧
  (∀ k0_t2 : Fin (k0_t2_loop v5075).trips, ∀ (k0_h2 : k0_cond2 i = 1#1), ∀ a, (k0_off143 v5075 k0_t2) a + S1x32.size a ≤ S2048x128.size a)
def k0_chk1_3 (i : grid0.Coords) (v5075 : BitVec 32) : Prop :=
  (∀ k0_t2 : Fin (k0_t2_loop v5075).trips, ∀ (k0_h2 : k0_cond2 i = 1#1), ∀ a, (k0_off144 v5075 k0_t2) a + S1x1.size a ≤ S6x2048.size a) ∧
  (∀ k0_t2 : Fin (k0_t2_loop v5075).trips, ∀ (k0_h2 : k0_cond2 i = 1#1), ∀ a, (k0_off146 v5075 k0_t2) a + S1x32.size a ≤ S2048x128.size a) ∧
  (∀ k0_t2 : Fin (k0_t2_loop v5075).trips, ∀ (k0_h2 : k0_cond2 i = 1#1), ∀ a, (k0_off147 v5075 k0_t2) a + S1x1.size a ≤ S6x2048.size a) ∧
  (∀ k0_t2 : Fin (k0_t2_loop v5075).trips, ∀ (k0_h2 : k0_cond2 i = 1#1), ∀ a, (k0_off149 v5075 k0_t2) a + S1x32.size a ≤ S2048x128.size a) ∧
  (∀ k0_t2 : Fin (k0_t2_loop v5075).trips, ∀ (k0_h2 : k0_cond2 i = 1#1), ∀ a, (k0_off150 v5075 k0_t2) a + S1x1.size a ≤ S6x2048.size a) ∧
  (∀ k0_t2 : Fin (k0_t2_loop v5075).trips, ∀ (k0_h2 : k0_cond2 i = 1#1), ∀ a, (k0_off152 v5075 k0_t2) a + S1x32.size a ≤ S2048x128.size a) ∧
  (∀ k0_t2 : Fin (k0_t2_loop v5075).trips, ∀ (k0_h2 : k0_cond2 i = 1#1), ∀ a, (k0_off153 v5075 k0_t2) a + S1x1.size a ≤ S6x2048.size a) ∧
  (∀ k0_t2 : Fin (k0_t2_loop v5075).trips, ∀ (k0_h2 : k0_cond2 i = 1#1), ∀ a, (k0_off155 v5075 k0_t2) a + S1x32.size a ≤ S2048x128.size a) ∧
  (∀ k0_t2 : Fin (k0_t2_loop v5075).trips, ∀ (k0_h2 : k0_cond2 i = 1#1), ∀ a, (k0_off156 v5075 k0_t2) a + S1x1.size a ≤ S6x2048.size a) ∧
  (∀ k0_t2 : Fin (k0_t2_loop v5075).trips, ∀ (k0_h2 : k0_cond2 i = 1#1), ∀ a, (k0_off158 v5075 k0_t2) a + S1x32.size a ≤ S2048x128.size a) ∧
  (∀ k0_t2 : Fin (k0_t2_loop v5075).trips, ∀ (k0_h2 : k0_cond2 i = 1#1), ∀ a, (k0_off159 v5075 k0_t2) a + S1x1.size a ≤ S6x2048.size a) ∧
  (∀ k0_t2 : Fin (k0_t2_loop v5075).trips, ∀ (k0_h2 : k0_cond2 i = 1#1), ∀ a, (k0_off161 v5075 k0_t2) a + S1x32.size a ≤ S2048x128.size a) ∧
  (∀ k0_t2 : Fin (k0_t2_loop v5075).trips, ∀ (k0_h2 : k0_cond2 i = 1#1), ∀ a, (k0_off162 v5075 k0_t2) a + S1x1.size a ≤ S6x2048.size a) ∧
  (∀ k0_t2 : Fin (k0_t2_loop v5075).trips, ∀ (k0_h2 : k0_cond2 i = 1#1), ∀ a, (k0_off164 v5075 k0_t2) a + S1x32.size a ≤ S2048x128.size a) ∧
  (∀ k0_t2 : Fin (k0_t2_loop v5075).trips, ∀ (k0_h2 : k0_cond2 i = 1#1), ∀ a, (k0_off165 v5075 k0_t2) a + S1x1.size a ≤ S6x2048.size a) ∧
  (∀ k0_t2 : Fin (k0_t2_loop v5075).trips, ∀ (k0_h2 : k0_cond2 i = 1#1), ∀ a, (k0_off167 v5075 k0_t2) a + S1x32.size a ≤ S2048x128.size a) ∧
  (∀ k0_t2 : Fin (k0_t2_loop v5075).trips, ∀ (k0_h2 : k0_cond2 i = 1#1), ∀ a, (k0_off168 v5075 k0_t2) a + S1x1.size a ≤ S6x2048.size a) ∧
  (∀ k0_t2 : Fin (k0_t2_loop v5075).trips, ∀ (k0_h2 : k0_cond2 i = 1#1), ∀ a, (k0_off170 v5075 k0_t2) a + S1x32.size a ≤ S2048x128.size a) ∧
  (∀ k0_t2 : Fin (k0_t2_loop v5075).trips, ∀ (k0_h2 : k0_cond2 i = 1#1), ∀ a, (k0_off171 v5075 k0_t2) a + S1x1.size a ≤ S6x2048.size a) ∧
  (∀ k0_t2 : Fin (k0_t2_loop v5075).trips, ∀ (k0_h2 : k0_cond2 i = 1#1), ∀ a, (k0_off173 v5075 k0_t2) a + S1x32.size a ≤ S2048x128.size a) ∧
  (∀ k0_t2 : Fin (k0_t2_loop v5075).trips, ∀ (k0_h2 : k0_cond2 i = 1#1), ∀ a, (k0_off174 v5075 k0_t2) a + S1x1.size a ≤ S6x2048.size a) ∧
  (∀ k0_t2 : Fin (k0_t2_loop v5075).trips, ∀ (k0_h2 : k0_cond2 i = 1#1), ∀ a, (k0_off176 v5075 k0_t2) a + S1x32.size a ≤ S2048x128.size a) ∧
  (∀ k0_t2 : Fin (k0_t2_loop v5075).trips, ∀ (k0_h2 : k0_cond2 i = 1#1), ∀ a, (k0_off177 v5075 k0_t2) a + S1x1.size a ≤ S6x2048.size a) ∧
  (∀ k0_t2 : Fin (k0_t2_loop v5075).trips, ∀ (k0_h2 : k0_cond2 i = 1#1), ∀ a, (k0_off179 v5075 k0_t2) a + S1x32.size a ≤ S2048x128.size a) ∧
  (∀ k0_t2 : Fin (k0_t2_loop v5075).trips, ∀ (k0_h2 : k0_cond2 i = 1#1), ∀ a, (k0_off180 v5075 k0_t2) a + S1x1.size a ≤ S6x2048.size a) ∧
  (∀ k0_t2 : Fin (k0_t2_loop v5075).trips, ∀ (k0_h2 : k0_cond2 i = 1#1), ∀ a, (k0_off182 v5075 k0_t2) a + S1x32.size a ≤ S2048x128.size a) ∧
  (∀ k0_t2 : Fin (k0_t2_loop v5075).trips, ∀ (k0_h2 : k0_cond2 i = 1#1), ∀ a, (k0_off183 v5075 k0_t2) a + S1x1.size a ≤ S6x2048.size a) ∧
  (∀ k0_t2 : Fin (k0_t2_loop v5075).trips, ∀ (k0_h2 : k0_cond2 i = 1#1), ∀ a, (k0_off185 v5075 k0_t2) a + S1x32.size a ≤ S2048x128.size a) ∧
  (∀ k0_t2 : Fin (k0_t2_loop v5075).trips, ∀ (k0_h2 : k0_cond2 i = 1#1), ∀ a, (k0_off186 v5075 k0_t2) a + S1x1.size a ≤ S6x2048.size a) ∧
  (∀ k0_t2 : Fin (k0_t2_loop v5075).trips, ∀ (k0_h2 : k0_cond2 i = 1#1), ∀ a, (k0_off188 v5075 k0_t2) a + S1x32.size a ≤ S2048x128.size a) ∧
  (∀ k0_t2 : Fin (k0_t2_loop v5075).trips, ∀ (k0_h2 : k0_cond2 i = 1#1), ∀ a, (k0_off189 v5075 k0_t2) a + S1x1.size a ≤ S6x2048.size a) ∧
  (∀ k0_t2 : Fin (k0_t2_loop v5075).trips, ∀ (k0_h2 : k0_cond2 i = 1#1), ∀ a, (k0_off191 v5075 k0_t2) a + S1x32.size a ≤ S2048x128.size a)
def k0_chk1_4 (i : grid0.Coords) (v5075 : BitVec 32) : Prop :=
  (∀ k0_t2 : Fin (k0_t2_loop v5075).trips, ∀ (k0_h2 : k0_cond2 i = 1#1), ∀ a, (k0_off192 v5075 k0_t2) a + S1x1.size a ≤ S6x2048.size a) ∧
  (∀ k0_t2 : Fin (k0_t2_loop v5075).trips, ∀ (k0_h2 : k0_cond2 i = 1#1), ∀ a, (k0_off194 v5075 k0_t2) a + S1x32.size a ≤ S2048x128.size a)
def k0_chk1 (i : grid0.Coords) (v5075 : BitVec 32) : Prop :=
  k0_chk1_0 i v5075 ∧
  k0_chk1_1 i v5075 ∧
  k0_chk1_2 i v5075 ∧
  k0_chk1_3 i v5075 ∧
  k0_chk1_4 i v5075
theorem k0_t1_ok : ∀ (i : grid0.Coords) (v5075 : BitVec 32) (k0_hw1 : k0_chk1 i v5075), ∀ (k0_h2 : k0_cond2 i = 1#1), (k0_t1_loop v5075).OK := fun i v5075 k0_hw1 k0_h2 => k0_hw1.1.1 k0_h2
theorem k0_off3_inb : ∀ (i : grid0.Coords) (v5075 : BitVec 32) (k0_hw1 : k0_chk1 i v5075) (k0_t1 : Fin (k0_t1_loop v5075).trips), ∀ (k0_h2 : k0_cond2 i = 1#1), ∀ a, (k0_off3 v5075 k0_t1) a + S1x1.size a ≤ S6x2048.size a := fun i v5075 k0_hw1 k0_t1 k0_h2 => k0_hw1.1.2.1 k0_t1 k0_h2
theorem k0_off5_inb : ∀ (i : grid0.Coords) (v5075 : BitVec 32) (k0_hw1 : k0_chk1 i v5075) (k0_t1 : Fin (k0_t1_loop v5075).trips), ∀ (k0_h2 : k0_cond2 i = 1#1), ∀ a, (k0_off5 v5075 k0_t1) a + S1x32.size a ≤ S2048x128.size a := fun i v5075 k0_hw1 k0_t1 k0_h2 => k0_hw1.1.2.2.1 k0_t1 k0_h2
theorem k0_off6_inb : ∀ (i : grid0.Coords) (v5075 : BitVec 32) (k0_hw1 : k0_chk1 i v5075) (k0_t1 : Fin (k0_t1_loop v5075).trips), ∀ (k0_h2 : k0_cond2 i = 1#1), ∀ a, (k0_off6 v5075 k0_t1) a + S1x1.size a ≤ S6x2048.size a := fun i v5075 k0_hw1 k0_t1 k0_h2 => k0_hw1.1.2.2.2.1 k0_t1 k0_h2
theorem k0_off8_inb : ∀ (i : grid0.Coords) (v5075 : BitVec 32) (k0_hw1 : k0_chk1 i v5075) (k0_t1 : Fin (k0_t1_loop v5075).trips), ∀ (k0_h2 : k0_cond2 i = 1#1), ∀ a, (k0_off8 v5075 k0_t1) a + S1x32.size a ≤ S2048x128.size a := fun i v5075 k0_hw1 k0_t1 k0_h2 => k0_hw1.1.2.2.2.2.1 k0_t1 k0_h2
theorem k0_off9_inb : ∀ (i : grid0.Coords) (v5075 : BitVec 32) (k0_hw1 : k0_chk1 i v5075) (k0_t1 : Fin (k0_t1_loop v5075).trips), ∀ (k0_h2 : k0_cond2 i = 1#1), ∀ a, (k0_off9 v5075 k0_t1) a + S1x1.size a ≤ S6x2048.size a := fun i v5075 k0_hw1 k0_t1 k0_h2 => k0_hw1.1.2.2.2.2.2.1 k0_t1 k0_h2
theorem k0_off11_inb : ∀ (i : grid0.Coords) (v5075 : BitVec 32) (k0_hw1 : k0_chk1 i v5075) (k0_t1 : Fin (k0_t1_loop v5075).trips), ∀ (k0_h2 : k0_cond2 i = 1#1), ∀ a, (k0_off11 v5075 k0_t1) a + S1x32.size a ≤ S2048x128.size a := fun i v5075 k0_hw1 k0_t1 k0_h2 => k0_hw1.1.2.2.2.2.2.2.1 k0_t1 k0_h2
theorem k0_off12_inb : ∀ (i : grid0.Coords) (v5075 : BitVec 32) (k0_hw1 : k0_chk1 i v5075) (k0_t1 : Fin (k0_t1_loop v5075).trips), ∀ (k0_h2 : k0_cond2 i = 1#1), ∀ a, (k0_off12 v5075 k0_t1) a + S1x1.size a ≤ S6x2048.size a := fun i v5075 k0_hw1 k0_t1 k0_h2 => k0_hw1.1.2.2.2.2.2.2.2.1 k0_t1 k0_h2
theorem k0_off14_inb : ∀ (i : grid0.Coords) (v5075 : BitVec 32) (k0_hw1 : k0_chk1 i v5075) (k0_t1 : Fin (k0_t1_loop v5075).trips), ∀ (k0_h2 : k0_cond2 i = 1#1), ∀ a, (k0_off14 v5075 k0_t1) a + S1x32.size a ≤ S2048x128.size a := fun i v5075 k0_hw1 k0_t1 k0_h2 => k0_hw1.1.2.2.2.2.2.2.2.2.1 k0_t1 k0_h2
theorem k0_off15_inb : ∀ (i : grid0.Coords) (v5075 : BitVec 32) (k0_hw1 : k0_chk1 i v5075) (k0_t1 : Fin (k0_t1_loop v5075).trips), ∀ (k0_h2 : k0_cond2 i = 1#1), ∀ a, (k0_off15 v5075 k0_t1) a + S1x1.size a ≤ S6x2048.size a := fun i v5075 k0_hw1 k0_t1 k0_h2 => k0_hw1.1.2.2.2.2.2.2.2.2.2.1 k0_t1 k0_h2
theorem k0_off17_inb : ∀ (i : grid0.Coords) (v5075 : BitVec 32) (k0_hw1 : k0_chk1 i v5075) (k0_t1 : Fin (k0_t1_loop v5075).trips), ∀ (k0_h2 : k0_cond2 i = 1#1), ∀ a, (k0_off17 v5075 k0_t1) a + S1x32.size a ≤ S2048x128.size a := fun i v5075 k0_hw1 k0_t1 k0_h2 => k0_hw1.1.2.2.2.2.2.2.2.2.2.2.1 k0_t1 k0_h2
theorem k0_off18_inb : ∀ (i : grid0.Coords) (v5075 : BitVec 32) (k0_hw1 : k0_chk1 i v5075) (k0_t1 : Fin (k0_t1_loop v5075).trips), ∀ (k0_h2 : k0_cond2 i = 1#1), ∀ a, (k0_off18 v5075 k0_t1) a + S1x1.size a ≤ S6x2048.size a := fun i v5075 k0_hw1 k0_t1 k0_h2 => k0_hw1.1.2.2.2.2.2.2.2.2.2.2.2.1 k0_t1 k0_h2
theorem k0_off20_inb : ∀ (i : grid0.Coords) (v5075 : BitVec 32) (k0_hw1 : k0_chk1 i v5075) (k0_t1 : Fin (k0_t1_loop v5075).trips), ∀ (k0_h2 : k0_cond2 i = 1#1), ∀ a, (k0_off20 v5075 k0_t1) a + S1x32.size a ≤ S2048x128.size a := fun i v5075 k0_hw1 k0_t1 k0_h2 => k0_hw1.1.2.2.2.2.2.2.2.2.2.2.2.2.1 k0_t1 k0_h2
theorem k0_off21_inb : ∀ (i : grid0.Coords) (v5075 : BitVec 32) (k0_hw1 : k0_chk1 i v5075) (k0_t1 : Fin (k0_t1_loop v5075).trips), ∀ (k0_h2 : k0_cond2 i = 1#1), ∀ a, (k0_off21 v5075 k0_t1) a + S1x1.size a ≤ S6x2048.size a := fun i v5075 k0_hw1 k0_t1 k0_h2 => k0_hw1.1.2.2.2.2.2.2.2.2.2.2.2.2.2.1 k0_t1 k0_h2
theorem k0_off23_inb : ∀ (i : grid0.Coords) (v5075 : BitVec 32) (k0_hw1 : k0_chk1 i v5075) (k0_t1 : Fin (k0_t1_loop v5075).trips), ∀ (k0_h2 : k0_cond2 i = 1#1), ∀ a, (k0_off23 v5075 k0_t1) a + S1x32.size a ≤ S2048x128.size a := fun i v5075 k0_hw1 k0_t1 k0_h2 => k0_hw1.1.2.2.2.2.2.2.2.2.2.2.2.2.2.2.1 k0_t1 k0_h2
theorem k0_off24_inb : ∀ (i : grid0.Coords) (v5075 : BitVec 32) (k0_hw1 : k0_chk1 i v5075) (k0_t1 : Fin (k0_t1_loop v5075).trips), ∀ (k0_h2 : k0_cond2 i = 1#1), ∀ a, (k0_off24 v5075 k0_t1) a + S1x1.size a ≤ S6x2048.size a := fun i v5075 k0_hw1 k0_t1 k0_h2 => k0_hw1.1.2.2.2.2.2.2.2.2.2.2.2.2.2.2.2.1 k0_t1 k0_h2
theorem k0_off26_inb : ∀ (i : grid0.Coords) (v5075 : BitVec 32) (k0_hw1 : k0_chk1 i v5075) (k0_t1 : Fin (k0_t1_loop v5075).trips), ∀ (k0_h2 : k0_cond2 i = 1#1), ∀ a, (k0_off26 v5075 k0_t1) a + S1x32.size a ≤ S2048x128.size a := fun i v5075 k0_hw1 k0_t1 k0_h2 => k0_hw1.1.2.2.2.2.2.2.2.2.2.2.2.2.2.2.2.2.1 k0_t1 k0_h2
theorem k0_off27_inb : ∀ (i : grid0.Coords) (v5075 : BitVec 32) (k0_hw1 : k0_chk1 i v5075) (k0_t1 : Fin (k0_t1_loop v5075).trips), ∀ (k0_h2 : k0_cond2 i = 1#1), ∀ a, (k0_off27 v5075 k0_t1) a + S1x1.size a ≤ S6x2048.size a := fun i v5075 k0_hw1 k0_t1 k0_h2 => k0_hw1.1.2.2.2.2.2.2.2.2.2.2.2.2.2.2.2.2.2.1 k0_t1 k0_h2
theorem k0_off29_inb : ∀ (i : grid0.Coords) (v5075 : BitVec 32) (k0_hw1 : k0_chk1 i v5075) (k0_t1 : Fin (k0_t1_loop v5075).trips), ∀ (k0_h2 : k0_cond2 i = 1#1), ∀ a, (k0_off29 v5075 k0_t1) a + S1x32.size a ≤ S2048x128.size a := fun i v5075 k0_hw1 k0_t1 k0_h2 => k0_hw1.1.2.2.2.2.2.2.2.2.2.2.2.2.2.2.2.2.2.2.1 k0_t1 k0_h2
theorem k0_off30_inb : ∀ (i : grid0.Coords) (v5075 : BitVec 32) (k0_hw1 : k0_chk1 i v5075) (k0_t1 : Fin (k0_t1_loop v5075).trips), ∀ (k0_h2 : k0_cond2 i = 1#1), ∀ a, (k0_off30 v5075 k0_t1) a + S1x1.size a ≤ S6x2048.size a := fun i v5075 k0_hw1 k0_t1 k0_h2 => k0_hw1.1.2.2.2.2.2.2.2.2.2.2.2.2.2.2.2.2.2.2.2.1 k0_t1 k0_h2
theorem k0_off32_inb : ∀ (i : grid0.Coords) (v5075 : BitVec 32) (k0_hw1 : k0_chk1 i v5075) (k0_t1 : Fin (k0_t1_loop v5075).trips), ∀ (k0_h2 : k0_cond2 i = 1#1), ∀ a, (k0_off32 v5075 k0_t1) a + S1x32.size a ≤ S2048x128.size a := fun i v5075 k0_hw1 k0_t1 k0_h2 => k0_hw1.1.2.2.2.2.2.2.2.2.2.2.2.2.2.2.2.2.2.2.2.2.1 k0_t1 k0_h2
theorem k0_off33_inb : ∀ (i : grid0.Coords) (v5075 : BitVec 32) (k0_hw1 : k0_chk1 i v5075) (k0_t1 : Fin (k0_t1_loop v5075).trips), ∀ (k0_h2 : k0_cond2 i = 1#1), ∀ a, (k0_off33 v5075 k0_t1) a + S1x1.size a ≤ S6x2048.size a := fun i v5075 k0_hw1 k0_t1 k0_h2 => k0_hw1.1.2.2.2.2.2.2.2.2.2.2.2.2.2.2.2.2.2.2.2.2.2.1 k0_t1 k0_h2
theorem k0_off35_inb : ∀ (i : grid0.Coords) (v5075 : BitVec 32) (k0_hw1 : k0_chk1 i v5075) (k0_t1 : Fin (k0_t1_loop v5075).trips), ∀ (k0_h2 : k0_cond2 i = 1#1), ∀ a, (k0_off35 v5075 k0_t1) a + S1x32.size a ≤ S2048x128.size a := fun i v5075 k0_hw1 k0_t1 k0_h2 => k0_hw1.1.2.2.2.2.2.2.2.2.2.2.2.2.2.2.2.2.2.2.2.2.2.2.1 k0_t1 k0_h2
theorem k0_off36_inb : ∀ (i : grid0.Coords) (v5075 : BitVec 32) (k0_hw1 : k0_chk1 i v5075) (k0_t1 : Fin (k0_t1_loop v5075).trips), ∀ (k0_h2 : k0_cond2 i = 1#1), ∀ a, (k0_off36 v5075 k0_t1) a + S1x1.size a ≤ S6x2048.size a := fun i v5075 k0_hw1 k0_t1 k0_h2 => k0_hw1.1.2.2.2.2.2.2.2.2.2.2.2.2.2.2.2.2.2.2.2.2.2.2.2.1 k0_t1 k0_h2
theorem k0_off38_inb : ∀ (i : grid0.Coords) (v5075 : BitVec 32) (k0_hw1 : k0_chk1 i v5075) (k0_t1 : Fin (k0_t1_loop v5075).trips), ∀ (k0_h2 : k0_cond2 i = 1#1), ∀ a, (k0_off38 v5075 k0_t1) a + S1x32.size a ≤ S2048x128.size a := fun i v5075 k0_hw1 k0_t1 k0_h2 => k0_hw1.1.2.2.2.2.2.2.2.2.2.2.2.2.2.2.2.2.2.2.2.2.2.2.2.2.1 k0_t1 k0_h2
theorem k0_off39_inb : ∀ (i : grid0.Coords) (v5075 : BitVec 32) (k0_hw1 : k0_chk1 i v5075) (k0_t1 : Fin (k0_t1_loop v5075).trips), ∀ (k0_h2 : k0_cond2 i = 1#1), ∀ a, (k0_off39 v5075 k0_t1) a + S1x1.size a ≤ S6x2048.size a := fun i v5075 k0_hw1 k0_t1 k0_h2 => k0_hw1.1.2.2.2.2.2.2.2.2.2.2.2.2.2.2.2.2.2.2.2.2.2.2.2.2.2.1 k0_t1 k0_h2
theorem k0_off41_inb : ∀ (i : grid0.Coords) (v5075 : BitVec 32) (k0_hw1 : k0_chk1 i v5075) (k0_t1 : Fin (k0_t1_loop v5075).trips), ∀ (k0_h2 : k0_cond2 i = 1#1), ∀ a, (k0_off41 v5075 k0_t1) a + S1x32.size a ≤ S2048x128.size a := fun i v5075 k0_hw1 k0_t1 k0_h2 => k0_hw1.1.2.2.2.2.2.2.2.2.2.2.2.2.2.2.2.2.2.2.2.2.2.2.2.2.2.2.1 k0_t1 k0_h2
theorem k0_off42_inb : ∀ (i : grid0.Coords) (v5075 : BitVec 32) (k0_hw1 : k0_chk1 i v5075) (k0_t1 : Fin (k0_t1_loop v5075).trips), ∀ (k0_h2 : k0_cond2 i = 1#1), ∀ a, (k0_off42 v5075 k0_t1) a + S1x1.size a ≤ S6x2048.size a := fun i v5075 k0_hw1 k0_t1 k0_h2 => k0_hw1.1.2.2.2.2.2.2.2.2.2.2.2.2.2.2.2.2.2.2.2.2.2.2.2.2.2.2.2.1 k0_t1 k0_h2
theorem k0_off44_inb : ∀ (i : grid0.Coords) (v5075 : BitVec 32) (k0_hw1 : k0_chk1 i v5075) (k0_t1 : Fin (k0_t1_loop v5075).trips), ∀ (k0_h2 : k0_cond2 i = 1#1), ∀ a, (k0_off44 v5075 k0_t1) a + S1x32.size a ≤ S2048x128.size a := fun i v5075 k0_hw1 k0_t1 k0_h2 => k0_hw1.1.2.2.2.2.2.2.2.2.2.2.2.2.2.2.2.2.2.2.2.2.2.2.2.2.2.2.2.2.1 k0_t1 k0_h2
theorem k0_off45_inb : ∀ (i : grid0.Coords) (v5075 : BitVec 32) (k0_hw1 : k0_chk1 i v5075) (k0_t1 : Fin (k0_t1_loop v5075).trips), ∀ (k0_h2 : k0_cond2 i = 1#1), ∀ a, (k0_off45 v5075 k0_t1) a + S1x1.size a ≤ S6x2048.size a := fun i v5075 k0_hw1 k0_t1 k0_h2 => k0_hw1.1.2.2.2.2.2.2.2.2.2.2.2.2.2.2.2.2.2.2.2.2.2.2.2.2.2.2.2.2.2.1 k0_t1 k0_h2
theorem k0_off47_inb : ∀ (i : grid0.Coords) (v5075 : BitVec 32) (k0_hw1 : k0_chk1 i v5075) (k0_t1 : Fin (k0_t1_loop v5075).trips), ∀ (k0_h2 : k0_cond2 i = 1#1), ∀ a, (k0_off47 v5075 k0_t1) a + S1x32.size a ≤ S2048x128.size a := fun i v5075 k0_hw1 k0_t1 k0_h2 => k0_hw1.1.2.2.2.2.2.2.2.2.2.2.2.2.2.2.2.2.2.2.2.2.2.2.2.2.2.2.2.2.2.2.1 k0_t1 k0_h2
theorem k0_off48_inb : ∀ (i : grid0.Coords) (v5075 : BitVec 32) (k0_hw1 : k0_chk1 i v5075) (k0_t1 : Fin (k0_t1_loop v5075).trips), ∀ (k0_h2 : k0_cond2 i = 1#1), ∀ a, (k0_off48 v5075 k0_t1) a + S1x1.size a ≤ S6x2048.size a := fun i v5075 k0_hw1 k0_t1 k0_h2 => k0_hw1.1.2.2.2.2.2.2.2.2.2.2.2.2.2.2.2.2.2.2.2.2.2.2.2.2.2.2.2.2.2.2.2 k0_t1 k0_h2
theorem k0_off50_inb : ∀ (i : grid0.Coords) (v5075 : BitVec 32) (k0_hw1 : k0_chk1 i v5075) (k0_t1 : Fin (k0_t1_loop v5075).trips), ∀ (k0_h2 : k0_cond2 i = 1#1), ∀ a, (k0_off50 v5075 k0_t1) a + S1x32.size a ≤ S2048x128.size a := fun i v5075 k0_hw1 k0_t1 k0_h2 => k0_hw1.2.1.1 k0_t1 k0_h2
theorem k0_off51_inb : ∀ (i : grid0.Coords) (v5075 : BitVec 32) (k0_hw1 : k0_chk1 i v5075) (k0_t1 : Fin (k0_t1_loop v5075).trips), ∀ (k0_h2 : k0_cond2 i = 1#1), ∀ a, (k0_off51 v5075 k0_t1) a + S1x1.size a ≤ S6x2048.size a := fun i v5075 k0_hw1 k0_t1 k0_h2 => k0_hw1.2.1.2.1 k0_t1 k0_h2
theorem k0_off53_inb : ∀ (i : grid0.Coords) (v5075 : BitVec 32) (k0_hw1 : k0_chk1 i v5075) (k0_t1 : Fin (k0_t1_loop v5075).trips), ∀ (k0_h2 : k0_cond2 i = 1#1), ∀ a, (k0_off53 v5075 k0_t1) a + S1x32.size a ≤ S2048x128.size a := fun i v5075 k0_hw1 k0_t1 k0_h2 => k0_hw1.2.1.2.2.1 k0_t1 k0_h2
theorem k0_off54_inb : ∀ (i : grid0.Coords) (v5075 : BitVec 32) (k0_hw1 : k0_chk1 i v5075) (k0_t1 : Fin (k0_t1_loop v5075).trips), ∀ (k0_h2 : k0_cond2 i = 1#1), ∀ a, (k0_off54 v5075 k0_t1) a + S1x1.size a ≤ S6x2048.size a := fun i v5075 k0_hw1 k0_t1 k0_h2 => k0_hw1.2.1.2.2.2.1 k0_t1 k0_h2
theorem k0_off56_inb : ∀ (i : grid0.Coords) (v5075 : BitVec 32) (k0_hw1 : k0_chk1 i v5075) (k0_t1 : Fin (k0_t1_loop v5075).trips), ∀ (k0_h2 : k0_cond2 i = 1#1), ∀ a, (k0_off56 v5075 k0_t1) a + S1x32.size a ≤ S2048x128.size a := fun i v5075 k0_hw1 k0_t1 k0_h2 => k0_hw1.2.1.2.2.2.2.1 k0_t1 k0_h2
theorem k0_off57_inb : ∀ (i : grid0.Coords) (v5075 : BitVec 32) (k0_hw1 : k0_chk1 i v5075) (k0_t1 : Fin (k0_t1_loop v5075).trips), ∀ (k0_h2 : k0_cond2 i = 1#1), ∀ a, (k0_off57 v5075 k0_t1) a + S1x1.size a ≤ S6x2048.size a := fun i v5075 k0_hw1 k0_t1 k0_h2 => k0_hw1.2.1.2.2.2.2.2.1 k0_t1 k0_h2
theorem k0_off59_inb : ∀ (i : grid0.Coords) (v5075 : BitVec 32) (k0_hw1 : k0_chk1 i v5075) (k0_t1 : Fin (k0_t1_loop v5075).trips), ∀ (k0_h2 : k0_cond2 i = 1#1), ∀ a, (k0_off59 v5075 k0_t1) a + S1x32.size a ≤ S2048x128.size a := fun i v5075 k0_hw1 k0_t1 k0_h2 => k0_hw1.2.1.2.2.2.2.2.2.1 k0_t1 k0_h2
theorem k0_off60_inb : ∀ (i : grid0.Coords) (v5075 : BitVec 32) (k0_hw1 : k0_chk1 i v5075) (k0_t1 : Fin (k0_t1_loop v5075).trips), ∀ (k0_h2 : k0_cond2 i = 1#1), ∀ a, (k0_off60 v5075 k0_t1) a + S1x1.size a ≤ S6x2048.size a := fun i v5075 k0_hw1 k0_t1 k0_h2 => k0_hw1.2.1.2.2.2.2.2.2.2.1 k0_t1 k0_h2
theorem k0_off62_inb : ∀ (i : grid0.Coords) (v5075 : BitVec 32) (k0_hw1 : k0_chk1 i v5075) (k0_t1 : Fin (k0_t1_loop v5075).trips), ∀ (k0_h2 : k0_cond2 i = 1#1), ∀ a, (k0_off62 v5075 k0_t1) a + S1x32.size a ≤ S2048x128.size a := fun i v5075 k0_hw1 k0_t1 k0_h2 => k0_hw1.2.1.2.2.2.2.2.2.2.2.1 k0_t1 k0_h2
theorem k0_off63_inb : ∀ (i : grid0.Coords) (v5075 : BitVec 32) (k0_hw1 : k0_chk1 i v5075) (k0_t1 : Fin (k0_t1_loop v5075).trips), ∀ (k0_h2 : k0_cond2 i = 1#1), ∀ a, (k0_off63 v5075 k0_t1) a + S1x1.size a ≤ S6x2048.size a := fun i v5075 k0_hw1 k0_t1 k0_h2 => k0_hw1.2.1.2.2.2.2.2.2.2.2.2.1 k0_t1 k0_h2
theorem k0_off65_inb : ∀ (i : grid0.Coords) (v5075 : BitVec 32) (k0_hw1 : k0_chk1 i v5075) (k0_t1 : Fin (k0_t1_loop v5075).trips), ∀ (k0_h2 : k0_cond2 i = 1#1), ∀ a, (k0_off65 v5075 k0_t1) a + S1x32.size a ≤ S2048x128.size a := fun i v5075 k0_hw1 k0_t1 k0_h2 => k0_hw1.2.1.2.2.2.2.2.2.2.2.2.2.1 k0_t1 k0_h2
theorem k0_off66_inb : ∀ (i : grid0.Coords) (v5075 : BitVec 32) (k0_hw1 : k0_chk1 i v5075) (k0_t1 : Fin (k0_t1_loop v5075).trips), ∀ (k0_h2 : k0_cond2 i = 1#1), ∀ a, (k0_off66 v5075 k0_t1) a + S1x1.size a ≤ S6x2048.size a := fun i v5075 k0_hw1 k0_t1 k0_h2 => k0_hw1.2.1.2.2.2.2.2.2.2.2.2.2.2.1 k0_t1 k0_h2
theorem k0_off68_inb : ∀ (i : grid0.Coords) (v5075 : BitVec 32) (k0_hw1 : k0_chk1 i v5075) (k0_t1 : Fin (k0_t1_loop v5075).trips), ∀ (k0_h2 : k0_cond2 i = 1#1), ∀ a, (k0_off68 v5075 k0_t1) a + S1x32.size a ≤ S2048x128.size a := fun i v5075 k0_hw1 k0_t1 k0_h2 => k0_hw1.2.1.2.2.2.2.2.2.2.2.2.2.2.2.1 k0_t1 k0_h2
theorem k0_off69_inb : ∀ (i : grid0.Coords) (v5075 : BitVec 32) (k0_hw1 : k0_chk1 i v5075) (k0_t1 : Fin (k0_t1_loop v5075).trips), ∀ (k0_h2 : k0_cond2 i = 1#1), ∀ a, (k0_off69 v5075 k0_t1) a + S1x1.size a ≤ S6x2048.size a := fun i v5075 k0_hw1 k0_t1 k0_h2 => k0_hw1.2.1.2.2.2.2.2.2.2.2.2.2.2.2.2.1 k0_t1 k0_h2
theorem k0_off71_inb : ∀ (i : grid0.Coords) (v5075 : BitVec 32) (k0_hw1 : k0_chk1 i v5075) (k0_t1 : Fin (k0_t1_loop v5075).trips), ∀ (k0_h2 : k0_cond2 i = 1#1), ∀ a, (k0_off71 v5075 k0_t1) a + S1x32.size a ≤ S2048x128.size a := fun i v5075 k0_hw1 k0_t1 k0_h2 => k0_hw1.2.1.2.2.2.2.2.2.2.2.2.2.2.2.2.2.1 k0_t1 k0_h2
theorem k0_off72_inb : ∀ (i : grid0.Coords) (v5075 : BitVec 32) (k0_hw1 : k0_chk1 i v5075) (k0_t1 : Fin (k0_t1_loop v5075).trips), ∀ (k0_h2 : k0_cond2 i = 1#1), ∀ a, (k0_off72 v5075 k0_t1) a + S1x1.size a ≤ S6x2048.size a := fun i v5075 k0_hw1 k0_t1 k0_h2 => k0_hw1.2.1.2.2.2.2.2.2.2.2.2.2.2.2.2.2.2.1 k0_t1 k0_h2
theorem k0_off74_inb : ∀ (i : grid0.Coords) (v5075 : BitVec 32) (k0_hw1 : k0_chk1 i v5075) (k0_t1 : Fin (k0_t1_loop v5075).trips), ∀ (k0_h2 : k0_cond2 i = 1#1), ∀ a, (k0_off74 v5075 k0_t1) a + S1x32.size a ≤ S2048x128.size a := fun i v5075 k0_hw1 k0_t1 k0_h2 => k0_hw1.2.1.2.2.2.2.2.2.2.2.2.2.2.2.2.2.2.2.1 k0_t1 k0_h2
theorem k0_off75_inb : ∀ (i : grid0.Coords) (v5075 : BitVec 32) (k0_hw1 : k0_chk1 i v5075) (k0_t1 : Fin (k0_t1_loop v5075).trips), ∀ (k0_h2 : k0_cond2 i = 1#1), ∀ a, (k0_off75 v5075 k0_t1) a + S1x1.size a ≤ S6x2048.size a := fun i v5075 k0_hw1 k0_t1 k0_h2 => k0_hw1.2.1.2.2.2.2.2.2.2.2.2.2.2.2.2.2.2.2.2.1 k0_t1 k0_h2
theorem k0_off77_inb : ∀ (i : grid0.Coords) (v5075 : BitVec 32) (k0_hw1 : k0_chk1 i v5075) (k0_t1 : Fin (k0_t1_loop v5075).trips), ∀ (k0_h2 : k0_cond2 i = 1#1), ∀ a, (k0_off77 v5075 k0_t1) a + S1x32.size a ≤ S2048x128.size a := fun i v5075 k0_hw1 k0_t1 k0_h2 => k0_hw1.2.1.2.2.2.2.2.2.2.2.2.2.2.2.2.2.2.2.2.2.1 k0_t1 k0_h2
theorem k0_off78_inb : ∀ (i : grid0.Coords) (v5075 : BitVec 32) (k0_hw1 : k0_chk1 i v5075) (k0_t1 : Fin (k0_t1_loop v5075).trips), ∀ (k0_h2 : k0_cond2 i = 1#1), ∀ a, (k0_off78 v5075 k0_t1) a + S1x1.size a ≤ S6x2048.size a := fun i v5075 k0_hw1 k0_t1 k0_h2 => k0_hw1.2.1.2.2.2.2.2.2.2.2.2.2.2.2.2.2.2.2.2.2.2.1 k0_t1 k0_h2
theorem k0_off80_inb : ∀ (i : grid0.Coords) (v5075 : BitVec 32) (k0_hw1 : k0_chk1 i v5075) (k0_t1 : Fin (k0_t1_loop v5075).trips), ∀ (k0_h2 : k0_cond2 i = 1#1), ∀ a, (k0_off80 v5075 k0_t1) a + S1x32.size a ≤ S2048x128.size a := fun i v5075 k0_hw1 k0_t1 k0_h2 => k0_hw1.2.1.2.2.2.2.2.2.2.2.2.2.2.2.2.2.2.2.2.2.2.2.1 k0_t1 k0_h2
theorem k0_off81_inb : ∀ (i : grid0.Coords) (v5075 : BitVec 32) (k0_hw1 : k0_chk1 i v5075) (k0_t1 : Fin (k0_t1_loop v5075).trips), ∀ (k0_h2 : k0_cond2 i = 1#1), ∀ a, (k0_off81 v5075 k0_t1) a + S1x1.size a ≤ S6x2048.size a := fun i v5075 k0_hw1 k0_t1 k0_h2 => k0_hw1.2.1.2.2.2.2.2.2.2.2.2.2.2.2.2.2.2.2.2.2.2.2.2.1 k0_t1 k0_h2
theorem k0_off83_inb : ∀ (i : grid0.Coords) (v5075 : BitVec 32) (k0_hw1 : k0_chk1 i v5075) (k0_t1 : Fin (k0_t1_loop v5075).trips), ∀ (k0_h2 : k0_cond2 i = 1#1), ∀ a, (k0_off83 v5075 k0_t1) a + S1x32.size a ≤ S2048x128.size a := fun i v5075 k0_hw1 k0_t1 k0_h2 => k0_hw1.2.1.2.2.2.2.2.2.2.2.2.2.2.2.2.2.2.2.2.2.2.2.2.2.1 k0_t1 k0_h2
theorem k0_off84_inb : ∀ (i : grid0.Coords) (v5075 : BitVec 32) (k0_hw1 : k0_chk1 i v5075) (k0_t1 : Fin (k0_t1_loop v5075).trips), ∀ (k0_h2 : k0_cond2 i = 1#1), ∀ a, (k0_off84 v5075 k0_t1) a + S1x1.size a ≤ S6x2048.size a := fun i v5075 k0_hw1 k0_t1 k0_h2 => k0_hw1.2.1.2.2.2.2.2.2.2.2.2.2.2.2.2.2.2.2.2.2.2.2.2.2.2.1 k0_t1 k0_h2
theorem k0_off86_inb : ∀ (i : grid0.Coords) (v5075 : BitVec 32) (k0_hw1 : k0_chk1 i v5075) (k0_t1 : Fin (k0_t1_loop v5075).trips), ∀ (k0_h2 : k0_cond2 i = 1#1), ∀ a, (k0_off86 v5075 k0_t1) a + S1x32.size a ≤ S2048x128.size a := fun i v5075 k0_hw1 k0_t1 k0_h2 => k0_hw1.2.1.2.2.2.2.2.2.2.2.2.2.2.2.2.2.2.2.2.2.2.2.2.2.2.2.1 k0_t1 k0_h2
theorem k0_off87_inb : ∀ (i : grid0.Coords) (v5075 : BitVec 32) (k0_hw1 : k0_chk1 i v5075) (k0_t1 : Fin (k0_t1_loop v5075).trips), ∀ (k0_h2 : k0_cond2 i = 1#1), ∀ a, (k0_off87 v5075 k0_t1) a + S1x1.size a ≤ S6x2048.size a := fun i v5075 k0_hw1 k0_t1 k0_h2 => k0_hw1.2.1.2.2.2.2.2.2.2.2.2.2.2.2.2.2.2.2.2.2.2.2.2.2.2.2.2.1 k0_t1 k0_h2
theorem k0_off89_inb : ∀ (i : grid0.Coords) (v5075 : BitVec 32) (k0_hw1 : k0_chk1 i v5075) (k0_t1 : Fin (k0_t1_loop v5075).trips), ∀ (k0_h2 : k0_cond2 i = 1#1), ∀ a, (k0_off89 v5075 k0_t1) a + S1x32.size a ≤ S2048x128.size a := fun i v5075 k0_hw1 k0_t1 k0_h2 => k0_hw1.2.1.2.2.2.2.2.2.2.2.2.2.2.2.2.2.2.2.2.2.2.2.2.2.2.2.2.2.1 k0_t1 k0_h2
theorem k0_off90_inb : ∀ (i : grid0.Coords) (v5075 : BitVec 32) (k0_hw1 : k0_chk1 i v5075) (k0_t1 : Fin (k0_t1_loop v5075).trips), ∀ (k0_h2 : k0_cond2 i = 1#1), ∀ a, (k0_off90 v5075 k0_t1) a + S1x1.size a ≤ S6x2048.size a := fun i v5075 k0_hw1 k0_t1 k0_h2 => k0_hw1.2.1.2.2.2.2.2.2.2.2.2.2.2.2.2.2.2.2.2.2.2.2.2.2.2.2.2.2.2.1 k0_t1 k0_h2
theorem k0_off92_inb : ∀ (i : grid0.Coords) (v5075 : BitVec 32) (k0_hw1 : k0_chk1 i v5075) (k0_t1 : Fin (k0_t1_loop v5075).trips), ∀ (k0_h2 : k0_cond2 i = 1#1), ∀ a, (k0_off92 v5075 k0_t1) a + S1x32.size a ≤ S2048x128.size a := fun i v5075 k0_hw1 k0_t1 k0_h2 => k0_hw1.2.1.2.2.2.2.2.2.2.2.2.2.2.2.2.2.2.2.2.2.2.2.2.2.2.2.2.2.2.2.1 k0_t1 k0_h2
theorem k0_off93_inb : ∀ (i : grid0.Coords) (v5075 : BitVec 32) (k0_hw1 : k0_chk1 i v5075) (k0_t1 : Fin (k0_t1_loop v5075).trips), ∀ (k0_h2 : k0_cond2 i = 1#1), ∀ a, (k0_off93 v5075 k0_t1) a + S1x1.size a ≤ S6x2048.size a := fun i v5075 k0_hw1 k0_t1 k0_h2 => k0_hw1.2.1.2.2.2.2.2.2.2.2.2.2.2.2.2.2.2.2.2.2.2.2.2.2.2.2.2.2.2.2.2.1 k0_t1 k0_h2
theorem k0_off95_inb : ∀ (i : grid0.Coords) (v5075 : BitVec 32) (k0_hw1 : k0_chk1 i v5075) (k0_t1 : Fin (k0_t1_loop v5075).trips), ∀ (k0_h2 : k0_cond2 i = 1#1), ∀ a, (k0_off95 v5075 k0_t1) a + S1x32.size a ≤ S2048x128.size a := fun i v5075 k0_hw1 k0_t1 k0_h2 => k0_hw1.2.1.2.2.2.2.2.2.2.2.2.2.2.2.2.2.2.2.2.2.2.2.2.2.2.2.2.2.2.2.2.2.1 k0_t1 k0_h2
theorem k0_off96_inb : ∀ (i : grid0.Coords) (v5075 : BitVec 32) (k0_hw1 : k0_chk1 i v5075) (k0_t1 : Fin (k0_t1_loop v5075).trips), ∀ (k0_h2 : k0_cond2 i = 1#1), ∀ a, (k0_off96 v5075 k0_t1) a + S1x1.size a ≤ S6x2048.size a := fun i v5075 k0_hw1 k0_t1 k0_h2 => k0_hw1.2.1.2.2.2.2.2.2.2.2.2.2.2.2.2.2.2.2.2.2.2.2.2.2.2.2.2.2.2.2.2.2.2 k0_t1 k0_h2
theorem k0_off98_inb : ∀ (i : grid0.Coords) (v5075 : BitVec 32) (k0_hw1 : k0_chk1 i v5075) (k0_t1 : Fin (k0_t1_loop v5075).trips), ∀ (k0_h2 : k0_cond2 i = 1#1), ∀ a, (k0_off98 v5075 k0_t1) a + S1x32.size a ≤ S2048x128.size a := fun i v5075 k0_hw1 k0_t1 k0_h2 => k0_hw1.2.2.1.1 k0_t1 k0_h2
theorem k0_t2_ok : ∀ (i : grid0.Coords) (v5075 : BitVec 32) (k0_hw1 : k0_chk1 i v5075), ∀ (k0_h2 : k0_cond2 i = 1#1), (k0_t2_loop v5075).OK := fun i v5075 k0_hw1 k0_h2 => k0_hw1.2.2.1.2.1 k0_h2
theorem k0_off99_inb : ∀ (i : grid0.Coords) (v5075 : BitVec 32) (k0_hw1 : k0_chk1 i v5075) (k0_t2 : Fin (k0_t2_loop v5075).trips), ∀ (k0_h2 : k0_cond2 i = 1#1), ∀ a, (k0_off99 v5075 k0_t2) a + S1x1.size a ≤ S6x2048.size a := fun i v5075 k0_hw1 k0_t2 k0_h2 => k0_hw1.2.2.1.2.2.1 k0_t2 k0_h2
theorem k0_off101_inb : ∀ (i : grid0.Coords) (v5075 : BitVec 32) (k0_hw1 : k0_chk1 i v5075) (k0_t2 : Fin (k0_t2_loop v5075).trips), ∀ (k0_h2 : k0_cond2 i = 1#1), ∀ a, (k0_off101 v5075 k0_t2) a + S1x32.size a ≤ S2048x128.size a := fun i v5075 k0_hw1 k0_t2 k0_h2 => k0_hw1.2.2.1.2.2.2.1 k0_t2 k0_h2
theorem k0_off102_inb : ∀ (i : grid0.Coords) (v5075 : BitVec 32) (k0_hw1 : k0_chk1 i v5075) (k0_t2 : Fin (k0_t2_loop v5075).trips), ∀ (k0_h2 : k0_cond2 i = 1#1), ∀ a, (k0_off102 v5075 k0_t2) a + S1x1.size a ≤ S6x2048.size a := fun i v5075 k0_hw1 k0_t2 k0_h2 => k0_hw1.2.2.1.2.2.2.2.1 k0_t2 k0_h2
theorem k0_off104_inb : ∀ (i : grid0.Coords) (v5075 : BitVec 32) (k0_hw1 : k0_chk1 i v5075) (k0_t2 : Fin (k0_t2_loop v5075).trips), ∀ (k0_h2 : k0_cond2 i = 1#1), ∀ a, (k0_off104 v5075 k0_t2) a + S1x32.size a ≤ S2048x128.size a := fun i v5075 k0_hw1 k0_t2 k0_h2 => k0_hw1.2.2.1.2.2.2.2.2.1 k0_t2 k0_h2
theorem k0_off105_inb : ∀ (i : grid0.Coords) (v5075 : BitVec 32) (k0_hw1 : k0_chk1 i v5075) (k0_t2 : Fin (k0_t2_loop v5075).trips), ∀ (k0_h2 : k0_cond2 i = 1#1), ∀ a, (k0_off105 v5075 k0_t2) a + S1x1.size a ≤ S6x2048.size a := fun i v5075 k0_hw1 k0_t2 k0_h2 => k0_hw1.2.2.1.2.2.2.2.2.2.1 k0_t2 k0_h2
theorem k0_off107_inb : ∀ (i : grid0.Coords) (v5075 : BitVec 32) (k0_hw1 : k0_chk1 i v5075) (k0_t2 : Fin (k0_t2_loop v5075).trips), ∀ (k0_h2 : k0_cond2 i = 1#1), ∀ a, (k0_off107 v5075 k0_t2) a + S1x32.size a ≤ S2048x128.size a := fun i v5075 k0_hw1 k0_t2 k0_h2 => k0_hw1.2.2.1.2.2.2.2.2.2.2.1 k0_t2 k0_h2
theorem k0_off108_inb : ∀ (i : grid0.Coords) (v5075 : BitVec 32) (k0_hw1 : k0_chk1 i v5075) (k0_t2 : Fin (k0_t2_loop v5075).trips), ∀ (k0_h2 : k0_cond2 i = 1#1), ∀ a, (k0_off108 v5075 k0_t2) a + S1x1.size a ≤ S6x2048.size a := fun i v5075 k0_hw1 k0_t2 k0_h2 => k0_hw1.2.2.1.2.2.2.2.2.2.2.2.1 k0_t2 k0_h2
theorem k0_off110_inb : ∀ (i : grid0.Coords) (v5075 : BitVec 32) (k0_hw1 : k0_chk1 i v5075) (k0_t2 : Fin (k0_t2_loop v5075).trips), ∀ (k0_h2 : k0_cond2 i = 1#1), ∀ a, (k0_off110 v5075 k0_t2) a + S1x32.size a ≤ S2048x128.size a := fun i v5075 k0_hw1 k0_t2 k0_h2 => k0_hw1.2.2.1.2.2.2.2.2.2.2.2.2.1 k0_t2 k0_h2
theorem k0_off111_inb : ∀ (i : grid0.Coords) (v5075 : BitVec 32) (k0_hw1 : k0_chk1 i v5075) (k0_t2 : Fin (k0_t2_loop v5075).trips), ∀ (k0_h2 : k0_cond2 i = 1#1), ∀ a, (k0_off111 v5075 k0_t2) a + S1x1.size a ≤ S6x2048.size a := fun i v5075 k0_hw1 k0_t2 k0_h2 => k0_hw1.2.2.1.2.2.2.2.2.2.2.2.2.2.1 k0_t2 k0_h2
theorem k0_off113_inb : ∀ (i : grid0.Coords) (v5075 : BitVec 32) (k0_hw1 : k0_chk1 i v5075) (k0_t2 : Fin (k0_t2_loop v5075).trips), ∀ (k0_h2 : k0_cond2 i = 1#1), ∀ a, (k0_off113 v5075 k0_t2) a + S1x32.size a ≤ S2048x128.size a := fun i v5075 k0_hw1 k0_t2 k0_h2 => k0_hw1.2.2.1.2.2.2.2.2.2.2.2.2.2.2.1 k0_t2 k0_h2
theorem k0_off114_inb : ∀ (i : grid0.Coords) (v5075 : BitVec 32) (k0_hw1 : k0_chk1 i v5075) (k0_t2 : Fin (k0_t2_loop v5075).trips), ∀ (k0_h2 : k0_cond2 i = 1#1), ∀ a, (k0_off114 v5075 k0_t2) a + S1x1.size a ≤ S6x2048.size a := fun i v5075 k0_hw1 k0_t2 k0_h2 => k0_hw1.2.2.1.2.2.2.2.2.2.2.2.2.2.2.2.1 k0_t2 k0_h2
theorem k0_off116_inb : ∀ (i : grid0.Coords) (v5075 : BitVec 32) (k0_hw1 : k0_chk1 i v5075) (k0_t2 : Fin (k0_t2_loop v5075).trips), ∀ (k0_h2 : k0_cond2 i = 1#1), ∀ a, (k0_off116 v5075 k0_t2) a + S1x32.size a ≤ S2048x128.size a := fun i v5075 k0_hw1 k0_t2 k0_h2 => k0_hw1.2.2.1.2.2.2.2.2.2.2.2.2.2.2.2.2.1 k0_t2 k0_h2
theorem k0_off117_inb : ∀ (i : grid0.Coords) (v5075 : BitVec 32) (k0_hw1 : k0_chk1 i v5075) (k0_t2 : Fin (k0_t2_loop v5075).trips), ∀ (k0_h2 : k0_cond2 i = 1#1), ∀ a, (k0_off117 v5075 k0_t2) a + S1x1.size a ≤ S6x2048.size a := fun i v5075 k0_hw1 k0_t2 k0_h2 => k0_hw1.2.2.1.2.2.2.2.2.2.2.2.2.2.2.2.2.2.1 k0_t2 k0_h2
theorem k0_off119_inb : ∀ (i : grid0.Coords) (v5075 : BitVec 32) (k0_hw1 : k0_chk1 i v5075) (k0_t2 : Fin (k0_t2_loop v5075).trips), ∀ (k0_h2 : k0_cond2 i = 1#1), ∀ a, (k0_off119 v5075 k0_t2) a + S1x32.size a ≤ S2048x128.size a := fun i v5075 k0_hw1 k0_t2 k0_h2 => k0_hw1.2.2.1.2.2.2.2.2.2.2.2.2.2.2.2.2.2.2.1 k0_t2 k0_h2
theorem k0_off120_inb : ∀ (i : grid0.Coords) (v5075 : BitVec 32) (k0_hw1 : k0_chk1 i v5075) (k0_t2 : Fin (k0_t2_loop v5075).trips), ∀ (k0_h2 : k0_cond2 i = 1#1), ∀ a, (k0_off120 v5075 k0_t2) a + S1x1.size a ≤ S6x2048.size a := fun i v5075 k0_hw1 k0_t2 k0_h2 => k0_hw1.2.2.1.2.2.2.2.2.2.2.2.2.2.2.2.2.2.2.2.1 k0_t2 k0_h2
theorem k0_off122_inb : ∀ (i : grid0.Coords) (v5075 : BitVec 32) (k0_hw1 : k0_chk1 i v5075) (k0_t2 : Fin (k0_t2_loop v5075).trips), ∀ (k0_h2 : k0_cond2 i = 1#1), ∀ a, (k0_off122 v5075 k0_t2) a + S1x32.size a ≤ S2048x128.size a := fun i v5075 k0_hw1 k0_t2 k0_h2 => k0_hw1.2.2.1.2.2.2.2.2.2.2.2.2.2.2.2.2.2.2.2.2.1 k0_t2 k0_h2
theorem k0_off123_inb : ∀ (i : grid0.Coords) (v5075 : BitVec 32) (k0_hw1 : k0_chk1 i v5075) (k0_t2 : Fin (k0_t2_loop v5075).trips), ∀ (k0_h2 : k0_cond2 i = 1#1), ∀ a, (k0_off123 v5075 k0_t2) a + S1x1.size a ≤ S6x2048.size a := fun i v5075 k0_hw1 k0_t2 k0_h2 => k0_hw1.2.2.1.2.2.2.2.2.2.2.2.2.2.2.2.2.2.2.2.2.2.1 k0_t2 k0_h2
theorem k0_off125_inb : ∀ (i : grid0.Coords) (v5075 : BitVec 32) (k0_hw1 : k0_chk1 i v5075) (k0_t2 : Fin (k0_t2_loop v5075).trips), ∀ (k0_h2 : k0_cond2 i = 1#1), ∀ a, (k0_off125 v5075 k0_t2) a + S1x32.size a ≤ S2048x128.size a := fun i v5075 k0_hw1 k0_t2 k0_h2 => k0_hw1.2.2.1.2.2.2.2.2.2.2.2.2.2.2.2.2.2.2.2.2.2.2.1 k0_t2 k0_h2
theorem k0_off126_inb : ∀ (i : grid0.Coords) (v5075 : BitVec 32) (k0_hw1 : k0_chk1 i v5075) (k0_t2 : Fin (k0_t2_loop v5075).trips), ∀ (k0_h2 : k0_cond2 i = 1#1), ∀ a, (k0_off126 v5075 k0_t2) a + S1x1.size a ≤ S6x2048.size a := fun i v5075 k0_hw1 k0_t2 k0_h2 => k0_hw1.2.2.1.2.2.2.2.2.2.2.2.2.2.2.2.2.2.2.2.2.2.2.2.1 k0_t2 k0_h2
theorem k0_off128_inb : ∀ (i : grid0.Coords) (v5075 : BitVec 32) (k0_hw1 : k0_chk1 i v5075) (k0_t2 : Fin (k0_t2_loop v5075).trips), ∀ (k0_h2 : k0_cond2 i = 1#1), ∀ a, (k0_off128 v5075 k0_t2) a + S1x32.size a ≤ S2048x128.size a := fun i v5075 k0_hw1 k0_t2 k0_h2 => k0_hw1.2.2.1.2.2.2.2.2.2.2.2.2.2.2.2.2.2.2.2.2.2.2.2.2.1 k0_t2 k0_h2
theorem k0_off129_inb : ∀ (i : grid0.Coords) (v5075 : BitVec 32) (k0_hw1 : k0_chk1 i v5075) (k0_t2 : Fin (k0_t2_loop v5075).trips), ∀ (k0_h2 : k0_cond2 i = 1#1), ∀ a, (k0_off129 v5075 k0_t2) a + S1x1.size a ≤ S6x2048.size a := fun i v5075 k0_hw1 k0_t2 k0_h2 => k0_hw1.2.2.1.2.2.2.2.2.2.2.2.2.2.2.2.2.2.2.2.2.2.2.2.2.2.1 k0_t2 k0_h2
theorem k0_off131_inb : ∀ (i : grid0.Coords) (v5075 : BitVec 32) (k0_hw1 : k0_chk1 i v5075) (k0_t2 : Fin (k0_t2_loop v5075).trips), ∀ (k0_h2 : k0_cond2 i = 1#1), ∀ a, (k0_off131 v5075 k0_t2) a + S1x32.size a ≤ S2048x128.size a := fun i v5075 k0_hw1 k0_t2 k0_h2 => k0_hw1.2.2.1.2.2.2.2.2.2.2.2.2.2.2.2.2.2.2.2.2.2.2.2.2.2.2.1 k0_t2 k0_h2
theorem k0_off132_inb : ∀ (i : grid0.Coords) (v5075 : BitVec 32) (k0_hw1 : k0_chk1 i v5075) (k0_t2 : Fin (k0_t2_loop v5075).trips), ∀ (k0_h2 : k0_cond2 i = 1#1), ∀ a, (k0_off132 v5075 k0_t2) a + S1x1.size a ≤ S6x2048.size a := fun i v5075 k0_hw1 k0_t2 k0_h2 => k0_hw1.2.2.1.2.2.2.2.2.2.2.2.2.2.2.2.2.2.2.2.2.2.2.2.2.2.2.2.1 k0_t2 k0_h2
theorem k0_off134_inb : ∀ (i : grid0.Coords) (v5075 : BitVec 32) (k0_hw1 : k0_chk1 i v5075) (k0_t2 : Fin (k0_t2_loop v5075).trips), ∀ (k0_h2 : k0_cond2 i = 1#1), ∀ a, (k0_off134 v5075 k0_t2) a + S1x32.size a ≤ S2048x128.size a := fun i v5075 k0_hw1 k0_t2 k0_h2 => k0_hw1.2.2.1.2.2.2.2.2.2.2.2.2.2.2.2.2.2.2.2.2.2.2.2.2.2.2.2.2.1 k0_t2 k0_h2
theorem k0_off135_inb : ∀ (i : grid0.Coords) (v5075 : BitVec 32) (k0_hw1 : k0_chk1 i v5075) (k0_t2 : Fin (k0_t2_loop v5075).trips), ∀ (k0_h2 : k0_cond2 i = 1#1), ∀ a, (k0_off135 v5075 k0_t2) a + S1x1.size a ≤ S6x2048.size a := fun i v5075 k0_hw1 k0_t2 k0_h2 => k0_hw1.2.2.1.2.2.2.2.2.2.2.2.2.2.2.2.2.2.2.2.2.2.2.2.2.2.2.2.2.2.1 k0_t2 k0_h2
theorem k0_off137_inb : ∀ (i : grid0.Coords) (v5075 : BitVec 32) (k0_hw1 : k0_chk1 i v5075) (k0_t2 : Fin (k0_t2_loop v5075).trips), ∀ (k0_h2 : k0_cond2 i = 1#1), ∀ a, (k0_off137 v5075 k0_t2) a + S1x32.size a ≤ S2048x128.size a := fun i v5075 k0_hw1 k0_t2 k0_h2 => k0_hw1.2.2.1.2.2.2.2.2.2.2.2.2.2.2.2.2.2.2.2.2.2.2.2.2.2.2.2.2.2.2.1 k0_t2 k0_h2
theorem k0_off138_inb : ∀ (i : grid0.Coords) (v5075 : BitVec 32) (k0_hw1 : k0_chk1 i v5075) (k0_t2 : Fin (k0_t2_loop v5075).trips), ∀ (k0_h2 : k0_cond2 i = 1#1), ∀ a, (k0_off138 v5075 k0_t2) a + S1x1.size a ≤ S6x2048.size a := fun i v5075 k0_hw1 k0_t2 k0_h2 => k0_hw1.2.2.1.2.2.2.2.2.2.2.2.2.2.2.2.2.2.2.2.2.2.2.2.2.2.2.2.2.2.2.2.1 k0_t2 k0_h2
theorem k0_off140_inb : ∀ (i : grid0.Coords) (v5075 : BitVec 32) (k0_hw1 : k0_chk1 i v5075) (k0_t2 : Fin (k0_t2_loop v5075).trips), ∀ (k0_h2 : k0_cond2 i = 1#1), ∀ a, (k0_off140 v5075 k0_t2) a + S1x32.size a ≤ S2048x128.size a := fun i v5075 k0_hw1 k0_t2 k0_h2 => k0_hw1.2.2.1.2.2.2.2.2.2.2.2.2.2.2.2.2.2.2.2.2.2.2.2.2.2.2.2.2.2.2.2.2.1 k0_t2 k0_h2
theorem k0_off141_inb : ∀ (i : grid0.Coords) (v5075 : BitVec 32) (k0_hw1 : k0_chk1 i v5075) (k0_t2 : Fin (k0_t2_loop v5075).trips), ∀ (k0_h2 : k0_cond2 i = 1#1), ∀ a, (k0_off141 v5075 k0_t2) a + S1x1.size a ≤ S6x2048.size a := fun i v5075 k0_hw1 k0_t2 k0_h2 => k0_hw1.2.2.1.2.2.2.2.2.2.2.2.2.2.2.2.2.2.2.2.2.2.2.2.2.2.2.2.2.2.2.2.2.2.1 k0_t2 k0_h2
theorem k0_off143_inb : ∀ (i : grid0.Coords) (v5075 : BitVec 32) (k0_hw1 : k0_chk1 i v5075) (k0_t2 : Fin (k0_t2_loop v5075).trips), ∀ (k0_h2 : k0_cond2 i = 1#1), ∀ a, (k0_off143 v5075 k0_t2) a + S1x32.size a ≤ S2048x128.size a := fun i v5075 k0_hw1 k0_t2 k0_h2 => k0_hw1.2.2.1.2.2.2.2.2.2.2.2.2.2.2.2.2.2.2.2.2.2.2.2.2.2.2.2.2.2.2.2.2.2.2 k0_t2 k0_h2
theorem k0_off144_inb : ∀ (i : grid0.Coords) (v5075 : BitVec 32) (k0_hw1 : k0_chk1 i v5075) (k0_t2 : Fin (k0_t2_loop v5075).trips), ∀ (k0_h2 : k0_cond2 i = 1#1), ∀ a, (k0_off144 v5075 k0_t2) a + S1x1.size a ≤ S6x2048.size a := fun i v5075 k0_hw1 k0_t2 k0_h2 => k0_hw1.2.2.2.1.1 k0_t2 k0_h2
theorem k0_off146_inb : ∀ (i : grid0.Coords) (v5075 : BitVec 32) (k0_hw1 : k0_chk1 i v5075) (k0_t2 : Fin (k0_t2_loop v5075).trips), ∀ (k0_h2 : k0_cond2 i = 1#1), ∀ a, (k0_off146 v5075 k0_t2) a + S1x32.size a ≤ S2048x128.size a := fun i v5075 k0_hw1 k0_t2 k0_h2 => k0_hw1.2.2.2.1.2.1 k0_t2 k0_h2
theorem k0_off147_inb : ∀ (i : grid0.Coords) (v5075 : BitVec 32) (k0_hw1 : k0_chk1 i v5075) (k0_t2 : Fin (k0_t2_loop v5075).trips), ∀ (k0_h2 : k0_cond2 i = 1#1), ∀ a, (k0_off147 v5075 k0_t2) a + S1x1.size a ≤ S6x2048.size a := fun i v5075 k0_hw1 k0_t2 k0_h2 => k0_hw1.2.2.2.1.2.2.1 k0_t2 k0_h2
theorem k0_off149_inb : ∀ (i : grid0.Coords) (v5075 : BitVec 32) (k0_hw1 : k0_chk1 i v5075) (k0_t2 : Fin (k0_t2_loop v5075).trips), ∀ (k0_h2 : k0_cond2 i = 1#1), ∀ a, (k0_off149 v5075 k0_t2) a + S1x32.size a ≤ S2048x128.size a := fun i v5075 k0_hw1 k0_t2 k0_h2 => k0_hw1.2.2.2.1.2.2.2.1 k0_t2 k0_h2
theorem k0_off150_inb : ∀ (i : grid0.Coords) (v5075 : BitVec 32) (k0_hw1 : k0_chk1 i v5075) (k0_t2 : Fin (k0_t2_loop v5075).trips), ∀ (k0_h2 : k0_cond2 i = 1#1), ∀ a, (k0_off150 v5075 k0_t2) a + S1x1.size a ≤ S6x2048.size a := fun i v5075 k0_hw1 k0_t2 k0_h2 => k0_hw1.2.2.2.1.2.2.2.2.1 k0_t2 k0_h2
theorem k0_off152_inb : ∀ (i : grid0.Coords) (v5075 : BitVec 32) (k0_hw1 : k0_chk1 i v5075) (k0_t2 : Fin (k0_t2_loop v5075).trips), ∀ (k0_h2 : k0_cond2 i = 1#1), ∀ a, (k0_off152 v5075 k0_t2) a + S1x32.size a ≤ S2048x128.size a := fun i v5075 k0_hw1 k0_t2 k0_h2 => k0_hw1.2.2.2.1.2.2.2.2.2.1 k0_t2 k0_h2
theorem k0_off153_inb : ∀ (i : grid0.Coords) (v5075 : BitVec 32) (k0_hw1 : k0_chk1 i v5075) (k0_t2 : Fin (k0_t2_loop v5075).trips), ∀ (k0_h2 : k0_cond2 i = 1#1), ∀ a, (k0_off153 v5075 k0_t2) a + S1x1.size a ≤ S6x2048.size a := fun i v5075 k0_hw1 k0_t2 k0_h2 => k0_hw1.2.2.2.1.2.2.2.2.2.2.1 k0_t2 k0_h2
theorem k0_off155_inb : ∀ (i : grid0.Coords) (v5075 : BitVec 32) (k0_hw1 : k0_chk1 i v5075) (k0_t2 : Fin (k0_t2_loop v5075).trips), ∀ (k0_h2 : k0_cond2 i = 1#1), ∀ a, (k0_off155 v5075 k0_t2) a + S1x32.size a ≤ S2048x128.size a := fun i v5075 k0_hw1 k0_t2 k0_h2 => k0_hw1.2.2.2.1.2.2.2.2.2.2.2.1 k0_t2 k0_h2
theorem k0_off156_inb : ∀ (i : grid0.Coords) (v5075 : BitVec 32) (k0_hw1 : k0_chk1 i v5075) (k0_t2 : Fin (k0_t2_loop v5075).trips), ∀ (k0_h2 : k0_cond2 i = 1#1), ∀ a, (k0_off156 v5075 k0_t2) a + S1x1.size a ≤ S6x2048.size a := fun i v5075 k0_hw1 k0_t2 k0_h2 => k0_hw1.2.2.2.1.2.2.2.2.2.2.2.2.1 k0_t2 k0_h2
theorem k0_off158_inb : ∀ (i : grid0.Coords) (v5075 : BitVec 32) (k0_hw1 : k0_chk1 i v5075) (k0_t2 : Fin (k0_t2_loop v5075).trips), ∀ (k0_h2 : k0_cond2 i = 1#1), ∀ a, (k0_off158 v5075 k0_t2) a + S1x32.size a ≤ S2048x128.size a := fun i v5075 k0_hw1 k0_t2 k0_h2 => k0_hw1.2.2.2.1.2.2.2.2.2.2.2.2.2.1 k0_t2 k0_h2
theorem k0_off159_inb : ∀ (i : grid0.Coords) (v5075 : BitVec 32) (k0_hw1 : k0_chk1 i v5075) (k0_t2 : Fin (k0_t2_loop v5075).trips), ∀ (k0_h2 : k0_cond2 i = 1#1), ∀ a, (k0_off159 v5075 k0_t2) a + S1x1.size a ≤ S6x2048.size a := fun i v5075 k0_hw1 k0_t2 k0_h2 => k0_hw1.2.2.2.1.2.2.2.2.2.2.2.2.2.2.1 k0_t2 k0_h2
theorem k0_off161_inb : ∀ (i : grid0.Coords) (v5075 : BitVec 32) (k0_hw1 : k0_chk1 i v5075) (k0_t2 : Fin (k0_t2_loop v5075).trips), ∀ (k0_h2 : k0_cond2 i = 1#1), ∀ a, (k0_off161 v5075 k0_t2) a + S1x32.size a ≤ S2048x128.size a := fun i v5075 k0_hw1 k0_t2 k0_h2 => k0_hw1.2.2.2.1.2.2.2.2.2.2.2.2.2.2.2.1 k0_t2 k0_h2
theorem k0_off162_inb : ∀ (i : grid0.Coords) (v5075 : BitVec 32) (k0_hw1 : k0_chk1 i v5075) (k0_t2 : Fin (k0_t2_loop v5075).trips), ∀ (k0_h2 : k0_cond2 i = 1#1), ∀ a, (k0_off162 v5075 k0_t2) a + S1x1.size a ≤ S6x2048.size a := fun i v5075 k0_hw1 k0_t2 k0_h2 => k0_hw1.2.2.2.1.2.2.2.2.2.2.2.2.2.2.2.2.1 k0_t2 k0_h2
theorem k0_off164_inb : ∀ (i : grid0.Coords) (v5075 : BitVec 32) (k0_hw1 : k0_chk1 i v5075) (k0_t2 : Fin (k0_t2_loop v5075).trips), ∀ (k0_h2 : k0_cond2 i = 1#1), ∀ a, (k0_off164 v5075 k0_t2) a + S1x32.size a ≤ S2048x128.size a := fun i v5075 k0_hw1 k0_t2 k0_h2 => k0_hw1.2.2.2.1.2.2.2.2.2.2.2.2.2.2.2.2.2.1 k0_t2 k0_h2
theorem k0_off165_inb : ∀ (i : grid0.Coords) (v5075 : BitVec 32) (k0_hw1 : k0_chk1 i v5075) (k0_t2 : Fin (k0_t2_loop v5075).trips), ∀ (k0_h2 : k0_cond2 i = 1#1), ∀ a, (k0_off165 v5075 k0_t2) a + S1x1.size a ≤ S6x2048.size a := fun i v5075 k0_hw1 k0_t2 k0_h2 => k0_hw1.2.2.2.1.2.2.2.2.2.2.2.2.2.2.2.2.2.2.1 k0_t2 k0_h2
theorem k0_off167_inb : ∀ (i : grid0.Coords) (v5075 : BitVec 32) (k0_hw1 : k0_chk1 i v5075) (k0_t2 : Fin (k0_t2_loop v5075).trips), ∀ (k0_h2 : k0_cond2 i = 1#1), ∀ a, (k0_off167 v5075 k0_t2) a + S1x32.size a ≤ S2048x128.size a := fun i v5075 k0_hw1 k0_t2 k0_h2 => k0_hw1.2.2.2.1.2.2.2.2.2.2.2.2.2.2.2.2.2.2.2.1 k0_t2 k0_h2
theorem k0_off168_inb : ∀ (i : grid0.Coords) (v5075 : BitVec 32) (k0_hw1 : k0_chk1 i v5075) (k0_t2 : Fin (k0_t2_loop v5075).trips), ∀ (k0_h2 : k0_cond2 i = 1#1), ∀ a, (k0_off168 v5075 k0_t2) a + S1x1.size a ≤ S6x2048.size a := fun i v5075 k0_hw1 k0_t2 k0_h2 => k0_hw1.2.2.2.1.2.2.2.2.2.2.2.2.2.2.2.2.2.2.2.2.1 k0_t2 k0_h2
theorem k0_off170_inb : ∀ (i : grid0.Coords) (v5075 : BitVec 32) (k0_hw1 : k0_chk1 i v5075) (k0_t2 : Fin (k0_t2_loop v5075).trips), ∀ (k0_h2 : k0_cond2 i = 1#1), ∀ a, (k0_off170 v5075 k0_t2) a + S1x32.size a ≤ S2048x128.size a := fun i v5075 k0_hw1 k0_t2 k0_h2 => k0_hw1.2.2.2.1.2.2.2.2.2.2.2.2.2.2.2.2.2.2.2.2.2.1 k0_t2 k0_h2
theorem k0_off171_inb : ∀ (i : grid0.Coords) (v5075 : BitVec 32) (k0_hw1 : k0_chk1 i v5075) (k0_t2 : Fin (k0_t2_loop v5075).trips), ∀ (k0_h2 : k0_cond2 i = 1#1), ∀ a, (k0_off171 v5075 k0_t2) a + S1x1.size a ≤ S6x2048.size a := fun i v5075 k0_hw1 k0_t2 k0_h2 => k0_hw1.2.2.2.1.2.2.2.2.2.2.2.2.2.2.2.2.2.2.2.2.2.2.1 k0_t2 k0_h2
theorem k0_off173_inb : ∀ (i : grid0.Coords) (v5075 : BitVec 32) (k0_hw1 : k0_chk1 i v5075) (k0_t2 : Fin (k0_t2_loop v5075).trips), ∀ (k0_h2 : k0_cond2 i = 1#1), ∀ a, (k0_off173 v5075 k0_t2) a + S1x32.size a ≤ S2048x128.size a := fun i v5075 k0_hw1 k0_t2 k0_h2 => k0_hw1.2.2.2.1.2.2.2.2.2.2.2.2.2.2.2.2.2.2.2.2.2.2.2.1 k0_t2 k0_h2
theorem k0_off174_inb : ∀ (i : grid0.Coords) (v5075 : BitVec 32) (k0_hw1 : k0_chk1 i v5075) (k0_t2 : Fin (k0_t2_loop v5075).trips), ∀ (k0_h2 : k0_cond2 i = 1#1), ∀ a, (k0_off174 v5075 k0_t2) a + S1x1.size a ≤ S6x2048.size a := fun i v5075 k0_hw1 k0_t2 k0_h2 => k0_hw1.2.2.2.1.2.2.2.2.2.2.2.2.2.2.2.2.2.2.2.2.2.2.2.2.1 k0_t2 k0_h2
theorem k0_off176_inb : ∀ (i : grid0.Coords) (v5075 : BitVec 32) (k0_hw1 : k0_chk1 i v5075) (k0_t2 : Fin (k0_t2_loop v5075).trips), ∀ (k0_h2 : k0_cond2 i = 1#1), ∀ a, (k0_off176 v5075 k0_t2) a + S1x32.size a ≤ S2048x128.size a := fun i v5075 k0_hw1 k0_t2 k0_h2 => k0_hw1.2.2.2.1.2.2.2.2.2.2.2.2.2.2.2.2.2.2.2.2.2.2.2.2.2.1 k0_t2 k0_h2
theorem k0_off177_inb : ∀ (i : grid0.Coords) (v5075 : BitVec 32) (k0_hw1 : k0_chk1 i v5075) (k0_t2 : Fin (k0_t2_loop v5075).trips), ∀ (k0_h2 : k0_cond2 i = 1#1), ∀ a, (k0_off177 v5075 k0_t2) a + S1x1.size a ≤ S6x2048.size a := fun i v5075 k0_hw1 k0_t2 k0_h2 => k0_hw1.2.2.2.1.2.2.2.2.2.2.2.2.2.2.2.2.2.2.2.2.2.2.2.2.2.2.1 k0_t2 k0_h2
theorem k0_off179_inb : ∀ (i : grid0.Coords) (v5075 : BitVec 32) (k0_hw1 : k0_chk1 i v5075) (k0_t2 : Fin (k0_t2_loop v5075).trips), ∀ (k0_h2 : k0_cond2 i = 1#1), ∀ a, (k0_off179 v5075 k0_t2) a + S1x32.size a ≤ S2048x128.size a := fun i v5075 k0_hw1 k0_t2 k0_h2 => k0_hw1.2.2.2.1.2.2.2.2.2.2.2.2.2.2.2.2.2.2.2.2.2.2.2.2.2.2.2.1 k0_t2 k0_h2
theorem k0_off180_inb : ∀ (i : grid0.Coords) (v5075 : BitVec 32) (k0_hw1 : k0_chk1 i v5075) (k0_t2 : Fin (k0_t2_loop v5075).trips), ∀ (k0_h2 : k0_cond2 i = 1#1), ∀ a, (k0_off180 v5075 k0_t2) a + S1x1.size a ≤ S6x2048.size a := fun i v5075 k0_hw1 k0_t2 k0_h2 => k0_hw1.2.2.2.1.2.2.2.2.2.2.2.2.2.2.2.2.2.2.2.2.2.2.2.2.2.2.2.2.1 k0_t2 k0_h2
theorem k0_off182_inb : ∀ (i : grid0.Coords) (v5075 : BitVec 32) (k0_hw1 : k0_chk1 i v5075) (k0_t2 : Fin (k0_t2_loop v5075).trips), ∀ (k0_h2 : k0_cond2 i = 1#1), ∀ a, (k0_off182 v5075 k0_t2) a + S1x32.size a ≤ S2048x128.size a := fun i v5075 k0_hw1 k0_t2 k0_h2 => k0_hw1.2.2.2.1.2.2.2.2.2.2.2.2.2.2.2.2.2.2.2.2.2.2.2.2.2.2.2.2.2.1 k0_t2 k0_h2
theorem k0_off183_inb : ∀ (i : grid0.Coords) (v5075 : BitVec 32) (k0_hw1 : k0_chk1 i v5075) (k0_t2 : Fin (k0_t2_loop v5075).trips), ∀ (k0_h2 : k0_cond2 i = 1#1), ∀ a, (k0_off183 v5075 k0_t2) a + S1x1.size a ≤ S6x2048.size a := fun i v5075 k0_hw1 k0_t2 k0_h2 => k0_hw1.2.2.2.1.2.2.2.2.2.2.2.2.2.2.2.2.2.2.2.2.2.2.2.2.2.2.2.2.2.2.1 k0_t2 k0_h2
theorem k0_off185_inb : ∀ (i : grid0.Coords) (v5075 : BitVec 32) (k0_hw1 : k0_chk1 i v5075) (k0_t2 : Fin (k0_t2_loop v5075).trips), ∀ (k0_h2 : k0_cond2 i = 1#1), ∀ a, (k0_off185 v5075 k0_t2) a + S1x32.size a ≤ S2048x128.size a := fun i v5075 k0_hw1 k0_t2 k0_h2 => k0_hw1.2.2.2.1.2.2.2.2.2.2.2.2.2.2.2.2.2.2.2.2.2.2.2.2.2.2.2.2.2.2.2.1 k0_t2 k0_h2
theorem k0_off186_inb : ∀ (i : grid0.Coords) (v5075 : BitVec 32) (k0_hw1 : k0_chk1 i v5075) (k0_t2 : Fin (k0_t2_loop v5075).trips), ∀ (k0_h2 : k0_cond2 i = 1#1), ∀ a, (k0_off186 v5075 k0_t2) a + S1x1.size a ≤ S6x2048.size a := fun i v5075 k0_hw1 k0_t2 k0_h2 => k0_hw1.2.2.2.1.2.2.2.2.2.2.2.2.2.2.2.2.2.2.2.2.2.2.2.2.2.2.2.2.2.2.2.2.1 k0_t2 k0_h2
theorem k0_off188_inb : ∀ (i : grid0.Coords) (v5075 : BitVec 32) (k0_hw1 : k0_chk1 i v5075) (k0_t2 : Fin (k0_t2_loop v5075).trips), ∀ (k0_h2 : k0_cond2 i = 1#1), ∀ a, (k0_off188 v5075 k0_t2) a + S1x32.size a ≤ S2048x128.size a := fun i v5075 k0_hw1 k0_t2 k0_h2 => k0_hw1.2.2.2.1.2.2.2.2.2.2.2.2.2.2.2.2.2.2.2.2.2.2.2.2.2.2.2.2.2.2.2.2.2.1 k0_t2 k0_h2
theorem k0_off189_inb : ∀ (i : grid0.Coords) (v5075 : BitVec 32) (k0_hw1 : k0_chk1 i v5075) (k0_t2 : Fin (k0_t2_loop v5075).trips), ∀ (k0_h2 : k0_cond2 i = 1#1), ∀ a, (k0_off189 v5075 k0_t2) a + S1x1.size a ≤ S6x2048.size a := fun i v5075 k0_hw1 k0_t2 k0_h2 => k0_hw1.2.2.2.1.2.2.2.2.2.2.2.2.2.2.2.2.2.2.2.2.2.2.2.2.2.2.2.2.2.2.2.2.2.2.1 k0_t2 k0_h2
theorem k0_off191_inb : ∀ (i : grid0.Coords) (v5075 : BitVec 32) (k0_hw1 : k0_chk1 i v5075) (k0_t2 : Fin (k0_t2_loop v5075).trips), ∀ (k0_h2 : k0_cond2 i = 1#1), ∀ a, (k0_off191 v5075 k0_t2) a + S1x32.size a ≤ S2048x128.size a := fun i v5075 k0_hw1 k0_t2 k0_h2 => k0_hw1.2.2.2.1.2.2.2.2.2.2.2.2.2.2.2.2.2.2.2.2.2.2.2.2.2.2.2.2.2.2.2.2.2.2.2 k0_t2 k0_h2
theorem k0_off192_inb : ∀ (i : grid0.Coords) (v5075 : BitVec 32) (k0_hw1 : k0_chk1 i v5075) (k0_t2 : Fin (k0_t2_loop v5075).trips), ∀ (k0_h2 : k0_cond2 i = 1#1), ∀ a, (k0_off192 v5075 k0_t2) a + S1x1.size a ≤ S6x2048.size a := fun i v5075 k0_hw1 k0_t2 k0_h2 => k0_hw1.2.2.2.2.1 k0_t2 k0_h2
theorem k0_off194_inb : ∀ (i : grid0.Coords) (v5075 : BitVec 32) (k0_hw1 : k0_chk1 i v5075) (k0_t2 : Fin (k0_t2_loop v5075).trips), ∀ (k0_h2 : k0_cond2 i = 1#1), ∀ a, (k0_off194 v5075 k0_t2) a + S1x32.size a ≤ S2048x128.size a := fun i v5075 k0_hw1 k0_t2 k0_h2 => k0_hw1.2.2.2.2.2 k0_t2 k0_h2

@[reducible] def k0_t3_loop (v5121 : BitVec 32) : Scf.Loop 32 :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1555 : BitVec 32 := 1#32
  ⟨c0_i32_1552, v5164, c1_i32_1555⟩

def k0_off195 (v5121 : BitVec 32) (k0_t3 : Fin (k0_t3_loop v5121).trips) : Fin 2 → Nat :=
  let c1_2208 : Index := 1#32
  let c0_i32_1552 : BitVec 32 := 0#32
  let c1_i32_1555 : BitVec 32 := 1#32
  let arg13 : BitVec 32 := Scf.iv c0_i32_1552 c1_i32_1555 k0_t3
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![1, v6553.toNat]
def k0_off196 (v6554 : BitVec 32) : Fin 2 → Nat :=
  let v6555 : Index := Scalar.indexCast v6554
  let c32 : Index := 32#32
  ![v6555.toNat, 32]

def k0_chk67 (i : grid0.Coords) (v6554 : BitVec 32) : Prop :=
  (∀ (k0_h2 : k0_cond2 i = 1#1), ∀ a, (k0_off196 v6554) a + S1x32.size a ≤ S15360x128.size a)
theorem k0_off196_inb : ∀ (i : grid0.Coords) (v6554 : BitVec 32) (k0_hw67 : k0_chk67 i v6554), ∀ (k0_h2 : k0_cond2 i = 1#1), ∀ a, (k0_off196 v6554) a + S1x32.size a ≤ S15360x128.size a := fun i v6554 k0_hw67 k0_h2 => k0_hw67 k0_h2

def k0_off197 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c32_2209 : Index := 32#32
  ![v6557.toNat, 32]
def k0_off198 (v5121 : BitVec 32) (k0_t3 : Fin (k0_t3_loop v5121).trips) : Fin 2 → Nat :=
  let c1_2212 : Index := 1#32
  let c0_i32_1552 : BitVec 32 := 0#32
  let c1_i32_1555 : BitVec 32 := 1#32
  let arg13 : BitVec 32 := Scf.iv c0_i32_1552 c1_i32_1555 k0_t3
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6563 : Index := Scalar.indexCast v6562
  ![1, v6563.toNat]
def k0_off199 (v6564 : BitVec 32) : Fin 2 → Nat :=
  let v6565 : Index := Scalar.indexCast v6564
  let c32_2213 : Index := 32#32
  ![v6565.toNat, 32]

def k0_chk68 (i : grid0.Coords) (v6564 : BitVec 32) : Prop :=
  (∀ (k0_h2 : k0_cond2 i = 1#1), ∀ a, (k0_off199 v6564) a + S1x32.size a ≤ S15360x128.size a)
theorem k0_off199_inb : ∀ (i : grid0.Coords) (v6564 : BitVec 32) (k0_hw68 : k0_chk68 i v6564), ∀ (k0_h2 : k0_cond2 i = 1#1), ∀ a, (k0_off199 v6564) a + S1x32.size a ≤ S15360x128.size a := fun i v6564 k0_hw68 k0_h2 => k0_hw68 k0_h2

def k0_off200 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6567 : Index := Scalar.indexCast v6562
  let c32_2214 : Index := 32#32
  ![v6567.toNat, 32]
def k0_off201 (v5121 : BitVec 32) (k0_t3 : Fin (k0_t3_loop v5121).trips) : Fin 2 → Nat :=
  let c1_2217 : Index := 1#32
  let c0_i32_1552 : BitVec 32 := 0#32
  let c1_i32_1555 : BitVec 32 := 1#32
  let arg13 : BitVec 32 := Scf.iv c0_i32_1552 c1_i32_1555 k0_t3
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6573 : Index := Scalar.indexCast v6572
  ![1, v6573.toNat]
def k0_off202 (v6574 : BitVec 32) : Fin 2 → Nat :=
  let v6575 : Index := Scalar.indexCast v6574
  let c32_2218 : Index := 32#32
  ![v6575.toNat, 32]

def k0_chk69 (i : grid0.Coords) (v6574 : BitVec 32) : Prop :=
  (∀ (k0_h2 : k0_cond2 i = 1#1), ∀ a, (k0_off202 v6574) a + S1x32.size a ≤ S15360x128.size a)
theorem k0_off202_inb : ∀ (i : grid0.Coords) (v6574 : BitVec 32) (k0_hw69 : k0_chk69 i v6574), ∀ (k0_h2 : k0_cond2 i = 1#1), ∀ a, (k0_off202 v6574) a + S1x32.size a ≤ S15360x128.size a := fun i v6574 k0_hw69 k0_h2 => k0_hw69 k0_h2

def k0_off203 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6577 : Index := Scalar.indexCast v6572
  let c32_2219 : Index := 32#32
  ![v6577.toNat, 32]
def k0_off204 (v5121 : BitVec 32) (k0_t3 : Fin (k0_t3_loop v5121).trips) : Fin 2 → Nat :=
  let c1_2222 : Index := 1#32
  let c0_i32_1552 : BitVec 32 := 0#32
  let c1_i32_1555 : BitVec 32 := 1#32
  let arg13 : BitVec 32 := Scf.iv c0_i32_1552 c1_i32_1555 k0_t3
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6583 : Index := Scalar.indexCast v6582
  ![1, v6583.toNat]
def k0_off205 (v6584 : BitVec 32) : Fin 2 → Nat :=
  let v6585 : Index := Scalar.indexCast v6584
  let c32_2223 : Index := 32#32
  ![v6585.toNat, 32]

def k0_chk70 (i : grid0.Coords) (v6584 : BitVec 32) : Prop :=
  (∀ (k0_h2 : k0_cond2 i = 1#1), ∀ a, (k0_off205 v6584) a + S1x32.size a ≤ S15360x128.size a)
theorem k0_off205_inb : ∀ (i : grid0.Coords) (v6584 : BitVec 32) (k0_hw70 : k0_chk70 i v6584), ∀ (k0_h2 : k0_cond2 i = 1#1), ∀ a, (k0_off205 v6584) a + S1x32.size a ≤ S15360x128.size a := fun i v6584 k0_hw70 k0_h2 => k0_hw70 k0_h2

def k0_off206 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6587 : Index := Scalar.indexCast v6582
  let c32_2224 : Index := 32#32
  ![v6587.toNat, 32]
def k0_off207 (v5121 : BitVec 32) (k0_t3 : Fin (k0_t3_loop v5121).trips) : Fin 2 → Nat :=
  let c1_2227 : Index := 1#32
  let c0_i32_1552 : BitVec 32 := 0#32
  let c1_i32_1555 : BitVec 32 := 1#32
  let arg13 : BitVec 32 := Scf.iv c0_i32_1552 c1_i32_1555 k0_t3
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6593 : Index := Scalar.indexCast v6592
  ![1, v6593.toNat]
def k0_off208 (v6594 : BitVec 32) : Fin 2 → Nat :=
  let v6595 : Index := Scalar.indexCast v6594
  let c32_2228 : Index := 32#32
  ![v6595.toNat, 32]

def k0_chk71 (i : grid0.Coords) (v6594 : BitVec 32) : Prop :=
  (∀ (k0_h2 : k0_cond2 i = 1#1), ∀ a, (k0_off208 v6594) a + S1x32.size a ≤ S15360x128.size a)
theorem k0_off208_inb : ∀ (i : grid0.Coords) (v6594 : BitVec 32) (k0_hw71 : k0_chk71 i v6594), ∀ (k0_h2 : k0_cond2 i = 1#1), ∀ a, (k0_off208 v6594) a + S1x32.size a ≤ S15360x128.size a := fun i v6594 k0_hw71 k0_h2 => k0_hw71 k0_h2

def k0_off209 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6597 : Index := Scalar.indexCast v6592
  let c32_2229 : Index := 32#32
  ![v6597.toNat, 32]
def k0_off210 (v5121 : BitVec 32) (k0_t3 : Fin (k0_t3_loop v5121).trips) : Fin 2 → Nat :=
  let c1_2231 : Index := 1#32
  let c0_i32_1552 : BitVec 32 := 0#32
  let c1_i32_1555 : BitVec 32 := 1#32
  let arg13 : BitVec 32 := Scf.iv c0_i32_1552 c1_i32_1555 k0_t3
  let c32_i32_2230 : BitVec 32 := 32#32
  let v6601 : BitVec 32 := Scalar.muli arg13 c32_i32_2230
  let c5_i32 : BitVec 32 := 5#32
  let v6602 : BitVec 32 := Scalar.addi v6601 c5_i32
  let v6603 : Index := Scalar.indexCast v6602
  ![1, v6603.toNat]
def k0_off211 (v6604 : BitVec 32) : Fin 2 → Nat :=
  let v6605 : Index := Scalar.indexCast v6604
  let c32_2232 : Index := 32#32
  ![v6605.toNat, 32]

def k0_chk72 (i : grid0.Coords) (v6604 : BitVec 32) : Prop :=
  (∀ (k0_h2 : k0_cond2 i = 1#1), ∀ a, (k0_off211 v6604) a + S1x32.size a ≤ S15360x128.size a)
theorem k0_off211_inb : ∀ (i : grid0.Coords) (v6604 : BitVec 32) (k0_hw72 : k0_chk72 i v6604), ∀ (k0_h2 : k0_cond2 i = 1#1), ∀ a, (k0_off211 v6604) a + S1x32.size a ≤ S15360x128.size a := fun i v6604 k0_hw72 k0_h2 => k0_hw72 k0_h2

def k0_off212 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2230 : BitVec 32 := 32#32
  let v6601 : BitVec 32 := Scalar.muli arg13 c32_i32_2230
  let c5_i32 : BitVec 32 := 5#32
  let v6602 : BitVec 32 := Scalar.addi v6601 c5_i32
  let v6607 : Index := Scalar.indexCast v6602
  let c32_2233 : Index := 32#32
  ![v6607.toNat, 32]
def k0_off213 (v5121 : BitVec 32) (k0_t3 : Fin (k0_t3_loop v5121).trips) : Fin 2 → Nat :=
  let c1_2235 : Index := 1#32
  let c0_i32_1552 : BitVec 32 := 0#32
  let c1_i32_1555 : BitVec 32 := 1#32
  let arg13 : BitVec 32 := Scf.iv c0_i32_1552 c1_i32_1555 k0_t3
  let c32_i32_2234 : BitVec 32 := 32#32
  let v6611 : BitVec 32 := Scalar.muli arg13 c32_i32_2234
  let c6_i32 : BitVec 32 := 6#32
  let v6612 : BitVec 32 := Scalar.addi v6611 c6_i32
  let v6613 : Index := Scalar.indexCast v6612
  ![1, v6613.toNat]
def k0_off214 (v6614 : BitVec 32) : Fin 2 → Nat :=
  let v6615 : Index := Scalar.indexCast v6614
  let c32_2236 : Index := 32#32
  ![v6615.toNat, 32]

def k0_chk73 (i : grid0.Coords) (v6614 : BitVec 32) : Prop :=
  (∀ (k0_h2 : k0_cond2 i = 1#1), ∀ a, (k0_off214 v6614) a + S1x32.size a ≤ S15360x128.size a)
theorem k0_off214_inb : ∀ (i : grid0.Coords) (v6614 : BitVec 32) (k0_hw73 : k0_chk73 i v6614), ∀ (k0_h2 : k0_cond2 i = 1#1), ∀ a, (k0_off214 v6614) a + S1x32.size a ≤ S15360x128.size a := fun i v6614 k0_hw73 k0_h2 => k0_hw73 k0_h2

def k0_off215 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2234 : BitVec 32 := 32#32
  let v6611 : BitVec 32 := Scalar.muli arg13 c32_i32_2234
  let c6_i32 : BitVec 32 := 6#32
  let v6612 : BitVec 32 := Scalar.addi v6611 c6_i32
  let v6617 : Index := Scalar.indexCast v6612
  let c32_2237 : Index := 32#32
  ![v6617.toNat, 32]
def k0_off216 (v5121 : BitVec 32) (k0_t3 : Fin (k0_t3_loop v5121).trips) : Fin 2 → Nat :=
  let c1_2239 : Index := 1#32
  let c0_i32_1552 : BitVec 32 := 0#32
  let c1_i32_1555 : BitVec 32 := 1#32
  let arg13 : BitVec 32 := Scf.iv c0_i32_1552 c1_i32_1555 k0_t3
  let c32_i32_2238 : BitVec 32 := 32#32
  let v6621 : BitVec 32 := Scalar.muli arg13 c32_i32_2238
  let c7_i32 : BitVec 32 := 7#32
  let v6622 : BitVec 32 := Scalar.addi v6621 c7_i32
  let v6623 : Index := Scalar.indexCast v6622
  ![1, v6623.toNat]
def k0_off217 (v6624 : BitVec 32) : Fin 2 → Nat :=
  let v6625 : Index := Scalar.indexCast v6624
  let c32_2240 : Index := 32#32
  ![v6625.toNat, 32]

def k0_chk74 (i : grid0.Coords) (v6624 : BitVec 32) : Prop :=
  (∀ (k0_h2 : k0_cond2 i = 1#1), ∀ a, (k0_off217 v6624) a + S1x32.size a ≤ S15360x128.size a)
theorem k0_off217_inb : ∀ (i : grid0.Coords) (v6624 : BitVec 32) (k0_hw74 : k0_chk74 i v6624), ∀ (k0_h2 : k0_cond2 i = 1#1), ∀ a, (k0_off217 v6624) a + S1x32.size a ≤ S15360x128.size a := fun i v6624 k0_hw74 k0_h2 => k0_hw74 k0_h2

def k0_off218 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2238 : BitVec 32 := 32#32
  let v6621 : BitVec 32 := Scalar.muli arg13 c32_i32_2238
  let c7_i32 : BitVec 32 := 7#32
  let v6622 : BitVec 32 := Scalar.addi v6621 c7_i32
  let v6627 : Index := Scalar.indexCast v6622
  let c32_2241 : Index := 32#32
  ![v6627.toNat, 32]
def k0_off219 (v5121 : BitVec 32) (k0_t3 : Fin (k0_t3_loop v5121).trips) : Fin 2 → Nat :=
  let c1_2243 : Index := 1#32
  let c0_i32_1552 : BitVec 32 := 0#32
  let c1_i32_1555 : BitVec 32 := 1#32
  let arg13 : BitVec 32 := Scf.iv c0_i32_1552 c1_i32_1555 k0_t3
  let c32_i32_2242 : BitVec 32 := 32#32
  let v6631 : BitVec 32 := Scalar.muli arg13 c32_i32_2242
  let c8_i32 : BitVec 32 := 8#32
  let v6632 : BitVec 32 := Scalar.addi v6631 c8_i32
  let v6633 : Index := Scalar.indexCast v6632
  ![1, v6633.toNat]
def k0_off220 (v6634 : BitVec 32) : Fin 2 → Nat :=
  let v6635 : Index := Scalar.indexCast v6634
  let c32_2244 : Index := 32#32
  ![v6635.toNat, 32]

def k0_chk75 (i : grid0.Coords) (v6634 : BitVec 32) : Prop :=
  (∀ (k0_h2 : k0_cond2 i = 1#1), ∀ a, (k0_off220 v6634) a + S1x32.size a ≤ S15360x128.size a)
theorem k0_off220_inb : ∀ (i : grid0.Coords) (v6634 : BitVec 32) (k0_hw75 : k0_chk75 i v6634), ∀ (k0_h2 : k0_cond2 i = 1#1), ∀ a, (k0_off220 v6634) a + S1x32.size a ≤ S15360x128.size a := fun i v6634 k0_hw75 k0_h2 => k0_hw75 k0_h2

def k0_off221 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2242 : BitVec 32 := 32#32
  let v6631 : BitVec 32 := Scalar.muli arg13 c32_i32_2242
  let c8_i32 : BitVec 32 := 8#32
  let v6632 : BitVec 32 := Scalar.addi v6631 c8_i32
  let v6637 : Index := Scalar.indexCast v6632
  let c32_2245 : Index := 32#32
  ![v6637.toNat, 32]
def k0_off222 (v5121 : BitVec 32) (k0_t3 : Fin (k0_t3_loop v5121).trips) : Fin 2 → Nat :=
  let c1_2247 : Index := 1#32
  let c0_i32_1552 : BitVec 32 := 0#32
  let c1_i32_1555 : BitVec 32 := 1#32
  let arg13 : BitVec 32 := Scf.iv c0_i32_1552 c1_i32_1555 k0_t3
  let c32_i32_2246 : BitVec 32 := 32#32
  let v6641 : BitVec 32 := Scalar.muli arg13 c32_i32_2246
  let c9_i32 : BitVec 32 := 9#32
  let v6642 : BitVec 32 := Scalar.addi v6641 c9_i32
  let v6643 : Index := Scalar.indexCast v6642
  ![1, v6643.toNat]
def k0_off223 (v6644 : BitVec 32) : Fin 2 → Nat :=
  let v6645 : Index := Scalar.indexCast v6644
  let c32_2248 : Index := 32#32
  ![v6645.toNat, 32]

def k0_chk76 (i : grid0.Coords) (v6644 : BitVec 32) : Prop :=
  (∀ (k0_h2 : k0_cond2 i = 1#1), ∀ a, (k0_off223 v6644) a + S1x32.size a ≤ S15360x128.size a)
theorem k0_off223_inb : ∀ (i : grid0.Coords) (v6644 : BitVec 32) (k0_hw76 : k0_chk76 i v6644), ∀ (k0_h2 : k0_cond2 i = 1#1), ∀ a, (k0_off223 v6644) a + S1x32.size a ≤ S15360x128.size a := fun i v6644 k0_hw76 k0_h2 => k0_hw76 k0_h2

def k0_off224 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2246 : BitVec 32 := 32#32
  let v6641 : BitVec 32 := Scalar.muli arg13 c32_i32_2246
  let c9_i32 : BitVec 32 := 9#32
  let v6642 : BitVec 32 := Scalar.addi v6641 c9_i32
  let v6647 : Index := Scalar.indexCast v6642
  let c32_2249 : Index := 32#32
  ![v6647.toNat, 32]
def k0_off225 (v5121 : BitVec 32) (k0_t3 : Fin (k0_t3_loop v5121).trips) : Fin 2 → Nat :=
  let c1_2251 : Index := 1#32
  let c0_i32_1552 : BitVec 32 := 0#32
  let c1_i32_1555 : BitVec 32 := 1#32
  let arg13 : BitVec 32 := Scf.iv c0_i32_1552 c1_i32_1555 k0_t3
  let c32_i32_2250 : BitVec 32 := 32#32
  let v6651 : BitVec 32 := Scalar.muli arg13 c32_i32_2250
  let c10_i32 : BitVec 32 := 10#32
  let v6652 : BitVec 32 := Scalar.addi v6651 c10_i32
  let v6653 : Index := Scalar.indexCast v6652
  ![1, v6653.toNat]
def k0_off226 (v6654 : BitVec 32) : Fin 2 → Nat :=
  let v6655 : Index := Scalar.indexCast v6654
  let c32_2252 : Index := 32#32
  ![v6655.toNat, 32]

def k0_chk77 (i : grid0.Coords) (v6654 : BitVec 32) : Prop :=
  (∀ (k0_h2 : k0_cond2 i = 1#1), ∀ a, (k0_off226 v6654) a + S1x32.size a ≤ S15360x128.size a)
theorem k0_off226_inb : ∀ (i : grid0.Coords) (v6654 : BitVec 32) (k0_hw77 : k0_chk77 i v6654), ∀ (k0_h2 : k0_cond2 i = 1#1), ∀ a, (k0_off226 v6654) a + S1x32.size a ≤ S15360x128.size a := fun i v6654 k0_hw77 k0_h2 => k0_hw77 k0_h2

def k0_off227 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2250 : BitVec 32 := 32#32
  let v6651 : BitVec 32 := Scalar.muli arg13 c32_i32_2250
  let c10_i32 : BitVec 32 := 10#32
  let v6652 : BitVec 32 := Scalar.addi v6651 c10_i32
  let v6657 : Index := Scalar.indexCast v6652
  let c32_2253 : Index := 32#32
  ![v6657.toNat, 32]
def k0_off228 (v5121 : BitVec 32) (k0_t3 : Fin (k0_t3_loop v5121).trips) : Fin 2 → Nat :=
  let c1_2255 : Index := 1#32
  let c0_i32_1552 : BitVec 32 := 0#32
  let c1_i32_1555 : BitVec 32 := 1#32
  let arg13 : BitVec 32 := Scf.iv c0_i32_1552 c1_i32_1555 k0_t3
  let c32_i32_2254 : BitVec 32 := 32#32
  let v6661 : BitVec 32 := Scalar.muli arg13 c32_i32_2254
  let c11_i32 : BitVec 32 := 11#32
  let v6662 : BitVec 32 := Scalar.addi v6661 c11_i32
  let v6663 : Index := Scalar.indexCast v6662
  ![1, v6663.toNat]
def k0_off229 (v6664 : BitVec 32) : Fin 2 → Nat :=
  let v6665 : Index := Scalar.indexCast v6664
  let c32_2256 : Index := 32#32
  ![v6665.toNat, 32]

def k0_chk78 (i : grid0.Coords) (v6664 : BitVec 32) : Prop :=
  (∀ (k0_h2 : k0_cond2 i = 1#1), ∀ a, (k0_off229 v6664) a + S1x32.size a ≤ S15360x128.size a)
theorem k0_off229_inb : ∀ (i : grid0.Coords) (v6664 : BitVec 32) (k0_hw78 : k0_chk78 i v6664), ∀ (k0_h2 : k0_cond2 i = 1#1), ∀ a, (k0_off229 v6664) a + S1x32.size a ≤ S15360x128.size a := fun i v6664 k0_hw78 k0_h2 => k0_hw78 k0_h2

def k0_off230 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2254 : BitVec 32 := 32#32
  let v6661 : BitVec 32 := Scalar.muli arg13 c32_i32_2254
  let c11_i32 : BitVec 32 := 11#32
  let v6662 : BitVec 32 := Scalar.addi v6661 c11_i32
  let v6667 : Index := Scalar.indexCast v6662
  let c32_2257 : Index := 32#32
  ![v6667.toNat, 32]
def k0_off231 (v5121 : BitVec 32) (k0_t3 : Fin (k0_t3_loop v5121).trips) : Fin 2 → Nat :=
  let c1_2259 : Index := 1#32
  let c0_i32_1552 : BitVec 32 := 0#32
  let c1_i32_1555 : BitVec 32 := 1#32
  let arg13 : BitVec 32 := Scf.iv c0_i32_1552 c1_i32_1555 k0_t3
  let c32_i32_2258 : BitVec 32 := 32#32
  let v6671 : BitVec 32 := Scalar.muli arg13 c32_i32_2258
  let c12_i32 : BitVec 32 := 12#32
  let v6672 : BitVec 32 := Scalar.addi v6671 c12_i32
  let v6673 : Index := Scalar.indexCast v6672
  ![1, v6673.toNat]
def k0_off232 (v6674 : BitVec 32) : Fin 2 → Nat :=
  let v6675 : Index := Scalar.indexCast v6674
  let c32_2260 : Index := 32#32
  ![v6675.toNat, 32]

def k0_chk79 (i : grid0.Coords) (v6674 : BitVec 32) : Prop :=
  (∀ (k0_h2 : k0_cond2 i = 1#1), ∀ a, (k0_off232 v6674) a + S1x32.size a ≤ S15360x128.size a)
theorem k0_off232_inb : ∀ (i : grid0.Coords) (v6674 : BitVec 32) (k0_hw79 : k0_chk79 i v6674), ∀ (k0_h2 : k0_cond2 i = 1#1), ∀ a, (k0_off232 v6674) a + S1x32.size a ≤ S15360x128.size a := fun i v6674 k0_hw79 k0_h2 => k0_hw79 k0_h2

def k0_off233 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2258 : BitVec 32 := 32#32
  let v6671 : BitVec 32 := Scalar.muli arg13 c32_i32_2258
  let c12_i32 : BitVec 32 := 12#32
  let v6672 : BitVec 32 := Scalar.addi v6671 c12_i32
  let v6677 : Index := Scalar.indexCast v6672
  let c32_2261 : Index := 32#32
  ![v6677.toNat, 32]
def k0_off234 (v5121 : BitVec 32) (k0_t3 : Fin (k0_t3_loop v5121).trips) : Fin 2 → Nat :=
  let c1_2263 : Index := 1#32
  let c0_i32_1552 : BitVec 32 := 0#32
  let c1_i32_1555 : BitVec 32 := 1#32
  let arg13 : BitVec 32 := Scf.iv c0_i32_1552 c1_i32_1555 k0_t3
  let c32_i32_2262 : BitVec 32 := 32#32
  let v6681 : BitVec 32 := Scalar.muli arg13 c32_i32_2262
  let c13_i32 : BitVec 32 := 13#32
  let v6682 : BitVec 32 := Scalar.addi v6681 c13_i32
  let v6683 : Index := Scalar.indexCast v6682
  ![1, v6683.toNat]
def k0_off235 (v6684 : BitVec 32) : Fin 2 → Nat :=
  let v6685 : Index := Scalar.indexCast v6684
  let c32_2264 : Index := 32#32
  ![v6685.toNat, 32]

def k0_chk80 (i : grid0.Coords) (v6684 : BitVec 32) : Prop :=
  (∀ (k0_h2 : k0_cond2 i = 1#1), ∀ a, (k0_off235 v6684) a + S1x32.size a ≤ S15360x128.size a)
theorem k0_off235_inb : ∀ (i : grid0.Coords) (v6684 : BitVec 32) (k0_hw80 : k0_chk80 i v6684), ∀ (k0_h2 : k0_cond2 i = 1#1), ∀ a, (k0_off235 v6684) a + S1x32.size a ≤ S15360x128.size a := fun i v6684 k0_hw80 k0_h2 => k0_hw80 k0_h2

def k0_off236 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2262 : BitVec 32 := 32#32
  let v6681 : BitVec 32 := Scalar.muli arg13 c32_i32_2262
  let c13_i32 : BitVec 32 := 13#32
  let v6682 : BitVec 32 := Scalar.addi v6681 c13_i32
  let v6687 : Index := Scalar.indexCast v6682
  let c32_2265 : Index := 32#32
  ![v6687.toNat, 32]
def k0_off237 (v5121 : BitVec 32) (k0_t3 : Fin (k0_t3_loop v5121).trips) : Fin 2 → Nat :=
  let c1_2267 : Index := 1#32
  let c0_i32_1552 : BitVec 32 := 0#32
  let c1_i32_1555 : BitVec 32 := 1#32
  let arg13 : BitVec 32 := Scf.iv c0_i32_1552 c1_i32_1555 k0_t3
  let c32_i32_2266 : BitVec 32 := 32#32
  let v6691 : BitVec 32 := Scalar.muli arg13 c32_i32_2266
  let c14_i32 : BitVec 32 := 14#32
  let v6692 : BitVec 32 := Scalar.addi v6691 c14_i32
  let v6693 : Index := Scalar.indexCast v6692
  ![1, v6693.toNat]
def k0_off238 (v6694 : BitVec 32) : Fin 2 → Nat :=
  let v6695 : Index := Scalar.indexCast v6694
  let c32_2268 : Index := 32#32
  ![v6695.toNat, 32]

def k0_chk81 (i : grid0.Coords) (v6694 : BitVec 32) : Prop :=
  (∀ (k0_h2 : k0_cond2 i = 1#1), ∀ a, (k0_off238 v6694) a + S1x32.size a ≤ S15360x128.size a)
theorem k0_off238_inb : ∀ (i : grid0.Coords) (v6694 : BitVec 32) (k0_hw81 : k0_chk81 i v6694), ∀ (k0_h2 : k0_cond2 i = 1#1), ∀ a, (k0_off238 v6694) a + S1x32.size a ≤ S15360x128.size a := fun i v6694 k0_hw81 k0_h2 => k0_hw81 k0_h2

def k0_off239 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2266 : BitVec 32 := 32#32
  let v6691 : BitVec 32 := Scalar.muli arg13 c32_i32_2266
  let c14_i32 : BitVec 32 := 14#32
  let v6692 : BitVec 32 := Scalar.addi v6691 c14_i32
  let v6697 : Index := Scalar.indexCast v6692
  let c32_2269 : Index := 32#32
  ![v6697.toNat, 32]
def k0_off240 (v5121 : BitVec 32) (k0_t3 : Fin (k0_t3_loop v5121).trips) : Fin 2 → Nat :=
  let c1_2271 : Index := 1#32
  let c0_i32_1552 : BitVec 32 := 0#32
  let c1_i32_1555 : BitVec 32 := 1#32
  let arg13 : BitVec 32 := Scf.iv c0_i32_1552 c1_i32_1555 k0_t3
  let c32_i32_2270 : BitVec 32 := 32#32
  let v6701 : BitVec 32 := Scalar.muli arg13 c32_i32_2270
  let c15_i32 : BitVec 32 := 15#32
  let v6702 : BitVec 32 := Scalar.addi v6701 c15_i32
  let v6703 : Index := Scalar.indexCast v6702
  ![1, v6703.toNat]
def k0_off241 (v6704 : BitVec 32) : Fin 2 → Nat :=
  let v6705 : Index := Scalar.indexCast v6704
  let c32_2272 : Index := 32#32
  ![v6705.toNat, 32]

def k0_chk82 (i : grid0.Coords) (v6704 : BitVec 32) : Prop :=
  (∀ (k0_h2 : k0_cond2 i = 1#1), ∀ a, (k0_off241 v6704) a + S1x32.size a ≤ S15360x128.size a)
theorem k0_off241_inb : ∀ (i : grid0.Coords) (v6704 : BitVec 32) (k0_hw82 : k0_chk82 i v6704), ∀ (k0_h2 : k0_cond2 i = 1#1), ∀ a, (k0_off241 v6704) a + S1x32.size a ≤ S15360x128.size a := fun i v6704 k0_hw82 k0_h2 => k0_hw82 k0_h2

def k0_off242 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2270 : BitVec 32 := 32#32
  let v6701 : BitVec 32 := Scalar.muli arg13 c32_i32_2270
  let c15_i32 : BitVec 32 := 15#32
  let v6702 : BitVec 32 := Scalar.addi v6701 c15_i32
  let v6707 : Index := Scalar.indexCast v6702
  let c32_2273 : Index := 32#32
  ![v6707.toNat, 32]
def k0_off243 (v5121 : BitVec 32) (k0_t3 : Fin (k0_t3_loop v5121).trips) : Fin 2 → Nat :=
  let c1_2275 : Index := 1#32
  let c0_i32_1552 : BitVec 32 := 0#32
  let c1_i32_1555 : BitVec 32 := 1#32
  let arg13 : BitVec 32 := Scf.iv c0_i32_1552 c1_i32_1555 k0_t3
  let c32_i32_2274 : BitVec 32 := 32#32
  let v6711 : BitVec 32 := Scalar.muli arg13 c32_i32_2274
  let c16_i32 : BitVec 32 := 16#32
  let v6712 : BitVec 32 := Scalar.addi v6711 c16_i32
  let v6713 : Index := Scalar.indexCast v6712
  ![1, v6713.toNat]
def k0_off244 (v6714 : BitVec 32) : Fin 2 → Nat :=
  let v6715 : Index := Scalar.indexCast v6714
  let c32_2276 : Index := 32#32
  ![v6715.toNat, 32]

def k0_chk83 (i : grid0.Coords) (v6714 : BitVec 32) : Prop :=
  (∀ (k0_h2 : k0_cond2 i = 1#1), ∀ a, (k0_off244 v6714) a + S1x32.size a ≤ S15360x128.size a)
theorem k0_off244_inb : ∀ (i : grid0.Coords) (v6714 : BitVec 32) (k0_hw83 : k0_chk83 i v6714), ∀ (k0_h2 : k0_cond2 i = 1#1), ∀ a, (k0_off244 v6714) a + S1x32.size a ≤ S15360x128.size a := fun i v6714 k0_hw83 k0_h2 => k0_hw83 k0_h2

def k0_off245 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2274 : BitVec 32 := 32#32
  let v6711 : BitVec 32 := Scalar.muli arg13 c32_i32_2274
  let c16_i32 : BitVec 32 := 16#32
  let v6712 : BitVec 32 := Scalar.addi v6711 c16_i32
  let v6717 : Index := Scalar.indexCast v6712
  let c32_2277 : Index := 32#32
  ![v6717.toNat, 32]
def k0_off246 (v5121 : BitVec 32) (k0_t3 : Fin (k0_t3_loop v5121).trips) : Fin 2 → Nat :=
  let c1_2279 : Index := 1#32
  let c0_i32_1552 : BitVec 32 := 0#32
  let c1_i32_1555 : BitVec 32 := 1#32
  let arg13 : BitVec 32 := Scf.iv c0_i32_1552 c1_i32_1555 k0_t3
  let c32_i32_2278 : BitVec 32 := 32#32
  let v6721 : BitVec 32 := Scalar.muli arg13 c32_i32_2278
  let c17_i32 : BitVec 32 := 17#32
  let v6722 : BitVec 32 := Scalar.addi v6721 c17_i32
  let v6723 : Index := Scalar.indexCast v6722
  ![1, v6723.toNat]
def k0_off247 (v6724 : BitVec 32) : Fin 2 → Nat :=
  let v6725 : Index := Scalar.indexCast v6724
  let c32_2280 : Index := 32#32
  ![v6725.toNat, 32]

def k0_chk84 (i : grid0.Coords) (v6724 : BitVec 32) : Prop :=
  (∀ (k0_h2 : k0_cond2 i = 1#1), ∀ a, (k0_off247 v6724) a + S1x32.size a ≤ S15360x128.size a)
theorem k0_off247_inb : ∀ (i : grid0.Coords) (v6724 : BitVec 32) (k0_hw84 : k0_chk84 i v6724), ∀ (k0_h2 : k0_cond2 i = 1#1), ∀ a, (k0_off247 v6724) a + S1x32.size a ≤ S15360x128.size a := fun i v6724 k0_hw84 k0_h2 => k0_hw84 k0_h2

def k0_off248 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2278 : BitVec 32 := 32#32
  let v6721 : BitVec 32 := Scalar.muli arg13 c32_i32_2278
  let c17_i32 : BitVec 32 := 17#32
  let v6722 : BitVec 32 := Scalar.addi v6721 c17_i32
  let v6727 : Index := Scalar.indexCast v6722
  let c32_2281 : Index := 32#32
  ![v6727.toNat, 32]
def k0_off249 (v5121 : BitVec 32) (k0_t3 : Fin (k0_t3_loop v5121).trips) : Fin 2 → Nat :=
  let c1_2283 : Index := 1#32
  let c0_i32_1552 : BitVec 32 := 0#32
  let c1_i32_1555 : BitVec 32 := 1#32
  let arg13 : BitVec 32 := Scf.iv c0_i32_1552 c1_i32_1555 k0_t3
  let c32_i32_2282 : BitVec 32 := 32#32
  let v6731 : BitVec 32 := Scalar.muli arg13 c32_i32_2282
  let c18_i32 : BitVec 32 := 18#32
  let v6732 : BitVec 32 := Scalar.addi v6731 c18_i32
  let v6733 : Index := Scalar.indexCast v6732
  ![1, v6733.toNat]
def k0_off250 (v6734 : BitVec 32) : Fin 2 → Nat :=
  let v6735 : Index := Scalar.indexCast v6734
  let c32_2284 : Index := 32#32
  ![v6735.toNat, 32]

def k0_chk85 (i : grid0.Coords) (v6734 : BitVec 32) : Prop :=
  (∀ (k0_h2 : k0_cond2 i = 1#1), ∀ a, (k0_off250 v6734) a + S1x32.size a ≤ S15360x128.size a)
theorem k0_off250_inb : ∀ (i : grid0.Coords) (v6734 : BitVec 32) (k0_hw85 : k0_chk85 i v6734), ∀ (k0_h2 : k0_cond2 i = 1#1), ∀ a, (k0_off250 v6734) a + S1x32.size a ≤ S15360x128.size a := fun i v6734 k0_hw85 k0_h2 => k0_hw85 k0_h2

def k0_off251 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2282 : BitVec 32 := 32#32
  let v6731 : BitVec 32 := Scalar.muli arg13 c32_i32_2282
  let c18_i32 : BitVec 32 := 18#32
  let v6732 : BitVec 32 := Scalar.addi v6731 c18_i32
  let v6737 : Index := Scalar.indexCast v6732
  let c32_2285 : Index := 32#32
  ![v6737.toNat, 32]
def k0_off252 (v5121 : BitVec 32) (k0_t3 : Fin (k0_t3_loop v5121).trips) : Fin 2 → Nat :=
  let c1_2287 : Index := 1#32
  let c0_i32_1552 : BitVec 32 := 0#32
  let c1_i32_1555 : BitVec 32 := 1#32
  let arg13 : BitVec 32 := Scf.iv c0_i32_1552 c1_i32_1555 k0_t3
  let c32_i32_2286 : BitVec 32 := 32#32
  let v6741 : BitVec 32 := Scalar.muli arg13 c32_i32_2286
  let c19_i32 : BitVec 32 := 19#32
  let v6742 : BitVec 32 := Scalar.addi v6741 c19_i32
  let v6743 : Index := Scalar.indexCast v6742
  ![1, v6743.toNat]
def k0_off253 (v6744 : BitVec 32) : Fin 2 → Nat :=
  let v6745 : Index := Scalar.indexCast v6744
  let c32_2288 : Index := 32#32
  ![v6745.toNat, 32]

def k0_chk86 (i : grid0.Coords) (v6744 : BitVec 32) : Prop :=
  (∀ (k0_h2 : k0_cond2 i = 1#1), ∀ a, (k0_off253 v6744) a + S1x32.size a ≤ S15360x128.size a)
theorem k0_off253_inb : ∀ (i : grid0.Coords) (v6744 : BitVec 32) (k0_hw86 : k0_chk86 i v6744), ∀ (k0_h2 : k0_cond2 i = 1#1), ∀ a, (k0_off253 v6744) a + S1x32.size a ≤ S15360x128.size a := fun i v6744 k0_hw86 k0_h2 => k0_hw86 k0_h2

def k0_off254 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2286 : BitVec 32 := 32#32
  let v6741 : BitVec 32 := Scalar.muli arg13 c32_i32_2286
  let c19_i32 : BitVec 32 := 19#32
  let v6742 : BitVec 32 := Scalar.addi v6741 c19_i32
  let v6747 : Index := Scalar.indexCast v6742
  let c32_2289 : Index := 32#32
  ![v6747.toNat, 32]
def k0_off255 (v5121 : BitVec 32) (k0_t3 : Fin (k0_t3_loop v5121).trips) : Fin 2 → Nat :=
  let c1_2291 : Index := 1#32
  let c0_i32_1552 : BitVec 32 := 0#32
  let c1_i32_1555 : BitVec 32 := 1#32
  let arg13 : BitVec 32 := Scf.iv c0_i32_1552 c1_i32_1555 k0_t3
  let c32_i32_2290 : BitVec 32 := 32#32
  let v6751 : BitVec 32 := Scalar.muli arg13 c32_i32_2290
  let c20_i32 : BitVec 32 := 20#32
  let v6752 : BitVec 32 := Scalar.addi v6751 c20_i32
  let v6753 : Index := Scalar.indexCast v6752
  ![1, v6753.toNat]
def k0_off256 (v6754 : BitVec 32) : Fin 2 → Nat :=
  let v6755 : Index := Scalar.indexCast v6754
  let c32_2292 : Index := 32#32
  ![v6755.toNat, 32]

def k0_chk87 (i : grid0.Coords) (v6754 : BitVec 32) : Prop :=
  (∀ (k0_h2 : k0_cond2 i = 1#1), ∀ a, (k0_off256 v6754) a + S1x32.size a ≤ S15360x128.size a)
theorem k0_off256_inb : ∀ (i : grid0.Coords) (v6754 : BitVec 32) (k0_hw87 : k0_chk87 i v6754), ∀ (k0_h2 : k0_cond2 i = 1#1), ∀ a, (k0_off256 v6754) a + S1x32.size a ≤ S15360x128.size a := fun i v6754 k0_hw87 k0_h2 => k0_hw87 k0_h2

def k0_off257 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2290 : BitVec 32 := 32#32
  let v6751 : BitVec 32 := Scalar.muli arg13 c32_i32_2290
  let c20_i32 : BitVec 32 := 20#32
  let v6752 : BitVec 32 := Scalar.addi v6751 c20_i32
  let v6757 : Index := Scalar.indexCast v6752
  let c32_2293 : Index := 32#32
  ![v6757.toNat, 32]
def k0_off258 (v5121 : BitVec 32) (k0_t3 : Fin (k0_t3_loop v5121).trips) : Fin 2 → Nat :=
  let c1_2295 : Index := 1#32
  let c0_i32_1552 : BitVec 32 := 0#32
  let c1_i32_1555 : BitVec 32 := 1#32
  let arg13 : BitVec 32 := Scf.iv c0_i32_1552 c1_i32_1555 k0_t3
  let c32_i32_2294 : BitVec 32 := 32#32
  let v6761 : BitVec 32 := Scalar.muli arg13 c32_i32_2294
  let c21_i32 : BitVec 32 := 21#32
  let v6762 : BitVec 32 := Scalar.addi v6761 c21_i32
  let v6763 : Index := Scalar.indexCast v6762
  ![1, v6763.toNat]
def k0_off259 (v6764 : BitVec 32) : Fin 2 → Nat :=
  let v6765 : Index := Scalar.indexCast v6764
  let c32_2296 : Index := 32#32
  ![v6765.toNat, 32]

def k0_chk88 (i : grid0.Coords) (v6764 : BitVec 32) : Prop :=
  (∀ (k0_h2 : k0_cond2 i = 1#1), ∀ a, (k0_off259 v6764) a + S1x32.size a ≤ S15360x128.size a)
theorem k0_off259_inb : ∀ (i : grid0.Coords) (v6764 : BitVec 32) (k0_hw88 : k0_chk88 i v6764), ∀ (k0_h2 : k0_cond2 i = 1#1), ∀ a, (k0_off259 v6764) a + S1x32.size a ≤ S15360x128.size a := fun i v6764 k0_hw88 k0_h2 => k0_hw88 k0_h2

def k0_off260 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2294 : BitVec 32 := 32#32
  let v6761 : BitVec 32 := Scalar.muli arg13 c32_i32_2294
  let c21_i32 : BitVec 32 := 21#32
  let v6762 : BitVec 32 := Scalar.addi v6761 c21_i32
  let v6767 : Index := Scalar.indexCast v6762
  let c32_2297 : Index := 32#32
  ![v6767.toNat, 32]
def k0_off261 (v5121 : BitVec 32) (k0_t3 : Fin (k0_t3_loop v5121).trips) : Fin 2 → Nat :=
  let c1_2299 : Index := 1#32
  let c0_i32_1552 : BitVec 32 := 0#32
  let c1_i32_1555 : BitVec 32 := 1#32
  let arg13 : BitVec 32 := Scf.iv c0_i32_1552 c1_i32_1555 k0_t3
  let c32_i32_2298 : BitVec 32 := 32#32
  let v6771 : BitVec 32 := Scalar.muli arg13 c32_i32_2298
  let c22_i32 : BitVec 32 := 22#32
  let v6772 : BitVec 32 := Scalar.addi v6771 c22_i32
  let v6773 : Index := Scalar.indexCast v6772
  ![1, v6773.toNat]
def k0_off262 (v6774 : BitVec 32) : Fin 2 → Nat :=
  let v6775 : Index := Scalar.indexCast v6774
  let c32_2300 : Index := 32#32
  ![v6775.toNat, 32]

def k0_chk89 (i : grid0.Coords) (v6774 : BitVec 32) : Prop :=
  (∀ (k0_h2 : k0_cond2 i = 1#1), ∀ a, (k0_off262 v6774) a + S1x32.size a ≤ S15360x128.size a)
theorem k0_off262_inb : ∀ (i : grid0.Coords) (v6774 : BitVec 32) (k0_hw89 : k0_chk89 i v6774), ∀ (k0_h2 : k0_cond2 i = 1#1), ∀ a, (k0_off262 v6774) a + S1x32.size a ≤ S15360x128.size a := fun i v6774 k0_hw89 k0_h2 => k0_hw89 k0_h2

def k0_off263 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2298 : BitVec 32 := 32#32
  let v6771 : BitVec 32 := Scalar.muli arg13 c32_i32_2298
  let c22_i32 : BitVec 32 := 22#32
  let v6772 : BitVec 32 := Scalar.addi v6771 c22_i32
  let v6777 : Index := Scalar.indexCast v6772
  let c32_2301 : Index := 32#32
  ![v6777.toNat, 32]
def k0_off264 (v5121 : BitVec 32) (k0_t3 : Fin (k0_t3_loop v5121).trips) : Fin 2 → Nat :=
  let c1_2303 : Index := 1#32
  let c0_i32_1552 : BitVec 32 := 0#32
  let c1_i32_1555 : BitVec 32 := 1#32
  let arg13 : BitVec 32 := Scf.iv c0_i32_1552 c1_i32_1555 k0_t3
  let c32_i32_2302 : BitVec 32 := 32#32
  let v6781 : BitVec 32 := Scalar.muli arg13 c32_i32_2302
  let c23_i32 : BitVec 32 := 23#32
  let v6782 : BitVec 32 := Scalar.addi v6781 c23_i32
  let v6783 : Index := Scalar.indexCast v6782
  ![1, v6783.toNat]
def k0_off265 (v6784 : BitVec 32) : Fin 2 → Nat :=
  let v6785 : Index := Scalar.indexCast v6784
  let c32_2304 : Index := 32#32
  ![v6785.toNat, 32]

def k0_chk90 (i : grid0.Coords) (v6784 : BitVec 32) : Prop :=
  (∀ (k0_h2 : k0_cond2 i = 1#1), ∀ a, (k0_off265 v6784) a + S1x32.size a ≤ S15360x128.size a)
theorem k0_off265_inb : ∀ (i : grid0.Coords) (v6784 : BitVec 32) (k0_hw90 : k0_chk90 i v6784), ∀ (k0_h2 : k0_cond2 i = 1#1), ∀ a, (k0_off265 v6784) a + S1x32.size a ≤ S15360x128.size a := fun i v6784 k0_hw90 k0_h2 => k0_hw90 k0_h2

def k0_off266 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2302 : BitVec 32 := 32#32
  let v6781 : BitVec 32 := Scalar.muli arg13 c32_i32_2302
  let c23_i32 : BitVec 32 := 23#32
  let v6782 : BitVec 32 := Scalar.addi v6781 c23_i32
  let v6787 : Index := Scalar.indexCast v6782
  let c32_2305 : Index := 32#32
  ![v6787.toNat, 32]
def k0_off267 (v5121 : BitVec 32) (k0_t3 : Fin (k0_t3_loop v5121).trips) : Fin 2 → Nat :=
  let c1_2307 : Index := 1#32
  let c0_i32_1552 : BitVec 32 := 0#32
  let c1_i32_1555 : BitVec 32 := 1#32
  let arg13 : BitVec 32 := Scf.iv c0_i32_1552 c1_i32_1555 k0_t3
  let c32_i32_2306 : BitVec 32 := 32#32
  let v6791 : BitVec 32 := Scalar.muli arg13 c32_i32_2306
  let c24_i32 : BitVec 32 := 24#32
  let v6792 : BitVec 32 := Scalar.addi v6791 c24_i32
  let v6793 : Index := Scalar.indexCast v6792
  ![1, v6793.toNat]
def k0_off268 (v6794 : BitVec 32) : Fin 2 → Nat :=
  let v6795 : Index := Scalar.indexCast v6794
  let c32_2308 : Index := 32#32
  ![v6795.toNat, 32]

def k0_chk91 (i : grid0.Coords) (v6794 : BitVec 32) : Prop :=
  (∀ (k0_h2 : k0_cond2 i = 1#1), ∀ a, (k0_off268 v6794) a + S1x32.size a ≤ S15360x128.size a)
theorem k0_off268_inb : ∀ (i : grid0.Coords) (v6794 : BitVec 32) (k0_hw91 : k0_chk91 i v6794), ∀ (k0_h2 : k0_cond2 i = 1#1), ∀ a, (k0_off268 v6794) a + S1x32.size a ≤ S15360x128.size a := fun i v6794 k0_hw91 k0_h2 => k0_hw91 k0_h2

def k0_off269 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2306 : BitVec 32 := 32#32
  let v6791 : BitVec 32 := Scalar.muli arg13 c32_i32_2306
  let c24_i32 : BitVec 32 := 24#32
  let v6792 : BitVec 32 := Scalar.addi v6791 c24_i32
  let v6797 : Index := Scalar.indexCast v6792
  let c32_2309 : Index := 32#32
  ![v6797.toNat, 32]
def k0_off270 (v5121 : BitVec 32) (k0_t3 : Fin (k0_t3_loop v5121).trips) : Fin 2 → Nat :=
  let c1_2311 : Index := 1#32
  let c0_i32_1552 : BitVec 32 := 0#32
  let c1_i32_1555 : BitVec 32 := 1#32
  let arg13 : BitVec 32 := Scf.iv c0_i32_1552 c1_i32_1555 k0_t3
  let c32_i32_2310 : BitVec 32 := 32#32
  let v6801 : BitVec 32 := Scalar.muli arg13 c32_i32_2310
  let c25_i32 : BitVec 32 := 25#32
  let v6802 : BitVec 32 := Scalar.addi v6801 c25_i32
  let v6803 : Index := Scalar.indexCast v6802
  ![1, v6803.toNat]
def k0_off271 (v6804 : BitVec 32) : Fin 2 → Nat :=
  let v6805 : Index := Scalar.indexCast v6804
  let c32_2312 : Index := 32#32
  ![v6805.toNat, 32]

def k0_chk92 (i : grid0.Coords) (v6804 : BitVec 32) : Prop :=
  (∀ (k0_h2 : k0_cond2 i = 1#1), ∀ a, (k0_off271 v6804) a + S1x32.size a ≤ S15360x128.size a)
theorem k0_off271_inb : ∀ (i : grid0.Coords) (v6804 : BitVec 32) (k0_hw92 : k0_chk92 i v6804), ∀ (k0_h2 : k0_cond2 i = 1#1), ∀ a, (k0_off271 v6804) a + S1x32.size a ≤ S15360x128.size a := fun i v6804 k0_hw92 k0_h2 => k0_hw92 k0_h2

def k0_off272 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2310 : BitVec 32 := 32#32
  let v6801 : BitVec 32 := Scalar.muli arg13 c32_i32_2310
  let c25_i32 : BitVec 32 := 25#32
  let v6802 : BitVec 32 := Scalar.addi v6801 c25_i32
  let v6807 : Index := Scalar.indexCast v6802
  let c32_2313 : Index := 32#32
  ![v6807.toNat, 32]
def k0_off273 (v5121 : BitVec 32) (k0_t3 : Fin (k0_t3_loop v5121).trips) : Fin 2 → Nat :=
  let c1_2315 : Index := 1#32
  let c0_i32_1552 : BitVec 32 := 0#32
  let c1_i32_1555 : BitVec 32 := 1#32
  let arg13 : BitVec 32 := Scf.iv c0_i32_1552 c1_i32_1555 k0_t3
  let c32_i32_2314 : BitVec 32 := 32#32
  let v6811 : BitVec 32 := Scalar.muli arg13 c32_i32_2314
  let c26_i32 : BitVec 32 := 26#32
  let v6812 : BitVec 32 := Scalar.addi v6811 c26_i32
  let v6813 : Index := Scalar.indexCast v6812
  ![1, v6813.toNat]
def k0_off274 (v6814 : BitVec 32) : Fin 2 → Nat :=
  let v6815 : Index := Scalar.indexCast v6814
  let c32_2316 : Index := 32#32
  ![v6815.toNat, 32]

def k0_chk93 (i : grid0.Coords) (v6814 : BitVec 32) : Prop :=
  (∀ (k0_h2 : k0_cond2 i = 1#1), ∀ a, (k0_off274 v6814) a + S1x32.size a ≤ S15360x128.size a)
theorem k0_off274_inb : ∀ (i : grid0.Coords) (v6814 : BitVec 32) (k0_hw93 : k0_chk93 i v6814), ∀ (k0_h2 : k0_cond2 i = 1#1), ∀ a, (k0_off274 v6814) a + S1x32.size a ≤ S15360x128.size a := fun i v6814 k0_hw93 k0_h2 => k0_hw93 k0_h2

def k0_off275 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2314 : BitVec 32 := 32#32
  let v6811 : BitVec 32 := Scalar.muli arg13 c32_i32_2314
  let c26_i32 : BitVec 32 := 26#32
  let v6812 : BitVec 32 := Scalar.addi v6811 c26_i32
  let v6817 : Index := Scalar.indexCast v6812
  let c32_2317 : Index := 32#32
  ![v6817.toNat, 32]
def k0_off276 (v5121 : BitVec 32) (k0_t3 : Fin (k0_t3_loop v5121).trips) : Fin 2 → Nat :=
  let c1_2319 : Index := 1#32
  let c0_i32_1552 : BitVec 32 := 0#32
  let c1_i32_1555 : BitVec 32 := 1#32
  let arg13 : BitVec 32 := Scf.iv c0_i32_1552 c1_i32_1555 k0_t3
  let c32_i32_2318 : BitVec 32 := 32#32
  let v6821 : BitVec 32 := Scalar.muli arg13 c32_i32_2318
  let c27_i32 : BitVec 32 := 27#32
  let v6822 : BitVec 32 := Scalar.addi v6821 c27_i32
  let v6823 : Index := Scalar.indexCast v6822
  ![1, v6823.toNat]
def k0_off277 (v6824 : BitVec 32) : Fin 2 → Nat :=
  let v6825 : Index := Scalar.indexCast v6824
  let c32_2320 : Index := 32#32
  ![v6825.toNat, 32]

def k0_chk94 (i : grid0.Coords) (v6824 : BitVec 32) : Prop :=
  (∀ (k0_h2 : k0_cond2 i = 1#1), ∀ a, (k0_off277 v6824) a + S1x32.size a ≤ S15360x128.size a)
theorem k0_off277_inb : ∀ (i : grid0.Coords) (v6824 : BitVec 32) (k0_hw94 : k0_chk94 i v6824), ∀ (k0_h2 : k0_cond2 i = 1#1), ∀ a, (k0_off277 v6824) a + S1x32.size a ≤ S15360x128.size a := fun i v6824 k0_hw94 k0_h2 => k0_hw94 k0_h2

def k0_off278 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2318 : BitVec 32 := 32#32
  let v6821 : BitVec 32 := Scalar.muli arg13 c32_i32_2318
  let c27_i32 : BitVec 32 := 27#32
  let v6822 : BitVec 32 := Scalar.addi v6821 c27_i32
  let v6827 : Index := Scalar.indexCast v6822
  let c32_2321 : Index := 32#32
  ![v6827.toNat, 32]
def k0_off279 (v5121 : BitVec 32) (k0_t3 : Fin (k0_t3_loop v5121).trips) : Fin 2 → Nat :=
  let c1_2323 : Index := 1#32
  let c0_i32_1552 : BitVec 32 := 0#32
  let c1_i32_1555 : BitVec 32 := 1#32
  let arg13 : BitVec 32 := Scf.iv c0_i32_1552 c1_i32_1555 k0_t3
  let c32_i32_2322 : BitVec 32 := 32#32
  let v6831 : BitVec 32 := Scalar.muli arg13 c32_i32_2322
  let c28_i32 : BitVec 32 := 28#32
  let v6832 : BitVec 32 := Scalar.addi v6831 c28_i32
  let v6833 : Index := Scalar.indexCast v6832
  ![1, v6833.toNat]
def k0_off280 (v6834 : BitVec 32) : Fin 2 → Nat :=
  let v6835 : Index := Scalar.indexCast v6834
  let c32_2324 : Index := 32#32
  ![v6835.toNat, 32]

def k0_chk95 (i : grid0.Coords) (v6834 : BitVec 32) : Prop :=
  (∀ (k0_h2 : k0_cond2 i = 1#1), ∀ a, (k0_off280 v6834) a + S1x32.size a ≤ S15360x128.size a)
theorem k0_off280_inb : ∀ (i : grid0.Coords) (v6834 : BitVec 32) (k0_hw95 : k0_chk95 i v6834), ∀ (k0_h2 : k0_cond2 i = 1#1), ∀ a, (k0_off280 v6834) a + S1x32.size a ≤ S15360x128.size a := fun i v6834 k0_hw95 k0_h2 => k0_hw95 k0_h2

def k0_off281 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2322 : BitVec 32 := 32#32
  let v6831 : BitVec 32 := Scalar.muli arg13 c32_i32_2322
  let c28_i32 : BitVec 32 := 28#32
  let v6832 : BitVec 32 := Scalar.addi v6831 c28_i32
  let v6837 : Index := Scalar.indexCast v6832
  let c32_2325 : Index := 32#32
  ![v6837.toNat, 32]
def k0_off282 (v5121 : BitVec 32) (k0_t3 : Fin (k0_t3_loop v5121).trips) : Fin 2 → Nat :=
  let c1_2328 : Index := 1#32
  let c0_i32_1552 : BitVec 32 := 0#32
  let c1_i32_1555 : BitVec 32 := 1#32
  let arg13 : BitVec 32 := Scf.iv c0_i32_1552 c1_i32_1555 k0_t3
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6843 : Index := Scalar.indexCast v6842
  ![1, v6843.toNat]
def k0_off283 (v6844 : BitVec 32) : Fin 2 → Nat :=
  let v6845 : Index := Scalar.indexCast v6844
  let c32_2329 : Index := 32#32
  ![v6845.toNat, 32]

def k0_chk96 (i : grid0.Coords) (v6844 : BitVec 32) : Prop :=
  (∀ (k0_h2 : k0_cond2 i = 1#1), ∀ a, (k0_off283 v6844) a + S1x32.size a ≤ S15360x128.size a)
theorem k0_off283_inb : ∀ (i : grid0.Coords) (v6844 : BitVec 32) (k0_hw96 : k0_chk96 i v6844), ∀ (k0_h2 : k0_cond2 i = 1#1), ∀ a, (k0_off283 v6844) a + S1x32.size a ≤ S15360x128.size a := fun i v6844 k0_hw96 k0_h2 => k0_hw96 k0_h2

def k0_off284 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6847 : Index := Scalar.indexCast v6842
  let c32_2330 : Index := 32#32
  ![v6847.toNat, 32]
def k0_off285 (v5121 : BitVec 32) (k0_t3 : Fin (k0_t3_loop v5121).trips) : Fin 2 → Nat :=
  let c1_2332 : Index := 1#32
  let c0_i32_1552 : BitVec 32 := 0#32
  let c1_i32_1555 : BitVec 32 := 1#32
  let arg13 : BitVec 32 := Scf.iv c0_i32_1552 c1_i32_1555 k0_t3
  let c32_i32_2331 : BitVec 32 := 32#32
  let v6851 : BitVec 32 := Scalar.muli arg13 c32_i32_2331
  let c30_i32 : BitVec 32 := 30#32
  let v6852 : BitVec 32 := Scalar.addi v6851 c30_i32
  let v6853 : Index := Scalar.indexCast v6852
  ![1, v6853.toNat]
def k0_off286 (v6854 : BitVec 32) : Fin 2 → Nat :=
  let v6855 : Index := Scalar.indexCast v6854
  let c32_2333 : Index := 32#32
  ![v6855.toNat, 32]

def k0_chk97 (i : grid0.Coords) (v6854 : BitVec 32) : Prop :=
  (∀ (k0_h2 : k0_cond2 i = 1#1), ∀ a, (k0_off286 v6854) a + S1x32.size a ≤ S15360x128.size a)
theorem k0_off286_inb : ∀ (i : grid0.Coords) (v6854 : BitVec 32) (k0_hw97 : k0_chk97 i v6854), ∀ (k0_h2 : k0_cond2 i = 1#1), ∀ a, (k0_off286 v6854) a + S1x32.size a ≤ S15360x128.size a := fun i v6854 k0_hw97 k0_h2 => k0_hw97 k0_h2

def k0_off287 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2331 : BitVec 32 := 32#32
  let v6851 : BitVec 32 := Scalar.muli arg13 c32_i32_2331
  let c30_i32 : BitVec 32 := 30#32
  let v6852 : BitVec 32 := Scalar.addi v6851 c30_i32
  let v6857 : Index := Scalar.indexCast v6852
  let c32_2334 : Index := 32#32
  ![v6857.toNat, 32]
def k0_off288 (v5121 : BitVec 32) (k0_t3 : Fin (k0_t3_loop v5121).trips) : Fin 2 → Nat :=
  let c1_2336 : Index := 1#32
  let c0_i32_1552 : BitVec 32 := 0#32
  let c1_i32_1555 : BitVec 32 := 1#32
  let arg13 : BitVec 32 := Scf.iv c0_i32_1552 c1_i32_1555 k0_t3
  let c32_i32_2335 : BitVec 32 := 32#32
  let v6861 : BitVec 32 := Scalar.muli arg13 c32_i32_2335
  let c31_i32 : BitVec 32 := 31#32
  let v6862 : BitVec 32 := Scalar.addi v6861 c31_i32
  let v6863 : Index := Scalar.indexCast v6862
  ![1, v6863.toNat]
def k0_off289 (v6864 : BitVec 32) : Fin 2 → Nat :=
  let v6865 : Index := Scalar.indexCast v6864
  let c32_2337 : Index := 32#32
  ![v6865.toNat, 32]

def k0_chk98 (i : grid0.Coords) (v6864 : BitVec 32) : Prop :=
  (∀ (k0_h2 : k0_cond2 i = 1#1), ∀ a, (k0_off289 v6864) a + S1x32.size a ≤ S15360x128.size a)
theorem k0_off289_inb : ∀ (i : grid0.Coords) (v6864 : BitVec 32) (k0_hw98 : k0_chk98 i v6864), ∀ (k0_h2 : k0_cond2 i = 1#1), ∀ a, (k0_off289 v6864) a + S1x32.size a ≤ S15360x128.size a := fun i v6864 k0_hw98 k0_h2 => k0_hw98 k0_h2

def k0_off290 (v5121 : BitVec 32) (k0_t3 : Fin (k0_t3_loop v5121).trips) : Fin 2 → Nat :=
  let c0_i32_1552 : BitVec 32 := 0#32
  let c1_i32_1555 : BitVec 32 := 1#32
  let arg13 : BitVec 32 := Scf.iv c0_i32_1552 c1_i32_1555 k0_t3
  let c32_i32_2335 : BitVec 32 := 32#32
  let v6861 : BitVec 32 := Scalar.muli arg13 c32_i32_2335
  let c31_i32 : BitVec 32 := 31#32
  let v6862 : BitVec 32 := Scalar.addi v6861 c31_i32
  let v6867 : Index := Scalar.indexCast v6862
  let c32_2338 : Index := 32#32
  ![v6867.toNat, 32]
@[reducible] def k0_t4_loop (v5121 : BitVec 32) : Scf.Loop 32 :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let v5161 : BitVec 32 := Scalar.addi c0_i32_1552 v5160
  let c1_i32_1556 : BitVec 32 := 1#32
  ⟨v5164, v5161, c1_i32_1556⟩
def k0_off291 (v5121 : BitVec 32) (k0_t4 : Fin (k0_t4_loop v5121).trips) : Fin 2 → Nat :=
  let c1_2208 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![1, v6553.toNat]
def k0_off292 (v6554 : BitVec 32) : Fin 2 → Nat :=
  let v6555 : Index := Scalar.indexCast v6554
  let c32 : Index := 32#32
  ![v6555.toNat, 32]

def k0_chk99 (i : grid0.Coords) (v6554 : BitVec 32) : Prop :=
  (∀ (k0_h2 : k0_cond2 i = 1#1), ∀ a, (k0_off292 v6554) a + S1x32.size a ≤ S15360x128.size a)
theorem k0_off292_inb : ∀ (i : grid0.Coords) (v6554 : BitVec 32) (k0_hw99 : k0_chk99 i v6554), ∀ (k0_h2 : k0_cond2 i = 1#1), ∀ a, (k0_off292 v6554) a + S1x32.size a ≤ S15360x128.size a := fun i v6554 k0_hw99 k0_h2 => k0_hw99 k0_h2

def k0_off293 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c32_2209 : Index := 32#32
  ![v6557.toNat, 32]
def k0_off294 (v5121 : BitVec 32) (k0_t4 : Fin (k0_t4_loop v5121).trips) : Fin 2 → Nat :=
  let c1_2212 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6563 : Index := Scalar.indexCast v6562
  ![1, v6563.toNat]
def k0_off295 (v6564 : BitVec 32) : Fin 2 → Nat :=
  let v6565 : Index := Scalar.indexCast v6564
  let c32_2213 : Index := 32#32
  ![v6565.toNat, 32]

def k0_chk100 (i : grid0.Coords) (v6564 : BitVec 32) : Prop :=
  (∀ (k0_h2 : k0_cond2 i = 1#1), ∀ a, (k0_off295 v6564) a + S1x32.size a ≤ S15360x128.size a)
theorem k0_off295_inb : ∀ (i : grid0.Coords) (v6564 : BitVec 32) (k0_hw100 : k0_chk100 i v6564), ∀ (k0_h2 : k0_cond2 i = 1#1), ∀ a, (k0_off295 v6564) a + S1x32.size a ≤ S15360x128.size a := fun i v6564 k0_hw100 k0_h2 => k0_hw100 k0_h2

def k0_off296 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6567 : Index := Scalar.indexCast v6562
  let c32_2214 : Index := 32#32
  ![v6567.toNat, 32]
def k0_off297 (v5121 : BitVec 32) (k0_t4 : Fin (k0_t4_loop v5121).trips) : Fin 2 → Nat :=
  let c1_2217 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6573 : Index := Scalar.indexCast v6572
  ![1, v6573.toNat]
def k0_off298 (v6574 : BitVec 32) : Fin 2 → Nat :=
  let v6575 : Index := Scalar.indexCast v6574
  let c32_2218 : Index := 32#32
  ![v6575.toNat, 32]

def k0_chk101 (i : grid0.Coords) (v6574 : BitVec 32) : Prop :=
  (∀ (k0_h2 : k0_cond2 i = 1#1), ∀ a, (k0_off298 v6574) a + S1x32.size a ≤ S15360x128.size a)
theorem k0_off298_inb : ∀ (i : grid0.Coords) (v6574 : BitVec 32) (k0_hw101 : k0_chk101 i v6574), ∀ (k0_h2 : k0_cond2 i = 1#1), ∀ a, (k0_off298 v6574) a + S1x32.size a ≤ S15360x128.size a := fun i v6574 k0_hw101 k0_h2 => k0_hw101 k0_h2

def k0_off299 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6577 : Index := Scalar.indexCast v6572
  let c32_2219 : Index := 32#32
  ![v6577.toNat, 32]
def k0_off300 (v5121 : BitVec 32) (k0_t4 : Fin (k0_t4_loop v5121).trips) : Fin 2 → Nat :=
  let c1_2222 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6583 : Index := Scalar.indexCast v6582
  ![1, v6583.toNat]
def k0_off301 (v6584 : BitVec 32) : Fin 2 → Nat :=
  let v6585 : Index := Scalar.indexCast v6584
  let c32_2223 : Index := 32#32
  ![v6585.toNat, 32]

def k0_chk102 (i : grid0.Coords) (v6584 : BitVec 32) : Prop :=
  (∀ (k0_h2 : k0_cond2 i = 1#1), ∀ a, (k0_off301 v6584) a + S1x32.size a ≤ S15360x128.size a)
theorem k0_off301_inb : ∀ (i : grid0.Coords) (v6584 : BitVec 32) (k0_hw102 : k0_chk102 i v6584), ∀ (k0_h2 : k0_cond2 i = 1#1), ∀ a, (k0_off301 v6584) a + S1x32.size a ≤ S15360x128.size a := fun i v6584 k0_hw102 k0_h2 => k0_hw102 k0_h2

def k0_off302 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6587 : Index := Scalar.indexCast v6582
  let c32_2224 : Index := 32#32
  ![v6587.toNat, 32]
def k0_off303 (v5121 : BitVec 32) (k0_t4 : Fin (k0_t4_loop v5121).trips) : Fin 2 → Nat :=
  let c1_2227 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6593 : Index := Scalar.indexCast v6592
  ![1, v6593.toNat]
def k0_off304 (v6594 : BitVec 32) : Fin 2 → Nat :=
  let v6595 : Index := Scalar.indexCast v6594
  let c32_2228 : Index := 32#32
  ![v6595.toNat, 32]

def k0_chk103 (i : grid0.Coords) (v6594 : BitVec 32) : Prop :=
  (∀ (k0_h2 : k0_cond2 i = 1#1), ∀ a, (k0_off304 v6594) a + S1x32.size a ≤ S15360x128.size a)
theorem k0_off304_inb : ∀ (i : grid0.Coords) (v6594 : BitVec 32) (k0_hw103 : k0_chk103 i v6594), ∀ (k0_h2 : k0_cond2 i = 1#1), ∀ a, (k0_off304 v6594) a + S1x32.size a ≤ S15360x128.size a := fun i v6594 k0_hw103 k0_h2 => k0_hw103 k0_h2

def k0_off305 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6597 : Index := Scalar.indexCast v6592
  let c32_2229 : Index := 32#32
  ![v6597.toNat, 32]
def k0_off306 (v5121 : BitVec 32) (k0_t4 : Fin (k0_t4_loop v5121).trips) : Fin 2 → Nat :=
  let c1_2231 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2230 : BitVec 32 := 32#32
  let v6601 : BitVec 32 := Scalar.muli arg13 c32_i32_2230
  let c5_i32 : BitVec 32 := 5#32
  let v6602 : BitVec 32 := Scalar.addi v6601 c5_i32
  let v6603 : Index := Scalar.indexCast v6602
  ![1, v6603.toNat]
def k0_off307 (v6604 : BitVec 32) : Fin 2 → Nat :=
  let v6605 : Index := Scalar.indexCast v6604
  let c32_2232 : Index := 32#32
  ![v6605.toNat, 32]

def k0_chk104 (i : grid0.Coords) (v6604 : BitVec 32) : Prop :=
  (∀ (k0_h2 : k0_cond2 i = 1#1), ∀ a, (k0_off307 v6604) a + S1x32.size a ≤ S15360x128.size a)
theorem k0_off307_inb : ∀ (i : grid0.Coords) (v6604 : BitVec 32) (k0_hw104 : k0_chk104 i v6604), ∀ (k0_h2 : k0_cond2 i = 1#1), ∀ a, (k0_off307 v6604) a + S1x32.size a ≤ S15360x128.size a := fun i v6604 k0_hw104 k0_h2 => k0_hw104 k0_h2

def k0_off308 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2230 : BitVec 32 := 32#32
  let v6601 : BitVec 32 := Scalar.muli arg13 c32_i32_2230
  let c5_i32 : BitVec 32 := 5#32
  let v6602 : BitVec 32 := Scalar.addi v6601 c5_i32
  let v6607 : Index := Scalar.indexCast v6602
  let c32_2233 : Index := 32#32
  ![v6607.toNat, 32]
def k0_off309 (v5121 : BitVec 32) (k0_t4 : Fin (k0_t4_loop v5121).trips) : Fin 2 → Nat :=
  let c1_2235 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2234 : BitVec 32 := 32#32
  let v6611 : BitVec 32 := Scalar.muli arg13 c32_i32_2234
  let c6_i32 : BitVec 32 := 6#32
  let v6612 : BitVec 32 := Scalar.addi v6611 c6_i32
  let v6613 : Index := Scalar.indexCast v6612
  ![1, v6613.toNat]
def k0_off310 (v6614 : BitVec 32) : Fin 2 → Nat :=
  let v6615 : Index := Scalar.indexCast v6614
  let c32_2236 : Index := 32#32
  ![v6615.toNat, 32]

def k0_chk105 (i : grid0.Coords) (v6614 : BitVec 32) : Prop :=
  (∀ (k0_h2 : k0_cond2 i = 1#1), ∀ a, (k0_off310 v6614) a + S1x32.size a ≤ S15360x128.size a)
theorem k0_off310_inb : ∀ (i : grid0.Coords) (v6614 : BitVec 32) (k0_hw105 : k0_chk105 i v6614), ∀ (k0_h2 : k0_cond2 i = 1#1), ∀ a, (k0_off310 v6614) a + S1x32.size a ≤ S15360x128.size a := fun i v6614 k0_hw105 k0_h2 => k0_hw105 k0_h2

def k0_off311 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2234 : BitVec 32 := 32#32
  let v6611 : BitVec 32 := Scalar.muli arg13 c32_i32_2234
  let c6_i32 : BitVec 32 := 6#32
  let v6612 : BitVec 32 := Scalar.addi v6611 c6_i32
  let v6617 : Index := Scalar.indexCast v6612
  let c32_2237 : Index := 32#32
  ![v6617.toNat, 32]
def k0_off312 (v5121 : BitVec 32) (k0_t4 : Fin (k0_t4_loop v5121).trips) : Fin 2 → Nat :=
  let c1_2239 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2238 : BitVec 32 := 32#32
  let v6621 : BitVec 32 := Scalar.muli arg13 c32_i32_2238
  let c7_i32 : BitVec 32 := 7#32
  let v6622 : BitVec 32 := Scalar.addi v6621 c7_i32
  let v6623 : Index := Scalar.indexCast v6622
  ![1, v6623.toNat]
def k0_off313 (v6624 : BitVec 32) : Fin 2 → Nat :=
  let v6625 : Index := Scalar.indexCast v6624
  let c32_2240 : Index := 32#32
  ![v6625.toNat, 32]

def k0_chk106 (i : grid0.Coords) (v6624 : BitVec 32) : Prop :=
  (∀ (k0_h2 : k0_cond2 i = 1#1), ∀ a, (k0_off313 v6624) a + S1x32.size a ≤ S15360x128.size a)
theorem k0_off313_inb : ∀ (i : grid0.Coords) (v6624 : BitVec 32) (k0_hw106 : k0_chk106 i v6624), ∀ (k0_h2 : k0_cond2 i = 1#1), ∀ a, (k0_off313 v6624) a + S1x32.size a ≤ S15360x128.size a := fun i v6624 k0_hw106 k0_h2 => k0_hw106 k0_h2

def k0_off314 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2238 : BitVec 32 := 32#32
  let v6621 : BitVec 32 := Scalar.muli arg13 c32_i32_2238
  let c7_i32 : BitVec 32 := 7#32
  let v6622 : BitVec 32 := Scalar.addi v6621 c7_i32
  let v6627 : Index := Scalar.indexCast v6622
  let c32_2241 : Index := 32#32
  ![v6627.toNat, 32]
def k0_off315 (v5121 : BitVec 32) (k0_t4 : Fin (k0_t4_loop v5121).trips) : Fin 2 → Nat :=
  let c1_2243 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2242 : BitVec 32 := 32#32
  let v6631 : BitVec 32 := Scalar.muli arg13 c32_i32_2242
  let c8_i32 : BitVec 32 := 8#32
  let v6632 : BitVec 32 := Scalar.addi v6631 c8_i32
  let v6633 : Index := Scalar.indexCast v6632
  ![1, v6633.toNat]
def k0_off316 (v6634 : BitVec 32) : Fin 2 → Nat :=
  let v6635 : Index := Scalar.indexCast v6634
  let c32_2244 : Index := 32#32
  ![v6635.toNat, 32]

def k0_chk107 (i : grid0.Coords) (v6634 : BitVec 32) : Prop :=
  (∀ (k0_h2 : k0_cond2 i = 1#1), ∀ a, (k0_off316 v6634) a + S1x32.size a ≤ S15360x128.size a)
theorem k0_off316_inb : ∀ (i : grid0.Coords) (v6634 : BitVec 32) (k0_hw107 : k0_chk107 i v6634), ∀ (k0_h2 : k0_cond2 i = 1#1), ∀ a, (k0_off316 v6634) a + S1x32.size a ≤ S15360x128.size a := fun i v6634 k0_hw107 k0_h2 => k0_hw107 k0_h2

def k0_off317 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2242 : BitVec 32 := 32#32
  let v6631 : BitVec 32 := Scalar.muli arg13 c32_i32_2242
  let c8_i32 : BitVec 32 := 8#32
  let v6632 : BitVec 32 := Scalar.addi v6631 c8_i32
  let v6637 : Index := Scalar.indexCast v6632
  let c32_2245 : Index := 32#32
  ![v6637.toNat, 32]
def k0_off318 (v5121 : BitVec 32) (k0_t4 : Fin (k0_t4_loop v5121).trips) : Fin 2 → Nat :=
  let c1_2247 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2246 : BitVec 32 := 32#32
  let v6641 : BitVec 32 := Scalar.muli arg13 c32_i32_2246
  let c9_i32 : BitVec 32 := 9#32
  let v6642 : BitVec 32 := Scalar.addi v6641 c9_i32
  let v6643 : Index := Scalar.indexCast v6642
  ![1, v6643.toNat]
def k0_off319 (v6644 : BitVec 32) : Fin 2 → Nat :=
  let v6645 : Index := Scalar.indexCast v6644
  let c32_2248 : Index := 32#32
  ![v6645.toNat, 32]

def k0_chk108 (i : grid0.Coords) (v6644 : BitVec 32) : Prop :=
  (∀ (k0_h2 : k0_cond2 i = 1#1), ∀ a, (k0_off319 v6644) a + S1x32.size a ≤ S15360x128.size a)
theorem k0_off319_inb : ∀ (i : grid0.Coords) (v6644 : BitVec 32) (k0_hw108 : k0_chk108 i v6644), ∀ (k0_h2 : k0_cond2 i = 1#1), ∀ a, (k0_off319 v6644) a + S1x32.size a ≤ S15360x128.size a := fun i v6644 k0_hw108 k0_h2 => k0_hw108 k0_h2

def k0_off320 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2246 : BitVec 32 := 32#32
  let v6641 : BitVec 32 := Scalar.muli arg13 c32_i32_2246
  let c9_i32 : BitVec 32 := 9#32
  let v6642 : BitVec 32 := Scalar.addi v6641 c9_i32
  let v6647 : Index := Scalar.indexCast v6642
  let c32_2249 : Index := 32#32
  ![v6647.toNat, 32]
def k0_off321 (v5121 : BitVec 32) (k0_t4 : Fin (k0_t4_loop v5121).trips) : Fin 2 → Nat :=
  let c1_2251 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2250 : BitVec 32 := 32#32
  let v6651 : BitVec 32 := Scalar.muli arg13 c32_i32_2250
  let c10_i32 : BitVec 32 := 10#32
  let v6652 : BitVec 32 := Scalar.addi v6651 c10_i32
  let v6653 : Index := Scalar.indexCast v6652
  ![1, v6653.toNat]
def k0_off322 (v6654 : BitVec 32) : Fin 2 → Nat :=
  let v6655 : Index := Scalar.indexCast v6654
  let c32_2252 : Index := 32#32
  ![v6655.toNat, 32]

def k0_chk109 (i : grid0.Coords) (v6654 : BitVec 32) : Prop :=
  (∀ (k0_h2 : k0_cond2 i = 1#1), ∀ a, (k0_off322 v6654) a + S1x32.size a ≤ S15360x128.size a)
theorem k0_off322_inb : ∀ (i : grid0.Coords) (v6654 : BitVec 32) (k0_hw109 : k0_chk109 i v6654), ∀ (k0_h2 : k0_cond2 i = 1#1), ∀ a, (k0_off322 v6654) a + S1x32.size a ≤ S15360x128.size a := fun i v6654 k0_hw109 k0_h2 => k0_hw109 k0_h2

def k0_off323 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2250 : BitVec 32 := 32#32
  let v6651 : BitVec 32 := Scalar.muli arg13 c32_i32_2250
  let c10_i32 : BitVec 32 := 10#32
  let v6652 : BitVec 32 := Scalar.addi v6651 c10_i32
  let v6657 : Index := Scalar.indexCast v6652
  let c32_2253 : Index := 32#32
  ![v6657.toNat, 32]
def k0_off324 (v5121 : BitVec 32) (k0_t4 : Fin (k0_t4_loop v5121).trips) : Fin 2 → Nat :=
  let c1_2255 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2254 : BitVec 32 := 32#32
  let v6661 : BitVec 32 := Scalar.muli arg13 c32_i32_2254
  let c11_i32 : BitVec 32 := 11#32
  let v6662 : BitVec 32 := Scalar.addi v6661 c11_i32
  let v6663 : Index := Scalar.indexCast v6662
  ![1, v6663.toNat]
def k0_off325 (v6664 : BitVec 32) : Fin 2 → Nat :=
  let v6665 : Index := Scalar.indexCast v6664
  let c32_2256 : Index := 32#32
  ![v6665.toNat, 32]

def k0_chk110 (i : grid0.Coords) (v6664 : BitVec 32) : Prop :=
  (∀ (k0_h2 : k0_cond2 i = 1#1), ∀ a, (k0_off325 v6664) a + S1x32.size a ≤ S15360x128.size a)
theorem k0_off325_inb : ∀ (i : grid0.Coords) (v6664 : BitVec 32) (k0_hw110 : k0_chk110 i v6664), ∀ (k0_h2 : k0_cond2 i = 1#1), ∀ a, (k0_off325 v6664) a + S1x32.size a ≤ S15360x128.size a := fun i v6664 k0_hw110 k0_h2 => k0_hw110 k0_h2

def k0_off326 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2254 : BitVec 32 := 32#32
  let v6661 : BitVec 32 := Scalar.muli arg13 c32_i32_2254
  let c11_i32 : BitVec 32 := 11#32
  let v6662 : BitVec 32 := Scalar.addi v6661 c11_i32
  let v6667 : Index := Scalar.indexCast v6662
  let c32_2257 : Index := 32#32
  ![v6667.toNat, 32]
def k0_off327 (v5121 : BitVec 32) (k0_t4 : Fin (k0_t4_loop v5121).trips) : Fin 2 → Nat :=
  let c1_2259 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2258 : BitVec 32 := 32#32
  let v6671 : BitVec 32 := Scalar.muli arg13 c32_i32_2258
  let c12_i32 : BitVec 32 := 12#32
  let v6672 : BitVec 32 := Scalar.addi v6671 c12_i32
  let v6673 : Index := Scalar.indexCast v6672
  ![1, v6673.toNat]
def k0_off328 (v6674 : BitVec 32) : Fin 2 → Nat :=
  let v6675 : Index := Scalar.indexCast v6674
  let c32_2260 : Index := 32#32
  ![v6675.toNat, 32]

def k0_chk111 (i : grid0.Coords) (v6674 : BitVec 32) : Prop :=
  (∀ (k0_h2 : k0_cond2 i = 1#1), ∀ a, (k0_off328 v6674) a + S1x32.size a ≤ S15360x128.size a)
theorem k0_off328_inb : ∀ (i : grid0.Coords) (v6674 : BitVec 32) (k0_hw111 : k0_chk111 i v6674), ∀ (k0_h2 : k0_cond2 i = 1#1), ∀ a, (k0_off328 v6674) a + S1x32.size a ≤ S15360x128.size a := fun i v6674 k0_hw111 k0_h2 => k0_hw111 k0_h2

def k0_off329 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2258 : BitVec 32 := 32#32
  let v6671 : BitVec 32 := Scalar.muli arg13 c32_i32_2258
  let c12_i32 : BitVec 32 := 12#32
  let v6672 : BitVec 32 := Scalar.addi v6671 c12_i32
  let v6677 : Index := Scalar.indexCast v6672
  let c32_2261 : Index := 32#32
  ![v6677.toNat, 32]
def k0_off330 (v5121 : BitVec 32) (k0_t4 : Fin (k0_t4_loop v5121).trips) : Fin 2 → Nat :=
  let c1_2263 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2262 : BitVec 32 := 32#32
  let v6681 : BitVec 32 := Scalar.muli arg13 c32_i32_2262
  let c13_i32 : BitVec 32 := 13#32
  let v6682 : BitVec 32 := Scalar.addi v6681 c13_i32
  let v6683 : Index := Scalar.indexCast v6682
  ![1, v6683.toNat]
def k0_off331 (v6684 : BitVec 32) : Fin 2 → Nat :=
  let v6685 : Index := Scalar.indexCast v6684
  let c32_2264 : Index := 32#32
  ![v6685.toNat, 32]

def k0_chk112 (i : grid0.Coords) (v6684 : BitVec 32) : Prop :=
  (∀ (k0_h2 : k0_cond2 i = 1#1), ∀ a, (k0_off331 v6684) a + S1x32.size a ≤ S15360x128.size a)
theorem k0_off331_inb : ∀ (i : grid0.Coords) (v6684 : BitVec 32) (k0_hw112 : k0_chk112 i v6684), ∀ (k0_h2 : k0_cond2 i = 1#1), ∀ a, (k0_off331 v6684) a + S1x32.size a ≤ S15360x128.size a := fun i v6684 k0_hw112 k0_h2 => k0_hw112 k0_h2

def k0_off332 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2262 : BitVec 32 := 32#32
  let v6681 : BitVec 32 := Scalar.muli arg13 c32_i32_2262
  let c13_i32 : BitVec 32 := 13#32
  let v6682 : BitVec 32 := Scalar.addi v6681 c13_i32
  let v6687 : Index := Scalar.indexCast v6682
  let c32_2265 : Index := 32#32
  ![v6687.toNat, 32]
def k0_off333 (v5121 : BitVec 32) (k0_t4 : Fin (k0_t4_loop v5121).trips) : Fin 2 → Nat :=
  let c1_2267 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2266 : BitVec 32 := 32#32
  let v6691 : BitVec 32 := Scalar.muli arg13 c32_i32_2266
  let c14_i32 : BitVec 32 := 14#32
  let v6692 : BitVec 32 := Scalar.addi v6691 c14_i32
  let v6693 : Index := Scalar.indexCast v6692
  ![1, v6693.toNat]
def k0_off334 (v6694 : BitVec 32) : Fin 2 → Nat :=
  let v6695 : Index := Scalar.indexCast v6694
  let c32_2268 : Index := 32#32
  ![v6695.toNat, 32]

def k0_chk113 (i : grid0.Coords) (v6694 : BitVec 32) : Prop :=
  (∀ (k0_h2 : k0_cond2 i = 1#1), ∀ a, (k0_off334 v6694) a + S1x32.size a ≤ S15360x128.size a)
theorem k0_off334_inb : ∀ (i : grid0.Coords) (v6694 : BitVec 32) (k0_hw113 : k0_chk113 i v6694), ∀ (k0_h2 : k0_cond2 i = 1#1), ∀ a, (k0_off334 v6694) a + S1x32.size a ≤ S15360x128.size a := fun i v6694 k0_hw113 k0_h2 => k0_hw113 k0_h2

def k0_off335 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2266 : BitVec 32 := 32#32
  let v6691 : BitVec 32 := Scalar.muli arg13 c32_i32_2266
  let c14_i32 : BitVec 32 := 14#32
  let v6692 : BitVec 32 := Scalar.addi v6691 c14_i32
  let v6697 : Index := Scalar.indexCast v6692
  let c32_2269 : Index := 32#32
  ![v6697.toNat, 32]
def k0_off336 (v5121 : BitVec 32) (k0_t4 : Fin (k0_t4_loop v5121).trips) : Fin 2 → Nat :=
  let c1_2271 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2270 : BitVec 32 := 32#32
  let v6701 : BitVec 32 := Scalar.muli arg13 c32_i32_2270
  let c15_i32 : BitVec 32 := 15#32
  let v6702 : BitVec 32 := Scalar.addi v6701 c15_i32
  let v6703 : Index := Scalar.indexCast v6702
  ![1, v6703.toNat]
def k0_off337 (v6704 : BitVec 32) : Fin 2 → Nat :=
  let v6705 : Index := Scalar.indexCast v6704
  let c32_2272 : Index := 32#32
  ![v6705.toNat, 32]

def k0_chk114 (i : grid0.Coords) (v6704 : BitVec 32) : Prop :=
  (∀ (k0_h2 : k0_cond2 i = 1#1), ∀ a, (k0_off337 v6704) a + S1x32.size a ≤ S15360x128.size a)
theorem k0_off337_inb : ∀ (i : grid0.Coords) (v6704 : BitVec 32) (k0_hw114 : k0_chk114 i v6704), ∀ (k0_h2 : k0_cond2 i = 1#1), ∀ a, (k0_off337 v6704) a + S1x32.size a ≤ S15360x128.size a := fun i v6704 k0_hw114 k0_h2 => k0_hw114 k0_h2

def k0_off338 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2270 : BitVec 32 := 32#32
  let v6701 : BitVec 32 := Scalar.muli arg13 c32_i32_2270
  let c15_i32 : BitVec 32 := 15#32
  let v6702 : BitVec 32 := Scalar.addi v6701 c15_i32
  let v6707 : Index := Scalar.indexCast v6702
  let c32_2273 : Index := 32#32
  ![v6707.toNat, 32]
def k0_off339 (v5121 : BitVec 32) (k0_t4 : Fin (k0_t4_loop v5121).trips) : Fin 2 → Nat :=
  let c1_2275 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2274 : BitVec 32 := 32#32
  let v6711 : BitVec 32 := Scalar.muli arg13 c32_i32_2274
  let c16_i32 : BitVec 32 := 16#32
  let v6712 : BitVec 32 := Scalar.addi v6711 c16_i32
  let v6713 : Index := Scalar.indexCast v6712
  ![1, v6713.toNat]
def k0_off340 (v6714 : BitVec 32) : Fin 2 → Nat :=
  let v6715 : Index := Scalar.indexCast v6714
  let c32_2276 : Index := 32#32
  ![v6715.toNat, 32]

def k0_chk115 (i : grid0.Coords) (v6714 : BitVec 32) : Prop :=
  (∀ (k0_h2 : k0_cond2 i = 1#1), ∀ a, (k0_off340 v6714) a + S1x32.size a ≤ S15360x128.size a)
theorem k0_off340_inb : ∀ (i : grid0.Coords) (v6714 : BitVec 32) (k0_hw115 : k0_chk115 i v6714), ∀ (k0_h2 : k0_cond2 i = 1#1), ∀ a, (k0_off340 v6714) a + S1x32.size a ≤ S15360x128.size a := fun i v6714 k0_hw115 k0_h2 => k0_hw115 k0_h2

def k0_off341 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2274 : BitVec 32 := 32#32
  let v6711 : BitVec 32 := Scalar.muli arg13 c32_i32_2274
  let c16_i32 : BitVec 32 := 16#32
  let v6712 : BitVec 32 := Scalar.addi v6711 c16_i32
  let v6717 : Index := Scalar.indexCast v6712
  let c32_2277 : Index := 32#32
  ![v6717.toNat, 32]
def k0_off342 (v5121 : BitVec 32) (k0_t4 : Fin (k0_t4_loop v5121).trips) : Fin 2 → Nat :=
  let c1_2279 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2278 : BitVec 32 := 32#32
  let v6721 : BitVec 32 := Scalar.muli arg13 c32_i32_2278
  let c17_i32 : BitVec 32 := 17#32
  let v6722 : BitVec 32 := Scalar.addi v6721 c17_i32
  let v6723 : Index := Scalar.indexCast v6722
  ![1, v6723.toNat]
def k0_off343 (v6724 : BitVec 32) : Fin 2 → Nat :=
  let v6725 : Index := Scalar.indexCast v6724
  let c32_2280 : Index := 32#32
  ![v6725.toNat, 32]

def k0_chk116 (i : grid0.Coords) (v6724 : BitVec 32) : Prop :=
  (∀ (k0_h2 : k0_cond2 i = 1#1), ∀ a, (k0_off343 v6724) a + S1x32.size a ≤ S15360x128.size a)
theorem k0_off343_inb : ∀ (i : grid0.Coords) (v6724 : BitVec 32) (k0_hw116 : k0_chk116 i v6724), ∀ (k0_h2 : k0_cond2 i = 1#1), ∀ a, (k0_off343 v6724) a + S1x32.size a ≤ S15360x128.size a := fun i v6724 k0_hw116 k0_h2 => k0_hw116 k0_h2

def k0_off344 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2278 : BitVec 32 := 32#32
  let v6721 : BitVec 32 := Scalar.muli arg13 c32_i32_2278
  let c17_i32 : BitVec 32 := 17#32
  let v6722 : BitVec 32 := Scalar.addi v6721 c17_i32
  let v6727 : Index := Scalar.indexCast v6722
  let c32_2281 : Index := 32#32
  ![v6727.toNat, 32]
def k0_off345 (v5121 : BitVec 32) (k0_t4 : Fin (k0_t4_loop v5121).trips) : Fin 2 → Nat :=
  let c1_2283 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2282 : BitVec 32 := 32#32
  let v6731 : BitVec 32 := Scalar.muli arg13 c32_i32_2282
  let c18_i32 : BitVec 32 := 18#32
  let v6732 : BitVec 32 := Scalar.addi v6731 c18_i32
  let v6733 : Index := Scalar.indexCast v6732
  ![1, v6733.toNat]
def k0_off346 (v6734 : BitVec 32) : Fin 2 → Nat :=
  let v6735 : Index := Scalar.indexCast v6734
  let c32_2284 : Index := 32#32
  ![v6735.toNat, 32]

def k0_chk117 (i : grid0.Coords) (v6734 : BitVec 32) : Prop :=
  (∀ (k0_h2 : k0_cond2 i = 1#1), ∀ a, (k0_off346 v6734) a + S1x32.size a ≤ S15360x128.size a)
theorem k0_off346_inb : ∀ (i : grid0.Coords) (v6734 : BitVec 32) (k0_hw117 : k0_chk117 i v6734), ∀ (k0_h2 : k0_cond2 i = 1#1), ∀ a, (k0_off346 v6734) a + S1x32.size a ≤ S15360x128.size a := fun i v6734 k0_hw117 k0_h2 => k0_hw117 k0_h2

def k0_off347 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2282 : BitVec 32 := 32#32
  let v6731 : BitVec 32 := Scalar.muli arg13 c32_i32_2282
  let c18_i32 : BitVec 32 := 18#32
  let v6732 : BitVec 32 := Scalar.addi v6731 c18_i32
  let v6737 : Index := Scalar.indexCast v6732
  let c32_2285 : Index := 32#32
  ![v6737.toNat, 32]
def k0_off348 (v5121 : BitVec 32) (k0_t4 : Fin (k0_t4_loop v5121).trips) : Fin 2 → Nat :=
  let c1_2287 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2286 : BitVec 32 := 32#32
  let v6741 : BitVec 32 := Scalar.muli arg13 c32_i32_2286
  let c19_i32 : BitVec 32 := 19#32
  let v6742 : BitVec 32 := Scalar.addi v6741 c19_i32
  let v6743 : Index := Scalar.indexCast v6742
  ![1, v6743.toNat]
def k0_off349 (v6744 : BitVec 32) : Fin 2 → Nat :=
  let v6745 : Index := Scalar.indexCast v6744
  let c32_2288 : Index := 32#32
  ![v6745.toNat, 32]

def k0_chk118 (i : grid0.Coords) (v6744 : BitVec 32) : Prop :=
  (∀ (k0_h2 : k0_cond2 i = 1#1), ∀ a, (k0_off349 v6744) a + S1x32.size a ≤ S15360x128.size a)
theorem k0_off349_inb : ∀ (i : grid0.Coords) (v6744 : BitVec 32) (k0_hw118 : k0_chk118 i v6744), ∀ (k0_h2 : k0_cond2 i = 1#1), ∀ a, (k0_off349 v6744) a + S1x32.size a ≤ S15360x128.size a := fun i v6744 k0_hw118 k0_h2 => k0_hw118 k0_h2

def k0_off350 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2286 : BitVec 32 := 32#32
  let v6741 : BitVec 32 := Scalar.muli arg13 c32_i32_2286
  let c19_i32 : BitVec 32 := 19#32
  let v6742 : BitVec 32 := Scalar.addi v6741 c19_i32
  let v6747 : Index := Scalar.indexCast v6742
  let c32_2289 : Index := 32#32
  ![v6747.toNat, 32]
def k0_off351 (v5121 : BitVec 32) (k0_t4 : Fin (k0_t4_loop v5121).trips) : Fin 2 → Nat :=
  let c1_2291 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2290 : BitVec 32 := 32#32
  let v6751 : BitVec 32 := Scalar.muli arg13 c32_i32_2290
  let c20_i32 : BitVec 32 := 20#32
  let v6752 : BitVec 32 := Scalar.addi v6751 c20_i32
  let v6753 : Index := Scalar.indexCast v6752
  ![1, v6753.toNat]
def k0_off352 (v6754 : BitVec 32) : Fin 2 → Nat :=
  let v6755 : Index := Scalar.indexCast v6754
  let c32_2292 : Index := 32#32
  ![v6755.toNat, 32]

def k0_chk119 (i : grid0.Coords) (v6754 : BitVec 32) : Prop :=
  (∀ (k0_h2 : k0_cond2 i = 1#1), ∀ a, (k0_off352 v6754) a + S1x32.size a ≤ S15360x128.size a)
theorem k0_off352_inb : ∀ (i : grid0.Coords) (v6754 : BitVec 32) (k0_hw119 : k0_chk119 i v6754), ∀ (k0_h2 : k0_cond2 i = 1#1), ∀ a, (k0_off352 v6754) a + S1x32.size a ≤ S15360x128.size a := fun i v6754 k0_hw119 k0_h2 => k0_hw119 k0_h2

def k0_off353 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2290 : BitVec 32 := 32#32
  let v6751 : BitVec 32 := Scalar.muli arg13 c32_i32_2290
  let c20_i32 : BitVec 32 := 20#32
  let v6752 : BitVec 32 := Scalar.addi v6751 c20_i32
  let v6757 : Index := Scalar.indexCast v6752
  let c32_2293 : Index := 32#32
  ![v6757.toNat, 32]
def k0_off354 (v5121 : BitVec 32) (k0_t4 : Fin (k0_t4_loop v5121).trips) : Fin 2 → Nat :=
  let c1_2295 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2294 : BitVec 32 := 32#32
  let v6761 : BitVec 32 := Scalar.muli arg13 c32_i32_2294
  let c21_i32 : BitVec 32 := 21#32
  let v6762 : BitVec 32 := Scalar.addi v6761 c21_i32
  let v6763 : Index := Scalar.indexCast v6762
  ![1, v6763.toNat]
def k0_off355 (v6764 : BitVec 32) : Fin 2 → Nat :=
  let v6765 : Index := Scalar.indexCast v6764
  let c32_2296 : Index := 32#32
  ![v6765.toNat, 32]

def k0_chk120 (i : grid0.Coords) (v6764 : BitVec 32) : Prop :=
  (∀ (k0_h2 : k0_cond2 i = 1#1), ∀ a, (k0_off355 v6764) a + S1x32.size a ≤ S15360x128.size a)
theorem k0_off355_inb : ∀ (i : grid0.Coords) (v6764 : BitVec 32) (k0_hw120 : k0_chk120 i v6764), ∀ (k0_h2 : k0_cond2 i = 1#1), ∀ a, (k0_off355 v6764) a + S1x32.size a ≤ S15360x128.size a := fun i v6764 k0_hw120 k0_h2 => k0_hw120 k0_h2

def k0_off356 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2294 : BitVec 32 := 32#32
  let v6761 : BitVec 32 := Scalar.muli arg13 c32_i32_2294
  let c21_i32 : BitVec 32 := 21#32
  let v6762 : BitVec 32 := Scalar.addi v6761 c21_i32
  let v6767 : Index := Scalar.indexCast v6762
  let c32_2297 : Index := 32#32
  ![v6767.toNat, 32]
def k0_off357 (v5121 : BitVec 32) (k0_t4 : Fin (k0_t4_loop v5121).trips) : Fin 2 → Nat :=
  let c1_2299 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2298 : BitVec 32 := 32#32
  let v6771 : BitVec 32 := Scalar.muli arg13 c32_i32_2298
  let c22_i32 : BitVec 32 := 22#32
  let v6772 : BitVec 32 := Scalar.addi v6771 c22_i32
  let v6773 : Index := Scalar.indexCast v6772
  ![1, v6773.toNat]
def k0_off358 (v6774 : BitVec 32) : Fin 2 → Nat :=
  let v6775 : Index := Scalar.indexCast v6774
  let c32_2300 : Index := 32#32
  ![v6775.toNat, 32]

def k0_chk121 (i : grid0.Coords) (v6774 : BitVec 32) : Prop :=
  (∀ (k0_h2 : k0_cond2 i = 1#1), ∀ a, (k0_off358 v6774) a + S1x32.size a ≤ S15360x128.size a)
theorem k0_off358_inb : ∀ (i : grid0.Coords) (v6774 : BitVec 32) (k0_hw121 : k0_chk121 i v6774), ∀ (k0_h2 : k0_cond2 i = 1#1), ∀ a, (k0_off358 v6774) a + S1x32.size a ≤ S15360x128.size a := fun i v6774 k0_hw121 k0_h2 => k0_hw121 k0_h2

def k0_off359 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2298 : BitVec 32 := 32#32
  let v6771 : BitVec 32 := Scalar.muli arg13 c32_i32_2298
  let c22_i32 : BitVec 32 := 22#32
  let v6772 : BitVec 32 := Scalar.addi v6771 c22_i32
  let v6777 : Index := Scalar.indexCast v6772
  let c32_2301 : Index := 32#32
  ![v6777.toNat, 32]
def k0_off360 (v5121 : BitVec 32) (k0_t4 : Fin (k0_t4_loop v5121).trips) : Fin 2 → Nat :=
  let c1_2303 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2302 : BitVec 32 := 32#32
  let v6781 : BitVec 32 := Scalar.muli arg13 c32_i32_2302
  let c23_i32 : BitVec 32 := 23#32
  let v6782 : BitVec 32 := Scalar.addi v6781 c23_i32
  let v6783 : Index := Scalar.indexCast v6782
  ![1, v6783.toNat]
def k0_off361 (v6784 : BitVec 32) : Fin 2 → Nat :=
  let v6785 : Index := Scalar.indexCast v6784
  let c32_2304 : Index := 32#32
  ![v6785.toNat, 32]

def k0_chk122 (i : grid0.Coords) (v6784 : BitVec 32) : Prop :=
  (∀ (k0_h2 : k0_cond2 i = 1#1), ∀ a, (k0_off361 v6784) a + S1x32.size a ≤ S15360x128.size a)
theorem k0_off361_inb : ∀ (i : grid0.Coords) (v6784 : BitVec 32) (k0_hw122 : k0_chk122 i v6784), ∀ (k0_h2 : k0_cond2 i = 1#1), ∀ a, (k0_off361 v6784) a + S1x32.size a ≤ S15360x128.size a := fun i v6784 k0_hw122 k0_h2 => k0_hw122 k0_h2

def k0_off362 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2302 : BitVec 32 := 32#32
  let v6781 : BitVec 32 := Scalar.muli arg13 c32_i32_2302
  let c23_i32 : BitVec 32 := 23#32
  let v6782 : BitVec 32 := Scalar.addi v6781 c23_i32
  let v6787 : Index := Scalar.indexCast v6782
  let c32_2305 : Index := 32#32
  ![v6787.toNat, 32]
def k0_off363 (v5121 : BitVec 32) (k0_t4 : Fin (k0_t4_loop v5121).trips) : Fin 2 → Nat :=
  let c1_2307 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2306 : BitVec 32 := 32#32
  let v6791 : BitVec 32 := Scalar.muli arg13 c32_i32_2306
  let c24_i32 : BitVec 32 := 24#32
  let v6792 : BitVec 32 := Scalar.addi v6791 c24_i32
  let v6793 : Index := Scalar.indexCast v6792
  ![1, v6793.toNat]
def k0_off364 (v6794 : BitVec 32) : Fin 2 → Nat :=
  let v6795 : Index := Scalar.indexCast v6794
  let c32_2308 : Index := 32#32
  ![v6795.toNat, 32]

def k0_chk123 (i : grid0.Coords) (v6794 : BitVec 32) : Prop :=
  (∀ (k0_h2 : k0_cond2 i = 1#1), ∀ a, (k0_off364 v6794) a + S1x32.size a ≤ S15360x128.size a)
theorem k0_off364_inb : ∀ (i : grid0.Coords) (v6794 : BitVec 32) (k0_hw123 : k0_chk123 i v6794), ∀ (k0_h2 : k0_cond2 i = 1#1), ∀ a, (k0_off364 v6794) a + S1x32.size a ≤ S15360x128.size a := fun i v6794 k0_hw123 k0_h2 => k0_hw123 k0_h2

def k0_off365 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2306 : BitVec 32 := 32#32
  let v6791 : BitVec 32 := Scalar.muli arg13 c32_i32_2306
  let c24_i32 : BitVec 32 := 24#32
  let v6792 : BitVec 32 := Scalar.addi v6791 c24_i32
  let v6797 : Index := Scalar.indexCast v6792
  let c32_2309 : Index := 32#32
  ![v6797.toNat, 32]
def k0_off366 (v5121 : BitVec 32) (k0_t4 : Fin (k0_t4_loop v5121).trips) : Fin 2 → Nat :=
  let c1_2311 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2310 : BitVec 32 := 32#32
  let v6801 : BitVec 32 := Scalar.muli arg13 c32_i32_2310
  let c25_i32 : BitVec 32 := 25#32
  let v6802 : BitVec 32 := Scalar.addi v6801 c25_i32
  let v6803 : Index := Scalar.indexCast v6802
  ![1, v6803.toNat]
def k0_off367 (v6804 : BitVec 32) : Fin 2 → Nat :=
  let v6805 : Index := Scalar.indexCast v6804
  let c32_2312 : Index := 32#32
  ![v6805.toNat, 32]

def k0_chk124 (i : grid0.Coords) (v6804 : BitVec 32) : Prop :=
  (∀ (k0_h2 : k0_cond2 i = 1#1), ∀ a, (k0_off367 v6804) a + S1x32.size a ≤ S15360x128.size a)
theorem k0_off367_inb : ∀ (i : grid0.Coords) (v6804 : BitVec 32) (k0_hw124 : k0_chk124 i v6804), ∀ (k0_h2 : k0_cond2 i = 1#1), ∀ a, (k0_off367 v6804) a + S1x32.size a ≤ S15360x128.size a := fun i v6804 k0_hw124 k0_h2 => k0_hw124 k0_h2

def k0_off368 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2310 : BitVec 32 := 32#32
  let v6801 : BitVec 32 := Scalar.muli arg13 c32_i32_2310
  let c25_i32 : BitVec 32 := 25#32
  let v6802 : BitVec 32 := Scalar.addi v6801 c25_i32
  let v6807 : Index := Scalar.indexCast v6802
  let c32_2313 : Index := 32#32
  ![v6807.toNat, 32]
def k0_off369 (v5121 : BitVec 32) (k0_t4 : Fin (k0_t4_loop v5121).trips) : Fin 2 → Nat :=
  let c1_2315 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2314 : BitVec 32 := 32#32
  let v6811 : BitVec 32 := Scalar.muli arg13 c32_i32_2314
  let c26_i32 : BitVec 32 := 26#32
  let v6812 : BitVec 32 := Scalar.addi v6811 c26_i32
  let v6813 : Index := Scalar.indexCast v6812
  ![1, v6813.toNat]
def k0_off370 (v6814 : BitVec 32) : Fin 2 → Nat :=
  let v6815 : Index := Scalar.indexCast v6814
  let c32_2316 : Index := 32#32
  ![v6815.toNat, 32]

def k0_chk125 (i : grid0.Coords) (v6814 : BitVec 32) : Prop :=
  (∀ (k0_h2 : k0_cond2 i = 1#1), ∀ a, (k0_off370 v6814) a + S1x32.size a ≤ S15360x128.size a)
theorem k0_off370_inb : ∀ (i : grid0.Coords) (v6814 : BitVec 32) (k0_hw125 : k0_chk125 i v6814), ∀ (k0_h2 : k0_cond2 i = 1#1), ∀ a, (k0_off370 v6814) a + S1x32.size a ≤ S15360x128.size a := fun i v6814 k0_hw125 k0_h2 => k0_hw125 k0_h2

def k0_off371 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2314 : BitVec 32 := 32#32
  let v6811 : BitVec 32 := Scalar.muli arg13 c32_i32_2314
  let c26_i32 : BitVec 32 := 26#32
  let v6812 : BitVec 32 := Scalar.addi v6811 c26_i32
  let v6817 : Index := Scalar.indexCast v6812
  let c32_2317 : Index := 32#32
  ![v6817.toNat, 32]
def k0_off372 (v5121 : BitVec 32) (k0_t4 : Fin (k0_t4_loop v5121).trips) : Fin 2 → Nat :=
  let c1_2319 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2318 : BitVec 32 := 32#32
  let v6821 : BitVec 32 := Scalar.muli arg13 c32_i32_2318
  let c27_i32 : BitVec 32 := 27#32
  let v6822 : BitVec 32 := Scalar.addi v6821 c27_i32
  let v6823 : Index := Scalar.indexCast v6822
  ![1, v6823.toNat]
def k0_off373 (v6824 : BitVec 32) : Fin 2 → Nat :=
  let v6825 : Index := Scalar.indexCast v6824
  let c32_2320 : Index := 32#32
  ![v6825.toNat, 32]

def k0_chk126 (i : grid0.Coords) (v6824 : BitVec 32) : Prop :=
  (∀ (k0_h2 : k0_cond2 i = 1#1), ∀ a, (k0_off373 v6824) a + S1x32.size a ≤ S15360x128.size a)
theorem k0_off373_inb : ∀ (i : grid0.Coords) (v6824 : BitVec 32) (k0_hw126 : k0_chk126 i v6824), ∀ (k0_h2 : k0_cond2 i = 1#1), ∀ a, (k0_off373 v6824) a + S1x32.size a ≤ S15360x128.size a := fun i v6824 k0_hw126 k0_h2 => k0_hw126 k0_h2

def k0_off374 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2318 : BitVec 32 := 32#32
  let v6821 : BitVec 32 := Scalar.muli arg13 c32_i32_2318
  let c27_i32 : BitVec 32 := 27#32
  let v6822 : BitVec 32 := Scalar.addi v6821 c27_i32
  let v6827 : Index := Scalar.indexCast v6822
  let c32_2321 : Index := 32#32
  ![v6827.toNat, 32]
def k0_off375 (v5121 : BitVec 32) (k0_t4 : Fin (k0_t4_loop v5121).trips) : Fin 2 → Nat :=
  let c1_2323 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2322 : BitVec 32 := 32#32
  let v6831 : BitVec 32 := Scalar.muli arg13 c32_i32_2322
  let c28_i32 : BitVec 32 := 28#32
  let v6832 : BitVec 32 := Scalar.addi v6831 c28_i32
  let v6833 : Index := Scalar.indexCast v6832
  ![1, v6833.toNat]
def k0_off376 (v6834 : BitVec 32) : Fin 2 → Nat :=
  let v6835 : Index := Scalar.indexCast v6834
  let c32_2324 : Index := 32#32
  ![v6835.toNat, 32]

def k0_chk127 (i : grid0.Coords) (v6834 : BitVec 32) : Prop :=
  (∀ (k0_h2 : k0_cond2 i = 1#1), ∀ a, (k0_off376 v6834) a + S1x32.size a ≤ S15360x128.size a)
theorem k0_off376_inb : ∀ (i : grid0.Coords) (v6834 : BitVec 32) (k0_hw127 : k0_chk127 i v6834), ∀ (k0_h2 : k0_cond2 i = 1#1), ∀ a, (k0_off376 v6834) a + S1x32.size a ≤ S15360x128.size a := fun i v6834 k0_hw127 k0_h2 => k0_hw127 k0_h2

def k0_off377 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2322 : BitVec 32 := 32#32
  let v6831 : BitVec 32 := Scalar.muli arg13 c32_i32_2322
  let c28_i32 : BitVec 32 := 28#32
  let v6832 : BitVec 32 := Scalar.addi v6831 c28_i32
  let v6837 : Index := Scalar.indexCast v6832
  let c32_2325 : Index := 32#32
  ![v6837.toNat, 32]
def k0_off378 (v5121 : BitVec 32) (k0_t4 : Fin (k0_t4_loop v5121).trips) : Fin 2 → Nat :=
  let c1_2328 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6843 : Index := Scalar.indexCast v6842
  ![1, v6843.toNat]
def k0_off379 (v6844 : BitVec 32) : Fin 2 → Nat :=
  let v6845 : Index := Scalar.indexCast v6844
  let c32_2329 : Index := 32#32
  ![v6845.toNat, 32]

def k0_chk128 (i : grid0.Coords) (v6844 : BitVec 32) : Prop :=
  (∀ (k0_h2 : k0_cond2 i = 1#1), ∀ a, (k0_off379 v6844) a + S1x32.size a ≤ S15360x128.size a)
theorem k0_off379_inb : ∀ (i : grid0.Coords) (v6844 : BitVec 32) (k0_hw128 : k0_chk128 i v6844), ∀ (k0_h2 : k0_cond2 i = 1#1), ∀ a, (k0_off379 v6844) a + S1x32.size a ≤ S15360x128.size a := fun i v6844 k0_hw128 k0_h2 => k0_hw128 k0_h2

def k0_off380 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6847 : Index := Scalar.indexCast v6842
  let c32_2330 : Index := 32#32
  ![v6847.toNat, 32]
def k0_off381 (v5121 : BitVec 32) (k0_t4 : Fin (k0_t4_loop v5121).trips) : Fin 2 → Nat :=
  let c1_2332 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2331 : BitVec 32 := 32#32
  let v6851 : BitVec 32 := Scalar.muli arg13 c32_i32_2331
  let c30_i32 : BitVec 32 := 30#32
  let v6852 : BitVec 32 := Scalar.addi v6851 c30_i32
  let v6853 : Index := Scalar.indexCast v6852
  ![1, v6853.toNat]
def k0_off382 (v6854 : BitVec 32) : Fin 2 → Nat :=
  let v6855 : Index := Scalar.indexCast v6854
  let c32_2333 : Index := 32#32
  ![v6855.toNat, 32]

def k0_chk129 (i : grid0.Coords) (v6854 : BitVec 32) : Prop :=
  (∀ (k0_h2 : k0_cond2 i = 1#1), ∀ a, (k0_off382 v6854) a + S1x32.size a ≤ S15360x128.size a)
theorem k0_off382_inb : ∀ (i : grid0.Coords) (v6854 : BitVec 32) (k0_hw129 : k0_chk129 i v6854), ∀ (k0_h2 : k0_cond2 i = 1#1), ∀ a, (k0_off382 v6854) a + S1x32.size a ≤ S15360x128.size a := fun i v6854 k0_hw129 k0_h2 => k0_hw129 k0_h2

def k0_off383 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2331 : BitVec 32 := 32#32
  let v6851 : BitVec 32 := Scalar.muli arg13 c32_i32_2331
  let c30_i32 : BitVec 32 := 30#32
  let v6852 : BitVec 32 := Scalar.addi v6851 c30_i32
  let v6857 : Index := Scalar.indexCast v6852
  let c32_2334 : Index := 32#32
  ![v6857.toNat, 32]
def k0_off384 (v5121 : BitVec 32) (k0_t4 : Fin (k0_t4_loop v5121).trips) : Fin 2 → Nat :=
  let c1_2336 : Index := 1#32
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2335 : BitVec 32 := 32#32
  let v6861 : BitVec 32 := Scalar.muli arg13 c32_i32_2335
  let c31_i32 : BitVec 32 := 31#32
  let v6862 : BitVec 32 := Scalar.addi v6861 c31_i32
  let v6863 : Index := Scalar.indexCast v6862
  ![1, v6863.toNat]
def k0_off385 (v6864 : BitVec 32) : Fin 2 → Nat :=
  let v6865 : Index := Scalar.indexCast v6864
  let c32_2337 : Index := 32#32
  ![v6865.toNat, 32]

def k0_chk130 (i : grid0.Coords) (v6864 : BitVec 32) : Prop :=
  (∀ (k0_h2 : k0_cond2 i = 1#1), ∀ a, (k0_off385 v6864) a + S1x32.size a ≤ S15360x128.size a)
theorem k0_off385_inb : ∀ (i : grid0.Coords) (v6864 : BitVec 32) (k0_hw130 : k0_chk130 i v6864), ∀ (k0_h2 : k0_cond2 i = 1#1), ∀ a, (k0_off385 v6864) a + S1x32.size a ≤ S15360x128.size a := fun i v6864 k0_hw130 k0_h2 => k0_hw130 k0_h2

def k0_off386 (v5121 : BitVec 32) (k0_t4 : Fin (k0_t4_loop v5121).trips) : Fin 2 → Nat :=
  let c0_i32_1552 : BitVec 32 := 0#32
  let c64_i32_1534 : BitVec 32 := 64#32
  let v5122 : BitVec 32 := Scalar.addi v5121 c64_i32_1534
  let c1_i32_1535 : BitVec 32 := 1#32
  let v5123 : BitVec 32 := Scalar.subi v5122 c1_i32_1535
  let c0_i32_1537 : BitVec 32 := 0#32
  let v5125 : BitVec 1 := Scalar.cmpi .sgt v5123 c0_i32_1537
  let v5126 : BitVec 32 := Scalar.extui v5125
  let c0_i32_1538 : BitVec 32 := 0#32
  let v5127 : BitVec 1 := Scalar.cmpi .slt v5123 c0_i32_1538
  let v5128 : BitVec 32 := Scalar.extui v5127
  let v5129 : BitVec 32 := Scalar.subi v5126 v5128
  let c64_i32_1536 : BitVec 32 := 64#32
  let c0_i32_1539 : BitVec 32 := 0#32
  let v5130 : BitVec 1 := Scalar.cmpi .sgt c64_i32_1536 c0_i32_1539
  let v5131 : BitVec 32 := Scalar.extui v5130
  let c0_i32_1540 : BitVec 32 := 0#32
  let v5132 : BitVec 1 := Scalar.cmpi .slt c64_i32_1536 c0_i32_1540
  let v5133 : BitVec 32 := Scalar.extui v5132
  let v5134 : BitVec 32 := Scalar.subi v5131 v5133
  let v5135 : BitVec 1 := Scalar.cmpi .ne v5129 v5134
  let v5136 : BitVec 32 := Scalar.remsi v5123 c64_i32_1536
  let c0_i32_1541 : BitVec 32 := 0#32
  let v5137 : BitVec 1 := Scalar.cmpi .ne v5136 c0_i32_1541
  let v5138 : BitVec 1 := Scalar.andi v5135 v5137
  let v5124 : BitVec 32 := Scalar.divsi v5123 c64_i32_1536
  let c1_i32_1542 : BitVec 32 := 1#32
  let v5139 : BitVec 32 := Scalar.subi v5124 c1_i32_1542
  let v5140 : BitVec 32 := Scalar.select v5138 v5139 v5124
  let c32_i32_1543 : BitVec 32 := 32#32
  let v5141 : BitVec 32 := Scalar.addi v5140 c32_i32_1543
  let c1_i32_1544 : BitVec 32 := 1#32
  let v5142 : BitVec 32 := Scalar.subi v5141 c1_i32_1544
  let c0_i32_1546 : BitVec 32 := 0#32
  let v5144 : BitVec 1 := Scalar.cmpi .sgt v5142 c0_i32_1546
  let v5145 : BitVec 32 := Scalar.extui v5144
  let c0_i32_1547 : BitVec 32 := 0#32
  let v5146 : BitVec 1 := Scalar.cmpi .slt v5142 c0_i32_1547
  let v5147 : BitVec 32 := Scalar.extui v5146
  let v5148 : BitVec 32 := Scalar.subi v5145 v5147
  let c32_i32_1545 : BitVec 32 := 32#32
  let c0_i32_1548 : BitVec 32 := 0#32
  let v5149 : BitVec 1 := Scalar.cmpi .sgt c32_i32_1545 c0_i32_1548
  let v5150 : BitVec 32 := Scalar.extui v5149
  let c0_i32_1549 : BitVec 32 := 0#32
  let v5151 : BitVec 1 := Scalar.cmpi .slt c32_i32_1545 c0_i32_1549
  let v5152 : BitVec 32 := Scalar.extui v5151
  let v5153 : BitVec 32 := Scalar.subi v5150 v5152
  let v5154 : BitVec 1 := Scalar.cmpi .ne v5148 v5153
  let v5155 : BitVec 32 := Scalar.remsi v5142 c32_i32_1545
  let c0_i32_1550 : BitVec 32 := 0#32
  let v5156 : BitVec 1 := Scalar.cmpi .ne v5155 c0_i32_1550
  let v5157 : BitVec 1 := Scalar.andi v5154 v5156
  let v5143 : BitVec 32 := Scalar.divsi v5142 c32_i32_1545
  let c1_i32_1551 : BitVec 32 := 1#32
  let v5158 : BitVec 32 := Scalar.subi v5143 c1_i32_1551
  let v5159 : BitVec 32 := Scalar.select v5157 v5158 v5143
  let v5160 : BitVec 32 := Scalar.subi v5159 c0_i32_1552
  let c1_i32_1554 : BitVec 32 := 1#32
  let v5162 : BitVec 32 := Scalar.divsi v5160 c1_i32_1554
  let v5163 : BitVec 32 := Scalar.muli v5162 c1_i32_1554
  let v5164 : BitVec 32 := Scalar.addi c0_i32_1552 v5163
  let c1_i32_1556 : BitVec 32 := 1#32
  let arg13 : BitVec 32 := Scf.iv v5164 c1_i32_1556 k0_t4
  let c32_i32_2335 : BitVec 32 := 32#32
  let v6861 : BitVec 32 := Scalar.muli arg13 c32_i32_2335
  let c31_i32 : BitVec 32 := 31#32
  let v6862 : BitVec 32 := Scalar.addi v6861 c31_i32
  let v6867 : Index := Scalar.indexCast v6862
  let c32_2338 : Index := 32#32
  ![v6867.toNat, 32]

def k0_chk66_0 (i : grid0.Coords) (v5121 : BitVec 32) : Prop :=
  (∀ (k0_h2 : k0_cond2 i = 1#1), (k0_t3_loop v5121).OK) ∧
  (∀ k0_t3 : Fin (k0_t3_loop v5121).trips, ∀ (k0_h2 : k0_cond2 i = 1#1), ∀ a, (k0_off195 v5121 k0_t3) a + S1x1.size a ≤ S6x2048.size a) ∧
  (∀ k0_t3 : Fin (k0_t3_loop v5121).trips, ∀ (k0_h2 : k0_cond2 i = 1#1), ∀ a, (k0_off197 v5121 k0_t3) a + S1x32.size a ≤ S2048x128.size a) ∧
  (∀ k0_t3 : Fin (k0_t3_loop v5121).trips, ∀ (k0_h2 : k0_cond2 i = 1#1), ∀ a, (k0_off198 v5121 k0_t3) a + S1x1.size a ≤ S6x2048.size a) ∧
  (∀ k0_t3 : Fin (k0_t3_loop v5121).trips, ∀ (k0_h2 : k0_cond2 i = 1#1), ∀ a, (k0_off200 v5121 k0_t3) a + S1x32.size a ≤ S2048x128.size a) ∧
  (∀ k0_t3 : Fin (k0_t3_loop v5121).trips, ∀ (k0_h2 : k0_cond2 i = 1#1), ∀ a, (k0_off201 v5121 k0_t3) a + S1x1.size a ≤ S6x2048.size a) ∧
  (∀ k0_t3 : Fin (k0_t3_loop v5121).trips, ∀ (k0_h2 : k0_cond2 i = 1#1), ∀ a, (k0_off203 v5121 k0_t3) a + S1x32.size a ≤ S2048x128.size a) ∧
  (∀ k0_t3 : Fin (k0_t3_loop v5121).trips, ∀ (k0_h2 : k0_cond2 i = 1#1), ∀ a, (k0_off204 v5121 k0_t3) a + S1x1.size a ≤ S6x2048.size a) ∧
  (∀ k0_t3 : Fin (k0_t3_loop v5121).trips, ∀ (k0_h2 : k0_cond2 i = 1#1), ∀ a, (k0_off206 v5121 k0_t3) a + S1x32.size a ≤ S2048x128.size a) ∧
  (∀ k0_t3 : Fin (k0_t3_loop v5121).trips, ∀ (k0_h2 : k0_cond2 i = 1#1), ∀ a, (k0_off207 v5121 k0_t3) a + S1x1.size a ≤ S6x2048.size a) ∧
  (∀ k0_t3 : Fin (k0_t3_loop v5121).trips, ∀ (k0_h2 : k0_cond2 i = 1#1), ∀ a, (k0_off209 v5121 k0_t3) a + S1x32.size a ≤ S2048x128.size a) ∧
  (∀ k0_t3 : Fin (k0_t3_loop v5121).trips, ∀ (k0_h2 : k0_cond2 i = 1#1), ∀ a, (k0_off210 v5121 k0_t3) a + S1x1.size a ≤ S6x2048.size a) ∧
  (∀ k0_t3 : Fin (k0_t3_loop v5121).trips, ∀ (k0_h2 : k0_cond2 i = 1#1), ∀ a, (k0_off212 v5121 k0_t3) a + S1x32.size a ≤ S2048x128.size a) ∧
  (∀ k0_t3 : Fin (k0_t3_loop v5121).trips, ∀ (k0_h2 : k0_cond2 i = 1#1), ∀ a, (k0_off213 v5121 k0_t3) a + S1x1.size a ≤ S6x2048.size a) ∧
  (∀ k0_t3 : Fin (k0_t3_loop v5121).trips, ∀ (k0_h2 : k0_cond2 i = 1#1), ∀ a, (k0_off215 v5121 k0_t3) a + S1x32.size a ≤ S2048x128.size a) ∧
  (∀ k0_t3 : Fin (k0_t3_loop v5121).trips, ∀ (k0_h2 : k0_cond2 i = 1#1), ∀ a, (k0_off216 v5121 k0_t3) a + S1x1.size a ≤ S6x2048.size a) ∧
  (∀ k0_t3 : Fin (k0_t3_loop v5121).trips, ∀ (k0_h2 : k0_cond2 i = 1#1), ∀ a, (k0_off218 v5121 k0_t3) a + S1x32.size a ≤ S2048x128.size a) ∧
  (∀ k0_t3 : Fin (k0_t3_loop v5121).trips, ∀ (k0_h2 : k0_cond2 i = 1#1), ∀ a, (k0_off219 v5121 k0_t3) a + S1x1.size a ≤ S6x2048.size a) ∧
  (∀ k0_t3 : Fin (k0_t3_loop v5121).trips, ∀ (k0_h2 : k0_cond2 i = 1#1), ∀ a, (k0_off221 v5121 k0_t3) a + S1x32.size a ≤ S2048x128.size a) ∧
  (∀ k0_t3 : Fin (k0_t3_loop v5121).trips, ∀ (k0_h2 : k0_cond2 i = 1#1), ∀ a, (k0_off222 v5121 k0_t3) a + S1x1.size a ≤ S6x2048.size a) ∧
  (∀ k0_t3 : Fin (k0_t3_loop v5121).trips, ∀ (k0_h2 : k0_cond2 i = 1#1), ∀ a, (k0_off224 v5121 k0_t3) a + S1x32.size a ≤ S2048x128.size a) ∧
  (∀ k0_t3 : Fin (k0_t3_loop v5121).trips, ∀ (k0_h2 : k0_cond2 i = 1#1), ∀ a, (k0_off225 v5121 k0_t3) a + S1x1.size a ≤ S6x2048.size a) ∧
  (∀ k0_t3 : Fin (k0_t3_loop v5121).trips, ∀ (k0_h2 : k0_cond2 i = 1#1), ∀ a, (k0_off227 v5121 k0_t3) a + S1x32.size a ≤ S2048x128.size a) ∧
  (∀ k0_t3 : Fin (k0_t3_loop v5121).trips, ∀ (k0_h2 : k0_cond2 i = 1#1), ∀ a, (k0_off228 v5121 k0_t3) a + S1x1.size a ≤ S6x2048.size a) ∧
  (∀ k0_t3 : Fin (k0_t3_loop v5121).trips, ∀ (k0_h2 : k0_cond2 i = 1#1), ∀ a, (k0_off230 v5121 k0_t3) a + S1x32.size a ≤ S2048x128.size a) ∧
  (∀ k0_t3 : Fin (k0_t3_loop v5121).trips, ∀ (k0_h2 : k0_cond2 i = 1#1), ∀ a, (k0_off231 v5121 k0_t3) a + S1x1.size a ≤ S6x2048.size a) ∧
  (∀ k0_t3 : Fin (k0_t3_loop v5121).trips, ∀ (k0_h2 : k0_cond2 i = 1#1), ∀ a, (k0_off233 v5121 k0_t3) a + S1x32.size a ≤ S2048x128.size a) ∧
  (∀ k0_t3 : Fin (k0_t3_loop v5121).trips, ∀ (k0_h2 : k0_cond2 i = 1#1), ∀ a, (k0_off234 v5121 k0_t3) a + S1x1.size a ≤ S6x2048.size a) ∧
  (∀ k0_t3 : Fin (k0_t3_loop v5121).trips, ∀ (k0_h2 : k0_cond2 i = 1#1), ∀ a, (k0_off236 v5121 k0_t3) a + S1x32.size a ≤ S2048x128.size a) ∧
  (∀ k0_t3 : Fin (k0_t3_loop v5121).trips, ∀ (k0_h2 : k0_cond2 i = 1#1), ∀ a, (k0_off237 v5121 k0_t3) a + S1x1.size a ≤ S6x2048.size a) ∧
  (∀ k0_t3 : Fin (k0_t3_loop v5121).trips, ∀ (k0_h2 : k0_cond2 i = 1#1), ∀ a, (k0_off239 v5121 k0_t3) a + S1x32.size a ≤ S2048x128.size a) ∧
  (∀ k0_t3 : Fin (k0_t3_loop v5121).trips, ∀ (k0_h2 : k0_cond2 i = 1#1), ∀ a, (k0_off240 v5121 k0_t3) a + S1x1.size a ≤ S6x2048.size a)
def k0_chk66_1 (i : grid0.Coords) (v5121 : BitVec 32) : Prop :=
  (∀ k0_t3 : Fin (k0_t3_loop v5121).trips, ∀ (k0_h2 : k0_cond2 i = 1#1), ∀ a, (k0_off242 v5121 k0_t3) a + S1x32.size a ≤ S2048x128.size a) ∧
  (∀ k0_t3 : Fin (k0_t3_loop v5121).trips, ∀ (k0_h2 : k0_cond2 i = 1#1), ∀ a, (k0_off243 v5121 k0_t3) a + S1x1.size a ≤ S6x2048.size a) ∧
  (∀ k0_t3 : Fin (k0_t3_loop v5121).trips, ∀ (k0_h2 : k0_cond2 i = 1#1), ∀ a, (k0_off245 v5121 k0_t3) a + S1x32.size a ≤ S2048x128.size a) ∧
  (∀ k0_t3 : Fin (k0_t3_loop v5121).trips, ∀ (k0_h2 : k0_cond2 i = 1#1), ∀ a, (k0_off246 v5121 k0_t3) a + S1x1.size a ≤ S6x2048.size a) ∧
  (∀ k0_t3 : Fin (k0_t3_loop v5121).trips, ∀ (k0_h2 : k0_cond2 i = 1#1), ∀ a, (k0_off248 v5121 k0_t3) a + S1x32.size a ≤ S2048x128.size a) ∧
  (∀ k0_t3 : Fin (k0_t3_loop v5121).trips, ∀ (k0_h2 : k0_cond2 i = 1#1), ∀ a, (k0_off249 v5121 k0_t3) a + S1x1.size a ≤ S6x2048.size a) ∧
  (∀ k0_t3 : Fin (k0_t3_loop v5121).trips, ∀ (k0_h2 : k0_cond2 i = 1#1), ∀ a, (k0_off251 v5121 k0_t3) a + S1x32.size a ≤ S2048x128.size a) ∧
  (∀ k0_t3 : Fin (k0_t3_loop v5121).trips, ∀ (k0_h2 : k0_cond2 i = 1#1), ∀ a, (k0_off252 v5121 k0_t3) a + S1x1.size a ≤ S6x2048.size a) ∧
  (∀ k0_t3 : Fin (k0_t3_loop v5121).trips, ∀ (k0_h2 : k0_cond2 i = 1#1), ∀ a, (k0_off254 v5121 k0_t3) a + S1x32.size a ≤ S2048x128.size a) ∧
  (∀ k0_t3 : Fin (k0_t3_loop v5121).trips, ∀ (k0_h2 : k0_cond2 i = 1#1), ∀ a, (k0_off255 v5121 k0_t3) a + S1x1.size a ≤ S6x2048.size a) ∧
  (∀ k0_t3 : Fin (k0_t3_loop v5121).trips, ∀ (k0_h2 : k0_cond2 i = 1#1), ∀ a, (k0_off257 v5121 k0_t3) a + S1x32.size a ≤ S2048x128.size a) ∧
  (∀ k0_t3 : Fin (k0_t3_loop v5121).trips, ∀ (k0_h2 : k0_cond2 i = 1#1), ∀ a, (k0_off258 v5121 k0_t3) a + S1x1.size a ≤ S6x2048.size a) ∧
  (∀ k0_t3 : Fin (k0_t3_loop v5121).trips, ∀ (k0_h2 : k0_cond2 i = 1#1), ∀ a, (k0_off260 v5121 k0_t3) a + S1x32.size a ≤ S2048x128.size a) ∧
  (∀ k0_t3 : Fin (k0_t3_loop v5121).trips, ∀ (k0_h2 : k0_cond2 i = 1#1), ∀ a, (k0_off261 v5121 k0_t3) a + S1x1.size a ≤ S6x2048.size a) ∧
  (∀ k0_t3 : Fin (k0_t3_loop v5121).trips, ∀ (k0_h2 : k0_cond2 i = 1#1), ∀ a, (k0_off263 v5121 k0_t3) a + S1x32.size a ≤ S2048x128.size a) ∧
  (∀ k0_t3 : Fin (k0_t3_loop v5121).trips, ∀ (k0_h2 : k0_cond2 i = 1#1), ∀ a, (k0_off264 v5121 k0_t3) a + S1x1.size a ≤ S6x2048.size a) ∧
  (∀ k0_t3 : Fin (k0_t3_loop v5121).trips, ∀ (k0_h2 : k0_cond2 i = 1#1), ∀ a, (k0_off266 v5121 k0_t3) a + S1x32.size a ≤ S2048x128.size a) ∧
  (∀ k0_t3 : Fin (k0_t3_loop v5121).trips, ∀ (k0_h2 : k0_cond2 i = 1#1), ∀ a, (k0_off267 v5121 k0_t3) a + S1x1.size a ≤ S6x2048.size a) ∧
  (∀ k0_t3 : Fin (k0_t3_loop v5121).trips, ∀ (k0_h2 : k0_cond2 i = 1#1), ∀ a, (k0_off269 v5121 k0_t3) a + S1x32.size a ≤ S2048x128.size a) ∧
  (∀ k0_t3 : Fin (k0_t3_loop v5121).trips, ∀ (k0_h2 : k0_cond2 i = 1#1), ∀ a, (k0_off270 v5121 k0_t3) a + S1x1.size a ≤ S6x2048.size a) ∧
  (∀ k0_t3 : Fin (k0_t3_loop v5121).trips, ∀ (k0_h2 : k0_cond2 i = 1#1), ∀ a, (k0_off272 v5121 k0_t3) a + S1x32.size a ≤ S2048x128.size a) ∧
  (∀ k0_t3 : Fin (k0_t3_loop v5121).trips, ∀ (k0_h2 : k0_cond2 i = 1#1), ∀ a, (k0_off273 v5121 k0_t3) a + S1x1.size a ≤ S6x2048.size a) ∧
  (∀ k0_t3 : Fin (k0_t3_loop v5121).trips, ∀ (k0_h2 : k0_cond2 i = 1#1), ∀ a, (k0_off275 v5121 k0_t3) a + S1x32.size a ≤ S2048x128.size a) ∧
  (∀ k0_t3 : Fin (k0_t3_loop v5121).trips, ∀ (k0_h2 : k0_cond2 i = 1#1), ∀ a, (k0_off276 v5121 k0_t3) a + S1x1.size a ≤ S6x2048.size a) ∧
  (∀ k0_t3 : Fin (k0_t3_loop v5121).trips, ∀ (k0_h2 : k0_cond2 i = 1#1), ∀ a, (k0_off278 v5121 k0_t3) a + S1x32.size a ≤ S2048x128.size a) ∧
  (∀ k0_t3 : Fin (k0_t3_loop v5121).trips, ∀ (k0_h2 : k0_cond2 i = 1#1), ∀ a, (k0_off279 v5121 k0_t3) a + S1x1.size a ≤ S6x2048.size a) ∧
  (∀ k0_t3 : Fin (k0_t3_loop v5121).trips, ∀ (k0_h2 : k0_cond2 i = 1#1), ∀ a, (k0_off281 v5121 k0_t3) a + S1x32.size a ≤ S2048x128.size a) ∧
  (∀ k0_t3 : Fin (k0_t3_loop v5121).trips, ∀ (k0_h2 : k0_cond2 i = 1#1), ∀ a, (k0_off282 v5121 k0_t3) a + S1x1.size a ≤ S6x2048.size a) ∧
  (∀ k0_t3 : Fin (k0_t3_loop v5121).trips, ∀ (k0_h2 : k0_cond2 i = 1#1), ∀ a, (k0_off284 v5121 k0_t3) a + S1x32.size a ≤ S2048x128.size a) ∧
  (∀ k0_t3 : Fin (k0_t3_loop v5121).trips, ∀ (k0_h2 : k0_cond2 i = 1#1), ∀ a, (k0_off285 v5121 k0_t3) a + S1x1.size a ≤ S6x2048.size a) ∧
  (∀ k0_t3 : Fin (k0_t3_loop v5121).trips, ∀ (k0_h2 : k0_cond2 i = 1#1), ∀ a, (k0_off287 v5121 k0_t3) a + S1x32.size a ≤ S2048x128.size a) ∧
  (∀ k0_t3 : Fin (k0_t3_loop v5121).trips, ∀ (k0_h2 : k0_cond2 i = 1#1), ∀ a, (k0_off288 v5121 k0_t3) a + S1x1.size a ≤ S6x2048.size a)
def k0_chk66_2 (i : grid0.Coords) (v5121 : BitVec 32) : Prop :=
  (∀ k0_t3 : Fin (k0_t3_loop v5121).trips, ∀ (k0_h2 : k0_cond2 i = 1#1), ∀ a, (k0_off290 v5121 k0_t3) a + S1x32.size a ≤ S2048x128.size a) ∧
  (∀ (k0_h2 : k0_cond2 i = 1#1), (k0_t4_loop v5121).OK) ∧
  (∀ k0_t4 : Fin (k0_t4_loop v5121).trips, ∀ (k0_h2 : k0_cond2 i = 1#1), ∀ a, (k0_off291 v5121 k0_t4) a + S1x1.size a ≤ S6x2048.size a) ∧
  (∀ k0_t4 : Fin (k0_t4_loop v5121).trips, ∀ (k0_h2 : k0_cond2 i = 1#1), ∀ a, (k0_off293 v5121 k0_t4) a + S1x32.size a ≤ S2048x128.size a) ∧
  (∀ k0_t4 : Fin (k0_t4_loop v5121).trips, ∀ (k0_h2 : k0_cond2 i = 1#1), ∀ a, (k0_off294 v5121 k0_t4) a + S1x1.size a ≤ S6x2048.size a) ∧
  (∀ k0_t4 : Fin (k0_t4_loop v5121).trips, ∀ (k0_h2 : k0_cond2 i = 1#1), ∀ a, (k0_off296 v5121 k0_t4) a + S1x32.size a ≤ S2048x128.size a) ∧
  (∀ k0_t4 : Fin (k0_t4_loop v5121).trips, ∀ (k0_h2 : k0_cond2 i = 1#1), ∀ a, (k0_off297 v5121 k0_t4) a + S1x1.size a ≤ S6x2048.size a) ∧
  (∀ k0_t4 : Fin (k0_t4_loop v5121).trips, ∀ (k0_h2 : k0_cond2 i = 1#1), ∀ a, (k0_off299 v5121 k0_t4) a + S1x32.size a ≤ S2048x128.size a) ∧
  (∀ k0_t4 : Fin (k0_t4_loop v5121).trips, ∀ (k0_h2 : k0_cond2 i = 1#1), ∀ a, (k0_off300 v5121 k0_t4) a + S1x1.size a ≤ S6x2048.size a) ∧
  (∀ k0_t4 : Fin (k0_t4_loop v5121).trips, ∀ (k0_h2 : k0_cond2 i = 1#1), ∀ a, (k0_off302 v5121 k0_t4) a + S1x32.size a ≤ S2048x128.size a) ∧
  (∀ k0_t4 : Fin (k0_t4_loop v5121).trips, ∀ (k0_h2 : k0_cond2 i = 1#1), ∀ a, (k0_off303 v5121 k0_t4) a + S1x1.size a ≤ S6x2048.size a) ∧
  (∀ k0_t4 : Fin (k0_t4_loop v5121).trips, ∀ (k0_h2 : k0_cond2 i = 1#1), ∀ a, (k0_off305 v5121 k0_t4) a + S1x32.size a ≤ S2048x128.size a) ∧
  (∀ k0_t4 : Fin (k0_t4_loop v5121).trips, ∀ (k0_h2 : k0_cond2 i = 1#1), ∀ a, (k0_off306 v5121 k0_t4) a + S1x1.size a ≤ S6x2048.size a) ∧
  (∀ k0_t4 : Fin (k0_t4_loop v5121).trips, ∀ (k0_h2 : k0_cond2 i = 1#1), ∀ a, (k0_off308 v5121 k0_t4) a + S1x32.size a ≤ S2048x128.size a) ∧
  (∀ k0_t4 : Fin (k0_t4_loop v5121).trips, ∀ (k0_h2 : k0_cond2 i = 1#1), ∀ a, (k0_off309 v5121 k0_t4) a + S1x1.size a ≤ S6x2048.size a) ∧
  (∀ k0_t4 : Fin (k0_t4_loop v5121).trips, ∀ (k0_h2 : k0_cond2 i = 1#1), ∀ a, (k0_off311 v5121 k0_t4) a + S1x32.size a ≤ S2048x128.size a) ∧
  (∀ k0_t4 : Fin (k0_t4_loop v5121).trips, ∀ (k0_h2 : k0_cond2 i = 1#1), ∀ a, (k0_off312 v5121 k0_t4) a + S1x1.size a ≤ S6x2048.size a) ∧
  (∀ k0_t4 : Fin (k0_t4_loop v5121).trips, ∀ (k0_h2 : k0_cond2 i = 1#1), ∀ a, (k0_off314 v5121 k0_t4) a + S1x32.size a ≤ S2048x128.size a) ∧
  (∀ k0_t4 : Fin (k0_t4_loop v5121).trips, ∀ (k0_h2 : k0_cond2 i = 1#1), ∀ a, (k0_off315 v5121 k0_t4) a + S1x1.size a ≤ S6x2048.size a) ∧
  (∀ k0_t4 : Fin (k0_t4_loop v5121).trips, ∀ (k0_h2 : k0_cond2 i = 1#1), ∀ a, (k0_off317 v5121 k0_t4) a + S1x32.size a ≤ S2048x128.size a) ∧
  (∀ k0_t4 : Fin (k0_t4_loop v5121).trips, ∀ (k0_h2 : k0_cond2 i = 1#1), ∀ a, (k0_off318 v5121 k0_t4) a + S1x1.size a ≤ S6x2048.size a) ∧
  (∀ k0_t4 : Fin (k0_t4_loop v5121).trips, ∀ (k0_h2 : k0_cond2 i = 1#1), ∀ a, (k0_off320 v5121 k0_t4) a + S1x32.size a ≤ S2048x128.size a) ∧
  (∀ k0_t4 : Fin (k0_t4_loop v5121).trips, ∀ (k0_h2 : k0_cond2 i = 1#1), ∀ a, (k0_off321 v5121 k0_t4) a + S1x1.size a ≤ S6x2048.size a) ∧
  (∀ k0_t4 : Fin (k0_t4_loop v5121).trips, ∀ (k0_h2 : k0_cond2 i = 1#1), ∀ a, (k0_off323 v5121 k0_t4) a + S1x32.size a ≤ S2048x128.size a) ∧
  (∀ k0_t4 : Fin (k0_t4_loop v5121).trips, ∀ (k0_h2 : k0_cond2 i = 1#1), ∀ a, (k0_off324 v5121 k0_t4) a + S1x1.size a ≤ S6x2048.size a) ∧
  (∀ k0_t4 : Fin (k0_t4_loop v5121).trips, ∀ (k0_h2 : k0_cond2 i = 1#1), ∀ a, (k0_off326 v5121 k0_t4) a + S1x32.size a ≤ S2048x128.size a) ∧
  (∀ k0_t4 : Fin (k0_t4_loop v5121).trips, ∀ (k0_h2 : k0_cond2 i = 1#1), ∀ a, (k0_off327 v5121 k0_t4) a + S1x1.size a ≤ S6x2048.size a) ∧
  (∀ k0_t4 : Fin (k0_t4_loop v5121).trips, ∀ (k0_h2 : k0_cond2 i = 1#1), ∀ a, (k0_off329 v5121 k0_t4) a + S1x32.size a ≤ S2048x128.size a) ∧
  (∀ k0_t4 : Fin (k0_t4_loop v5121).trips, ∀ (k0_h2 : k0_cond2 i = 1#1), ∀ a, (k0_off330 v5121 k0_t4) a + S1x1.size a ≤ S6x2048.size a) ∧
  (∀ k0_t4 : Fin (k0_t4_loop v5121).trips, ∀ (k0_h2 : k0_cond2 i = 1#1), ∀ a, (k0_off332 v5121 k0_t4) a + S1x32.size a ≤ S2048x128.size a) ∧
  (∀ k0_t4 : Fin (k0_t4_loop v5121).trips, ∀ (k0_h2 : k0_cond2 i = 1#1), ∀ a, (k0_off333 v5121 k0_t4) a + S1x1.size a ≤ S6x2048.size a) ∧
  (∀ k0_t4 : Fin (k0_t4_loop v5121).trips, ∀ (k0_h2 : k0_cond2 i = 1#1), ∀ a, (k0_off335 v5121 k0_t4) a + S1x32.size a ≤ S2048x128.size a)
def k0_chk66_3 (i : grid0.Coords) (v5121 : BitVec 32) : Prop :=
  (∀ k0_t4 : Fin (k0_t4_loop v5121).trips, ∀ (k0_h2 : k0_cond2 i = 1#1), ∀ a, (k0_off336 v5121 k0_t4) a + S1x1.size a ≤ S6x2048.size a) ∧
  (∀ k0_t4 : Fin (k0_t4_loop v5121).trips, ∀ (k0_h2 : k0_cond2 i = 1#1), ∀ a, (k0_off338 v5121 k0_t4) a + S1x32.size a ≤ S2048x128.size a) ∧
  (∀ k0_t4 : Fin (k0_t4_loop v5121).trips, ∀ (k0_h2 : k0_cond2 i = 1#1), ∀ a, (k0_off339 v5121 k0_t4) a + S1x1.size a ≤ S6x2048.size a) ∧
  (∀ k0_t4 : Fin (k0_t4_loop v5121).trips, ∀ (k0_h2 : k0_cond2 i = 1#1), ∀ a, (k0_off341 v5121 k0_t4) a + S1x32.size a ≤ S2048x128.size a) ∧
  (∀ k0_t4 : Fin (k0_t4_loop v5121).trips, ∀ (k0_h2 : k0_cond2 i = 1#1), ∀ a, (k0_off342 v5121 k0_t4) a + S1x1.size a ≤ S6x2048.size a) ∧
  (∀ k0_t4 : Fin (k0_t4_loop v5121).trips, ∀ (k0_h2 : k0_cond2 i = 1#1), ∀ a, (k0_off344 v5121 k0_t4) a + S1x32.size a ≤ S2048x128.size a) ∧
  (∀ k0_t4 : Fin (k0_t4_loop v5121).trips, ∀ (k0_h2 : k0_cond2 i = 1#1), ∀ a, (k0_off345 v5121 k0_t4) a + S1x1.size a ≤ S6x2048.size a) ∧
  (∀ k0_t4 : Fin (k0_t4_loop v5121).trips, ∀ (k0_h2 : k0_cond2 i = 1#1), ∀ a, (k0_off347 v5121 k0_t4) a + S1x32.size a ≤ S2048x128.size a) ∧
  (∀ k0_t4 : Fin (k0_t4_loop v5121).trips, ∀ (k0_h2 : k0_cond2 i = 1#1), ∀ a, (k0_off348 v5121 k0_t4) a + S1x1.size a ≤ S6x2048.size a) ∧
  (∀ k0_t4 : Fin (k0_t4_loop v5121).trips, ∀ (k0_h2 : k0_cond2 i = 1#1), ∀ a, (k0_off350 v5121 k0_t4) a + S1x32.size a ≤ S2048x128.size a) ∧
  (∀ k0_t4 : Fin (k0_t4_loop v5121).trips, ∀ (k0_h2 : k0_cond2 i = 1#1), ∀ a, (k0_off351 v5121 k0_t4) a + S1x1.size a ≤ S6x2048.size a) ∧
  (∀ k0_t4 : Fin (k0_t4_loop v5121).trips, ∀ (k0_h2 : k0_cond2 i = 1#1), ∀ a, (k0_off353 v5121 k0_t4) a + S1x32.size a ≤ S2048x128.size a) ∧
  (∀ k0_t4 : Fin (k0_t4_loop v5121).trips, ∀ (k0_h2 : k0_cond2 i = 1#1), ∀ a, (k0_off354 v5121 k0_t4) a + S1x1.size a ≤ S6x2048.size a) ∧
  (∀ k0_t4 : Fin (k0_t4_loop v5121).trips, ∀ (k0_h2 : k0_cond2 i = 1#1), ∀ a, (k0_off356 v5121 k0_t4) a + S1x32.size a ≤ S2048x128.size a) ∧
  (∀ k0_t4 : Fin (k0_t4_loop v5121).trips, ∀ (k0_h2 : k0_cond2 i = 1#1), ∀ a, (k0_off357 v5121 k0_t4) a + S1x1.size a ≤ S6x2048.size a) ∧
  (∀ k0_t4 : Fin (k0_t4_loop v5121).trips, ∀ (k0_h2 : k0_cond2 i = 1#1), ∀ a, (k0_off359 v5121 k0_t4) a + S1x32.size a ≤ S2048x128.size a) ∧
  (∀ k0_t4 : Fin (k0_t4_loop v5121).trips, ∀ (k0_h2 : k0_cond2 i = 1#1), ∀ a, (k0_off360 v5121 k0_t4) a + S1x1.size a ≤ S6x2048.size a) ∧
  (∀ k0_t4 : Fin (k0_t4_loop v5121).trips, ∀ (k0_h2 : k0_cond2 i = 1#1), ∀ a, (k0_off362 v5121 k0_t4) a + S1x32.size a ≤ S2048x128.size a) ∧
  (∀ k0_t4 : Fin (k0_t4_loop v5121).trips, ∀ (k0_h2 : k0_cond2 i = 1#1), ∀ a, (k0_off363 v5121 k0_t4) a + S1x1.size a ≤ S6x2048.size a) ∧
  (∀ k0_t4 : Fin (k0_t4_loop v5121).trips, ∀ (k0_h2 : k0_cond2 i = 1#1), ∀ a, (k0_off365 v5121 k0_t4) a + S1x32.size a ≤ S2048x128.size a) ∧
  (∀ k0_t4 : Fin (k0_t4_loop v5121).trips, ∀ (k0_h2 : k0_cond2 i = 1#1), ∀ a, (k0_off366 v5121 k0_t4) a + S1x1.size a ≤ S6x2048.size a) ∧
  (∀ k0_t4 : Fin (k0_t4_loop v5121).trips, ∀ (k0_h2 : k0_cond2 i = 1#1), ∀ a, (k0_off368 v5121 k0_t4) a + S1x32.size a ≤ S2048x128.size a) ∧
  (∀ k0_t4 : Fin (k0_t4_loop v5121).trips, ∀ (k0_h2 : k0_cond2 i = 1#1), ∀ a, (k0_off369 v5121 k0_t4) a + S1x1.size a ≤ S6x2048.size a) ∧
  (∀ k0_t4 : Fin (k0_t4_loop v5121).trips, ∀ (k0_h2 : k0_cond2 i = 1#1), ∀ a, (k0_off371 v5121 k0_t4) a + S1x32.size a ≤ S2048x128.size a) ∧
  (∀ k0_t4 : Fin (k0_t4_loop v5121).trips, ∀ (k0_h2 : k0_cond2 i = 1#1), ∀ a, (k0_off372 v5121 k0_t4) a + S1x1.size a ≤ S6x2048.size a) ∧
  (∀ k0_t4 : Fin (k0_t4_loop v5121).trips, ∀ (k0_h2 : k0_cond2 i = 1#1), ∀ a, (k0_off374 v5121 k0_t4) a + S1x32.size a ≤ S2048x128.size a) ∧
  (∀ k0_t4 : Fin (k0_t4_loop v5121).trips, ∀ (k0_h2 : k0_cond2 i = 1#1), ∀ a, (k0_off375 v5121 k0_t4) a + S1x1.size a ≤ S6x2048.size a) ∧
  (∀ k0_t4 : Fin (k0_t4_loop v5121).trips, ∀ (k0_h2 : k0_cond2 i = 1#1), ∀ a, (k0_off377 v5121 k0_t4) a + S1x32.size a ≤ S2048x128.size a) ∧
  (∀ k0_t4 : Fin (k0_t4_loop v5121).trips, ∀ (k0_h2 : k0_cond2 i = 1#1), ∀ a, (k0_off378 v5121 k0_t4) a + S1x1.size a ≤ S6x2048.size a) ∧
  (∀ k0_t4 : Fin (k0_t4_loop v5121).trips, ∀ (k0_h2 : k0_cond2 i = 1#1), ∀ a, (k0_off380 v5121 k0_t4) a + S1x32.size a ≤ S2048x128.size a) ∧
  (∀ k0_t4 : Fin (k0_t4_loop v5121).trips, ∀ (k0_h2 : k0_cond2 i = 1#1), ∀ a, (k0_off381 v5121 k0_t4) a + S1x1.size a ≤ S6x2048.size a) ∧
  (∀ k0_t4 : Fin (k0_t4_loop v5121).trips, ∀ (k0_h2 : k0_cond2 i = 1#1), ∀ a, (k0_off383 v5121 k0_t4) a + S1x32.size a ≤ S2048x128.size a)
def k0_chk66_4 (i : grid0.Coords) (v5121 : BitVec 32) : Prop :=
  (∀ k0_t4 : Fin (k0_t4_loop v5121).trips, ∀ (k0_h2 : k0_cond2 i = 1#1), ∀ a, (k0_off384 v5121 k0_t4) a + S1x1.size a ≤ S6x2048.size a) ∧
  (∀ k0_t4 : Fin (k0_t4_loop v5121).trips, ∀ (k0_h2 : k0_cond2 i = 1#1), ∀ a, (k0_off386 v5121 k0_t4) a + S1x32.size a ≤ S2048x128.size a)
def k0_chk66 (i : grid0.Coords) (v5121 : BitVec 32) : Prop :=
  k0_chk66_0 i v5121 ∧
  k0_chk66_1 i v5121 ∧
  k0_chk66_2 i v5121 ∧
  k0_chk66_3 i v5121 ∧
  k0_chk66_4 i v5121
theorem k0_t3_ok : ∀ (i : grid0.Coords) (v5121 : BitVec 32) (k0_hw66 : k0_chk66 i v5121), ∀ (k0_h2 : k0_cond2 i = 1#1), (k0_t3_loop v5121).OK := fun i v5121 k0_hw66 k0_h2 => k0_hw66.1.1 k0_h2
theorem k0_off195_inb : ∀ (i : grid0.Coords) (v5121 : BitVec 32) (k0_hw66 : k0_chk66 i v5121) (k0_t3 : Fin (k0_t3_loop v5121).trips), ∀ (k0_h2 : k0_cond2 i = 1#1), ∀ a, (k0_off195 v5121 k0_t3) a + S1x1.size a ≤ S6x2048.size a := fun i v5121 k0_hw66 k0_t3 k0_h2 => k0_hw66.1.2.1 k0_t3 k0_h2
theorem k0_off197_inb : ∀ (i : grid0.Coords) (v5121 : BitVec 32) (k0_hw66 : k0_chk66 i v5121) (k0_t3 : Fin (k0_t3_loop v5121).trips), ∀ (k0_h2 : k0_cond2 i = 1#1), ∀ a, (k0_off197 v5121 k0_t3) a + S1x32.size a ≤ S2048x128.size a := fun i v5121 k0_hw66 k0_t3 k0_h2 => k0_hw66.1.2.2.1 k0_t3 k0_h2
theorem k0_off198_inb : ∀ (i : grid0.Coords) (v5121 : BitVec 32) (k0_hw66 : k0_chk66 i v5121) (k0_t3 : Fin (k0_t3_loop v5121).trips), ∀ (k0_h2 : k0_cond2 i = 1#1), ∀ a, (k0_off198 v5121 k0_t3) a + S1x1.size a ≤ S6x2048.size a := fun i v5121 k0_hw66 k0_t3 k0_h2 => k0_hw66.1.2.2.2.1 k0_t3 k0_h2
theorem k0_off200_inb : ∀ (i : grid0.Coords) (v5121 : BitVec 32) (k0_hw66 : k0_chk66 i v5121) (k0_t3 : Fin (k0_t3_loop v5121).trips), ∀ (k0_h2 : k0_cond2 i = 1#1), ∀ a, (k0_off200 v5121 k0_t3) a + S1x32.size a ≤ S2048x128.size a := fun i v5121 k0_hw66 k0_t3 k0_h2 => k0_hw66.1.2.2.2.2.1 k0_t3 k0_h2
theorem k0_off201_inb : ∀ (i : grid0.Coords) (v5121 : BitVec 32) (k0_hw66 : k0_chk66 i v5121) (k0_t3 : Fin (k0_t3_loop v5121).trips), ∀ (k0_h2 : k0_cond2 i = 1#1), ∀ a, (k0_off201 v5121 k0_t3) a + S1x1.size a ≤ S6x2048.size a := fun i v5121 k0_hw66 k0_t3 k0_h2 => k0_hw66.1.2.2.2.2.2.1 k0_t3 k0_h2
theorem k0_off203_inb : ∀ (i : grid0.Coords) (v5121 : BitVec 32) (k0_hw66 : k0_chk66 i v5121) (k0_t3 : Fin (k0_t3_loop v5121).trips), ∀ (k0_h2 : k0_cond2 i = 1#1), ∀ a, (k0_off203 v5121 k0_t3) a + S1x32.size a ≤ S2048x128.size a := fun i v5121 k0_hw66 k0_t3 k0_h2 => k0_hw66.1.2.2.2.2.2.2.1 k0_t3 k0_h2
theorem k0_off204_inb : ∀ (i : grid0.Coords) (v5121 : BitVec 32) (k0_hw66 : k0_chk66 i v5121) (k0_t3 : Fin (k0_t3_loop v5121).trips), ∀ (k0_h2 : k0_cond2 i = 1#1), ∀ a, (k0_off204 v5121 k0_t3) a + S1x1.size a ≤ S6x2048.size a := fun i v5121 k0_hw66 k0_t3 k0_h2 => k0_hw66.1.2.2.2.2.2.2.2.1 k0_t3 k0_h2
theorem k0_off206_inb : ∀ (i : grid0.Coords) (v5121 : BitVec 32) (k0_hw66 : k0_chk66 i v5121) (k0_t3 : Fin (k0_t3_loop v5121).trips), ∀ (k0_h2 : k0_cond2 i = 1#1), ∀ a, (k0_off206 v5121 k0_t3) a + S1x32.size a ≤ S2048x128.size a := fun i v5121 k0_hw66 k0_t3 k0_h2 => k0_hw66.1.2.2.2.2.2.2.2.2.1 k0_t3 k0_h2
theorem k0_off207_inb : ∀ (i : grid0.Coords) (v5121 : BitVec 32) (k0_hw66 : k0_chk66 i v5121) (k0_t3 : Fin (k0_t3_loop v5121).trips), ∀ (k0_h2 : k0_cond2 i = 1#1), ∀ a, (k0_off207 v5121 k0_t3) a + S1x1.size a ≤ S6x2048.size a := fun i v5121 k0_hw66 k0_t3 k0_h2 => k0_hw66.1.2.2.2.2.2.2.2.2.2.1 k0_t3 k0_h2
theorem k0_off209_inb : ∀ (i : grid0.Coords) (v5121 : BitVec 32) (k0_hw66 : k0_chk66 i v5121) (k0_t3 : Fin (k0_t3_loop v5121).trips), ∀ (k0_h2 : k0_cond2 i = 1#1), ∀ a, (k0_off209 v5121 k0_t3) a + S1x32.size a ≤ S2048x128.size a := fun i v5121 k0_hw66 k0_t3 k0_h2 => k0_hw66.1.2.2.2.2.2.2.2.2.2.2.1 k0_t3 k0_h2
theorem k0_off210_inb : ∀ (i : grid0.Coords) (v5121 : BitVec 32) (k0_hw66 : k0_chk66 i v5121) (k0_t3 : Fin (k0_t3_loop v5121).trips), ∀ (k0_h2 : k0_cond2 i = 1#1), ∀ a, (k0_off210 v5121 k0_t3) a + S1x1.size a ≤ S6x2048.size a := fun i v5121 k0_hw66 k0_t3 k0_h2 => k0_hw66.1.2.2.2.2.2.2.2.2.2.2.2.1 k0_t3 k0_h2
theorem k0_off212_inb : ∀ (i : grid0.Coords) (v5121 : BitVec 32) (k0_hw66 : k0_chk66 i v5121) (k0_t3 : Fin (k0_t3_loop v5121).trips), ∀ (k0_h2 : k0_cond2 i = 1#1), ∀ a, (k0_off212 v5121 k0_t3) a + S1x32.size a ≤ S2048x128.size a := fun i v5121 k0_hw66 k0_t3 k0_h2 => k0_hw66.1.2.2.2.2.2.2.2.2.2.2.2.2.1 k0_t3 k0_h2
theorem k0_off213_inb : ∀ (i : grid0.Coords) (v5121 : BitVec 32) (k0_hw66 : k0_chk66 i v5121) (k0_t3 : Fin (k0_t3_loop v5121).trips), ∀ (k0_h2 : k0_cond2 i = 1#1), ∀ a, (k0_off213 v5121 k0_t3) a + S1x1.size a ≤ S6x2048.size a := fun i v5121 k0_hw66 k0_t3 k0_h2 => k0_hw66.1.2.2.2.2.2.2.2.2.2.2.2.2.2.1 k0_t3 k0_h2
theorem k0_off215_inb : ∀ (i : grid0.Coords) (v5121 : BitVec 32) (k0_hw66 : k0_chk66 i v5121) (k0_t3 : Fin (k0_t3_loop v5121).trips), ∀ (k0_h2 : k0_cond2 i = 1#1), ∀ a, (k0_off215 v5121 k0_t3) a + S1x32.size a ≤ S2048x128.size a := fun i v5121 k0_hw66 k0_t3 k0_h2 => k0_hw66.1.2.2.2.2.2.2.2.2.2.2.2.2.2.2.1 k0_t3 k0_h2
theorem k0_off216_inb : ∀ (i : grid0.Coords) (v5121 : BitVec 32) (k0_hw66 : k0_chk66 i v5121) (k0_t3 : Fin (k0_t3_loop v5121).trips), ∀ (k0_h2 : k0_cond2 i = 1#1), ∀ a, (k0_off216 v5121 k0_t3) a + S1x1.size a ≤ S6x2048.size a := fun i v5121 k0_hw66 k0_t3 k0_h2 => k0_hw66.1.2.2.2.2.2.2.2.2.2.2.2.2.2.2.2.1 k0_t3 k0_h2
theorem k0_off218_inb : ∀ (i : grid0.Coords) (v5121 : BitVec 32) (k0_hw66 : k0_chk66 i v5121) (k0_t3 : Fin (k0_t3_loop v5121).trips), ∀ (k0_h2 : k0_cond2 i = 1#1), ∀ a, (k0_off218 v5121 k0_t3) a + S1x32.size a ≤ S2048x128.size a := fun i v5121 k0_hw66 k0_t3 k0_h2 => k0_hw66.1.2.2.2.2.2.2.2.2.2.2.2.2.2.2.2.2.1 k0_t3 k0_h2
theorem k0_off219_inb : ∀ (i : grid0.Coords) (v5121 : BitVec 32) (k0_hw66 : k0_chk66 i v5121) (k0_t3 : Fin (k0_t3_loop v5121).trips), ∀ (k0_h2 : k0_cond2 i = 1#1), ∀ a, (k0_off219 v5121 k0_t3) a + S1x1.size a ≤ S6x2048.size a := fun i v5121 k0_hw66 k0_t3 k0_h2 => k0_hw66.1.2.2.2.2.2.2.2.2.2.2.2.2.2.2.2.2.2.1 k0_t3 k0_h2
theorem k0_off221_inb : ∀ (i : grid0.Coords) (v5121 : BitVec 32) (k0_hw66 : k0_chk66 i v5121) (k0_t3 : Fin (k0_t3_loop v5121).trips), ∀ (k0_h2 : k0_cond2 i = 1#1), ∀ a, (k0_off221 v5121 k0_t3) a + S1x32.size a ≤ S2048x128.size a := fun i v5121 k0_hw66 k0_t3 k0_h2 => k0_hw66.1.2.2.2.2.2.2.2.2.2.2.2.2.2.2.2.2.2.2.1 k0_t3 k0_h2
theorem k0_off222_inb : ∀ (i : grid0.Coords) (v5121 : BitVec 32) (k0_hw66 : k0_chk66 i v5121) (k0_t3 : Fin (k0_t3_loop v5121).trips), ∀ (k0_h2 : k0_cond2 i = 1#1), ∀ a, (k0_off222 v5121 k0_t3) a + S1x1.size a ≤ S6x2048.size a := fun i v5121 k0_hw66 k0_t3 k0_h2 => k0_hw66.1.2.2.2.2.2.2.2.2.2.2.2.2.2.2.2.2.2.2.2.1 k0_t3 k0_h2
theorem k0_off224_inb : ∀ (i : grid0.Coords) (v5121 : BitVec 32) (k0_hw66 : k0_chk66 i v5121) (k0_t3 : Fin (k0_t3_loop v5121).trips), ∀ (k0_h2 : k0_cond2 i = 1#1), ∀ a, (k0_off224 v5121 k0_t3) a + S1x32.size a ≤ S2048x128.size a := fun i v5121 k0_hw66 k0_t3 k0_h2 => k0_hw66.1.2.2.2.2.2.2.2.2.2.2.2.2.2.2.2.2.2.2.2.2.1 k0_t3 k0_h2
theorem k0_off225_inb : ∀ (i : grid0.Coords) (v5121 : BitVec 32) (k0_hw66 : k0_chk66 i v5121) (k0_t3 : Fin (k0_t3_loop v5121).trips), ∀ (k0_h2 : k0_cond2 i = 1#1), ∀ a, (k0_off225 v5121 k0_t3) a + S1x1.size a ≤ S6x2048.size a := fun i v5121 k0_hw66 k0_t3 k0_h2 => k0_hw66.1.2.2.2.2.2.2.2.2.2.2.2.2.2.2.2.2.2.2.2.2.2.1 k0_t3 k0_h2
theorem k0_off227_inb : ∀ (i : grid0.Coords) (v5121 : BitVec 32) (k0_hw66 : k0_chk66 i v5121) (k0_t3 : Fin (k0_t3_loop v5121).trips), ∀ (k0_h2 : k0_cond2 i = 1#1), ∀ a, (k0_off227 v5121 k0_t3) a + S1x32.size a ≤ S2048x128.size a := fun i v5121 k0_hw66 k0_t3 k0_h2 => k0_hw66.1.2.2.2.2.2.2.2.2.2.2.2.2.2.2.2.2.2.2.2.2.2.2.1 k0_t3 k0_h2
theorem k0_off228_inb : ∀ (i : grid0.Coords) (v5121 : BitVec 32) (k0_hw66 : k0_chk66 i v5121) (k0_t3 : Fin (k0_t3_loop v5121).trips), ∀ (k0_h2 : k0_cond2 i = 1#1), ∀ a, (k0_off228 v5121 k0_t3) a + S1x1.size a ≤ S6x2048.size a := fun i v5121 k0_hw66 k0_t3 k0_h2 => k0_hw66.1.2.2.2.2.2.2.2.2.2.2.2.2.2.2.2.2.2.2.2.2.2.2.2.1 k0_t3 k0_h2
theorem k0_off230_inb : ∀ (i : grid0.Coords) (v5121 : BitVec 32) (k0_hw66 : k0_chk66 i v5121) (k0_t3 : Fin (k0_t3_loop v5121).trips), ∀ (k0_h2 : k0_cond2 i = 1#1), ∀ a, (k0_off230 v5121 k0_t3) a + S1x32.size a ≤ S2048x128.size a := fun i v5121 k0_hw66 k0_t3 k0_h2 => k0_hw66.1.2.2.2.2.2.2.2.2.2.2.2.2.2.2.2.2.2.2.2.2.2.2.2.2.1 k0_t3 k0_h2
theorem k0_off231_inb : ∀ (i : grid0.Coords) (v5121 : BitVec 32) (k0_hw66 : k0_chk66 i v5121) (k0_t3 : Fin (k0_t3_loop v5121).trips), ∀ (k0_h2 : k0_cond2 i = 1#1), ∀ a, (k0_off231 v5121 k0_t3) a + S1x1.size a ≤ S6x2048.size a := fun i v5121 k0_hw66 k0_t3 k0_h2 => k0_hw66.1.2.2.2.2.2.2.2.2.2.2.2.2.2.2.2.2.2.2.2.2.2.2.2.2.2.1 k0_t3 k0_h2
theorem k0_off233_inb : ∀ (i : grid0.Coords) (v5121 : BitVec 32) (k0_hw66 : k0_chk66 i v5121) (k0_t3 : Fin (k0_t3_loop v5121).trips), ∀ (k0_h2 : k0_cond2 i = 1#1), ∀ a, (k0_off233 v5121 k0_t3) a + S1x32.size a ≤ S2048x128.size a := fun i v5121 k0_hw66 k0_t3 k0_h2 => k0_hw66.1.2.2.2.2.2.2.2.2.2.2.2.2.2.2.2.2.2.2.2.2.2.2.2.2.2.2.1 k0_t3 k0_h2
theorem k0_off234_inb : ∀ (i : grid0.Coords) (v5121 : BitVec 32) (k0_hw66 : k0_chk66 i v5121) (k0_t3 : Fin (k0_t3_loop v5121).trips), ∀ (k0_h2 : k0_cond2 i = 1#1), ∀ a, (k0_off234 v5121 k0_t3) a + S1x1.size a ≤ S6x2048.size a := fun i v5121 k0_hw66 k0_t3 k0_h2 => k0_hw66.1.2.2.2.2.2.2.2.2.2.2.2.2.2.2.2.2.2.2.2.2.2.2.2.2.2.2.2.1 k0_t3 k0_h2
theorem k0_off236_inb : ∀ (i : grid0.Coords) (v5121 : BitVec 32) (k0_hw66 : k0_chk66 i v5121) (k0_t3 : Fin (k0_t3_loop v5121).trips), ∀ (k0_h2 : k0_cond2 i = 1#1), ∀ a, (k0_off236 v5121 k0_t3) a + S1x32.size a ≤ S2048x128.size a := fun i v5121 k0_hw66 k0_t3 k0_h2 => k0_hw66.1.2.2.2.2.2.2.2.2.2.2.2.2.2.2.2.2.2.2.2.2.2.2.2.2.2.2.2.2.1 k0_t3 k0_h2
theorem k0_off237_inb : ∀ (i : grid0.Coords) (v5121 : BitVec 32) (k0_hw66 : k0_chk66 i v5121) (k0_t3 : Fin (k0_t3_loop v5121).trips), ∀ (k0_h2 : k0_cond2 i = 1#1), ∀ a, (k0_off237 v5121 k0_t3) a + S1x1.size a ≤ S6x2048.size a := fun i v5121 k0_hw66 k0_t3 k0_h2 => k0_hw66.1.2.2.2.2.2.2.2.2.2.2.2.2.2.2.2.2.2.2.2.2.2.2.2.2.2.2.2.2.2.1 k0_t3 k0_h2
theorem k0_off239_inb : ∀ (i : grid0.Coords) (v5121 : BitVec 32) (k0_hw66 : k0_chk66 i v5121) (k0_t3 : Fin (k0_t3_loop v5121).trips), ∀ (k0_h2 : k0_cond2 i = 1#1), ∀ a, (k0_off239 v5121 k0_t3) a + S1x32.size a ≤ S2048x128.size a := fun i v5121 k0_hw66 k0_t3 k0_h2 => k0_hw66.1.2.2.2.2.2.2.2.2.2.2.2.2.2.2.2.2.2.2.2.2.2.2.2.2.2.2.2.2.2.2.1 k0_t3 k0_h2
theorem k0_off240_inb : ∀ (i : grid0.Coords) (v5121 : BitVec 32) (k0_hw66 : k0_chk66 i v5121) (k0_t3 : Fin (k0_t3_loop v5121).trips), ∀ (k0_h2 : k0_cond2 i = 1#1), ∀ a, (k0_off240 v5121 k0_t3) a + S1x1.size a ≤ S6x2048.size a := fun i v5121 k0_hw66 k0_t3 k0_h2 => k0_hw66.1.2.2.2.2.2.2.2.2.2.2.2.2.2.2.2.2.2.2.2.2.2.2.2.2.2.2.2.2.2.2.2 k0_t3 k0_h2
theorem k0_off242_inb : ∀ (i : grid0.Coords) (v5121 : BitVec 32) (k0_hw66 : k0_chk66 i v5121) (k0_t3 : Fin (k0_t3_loop v5121).trips), ∀ (k0_h2 : k0_cond2 i = 1#1), ∀ a, (k0_off242 v5121 k0_t3) a + S1x32.size a ≤ S2048x128.size a := fun i v5121 k0_hw66 k0_t3 k0_h2 => k0_hw66.2.1.1 k0_t3 k0_h2
theorem k0_off243_inb : ∀ (i : grid0.Coords) (v5121 : BitVec 32) (k0_hw66 : k0_chk66 i v5121) (k0_t3 : Fin (k0_t3_loop v5121).trips), ∀ (k0_h2 : k0_cond2 i = 1#1), ∀ a, (k0_off243 v5121 k0_t3) a + S1x1.size a ≤ S6x2048.size a := fun i v5121 k0_hw66 k0_t3 k0_h2 => k0_hw66.2.1.2.1 k0_t3 k0_h2
theorem k0_off245_inb : ∀ (i : grid0.Coords) (v5121 : BitVec 32) (k0_hw66 : k0_chk66 i v5121) (k0_t3 : Fin (k0_t3_loop v5121).trips), ∀ (k0_h2 : k0_cond2 i = 1#1), ∀ a, (k0_off245 v5121 k0_t3) a + S1x32.size a ≤ S2048x128.size a := fun i v5121 k0_hw66 k0_t3 k0_h2 => k0_hw66.2.1.2.2.1 k0_t3 k0_h2
theorem k0_off246_inb : ∀ (i : grid0.Coords) (v5121 : BitVec 32) (k0_hw66 : k0_chk66 i v5121) (k0_t3 : Fin (k0_t3_loop v5121).trips), ∀ (k0_h2 : k0_cond2 i = 1#1), ∀ a, (k0_off246 v5121 k0_t3) a + S1x1.size a ≤ S6x2048.size a := fun i v5121 k0_hw66 k0_t3 k0_h2 => k0_hw66.2.1.2.2.2.1 k0_t3 k0_h2
theorem k0_off248_inb : ∀ (i : grid0.Coords) (v5121 : BitVec 32) (k0_hw66 : k0_chk66 i v5121) (k0_t3 : Fin (k0_t3_loop v5121).trips), ∀ (k0_h2 : k0_cond2 i = 1#1), ∀ a, (k0_off248 v5121 k0_t3) a + S1x32.size a ≤ S2048x128.size a := fun i v5121 k0_hw66 k0_t3 k0_h2 => k0_hw66.2.1.2.2.2.2.1 k0_t3 k0_h2
theorem k0_off249_inb : ∀ (i : grid0.Coords) (v5121 : BitVec 32) (k0_hw66 : k0_chk66 i v5121) (k0_t3 : Fin (k0_t3_loop v5121).trips), ∀ (k0_h2 : k0_cond2 i = 1#1), ∀ a, (k0_off249 v5121 k0_t3) a + S1x1.size a ≤ S6x2048.size a := fun i v5121 k0_hw66 k0_t3 k0_h2 => k0_hw66.2.1.2.2.2.2.2.1 k0_t3 k0_h2
theorem k0_off251_inb : ∀ (i : grid0.Coords) (v5121 : BitVec 32) (k0_hw66 : k0_chk66 i v5121) (k0_t3 : Fin (k0_t3_loop v5121).trips), ∀ (k0_h2 : k0_cond2 i = 1#1), ∀ a, (k0_off251 v5121 k0_t3) a + S1x32.size a ≤ S2048x128.size a := fun i v5121 k0_hw66 k0_t3 k0_h2 => k0_hw66.2.1.2.2.2.2.2.2.1 k0_t3 k0_h2
theorem k0_off252_inb : ∀ (i : grid0.Coords) (v5121 : BitVec 32) (k0_hw66 : k0_chk66 i v5121) (k0_t3 : Fin (k0_t3_loop v5121).trips), ∀ (k0_h2 : k0_cond2 i = 1#1), ∀ a, (k0_off252 v5121 k0_t3) a + S1x1.size a ≤ S6x2048.size a := fun i v5121 k0_hw66 k0_t3 k0_h2 => k0_hw66.2.1.2.2.2.2.2.2.2.1 k0_t3 k0_h2
theorem k0_off254_inb : ∀ (i : grid0.Coords) (v5121 : BitVec 32) (k0_hw66 : k0_chk66 i v5121) (k0_t3 : Fin (k0_t3_loop v5121).trips), ∀ (k0_h2 : k0_cond2 i = 1#1), ∀ a, (k0_off254 v5121 k0_t3) a + S1x32.size a ≤ S2048x128.size a := fun i v5121 k0_hw66 k0_t3 k0_h2 => k0_hw66.2.1.2.2.2.2.2.2.2.2.1 k0_t3 k0_h2
theorem k0_off255_inb : ∀ (i : grid0.Coords) (v5121 : BitVec 32) (k0_hw66 : k0_chk66 i v5121) (k0_t3 : Fin (k0_t3_loop v5121).trips), ∀ (k0_h2 : k0_cond2 i = 1#1), ∀ a, (k0_off255 v5121 k0_t3) a + S1x1.size a ≤ S6x2048.size a := fun i v5121 k0_hw66 k0_t3 k0_h2 => k0_hw66.2.1.2.2.2.2.2.2.2.2.2.1 k0_t3 k0_h2
theorem k0_off257_inb : ∀ (i : grid0.Coords) (v5121 : BitVec 32) (k0_hw66 : k0_chk66 i v5121) (k0_t3 : Fin (k0_t3_loop v5121).trips), ∀ (k0_h2 : k0_cond2 i = 1#1), ∀ a, (k0_off257 v5121 k0_t3) a + S1x32.size a ≤ S2048x128.size a := fun i v5121 k0_hw66 k0_t3 k0_h2 => k0_hw66.2.1.2.2.2.2.2.2.2.2.2.2.1 k0_t3 k0_h2
theorem k0_off258_inb : ∀ (i : grid0.Coords) (v5121 : BitVec 32) (k0_hw66 : k0_chk66 i v5121) (k0_t3 : Fin (k0_t3_loop v5121).trips), ∀ (k0_h2 : k0_cond2 i = 1#1), ∀ a, (k0_off258 v5121 k0_t3) a + S1x1.size a ≤ S6x2048.size a := fun i v5121 k0_hw66 k0_t3 k0_h2 => k0_hw66.2.1.2.2.2.2.2.2.2.2.2.2.2.1 k0_t3 k0_h2
theorem k0_off260_inb : ∀ (i : grid0.Coords) (v5121 : BitVec 32) (k0_hw66 : k0_chk66 i v5121) (k0_t3 : Fin (k0_t3_loop v5121).trips), ∀ (k0_h2 : k0_cond2 i = 1#1), ∀ a, (k0_off260 v5121 k0_t3) a + S1x32.size a ≤ S2048x128.size a := fun i v5121 k0_hw66 k0_t3 k0_h2 => k0_hw66.2.1.2.2.2.2.2.2.2.2.2.2.2.2.1 k0_t3 k0_h2
theorem k0_off261_inb : ∀ (i : grid0.Coords) (v5121 : BitVec 32) (k0_hw66 : k0_chk66 i v5121) (k0_t3 : Fin (k0_t3_loop v5121).trips), ∀ (k0_h2 : k0_cond2 i = 1#1), ∀ a, (k0_off261 v5121 k0_t3) a + S1x1.size a ≤ S6x2048.size a := fun i v5121 k0_hw66 k0_t3 k0_h2 => k0_hw66.2.1.2.2.2.2.2.2.2.2.2.2.2.2.2.1 k0_t3 k0_h2
theorem k0_off263_inb : ∀ (i : grid0.Coords) (v5121 : BitVec 32) (k0_hw66 : k0_chk66 i v5121) (k0_t3 : Fin (k0_t3_loop v5121).trips), ∀ (k0_h2 : k0_cond2 i = 1#1), ∀ a, (k0_off263 v5121 k0_t3) a + S1x32.size a ≤ S2048x128.size a := fun i v5121 k0_hw66 k0_t3 k0_h2 => k0_hw66.2.1.2.2.2.2.2.2.2.2.2.2.2.2.2.2.1 k0_t3 k0_h2
theorem k0_off264_inb : ∀ (i : grid0.Coords) (v5121 : BitVec 32) (k0_hw66 : k0_chk66 i v5121) (k0_t3 : Fin (k0_t3_loop v5121).trips), ∀ (k0_h2 : k0_cond2 i = 1#1), ∀ a, (k0_off264 v5121 k0_t3) a + S1x1.size a ≤ S6x2048.size a := fun i v5121 k0_hw66 k0_t3 k0_h2 => k0_hw66.2.1.2.2.2.2.2.2.2.2.2.2.2.2.2.2.2.1 k0_t3 k0_h2
theorem k0_off266_inb : ∀ (i : grid0.Coords) (v5121 : BitVec 32) (k0_hw66 : k0_chk66 i v5121) (k0_t3 : Fin (k0_t3_loop v5121).trips), ∀ (k0_h2 : k0_cond2 i = 1#1), ∀ a, (k0_off266 v5121 k0_t3) a + S1x32.size a ≤ S2048x128.size a := fun i v5121 k0_hw66 k0_t3 k0_h2 => k0_hw66.2.1.2.2.2.2.2.2.2.2.2.2.2.2.2.2.2.2.1 k0_t3 k0_h2
theorem k0_off267_inb : ∀ (i : grid0.Coords) (v5121 : BitVec 32) (k0_hw66 : k0_chk66 i v5121) (k0_t3 : Fin (k0_t3_loop v5121).trips), ∀ (k0_h2 : k0_cond2 i = 1#1), ∀ a, (k0_off267 v5121 k0_t3) a + S1x1.size a ≤ S6x2048.size a := fun i v5121 k0_hw66 k0_t3 k0_h2 => k0_hw66.2.1.2.2.2.2.2.2.2.2.2.2.2.2.2.2.2.2.2.1 k0_t3 k0_h2
theorem k0_off269_inb : ∀ (i : grid0.Coords) (v5121 : BitVec 32) (k0_hw66 : k0_chk66 i v5121) (k0_t3 : Fin (k0_t3_loop v5121).trips), ∀ (k0_h2 : k0_cond2 i = 1#1), ∀ a, (k0_off269 v5121 k0_t3) a + S1x32.size a ≤ S2048x128.size a := fun i v5121 k0_hw66 k0_t3 k0_h2 => k0_hw66.2.1.2.2.2.2.2.2.2.2.2.2.2.2.2.2.2.2.2.2.1 k0_t3 k0_h2
theorem k0_off270_inb : ∀ (i : grid0.Coords) (v5121 : BitVec 32) (k0_hw66 : k0_chk66 i v5121) (k0_t3 : Fin (k0_t3_loop v5121).trips), ∀ (k0_h2 : k0_cond2 i = 1#1), ∀ a, (k0_off270 v5121 k0_t3) a + S1x1.size a ≤ S6x2048.size a := fun i v5121 k0_hw66 k0_t3 k0_h2 => k0_hw66.2.1.2.2.2.2.2.2.2.2.2.2.2.2.2.2.2.2.2.2.2.1 k0_t3 k0_h2
theorem k0_off272_inb : ∀ (i : grid0.Coords) (v5121 : BitVec 32) (k0_hw66 : k0_chk66 i v5121) (k0_t3 : Fin (k0_t3_loop v5121).trips), ∀ (k0_h2 : k0_cond2 i = 1#1), ∀ a, (k0_off272 v5121 k0_t3) a + S1x32.size a ≤ S2048x128.size a := fun i v5121 k0_hw66 k0_t3 k0_h2 => k0_hw66.2.1.2.2.2.2.2.2.2.2.2.2.2.2.2.2.2.2.2.2.2.2.1 k0_t3 k0_h2
theorem k0_off273_inb : ∀ (i : grid0.Coords) (v5121 : BitVec 32) (k0_hw66 : k0_chk66 i v5121) (k0_t3 : Fin (k0_t3_loop v5121).trips), ∀ (k0_h2 : k0_cond2 i = 1#1), ∀ a, (k0_off273 v5121 k0_t3) a + S1x1.size a ≤ S6x2048.size a := fun i v5121 k0_hw66 k0_t3 k0_h2 => k0_hw66.2.1.2.2.2.2.2.2.2.2.2.2.2.2.2.2.2.2.2.2.2.2.2.1 k0_t3 k0_h2
theorem k0_off275_inb : ∀ (i : grid0.Coords) (v5121 : BitVec 32) (k0_hw66 : k0_chk66 i v5121) (k0_t3 : Fin (k0_t3_loop v5121).trips), ∀ (k0_h2 : k0_cond2 i = 1#1), ∀ a, (k0_off275 v5121 k0_t3) a + S1x32.size a ≤ S2048x128.size a := fun i v5121 k0_hw66 k0_t3 k0_h2 => k0_hw66.2.1.2.2.2.2.2.2.2.2.2.2.2.2.2.2.2.2.2.2.2.2.2.2.1 k0_t3 k0_h2
theorem k0_off276_inb : ∀ (i : grid0.Coords) (v5121 : BitVec 32) (k0_hw66 : k0_chk66 i v5121) (k0_t3 : Fin (k0_t3_loop v5121).trips), ∀ (k0_h2 : k0_cond2 i = 1#1), ∀ a, (k0_off276 v5121 k0_t3) a + S1x1.size a ≤ S6x2048.size a := fun i v5121 k0_hw66 k0_t3 k0_h2 => k0_hw66.2.1.2.2.2.2.2.2.2.2.2.2.2.2.2.2.2.2.2.2.2.2.2.2.2.1 k0_t3 k0_h2
theorem k0_off278_inb : ∀ (i : grid0.Coords) (v5121 : BitVec 32) (k0_hw66 : k0_chk66 i v5121) (k0_t3 : Fin (k0_t3_loop v5121).trips), ∀ (k0_h2 : k0_cond2 i = 1#1), ∀ a, (k0_off278 v5121 k0_t3) a + S1x32.size a ≤ S2048x128.size a := fun i v5121 k0_hw66 k0_t3 k0_h2 => k0_hw66.2.1.2.2.2.2.2.2.2.2.2.2.2.2.2.2.2.2.2.2.2.2.2.2.2.2.1 k0_t3 k0_h2
theorem k0_off279_inb : ∀ (i : grid0.Coords) (v5121 : BitVec 32) (k0_hw66 : k0_chk66 i v5121) (k0_t3 : Fin (k0_t3_loop v5121).trips), ∀ (k0_h2 : k0_cond2 i = 1#1), ∀ a, (k0_off279 v5121 k0_t3) a + S1x1.size a ≤ S6x2048.size a := fun i v5121 k0_hw66 k0_t3 k0_h2 => k0_hw66.2.1.2.2.2.2.2.2.2.2.2.2.2.2.2.2.2.2.2.2.2.2.2.2.2.2.2.1 k0_t3 k0_h2
theorem k0_off281_inb : ∀ (i : grid0.Coords) (v5121 : BitVec 32) (k0_hw66 : k0_chk66 i v5121) (k0_t3 : Fin (k0_t3_loop v5121).trips), ∀ (k0_h2 : k0_cond2 i = 1#1), ∀ a, (k0_off281 v5121 k0_t3) a + S1x32.size a ≤ S2048x128.size a := fun i v5121 k0_hw66 k0_t3 k0_h2 => k0_hw66.2.1.2.2.2.2.2.2.2.2.2.2.2.2.2.2.2.2.2.2.2.2.2.2.2.2.2.2.1 k0_t3 k0_h2
theorem k0_off282_inb : ∀ (i : grid0.Coords) (v5121 : BitVec 32) (k0_hw66 : k0_chk66 i v5121) (k0_t3 : Fin (k0_t3_loop v5121).trips), ∀ (k0_h2 : k0_cond2 i = 1#1), ∀ a, (k0_off282 v5121 k0_t3) a + S1x1.size a ≤ S6x2048.size a := fun i v5121 k0_hw66 k0_t3 k0_h2 => k0_hw66.2.1.2.2.2.2.2.2.2.2.2.2.2.2.2.2.2.2.2.2.2.2.2.2.2.2.2.2.2.1 k0_t3 k0_h2
theorem k0_off284_inb : ∀ (i : grid0.Coords) (v5121 : BitVec 32) (k0_hw66 : k0_chk66 i v5121) (k0_t3 : Fin (k0_t3_loop v5121).trips), ∀ (k0_h2 : k0_cond2 i = 1#1), ∀ a, (k0_off284 v5121 k0_t3) a + S1x32.size a ≤ S2048x128.size a := fun i v5121 k0_hw66 k0_t3 k0_h2 => k0_hw66.2.1.2.2.2.2.2.2.2.2.2.2.2.2.2.2.2.2.2.2.2.2.2.2.2.2.2.2.2.2.1 k0_t3 k0_h2
theorem k0_off285_inb : ∀ (i : grid0.Coords) (v5121 : BitVec 32) (k0_hw66 : k0_chk66 i v5121) (k0_t3 : Fin (k0_t3_loop v5121).trips), ∀ (k0_h2 : k0_cond2 i = 1#1), ∀ a, (k0_off285 v5121 k0_t3) a + S1x1.size a ≤ S6x2048.size a := fun i v5121 k0_hw66 k0_t3 k0_h2 => k0_hw66.2.1.2.2.2.2.2.2.2.2.2.2.2.2.2.2.2.2.2.2.2.2.2.2.2.2.2.2.2.2.2.1 k0_t3 k0_h2
theorem k0_off287_inb : ∀ (i : grid0.Coords) (v5121 : BitVec 32) (k0_hw66 : k0_chk66 i v5121) (k0_t3 : Fin (k0_t3_loop v5121).trips), ∀ (k0_h2 : k0_cond2 i = 1#1), ∀ a, (k0_off287 v5121 k0_t3) a + S1x32.size a ≤ S2048x128.size a := fun i v5121 k0_hw66 k0_t3 k0_h2 => k0_hw66.2.1.2.2.2.2.2.2.2.2.2.2.2.2.2.2.2.2.2.2.2.2.2.2.2.2.2.2.2.2.2.2.1 k0_t3 k0_h2
theorem k0_off288_inb : ∀ (i : grid0.Coords) (v5121 : BitVec 32) (k0_hw66 : k0_chk66 i v5121) (k0_t3 : Fin (k0_t3_loop v5121).trips), ∀ (k0_h2 : k0_cond2 i = 1#1), ∀ a, (k0_off288 v5121 k0_t3) a + S1x1.size a ≤ S6x2048.size a := fun i v5121 k0_hw66 k0_t3 k0_h2 => k0_hw66.2.1.2.2.2.2.2.2.2.2.2.2.2.2.2.2.2.2.2.2.2.2.2.2.2.2.2.2.2.2.2.2.2 k0_t3 k0_h2
theorem k0_off290_inb : ∀ (i : grid0.Coords) (v5121 : BitVec 32) (k0_hw66 : k0_chk66 i v5121) (k0_t3 : Fin (k0_t3_loop v5121).trips), ∀ (k0_h2 : k0_cond2 i = 1#1), ∀ a, (k0_off290 v5121 k0_t3) a + S1x32.size a ≤ S2048x128.size a := fun i v5121 k0_hw66 k0_t3 k0_h2 => k0_hw66.2.2.1.1 k0_t3 k0_h2
theorem k0_t4_ok : ∀ (i : grid0.Coords) (v5121 : BitVec 32) (k0_hw66 : k0_chk66 i v5121), ∀ (k0_h2 : k0_cond2 i = 1#1), (k0_t4_loop v5121).OK := fun i v5121 k0_hw66 k0_h2 => k0_hw66.2.2.1.2.1 k0_h2
theorem k0_off291_inb : ∀ (i : grid0.Coords) (v5121 : BitVec 32) (k0_hw66 : k0_chk66 i v5121) (k0_t4 : Fin (k0_t4_loop v5121).trips), ∀ (k0_h2 : k0_cond2 i = 1#1), ∀ a, (k0_off291 v5121 k0_t4) a + S1x1.size a ≤ S6x2048.size a := fun i v5121 k0_hw66 k0_t4 k0_h2 => k0_hw66.2.2.1.2.2.1 k0_t4 k0_h2
theorem k0_off293_inb : ∀ (i : grid0.Coords) (v5121 : BitVec 32) (k0_hw66 : k0_chk66 i v5121) (k0_t4 : Fin (k0_t4_loop v5121).trips), ∀ (k0_h2 : k0_cond2 i = 1#1), ∀ a, (k0_off293 v5121 k0_t4) a + S1x32.size a ≤ S2048x128.size a := fun i v5121 k0_hw66 k0_t4 k0_h2 => k0_hw66.2.2.1.2.2.2.1 k0_t4 k0_h2
theorem k0_off294_inb : ∀ (i : grid0.Coords) (v5121 : BitVec 32) (k0_hw66 : k0_chk66 i v5121) (k0_t4 : Fin (k0_t4_loop v5121).trips), ∀ (k0_h2 : k0_cond2 i = 1#1), ∀ a, (k0_off294 v5121 k0_t4) a + S1x1.size a ≤ S6x2048.size a := fun i v5121 k0_hw66 k0_t4 k0_h2 => k0_hw66.2.2.1.2.2.2.2.1 k0_t4 k0_h2
theorem k0_off296_inb : ∀ (i : grid0.Coords) (v5121 : BitVec 32) (k0_hw66 : k0_chk66 i v5121) (k0_t4 : Fin (k0_t4_loop v5121).trips), ∀ (k0_h2 : k0_cond2 i = 1#1), ∀ a, (k0_off296 v5121 k0_t4) a + S1x32.size a ≤ S2048x128.size a := fun i v5121 k0_hw66 k0_t4 k0_h2 => k0_hw66.2.2.1.2.2.2.2.2.1 k0_t4 k0_h2
theorem k0_off297_inb : ∀ (i : grid0.Coords) (v5121 : BitVec 32) (k0_hw66 : k0_chk66 i v5121) (k0_t4 : Fin (k0_t4_loop v5121).trips), ∀ (k0_h2 : k0_cond2 i = 1#1), ∀ a, (k0_off297 v5121 k0_t4) a + S1x1.size a ≤ S6x2048.size a := fun i v5121 k0_hw66 k0_t4 k0_h2 => k0_hw66.2.2.1.2.2.2.2.2.2.1 k0_t4 k0_h2
theorem k0_off299_inb : ∀ (i : grid0.Coords) (v5121 : BitVec 32) (k0_hw66 : k0_chk66 i v5121) (k0_t4 : Fin (k0_t4_loop v5121).trips), ∀ (k0_h2 : k0_cond2 i = 1#1), ∀ a, (k0_off299 v5121 k0_t4) a + S1x32.size a ≤ S2048x128.size a := fun i v5121 k0_hw66 k0_t4 k0_h2 => k0_hw66.2.2.1.2.2.2.2.2.2.2.1 k0_t4 k0_h2
theorem k0_off300_inb : ∀ (i : grid0.Coords) (v5121 : BitVec 32) (k0_hw66 : k0_chk66 i v5121) (k0_t4 : Fin (k0_t4_loop v5121).trips), ∀ (k0_h2 : k0_cond2 i = 1#1), ∀ a, (k0_off300 v5121 k0_t4) a + S1x1.size a ≤ S6x2048.size a := fun i v5121 k0_hw66 k0_t4 k0_h2 => k0_hw66.2.2.1.2.2.2.2.2.2.2.2.1 k0_t4 k0_h2
theorem k0_off302_inb : ∀ (i : grid0.Coords) (v5121 : BitVec 32) (k0_hw66 : k0_chk66 i v5121) (k0_t4 : Fin (k0_t4_loop v5121).trips), ∀ (k0_h2 : k0_cond2 i = 1#1), ∀ a, (k0_off302 v5121 k0_t4) a + S1x32.size a ≤ S2048x128.size a := fun i v5121 k0_hw66 k0_t4 k0_h2 => k0_hw66.2.2.1.2.2.2.2.2.2.2.2.2.1 k0_t4 k0_h2
theorem k0_off303_inb : ∀ (i : grid0.Coords) (v5121 : BitVec 32) (k0_hw66 : k0_chk66 i v5121) (k0_t4 : Fin (k0_t4_loop v5121).trips), ∀ (k0_h2 : k0_cond2 i = 1#1), ∀ a, (k0_off303 v5121 k0_t4) a + S1x1.size a ≤ S6x2048.size a := fun i v5121 k0_hw66 k0_t4 k0_h2 => k0_hw66.2.2.1.2.2.2.2.2.2.2.2.2.2.1 k0_t4 k0_h2
theorem k0_off305_inb : ∀ (i : grid0.Coords) (v5121 : BitVec 32) (k0_hw66 : k0_chk66 i v5121) (k0_t4 : Fin (k0_t4_loop v5121).trips), ∀ (k0_h2 : k0_cond2 i = 1#1), ∀ a, (k0_off305 v5121 k0_t4) a + S1x32.size a ≤ S2048x128.size a := fun i v5121 k0_hw66 k0_t4 k0_h2 => k0_hw66.2.2.1.2.2.2.2.2.2.2.2.2.2.2.1 k0_t4 k0_h2
theorem k0_off306_inb : ∀ (i : grid0.Coords) (v5121 : BitVec 32) (k0_hw66 : k0_chk66 i v5121) (k0_t4 : Fin (k0_t4_loop v5121).trips), ∀ (k0_h2 : k0_cond2 i = 1#1), ∀ a, (k0_off306 v5121 k0_t4) a + S1x1.size a ≤ S6x2048.size a := fun i v5121 k0_hw66 k0_t4 k0_h2 => k0_hw66.2.2.1.2.2.2.2.2.2.2.2.2.2.2.2.1 k0_t4 k0_h2
theorem k0_off308_inb : ∀ (i : grid0.Coords) (v5121 : BitVec 32) (k0_hw66 : k0_chk66 i v5121) (k0_t4 : Fin (k0_t4_loop v5121).trips), ∀ (k0_h2 : k0_cond2 i = 1#1), ∀ a, (k0_off308 v5121 k0_t4) a + S1x32.size a ≤ S2048x128.size a := fun i v5121 k0_hw66 k0_t4 k0_h2 => k0_hw66.2.2.1.2.2.2.2.2.2.2.2.2.2.2.2.2.1 k0_t4 k0_h2
theorem k0_off309_inb : ∀ (i : grid0.Coords) (v5121 : BitVec 32) (k0_hw66 : k0_chk66 i v5121) (k0_t4 : Fin (k0_t4_loop v5121).trips), ∀ (k0_h2 : k0_cond2 i = 1#1), ∀ a, (k0_off309 v5121 k0_t4) a + S1x1.size a ≤ S6x2048.size a := fun i v5121 k0_hw66 k0_t4 k0_h2 => k0_hw66.2.2.1.2.2.2.2.2.2.2.2.2.2.2.2.2.2.1 k0_t4 k0_h2
theorem k0_off311_inb : ∀ (i : grid0.Coords) (v5121 : BitVec 32) (k0_hw66 : k0_chk66 i v5121) (k0_t4 : Fin (k0_t4_loop v5121).trips), ∀ (k0_h2 : k0_cond2 i = 1#1), ∀ a, (k0_off311 v5121 k0_t4) a + S1x32.size a ≤ S2048x128.size a := fun i v5121 k0_hw66 k0_t4 k0_h2 => k0_hw66.2.2.1.2.2.2.2.2.2.2.2.2.2.2.2.2.2.2.1 k0_t4 k0_h2
theorem k0_off312_inb : ∀ (i : grid0.Coords) (v5121 : BitVec 32) (k0_hw66 : k0_chk66 i v5121) (k0_t4 : Fin (k0_t4_loop v5121).trips), ∀ (k0_h2 : k0_cond2 i = 1#1), ∀ a, (k0_off312 v5121 k0_t4) a + S1x1.size a ≤ S6x2048.size a := fun i v5121 k0_hw66 k0_t4 k0_h2 => k0_hw66.2.2.1.2.2.2.2.2.2.2.2.2.2.2.2.2.2.2.2.1 k0_t4 k0_h2
theorem k0_off314_inb : ∀ (i : grid0.Coords) (v5121 : BitVec 32) (k0_hw66 : k0_chk66 i v5121) (k0_t4 : Fin (k0_t4_loop v5121).trips), ∀ (k0_h2 : k0_cond2 i = 1#1), ∀ a, (k0_off314 v5121 k0_t4) a + S1x32.size a ≤ S2048x128.size a := fun i v5121 k0_hw66 k0_t4 k0_h2 => k0_hw66.2.2.1.2.2.2.2.2.2.2.2.2.2.2.2.2.2.2.2.2.1 k0_t4 k0_h2
theorem k0_off315_inb : ∀ (i : grid0.Coords) (v5121 : BitVec 32) (k0_hw66 : k0_chk66 i v5121) (k0_t4 : Fin (k0_t4_loop v5121).trips), ∀ (k0_h2 : k0_cond2 i = 1#1), ∀ a, (k0_off315 v5121 k0_t4) a + S1x1.size a ≤ S6x2048.size a := fun i v5121 k0_hw66 k0_t4 k0_h2 => k0_hw66.2.2.1.2.2.2.2.2.2.2.2.2.2.2.2.2.2.2.2.2.2.1 k0_t4 k0_h2
theorem k0_off317_inb : ∀ (i : grid0.Coords) (v5121 : BitVec 32) (k0_hw66 : k0_chk66 i v5121) (k0_t4 : Fin (k0_t4_loop v5121).trips), ∀ (k0_h2 : k0_cond2 i = 1#1), ∀ a, (k0_off317 v5121 k0_t4) a + S1x32.size a ≤ S2048x128.size a := fun i v5121 k0_hw66 k0_t4 k0_h2 => k0_hw66.2.2.1.2.2.2.2.2.2.2.2.2.2.2.2.2.2.2.2.2.2.2.1 k0_t4 k0_h2
theorem k0_off318_inb : ∀ (i : grid0.Coords) (v5121 : BitVec 32) (k0_hw66 : k0_chk66 i v5121) (k0_t4 : Fin (k0_t4_loop v5121).trips), ∀ (k0_h2 : k0_cond2 i = 1#1), ∀ a, (k0_off318 v5121 k0_t4) a + S1x1.size a ≤ S6x2048.size a := fun i v5121 k0_hw66 k0_t4 k0_h2 => k0_hw66.2.2.1.2.2.2.2.2.2.2.2.2.2.2.2.2.2.2.2.2.2.2.2.1 k0_t4 k0_h2
theorem k0_off320_inb : ∀ (i : grid0.Coords) (v5121 : BitVec 32) (k0_hw66 : k0_chk66 i v5121) (k0_t4 : Fin (k0_t4_loop v5121).trips), ∀ (k0_h2 : k0_cond2 i = 1#1), ∀ a, (k0_off320 v5121 k0_t4) a + S1x32.size a ≤ S2048x128.size a := fun i v5121 k0_hw66 k0_t4 k0_h2 => k0_hw66.2.2.1.2.2.2.2.2.2.2.2.2.2.2.2.2.2.2.2.2.2.2.2.2.1 k0_t4 k0_h2
theorem k0_off321_inb : ∀ (i : grid0.Coords) (v5121 : BitVec 32) (k0_hw66 : k0_chk66 i v5121) (k0_t4 : Fin (k0_t4_loop v5121).trips), ∀ (k0_h2 : k0_cond2 i = 1#1), ∀ a, (k0_off321 v5121 k0_t4) a + S1x1.size a ≤ S6x2048.size a := fun i v5121 k0_hw66 k0_t4 k0_h2 => k0_hw66.2.2.1.2.2.2.2.2.2.2.2.2.2.2.2.2.2.2.2.2.2.2.2.2.2.1 k0_t4 k0_h2
theorem k0_off323_inb : ∀ (i : grid0.Coords) (v5121 : BitVec 32) (k0_hw66 : k0_chk66 i v5121) (k0_t4 : Fin (k0_t4_loop v5121).trips), ∀ (k0_h2 : k0_cond2 i = 1#1), ∀ a, (k0_off323 v5121 k0_t4) a + S1x32.size a ≤ S2048x128.size a := fun i v5121 k0_hw66 k0_t4 k0_h2 => k0_hw66.2.2.1.2.2.2.2.2.2.2.2.2.2.2.2.2.2.2.2.2.2.2.2.2.2.2.1 k0_t4 k0_h2
theorem k0_off324_inb : ∀ (i : grid0.Coords) (v5121 : BitVec 32) (k0_hw66 : k0_chk66 i v5121) (k0_t4 : Fin (k0_t4_loop v5121).trips), ∀ (k0_h2 : k0_cond2 i = 1#1), ∀ a, (k0_off324 v5121 k0_t4) a + S1x1.size a ≤ S6x2048.size a := fun i v5121 k0_hw66 k0_t4 k0_h2 => k0_hw66.2.2.1.2.2.2.2.2.2.2.2.2.2.2.2.2.2.2.2.2.2.2.2.2.2.2.2.1 k0_t4 k0_h2
theorem k0_off326_inb : ∀ (i : grid0.Coords) (v5121 : BitVec 32) (k0_hw66 : k0_chk66 i v5121) (k0_t4 : Fin (k0_t4_loop v5121).trips), ∀ (k0_h2 : k0_cond2 i = 1#1), ∀ a, (k0_off326 v5121 k0_t4) a + S1x32.size a ≤ S2048x128.size a := fun i v5121 k0_hw66 k0_t4 k0_h2 => k0_hw66.2.2.1.2.2.2.2.2.2.2.2.2.2.2.2.2.2.2.2.2.2.2.2.2.2.2.2.2.1 k0_t4 k0_h2
theorem k0_off327_inb : ∀ (i : grid0.Coords) (v5121 : BitVec 32) (k0_hw66 : k0_chk66 i v5121) (k0_t4 : Fin (k0_t4_loop v5121).trips), ∀ (k0_h2 : k0_cond2 i = 1#1), ∀ a, (k0_off327 v5121 k0_t4) a + S1x1.size a ≤ S6x2048.size a := fun i v5121 k0_hw66 k0_t4 k0_h2 => k0_hw66.2.2.1.2.2.2.2.2.2.2.2.2.2.2.2.2.2.2.2.2.2.2.2.2.2.2.2.2.2.1 k0_t4 k0_h2
theorem k0_off329_inb : ∀ (i : grid0.Coords) (v5121 : BitVec 32) (k0_hw66 : k0_chk66 i v5121) (k0_t4 : Fin (k0_t4_loop v5121).trips), ∀ (k0_h2 : k0_cond2 i = 1#1), ∀ a, (k0_off329 v5121 k0_t4) a + S1x32.size a ≤ S2048x128.size a := fun i v5121 k0_hw66 k0_t4 k0_h2 => k0_hw66.2.2.1.2.2.2.2.2.2.2.2.2.2.2.2.2.2.2.2.2.2.2.2.2.2.2.2.2.2.2.1 k0_t4 k0_h2
theorem k0_off330_inb : ∀ (i : grid0.Coords) (v5121 : BitVec 32) (k0_hw66 : k0_chk66 i v5121) (k0_t4 : Fin (k0_t4_loop v5121).trips), ∀ (k0_h2 : k0_cond2 i = 1#1), ∀ a, (k0_off330 v5121 k0_t4) a + S1x1.size a ≤ S6x2048.size a := fun i v5121 k0_hw66 k0_t4 k0_h2 => k0_hw66.2.2.1.2.2.2.2.2.2.2.2.2.2.2.2.2.2.2.2.2.2.2.2.2.2.2.2.2.2.2.2.1 k0_t4 k0_h2
theorem k0_off332_inb : ∀ (i : grid0.Coords) (v5121 : BitVec 32) (k0_hw66 : k0_chk66 i v5121) (k0_t4 : Fin (k0_t4_loop v5121).trips), ∀ (k0_h2 : k0_cond2 i = 1#1), ∀ a, (k0_off332 v5121 k0_t4) a + S1x32.size a ≤ S2048x128.size a := fun i v5121 k0_hw66 k0_t4 k0_h2 => k0_hw66.2.2.1.2.2.2.2.2.2.2.2.2.2.2.2.2.2.2.2.2.2.2.2.2.2.2.2.2.2.2.2.2.1 k0_t4 k0_h2
theorem k0_off333_inb : ∀ (i : grid0.Coords) (v5121 : BitVec 32) (k0_hw66 : k0_chk66 i v5121) (k0_t4 : Fin (k0_t4_loop v5121).trips), ∀ (k0_h2 : k0_cond2 i = 1#1), ∀ a, (k0_off333 v5121 k0_t4) a + S1x1.size a ≤ S6x2048.size a := fun i v5121 k0_hw66 k0_t4 k0_h2 => k0_hw66.2.2.1.2.2.2.2.2.2.2.2.2.2.2.2.2.2.2.2.2.2.2.2.2.2.2.2.2.2.2.2.2.2.1 k0_t4 k0_h2
theorem k0_off335_inb : ∀ (i : grid0.Coords) (v5121 : BitVec 32) (k0_hw66 : k0_chk66 i v5121) (k0_t4 : Fin (k0_t4_loop v5121).trips), ∀ (k0_h2 : k0_cond2 i = 1#1), ∀ a, (k0_off335 v5121 k0_t4) a + S1x32.size a ≤ S2048x128.size a := fun i v5121 k0_hw66 k0_t4 k0_h2 => k0_hw66.2.2.1.2.2.2.2.2.2.2.2.2.2.2.2.2.2.2.2.2.2.2.2.2.2.2.2.2.2.2.2.2.2.2 k0_t4 k0_h2
theorem k0_off336_inb : ∀ (i : grid0.Coords) (v5121 : BitVec 32) (k0_hw66 : k0_chk66 i v5121) (k0_t4 : Fin (k0_t4_loop v5121).trips), ∀ (k0_h2 : k0_cond2 i = 1#1), ∀ a, (k0_off336 v5121 k0_t4) a + S1x1.size a ≤ S6x2048.size a := fun i v5121 k0_hw66 k0_t4 k0_h2 => k0_hw66.2.2.2.1.1 k0_t4 k0_h2
theorem k0_off338_inb : ∀ (i : grid0.Coords) (v5121 : BitVec 32) (k0_hw66 : k0_chk66 i v5121) (k0_t4 : Fin (k0_t4_loop v5121).trips), ∀ (k0_h2 : k0_cond2 i = 1#1), ∀ a, (k0_off338 v5121 k0_t4) a + S1x32.size a ≤ S2048x128.size a := fun i v5121 k0_hw66 k0_t4 k0_h2 => k0_hw66.2.2.2.1.2.1 k0_t4 k0_h2
theorem k0_off339_inb : ∀ (i : grid0.Coords) (v5121 : BitVec 32) (k0_hw66 : k0_chk66 i v5121) (k0_t4 : Fin (k0_t4_loop v5121).trips), ∀ (k0_h2 : k0_cond2 i = 1#1), ∀ a, (k0_off339 v5121 k0_t4) a + S1x1.size a ≤ S6x2048.size a := fun i v5121 k0_hw66 k0_t4 k0_h2 => k0_hw66.2.2.2.1.2.2.1 k0_t4 k0_h2
theorem k0_off341_inb : ∀ (i : grid0.Coords) (v5121 : BitVec 32) (k0_hw66 : k0_chk66 i v5121) (k0_t4 : Fin (k0_t4_loop v5121).trips), ∀ (k0_h2 : k0_cond2 i = 1#1), ∀ a, (k0_off341 v5121 k0_t4) a + S1x32.size a ≤ S2048x128.size a := fun i v5121 k0_hw66 k0_t4 k0_h2 => k0_hw66.2.2.2.1.2.2.2.1 k0_t4 k0_h2
theorem k0_off342_inb : ∀ (i : grid0.Coords) (v5121 : BitVec 32) (k0_hw66 : k0_chk66 i v5121) (k0_t4 : Fin (k0_t4_loop v5121).trips), ∀ (k0_h2 : k0_cond2 i = 1#1), ∀ a, (k0_off342 v5121 k0_t4) a + S1x1.size a ≤ S6x2048.size a := fun i v5121 k0_hw66 k0_t4 k0_h2 => k0_hw66.2.2.2.1.2.2.2.2.1 k0_t4 k0_h2
theorem k0_off344_inb : ∀ (i : grid0.Coords) (v5121 : BitVec 32) (k0_hw66 : k0_chk66 i v5121) (k0_t4 : Fin (k0_t4_loop v5121).trips), ∀ (k0_h2 : k0_cond2 i = 1#1), ∀ a, (k0_off344 v5121 k0_t4) a + S1x32.size a ≤ S2048x128.size a := fun i v5121 k0_hw66 k0_t4 k0_h2 => k0_hw66.2.2.2.1.2.2.2.2.2.1 k0_t4 k0_h2
theorem k0_off345_inb : ∀ (i : grid0.Coords) (v5121 : BitVec 32) (k0_hw66 : k0_chk66 i v5121) (k0_t4 : Fin (k0_t4_loop v5121).trips), ∀ (k0_h2 : k0_cond2 i = 1#1), ∀ a, (k0_off345 v5121 k0_t4) a + S1x1.size a ≤ S6x2048.size a := fun i v5121 k0_hw66 k0_t4 k0_h2 => k0_hw66.2.2.2.1.2.2.2.2.2.2.1 k0_t4 k0_h2
theorem k0_off347_inb : ∀ (i : grid0.Coords) (v5121 : BitVec 32) (k0_hw66 : k0_chk66 i v5121) (k0_t4 : Fin (k0_t4_loop v5121).trips), ∀ (k0_h2 : k0_cond2 i = 1#1), ∀ a, (k0_off347 v5121 k0_t4) a + S1x32.size a ≤ S2048x128.size a := fun i v5121 k0_hw66 k0_t4 k0_h2 => k0_hw66.2.2.2.1.2.2.2.2.2.2.2.1 k0_t4 k0_h2
theorem k0_off348_inb : ∀ (i : grid0.Coords) (v5121 : BitVec 32) (k0_hw66 : k0_chk66 i v5121) (k0_t4 : Fin (k0_t4_loop v5121).trips), ∀ (k0_h2 : k0_cond2 i = 1#1), ∀ a, (k0_off348 v5121 k0_t4) a + S1x1.size a ≤ S6x2048.size a := fun i v5121 k0_hw66 k0_t4 k0_h2 => k0_hw66.2.2.2.1.2.2.2.2.2.2.2.2.1 k0_t4 k0_h2
theorem k0_off350_inb : ∀ (i : grid0.Coords) (v5121 : BitVec 32) (k0_hw66 : k0_chk66 i v5121) (k0_t4 : Fin (k0_t4_loop v5121).trips), ∀ (k0_h2 : k0_cond2 i = 1#1), ∀ a, (k0_off350 v5121 k0_t4) a + S1x32.size a ≤ S2048x128.size a := fun i v5121 k0_hw66 k0_t4 k0_h2 => k0_hw66.2.2.2.1.2.2.2.2.2.2.2.2.2.1 k0_t4 k0_h2
theorem k0_off351_inb : ∀ (i : grid0.Coords) (v5121 : BitVec 32) (k0_hw66 : k0_chk66 i v5121) (k0_t4 : Fin (k0_t4_loop v5121).trips), ∀ (k0_h2 : k0_cond2 i = 1#1), ∀ a, (k0_off351 v5121 k0_t4) a + S1x1.size a ≤ S6x2048.size a := fun i v5121 k0_hw66 k0_t4 k0_h2 => k0_hw66.2.2.2.1.2.2.2.2.2.2.2.2.2.2.1 k0_t4 k0_h2
theorem k0_off353_inb : ∀ (i : grid0.Coords) (v5121 : BitVec 32) (k0_hw66 : k0_chk66 i v5121) (k0_t4 : Fin (k0_t4_loop v5121).trips), ∀ (k0_h2 : k0_cond2 i = 1#1), ∀ a, (k0_off353 v5121 k0_t4) a + S1x32.size a ≤ S2048x128.size a := fun i v5121 k0_hw66 k0_t4 k0_h2 => k0_hw66.2.2.2.1.2.2.2.2.2.2.2.2.2.2.2.1 k0_t4 k0_h2
theorem k0_off354_inb : ∀ (i : grid0.Coords) (v5121 : BitVec 32) (k0_hw66 : k0_chk66 i v5121) (k0_t4 : Fin (k0_t4_loop v5121).trips), ∀ (k0_h2 : k0_cond2 i = 1#1), ∀ a, (k0_off354 v5121 k0_t4) a + S1x1.size a ≤ S6x2048.size a := fun i v5121 k0_hw66 k0_t4 k0_h2 => k0_hw66.2.2.2.1.2.2.2.2.2.2.2.2.2.2.2.2.1 k0_t4 k0_h2
theorem k0_off356_inb : ∀ (i : grid0.Coords) (v5121 : BitVec 32) (k0_hw66 : k0_chk66 i v5121) (k0_t4 : Fin (k0_t4_loop v5121).trips), ∀ (k0_h2 : k0_cond2 i = 1#1), ∀ a, (k0_off356 v5121 k0_t4) a + S1x32.size a ≤ S2048x128.size a := fun i v5121 k0_hw66 k0_t4 k0_h2 => k0_hw66.2.2.2.1.2.2.2.2.2.2.2.2.2.2.2.2.2.1 k0_t4 k0_h2
theorem k0_off357_inb : ∀ (i : grid0.Coords) (v5121 : BitVec 32) (k0_hw66 : k0_chk66 i v5121) (k0_t4 : Fin (k0_t4_loop v5121).trips), ∀ (k0_h2 : k0_cond2 i = 1#1), ∀ a, (k0_off357 v5121 k0_t4) a + S1x1.size a ≤ S6x2048.size a := fun i v5121 k0_hw66 k0_t4 k0_h2 => k0_hw66.2.2.2.1.2.2.2.2.2.2.2.2.2.2.2.2.2.2.1 k0_t4 k0_h2
theorem k0_off359_inb : ∀ (i : grid0.Coords) (v5121 : BitVec 32) (k0_hw66 : k0_chk66 i v5121) (k0_t4 : Fin (k0_t4_loop v5121).trips), ∀ (k0_h2 : k0_cond2 i = 1#1), ∀ a, (k0_off359 v5121 k0_t4) a + S1x32.size a ≤ S2048x128.size a := fun i v5121 k0_hw66 k0_t4 k0_h2 => k0_hw66.2.2.2.1.2.2.2.2.2.2.2.2.2.2.2.2.2.2.2.1 k0_t4 k0_h2
theorem k0_off360_inb : ∀ (i : grid0.Coords) (v5121 : BitVec 32) (k0_hw66 : k0_chk66 i v5121) (k0_t4 : Fin (k0_t4_loop v5121).trips), ∀ (k0_h2 : k0_cond2 i = 1#1), ∀ a, (k0_off360 v5121 k0_t4) a + S1x1.size a ≤ S6x2048.size a := fun i v5121 k0_hw66 k0_t4 k0_h2 => k0_hw66.2.2.2.1.2.2.2.2.2.2.2.2.2.2.2.2.2.2.2.2.1 k0_t4 k0_h2
theorem k0_off362_inb : ∀ (i : grid0.Coords) (v5121 : BitVec 32) (k0_hw66 : k0_chk66 i v5121) (k0_t4 : Fin (k0_t4_loop v5121).trips), ∀ (k0_h2 : k0_cond2 i = 1#1), ∀ a, (k0_off362 v5121 k0_t4) a + S1x32.size a ≤ S2048x128.size a := fun i v5121 k0_hw66 k0_t4 k0_h2 => k0_hw66.2.2.2.1.2.2.2.2.2.2.2.2.2.2.2.2.2.2.2.2.2.1 k0_t4 k0_h2
theorem k0_off363_inb : ∀ (i : grid0.Coords) (v5121 : BitVec 32) (k0_hw66 : k0_chk66 i v5121) (k0_t4 : Fin (k0_t4_loop v5121).trips), ∀ (k0_h2 : k0_cond2 i = 1#1), ∀ a, (k0_off363 v5121 k0_t4) a + S1x1.size a ≤ S6x2048.size a := fun i v5121 k0_hw66 k0_t4 k0_h2 => k0_hw66.2.2.2.1.2.2.2.2.2.2.2.2.2.2.2.2.2.2.2.2.2.2.1 k0_t4 k0_h2
theorem k0_off365_inb : ∀ (i : grid0.Coords) (v5121 : BitVec 32) (k0_hw66 : k0_chk66 i v5121) (k0_t4 : Fin (k0_t4_loop v5121).trips), ∀ (k0_h2 : k0_cond2 i = 1#1), ∀ a, (k0_off365 v5121 k0_t4) a + S1x32.size a ≤ S2048x128.size a := fun i v5121 k0_hw66 k0_t4 k0_h2 => k0_hw66.2.2.2.1.2.2.2.2.2.2.2.2.2.2.2.2.2.2.2.2.2.2.2.1 k0_t4 k0_h2
theorem k0_off366_inb : ∀ (i : grid0.Coords) (v5121 : BitVec 32) (k0_hw66 : k0_chk66 i v5121) (k0_t4 : Fin (k0_t4_loop v5121).trips), ∀ (k0_h2 : k0_cond2 i = 1#1), ∀ a, (k0_off366 v5121 k0_t4) a + S1x1.size a ≤ S6x2048.size a := fun i v5121 k0_hw66 k0_t4 k0_h2 => k0_hw66.2.2.2.1.2.2.2.2.2.2.2.2.2.2.2.2.2.2.2.2.2.2.2.2.1 k0_t4 k0_h2
theorem k0_off368_inb : ∀ (i : grid0.Coords) (v5121 : BitVec 32) (k0_hw66 : k0_chk66 i v5121) (k0_t4 : Fin (k0_t4_loop v5121).trips), ∀ (k0_h2 : k0_cond2 i = 1#1), ∀ a, (k0_off368 v5121 k0_t4) a + S1x32.size a ≤ S2048x128.size a := fun i v5121 k0_hw66 k0_t4 k0_h2 => k0_hw66.2.2.2.1.2.2.2.2.2.2.2.2.2.2.2.2.2.2.2.2.2.2.2.2.2.1 k0_t4 k0_h2
theorem k0_off369_inb : ∀ (i : grid0.Coords) (v5121 : BitVec 32) (k0_hw66 : k0_chk66 i v5121) (k0_t4 : Fin (k0_t4_loop v5121).trips), ∀ (k0_h2 : k0_cond2 i = 1#1), ∀ a, (k0_off369 v5121 k0_t4) a + S1x1.size a ≤ S6x2048.size a := fun i v5121 k0_hw66 k0_t4 k0_h2 => k0_hw66.2.2.2.1.2.2.2.2.2.2.2.2.2.2.2.2.2.2.2.2.2.2.2.2.2.2.1 k0_t4 k0_h2
theorem k0_off371_inb : ∀ (i : grid0.Coords) (v5121 : BitVec 32) (k0_hw66 : k0_chk66 i v5121) (k0_t4 : Fin (k0_t4_loop v5121).trips), ∀ (k0_h2 : k0_cond2 i = 1#1), ∀ a, (k0_off371 v5121 k0_t4) a + S1x32.size a ≤ S2048x128.size a := fun i v5121 k0_hw66 k0_t4 k0_h2 => k0_hw66.2.2.2.1.2.2.2.2.2.2.2.2.2.2.2.2.2.2.2.2.2.2.2.2.2.2.2.1 k0_t4 k0_h2
theorem k0_off372_inb : ∀ (i : grid0.Coords) (v5121 : BitVec 32) (k0_hw66 : k0_chk66 i v5121) (k0_t4 : Fin (k0_t4_loop v5121).trips), ∀ (k0_h2 : k0_cond2 i = 1#1), ∀ a, (k0_off372 v5121 k0_t4) a + S1x1.size a ≤ S6x2048.size a := fun i v5121 k0_hw66 k0_t4 k0_h2 => k0_hw66.2.2.2.1.2.2.2.2.2.2.2.2.2.2.2.2.2.2.2.2.2.2.2.2.2.2.2.2.1 k0_t4 k0_h2
theorem k0_off374_inb : ∀ (i : grid0.Coords) (v5121 : BitVec 32) (k0_hw66 : k0_chk66 i v5121) (k0_t4 : Fin (k0_t4_loop v5121).trips), ∀ (k0_h2 : k0_cond2 i = 1#1), ∀ a, (k0_off374 v5121 k0_t4) a + S1x32.size a ≤ S2048x128.size a := fun i v5121 k0_hw66 k0_t4 k0_h2 => k0_hw66.2.2.2.1.2.2.2.2.2.2.2.2.2.2.2.2.2.2.2.2.2.2.2.2.2.2.2.2.2.1 k0_t4 k0_h2
theorem k0_off375_inb : ∀ (i : grid0.Coords) (v5121 : BitVec 32) (k0_hw66 : k0_chk66 i v5121) (k0_t4 : Fin (k0_t4_loop v5121).trips), ∀ (k0_h2 : k0_cond2 i = 1#1), ∀ a, (k0_off375 v5121 k0_t4) a + S1x1.size a ≤ S6x2048.size a := fun i v5121 k0_hw66 k0_t4 k0_h2 => k0_hw66.2.2.2.1.2.2.2.2.2.2.2.2.2.2.2.2.2.2.2.2.2.2.2.2.2.2.2.2.2.2.1 k0_t4 k0_h2
theorem k0_off377_inb : ∀ (i : grid0.Coords) (v5121 : BitVec 32) (k0_hw66 : k0_chk66 i v5121) (k0_t4 : Fin (k0_t4_loop v5121).trips), ∀ (k0_h2 : k0_cond2 i = 1#1), ∀ a, (k0_off377 v5121 k0_t4) a + S1x32.size a ≤ S2048x128.size a := fun i v5121 k0_hw66 k0_t4 k0_h2 => k0_hw66.2.2.2.1.2.2.2.2.2.2.2.2.2.2.2.2.2.2.2.2.2.2.2.2.2.2.2.2.2.2.2.1 k0_t4 k0_h2
theorem k0_off378_inb : ∀ (i : grid0.Coords) (v5121 : BitVec 32) (k0_hw66 : k0_chk66 i v5121) (k0_t4 : Fin (k0_t4_loop v5121).trips), ∀ (k0_h2 : k0_cond2 i = 1#1), ∀ a, (k0_off378 v5121 k0_t4) a + S1x1.size a ≤ S6x2048.size a := fun i v5121 k0_hw66 k0_t4 k0_h2 => k0_hw66.2.2.2.1.2.2.2.2.2.2.2.2.2.2.2.2.2.2.2.2.2.2.2.2.2.2.2.2.2.2.2.2.1 k0_t4 k0_h2
theorem k0_off380_inb : ∀ (i : grid0.Coords) (v5121 : BitVec 32) (k0_hw66 : k0_chk66 i v5121) (k0_t4 : Fin (k0_t4_loop v5121).trips), ∀ (k0_h2 : k0_cond2 i = 1#1), ∀ a, (k0_off380 v5121 k0_t4) a + S1x32.size a ≤ S2048x128.size a := fun i v5121 k0_hw66 k0_t4 k0_h2 => k0_hw66.2.2.2.1.2.2.2.2.2.2.2.2.2.2.2.2.2.2.2.2.2.2.2.2.2.2.2.2.2.2.2.2.2.1 k0_t4 k0_h2
theorem k0_off381_inb : ∀ (i : grid0.Coords) (v5121 : BitVec 32) (k0_hw66 : k0_chk66 i v5121) (k0_t4 : Fin (k0_t4_loop v5121).trips), ∀ (k0_h2 : k0_cond2 i = 1#1), ∀ a, (k0_off381 v5121 k0_t4) a + S1x1.size a ≤ S6x2048.size a := fun i v5121 k0_hw66 k0_t4 k0_h2 => k0_hw66.2.2.2.1.2.2.2.2.2.2.2.2.2.2.2.2.2.2.2.2.2.2.2.2.2.2.2.2.2.2.2.2.2.2.1 k0_t4 k0_h2
theorem k0_off383_inb : ∀ (i : grid0.Coords) (v5121 : BitVec 32) (k0_hw66 : k0_chk66 i v5121) (k0_t4 : Fin (k0_t4_loop v5121).trips), ∀ (k0_h2 : k0_cond2 i = 1#1), ∀ a, (k0_off383 v5121 k0_t4) a + S1x32.size a ≤ S2048x128.size a := fun i v5121 k0_hw66 k0_t4 k0_h2 => k0_hw66.2.2.2.1.2.2.2.2.2.2.2.2.2.2.2.2.2.2.2.2.2.2.2.2.2.2.2.2.2.2.2.2.2.2.2 k0_t4 k0_h2
theorem k0_off384_inb : ∀ (i : grid0.Coords) (v5121 : BitVec 32) (k0_hw66 : k0_chk66 i v5121) (k0_t4 : Fin (k0_t4_loop v5121).trips), ∀ (k0_h2 : k0_cond2 i = 1#1), ∀ a, (k0_off384 v5121 k0_t4) a + S1x1.size a ≤ S6x2048.size a := fun i v5121 k0_hw66 k0_t4 k0_h2 => k0_hw66.2.2.2.2.1 k0_t4 k0_h2
theorem k0_off386_inb : ∀ (i : grid0.Coords) (v5121 : BitVec 32) (k0_hw66 : k0_chk66 i v5121) (k0_t4 : Fin (k0_t4_loop v5121).trips), ∀ (k0_h2 : k0_cond2 i = 1#1), ∀ a, (k0_off386 v5121 k0_t4) a + S1x32.size a ≤ S2048x128.size a := fun i v5121 k0_hw66 k0_t4 k0_h2 => k0_hw66.2.2.2.2.2 k0_t4 k0_h2

@[reducible] def k0_t5_loop (v5167 : BitVec 32) : Scf.Loop 32 :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1579 : BitVec 32 := 1#32
  ⟨c0_i32_1576, v5210, c1_i32_1579⟩

def k0_off387 (v5167 : BitVec 32) (k0_t5 : Fin (k0_t5_loop v5167).trips) : Fin 2 → Nat :=
  let c2_2208 : Index := 2#32
  let c0_i32_1576 : BitVec 32 := 0#32
  let c1_i32_1579 : BitVec 32 := 1#32
  let arg13 : BitVec 32 := Scf.iv c0_i32_1576 c1_i32_1579 k0_t5
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![2, v6553.toNat]
def k0_off388 (v6554 : BitVec 32) : Fin 2 → Nat :=
  let v6555 : Index := Scalar.indexCast v6554
  let c64_2209 : Index := 64#32
  ![v6555.toNat, 64]

def k0_chk132 (i : grid0.Coords) (v6554 : BitVec 32) : Prop :=
  (∀ (k0_h2 : k0_cond2 i = 1#1), ∀ a, (k0_off388 v6554) a + S1x32.size a ≤ S15360x128.size a)
theorem k0_off388_inb : ∀ (i : grid0.Coords) (v6554 : BitVec 32) (k0_hw132 : k0_chk132 i v6554), ∀ (k0_h2 : k0_cond2 i = 1#1), ∀ a, (k0_off388 v6554) a + S1x32.size a ≤ S15360x128.size a := fun i v6554 k0_hw132 k0_h2 => k0_hw132 k0_h2

def k0_off389 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c64_2210 : Index := 64#32
  ![v6557.toNat, 64]
def k0_off390 (v5167 : BitVec 32) (k0_t5 : Fin (k0_t5_loop v5167).trips) : Fin 2 → Nat :=
  let c2_2213 : Index := 2#32
  let c0_i32_1576 : BitVec 32 := 0#32
  let c1_i32_1579 : BitVec 32 := 1#32
  let arg13 : BitVec 32 := Scf.iv c0_i32_1576 c1_i32_1579 k0_t5
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6563 : Index := Scalar.indexCast v6562
  ![2, v6563.toNat]
def k0_off391 (v6564 : BitVec 32) : Fin 2 → Nat :=
  let v6565 : Index := Scalar.indexCast v6564
  let c64_2214 : Index := 64#32
  ![v6565.toNat, 64]

def k0_chk133 (i : grid0.Coords) (v6564 : BitVec 32) : Prop :=
  (∀ (k0_h2 : k0_cond2 i = 1#1), ∀ a, (k0_off391 v6564) a + S1x32.size a ≤ S15360x128.size a)
theorem k0_off391_inb : ∀ (i : grid0.Coords) (v6564 : BitVec 32) (k0_hw133 : k0_chk133 i v6564), ∀ (k0_h2 : k0_cond2 i = 1#1), ∀ a, (k0_off391 v6564) a + S1x32.size a ≤ S15360x128.size a := fun i v6564 k0_hw133 k0_h2 => k0_hw133 k0_h2

def k0_off392 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6567 : Index := Scalar.indexCast v6562
  let c64_2215 : Index := 64#32
  ![v6567.toNat, 64]
def k0_off393 (v5167 : BitVec 32) (k0_t5 : Fin (k0_t5_loop v5167).trips) : Fin 2 → Nat :=
  let c2_2218 : Index := 2#32
  let c0_i32_1576 : BitVec 32 := 0#32
  let c1_i32_1579 : BitVec 32 := 1#32
  let arg13 : BitVec 32 := Scf.iv c0_i32_1576 c1_i32_1579 k0_t5
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6573 : Index := Scalar.indexCast v6572
  ![2, v6573.toNat]
def k0_off394 (v6574 : BitVec 32) : Fin 2 → Nat :=
  let v6575 : Index := Scalar.indexCast v6574
  let c64_2219 : Index := 64#32
  ![v6575.toNat, 64]

def k0_chk134 (i : grid0.Coords) (v6574 : BitVec 32) : Prop :=
  (∀ (k0_h2 : k0_cond2 i = 1#1), ∀ a, (k0_off394 v6574) a + S1x32.size a ≤ S15360x128.size a)
theorem k0_off394_inb : ∀ (i : grid0.Coords) (v6574 : BitVec 32) (k0_hw134 : k0_chk134 i v6574), ∀ (k0_h2 : k0_cond2 i = 1#1), ∀ a, (k0_off394 v6574) a + S1x32.size a ≤ S15360x128.size a := fun i v6574 k0_hw134 k0_h2 => k0_hw134 k0_h2

def k0_off395 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6577 : Index := Scalar.indexCast v6572
  let c64_2220 : Index := 64#32
  ![v6577.toNat, 64]
def k0_off396 (v5167 : BitVec 32) (k0_t5 : Fin (k0_t5_loop v5167).trips) : Fin 2 → Nat :=
  let c2_2223 : Index := 2#32
  let c0_i32_1576 : BitVec 32 := 0#32
  let c1_i32_1579 : BitVec 32 := 1#32
  let arg13 : BitVec 32 := Scf.iv c0_i32_1576 c1_i32_1579 k0_t5
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6583 : Index := Scalar.indexCast v6582
  ![2, v6583.toNat]
def k0_off397 (v6584 : BitVec 32) : Fin 2 → Nat :=
  let v6585 : Index := Scalar.indexCast v6584
  let c64_2224 : Index := 64#32
  ![v6585.toNat, 64]

def k0_chk135 (i : grid0.Coords) (v6584 : BitVec 32) : Prop :=
  (∀ (k0_h2 : k0_cond2 i = 1#1), ∀ a, (k0_off397 v6584) a + S1x32.size a ≤ S15360x128.size a)
theorem k0_off397_inb : ∀ (i : grid0.Coords) (v6584 : BitVec 32) (k0_hw135 : k0_chk135 i v6584), ∀ (k0_h2 : k0_cond2 i = 1#1), ∀ a, (k0_off397 v6584) a + S1x32.size a ≤ S15360x128.size a := fun i v6584 k0_hw135 k0_h2 => k0_hw135 k0_h2

def k0_off398 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6587 : Index := Scalar.indexCast v6582
  let c64_2225 : Index := 64#32
  ![v6587.toNat, 64]
def k0_off399 (v5167 : BitVec 32) (k0_t5 : Fin (k0_t5_loop v5167).trips) : Fin 2 → Nat :=
  let c2_2228 : Index := 2#32
  let c0_i32_1576 : BitVec 32 := 0#32
  let c1_i32_1579 : BitVec 32 := 1#32
  let arg13 : BitVec 32 := Scf.iv c0_i32_1576 c1_i32_1579 k0_t5
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6593 : Index := Scalar.indexCast v6592
  ![2, v6593.toNat]
def k0_off400 (v6594 : BitVec 32) : Fin 2 → Nat :=
  let v6595 : Index := Scalar.indexCast v6594
  let c64_2229 : Index := 64#32
  ![v6595.toNat, 64]

def k0_chk136 (i : grid0.Coords) (v6594 : BitVec 32) : Prop :=
  (∀ (k0_h2 : k0_cond2 i = 1#1), ∀ a, (k0_off400 v6594) a + S1x32.size a ≤ S15360x128.size a)
theorem k0_off400_inb : ∀ (i : grid0.Coords) (v6594 : BitVec 32) (k0_hw136 : k0_chk136 i v6594), ∀ (k0_h2 : k0_cond2 i = 1#1), ∀ a, (k0_off400 v6594) a + S1x32.size a ≤ S15360x128.size a := fun i v6594 k0_hw136 k0_h2 => k0_hw136 k0_h2

def k0_off401 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6597 : Index := Scalar.indexCast v6592
  let c64_2230 : Index := 64#32
  ![v6597.toNat, 64]
def k0_off402 (v5167 : BitVec 32) (k0_t5 : Fin (k0_t5_loop v5167).trips) : Fin 2 → Nat :=
  let c2_2232 : Index := 2#32
  let c0_i32_1576 : BitVec 32 := 0#32
  let c1_i32_1579 : BitVec 32 := 1#32
  let arg13 : BitVec 32 := Scf.iv c0_i32_1576 c1_i32_1579 k0_t5
  let c32_i32_2231 : BitVec 32 := 32#32
  let v6601 : BitVec 32 := Scalar.muli arg13 c32_i32_2231
  let c5_i32 : BitVec 32 := 5#32
  let v6602 : BitVec 32 := Scalar.addi v6601 c5_i32
  let v6603 : Index := Scalar.indexCast v6602
  ![2, v6603.toNat]
def k0_off403 (v6604 : BitVec 32) : Fin 2 → Nat :=
  let v6605 : Index := Scalar.indexCast v6604
  let c64_2233 : Index := 64#32
  ![v6605.toNat, 64]

def k0_chk137 (i : grid0.Coords) (v6604 : BitVec 32) : Prop :=
  (∀ (k0_h2 : k0_cond2 i = 1#1), ∀ a, (k0_off403 v6604) a + S1x32.size a ≤ S15360x128.size a)
theorem k0_off403_inb : ∀ (i : grid0.Coords) (v6604 : BitVec 32) (k0_hw137 : k0_chk137 i v6604), ∀ (k0_h2 : k0_cond2 i = 1#1), ∀ a, (k0_off403 v6604) a + S1x32.size a ≤ S15360x128.size a := fun i v6604 k0_hw137 k0_h2 => k0_hw137 k0_h2

def k0_off404 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2231 : BitVec 32 := 32#32
  let v6601 : BitVec 32 := Scalar.muli arg13 c32_i32_2231
  let c5_i32 : BitVec 32 := 5#32
  let v6602 : BitVec 32 := Scalar.addi v6601 c5_i32
  let v6607 : Index := Scalar.indexCast v6602
  let c64_2234 : Index := 64#32
  ![v6607.toNat, 64]
def k0_off405 (v5167 : BitVec 32) (k0_t5 : Fin (k0_t5_loop v5167).trips) : Fin 2 → Nat :=
  let c2_2236 : Index := 2#32
  let c0_i32_1576 : BitVec 32 := 0#32
  let c1_i32_1579 : BitVec 32 := 1#32
  let arg13 : BitVec 32 := Scf.iv c0_i32_1576 c1_i32_1579 k0_t5
  let c32_i32_2235 : BitVec 32 := 32#32
  let v6611 : BitVec 32 := Scalar.muli arg13 c32_i32_2235
  let c6_i32 : BitVec 32 := 6#32
  let v6612 : BitVec 32 := Scalar.addi v6611 c6_i32
  let v6613 : Index := Scalar.indexCast v6612
  ![2, v6613.toNat]
def k0_off406 (v6614 : BitVec 32) : Fin 2 → Nat :=
  let v6615 : Index := Scalar.indexCast v6614
  let c64_2237 : Index := 64#32
  ![v6615.toNat, 64]

def k0_chk138 (i : grid0.Coords) (v6614 : BitVec 32) : Prop :=
  (∀ (k0_h2 : k0_cond2 i = 1#1), ∀ a, (k0_off406 v6614) a + S1x32.size a ≤ S15360x128.size a)
theorem k0_off406_inb : ∀ (i : grid0.Coords) (v6614 : BitVec 32) (k0_hw138 : k0_chk138 i v6614), ∀ (k0_h2 : k0_cond2 i = 1#1), ∀ a, (k0_off406 v6614) a + S1x32.size a ≤ S15360x128.size a := fun i v6614 k0_hw138 k0_h2 => k0_hw138 k0_h2

def k0_off407 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2235 : BitVec 32 := 32#32
  let v6611 : BitVec 32 := Scalar.muli arg13 c32_i32_2235
  let c6_i32 : BitVec 32 := 6#32
  let v6612 : BitVec 32 := Scalar.addi v6611 c6_i32
  let v6617 : Index := Scalar.indexCast v6612
  let c64_2238 : Index := 64#32
  ![v6617.toNat, 64]
def k0_off408 (v5167 : BitVec 32) (k0_t5 : Fin (k0_t5_loop v5167).trips) : Fin 2 → Nat :=
  let c2_2240 : Index := 2#32
  let c0_i32_1576 : BitVec 32 := 0#32
  let c1_i32_1579 : BitVec 32 := 1#32
  let arg13 : BitVec 32 := Scf.iv c0_i32_1576 c1_i32_1579 k0_t5
  let c32_i32_2239 : BitVec 32 := 32#32
  let v6621 : BitVec 32 := Scalar.muli arg13 c32_i32_2239
  let c7_i32 : BitVec 32 := 7#32
  let v6622 : BitVec 32 := Scalar.addi v6621 c7_i32
  let v6623 : Index := Scalar.indexCast v6622
  ![2, v6623.toNat]
def k0_off409 (v6624 : BitVec 32) : Fin 2 → Nat :=
  let v6625 : Index := Scalar.indexCast v6624
  let c64_2241 : Index := 64#32
  ![v6625.toNat, 64]

def k0_chk139 (i : grid0.Coords) (v6624 : BitVec 32) : Prop :=
  (∀ (k0_h2 : k0_cond2 i = 1#1), ∀ a, (k0_off409 v6624) a + S1x32.size a ≤ S15360x128.size a)
theorem k0_off409_inb : ∀ (i : grid0.Coords) (v6624 : BitVec 32) (k0_hw139 : k0_chk139 i v6624), ∀ (k0_h2 : k0_cond2 i = 1#1), ∀ a, (k0_off409 v6624) a + S1x32.size a ≤ S15360x128.size a := fun i v6624 k0_hw139 k0_h2 => k0_hw139 k0_h2

def k0_off410 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2239 : BitVec 32 := 32#32
  let v6621 : BitVec 32 := Scalar.muli arg13 c32_i32_2239
  let c7_i32 : BitVec 32 := 7#32
  let v6622 : BitVec 32 := Scalar.addi v6621 c7_i32
  let v6627 : Index := Scalar.indexCast v6622
  let c64_2242 : Index := 64#32
  ![v6627.toNat, 64]
def k0_off411 (v5167 : BitVec 32) (k0_t5 : Fin (k0_t5_loop v5167).trips) : Fin 2 → Nat :=
  let c2_2244 : Index := 2#32
  let c0_i32_1576 : BitVec 32 := 0#32
  let c1_i32_1579 : BitVec 32 := 1#32
  let arg13 : BitVec 32 := Scf.iv c0_i32_1576 c1_i32_1579 k0_t5
  let c32_i32_2243 : BitVec 32 := 32#32
  let v6631 : BitVec 32 := Scalar.muli arg13 c32_i32_2243
  let c8_i32 : BitVec 32 := 8#32
  let v6632 : BitVec 32 := Scalar.addi v6631 c8_i32
  let v6633 : Index := Scalar.indexCast v6632
  ![2, v6633.toNat]
def k0_off412 (v6634 : BitVec 32) : Fin 2 → Nat :=
  let v6635 : Index := Scalar.indexCast v6634
  let c64_2245 : Index := 64#32
  ![v6635.toNat, 64]

def k0_chk140 (i : grid0.Coords) (v6634 : BitVec 32) : Prop :=
  (∀ (k0_h2 : k0_cond2 i = 1#1), ∀ a, (k0_off412 v6634) a + S1x32.size a ≤ S15360x128.size a)
theorem k0_off412_inb : ∀ (i : grid0.Coords) (v6634 : BitVec 32) (k0_hw140 : k0_chk140 i v6634), ∀ (k0_h2 : k0_cond2 i = 1#1), ∀ a, (k0_off412 v6634) a + S1x32.size a ≤ S15360x128.size a := fun i v6634 k0_hw140 k0_h2 => k0_hw140 k0_h2

def k0_off413 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2243 : BitVec 32 := 32#32
  let v6631 : BitVec 32 := Scalar.muli arg13 c32_i32_2243
  let c8_i32 : BitVec 32 := 8#32
  let v6632 : BitVec 32 := Scalar.addi v6631 c8_i32
  let v6637 : Index := Scalar.indexCast v6632
  let c64_2246 : Index := 64#32
  ![v6637.toNat, 64]
def k0_off414 (v5167 : BitVec 32) (k0_t5 : Fin (k0_t5_loop v5167).trips) : Fin 2 → Nat :=
  let c2_2248 : Index := 2#32
  let c0_i32_1576 : BitVec 32 := 0#32
  let c1_i32_1579 : BitVec 32 := 1#32
  let arg13 : BitVec 32 := Scf.iv c0_i32_1576 c1_i32_1579 k0_t5
  let c32_i32_2247 : BitVec 32 := 32#32
  let v6641 : BitVec 32 := Scalar.muli arg13 c32_i32_2247
  let c9_i32 : BitVec 32 := 9#32
  let v6642 : BitVec 32 := Scalar.addi v6641 c9_i32
  let v6643 : Index := Scalar.indexCast v6642
  ![2, v6643.toNat]
def k0_off415 (v6644 : BitVec 32) : Fin 2 → Nat :=
  let v6645 : Index := Scalar.indexCast v6644
  let c64_2249 : Index := 64#32
  ![v6645.toNat, 64]

def k0_chk141 (i : grid0.Coords) (v6644 : BitVec 32) : Prop :=
  (∀ (k0_h2 : k0_cond2 i = 1#1), ∀ a, (k0_off415 v6644) a + S1x32.size a ≤ S15360x128.size a)
theorem k0_off415_inb : ∀ (i : grid0.Coords) (v6644 : BitVec 32) (k0_hw141 : k0_chk141 i v6644), ∀ (k0_h2 : k0_cond2 i = 1#1), ∀ a, (k0_off415 v6644) a + S1x32.size a ≤ S15360x128.size a := fun i v6644 k0_hw141 k0_h2 => k0_hw141 k0_h2

def k0_off416 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2247 : BitVec 32 := 32#32
  let v6641 : BitVec 32 := Scalar.muli arg13 c32_i32_2247
  let c9_i32 : BitVec 32 := 9#32
  let v6642 : BitVec 32 := Scalar.addi v6641 c9_i32
  let v6647 : Index := Scalar.indexCast v6642
  let c64_2250 : Index := 64#32
  ![v6647.toNat, 64]
def k0_off417 (v5167 : BitVec 32) (k0_t5 : Fin (k0_t5_loop v5167).trips) : Fin 2 → Nat :=
  let c2_2252 : Index := 2#32
  let c0_i32_1576 : BitVec 32 := 0#32
  let c1_i32_1579 : BitVec 32 := 1#32
  let arg13 : BitVec 32 := Scf.iv c0_i32_1576 c1_i32_1579 k0_t5
  let c32_i32_2251 : BitVec 32 := 32#32
  let v6651 : BitVec 32 := Scalar.muli arg13 c32_i32_2251
  let c10_i32 : BitVec 32 := 10#32
  let v6652 : BitVec 32 := Scalar.addi v6651 c10_i32
  let v6653 : Index := Scalar.indexCast v6652
  ![2, v6653.toNat]
def k0_off418 (v6654 : BitVec 32) : Fin 2 → Nat :=
  let v6655 : Index := Scalar.indexCast v6654
  let c64_2253 : Index := 64#32
  ![v6655.toNat, 64]

def k0_chk142 (i : grid0.Coords) (v6654 : BitVec 32) : Prop :=
  (∀ (k0_h2 : k0_cond2 i = 1#1), ∀ a, (k0_off418 v6654) a + S1x32.size a ≤ S15360x128.size a)
theorem k0_off418_inb : ∀ (i : grid0.Coords) (v6654 : BitVec 32) (k0_hw142 : k0_chk142 i v6654), ∀ (k0_h2 : k0_cond2 i = 1#1), ∀ a, (k0_off418 v6654) a + S1x32.size a ≤ S15360x128.size a := fun i v6654 k0_hw142 k0_h2 => k0_hw142 k0_h2

def k0_off419 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2251 : BitVec 32 := 32#32
  let v6651 : BitVec 32 := Scalar.muli arg13 c32_i32_2251
  let c10_i32 : BitVec 32 := 10#32
  let v6652 : BitVec 32 := Scalar.addi v6651 c10_i32
  let v6657 : Index := Scalar.indexCast v6652
  let c64_2254 : Index := 64#32
  ![v6657.toNat, 64]
def k0_off420 (v5167 : BitVec 32) (k0_t5 : Fin (k0_t5_loop v5167).trips) : Fin 2 → Nat :=
  let c2_2256 : Index := 2#32
  let c0_i32_1576 : BitVec 32 := 0#32
  let c1_i32_1579 : BitVec 32 := 1#32
  let arg13 : BitVec 32 := Scf.iv c0_i32_1576 c1_i32_1579 k0_t5
  let c32_i32_2255 : BitVec 32 := 32#32
  let v6661 : BitVec 32 := Scalar.muli arg13 c32_i32_2255
  let c11_i32 : BitVec 32 := 11#32
  let v6662 : BitVec 32 := Scalar.addi v6661 c11_i32
  let v6663 : Index := Scalar.indexCast v6662
  ![2, v6663.toNat]
def k0_off421 (v6664 : BitVec 32) : Fin 2 → Nat :=
  let v6665 : Index := Scalar.indexCast v6664
  let c64_2257 : Index := 64#32
  ![v6665.toNat, 64]

def k0_chk143 (i : grid0.Coords) (v6664 : BitVec 32) : Prop :=
  (∀ (k0_h2 : k0_cond2 i = 1#1), ∀ a, (k0_off421 v6664) a + S1x32.size a ≤ S15360x128.size a)
theorem k0_off421_inb : ∀ (i : grid0.Coords) (v6664 : BitVec 32) (k0_hw143 : k0_chk143 i v6664), ∀ (k0_h2 : k0_cond2 i = 1#1), ∀ a, (k0_off421 v6664) a + S1x32.size a ≤ S15360x128.size a := fun i v6664 k0_hw143 k0_h2 => k0_hw143 k0_h2

def k0_off422 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2255 : BitVec 32 := 32#32
  let v6661 : BitVec 32 := Scalar.muli arg13 c32_i32_2255
  let c11_i32 : BitVec 32 := 11#32
  let v6662 : BitVec 32 := Scalar.addi v6661 c11_i32
  let v6667 : Index := Scalar.indexCast v6662
  let c64_2258 : Index := 64#32
  ![v6667.toNat, 64]
def k0_off423 (v5167 : BitVec 32) (k0_t5 : Fin (k0_t5_loop v5167).trips) : Fin 2 → Nat :=
  let c2_2260 : Index := 2#32
  let c0_i32_1576 : BitVec 32 := 0#32
  let c1_i32_1579 : BitVec 32 := 1#32
  let arg13 : BitVec 32 := Scf.iv c0_i32_1576 c1_i32_1579 k0_t5
  let c32_i32_2259 : BitVec 32 := 32#32
  let v6671 : BitVec 32 := Scalar.muli arg13 c32_i32_2259
  let c12_i32 : BitVec 32 := 12#32
  let v6672 : BitVec 32 := Scalar.addi v6671 c12_i32
  let v6673 : Index := Scalar.indexCast v6672
  ![2, v6673.toNat]
def k0_off424 (v6674 : BitVec 32) : Fin 2 → Nat :=
  let v6675 : Index := Scalar.indexCast v6674
  let c64_2261 : Index := 64#32
  ![v6675.toNat, 64]

def k0_chk144 (i : grid0.Coords) (v6674 : BitVec 32) : Prop :=
  (∀ (k0_h2 : k0_cond2 i = 1#1), ∀ a, (k0_off424 v6674) a + S1x32.size a ≤ S15360x128.size a)
theorem k0_off424_inb : ∀ (i : grid0.Coords) (v6674 : BitVec 32) (k0_hw144 : k0_chk144 i v6674), ∀ (k0_h2 : k0_cond2 i = 1#1), ∀ a, (k0_off424 v6674) a + S1x32.size a ≤ S15360x128.size a := fun i v6674 k0_hw144 k0_h2 => k0_hw144 k0_h2

def k0_off425 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2259 : BitVec 32 := 32#32
  let v6671 : BitVec 32 := Scalar.muli arg13 c32_i32_2259
  let c12_i32 : BitVec 32 := 12#32
  let v6672 : BitVec 32 := Scalar.addi v6671 c12_i32
  let v6677 : Index := Scalar.indexCast v6672
  let c64_2262 : Index := 64#32
  ![v6677.toNat, 64]
def k0_off426 (v5167 : BitVec 32) (k0_t5 : Fin (k0_t5_loop v5167).trips) : Fin 2 → Nat :=
  let c2_2264 : Index := 2#32
  let c0_i32_1576 : BitVec 32 := 0#32
  let c1_i32_1579 : BitVec 32 := 1#32
  let arg13 : BitVec 32 := Scf.iv c0_i32_1576 c1_i32_1579 k0_t5
  let c32_i32_2263 : BitVec 32 := 32#32
  let v6681 : BitVec 32 := Scalar.muli arg13 c32_i32_2263
  let c13_i32 : BitVec 32 := 13#32
  let v6682 : BitVec 32 := Scalar.addi v6681 c13_i32
  let v6683 : Index := Scalar.indexCast v6682
  ![2, v6683.toNat]
def k0_off427 (v6684 : BitVec 32) : Fin 2 → Nat :=
  let v6685 : Index := Scalar.indexCast v6684
  let c64_2265 : Index := 64#32
  ![v6685.toNat, 64]

def k0_chk145 (i : grid0.Coords) (v6684 : BitVec 32) : Prop :=
  (∀ (k0_h2 : k0_cond2 i = 1#1), ∀ a, (k0_off427 v6684) a + S1x32.size a ≤ S15360x128.size a)
theorem k0_off427_inb : ∀ (i : grid0.Coords) (v6684 : BitVec 32) (k0_hw145 : k0_chk145 i v6684), ∀ (k0_h2 : k0_cond2 i = 1#1), ∀ a, (k0_off427 v6684) a + S1x32.size a ≤ S15360x128.size a := fun i v6684 k0_hw145 k0_h2 => k0_hw145 k0_h2

def k0_off428 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2263 : BitVec 32 := 32#32
  let v6681 : BitVec 32 := Scalar.muli arg13 c32_i32_2263
  let c13_i32 : BitVec 32 := 13#32
  let v6682 : BitVec 32 := Scalar.addi v6681 c13_i32
  let v6687 : Index := Scalar.indexCast v6682
  let c64_2266 : Index := 64#32
  ![v6687.toNat, 64]
def k0_off429 (v5167 : BitVec 32) (k0_t5 : Fin (k0_t5_loop v5167).trips) : Fin 2 → Nat :=
  let c2_2268 : Index := 2#32
  let c0_i32_1576 : BitVec 32 := 0#32
  let c1_i32_1579 : BitVec 32 := 1#32
  let arg13 : BitVec 32 := Scf.iv c0_i32_1576 c1_i32_1579 k0_t5
  let c32_i32_2267 : BitVec 32 := 32#32
  let v6691 : BitVec 32 := Scalar.muli arg13 c32_i32_2267
  let c14_i32 : BitVec 32 := 14#32
  let v6692 : BitVec 32 := Scalar.addi v6691 c14_i32
  let v6693 : Index := Scalar.indexCast v6692
  ![2, v6693.toNat]
def k0_off430 (v6694 : BitVec 32) : Fin 2 → Nat :=
  let v6695 : Index := Scalar.indexCast v6694
  let c64_2269 : Index := 64#32
  ![v6695.toNat, 64]

def k0_chk146 (i : grid0.Coords) (v6694 : BitVec 32) : Prop :=
  (∀ (k0_h2 : k0_cond2 i = 1#1), ∀ a, (k0_off430 v6694) a + S1x32.size a ≤ S15360x128.size a)
theorem k0_off430_inb : ∀ (i : grid0.Coords) (v6694 : BitVec 32) (k0_hw146 : k0_chk146 i v6694), ∀ (k0_h2 : k0_cond2 i = 1#1), ∀ a, (k0_off430 v6694) a + S1x32.size a ≤ S15360x128.size a := fun i v6694 k0_hw146 k0_h2 => k0_hw146 k0_h2

def k0_off431 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2267 : BitVec 32 := 32#32
  let v6691 : BitVec 32 := Scalar.muli arg13 c32_i32_2267
  let c14_i32 : BitVec 32 := 14#32
  let v6692 : BitVec 32 := Scalar.addi v6691 c14_i32
  let v6697 : Index := Scalar.indexCast v6692
  let c64_2270 : Index := 64#32
  ![v6697.toNat, 64]
def k0_off432 (v5167 : BitVec 32) (k0_t5 : Fin (k0_t5_loop v5167).trips) : Fin 2 → Nat :=
  let c2_2272 : Index := 2#32
  let c0_i32_1576 : BitVec 32 := 0#32
  let c1_i32_1579 : BitVec 32 := 1#32
  let arg13 : BitVec 32 := Scf.iv c0_i32_1576 c1_i32_1579 k0_t5
  let c32_i32_2271 : BitVec 32 := 32#32
  let v6701 : BitVec 32 := Scalar.muli arg13 c32_i32_2271
  let c15_i32 : BitVec 32 := 15#32
  let v6702 : BitVec 32 := Scalar.addi v6701 c15_i32
  let v6703 : Index := Scalar.indexCast v6702
  ![2, v6703.toNat]
def k0_off433 (v6704 : BitVec 32) : Fin 2 → Nat :=
  let v6705 : Index := Scalar.indexCast v6704
  let c64_2273 : Index := 64#32
  ![v6705.toNat, 64]

def k0_chk147 (i : grid0.Coords) (v6704 : BitVec 32) : Prop :=
  (∀ (k0_h2 : k0_cond2 i = 1#1), ∀ a, (k0_off433 v6704) a + S1x32.size a ≤ S15360x128.size a)
theorem k0_off433_inb : ∀ (i : grid0.Coords) (v6704 : BitVec 32) (k0_hw147 : k0_chk147 i v6704), ∀ (k0_h2 : k0_cond2 i = 1#1), ∀ a, (k0_off433 v6704) a + S1x32.size a ≤ S15360x128.size a := fun i v6704 k0_hw147 k0_h2 => k0_hw147 k0_h2

def k0_off434 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2271 : BitVec 32 := 32#32
  let v6701 : BitVec 32 := Scalar.muli arg13 c32_i32_2271
  let c15_i32 : BitVec 32 := 15#32
  let v6702 : BitVec 32 := Scalar.addi v6701 c15_i32
  let v6707 : Index := Scalar.indexCast v6702
  let c64_2274 : Index := 64#32
  ![v6707.toNat, 64]
def k0_off435 (v5167 : BitVec 32) (k0_t5 : Fin (k0_t5_loop v5167).trips) : Fin 2 → Nat :=
  let c2_2276 : Index := 2#32
  let c0_i32_1576 : BitVec 32 := 0#32
  let c1_i32_1579 : BitVec 32 := 1#32
  let arg13 : BitVec 32 := Scf.iv c0_i32_1576 c1_i32_1579 k0_t5
  let c32_i32_2275 : BitVec 32 := 32#32
  let v6711 : BitVec 32 := Scalar.muli arg13 c32_i32_2275
  let c16_i32 : BitVec 32 := 16#32
  let v6712 : BitVec 32 := Scalar.addi v6711 c16_i32
  let v6713 : Index := Scalar.indexCast v6712
  ![2, v6713.toNat]
def k0_off436 (v6714 : BitVec 32) : Fin 2 → Nat :=
  let v6715 : Index := Scalar.indexCast v6714
  let c64_2277 : Index := 64#32
  ![v6715.toNat, 64]

def k0_chk148 (i : grid0.Coords) (v6714 : BitVec 32) : Prop :=
  (∀ (k0_h2 : k0_cond2 i = 1#1), ∀ a, (k0_off436 v6714) a + S1x32.size a ≤ S15360x128.size a)
theorem k0_off436_inb : ∀ (i : grid0.Coords) (v6714 : BitVec 32) (k0_hw148 : k0_chk148 i v6714), ∀ (k0_h2 : k0_cond2 i = 1#1), ∀ a, (k0_off436 v6714) a + S1x32.size a ≤ S15360x128.size a := fun i v6714 k0_hw148 k0_h2 => k0_hw148 k0_h2

def k0_off437 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2275 : BitVec 32 := 32#32
  let v6711 : BitVec 32 := Scalar.muli arg13 c32_i32_2275
  let c16_i32 : BitVec 32 := 16#32
  let v6712 : BitVec 32 := Scalar.addi v6711 c16_i32
  let v6717 : Index := Scalar.indexCast v6712
  let c64_2278 : Index := 64#32
  ![v6717.toNat, 64]
def k0_off438 (v5167 : BitVec 32) (k0_t5 : Fin (k0_t5_loop v5167).trips) : Fin 2 → Nat :=
  let c2_2280 : Index := 2#32
  let c0_i32_1576 : BitVec 32 := 0#32
  let c1_i32_1579 : BitVec 32 := 1#32
  let arg13 : BitVec 32 := Scf.iv c0_i32_1576 c1_i32_1579 k0_t5
  let c32_i32_2279 : BitVec 32 := 32#32
  let v6721 : BitVec 32 := Scalar.muli arg13 c32_i32_2279
  let c17_i32 : BitVec 32 := 17#32
  let v6722 : BitVec 32 := Scalar.addi v6721 c17_i32
  let v6723 : Index := Scalar.indexCast v6722
  ![2, v6723.toNat]
def k0_off439 (v6724 : BitVec 32) : Fin 2 → Nat :=
  let v6725 : Index := Scalar.indexCast v6724
  let c64_2281 : Index := 64#32
  ![v6725.toNat, 64]

def k0_chk149 (i : grid0.Coords) (v6724 : BitVec 32) : Prop :=
  (∀ (k0_h2 : k0_cond2 i = 1#1), ∀ a, (k0_off439 v6724) a + S1x32.size a ≤ S15360x128.size a)
theorem k0_off439_inb : ∀ (i : grid0.Coords) (v6724 : BitVec 32) (k0_hw149 : k0_chk149 i v6724), ∀ (k0_h2 : k0_cond2 i = 1#1), ∀ a, (k0_off439 v6724) a + S1x32.size a ≤ S15360x128.size a := fun i v6724 k0_hw149 k0_h2 => k0_hw149 k0_h2

def k0_off440 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2279 : BitVec 32 := 32#32
  let v6721 : BitVec 32 := Scalar.muli arg13 c32_i32_2279
  let c17_i32 : BitVec 32 := 17#32
  let v6722 : BitVec 32 := Scalar.addi v6721 c17_i32
  let v6727 : Index := Scalar.indexCast v6722
  let c64_2282 : Index := 64#32
  ![v6727.toNat, 64]
def k0_off441 (v5167 : BitVec 32) (k0_t5 : Fin (k0_t5_loop v5167).trips) : Fin 2 → Nat :=
  let c2_2284 : Index := 2#32
  let c0_i32_1576 : BitVec 32 := 0#32
  let c1_i32_1579 : BitVec 32 := 1#32
  let arg13 : BitVec 32 := Scf.iv c0_i32_1576 c1_i32_1579 k0_t5
  let c32_i32_2283 : BitVec 32 := 32#32
  let v6731 : BitVec 32 := Scalar.muli arg13 c32_i32_2283
  let c18_i32 : BitVec 32 := 18#32
  let v6732 : BitVec 32 := Scalar.addi v6731 c18_i32
  let v6733 : Index := Scalar.indexCast v6732
  ![2, v6733.toNat]
def k0_off442 (v6734 : BitVec 32) : Fin 2 → Nat :=
  let v6735 : Index := Scalar.indexCast v6734
  let c64_2285 : Index := 64#32
  ![v6735.toNat, 64]

def k0_chk150 (i : grid0.Coords) (v6734 : BitVec 32) : Prop :=
  (∀ (k0_h2 : k0_cond2 i = 1#1), ∀ a, (k0_off442 v6734) a + S1x32.size a ≤ S15360x128.size a)
theorem k0_off442_inb : ∀ (i : grid0.Coords) (v6734 : BitVec 32) (k0_hw150 : k0_chk150 i v6734), ∀ (k0_h2 : k0_cond2 i = 1#1), ∀ a, (k0_off442 v6734) a + S1x32.size a ≤ S15360x128.size a := fun i v6734 k0_hw150 k0_h2 => k0_hw150 k0_h2

def k0_off443 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2283 : BitVec 32 := 32#32
  let v6731 : BitVec 32 := Scalar.muli arg13 c32_i32_2283
  let c18_i32 : BitVec 32 := 18#32
  let v6732 : BitVec 32 := Scalar.addi v6731 c18_i32
  let v6737 : Index := Scalar.indexCast v6732
  let c64_2286 : Index := 64#32
  ![v6737.toNat, 64]
def k0_off444 (v5167 : BitVec 32) (k0_t5 : Fin (k0_t5_loop v5167).trips) : Fin 2 → Nat :=
  let c2_2288 : Index := 2#32
  let c0_i32_1576 : BitVec 32 := 0#32
  let c1_i32_1579 : BitVec 32 := 1#32
  let arg13 : BitVec 32 := Scf.iv c0_i32_1576 c1_i32_1579 k0_t5
  let c32_i32_2287 : BitVec 32 := 32#32
  let v6741 : BitVec 32 := Scalar.muli arg13 c32_i32_2287
  let c19_i32 : BitVec 32 := 19#32
  let v6742 : BitVec 32 := Scalar.addi v6741 c19_i32
  let v6743 : Index := Scalar.indexCast v6742
  ![2, v6743.toNat]
def k0_off445 (v6744 : BitVec 32) : Fin 2 → Nat :=
  let v6745 : Index := Scalar.indexCast v6744
  let c64_2289 : Index := 64#32
  ![v6745.toNat, 64]

def k0_chk151 (i : grid0.Coords) (v6744 : BitVec 32) : Prop :=
  (∀ (k0_h2 : k0_cond2 i = 1#1), ∀ a, (k0_off445 v6744) a + S1x32.size a ≤ S15360x128.size a)
theorem k0_off445_inb : ∀ (i : grid0.Coords) (v6744 : BitVec 32) (k0_hw151 : k0_chk151 i v6744), ∀ (k0_h2 : k0_cond2 i = 1#1), ∀ a, (k0_off445 v6744) a + S1x32.size a ≤ S15360x128.size a := fun i v6744 k0_hw151 k0_h2 => k0_hw151 k0_h2

def k0_off446 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2287 : BitVec 32 := 32#32
  let v6741 : BitVec 32 := Scalar.muli arg13 c32_i32_2287
  let c19_i32 : BitVec 32 := 19#32
  let v6742 : BitVec 32 := Scalar.addi v6741 c19_i32
  let v6747 : Index := Scalar.indexCast v6742
  let c64_2290 : Index := 64#32
  ![v6747.toNat, 64]
def k0_off447 (v5167 : BitVec 32) (k0_t5 : Fin (k0_t5_loop v5167).trips) : Fin 2 → Nat :=
  let c2_2292 : Index := 2#32
  let c0_i32_1576 : BitVec 32 := 0#32
  let c1_i32_1579 : BitVec 32 := 1#32
  let arg13 : BitVec 32 := Scf.iv c0_i32_1576 c1_i32_1579 k0_t5
  let c32_i32_2291 : BitVec 32 := 32#32
  let v6751 : BitVec 32 := Scalar.muli arg13 c32_i32_2291
  let c20_i32 : BitVec 32 := 20#32
  let v6752 : BitVec 32 := Scalar.addi v6751 c20_i32
  let v6753 : Index := Scalar.indexCast v6752
  ![2, v6753.toNat]
def k0_off448 (v6754 : BitVec 32) : Fin 2 → Nat :=
  let v6755 : Index := Scalar.indexCast v6754
  let c64_2293 : Index := 64#32
  ![v6755.toNat, 64]

def k0_chk152 (i : grid0.Coords) (v6754 : BitVec 32) : Prop :=
  (∀ (k0_h2 : k0_cond2 i = 1#1), ∀ a, (k0_off448 v6754) a + S1x32.size a ≤ S15360x128.size a)
theorem k0_off448_inb : ∀ (i : grid0.Coords) (v6754 : BitVec 32) (k0_hw152 : k0_chk152 i v6754), ∀ (k0_h2 : k0_cond2 i = 1#1), ∀ a, (k0_off448 v6754) a + S1x32.size a ≤ S15360x128.size a := fun i v6754 k0_hw152 k0_h2 => k0_hw152 k0_h2

def k0_off449 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2291 : BitVec 32 := 32#32
  let v6751 : BitVec 32 := Scalar.muli arg13 c32_i32_2291
  let c20_i32 : BitVec 32 := 20#32
  let v6752 : BitVec 32 := Scalar.addi v6751 c20_i32
  let v6757 : Index := Scalar.indexCast v6752
  let c64_2294 : Index := 64#32
  ![v6757.toNat, 64]
def k0_off450 (v5167 : BitVec 32) (k0_t5 : Fin (k0_t5_loop v5167).trips) : Fin 2 → Nat :=
  let c2_2296 : Index := 2#32
  let c0_i32_1576 : BitVec 32 := 0#32
  let c1_i32_1579 : BitVec 32 := 1#32
  let arg13 : BitVec 32 := Scf.iv c0_i32_1576 c1_i32_1579 k0_t5
  let c32_i32_2295 : BitVec 32 := 32#32
  let v6761 : BitVec 32 := Scalar.muli arg13 c32_i32_2295
  let c21_i32 : BitVec 32 := 21#32
  let v6762 : BitVec 32 := Scalar.addi v6761 c21_i32
  let v6763 : Index := Scalar.indexCast v6762
  ![2, v6763.toNat]
def k0_off451 (v6764 : BitVec 32) : Fin 2 → Nat :=
  let v6765 : Index := Scalar.indexCast v6764
  let c64_2297 : Index := 64#32
  ![v6765.toNat, 64]

def k0_chk153 (i : grid0.Coords) (v6764 : BitVec 32) : Prop :=
  (∀ (k0_h2 : k0_cond2 i = 1#1), ∀ a, (k0_off451 v6764) a + S1x32.size a ≤ S15360x128.size a)
theorem k0_off451_inb : ∀ (i : grid0.Coords) (v6764 : BitVec 32) (k0_hw153 : k0_chk153 i v6764), ∀ (k0_h2 : k0_cond2 i = 1#1), ∀ a, (k0_off451 v6764) a + S1x32.size a ≤ S15360x128.size a := fun i v6764 k0_hw153 k0_h2 => k0_hw153 k0_h2

def k0_off452 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2295 : BitVec 32 := 32#32
  let v6761 : BitVec 32 := Scalar.muli arg13 c32_i32_2295
  let c21_i32 : BitVec 32 := 21#32
  let v6762 : BitVec 32 := Scalar.addi v6761 c21_i32
  let v6767 : Index := Scalar.indexCast v6762
  let c64_2298 : Index := 64#32
  ![v6767.toNat, 64]
def k0_off453 (v5167 : BitVec 32) (k0_t5 : Fin (k0_t5_loop v5167).trips) : Fin 2 → Nat :=
  let c2_2300 : Index := 2#32
  let c0_i32_1576 : BitVec 32 := 0#32
  let c1_i32_1579 : BitVec 32 := 1#32
  let arg13 : BitVec 32 := Scf.iv c0_i32_1576 c1_i32_1579 k0_t5
  let c32_i32_2299 : BitVec 32 := 32#32
  let v6771 : BitVec 32 := Scalar.muli arg13 c32_i32_2299
  let c22_i32 : BitVec 32 := 22#32
  let v6772 : BitVec 32 := Scalar.addi v6771 c22_i32
  let v6773 : Index := Scalar.indexCast v6772
  ![2, v6773.toNat]
def k0_off454 (v6774 : BitVec 32) : Fin 2 → Nat :=
  let v6775 : Index := Scalar.indexCast v6774
  let c64_2301 : Index := 64#32
  ![v6775.toNat, 64]

def k0_chk154 (i : grid0.Coords) (v6774 : BitVec 32) : Prop :=
  (∀ (k0_h2 : k0_cond2 i = 1#1), ∀ a, (k0_off454 v6774) a + S1x32.size a ≤ S15360x128.size a)
theorem k0_off454_inb : ∀ (i : grid0.Coords) (v6774 : BitVec 32) (k0_hw154 : k0_chk154 i v6774), ∀ (k0_h2 : k0_cond2 i = 1#1), ∀ a, (k0_off454 v6774) a + S1x32.size a ≤ S15360x128.size a := fun i v6774 k0_hw154 k0_h2 => k0_hw154 k0_h2

def k0_off455 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2299 : BitVec 32 := 32#32
  let v6771 : BitVec 32 := Scalar.muli arg13 c32_i32_2299
  let c22_i32 : BitVec 32 := 22#32
  let v6772 : BitVec 32 := Scalar.addi v6771 c22_i32
  let v6777 : Index := Scalar.indexCast v6772
  let c64_2302 : Index := 64#32
  ![v6777.toNat, 64]
def k0_off456 (v5167 : BitVec 32) (k0_t5 : Fin (k0_t5_loop v5167).trips) : Fin 2 → Nat :=
  let c2_2304 : Index := 2#32
  let c0_i32_1576 : BitVec 32 := 0#32
  let c1_i32_1579 : BitVec 32 := 1#32
  let arg13 : BitVec 32 := Scf.iv c0_i32_1576 c1_i32_1579 k0_t5
  let c32_i32_2303 : BitVec 32 := 32#32
  let v6781 : BitVec 32 := Scalar.muli arg13 c32_i32_2303
  let c23_i32 : BitVec 32 := 23#32
  let v6782 : BitVec 32 := Scalar.addi v6781 c23_i32
  let v6783 : Index := Scalar.indexCast v6782
  ![2, v6783.toNat]
def k0_off457 (v6784 : BitVec 32) : Fin 2 → Nat :=
  let v6785 : Index := Scalar.indexCast v6784
  let c64_2305 : Index := 64#32
  ![v6785.toNat, 64]

def k0_chk155 (i : grid0.Coords) (v6784 : BitVec 32) : Prop :=
  (∀ (k0_h2 : k0_cond2 i = 1#1), ∀ a, (k0_off457 v6784) a + S1x32.size a ≤ S15360x128.size a)
theorem k0_off457_inb : ∀ (i : grid0.Coords) (v6784 : BitVec 32) (k0_hw155 : k0_chk155 i v6784), ∀ (k0_h2 : k0_cond2 i = 1#1), ∀ a, (k0_off457 v6784) a + S1x32.size a ≤ S15360x128.size a := fun i v6784 k0_hw155 k0_h2 => k0_hw155 k0_h2

def k0_off458 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2303 : BitVec 32 := 32#32
  let v6781 : BitVec 32 := Scalar.muli arg13 c32_i32_2303
  let c23_i32 : BitVec 32 := 23#32
  let v6782 : BitVec 32 := Scalar.addi v6781 c23_i32
  let v6787 : Index := Scalar.indexCast v6782
  let c64_2306 : Index := 64#32
  ![v6787.toNat, 64]
def k0_off459 (v5167 : BitVec 32) (k0_t5 : Fin (k0_t5_loop v5167).trips) : Fin 2 → Nat :=
  let c2_2308 : Index := 2#32
  let c0_i32_1576 : BitVec 32 := 0#32
  let c1_i32_1579 : BitVec 32 := 1#32
  let arg13 : BitVec 32 := Scf.iv c0_i32_1576 c1_i32_1579 k0_t5
  let c32_i32_2307 : BitVec 32 := 32#32
  let v6791 : BitVec 32 := Scalar.muli arg13 c32_i32_2307
  let c24_i32 : BitVec 32 := 24#32
  let v6792 : BitVec 32 := Scalar.addi v6791 c24_i32
  let v6793 : Index := Scalar.indexCast v6792
  ![2, v6793.toNat]
def k0_off460 (v6794 : BitVec 32) : Fin 2 → Nat :=
  let v6795 : Index := Scalar.indexCast v6794
  let c64_2309 : Index := 64#32
  ![v6795.toNat, 64]

def k0_chk156 (i : grid0.Coords) (v6794 : BitVec 32) : Prop :=
  (∀ (k0_h2 : k0_cond2 i = 1#1), ∀ a, (k0_off460 v6794) a + S1x32.size a ≤ S15360x128.size a)
theorem k0_off460_inb : ∀ (i : grid0.Coords) (v6794 : BitVec 32) (k0_hw156 : k0_chk156 i v6794), ∀ (k0_h2 : k0_cond2 i = 1#1), ∀ a, (k0_off460 v6794) a + S1x32.size a ≤ S15360x128.size a := fun i v6794 k0_hw156 k0_h2 => k0_hw156 k0_h2

def k0_off461 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2307 : BitVec 32 := 32#32
  let v6791 : BitVec 32 := Scalar.muli arg13 c32_i32_2307
  let c24_i32 : BitVec 32 := 24#32
  let v6792 : BitVec 32 := Scalar.addi v6791 c24_i32
  let v6797 : Index := Scalar.indexCast v6792
  let c64_2310 : Index := 64#32
  ![v6797.toNat, 64]
def k0_off462 (v5167 : BitVec 32) (k0_t5 : Fin (k0_t5_loop v5167).trips) : Fin 2 → Nat :=
  let c2_2312 : Index := 2#32
  let c0_i32_1576 : BitVec 32 := 0#32
  let c1_i32_1579 : BitVec 32 := 1#32
  let arg13 : BitVec 32 := Scf.iv c0_i32_1576 c1_i32_1579 k0_t5
  let c32_i32_2311 : BitVec 32 := 32#32
  let v6801 : BitVec 32 := Scalar.muli arg13 c32_i32_2311
  let c25_i32 : BitVec 32 := 25#32
  let v6802 : BitVec 32 := Scalar.addi v6801 c25_i32
  let v6803 : Index := Scalar.indexCast v6802
  ![2, v6803.toNat]
def k0_off463 (v6804 : BitVec 32) : Fin 2 → Nat :=
  let v6805 : Index := Scalar.indexCast v6804
  let c64_2313 : Index := 64#32
  ![v6805.toNat, 64]

def k0_chk157 (i : grid0.Coords) (v6804 : BitVec 32) : Prop :=
  (∀ (k0_h2 : k0_cond2 i = 1#1), ∀ a, (k0_off463 v6804) a + S1x32.size a ≤ S15360x128.size a)
theorem k0_off463_inb : ∀ (i : grid0.Coords) (v6804 : BitVec 32) (k0_hw157 : k0_chk157 i v6804), ∀ (k0_h2 : k0_cond2 i = 1#1), ∀ a, (k0_off463 v6804) a + S1x32.size a ≤ S15360x128.size a := fun i v6804 k0_hw157 k0_h2 => k0_hw157 k0_h2

def k0_off464 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2311 : BitVec 32 := 32#32
  let v6801 : BitVec 32 := Scalar.muli arg13 c32_i32_2311
  let c25_i32 : BitVec 32 := 25#32
  let v6802 : BitVec 32 := Scalar.addi v6801 c25_i32
  let v6807 : Index := Scalar.indexCast v6802
  let c64_2314 : Index := 64#32
  ![v6807.toNat, 64]
def k0_off465 (v5167 : BitVec 32) (k0_t5 : Fin (k0_t5_loop v5167).trips) : Fin 2 → Nat :=
  let c2_2316 : Index := 2#32
  let c0_i32_1576 : BitVec 32 := 0#32
  let c1_i32_1579 : BitVec 32 := 1#32
  let arg13 : BitVec 32 := Scf.iv c0_i32_1576 c1_i32_1579 k0_t5
  let c32_i32_2315 : BitVec 32 := 32#32
  let v6811 : BitVec 32 := Scalar.muli arg13 c32_i32_2315
  let c26_i32 : BitVec 32 := 26#32
  let v6812 : BitVec 32 := Scalar.addi v6811 c26_i32
  let v6813 : Index := Scalar.indexCast v6812
  ![2, v6813.toNat]
def k0_off466 (v6814 : BitVec 32) : Fin 2 → Nat :=
  let v6815 : Index := Scalar.indexCast v6814
  let c64_2317 : Index := 64#32
  ![v6815.toNat, 64]

def k0_chk158 (i : grid0.Coords) (v6814 : BitVec 32) : Prop :=
  (∀ (k0_h2 : k0_cond2 i = 1#1), ∀ a, (k0_off466 v6814) a + S1x32.size a ≤ S15360x128.size a)
theorem k0_off466_inb : ∀ (i : grid0.Coords) (v6814 : BitVec 32) (k0_hw158 : k0_chk158 i v6814), ∀ (k0_h2 : k0_cond2 i = 1#1), ∀ a, (k0_off466 v6814) a + S1x32.size a ≤ S15360x128.size a := fun i v6814 k0_hw158 k0_h2 => k0_hw158 k0_h2

def k0_off467 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2315 : BitVec 32 := 32#32
  let v6811 : BitVec 32 := Scalar.muli arg13 c32_i32_2315
  let c26_i32 : BitVec 32 := 26#32
  let v6812 : BitVec 32 := Scalar.addi v6811 c26_i32
  let v6817 : Index := Scalar.indexCast v6812
  let c64_2318 : Index := 64#32
  ![v6817.toNat, 64]
def k0_off468 (v5167 : BitVec 32) (k0_t5 : Fin (k0_t5_loop v5167).trips) : Fin 2 → Nat :=
  let c2_2320 : Index := 2#32
  let c0_i32_1576 : BitVec 32 := 0#32
  let c1_i32_1579 : BitVec 32 := 1#32
  let arg13 : BitVec 32 := Scf.iv c0_i32_1576 c1_i32_1579 k0_t5
  let c32_i32_2319 : BitVec 32 := 32#32
  let v6821 : BitVec 32 := Scalar.muli arg13 c32_i32_2319
  let c27_i32 : BitVec 32 := 27#32
  let v6822 : BitVec 32 := Scalar.addi v6821 c27_i32
  let v6823 : Index := Scalar.indexCast v6822
  ![2, v6823.toNat]
def k0_off469 (v6824 : BitVec 32) : Fin 2 → Nat :=
  let v6825 : Index := Scalar.indexCast v6824
  let c64_2321 : Index := 64#32
  ![v6825.toNat, 64]

def k0_chk159 (i : grid0.Coords) (v6824 : BitVec 32) : Prop :=
  (∀ (k0_h2 : k0_cond2 i = 1#1), ∀ a, (k0_off469 v6824) a + S1x32.size a ≤ S15360x128.size a)
theorem k0_off469_inb : ∀ (i : grid0.Coords) (v6824 : BitVec 32) (k0_hw159 : k0_chk159 i v6824), ∀ (k0_h2 : k0_cond2 i = 1#1), ∀ a, (k0_off469 v6824) a + S1x32.size a ≤ S15360x128.size a := fun i v6824 k0_hw159 k0_h2 => k0_hw159 k0_h2

def k0_off470 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2319 : BitVec 32 := 32#32
  let v6821 : BitVec 32 := Scalar.muli arg13 c32_i32_2319
  let c27_i32 : BitVec 32 := 27#32
  let v6822 : BitVec 32 := Scalar.addi v6821 c27_i32
  let v6827 : Index := Scalar.indexCast v6822
  let c64_2322 : Index := 64#32
  ![v6827.toNat, 64]
def k0_off471 (v5167 : BitVec 32) (k0_t5 : Fin (k0_t5_loop v5167).trips) : Fin 2 → Nat :=
  let c2_2324 : Index := 2#32
  let c0_i32_1576 : BitVec 32 := 0#32
  let c1_i32_1579 : BitVec 32 := 1#32
  let arg13 : BitVec 32 := Scf.iv c0_i32_1576 c1_i32_1579 k0_t5
  let c32_i32_2323 : BitVec 32 := 32#32
  let v6831 : BitVec 32 := Scalar.muli arg13 c32_i32_2323
  let c28_i32 : BitVec 32 := 28#32
  let v6832 : BitVec 32 := Scalar.addi v6831 c28_i32
  let v6833 : Index := Scalar.indexCast v6832
  ![2, v6833.toNat]
def k0_off472 (v6834 : BitVec 32) : Fin 2 → Nat :=
  let v6835 : Index := Scalar.indexCast v6834
  let c64_2325 : Index := 64#32
  ![v6835.toNat, 64]

def k0_chk160 (i : grid0.Coords) (v6834 : BitVec 32) : Prop :=
  (∀ (k0_h2 : k0_cond2 i = 1#1), ∀ a, (k0_off472 v6834) a + S1x32.size a ≤ S15360x128.size a)
theorem k0_off472_inb : ∀ (i : grid0.Coords) (v6834 : BitVec 32) (k0_hw160 : k0_chk160 i v6834), ∀ (k0_h2 : k0_cond2 i = 1#1), ∀ a, (k0_off472 v6834) a + S1x32.size a ≤ S15360x128.size a := fun i v6834 k0_hw160 k0_h2 => k0_hw160 k0_h2

def k0_off473 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2323 : BitVec 32 := 32#32
  let v6831 : BitVec 32 := Scalar.muli arg13 c32_i32_2323
  let c28_i32 : BitVec 32 := 28#32
  let v6832 : BitVec 32 := Scalar.addi v6831 c28_i32
  let v6837 : Index := Scalar.indexCast v6832
  let c64_2326 : Index := 64#32
  ![v6837.toNat, 64]
def k0_off474 (v5167 : BitVec 32) (k0_t5 : Fin (k0_t5_loop v5167).trips) : Fin 2 → Nat :=
  let c2_2329 : Index := 2#32
  let c0_i32_1576 : BitVec 32 := 0#32
  let c1_i32_1579 : BitVec 32 := 1#32
  let arg13 : BitVec 32 := Scf.iv c0_i32_1576 c1_i32_1579 k0_t5
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6843 : Index := Scalar.indexCast v6842
  ![2, v6843.toNat]
def k0_off475 (v6844 : BitVec 32) : Fin 2 → Nat :=
  let v6845 : Index := Scalar.indexCast v6844
  let c64_2330 : Index := 64#32
  ![v6845.toNat, 64]

def k0_chk161 (i : grid0.Coords) (v6844 : BitVec 32) : Prop :=
  (∀ (k0_h2 : k0_cond2 i = 1#1), ∀ a, (k0_off475 v6844) a + S1x32.size a ≤ S15360x128.size a)
theorem k0_off475_inb : ∀ (i : grid0.Coords) (v6844 : BitVec 32) (k0_hw161 : k0_chk161 i v6844), ∀ (k0_h2 : k0_cond2 i = 1#1), ∀ a, (k0_off475 v6844) a + S1x32.size a ≤ S15360x128.size a := fun i v6844 k0_hw161 k0_h2 => k0_hw161 k0_h2

def k0_off476 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6847 : Index := Scalar.indexCast v6842
  let c64_2331 : Index := 64#32
  ![v6847.toNat, 64]
def k0_off477 (v5167 : BitVec 32) (k0_t5 : Fin (k0_t5_loop v5167).trips) : Fin 2 → Nat :=
  let c2_2333 : Index := 2#32
  let c0_i32_1576 : BitVec 32 := 0#32
  let c1_i32_1579 : BitVec 32 := 1#32
  let arg13 : BitVec 32 := Scf.iv c0_i32_1576 c1_i32_1579 k0_t5
  let c32_i32_2332 : BitVec 32 := 32#32
  let v6851 : BitVec 32 := Scalar.muli arg13 c32_i32_2332
  let c30_i32 : BitVec 32 := 30#32
  let v6852 : BitVec 32 := Scalar.addi v6851 c30_i32
  let v6853 : Index := Scalar.indexCast v6852
  ![2, v6853.toNat]
def k0_off478 (v6854 : BitVec 32) : Fin 2 → Nat :=
  let v6855 : Index := Scalar.indexCast v6854
  let c64_2334 : Index := 64#32
  ![v6855.toNat, 64]

def k0_chk162 (i : grid0.Coords) (v6854 : BitVec 32) : Prop :=
  (∀ (k0_h2 : k0_cond2 i = 1#1), ∀ a, (k0_off478 v6854) a + S1x32.size a ≤ S15360x128.size a)
theorem k0_off478_inb : ∀ (i : grid0.Coords) (v6854 : BitVec 32) (k0_hw162 : k0_chk162 i v6854), ∀ (k0_h2 : k0_cond2 i = 1#1), ∀ a, (k0_off478 v6854) a + S1x32.size a ≤ S15360x128.size a := fun i v6854 k0_hw162 k0_h2 => k0_hw162 k0_h2

def k0_off479 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2332 : BitVec 32 := 32#32
  let v6851 : BitVec 32 := Scalar.muli arg13 c32_i32_2332
  let c30_i32 : BitVec 32 := 30#32
  let v6852 : BitVec 32 := Scalar.addi v6851 c30_i32
  let v6857 : Index := Scalar.indexCast v6852
  let c64_2335 : Index := 64#32
  ![v6857.toNat, 64]
def k0_off480 (v5167 : BitVec 32) (k0_t5 : Fin (k0_t5_loop v5167).trips) : Fin 2 → Nat :=
  let c2_2337 : Index := 2#32
  let c0_i32_1576 : BitVec 32 := 0#32
  let c1_i32_1579 : BitVec 32 := 1#32
  let arg13 : BitVec 32 := Scf.iv c0_i32_1576 c1_i32_1579 k0_t5
  let c32_i32_2336 : BitVec 32 := 32#32
  let v6861 : BitVec 32 := Scalar.muli arg13 c32_i32_2336
  let c31_i32 : BitVec 32 := 31#32
  let v6862 : BitVec 32 := Scalar.addi v6861 c31_i32
  let v6863 : Index := Scalar.indexCast v6862
  ![2, v6863.toNat]
def k0_off481 (v6864 : BitVec 32) : Fin 2 → Nat :=
  let v6865 : Index := Scalar.indexCast v6864
  let c64_2338 : Index := 64#32
  ![v6865.toNat, 64]

def k0_chk163 (i : grid0.Coords) (v6864 : BitVec 32) : Prop :=
  (∀ (k0_h2 : k0_cond2 i = 1#1), ∀ a, (k0_off481 v6864) a + S1x32.size a ≤ S15360x128.size a)
theorem k0_off481_inb : ∀ (i : grid0.Coords) (v6864 : BitVec 32) (k0_hw163 : k0_chk163 i v6864), ∀ (k0_h2 : k0_cond2 i = 1#1), ∀ a, (k0_off481 v6864) a + S1x32.size a ≤ S15360x128.size a := fun i v6864 k0_hw163 k0_h2 => k0_hw163 k0_h2

def k0_off482 (v5167 : BitVec 32) (k0_t5 : Fin (k0_t5_loop v5167).trips) : Fin 2 → Nat :=
  let c0_i32_1576 : BitVec 32 := 0#32
  let c1_i32_1579 : BitVec 32 := 1#32
  let arg13 : BitVec 32 := Scf.iv c0_i32_1576 c1_i32_1579 k0_t5
  let c32_i32_2336 : BitVec 32 := 32#32
  let v6861 : BitVec 32 := Scalar.muli arg13 c32_i32_2336
  let c31_i32 : BitVec 32 := 31#32
  let v6862 : BitVec 32 := Scalar.addi v6861 c31_i32
  let v6867 : Index := Scalar.indexCast v6862
  let c64_2339 : Index := 64#32
  ![v6867.toNat, 64]
@[reducible] def k0_t6_loop (v5167 : BitVec 32) : Scf.Loop 32 :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let v5207 : BitVec 32 := Scalar.addi c0_i32_1576 v5206
  let c1_i32_1580 : BitVec 32 := 1#32
  ⟨v5210, v5207, c1_i32_1580⟩
def k0_off483 (v5167 : BitVec 32) (k0_t6 : Fin (k0_t6_loop v5167).trips) : Fin 2 → Nat :=
  let c2_2208 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![2, v6553.toNat]
def k0_off484 (v6554 : BitVec 32) : Fin 2 → Nat :=
  let v6555 : Index := Scalar.indexCast v6554
  let c64_2209 : Index := 64#32
  ![v6555.toNat, 64]

def k0_chk164 (i : grid0.Coords) (v6554 : BitVec 32) : Prop :=
  (∀ (k0_h2 : k0_cond2 i = 1#1), ∀ a, (k0_off484 v6554) a + S1x32.size a ≤ S15360x128.size a)
theorem k0_off484_inb : ∀ (i : grid0.Coords) (v6554 : BitVec 32) (k0_hw164 : k0_chk164 i v6554), ∀ (k0_h2 : k0_cond2 i = 1#1), ∀ a, (k0_off484 v6554) a + S1x32.size a ≤ S15360x128.size a := fun i v6554 k0_hw164 k0_h2 => k0_hw164 k0_h2

def k0_off485 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c64_2210 : Index := 64#32
  ![v6557.toNat, 64]
def k0_off486 (v5167 : BitVec 32) (k0_t6 : Fin (k0_t6_loop v5167).trips) : Fin 2 → Nat :=
  let c2_2213 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6563 : Index := Scalar.indexCast v6562
  ![2, v6563.toNat]
def k0_off487 (v6564 : BitVec 32) : Fin 2 → Nat :=
  let v6565 : Index := Scalar.indexCast v6564
  let c64_2214 : Index := 64#32
  ![v6565.toNat, 64]

def k0_chk165 (i : grid0.Coords) (v6564 : BitVec 32) : Prop :=
  (∀ (k0_h2 : k0_cond2 i = 1#1), ∀ a, (k0_off487 v6564) a + S1x32.size a ≤ S15360x128.size a)
theorem k0_off487_inb : ∀ (i : grid0.Coords) (v6564 : BitVec 32) (k0_hw165 : k0_chk165 i v6564), ∀ (k0_h2 : k0_cond2 i = 1#1), ∀ a, (k0_off487 v6564) a + S1x32.size a ≤ S15360x128.size a := fun i v6564 k0_hw165 k0_h2 => k0_hw165 k0_h2

def k0_off488 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6567 : Index := Scalar.indexCast v6562
  let c64_2215 : Index := 64#32
  ![v6567.toNat, 64]
def k0_off489 (v5167 : BitVec 32) (k0_t6 : Fin (k0_t6_loop v5167).trips) : Fin 2 → Nat :=
  let c2_2218 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6573 : Index := Scalar.indexCast v6572
  ![2, v6573.toNat]
def k0_off490 (v6574 : BitVec 32) : Fin 2 → Nat :=
  let v6575 : Index := Scalar.indexCast v6574
  let c64_2219 : Index := 64#32
  ![v6575.toNat, 64]

def k0_chk166 (i : grid0.Coords) (v6574 : BitVec 32) : Prop :=
  (∀ (k0_h2 : k0_cond2 i = 1#1), ∀ a, (k0_off490 v6574) a + S1x32.size a ≤ S15360x128.size a)
theorem k0_off490_inb : ∀ (i : grid0.Coords) (v6574 : BitVec 32) (k0_hw166 : k0_chk166 i v6574), ∀ (k0_h2 : k0_cond2 i = 1#1), ∀ a, (k0_off490 v6574) a + S1x32.size a ≤ S15360x128.size a := fun i v6574 k0_hw166 k0_h2 => k0_hw166 k0_h2

def k0_off491 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6577 : Index := Scalar.indexCast v6572
  let c64_2220 : Index := 64#32
  ![v6577.toNat, 64]
def k0_off492 (v5167 : BitVec 32) (k0_t6 : Fin (k0_t6_loop v5167).trips) : Fin 2 → Nat :=
  let c2_2223 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6583 : Index := Scalar.indexCast v6582
  ![2, v6583.toNat]
def k0_off493 (v6584 : BitVec 32) : Fin 2 → Nat :=
  let v6585 : Index := Scalar.indexCast v6584
  let c64_2224 : Index := 64#32
  ![v6585.toNat, 64]

def k0_chk167 (i : grid0.Coords) (v6584 : BitVec 32) : Prop :=
  (∀ (k0_h2 : k0_cond2 i = 1#1), ∀ a, (k0_off493 v6584) a + S1x32.size a ≤ S15360x128.size a)
theorem k0_off493_inb : ∀ (i : grid0.Coords) (v6584 : BitVec 32) (k0_hw167 : k0_chk167 i v6584), ∀ (k0_h2 : k0_cond2 i = 1#1), ∀ a, (k0_off493 v6584) a + S1x32.size a ≤ S15360x128.size a := fun i v6584 k0_hw167 k0_h2 => k0_hw167 k0_h2

def k0_off494 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6587 : Index := Scalar.indexCast v6582
  let c64_2225 : Index := 64#32
  ![v6587.toNat, 64]
def k0_off495 (v5167 : BitVec 32) (k0_t6 : Fin (k0_t6_loop v5167).trips) : Fin 2 → Nat :=
  let c2_2228 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6593 : Index := Scalar.indexCast v6592
  ![2, v6593.toNat]
def k0_off496 (v6594 : BitVec 32) : Fin 2 → Nat :=
  let v6595 : Index := Scalar.indexCast v6594
  let c64_2229 : Index := 64#32
  ![v6595.toNat, 64]

def k0_chk168 (i : grid0.Coords) (v6594 : BitVec 32) : Prop :=
  (∀ (k0_h2 : k0_cond2 i = 1#1), ∀ a, (k0_off496 v6594) a + S1x32.size a ≤ S15360x128.size a)
theorem k0_off496_inb : ∀ (i : grid0.Coords) (v6594 : BitVec 32) (k0_hw168 : k0_chk168 i v6594), ∀ (k0_h2 : k0_cond2 i = 1#1), ∀ a, (k0_off496 v6594) a + S1x32.size a ≤ S15360x128.size a := fun i v6594 k0_hw168 k0_h2 => k0_hw168 k0_h2

def k0_off497 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6597 : Index := Scalar.indexCast v6592
  let c64_2230 : Index := 64#32
  ![v6597.toNat, 64]
def k0_off498 (v5167 : BitVec 32) (k0_t6 : Fin (k0_t6_loop v5167).trips) : Fin 2 → Nat :=
  let c2_2232 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2231 : BitVec 32 := 32#32
  let v6601 : BitVec 32 := Scalar.muli arg13 c32_i32_2231
  let c5_i32 : BitVec 32 := 5#32
  let v6602 : BitVec 32 := Scalar.addi v6601 c5_i32
  let v6603 : Index := Scalar.indexCast v6602
  ![2, v6603.toNat]
def k0_off499 (v6604 : BitVec 32) : Fin 2 → Nat :=
  let v6605 : Index := Scalar.indexCast v6604
  let c64_2233 : Index := 64#32
  ![v6605.toNat, 64]

def k0_chk169 (i : grid0.Coords) (v6604 : BitVec 32) : Prop :=
  (∀ (k0_h2 : k0_cond2 i = 1#1), ∀ a, (k0_off499 v6604) a + S1x32.size a ≤ S15360x128.size a)
theorem k0_off499_inb : ∀ (i : grid0.Coords) (v6604 : BitVec 32) (k0_hw169 : k0_chk169 i v6604), ∀ (k0_h2 : k0_cond2 i = 1#1), ∀ a, (k0_off499 v6604) a + S1x32.size a ≤ S15360x128.size a := fun i v6604 k0_hw169 k0_h2 => k0_hw169 k0_h2

def k0_off500 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2231 : BitVec 32 := 32#32
  let v6601 : BitVec 32 := Scalar.muli arg13 c32_i32_2231
  let c5_i32 : BitVec 32 := 5#32
  let v6602 : BitVec 32 := Scalar.addi v6601 c5_i32
  let v6607 : Index := Scalar.indexCast v6602
  let c64_2234 : Index := 64#32
  ![v6607.toNat, 64]
def k0_off501 (v5167 : BitVec 32) (k0_t6 : Fin (k0_t6_loop v5167).trips) : Fin 2 → Nat :=
  let c2_2236 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2235 : BitVec 32 := 32#32
  let v6611 : BitVec 32 := Scalar.muli arg13 c32_i32_2235
  let c6_i32 : BitVec 32 := 6#32
  let v6612 : BitVec 32 := Scalar.addi v6611 c6_i32
  let v6613 : Index := Scalar.indexCast v6612
  ![2, v6613.toNat]
def k0_off502 (v6614 : BitVec 32) : Fin 2 → Nat :=
  let v6615 : Index := Scalar.indexCast v6614
  let c64_2237 : Index := 64#32
  ![v6615.toNat, 64]

def k0_chk170 (i : grid0.Coords) (v6614 : BitVec 32) : Prop :=
  (∀ (k0_h2 : k0_cond2 i = 1#1), ∀ a, (k0_off502 v6614) a + S1x32.size a ≤ S15360x128.size a)
theorem k0_off502_inb : ∀ (i : grid0.Coords) (v6614 : BitVec 32) (k0_hw170 : k0_chk170 i v6614), ∀ (k0_h2 : k0_cond2 i = 1#1), ∀ a, (k0_off502 v6614) a + S1x32.size a ≤ S15360x128.size a := fun i v6614 k0_hw170 k0_h2 => k0_hw170 k0_h2

def k0_off503 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2235 : BitVec 32 := 32#32
  let v6611 : BitVec 32 := Scalar.muli arg13 c32_i32_2235
  let c6_i32 : BitVec 32 := 6#32
  let v6612 : BitVec 32 := Scalar.addi v6611 c6_i32
  let v6617 : Index := Scalar.indexCast v6612
  let c64_2238 : Index := 64#32
  ![v6617.toNat, 64]
def k0_off504 (v5167 : BitVec 32) (k0_t6 : Fin (k0_t6_loop v5167).trips) : Fin 2 → Nat :=
  let c2_2240 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2239 : BitVec 32 := 32#32
  let v6621 : BitVec 32 := Scalar.muli arg13 c32_i32_2239
  let c7_i32 : BitVec 32 := 7#32
  let v6622 : BitVec 32 := Scalar.addi v6621 c7_i32
  let v6623 : Index := Scalar.indexCast v6622
  ![2, v6623.toNat]
def k0_off505 (v6624 : BitVec 32) : Fin 2 → Nat :=
  let v6625 : Index := Scalar.indexCast v6624
  let c64_2241 : Index := 64#32
  ![v6625.toNat, 64]

def k0_chk171 (i : grid0.Coords) (v6624 : BitVec 32) : Prop :=
  (∀ (k0_h2 : k0_cond2 i = 1#1), ∀ a, (k0_off505 v6624) a + S1x32.size a ≤ S15360x128.size a)
theorem k0_off505_inb : ∀ (i : grid0.Coords) (v6624 : BitVec 32) (k0_hw171 : k0_chk171 i v6624), ∀ (k0_h2 : k0_cond2 i = 1#1), ∀ a, (k0_off505 v6624) a + S1x32.size a ≤ S15360x128.size a := fun i v6624 k0_hw171 k0_h2 => k0_hw171 k0_h2

def k0_off506 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2239 : BitVec 32 := 32#32
  let v6621 : BitVec 32 := Scalar.muli arg13 c32_i32_2239
  let c7_i32 : BitVec 32 := 7#32
  let v6622 : BitVec 32 := Scalar.addi v6621 c7_i32
  let v6627 : Index := Scalar.indexCast v6622
  let c64_2242 : Index := 64#32
  ![v6627.toNat, 64]
def k0_off507 (v5167 : BitVec 32) (k0_t6 : Fin (k0_t6_loop v5167).trips) : Fin 2 → Nat :=
  let c2_2244 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2243 : BitVec 32 := 32#32
  let v6631 : BitVec 32 := Scalar.muli arg13 c32_i32_2243
  let c8_i32 : BitVec 32 := 8#32
  let v6632 : BitVec 32 := Scalar.addi v6631 c8_i32
  let v6633 : Index := Scalar.indexCast v6632
  ![2, v6633.toNat]
def k0_off508 (v6634 : BitVec 32) : Fin 2 → Nat :=
  let v6635 : Index := Scalar.indexCast v6634
  let c64_2245 : Index := 64#32
  ![v6635.toNat, 64]

def k0_chk172 (i : grid0.Coords) (v6634 : BitVec 32) : Prop :=
  (∀ (k0_h2 : k0_cond2 i = 1#1), ∀ a, (k0_off508 v6634) a + S1x32.size a ≤ S15360x128.size a)
theorem k0_off508_inb : ∀ (i : grid0.Coords) (v6634 : BitVec 32) (k0_hw172 : k0_chk172 i v6634), ∀ (k0_h2 : k0_cond2 i = 1#1), ∀ a, (k0_off508 v6634) a + S1x32.size a ≤ S15360x128.size a := fun i v6634 k0_hw172 k0_h2 => k0_hw172 k0_h2

def k0_off509 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2243 : BitVec 32 := 32#32
  let v6631 : BitVec 32 := Scalar.muli arg13 c32_i32_2243
  let c8_i32 : BitVec 32 := 8#32
  let v6632 : BitVec 32 := Scalar.addi v6631 c8_i32
  let v6637 : Index := Scalar.indexCast v6632
  let c64_2246 : Index := 64#32
  ![v6637.toNat, 64]
def k0_off510 (v5167 : BitVec 32) (k0_t6 : Fin (k0_t6_loop v5167).trips) : Fin 2 → Nat :=
  let c2_2248 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2247 : BitVec 32 := 32#32
  let v6641 : BitVec 32 := Scalar.muli arg13 c32_i32_2247
  let c9_i32 : BitVec 32 := 9#32
  let v6642 : BitVec 32 := Scalar.addi v6641 c9_i32
  let v6643 : Index := Scalar.indexCast v6642
  ![2, v6643.toNat]
def k0_off511 (v6644 : BitVec 32) : Fin 2 → Nat :=
  let v6645 : Index := Scalar.indexCast v6644
  let c64_2249 : Index := 64#32
  ![v6645.toNat, 64]

def k0_chk173 (i : grid0.Coords) (v6644 : BitVec 32) : Prop :=
  (∀ (k0_h2 : k0_cond2 i = 1#1), ∀ a, (k0_off511 v6644) a + S1x32.size a ≤ S15360x128.size a)
theorem k0_off511_inb : ∀ (i : grid0.Coords) (v6644 : BitVec 32) (k0_hw173 : k0_chk173 i v6644), ∀ (k0_h2 : k0_cond2 i = 1#1), ∀ a, (k0_off511 v6644) a + S1x32.size a ≤ S15360x128.size a := fun i v6644 k0_hw173 k0_h2 => k0_hw173 k0_h2

def k0_off512 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2247 : BitVec 32 := 32#32
  let v6641 : BitVec 32 := Scalar.muli arg13 c32_i32_2247
  let c9_i32 : BitVec 32 := 9#32
  let v6642 : BitVec 32 := Scalar.addi v6641 c9_i32
  let v6647 : Index := Scalar.indexCast v6642
  let c64_2250 : Index := 64#32
  ![v6647.toNat, 64]
def k0_off513 (v5167 : BitVec 32) (k0_t6 : Fin (k0_t6_loop v5167).trips) : Fin 2 → Nat :=
  let c2_2252 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2251 : BitVec 32 := 32#32
  let v6651 : BitVec 32 := Scalar.muli arg13 c32_i32_2251
  let c10_i32 : BitVec 32 := 10#32
  let v6652 : BitVec 32 := Scalar.addi v6651 c10_i32
  let v6653 : Index := Scalar.indexCast v6652
  ![2, v6653.toNat]
def k0_off514 (v6654 : BitVec 32) : Fin 2 → Nat :=
  let v6655 : Index := Scalar.indexCast v6654
  let c64_2253 : Index := 64#32
  ![v6655.toNat, 64]

def k0_chk174 (i : grid0.Coords) (v6654 : BitVec 32) : Prop :=
  (∀ (k0_h2 : k0_cond2 i = 1#1), ∀ a, (k0_off514 v6654) a + S1x32.size a ≤ S15360x128.size a)
theorem k0_off514_inb : ∀ (i : grid0.Coords) (v6654 : BitVec 32) (k0_hw174 : k0_chk174 i v6654), ∀ (k0_h2 : k0_cond2 i = 1#1), ∀ a, (k0_off514 v6654) a + S1x32.size a ≤ S15360x128.size a := fun i v6654 k0_hw174 k0_h2 => k0_hw174 k0_h2

def k0_off515 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2251 : BitVec 32 := 32#32
  let v6651 : BitVec 32 := Scalar.muli arg13 c32_i32_2251
  let c10_i32 : BitVec 32 := 10#32
  let v6652 : BitVec 32 := Scalar.addi v6651 c10_i32
  let v6657 : Index := Scalar.indexCast v6652
  let c64_2254 : Index := 64#32
  ![v6657.toNat, 64]
def k0_off516 (v5167 : BitVec 32) (k0_t6 : Fin (k0_t6_loop v5167).trips) : Fin 2 → Nat :=
  let c2_2256 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2255 : BitVec 32 := 32#32
  let v6661 : BitVec 32 := Scalar.muli arg13 c32_i32_2255
  let c11_i32 : BitVec 32 := 11#32
  let v6662 : BitVec 32 := Scalar.addi v6661 c11_i32
  let v6663 : Index := Scalar.indexCast v6662
  ![2, v6663.toNat]
def k0_off517 (v6664 : BitVec 32) : Fin 2 → Nat :=
  let v6665 : Index := Scalar.indexCast v6664
  let c64_2257 : Index := 64#32
  ![v6665.toNat, 64]

def k0_chk175 (i : grid0.Coords) (v6664 : BitVec 32) : Prop :=
  (∀ (k0_h2 : k0_cond2 i = 1#1), ∀ a, (k0_off517 v6664) a + S1x32.size a ≤ S15360x128.size a)
theorem k0_off517_inb : ∀ (i : grid0.Coords) (v6664 : BitVec 32) (k0_hw175 : k0_chk175 i v6664), ∀ (k0_h2 : k0_cond2 i = 1#1), ∀ a, (k0_off517 v6664) a + S1x32.size a ≤ S15360x128.size a := fun i v6664 k0_hw175 k0_h2 => k0_hw175 k0_h2

def k0_off518 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2255 : BitVec 32 := 32#32
  let v6661 : BitVec 32 := Scalar.muli arg13 c32_i32_2255
  let c11_i32 : BitVec 32 := 11#32
  let v6662 : BitVec 32 := Scalar.addi v6661 c11_i32
  let v6667 : Index := Scalar.indexCast v6662
  let c64_2258 : Index := 64#32
  ![v6667.toNat, 64]
def k0_off519 (v5167 : BitVec 32) (k0_t6 : Fin (k0_t6_loop v5167).trips) : Fin 2 → Nat :=
  let c2_2260 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2259 : BitVec 32 := 32#32
  let v6671 : BitVec 32 := Scalar.muli arg13 c32_i32_2259
  let c12_i32 : BitVec 32 := 12#32
  let v6672 : BitVec 32 := Scalar.addi v6671 c12_i32
  let v6673 : Index := Scalar.indexCast v6672
  ![2, v6673.toNat]
def k0_off520 (v6674 : BitVec 32) : Fin 2 → Nat :=
  let v6675 : Index := Scalar.indexCast v6674
  let c64_2261 : Index := 64#32
  ![v6675.toNat, 64]

def k0_chk176 (i : grid0.Coords) (v6674 : BitVec 32) : Prop :=
  (∀ (k0_h2 : k0_cond2 i = 1#1), ∀ a, (k0_off520 v6674) a + S1x32.size a ≤ S15360x128.size a)
theorem k0_off520_inb : ∀ (i : grid0.Coords) (v6674 : BitVec 32) (k0_hw176 : k0_chk176 i v6674), ∀ (k0_h2 : k0_cond2 i = 1#1), ∀ a, (k0_off520 v6674) a + S1x32.size a ≤ S15360x128.size a := fun i v6674 k0_hw176 k0_h2 => k0_hw176 k0_h2

def k0_off521 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2259 : BitVec 32 := 32#32
  let v6671 : BitVec 32 := Scalar.muli arg13 c32_i32_2259
  let c12_i32 : BitVec 32 := 12#32
  let v6672 : BitVec 32 := Scalar.addi v6671 c12_i32
  let v6677 : Index := Scalar.indexCast v6672
  let c64_2262 : Index := 64#32
  ![v6677.toNat, 64]
def k0_off522 (v5167 : BitVec 32) (k0_t6 : Fin (k0_t6_loop v5167).trips) : Fin 2 → Nat :=
  let c2_2264 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2263 : BitVec 32 := 32#32
  let v6681 : BitVec 32 := Scalar.muli arg13 c32_i32_2263
  let c13_i32 : BitVec 32 := 13#32
  let v6682 : BitVec 32 := Scalar.addi v6681 c13_i32
  let v6683 : Index := Scalar.indexCast v6682
  ![2, v6683.toNat]
def k0_off523 (v6684 : BitVec 32) : Fin 2 → Nat :=
  let v6685 : Index := Scalar.indexCast v6684
  let c64_2265 : Index := 64#32
  ![v6685.toNat, 64]

def k0_chk177 (i : grid0.Coords) (v6684 : BitVec 32) : Prop :=
  (∀ (k0_h2 : k0_cond2 i = 1#1), ∀ a, (k0_off523 v6684) a + S1x32.size a ≤ S15360x128.size a)
theorem k0_off523_inb : ∀ (i : grid0.Coords) (v6684 : BitVec 32) (k0_hw177 : k0_chk177 i v6684), ∀ (k0_h2 : k0_cond2 i = 1#1), ∀ a, (k0_off523 v6684) a + S1x32.size a ≤ S15360x128.size a := fun i v6684 k0_hw177 k0_h2 => k0_hw177 k0_h2

def k0_off524 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2263 : BitVec 32 := 32#32
  let v6681 : BitVec 32 := Scalar.muli arg13 c32_i32_2263
  let c13_i32 : BitVec 32 := 13#32
  let v6682 : BitVec 32 := Scalar.addi v6681 c13_i32
  let v6687 : Index := Scalar.indexCast v6682
  let c64_2266 : Index := 64#32
  ![v6687.toNat, 64]
def k0_off525 (v5167 : BitVec 32) (k0_t6 : Fin (k0_t6_loop v5167).trips) : Fin 2 → Nat :=
  let c2_2268 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2267 : BitVec 32 := 32#32
  let v6691 : BitVec 32 := Scalar.muli arg13 c32_i32_2267
  let c14_i32 : BitVec 32 := 14#32
  let v6692 : BitVec 32 := Scalar.addi v6691 c14_i32
  let v6693 : Index := Scalar.indexCast v6692
  ![2, v6693.toNat]
def k0_off526 (v6694 : BitVec 32) : Fin 2 → Nat :=
  let v6695 : Index := Scalar.indexCast v6694
  let c64_2269 : Index := 64#32
  ![v6695.toNat, 64]

def k0_chk178 (i : grid0.Coords) (v6694 : BitVec 32) : Prop :=
  (∀ (k0_h2 : k0_cond2 i = 1#1), ∀ a, (k0_off526 v6694) a + S1x32.size a ≤ S15360x128.size a)
theorem k0_off526_inb : ∀ (i : grid0.Coords) (v6694 : BitVec 32) (k0_hw178 : k0_chk178 i v6694), ∀ (k0_h2 : k0_cond2 i = 1#1), ∀ a, (k0_off526 v6694) a + S1x32.size a ≤ S15360x128.size a := fun i v6694 k0_hw178 k0_h2 => k0_hw178 k0_h2

def k0_off527 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2267 : BitVec 32 := 32#32
  let v6691 : BitVec 32 := Scalar.muli arg13 c32_i32_2267
  let c14_i32 : BitVec 32 := 14#32
  let v6692 : BitVec 32 := Scalar.addi v6691 c14_i32
  let v6697 : Index := Scalar.indexCast v6692
  let c64_2270 : Index := 64#32
  ![v6697.toNat, 64]
def k0_off528 (v5167 : BitVec 32) (k0_t6 : Fin (k0_t6_loop v5167).trips) : Fin 2 → Nat :=
  let c2_2272 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2271 : BitVec 32 := 32#32
  let v6701 : BitVec 32 := Scalar.muli arg13 c32_i32_2271
  let c15_i32 : BitVec 32 := 15#32
  let v6702 : BitVec 32 := Scalar.addi v6701 c15_i32
  let v6703 : Index := Scalar.indexCast v6702
  ![2, v6703.toNat]
def k0_off529 (v6704 : BitVec 32) : Fin 2 → Nat :=
  let v6705 : Index := Scalar.indexCast v6704
  let c64_2273 : Index := 64#32
  ![v6705.toNat, 64]

def k0_chk179 (i : grid0.Coords) (v6704 : BitVec 32) : Prop :=
  (∀ (k0_h2 : k0_cond2 i = 1#1), ∀ a, (k0_off529 v6704) a + S1x32.size a ≤ S15360x128.size a)
theorem k0_off529_inb : ∀ (i : grid0.Coords) (v6704 : BitVec 32) (k0_hw179 : k0_chk179 i v6704), ∀ (k0_h2 : k0_cond2 i = 1#1), ∀ a, (k0_off529 v6704) a + S1x32.size a ≤ S15360x128.size a := fun i v6704 k0_hw179 k0_h2 => k0_hw179 k0_h2

def k0_off530 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2271 : BitVec 32 := 32#32
  let v6701 : BitVec 32 := Scalar.muli arg13 c32_i32_2271
  let c15_i32 : BitVec 32 := 15#32
  let v6702 : BitVec 32 := Scalar.addi v6701 c15_i32
  let v6707 : Index := Scalar.indexCast v6702
  let c64_2274 : Index := 64#32
  ![v6707.toNat, 64]
def k0_off531 (v5167 : BitVec 32) (k0_t6 : Fin (k0_t6_loop v5167).trips) : Fin 2 → Nat :=
  let c2_2276 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2275 : BitVec 32 := 32#32
  let v6711 : BitVec 32 := Scalar.muli arg13 c32_i32_2275
  let c16_i32 : BitVec 32 := 16#32
  let v6712 : BitVec 32 := Scalar.addi v6711 c16_i32
  let v6713 : Index := Scalar.indexCast v6712
  ![2, v6713.toNat]
def k0_off532 (v6714 : BitVec 32) : Fin 2 → Nat :=
  let v6715 : Index := Scalar.indexCast v6714
  let c64_2277 : Index := 64#32
  ![v6715.toNat, 64]

def k0_chk180 (i : grid0.Coords) (v6714 : BitVec 32) : Prop :=
  (∀ (k0_h2 : k0_cond2 i = 1#1), ∀ a, (k0_off532 v6714) a + S1x32.size a ≤ S15360x128.size a)
theorem k0_off532_inb : ∀ (i : grid0.Coords) (v6714 : BitVec 32) (k0_hw180 : k0_chk180 i v6714), ∀ (k0_h2 : k0_cond2 i = 1#1), ∀ a, (k0_off532 v6714) a + S1x32.size a ≤ S15360x128.size a := fun i v6714 k0_hw180 k0_h2 => k0_hw180 k0_h2

def k0_off533 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2275 : BitVec 32 := 32#32
  let v6711 : BitVec 32 := Scalar.muli arg13 c32_i32_2275
  let c16_i32 : BitVec 32 := 16#32
  let v6712 : BitVec 32 := Scalar.addi v6711 c16_i32
  let v6717 : Index := Scalar.indexCast v6712
  let c64_2278 : Index := 64#32
  ![v6717.toNat, 64]
def k0_off534 (v5167 : BitVec 32) (k0_t6 : Fin (k0_t6_loop v5167).trips) : Fin 2 → Nat :=
  let c2_2280 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2279 : BitVec 32 := 32#32
  let v6721 : BitVec 32 := Scalar.muli arg13 c32_i32_2279
  let c17_i32 : BitVec 32 := 17#32
  let v6722 : BitVec 32 := Scalar.addi v6721 c17_i32
  let v6723 : Index := Scalar.indexCast v6722
  ![2, v6723.toNat]
def k0_off535 (v6724 : BitVec 32) : Fin 2 → Nat :=
  let v6725 : Index := Scalar.indexCast v6724
  let c64_2281 : Index := 64#32
  ![v6725.toNat, 64]

def k0_chk181 (i : grid0.Coords) (v6724 : BitVec 32) : Prop :=
  (∀ (k0_h2 : k0_cond2 i = 1#1), ∀ a, (k0_off535 v6724) a + S1x32.size a ≤ S15360x128.size a)
theorem k0_off535_inb : ∀ (i : grid0.Coords) (v6724 : BitVec 32) (k0_hw181 : k0_chk181 i v6724), ∀ (k0_h2 : k0_cond2 i = 1#1), ∀ a, (k0_off535 v6724) a + S1x32.size a ≤ S15360x128.size a := fun i v6724 k0_hw181 k0_h2 => k0_hw181 k0_h2

def k0_off536 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2279 : BitVec 32 := 32#32
  let v6721 : BitVec 32 := Scalar.muli arg13 c32_i32_2279
  let c17_i32 : BitVec 32 := 17#32
  let v6722 : BitVec 32 := Scalar.addi v6721 c17_i32
  let v6727 : Index := Scalar.indexCast v6722
  let c64_2282 : Index := 64#32
  ![v6727.toNat, 64]
def k0_off537 (v5167 : BitVec 32) (k0_t6 : Fin (k0_t6_loop v5167).trips) : Fin 2 → Nat :=
  let c2_2284 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2283 : BitVec 32 := 32#32
  let v6731 : BitVec 32 := Scalar.muli arg13 c32_i32_2283
  let c18_i32 : BitVec 32 := 18#32
  let v6732 : BitVec 32 := Scalar.addi v6731 c18_i32
  let v6733 : Index := Scalar.indexCast v6732
  ![2, v6733.toNat]
def k0_off538 (v6734 : BitVec 32) : Fin 2 → Nat :=
  let v6735 : Index := Scalar.indexCast v6734
  let c64_2285 : Index := 64#32
  ![v6735.toNat, 64]

def k0_chk182 (i : grid0.Coords) (v6734 : BitVec 32) : Prop :=
  (∀ (k0_h2 : k0_cond2 i = 1#1), ∀ a, (k0_off538 v6734) a + S1x32.size a ≤ S15360x128.size a)
theorem k0_off538_inb : ∀ (i : grid0.Coords) (v6734 : BitVec 32) (k0_hw182 : k0_chk182 i v6734), ∀ (k0_h2 : k0_cond2 i = 1#1), ∀ a, (k0_off538 v6734) a + S1x32.size a ≤ S15360x128.size a := fun i v6734 k0_hw182 k0_h2 => k0_hw182 k0_h2

def k0_off539 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2283 : BitVec 32 := 32#32
  let v6731 : BitVec 32 := Scalar.muli arg13 c32_i32_2283
  let c18_i32 : BitVec 32 := 18#32
  let v6732 : BitVec 32 := Scalar.addi v6731 c18_i32
  let v6737 : Index := Scalar.indexCast v6732
  let c64_2286 : Index := 64#32
  ![v6737.toNat, 64]
def k0_off540 (v5167 : BitVec 32) (k0_t6 : Fin (k0_t6_loop v5167).trips) : Fin 2 → Nat :=
  let c2_2288 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2287 : BitVec 32 := 32#32
  let v6741 : BitVec 32 := Scalar.muli arg13 c32_i32_2287
  let c19_i32 : BitVec 32 := 19#32
  let v6742 : BitVec 32 := Scalar.addi v6741 c19_i32
  let v6743 : Index := Scalar.indexCast v6742
  ![2, v6743.toNat]
def k0_off541 (v6744 : BitVec 32) : Fin 2 → Nat :=
  let v6745 : Index := Scalar.indexCast v6744
  let c64_2289 : Index := 64#32
  ![v6745.toNat, 64]

def k0_chk183 (i : grid0.Coords) (v6744 : BitVec 32) : Prop :=
  (∀ (k0_h2 : k0_cond2 i = 1#1), ∀ a, (k0_off541 v6744) a + S1x32.size a ≤ S15360x128.size a)
theorem k0_off541_inb : ∀ (i : grid0.Coords) (v6744 : BitVec 32) (k0_hw183 : k0_chk183 i v6744), ∀ (k0_h2 : k0_cond2 i = 1#1), ∀ a, (k0_off541 v6744) a + S1x32.size a ≤ S15360x128.size a := fun i v6744 k0_hw183 k0_h2 => k0_hw183 k0_h2

def k0_off542 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2287 : BitVec 32 := 32#32
  let v6741 : BitVec 32 := Scalar.muli arg13 c32_i32_2287
  let c19_i32 : BitVec 32 := 19#32
  let v6742 : BitVec 32 := Scalar.addi v6741 c19_i32
  let v6747 : Index := Scalar.indexCast v6742
  let c64_2290 : Index := 64#32
  ![v6747.toNat, 64]
def k0_off543 (v5167 : BitVec 32) (k0_t6 : Fin (k0_t6_loop v5167).trips) : Fin 2 → Nat :=
  let c2_2292 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2291 : BitVec 32 := 32#32
  let v6751 : BitVec 32 := Scalar.muli arg13 c32_i32_2291
  let c20_i32 : BitVec 32 := 20#32
  let v6752 : BitVec 32 := Scalar.addi v6751 c20_i32
  let v6753 : Index := Scalar.indexCast v6752
  ![2, v6753.toNat]
def k0_off544 (v6754 : BitVec 32) : Fin 2 → Nat :=
  let v6755 : Index := Scalar.indexCast v6754
  let c64_2293 : Index := 64#32
  ![v6755.toNat, 64]

def k0_chk184 (i : grid0.Coords) (v6754 : BitVec 32) : Prop :=
  (∀ (k0_h2 : k0_cond2 i = 1#1), ∀ a, (k0_off544 v6754) a + S1x32.size a ≤ S15360x128.size a)
theorem k0_off544_inb : ∀ (i : grid0.Coords) (v6754 : BitVec 32) (k0_hw184 : k0_chk184 i v6754), ∀ (k0_h2 : k0_cond2 i = 1#1), ∀ a, (k0_off544 v6754) a + S1x32.size a ≤ S15360x128.size a := fun i v6754 k0_hw184 k0_h2 => k0_hw184 k0_h2

def k0_off545 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2291 : BitVec 32 := 32#32
  let v6751 : BitVec 32 := Scalar.muli arg13 c32_i32_2291
  let c20_i32 : BitVec 32 := 20#32
  let v6752 : BitVec 32 := Scalar.addi v6751 c20_i32
  let v6757 : Index := Scalar.indexCast v6752
  let c64_2294 : Index := 64#32
  ![v6757.toNat, 64]
def k0_off546 (v5167 : BitVec 32) (k0_t6 : Fin (k0_t6_loop v5167).trips) : Fin 2 → Nat :=
  let c2_2296 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2295 : BitVec 32 := 32#32
  let v6761 : BitVec 32 := Scalar.muli arg13 c32_i32_2295
  let c21_i32 : BitVec 32 := 21#32
  let v6762 : BitVec 32 := Scalar.addi v6761 c21_i32
  let v6763 : Index := Scalar.indexCast v6762
  ![2, v6763.toNat]
def k0_off547 (v6764 : BitVec 32) : Fin 2 → Nat :=
  let v6765 : Index := Scalar.indexCast v6764
  let c64_2297 : Index := 64#32
  ![v6765.toNat, 64]

def k0_chk185 (i : grid0.Coords) (v6764 : BitVec 32) : Prop :=
  (∀ (k0_h2 : k0_cond2 i = 1#1), ∀ a, (k0_off547 v6764) a + S1x32.size a ≤ S15360x128.size a)
theorem k0_off547_inb : ∀ (i : grid0.Coords) (v6764 : BitVec 32) (k0_hw185 : k0_chk185 i v6764), ∀ (k0_h2 : k0_cond2 i = 1#1), ∀ a, (k0_off547 v6764) a + S1x32.size a ≤ S15360x128.size a := fun i v6764 k0_hw185 k0_h2 => k0_hw185 k0_h2

def k0_off548 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2295 : BitVec 32 := 32#32
  let v6761 : BitVec 32 := Scalar.muli arg13 c32_i32_2295
  let c21_i32 : BitVec 32 := 21#32
  let v6762 : BitVec 32 := Scalar.addi v6761 c21_i32
  let v6767 : Index := Scalar.indexCast v6762
  let c64_2298 : Index := 64#32
  ![v6767.toNat, 64]
def k0_off549 (v5167 : BitVec 32) (k0_t6 : Fin (k0_t6_loop v5167).trips) : Fin 2 → Nat :=
  let c2_2300 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2299 : BitVec 32 := 32#32
  let v6771 : BitVec 32 := Scalar.muli arg13 c32_i32_2299
  let c22_i32 : BitVec 32 := 22#32
  let v6772 : BitVec 32 := Scalar.addi v6771 c22_i32
  let v6773 : Index := Scalar.indexCast v6772
  ![2, v6773.toNat]
def k0_off550 (v6774 : BitVec 32) : Fin 2 → Nat :=
  let v6775 : Index := Scalar.indexCast v6774
  let c64_2301 : Index := 64#32
  ![v6775.toNat, 64]

def k0_chk186 (i : grid0.Coords) (v6774 : BitVec 32) : Prop :=
  (∀ (k0_h2 : k0_cond2 i = 1#1), ∀ a, (k0_off550 v6774) a + S1x32.size a ≤ S15360x128.size a)
theorem k0_off550_inb : ∀ (i : grid0.Coords) (v6774 : BitVec 32) (k0_hw186 : k0_chk186 i v6774), ∀ (k0_h2 : k0_cond2 i = 1#1), ∀ a, (k0_off550 v6774) a + S1x32.size a ≤ S15360x128.size a := fun i v6774 k0_hw186 k0_h2 => k0_hw186 k0_h2

def k0_off551 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2299 : BitVec 32 := 32#32
  let v6771 : BitVec 32 := Scalar.muli arg13 c32_i32_2299
  let c22_i32 : BitVec 32 := 22#32
  let v6772 : BitVec 32 := Scalar.addi v6771 c22_i32
  let v6777 : Index := Scalar.indexCast v6772
  let c64_2302 : Index := 64#32
  ![v6777.toNat, 64]
def k0_off552 (v5167 : BitVec 32) (k0_t6 : Fin (k0_t6_loop v5167).trips) : Fin 2 → Nat :=
  let c2_2304 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2303 : BitVec 32 := 32#32
  let v6781 : BitVec 32 := Scalar.muli arg13 c32_i32_2303
  let c23_i32 : BitVec 32 := 23#32
  let v6782 : BitVec 32 := Scalar.addi v6781 c23_i32
  let v6783 : Index := Scalar.indexCast v6782
  ![2, v6783.toNat]
def k0_off553 (v6784 : BitVec 32) : Fin 2 → Nat :=
  let v6785 : Index := Scalar.indexCast v6784
  let c64_2305 : Index := 64#32
  ![v6785.toNat, 64]

def k0_chk187 (i : grid0.Coords) (v6784 : BitVec 32) : Prop :=
  (∀ (k0_h2 : k0_cond2 i = 1#1), ∀ a, (k0_off553 v6784) a + S1x32.size a ≤ S15360x128.size a)
theorem k0_off553_inb : ∀ (i : grid0.Coords) (v6784 : BitVec 32) (k0_hw187 : k0_chk187 i v6784), ∀ (k0_h2 : k0_cond2 i = 1#1), ∀ a, (k0_off553 v6784) a + S1x32.size a ≤ S15360x128.size a := fun i v6784 k0_hw187 k0_h2 => k0_hw187 k0_h2

def k0_off554 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2303 : BitVec 32 := 32#32
  let v6781 : BitVec 32 := Scalar.muli arg13 c32_i32_2303
  let c23_i32 : BitVec 32 := 23#32
  let v6782 : BitVec 32 := Scalar.addi v6781 c23_i32
  let v6787 : Index := Scalar.indexCast v6782
  let c64_2306 : Index := 64#32
  ![v6787.toNat, 64]
def k0_off555 (v5167 : BitVec 32) (k0_t6 : Fin (k0_t6_loop v5167).trips) : Fin 2 → Nat :=
  let c2_2308 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2307 : BitVec 32 := 32#32
  let v6791 : BitVec 32 := Scalar.muli arg13 c32_i32_2307
  let c24_i32 : BitVec 32 := 24#32
  let v6792 : BitVec 32 := Scalar.addi v6791 c24_i32
  let v6793 : Index := Scalar.indexCast v6792
  ![2, v6793.toNat]
def k0_off556 (v6794 : BitVec 32) : Fin 2 → Nat :=
  let v6795 : Index := Scalar.indexCast v6794
  let c64_2309 : Index := 64#32
  ![v6795.toNat, 64]

def k0_chk188 (i : grid0.Coords) (v6794 : BitVec 32) : Prop :=
  (∀ (k0_h2 : k0_cond2 i = 1#1), ∀ a, (k0_off556 v6794) a + S1x32.size a ≤ S15360x128.size a)
theorem k0_off556_inb : ∀ (i : grid0.Coords) (v6794 : BitVec 32) (k0_hw188 : k0_chk188 i v6794), ∀ (k0_h2 : k0_cond2 i = 1#1), ∀ a, (k0_off556 v6794) a + S1x32.size a ≤ S15360x128.size a := fun i v6794 k0_hw188 k0_h2 => k0_hw188 k0_h2

def k0_off557 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2307 : BitVec 32 := 32#32
  let v6791 : BitVec 32 := Scalar.muli arg13 c32_i32_2307
  let c24_i32 : BitVec 32 := 24#32
  let v6792 : BitVec 32 := Scalar.addi v6791 c24_i32
  let v6797 : Index := Scalar.indexCast v6792
  let c64_2310 : Index := 64#32
  ![v6797.toNat, 64]
def k0_off558 (v5167 : BitVec 32) (k0_t6 : Fin (k0_t6_loop v5167).trips) : Fin 2 → Nat :=
  let c2_2312 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2311 : BitVec 32 := 32#32
  let v6801 : BitVec 32 := Scalar.muli arg13 c32_i32_2311
  let c25_i32 : BitVec 32 := 25#32
  let v6802 : BitVec 32 := Scalar.addi v6801 c25_i32
  let v6803 : Index := Scalar.indexCast v6802
  ![2, v6803.toNat]
def k0_off559 (v6804 : BitVec 32) : Fin 2 → Nat :=
  let v6805 : Index := Scalar.indexCast v6804
  let c64_2313 : Index := 64#32
  ![v6805.toNat, 64]

def k0_chk189 (i : grid0.Coords) (v6804 : BitVec 32) : Prop :=
  (∀ (k0_h2 : k0_cond2 i = 1#1), ∀ a, (k0_off559 v6804) a + S1x32.size a ≤ S15360x128.size a)
theorem k0_off559_inb : ∀ (i : grid0.Coords) (v6804 : BitVec 32) (k0_hw189 : k0_chk189 i v6804), ∀ (k0_h2 : k0_cond2 i = 1#1), ∀ a, (k0_off559 v6804) a + S1x32.size a ≤ S15360x128.size a := fun i v6804 k0_hw189 k0_h2 => k0_hw189 k0_h2

def k0_off560 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2311 : BitVec 32 := 32#32
  let v6801 : BitVec 32 := Scalar.muli arg13 c32_i32_2311
  let c25_i32 : BitVec 32 := 25#32
  let v6802 : BitVec 32 := Scalar.addi v6801 c25_i32
  let v6807 : Index := Scalar.indexCast v6802
  let c64_2314 : Index := 64#32
  ![v6807.toNat, 64]
def k0_off561 (v5167 : BitVec 32) (k0_t6 : Fin (k0_t6_loop v5167).trips) : Fin 2 → Nat :=
  let c2_2316 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2315 : BitVec 32 := 32#32
  let v6811 : BitVec 32 := Scalar.muli arg13 c32_i32_2315
  let c26_i32 : BitVec 32 := 26#32
  let v6812 : BitVec 32 := Scalar.addi v6811 c26_i32
  let v6813 : Index := Scalar.indexCast v6812
  ![2, v6813.toNat]
def k0_off562 (v6814 : BitVec 32) : Fin 2 → Nat :=
  let v6815 : Index := Scalar.indexCast v6814
  let c64_2317 : Index := 64#32
  ![v6815.toNat, 64]

def k0_chk190 (i : grid0.Coords) (v6814 : BitVec 32) : Prop :=
  (∀ (k0_h2 : k0_cond2 i = 1#1), ∀ a, (k0_off562 v6814) a + S1x32.size a ≤ S15360x128.size a)
theorem k0_off562_inb : ∀ (i : grid0.Coords) (v6814 : BitVec 32) (k0_hw190 : k0_chk190 i v6814), ∀ (k0_h2 : k0_cond2 i = 1#1), ∀ a, (k0_off562 v6814) a + S1x32.size a ≤ S15360x128.size a := fun i v6814 k0_hw190 k0_h2 => k0_hw190 k0_h2

def k0_off563 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2315 : BitVec 32 := 32#32
  let v6811 : BitVec 32 := Scalar.muli arg13 c32_i32_2315
  let c26_i32 : BitVec 32 := 26#32
  let v6812 : BitVec 32 := Scalar.addi v6811 c26_i32
  let v6817 : Index := Scalar.indexCast v6812
  let c64_2318 : Index := 64#32
  ![v6817.toNat, 64]
def k0_off564 (v5167 : BitVec 32) (k0_t6 : Fin (k0_t6_loop v5167).trips) : Fin 2 → Nat :=
  let c2_2320 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2319 : BitVec 32 := 32#32
  let v6821 : BitVec 32 := Scalar.muli arg13 c32_i32_2319
  let c27_i32 : BitVec 32 := 27#32
  let v6822 : BitVec 32 := Scalar.addi v6821 c27_i32
  let v6823 : Index := Scalar.indexCast v6822
  ![2, v6823.toNat]
def k0_off565 (v6824 : BitVec 32) : Fin 2 → Nat :=
  let v6825 : Index := Scalar.indexCast v6824
  let c64_2321 : Index := 64#32
  ![v6825.toNat, 64]

def k0_chk191 (i : grid0.Coords) (v6824 : BitVec 32) : Prop :=
  (∀ (k0_h2 : k0_cond2 i = 1#1), ∀ a, (k0_off565 v6824) a + S1x32.size a ≤ S15360x128.size a)
theorem k0_off565_inb : ∀ (i : grid0.Coords) (v6824 : BitVec 32) (k0_hw191 : k0_chk191 i v6824), ∀ (k0_h2 : k0_cond2 i = 1#1), ∀ a, (k0_off565 v6824) a + S1x32.size a ≤ S15360x128.size a := fun i v6824 k0_hw191 k0_h2 => k0_hw191 k0_h2

def k0_off566 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2319 : BitVec 32 := 32#32
  let v6821 : BitVec 32 := Scalar.muli arg13 c32_i32_2319
  let c27_i32 : BitVec 32 := 27#32
  let v6822 : BitVec 32 := Scalar.addi v6821 c27_i32
  let v6827 : Index := Scalar.indexCast v6822
  let c64_2322 : Index := 64#32
  ![v6827.toNat, 64]
def k0_off567 (v5167 : BitVec 32) (k0_t6 : Fin (k0_t6_loop v5167).trips) : Fin 2 → Nat :=
  let c2_2324 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2323 : BitVec 32 := 32#32
  let v6831 : BitVec 32 := Scalar.muli arg13 c32_i32_2323
  let c28_i32 : BitVec 32 := 28#32
  let v6832 : BitVec 32 := Scalar.addi v6831 c28_i32
  let v6833 : Index := Scalar.indexCast v6832
  ![2, v6833.toNat]
def k0_off568 (v6834 : BitVec 32) : Fin 2 → Nat :=
  let v6835 : Index := Scalar.indexCast v6834
  let c64_2325 : Index := 64#32
  ![v6835.toNat, 64]

def k0_chk192 (i : grid0.Coords) (v6834 : BitVec 32) : Prop :=
  (∀ (k0_h2 : k0_cond2 i = 1#1), ∀ a, (k0_off568 v6834) a + S1x32.size a ≤ S15360x128.size a)
theorem k0_off568_inb : ∀ (i : grid0.Coords) (v6834 : BitVec 32) (k0_hw192 : k0_chk192 i v6834), ∀ (k0_h2 : k0_cond2 i = 1#1), ∀ a, (k0_off568 v6834) a + S1x32.size a ≤ S15360x128.size a := fun i v6834 k0_hw192 k0_h2 => k0_hw192 k0_h2

def k0_off569 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2323 : BitVec 32 := 32#32
  let v6831 : BitVec 32 := Scalar.muli arg13 c32_i32_2323
  let c28_i32 : BitVec 32 := 28#32
  let v6832 : BitVec 32 := Scalar.addi v6831 c28_i32
  let v6837 : Index := Scalar.indexCast v6832
  let c64_2326 : Index := 64#32
  ![v6837.toNat, 64]
def k0_off570 (v5167 : BitVec 32) (k0_t6 : Fin (k0_t6_loop v5167).trips) : Fin 2 → Nat :=
  let c2_2329 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6843 : Index := Scalar.indexCast v6842
  ![2, v6843.toNat]
def k0_off571 (v6844 : BitVec 32) : Fin 2 → Nat :=
  let v6845 : Index := Scalar.indexCast v6844
  let c64_2330 : Index := 64#32
  ![v6845.toNat, 64]

def k0_chk193 (i : grid0.Coords) (v6844 : BitVec 32) : Prop :=
  (∀ (k0_h2 : k0_cond2 i = 1#1), ∀ a, (k0_off571 v6844) a + S1x32.size a ≤ S15360x128.size a)
theorem k0_off571_inb : ∀ (i : grid0.Coords) (v6844 : BitVec 32) (k0_hw193 : k0_chk193 i v6844), ∀ (k0_h2 : k0_cond2 i = 1#1), ∀ a, (k0_off571 v6844) a + S1x32.size a ≤ S15360x128.size a := fun i v6844 k0_hw193 k0_h2 => k0_hw193 k0_h2

def k0_off572 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6847 : Index := Scalar.indexCast v6842
  let c64_2331 : Index := 64#32
  ![v6847.toNat, 64]
def k0_off573 (v5167 : BitVec 32) (k0_t6 : Fin (k0_t6_loop v5167).trips) : Fin 2 → Nat :=
  let c2_2333 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2332 : BitVec 32 := 32#32
  let v6851 : BitVec 32 := Scalar.muli arg13 c32_i32_2332
  let c30_i32 : BitVec 32 := 30#32
  let v6852 : BitVec 32 := Scalar.addi v6851 c30_i32
  let v6853 : Index := Scalar.indexCast v6852
  ![2, v6853.toNat]
def k0_off574 (v6854 : BitVec 32) : Fin 2 → Nat :=
  let v6855 : Index := Scalar.indexCast v6854
  let c64_2334 : Index := 64#32
  ![v6855.toNat, 64]

def k0_chk194 (i : grid0.Coords) (v6854 : BitVec 32) : Prop :=
  (∀ (k0_h2 : k0_cond2 i = 1#1), ∀ a, (k0_off574 v6854) a + S1x32.size a ≤ S15360x128.size a)
theorem k0_off574_inb : ∀ (i : grid0.Coords) (v6854 : BitVec 32) (k0_hw194 : k0_chk194 i v6854), ∀ (k0_h2 : k0_cond2 i = 1#1), ∀ a, (k0_off574 v6854) a + S1x32.size a ≤ S15360x128.size a := fun i v6854 k0_hw194 k0_h2 => k0_hw194 k0_h2

def k0_off575 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2332 : BitVec 32 := 32#32
  let v6851 : BitVec 32 := Scalar.muli arg13 c32_i32_2332
  let c30_i32 : BitVec 32 := 30#32
  let v6852 : BitVec 32 := Scalar.addi v6851 c30_i32
  let v6857 : Index := Scalar.indexCast v6852
  let c64_2335 : Index := 64#32
  ![v6857.toNat, 64]
def k0_off576 (v5167 : BitVec 32) (k0_t6 : Fin (k0_t6_loop v5167).trips) : Fin 2 → Nat :=
  let c2_2337 : Index := 2#32
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2336 : BitVec 32 := 32#32
  let v6861 : BitVec 32 := Scalar.muli arg13 c32_i32_2336
  let c31_i32 : BitVec 32 := 31#32
  let v6862 : BitVec 32 := Scalar.addi v6861 c31_i32
  let v6863 : Index := Scalar.indexCast v6862
  ![2, v6863.toNat]
def k0_off577 (v6864 : BitVec 32) : Fin 2 → Nat :=
  let v6865 : Index := Scalar.indexCast v6864
  let c64_2338 : Index := 64#32
  ![v6865.toNat, 64]

def k0_chk195 (i : grid0.Coords) (v6864 : BitVec 32) : Prop :=
  (∀ (k0_h2 : k0_cond2 i = 1#1), ∀ a, (k0_off577 v6864) a + S1x32.size a ≤ S15360x128.size a)
theorem k0_off577_inb : ∀ (i : grid0.Coords) (v6864 : BitVec 32) (k0_hw195 : k0_chk195 i v6864), ∀ (k0_h2 : k0_cond2 i = 1#1), ∀ a, (k0_off577 v6864) a + S1x32.size a ≤ S15360x128.size a := fun i v6864 k0_hw195 k0_h2 => k0_hw195 k0_h2

def k0_off578 (v5167 : BitVec 32) (k0_t6 : Fin (k0_t6_loop v5167).trips) : Fin 2 → Nat :=
  let c0_i32_1576 : BitVec 32 := 0#32
  let c64_i32_1558 : BitVec 32 := 64#32
  let v5168 : BitVec 32 := Scalar.addi v5167 c64_i32_1558
  let c1_i32_1559 : BitVec 32 := 1#32
  let v5169 : BitVec 32 := Scalar.subi v5168 c1_i32_1559
  let c0_i32_1561 : BitVec 32 := 0#32
  let v5171 : BitVec 1 := Scalar.cmpi .sgt v5169 c0_i32_1561
  let v5172 : BitVec 32 := Scalar.extui v5171
  let c0_i32_1562 : BitVec 32 := 0#32
  let v5173 : BitVec 1 := Scalar.cmpi .slt v5169 c0_i32_1562
  let v5174 : BitVec 32 := Scalar.extui v5173
  let v5175 : BitVec 32 := Scalar.subi v5172 v5174
  let c64_i32_1560 : BitVec 32 := 64#32
  let c0_i32_1563 : BitVec 32 := 0#32
  let v5176 : BitVec 1 := Scalar.cmpi .sgt c64_i32_1560 c0_i32_1563
  let v5177 : BitVec 32 := Scalar.extui v5176
  let c0_i32_1564 : BitVec 32 := 0#32
  let v5178 : BitVec 1 := Scalar.cmpi .slt c64_i32_1560 c0_i32_1564
  let v5179 : BitVec 32 := Scalar.extui v5178
  let v5180 : BitVec 32 := Scalar.subi v5177 v5179
  let v5181 : BitVec 1 := Scalar.cmpi .ne v5175 v5180
  let v5182 : BitVec 32 := Scalar.remsi v5169 c64_i32_1560
  let c0_i32_1565 : BitVec 32 := 0#32
  let v5183 : BitVec 1 := Scalar.cmpi .ne v5182 c0_i32_1565
  let v5184 : BitVec 1 := Scalar.andi v5181 v5183
  let v5170 : BitVec 32 := Scalar.divsi v5169 c64_i32_1560
  let c1_i32_1566 : BitVec 32 := 1#32
  let v5185 : BitVec 32 := Scalar.subi v5170 c1_i32_1566
  let v5186 : BitVec 32 := Scalar.select v5184 v5185 v5170
  let c32_i32_1567 : BitVec 32 := 32#32
  let v5187 : BitVec 32 := Scalar.addi v5186 c32_i32_1567
  let c1_i32_1568 : BitVec 32 := 1#32
  let v5188 : BitVec 32 := Scalar.subi v5187 c1_i32_1568
  let c0_i32_1570 : BitVec 32 := 0#32
  let v5190 : BitVec 1 := Scalar.cmpi .sgt v5188 c0_i32_1570
  let v5191 : BitVec 32 := Scalar.extui v5190
  let c0_i32_1571 : BitVec 32 := 0#32
  let v5192 : BitVec 1 := Scalar.cmpi .slt v5188 c0_i32_1571
  let v5193 : BitVec 32 := Scalar.extui v5192
  let v5194 : BitVec 32 := Scalar.subi v5191 v5193
  let c32_i32_1569 : BitVec 32 := 32#32
  let c0_i32_1572 : BitVec 32 := 0#32
  let v5195 : BitVec 1 := Scalar.cmpi .sgt c32_i32_1569 c0_i32_1572
  let v5196 : BitVec 32 := Scalar.extui v5195
  let c0_i32_1573 : BitVec 32 := 0#32
  let v5197 : BitVec 1 := Scalar.cmpi .slt c32_i32_1569 c0_i32_1573
  let v5198 : BitVec 32 := Scalar.extui v5197
  let v5199 : BitVec 32 := Scalar.subi v5196 v5198
  let v5200 : BitVec 1 := Scalar.cmpi .ne v5194 v5199
  let v5201 : BitVec 32 := Scalar.remsi v5188 c32_i32_1569
  let c0_i32_1574 : BitVec 32 := 0#32
  let v5202 : BitVec 1 := Scalar.cmpi .ne v5201 c0_i32_1574
  let v5203 : BitVec 1 := Scalar.andi v5200 v5202
  let v5189 : BitVec 32 := Scalar.divsi v5188 c32_i32_1569
  let c1_i32_1575 : BitVec 32 := 1#32
  let v5204 : BitVec 32 := Scalar.subi v5189 c1_i32_1575
  let v5205 : BitVec 32 := Scalar.select v5203 v5204 v5189
  let v5206 : BitVec 32 := Scalar.subi v5205 c0_i32_1576
  let c1_i32_1578 : BitVec 32 := 1#32
  let v5208 : BitVec 32 := Scalar.divsi v5206 c1_i32_1578
  let v5209 : BitVec 32 := Scalar.muli v5208 c1_i32_1578
  let v5210 : BitVec 32 := Scalar.addi c0_i32_1576 v5209
  let c1_i32_1580 : BitVec 32 := 1#32
  let arg13 : BitVec 32 := Scf.iv v5210 c1_i32_1580 k0_t6
  let c32_i32_2336 : BitVec 32 := 32#32
  let v6861 : BitVec 32 := Scalar.muli arg13 c32_i32_2336
  let c31_i32 : BitVec 32 := 31#32
  let v6862 : BitVec 32 := Scalar.addi v6861 c31_i32
  let v6867 : Index := Scalar.indexCast v6862
  let c64_2339 : Index := 64#32
  ![v6867.toNat, 64]

def k0_chk131_0 (i : grid0.Coords) (v5167 : BitVec 32) : Prop :=
  (∀ (k0_h2 : k0_cond2 i = 1#1), (k0_t5_loop v5167).OK) ∧
  (∀ k0_t5 : Fin (k0_t5_loop v5167).trips, ∀ (k0_h2 : k0_cond2 i = 1#1), ∀ a, (k0_off387 v5167 k0_t5) a + S1x1.size a ≤ S6x2048.size a) ∧
  (∀ k0_t5 : Fin (k0_t5_loop v5167).trips, ∀ (k0_h2 : k0_cond2 i = 1#1), ∀ a, (k0_off389 v5167 k0_t5) a + S1x32.size a ≤ S2048x128.size a) ∧
  (∀ k0_t5 : Fin (k0_t5_loop v5167).trips, ∀ (k0_h2 : k0_cond2 i = 1#1), ∀ a, (k0_off390 v5167 k0_t5) a + S1x1.size a ≤ S6x2048.size a) ∧
  (∀ k0_t5 : Fin (k0_t5_loop v5167).trips, ∀ (k0_h2 : k0_cond2 i = 1#1), ∀ a, (k0_off392 v5167 k0_t5) a + S1x32.size a ≤ S2048x128.size a) ∧
  (∀ k0_t5 : Fin (k0_t5_loop v5167).trips, ∀ (k0_h2 : k0_cond2 i = 1#1), ∀ a, (k0_off393 v5167 k0_t5) a + S1x1.size a ≤ S6x2048.size a) ∧
  (∀ k0_t5 : Fin (k0_t5_loop v5167).trips, ∀ (k0_h2 : k0_cond2 i = 1#1), ∀ a, (k0_off395 v5167 k0_t5) a + S1x32.size a ≤ S2048x128.size a) ∧
  (∀ k0_t5 : Fin (k0_t5_loop v5167).trips, ∀ (k0_h2 : k0_cond2 i = 1#1), ∀ a, (k0_off396 v5167 k0_t5) a + S1x1.size a ≤ S6x2048.size a) ∧
  (∀ k0_t5 : Fin (k0_t5_loop v5167).trips, ∀ (k0_h2 : k0_cond2 i = 1#1), ∀ a, (k0_off398 v5167 k0_t5) a + S1x32.size a ≤ S2048x128.size a) ∧
  (∀ k0_t5 : Fin (k0_t5_loop v5167).trips, ∀ (k0_h2 : k0_cond2 i = 1#1), ∀ a, (k0_off399 v5167 k0_t5) a + S1x1.size a ≤ S6x2048.size a) ∧
  (∀ k0_t5 : Fin (k0_t5_loop v5167).trips, ∀ (k0_h2 : k0_cond2 i = 1#1), ∀ a, (k0_off401 v5167 k0_t5) a + S1x32.size a ≤ S2048x128.size a) ∧
  (∀ k0_t5 : Fin (k0_t5_loop v5167).trips, ∀ (k0_h2 : k0_cond2 i = 1#1), ∀ a, (k0_off402 v5167 k0_t5) a + S1x1.size a ≤ S6x2048.size a) ∧
  (∀ k0_t5 : Fin (k0_t5_loop v5167).trips, ∀ (k0_h2 : k0_cond2 i = 1#1), ∀ a, (k0_off404 v5167 k0_t5) a + S1x32.size a ≤ S2048x128.size a) ∧
  (∀ k0_t5 : Fin (k0_t5_loop v5167).trips, ∀ (k0_h2 : k0_cond2 i = 1#1), ∀ a, (k0_off405 v5167 k0_t5) a + S1x1.size a ≤ S6x2048.size a) ∧
  (∀ k0_t5 : Fin (k0_t5_loop v5167).trips, ∀ (k0_h2 : k0_cond2 i = 1#1), ∀ a, (k0_off407 v5167 k0_t5) a + S1x32.size a ≤ S2048x128.size a) ∧
  (∀ k0_t5 : Fin (k0_t5_loop v5167).trips, ∀ (k0_h2 : k0_cond2 i = 1#1), ∀ a, (k0_off408 v5167 k0_t5) a + S1x1.size a ≤ S6x2048.size a) ∧
  (∀ k0_t5 : Fin (k0_t5_loop v5167).trips, ∀ (k0_h2 : k0_cond2 i = 1#1), ∀ a, (k0_off410 v5167 k0_t5) a + S1x32.size a ≤ S2048x128.size a) ∧
  (∀ k0_t5 : Fin (k0_t5_loop v5167).trips, ∀ (k0_h2 : k0_cond2 i = 1#1), ∀ a, (k0_off411 v5167 k0_t5) a + S1x1.size a ≤ S6x2048.size a) ∧
  (∀ k0_t5 : Fin (k0_t5_loop v5167).trips, ∀ (k0_h2 : k0_cond2 i = 1#1), ∀ a, (k0_off413 v5167 k0_t5) a + S1x32.size a ≤ S2048x128.size a) ∧
  (∀ k0_t5 : Fin (k0_t5_loop v5167).trips, ∀ (k0_h2 : k0_cond2 i = 1#1), ∀ a, (k0_off414 v5167 k0_t5) a + S1x1.size a ≤ S6x2048.size a) ∧
  (∀ k0_t5 : Fin (k0_t5_loop v5167).trips, ∀ (k0_h2 : k0_cond2 i = 1#1), ∀ a, (k0_off416 v5167 k0_t5) a + S1x32.size a ≤ S2048x128.size a) ∧
  (∀ k0_t5 : Fin (k0_t5_loop v5167).trips, ∀ (k0_h2 : k0_cond2 i = 1#1), ∀ a, (k0_off417 v5167 k0_t5) a + S1x1.size a ≤ S6x2048.size a) ∧
  (∀ k0_t5 : Fin (k0_t5_loop v5167).trips, ∀ (k0_h2 : k0_cond2 i = 1#1), ∀ a, (k0_off419 v5167 k0_t5) a + S1x32.size a ≤ S2048x128.size a) ∧
  (∀ k0_t5 : Fin (k0_t5_loop v5167).trips, ∀ (k0_h2 : k0_cond2 i = 1#1), ∀ a, (k0_off420 v5167 k0_t5) a + S1x1.size a ≤ S6x2048.size a) ∧
  (∀ k0_t5 : Fin (k0_t5_loop v5167).trips, ∀ (k0_h2 : k0_cond2 i = 1#1), ∀ a, (k0_off422 v5167 k0_t5) a + S1x32.size a ≤ S2048x128.size a) ∧
  (∀ k0_t5 : Fin (k0_t5_loop v5167).trips, ∀ (k0_h2 : k0_cond2 i = 1#1), ∀ a, (k0_off423 v5167 k0_t5) a + S1x1.size a ≤ S6x2048.size a) ∧
  (∀ k0_t5 : Fin (k0_t5_loop v5167).trips, ∀ (k0_h2 : k0_cond2 i = 1#1), ∀ a, (k0_off425 v5167 k0_t5) a + S1x32.size a ≤ S2048x128.size a) ∧
  (∀ k0_t5 : Fin (k0_t5_loop v5167).trips, ∀ (k0_h2 : k0_cond2 i = 1#1), ∀ a, (k0_off426 v5167 k0_t5) a + S1x1.size a ≤ S6x2048.size a) ∧
  (∀ k0_t5 : Fin (k0_t5_loop v5167).trips, ∀ (k0_h2 : k0_cond2 i = 1#1), ∀ a, (k0_off428 v5167 k0_t5) a + S1x32.size a ≤ S2048x128.size a) ∧
  (∀ k0_t5 : Fin (k0_t5_loop v5167).trips, ∀ (k0_h2 : k0_cond2 i = 1#1), ∀ a, (k0_off429 v5167 k0_t5) a + S1x1.size a ≤ S6x2048.size a) ∧
  (∀ k0_t5 : Fin (k0_t5_loop v5167).trips, ∀ (k0_h2 : k0_cond2 i = 1#1), ∀ a, (k0_off431 v5167 k0_t5) a + S1x32.size a ≤ S2048x128.size a) ∧
  (∀ k0_t5 : Fin (k0_t5_loop v5167).trips, ∀ (k0_h2 : k0_cond2 i = 1#1), ∀ a, (k0_off432 v5167 k0_t5) a + S1x1.size a ≤ S6x2048.size a)
def k0_chk131_1 (i : grid0.Coords) (v5167 : BitVec 32) : Prop :=
  (∀ k0_t5 : Fin (k0_t5_loop v5167).trips, ∀ (k0_h2 : k0_cond2 i = 1#1), ∀ a, (k0_off434 v5167 k0_t5) a + S1x32.size a ≤ S2048x128.size a) ∧
  (∀ k0_t5 : Fin (k0_t5_loop v5167).trips, ∀ (k0_h2 : k0_cond2 i = 1#1), ∀ a, (k0_off435 v5167 k0_t5) a + S1x1.size a ≤ S6x2048.size a) ∧
  (∀ k0_t5 : Fin (k0_t5_loop v5167).trips, ∀ (k0_h2 : k0_cond2 i = 1#1), ∀ a, (k0_off437 v5167 k0_t5) a + S1x32.size a ≤ S2048x128.size a) ∧
  (∀ k0_t5 : Fin (k0_t5_loop v5167).trips, ∀ (k0_h2 : k0_cond2 i = 1#1), ∀ a, (k0_off438 v5167 k0_t5) a + S1x1.size a ≤ S6x2048.size a) ∧
  (∀ k0_t5 : Fin (k0_t5_loop v5167).trips, ∀ (k0_h2 : k0_cond2 i = 1#1), ∀ a, (k0_off440 v5167 k0_t5) a + S1x32.size a ≤ S2048x128.size a) ∧
  (∀ k0_t5 : Fin (k0_t5_loop v5167).trips, ∀ (k0_h2 : k0_cond2 i = 1#1), ∀ a, (k0_off441 v5167 k0_t5) a + S1x1.size a ≤ S6x2048.size a) ∧
  (∀ k0_t5 : Fin (k0_t5_loop v5167).trips, ∀ (k0_h2 : k0_cond2 i = 1#1), ∀ a, (k0_off443 v5167 k0_t5) a + S1x32.size a ≤ S2048x128.size a) ∧
  (∀ k0_t5 : Fin (k0_t5_loop v5167).trips, ∀ (k0_h2 : k0_cond2 i = 1#1), ∀ a, (k0_off444 v5167 k0_t5) a + S1x1.size a ≤ S6x2048.size a) ∧
  (∀ k0_t5 : Fin (k0_t5_loop v5167).trips, ∀ (k0_h2 : k0_cond2 i = 1#1), ∀ a, (k0_off446 v5167 k0_t5) a + S1x32.size a ≤ S2048x128.size a) ∧
  (∀ k0_t5 : Fin (k0_t5_loop v5167).trips, ∀ (k0_h2 : k0_cond2 i = 1#1), ∀ a, (k0_off447 v5167 k0_t5) a + S1x1.size a ≤ S6x2048.size a) ∧
  (∀ k0_t5 : Fin (k0_t5_loop v5167).trips, ∀ (k0_h2 : k0_cond2 i = 1#1), ∀ a, (k0_off449 v5167 k0_t5) a + S1x32.size a ≤ S2048x128.size a) ∧
  (∀ k0_t5 : Fin (k0_t5_loop v5167).trips, ∀ (k0_h2 : k0_cond2 i = 1#1), ∀ a, (k0_off450 v5167 k0_t5) a + S1x1.size a ≤ S6x2048.size a) ∧
  (∀ k0_t5 : Fin (k0_t5_loop v5167).trips, ∀ (k0_h2 : k0_cond2 i = 1#1), ∀ a, (k0_off452 v5167 k0_t5) a + S1x32.size a ≤ S2048x128.size a) ∧
  (∀ k0_t5 : Fin (k0_t5_loop v5167).trips, ∀ (k0_h2 : k0_cond2 i = 1#1), ∀ a, (k0_off453 v5167 k0_t5) a + S1x1.size a ≤ S6x2048.size a) ∧
  (∀ k0_t5 : Fin (k0_t5_loop v5167).trips, ∀ (k0_h2 : k0_cond2 i = 1#1), ∀ a, (k0_off455 v5167 k0_t5) a + S1x32.size a ≤ S2048x128.size a) ∧
  (∀ k0_t5 : Fin (k0_t5_loop v5167).trips, ∀ (k0_h2 : k0_cond2 i = 1#1), ∀ a, (k0_off456 v5167 k0_t5) a + S1x1.size a ≤ S6x2048.size a) ∧
  (∀ k0_t5 : Fin (k0_t5_loop v5167).trips, ∀ (k0_h2 : k0_cond2 i = 1#1), ∀ a, (k0_off458 v5167 k0_t5) a + S1x32.size a ≤ S2048x128.size a) ∧
  (∀ k0_t5 : Fin (k0_t5_loop v5167).trips, ∀ (k0_h2 : k0_cond2 i = 1#1), ∀ a, (k0_off459 v5167 k0_t5) a + S1x1.size a ≤ S6x2048.size a) ∧
  (∀ k0_t5 : Fin (k0_t5_loop v5167).trips, ∀ (k0_h2 : k0_cond2 i = 1#1), ∀ a, (k0_off461 v5167 k0_t5) a + S1x32.size a ≤ S2048x128.size a) ∧
  (∀ k0_t5 : Fin (k0_t5_loop v5167).trips, ∀ (k0_h2 : k0_cond2 i = 1#1), ∀ a, (k0_off462 v5167 k0_t5) a + S1x1.size a ≤ S6x2048.size a) ∧
  (∀ k0_t5 : Fin (k0_t5_loop v5167).trips, ∀ (k0_h2 : k0_cond2 i = 1#1), ∀ a, (k0_off464 v5167 k0_t5) a + S1x32.size a ≤ S2048x128.size a) ∧
  (∀ k0_t5 : Fin (k0_t5_loop v5167).trips, ∀ (k0_h2 : k0_cond2 i = 1#1), ∀ a, (k0_off465 v5167 k0_t5) a + S1x1.size a ≤ S6x2048.size a) ∧
  (∀ k0_t5 : Fin (k0_t5_loop v5167).trips, ∀ (k0_h2 : k0_cond2 i = 1#1), ∀ a, (k0_off467 v5167 k0_t5) a + S1x32.size a ≤ S2048x128.size a) ∧
  (∀ k0_t5 : Fin (k0_t5_loop v5167).trips, ∀ (k0_h2 : k0_cond2 i = 1#1), ∀ a, (k0_off468 v5167 k0_t5) a + S1x1.size a ≤ S6x2048.size a) ∧
  (∀ k0_t5 : Fin (k0_t5_loop v5167).trips, ∀ (k0_h2 : k0_cond2 i = 1#1), ∀ a, (k0_off470 v5167 k0_t5) a + S1x32.size a ≤ S2048x128.size a) ∧
  (∀ k0_t5 : Fin (k0_t5_loop v5167).trips, ∀ (k0_h2 : k0_cond2 i = 1#1), ∀ a, (k0_off471 v5167 k0_t5) a + S1x1.size a ≤ S6x2048.size a) ∧
  (∀ k0_t5 : Fin (k0_t5_loop v5167).trips, ∀ (k0_h2 : k0_cond2 i = 1#1), ∀ a, (k0_off473 v5167 k0_t5) a + S1x32.size a ≤ S2048x128.size a) ∧
  (∀ k0_t5 : Fin (k0_t5_loop v5167).trips, ∀ (k0_h2 : k0_cond2 i = 1#1), ∀ a, (k0_off474 v5167 k0_t5) a + S1x1.size a ≤ S6x2048.size a) ∧
  (∀ k0_t5 : Fin (k0_t5_loop v5167).trips, ∀ (k0_h2 : k0_cond2 i = 1#1), ∀ a, (k0_off476 v5167 k0_t5) a + S1x32.size a ≤ S2048x128.size a) ∧
  (∀ k0_t5 : Fin (k0_t5_loop v5167).trips, ∀ (k0_h2 : k0_cond2 i = 1#1), ∀ a, (k0_off477 v5167 k0_t5) a + S1x1.size a ≤ S6x2048.size a) ∧
  (∀ k0_t5 : Fin (k0_t5_loop v5167).trips, ∀ (k0_h2 : k0_cond2 i = 1#1), ∀ a, (k0_off479 v5167 k0_t5) a + S1x32.size a ≤ S2048x128.size a) ∧
  (∀ k0_t5 : Fin (k0_t5_loop v5167).trips, ∀ (k0_h2 : k0_cond2 i = 1#1), ∀ a, (k0_off480 v5167 k0_t5) a + S1x1.size a ≤ S6x2048.size a)
def k0_chk131_2 (i : grid0.Coords) (v5167 : BitVec 32) : Prop :=
  (∀ k0_t5 : Fin (k0_t5_loop v5167).trips, ∀ (k0_h2 : k0_cond2 i = 1#1), ∀ a, (k0_off482 v5167 k0_t5) a + S1x32.size a ≤ S2048x128.size a) ∧
  (∀ (k0_h2 : k0_cond2 i = 1#1), (k0_t6_loop v5167).OK) ∧
  (∀ k0_t6 : Fin (k0_t6_loop v5167).trips, ∀ (k0_h2 : k0_cond2 i = 1#1), ∀ a, (k0_off483 v5167 k0_t6) a + S1x1.size a ≤ S6x2048.size a) ∧
  (∀ k0_t6 : Fin (k0_t6_loop v5167).trips, ∀ (k0_h2 : k0_cond2 i = 1#1), ∀ a, (k0_off485 v5167 k0_t6) a + S1x32.size a ≤ S2048x128.size a) ∧
  (∀ k0_t6 : Fin (k0_t6_loop v5167).trips, ∀ (k0_h2 : k0_cond2 i = 1#1), ∀ a, (k0_off486 v5167 k0_t6) a + S1x1.size a ≤ S6x2048.size a) ∧
  (∀ k0_t6 : Fin (k0_t6_loop v5167).trips, ∀ (k0_h2 : k0_cond2 i = 1#1), ∀ a, (k0_off488 v5167 k0_t6) a + S1x32.size a ≤ S2048x128.size a) ∧
  (∀ k0_t6 : Fin (k0_t6_loop v5167).trips, ∀ (k0_h2 : k0_cond2 i = 1#1), ∀ a, (k0_off489 v5167 k0_t6) a + S1x1.size a ≤ S6x2048.size a) ∧
  (∀ k0_t6 : Fin (k0_t6_loop v5167).trips, ∀ (k0_h2 : k0_cond2 i = 1#1), ∀ a, (k0_off491 v5167 k0_t6) a + S1x32.size a ≤ S2048x128.size a) ∧
  (∀ k0_t6 : Fin (k0_t6_loop v5167).trips, ∀ (k0_h2 : k0_cond2 i = 1#1), ∀ a, (k0_off492 v5167 k0_t6) a + S1x1.size a ≤ S6x2048.size a) ∧
  (∀ k0_t6 : Fin (k0_t6_loop v5167).trips, ∀ (k0_h2 : k0_cond2 i = 1#1), ∀ a, (k0_off494 v5167 k0_t6) a + S1x32.size a ≤ S2048x128.size a) ∧
  (∀ k0_t6 : Fin (k0_t6_loop v5167).trips, ∀ (k0_h2 : k0_cond2 i = 1#1), ∀ a, (k0_off495 v5167 k0_t6) a + S1x1.size a ≤ S6x2048.size a) ∧
  (∀ k0_t6 : Fin (k0_t6_loop v5167).trips, ∀ (k0_h2 : k0_cond2 i = 1#1), ∀ a, (k0_off497 v5167 k0_t6) a + S1x32.size a ≤ S2048x128.size a) ∧
  (∀ k0_t6 : Fin (k0_t6_loop v5167).trips, ∀ (k0_h2 : k0_cond2 i = 1#1), ∀ a, (k0_off498 v5167 k0_t6) a + S1x1.size a ≤ S6x2048.size a) ∧
  (∀ k0_t6 : Fin (k0_t6_loop v5167).trips, ∀ (k0_h2 : k0_cond2 i = 1#1), ∀ a, (k0_off500 v5167 k0_t6) a + S1x32.size a ≤ S2048x128.size a) ∧
  (∀ k0_t6 : Fin (k0_t6_loop v5167).trips, ∀ (k0_h2 : k0_cond2 i = 1#1), ∀ a, (k0_off501 v5167 k0_t6) a + S1x1.size a ≤ S6x2048.size a) ∧
  (∀ k0_t6 : Fin (k0_t6_loop v5167).trips, ∀ (k0_h2 : k0_cond2 i = 1#1), ∀ a, (k0_off503 v5167 k0_t6) a + S1x32.size a ≤ S2048x128.size a) ∧
  (∀ k0_t6 : Fin (k0_t6_loop v5167).trips, ∀ (k0_h2 : k0_cond2 i = 1#1), ∀ a, (k0_off504 v5167 k0_t6) a + S1x1.size a ≤ S6x2048.size a) ∧
  (∀ k0_t6 : Fin (k0_t6_loop v5167).trips, ∀ (k0_h2 : k0_cond2 i = 1#1), ∀ a, (k0_off506 v5167 k0_t6) a + S1x32.size a ≤ S2048x128.size a) ∧
  (∀ k0_t6 : Fin (k0_t6_loop v5167).trips, ∀ (k0_h2 : k0_cond2 i = 1#1), ∀ a, (k0_off507 v5167 k0_t6) a + S1x1.size a ≤ S6x2048.size a) ∧
  (∀ k0_t6 : Fin (k0_t6_loop v5167).trips, ∀ (k0_h2 : k0_cond2 i = 1#1), ∀ a, (k0_off509 v5167 k0_t6) a + S1x32.size a ≤ S2048x128.size a) ∧
  (∀ k0_t6 : Fin (k0_t6_loop v5167).trips, ∀ (k0_h2 : k0_cond2 i = 1#1), ∀ a, (k0_off510 v5167 k0_t6) a + S1x1.size a ≤ S6x2048.size a) ∧
  (∀ k0_t6 : Fin (k0_t6_loop v5167).trips, ∀ (k0_h2 : k0_cond2 i = 1#1), ∀ a, (k0_off512 v5167 k0_t6) a + S1x32.size a ≤ S2048x128.size a) ∧
  (∀ k0_t6 : Fin (k0_t6_loop v5167).trips, ∀ (k0_h2 : k0_cond2 i = 1#1), ∀ a, (k0_off513 v5167 k0_t6) a + S1x1.size a ≤ S6x2048.size a) ∧
  (∀ k0_t6 : Fin (k0_t6_loop v5167).trips, ∀ (k0_h2 : k0_cond2 i = 1#1), ∀ a, (k0_off515 v5167 k0_t6) a + S1x32.size a ≤ S2048x128.size a) ∧
  (∀ k0_t6 : Fin (k0_t6_loop v5167).trips, ∀ (k0_h2 : k0_cond2 i = 1#1), ∀ a, (k0_off516 v5167 k0_t6) a + S1x1.size a ≤ S6x2048.size a) ∧
  (∀ k0_t6 : Fin (k0_t6_loop v5167).trips, ∀ (k0_h2 : k0_cond2 i = 1#1), ∀ a, (k0_off518 v5167 k0_t6) a + S1x32.size a ≤ S2048x128.size a) ∧
  (∀ k0_t6 : Fin (k0_t6_loop v5167).trips, ∀ (k0_h2 : k0_cond2 i = 1#1), ∀ a, (k0_off519 v5167 k0_t6) a + S1x1.size a ≤ S6x2048.size a) ∧
  (∀ k0_t6 : Fin (k0_t6_loop v5167).trips, ∀ (k0_h2 : k0_cond2 i = 1#1), ∀ a, (k0_off521 v5167 k0_t6) a + S1x32.size a ≤ S2048x128.size a) ∧
  (∀ k0_t6 : Fin (k0_t6_loop v5167).trips, ∀ (k0_h2 : k0_cond2 i = 1#1), ∀ a, (k0_off522 v5167 k0_t6) a + S1x1.size a ≤ S6x2048.size a) ∧
  (∀ k0_t6 : Fin (k0_t6_loop v5167).trips, ∀ (k0_h2 : k0_cond2 i = 1#1), ∀ a, (k0_off524 v5167 k0_t6) a + S1x32.size a ≤ S2048x128.size a) ∧
  (∀ k0_t6 : Fin (k0_t6_loop v5167).trips, ∀ (k0_h2 : k0_cond2 i = 1#1), ∀ a, (k0_off525 v5167 k0_t6) a + S1x1.size a ≤ S6x2048.size a) ∧
  (∀ k0_t6 : Fin (k0_t6_loop v5167).trips, ∀ (k0_h2 : k0_cond2 i = 1#1), ∀ a, (k0_off527 v5167 k0_t6) a + S1x32.size a ≤ S2048x128.size a)
def k0_chk131_3 (i : grid0.Coords) (v5167 : BitVec 32) : Prop :=
  (∀ k0_t6 : Fin (k0_t6_loop v5167).trips, ∀ (k0_h2 : k0_cond2 i = 1#1), ∀ a, (k0_off528 v5167 k0_t6) a + S1x1.size a ≤ S6x2048.size a) ∧
  (∀ k0_t6 : Fin (k0_t6_loop v5167).trips, ∀ (k0_h2 : k0_cond2 i = 1#1), ∀ a, (k0_off530 v5167 k0_t6) a + S1x32.size a ≤ S2048x128.size a) ∧
  (∀ k0_t6 : Fin (k0_t6_loop v5167).trips, ∀ (k0_h2 : k0_cond2 i = 1#1), ∀ a, (k0_off531 v5167 k0_t6) a + S1x1.size a ≤ S6x2048.size a) ∧
  (∀ k0_t6 : Fin (k0_t6_loop v5167).trips, ∀ (k0_h2 : k0_cond2 i = 1#1), ∀ a, (k0_off533 v5167 k0_t6) a + S1x32.size a ≤ S2048x128.size a) ∧
  (∀ k0_t6 : Fin (k0_t6_loop v5167).trips, ∀ (k0_h2 : k0_cond2 i = 1#1), ∀ a, (k0_off534 v5167 k0_t6) a + S1x1.size a ≤ S6x2048.size a) ∧
  (∀ k0_t6 : Fin (k0_t6_loop v5167).trips, ∀ (k0_h2 : k0_cond2 i = 1#1), ∀ a, (k0_off536 v5167 k0_t6) a + S1x32.size a ≤ S2048x128.size a) ∧
  (∀ k0_t6 : Fin (k0_t6_loop v5167).trips, ∀ (k0_h2 : k0_cond2 i = 1#1), ∀ a, (k0_off537 v5167 k0_t6) a + S1x1.size a ≤ S6x2048.size a) ∧
  (∀ k0_t6 : Fin (k0_t6_loop v5167).trips, ∀ (k0_h2 : k0_cond2 i = 1#1), ∀ a, (k0_off539 v5167 k0_t6) a + S1x32.size a ≤ S2048x128.size a) ∧
  (∀ k0_t6 : Fin (k0_t6_loop v5167).trips, ∀ (k0_h2 : k0_cond2 i = 1#1), ∀ a, (k0_off540 v5167 k0_t6) a + S1x1.size a ≤ S6x2048.size a) ∧
  (∀ k0_t6 : Fin (k0_t6_loop v5167).trips, ∀ (k0_h2 : k0_cond2 i = 1#1), ∀ a, (k0_off542 v5167 k0_t6) a + S1x32.size a ≤ S2048x128.size a) ∧
  (∀ k0_t6 : Fin (k0_t6_loop v5167).trips, ∀ (k0_h2 : k0_cond2 i = 1#1), ∀ a, (k0_off543 v5167 k0_t6) a + S1x1.size a ≤ S6x2048.size a) ∧
  (∀ k0_t6 : Fin (k0_t6_loop v5167).trips, ∀ (k0_h2 : k0_cond2 i = 1#1), ∀ a, (k0_off545 v5167 k0_t6) a + S1x32.size a ≤ S2048x128.size a) ∧
  (∀ k0_t6 : Fin (k0_t6_loop v5167).trips, ∀ (k0_h2 : k0_cond2 i = 1#1), ∀ a, (k0_off546 v5167 k0_t6) a + S1x1.size a ≤ S6x2048.size a) ∧
  (∀ k0_t6 : Fin (k0_t6_loop v5167).trips, ∀ (k0_h2 : k0_cond2 i = 1#1), ∀ a, (k0_off548 v5167 k0_t6) a + S1x32.size a ≤ S2048x128.size a) ∧
  (∀ k0_t6 : Fin (k0_t6_loop v5167).trips, ∀ (k0_h2 : k0_cond2 i = 1#1), ∀ a, (k0_off549 v5167 k0_t6) a + S1x1.size a ≤ S6x2048.size a) ∧
  (∀ k0_t6 : Fin (k0_t6_loop v5167).trips, ∀ (k0_h2 : k0_cond2 i = 1#1), ∀ a, (k0_off551 v5167 k0_t6) a + S1x32.size a ≤ S2048x128.size a) ∧
  (∀ k0_t6 : Fin (k0_t6_loop v5167).trips, ∀ (k0_h2 : k0_cond2 i = 1#1), ∀ a, (k0_off552 v5167 k0_t6) a + S1x1.size a ≤ S6x2048.size a) ∧
  (∀ k0_t6 : Fin (k0_t6_loop v5167).trips, ∀ (k0_h2 : k0_cond2 i = 1#1), ∀ a, (k0_off554 v5167 k0_t6) a + S1x32.size a ≤ S2048x128.size a) ∧
  (∀ k0_t6 : Fin (k0_t6_loop v5167).trips, ∀ (k0_h2 : k0_cond2 i = 1#1), ∀ a, (k0_off555 v5167 k0_t6) a + S1x1.size a ≤ S6x2048.size a) ∧
  (∀ k0_t6 : Fin (k0_t6_loop v5167).trips, ∀ (k0_h2 : k0_cond2 i = 1#1), ∀ a, (k0_off557 v5167 k0_t6) a + S1x32.size a ≤ S2048x128.size a) ∧
  (∀ k0_t6 : Fin (k0_t6_loop v5167).trips, ∀ (k0_h2 : k0_cond2 i = 1#1), ∀ a, (k0_off558 v5167 k0_t6) a + S1x1.size a ≤ S6x2048.size a) ∧
  (∀ k0_t6 : Fin (k0_t6_loop v5167).trips, ∀ (k0_h2 : k0_cond2 i = 1#1), ∀ a, (k0_off560 v5167 k0_t6) a + S1x32.size a ≤ S2048x128.size a) ∧
  (∀ k0_t6 : Fin (k0_t6_loop v5167).trips, ∀ (k0_h2 : k0_cond2 i = 1#1), ∀ a, (k0_off561 v5167 k0_t6) a + S1x1.size a ≤ S6x2048.size a) ∧
  (∀ k0_t6 : Fin (k0_t6_loop v5167).trips, ∀ (k0_h2 : k0_cond2 i = 1#1), ∀ a, (k0_off563 v5167 k0_t6) a + S1x32.size a ≤ S2048x128.size a) ∧
  (∀ k0_t6 : Fin (k0_t6_loop v5167).trips, ∀ (k0_h2 : k0_cond2 i = 1#1), ∀ a, (k0_off564 v5167 k0_t6) a + S1x1.size a ≤ S6x2048.size a) ∧
  (∀ k0_t6 : Fin (k0_t6_loop v5167).trips, ∀ (k0_h2 : k0_cond2 i = 1#1), ∀ a, (k0_off566 v5167 k0_t6) a + S1x32.size a ≤ S2048x128.size a) ∧
  (∀ k0_t6 : Fin (k0_t6_loop v5167).trips, ∀ (k0_h2 : k0_cond2 i = 1#1), ∀ a, (k0_off567 v5167 k0_t6) a + S1x1.size a ≤ S6x2048.size a) ∧
  (∀ k0_t6 : Fin (k0_t6_loop v5167).trips, ∀ (k0_h2 : k0_cond2 i = 1#1), ∀ a, (k0_off569 v5167 k0_t6) a + S1x32.size a ≤ S2048x128.size a) ∧
  (∀ k0_t6 : Fin (k0_t6_loop v5167).trips, ∀ (k0_h2 : k0_cond2 i = 1#1), ∀ a, (k0_off570 v5167 k0_t6) a + S1x1.size a ≤ S6x2048.size a) ∧
  (∀ k0_t6 : Fin (k0_t6_loop v5167).trips, ∀ (k0_h2 : k0_cond2 i = 1#1), ∀ a, (k0_off572 v5167 k0_t6) a + S1x32.size a ≤ S2048x128.size a) ∧
  (∀ k0_t6 : Fin (k0_t6_loop v5167).trips, ∀ (k0_h2 : k0_cond2 i = 1#1), ∀ a, (k0_off573 v5167 k0_t6) a + S1x1.size a ≤ S6x2048.size a) ∧
  (∀ k0_t6 : Fin (k0_t6_loop v5167).trips, ∀ (k0_h2 : k0_cond2 i = 1#1), ∀ a, (k0_off575 v5167 k0_t6) a + S1x32.size a ≤ S2048x128.size a)
def k0_chk131_4 (i : grid0.Coords) (v5167 : BitVec 32) : Prop :=
  (∀ k0_t6 : Fin (k0_t6_loop v5167).trips, ∀ (k0_h2 : k0_cond2 i = 1#1), ∀ a, (k0_off576 v5167 k0_t6) a + S1x1.size a ≤ S6x2048.size a) ∧
  (∀ k0_t6 : Fin (k0_t6_loop v5167).trips, ∀ (k0_h2 : k0_cond2 i = 1#1), ∀ a, (k0_off578 v5167 k0_t6) a + S1x32.size a ≤ S2048x128.size a)
def k0_chk131 (i : grid0.Coords) (v5167 : BitVec 32) : Prop :=
  k0_chk131_0 i v5167 ∧
  k0_chk131_1 i v5167 ∧
  k0_chk131_2 i v5167 ∧
  k0_chk131_3 i v5167 ∧
  k0_chk131_4 i v5167
theorem k0_t5_ok : ∀ (i : grid0.Coords) (v5167 : BitVec 32) (k0_hw131 : k0_chk131 i v5167), ∀ (k0_h2 : k0_cond2 i = 1#1), (k0_t5_loop v5167).OK := fun i v5167 k0_hw131 k0_h2 => k0_hw131.1.1 k0_h2
theorem k0_off387_inb : ∀ (i : grid0.Coords) (v5167 : BitVec 32) (k0_hw131 : k0_chk131 i v5167) (k0_t5 : Fin (k0_t5_loop v5167).trips), ∀ (k0_h2 : k0_cond2 i = 1#1), ∀ a, (k0_off387 v5167 k0_t5) a + S1x1.size a ≤ S6x2048.size a := fun i v5167 k0_hw131 k0_t5 k0_h2 => k0_hw131.1.2.1 k0_t5 k0_h2
theorem k0_off389_inb : ∀ (i : grid0.Coords) (v5167 : BitVec 32) (k0_hw131 : k0_chk131 i v5167) (k0_t5 : Fin (k0_t5_loop v5167).trips), ∀ (k0_h2 : k0_cond2 i = 1#1), ∀ a, (k0_off389 v5167 k0_t5) a + S1x32.size a ≤ S2048x128.size a := fun i v5167 k0_hw131 k0_t5 k0_h2 => k0_hw131.1.2.2.1 k0_t5 k0_h2
theorem k0_off390_inb : ∀ (i : grid0.Coords) (v5167 : BitVec 32) (k0_hw131 : k0_chk131 i v5167) (k0_t5 : Fin (k0_t5_loop v5167).trips), ∀ (k0_h2 : k0_cond2 i = 1#1), ∀ a, (k0_off390 v5167 k0_t5) a + S1x1.size a ≤ S6x2048.size a := fun i v5167 k0_hw131 k0_t5 k0_h2 => k0_hw131.1.2.2.2.1 k0_t5 k0_h2
theorem k0_off392_inb : ∀ (i : grid0.Coords) (v5167 : BitVec 32) (k0_hw131 : k0_chk131 i v5167) (k0_t5 : Fin (k0_t5_loop v5167).trips), ∀ (k0_h2 : k0_cond2 i = 1#1), ∀ a, (k0_off392 v5167 k0_t5) a + S1x32.size a ≤ S2048x128.size a := fun i v5167 k0_hw131 k0_t5 k0_h2 => k0_hw131.1.2.2.2.2.1 k0_t5 k0_h2
theorem k0_off393_inb : ∀ (i : grid0.Coords) (v5167 : BitVec 32) (k0_hw131 : k0_chk131 i v5167) (k0_t5 : Fin (k0_t5_loop v5167).trips), ∀ (k0_h2 : k0_cond2 i = 1#1), ∀ a, (k0_off393 v5167 k0_t5) a + S1x1.size a ≤ S6x2048.size a := fun i v5167 k0_hw131 k0_t5 k0_h2 => k0_hw131.1.2.2.2.2.2.1 k0_t5 k0_h2
theorem k0_off395_inb : ∀ (i : grid0.Coords) (v5167 : BitVec 32) (k0_hw131 : k0_chk131 i v5167) (k0_t5 : Fin (k0_t5_loop v5167).trips), ∀ (k0_h2 : k0_cond2 i = 1#1), ∀ a, (k0_off395 v5167 k0_t5) a + S1x32.size a ≤ S2048x128.size a := fun i v5167 k0_hw131 k0_t5 k0_h2 => k0_hw131.1.2.2.2.2.2.2.1 k0_t5 k0_h2
theorem k0_off396_inb : ∀ (i : grid0.Coords) (v5167 : BitVec 32) (k0_hw131 : k0_chk131 i v5167) (k0_t5 : Fin (k0_t5_loop v5167).trips), ∀ (k0_h2 : k0_cond2 i = 1#1), ∀ a, (k0_off396 v5167 k0_t5) a + S1x1.size a ≤ S6x2048.size a := fun i v5167 k0_hw131 k0_t5 k0_h2 => k0_hw131.1.2.2.2.2.2.2.2.1 k0_t5 k0_h2
theorem k0_off398_inb : ∀ (i : grid0.Coords) (v5167 : BitVec 32) (k0_hw131 : k0_chk131 i v5167) (k0_t5 : Fin (k0_t5_loop v5167).trips), ∀ (k0_h2 : k0_cond2 i = 1#1), ∀ a, (k0_off398 v5167 k0_t5) a + S1x32.size a ≤ S2048x128.size a := fun i v5167 k0_hw131 k0_t5 k0_h2 => k0_hw131.1.2.2.2.2.2.2.2.2.1 k0_t5 k0_h2
theorem k0_off399_inb : ∀ (i : grid0.Coords) (v5167 : BitVec 32) (k0_hw131 : k0_chk131 i v5167) (k0_t5 : Fin (k0_t5_loop v5167).trips), ∀ (k0_h2 : k0_cond2 i = 1#1), ∀ a, (k0_off399 v5167 k0_t5) a + S1x1.size a ≤ S6x2048.size a := fun i v5167 k0_hw131 k0_t5 k0_h2 => k0_hw131.1.2.2.2.2.2.2.2.2.2.1 k0_t5 k0_h2
theorem k0_off401_inb : ∀ (i : grid0.Coords) (v5167 : BitVec 32) (k0_hw131 : k0_chk131 i v5167) (k0_t5 : Fin (k0_t5_loop v5167).trips), ∀ (k0_h2 : k0_cond2 i = 1#1), ∀ a, (k0_off401 v5167 k0_t5) a + S1x32.size a ≤ S2048x128.size a := fun i v5167 k0_hw131 k0_t5 k0_h2 => k0_hw131.1.2.2.2.2.2.2.2.2.2.2.1 k0_t5 k0_h2
theorem k0_off402_inb : ∀ (i : grid0.Coords) (v5167 : BitVec 32) (k0_hw131 : k0_chk131 i v5167) (k0_t5 : Fin (k0_t5_loop v5167).trips), ∀ (k0_h2 : k0_cond2 i = 1#1), ∀ a, (k0_off402 v5167 k0_t5) a + S1x1.size a ≤ S6x2048.size a := fun i v5167 k0_hw131 k0_t5 k0_h2 => k0_hw131.1.2.2.2.2.2.2.2.2.2.2.2.1 k0_t5 k0_h2
theorem k0_off404_inb : ∀ (i : grid0.Coords) (v5167 : BitVec 32) (k0_hw131 : k0_chk131 i v5167) (k0_t5 : Fin (k0_t5_loop v5167).trips), ∀ (k0_h2 : k0_cond2 i = 1#1), ∀ a, (k0_off404 v5167 k0_t5) a + S1x32.size a ≤ S2048x128.size a := fun i v5167 k0_hw131 k0_t5 k0_h2 => k0_hw131.1.2.2.2.2.2.2.2.2.2.2.2.2.1 k0_t5 k0_h2
theorem k0_off405_inb : ∀ (i : grid0.Coords) (v5167 : BitVec 32) (k0_hw131 : k0_chk131 i v5167) (k0_t5 : Fin (k0_t5_loop v5167).trips), ∀ (k0_h2 : k0_cond2 i = 1#1), ∀ a, (k0_off405 v5167 k0_t5) a + S1x1.size a ≤ S6x2048.size a := fun i v5167 k0_hw131 k0_t5 k0_h2 => k0_hw131.1.2.2.2.2.2.2.2.2.2.2.2.2.2.1 k0_t5 k0_h2
theorem k0_off407_inb : ∀ (i : grid0.Coords) (v5167 : BitVec 32) (k0_hw131 : k0_chk131 i v5167) (k0_t5 : Fin (k0_t5_loop v5167).trips), ∀ (k0_h2 : k0_cond2 i = 1#1), ∀ a, (k0_off407 v5167 k0_t5) a + S1x32.size a ≤ S2048x128.size a := fun i v5167 k0_hw131 k0_t5 k0_h2 => k0_hw131.1.2.2.2.2.2.2.2.2.2.2.2.2.2.2.1 k0_t5 k0_h2
theorem k0_off408_inb : ∀ (i : grid0.Coords) (v5167 : BitVec 32) (k0_hw131 : k0_chk131 i v5167) (k0_t5 : Fin (k0_t5_loop v5167).trips), ∀ (k0_h2 : k0_cond2 i = 1#1), ∀ a, (k0_off408 v5167 k0_t5) a + S1x1.size a ≤ S6x2048.size a := fun i v5167 k0_hw131 k0_t5 k0_h2 => k0_hw131.1.2.2.2.2.2.2.2.2.2.2.2.2.2.2.2.1 k0_t5 k0_h2
theorem k0_off410_inb : ∀ (i : grid0.Coords) (v5167 : BitVec 32) (k0_hw131 : k0_chk131 i v5167) (k0_t5 : Fin (k0_t5_loop v5167).trips), ∀ (k0_h2 : k0_cond2 i = 1#1), ∀ a, (k0_off410 v5167 k0_t5) a + S1x32.size a ≤ S2048x128.size a := fun i v5167 k0_hw131 k0_t5 k0_h2 => k0_hw131.1.2.2.2.2.2.2.2.2.2.2.2.2.2.2.2.2.1 k0_t5 k0_h2
theorem k0_off411_inb : ∀ (i : grid0.Coords) (v5167 : BitVec 32) (k0_hw131 : k0_chk131 i v5167) (k0_t5 : Fin (k0_t5_loop v5167).trips), ∀ (k0_h2 : k0_cond2 i = 1#1), ∀ a, (k0_off411 v5167 k0_t5) a + S1x1.size a ≤ S6x2048.size a := fun i v5167 k0_hw131 k0_t5 k0_h2 => k0_hw131.1.2.2.2.2.2.2.2.2.2.2.2.2.2.2.2.2.2.1 k0_t5 k0_h2
theorem k0_off413_inb : ∀ (i : grid0.Coords) (v5167 : BitVec 32) (k0_hw131 : k0_chk131 i v5167) (k0_t5 : Fin (k0_t5_loop v5167).trips), ∀ (k0_h2 : k0_cond2 i = 1#1), ∀ a, (k0_off413 v5167 k0_t5) a + S1x32.size a ≤ S2048x128.size a := fun i v5167 k0_hw131 k0_t5 k0_h2 => k0_hw131.1.2.2.2.2.2.2.2.2.2.2.2.2.2.2.2.2.2.2.1 k0_t5 k0_h2
theorem k0_off414_inb : ∀ (i : grid0.Coords) (v5167 : BitVec 32) (k0_hw131 : k0_chk131 i v5167) (k0_t5 : Fin (k0_t5_loop v5167).trips), ∀ (k0_h2 : k0_cond2 i = 1#1), ∀ a, (k0_off414 v5167 k0_t5) a + S1x1.size a ≤ S6x2048.size a := fun i v5167 k0_hw131 k0_t5 k0_h2 => k0_hw131.1.2.2.2.2.2.2.2.2.2.2.2.2.2.2.2.2.2.2.2.1 k0_t5 k0_h2
theorem k0_off416_inb : ∀ (i : grid0.Coords) (v5167 : BitVec 32) (k0_hw131 : k0_chk131 i v5167) (k0_t5 : Fin (k0_t5_loop v5167).trips), ∀ (k0_h2 : k0_cond2 i = 1#1), ∀ a, (k0_off416 v5167 k0_t5) a + S1x32.size a ≤ S2048x128.size a := fun i v5167 k0_hw131 k0_t5 k0_h2 => k0_hw131.1.2.2.2.2.2.2.2.2.2.2.2.2.2.2.2.2.2.2.2.2.1 k0_t5 k0_h2
theorem k0_off417_inb : ∀ (i : grid0.Coords) (v5167 : BitVec 32) (k0_hw131 : k0_chk131 i v5167) (k0_t5 : Fin (k0_t5_loop v5167).trips), ∀ (k0_h2 : k0_cond2 i = 1#1), ∀ a, (k0_off417 v5167 k0_t5) a + S1x1.size a ≤ S6x2048.size a := fun i v5167 k0_hw131 k0_t5 k0_h2 => k0_hw131.1.2.2.2.2.2.2.2.2.2.2.2.2.2.2.2.2.2.2.2.2.2.1 k0_t5 k0_h2
theorem k0_off419_inb : ∀ (i : grid0.Coords) (v5167 : BitVec 32) (k0_hw131 : k0_chk131 i v5167) (k0_t5 : Fin (k0_t5_loop v5167).trips), ∀ (k0_h2 : k0_cond2 i = 1#1), ∀ a, (k0_off419 v5167 k0_t5) a + S1x32.size a ≤ S2048x128.size a := fun i v5167 k0_hw131 k0_t5 k0_h2 => k0_hw131.1.2.2.2.2.2.2.2.2.2.2.2.2.2.2.2.2.2.2.2.2.2.2.1 k0_t5 k0_h2
theorem k0_off420_inb : ∀ (i : grid0.Coords) (v5167 : BitVec 32) (k0_hw131 : k0_chk131 i v5167) (k0_t5 : Fin (k0_t5_loop v5167).trips), ∀ (k0_h2 : k0_cond2 i = 1#1), ∀ a, (k0_off420 v5167 k0_t5) a + S1x1.size a ≤ S6x2048.size a := fun i v5167 k0_hw131 k0_t5 k0_h2 => k0_hw131.1.2.2.2.2.2.2.2.2.2.2.2.2.2.2.2.2.2.2.2.2.2.2.2.1 k0_t5 k0_h2
theorem k0_off422_inb : ∀ (i : grid0.Coords) (v5167 : BitVec 32) (k0_hw131 : k0_chk131 i v5167) (k0_t5 : Fin (k0_t5_loop v5167).trips), ∀ (k0_h2 : k0_cond2 i = 1#1), ∀ a, (k0_off422 v5167 k0_t5) a + S1x32.size a ≤ S2048x128.size a := fun i v5167 k0_hw131 k0_t5 k0_h2 => k0_hw131.1.2.2.2.2.2.2.2.2.2.2.2.2.2.2.2.2.2.2.2.2.2.2.2.2.1 k0_t5 k0_h2
theorem k0_off423_inb : ∀ (i : grid0.Coords) (v5167 : BitVec 32) (k0_hw131 : k0_chk131 i v5167) (k0_t5 : Fin (k0_t5_loop v5167).trips), ∀ (k0_h2 : k0_cond2 i = 1#1), ∀ a, (k0_off423 v5167 k0_t5) a + S1x1.size a ≤ S6x2048.size a := fun i v5167 k0_hw131 k0_t5 k0_h2 => k0_hw131.1.2.2.2.2.2.2.2.2.2.2.2.2.2.2.2.2.2.2.2.2.2.2.2.2.2.1 k0_t5 k0_h2
theorem k0_off425_inb : ∀ (i : grid0.Coords) (v5167 : BitVec 32) (k0_hw131 : k0_chk131 i v5167) (k0_t5 : Fin (k0_t5_loop v5167).trips), ∀ (k0_h2 : k0_cond2 i = 1#1), ∀ a, (k0_off425 v5167 k0_t5) a + S1x32.size a ≤ S2048x128.size a := fun i v5167 k0_hw131 k0_t5 k0_h2 => k0_hw131.1.2.2.2.2.2.2.2.2.2.2.2.2.2.2.2.2.2.2.2.2.2.2.2.2.2.2.1 k0_t5 k0_h2
theorem k0_off426_inb : ∀ (i : grid0.Coords) (v5167 : BitVec 32) (k0_hw131 : k0_chk131 i v5167) (k0_t5 : Fin (k0_t5_loop v5167).trips), ∀ (k0_h2 : k0_cond2 i = 1#1), ∀ a, (k0_off426 v5167 k0_t5) a + S1x1.size a ≤ S6x2048.size a := fun i v5167 k0_hw131 k0_t5 k0_h2 => k0_hw131.1.2.2.2.2.2.2.2.2.2.2.2.2.2.2.2.2.2.2.2.2.2.2.2.2.2.2.2.1 k0_t5 k0_h2
theorem k0_off428_inb : ∀ (i : grid0.Coords) (v5167 : BitVec 32) (k0_hw131 : k0_chk131 i v5167) (k0_t5 : Fin (k0_t5_loop v5167).trips), ∀ (k0_h2 : k0_cond2 i = 1#1), ∀ a, (k0_off428 v5167 k0_t5) a + S1x32.size a ≤ S2048x128.size a := fun i v5167 k0_hw131 k0_t5 k0_h2 => k0_hw131.1.2.2.2.2.2.2.2.2.2.2.2.2.2.2.2.2.2.2.2.2.2.2.2.2.2.2.2.2.1 k0_t5 k0_h2
theorem k0_off429_inb : ∀ (i : grid0.Coords) (v5167 : BitVec 32) (k0_hw131 : k0_chk131 i v5167) (k0_t5 : Fin (k0_t5_loop v5167).trips), ∀ (k0_h2 : k0_cond2 i = 1#1), ∀ a, (k0_off429 v5167 k0_t5) a + S1x1.size a ≤ S6x2048.size a := fun i v5167 k0_hw131 k0_t5 k0_h2 => k0_hw131.1.2.2.2.2.2.2.2.2.2.2.2.2.2.2.2.2.2.2.2.2.2.2.2.2.2.2.2.2.2.1 k0_t5 k0_h2
theorem k0_off431_inb : ∀ (i : grid0.Coords) (v5167 : BitVec 32) (k0_hw131 : k0_chk131 i v5167) (k0_t5 : Fin (k0_t5_loop v5167).trips), ∀ (k0_h2 : k0_cond2 i = 1#1), ∀ a, (k0_off431 v5167 k0_t5) a + S1x32.size a ≤ S2048x128.size a := fun i v5167 k0_hw131 k0_t5 k0_h2 => k0_hw131.1.2.2.2.2.2.2.2.2.2.2.2.2.2.2.2.2.2.2.2.2.2.2.2.2.2.2.2.2.2.2.1 k0_t5 k0_h2
theorem k0_off432_inb : ∀ (i : grid0.Coords) (v5167 : BitVec 32) (k0_hw131 : k0_chk131 i v5167) (k0_t5 : Fin (k0_t5_loop v5167).trips), ∀ (k0_h2 : k0_cond2 i = 1#1), ∀ a, (k0_off432 v5167 k0_t5) a + S1x1.size a ≤ S6x2048.size a := fun i v5167 k0_hw131 k0_t5 k0_h2 => k0_hw131.1.2.2.2.2.2.2.2.2.2.2.2.2.2.2.2.2.2.2.2.2.2.2.2.2.2.2.2.2.2.2.2 k0_t5 k0_h2
theorem k0_off434_inb : ∀ (i : grid0.Coords) (v5167 : BitVec 32) (k0_hw131 : k0_chk131 i v5167) (k0_t5 : Fin (k0_t5_loop v5167).trips), ∀ (k0_h2 : k0_cond2 i = 1#1), ∀ a, (k0_off434 v5167 k0_t5) a + S1x32.size a ≤ S2048x128.size a := fun i v5167 k0_hw131 k0_t5 k0_h2 => k0_hw131.2.1.1 k0_t5 k0_h2
theorem k0_off435_inb : ∀ (i : grid0.Coords) (v5167 : BitVec 32) (k0_hw131 : k0_chk131 i v5167) (k0_t5 : Fin (k0_t5_loop v5167).trips), ∀ (k0_h2 : k0_cond2 i = 1#1), ∀ a, (k0_off435 v5167 k0_t5) a + S1x1.size a ≤ S6x2048.size a := fun i v5167 k0_hw131 k0_t5 k0_h2 => k0_hw131.2.1.2.1 k0_t5 k0_h2
theorem k0_off437_inb : ∀ (i : grid0.Coords) (v5167 : BitVec 32) (k0_hw131 : k0_chk131 i v5167) (k0_t5 : Fin (k0_t5_loop v5167).trips), ∀ (k0_h2 : k0_cond2 i = 1#1), ∀ a, (k0_off437 v5167 k0_t5) a + S1x32.size a ≤ S2048x128.size a := fun i v5167 k0_hw131 k0_t5 k0_h2 => k0_hw131.2.1.2.2.1 k0_t5 k0_h2
theorem k0_off438_inb : ∀ (i : grid0.Coords) (v5167 : BitVec 32) (k0_hw131 : k0_chk131 i v5167) (k0_t5 : Fin (k0_t5_loop v5167).trips), ∀ (k0_h2 : k0_cond2 i = 1#1), ∀ a, (k0_off438 v5167 k0_t5) a + S1x1.size a ≤ S6x2048.size a := fun i v5167 k0_hw131 k0_t5 k0_h2 => k0_hw131.2.1.2.2.2.1 k0_t5 k0_h2
theorem k0_off440_inb : ∀ (i : grid0.Coords) (v5167 : BitVec 32) (k0_hw131 : k0_chk131 i v5167) (k0_t5 : Fin (k0_t5_loop v5167).trips), ∀ (k0_h2 : k0_cond2 i = 1#1), ∀ a, (k0_off440 v5167 k0_t5) a + S1x32.size a ≤ S2048x128.size a := fun i v5167 k0_hw131 k0_t5 k0_h2 => k0_hw131.2.1.2.2.2.2.1 k0_t5 k0_h2
theorem k0_off441_inb : ∀ (i : grid0.Coords) (v5167 : BitVec 32) (k0_hw131 : k0_chk131 i v5167) (k0_t5 : Fin (k0_t5_loop v5167).trips), ∀ (k0_h2 : k0_cond2 i = 1#1), ∀ a, (k0_off441 v5167 k0_t5) a + S1x1.size a ≤ S6x2048.size a := fun i v5167 k0_hw131 k0_t5 k0_h2 => k0_hw131.2.1.2.2.2.2.2.1 k0_t5 k0_h2
theorem k0_off443_inb : ∀ (i : grid0.Coords) (v5167 : BitVec 32) (k0_hw131 : k0_chk131 i v5167) (k0_t5 : Fin (k0_t5_loop v5167).trips), ∀ (k0_h2 : k0_cond2 i = 1#1), ∀ a, (k0_off443 v5167 k0_t5) a + S1x32.size a ≤ S2048x128.size a := fun i v5167 k0_hw131 k0_t5 k0_h2 => k0_hw131.2.1.2.2.2.2.2.2.1 k0_t5 k0_h2
theorem k0_off444_inb : ∀ (i : grid0.Coords) (v5167 : BitVec 32) (k0_hw131 : k0_chk131 i v5167) (k0_t5 : Fin (k0_t5_loop v5167).trips), ∀ (k0_h2 : k0_cond2 i = 1#1), ∀ a, (k0_off444 v5167 k0_t5) a + S1x1.size a ≤ S6x2048.size a := fun i v5167 k0_hw131 k0_t5 k0_h2 => k0_hw131.2.1.2.2.2.2.2.2.2.1 k0_t5 k0_h2
theorem k0_off446_inb : ∀ (i : grid0.Coords) (v5167 : BitVec 32) (k0_hw131 : k0_chk131 i v5167) (k0_t5 : Fin (k0_t5_loop v5167).trips), ∀ (k0_h2 : k0_cond2 i = 1#1), ∀ a, (k0_off446 v5167 k0_t5) a + S1x32.size a ≤ S2048x128.size a := fun i v5167 k0_hw131 k0_t5 k0_h2 => k0_hw131.2.1.2.2.2.2.2.2.2.2.1 k0_t5 k0_h2
theorem k0_off447_inb : ∀ (i : grid0.Coords) (v5167 : BitVec 32) (k0_hw131 : k0_chk131 i v5167) (k0_t5 : Fin (k0_t5_loop v5167).trips), ∀ (k0_h2 : k0_cond2 i = 1#1), ∀ a, (k0_off447 v5167 k0_t5) a + S1x1.size a ≤ S6x2048.size a := fun i v5167 k0_hw131 k0_t5 k0_h2 => k0_hw131.2.1.2.2.2.2.2.2.2.2.2.1 k0_t5 k0_h2
theorem k0_off449_inb : ∀ (i : grid0.Coords) (v5167 : BitVec 32) (k0_hw131 : k0_chk131 i v5167) (k0_t5 : Fin (k0_t5_loop v5167).trips), ∀ (k0_h2 : k0_cond2 i = 1#1), ∀ a, (k0_off449 v5167 k0_t5) a + S1x32.size a ≤ S2048x128.size a := fun i v5167 k0_hw131 k0_t5 k0_h2 => k0_hw131.2.1.2.2.2.2.2.2.2.2.2.2.1 k0_t5 k0_h2
theorem k0_off450_inb : ∀ (i : grid0.Coords) (v5167 : BitVec 32) (k0_hw131 : k0_chk131 i v5167) (k0_t5 : Fin (k0_t5_loop v5167).trips), ∀ (k0_h2 : k0_cond2 i = 1#1), ∀ a, (k0_off450 v5167 k0_t5) a + S1x1.size a ≤ S6x2048.size a := fun i v5167 k0_hw131 k0_t5 k0_h2 => k0_hw131.2.1.2.2.2.2.2.2.2.2.2.2.2.1 k0_t5 k0_h2
theorem k0_off452_inb : ∀ (i : grid0.Coords) (v5167 : BitVec 32) (k0_hw131 : k0_chk131 i v5167) (k0_t5 : Fin (k0_t5_loop v5167).trips), ∀ (k0_h2 : k0_cond2 i = 1#1), ∀ a, (k0_off452 v5167 k0_t5) a + S1x32.size a ≤ S2048x128.size a := fun i v5167 k0_hw131 k0_t5 k0_h2 => k0_hw131.2.1.2.2.2.2.2.2.2.2.2.2.2.2.1 k0_t5 k0_h2
theorem k0_off453_inb : ∀ (i : grid0.Coords) (v5167 : BitVec 32) (k0_hw131 : k0_chk131 i v5167) (k0_t5 : Fin (k0_t5_loop v5167).trips), ∀ (k0_h2 : k0_cond2 i = 1#1), ∀ a, (k0_off453 v5167 k0_t5) a + S1x1.size a ≤ S6x2048.size a := fun i v5167 k0_hw131 k0_t5 k0_h2 => k0_hw131.2.1.2.2.2.2.2.2.2.2.2.2.2.2.2.1 k0_t5 k0_h2
theorem k0_off455_inb : ∀ (i : grid0.Coords) (v5167 : BitVec 32) (k0_hw131 : k0_chk131 i v5167) (k0_t5 : Fin (k0_t5_loop v5167).trips), ∀ (k0_h2 : k0_cond2 i = 1#1), ∀ a, (k0_off455 v5167 k0_t5) a + S1x32.size a ≤ S2048x128.size a := fun i v5167 k0_hw131 k0_t5 k0_h2 => k0_hw131.2.1.2.2.2.2.2.2.2.2.2.2.2.2.2.2.1 k0_t5 k0_h2
theorem k0_off456_inb : ∀ (i : grid0.Coords) (v5167 : BitVec 32) (k0_hw131 : k0_chk131 i v5167) (k0_t5 : Fin (k0_t5_loop v5167).trips), ∀ (k0_h2 : k0_cond2 i = 1#1), ∀ a, (k0_off456 v5167 k0_t5) a + S1x1.size a ≤ S6x2048.size a := fun i v5167 k0_hw131 k0_t5 k0_h2 => k0_hw131.2.1.2.2.2.2.2.2.2.2.2.2.2.2.2.2.2.1 k0_t5 k0_h2
theorem k0_off458_inb : ∀ (i : grid0.Coords) (v5167 : BitVec 32) (k0_hw131 : k0_chk131 i v5167) (k0_t5 : Fin (k0_t5_loop v5167).trips), ∀ (k0_h2 : k0_cond2 i = 1#1), ∀ a, (k0_off458 v5167 k0_t5) a + S1x32.size a ≤ S2048x128.size a := fun i v5167 k0_hw131 k0_t5 k0_h2 => k0_hw131.2.1.2.2.2.2.2.2.2.2.2.2.2.2.2.2.2.2.1 k0_t5 k0_h2
theorem k0_off459_inb : ∀ (i : grid0.Coords) (v5167 : BitVec 32) (k0_hw131 : k0_chk131 i v5167) (k0_t5 : Fin (k0_t5_loop v5167).trips), ∀ (k0_h2 : k0_cond2 i = 1#1), ∀ a, (k0_off459 v5167 k0_t5) a + S1x1.size a ≤ S6x2048.size a := fun i v5167 k0_hw131 k0_t5 k0_h2 => k0_hw131.2.1.2.2.2.2.2.2.2.2.2.2.2.2.2.2.2.2.2.1 k0_t5 k0_h2
theorem k0_off461_inb : ∀ (i : grid0.Coords) (v5167 : BitVec 32) (k0_hw131 : k0_chk131 i v5167) (k0_t5 : Fin (k0_t5_loop v5167).trips), ∀ (k0_h2 : k0_cond2 i = 1#1), ∀ a, (k0_off461 v5167 k0_t5) a + S1x32.size a ≤ S2048x128.size a := fun i v5167 k0_hw131 k0_t5 k0_h2 => k0_hw131.2.1.2.2.2.2.2.2.2.2.2.2.2.2.2.2.2.2.2.2.1 k0_t5 k0_h2
theorem k0_off462_inb : ∀ (i : grid0.Coords) (v5167 : BitVec 32) (k0_hw131 : k0_chk131 i v5167) (k0_t5 : Fin (k0_t5_loop v5167).trips), ∀ (k0_h2 : k0_cond2 i = 1#1), ∀ a, (k0_off462 v5167 k0_t5) a + S1x1.size a ≤ S6x2048.size a := fun i v5167 k0_hw131 k0_t5 k0_h2 => k0_hw131.2.1.2.2.2.2.2.2.2.2.2.2.2.2.2.2.2.2.2.2.2.1 k0_t5 k0_h2
theorem k0_off464_inb : ∀ (i : grid0.Coords) (v5167 : BitVec 32) (k0_hw131 : k0_chk131 i v5167) (k0_t5 : Fin (k0_t5_loop v5167).trips), ∀ (k0_h2 : k0_cond2 i = 1#1), ∀ a, (k0_off464 v5167 k0_t5) a + S1x32.size a ≤ S2048x128.size a := fun i v5167 k0_hw131 k0_t5 k0_h2 => k0_hw131.2.1.2.2.2.2.2.2.2.2.2.2.2.2.2.2.2.2.2.2.2.2.1 k0_t5 k0_h2
theorem k0_off465_inb : ∀ (i : grid0.Coords) (v5167 : BitVec 32) (k0_hw131 : k0_chk131 i v5167) (k0_t5 : Fin (k0_t5_loop v5167).trips), ∀ (k0_h2 : k0_cond2 i = 1#1), ∀ a, (k0_off465 v5167 k0_t5) a + S1x1.size a ≤ S6x2048.size a := fun i v5167 k0_hw131 k0_t5 k0_h2 => k0_hw131.2.1.2.2.2.2.2.2.2.2.2.2.2.2.2.2.2.2.2.2.2.2.2.1 k0_t5 k0_h2
theorem k0_off467_inb : ∀ (i : grid0.Coords) (v5167 : BitVec 32) (k0_hw131 : k0_chk131 i v5167) (k0_t5 : Fin (k0_t5_loop v5167).trips), ∀ (k0_h2 : k0_cond2 i = 1#1), ∀ a, (k0_off467 v5167 k0_t5) a + S1x32.size a ≤ S2048x128.size a := fun i v5167 k0_hw131 k0_t5 k0_h2 => k0_hw131.2.1.2.2.2.2.2.2.2.2.2.2.2.2.2.2.2.2.2.2.2.2.2.2.1 k0_t5 k0_h2
theorem k0_off468_inb : ∀ (i : grid0.Coords) (v5167 : BitVec 32) (k0_hw131 : k0_chk131 i v5167) (k0_t5 : Fin (k0_t5_loop v5167).trips), ∀ (k0_h2 : k0_cond2 i = 1#1), ∀ a, (k0_off468 v5167 k0_t5) a + S1x1.size a ≤ S6x2048.size a := fun i v5167 k0_hw131 k0_t5 k0_h2 => k0_hw131.2.1.2.2.2.2.2.2.2.2.2.2.2.2.2.2.2.2.2.2.2.2.2.2.2.1 k0_t5 k0_h2
theorem k0_off470_inb : ∀ (i : grid0.Coords) (v5167 : BitVec 32) (k0_hw131 : k0_chk131 i v5167) (k0_t5 : Fin (k0_t5_loop v5167).trips), ∀ (k0_h2 : k0_cond2 i = 1#1), ∀ a, (k0_off470 v5167 k0_t5) a + S1x32.size a ≤ S2048x128.size a := fun i v5167 k0_hw131 k0_t5 k0_h2 => k0_hw131.2.1.2.2.2.2.2.2.2.2.2.2.2.2.2.2.2.2.2.2.2.2.2.2.2.2.1 k0_t5 k0_h2
theorem k0_off471_inb : ∀ (i : grid0.Coords) (v5167 : BitVec 32) (k0_hw131 : k0_chk131 i v5167) (k0_t5 : Fin (k0_t5_loop v5167).trips), ∀ (k0_h2 : k0_cond2 i = 1#1), ∀ a, (k0_off471 v5167 k0_t5) a + S1x1.size a ≤ S6x2048.size a := fun i v5167 k0_hw131 k0_t5 k0_h2 => k0_hw131.2.1.2.2.2.2.2.2.2.2.2.2.2.2.2.2.2.2.2.2.2.2.2.2.2.2.2.1 k0_t5 k0_h2
theorem k0_off473_inb : ∀ (i : grid0.Coords) (v5167 : BitVec 32) (k0_hw131 : k0_chk131 i v5167) (k0_t5 : Fin (k0_t5_loop v5167).trips), ∀ (k0_h2 : k0_cond2 i = 1#1), ∀ a, (k0_off473 v5167 k0_t5) a + S1x32.size a ≤ S2048x128.size a := fun i v5167 k0_hw131 k0_t5 k0_h2 => k0_hw131.2.1.2.2.2.2.2.2.2.2.2.2.2.2.2.2.2.2.2.2.2.2.2.2.2.2.2.2.1 k0_t5 k0_h2
theorem k0_off474_inb : ∀ (i : grid0.Coords) (v5167 : BitVec 32) (k0_hw131 : k0_chk131 i v5167) (k0_t5 : Fin (k0_t5_loop v5167).trips), ∀ (k0_h2 : k0_cond2 i = 1#1), ∀ a, (k0_off474 v5167 k0_t5) a + S1x1.size a ≤ S6x2048.size a := fun i v5167 k0_hw131 k0_t5 k0_h2 => k0_hw131.2.1.2.2.2.2.2.2.2.2.2.2.2.2.2.2.2.2.2.2.2.2.2.2.2.2.2.2.2.1 k0_t5 k0_h2
theorem k0_off476_inb : ∀ (i : grid0.Coords) (v5167 : BitVec 32) (k0_hw131 : k0_chk131 i v5167) (k0_t5 : Fin (k0_t5_loop v5167).trips), ∀ (k0_h2 : k0_cond2 i = 1#1), ∀ a, (k0_off476 v5167 k0_t5) a + S1x32.size a ≤ S2048x128.size a := fun i v5167 k0_hw131 k0_t5 k0_h2 => k0_hw131.2.1.2.2.2.2.2.2.2.2.2.2.2.2.2.2.2.2.2.2.2.2.2.2.2.2.2.2.2.2.1 k0_t5 k0_h2
theorem k0_off477_inb : ∀ (i : grid0.Coords) (v5167 : BitVec 32) (k0_hw131 : k0_chk131 i v5167) (k0_t5 : Fin (k0_t5_loop v5167).trips), ∀ (k0_h2 : k0_cond2 i = 1#1), ∀ a, (k0_off477 v5167 k0_t5) a + S1x1.size a ≤ S6x2048.size a := fun i v5167 k0_hw131 k0_t5 k0_h2 => k0_hw131.2.1.2.2.2.2.2.2.2.2.2.2.2.2.2.2.2.2.2.2.2.2.2.2.2.2.2.2.2.2.2.1 k0_t5 k0_h2
theorem k0_off479_inb : ∀ (i : grid0.Coords) (v5167 : BitVec 32) (k0_hw131 : k0_chk131 i v5167) (k0_t5 : Fin (k0_t5_loop v5167).trips), ∀ (k0_h2 : k0_cond2 i = 1#1), ∀ a, (k0_off479 v5167 k0_t5) a + S1x32.size a ≤ S2048x128.size a := fun i v5167 k0_hw131 k0_t5 k0_h2 => k0_hw131.2.1.2.2.2.2.2.2.2.2.2.2.2.2.2.2.2.2.2.2.2.2.2.2.2.2.2.2.2.2.2.2.1 k0_t5 k0_h2
theorem k0_off480_inb : ∀ (i : grid0.Coords) (v5167 : BitVec 32) (k0_hw131 : k0_chk131 i v5167) (k0_t5 : Fin (k0_t5_loop v5167).trips), ∀ (k0_h2 : k0_cond2 i = 1#1), ∀ a, (k0_off480 v5167 k0_t5) a + S1x1.size a ≤ S6x2048.size a := fun i v5167 k0_hw131 k0_t5 k0_h2 => k0_hw131.2.1.2.2.2.2.2.2.2.2.2.2.2.2.2.2.2.2.2.2.2.2.2.2.2.2.2.2.2.2.2.2.2 k0_t5 k0_h2
theorem k0_off482_inb : ∀ (i : grid0.Coords) (v5167 : BitVec 32) (k0_hw131 : k0_chk131 i v5167) (k0_t5 : Fin (k0_t5_loop v5167).trips), ∀ (k0_h2 : k0_cond2 i = 1#1), ∀ a, (k0_off482 v5167 k0_t5) a + S1x32.size a ≤ S2048x128.size a := fun i v5167 k0_hw131 k0_t5 k0_h2 => k0_hw131.2.2.1.1 k0_t5 k0_h2
theorem k0_t6_ok : ∀ (i : grid0.Coords) (v5167 : BitVec 32) (k0_hw131 : k0_chk131 i v5167), ∀ (k0_h2 : k0_cond2 i = 1#1), (k0_t6_loop v5167).OK := fun i v5167 k0_hw131 k0_h2 => k0_hw131.2.2.1.2.1 k0_h2
theorem k0_off483_inb : ∀ (i : grid0.Coords) (v5167 : BitVec 32) (k0_hw131 : k0_chk131 i v5167) (k0_t6 : Fin (k0_t6_loop v5167).trips), ∀ (k0_h2 : k0_cond2 i = 1#1), ∀ a, (k0_off483 v5167 k0_t6) a + S1x1.size a ≤ S6x2048.size a := fun i v5167 k0_hw131 k0_t6 k0_h2 => k0_hw131.2.2.1.2.2.1 k0_t6 k0_h2
theorem k0_off485_inb : ∀ (i : grid0.Coords) (v5167 : BitVec 32) (k0_hw131 : k0_chk131 i v5167) (k0_t6 : Fin (k0_t6_loop v5167).trips), ∀ (k0_h2 : k0_cond2 i = 1#1), ∀ a, (k0_off485 v5167 k0_t6) a + S1x32.size a ≤ S2048x128.size a := fun i v5167 k0_hw131 k0_t6 k0_h2 => k0_hw131.2.2.1.2.2.2.1 k0_t6 k0_h2
theorem k0_off486_inb : ∀ (i : grid0.Coords) (v5167 : BitVec 32) (k0_hw131 : k0_chk131 i v5167) (k0_t6 : Fin (k0_t6_loop v5167).trips), ∀ (k0_h2 : k0_cond2 i = 1#1), ∀ a, (k0_off486 v5167 k0_t6) a + S1x1.size a ≤ S6x2048.size a := fun i v5167 k0_hw131 k0_t6 k0_h2 => k0_hw131.2.2.1.2.2.2.2.1 k0_t6 k0_h2
theorem k0_off488_inb : ∀ (i : grid0.Coords) (v5167 : BitVec 32) (k0_hw131 : k0_chk131 i v5167) (k0_t6 : Fin (k0_t6_loop v5167).trips), ∀ (k0_h2 : k0_cond2 i = 1#1), ∀ a, (k0_off488 v5167 k0_t6) a + S1x32.size a ≤ S2048x128.size a := fun i v5167 k0_hw131 k0_t6 k0_h2 => k0_hw131.2.2.1.2.2.2.2.2.1 k0_t6 k0_h2
theorem k0_off489_inb : ∀ (i : grid0.Coords) (v5167 : BitVec 32) (k0_hw131 : k0_chk131 i v5167) (k0_t6 : Fin (k0_t6_loop v5167).trips), ∀ (k0_h2 : k0_cond2 i = 1#1), ∀ a, (k0_off489 v5167 k0_t6) a + S1x1.size a ≤ S6x2048.size a := fun i v5167 k0_hw131 k0_t6 k0_h2 => k0_hw131.2.2.1.2.2.2.2.2.2.1 k0_t6 k0_h2
theorem k0_off491_inb : ∀ (i : grid0.Coords) (v5167 : BitVec 32) (k0_hw131 : k0_chk131 i v5167) (k0_t6 : Fin (k0_t6_loop v5167).trips), ∀ (k0_h2 : k0_cond2 i = 1#1), ∀ a, (k0_off491 v5167 k0_t6) a + S1x32.size a ≤ S2048x128.size a := fun i v5167 k0_hw131 k0_t6 k0_h2 => k0_hw131.2.2.1.2.2.2.2.2.2.2.1 k0_t6 k0_h2
theorem k0_off492_inb : ∀ (i : grid0.Coords) (v5167 : BitVec 32) (k0_hw131 : k0_chk131 i v5167) (k0_t6 : Fin (k0_t6_loop v5167).trips), ∀ (k0_h2 : k0_cond2 i = 1#1), ∀ a, (k0_off492 v5167 k0_t6) a + S1x1.size a ≤ S6x2048.size a := fun i v5167 k0_hw131 k0_t6 k0_h2 => k0_hw131.2.2.1.2.2.2.2.2.2.2.2.1 k0_t6 k0_h2
theorem k0_off494_inb : ∀ (i : grid0.Coords) (v5167 : BitVec 32) (k0_hw131 : k0_chk131 i v5167) (k0_t6 : Fin (k0_t6_loop v5167).trips), ∀ (k0_h2 : k0_cond2 i = 1#1), ∀ a, (k0_off494 v5167 k0_t6) a + S1x32.size a ≤ S2048x128.size a := fun i v5167 k0_hw131 k0_t6 k0_h2 => k0_hw131.2.2.1.2.2.2.2.2.2.2.2.2.1 k0_t6 k0_h2
theorem k0_off495_inb : ∀ (i : grid0.Coords) (v5167 : BitVec 32) (k0_hw131 : k0_chk131 i v5167) (k0_t6 : Fin (k0_t6_loop v5167).trips), ∀ (k0_h2 : k0_cond2 i = 1#1), ∀ a, (k0_off495 v5167 k0_t6) a + S1x1.size a ≤ S6x2048.size a := fun i v5167 k0_hw131 k0_t6 k0_h2 => k0_hw131.2.2.1.2.2.2.2.2.2.2.2.2.2.1 k0_t6 k0_h2
theorem k0_off497_inb : ∀ (i : grid0.Coords) (v5167 : BitVec 32) (k0_hw131 : k0_chk131 i v5167) (k0_t6 : Fin (k0_t6_loop v5167).trips), ∀ (k0_h2 : k0_cond2 i = 1#1), ∀ a, (k0_off497 v5167 k0_t6) a + S1x32.size a ≤ S2048x128.size a := fun i v5167 k0_hw131 k0_t6 k0_h2 => k0_hw131.2.2.1.2.2.2.2.2.2.2.2.2.2.2.1 k0_t6 k0_h2
theorem k0_off498_inb : ∀ (i : grid0.Coords) (v5167 : BitVec 32) (k0_hw131 : k0_chk131 i v5167) (k0_t6 : Fin (k0_t6_loop v5167).trips), ∀ (k0_h2 : k0_cond2 i = 1#1), ∀ a, (k0_off498 v5167 k0_t6) a + S1x1.size a ≤ S6x2048.size a := fun i v5167 k0_hw131 k0_t6 k0_h2 => k0_hw131.2.2.1.2.2.2.2.2.2.2.2.2.2.2.2.1 k0_t6 k0_h2
theorem k0_off500_inb : ∀ (i : grid0.Coords) (v5167 : BitVec 32) (k0_hw131 : k0_chk131 i v5167) (k0_t6 : Fin (k0_t6_loop v5167).trips), ∀ (k0_h2 : k0_cond2 i = 1#1), ∀ a, (k0_off500 v5167 k0_t6) a + S1x32.size a ≤ S2048x128.size a := fun i v5167 k0_hw131 k0_t6 k0_h2 => k0_hw131.2.2.1.2.2.2.2.2.2.2.2.2.2.2.2.2.1 k0_t6 k0_h2
theorem k0_off501_inb : ∀ (i : grid0.Coords) (v5167 : BitVec 32) (k0_hw131 : k0_chk131 i v5167) (k0_t6 : Fin (k0_t6_loop v5167).trips), ∀ (k0_h2 : k0_cond2 i = 1#1), ∀ a, (k0_off501 v5167 k0_t6) a + S1x1.size a ≤ S6x2048.size a := fun i v5167 k0_hw131 k0_t6 k0_h2 => k0_hw131.2.2.1.2.2.2.2.2.2.2.2.2.2.2.2.2.2.1 k0_t6 k0_h2
theorem k0_off503_inb : ∀ (i : grid0.Coords) (v5167 : BitVec 32) (k0_hw131 : k0_chk131 i v5167) (k0_t6 : Fin (k0_t6_loop v5167).trips), ∀ (k0_h2 : k0_cond2 i = 1#1), ∀ a, (k0_off503 v5167 k0_t6) a + S1x32.size a ≤ S2048x128.size a := fun i v5167 k0_hw131 k0_t6 k0_h2 => k0_hw131.2.2.1.2.2.2.2.2.2.2.2.2.2.2.2.2.2.2.1 k0_t6 k0_h2
theorem k0_off504_inb : ∀ (i : grid0.Coords) (v5167 : BitVec 32) (k0_hw131 : k0_chk131 i v5167) (k0_t6 : Fin (k0_t6_loop v5167).trips), ∀ (k0_h2 : k0_cond2 i = 1#1), ∀ a, (k0_off504 v5167 k0_t6) a + S1x1.size a ≤ S6x2048.size a := fun i v5167 k0_hw131 k0_t6 k0_h2 => k0_hw131.2.2.1.2.2.2.2.2.2.2.2.2.2.2.2.2.2.2.2.1 k0_t6 k0_h2
theorem k0_off506_inb : ∀ (i : grid0.Coords) (v5167 : BitVec 32) (k0_hw131 : k0_chk131 i v5167) (k0_t6 : Fin (k0_t6_loop v5167).trips), ∀ (k0_h2 : k0_cond2 i = 1#1), ∀ a, (k0_off506 v5167 k0_t6) a + S1x32.size a ≤ S2048x128.size a := fun i v5167 k0_hw131 k0_t6 k0_h2 => k0_hw131.2.2.1.2.2.2.2.2.2.2.2.2.2.2.2.2.2.2.2.2.1 k0_t6 k0_h2
theorem k0_off507_inb : ∀ (i : grid0.Coords) (v5167 : BitVec 32) (k0_hw131 : k0_chk131 i v5167) (k0_t6 : Fin (k0_t6_loop v5167).trips), ∀ (k0_h2 : k0_cond2 i = 1#1), ∀ a, (k0_off507 v5167 k0_t6) a + S1x1.size a ≤ S6x2048.size a := fun i v5167 k0_hw131 k0_t6 k0_h2 => k0_hw131.2.2.1.2.2.2.2.2.2.2.2.2.2.2.2.2.2.2.2.2.2.1 k0_t6 k0_h2
theorem k0_off509_inb : ∀ (i : grid0.Coords) (v5167 : BitVec 32) (k0_hw131 : k0_chk131 i v5167) (k0_t6 : Fin (k0_t6_loop v5167).trips), ∀ (k0_h2 : k0_cond2 i = 1#1), ∀ a, (k0_off509 v5167 k0_t6) a + S1x32.size a ≤ S2048x128.size a := fun i v5167 k0_hw131 k0_t6 k0_h2 => k0_hw131.2.2.1.2.2.2.2.2.2.2.2.2.2.2.2.2.2.2.2.2.2.2.1 k0_t6 k0_h2
theorem k0_off510_inb : ∀ (i : grid0.Coords) (v5167 : BitVec 32) (k0_hw131 : k0_chk131 i v5167) (k0_t6 : Fin (k0_t6_loop v5167).trips), ∀ (k0_h2 : k0_cond2 i = 1#1), ∀ a, (k0_off510 v5167 k0_t6) a + S1x1.size a ≤ S6x2048.size a := fun i v5167 k0_hw131 k0_t6 k0_h2 => k0_hw131.2.2.1.2.2.2.2.2.2.2.2.2.2.2.2.2.2.2.2.2.2.2.2.1 k0_t6 k0_h2
theorem k0_off512_inb : ∀ (i : grid0.Coords) (v5167 : BitVec 32) (k0_hw131 : k0_chk131 i v5167) (k0_t6 : Fin (k0_t6_loop v5167).trips), ∀ (k0_h2 : k0_cond2 i = 1#1), ∀ a, (k0_off512 v5167 k0_t6) a + S1x32.size a ≤ S2048x128.size a := fun i v5167 k0_hw131 k0_t6 k0_h2 => k0_hw131.2.2.1.2.2.2.2.2.2.2.2.2.2.2.2.2.2.2.2.2.2.2.2.2.1 k0_t6 k0_h2
theorem k0_off513_inb : ∀ (i : grid0.Coords) (v5167 : BitVec 32) (k0_hw131 : k0_chk131 i v5167) (k0_t6 : Fin (k0_t6_loop v5167).trips), ∀ (k0_h2 : k0_cond2 i = 1#1), ∀ a, (k0_off513 v5167 k0_t6) a + S1x1.size a ≤ S6x2048.size a := fun i v5167 k0_hw131 k0_t6 k0_h2 => k0_hw131.2.2.1.2.2.2.2.2.2.2.2.2.2.2.2.2.2.2.2.2.2.2.2.2.2.1 k0_t6 k0_h2
theorem k0_off515_inb : ∀ (i : grid0.Coords) (v5167 : BitVec 32) (k0_hw131 : k0_chk131 i v5167) (k0_t6 : Fin (k0_t6_loop v5167).trips), ∀ (k0_h2 : k0_cond2 i = 1#1), ∀ a, (k0_off515 v5167 k0_t6) a + S1x32.size a ≤ S2048x128.size a := fun i v5167 k0_hw131 k0_t6 k0_h2 => k0_hw131.2.2.1.2.2.2.2.2.2.2.2.2.2.2.2.2.2.2.2.2.2.2.2.2.2.2.1 k0_t6 k0_h2
theorem k0_off516_inb : ∀ (i : grid0.Coords) (v5167 : BitVec 32) (k0_hw131 : k0_chk131 i v5167) (k0_t6 : Fin (k0_t6_loop v5167).trips), ∀ (k0_h2 : k0_cond2 i = 1#1), ∀ a, (k0_off516 v5167 k0_t6) a + S1x1.size a ≤ S6x2048.size a := fun i v5167 k0_hw131 k0_t6 k0_h2 => k0_hw131.2.2.1.2.2.2.2.2.2.2.2.2.2.2.2.2.2.2.2.2.2.2.2.2.2.2.2.1 k0_t6 k0_h2
theorem k0_off518_inb : ∀ (i : grid0.Coords) (v5167 : BitVec 32) (k0_hw131 : k0_chk131 i v5167) (k0_t6 : Fin (k0_t6_loop v5167).trips), ∀ (k0_h2 : k0_cond2 i = 1#1), ∀ a, (k0_off518 v5167 k0_t6) a + S1x32.size a ≤ S2048x128.size a := fun i v5167 k0_hw131 k0_t6 k0_h2 => k0_hw131.2.2.1.2.2.2.2.2.2.2.2.2.2.2.2.2.2.2.2.2.2.2.2.2.2.2.2.2.1 k0_t6 k0_h2
theorem k0_off519_inb : ∀ (i : grid0.Coords) (v5167 : BitVec 32) (k0_hw131 : k0_chk131 i v5167) (k0_t6 : Fin (k0_t6_loop v5167).trips), ∀ (k0_h2 : k0_cond2 i = 1#1), ∀ a, (k0_off519 v5167 k0_t6) a + S1x1.size a ≤ S6x2048.size a := fun i v5167 k0_hw131 k0_t6 k0_h2 => k0_hw131.2.2.1.2.2.2.2.2.2.2.2.2.2.2.2.2.2.2.2.2.2.2.2.2.2.2.2.2.2.1 k0_t6 k0_h2
theorem k0_off521_inb : ∀ (i : grid0.Coords) (v5167 : BitVec 32) (k0_hw131 : k0_chk131 i v5167) (k0_t6 : Fin (k0_t6_loop v5167).trips), ∀ (k0_h2 : k0_cond2 i = 1#1), ∀ a, (k0_off521 v5167 k0_t6) a + S1x32.size a ≤ S2048x128.size a := fun i v5167 k0_hw131 k0_t6 k0_h2 => k0_hw131.2.2.1.2.2.2.2.2.2.2.2.2.2.2.2.2.2.2.2.2.2.2.2.2.2.2.2.2.2.2.1 k0_t6 k0_h2
theorem k0_off522_inb : ∀ (i : grid0.Coords) (v5167 : BitVec 32) (k0_hw131 : k0_chk131 i v5167) (k0_t6 : Fin (k0_t6_loop v5167).trips), ∀ (k0_h2 : k0_cond2 i = 1#1), ∀ a, (k0_off522 v5167 k0_t6) a + S1x1.size a ≤ S6x2048.size a := fun i v5167 k0_hw131 k0_t6 k0_h2 => k0_hw131.2.2.1.2.2.2.2.2.2.2.2.2.2.2.2.2.2.2.2.2.2.2.2.2.2.2.2.2.2.2.2.1 k0_t6 k0_h2
theorem k0_off524_inb : ∀ (i : grid0.Coords) (v5167 : BitVec 32) (k0_hw131 : k0_chk131 i v5167) (k0_t6 : Fin (k0_t6_loop v5167).trips), ∀ (k0_h2 : k0_cond2 i = 1#1), ∀ a, (k0_off524 v5167 k0_t6) a + S1x32.size a ≤ S2048x128.size a := fun i v5167 k0_hw131 k0_t6 k0_h2 => k0_hw131.2.2.1.2.2.2.2.2.2.2.2.2.2.2.2.2.2.2.2.2.2.2.2.2.2.2.2.2.2.2.2.2.1 k0_t6 k0_h2
theorem k0_off525_inb : ∀ (i : grid0.Coords) (v5167 : BitVec 32) (k0_hw131 : k0_chk131 i v5167) (k0_t6 : Fin (k0_t6_loop v5167).trips), ∀ (k0_h2 : k0_cond2 i = 1#1), ∀ a, (k0_off525 v5167 k0_t6) a + S1x1.size a ≤ S6x2048.size a := fun i v5167 k0_hw131 k0_t6 k0_h2 => k0_hw131.2.2.1.2.2.2.2.2.2.2.2.2.2.2.2.2.2.2.2.2.2.2.2.2.2.2.2.2.2.2.2.2.2.1 k0_t6 k0_h2
theorem k0_off527_inb : ∀ (i : grid0.Coords) (v5167 : BitVec 32) (k0_hw131 : k0_chk131 i v5167) (k0_t6 : Fin (k0_t6_loop v5167).trips), ∀ (k0_h2 : k0_cond2 i = 1#1), ∀ a, (k0_off527 v5167 k0_t6) a + S1x32.size a ≤ S2048x128.size a := fun i v5167 k0_hw131 k0_t6 k0_h2 => k0_hw131.2.2.1.2.2.2.2.2.2.2.2.2.2.2.2.2.2.2.2.2.2.2.2.2.2.2.2.2.2.2.2.2.2.2 k0_t6 k0_h2
theorem k0_off528_inb : ∀ (i : grid0.Coords) (v5167 : BitVec 32) (k0_hw131 : k0_chk131 i v5167) (k0_t6 : Fin (k0_t6_loop v5167).trips), ∀ (k0_h2 : k0_cond2 i = 1#1), ∀ a, (k0_off528 v5167 k0_t6) a + S1x1.size a ≤ S6x2048.size a := fun i v5167 k0_hw131 k0_t6 k0_h2 => k0_hw131.2.2.2.1.1 k0_t6 k0_h2
theorem k0_off530_inb : ∀ (i : grid0.Coords) (v5167 : BitVec 32) (k0_hw131 : k0_chk131 i v5167) (k0_t6 : Fin (k0_t6_loop v5167).trips), ∀ (k0_h2 : k0_cond2 i = 1#1), ∀ a, (k0_off530 v5167 k0_t6) a + S1x32.size a ≤ S2048x128.size a := fun i v5167 k0_hw131 k0_t6 k0_h2 => k0_hw131.2.2.2.1.2.1 k0_t6 k0_h2
theorem k0_off531_inb : ∀ (i : grid0.Coords) (v5167 : BitVec 32) (k0_hw131 : k0_chk131 i v5167) (k0_t6 : Fin (k0_t6_loop v5167).trips), ∀ (k0_h2 : k0_cond2 i = 1#1), ∀ a, (k0_off531 v5167 k0_t6) a + S1x1.size a ≤ S6x2048.size a := fun i v5167 k0_hw131 k0_t6 k0_h2 => k0_hw131.2.2.2.1.2.2.1 k0_t6 k0_h2
theorem k0_off533_inb : ∀ (i : grid0.Coords) (v5167 : BitVec 32) (k0_hw131 : k0_chk131 i v5167) (k0_t6 : Fin (k0_t6_loop v5167).trips), ∀ (k0_h2 : k0_cond2 i = 1#1), ∀ a, (k0_off533 v5167 k0_t6) a + S1x32.size a ≤ S2048x128.size a := fun i v5167 k0_hw131 k0_t6 k0_h2 => k0_hw131.2.2.2.1.2.2.2.1 k0_t6 k0_h2
theorem k0_off534_inb : ∀ (i : grid0.Coords) (v5167 : BitVec 32) (k0_hw131 : k0_chk131 i v5167) (k0_t6 : Fin (k0_t6_loop v5167).trips), ∀ (k0_h2 : k0_cond2 i = 1#1), ∀ a, (k0_off534 v5167 k0_t6) a + S1x1.size a ≤ S6x2048.size a := fun i v5167 k0_hw131 k0_t6 k0_h2 => k0_hw131.2.2.2.1.2.2.2.2.1 k0_t6 k0_h2
theorem k0_off536_inb : ∀ (i : grid0.Coords) (v5167 : BitVec 32) (k0_hw131 : k0_chk131 i v5167) (k0_t6 : Fin (k0_t6_loop v5167).trips), ∀ (k0_h2 : k0_cond2 i = 1#1), ∀ a, (k0_off536 v5167 k0_t6) a + S1x32.size a ≤ S2048x128.size a := fun i v5167 k0_hw131 k0_t6 k0_h2 => k0_hw131.2.2.2.1.2.2.2.2.2.1 k0_t6 k0_h2
theorem k0_off537_inb : ∀ (i : grid0.Coords) (v5167 : BitVec 32) (k0_hw131 : k0_chk131 i v5167) (k0_t6 : Fin (k0_t6_loop v5167).trips), ∀ (k0_h2 : k0_cond2 i = 1#1), ∀ a, (k0_off537 v5167 k0_t6) a + S1x1.size a ≤ S6x2048.size a := fun i v5167 k0_hw131 k0_t6 k0_h2 => k0_hw131.2.2.2.1.2.2.2.2.2.2.1 k0_t6 k0_h2
theorem k0_off539_inb : ∀ (i : grid0.Coords) (v5167 : BitVec 32) (k0_hw131 : k0_chk131 i v5167) (k0_t6 : Fin (k0_t6_loop v5167).trips), ∀ (k0_h2 : k0_cond2 i = 1#1), ∀ a, (k0_off539 v5167 k0_t6) a + S1x32.size a ≤ S2048x128.size a := fun i v5167 k0_hw131 k0_t6 k0_h2 => k0_hw131.2.2.2.1.2.2.2.2.2.2.2.1 k0_t6 k0_h2
theorem k0_off540_inb : ∀ (i : grid0.Coords) (v5167 : BitVec 32) (k0_hw131 : k0_chk131 i v5167) (k0_t6 : Fin (k0_t6_loop v5167).trips), ∀ (k0_h2 : k0_cond2 i = 1#1), ∀ a, (k0_off540 v5167 k0_t6) a + S1x1.size a ≤ S6x2048.size a := fun i v5167 k0_hw131 k0_t6 k0_h2 => k0_hw131.2.2.2.1.2.2.2.2.2.2.2.2.1 k0_t6 k0_h2
theorem k0_off542_inb : ∀ (i : grid0.Coords) (v5167 : BitVec 32) (k0_hw131 : k0_chk131 i v5167) (k0_t6 : Fin (k0_t6_loop v5167).trips), ∀ (k0_h2 : k0_cond2 i = 1#1), ∀ a, (k0_off542 v5167 k0_t6) a + S1x32.size a ≤ S2048x128.size a := fun i v5167 k0_hw131 k0_t6 k0_h2 => k0_hw131.2.2.2.1.2.2.2.2.2.2.2.2.2.1 k0_t6 k0_h2
theorem k0_off543_inb : ∀ (i : grid0.Coords) (v5167 : BitVec 32) (k0_hw131 : k0_chk131 i v5167) (k0_t6 : Fin (k0_t6_loop v5167).trips), ∀ (k0_h2 : k0_cond2 i = 1#1), ∀ a, (k0_off543 v5167 k0_t6) a + S1x1.size a ≤ S6x2048.size a := fun i v5167 k0_hw131 k0_t6 k0_h2 => k0_hw131.2.2.2.1.2.2.2.2.2.2.2.2.2.2.1 k0_t6 k0_h2
theorem k0_off545_inb : ∀ (i : grid0.Coords) (v5167 : BitVec 32) (k0_hw131 : k0_chk131 i v5167) (k0_t6 : Fin (k0_t6_loop v5167).trips), ∀ (k0_h2 : k0_cond2 i = 1#1), ∀ a, (k0_off545 v5167 k0_t6) a + S1x32.size a ≤ S2048x128.size a := fun i v5167 k0_hw131 k0_t6 k0_h2 => k0_hw131.2.2.2.1.2.2.2.2.2.2.2.2.2.2.2.1 k0_t6 k0_h2
theorem k0_off546_inb : ∀ (i : grid0.Coords) (v5167 : BitVec 32) (k0_hw131 : k0_chk131 i v5167) (k0_t6 : Fin (k0_t6_loop v5167).trips), ∀ (k0_h2 : k0_cond2 i = 1#1), ∀ a, (k0_off546 v5167 k0_t6) a + S1x1.size a ≤ S6x2048.size a := fun i v5167 k0_hw131 k0_t6 k0_h2 => k0_hw131.2.2.2.1.2.2.2.2.2.2.2.2.2.2.2.2.1 k0_t6 k0_h2
theorem k0_off548_inb : ∀ (i : grid0.Coords) (v5167 : BitVec 32) (k0_hw131 : k0_chk131 i v5167) (k0_t6 : Fin (k0_t6_loop v5167).trips), ∀ (k0_h2 : k0_cond2 i = 1#1), ∀ a, (k0_off548 v5167 k0_t6) a + S1x32.size a ≤ S2048x128.size a := fun i v5167 k0_hw131 k0_t6 k0_h2 => k0_hw131.2.2.2.1.2.2.2.2.2.2.2.2.2.2.2.2.2.1 k0_t6 k0_h2
theorem k0_off549_inb : ∀ (i : grid0.Coords) (v5167 : BitVec 32) (k0_hw131 : k0_chk131 i v5167) (k0_t6 : Fin (k0_t6_loop v5167).trips), ∀ (k0_h2 : k0_cond2 i = 1#1), ∀ a, (k0_off549 v5167 k0_t6) a + S1x1.size a ≤ S6x2048.size a := fun i v5167 k0_hw131 k0_t6 k0_h2 => k0_hw131.2.2.2.1.2.2.2.2.2.2.2.2.2.2.2.2.2.2.1 k0_t6 k0_h2
theorem k0_off551_inb : ∀ (i : grid0.Coords) (v5167 : BitVec 32) (k0_hw131 : k0_chk131 i v5167) (k0_t6 : Fin (k0_t6_loop v5167).trips), ∀ (k0_h2 : k0_cond2 i = 1#1), ∀ a, (k0_off551 v5167 k0_t6) a + S1x32.size a ≤ S2048x128.size a := fun i v5167 k0_hw131 k0_t6 k0_h2 => k0_hw131.2.2.2.1.2.2.2.2.2.2.2.2.2.2.2.2.2.2.2.1 k0_t6 k0_h2
theorem k0_off552_inb : ∀ (i : grid0.Coords) (v5167 : BitVec 32) (k0_hw131 : k0_chk131 i v5167) (k0_t6 : Fin (k0_t6_loop v5167).trips), ∀ (k0_h2 : k0_cond2 i = 1#1), ∀ a, (k0_off552 v5167 k0_t6) a + S1x1.size a ≤ S6x2048.size a := fun i v5167 k0_hw131 k0_t6 k0_h2 => k0_hw131.2.2.2.1.2.2.2.2.2.2.2.2.2.2.2.2.2.2.2.2.1 k0_t6 k0_h2
theorem k0_off554_inb : ∀ (i : grid0.Coords) (v5167 : BitVec 32) (k0_hw131 : k0_chk131 i v5167) (k0_t6 : Fin (k0_t6_loop v5167).trips), ∀ (k0_h2 : k0_cond2 i = 1#1), ∀ a, (k0_off554 v5167 k0_t6) a + S1x32.size a ≤ S2048x128.size a := fun i v5167 k0_hw131 k0_t6 k0_h2 => k0_hw131.2.2.2.1.2.2.2.2.2.2.2.2.2.2.2.2.2.2.2.2.2.1 k0_t6 k0_h2
theorem k0_off555_inb : ∀ (i : grid0.Coords) (v5167 : BitVec 32) (k0_hw131 : k0_chk131 i v5167) (k0_t6 : Fin (k0_t6_loop v5167).trips), ∀ (k0_h2 : k0_cond2 i = 1#1), ∀ a, (k0_off555 v5167 k0_t6) a + S1x1.size a ≤ S6x2048.size a := fun i v5167 k0_hw131 k0_t6 k0_h2 => k0_hw131.2.2.2.1.2.2.2.2.2.2.2.2.2.2.2.2.2.2.2.2.2.2.1 k0_t6 k0_h2
theorem k0_off557_inb : ∀ (i : grid0.Coords) (v5167 : BitVec 32) (k0_hw131 : k0_chk131 i v5167) (k0_t6 : Fin (k0_t6_loop v5167).trips), ∀ (k0_h2 : k0_cond2 i = 1#1), ∀ a, (k0_off557 v5167 k0_t6) a + S1x32.size a ≤ S2048x128.size a := fun i v5167 k0_hw131 k0_t6 k0_h2 => k0_hw131.2.2.2.1.2.2.2.2.2.2.2.2.2.2.2.2.2.2.2.2.2.2.2.1 k0_t6 k0_h2
theorem k0_off558_inb : ∀ (i : grid0.Coords) (v5167 : BitVec 32) (k0_hw131 : k0_chk131 i v5167) (k0_t6 : Fin (k0_t6_loop v5167).trips), ∀ (k0_h2 : k0_cond2 i = 1#1), ∀ a, (k0_off558 v5167 k0_t6) a + S1x1.size a ≤ S6x2048.size a := fun i v5167 k0_hw131 k0_t6 k0_h2 => k0_hw131.2.2.2.1.2.2.2.2.2.2.2.2.2.2.2.2.2.2.2.2.2.2.2.2.1 k0_t6 k0_h2
theorem k0_off560_inb : ∀ (i : grid0.Coords) (v5167 : BitVec 32) (k0_hw131 : k0_chk131 i v5167) (k0_t6 : Fin (k0_t6_loop v5167).trips), ∀ (k0_h2 : k0_cond2 i = 1#1), ∀ a, (k0_off560 v5167 k0_t6) a + S1x32.size a ≤ S2048x128.size a := fun i v5167 k0_hw131 k0_t6 k0_h2 => k0_hw131.2.2.2.1.2.2.2.2.2.2.2.2.2.2.2.2.2.2.2.2.2.2.2.2.2.1 k0_t6 k0_h2
theorem k0_off561_inb : ∀ (i : grid0.Coords) (v5167 : BitVec 32) (k0_hw131 : k0_chk131 i v5167) (k0_t6 : Fin (k0_t6_loop v5167).trips), ∀ (k0_h2 : k0_cond2 i = 1#1), ∀ a, (k0_off561 v5167 k0_t6) a + S1x1.size a ≤ S6x2048.size a := fun i v5167 k0_hw131 k0_t6 k0_h2 => k0_hw131.2.2.2.1.2.2.2.2.2.2.2.2.2.2.2.2.2.2.2.2.2.2.2.2.2.2.1 k0_t6 k0_h2
theorem k0_off563_inb : ∀ (i : grid0.Coords) (v5167 : BitVec 32) (k0_hw131 : k0_chk131 i v5167) (k0_t6 : Fin (k0_t6_loop v5167).trips), ∀ (k0_h2 : k0_cond2 i = 1#1), ∀ a, (k0_off563 v5167 k0_t6) a + S1x32.size a ≤ S2048x128.size a := fun i v5167 k0_hw131 k0_t6 k0_h2 => k0_hw131.2.2.2.1.2.2.2.2.2.2.2.2.2.2.2.2.2.2.2.2.2.2.2.2.2.2.2.1 k0_t6 k0_h2
theorem k0_off564_inb : ∀ (i : grid0.Coords) (v5167 : BitVec 32) (k0_hw131 : k0_chk131 i v5167) (k0_t6 : Fin (k0_t6_loop v5167).trips), ∀ (k0_h2 : k0_cond2 i = 1#1), ∀ a, (k0_off564 v5167 k0_t6) a + S1x1.size a ≤ S6x2048.size a := fun i v5167 k0_hw131 k0_t6 k0_h2 => k0_hw131.2.2.2.1.2.2.2.2.2.2.2.2.2.2.2.2.2.2.2.2.2.2.2.2.2.2.2.2.1 k0_t6 k0_h2
theorem k0_off566_inb : ∀ (i : grid0.Coords) (v5167 : BitVec 32) (k0_hw131 : k0_chk131 i v5167) (k0_t6 : Fin (k0_t6_loop v5167).trips), ∀ (k0_h2 : k0_cond2 i = 1#1), ∀ a, (k0_off566 v5167 k0_t6) a + S1x32.size a ≤ S2048x128.size a := fun i v5167 k0_hw131 k0_t6 k0_h2 => k0_hw131.2.2.2.1.2.2.2.2.2.2.2.2.2.2.2.2.2.2.2.2.2.2.2.2.2.2.2.2.2.1 k0_t6 k0_h2
theorem k0_off567_inb : ∀ (i : grid0.Coords) (v5167 : BitVec 32) (k0_hw131 : k0_chk131 i v5167) (k0_t6 : Fin (k0_t6_loop v5167).trips), ∀ (k0_h2 : k0_cond2 i = 1#1), ∀ a, (k0_off567 v5167 k0_t6) a + S1x1.size a ≤ S6x2048.size a := fun i v5167 k0_hw131 k0_t6 k0_h2 => k0_hw131.2.2.2.1.2.2.2.2.2.2.2.2.2.2.2.2.2.2.2.2.2.2.2.2.2.2.2.2.2.2.1 k0_t6 k0_h2
theorem k0_off569_inb : ∀ (i : grid0.Coords) (v5167 : BitVec 32) (k0_hw131 : k0_chk131 i v5167) (k0_t6 : Fin (k0_t6_loop v5167).trips), ∀ (k0_h2 : k0_cond2 i = 1#1), ∀ a, (k0_off569 v5167 k0_t6) a + S1x32.size a ≤ S2048x128.size a := fun i v5167 k0_hw131 k0_t6 k0_h2 => k0_hw131.2.2.2.1.2.2.2.2.2.2.2.2.2.2.2.2.2.2.2.2.2.2.2.2.2.2.2.2.2.2.2.1 k0_t6 k0_h2
theorem k0_off570_inb : ∀ (i : grid0.Coords) (v5167 : BitVec 32) (k0_hw131 : k0_chk131 i v5167) (k0_t6 : Fin (k0_t6_loop v5167).trips), ∀ (k0_h2 : k0_cond2 i = 1#1), ∀ a, (k0_off570 v5167 k0_t6) a + S1x1.size a ≤ S6x2048.size a := fun i v5167 k0_hw131 k0_t6 k0_h2 => k0_hw131.2.2.2.1.2.2.2.2.2.2.2.2.2.2.2.2.2.2.2.2.2.2.2.2.2.2.2.2.2.2.2.2.1 k0_t6 k0_h2
theorem k0_off572_inb : ∀ (i : grid0.Coords) (v5167 : BitVec 32) (k0_hw131 : k0_chk131 i v5167) (k0_t6 : Fin (k0_t6_loop v5167).trips), ∀ (k0_h2 : k0_cond2 i = 1#1), ∀ a, (k0_off572 v5167 k0_t6) a + S1x32.size a ≤ S2048x128.size a := fun i v5167 k0_hw131 k0_t6 k0_h2 => k0_hw131.2.2.2.1.2.2.2.2.2.2.2.2.2.2.2.2.2.2.2.2.2.2.2.2.2.2.2.2.2.2.2.2.2.1 k0_t6 k0_h2
theorem k0_off573_inb : ∀ (i : grid0.Coords) (v5167 : BitVec 32) (k0_hw131 : k0_chk131 i v5167) (k0_t6 : Fin (k0_t6_loop v5167).trips), ∀ (k0_h2 : k0_cond2 i = 1#1), ∀ a, (k0_off573 v5167 k0_t6) a + S1x1.size a ≤ S6x2048.size a := fun i v5167 k0_hw131 k0_t6 k0_h2 => k0_hw131.2.2.2.1.2.2.2.2.2.2.2.2.2.2.2.2.2.2.2.2.2.2.2.2.2.2.2.2.2.2.2.2.2.2.1 k0_t6 k0_h2
theorem k0_off575_inb : ∀ (i : grid0.Coords) (v5167 : BitVec 32) (k0_hw131 : k0_chk131 i v5167) (k0_t6 : Fin (k0_t6_loop v5167).trips), ∀ (k0_h2 : k0_cond2 i = 1#1), ∀ a, (k0_off575 v5167 k0_t6) a + S1x32.size a ≤ S2048x128.size a := fun i v5167 k0_hw131 k0_t6 k0_h2 => k0_hw131.2.2.2.1.2.2.2.2.2.2.2.2.2.2.2.2.2.2.2.2.2.2.2.2.2.2.2.2.2.2.2.2.2.2.2 k0_t6 k0_h2
theorem k0_off576_inb : ∀ (i : grid0.Coords) (v5167 : BitVec 32) (k0_hw131 : k0_chk131 i v5167) (k0_t6 : Fin (k0_t6_loop v5167).trips), ∀ (k0_h2 : k0_cond2 i = 1#1), ∀ a, (k0_off576 v5167 k0_t6) a + S1x1.size a ≤ S6x2048.size a := fun i v5167 k0_hw131 k0_t6 k0_h2 => k0_hw131.2.2.2.2.1 k0_t6 k0_h2
theorem k0_off578_inb : ∀ (i : grid0.Coords) (v5167 : BitVec 32) (k0_hw131 : k0_chk131 i v5167) (k0_t6 : Fin (k0_t6_loop v5167).trips), ∀ (k0_h2 : k0_cond2 i = 1#1), ∀ a, (k0_off578 v5167 k0_t6) a + S1x32.size a ≤ S2048x128.size a := fun i v5167 k0_hw131 k0_t6 k0_h2 => k0_hw131.2.2.2.2.2 k0_t6 k0_h2

@[reducible] def k0_t7_loop (v5213 : BitVec 32) : Scf.Loop 32 :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1603 : BitVec 32 := 1#32
  ⟨c0_i32_1600, v5256, c1_i32_1603⟩

def k0_off579 (v5213 : BitVec 32) (k0_t7 : Fin (k0_t7_loop v5213).trips) : Fin 2 → Nat :=
  let c3_2208 : Index := 3#32
  let c0_i32_1600 : BitVec 32 := 0#32
  let c1_i32_1603 : BitVec 32 := 1#32
  let arg13 : BitVec 32 := Scf.iv c0_i32_1600 c1_i32_1603 k0_t7
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![3, v6553.toNat]
def k0_off580 (v6554 : BitVec 32) : Fin 2 → Nat :=
  let v6555 : Index := Scalar.indexCast v6554
  let c96 : Index := 96#32
  ![v6555.toNat, 96]

def k0_chk197 (i : grid0.Coords) (v6554 : BitVec 32) : Prop :=
  (∀ (k0_h2 : k0_cond2 i = 1#1), ∀ a, (k0_off580 v6554) a + S1x32.size a ≤ S15360x128.size a)
theorem k0_off580_inb : ∀ (i : grid0.Coords) (v6554 : BitVec 32) (k0_hw197 : k0_chk197 i v6554), ∀ (k0_h2 : k0_cond2 i = 1#1), ∀ a, (k0_off580 v6554) a + S1x32.size a ≤ S15360x128.size a := fun i v6554 k0_hw197 k0_h2 => k0_hw197 k0_h2

def k0_off581 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c96_2209 : Index := 96#32
  ![v6557.toNat, 96]
def k0_off582 (v5213 : BitVec 32) (k0_t7 : Fin (k0_t7_loop v5213).trips) : Fin 2 → Nat :=
  let c3_2212 : Index := 3#32
  let c0_i32_1600 : BitVec 32 := 0#32
  let c1_i32_1603 : BitVec 32 := 1#32
  let arg13 : BitVec 32 := Scf.iv c0_i32_1600 c1_i32_1603 k0_t7
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6563 : Index := Scalar.indexCast v6562
  ![3, v6563.toNat]
def k0_off583 (v6564 : BitVec 32) : Fin 2 → Nat :=
  let v6565 : Index := Scalar.indexCast v6564
  let c96_2213 : Index := 96#32
  ![v6565.toNat, 96]

def k0_chk198 (i : grid0.Coords) (v6564 : BitVec 32) : Prop :=
  (∀ (k0_h2 : k0_cond2 i = 1#1), ∀ a, (k0_off583 v6564) a + S1x32.size a ≤ S15360x128.size a)
theorem k0_off583_inb : ∀ (i : grid0.Coords) (v6564 : BitVec 32) (k0_hw198 : k0_chk198 i v6564), ∀ (k0_h2 : k0_cond2 i = 1#1), ∀ a, (k0_off583 v6564) a + S1x32.size a ≤ S15360x128.size a := fun i v6564 k0_hw198 k0_h2 => k0_hw198 k0_h2

def k0_off584 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6567 : Index := Scalar.indexCast v6562
  let c96_2214 : Index := 96#32
  ![v6567.toNat, 96]
def k0_off585 (v5213 : BitVec 32) (k0_t7 : Fin (k0_t7_loop v5213).trips) : Fin 2 → Nat :=
  let c3_2217 : Index := 3#32
  let c0_i32_1600 : BitVec 32 := 0#32
  let c1_i32_1603 : BitVec 32 := 1#32
  let arg13 : BitVec 32 := Scf.iv c0_i32_1600 c1_i32_1603 k0_t7
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6573 : Index := Scalar.indexCast v6572
  ![3, v6573.toNat]
def k0_off586 (v6574 : BitVec 32) : Fin 2 → Nat :=
  let v6575 : Index := Scalar.indexCast v6574
  let c96_2218 : Index := 96#32
  ![v6575.toNat, 96]

def k0_chk199 (i : grid0.Coords) (v6574 : BitVec 32) : Prop :=
  (∀ (k0_h2 : k0_cond2 i = 1#1), ∀ a, (k0_off586 v6574) a + S1x32.size a ≤ S15360x128.size a)
theorem k0_off586_inb : ∀ (i : grid0.Coords) (v6574 : BitVec 32) (k0_hw199 : k0_chk199 i v6574), ∀ (k0_h2 : k0_cond2 i = 1#1), ∀ a, (k0_off586 v6574) a + S1x32.size a ≤ S15360x128.size a := fun i v6574 k0_hw199 k0_h2 => k0_hw199 k0_h2

def k0_off587 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6577 : Index := Scalar.indexCast v6572
  let c96_2219 : Index := 96#32
  ![v6577.toNat, 96]
def k0_off588 (v5213 : BitVec 32) (k0_t7 : Fin (k0_t7_loop v5213).trips) : Fin 2 → Nat :=
  let c3_2222 : Index := 3#32
  let c0_i32_1600 : BitVec 32 := 0#32
  let c1_i32_1603 : BitVec 32 := 1#32
  let arg13 : BitVec 32 := Scf.iv c0_i32_1600 c1_i32_1603 k0_t7
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6583 : Index := Scalar.indexCast v6582
  ![3, v6583.toNat]
def k0_off589 (v6584 : BitVec 32) : Fin 2 → Nat :=
  let v6585 : Index := Scalar.indexCast v6584
  let c96_2223 : Index := 96#32
  ![v6585.toNat, 96]

def k0_chk200 (i : grid0.Coords) (v6584 : BitVec 32) : Prop :=
  (∀ (k0_h2 : k0_cond2 i = 1#1), ∀ a, (k0_off589 v6584) a + S1x32.size a ≤ S15360x128.size a)
theorem k0_off589_inb : ∀ (i : grid0.Coords) (v6584 : BitVec 32) (k0_hw200 : k0_chk200 i v6584), ∀ (k0_h2 : k0_cond2 i = 1#1), ∀ a, (k0_off589 v6584) a + S1x32.size a ≤ S15360x128.size a := fun i v6584 k0_hw200 k0_h2 => k0_hw200 k0_h2

def k0_off590 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6587 : Index := Scalar.indexCast v6582
  let c96_2224 : Index := 96#32
  ![v6587.toNat, 96]
def k0_off591 (v5213 : BitVec 32) (k0_t7 : Fin (k0_t7_loop v5213).trips) : Fin 2 → Nat :=
  let c3_2227 : Index := 3#32
  let c0_i32_1600 : BitVec 32 := 0#32
  let c1_i32_1603 : BitVec 32 := 1#32
  let arg13 : BitVec 32 := Scf.iv c0_i32_1600 c1_i32_1603 k0_t7
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6593 : Index := Scalar.indexCast v6592
  ![3, v6593.toNat]
def k0_off592 (v6594 : BitVec 32) : Fin 2 → Nat :=
  let v6595 : Index := Scalar.indexCast v6594
  let c96_2228 : Index := 96#32
  ![v6595.toNat, 96]

def k0_chk201 (i : grid0.Coords) (v6594 : BitVec 32) : Prop :=
  (∀ (k0_h2 : k0_cond2 i = 1#1), ∀ a, (k0_off592 v6594) a + S1x32.size a ≤ S15360x128.size a)
theorem k0_off592_inb : ∀ (i : grid0.Coords) (v6594 : BitVec 32) (k0_hw201 : k0_chk201 i v6594), ∀ (k0_h2 : k0_cond2 i = 1#1), ∀ a, (k0_off592 v6594) a + S1x32.size a ≤ S15360x128.size a := fun i v6594 k0_hw201 k0_h2 => k0_hw201 k0_h2

def k0_off593 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6597 : Index := Scalar.indexCast v6592
  let c96_2229 : Index := 96#32
  ![v6597.toNat, 96]
def k0_off594 (v5213 : BitVec 32) (k0_t7 : Fin (k0_t7_loop v5213).trips) : Fin 2 → Nat :=
  let c3_2231 : Index := 3#32
  let c0_i32_1600 : BitVec 32 := 0#32
  let c1_i32_1603 : BitVec 32 := 1#32
  let arg13 : BitVec 32 := Scf.iv c0_i32_1600 c1_i32_1603 k0_t7
  let c32_i32_2230 : BitVec 32 := 32#32
  let v6601 : BitVec 32 := Scalar.muli arg13 c32_i32_2230
  let c5_i32 : BitVec 32 := 5#32
  let v6602 : BitVec 32 := Scalar.addi v6601 c5_i32
  let v6603 : Index := Scalar.indexCast v6602
  ![3, v6603.toNat]
def k0_off595 (v6604 : BitVec 32) : Fin 2 → Nat :=
  let v6605 : Index := Scalar.indexCast v6604
  let c96_2232 : Index := 96#32
  ![v6605.toNat, 96]

def k0_chk202 (i : grid0.Coords) (v6604 : BitVec 32) : Prop :=
  (∀ (k0_h2 : k0_cond2 i = 1#1), ∀ a, (k0_off595 v6604) a + S1x32.size a ≤ S15360x128.size a)
theorem k0_off595_inb : ∀ (i : grid0.Coords) (v6604 : BitVec 32) (k0_hw202 : k0_chk202 i v6604), ∀ (k0_h2 : k0_cond2 i = 1#1), ∀ a, (k0_off595 v6604) a + S1x32.size a ≤ S15360x128.size a := fun i v6604 k0_hw202 k0_h2 => k0_hw202 k0_h2

def k0_off596 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2230 : BitVec 32 := 32#32
  let v6601 : BitVec 32 := Scalar.muli arg13 c32_i32_2230
  let c5_i32 : BitVec 32 := 5#32
  let v6602 : BitVec 32 := Scalar.addi v6601 c5_i32
  let v6607 : Index := Scalar.indexCast v6602
  let c96_2233 : Index := 96#32
  ![v6607.toNat, 96]
def k0_off597 (v5213 : BitVec 32) (k0_t7 : Fin (k0_t7_loop v5213).trips) : Fin 2 → Nat :=
  let c3_2235 : Index := 3#32
  let c0_i32_1600 : BitVec 32 := 0#32
  let c1_i32_1603 : BitVec 32 := 1#32
  let arg13 : BitVec 32 := Scf.iv c0_i32_1600 c1_i32_1603 k0_t7
  let c32_i32_2234 : BitVec 32 := 32#32
  let v6611 : BitVec 32 := Scalar.muli arg13 c32_i32_2234
  let c6_i32 : BitVec 32 := 6#32
  let v6612 : BitVec 32 := Scalar.addi v6611 c6_i32
  let v6613 : Index := Scalar.indexCast v6612
  ![3, v6613.toNat]
def k0_off598 (v6614 : BitVec 32) : Fin 2 → Nat :=
  let v6615 : Index := Scalar.indexCast v6614
  let c96_2236 : Index := 96#32
  ![v6615.toNat, 96]

def k0_chk203 (i : grid0.Coords) (v6614 : BitVec 32) : Prop :=
  (∀ (k0_h2 : k0_cond2 i = 1#1), ∀ a, (k0_off598 v6614) a + S1x32.size a ≤ S15360x128.size a)
theorem k0_off598_inb : ∀ (i : grid0.Coords) (v6614 : BitVec 32) (k0_hw203 : k0_chk203 i v6614), ∀ (k0_h2 : k0_cond2 i = 1#1), ∀ a, (k0_off598 v6614) a + S1x32.size a ≤ S15360x128.size a := fun i v6614 k0_hw203 k0_h2 => k0_hw203 k0_h2

def k0_off599 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2234 : BitVec 32 := 32#32
  let v6611 : BitVec 32 := Scalar.muli arg13 c32_i32_2234
  let c6_i32 : BitVec 32 := 6#32
  let v6612 : BitVec 32 := Scalar.addi v6611 c6_i32
  let v6617 : Index := Scalar.indexCast v6612
  let c96_2237 : Index := 96#32
  ![v6617.toNat, 96]
def k0_off600 (v5213 : BitVec 32) (k0_t7 : Fin (k0_t7_loop v5213).trips) : Fin 2 → Nat :=
  let c3_2239 : Index := 3#32
  let c0_i32_1600 : BitVec 32 := 0#32
  let c1_i32_1603 : BitVec 32 := 1#32
  let arg13 : BitVec 32 := Scf.iv c0_i32_1600 c1_i32_1603 k0_t7
  let c32_i32_2238 : BitVec 32 := 32#32
  let v6621 : BitVec 32 := Scalar.muli arg13 c32_i32_2238
  let c7_i32 : BitVec 32 := 7#32
  let v6622 : BitVec 32 := Scalar.addi v6621 c7_i32
  let v6623 : Index := Scalar.indexCast v6622
  ![3, v6623.toNat]
def k0_off601 (v6624 : BitVec 32) : Fin 2 → Nat :=
  let v6625 : Index := Scalar.indexCast v6624
  let c96_2240 : Index := 96#32
  ![v6625.toNat, 96]

def k0_chk204 (i : grid0.Coords) (v6624 : BitVec 32) : Prop :=
  (∀ (k0_h2 : k0_cond2 i = 1#1), ∀ a, (k0_off601 v6624) a + S1x32.size a ≤ S15360x128.size a)
theorem k0_off601_inb : ∀ (i : grid0.Coords) (v6624 : BitVec 32) (k0_hw204 : k0_chk204 i v6624), ∀ (k0_h2 : k0_cond2 i = 1#1), ∀ a, (k0_off601 v6624) a + S1x32.size a ≤ S15360x128.size a := fun i v6624 k0_hw204 k0_h2 => k0_hw204 k0_h2

def k0_off602 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2238 : BitVec 32 := 32#32
  let v6621 : BitVec 32 := Scalar.muli arg13 c32_i32_2238
  let c7_i32 : BitVec 32 := 7#32
  let v6622 : BitVec 32 := Scalar.addi v6621 c7_i32
  let v6627 : Index := Scalar.indexCast v6622
  let c96_2241 : Index := 96#32
  ![v6627.toNat, 96]
def k0_off603 (v5213 : BitVec 32) (k0_t7 : Fin (k0_t7_loop v5213).trips) : Fin 2 → Nat :=
  let c3_2243 : Index := 3#32
  let c0_i32_1600 : BitVec 32 := 0#32
  let c1_i32_1603 : BitVec 32 := 1#32
  let arg13 : BitVec 32 := Scf.iv c0_i32_1600 c1_i32_1603 k0_t7
  let c32_i32_2242 : BitVec 32 := 32#32
  let v6631 : BitVec 32 := Scalar.muli arg13 c32_i32_2242
  let c8_i32 : BitVec 32 := 8#32
  let v6632 : BitVec 32 := Scalar.addi v6631 c8_i32
  let v6633 : Index := Scalar.indexCast v6632
  ![3, v6633.toNat]
def k0_off604 (v6634 : BitVec 32) : Fin 2 → Nat :=
  let v6635 : Index := Scalar.indexCast v6634
  let c96_2244 : Index := 96#32
  ![v6635.toNat, 96]

def k0_chk205 (i : grid0.Coords) (v6634 : BitVec 32) : Prop :=
  (∀ (k0_h2 : k0_cond2 i = 1#1), ∀ a, (k0_off604 v6634) a + S1x32.size a ≤ S15360x128.size a)
theorem k0_off604_inb : ∀ (i : grid0.Coords) (v6634 : BitVec 32) (k0_hw205 : k0_chk205 i v6634), ∀ (k0_h2 : k0_cond2 i = 1#1), ∀ a, (k0_off604 v6634) a + S1x32.size a ≤ S15360x128.size a := fun i v6634 k0_hw205 k0_h2 => k0_hw205 k0_h2

def k0_off605 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2242 : BitVec 32 := 32#32
  let v6631 : BitVec 32 := Scalar.muli arg13 c32_i32_2242
  let c8_i32 : BitVec 32 := 8#32
  let v6632 : BitVec 32 := Scalar.addi v6631 c8_i32
  let v6637 : Index := Scalar.indexCast v6632
  let c96_2245 : Index := 96#32
  ![v6637.toNat, 96]
def k0_off606 (v5213 : BitVec 32) (k0_t7 : Fin (k0_t7_loop v5213).trips) : Fin 2 → Nat :=
  let c3_2247 : Index := 3#32
  let c0_i32_1600 : BitVec 32 := 0#32
  let c1_i32_1603 : BitVec 32 := 1#32
  let arg13 : BitVec 32 := Scf.iv c0_i32_1600 c1_i32_1603 k0_t7
  let c32_i32_2246 : BitVec 32 := 32#32
  let v6641 : BitVec 32 := Scalar.muli arg13 c32_i32_2246
  let c9_i32 : BitVec 32 := 9#32
  let v6642 : BitVec 32 := Scalar.addi v6641 c9_i32
  let v6643 : Index := Scalar.indexCast v6642
  ![3, v6643.toNat]
def k0_off607 (v6644 : BitVec 32) : Fin 2 → Nat :=
  let v6645 : Index := Scalar.indexCast v6644
  let c96_2248 : Index := 96#32
  ![v6645.toNat, 96]

def k0_chk206 (i : grid0.Coords) (v6644 : BitVec 32) : Prop :=
  (∀ (k0_h2 : k0_cond2 i = 1#1), ∀ a, (k0_off607 v6644) a + S1x32.size a ≤ S15360x128.size a)
theorem k0_off607_inb : ∀ (i : grid0.Coords) (v6644 : BitVec 32) (k0_hw206 : k0_chk206 i v6644), ∀ (k0_h2 : k0_cond2 i = 1#1), ∀ a, (k0_off607 v6644) a + S1x32.size a ≤ S15360x128.size a := fun i v6644 k0_hw206 k0_h2 => k0_hw206 k0_h2

def k0_off608 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2246 : BitVec 32 := 32#32
  let v6641 : BitVec 32 := Scalar.muli arg13 c32_i32_2246
  let c9_i32 : BitVec 32 := 9#32
  let v6642 : BitVec 32 := Scalar.addi v6641 c9_i32
  let v6647 : Index := Scalar.indexCast v6642
  let c96_2249 : Index := 96#32
  ![v6647.toNat, 96]
def k0_off609 (v5213 : BitVec 32) (k0_t7 : Fin (k0_t7_loop v5213).trips) : Fin 2 → Nat :=
  let c3_2251 : Index := 3#32
  let c0_i32_1600 : BitVec 32 := 0#32
  let c1_i32_1603 : BitVec 32 := 1#32
  let arg13 : BitVec 32 := Scf.iv c0_i32_1600 c1_i32_1603 k0_t7
  let c32_i32_2250 : BitVec 32 := 32#32
  let v6651 : BitVec 32 := Scalar.muli arg13 c32_i32_2250
  let c10_i32 : BitVec 32 := 10#32
  let v6652 : BitVec 32 := Scalar.addi v6651 c10_i32
  let v6653 : Index := Scalar.indexCast v6652
  ![3, v6653.toNat]
def k0_off610 (v6654 : BitVec 32) : Fin 2 → Nat :=
  let v6655 : Index := Scalar.indexCast v6654
  let c96_2252 : Index := 96#32
  ![v6655.toNat, 96]

def k0_chk207 (i : grid0.Coords) (v6654 : BitVec 32) : Prop :=
  (∀ (k0_h2 : k0_cond2 i = 1#1), ∀ a, (k0_off610 v6654) a + S1x32.size a ≤ S15360x128.size a)
theorem k0_off610_inb : ∀ (i : grid0.Coords) (v6654 : BitVec 32) (k0_hw207 : k0_chk207 i v6654), ∀ (k0_h2 : k0_cond2 i = 1#1), ∀ a, (k0_off610 v6654) a + S1x32.size a ≤ S15360x128.size a := fun i v6654 k0_hw207 k0_h2 => k0_hw207 k0_h2

def k0_off611 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2250 : BitVec 32 := 32#32
  let v6651 : BitVec 32 := Scalar.muli arg13 c32_i32_2250
  let c10_i32 : BitVec 32 := 10#32
  let v6652 : BitVec 32 := Scalar.addi v6651 c10_i32
  let v6657 : Index := Scalar.indexCast v6652
  let c96_2253 : Index := 96#32
  ![v6657.toNat, 96]
def k0_off612 (v5213 : BitVec 32) (k0_t7 : Fin (k0_t7_loop v5213).trips) : Fin 2 → Nat :=
  let c3_2255 : Index := 3#32
  let c0_i32_1600 : BitVec 32 := 0#32
  let c1_i32_1603 : BitVec 32 := 1#32
  let arg13 : BitVec 32 := Scf.iv c0_i32_1600 c1_i32_1603 k0_t7
  let c32_i32_2254 : BitVec 32 := 32#32
  let v6661 : BitVec 32 := Scalar.muli arg13 c32_i32_2254
  let c11_i32 : BitVec 32 := 11#32
  let v6662 : BitVec 32 := Scalar.addi v6661 c11_i32
  let v6663 : Index := Scalar.indexCast v6662
  ![3, v6663.toNat]
def k0_off613 (v6664 : BitVec 32) : Fin 2 → Nat :=
  let v6665 : Index := Scalar.indexCast v6664
  let c96_2256 : Index := 96#32
  ![v6665.toNat, 96]

def k0_chk208 (i : grid0.Coords) (v6664 : BitVec 32) : Prop :=
  (∀ (k0_h2 : k0_cond2 i = 1#1), ∀ a, (k0_off613 v6664) a + S1x32.size a ≤ S15360x128.size a)
theorem k0_off613_inb : ∀ (i : grid0.Coords) (v6664 : BitVec 32) (k0_hw208 : k0_chk208 i v6664), ∀ (k0_h2 : k0_cond2 i = 1#1), ∀ a, (k0_off613 v6664) a + S1x32.size a ≤ S15360x128.size a := fun i v6664 k0_hw208 k0_h2 => k0_hw208 k0_h2

def k0_off614 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2254 : BitVec 32 := 32#32
  let v6661 : BitVec 32 := Scalar.muli arg13 c32_i32_2254
  let c11_i32 : BitVec 32 := 11#32
  let v6662 : BitVec 32 := Scalar.addi v6661 c11_i32
  let v6667 : Index := Scalar.indexCast v6662
  let c96_2257 : Index := 96#32
  ![v6667.toNat, 96]
def k0_off615 (v5213 : BitVec 32) (k0_t7 : Fin (k0_t7_loop v5213).trips) : Fin 2 → Nat :=
  let c3_2259 : Index := 3#32
  let c0_i32_1600 : BitVec 32 := 0#32
  let c1_i32_1603 : BitVec 32 := 1#32
  let arg13 : BitVec 32 := Scf.iv c0_i32_1600 c1_i32_1603 k0_t7
  let c32_i32_2258 : BitVec 32 := 32#32
  let v6671 : BitVec 32 := Scalar.muli arg13 c32_i32_2258
  let c12_i32 : BitVec 32 := 12#32
  let v6672 : BitVec 32 := Scalar.addi v6671 c12_i32
  let v6673 : Index := Scalar.indexCast v6672
  ![3, v6673.toNat]
def k0_off616 (v6674 : BitVec 32) : Fin 2 → Nat :=
  let v6675 : Index := Scalar.indexCast v6674
  let c96_2260 : Index := 96#32
  ![v6675.toNat, 96]

def k0_chk209 (i : grid0.Coords) (v6674 : BitVec 32) : Prop :=
  (∀ (k0_h2 : k0_cond2 i = 1#1), ∀ a, (k0_off616 v6674) a + S1x32.size a ≤ S15360x128.size a)
theorem k0_off616_inb : ∀ (i : grid0.Coords) (v6674 : BitVec 32) (k0_hw209 : k0_chk209 i v6674), ∀ (k0_h2 : k0_cond2 i = 1#1), ∀ a, (k0_off616 v6674) a + S1x32.size a ≤ S15360x128.size a := fun i v6674 k0_hw209 k0_h2 => k0_hw209 k0_h2

def k0_off617 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2258 : BitVec 32 := 32#32
  let v6671 : BitVec 32 := Scalar.muli arg13 c32_i32_2258
  let c12_i32 : BitVec 32 := 12#32
  let v6672 : BitVec 32 := Scalar.addi v6671 c12_i32
  let v6677 : Index := Scalar.indexCast v6672
  let c96_2261 : Index := 96#32
  ![v6677.toNat, 96]
def k0_off618 (v5213 : BitVec 32) (k0_t7 : Fin (k0_t7_loop v5213).trips) : Fin 2 → Nat :=
  let c3_2263 : Index := 3#32
  let c0_i32_1600 : BitVec 32 := 0#32
  let c1_i32_1603 : BitVec 32 := 1#32
  let arg13 : BitVec 32 := Scf.iv c0_i32_1600 c1_i32_1603 k0_t7
  let c32_i32_2262 : BitVec 32 := 32#32
  let v6681 : BitVec 32 := Scalar.muli arg13 c32_i32_2262
  let c13_i32 : BitVec 32 := 13#32
  let v6682 : BitVec 32 := Scalar.addi v6681 c13_i32
  let v6683 : Index := Scalar.indexCast v6682
  ![3, v6683.toNat]
def k0_off619 (v6684 : BitVec 32) : Fin 2 → Nat :=
  let v6685 : Index := Scalar.indexCast v6684
  let c96_2264 : Index := 96#32
  ![v6685.toNat, 96]

def k0_chk210 (i : grid0.Coords) (v6684 : BitVec 32) : Prop :=
  (∀ (k0_h2 : k0_cond2 i = 1#1), ∀ a, (k0_off619 v6684) a + S1x32.size a ≤ S15360x128.size a)
theorem k0_off619_inb : ∀ (i : grid0.Coords) (v6684 : BitVec 32) (k0_hw210 : k0_chk210 i v6684), ∀ (k0_h2 : k0_cond2 i = 1#1), ∀ a, (k0_off619 v6684) a + S1x32.size a ≤ S15360x128.size a := fun i v6684 k0_hw210 k0_h2 => k0_hw210 k0_h2

def k0_off620 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2262 : BitVec 32 := 32#32
  let v6681 : BitVec 32 := Scalar.muli arg13 c32_i32_2262
  let c13_i32 : BitVec 32 := 13#32
  let v6682 : BitVec 32 := Scalar.addi v6681 c13_i32
  let v6687 : Index := Scalar.indexCast v6682
  let c96_2265 : Index := 96#32
  ![v6687.toNat, 96]
def k0_off621 (v5213 : BitVec 32) (k0_t7 : Fin (k0_t7_loop v5213).trips) : Fin 2 → Nat :=
  let c3_2267 : Index := 3#32
  let c0_i32_1600 : BitVec 32 := 0#32
  let c1_i32_1603 : BitVec 32 := 1#32
  let arg13 : BitVec 32 := Scf.iv c0_i32_1600 c1_i32_1603 k0_t7
  let c32_i32_2266 : BitVec 32 := 32#32
  let v6691 : BitVec 32 := Scalar.muli arg13 c32_i32_2266
  let c14_i32 : BitVec 32 := 14#32
  let v6692 : BitVec 32 := Scalar.addi v6691 c14_i32
  let v6693 : Index := Scalar.indexCast v6692
  ![3, v6693.toNat]
def k0_off622 (v6694 : BitVec 32) : Fin 2 → Nat :=
  let v6695 : Index := Scalar.indexCast v6694
  let c96_2268 : Index := 96#32
  ![v6695.toNat, 96]

def k0_chk211 (i : grid0.Coords) (v6694 : BitVec 32) : Prop :=
  (∀ (k0_h2 : k0_cond2 i = 1#1), ∀ a, (k0_off622 v6694) a + S1x32.size a ≤ S15360x128.size a)
theorem k0_off622_inb : ∀ (i : grid0.Coords) (v6694 : BitVec 32) (k0_hw211 : k0_chk211 i v6694), ∀ (k0_h2 : k0_cond2 i = 1#1), ∀ a, (k0_off622 v6694) a + S1x32.size a ≤ S15360x128.size a := fun i v6694 k0_hw211 k0_h2 => k0_hw211 k0_h2

def k0_off623 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2266 : BitVec 32 := 32#32
  let v6691 : BitVec 32 := Scalar.muli arg13 c32_i32_2266
  let c14_i32 : BitVec 32 := 14#32
  let v6692 : BitVec 32 := Scalar.addi v6691 c14_i32
  let v6697 : Index := Scalar.indexCast v6692
  let c96_2269 : Index := 96#32
  ![v6697.toNat, 96]
def k0_off624 (v5213 : BitVec 32) (k0_t7 : Fin (k0_t7_loop v5213).trips) : Fin 2 → Nat :=
  let c3_2271 : Index := 3#32
  let c0_i32_1600 : BitVec 32 := 0#32
  let c1_i32_1603 : BitVec 32 := 1#32
  let arg13 : BitVec 32 := Scf.iv c0_i32_1600 c1_i32_1603 k0_t7
  let c32_i32_2270 : BitVec 32 := 32#32
  let v6701 : BitVec 32 := Scalar.muli arg13 c32_i32_2270
  let c15_i32 : BitVec 32 := 15#32
  let v6702 : BitVec 32 := Scalar.addi v6701 c15_i32
  let v6703 : Index := Scalar.indexCast v6702
  ![3, v6703.toNat]
def k0_off625 (v6704 : BitVec 32) : Fin 2 → Nat :=
  let v6705 : Index := Scalar.indexCast v6704
  let c96_2272 : Index := 96#32
  ![v6705.toNat, 96]

def k0_chk212 (i : grid0.Coords) (v6704 : BitVec 32) : Prop :=
  (∀ (k0_h2 : k0_cond2 i = 1#1), ∀ a, (k0_off625 v6704) a + S1x32.size a ≤ S15360x128.size a)
theorem k0_off625_inb : ∀ (i : grid0.Coords) (v6704 : BitVec 32) (k0_hw212 : k0_chk212 i v6704), ∀ (k0_h2 : k0_cond2 i = 1#1), ∀ a, (k0_off625 v6704) a + S1x32.size a ≤ S15360x128.size a := fun i v6704 k0_hw212 k0_h2 => k0_hw212 k0_h2

def k0_off626 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2270 : BitVec 32 := 32#32
  let v6701 : BitVec 32 := Scalar.muli arg13 c32_i32_2270
  let c15_i32 : BitVec 32 := 15#32
  let v6702 : BitVec 32 := Scalar.addi v6701 c15_i32
  let v6707 : Index := Scalar.indexCast v6702
  let c96_2273 : Index := 96#32
  ![v6707.toNat, 96]
def k0_off627 (v5213 : BitVec 32) (k0_t7 : Fin (k0_t7_loop v5213).trips) : Fin 2 → Nat :=
  let c3_2275 : Index := 3#32
  let c0_i32_1600 : BitVec 32 := 0#32
  let c1_i32_1603 : BitVec 32 := 1#32
  let arg13 : BitVec 32 := Scf.iv c0_i32_1600 c1_i32_1603 k0_t7
  let c32_i32_2274 : BitVec 32 := 32#32
  let v6711 : BitVec 32 := Scalar.muli arg13 c32_i32_2274
  let c16_i32 : BitVec 32 := 16#32
  let v6712 : BitVec 32 := Scalar.addi v6711 c16_i32
  let v6713 : Index := Scalar.indexCast v6712
  ![3, v6713.toNat]
def k0_off628 (v6714 : BitVec 32) : Fin 2 → Nat :=
  let v6715 : Index := Scalar.indexCast v6714
  let c96_2276 : Index := 96#32
  ![v6715.toNat, 96]

def k0_chk213 (i : grid0.Coords) (v6714 : BitVec 32) : Prop :=
  (∀ (k0_h2 : k0_cond2 i = 1#1), ∀ a, (k0_off628 v6714) a + S1x32.size a ≤ S15360x128.size a)
theorem k0_off628_inb : ∀ (i : grid0.Coords) (v6714 : BitVec 32) (k0_hw213 : k0_chk213 i v6714), ∀ (k0_h2 : k0_cond2 i = 1#1), ∀ a, (k0_off628 v6714) a + S1x32.size a ≤ S15360x128.size a := fun i v6714 k0_hw213 k0_h2 => k0_hw213 k0_h2

def k0_off629 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2274 : BitVec 32 := 32#32
  let v6711 : BitVec 32 := Scalar.muli arg13 c32_i32_2274
  let c16_i32 : BitVec 32 := 16#32
  let v6712 : BitVec 32 := Scalar.addi v6711 c16_i32
  let v6717 : Index := Scalar.indexCast v6712
  let c96_2277 : Index := 96#32
  ![v6717.toNat, 96]
def k0_off630 (v5213 : BitVec 32) (k0_t7 : Fin (k0_t7_loop v5213).trips) : Fin 2 → Nat :=
  let c3_2279 : Index := 3#32
  let c0_i32_1600 : BitVec 32 := 0#32
  let c1_i32_1603 : BitVec 32 := 1#32
  let arg13 : BitVec 32 := Scf.iv c0_i32_1600 c1_i32_1603 k0_t7
  let c32_i32_2278 : BitVec 32 := 32#32
  let v6721 : BitVec 32 := Scalar.muli arg13 c32_i32_2278
  let c17_i32 : BitVec 32 := 17#32
  let v6722 : BitVec 32 := Scalar.addi v6721 c17_i32
  let v6723 : Index := Scalar.indexCast v6722
  ![3, v6723.toNat]
def k0_off631 (v6724 : BitVec 32) : Fin 2 → Nat :=
  let v6725 : Index := Scalar.indexCast v6724
  let c96_2280 : Index := 96#32
  ![v6725.toNat, 96]

def k0_chk214 (i : grid0.Coords) (v6724 : BitVec 32) : Prop :=
  (∀ (k0_h2 : k0_cond2 i = 1#1), ∀ a, (k0_off631 v6724) a + S1x32.size a ≤ S15360x128.size a)
theorem k0_off631_inb : ∀ (i : grid0.Coords) (v6724 : BitVec 32) (k0_hw214 : k0_chk214 i v6724), ∀ (k0_h2 : k0_cond2 i = 1#1), ∀ a, (k0_off631 v6724) a + S1x32.size a ≤ S15360x128.size a := fun i v6724 k0_hw214 k0_h2 => k0_hw214 k0_h2

def k0_off632 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2278 : BitVec 32 := 32#32
  let v6721 : BitVec 32 := Scalar.muli arg13 c32_i32_2278
  let c17_i32 : BitVec 32 := 17#32
  let v6722 : BitVec 32 := Scalar.addi v6721 c17_i32
  let v6727 : Index := Scalar.indexCast v6722
  let c96_2281 : Index := 96#32
  ![v6727.toNat, 96]
def k0_off633 (v5213 : BitVec 32) (k0_t7 : Fin (k0_t7_loop v5213).trips) : Fin 2 → Nat :=
  let c3_2283 : Index := 3#32
  let c0_i32_1600 : BitVec 32 := 0#32
  let c1_i32_1603 : BitVec 32 := 1#32
  let arg13 : BitVec 32 := Scf.iv c0_i32_1600 c1_i32_1603 k0_t7
  let c32_i32_2282 : BitVec 32 := 32#32
  let v6731 : BitVec 32 := Scalar.muli arg13 c32_i32_2282
  let c18_i32 : BitVec 32 := 18#32
  let v6732 : BitVec 32 := Scalar.addi v6731 c18_i32
  let v6733 : Index := Scalar.indexCast v6732
  ![3, v6733.toNat]
def k0_off634 (v6734 : BitVec 32) : Fin 2 → Nat :=
  let v6735 : Index := Scalar.indexCast v6734
  let c96_2284 : Index := 96#32
  ![v6735.toNat, 96]

def k0_chk215 (i : grid0.Coords) (v6734 : BitVec 32) : Prop :=
  (∀ (k0_h2 : k0_cond2 i = 1#1), ∀ a, (k0_off634 v6734) a + S1x32.size a ≤ S15360x128.size a)
theorem k0_off634_inb : ∀ (i : grid0.Coords) (v6734 : BitVec 32) (k0_hw215 : k0_chk215 i v6734), ∀ (k0_h2 : k0_cond2 i = 1#1), ∀ a, (k0_off634 v6734) a + S1x32.size a ≤ S15360x128.size a := fun i v6734 k0_hw215 k0_h2 => k0_hw215 k0_h2

def k0_off635 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2282 : BitVec 32 := 32#32
  let v6731 : BitVec 32 := Scalar.muli arg13 c32_i32_2282
  let c18_i32 : BitVec 32 := 18#32
  let v6732 : BitVec 32 := Scalar.addi v6731 c18_i32
  let v6737 : Index := Scalar.indexCast v6732
  let c96_2285 : Index := 96#32
  ![v6737.toNat, 96]
def k0_off636 (v5213 : BitVec 32) (k0_t7 : Fin (k0_t7_loop v5213).trips) : Fin 2 → Nat :=
  let c3_2287 : Index := 3#32
  let c0_i32_1600 : BitVec 32 := 0#32
  let c1_i32_1603 : BitVec 32 := 1#32
  let arg13 : BitVec 32 := Scf.iv c0_i32_1600 c1_i32_1603 k0_t7
  let c32_i32_2286 : BitVec 32 := 32#32
  let v6741 : BitVec 32 := Scalar.muli arg13 c32_i32_2286
  let c19_i32 : BitVec 32 := 19#32
  let v6742 : BitVec 32 := Scalar.addi v6741 c19_i32
  let v6743 : Index := Scalar.indexCast v6742
  ![3, v6743.toNat]
def k0_off637 (v6744 : BitVec 32) : Fin 2 → Nat :=
  let v6745 : Index := Scalar.indexCast v6744
  let c96_2288 : Index := 96#32
  ![v6745.toNat, 96]

def k0_chk216 (i : grid0.Coords) (v6744 : BitVec 32) : Prop :=
  (∀ (k0_h2 : k0_cond2 i = 1#1), ∀ a, (k0_off637 v6744) a + S1x32.size a ≤ S15360x128.size a)
theorem k0_off637_inb : ∀ (i : grid0.Coords) (v6744 : BitVec 32) (k0_hw216 : k0_chk216 i v6744), ∀ (k0_h2 : k0_cond2 i = 1#1), ∀ a, (k0_off637 v6744) a + S1x32.size a ≤ S15360x128.size a := fun i v6744 k0_hw216 k0_h2 => k0_hw216 k0_h2

def k0_off638 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2286 : BitVec 32 := 32#32
  let v6741 : BitVec 32 := Scalar.muli arg13 c32_i32_2286
  let c19_i32 : BitVec 32 := 19#32
  let v6742 : BitVec 32 := Scalar.addi v6741 c19_i32
  let v6747 : Index := Scalar.indexCast v6742
  let c96_2289 : Index := 96#32
  ![v6747.toNat, 96]
def k0_off639 (v5213 : BitVec 32) (k0_t7 : Fin (k0_t7_loop v5213).trips) : Fin 2 → Nat :=
  let c3_2291 : Index := 3#32
  let c0_i32_1600 : BitVec 32 := 0#32
  let c1_i32_1603 : BitVec 32 := 1#32
  let arg13 : BitVec 32 := Scf.iv c0_i32_1600 c1_i32_1603 k0_t7
  let c32_i32_2290 : BitVec 32 := 32#32
  let v6751 : BitVec 32 := Scalar.muli arg13 c32_i32_2290
  let c20_i32 : BitVec 32 := 20#32
  let v6752 : BitVec 32 := Scalar.addi v6751 c20_i32
  let v6753 : Index := Scalar.indexCast v6752
  ![3, v6753.toNat]
def k0_off640 (v6754 : BitVec 32) : Fin 2 → Nat :=
  let v6755 : Index := Scalar.indexCast v6754
  let c96_2292 : Index := 96#32
  ![v6755.toNat, 96]

def k0_chk217 (i : grid0.Coords) (v6754 : BitVec 32) : Prop :=
  (∀ (k0_h2 : k0_cond2 i = 1#1), ∀ a, (k0_off640 v6754) a + S1x32.size a ≤ S15360x128.size a)
theorem k0_off640_inb : ∀ (i : grid0.Coords) (v6754 : BitVec 32) (k0_hw217 : k0_chk217 i v6754), ∀ (k0_h2 : k0_cond2 i = 1#1), ∀ a, (k0_off640 v6754) a + S1x32.size a ≤ S15360x128.size a := fun i v6754 k0_hw217 k0_h2 => k0_hw217 k0_h2

def k0_off641 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2290 : BitVec 32 := 32#32
  let v6751 : BitVec 32 := Scalar.muli arg13 c32_i32_2290
  let c20_i32 : BitVec 32 := 20#32
  let v6752 : BitVec 32 := Scalar.addi v6751 c20_i32
  let v6757 : Index := Scalar.indexCast v6752
  let c96_2293 : Index := 96#32
  ![v6757.toNat, 96]
def k0_off642 (v5213 : BitVec 32) (k0_t7 : Fin (k0_t7_loop v5213).trips) : Fin 2 → Nat :=
  let c3_2295 : Index := 3#32
  let c0_i32_1600 : BitVec 32 := 0#32
  let c1_i32_1603 : BitVec 32 := 1#32
  let arg13 : BitVec 32 := Scf.iv c0_i32_1600 c1_i32_1603 k0_t7
  let c32_i32_2294 : BitVec 32 := 32#32
  let v6761 : BitVec 32 := Scalar.muli arg13 c32_i32_2294
  let c21_i32 : BitVec 32 := 21#32
  let v6762 : BitVec 32 := Scalar.addi v6761 c21_i32
  let v6763 : Index := Scalar.indexCast v6762
  ![3, v6763.toNat]
def k0_off643 (v6764 : BitVec 32) : Fin 2 → Nat :=
  let v6765 : Index := Scalar.indexCast v6764
  let c96_2296 : Index := 96#32
  ![v6765.toNat, 96]

def k0_chk218 (i : grid0.Coords) (v6764 : BitVec 32) : Prop :=
  (∀ (k0_h2 : k0_cond2 i = 1#1), ∀ a, (k0_off643 v6764) a + S1x32.size a ≤ S15360x128.size a)
theorem k0_off643_inb : ∀ (i : grid0.Coords) (v6764 : BitVec 32) (k0_hw218 : k0_chk218 i v6764), ∀ (k0_h2 : k0_cond2 i = 1#1), ∀ a, (k0_off643 v6764) a + S1x32.size a ≤ S15360x128.size a := fun i v6764 k0_hw218 k0_h2 => k0_hw218 k0_h2

def k0_off644 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2294 : BitVec 32 := 32#32
  let v6761 : BitVec 32 := Scalar.muli arg13 c32_i32_2294
  let c21_i32 : BitVec 32 := 21#32
  let v6762 : BitVec 32 := Scalar.addi v6761 c21_i32
  let v6767 : Index := Scalar.indexCast v6762
  let c96_2297 : Index := 96#32
  ![v6767.toNat, 96]
def k0_off645 (v5213 : BitVec 32) (k0_t7 : Fin (k0_t7_loop v5213).trips) : Fin 2 → Nat :=
  let c3_2299 : Index := 3#32
  let c0_i32_1600 : BitVec 32 := 0#32
  let c1_i32_1603 : BitVec 32 := 1#32
  let arg13 : BitVec 32 := Scf.iv c0_i32_1600 c1_i32_1603 k0_t7
  let c32_i32_2298 : BitVec 32 := 32#32
  let v6771 : BitVec 32 := Scalar.muli arg13 c32_i32_2298
  let c22_i32 : BitVec 32 := 22#32
  let v6772 : BitVec 32 := Scalar.addi v6771 c22_i32
  let v6773 : Index := Scalar.indexCast v6772
  ![3, v6773.toNat]
def k0_off646 (v6774 : BitVec 32) : Fin 2 → Nat :=
  let v6775 : Index := Scalar.indexCast v6774
  let c96_2300 : Index := 96#32
  ![v6775.toNat, 96]

def k0_chk219 (i : grid0.Coords) (v6774 : BitVec 32) : Prop :=
  (∀ (k0_h2 : k0_cond2 i = 1#1), ∀ a, (k0_off646 v6774) a + S1x32.size a ≤ S15360x128.size a)
theorem k0_off646_inb : ∀ (i : grid0.Coords) (v6774 : BitVec 32) (k0_hw219 : k0_chk219 i v6774), ∀ (k0_h2 : k0_cond2 i = 1#1), ∀ a, (k0_off646 v6774) a + S1x32.size a ≤ S15360x128.size a := fun i v6774 k0_hw219 k0_h2 => k0_hw219 k0_h2

def k0_off647 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2298 : BitVec 32 := 32#32
  let v6771 : BitVec 32 := Scalar.muli arg13 c32_i32_2298
  let c22_i32 : BitVec 32 := 22#32
  let v6772 : BitVec 32 := Scalar.addi v6771 c22_i32
  let v6777 : Index := Scalar.indexCast v6772
  let c96_2301 : Index := 96#32
  ![v6777.toNat, 96]
def k0_off648 (v5213 : BitVec 32) (k0_t7 : Fin (k0_t7_loop v5213).trips) : Fin 2 → Nat :=
  let c3_2303 : Index := 3#32
  let c0_i32_1600 : BitVec 32 := 0#32
  let c1_i32_1603 : BitVec 32 := 1#32
  let arg13 : BitVec 32 := Scf.iv c0_i32_1600 c1_i32_1603 k0_t7
  let c32_i32_2302 : BitVec 32 := 32#32
  let v6781 : BitVec 32 := Scalar.muli arg13 c32_i32_2302
  let c23_i32 : BitVec 32 := 23#32
  let v6782 : BitVec 32 := Scalar.addi v6781 c23_i32
  let v6783 : Index := Scalar.indexCast v6782
  ![3, v6783.toNat]
def k0_off649 (v6784 : BitVec 32) : Fin 2 → Nat :=
  let v6785 : Index := Scalar.indexCast v6784
  let c96_2304 : Index := 96#32
  ![v6785.toNat, 96]

def k0_chk220 (i : grid0.Coords) (v6784 : BitVec 32) : Prop :=
  (∀ (k0_h2 : k0_cond2 i = 1#1), ∀ a, (k0_off649 v6784) a + S1x32.size a ≤ S15360x128.size a)
theorem k0_off649_inb : ∀ (i : grid0.Coords) (v6784 : BitVec 32) (k0_hw220 : k0_chk220 i v6784), ∀ (k0_h2 : k0_cond2 i = 1#1), ∀ a, (k0_off649 v6784) a + S1x32.size a ≤ S15360x128.size a := fun i v6784 k0_hw220 k0_h2 => k0_hw220 k0_h2

def k0_off650 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2302 : BitVec 32 := 32#32
  let v6781 : BitVec 32 := Scalar.muli arg13 c32_i32_2302
  let c23_i32 : BitVec 32 := 23#32
  let v6782 : BitVec 32 := Scalar.addi v6781 c23_i32
  let v6787 : Index := Scalar.indexCast v6782
  let c96_2305 : Index := 96#32
  ![v6787.toNat, 96]
def k0_off651 (v5213 : BitVec 32) (k0_t7 : Fin (k0_t7_loop v5213).trips) : Fin 2 → Nat :=
  let c3_2307 : Index := 3#32
  let c0_i32_1600 : BitVec 32 := 0#32
  let c1_i32_1603 : BitVec 32 := 1#32
  let arg13 : BitVec 32 := Scf.iv c0_i32_1600 c1_i32_1603 k0_t7
  let c32_i32_2306 : BitVec 32 := 32#32
  let v6791 : BitVec 32 := Scalar.muli arg13 c32_i32_2306
  let c24_i32 : BitVec 32 := 24#32
  let v6792 : BitVec 32 := Scalar.addi v6791 c24_i32
  let v6793 : Index := Scalar.indexCast v6792
  ![3, v6793.toNat]
def k0_off652 (v6794 : BitVec 32) : Fin 2 → Nat :=
  let v6795 : Index := Scalar.indexCast v6794
  let c96_2308 : Index := 96#32
  ![v6795.toNat, 96]

def k0_chk221 (i : grid0.Coords) (v6794 : BitVec 32) : Prop :=
  (∀ (k0_h2 : k0_cond2 i = 1#1), ∀ a, (k0_off652 v6794) a + S1x32.size a ≤ S15360x128.size a)
theorem k0_off652_inb : ∀ (i : grid0.Coords) (v6794 : BitVec 32) (k0_hw221 : k0_chk221 i v6794), ∀ (k0_h2 : k0_cond2 i = 1#1), ∀ a, (k0_off652 v6794) a + S1x32.size a ≤ S15360x128.size a := fun i v6794 k0_hw221 k0_h2 => k0_hw221 k0_h2

def k0_off653 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2306 : BitVec 32 := 32#32
  let v6791 : BitVec 32 := Scalar.muli arg13 c32_i32_2306
  let c24_i32 : BitVec 32 := 24#32
  let v6792 : BitVec 32 := Scalar.addi v6791 c24_i32
  let v6797 : Index := Scalar.indexCast v6792
  let c96_2309 : Index := 96#32
  ![v6797.toNat, 96]
def k0_off654 (v5213 : BitVec 32) (k0_t7 : Fin (k0_t7_loop v5213).trips) : Fin 2 → Nat :=
  let c3_2311 : Index := 3#32
  let c0_i32_1600 : BitVec 32 := 0#32
  let c1_i32_1603 : BitVec 32 := 1#32
  let arg13 : BitVec 32 := Scf.iv c0_i32_1600 c1_i32_1603 k0_t7
  let c32_i32_2310 : BitVec 32 := 32#32
  let v6801 : BitVec 32 := Scalar.muli arg13 c32_i32_2310
  let c25_i32 : BitVec 32 := 25#32
  let v6802 : BitVec 32 := Scalar.addi v6801 c25_i32
  let v6803 : Index := Scalar.indexCast v6802
  ![3, v6803.toNat]
def k0_off655 (v6804 : BitVec 32) : Fin 2 → Nat :=
  let v6805 : Index := Scalar.indexCast v6804
  let c96_2312 : Index := 96#32
  ![v6805.toNat, 96]

def k0_chk222 (i : grid0.Coords) (v6804 : BitVec 32) : Prop :=
  (∀ (k0_h2 : k0_cond2 i = 1#1), ∀ a, (k0_off655 v6804) a + S1x32.size a ≤ S15360x128.size a)
theorem k0_off655_inb : ∀ (i : grid0.Coords) (v6804 : BitVec 32) (k0_hw222 : k0_chk222 i v6804), ∀ (k0_h2 : k0_cond2 i = 1#1), ∀ a, (k0_off655 v6804) a + S1x32.size a ≤ S15360x128.size a := fun i v6804 k0_hw222 k0_h2 => k0_hw222 k0_h2

def k0_off656 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2310 : BitVec 32 := 32#32
  let v6801 : BitVec 32 := Scalar.muli arg13 c32_i32_2310
  let c25_i32 : BitVec 32 := 25#32
  let v6802 : BitVec 32 := Scalar.addi v6801 c25_i32
  let v6807 : Index := Scalar.indexCast v6802
  let c96_2313 : Index := 96#32
  ![v6807.toNat, 96]
def k0_off657 (v5213 : BitVec 32) (k0_t7 : Fin (k0_t7_loop v5213).trips) : Fin 2 → Nat :=
  let c3_2315 : Index := 3#32
  let c0_i32_1600 : BitVec 32 := 0#32
  let c1_i32_1603 : BitVec 32 := 1#32
  let arg13 : BitVec 32 := Scf.iv c0_i32_1600 c1_i32_1603 k0_t7
  let c32_i32_2314 : BitVec 32 := 32#32
  let v6811 : BitVec 32 := Scalar.muli arg13 c32_i32_2314
  let c26_i32 : BitVec 32 := 26#32
  let v6812 : BitVec 32 := Scalar.addi v6811 c26_i32
  let v6813 : Index := Scalar.indexCast v6812
  ![3, v6813.toNat]
def k0_off658 (v6814 : BitVec 32) : Fin 2 → Nat :=
  let v6815 : Index := Scalar.indexCast v6814
  let c96_2316 : Index := 96#32
  ![v6815.toNat, 96]

def k0_chk223 (i : grid0.Coords) (v6814 : BitVec 32) : Prop :=
  (∀ (k0_h2 : k0_cond2 i = 1#1), ∀ a, (k0_off658 v6814) a + S1x32.size a ≤ S15360x128.size a)
theorem k0_off658_inb : ∀ (i : grid0.Coords) (v6814 : BitVec 32) (k0_hw223 : k0_chk223 i v6814), ∀ (k0_h2 : k0_cond2 i = 1#1), ∀ a, (k0_off658 v6814) a + S1x32.size a ≤ S15360x128.size a := fun i v6814 k0_hw223 k0_h2 => k0_hw223 k0_h2

def k0_off659 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2314 : BitVec 32 := 32#32
  let v6811 : BitVec 32 := Scalar.muli arg13 c32_i32_2314
  let c26_i32 : BitVec 32 := 26#32
  let v6812 : BitVec 32 := Scalar.addi v6811 c26_i32
  let v6817 : Index := Scalar.indexCast v6812
  let c96_2317 : Index := 96#32
  ![v6817.toNat, 96]
def k0_off660 (v5213 : BitVec 32) (k0_t7 : Fin (k0_t7_loop v5213).trips) : Fin 2 → Nat :=
  let c3_2319 : Index := 3#32
  let c0_i32_1600 : BitVec 32 := 0#32
  let c1_i32_1603 : BitVec 32 := 1#32
  let arg13 : BitVec 32 := Scf.iv c0_i32_1600 c1_i32_1603 k0_t7
  let c32_i32_2318 : BitVec 32 := 32#32
  let v6821 : BitVec 32 := Scalar.muli arg13 c32_i32_2318
  let c27_i32 : BitVec 32 := 27#32
  let v6822 : BitVec 32 := Scalar.addi v6821 c27_i32
  let v6823 : Index := Scalar.indexCast v6822
  ![3, v6823.toNat]
def k0_off661 (v6824 : BitVec 32) : Fin 2 → Nat :=
  let v6825 : Index := Scalar.indexCast v6824
  let c96_2320 : Index := 96#32
  ![v6825.toNat, 96]

def k0_chk224 (i : grid0.Coords) (v6824 : BitVec 32) : Prop :=
  (∀ (k0_h2 : k0_cond2 i = 1#1), ∀ a, (k0_off661 v6824) a + S1x32.size a ≤ S15360x128.size a)
theorem k0_off661_inb : ∀ (i : grid0.Coords) (v6824 : BitVec 32) (k0_hw224 : k0_chk224 i v6824), ∀ (k0_h2 : k0_cond2 i = 1#1), ∀ a, (k0_off661 v6824) a + S1x32.size a ≤ S15360x128.size a := fun i v6824 k0_hw224 k0_h2 => k0_hw224 k0_h2

def k0_off662 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2318 : BitVec 32 := 32#32
  let v6821 : BitVec 32 := Scalar.muli arg13 c32_i32_2318
  let c27_i32 : BitVec 32 := 27#32
  let v6822 : BitVec 32 := Scalar.addi v6821 c27_i32
  let v6827 : Index := Scalar.indexCast v6822
  let c96_2321 : Index := 96#32
  ![v6827.toNat, 96]
def k0_off663 (v5213 : BitVec 32) (k0_t7 : Fin (k0_t7_loop v5213).trips) : Fin 2 → Nat :=
  let c3_2323 : Index := 3#32
  let c0_i32_1600 : BitVec 32 := 0#32
  let c1_i32_1603 : BitVec 32 := 1#32
  let arg13 : BitVec 32 := Scf.iv c0_i32_1600 c1_i32_1603 k0_t7
  let c32_i32_2322 : BitVec 32 := 32#32
  let v6831 : BitVec 32 := Scalar.muli arg13 c32_i32_2322
  let c28_i32 : BitVec 32 := 28#32
  let v6832 : BitVec 32 := Scalar.addi v6831 c28_i32
  let v6833 : Index := Scalar.indexCast v6832
  ![3, v6833.toNat]
def k0_off664 (v6834 : BitVec 32) : Fin 2 → Nat :=
  let v6835 : Index := Scalar.indexCast v6834
  let c96_2324 : Index := 96#32
  ![v6835.toNat, 96]

def k0_chk225 (i : grid0.Coords) (v6834 : BitVec 32) : Prop :=
  (∀ (k0_h2 : k0_cond2 i = 1#1), ∀ a, (k0_off664 v6834) a + S1x32.size a ≤ S15360x128.size a)
theorem k0_off664_inb : ∀ (i : grid0.Coords) (v6834 : BitVec 32) (k0_hw225 : k0_chk225 i v6834), ∀ (k0_h2 : k0_cond2 i = 1#1), ∀ a, (k0_off664 v6834) a + S1x32.size a ≤ S15360x128.size a := fun i v6834 k0_hw225 k0_h2 => k0_hw225 k0_h2

def k0_off665 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2322 : BitVec 32 := 32#32
  let v6831 : BitVec 32 := Scalar.muli arg13 c32_i32_2322
  let c28_i32 : BitVec 32 := 28#32
  let v6832 : BitVec 32 := Scalar.addi v6831 c28_i32
  let v6837 : Index := Scalar.indexCast v6832
  let c96_2325 : Index := 96#32
  ![v6837.toNat, 96]
def k0_off666 (v5213 : BitVec 32) (k0_t7 : Fin (k0_t7_loop v5213).trips) : Fin 2 → Nat :=
  let c3_2328 : Index := 3#32
  let c0_i32_1600 : BitVec 32 := 0#32
  let c1_i32_1603 : BitVec 32 := 1#32
  let arg13 : BitVec 32 := Scf.iv c0_i32_1600 c1_i32_1603 k0_t7
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6843 : Index := Scalar.indexCast v6842
  ![3, v6843.toNat]
def k0_off667 (v6844 : BitVec 32) : Fin 2 → Nat :=
  let v6845 : Index := Scalar.indexCast v6844
  let c96_2329 : Index := 96#32
  ![v6845.toNat, 96]

def k0_chk226 (i : grid0.Coords) (v6844 : BitVec 32) : Prop :=
  (∀ (k0_h2 : k0_cond2 i = 1#1), ∀ a, (k0_off667 v6844) a + S1x32.size a ≤ S15360x128.size a)
theorem k0_off667_inb : ∀ (i : grid0.Coords) (v6844 : BitVec 32) (k0_hw226 : k0_chk226 i v6844), ∀ (k0_h2 : k0_cond2 i = 1#1), ∀ a, (k0_off667 v6844) a + S1x32.size a ≤ S15360x128.size a := fun i v6844 k0_hw226 k0_h2 => k0_hw226 k0_h2

def k0_off668 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6847 : Index := Scalar.indexCast v6842
  let c96_2330 : Index := 96#32
  ![v6847.toNat, 96]
def k0_off669 (v5213 : BitVec 32) (k0_t7 : Fin (k0_t7_loop v5213).trips) : Fin 2 → Nat :=
  let c3_2332 : Index := 3#32
  let c0_i32_1600 : BitVec 32 := 0#32
  let c1_i32_1603 : BitVec 32 := 1#32
  let arg13 : BitVec 32 := Scf.iv c0_i32_1600 c1_i32_1603 k0_t7
  let c32_i32_2331 : BitVec 32 := 32#32
  let v6851 : BitVec 32 := Scalar.muli arg13 c32_i32_2331
  let c30_i32 : BitVec 32 := 30#32
  let v6852 : BitVec 32 := Scalar.addi v6851 c30_i32
  let v6853 : Index := Scalar.indexCast v6852
  ![3, v6853.toNat]
def k0_off670 (v6854 : BitVec 32) : Fin 2 → Nat :=
  let v6855 : Index := Scalar.indexCast v6854
  let c96_2333 : Index := 96#32
  ![v6855.toNat, 96]

def k0_chk227 (i : grid0.Coords) (v6854 : BitVec 32) : Prop :=
  (∀ (k0_h2 : k0_cond2 i = 1#1), ∀ a, (k0_off670 v6854) a + S1x32.size a ≤ S15360x128.size a)
theorem k0_off670_inb : ∀ (i : grid0.Coords) (v6854 : BitVec 32) (k0_hw227 : k0_chk227 i v6854), ∀ (k0_h2 : k0_cond2 i = 1#1), ∀ a, (k0_off670 v6854) a + S1x32.size a ≤ S15360x128.size a := fun i v6854 k0_hw227 k0_h2 => k0_hw227 k0_h2

def k0_off671 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2331 : BitVec 32 := 32#32
  let v6851 : BitVec 32 := Scalar.muli arg13 c32_i32_2331
  let c30_i32 : BitVec 32 := 30#32
  let v6852 : BitVec 32 := Scalar.addi v6851 c30_i32
  let v6857 : Index := Scalar.indexCast v6852
  let c96_2334 : Index := 96#32
  ![v6857.toNat, 96]
def k0_off672 (v5213 : BitVec 32) (k0_t7 : Fin (k0_t7_loop v5213).trips) : Fin 2 → Nat :=
  let c3_2336 : Index := 3#32
  let c0_i32_1600 : BitVec 32 := 0#32
  let c1_i32_1603 : BitVec 32 := 1#32
  let arg13 : BitVec 32 := Scf.iv c0_i32_1600 c1_i32_1603 k0_t7
  let c32_i32_2335 : BitVec 32 := 32#32
  let v6861 : BitVec 32 := Scalar.muli arg13 c32_i32_2335
  let c31_i32 : BitVec 32 := 31#32
  let v6862 : BitVec 32 := Scalar.addi v6861 c31_i32
  let v6863 : Index := Scalar.indexCast v6862
  ![3, v6863.toNat]
def k0_off673 (v6864 : BitVec 32) : Fin 2 → Nat :=
  let v6865 : Index := Scalar.indexCast v6864
  let c96_2337 : Index := 96#32
  ![v6865.toNat, 96]

def k0_chk228 (i : grid0.Coords) (v6864 : BitVec 32) : Prop :=
  (∀ (k0_h2 : k0_cond2 i = 1#1), ∀ a, (k0_off673 v6864) a + S1x32.size a ≤ S15360x128.size a)
theorem k0_off673_inb : ∀ (i : grid0.Coords) (v6864 : BitVec 32) (k0_hw228 : k0_chk228 i v6864), ∀ (k0_h2 : k0_cond2 i = 1#1), ∀ a, (k0_off673 v6864) a + S1x32.size a ≤ S15360x128.size a := fun i v6864 k0_hw228 k0_h2 => k0_hw228 k0_h2

def k0_off674 (v5213 : BitVec 32) (k0_t7 : Fin (k0_t7_loop v5213).trips) : Fin 2 → Nat :=
  let c0_i32_1600 : BitVec 32 := 0#32
  let c1_i32_1603 : BitVec 32 := 1#32
  let arg13 : BitVec 32 := Scf.iv c0_i32_1600 c1_i32_1603 k0_t7
  let c32_i32_2335 : BitVec 32 := 32#32
  let v6861 : BitVec 32 := Scalar.muli arg13 c32_i32_2335
  let c31_i32 : BitVec 32 := 31#32
  let v6862 : BitVec 32 := Scalar.addi v6861 c31_i32
  let v6867 : Index := Scalar.indexCast v6862
  let c96_2338 : Index := 96#32
  ![v6867.toNat, 96]
@[reducible] def k0_t8_loop (v5213 : BitVec 32) : Scf.Loop 32 :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let v5253 : BitVec 32 := Scalar.addi c0_i32_1600 v5252
  let c1_i32_1604 : BitVec 32 := 1#32
  ⟨v5256, v5253, c1_i32_1604⟩
def k0_off675 (v5213 : BitVec 32) (k0_t8 : Fin (k0_t8_loop v5213).trips) : Fin 2 → Nat :=
  let c3_2208 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![3, v6553.toNat]
def k0_off676 (v6554 : BitVec 32) : Fin 2 → Nat :=
  let v6555 : Index := Scalar.indexCast v6554
  let c96 : Index := 96#32
  ![v6555.toNat, 96]

def k0_chk229 (i : grid0.Coords) (v6554 : BitVec 32) : Prop :=
  (∀ (k0_h2 : k0_cond2 i = 1#1), ∀ a, (k0_off676 v6554) a + S1x32.size a ≤ S15360x128.size a)
theorem k0_off676_inb : ∀ (i : grid0.Coords) (v6554 : BitVec 32) (k0_hw229 : k0_chk229 i v6554), ∀ (k0_h2 : k0_cond2 i = 1#1), ∀ a, (k0_off676 v6554) a + S1x32.size a ≤ S15360x128.size a := fun i v6554 k0_hw229 k0_h2 => k0_hw229 k0_h2

def k0_off677 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c96_2209 : Index := 96#32
  ![v6557.toNat, 96]
def k0_off678 (v5213 : BitVec 32) (k0_t8 : Fin (k0_t8_loop v5213).trips) : Fin 2 → Nat :=
  let c3_2212 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6563 : Index := Scalar.indexCast v6562
  ![3, v6563.toNat]
def k0_off679 (v6564 : BitVec 32) : Fin 2 → Nat :=
  let v6565 : Index := Scalar.indexCast v6564
  let c96_2213 : Index := 96#32
  ![v6565.toNat, 96]

def k0_chk230 (i : grid0.Coords) (v6564 : BitVec 32) : Prop :=
  (∀ (k0_h2 : k0_cond2 i = 1#1), ∀ a, (k0_off679 v6564) a + S1x32.size a ≤ S15360x128.size a)
theorem k0_off679_inb : ∀ (i : grid0.Coords) (v6564 : BitVec 32) (k0_hw230 : k0_chk230 i v6564), ∀ (k0_h2 : k0_cond2 i = 1#1), ∀ a, (k0_off679 v6564) a + S1x32.size a ≤ S15360x128.size a := fun i v6564 k0_hw230 k0_h2 => k0_hw230 k0_h2

def k0_off680 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6567 : Index := Scalar.indexCast v6562
  let c96_2214 : Index := 96#32
  ![v6567.toNat, 96]
def k0_off681 (v5213 : BitVec 32) (k0_t8 : Fin (k0_t8_loop v5213).trips) : Fin 2 → Nat :=
  let c3_2217 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6573 : Index := Scalar.indexCast v6572
  ![3, v6573.toNat]
def k0_off682 (v6574 : BitVec 32) : Fin 2 → Nat :=
  let v6575 : Index := Scalar.indexCast v6574
  let c96_2218 : Index := 96#32
  ![v6575.toNat, 96]

def k0_chk231 (i : grid0.Coords) (v6574 : BitVec 32) : Prop :=
  (∀ (k0_h2 : k0_cond2 i = 1#1), ∀ a, (k0_off682 v6574) a + S1x32.size a ≤ S15360x128.size a)
theorem k0_off682_inb : ∀ (i : grid0.Coords) (v6574 : BitVec 32) (k0_hw231 : k0_chk231 i v6574), ∀ (k0_h2 : k0_cond2 i = 1#1), ∀ a, (k0_off682 v6574) a + S1x32.size a ≤ S15360x128.size a := fun i v6574 k0_hw231 k0_h2 => k0_hw231 k0_h2

def k0_off683 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6577 : Index := Scalar.indexCast v6572
  let c96_2219 : Index := 96#32
  ![v6577.toNat, 96]
def k0_off684 (v5213 : BitVec 32) (k0_t8 : Fin (k0_t8_loop v5213).trips) : Fin 2 → Nat :=
  let c3_2222 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6583 : Index := Scalar.indexCast v6582
  ![3, v6583.toNat]
def k0_off685 (v6584 : BitVec 32) : Fin 2 → Nat :=
  let v6585 : Index := Scalar.indexCast v6584
  let c96_2223 : Index := 96#32
  ![v6585.toNat, 96]

def k0_chk232 (i : grid0.Coords) (v6584 : BitVec 32) : Prop :=
  (∀ (k0_h2 : k0_cond2 i = 1#1), ∀ a, (k0_off685 v6584) a + S1x32.size a ≤ S15360x128.size a)
theorem k0_off685_inb : ∀ (i : grid0.Coords) (v6584 : BitVec 32) (k0_hw232 : k0_chk232 i v6584), ∀ (k0_h2 : k0_cond2 i = 1#1), ∀ a, (k0_off685 v6584) a + S1x32.size a ≤ S15360x128.size a := fun i v6584 k0_hw232 k0_h2 => k0_hw232 k0_h2

def k0_off686 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6587 : Index := Scalar.indexCast v6582
  let c96_2224 : Index := 96#32
  ![v6587.toNat, 96]
def k0_off687 (v5213 : BitVec 32) (k0_t8 : Fin (k0_t8_loop v5213).trips) : Fin 2 → Nat :=
  let c3_2227 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6593 : Index := Scalar.indexCast v6592
  ![3, v6593.toNat]
def k0_off688 (v6594 : BitVec 32) : Fin 2 → Nat :=
  let v6595 : Index := Scalar.indexCast v6594
  let c96_2228 : Index := 96#32
  ![v6595.toNat, 96]

def k0_chk233 (i : grid0.Coords) (v6594 : BitVec 32) : Prop :=
  (∀ (k0_h2 : k0_cond2 i = 1#1), ∀ a, (k0_off688 v6594) a + S1x32.size a ≤ S15360x128.size a)
theorem k0_off688_inb : ∀ (i : grid0.Coords) (v6594 : BitVec 32) (k0_hw233 : k0_chk233 i v6594), ∀ (k0_h2 : k0_cond2 i = 1#1), ∀ a, (k0_off688 v6594) a + S1x32.size a ≤ S15360x128.size a := fun i v6594 k0_hw233 k0_h2 => k0_hw233 k0_h2

def k0_off689 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6597 : Index := Scalar.indexCast v6592
  let c96_2229 : Index := 96#32
  ![v6597.toNat, 96]
def k0_off690 (v5213 : BitVec 32) (k0_t8 : Fin (k0_t8_loop v5213).trips) : Fin 2 → Nat :=
  let c3_2231 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2230 : BitVec 32 := 32#32
  let v6601 : BitVec 32 := Scalar.muli arg13 c32_i32_2230
  let c5_i32 : BitVec 32 := 5#32
  let v6602 : BitVec 32 := Scalar.addi v6601 c5_i32
  let v6603 : Index := Scalar.indexCast v6602
  ![3, v6603.toNat]
def k0_off691 (v6604 : BitVec 32) : Fin 2 → Nat :=
  let v6605 : Index := Scalar.indexCast v6604
  let c96_2232 : Index := 96#32
  ![v6605.toNat, 96]

def k0_chk234 (i : grid0.Coords) (v6604 : BitVec 32) : Prop :=
  (∀ (k0_h2 : k0_cond2 i = 1#1), ∀ a, (k0_off691 v6604) a + S1x32.size a ≤ S15360x128.size a)
theorem k0_off691_inb : ∀ (i : grid0.Coords) (v6604 : BitVec 32) (k0_hw234 : k0_chk234 i v6604), ∀ (k0_h2 : k0_cond2 i = 1#1), ∀ a, (k0_off691 v6604) a + S1x32.size a ≤ S15360x128.size a := fun i v6604 k0_hw234 k0_h2 => k0_hw234 k0_h2

def k0_off692 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2230 : BitVec 32 := 32#32
  let v6601 : BitVec 32 := Scalar.muli arg13 c32_i32_2230
  let c5_i32 : BitVec 32 := 5#32
  let v6602 : BitVec 32 := Scalar.addi v6601 c5_i32
  let v6607 : Index := Scalar.indexCast v6602
  let c96_2233 : Index := 96#32
  ![v6607.toNat, 96]
def k0_off693 (v5213 : BitVec 32) (k0_t8 : Fin (k0_t8_loop v5213).trips) : Fin 2 → Nat :=
  let c3_2235 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2234 : BitVec 32 := 32#32
  let v6611 : BitVec 32 := Scalar.muli arg13 c32_i32_2234
  let c6_i32 : BitVec 32 := 6#32
  let v6612 : BitVec 32 := Scalar.addi v6611 c6_i32
  let v6613 : Index := Scalar.indexCast v6612
  ![3, v6613.toNat]
def k0_off694 (v6614 : BitVec 32) : Fin 2 → Nat :=
  let v6615 : Index := Scalar.indexCast v6614
  let c96_2236 : Index := 96#32
  ![v6615.toNat, 96]

def k0_chk235 (i : grid0.Coords) (v6614 : BitVec 32) : Prop :=
  (∀ (k0_h2 : k0_cond2 i = 1#1), ∀ a, (k0_off694 v6614) a + S1x32.size a ≤ S15360x128.size a)
theorem k0_off694_inb : ∀ (i : grid0.Coords) (v6614 : BitVec 32) (k0_hw235 : k0_chk235 i v6614), ∀ (k0_h2 : k0_cond2 i = 1#1), ∀ a, (k0_off694 v6614) a + S1x32.size a ≤ S15360x128.size a := fun i v6614 k0_hw235 k0_h2 => k0_hw235 k0_h2

def k0_off695 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2234 : BitVec 32 := 32#32
  let v6611 : BitVec 32 := Scalar.muli arg13 c32_i32_2234
  let c6_i32 : BitVec 32 := 6#32
  let v6612 : BitVec 32 := Scalar.addi v6611 c6_i32
  let v6617 : Index := Scalar.indexCast v6612
  let c96_2237 : Index := 96#32
  ![v6617.toNat, 96]
def k0_off696 (v5213 : BitVec 32) (k0_t8 : Fin (k0_t8_loop v5213).trips) : Fin 2 → Nat :=
  let c3_2239 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2238 : BitVec 32 := 32#32
  let v6621 : BitVec 32 := Scalar.muli arg13 c32_i32_2238
  let c7_i32 : BitVec 32 := 7#32
  let v6622 : BitVec 32 := Scalar.addi v6621 c7_i32
  let v6623 : Index := Scalar.indexCast v6622
  ![3, v6623.toNat]
def k0_off697 (v6624 : BitVec 32) : Fin 2 → Nat :=
  let v6625 : Index := Scalar.indexCast v6624
  let c96_2240 : Index := 96#32
  ![v6625.toNat, 96]

def k0_chk236 (i : grid0.Coords) (v6624 : BitVec 32) : Prop :=
  (∀ (k0_h2 : k0_cond2 i = 1#1), ∀ a, (k0_off697 v6624) a + S1x32.size a ≤ S15360x128.size a)
theorem k0_off697_inb : ∀ (i : grid0.Coords) (v6624 : BitVec 32) (k0_hw236 : k0_chk236 i v6624), ∀ (k0_h2 : k0_cond2 i = 1#1), ∀ a, (k0_off697 v6624) a + S1x32.size a ≤ S15360x128.size a := fun i v6624 k0_hw236 k0_h2 => k0_hw236 k0_h2

def k0_off698 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2238 : BitVec 32 := 32#32
  let v6621 : BitVec 32 := Scalar.muli arg13 c32_i32_2238
  let c7_i32 : BitVec 32 := 7#32
  let v6622 : BitVec 32 := Scalar.addi v6621 c7_i32
  let v6627 : Index := Scalar.indexCast v6622
  let c96_2241 : Index := 96#32
  ![v6627.toNat, 96]
def k0_off699 (v5213 : BitVec 32) (k0_t8 : Fin (k0_t8_loop v5213).trips) : Fin 2 → Nat :=
  let c3_2243 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2242 : BitVec 32 := 32#32
  let v6631 : BitVec 32 := Scalar.muli arg13 c32_i32_2242
  let c8_i32 : BitVec 32 := 8#32
  let v6632 : BitVec 32 := Scalar.addi v6631 c8_i32
  let v6633 : Index := Scalar.indexCast v6632
  ![3, v6633.toNat]
def k0_off700 (v6634 : BitVec 32) : Fin 2 → Nat :=
  let v6635 : Index := Scalar.indexCast v6634
  let c96_2244 : Index := 96#32
  ![v6635.toNat, 96]

def k0_chk237 (i : grid0.Coords) (v6634 : BitVec 32) : Prop :=
  (∀ (k0_h2 : k0_cond2 i = 1#1), ∀ a, (k0_off700 v6634) a + S1x32.size a ≤ S15360x128.size a)
theorem k0_off700_inb : ∀ (i : grid0.Coords) (v6634 : BitVec 32) (k0_hw237 : k0_chk237 i v6634), ∀ (k0_h2 : k0_cond2 i = 1#1), ∀ a, (k0_off700 v6634) a + S1x32.size a ≤ S15360x128.size a := fun i v6634 k0_hw237 k0_h2 => k0_hw237 k0_h2

def k0_off701 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2242 : BitVec 32 := 32#32
  let v6631 : BitVec 32 := Scalar.muli arg13 c32_i32_2242
  let c8_i32 : BitVec 32 := 8#32
  let v6632 : BitVec 32 := Scalar.addi v6631 c8_i32
  let v6637 : Index := Scalar.indexCast v6632
  let c96_2245 : Index := 96#32
  ![v6637.toNat, 96]
def k0_off702 (v5213 : BitVec 32) (k0_t8 : Fin (k0_t8_loop v5213).trips) : Fin 2 → Nat :=
  let c3_2247 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2246 : BitVec 32 := 32#32
  let v6641 : BitVec 32 := Scalar.muli arg13 c32_i32_2246
  let c9_i32 : BitVec 32 := 9#32
  let v6642 : BitVec 32 := Scalar.addi v6641 c9_i32
  let v6643 : Index := Scalar.indexCast v6642
  ![3, v6643.toNat]
def k0_off703 (v6644 : BitVec 32) : Fin 2 → Nat :=
  let v6645 : Index := Scalar.indexCast v6644
  let c96_2248 : Index := 96#32
  ![v6645.toNat, 96]

def k0_chk238 (i : grid0.Coords) (v6644 : BitVec 32) : Prop :=
  (∀ (k0_h2 : k0_cond2 i = 1#1), ∀ a, (k0_off703 v6644) a + S1x32.size a ≤ S15360x128.size a)
theorem k0_off703_inb : ∀ (i : grid0.Coords) (v6644 : BitVec 32) (k0_hw238 : k0_chk238 i v6644), ∀ (k0_h2 : k0_cond2 i = 1#1), ∀ a, (k0_off703 v6644) a + S1x32.size a ≤ S15360x128.size a := fun i v6644 k0_hw238 k0_h2 => k0_hw238 k0_h2

def k0_off704 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2246 : BitVec 32 := 32#32
  let v6641 : BitVec 32 := Scalar.muli arg13 c32_i32_2246
  let c9_i32 : BitVec 32 := 9#32
  let v6642 : BitVec 32 := Scalar.addi v6641 c9_i32
  let v6647 : Index := Scalar.indexCast v6642
  let c96_2249 : Index := 96#32
  ![v6647.toNat, 96]
def k0_off705 (v5213 : BitVec 32) (k0_t8 : Fin (k0_t8_loop v5213).trips) : Fin 2 → Nat :=
  let c3_2251 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2250 : BitVec 32 := 32#32
  let v6651 : BitVec 32 := Scalar.muli arg13 c32_i32_2250
  let c10_i32 : BitVec 32 := 10#32
  let v6652 : BitVec 32 := Scalar.addi v6651 c10_i32
  let v6653 : Index := Scalar.indexCast v6652
  ![3, v6653.toNat]
def k0_off706 (v6654 : BitVec 32) : Fin 2 → Nat :=
  let v6655 : Index := Scalar.indexCast v6654
  let c96_2252 : Index := 96#32
  ![v6655.toNat, 96]

def k0_chk239 (i : grid0.Coords) (v6654 : BitVec 32) : Prop :=
  (∀ (k0_h2 : k0_cond2 i = 1#1), ∀ a, (k0_off706 v6654) a + S1x32.size a ≤ S15360x128.size a)
theorem k0_off706_inb : ∀ (i : grid0.Coords) (v6654 : BitVec 32) (k0_hw239 : k0_chk239 i v6654), ∀ (k0_h2 : k0_cond2 i = 1#1), ∀ a, (k0_off706 v6654) a + S1x32.size a ≤ S15360x128.size a := fun i v6654 k0_hw239 k0_h2 => k0_hw239 k0_h2

def k0_off707 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2250 : BitVec 32 := 32#32
  let v6651 : BitVec 32 := Scalar.muli arg13 c32_i32_2250
  let c10_i32 : BitVec 32 := 10#32
  let v6652 : BitVec 32 := Scalar.addi v6651 c10_i32
  let v6657 : Index := Scalar.indexCast v6652
  let c96_2253 : Index := 96#32
  ![v6657.toNat, 96]
def k0_off708 (v5213 : BitVec 32) (k0_t8 : Fin (k0_t8_loop v5213).trips) : Fin 2 → Nat :=
  let c3_2255 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2254 : BitVec 32 := 32#32
  let v6661 : BitVec 32 := Scalar.muli arg13 c32_i32_2254
  let c11_i32 : BitVec 32 := 11#32
  let v6662 : BitVec 32 := Scalar.addi v6661 c11_i32
  let v6663 : Index := Scalar.indexCast v6662
  ![3, v6663.toNat]
def k0_off709 (v6664 : BitVec 32) : Fin 2 → Nat :=
  let v6665 : Index := Scalar.indexCast v6664
  let c96_2256 : Index := 96#32
  ![v6665.toNat, 96]

def k0_chk240 (i : grid0.Coords) (v6664 : BitVec 32) : Prop :=
  (∀ (k0_h2 : k0_cond2 i = 1#1), ∀ a, (k0_off709 v6664) a + S1x32.size a ≤ S15360x128.size a)
theorem k0_off709_inb : ∀ (i : grid0.Coords) (v6664 : BitVec 32) (k0_hw240 : k0_chk240 i v6664), ∀ (k0_h2 : k0_cond2 i = 1#1), ∀ a, (k0_off709 v6664) a + S1x32.size a ≤ S15360x128.size a := fun i v6664 k0_hw240 k0_h2 => k0_hw240 k0_h2

def k0_off710 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2254 : BitVec 32 := 32#32
  let v6661 : BitVec 32 := Scalar.muli arg13 c32_i32_2254
  let c11_i32 : BitVec 32 := 11#32
  let v6662 : BitVec 32 := Scalar.addi v6661 c11_i32
  let v6667 : Index := Scalar.indexCast v6662
  let c96_2257 : Index := 96#32
  ![v6667.toNat, 96]
def k0_off711 (v5213 : BitVec 32) (k0_t8 : Fin (k0_t8_loop v5213).trips) : Fin 2 → Nat :=
  let c3_2259 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2258 : BitVec 32 := 32#32
  let v6671 : BitVec 32 := Scalar.muli arg13 c32_i32_2258
  let c12_i32 : BitVec 32 := 12#32
  let v6672 : BitVec 32 := Scalar.addi v6671 c12_i32
  let v6673 : Index := Scalar.indexCast v6672
  ![3, v6673.toNat]
def k0_off712 (v6674 : BitVec 32) : Fin 2 → Nat :=
  let v6675 : Index := Scalar.indexCast v6674
  let c96_2260 : Index := 96#32
  ![v6675.toNat, 96]

def k0_chk241 (i : grid0.Coords) (v6674 : BitVec 32) : Prop :=
  (∀ (k0_h2 : k0_cond2 i = 1#1), ∀ a, (k0_off712 v6674) a + S1x32.size a ≤ S15360x128.size a)
theorem k0_off712_inb : ∀ (i : grid0.Coords) (v6674 : BitVec 32) (k0_hw241 : k0_chk241 i v6674), ∀ (k0_h2 : k0_cond2 i = 1#1), ∀ a, (k0_off712 v6674) a + S1x32.size a ≤ S15360x128.size a := fun i v6674 k0_hw241 k0_h2 => k0_hw241 k0_h2

def k0_off713 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2258 : BitVec 32 := 32#32
  let v6671 : BitVec 32 := Scalar.muli arg13 c32_i32_2258
  let c12_i32 : BitVec 32 := 12#32
  let v6672 : BitVec 32 := Scalar.addi v6671 c12_i32
  let v6677 : Index := Scalar.indexCast v6672
  let c96_2261 : Index := 96#32
  ![v6677.toNat, 96]
def k0_off714 (v5213 : BitVec 32) (k0_t8 : Fin (k0_t8_loop v5213).trips) : Fin 2 → Nat :=
  let c3_2263 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2262 : BitVec 32 := 32#32
  let v6681 : BitVec 32 := Scalar.muli arg13 c32_i32_2262
  let c13_i32 : BitVec 32 := 13#32
  let v6682 : BitVec 32 := Scalar.addi v6681 c13_i32
  let v6683 : Index := Scalar.indexCast v6682
  ![3, v6683.toNat]
def k0_off715 (v6684 : BitVec 32) : Fin 2 → Nat :=
  let v6685 : Index := Scalar.indexCast v6684
  let c96_2264 : Index := 96#32
  ![v6685.toNat, 96]

def k0_chk242 (i : grid0.Coords) (v6684 : BitVec 32) : Prop :=
  (∀ (k0_h2 : k0_cond2 i = 1#1), ∀ a, (k0_off715 v6684) a + S1x32.size a ≤ S15360x128.size a)
theorem k0_off715_inb : ∀ (i : grid0.Coords) (v6684 : BitVec 32) (k0_hw242 : k0_chk242 i v6684), ∀ (k0_h2 : k0_cond2 i = 1#1), ∀ a, (k0_off715 v6684) a + S1x32.size a ≤ S15360x128.size a := fun i v6684 k0_hw242 k0_h2 => k0_hw242 k0_h2

def k0_off716 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2262 : BitVec 32 := 32#32
  let v6681 : BitVec 32 := Scalar.muli arg13 c32_i32_2262
  let c13_i32 : BitVec 32 := 13#32
  let v6682 : BitVec 32 := Scalar.addi v6681 c13_i32
  let v6687 : Index := Scalar.indexCast v6682
  let c96_2265 : Index := 96#32
  ![v6687.toNat, 96]
def k0_off717 (v5213 : BitVec 32) (k0_t8 : Fin (k0_t8_loop v5213).trips) : Fin 2 → Nat :=
  let c3_2267 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2266 : BitVec 32 := 32#32
  let v6691 : BitVec 32 := Scalar.muli arg13 c32_i32_2266
  let c14_i32 : BitVec 32 := 14#32
  let v6692 : BitVec 32 := Scalar.addi v6691 c14_i32
  let v6693 : Index := Scalar.indexCast v6692
  ![3, v6693.toNat]
def k0_off718 (v6694 : BitVec 32) : Fin 2 → Nat :=
  let v6695 : Index := Scalar.indexCast v6694
  let c96_2268 : Index := 96#32
  ![v6695.toNat, 96]

def k0_chk243 (i : grid0.Coords) (v6694 : BitVec 32) : Prop :=
  (∀ (k0_h2 : k0_cond2 i = 1#1), ∀ a, (k0_off718 v6694) a + S1x32.size a ≤ S15360x128.size a)
theorem k0_off718_inb : ∀ (i : grid0.Coords) (v6694 : BitVec 32) (k0_hw243 : k0_chk243 i v6694), ∀ (k0_h2 : k0_cond2 i = 1#1), ∀ a, (k0_off718 v6694) a + S1x32.size a ≤ S15360x128.size a := fun i v6694 k0_hw243 k0_h2 => k0_hw243 k0_h2

def k0_off719 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2266 : BitVec 32 := 32#32
  let v6691 : BitVec 32 := Scalar.muli arg13 c32_i32_2266
  let c14_i32 : BitVec 32 := 14#32
  let v6692 : BitVec 32 := Scalar.addi v6691 c14_i32
  let v6697 : Index := Scalar.indexCast v6692
  let c96_2269 : Index := 96#32
  ![v6697.toNat, 96]
def k0_off720 (v5213 : BitVec 32) (k0_t8 : Fin (k0_t8_loop v5213).trips) : Fin 2 → Nat :=
  let c3_2271 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2270 : BitVec 32 := 32#32
  let v6701 : BitVec 32 := Scalar.muli arg13 c32_i32_2270
  let c15_i32 : BitVec 32 := 15#32
  let v6702 : BitVec 32 := Scalar.addi v6701 c15_i32
  let v6703 : Index := Scalar.indexCast v6702
  ![3, v6703.toNat]
def k0_off721 (v6704 : BitVec 32) : Fin 2 → Nat :=
  let v6705 : Index := Scalar.indexCast v6704
  let c96_2272 : Index := 96#32
  ![v6705.toNat, 96]

def k0_chk244 (i : grid0.Coords) (v6704 : BitVec 32) : Prop :=
  (∀ (k0_h2 : k0_cond2 i = 1#1), ∀ a, (k0_off721 v6704) a + S1x32.size a ≤ S15360x128.size a)
theorem k0_off721_inb : ∀ (i : grid0.Coords) (v6704 : BitVec 32) (k0_hw244 : k0_chk244 i v6704), ∀ (k0_h2 : k0_cond2 i = 1#1), ∀ a, (k0_off721 v6704) a + S1x32.size a ≤ S15360x128.size a := fun i v6704 k0_hw244 k0_h2 => k0_hw244 k0_h2

def k0_off722 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2270 : BitVec 32 := 32#32
  let v6701 : BitVec 32 := Scalar.muli arg13 c32_i32_2270
  let c15_i32 : BitVec 32 := 15#32
  let v6702 : BitVec 32 := Scalar.addi v6701 c15_i32
  let v6707 : Index := Scalar.indexCast v6702
  let c96_2273 : Index := 96#32
  ![v6707.toNat, 96]
def k0_off723 (v5213 : BitVec 32) (k0_t8 : Fin (k0_t8_loop v5213).trips) : Fin 2 → Nat :=
  let c3_2275 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2274 : BitVec 32 := 32#32
  let v6711 : BitVec 32 := Scalar.muli arg13 c32_i32_2274
  let c16_i32 : BitVec 32 := 16#32
  let v6712 : BitVec 32 := Scalar.addi v6711 c16_i32
  let v6713 : Index := Scalar.indexCast v6712
  ![3, v6713.toNat]
def k0_off724 (v6714 : BitVec 32) : Fin 2 → Nat :=
  let v6715 : Index := Scalar.indexCast v6714
  let c96_2276 : Index := 96#32
  ![v6715.toNat, 96]

def k0_chk245 (i : grid0.Coords) (v6714 : BitVec 32) : Prop :=
  (∀ (k0_h2 : k0_cond2 i = 1#1), ∀ a, (k0_off724 v6714) a + S1x32.size a ≤ S15360x128.size a)
theorem k0_off724_inb : ∀ (i : grid0.Coords) (v6714 : BitVec 32) (k0_hw245 : k0_chk245 i v6714), ∀ (k0_h2 : k0_cond2 i = 1#1), ∀ a, (k0_off724 v6714) a + S1x32.size a ≤ S15360x128.size a := fun i v6714 k0_hw245 k0_h2 => k0_hw245 k0_h2

def k0_off725 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2274 : BitVec 32 := 32#32
  let v6711 : BitVec 32 := Scalar.muli arg13 c32_i32_2274
  let c16_i32 : BitVec 32 := 16#32
  let v6712 : BitVec 32 := Scalar.addi v6711 c16_i32
  let v6717 : Index := Scalar.indexCast v6712
  let c96_2277 : Index := 96#32
  ![v6717.toNat, 96]
def k0_off726 (v5213 : BitVec 32) (k0_t8 : Fin (k0_t8_loop v5213).trips) : Fin 2 → Nat :=
  let c3_2279 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2278 : BitVec 32 := 32#32
  let v6721 : BitVec 32 := Scalar.muli arg13 c32_i32_2278
  let c17_i32 : BitVec 32 := 17#32
  let v6722 : BitVec 32 := Scalar.addi v6721 c17_i32
  let v6723 : Index := Scalar.indexCast v6722
  ![3, v6723.toNat]
def k0_off727 (v6724 : BitVec 32) : Fin 2 → Nat :=
  let v6725 : Index := Scalar.indexCast v6724
  let c96_2280 : Index := 96#32
  ![v6725.toNat, 96]

def k0_chk246 (i : grid0.Coords) (v6724 : BitVec 32) : Prop :=
  (∀ (k0_h2 : k0_cond2 i = 1#1), ∀ a, (k0_off727 v6724) a + S1x32.size a ≤ S15360x128.size a)
theorem k0_off727_inb : ∀ (i : grid0.Coords) (v6724 : BitVec 32) (k0_hw246 : k0_chk246 i v6724), ∀ (k0_h2 : k0_cond2 i = 1#1), ∀ a, (k0_off727 v6724) a + S1x32.size a ≤ S15360x128.size a := fun i v6724 k0_hw246 k0_h2 => k0_hw246 k0_h2

def k0_off728 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2278 : BitVec 32 := 32#32
  let v6721 : BitVec 32 := Scalar.muli arg13 c32_i32_2278
  let c17_i32 : BitVec 32 := 17#32
  let v6722 : BitVec 32 := Scalar.addi v6721 c17_i32
  let v6727 : Index := Scalar.indexCast v6722
  let c96_2281 : Index := 96#32
  ![v6727.toNat, 96]
def k0_off729 (v5213 : BitVec 32) (k0_t8 : Fin (k0_t8_loop v5213).trips) : Fin 2 → Nat :=
  let c3_2283 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2282 : BitVec 32 := 32#32
  let v6731 : BitVec 32 := Scalar.muli arg13 c32_i32_2282
  let c18_i32 : BitVec 32 := 18#32
  let v6732 : BitVec 32 := Scalar.addi v6731 c18_i32
  let v6733 : Index := Scalar.indexCast v6732
  ![3, v6733.toNat]
def k0_off730 (v6734 : BitVec 32) : Fin 2 → Nat :=
  let v6735 : Index := Scalar.indexCast v6734
  let c96_2284 : Index := 96#32
  ![v6735.toNat, 96]

def k0_chk247 (i : grid0.Coords) (v6734 : BitVec 32) : Prop :=
  (∀ (k0_h2 : k0_cond2 i = 1#1), ∀ a, (k0_off730 v6734) a + S1x32.size a ≤ S15360x128.size a)
theorem k0_off730_inb : ∀ (i : grid0.Coords) (v6734 : BitVec 32) (k0_hw247 : k0_chk247 i v6734), ∀ (k0_h2 : k0_cond2 i = 1#1), ∀ a, (k0_off730 v6734) a + S1x32.size a ≤ S15360x128.size a := fun i v6734 k0_hw247 k0_h2 => k0_hw247 k0_h2

def k0_off731 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2282 : BitVec 32 := 32#32
  let v6731 : BitVec 32 := Scalar.muli arg13 c32_i32_2282
  let c18_i32 : BitVec 32 := 18#32
  let v6732 : BitVec 32 := Scalar.addi v6731 c18_i32
  let v6737 : Index := Scalar.indexCast v6732
  let c96_2285 : Index := 96#32
  ![v6737.toNat, 96]
def k0_off732 (v5213 : BitVec 32) (k0_t8 : Fin (k0_t8_loop v5213).trips) : Fin 2 → Nat :=
  let c3_2287 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2286 : BitVec 32 := 32#32
  let v6741 : BitVec 32 := Scalar.muli arg13 c32_i32_2286
  let c19_i32 : BitVec 32 := 19#32
  let v6742 : BitVec 32 := Scalar.addi v6741 c19_i32
  let v6743 : Index := Scalar.indexCast v6742
  ![3, v6743.toNat]
def k0_off733 (v6744 : BitVec 32) : Fin 2 → Nat :=
  let v6745 : Index := Scalar.indexCast v6744
  let c96_2288 : Index := 96#32
  ![v6745.toNat, 96]

def k0_chk248 (i : grid0.Coords) (v6744 : BitVec 32) : Prop :=
  (∀ (k0_h2 : k0_cond2 i = 1#1), ∀ a, (k0_off733 v6744) a + S1x32.size a ≤ S15360x128.size a)
theorem k0_off733_inb : ∀ (i : grid0.Coords) (v6744 : BitVec 32) (k0_hw248 : k0_chk248 i v6744), ∀ (k0_h2 : k0_cond2 i = 1#1), ∀ a, (k0_off733 v6744) a + S1x32.size a ≤ S15360x128.size a := fun i v6744 k0_hw248 k0_h2 => k0_hw248 k0_h2

def k0_off734 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2286 : BitVec 32 := 32#32
  let v6741 : BitVec 32 := Scalar.muli arg13 c32_i32_2286
  let c19_i32 : BitVec 32 := 19#32
  let v6742 : BitVec 32 := Scalar.addi v6741 c19_i32
  let v6747 : Index := Scalar.indexCast v6742
  let c96_2289 : Index := 96#32
  ![v6747.toNat, 96]
def k0_off735 (v5213 : BitVec 32) (k0_t8 : Fin (k0_t8_loop v5213).trips) : Fin 2 → Nat :=
  let c3_2291 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2290 : BitVec 32 := 32#32
  let v6751 : BitVec 32 := Scalar.muli arg13 c32_i32_2290
  let c20_i32 : BitVec 32 := 20#32
  let v6752 : BitVec 32 := Scalar.addi v6751 c20_i32
  let v6753 : Index := Scalar.indexCast v6752
  ![3, v6753.toNat]
def k0_off736 (v6754 : BitVec 32) : Fin 2 → Nat :=
  let v6755 : Index := Scalar.indexCast v6754
  let c96_2292 : Index := 96#32
  ![v6755.toNat, 96]

def k0_chk249 (i : grid0.Coords) (v6754 : BitVec 32) : Prop :=
  (∀ (k0_h2 : k0_cond2 i = 1#1), ∀ a, (k0_off736 v6754) a + S1x32.size a ≤ S15360x128.size a)
theorem k0_off736_inb : ∀ (i : grid0.Coords) (v6754 : BitVec 32) (k0_hw249 : k0_chk249 i v6754), ∀ (k0_h2 : k0_cond2 i = 1#1), ∀ a, (k0_off736 v6754) a + S1x32.size a ≤ S15360x128.size a := fun i v6754 k0_hw249 k0_h2 => k0_hw249 k0_h2

def k0_off737 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2290 : BitVec 32 := 32#32
  let v6751 : BitVec 32 := Scalar.muli arg13 c32_i32_2290
  let c20_i32 : BitVec 32 := 20#32
  let v6752 : BitVec 32 := Scalar.addi v6751 c20_i32
  let v6757 : Index := Scalar.indexCast v6752
  let c96_2293 : Index := 96#32
  ![v6757.toNat, 96]
def k0_off738 (v5213 : BitVec 32) (k0_t8 : Fin (k0_t8_loop v5213).trips) : Fin 2 → Nat :=
  let c3_2295 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2294 : BitVec 32 := 32#32
  let v6761 : BitVec 32 := Scalar.muli arg13 c32_i32_2294
  let c21_i32 : BitVec 32 := 21#32
  let v6762 : BitVec 32 := Scalar.addi v6761 c21_i32
  let v6763 : Index := Scalar.indexCast v6762
  ![3, v6763.toNat]
def k0_off739 (v6764 : BitVec 32) : Fin 2 → Nat :=
  let v6765 : Index := Scalar.indexCast v6764
  let c96_2296 : Index := 96#32
  ![v6765.toNat, 96]

def k0_chk250 (i : grid0.Coords) (v6764 : BitVec 32) : Prop :=
  (∀ (k0_h2 : k0_cond2 i = 1#1), ∀ a, (k0_off739 v6764) a + S1x32.size a ≤ S15360x128.size a)
theorem k0_off739_inb : ∀ (i : grid0.Coords) (v6764 : BitVec 32) (k0_hw250 : k0_chk250 i v6764), ∀ (k0_h2 : k0_cond2 i = 1#1), ∀ a, (k0_off739 v6764) a + S1x32.size a ≤ S15360x128.size a := fun i v6764 k0_hw250 k0_h2 => k0_hw250 k0_h2

def k0_off740 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2294 : BitVec 32 := 32#32
  let v6761 : BitVec 32 := Scalar.muli arg13 c32_i32_2294
  let c21_i32 : BitVec 32 := 21#32
  let v6762 : BitVec 32 := Scalar.addi v6761 c21_i32
  let v6767 : Index := Scalar.indexCast v6762
  let c96_2297 : Index := 96#32
  ![v6767.toNat, 96]
def k0_off741 (v5213 : BitVec 32) (k0_t8 : Fin (k0_t8_loop v5213).trips) : Fin 2 → Nat :=
  let c3_2299 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2298 : BitVec 32 := 32#32
  let v6771 : BitVec 32 := Scalar.muli arg13 c32_i32_2298
  let c22_i32 : BitVec 32 := 22#32
  let v6772 : BitVec 32 := Scalar.addi v6771 c22_i32
  let v6773 : Index := Scalar.indexCast v6772
  ![3, v6773.toNat]
def k0_off742 (v6774 : BitVec 32) : Fin 2 → Nat :=
  let v6775 : Index := Scalar.indexCast v6774
  let c96_2300 : Index := 96#32
  ![v6775.toNat, 96]

def k0_chk251 (i : grid0.Coords) (v6774 : BitVec 32) : Prop :=
  (∀ (k0_h2 : k0_cond2 i = 1#1), ∀ a, (k0_off742 v6774) a + S1x32.size a ≤ S15360x128.size a)
theorem k0_off742_inb : ∀ (i : grid0.Coords) (v6774 : BitVec 32) (k0_hw251 : k0_chk251 i v6774), ∀ (k0_h2 : k0_cond2 i = 1#1), ∀ a, (k0_off742 v6774) a + S1x32.size a ≤ S15360x128.size a := fun i v6774 k0_hw251 k0_h2 => k0_hw251 k0_h2

def k0_off743 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2298 : BitVec 32 := 32#32
  let v6771 : BitVec 32 := Scalar.muli arg13 c32_i32_2298
  let c22_i32 : BitVec 32 := 22#32
  let v6772 : BitVec 32 := Scalar.addi v6771 c22_i32
  let v6777 : Index := Scalar.indexCast v6772
  let c96_2301 : Index := 96#32
  ![v6777.toNat, 96]
def k0_off744 (v5213 : BitVec 32) (k0_t8 : Fin (k0_t8_loop v5213).trips) : Fin 2 → Nat :=
  let c3_2303 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2302 : BitVec 32 := 32#32
  let v6781 : BitVec 32 := Scalar.muli arg13 c32_i32_2302
  let c23_i32 : BitVec 32 := 23#32
  let v6782 : BitVec 32 := Scalar.addi v6781 c23_i32
  let v6783 : Index := Scalar.indexCast v6782
  ![3, v6783.toNat]
def k0_off745 (v6784 : BitVec 32) : Fin 2 → Nat :=
  let v6785 : Index := Scalar.indexCast v6784
  let c96_2304 : Index := 96#32
  ![v6785.toNat, 96]

def k0_chk252 (i : grid0.Coords) (v6784 : BitVec 32) : Prop :=
  (∀ (k0_h2 : k0_cond2 i = 1#1), ∀ a, (k0_off745 v6784) a + S1x32.size a ≤ S15360x128.size a)
theorem k0_off745_inb : ∀ (i : grid0.Coords) (v6784 : BitVec 32) (k0_hw252 : k0_chk252 i v6784), ∀ (k0_h2 : k0_cond2 i = 1#1), ∀ a, (k0_off745 v6784) a + S1x32.size a ≤ S15360x128.size a := fun i v6784 k0_hw252 k0_h2 => k0_hw252 k0_h2

def k0_off746 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2302 : BitVec 32 := 32#32
  let v6781 : BitVec 32 := Scalar.muli arg13 c32_i32_2302
  let c23_i32 : BitVec 32 := 23#32
  let v6782 : BitVec 32 := Scalar.addi v6781 c23_i32
  let v6787 : Index := Scalar.indexCast v6782
  let c96_2305 : Index := 96#32
  ![v6787.toNat, 96]
def k0_off747 (v5213 : BitVec 32) (k0_t8 : Fin (k0_t8_loop v5213).trips) : Fin 2 → Nat :=
  let c3_2307 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2306 : BitVec 32 := 32#32
  let v6791 : BitVec 32 := Scalar.muli arg13 c32_i32_2306
  let c24_i32 : BitVec 32 := 24#32
  let v6792 : BitVec 32 := Scalar.addi v6791 c24_i32
  let v6793 : Index := Scalar.indexCast v6792
  ![3, v6793.toNat]
def k0_off748 (v6794 : BitVec 32) : Fin 2 → Nat :=
  let v6795 : Index := Scalar.indexCast v6794
  let c96_2308 : Index := 96#32
  ![v6795.toNat, 96]

def k0_chk253 (i : grid0.Coords) (v6794 : BitVec 32) : Prop :=
  (∀ (k0_h2 : k0_cond2 i = 1#1), ∀ a, (k0_off748 v6794) a + S1x32.size a ≤ S15360x128.size a)
theorem k0_off748_inb : ∀ (i : grid0.Coords) (v6794 : BitVec 32) (k0_hw253 : k0_chk253 i v6794), ∀ (k0_h2 : k0_cond2 i = 1#1), ∀ a, (k0_off748 v6794) a + S1x32.size a ≤ S15360x128.size a := fun i v6794 k0_hw253 k0_h2 => k0_hw253 k0_h2

def k0_off749 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2306 : BitVec 32 := 32#32
  let v6791 : BitVec 32 := Scalar.muli arg13 c32_i32_2306
  let c24_i32 : BitVec 32 := 24#32
  let v6792 : BitVec 32 := Scalar.addi v6791 c24_i32
  let v6797 : Index := Scalar.indexCast v6792
  let c96_2309 : Index := 96#32
  ![v6797.toNat, 96]
def k0_off750 (v5213 : BitVec 32) (k0_t8 : Fin (k0_t8_loop v5213).trips) : Fin 2 → Nat :=
  let c3_2311 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2310 : BitVec 32 := 32#32
  let v6801 : BitVec 32 := Scalar.muli arg13 c32_i32_2310
  let c25_i32 : BitVec 32 := 25#32
  let v6802 : BitVec 32 := Scalar.addi v6801 c25_i32
  let v6803 : Index := Scalar.indexCast v6802
  ![3, v6803.toNat]
def k0_off751 (v6804 : BitVec 32) : Fin 2 → Nat :=
  let v6805 : Index := Scalar.indexCast v6804
  let c96_2312 : Index := 96#32
  ![v6805.toNat, 96]

def k0_chk254 (i : grid0.Coords) (v6804 : BitVec 32) : Prop :=
  (∀ (k0_h2 : k0_cond2 i = 1#1), ∀ a, (k0_off751 v6804) a + S1x32.size a ≤ S15360x128.size a)
theorem k0_off751_inb : ∀ (i : grid0.Coords) (v6804 : BitVec 32) (k0_hw254 : k0_chk254 i v6804), ∀ (k0_h2 : k0_cond2 i = 1#1), ∀ a, (k0_off751 v6804) a + S1x32.size a ≤ S15360x128.size a := fun i v6804 k0_hw254 k0_h2 => k0_hw254 k0_h2

def k0_off752 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2310 : BitVec 32 := 32#32
  let v6801 : BitVec 32 := Scalar.muli arg13 c32_i32_2310
  let c25_i32 : BitVec 32 := 25#32
  let v6802 : BitVec 32 := Scalar.addi v6801 c25_i32
  let v6807 : Index := Scalar.indexCast v6802
  let c96_2313 : Index := 96#32
  ![v6807.toNat, 96]
def k0_off753 (v5213 : BitVec 32) (k0_t8 : Fin (k0_t8_loop v5213).trips) : Fin 2 → Nat :=
  let c3_2315 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2314 : BitVec 32 := 32#32
  let v6811 : BitVec 32 := Scalar.muli arg13 c32_i32_2314
  let c26_i32 : BitVec 32 := 26#32
  let v6812 : BitVec 32 := Scalar.addi v6811 c26_i32
  let v6813 : Index := Scalar.indexCast v6812
  ![3, v6813.toNat]
def k0_off754 (v6814 : BitVec 32) : Fin 2 → Nat :=
  let v6815 : Index := Scalar.indexCast v6814
  let c96_2316 : Index := 96#32
  ![v6815.toNat, 96]

def k0_chk255 (i : grid0.Coords) (v6814 : BitVec 32) : Prop :=
  (∀ (k0_h2 : k0_cond2 i = 1#1), ∀ a, (k0_off754 v6814) a + S1x32.size a ≤ S15360x128.size a)
theorem k0_off754_inb : ∀ (i : grid0.Coords) (v6814 : BitVec 32) (k0_hw255 : k0_chk255 i v6814), ∀ (k0_h2 : k0_cond2 i = 1#1), ∀ a, (k0_off754 v6814) a + S1x32.size a ≤ S15360x128.size a := fun i v6814 k0_hw255 k0_h2 => k0_hw255 k0_h2

def k0_off755 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2314 : BitVec 32 := 32#32
  let v6811 : BitVec 32 := Scalar.muli arg13 c32_i32_2314
  let c26_i32 : BitVec 32 := 26#32
  let v6812 : BitVec 32 := Scalar.addi v6811 c26_i32
  let v6817 : Index := Scalar.indexCast v6812
  let c96_2317 : Index := 96#32
  ![v6817.toNat, 96]
def k0_off756 (v5213 : BitVec 32) (k0_t8 : Fin (k0_t8_loop v5213).trips) : Fin 2 → Nat :=
  let c3_2319 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2318 : BitVec 32 := 32#32
  let v6821 : BitVec 32 := Scalar.muli arg13 c32_i32_2318
  let c27_i32 : BitVec 32 := 27#32
  let v6822 : BitVec 32 := Scalar.addi v6821 c27_i32
  let v6823 : Index := Scalar.indexCast v6822
  ![3, v6823.toNat]
def k0_off757 (v6824 : BitVec 32) : Fin 2 → Nat :=
  let v6825 : Index := Scalar.indexCast v6824
  let c96_2320 : Index := 96#32
  ![v6825.toNat, 96]

def k0_chk256 (i : grid0.Coords) (v6824 : BitVec 32) : Prop :=
  (∀ (k0_h2 : k0_cond2 i = 1#1), ∀ a, (k0_off757 v6824) a + S1x32.size a ≤ S15360x128.size a)
theorem k0_off757_inb : ∀ (i : grid0.Coords) (v6824 : BitVec 32) (k0_hw256 : k0_chk256 i v6824), ∀ (k0_h2 : k0_cond2 i = 1#1), ∀ a, (k0_off757 v6824) a + S1x32.size a ≤ S15360x128.size a := fun i v6824 k0_hw256 k0_h2 => k0_hw256 k0_h2

def k0_off758 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2318 : BitVec 32 := 32#32
  let v6821 : BitVec 32 := Scalar.muli arg13 c32_i32_2318
  let c27_i32 : BitVec 32 := 27#32
  let v6822 : BitVec 32 := Scalar.addi v6821 c27_i32
  let v6827 : Index := Scalar.indexCast v6822
  let c96_2321 : Index := 96#32
  ![v6827.toNat, 96]
def k0_off759 (v5213 : BitVec 32) (k0_t8 : Fin (k0_t8_loop v5213).trips) : Fin 2 → Nat :=
  let c3_2323 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2322 : BitVec 32 := 32#32
  let v6831 : BitVec 32 := Scalar.muli arg13 c32_i32_2322
  let c28_i32 : BitVec 32 := 28#32
  let v6832 : BitVec 32 := Scalar.addi v6831 c28_i32
  let v6833 : Index := Scalar.indexCast v6832
  ![3, v6833.toNat]
def k0_off760 (v6834 : BitVec 32) : Fin 2 → Nat :=
  let v6835 : Index := Scalar.indexCast v6834
  let c96_2324 : Index := 96#32
  ![v6835.toNat, 96]

def k0_chk257 (i : grid0.Coords) (v6834 : BitVec 32) : Prop :=
  (∀ (k0_h2 : k0_cond2 i = 1#1), ∀ a, (k0_off760 v6834) a + S1x32.size a ≤ S15360x128.size a)
theorem k0_off760_inb : ∀ (i : grid0.Coords) (v6834 : BitVec 32) (k0_hw257 : k0_chk257 i v6834), ∀ (k0_h2 : k0_cond2 i = 1#1), ∀ a, (k0_off760 v6834) a + S1x32.size a ≤ S15360x128.size a := fun i v6834 k0_hw257 k0_h2 => k0_hw257 k0_h2

def k0_off761 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2322 : BitVec 32 := 32#32
  let v6831 : BitVec 32 := Scalar.muli arg13 c32_i32_2322
  let c28_i32 : BitVec 32 := 28#32
  let v6832 : BitVec 32 := Scalar.addi v6831 c28_i32
  let v6837 : Index := Scalar.indexCast v6832
  let c96_2325 : Index := 96#32
  ![v6837.toNat, 96]
def k0_off762 (v5213 : BitVec 32) (k0_t8 : Fin (k0_t8_loop v5213).trips) : Fin 2 → Nat :=
  let c3_2328 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6843 : Index := Scalar.indexCast v6842
  ![3, v6843.toNat]
def k0_off763 (v6844 : BitVec 32) : Fin 2 → Nat :=
  let v6845 : Index := Scalar.indexCast v6844
  let c96_2329 : Index := 96#32
  ![v6845.toNat, 96]

def k0_chk258 (i : grid0.Coords) (v6844 : BitVec 32) : Prop :=
  (∀ (k0_h2 : k0_cond2 i = 1#1), ∀ a, (k0_off763 v6844) a + S1x32.size a ≤ S15360x128.size a)
theorem k0_off763_inb : ∀ (i : grid0.Coords) (v6844 : BitVec 32) (k0_hw258 : k0_chk258 i v6844), ∀ (k0_h2 : k0_cond2 i = 1#1), ∀ a, (k0_off763 v6844) a + S1x32.size a ≤ S15360x128.size a := fun i v6844 k0_hw258 k0_h2 => k0_hw258 k0_h2

def k0_off764 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6847 : Index := Scalar.indexCast v6842
  let c96_2330 : Index := 96#32
  ![v6847.toNat, 96]
def k0_off765 (v5213 : BitVec 32) (k0_t8 : Fin (k0_t8_loop v5213).trips) : Fin 2 → Nat :=
  let c3_2332 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2331 : BitVec 32 := 32#32
  let v6851 : BitVec 32 := Scalar.muli arg13 c32_i32_2331
  let c30_i32 : BitVec 32 := 30#32
  let v6852 : BitVec 32 := Scalar.addi v6851 c30_i32
  let v6853 : Index := Scalar.indexCast v6852
  ![3, v6853.toNat]
def k0_off766 (v6854 : BitVec 32) : Fin 2 → Nat :=
  let v6855 : Index := Scalar.indexCast v6854
  let c96_2333 : Index := 96#32
  ![v6855.toNat, 96]

def k0_chk259 (i : grid0.Coords) (v6854 : BitVec 32) : Prop :=
  (∀ (k0_h2 : k0_cond2 i = 1#1), ∀ a, (k0_off766 v6854) a + S1x32.size a ≤ S15360x128.size a)
theorem k0_off766_inb : ∀ (i : grid0.Coords) (v6854 : BitVec 32) (k0_hw259 : k0_chk259 i v6854), ∀ (k0_h2 : k0_cond2 i = 1#1), ∀ a, (k0_off766 v6854) a + S1x32.size a ≤ S15360x128.size a := fun i v6854 k0_hw259 k0_h2 => k0_hw259 k0_h2

def k0_off767 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2331 : BitVec 32 := 32#32
  let v6851 : BitVec 32 := Scalar.muli arg13 c32_i32_2331
  let c30_i32 : BitVec 32 := 30#32
  let v6852 : BitVec 32 := Scalar.addi v6851 c30_i32
  let v6857 : Index := Scalar.indexCast v6852
  let c96_2334 : Index := 96#32
  ![v6857.toNat, 96]
def k0_off768 (v5213 : BitVec 32) (k0_t8 : Fin (k0_t8_loop v5213).trips) : Fin 2 → Nat :=
  let c3_2336 : Index := 3#32
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2335 : BitVec 32 := 32#32
  let v6861 : BitVec 32 := Scalar.muli arg13 c32_i32_2335
  let c31_i32 : BitVec 32 := 31#32
  let v6862 : BitVec 32 := Scalar.addi v6861 c31_i32
  let v6863 : Index := Scalar.indexCast v6862
  ![3, v6863.toNat]
def k0_off769 (v6864 : BitVec 32) : Fin 2 → Nat :=
  let v6865 : Index := Scalar.indexCast v6864
  let c96_2337 : Index := 96#32
  ![v6865.toNat, 96]

def k0_chk260 (i : grid0.Coords) (v6864 : BitVec 32) : Prop :=
  (∀ (k0_h2 : k0_cond2 i = 1#1), ∀ a, (k0_off769 v6864) a + S1x32.size a ≤ S15360x128.size a)
theorem k0_off769_inb : ∀ (i : grid0.Coords) (v6864 : BitVec 32) (k0_hw260 : k0_chk260 i v6864), ∀ (k0_h2 : k0_cond2 i = 1#1), ∀ a, (k0_off769 v6864) a + S1x32.size a ≤ S15360x128.size a := fun i v6864 k0_hw260 k0_h2 => k0_hw260 k0_h2

def k0_off770 (v5213 : BitVec 32) (k0_t8 : Fin (k0_t8_loop v5213).trips) : Fin 2 → Nat :=
  let c0_i32_1600 : BitVec 32 := 0#32
  let c64_i32_1582 : BitVec 32 := 64#32
  let v5214 : BitVec 32 := Scalar.addi v5213 c64_i32_1582
  let c1_i32_1583 : BitVec 32 := 1#32
  let v5215 : BitVec 32 := Scalar.subi v5214 c1_i32_1583
  let c0_i32_1585 : BitVec 32 := 0#32
  let v5217 : BitVec 1 := Scalar.cmpi .sgt v5215 c0_i32_1585
  let v5218 : BitVec 32 := Scalar.extui v5217
  let c0_i32_1586 : BitVec 32 := 0#32
  let v5219 : BitVec 1 := Scalar.cmpi .slt v5215 c0_i32_1586
  let v5220 : BitVec 32 := Scalar.extui v5219
  let v5221 : BitVec 32 := Scalar.subi v5218 v5220
  let c64_i32_1584 : BitVec 32 := 64#32
  let c0_i32_1587 : BitVec 32 := 0#32
  let v5222 : BitVec 1 := Scalar.cmpi .sgt c64_i32_1584 c0_i32_1587
  let v5223 : BitVec 32 := Scalar.extui v5222
  let c0_i32_1588 : BitVec 32 := 0#32
  let v5224 : BitVec 1 := Scalar.cmpi .slt c64_i32_1584 c0_i32_1588
  let v5225 : BitVec 32 := Scalar.extui v5224
  let v5226 : BitVec 32 := Scalar.subi v5223 v5225
  let v5227 : BitVec 1 := Scalar.cmpi .ne v5221 v5226
  let v5228 : BitVec 32 := Scalar.remsi v5215 c64_i32_1584
  let c0_i32_1589 : BitVec 32 := 0#32
  let v5229 : BitVec 1 := Scalar.cmpi .ne v5228 c0_i32_1589
  let v5230 : BitVec 1 := Scalar.andi v5227 v5229
  let v5216 : BitVec 32 := Scalar.divsi v5215 c64_i32_1584
  let c1_i32_1590 : BitVec 32 := 1#32
  let v5231 : BitVec 32 := Scalar.subi v5216 c1_i32_1590
  let v5232 : BitVec 32 := Scalar.select v5230 v5231 v5216
  let c32_i32_1591 : BitVec 32 := 32#32
  let v5233 : BitVec 32 := Scalar.addi v5232 c32_i32_1591
  let c1_i32_1592 : BitVec 32 := 1#32
  let v5234 : BitVec 32 := Scalar.subi v5233 c1_i32_1592
  let c0_i32_1594 : BitVec 32 := 0#32
  let v5236 : BitVec 1 := Scalar.cmpi .sgt v5234 c0_i32_1594
  let v5237 : BitVec 32 := Scalar.extui v5236
  let c0_i32_1595 : BitVec 32 := 0#32
  let v5238 : BitVec 1 := Scalar.cmpi .slt v5234 c0_i32_1595
  let v5239 : BitVec 32 := Scalar.extui v5238
  let v5240 : BitVec 32 := Scalar.subi v5237 v5239
  let c32_i32_1593 : BitVec 32 := 32#32
  let c0_i32_1596 : BitVec 32 := 0#32
  let v5241 : BitVec 1 := Scalar.cmpi .sgt c32_i32_1593 c0_i32_1596
  let v5242 : BitVec 32 := Scalar.extui v5241
  let c0_i32_1597 : BitVec 32 := 0#32
  let v5243 : BitVec 1 := Scalar.cmpi .slt c32_i32_1593 c0_i32_1597
  let v5244 : BitVec 32 := Scalar.extui v5243
  let v5245 : BitVec 32 := Scalar.subi v5242 v5244
  let v5246 : BitVec 1 := Scalar.cmpi .ne v5240 v5245
  let v5247 : BitVec 32 := Scalar.remsi v5234 c32_i32_1593
  let c0_i32_1598 : BitVec 32 := 0#32
  let v5248 : BitVec 1 := Scalar.cmpi .ne v5247 c0_i32_1598
  let v5249 : BitVec 1 := Scalar.andi v5246 v5248
  let v5235 : BitVec 32 := Scalar.divsi v5234 c32_i32_1593
  let c1_i32_1599 : BitVec 32 := 1#32
  let v5250 : BitVec 32 := Scalar.subi v5235 c1_i32_1599
  let v5251 : BitVec 32 := Scalar.select v5249 v5250 v5235
  let v5252 : BitVec 32 := Scalar.subi v5251 c0_i32_1600
  let c1_i32_1602 : BitVec 32 := 1#32
  let v5254 : BitVec 32 := Scalar.divsi v5252 c1_i32_1602
  let v5255 : BitVec 32 := Scalar.muli v5254 c1_i32_1602
  let v5256 : BitVec 32 := Scalar.addi c0_i32_1600 v5255
  let c1_i32_1604 : BitVec 32 := 1#32
  let arg13 : BitVec 32 := Scf.iv v5256 c1_i32_1604 k0_t8
  let c32_i32_2335 : BitVec 32 := 32#32
  let v6861 : BitVec 32 := Scalar.muli arg13 c32_i32_2335
  let c31_i32 : BitVec 32 := 31#32
  let v6862 : BitVec 32 := Scalar.addi v6861 c31_i32
  let v6867 : Index := Scalar.indexCast v6862
  let c96_2338 : Index := 96#32
  ![v6867.toNat, 96]

def k0_chk196_0 (i : grid0.Coords) (v5213 : BitVec 32) : Prop :=
  (∀ (k0_h2 : k0_cond2 i = 1#1), (k0_t7_loop v5213).OK) ∧
  (∀ k0_t7 : Fin (k0_t7_loop v5213).trips, ∀ (k0_h2 : k0_cond2 i = 1#1), ∀ a, (k0_off579 v5213 k0_t7) a + S1x1.size a ≤ S6x2048.size a) ∧
  (∀ k0_t7 : Fin (k0_t7_loop v5213).trips, ∀ (k0_h2 : k0_cond2 i = 1#1), ∀ a, (k0_off581 v5213 k0_t7) a + S1x32.size a ≤ S2048x128.size a) ∧
  (∀ k0_t7 : Fin (k0_t7_loop v5213).trips, ∀ (k0_h2 : k0_cond2 i = 1#1), ∀ a, (k0_off582 v5213 k0_t7) a + S1x1.size a ≤ S6x2048.size a) ∧
  (∀ k0_t7 : Fin (k0_t7_loop v5213).trips, ∀ (k0_h2 : k0_cond2 i = 1#1), ∀ a, (k0_off584 v5213 k0_t7) a + S1x32.size a ≤ S2048x128.size a) ∧
  (∀ k0_t7 : Fin (k0_t7_loop v5213).trips, ∀ (k0_h2 : k0_cond2 i = 1#1), ∀ a, (k0_off585 v5213 k0_t7) a + S1x1.size a ≤ S6x2048.size a) ∧
  (∀ k0_t7 : Fin (k0_t7_loop v5213).trips, ∀ (k0_h2 : k0_cond2 i = 1#1), ∀ a, (k0_off587 v5213 k0_t7) a + S1x32.size a ≤ S2048x128.size a) ∧
  (∀ k0_t7 : Fin (k0_t7_loop v5213).trips, ∀ (k0_h2 : k0_cond2 i = 1#1), ∀ a, (k0_off588 v5213 k0_t7) a + S1x1.size a ≤ S6x2048.size a) ∧
  (∀ k0_t7 : Fin (k0_t7_loop v5213).trips, ∀ (k0_h2 : k0_cond2 i = 1#1), ∀ a, (k0_off590 v5213 k0_t7) a + S1x32.size a ≤ S2048x128.size a) ∧
  (∀ k0_t7 : Fin (k0_t7_loop v5213).trips, ∀ (k0_h2 : k0_cond2 i = 1#1), ∀ a, (k0_off591 v5213 k0_t7) a + S1x1.size a ≤ S6x2048.size a) ∧
  (∀ k0_t7 : Fin (k0_t7_loop v5213).trips, ∀ (k0_h2 : k0_cond2 i = 1#1), ∀ a, (k0_off593 v5213 k0_t7) a + S1x32.size a ≤ S2048x128.size a) ∧
  (∀ k0_t7 : Fin (k0_t7_loop v5213).trips, ∀ (k0_h2 : k0_cond2 i = 1#1), ∀ a, (k0_off594 v5213 k0_t7) a + S1x1.size a ≤ S6x2048.size a) ∧
  (∀ k0_t7 : Fin (k0_t7_loop v5213).trips, ∀ (k0_h2 : k0_cond2 i = 1#1), ∀ a, (k0_off596 v5213 k0_t7) a + S1x32.size a ≤ S2048x128.size a) ∧
  (∀ k0_t7 : Fin (k0_t7_loop v5213).trips, ∀ (k0_h2 : k0_cond2 i = 1#1), ∀ a, (k0_off597 v5213 k0_t7) a + S1x1.size a ≤ S6x2048.size a) ∧
  (∀ k0_t7 : Fin (k0_t7_loop v5213).trips, ∀ (k0_h2 : k0_cond2 i = 1#1), ∀ a, (k0_off599 v5213 k0_t7) a + S1x32.size a ≤ S2048x128.size a) ∧
  (∀ k0_t7 : Fin (k0_t7_loop v5213).trips, ∀ (k0_h2 : k0_cond2 i = 1#1), ∀ a, (k0_off600 v5213 k0_t7) a + S1x1.size a ≤ S6x2048.size a) ∧
  (∀ k0_t7 : Fin (k0_t7_loop v5213).trips, ∀ (k0_h2 : k0_cond2 i = 1#1), ∀ a, (k0_off602 v5213 k0_t7) a + S1x32.size a ≤ S2048x128.size a) ∧
  (∀ k0_t7 : Fin (k0_t7_loop v5213).trips, ∀ (k0_h2 : k0_cond2 i = 1#1), ∀ a, (k0_off603 v5213 k0_t7) a + S1x1.size a ≤ S6x2048.size a) ∧
  (∀ k0_t7 : Fin (k0_t7_loop v5213).trips, ∀ (k0_h2 : k0_cond2 i = 1#1), ∀ a, (k0_off605 v5213 k0_t7) a + S1x32.size a ≤ S2048x128.size a) ∧
  (∀ k0_t7 : Fin (k0_t7_loop v5213).trips, ∀ (k0_h2 : k0_cond2 i = 1#1), ∀ a, (k0_off606 v5213 k0_t7) a + S1x1.size a ≤ S6x2048.size a) ∧
  (∀ k0_t7 : Fin (k0_t7_loop v5213).trips, ∀ (k0_h2 : k0_cond2 i = 1#1), ∀ a, (k0_off608 v5213 k0_t7) a + S1x32.size a ≤ S2048x128.size a) ∧
  (∀ k0_t7 : Fin (k0_t7_loop v5213).trips, ∀ (k0_h2 : k0_cond2 i = 1#1), ∀ a, (k0_off609 v5213 k0_t7) a + S1x1.size a ≤ S6x2048.size a) ∧
  (∀ k0_t7 : Fin (k0_t7_loop v5213).trips, ∀ (k0_h2 : k0_cond2 i = 1#1), ∀ a, (k0_off611 v5213 k0_t7) a + S1x32.size a ≤ S2048x128.size a) ∧
  (∀ k0_t7 : Fin (k0_t7_loop v5213).trips, ∀ (k0_h2 : k0_cond2 i = 1#1), ∀ a, (k0_off612 v5213 k0_t7) a + S1x1.size a ≤ S6x2048.size a) ∧
  (∀ k0_t7 : Fin (k0_t7_loop v5213).trips, ∀ (k0_h2 : k0_cond2 i = 1#1), ∀ a, (k0_off614 v5213 k0_t7) a + S1x32.size a ≤ S2048x128.size a) ∧
  (∀ k0_t7 : Fin (k0_t7_loop v5213).trips, ∀ (k0_h2 : k0_cond2 i = 1#1), ∀ a, (k0_off615 v5213 k0_t7) a + S1x1.size a ≤ S6x2048.size a) ∧
  (∀ k0_t7 : Fin (k0_t7_loop v5213).trips, ∀ (k0_h2 : k0_cond2 i = 1#1), ∀ a, (k0_off617 v5213 k0_t7) a + S1x32.size a ≤ S2048x128.size a) ∧
  (∀ k0_t7 : Fin (k0_t7_loop v5213).trips, ∀ (k0_h2 : k0_cond2 i = 1#1), ∀ a, (k0_off618 v5213 k0_t7) a + S1x1.size a ≤ S6x2048.size a) ∧
  (∀ k0_t7 : Fin (k0_t7_loop v5213).trips, ∀ (k0_h2 : k0_cond2 i = 1#1), ∀ a, (k0_off620 v5213 k0_t7) a + S1x32.size a ≤ S2048x128.size a) ∧
  (∀ k0_t7 : Fin (k0_t7_loop v5213).trips, ∀ (k0_h2 : k0_cond2 i = 1#1), ∀ a, (k0_off621 v5213 k0_t7) a + S1x1.size a ≤ S6x2048.size a) ∧
  (∀ k0_t7 : Fin (k0_t7_loop v5213).trips, ∀ (k0_h2 : k0_cond2 i = 1#1), ∀ a, (k0_off623 v5213 k0_t7) a + S1x32.size a ≤ S2048x128.size a) ∧
  (∀ k0_t7 : Fin (k0_t7_loop v5213).trips, ∀ (k0_h2 : k0_cond2 i = 1#1), ∀ a, (k0_off624 v5213 k0_t7) a + S1x1.size a ≤ S6x2048.size a)
def k0_chk196_1 (i : grid0.Coords) (v5213 : BitVec 32) : Prop :=
  (∀ k0_t7 : Fin (k0_t7_loop v5213).trips, ∀ (k0_h2 : k0_cond2 i = 1#1), ∀ a, (k0_off626 v5213 k0_t7) a + S1x32.size a ≤ S2048x128.size a) ∧
  (∀ k0_t7 : Fin (k0_t7_loop v5213).trips, ∀ (k0_h2 : k0_cond2 i = 1#1), ∀ a, (k0_off627 v5213 k0_t7) a + S1x1.size a ≤ S6x2048.size a) ∧
  (∀ k0_t7 : Fin (k0_t7_loop v5213).trips, ∀ (k0_h2 : k0_cond2 i = 1#1), ∀ a, (k0_off629 v5213 k0_t7) a + S1x32.size a ≤ S2048x128.size a) ∧
  (∀ k0_t7 : Fin (k0_t7_loop v5213).trips, ∀ (k0_h2 : k0_cond2 i = 1#1), ∀ a, (k0_off630 v5213 k0_t7) a + S1x1.size a ≤ S6x2048.size a) ∧
  (∀ k0_t7 : Fin (k0_t7_loop v5213).trips, ∀ (k0_h2 : k0_cond2 i = 1#1), ∀ a, (k0_off632 v5213 k0_t7) a + S1x32.size a ≤ S2048x128.size a) ∧
  (∀ k0_t7 : Fin (k0_t7_loop v5213).trips, ∀ (k0_h2 : k0_cond2 i = 1#1), ∀ a, (k0_off633 v5213 k0_t7) a + S1x1.size a ≤ S6x2048.size a) ∧
  (∀ k0_t7 : Fin (k0_t7_loop v5213).trips, ∀ (k0_h2 : k0_cond2 i = 1#1), ∀ a, (k0_off635 v5213 k0_t7) a + S1x32.size a ≤ S2048x128.size a) ∧
  (∀ k0_t7 : Fin (k0_t7_loop v5213).trips, ∀ (k0_h2 : k0_cond2 i = 1#1), ∀ a, (k0_off636 v5213 k0_t7) a + S1x1.size a ≤ S6x2048.size a) ∧
  (∀ k0_t7 : Fin (k0_t7_loop v5213).trips, ∀ (k0_h2 : k0_cond2 i = 1#1), ∀ a, (k0_off638 v5213 k0_t7) a + S1x32.size a ≤ S2048x128.size a) ∧
  (∀ k0_t7 : Fin (k0_t7_loop v5213).trips, ∀ (k0_h2 : k0_cond2 i = 1#1), ∀ a, (k0_off639 v5213 k0_t7) a + S1x1.size a ≤ S6x2048.size a) ∧
  (∀ k0_t7 : Fin (k0_t7_loop v5213).trips, ∀ (k0_h2 : k0_cond2 i = 1#1), ∀ a, (k0_off641 v5213 k0_t7) a + S1x32.size a ≤ S2048x128.size a) ∧
  (∀ k0_t7 : Fin (k0_t7_loop v5213).trips, ∀ (k0_h2 : k0_cond2 i = 1#1), ∀ a, (k0_off642 v5213 k0_t7) a + S1x1.size a ≤ S6x2048.size a) ∧
  (∀ k0_t7 : Fin (k0_t7_loop v5213).trips, ∀ (k0_h2 : k0_cond2 i = 1#1), ∀ a, (k0_off644 v5213 k0_t7) a + S1x32.size a ≤ S2048x128.size a) ∧
  (∀ k0_t7 : Fin (k0_t7_loop v5213).trips, ∀ (k0_h2 : k0_cond2 i = 1#1), ∀ a, (k0_off645 v5213 k0_t7) a + S1x1.size a ≤ S6x2048.size a) ∧
  (∀ k0_t7 : Fin (k0_t7_loop v5213).trips, ∀ (k0_h2 : k0_cond2 i = 1#1), ∀ a, (k0_off647 v5213 k0_t7) a + S1x32.size a ≤ S2048x128.size a) ∧
  (∀ k0_t7 : Fin (k0_t7_loop v5213).trips, ∀ (k0_h2 : k0_cond2 i = 1#1), ∀ a, (k0_off648 v5213 k0_t7) a + S1x1.size a ≤ S6x2048.size a) ∧
  (∀ k0_t7 : Fin (k0_t7_loop v5213).trips, ∀ (k0_h2 : k0_cond2 i = 1#1), ∀ a, (k0_off650 v5213 k0_t7) a + S1x32.size a ≤ S2048x128.size a) ∧
  (∀ k0_t7 : Fin (k0_t7_loop v5213).trips, ∀ (k0_h2 : k0_cond2 i = 1#1), ∀ a, (k0_off651 v5213 k0_t7) a + S1x1.size a ≤ S6x2048.size a) ∧
  (∀ k0_t7 : Fin (k0_t7_loop v5213).trips, ∀ (k0_h2 : k0_cond2 i = 1#1), ∀ a, (k0_off653 v5213 k0_t7) a + S1x32.size a ≤ S2048x128.size a) ∧
  (∀ k0_t7 : Fin (k0_t7_loop v5213).trips, ∀ (k0_h2 : k0_cond2 i = 1#1), ∀ a, (k0_off654 v5213 k0_t7) a + S1x1.size a ≤ S6x2048.size a) ∧
  (∀ k0_t7 : Fin (k0_t7_loop v5213).trips, ∀ (k0_h2 : k0_cond2 i = 1#1), ∀ a, (k0_off656 v5213 k0_t7) a + S1x32.size a ≤ S2048x128.size a) ∧
  (∀ k0_t7 : Fin (k0_t7_loop v5213).trips, ∀ (k0_h2 : k0_cond2 i = 1#1), ∀ a, (k0_off657 v5213 k0_t7) a + S1x1.size a ≤ S6x2048.size a) ∧
  (∀ k0_t7 : Fin (k0_t7_loop v5213).trips, ∀ (k0_h2 : k0_cond2 i = 1#1), ∀ a, (k0_off659 v5213 k0_t7) a + S1x32.size a ≤ S2048x128.size a) ∧
  (∀ k0_t7 : Fin (k0_t7_loop v5213).trips, ∀ (k0_h2 : k0_cond2 i = 1#1), ∀ a, (k0_off660 v5213 k0_t7) a + S1x1.size a ≤ S6x2048.size a) ∧
  (∀ k0_t7 : Fin (k0_t7_loop v5213).trips, ∀ (k0_h2 : k0_cond2 i = 1#1), ∀ a, (k0_off662 v5213 k0_t7) a + S1x32.size a ≤ S2048x128.size a) ∧
  (∀ k0_t7 : Fin (k0_t7_loop v5213).trips, ∀ (k0_h2 : k0_cond2 i = 1#1), ∀ a, (k0_off663 v5213 k0_t7) a + S1x1.size a ≤ S6x2048.size a) ∧
  (∀ k0_t7 : Fin (k0_t7_loop v5213).trips, ∀ (k0_h2 : k0_cond2 i = 1#1), ∀ a, (k0_off665 v5213 k0_t7) a + S1x32.size a ≤ S2048x128.size a) ∧
  (∀ k0_t7 : Fin (k0_t7_loop v5213).trips, ∀ (k0_h2 : k0_cond2 i = 1#1), ∀ a, (k0_off666 v5213 k0_t7) a + S1x1.size a ≤ S6x2048.size a) ∧
  (∀ k0_t7 : Fin (k0_t7_loop v5213).trips, ∀ (k0_h2 : k0_cond2 i = 1#1), ∀ a, (k0_off668 v5213 k0_t7) a + S1x32.size a ≤ S2048x128.size a) ∧
  (∀ k0_t7 : Fin (k0_t7_loop v5213).trips, ∀ (k0_h2 : k0_cond2 i = 1#1), ∀ a, (k0_off669 v5213 k0_t7) a + S1x1.size a ≤ S6x2048.size a) ∧
  (∀ k0_t7 : Fin (k0_t7_loop v5213).trips, ∀ (k0_h2 : k0_cond2 i = 1#1), ∀ a, (k0_off671 v5213 k0_t7) a + S1x32.size a ≤ S2048x128.size a) ∧
  (∀ k0_t7 : Fin (k0_t7_loop v5213).trips, ∀ (k0_h2 : k0_cond2 i = 1#1), ∀ a, (k0_off672 v5213 k0_t7) a + S1x1.size a ≤ S6x2048.size a)
def k0_chk196_2 (i : grid0.Coords) (v5213 : BitVec 32) : Prop :=
  (∀ k0_t7 : Fin (k0_t7_loop v5213).trips, ∀ (k0_h2 : k0_cond2 i = 1#1), ∀ a, (k0_off674 v5213 k0_t7) a + S1x32.size a ≤ S2048x128.size a) ∧
  (∀ (k0_h2 : k0_cond2 i = 1#1), (k0_t8_loop v5213).OK) ∧
  (∀ k0_t8 : Fin (k0_t8_loop v5213).trips, ∀ (k0_h2 : k0_cond2 i = 1#1), ∀ a, (k0_off675 v5213 k0_t8) a + S1x1.size a ≤ S6x2048.size a) ∧
  (∀ k0_t8 : Fin (k0_t8_loop v5213).trips, ∀ (k0_h2 : k0_cond2 i = 1#1), ∀ a, (k0_off677 v5213 k0_t8) a + S1x32.size a ≤ S2048x128.size a) ∧
  (∀ k0_t8 : Fin (k0_t8_loop v5213).trips, ∀ (k0_h2 : k0_cond2 i = 1#1), ∀ a, (k0_off678 v5213 k0_t8) a + S1x1.size a ≤ S6x2048.size a) ∧
  (∀ k0_t8 : Fin (k0_t8_loop v5213).trips, ∀ (k0_h2 : k0_cond2 i = 1#1), ∀ a, (k0_off680 v5213 k0_t8) a + S1x32.size a ≤ S2048x128.size a) ∧
  (∀ k0_t8 : Fin (k0_t8_loop v5213).trips, ∀ (k0_h2 : k0_cond2 i = 1#1), ∀ a, (k0_off681 v5213 k0_t8) a + S1x1.size a ≤ S6x2048.size a) ∧
  (∀ k0_t8 : Fin (k0_t8_loop v5213).trips, ∀ (k0_h2 : k0_cond2 i = 1#1), ∀ a, (k0_off683 v5213 k0_t8) a + S1x32.size a ≤ S2048x128.size a) ∧
  (∀ k0_t8 : Fin (k0_t8_loop v5213).trips, ∀ (k0_h2 : k0_cond2 i = 1#1), ∀ a, (k0_off684 v5213 k0_t8) a + S1x1.size a ≤ S6x2048.size a) ∧
  (∀ k0_t8 : Fin (k0_t8_loop v5213).trips, ∀ (k0_h2 : k0_cond2 i = 1#1), ∀ a, (k0_off686 v5213 k0_t8) a + S1x32.size a ≤ S2048x128.size a) ∧
  (∀ k0_t8 : Fin (k0_t8_loop v5213).trips, ∀ (k0_h2 : k0_cond2 i = 1#1), ∀ a, (k0_off687 v5213 k0_t8) a + S1x1.size a ≤ S6x2048.size a) ∧
  (∀ k0_t8 : Fin (k0_t8_loop v5213).trips, ∀ (k0_h2 : k0_cond2 i = 1#1), ∀ a, (k0_off689 v5213 k0_t8) a + S1x32.size a ≤ S2048x128.size a) ∧
  (∀ k0_t8 : Fin (k0_t8_loop v5213).trips, ∀ (k0_h2 : k0_cond2 i = 1#1), ∀ a, (k0_off690 v5213 k0_t8) a + S1x1.size a ≤ S6x2048.size a) ∧
  (∀ k0_t8 : Fin (k0_t8_loop v5213).trips, ∀ (k0_h2 : k0_cond2 i = 1#1), ∀ a, (k0_off692 v5213 k0_t8) a + S1x32.size a ≤ S2048x128.size a) ∧
  (∀ k0_t8 : Fin (k0_t8_loop v5213).trips, ∀ (k0_h2 : k0_cond2 i = 1#1), ∀ a, (k0_off693 v5213 k0_t8) a + S1x1.size a ≤ S6x2048.size a) ∧
  (∀ k0_t8 : Fin (k0_t8_loop v5213).trips, ∀ (k0_h2 : k0_cond2 i = 1#1), ∀ a, (k0_off695 v5213 k0_t8) a + S1x32.size a ≤ S2048x128.size a) ∧
  (∀ k0_t8 : Fin (k0_t8_loop v5213).trips, ∀ (k0_h2 : k0_cond2 i = 1#1), ∀ a, (k0_off696 v5213 k0_t8) a + S1x1.size a ≤ S6x2048.size a) ∧
  (∀ k0_t8 : Fin (k0_t8_loop v5213).trips, ∀ (k0_h2 : k0_cond2 i = 1#1), ∀ a, (k0_off698 v5213 k0_t8) a + S1x32.size a ≤ S2048x128.size a) ∧
  (∀ k0_t8 : Fin (k0_t8_loop v5213).trips, ∀ (k0_h2 : k0_cond2 i = 1#1), ∀ a, (k0_off699 v5213 k0_t8) a + S1x1.size a ≤ S6x2048.size a) ∧
  (∀ k0_t8 : Fin (k0_t8_loop v5213).trips, ∀ (k0_h2 : k0_cond2 i = 1#1), ∀ a, (k0_off701 v5213 k0_t8) a + S1x32.size a ≤ S2048x128.size a) ∧
  (∀ k0_t8 : Fin (k0_t8_loop v5213).trips, ∀ (k0_h2 : k0_cond2 i = 1#1), ∀ a, (k0_off702 v5213 k0_t8) a + S1x1.size a ≤ S6x2048.size a) ∧
  (∀ k0_t8 : Fin (k0_t8_loop v5213).trips, ∀ (k0_h2 : k0_cond2 i = 1#1), ∀ a, (k0_off704 v5213 k0_t8) a + S1x32.size a ≤ S2048x128.size a) ∧
  (∀ k0_t8 : Fin (k0_t8_loop v5213).trips, ∀ (k0_h2 : k0_cond2 i = 1#1), ∀ a, (k0_off705 v5213 k0_t8) a + S1x1.size a ≤ S6x2048.size a) ∧
  (∀ k0_t8 : Fin (k0_t8_loop v5213).trips, ∀ (k0_h2 : k0_cond2 i = 1#1), ∀ a, (k0_off707 v5213 k0_t8) a + S1x32.size a ≤ S2048x128.size a) ∧
  (∀ k0_t8 : Fin (k0_t8_loop v5213).trips, ∀ (k0_h2 : k0_cond2 i = 1#1), ∀ a, (k0_off708 v5213 k0_t8) a + S1x1.size a ≤ S6x2048.size a) ∧
  (∀ k0_t8 : Fin (k0_t8_loop v5213).trips, ∀ (k0_h2 : k0_cond2 i = 1#1), ∀ a, (k0_off710 v5213 k0_t8) a + S1x32.size a ≤ S2048x128.size a) ∧
  (∀ k0_t8 : Fin (k0_t8_loop v5213).trips, ∀ (k0_h2 : k0_cond2 i = 1#1), ∀ a, (k0_off711 v5213 k0_t8) a + S1x1.size a ≤ S6x2048.size a) ∧
  (∀ k0_t8 : Fin (k0_t8_loop v5213).trips, ∀ (k0_h2 : k0_cond2 i = 1#1), ∀ a, (k0_off713 v5213 k0_t8) a + S1x32.size a ≤ S2048x128.size a) ∧
  (∀ k0_t8 : Fin (k0_t8_loop v5213).trips, ∀ (k0_h2 : k0_cond2 i = 1#1), ∀ a, (k0_off714 v5213 k0_t8) a + S1x1.size a ≤ S6x2048.size a) ∧
  (∀ k0_t8 : Fin (k0_t8_loop v5213).trips, ∀ (k0_h2 : k0_cond2 i = 1#1), ∀ a, (k0_off716 v5213 k0_t8) a + S1x32.size a ≤ S2048x128.size a) ∧
  (∀ k0_t8 : Fin (k0_t8_loop v5213).trips, ∀ (k0_h2 : k0_cond2 i = 1#1), ∀ a, (k0_off717 v5213 k0_t8) a + S1x1.size a ≤ S6x2048.size a) ∧
  (∀ k0_t8 : Fin (k0_t8_loop v5213).trips, ∀ (k0_h2 : k0_cond2 i = 1#1), ∀ a, (k0_off719 v5213 k0_t8) a + S1x32.size a ≤ S2048x128.size a)
def k0_chk196_3 (i : grid0.Coords) (v5213 : BitVec 32) : Prop :=
  (∀ k0_t8 : Fin (k0_t8_loop v5213).trips, ∀ (k0_h2 : k0_cond2 i = 1#1), ∀ a, (k0_off720 v5213 k0_t8) a + S1x1.size a ≤ S6x2048.size a) ∧
  (∀ k0_t8 : Fin (k0_t8_loop v5213).trips, ∀ (k0_h2 : k0_cond2 i = 1#1), ∀ a, (k0_off722 v5213 k0_t8) a + S1x32.size a ≤ S2048x128.size a) ∧
  (∀ k0_t8 : Fin (k0_t8_loop v5213).trips, ∀ (k0_h2 : k0_cond2 i = 1#1), ∀ a, (k0_off723 v5213 k0_t8) a + S1x1.size a ≤ S6x2048.size a) ∧
  (∀ k0_t8 : Fin (k0_t8_loop v5213).trips, ∀ (k0_h2 : k0_cond2 i = 1#1), ∀ a, (k0_off725 v5213 k0_t8) a + S1x32.size a ≤ S2048x128.size a) ∧
  (∀ k0_t8 : Fin (k0_t8_loop v5213).trips, ∀ (k0_h2 : k0_cond2 i = 1#1), ∀ a, (k0_off726 v5213 k0_t8) a + S1x1.size a ≤ S6x2048.size a) ∧
  (∀ k0_t8 : Fin (k0_t8_loop v5213).trips, ∀ (k0_h2 : k0_cond2 i = 1#1), ∀ a, (k0_off728 v5213 k0_t8) a + S1x32.size a ≤ S2048x128.size a) ∧
  (∀ k0_t8 : Fin (k0_t8_loop v5213).trips, ∀ (k0_h2 : k0_cond2 i = 1#1), ∀ a, (k0_off729 v5213 k0_t8) a + S1x1.size a ≤ S6x2048.size a) ∧
  (∀ k0_t8 : Fin (k0_t8_loop v5213).trips, ∀ (k0_h2 : k0_cond2 i = 1#1), ∀ a, (k0_off731 v5213 k0_t8) a + S1x32.size a ≤ S2048x128.size a) ∧
  (∀ k0_t8 : Fin (k0_t8_loop v5213).trips, ∀ (k0_h2 : k0_cond2 i = 1#1), ∀ a, (k0_off732 v5213 k0_t8) a + S1x1.size a ≤ S6x2048.size a) ∧
  (∀ k0_t8 : Fin (k0_t8_loop v5213).trips, ∀ (k0_h2 : k0_cond2 i = 1#1), ∀ a, (k0_off734 v5213 k0_t8) a + S1x32.size a ≤ S2048x128.size a) ∧
  (∀ k0_t8 : Fin (k0_t8_loop v5213).trips, ∀ (k0_h2 : k0_cond2 i = 1#1), ∀ a, (k0_off735 v5213 k0_t8) a + S1x1.size a ≤ S6x2048.size a) ∧
  (∀ k0_t8 : Fin (k0_t8_loop v5213).trips, ∀ (k0_h2 : k0_cond2 i = 1#1), ∀ a, (k0_off737 v5213 k0_t8) a + S1x32.size a ≤ S2048x128.size a) ∧
  (∀ k0_t8 : Fin (k0_t8_loop v5213).trips, ∀ (k0_h2 : k0_cond2 i = 1#1), ∀ a, (k0_off738 v5213 k0_t8) a + S1x1.size a ≤ S6x2048.size a) ∧
  (∀ k0_t8 : Fin (k0_t8_loop v5213).trips, ∀ (k0_h2 : k0_cond2 i = 1#1), ∀ a, (k0_off740 v5213 k0_t8) a + S1x32.size a ≤ S2048x128.size a) ∧
  (∀ k0_t8 : Fin (k0_t8_loop v5213).trips, ∀ (k0_h2 : k0_cond2 i = 1#1), ∀ a, (k0_off741 v5213 k0_t8) a + S1x1.size a ≤ S6x2048.size a) ∧
  (∀ k0_t8 : Fin (k0_t8_loop v5213).trips, ∀ (k0_h2 : k0_cond2 i = 1#1), ∀ a, (k0_off743 v5213 k0_t8) a + S1x32.size a ≤ S2048x128.size a) ∧
  (∀ k0_t8 : Fin (k0_t8_loop v5213).trips, ∀ (k0_h2 : k0_cond2 i = 1#1), ∀ a, (k0_off744 v5213 k0_t8) a + S1x1.size a ≤ S6x2048.size a) ∧
  (∀ k0_t8 : Fin (k0_t8_loop v5213).trips, ∀ (k0_h2 : k0_cond2 i = 1#1), ∀ a, (k0_off746 v5213 k0_t8) a + S1x32.size a ≤ S2048x128.size a) ∧
  (∀ k0_t8 : Fin (k0_t8_loop v5213).trips, ∀ (k0_h2 : k0_cond2 i = 1#1), ∀ a, (k0_off747 v5213 k0_t8) a + S1x1.size a ≤ S6x2048.size a) ∧
  (∀ k0_t8 : Fin (k0_t8_loop v5213).trips, ∀ (k0_h2 : k0_cond2 i = 1#1), ∀ a, (k0_off749 v5213 k0_t8) a + S1x32.size a ≤ S2048x128.size a) ∧
  (∀ k0_t8 : Fin (k0_t8_loop v5213).trips, ∀ (k0_h2 : k0_cond2 i = 1#1), ∀ a, (k0_off750 v5213 k0_t8) a + S1x1.size a ≤ S6x2048.size a) ∧
  (∀ k0_t8 : Fin (k0_t8_loop v5213).trips, ∀ (k0_h2 : k0_cond2 i = 1#1), ∀ a, (k0_off752 v5213 k0_t8) a + S1x32.size a ≤ S2048x128.size a) ∧
  (∀ k0_t8 : Fin (k0_t8_loop v5213).trips, ∀ (k0_h2 : k0_cond2 i = 1#1), ∀ a, (k0_off753 v5213 k0_t8) a + S1x1.size a ≤ S6x2048.size a) ∧
  (∀ k0_t8 : Fin (k0_t8_loop v5213).trips, ∀ (k0_h2 : k0_cond2 i = 1#1), ∀ a, (k0_off755 v5213 k0_t8) a + S1x32.size a ≤ S2048x128.size a) ∧
  (∀ k0_t8 : Fin (k0_t8_loop v5213).trips, ∀ (k0_h2 : k0_cond2 i = 1#1), ∀ a, (k0_off756 v5213 k0_t8) a + S1x1.size a ≤ S6x2048.size a) ∧
  (∀ k0_t8 : Fin (k0_t8_loop v5213).trips, ∀ (k0_h2 : k0_cond2 i = 1#1), ∀ a, (k0_off758 v5213 k0_t8) a + S1x32.size a ≤ S2048x128.size a) ∧
  (∀ k0_t8 : Fin (k0_t8_loop v5213).trips, ∀ (k0_h2 : k0_cond2 i = 1#1), ∀ a, (k0_off759 v5213 k0_t8) a + S1x1.size a ≤ S6x2048.size a) ∧
  (∀ k0_t8 : Fin (k0_t8_loop v5213).trips, ∀ (k0_h2 : k0_cond2 i = 1#1), ∀ a, (k0_off761 v5213 k0_t8) a + S1x32.size a ≤ S2048x128.size a) ∧
  (∀ k0_t8 : Fin (k0_t8_loop v5213).trips, ∀ (k0_h2 : k0_cond2 i = 1#1), ∀ a, (k0_off762 v5213 k0_t8) a + S1x1.size a ≤ S6x2048.size a) ∧
  (∀ k0_t8 : Fin (k0_t8_loop v5213).trips, ∀ (k0_h2 : k0_cond2 i = 1#1), ∀ a, (k0_off764 v5213 k0_t8) a + S1x32.size a ≤ S2048x128.size a) ∧
  (∀ k0_t8 : Fin (k0_t8_loop v5213).trips, ∀ (k0_h2 : k0_cond2 i = 1#1), ∀ a, (k0_off765 v5213 k0_t8) a + S1x1.size a ≤ S6x2048.size a) ∧
  (∀ k0_t8 : Fin (k0_t8_loop v5213).trips, ∀ (k0_h2 : k0_cond2 i = 1#1), ∀ a, (k0_off767 v5213 k0_t8) a + S1x32.size a ≤ S2048x128.size a)
def k0_chk196_4 (i : grid0.Coords) (v5213 : BitVec 32) : Prop :=
  (∀ k0_t8 : Fin (k0_t8_loop v5213).trips, ∀ (k0_h2 : k0_cond2 i = 1#1), ∀ a, (k0_off768 v5213 k0_t8) a + S1x1.size a ≤ S6x2048.size a) ∧
  (∀ k0_t8 : Fin (k0_t8_loop v5213).trips, ∀ (k0_h2 : k0_cond2 i = 1#1), ∀ a, (k0_off770 v5213 k0_t8) a + S1x32.size a ≤ S2048x128.size a)
def k0_chk196 (i : grid0.Coords) (v5213 : BitVec 32) : Prop :=
  k0_chk196_0 i v5213 ∧
  k0_chk196_1 i v5213 ∧
  k0_chk196_2 i v5213 ∧
  k0_chk196_3 i v5213 ∧
  k0_chk196_4 i v5213
theorem k0_t7_ok : ∀ (i : grid0.Coords) (v5213 : BitVec 32) (k0_hw196 : k0_chk196 i v5213), ∀ (k0_h2 : k0_cond2 i = 1#1), (k0_t7_loop v5213).OK := fun i v5213 k0_hw196 k0_h2 => k0_hw196.1.1 k0_h2
theorem k0_off579_inb : ∀ (i : grid0.Coords) (v5213 : BitVec 32) (k0_hw196 : k0_chk196 i v5213) (k0_t7 : Fin (k0_t7_loop v5213).trips), ∀ (k0_h2 : k0_cond2 i = 1#1), ∀ a, (k0_off579 v5213 k0_t7) a + S1x1.size a ≤ S6x2048.size a := fun i v5213 k0_hw196 k0_t7 k0_h2 => k0_hw196.1.2.1 k0_t7 k0_h2
theorem k0_off581_inb : ∀ (i : grid0.Coords) (v5213 : BitVec 32) (k0_hw196 : k0_chk196 i v5213) (k0_t7 : Fin (k0_t7_loop v5213).trips), ∀ (k0_h2 : k0_cond2 i = 1#1), ∀ a, (k0_off581 v5213 k0_t7) a + S1x32.size a ≤ S2048x128.size a := fun i v5213 k0_hw196 k0_t7 k0_h2 => k0_hw196.1.2.2.1 k0_t7 k0_h2
theorem k0_off582_inb : ∀ (i : grid0.Coords) (v5213 : BitVec 32) (k0_hw196 : k0_chk196 i v5213) (k0_t7 : Fin (k0_t7_loop v5213).trips), ∀ (k0_h2 : k0_cond2 i = 1#1), ∀ a, (k0_off582 v5213 k0_t7) a + S1x1.size a ≤ S6x2048.size a := fun i v5213 k0_hw196 k0_t7 k0_h2 => k0_hw196.1.2.2.2.1 k0_t7 k0_h2
theorem k0_off584_inb : ∀ (i : grid0.Coords) (v5213 : BitVec 32) (k0_hw196 : k0_chk196 i v5213) (k0_t7 : Fin (k0_t7_loop v5213).trips), ∀ (k0_h2 : k0_cond2 i = 1#1), ∀ a, (k0_off584 v5213 k0_t7) a + S1x32.size a ≤ S2048x128.size a := fun i v5213 k0_hw196 k0_t7 k0_h2 => k0_hw196.1.2.2.2.2.1 k0_t7 k0_h2
theorem k0_off585_inb : ∀ (i : grid0.Coords) (v5213 : BitVec 32) (k0_hw196 : k0_chk196 i v5213) (k0_t7 : Fin (k0_t7_loop v5213).trips), ∀ (k0_h2 : k0_cond2 i = 1#1), ∀ a, (k0_off585 v5213 k0_t7) a + S1x1.size a ≤ S6x2048.size a := fun i v5213 k0_hw196 k0_t7 k0_h2 => k0_hw196.1.2.2.2.2.2.1 k0_t7 k0_h2
theorem k0_off587_inb : ∀ (i : grid0.Coords) (v5213 : BitVec 32) (k0_hw196 : k0_chk196 i v5213) (k0_t7 : Fin (k0_t7_loop v5213).trips), ∀ (k0_h2 : k0_cond2 i = 1#1), ∀ a, (k0_off587 v5213 k0_t7) a + S1x32.size a ≤ S2048x128.size a := fun i v5213 k0_hw196 k0_t7 k0_h2 => k0_hw196.1.2.2.2.2.2.2.1 k0_t7 k0_h2
theorem k0_off588_inb : ∀ (i : grid0.Coords) (v5213 : BitVec 32) (k0_hw196 : k0_chk196 i v5213) (k0_t7 : Fin (k0_t7_loop v5213).trips), ∀ (k0_h2 : k0_cond2 i = 1#1), ∀ a, (k0_off588 v5213 k0_t7) a + S1x1.size a ≤ S6x2048.size a := fun i v5213 k0_hw196 k0_t7 k0_h2 => k0_hw196.1.2.2.2.2.2.2.2.1 k0_t7 k0_h2
theorem k0_off590_inb : ∀ (i : grid0.Coords) (v5213 : BitVec 32) (k0_hw196 : k0_chk196 i v5213) (k0_t7 : Fin (k0_t7_loop v5213).trips), ∀ (k0_h2 : k0_cond2 i = 1#1), ∀ a, (k0_off590 v5213 k0_t7) a + S1x32.size a ≤ S2048x128.size a := fun i v5213 k0_hw196 k0_t7 k0_h2 => k0_hw196.1.2.2.2.2.2.2.2.2.1 k0_t7 k0_h2
theorem k0_off591_inb : ∀ (i : grid0.Coords) (v5213 : BitVec 32) (k0_hw196 : k0_chk196 i v5213) (k0_t7 : Fin (k0_t7_loop v5213).trips), ∀ (k0_h2 : k0_cond2 i = 1#1), ∀ a, (k0_off591 v5213 k0_t7) a + S1x1.size a ≤ S6x2048.size a := fun i v5213 k0_hw196 k0_t7 k0_h2 => k0_hw196.1.2.2.2.2.2.2.2.2.2.1 k0_t7 k0_h2
theorem k0_off593_inb : ∀ (i : grid0.Coords) (v5213 : BitVec 32) (k0_hw196 : k0_chk196 i v5213) (k0_t7 : Fin (k0_t7_loop v5213).trips), ∀ (k0_h2 : k0_cond2 i = 1#1), ∀ a, (k0_off593 v5213 k0_t7) a + S1x32.size a ≤ S2048x128.size a := fun i v5213 k0_hw196 k0_t7 k0_h2 => k0_hw196.1.2.2.2.2.2.2.2.2.2.2.1 k0_t7 k0_h2
theorem k0_off594_inb : ∀ (i : grid0.Coords) (v5213 : BitVec 32) (k0_hw196 : k0_chk196 i v5213) (k0_t7 : Fin (k0_t7_loop v5213).trips), ∀ (k0_h2 : k0_cond2 i = 1#1), ∀ a, (k0_off594 v5213 k0_t7) a + S1x1.size a ≤ S6x2048.size a := fun i v5213 k0_hw196 k0_t7 k0_h2 => k0_hw196.1.2.2.2.2.2.2.2.2.2.2.2.1 k0_t7 k0_h2
theorem k0_off596_inb : ∀ (i : grid0.Coords) (v5213 : BitVec 32) (k0_hw196 : k0_chk196 i v5213) (k0_t7 : Fin (k0_t7_loop v5213).trips), ∀ (k0_h2 : k0_cond2 i = 1#1), ∀ a, (k0_off596 v5213 k0_t7) a + S1x32.size a ≤ S2048x128.size a := fun i v5213 k0_hw196 k0_t7 k0_h2 => k0_hw196.1.2.2.2.2.2.2.2.2.2.2.2.2.1 k0_t7 k0_h2
theorem k0_off597_inb : ∀ (i : grid0.Coords) (v5213 : BitVec 32) (k0_hw196 : k0_chk196 i v5213) (k0_t7 : Fin (k0_t7_loop v5213).trips), ∀ (k0_h2 : k0_cond2 i = 1#1), ∀ a, (k0_off597 v5213 k0_t7) a + S1x1.size a ≤ S6x2048.size a := fun i v5213 k0_hw196 k0_t7 k0_h2 => k0_hw196.1.2.2.2.2.2.2.2.2.2.2.2.2.2.1 k0_t7 k0_h2
theorem k0_off599_inb : ∀ (i : grid0.Coords) (v5213 : BitVec 32) (k0_hw196 : k0_chk196 i v5213) (k0_t7 : Fin (k0_t7_loop v5213).trips), ∀ (k0_h2 : k0_cond2 i = 1#1), ∀ a, (k0_off599 v5213 k0_t7) a + S1x32.size a ≤ S2048x128.size a := fun i v5213 k0_hw196 k0_t7 k0_h2 => k0_hw196.1.2.2.2.2.2.2.2.2.2.2.2.2.2.2.1 k0_t7 k0_h2
theorem k0_off600_inb : ∀ (i : grid0.Coords) (v5213 : BitVec 32) (k0_hw196 : k0_chk196 i v5213) (k0_t7 : Fin (k0_t7_loop v5213).trips), ∀ (k0_h2 : k0_cond2 i = 1#1), ∀ a, (k0_off600 v5213 k0_t7) a + S1x1.size a ≤ S6x2048.size a := fun i v5213 k0_hw196 k0_t7 k0_h2 => k0_hw196.1.2.2.2.2.2.2.2.2.2.2.2.2.2.2.2.1 k0_t7 k0_h2
theorem k0_off602_inb : ∀ (i : grid0.Coords) (v5213 : BitVec 32) (k0_hw196 : k0_chk196 i v5213) (k0_t7 : Fin (k0_t7_loop v5213).trips), ∀ (k0_h2 : k0_cond2 i = 1#1), ∀ a, (k0_off602 v5213 k0_t7) a + S1x32.size a ≤ S2048x128.size a := fun i v5213 k0_hw196 k0_t7 k0_h2 => k0_hw196.1.2.2.2.2.2.2.2.2.2.2.2.2.2.2.2.2.1 k0_t7 k0_h2
theorem k0_off603_inb : ∀ (i : grid0.Coords) (v5213 : BitVec 32) (k0_hw196 : k0_chk196 i v5213) (k0_t7 : Fin (k0_t7_loop v5213).trips), ∀ (k0_h2 : k0_cond2 i = 1#1), ∀ a, (k0_off603 v5213 k0_t7) a + S1x1.size a ≤ S6x2048.size a := fun i v5213 k0_hw196 k0_t7 k0_h2 => k0_hw196.1.2.2.2.2.2.2.2.2.2.2.2.2.2.2.2.2.2.1 k0_t7 k0_h2
theorem k0_off605_inb : ∀ (i : grid0.Coords) (v5213 : BitVec 32) (k0_hw196 : k0_chk196 i v5213) (k0_t7 : Fin (k0_t7_loop v5213).trips), ∀ (k0_h2 : k0_cond2 i = 1#1), ∀ a, (k0_off605 v5213 k0_t7) a + S1x32.size a ≤ S2048x128.size a := fun i v5213 k0_hw196 k0_t7 k0_h2 => k0_hw196.1.2.2.2.2.2.2.2.2.2.2.2.2.2.2.2.2.2.2.1 k0_t7 k0_h2
theorem k0_off606_inb : ∀ (i : grid0.Coords) (v5213 : BitVec 32) (k0_hw196 : k0_chk196 i v5213) (k0_t7 : Fin (k0_t7_loop v5213).trips), ∀ (k0_h2 : k0_cond2 i = 1#1), ∀ a, (k0_off606 v5213 k0_t7) a + S1x1.size a ≤ S6x2048.size a := fun i v5213 k0_hw196 k0_t7 k0_h2 => k0_hw196.1.2.2.2.2.2.2.2.2.2.2.2.2.2.2.2.2.2.2.2.1 k0_t7 k0_h2
theorem k0_off608_inb : ∀ (i : grid0.Coords) (v5213 : BitVec 32) (k0_hw196 : k0_chk196 i v5213) (k0_t7 : Fin (k0_t7_loop v5213).trips), ∀ (k0_h2 : k0_cond2 i = 1#1), ∀ a, (k0_off608 v5213 k0_t7) a + S1x32.size a ≤ S2048x128.size a := fun i v5213 k0_hw196 k0_t7 k0_h2 => k0_hw196.1.2.2.2.2.2.2.2.2.2.2.2.2.2.2.2.2.2.2.2.2.1 k0_t7 k0_h2
theorem k0_off609_inb : ∀ (i : grid0.Coords) (v5213 : BitVec 32) (k0_hw196 : k0_chk196 i v5213) (k0_t7 : Fin (k0_t7_loop v5213).trips), ∀ (k0_h2 : k0_cond2 i = 1#1), ∀ a, (k0_off609 v5213 k0_t7) a + S1x1.size a ≤ S6x2048.size a := fun i v5213 k0_hw196 k0_t7 k0_h2 => k0_hw196.1.2.2.2.2.2.2.2.2.2.2.2.2.2.2.2.2.2.2.2.2.2.1 k0_t7 k0_h2
theorem k0_off611_inb : ∀ (i : grid0.Coords) (v5213 : BitVec 32) (k0_hw196 : k0_chk196 i v5213) (k0_t7 : Fin (k0_t7_loop v5213).trips), ∀ (k0_h2 : k0_cond2 i = 1#1), ∀ a, (k0_off611 v5213 k0_t7) a + S1x32.size a ≤ S2048x128.size a := fun i v5213 k0_hw196 k0_t7 k0_h2 => k0_hw196.1.2.2.2.2.2.2.2.2.2.2.2.2.2.2.2.2.2.2.2.2.2.2.1 k0_t7 k0_h2
theorem k0_off612_inb : ∀ (i : grid0.Coords) (v5213 : BitVec 32) (k0_hw196 : k0_chk196 i v5213) (k0_t7 : Fin (k0_t7_loop v5213).trips), ∀ (k0_h2 : k0_cond2 i = 1#1), ∀ a, (k0_off612 v5213 k0_t7) a + S1x1.size a ≤ S6x2048.size a := fun i v5213 k0_hw196 k0_t7 k0_h2 => k0_hw196.1.2.2.2.2.2.2.2.2.2.2.2.2.2.2.2.2.2.2.2.2.2.2.2.1 k0_t7 k0_h2
theorem k0_off614_inb : ∀ (i : grid0.Coords) (v5213 : BitVec 32) (k0_hw196 : k0_chk196 i v5213) (k0_t7 : Fin (k0_t7_loop v5213).trips), ∀ (k0_h2 : k0_cond2 i = 1#1), ∀ a, (k0_off614 v5213 k0_t7) a + S1x32.size a ≤ S2048x128.size a := fun i v5213 k0_hw196 k0_t7 k0_h2 => k0_hw196.1.2.2.2.2.2.2.2.2.2.2.2.2.2.2.2.2.2.2.2.2.2.2.2.2.1 k0_t7 k0_h2
theorem k0_off615_inb : ∀ (i : grid0.Coords) (v5213 : BitVec 32) (k0_hw196 : k0_chk196 i v5213) (k0_t7 : Fin (k0_t7_loop v5213).trips), ∀ (k0_h2 : k0_cond2 i = 1#1), ∀ a, (k0_off615 v5213 k0_t7) a + S1x1.size a ≤ S6x2048.size a := fun i v5213 k0_hw196 k0_t7 k0_h2 => k0_hw196.1.2.2.2.2.2.2.2.2.2.2.2.2.2.2.2.2.2.2.2.2.2.2.2.2.2.1 k0_t7 k0_h2
theorem k0_off617_inb : ∀ (i : grid0.Coords) (v5213 : BitVec 32) (k0_hw196 : k0_chk196 i v5213) (k0_t7 : Fin (k0_t7_loop v5213).trips), ∀ (k0_h2 : k0_cond2 i = 1#1), ∀ a, (k0_off617 v5213 k0_t7) a + S1x32.size a ≤ S2048x128.size a := fun i v5213 k0_hw196 k0_t7 k0_h2 => k0_hw196.1.2.2.2.2.2.2.2.2.2.2.2.2.2.2.2.2.2.2.2.2.2.2.2.2.2.2.1 k0_t7 k0_h2
theorem k0_off618_inb : ∀ (i : grid0.Coords) (v5213 : BitVec 32) (k0_hw196 : k0_chk196 i v5213) (k0_t7 : Fin (k0_t7_loop v5213).trips), ∀ (k0_h2 : k0_cond2 i = 1#1), ∀ a, (k0_off618 v5213 k0_t7) a + S1x1.size a ≤ S6x2048.size a := fun i v5213 k0_hw196 k0_t7 k0_h2 => k0_hw196.1.2.2.2.2.2.2.2.2.2.2.2.2.2.2.2.2.2.2.2.2.2.2.2.2.2.2.2.1 k0_t7 k0_h2
theorem k0_off620_inb : ∀ (i : grid0.Coords) (v5213 : BitVec 32) (k0_hw196 : k0_chk196 i v5213) (k0_t7 : Fin (k0_t7_loop v5213).trips), ∀ (k0_h2 : k0_cond2 i = 1#1), ∀ a, (k0_off620 v5213 k0_t7) a + S1x32.size a ≤ S2048x128.size a := fun i v5213 k0_hw196 k0_t7 k0_h2 => k0_hw196.1.2.2.2.2.2.2.2.2.2.2.2.2.2.2.2.2.2.2.2.2.2.2.2.2.2.2.2.2.1 k0_t7 k0_h2
theorem k0_off621_inb : ∀ (i : grid0.Coords) (v5213 : BitVec 32) (k0_hw196 : k0_chk196 i v5213) (k0_t7 : Fin (k0_t7_loop v5213).trips), ∀ (k0_h2 : k0_cond2 i = 1#1), ∀ a, (k0_off621 v5213 k0_t7) a + S1x1.size a ≤ S6x2048.size a := fun i v5213 k0_hw196 k0_t7 k0_h2 => k0_hw196.1.2.2.2.2.2.2.2.2.2.2.2.2.2.2.2.2.2.2.2.2.2.2.2.2.2.2.2.2.2.1 k0_t7 k0_h2
theorem k0_off623_inb : ∀ (i : grid0.Coords) (v5213 : BitVec 32) (k0_hw196 : k0_chk196 i v5213) (k0_t7 : Fin (k0_t7_loop v5213).trips), ∀ (k0_h2 : k0_cond2 i = 1#1), ∀ a, (k0_off623 v5213 k0_t7) a + S1x32.size a ≤ S2048x128.size a := fun i v5213 k0_hw196 k0_t7 k0_h2 => k0_hw196.1.2.2.2.2.2.2.2.2.2.2.2.2.2.2.2.2.2.2.2.2.2.2.2.2.2.2.2.2.2.2.1 k0_t7 k0_h2
theorem k0_off624_inb : ∀ (i : grid0.Coords) (v5213 : BitVec 32) (k0_hw196 : k0_chk196 i v5213) (k0_t7 : Fin (k0_t7_loop v5213).trips), ∀ (k0_h2 : k0_cond2 i = 1#1), ∀ a, (k0_off624 v5213 k0_t7) a + S1x1.size a ≤ S6x2048.size a := fun i v5213 k0_hw196 k0_t7 k0_h2 => k0_hw196.1.2.2.2.2.2.2.2.2.2.2.2.2.2.2.2.2.2.2.2.2.2.2.2.2.2.2.2.2.2.2.2 k0_t7 k0_h2
theorem k0_off626_inb : ∀ (i : grid0.Coords) (v5213 : BitVec 32) (k0_hw196 : k0_chk196 i v5213) (k0_t7 : Fin (k0_t7_loop v5213).trips), ∀ (k0_h2 : k0_cond2 i = 1#1), ∀ a, (k0_off626 v5213 k0_t7) a + S1x32.size a ≤ S2048x128.size a := fun i v5213 k0_hw196 k0_t7 k0_h2 => k0_hw196.2.1.1 k0_t7 k0_h2
theorem k0_off627_inb : ∀ (i : grid0.Coords) (v5213 : BitVec 32) (k0_hw196 : k0_chk196 i v5213) (k0_t7 : Fin (k0_t7_loop v5213).trips), ∀ (k0_h2 : k0_cond2 i = 1#1), ∀ a, (k0_off627 v5213 k0_t7) a + S1x1.size a ≤ S6x2048.size a := fun i v5213 k0_hw196 k0_t7 k0_h2 => k0_hw196.2.1.2.1 k0_t7 k0_h2
theorem k0_off629_inb : ∀ (i : grid0.Coords) (v5213 : BitVec 32) (k0_hw196 : k0_chk196 i v5213) (k0_t7 : Fin (k0_t7_loop v5213).trips), ∀ (k0_h2 : k0_cond2 i = 1#1), ∀ a, (k0_off629 v5213 k0_t7) a + S1x32.size a ≤ S2048x128.size a := fun i v5213 k0_hw196 k0_t7 k0_h2 => k0_hw196.2.1.2.2.1 k0_t7 k0_h2
theorem k0_off630_inb : ∀ (i : grid0.Coords) (v5213 : BitVec 32) (k0_hw196 : k0_chk196 i v5213) (k0_t7 : Fin (k0_t7_loop v5213).trips), ∀ (k0_h2 : k0_cond2 i = 1#1), ∀ a, (k0_off630 v5213 k0_t7) a + S1x1.size a ≤ S6x2048.size a := fun i v5213 k0_hw196 k0_t7 k0_h2 => k0_hw196.2.1.2.2.2.1 k0_t7 k0_h2
theorem k0_off632_inb : ∀ (i : grid0.Coords) (v5213 : BitVec 32) (k0_hw196 : k0_chk196 i v5213) (k0_t7 : Fin (k0_t7_loop v5213).trips), ∀ (k0_h2 : k0_cond2 i = 1#1), ∀ a, (k0_off632 v5213 k0_t7) a + S1x32.size a ≤ S2048x128.size a := fun i v5213 k0_hw196 k0_t7 k0_h2 => k0_hw196.2.1.2.2.2.2.1 k0_t7 k0_h2
theorem k0_off633_inb : ∀ (i : grid0.Coords) (v5213 : BitVec 32) (k0_hw196 : k0_chk196 i v5213) (k0_t7 : Fin (k0_t7_loop v5213).trips), ∀ (k0_h2 : k0_cond2 i = 1#1), ∀ a, (k0_off633 v5213 k0_t7) a + S1x1.size a ≤ S6x2048.size a := fun i v5213 k0_hw196 k0_t7 k0_h2 => k0_hw196.2.1.2.2.2.2.2.1 k0_t7 k0_h2
theorem k0_off635_inb : ∀ (i : grid0.Coords) (v5213 : BitVec 32) (k0_hw196 : k0_chk196 i v5213) (k0_t7 : Fin (k0_t7_loop v5213).trips), ∀ (k0_h2 : k0_cond2 i = 1#1), ∀ a, (k0_off635 v5213 k0_t7) a + S1x32.size a ≤ S2048x128.size a := fun i v5213 k0_hw196 k0_t7 k0_h2 => k0_hw196.2.1.2.2.2.2.2.2.1 k0_t7 k0_h2
theorem k0_off636_inb : ∀ (i : grid0.Coords) (v5213 : BitVec 32) (k0_hw196 : k0_chk196 i v5213) (k0_t7 : Fin (k0_t7_loop v5213).trips), ∀ (k0_h2 : k0_cond2 i = 1#1), ∀ a, (k0_off636 v5213 k0_t7) a + S1x1.size a ≤ S6x2048.size a := fun i v5213 k0_hw196 k0_t7 k0_h2 => k0_hw196.2.1.2.2.2.2.2.2.2.1 k0_t7 k0_h2
theorem k0_off638_inb : ∀ (i : grid0.Coords) (v5213 : BitVec 32) (k0_hw196 : k0_chk196 i v5213) (k0_t7 : Fin (k0_t7_loop v5213).trips), ∀ (k0_h2 : k0_cond2 i = 1#1), ∀ a, (k0_off638 v5213 k0_t7) a + S1x32.size a ≤ S2048x128.size a := fun i v5213 k0_hw196 k0_t7 k0_h2 => k0_hw196.2.1.2.2.2.2.2.2.2.2.1 k0_t7 k0_h2
theorem k0_off639_inb : ∀ (i : grid0.Coords) (v5213 : BitVec 32) (k0_hw196 : k0_chk196 i v5213) (k0_t7 : Fin (k0_t7_loop v5213).trips), ∀ (k0_h2 : k0_cond2 i = 1#1), ∀ a, (k0_off639 v5213 k0_t7) a + S1x1.size a ≤ S6x2048.size a := fun i v5213 k0_hw196 k0_t7 k0_h2 => k0_hw196.2.1.2.2.2.2.2.2.2.2.2.1 k0_t7 k0_h2
theorem k0_off641_inb : ∀ (i : grid0.Coords) (v5213 : BitVec 32) (k0_hw196 : k0_chk196 i v5213) (k0_t7 : Fin (k0_t7_loop v5213).trips), ∀ (k0_h2 : k0_cond2 i = 1#1), ∀ a, (k0_off641 v5213 k0_t7) a + S1x32.size a ≤ S2048x128.size a := fun i v5213 k0_hw196 k0_t7 k0_h2 => k0_hw196.2.1.2.2.2.2.2.2.2.2.2.2.1 k0_t7 k0_h2
theorem k0_off642_inb : ∀ (i : grid0.Coords) (v5213 : BitVec 32) (k0_hw196 : k0_chk196 i v5213) (k0_t7 : Fin (k0_t7_loop v5213).trips), ∀ (k0_h2 : k0_cond2 i = 1#1), ∀ a, (k0_off642 v5213 k0_t7) a + S1x1.size a ≤ S6x2048.size a := fun i v5213 k0_hw196 k0_t7 k0_h2 => k0_hw196.2.1.2.2.2.2.2.2.2.2.2.2.2.1 k0_t7 k0_h2
theorem k0_off644_inb : ∀ (i : grid0.Coords) (v5213 : BitVec 32) (k0_hw196 : k0_chk196 i v5213) (k0_t7 : Fin (k0_t7_loop v5213).trips), ∀ (k0_h2 : k0_cond2 i = 1#1), ∀ a, (k0_off644 v5213 k0_t7) a + S1x32.size a ≤ S2048x128.size a := fun i v5213 k0_hw196 k0_t7 k0_h2 => k0_hw196.2.1.2.2.2.2.2.2.2.2.2.2.2.2.1 k0_t7 k0_h2
theorem k0_off645_inb : ∀ (i : grid0.Coords) (v5213 : BitVec 32) (k0_hw196 : k0_chk196 i v5213) (k0_t7 : Fin (k0_t7_loop v5213).trips), ∀ (k0_h2 : k0_cond2 i = 1#1), ∀ a, (k0_off645 v5213 k0_t7) a + S1x1.size a ≤ S6x2048.size a := fun i v5213 k0_hw196 k0_t7 k0_h2 => k0_hw196.2.1.2.2.2.2.2.2.2.2.2.2.2.2.2.1 k0_t7 k0_h2
theorem k0_off647_inb : ∀ (i : grid0.Coords) (v5213 : BitVec 32) (k0_hw196 : k0_chk196 i v5213) (k0_t7 : Fin (k0_t7_loop v5213).trips), ∀ (k0_h2 : k0_cond2 i = 1#1), ∀ a, (k0_off647 v5213 k0_t7) a + S1x32.size a ≤ S2048x128.size a := fun i v5213 k0_hw196 k0_t7 k0_h2 => k0_hw196.2.1.2.2.2.2.2.2.2.2.2.2.2.2.2.2.1 k0_t7 k0_h2
theorem k0_off648_inb : ∀ (i : grid0.Coords) (v5213 : BitVec 32) (k0_hw196 : k0_chk196 i v5213) (k0_t7 : Fin (k0_t7_loop v5213).trips), ∀ (k0_h2 : k0_cond2 i = 1#1), ∀ a, (k0_off648 v5213 k0_t7) a + S1x1.size a ≤ S6x2048.size a := fun i v5213 k0_hw196 k0_t7 k0_h2 => k0_hw196.2.1.2.2.2.2.2.2.2.2.2.2.2.2.2.2.2.1 k0_t7 k0_h2
theorem k0_off650_inb : ∀ (i : grid0.Coords) (v5213 : BitVec 32) (k0_hw196 : k0_chk196 i v5213) (k0_t7 : Fin (k0_t7_loop v5213).trips), ∀ (k0_h2 : k0_cond2 i = 1#1), ∀ a, (k0_off650 v5213 k0_t7) a + S1x32.size a ≤ S2048x128.size a := fun i v5213 k0_hw196 k0_t7 k0_h2 => k0_hw196.2.1.2.2.2.2.2.2.2.2.2.2.2.2.2.2.2.2.1 k0_t7 k0_h2
theorem k0_off651_inb : ∀ (i : grid0.Coords) (v5213 : BitVec 32) (k0_hw196 : k0_chk196 i v5213) (k0_t7 : Fin (k0_t7_loop v5213).trips), ∀ (k0_h2 : k0_cond2 i = 1#1), ∀ a, (k0_off651 v5213 k0_t7) a + S1x1.size a ≤ S6x2048.size a := fun i v5213 k0_hw196 k0_t7 k0_h2 => k0_hw196.2.1.2.2.2.2.2.2.2.2.2.2.2.2.2.2.2.2.2.1 k0_t7 k0_h2
theorem k0_off653_inb : ∀ (i : grid0.Coords) (v5213 : BitVec 32) (k0_hw196 : k0_chk196 i v5213) (k0_t7 : Fin (k0_t7_loop v5213).trips), ∀ (k0_h2 : k0_cond2 i = 1#1), ∀ a, (k0_off653 v5213 k0_t7) a + S1x32.size a ≤ S2048x128.size a := fun i v5213 k0_hw196 k0_t7 k0_h2 => k0_hw196.2.1.2.2.2.2.2.2.2.2.2.2.2.2.2.2.2.2.2.2.1 k0_t7 k0_h2
theorem k0_off654_inb : ∀ (i : grid0.Coords) (v5213 : BitVec 32) (k0_hw196 : k0_chk196 i v5213) (k0_t7 : Fin (k0_t7_loop v5213).trips), ∀ (k0_h2 : k0_cond2 i = 1#1), ∀ a, (k0_off654 v5213 k0_t7) a + S1x1.size a ≤ S6x2048.size a := fun i v5213 k0_hw196 k0_t7 k0_h2 => k0_hw196.2.1.2.2.2.2.2.2.2.2.2.2.2.2.2.2.2.2.2.2.2.1 k0_t7 k0_h2
theorem k0_off656_inb : ∀ (i : grid0.Coords) (v5213 : BitVec 32) (k0_hw196 : k0_chk196 i v5213) (k0_t7 : Fin (k0_t7_loop v5213).trips), ∀ (k0_h2 : k0_cond2 i = 1#1), ∀ a, (k0_off656 v5213 k0_t7) a + S1x32.size a ≤ S2048x128.size a := fun i v5213 k0_hw196 k0_t7 k0_h2 => k0_hw196.2.1.2.2.2.2.2.2.2.2.2.2.2.2.2.2.2.2.2.2.2.2.1 k0_t7 k0_h2
theorem k0_off657_inb : ∀ (i : grid0.Coords) (v5213 : BitVec 32) (k0_hw196 : k0_chk196 i v5213) (k0_t7 : Fin (k0_t7_loop v5213).trips), ∀ (k0_h2 : k0_cond2 i = 1#1), ∀ a, (k0_off657 v5213 k0_t7) a + S1x1.size a ≤ S6x2048.size a := fun i v5213 k0_hw196 k0_t7 k0_h2 => k0_hw196.2.1.2.2.2.2.2.2.2.2.2.2.2.2.2.2.2.2.2.2.2.2.2.1 k0_t7 k0_h2
theorem k0_off659_inb : ∀ (i : grid0.Coords) (v5213 : BitVec 32) (k0_hw196 : k0_chk196 i v5213) (k0_t7 : Fin (k0_t7_loop v5213).trips), ∀ (k0_h2 : k0_cond2 i = 1#1), ∀ a, (k0_off659 v5213 k0_t7) a + S1x32.size a ≤ S2048x128.size a := fun i v5213 k0_hw196 k0_t7 k0_h2 => k0_hw196.2.1.2.2.2.2.2.2.2.2.2.2.2.2.2.2.2.2.2.2.2.2.2.2.1 k0_t7 k0_h2
theorem k0_off660_inb : ∀ (i : grid0.Coords) (v5213 : BitVec 32) (k0_hw196 : k0_chk196 i v5213) (k0_t7 : Fin (k0_t7_loop v5213).trips), ∀ (k0_h2 : k0_cond2 i = 1#1), ∀ a, (k0_off660 v5213 k0_t7) a + S1x1.size a ≤ S6x2048.size a := fun i v5213 k0_hw196 k0_t7 k0_h2 => k0_hw196.2.1.2.2.2.2.2.2.2.2.2.2.2.2.2.2.2.2.2.2.2.2.2.2.2.1 k0_t7 k0_h2
theorem k0_off662_inb : ∀ (i : grid0.Coords) (v5213 : BitVec 32) (k0_hw196 : k0_chk196 i v5213) (k0_t7 : Fin (k0_t7_loop v5213).trips), ∀ (k0_h2 : k0_cond2 i = 1#1), ∀ a, (k0_off662 v5213 k0_t7) a + S1x32.size a ≤ S2048x128.size a := fun i v5213 k0_hw196 k0_t7 k0_h2 => k0_hw196.2.1.2.2.2.2.2.2.2.2.2.2.2.2.2.2.2.2.2.2.2.2.2.2.2.2.1 k0_t7 k0_h2
theorem k0_off663_inb : ∀ (i : grid0.Coords) (v5213 : BitVec 32) (k0_hw196 : k0_chk196 i v5213) (k0_t7 : Fin (k0_t7_loop v5213).trips), ∀ (k0_h2 : k0_cond2 i = 1#1), ∀ a, (k0_off663 v5213 k0_t7) a + S1x1.size a ≤ S6x2048.size a := fun i v5213 k0_hw196 k0_t7 k0_h2 => k0_hw196.2.1.2.2.2.2.2.2.2.2.2.2.2.2.2.2.2.2.2.2.2.2.2.2.2.2.2.1 k0_t7 k0_h2
theorem k0_off665_inb : ∀ (i : grid0.Coords) (v5213 : BitVec 32) (k0_hw196 : k0_chk196 i v5213) (k0_t7 : Fin (k0_t7_loop v5213).trips), ∀ (k0_h2 : k0_cond2 i = 1#1), ∀ a, (k0_off665 v5213 k0_t7) a + S1x32.size a ≤ S2048x128.size a := fun i v5213 k0_hw196 k0_t7 k0_h2 => k0_hw196.2.1.2.2.2.2.2.2.2.2.2.2.2.2.2.2.2.2.2.2.2.2.2.2.2.2.2.2.1 k0_t7 k0_h2
theorem k0_off666_inb : ∀ (i : grid0.Coords) (v5213 : BitVec 32) (k0_hw196 : k0_chk196 i v5213) (k0_t7 : Fin (k0_t7_loop v5213).trips), ∀ (k0_h2 : k0_cond2 i = 1#1), ∀ a, (k0_off666 v5213 k0_t7) a + S1x1.size a ≤ S6x2048.size a := fun i v5213 k0_hw196 k0_t7 k0_h2 => k0_hw196.2.1.2.2.2.2.2.2.2.2.2.2.2.2.2.2.2.2.2.2.2.2.2.2.2.2.2.2.2.1 k0_t7 k0_h2
theorem k0_off668_inb : ∀ (i : grid0.Coords) (v5213 : BitVec 32) (k0_hw196 : k0_chk196 i v5213) (k0_t7 : Fin (k0_t7_loop v5213).trips), ∀ (k0_h2 : k0_cond2 i = 1#1), ∀ a, (k0_off668 v5213 k0_t7) a + S1x32.size a ≤ S2048x128.size a := fun i v5213 k0_hw196 k0_t7 k0_h2 => k0_hw196.2.1.2.2.2.2.2.2.2.2.2.2.2.2.2.2.2.2.2.2.2.2.2.2.2.2.2.2.2.2.1 k0_t7 k0_h2
theorem k0_off669_inb : ∀ (i : grid0.Coords) (v5213 : BitVec 32) (k0_hw196 : k0_chk196 i v5213) (k0_t7 : Fin (k0_t7_loop v5213).trips), ∀ (k0_h2 : k0_cond2 i = 1#1), ∀ a, (k0_off669 v5213 k0_t7) a + S1x1.size a ≤ S6x2048.size a := fun i v5213 k0_hw196 k0_t7 k0_h2 => k0_hw196.2.1.2.2.2.2.2.2.2.2.2.2.2.2.2.2.2.2.2.2.2.2.2.2.2.2.2.2.2.2.2.1 k0_t7 k0_h2
theorem k0_off671_inb : ∀ (i : grid0.Coords) (v5213 : BitVec 32) (k0_hw196 : k0_chk196 i v5213) (k0_t7 : Fin (k0_t7_loop v5213).trips), ∀ (k0_h2 : k0_cond2 i = 1#1), ∀ a, (k0_off671 v5213 k0_t7) a + S1x32.size a ≤ S2048x128.size a := fun i v5213 k0_hw196 k0_t7 k0_h2 => k0_hw196.2.1.2.2.2.2.2.2.2.2.2.2.2.2.2.2.2.2.2.2.2.2.2.2.2.2.2.2.2.2.2.2.1 k0_t7 k0_h2
theorem k0_off672_inb : ∀ (i : grid0.Coords) (v5213 : BitVec 32) (k0_hw196 : k0_chk196 i v5213) (k0_t7 : Fin (k0_t7_loop v5213).trips), ∀ (k0_h2 : k0_cond2 i = 1#1), ∀ a, (k0_off672 v5213 k0_t7) a + S1x1.size a ≤ S6x2048.size a := fun i v5213 k0_hw196 k0_t7 k0_h2 => k0_hw196.2.1.2.2.2.2.2.2.2.2.2.2.2.2.2.2.2.2.2.2.2.2.2.2.2.2.2.2.2.2.2.2.2 k0_t7 k0_h2
theorem k0_off674_inb : ∀ (i : grid0.Coords) (v5213 : BitVec 32) (k0_hw196 : k0_chk196 i v5213) (k0_t7 : Fin (k0_t7_loop v5213).trips), ∀ (k0_h2 : k0_cond2 i = 1#1), ∀ a, (k0_off674 v5213 k0_t7) a + S1x32.size a ≤ S2048x128.size a := fun i v5213 k0_hw196 k0_t7 k0_h2 => k0_hw196.2.2.1.1 k0_t7 k0_h2
theorem k0_t8_ok : ∀ (i : grid0.Coords) (v5213 : BitVec 32) (k0_hw196 : k0_chk196 i v5213), ∀ (k0_h2 : k0_cond2 i = 1#1), (k0_t8_loop v5213).OK := fun i v5213 k0_hw196 k0_h2 => k0_hw196.2.2.1.2.1 k0_h2
theorem k0_off675_inb : ∀ (i : grid0.Coords) (v5213 : BitVec 32) (k0_hw196 : k0_chk196 i v5213) (k0_t8 : Fin (k0_t8_loop v5213).trips), ∀ (k0_h2 : k0_cond2 i = 1#1), ∀ a, (k0_off675 v5213 k0_t8) a + S1x1.size a ≤ S6x2048.size a := fun i v5213 k0_hw196 k0_t8 k0_h2 => k0_hw196.2.2.1.2.2.1 k0_t8 k0_h2
theorem k0_off677_inb : ∀ (i : grid0.Coords) (v5213 : BitVec 32) (k0_hw196 : k0_chk196 i v5213) (k0_t8 : Fin (k0_t8_loop v5213).trips), ∀ (k0_h2 : k0_cond2 i = 1#1), ∀ a, (k0_off677 v5213 k0_t8) a + S1x32.size a ≤ S2048x128.size a := fun i v5213 k0_hw196 k0_t8 k0_h2 => k0_hw196.2.2.1.2.2.2.1 k0_t8 k0_h2
theorem k0_off678_inb : ∀ (i : grid0.Coords) (v5213 : BitVec 32) (k0_hw196 : k0_chk196 i v5213) (k0_t8 : Fin (k0_t8_loop v5213).trips), ∀ (k0_h2 : k0_cond2 i = 1#1), ∀ a, (k0_off678 v5213 k0_t8) a + S1x1.size a ≤ S6x2048.size a := fun i v5213 k0_hw196 k0_t8 k0_h2 => k0_hw196.2.2.1.2.2.2.2.1 k0_t8 k0_h2
theorem k0_off680_inb : ∀ (i : grid0.Coords) (v5213 : BitVec 32) (k0_hw196 : k0_chk196 i v5213) (k0_t8 : Fin (k0_t8_loop v5213).trips), ∀ (k0_h2 : k0_cond2 i = 1#1), ∀ a, (k0_off680 v5213 k0_t8) a + S1x32.size a ≤ S2048x128.size a := fun i v5213 k0_hw196 k0_t8 k0_h2 => k0_hw196.2.2.1.2.2.2.2.2.1 k0_t8 k0_h2
theorem k0_off681_inb : ∀ (i : grid0.Coords) (v5213 : BitVec 32) (k0_hw196 : k0_chk196 i v5213) (k0_t8 : Fin (k0_t8_loop v5213).trips), ∀ (k0_h2 : k0_cond2 i = 1#1), ∀ a, (k0_off681 v5213 k0_t8) a + S1x1.size a ≤ S6x2048.size a := fun i v5213 k0_hw196 k0_t8 k0_h2 => k0_hw196.2.2.1.2.2.2.2.2.2.1 k0_t8 k0_h2
theorem k0_off683_inb : ∀ (i : grid0.Coords) (v5213 : BitVec 32) (k0_hw196 : k0_chk196 i v5213) (k0_t8 : Fin (k0_t8_loop v5213).trips), ∀ (k0_h2 : k0_cond2 i = 1#1), ∀ a, (k0_off683 v5213 k0_t8) a + S1x32.size a ≤ S2048x128.size a := fun i v5213 k0_hw196 k0_t8 k0_h2 => k0_hw196.2.2.1.2.2.2.2.2.2.2.1 k0_t8 k0_h2
theorem k0_off684_inb : ∀ (i : grid0.Coords) (v5213 : BitVec 32) (k0_hw196 : k0_chk196 i v5213) (k0_t8 : Fin (k0_t8_loop v5213).trips), ∀ (k0_h2 : k0_cond2 i = 1#1), ∀ a, (k0_off684 v5213 k0_t8) a + S1x1.size a ≤ S6x2048.size a := fun i v5213 k0_hw196 k0_t8 k0_h2 => k0_hw196.2.2.1.2.2.2.2.2.2.2.2.1 k0_t8 k0_h2
theorem k0_off686_inb : ∀ (i : grid0.Coords) (v5213 : BitVec 32) (k0_hw196 : k0_chk196 i v5213) (k0_t8 : Fin (k0_t8_loop v5213).trips), ∀ (k0_h2 : k0_cond2 i = 1#1), ∀ a, (k0_off686 v5213 k0_t8) a + S1x32.size a ≤ S2048x128.size a := fun i v5213 k0_hw196 k0_t8 k0_h2 => k0_hw196.2.2.1.2.2.2.2.2.2.2.2.2.1 k0_t8 k0_h2
theorem k0_off687_inb : ∀ (i : grid0.Coords) (v5213 : BitVec 32) (k0_hw196 : k0_chk196 i v5213) (k0_t8 : Fin (k0_t8_loop v5213).trips), ∀ (k0_h2 : k0_cond2 i = 1#1), ∀ a, (k0_off687 v5213 k0_t8) a + S1x1.size a ≤ S6x2048.size a := fun i v5213 k0_hw196 k0_t8 k0_h2 => k0_hw196.2.2.1.2.2.2.2.2.2.2.2.2.2.1 k0_t8 k0_h2
theorem k0_off689_inb : ∀ (i : grid0.Coords) (v5213 : BitVec 32) (k0_hw196 : k0_chk196 i v5213) (k0_t8 : Fin (k0_t8_loop v5213).trips), ∀ (k0_h2 : k0_cond2 i = 1#1), ∀ a, (k0_off689 v5213 k0_t8) a + S1x32.size a ≤ S2048x128.size a := fun i v5213 k0_hw196 k0_t8 k0_h2 => k0_hw196.2.2.1.2.2.2.2.2.2.2.2.2.2.2.1 k0_t8 k0_h2
theorem k0_off690_inb : ∀ (i : grid0.Coords) (v5213 : BitVec 32) (k0_hw196 : k0_chk196 i v5213) (k0_t8 : Fin (k0_t8_loop v5213).trips), ∀ (k0_h2 : k0_cond2 i = 1#1), ∀ a, (k0_off690 v5213 k0_t8) a + S1x1.size a ≤ S6x2048.size a := fun i v5213 k0_hw196 k0_t8 k0_h2 => k0_hw196.2.2.1.2.2.2.2.2.2.2.2.2.2.2.2.1 k0_t8 k0_h2
theorem k0_off692_inb : ∀ (i : grid0.Coords) (v5213 : BitVec 32) (k0_hw196 : k0_chk196 i v5213) (k0_t8 : Fin (k0_t8_loop v5213).trips), ∀ (k0_h2 : k0_cond2 i = 1#1), ∀ a, (k0_off692 v5213 k0_t8) a + S1x32.size a ≤ S2048x128.size a := fun i v5213 k0_hw196 k0_t8 k0_h2 => k0_hw196.2.2.1.2.2.2.2.2.2.2.2.2.2.2.2.2.1 k0_t8 k0_h2
theorem k0_off693_inb : ∀ (i : grid0.Coords) (v5213 : BitVec 32) (k0_hw196 : k0_chk196 i v5213) (k0_t8 : Fin (k0_t8_loop v5213).trips), ∀ (k0_h2 : k0_cond2 i = 1#1), ∀ a, (k0_off693 v5213 k0_t8) a + S1x1.size a ≤ S6x2048.size a := fun i v5213 k0_hw196 k0_t8 k0_h2 => k0_hw196.2.2.1.2.2.2.2.2.2.2.2.2.2.2.2.2.2.1 k0_t8 k0_h2
theorem k0_off695_inb : ∀ (i : grid0.Coords) (v5213 : BitVec 32) (k0_hw196 : k0_chk196 i v5213) (k0_t8 : Fin (k0_t8_loop v5213).trips), ∀ (k0_h2 : k0_cond2 i = 1#1), ∀ a, (k0_off695 v5213 k0_t8) a + S1x32.size a ≤ S2048x128.size a := fun i v5213 k0_hw196 k0_t8 k0_h2 => k0_hw196.2.2.1.2.2.2.2.2.2.2.2.2.2.2.2.2.2.2.1 k0_t8 k0_h2
theorem k0_off696_inb : ∀ (i : grid0.Coords) (v5213 : BitVec 32) (k0_hw196 : k0_chk196 i v5213) (k0_t8 : Fin (k0_t8_loop v5213).trips), ∀ (k0_h2 : k0_cond2 i = 1#1), ∀ a, (k0_off696 v5213 k0_t8) a + S1x1.size a ≤ S6x2048.size a := fun i v5213 k0_hw196 k0_t8 k0_h2 => k0_hw196.2.2.1.2.2.2.2.2.2.2.2.2.2.2.2.2.2.2.2.1 k0_t8 k0_h2
theorem k0_off698_inb : ∀ (i : grid0.Coords) (v5213 : BitVec 32) (k0_hw196 : k0_chk196 i v5213) (k0_t8 : Fin (k0_t8_loop v5213).trips), ∀ (k0_h2 : k0_cond2 i = 1#1), ∀ a, (k0_off698 v5213 k0_t8) a + S1x32.size a ≤ S2048x128.size a := fun i v5213 k0_hw196 k0_t8 k0_h2 => k0_hw196.2.2.1.2.2.2.2.2.2.2.2.2.2.2.2.2.2.2.2.2.1 k0_t8 k0_h2
theorem k0_off699_inb : ∀ (i : grid0.Coords) (v5213 : BitVec 32) (k0_hw196 : k0_chk196 i v5213) (k0_t8 : Fin (k0_t8_loop v5213).trips), ∀ (k0_h2 : k0_cond2 i = 1#1), ∀ a, (k0_off699 v5213 k0_t8) a + S1x1.size a ≤ S6x2048.size a := fun i v5213 k0_hw196 k0_t8 k0_h2 => k0_hw196.2.2.1.2.2.2.2.2.2.2.2.2.2.2.2.2.2.2.2.2.2.1 k0_t8 k0_h2
theorem k0_off701_inb : ∀ (i : grid0.Coords) (v5213 : BitVec 32) (k0_hw196 : k0_chk196 i v5213) (k0_t8 : Fin (k0_t8_loop v5213).trips), ∀ (k0_h2 : k0_cond2 i = 1#1), ∀ a, (k0_off701 v5213 k0_t8) a + S1x32.size a ≤ S2048x128.size a := fun i v5213 k0_hw196 k0_t8 k0_h2 => k0_hw196.2.2.1.2.2.2.2.2.2.2.2.2.2.2.2.2.2.2.2.2.2.2.1 k0_t8 k0_h2
theorem k0_off702_inb : ∀ (i : grid0.Coords) (v5213 : BitVec 32) (k0_hw196 : k0_chk196 i v5213) (k0_t8 : Fin (k0_t8_loop v5213).trips), ∀ (k0_h2 : k0_cond2 i = 1#1), ∀ a, (k0_off702 v5213 k0_t8) a + S1x1.size a ≤ S6x2048.size a := fun i v5213 k0_hw196 k0_t8 k0_h2 => k0_hw196.2.2.1.2.2.2.2.2.2.2.2.2.2.2.2.2.2.2.2.2.2.2.2.1 k0_t8 k0_h2
theorem k0_off704_inb : ∀ (i : grid0.Coords) (v5213 : BitVec 32) (k0_hw196 : k0_chk196 i v5213) (k0_t8 : Fin (k0_t8_loop v5213).trips), ∀ (k0_h2 : k0_cond2 i = 1#1), ∀ a, (k0_off704 v5213 k0_t8) a + S1x32.size a ≤ S2048x128.size a := fun i v5213 k0_hw196 k0_t8 k0_h2 => k0_hw196.2.2.1.2.2.2.2.2.2.2.2.2.2.2.2.2.2.2.2.2.2.2.2.2.1 k0_t8 k0_h2
theorem k0_off705_inb : ∀ (i : grid0.Coords) (v5213 : BitVec 32) (k0_hw196 : k0_chk196 i v5213) (k0_t8 : Fin (k0_t8_loop v5213).trips), ∀ (k0_h2 : k0_cond2 i = 1#1), ∀ a, (k0_off705 v5213 k0_t8) a + S1x1.size a ≤ S6x2048.size a := fun i v5213 k0_hw196 k0_t8 k0_h2 => k0_hw196.2.2.1.2.2.2.2.2.2.2.2.2.2.2.2.2.2.2.2.2.2.2.2.2.2.1 k0_t8 k0_h2
theorem k0_off707_inb : ∀ (i : grid0.Coords) (v5213 : BitVec 32) (k0_hw196 : k0_chk196 i v5213) (k0_t8 : Fin (k0_t8_loop v5213).trips), ∀ (k0_h2 : k0_cond2 i = 1#1), ∀ a, (k0_off707 v5213 k0_t8) a + S1x32.size a ≤ S2048x128.size a := fun i v5213 k0_hw196 k0_t8 k0_h2 => k0_hw196.2.2.1.2.2.2.2.2.2.2.2.2.2.2.2.2.2.2.2.2.2.2.2.2.2.2.1 k0_t8 k0_h2
theorem k0_off708_inb : ∀ (i : grid0.Coords) (v5213 : BitVec 32) (k0_hw196 : k0_chk196 i v5213) (k0_t8 : Fin (k0_t8_loop v5213).trips), ∀ (k0_h2 : k0_cond2 i = 1#1), ∀ a, (k0_off708 v5213 k0_t8) a + S1x1.size a ≤ S6x2048.size a := fun i v5213 k0_hw196 k0_t8 k0_h2 => k0_hw196.2.2.1.2.2.2.2.2.2.2.2.2.2.2.2.2.2.2.2.2.2.2.2.2.2.2.2.1 k0_t8 k0_h2
theorem k0_off710_inb : ∀ (i : grid0.Coords) (v5213 : BitVec 32) (k0_hw196 : k0_chk196 i v5213) (k0_t8 : Fin (k0_t8_loop v5213).trips), ∀ (k0_h2 : k0_cond2 i = 1#1), ∀ a, (k0_off710 v5213 k0_t8) a + S1x32.size a ≤ S2048x128.size a := fun i v5213 k0_hw196 k0_t8 k0_h2 => k0_hw196.2.2.1.2.2.2.2.2.2.2.2.2.2.2.2.2.2.2.2.2.2.2.2.2.2.2.2.2.1 k0_t8 k0_h2
theorem k0_off711_inb : ∀ (i : grid0.Coords) (v5213 : BitVec 32) (k0_hw196 : k0_chk196 i v5213) (k0_t8 : Fin (k0_t8_loop v5213).trips), ∀ (k0_h2 : k0_cond2 i = 1#1), ∀ a, (k0_off711 v5213 k0_t8) a + S1x1.size a ≤ S6x2048.size a := fun i v5213 k0_hw196 k0_t8 k0_h2 => k0_hw196.2.2.1.2.2.2.2.2.2.2.2.2.2.2.2.2.2.2.2.2.2.2.2.2.2.2.2.2.2.1 k0_t8 k0_h2
theorem k0_off713_inb : ∀ (i : grid0.Coords) (v5213 : BitVec 32) (k0_hw196 : k0_chk196 i v5213) (k0_t8 : Fin (k0_t8_loop v5213).trips), ∀ (k0_h2 : k0_cond2 i = 1#1), ∀ a, (k0_off713 v5213 k0_t8) a + S1x32.size a ≤ S2048x128.size a := fun i v5213 k0_hw196 k0_t8 k0_h2 => k0_hw196.2.2.1.2.2.2.2.2.2.2.2.2.2.2.2.2.2.2.2.2.2.2.2.2.2.2.2.2.2.2.1 k0_t8 k0_h2
theorem k0_off714_inb : ∀ (i : grid0.Coords) (v5213 : BitVec 32) (k0_hw196 : k0_chk196 i v5213) (k0_t8 : Fin (k0_t8_loop v5213).trips), ∀ (k0_h2 : k0_cond2 i = 1#1), ∀ a, (k0_off714 v5213 k0_t8) a + S1x1.size a ≤ S6x2048.size a := fun i v5213 k0_hw196 k0_t8 k0_h2 => k0_hw196.2.2.1.2.2.2.2.2.2.2.2.2.2.2.2.2.2.2.2.2.2.2.2.2.2.2.2.2.2.2.2.1 k0_t8 k0_h2
theorem k0_off716_inb : ∀ (i : grid0.Coords) (v5213 : BitVec 32) (k0_hw196 : k0_chk196 i v5213) (k0_t8 : Fin (k0_t8_loop v5213).trips), ∀ (k0_h2 : k0_cond2 i = 1#1), ∀ a, (k0_off716 v5213 k0_t8) a + S1x32.size a ≤ S2048x128.size a := fun i v5213 k0_hw196 k0_t8 k0_h2 => k0_hw196.2.2.1.2.2.2.2.2.2.2.2.2.2.2.2.2.2.2.2.2.2.2.2.2.2.2.2.2.2.2.2.2.1 k0_t8 k0_h2
theorem k0_off717_inb : ∀ (i : grid0.Coords) (v5213 : BitVec 32) (k0_hw196 : k0_chk196 i v5213) (k0_t8 : Fin (k0_t8_loop v5213).trips), ∀ (k0_h2 : k0_cond2 i = 1#1), ∀ a, (k0_off717 v5213 k0_t8) a + S1x1.size a ≤ S6x2048.size a := fun i v5213 k0_hw196 k0_t8 k0_h2 => k0_hw196.2.2.1.2.2.2.2.2.2.2.2.2.2.2.2.2.2.2.2.2.2.2.2.2.2.2.2.2.2.2.2.2.2.1 k0_t8 k0_h2
theorem k0_off719_inb : ∀ (i : grid0.Coords) (v5213 : BitVec 32) (k0_hw196 : k0_chk196 i v5213) (k0_t8 : Fin (k0_t8_loop v5213).trips), ∀ (k0_h2 : k0_cond2 i = 1#1), ∀ a, (k0_off719 v5213 k0_t8) a + S1x32.size a ≤ S2048x128.size a := fun i v5213 k0_hw196 k0_t8 k0_h2 => k0_hw196.2.2.1.2.2.2.2.2.2.2.2.2.2.2.2.2.2.2.2.2.2.2.2.2.2.2.2.2.2.2.2.2.2.2 k0_t8 k0_h2
theorem k0_off720_inb : ∀ (i : grid0.Coords) (v5213 : BitVec 32) (k0_hw196 : k0_chk196 i v5213) (k0_t8 : Fin (k0_t8_loop v5213).trips), ∀ (k0_h2 : k0_cond2 i = 1#1), ∀ a, (k0_off720 v5213 k0_t8) a + S1x1.size a ≤ S6x2048.size a := fun i v5213 k0_hw196 k0_t8 k0_h2 => k0_hw196.2.2.2.1.1 k0_t8 k0_h2
theorem k0_off722_inb : ∀ (i : grid0.Coords) (v5213 : BitVec 32) (k0_hw196 : k0_chk196 i v5213) (k0_t8 : Fin (k0_t8_loop v5213).trips), ∀ (k0_h2 : k0_cond2 i = 1#1), ∀ a, (k0_off722 v5213 k0_t8) a + S1x32.size a ≤ S2048x128.size a := fun i v5213 k0_hw196 k0_t8 k0_h2 => k0_hw196.2.2.2.1.2.1 k0_t8 k0_h2
theorem k0_off723_inb : ∀ (i : grid0.Coords) (v5213 : BitVec 32) (k0_hw196 : k0_chk196 i v5213) (k0_t8 : Fin (k0_t8_loop v5213).trips), ∀ (k0_h2 : k0_cond2 i = 1#1), ∀ a, (k0_off723 v5213 k0_t8) a + S1x1.size a ≤ S6x2048.size a := fun i v5213 k0_hw196 k0_t8 k0_h2 => k0_hw196.2.2.2.1.2.2.1 k0_t8 k0_h2
theorem k0_off725_inb : ∀ (i : grid0.Coords) (v5213 : BitVec 32) (k0_hw196 : k0_chk196 i v5213) (k0_t8 : Fin (k0_t8_loop v5213).trips), ∀ (k0_h2 : k0_cond2 i = 1#1), ∀ a, (k0_off725 v5213 k0_t8) a + S1x32.size a ≤ S2048x128.size a := fun i v5213 k0_hw196 k0_t8 k0_h2 => k0_hw196.2.2.2.1.2.2.2.1 k0_t8 k0_h2
theorem k0_off726_inb : ∀ (i : grid0.Coords) (v5213 : BitVec 32) (k0_hw196 : k0_chk196 i v5213) (k0_t8 : Fin (k0_t8_loop v5213).trips), ∀ (k0_h2 : k0_cond2 i = 1#1), ∀ a, (k0_off726 v5213 k0_t8) a + S1x1.size a ≤ S6x2048.size a := fun i v5213 k0_hw196 k0_t8 k0_h2 => k0_hw196.2.2.2.1.2.2.2.2.1 k0_t8 k0_h2
theorem k0_off728_inb : ∀ (i : grid0.Coords) (v5213 : BitVec 32) (k0_hw196 : k0_chk196 i v5213) (k0_t8 : Fin (k0_t8_loop v5213).trips), ∀ (k0_h2 : k0_cond2 i = 1#1), ∀ a, (k0_off728 v5213 k0_t8) a + S1x32.size a ≤ S2048x128.size a := fun i v5213 k0_hw196 k0_t8 k0_h2 => k0_hw196.2.2.2.1.2.2.2.2.2.1 k0_t8 k0_h2
theorem k0_off729_inb : ∀ (i : grid0.Coords) (v5213 : BitVec 32) (k0_hw196 : k0_chk196 i v5213) (k0_t8 : Fin (k0_t8_loop v5213).trips), ∀ (k0_h2 : k0_cond2 i = 1#1), ∀ a, (k0_off729 v5213 k0_t8) a + S1x1.size a ≤ S6x2048.size a := fun i v5213 k0_hw196 k0_t8 k0_h2 => k0_hw196.2.2.2.1.2.2.2.2.2.2.1 k0_t8 k0_h2
theorem k0_off731_inb : ∀ (i : grid0.Coords) (v5213 : BitVec 32) (k0_hw196 : k0_chk196 i v5213) (k0_t8 : Fin (k0_t8_loop v5213).trips), ∀ (k0_h2 : k0_cond2 i = 1#1), ∀ a, (k0_off731 v5213 k0_t8) a + S1x32.size a ≤ S2048x128.size a := fun i v5213 k0_hw196 k0_t8 k0_h2 => k0_hw196.2.2.2.1.2.2.2.2.2.2.2.1 k0_t8 k0_h2
theorem k0_off732_inb : ∀ (i : grid0.Coords) (v5213 : BitVec 32) (k0_hw196 : k0_chk196 i v5213) (k0_t8 : Fin (k0_t8_loop v5213).trips), ∀ (k0_h2 : k0_cond2 i = 1#1), ∀ a, (k0_off732 v5213 k0_t8) a + S1x1.size a ≤ S6x2048.size a := fun i v5213 k0_hw196 k0_t8 k0_h2 => k0_hw196.2.2.2.1.2.2.2.2.2.2.2.2.1 k0_t8 k0_h2
theorem k0_off734_inb : ∀ (i : grid0.Coords) (v5213 : BitVec 32) (k0_hw196 : k0_chk196 i v5213) (k0_t8 : Fin (k0_t8_loop v5213).trips), ∀ (k0_h2 : k0_cond2 i = 1#1), ∀ a, (k0_off734 v5213 k0_t8) a + S1x32.size a ≤ S2048x128.size a := fun i v5213 k0_hw196 k0_t8 k0_h2 => k0_hw196.2.2.2.1.2.2.2.2.2.2.2.2.2.1 k0_t8 k0_h2
theorem k0_off735_inb : ∀ (i : grid0.Coords) (v5213 : BitVec 32) (k0_hw196 : k0_chk196 i v5213) (k0_t8 : Fin (k0_t8_loop v5213).trips), ∀ (k0_h2 : k0_cond2 i = 1#1), ∀ a, (k0_off735 v5213 k0_t8) a + S1x1.size a ≤ S6x2048.size a := fun i v5213 k0_hw196 k0_t8 k0_h2 => k0_hw196.2.2.2.1.2.2.2.2.2.2.2.2.2.2.1 k0_t8 k0_h2
theorem k0_off737_inb : ∀ (i : grid0.Coords) (v5213 : BitVec 32) (k0_hw196 : k0_chk196 i v5213) (k0_t8 : Fin (k0_t8_loop v5213).trips), ∀ (k0_h2 : k0_cond2 i = 1#1), ∀ a, (k0_off737 v5213 k0_t8) a + S1x32.size a ≤ S2048x128.size a := fun i v5213 k0_hw196 k0_t8 k0_h2 => k0_hw196.2.2.2.1.2.2.2.2.2.2.2.2.2.2.2.1 k0_t8 k0_h2
theorem k0_off738_inb : ∀ (i : grid0.Coords) (v5213 : BitVec 32) (k0_hw196 : k0_chk196 i v5213) (k0_t8 : Fin (k0_t8_loop v5213).trips), ∀ (k0_h2 : k0_cond2 i = 1#1), ∀ a, (k0_off738 v5213 k0_t8) a + S1x1.size a ≤ S6x2048.size a := fun i v5213 k0_hw196 k0_t8 k0_h2 => k0_hw196.2.2.2.1.2.2.2.2.2.2.2.2.2.2.2.2.1 k0_t8 k0_h2
theorem k0_off740_inb : ∀ (i : grid0.Coords) (v5213 : BitVec 32) (k0_hw196 : k0_chk196 i v5213) (k0_t8 : Fin (k0_t8_loop v5213).trips), ∀ (k0_h2 : k0_cond2 i = 1#1), ∀ a, (k0_off740 v5213 k0_t8) a + S1x32.size a ≤ S2048x128.size a := fun i v5213 k0_hw196 k0_t8 k0_h2 => k0_hw196.2.2.2.1.2.2.2.2.2.2.2.2.2.2.2.2.2.1 k0_t8 k0_h2
theorem k0_off741_inb : ∀ (i : grid0.Coords) (v5213 : BitVec 32) (k0_hw196 : k0_chk196 i v5213) (k0_t8 : Fin (k0_t8_loop v5213).trips), ∀ (k0_h2 : k0_cond2 i = 1#1), ∀ a, (k0_off741 v5213 k0_t8) a + S1x1.size a ≤ S6x2048.size a := fun i v5213 k0_hw196 k0_t8 k0_h2 => k0_hw196.2.2.2.1.2.2.2.2.2.2.2.2.2.2.2.2.2.2.1 k0_t8 k0_h2
theorem k0_off743_inb : ∀ (i : grid0.Coords) (v5213 : BitVec 32) (k0_hw196 : k0_chk196 i v5213) (k0_t8 : Fin (k0_t8_loop v5213).trips), ∀ (k0_h2 : k0_cond2 i = 1#1), ∀ a, (k0_off743 v5213 k0_t8) a + S1x32.size a ≤ S2048x128.size a := fun i v5213 k0_hw196 k0_t8 k0_h2 => k0_hw196.2.2.2.1.2.2.2.2.2.2.2.2.2.2.2.2.2.2.2.1 k0_t8 k0_h2
theorem k0_off744_inb : ∀ (i : grid0.Coords) (v5213 : BitVec 32) (k0_hw196 : k0_chk196 i v5213) (k0_t8 : Fin (k0_t8_loop v5213).trips), ∀ (k0_h2 : k0_cond2 i = 1#1), ∀ a, (k0_off744 v5213 k0_t8) a + S1x1.size a ≤ S6x2048.size a := fun i v5213 k0_hw196 k0_t8 k0_h2 => k0_hw196.2.2.2.1.2.2.2.2.2.2.2.2.2.2.2.2.2.2.2.2.1 k0_t8 k0_h2
theorem k0_off746_inb : ∀ (i : grid0.Coords) (v5213 : BitVec 32) (k0_hw196 : k0_chk196 i v5213) (k0_t8 : Fin (k0_t8_loop v5213).trips), ∀ (k0_h2 : k0_cond2 i = 1#1), ∀ a, (k0_off746 v5213 k0_t8) a + S1x32.size a ≤ S2048x128.size a := fun i v5213 k0_hw196 k0_t8 k0_h2 => k0_hw196.2.2.2.1.2.2.2.2.2.2.2.2.2.2.2.2.2.2.2.2.2.1 k0_t8 k0_h2
theorem k0_off747_inb : ∀ (i : grid0.Coords) (v5213 : BitVec 32) (k0_hw196 : k0_chk196 i v5213) (k0_t8 : Fin (k0_t8_loop v5213).trips), ∀ (k0_h2 : k0_cond2 i = 1#1), ∀ a, (k0_off747 v5213 k0_t8) a + S1x1.size a ≤ S6x2048.size a := fun i v5213 k0_hw196 k0_t8 k0_h2 => k0_hw196.2.2.2.1.2.2.2.2.2.2.2.2.2.2.2.2.2.2.2.2.2.2.1 k0_t8 k0_h2
theorem k0_off749_inb : ∀ (i : grid0.Coords) (v5213 : BitVec 32) (k0_hw196 : k0_chk196 i v5213) (k0_t8 : Fin (k0_t8_loop v5213).trips), ∀ (k0_h2 : k0_cond2 i = 1#1), ∀ a, (k0_off749 v5213 k0_t8) a + S1x32.size a ≤ S2048x128.size a := fun i v5213 k0_hw196 k0_t8 k0_h2 => k0_hw196.2.2.2.1.2.2.2.2.2.2.2.2.2.2.2.2.2.2.2.2.2.2.2.1 k0_t8 k0_h2
theorem k0_off750_inb : ∀ (i : grid0.Coords) (v5213 : BitVec 32) (k0_hw196 : k0_chk196 i v5213) (k0_t8 : Fin (k0_t8_loop v5213).trips), ∀ (k0_h2 : k0_cond2 i = 1#1), ∀ a, (k0_off750 v5213 k0_t8) a + S1x1.size a ≤ S6x2048.size a := fun i v5213 k0_hw196 k0_t8 k0_h2 => k0_hw196.2.2.2.1.2.2.2.2.2.2.2.2.2.2.2.2.2.2.2.2.2.2.2.2.1 k0_t8 k0_h2
theorem k0_off752_inb : ∀ (i : grid0.Coords) (v5213 : BitVec 32) (k0_hw196 : k0_chk196 i v5213) (k0_t8 : Fin (k0_t8_loop v5213).trips), ∀ (k0_h2 : k0_cond2 i = 1#1), ∀ a, (k0_off752 v5213 k0_t8) a + S1x32.size a ≤ S2048x128.size a := fun i v5213 k0_hw196 k0_t8 k0_h2 => k0_hw196.2.2.2.1.2.2.2.2.2.2.2.2.2.2.2.2.2.2.2.2.2.2.2.2.2.1 k0_t8 k0_h2
theorem k0_off753_inb : ∀ (i : grid0.Coords) (v5213 : BitVec 32) (k0_hw196 : k0_chk196 i v5213) (k0_t8 : Fin (k0_t8_loop v5213).trips), ∀ (k0_h2 : k0_cond2 i = 1#1), ∀ a, (k0_off753 v5213 k0_t8) a + S1x1.size a ≤ S6x2048.size a := fun i v5213 k0_hw196 k0_t8 k0_h2 => k0_hw196.2.2.2.1.2.2.2.2.2.2.2.2.2.2.2.2.2.2.2.2.2.2.2.2.2.2.1 k0_t8 k0_h2
theorem k0_off755_inb : ∀ (i : grid0.Coords) (v5213 : BitVec 32) (k0_hw196 : k0_chk196 i v5213) (k0_t8 : Fin (k0_t8_loop v5213).trips), ∀ (k0_h2 : k0_cond2 i = 1#1), ∀ a, (k0_off755 v5213 k0_t8) a + S1x32.size a ≤ S2048x128.size a := fun i v5213 k0_hw196 k0_t8 k0_h2 => k0_hw196.2.2.2.1.2.2.2.2.2.2.2.2.2.2.2.2.2.2.2.2.2.2.2.2.2.2.2.1 k0_t8 k0_h2
theorem k0_off756_inb : ∀ (i : grid0.Coords) (v5213 : BitVec 32) (k0_hw196 : k0_chk196 i v5213) (k0_t8 : Fin (k0_t8_loop v5213).trips), ∀ (k0_h2 : k0_cond2 i = 1#1), ∀ a, (k0_off756 v5213 k0_t8) a + S1x1.size a ≤ S6x2048.size a := fun i v5213 k0_hw196 k0_t8 k0_h2 => k0_hw196.2.2.2.1.2.2.2.2.2.2.2.2.2.2.2.2.2.2.2.2.2.2.2.2.2.2.2.2.1 k0_t8 k0_h2
theorem k0_off758_inb : ∀ (i : grid0.Coords) (v5213 : BitVec 32) (k0_hw196 : k0_chk196 i v5213) (k0_t8 : Fin (k0_t8_loop v5213).trips), ∀ (k0_h2 : k0_cond2 i = 1#1), ∀ a, (k0_off758 v5213 k0_t8) a + S1x32.size a ≤ S2048x128.size a := fun i v5213 k0_hw196 k0_t8 k0_h2 => k0_hw196.2.2.2.1.2.2.2.2.2.2.2.2.2.2.2.2.2.2.2.2.2.2.2.2.2.2.2.2.2.1 k0_t8 k0_h2
theorem k0_off759_inb : ∀ (i : grid0.Coords) (v5213 : BitVec 32) (k0_hw196 : k0_chk196 i v5213) (k0_t8 : Fin (k0_t8_loop v5213).trips), ∀ (k0_h2 : k0_cond2 i = 1#1), ∀ a, (k0_off759 v5213 k0_t8) a + S1x1.size a ≤ S6x2048.size a := fun i v5213 k0_hw196 k0_t8 k0_h2 => k0_hw196.2.2.2.1.2.2.2.2.2.2.2.2.2.2.2.2.2.2.2.2.2.2.2.2.2.2.2.2.2.2.1 k0_t8 k0_h2
theorem k0_off761_inb : ∀ (i : grid0.Coords) (v5213 : BitVec 32) (k0_hw196 : k0_chk196 i v5213) (k0_t8 : Fin (k0_t8_loop v5213).trips), ∀ (k0_h2 : k0_cond2 i = 1#1), ∀ a, (k0_off761 v5213 k0_t8) a + S1x32.size a ≤ S2048x128.size a := fun i v5213 k0_hw196 k0_t8 k0_h2 => k0_hw196.2.2.2.1.2.2.2.2.2.2.2.2.2.2.2.2.2.2.2.2.2.2.2.2.2.2.2.2.2.2.2.1 k0_t8 k0_h2
theorem k0_off762_inb : ∀ (i : grid0.Coords) (v5213 : BitVec 32) (k0_hw196 : k0_chk196 i v5213) (k0_t8 : Fin (k0_t8_loop v5213).trips), ∀ (k0_h2 : k0_cond2 i = 1#1), ∀ a, (k0_off762 v5213 k0_t8) a + S1x1.size a ≤ S6x2048.size a := fun i v5213 k0_hw196 k0_t8 k0_h2 => k0_hw196.2.2.2.1.2.2.2.2.2.2.2.2.2.2.2.2.2.2.2.2.2.2.2.2.2.2.2.2.2.2.2.2.1 k0_t8 k0_h2
theorem k0_off764_inb : ∀ (i : grid0.Coords) (v5213 : BitVec 32) (k0_hw196 : k0_chk196 i v5213) (k0_t8 : Fin (k0_t8_loop v5213).trips), ∀ (k0_h2 : k0_cond2 i = 1#1), ∀ a, (k0_off764 v5213 k0_t8) a + S1x32.size a ≤ S2048x128.size a := fun i v5213 k0_hw196 k0_t8 k0_h2 => k0_hw196.2.2.2.1.2.2.2.2.2.2.2.2.2.2.2.2.2.2.2.2.2.2.2.2.2.2.2.2.2.2.2.2.2.1 k0_t8 k0_h2
theorem k0_off765_inb : ∀ (i : grid0.Coords) (v5213 : BitVec 32) (k0_hw196 : k0_chk196 i v5213) (k0_t8 : Fin (k0_t8_loop v5213).trips), ∀ (k0_h2 : k0_cond2 i = 1#1), ∀ a, (k0_off765 v5213 k0_t8) a + S1x1.size a ≤ S6x2048.size a := fun i v5213 k0_hw196 k0_t8 k0_h2 => k0_hw196.2.2.2.1.2.2.2.2.2.2.2.2.2.2.2.2.2.2.2.2.2.2.2.2.2.2.2.2.2.2.2.2.2.2.1 k0_t8 k0_h2
theorem k0_off767_inb : ∀ (i : grid0.Coords) (v5213 : BitVec 32) (k0_hw196 : k0_chk196 i v5213) (k0_t8 : Fin (k0_t8_loop v5213).trips), ∀ (k0_h2 : k0_cond2 i = 1#1), ∀ a, (k0_off767 v5213 k0_t8) a + S1x32.size a ≤ S2048x128.size a := fun i v5213 k0_hw196 k0_t8 k0_h2 => k0_hw196.2.2.2.1.2.2.2.2.2.2.2.2.2.2.2.2.2.2.2.2.2.2.2.2.2.2.2.2.2.2.2.2.2.2.2 k0_t8 k0_h2
theorem k0_off768_inb : ∀ (i : grid0.Coords) (v5213 : BitVec 32) (k0_hw196 : k0_chk196 i v5213) (k0_t8 : Fin (k0_t8_loop v5213).trips), ∀ (k0_h2 : k0_cond2 i = 1#1), ∀ a, (k0_off768 v5213 k0_t8) a + S1x1.size a ≤ S6x2048.size a := fun i v5213 k0_hw196 k0_t8 k0_h2 => k0_hw196.2.2.2.2.1 k0_t8 k0_h2
theorem k0_off770_inb : ∀ (i : grid0.Coords) (v5213 : BitVec 32) (k0_hw196 : k0_chk196 i v5213) (k0_t8 : Fin (k0_t8_loop v5213).trips), ∀ (k0_h2 : k0_cond2 i = 1#1), ∀ a, (k0_off770 v5213 k0_t8) a + S1x32.size a ≤ S2048x128.size a := fun i v5213 k0_hw196 k0_t8 k0_h2 => k0_hw196.2.2.2.2.2 k0_t8 k0_h2

@[reducible] def k0_t9_loop (v5259 : BitVec 32) : Scf.Loop 32 :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1627 : BitVec 32 := 1#32
  ⟨c0_i32_1624, v5302, c1_i32_1627⟩

def k0_off771 (v5259 : BitVec 32) (k0_t9 : Fin (k0_t9_loop v5259).trips) : Fin 2 → Nat :=
  let c4_2208 : Index := 4#32
  let c0_i32_1624 : BitVec 32 := 0#32
  let c1_i32_1627 : BitVec 32 := 1#32
  let arg13 : BitVec 32 := Scf.iv c0_i32_1624 c1_i32_1627 k0_t9
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![4, v6553.toNat]
def k0_off772 (v6554 : BitVec 32) : Fin 2 → Nat :=
  let v6555 : Index := Scalar.indexCast v6554
  let c0_2209 : Index := 0#32
  ![v6555.toNat, 0]

def k0_chk262 (i : grid0.Coords) (v6554 : BitVec 32) : Prop :=
  (∀ (k0_h2 : k0_cond2 i = 1#1), ∀ a, (k0_off772 v6554) a + S1x32.size a ≤ S15360x128.size a)
theorem k0_off772_inb : ∀ (i : grid0.Coords) (v6554 : BitVec 32) (k0_hw262 : k0_chk262 i v6554), ∀ (k0_h2 : k0_cond2 i = 1#1), ∀ a, (k0_off772 v6554) a + S1x32.size a ≤ S15360x128.size a := fun i v6554 k0_hw262 k0_h2 => k0_hw262 k0_h2

def k0_off773 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c0_2210 : Index := 0#32
  ![v6557.toNat, 0]
def k0_off774 (v5259 : BitVec 32) (k0_t9 : Fin (k0_t9_loop v5259).trips) : Fin 2 → Nat :=
  let c4_2213 : Index := 4#32
  let c0_i32_1624 : BitVec 32 := 0#32
  let c1_i32_1627 : BitVec 32 := 1#32
  let arg13 : BitVec 32 := Scf.iv c0_i32_1624 c1_i32_1627 k0_t9
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6563 : Index := Scalar.indexCast v6562
  ![4, v6563.toNat]
def k0_off775 (v6564 : BitVec 32) : Fin 2 → Nat :=
  let v6565 : Index := Scalar.indexCast v6564
  let c0_2214 : Index := 0#32
  ![v6565.toNat, 0]

def k0_chk263 (i : grid0.Coords) (v6564 : BitVec 32) : Prop :=
  (∀ (k0_h2 : k0_cond2 i = 1#1), ∀ a, (k0_off775 v6564) a + S1x32.size a ≤ S15360x128.size a)
theorem k0_off775_inb : ∀ (i : grid0.Coords) (v6564 : BitVec 32) (k0_hw263 : k0_chk263 i v6564), ∀ (k0_h2 : k0_cond2 i = 1#1), ∀ a, (k0_off775 v6564) a + S1x32.size a ≤ S15360x128.size a := fun i v6564 k0_hw263 k0_h2 => k0_hw263 k0_h2

def k0_off776 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6567 : Index := Scalar.indexCast v6562
  let c0_2215 : Index := 0#32
  ![v6567.toNat, 0]
def k0_off777 (v5259 : BitVec 32) (k0_t9 : Fin (k0_t9_loop v5259).trips) : Fin 2 → Nat :=
  let c4_2218 : Index := 4#32
  let c0_i32_1624 : BitVec 32 := 0#32
  let c1_i32_1627 : BitVec 32 := 1#32
  let arg13 : BitVec 32 := Scf.iv c0_i32_1624 c1_i32_1627 k0_t9
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6573 : Index := Scalar.indexCast v6572
  ![4, v6573.toNat]
def k0_off778 (v6574 : BitVec 32) : Fin 2 → Nat :=
  let v6575 : Index := Scalar.indexCast v6574
  let c0_2219 : Index := 0#32
  ![v6575.toNat, 0]

def k0_chk264 (i : grid0.Coords) (v6574 : BitVec 32) : Prop :=
  (∀ (k0_h2 : k0_cond2 i = 1#1), ∀ a, (k0_off778 v6574) a + S1x32.size a ≤ S15360x128.size a)
theorem k0_off778_inb : ∀ (i : grid0.Coords) (v6574 : BitVec 32) (k0_hw264 : k0_chk264 i v6574), ∀ (k0_h2 : k0_cond2 i = 1#1), ∀ a, (k0_off778 v6574) a + S1x32.size a ≤ S15360x128.size a := fun i v6574 k0_hw264 k0_h2 => k0_hw264 k0_h2

def k0_off779 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6577 : Index := Scalar.indexCast v6572
  let c0_2220 : Index := 0#32
  ![v6577.toNat, 0]
def k0_off780 (v5259 : BitVec 32) (k0_t9 : Fin (k0_t9_loop v5259).trips) : Fin 2 → Nat :=
  let c4_2223 : Index := 4#32
  let c0_i32_1624 : BitVec 32 := 0#32
  let c1_i32_1627 : BitVec 32 := 1#32
  let arg13 : BitVec 32 := Scf.iv c0_i32_1624 c1_i32_1627 k0_t9
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6583 : Index := Scalar.indexCast v6582
  ![4, v6583.toNat]
def k0_off781 (v6584 : BitVec 32) : Fin 2 → Nat :=
  let v6585 : Index := Scalar.indexCast v6584
  let c0_2224 : Index := 0#32
  ![v6585.toNat, 0]

def k0_chk265 (i : grid0.Coords) (v6584 : BitVec 32) : Prop :=
  (∀ (k0_h2 : k0_cond2 i = 1#1), ∀ a, (k0_off781 v6584) a + S1x32.size a ≤ S15360x128.size a)
theorem k0_off781_inb : ∀ (i : grid0.Coords) (v6584 : BitVec 32) (k0_hw265 : k0_chk265 i v6584), ∀ (k0_h2 : k0_cond2 i = 1#1), ∀ a, (k0_off781 v6584) a + S1x32.size a ≤ S15360x128.size a := fun i v6584 k0_hw265 k0_h2 => k0_hw265 k0_h2

def k0_off782 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6587 : Index := Scalar.indexCast v6582
  let c0_2225 : Index := 0#32
  ![v6587.toNat, 0]
def k0_off783 (v5259 : BitVec 32) (k0_t9 : Fin (k0_t9_loop v5259).trips) : Fin 2 → Nat :=
  let c4_2228 : Index := 4#32
  let c0_i32_1624 : BitVec 32 := 0#32
  let c1_i32_1627 : BitVec 32 := 1#32
  let arg13 : BitVec 32 := Scf.iv c0_i32_1624 c1_i32_1627 k0_t9
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6593 : Index := Scalar.indexCast v6592
  ![4, v6593.toNat]
def k0_off784 (v6594 : BitVec 32) : Fin 2 → Nat :=
  let v6595 : Index := Scalar.indexCast v6594
  let c0_2229 : Index := 0#32
  ![v6595.toNat, 0]

def k0_chk266 (i : grid0.Coords) (v6594 : BitVec 32) : Prop :=
  (∀ (k0_h2 : k0_cond2 i = 1#1), ∀ a, (k0_off784 v6594) a + S1x32.size a ≤ S15360x128.size a)
theorem k0_off784_inb : ∀ (i : grid0.Coords) (v6594 : BitVec 32) (k0_hw266 : k0_chk266 i v6594), ∀ (k0_h2 : k0_cond2 i = 1#1), ∀ a, (k0_off784 v6594) a + S1x32.size a ≤ S15360x128.size a := fun i v6594 k0_hw266 k0_h2 => k0_hw266 k0_h2

def k0_off785 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6597 : Index := Scalar.indexCast v6592
  let c0_2230 : Index := 0#32
  ![v6597.toNat, 0]
def k0_off786 (v5259 : BitVec 32) (k0_t9 : Fin (k0_t9_loop v5259).trips) : Fin 2 → Nat :=
  let c4_2232 : Index := 4#32
  let c0_i32_1624 : BitVec 32 := 0#32
  let c1_i32_1627 : BitVec 32 := 1#32
  let arg13 : BitVec 32 := Scf.iv c0_i32_1624 c1_i32_1627 k0_t9
  let c32_i32_2231 : BitVec 32 := 32#32
  let v6601 : BitVec 32 := Scalar.muli arg13 c32_i32_2231
  let c5_i32 : BitVec 32 := 5#32
  let v6602 : BitVec 32 := Scalar.addi v6601 c5_i32
  let v6603 : Index := Scalar.indexCast v6602
  ![4, v6603.toNat]
def k0_off787 (v6604 : BitVec 32) : Fin 2 → Nat :=
  let v6605 : Index := Scalar.indexCast v6604
  let c0_2233 : Index := 0#32
  ![v6605.toNat, 0]

def k0_chk267 (i : grid0.Coords) (v6604 : BitVec 32) : Prop :=
  (∀ (k0_h2 : k0_cond2 i = 1#1), ∀ a, (k0_off787 v6604) a + S1x32.size a ≤ S15360x128.size a)
theorem k0_off787_inb : ∀ (i : grid0.Coords) (v6604 : BitVec 32) (k0_hw267 : k0_chk267 i v6604), ∀ (k0_h2 : k0_cond2 i = 1#1), ∀ a, (k0_off787 v6604) a + S1x32.size a ≤ S15360x128.size a := fun i v6604 k0_hw267 k0_h2 => k0_hw267 k0_h2

def k0_off788 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2231 : BitVec 32 := 32#32
  let v6601 : BitVec 32 := Scalar.muli arg13 c32_i32_2231
  let c5_i32 : BitVec 32 := 5#32
  let v6602 : BitVec 32 := Scalar.addi v6601 c5_i32
  let v6607 : Index := Scalar.indexCast v6602
  let c0_2234 : Index := 0#32
  ![v6607.toNat, 0]
def k0_off789 (v5259 : BitVec 32) (k0_t9 : Fin (k0_t9_loop v5259).trips) : Fin 2 → Nat :=
  let c4_2236 : Index := 4#32
  let c0_i32_1624 : BitVec 32 := 0#32
  let c1_i32_1627 : BitVec 32 := 1#32
  let arg13 : BitVec 32 := Scf.iv c0_i32_1624 c1_i32_1627 k0_t9
  let c32_i32_2235 : BitVec 32 := 32#32
  let v6611 : BitVec 32 := Scalar.muli arg13 c32_i32_2235
  let c6_i32 : BitVec 32 := 6#32
  let v6612 : BitVec 32 := Scalar.addi v6611 c6_i32
  let v6613 : Index := Scalar.indexCast v6612
  ![4, v6613.toNat]
def k0_off790 (v6614 : BitVec 32) : Fin 2 → Nat :=
  let v6615 : Index := Scalar.indexCast v6614
  let c0_2237 : Index := 0#32
  ![v6615.toNat, 0]

def k0_chk268 (i : grid0.Coords) (v6614 : BitVec 32) : Prop :=
  (∀ (k0_h2 : k0_cond2 i = 1#1), ∀ a, (k0_off790 v6614) a + S1x32.size a ≤ S15360x128.size a)
theorem k0_off790_inb : ∀ (i : grid0.Coords) (v6614 : BitVec 32) (k0_hw268 : k0_chk268 i v6614), ∀ (k0_h2 : k0_cond2 i = 1#1), ∀ a, (k0_off790 v6614) a + S1x32.size a ≤ S15360x128.size a := fun i v6614 k0_hw268 k0_h2 => k0_hw268 k0_h2

def k0_off791 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2235 : BitVec 32 := 32#32
  let v6611 : BitVec 32 := Scalar.muli arg13 c32_i32_2235
  let c6_i32 : BitVec 32 := 6#32
  let v6612 : BitVec 32 := Scalar.addi v6611 c6_i32
  let v6617 : Index := Scalar.indexCast v6612
  let c0_2238 : Index := 0#32
  ![v6617.toNat, 0]
def k0_off792 (v5259 : BitVec 32) (k0_t9 : Fin (k0_t9_loop v5259).trips) : Fin 2 → Nat :=
  let c4_2240 : Index := 4#32
  let c0_i32_1624 : BitVec 32 := 0#32
  let c1_i32_1627 : BitVec 32 := 1#32
  let arg13 : BitVec 32 := Scf.iv c0_i32_1624 c1_i32_1627 k0_t9
  let c32_i32_2239 : BitVec 32 := 32#32
  let v6621 : BitVec 32 := Scalar.muli arg13 c32_i32_2239
  let c7_i32 : BitVec 32 := 7#32
  let v6622 : BitVec 32 := Scalar.addi v6621 c7_i32
  let v6623 : Index := Scalar.indexCast v6622
  ![4, v6623.toNat]
def k0_off793 (v6624 : BitVec 32) : Fin 2 → Nat :=
  let v6625 : Index := Scalar.indexCast v6624
  let c0_2241 : Index := 0#32
  ![v6625.toNat, 0]

def k0_chk269 (i : grid0.Coords) (v6624 : BitVec 32) : Prop :=
  (∀ (k0_h2 : k0_cond2 i = 1#1), ∀ a, (k0_off793 v6624) a + S1x32.size a ≤ S15360x128.size a)
theorem k0_off793_inb : ∀ (i : grid0.Coords) (v6624 : BitVec 32) (k0_hw269 : k0_chk269 i v6624), ∀ (k0_h2 : k0_cond2 i = 1#1), ∀ a, (k0_off793 v6624) a + S1x32.size a ≤ S15360x128.size a := fun i v6624 k0_hw269 k0_h2 => k0_hw269 k0_h2

def k0_off794 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2239 : BitVec 32 := 32#32
  let v6621 : BitVec 32 := Scalar.muli arg13 c32_i32_2239
  let c7_i32 : BitVec 32 := 7#32
  let v6622 : BitVec 32 := Scalar.addi v6621 c7_i32
  let v6627 : Index := Scalar.indexCast v6622
  let c0_2242 : Index := 0#32
  ![v6627.toNat, 0]
def k0_off795 (v5259 : BitVec 32) (k0_t9 : Fin (k0_t9_loop v5259).trips) : Fin 2 → Nat :=
  let c4_2244 : Index := 4#32
  let c0_i32_1624 : BitVec 32 := 0#32
  let c1_i32_1627 : BitVec 32 := 1#32
  let arg13 : BitVec 32 := Scf.iv c0_i32_1624 c1_i32_1627 k0_t9
  let c32_i32_2243 : BitVec 32 := 32#32
  let v6631 : BitVec 32 := Scalar.muli arg13 c32_i32_2243
  let c8_i32 : BitVec 32 := 8#32
  let v6632 : BitVec 32 := Scalar.addi v6631 c8_i32
  let v6633 : Index := Scalar.indexCast v6632
  ![4, v6633.toNat]
def k0_off796 (v6634 : BitVec 32) : Fin 2 → Nat :=
  let v6635 : Index := Scalar.indexCast v6634
  let c0_2245 : Index := 0#32
  ![v6635.toNat, 0]

def k0_chk270 (i : grid0.Coords) (v6634 : BitVec 32) : Prop :=
  (∀ (k0_h2 : k0_cond2 i = 1#1), ∀ a, (k0_off796 v6634) a + S1x32.size a ≤ S15360x128.size a)
theorem k0_off796_inb : ∀ (i : grid0.Coords) (v6634 : BitVec 32) (k0_hw270 : k0_chk270 i v6634), ∀ (k0_h2 : k0_cond2 i = 1#1), ∀ a, (k0_off796 v6634) a + S1x32.size a ≤ S15360x128.size a := fun i v6634 k0_hw270 k0_h2 => k0_hw270 k0_h2

def k0_off797 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2243 : BitVec 32 := 32#32
  let v6631 : BitVec 32 := Scalar.muli arg13 c32_i32_2243
  let c8_i32 : BitVec 32 := 8#32
  let v6632 : BitVec 32 := Scalar.addi v6631 c8_i32
  let v6637 : Index := Scalar.indexCast v6632
  let c0_2246 : Index := 0#32
  ![v6637.toNat, 0]
def k0_off798 (v5259 : BitVec 32) (k0_t9 : Fin (k0_t9_loop v5259).trips) : Fin 2 → Nat :=
  let c4_2248 : Index := 4#32
  let c0_i32_1624 : BitVec 32 := 0#32
  let c1_i32_1627 : BitVec 32 := 1#32
  let arg13 : BitVec 32 := Scf.iv c0_i32_1624 c1_i32_1627 k0_t9
  let c32_i32_2247 : BitVec 32 := 32#32
  let v6641 : BitVec 32 := Scalar.muli arg13 c32_i32_2247
  let c9_i32 : BitVec 32 := 9#32
  let v6642 : BitVec 32 := Scalar.addi v6641 c9_i32
  let v6643 : Index := Scalar.indexCast v6642
  ![4, v6643.toNat]
def k0_off799 (v6644 : BitVec 32) : Fin 2 → Nat :=
  let v6645 : Index := Scalar.indexCast v6644
  let c0_2249 : Index := 0#32
  ![v6645.toNat, 0]

def k0_chk271 (i : grid0.Coords) (v6644 : BitVec 32) : Prop :=
  (∀ (k0_h2 : k0_cond2 i = 1#1), ∀ a, (k0_off799 v6644) a + S1x32.size a ≤ S15360x128.size a)
theorem k0_off799_inb : ∀ (i : grid0.Coords) (v6644 : BitVec 32) (k0_hw271 : k0_chk271 i v6644), ∀ (k0_h2 : k0_cond2 i = 1#1), ∀ a, (k0_off799 v6644) a + S1x32.size a ≤ S15360x128.size a := fun i v6644 k0_hw271 k0_h2 => k0_hw271 k0_h2

def k0_off800 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2247 : BitVec 32 := 32#32
  let v6641 : BitVec 32 := Scalar.muli arg13 c32_i32_2247
  let c9_i32 : BitVec 32 := 9#32
  let v6642 : BitVec 32 := Scalar.addi v6641 c9_i32
  let v6647 : Index := Scalar.indexCast v6642
  let c0_2250 : Index := 0#32
  ![v6647.toNat, 0]
def k0_off801 (v5259 : BitVec 32) (k0_t9 : Fin (k0_t9_loop v5259).trips) : Fin 2 → Nat :=
  let c4_2252 : Index := 4#32
  let c0_i32_1624 : BitVec 32 := 0#32
  let c1_i32_1627 : BitVec 32 := 1#32
  let arg13 : BitVec 32 := Scf.iv c0_i32_1624 c1_i32_1627 k0_t9
  let c32_i32_2251 : BitVec 32 := 32#32
  let v6651 : BitVec 32 := Scalar.muli arg13 c32_i32_2251
  let c10_i32 : BitVec 32 := 10#32
  let v6652 : BitVec 32 := Scalar.addi v6651 c10_i32
  let v6653 : Index := Scalar.indexCast v6652
  ![4, v6653.toNat]
def k0_off802 (v6654 : BitVec 32) : Fin 2 → Nat :=
  let v6655 : Index := Scalar.indexCast v6654
  let c0_2253 : Index := 0#32
  ![v6655.toNat, 0]

def k0_chk272 (i : grid0.Coords) (v6654 : BitVec 32) : Prop :=
  (∀ (k0_h2 : k0_cond2 i = 1#1), ∀ a, (k0_off802 v6654) a + S1x32.size a ≤ S15360x128.size a)
theorem k0_off802_inb : ∀ (i : grid0.Coords) (v6654 : BitVec 32) (k0_hw272 : k0_chk272 i v6654), ∀ (k0_h2 : k0_cond2 i = 1#1), ∀ a, (k0_off802 v6654) a + S1x32.size a ≤ S15360x128.size a := fun i v6654 k0_hw272 k0_h2 => k0_hw272 k0_h2

def k0_off803 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2251 : BitVec 32 := 32#32
  let v6651 : BitVec 32 := Scalar.muli arg13 c32_i32_2251
  let c10_i32 : BitVec 32 := 10#32
  let v6652 : BitVec 32 := Scalar.addi v6651 c10_i32
  let v6657 : Index := Scalar.indexCast v6652
  let c0_2254 : Index := 0#32
  ![v6657.toNat, 0]
def k0_off804 (v5259 : BitVec 32) (k0_t9 : Fin (k0_t9_loop v5259).trips) : Fin 2 → Nat :=
  let c4_2256 : Index := 4#32
  let c0_i32_1624 : BitVec 32 := 0#32
  let c1_i32_1627 : BitVec 32 := 1#32
  let arg13 : BitVec 32 := Scf.iv c0_i32_1624 c1_i32_1627 k0_t9
  let c32_i32_2255 : BitVec 32 := 32#32
  let v6661 : BitVec 32 := Scalar.muli arg13 c32_i32_2255
  let c11_i32 : BitVec 32 := 11#32
  let v6662 : BitVec 32 := Scalar.addi v6661 c11_i32
  let v6663 : Index := Scalar.indexCast v6662
  ![4, v6663.toNat]
def k0_off805 (v6664 : BitVec 32) : Fin 2 → Nat :=
  let v6665 : Index := Scalar.indexCast v6664
  let c0_2257 : Index := 0#32
  ![v6665.toNat, 0]

def k0_chk273 (i : grid0.Coords) (v6664 : BitVec 32) : Prop :=
  (∀ (k0_h2 : k0_cond2 i = 1#1), ∀ a, (k0_off805 v6664) a + S1x32.size a ≤ S15360x128.size a)
theorem k0_off805_inb : ∀ (i : grid0.Coords) (v6664 : BitVec 32) (k0_hw273 : k0_chk273 i v6664), ∀ (k0_h2 : k0_cond2 i = 1#1), ∀ a, (k0_off805 v6664) a + S1x32.size a ≤ S15360x128.size a := fun i v6664 k0_hw273 k0_h2 => k0_hw273 k0_h2

def k0_off806 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2255 : BitVec 32 := 32#32
  let v6661 : BitVec 32 := Scalar.muli arg13 c32_i32_2255
  let c11_i32 : BitVec 32 := 11#32
  let v6662 : BitVec 32 := Scalar.addi v6661 c11_i32
  let v6667 : Index := Scalar.indexCast v6662
  let c0_2258 : Index := 0#32
  ![v6667.toNat, 0]
def k0_off807 (v5259 : BitVec 32) (k0_t9 : Fin (k0_t9_loop v5259).trips) : Fin 2 → Nat :=
  let c4_2260 : Index := 4#32
  let c0_i32_1624 : BitVec 32 := 0#32
  let c1_i32_1627 : BitVec 32 := 1#32
  let arg13 : BitVec 32 := Scf.iv c0_i32_1624 c1_i32_1627 k0_t9
  let c32_i32_2259 : BitVec 32 := 32#32
  let v6671 : BitVec 32 := Scalar.muli arg13 c32_i32_2259
  let c12_i32 : BitVec 32 := 12#32
  let v6672 : BitVec 32 := Scalar.addi v6671 c12_i32
  let v6673 : Index := Scalar.indexCast v6672
  ![4, v6673.toNat]
def k0_off808 (v6674 : BitVec 32) : Fin 2 → Nat :=
  let v6675 : Index := Scalar.indexCast v6674
  let c0_2261 : Index := 0#32
  ![v6675.toNat, 0]

def k0_chk274 (i : grid0.Coords) (v6674 : BitVec 32) : Prop :=
  (∀ (k0_h2 : k0_cond2 i = 1#1), ∀ a, (k0_off808 v6674) a + S1x32.size a ≤ S15360x128.size a)
theorem k0_off808_inb : ∀ (i : grid0.Coords) (v6674 : BitVec 32) (k0_hw274 : k0_chk274 i v6674), ∀ (k0_h2 : k0_cond2 i = 1#1), ∀ a, (k0_off808 v6674) a + S1x32.size a ≤ S15360x128.size a := fun i v6674 k0_hw274 k0_h2 => k0_hw274 k0_h2

def k0_off809 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2259 : BitVec 32 := 32#32
  let v6671 : BitVec 32 := Scalar.muli arg13 c32_i32_2259
  let c12_i32 : BitVec 32 := 12#32
  let v6672 : BitVec 32 := Scalar.addi v6671 c12_i32
  let v6677 : Index := Scalar.indexCast v6672
  let c0_2262 : Index := 0#32
  ![v6677.toNat, 0]
def k0_off810 (v5259 : BitVec 32) (k0_t9 : Fin (k0_t9_loop v5259).trips) : Fin 2 → Nat :=
  let c4_2264 : Index := 4#32
  let c0_i32_1624 : BitVec 32 := 0#32
  let c1_i32_1627 : BitVec 32 := 1#32
  let arg13 : BitVec 32 := Scf.iv c0_i32_1624 c1_i32_1627 k0_t9
  let c32_i32_2263 : BitVec 32 := 32#32
  let v6681 : BitVec 32 := Scalar.muli arg13 c32_i32_2263
  let c13_i32 : BitVec 32 := 13#32
  let v6682 : BitVec 32 := Scalar.addi v6681 c13_i32
  let v6683 : Index := Scalar.indexCast v6682
  ![4, v6683.toNat]
def k0_off811 (v6684 : BitVec 32) : Fin 2 → Nat :=
  let v6685 : Index := Scalar.indexCast v6684
  let c0_2265 : Index := 0#32
  ![v6685.toNat, 0]

def k0_chk275 (i : grid0.Coords) (v6684 : BitVec 32) : Prop :=
  (∀ (k0_h2 : k0_cond2 i = 1#1), ∀ a, (k0_off811 v6684) a + S1x32.size a ≤ S15360x128.size a)
theorem k0_off811_inb : ∀ (i : grid0.Coords) (v6684 : BitVec 32) (k0_hw275 : k0_chk275 i v6684), ∀ (k0_h2 : k0_cond2 i = 1#1), ∀ a, (k0_off811 v6684) a + S1x32.size a ≤ S15360x128.size a := fun i v6684 k0_hw275 k0_h2 => k0_hw275 k0_h2

def k0_off812 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2263 : BitVec 32 := 32#32
  let v6681 : BitVec 32 := Scalar.muli arg13 c32_i32_2263
  let c13_i32 : BitVec 32 := 13#32
  let v6682 : BitVec 32 := Scalar.addi v6681 c13_i32
  let v6687 : Index := Scalar.indexCast v6682
  let c0_2266 : Index := 0#32
  ![v6687.toNat, 0]
def k0_off813 (v5259 : BitVec 32) (k0_t9 : Fin (k0_t9_loop v5259).trips) : Fin 2 → Nat :=
  let c4_2268 : Index := 4#32
  let c0_i32_1624 : BitVec 32 := 0#32
  let c1_i32_1627 : BitVec 32 := 1#32
  let arg13 : BitVec 32 := Scf.iv c0_i32_1624 c1_i32_1627 k0_t9
  let c32_i32_2267 : BitVec 32 := 32#32
  let v6691 : BitVec 32 := Scalar.muli arg13 c32_i32_2267
  let c14_i32 : BitVec 32 := 14#32
  let v6692 : BitVec 32 := Scalar.addi v6691 c14_i32
  let v6693 : Index := Scalar.indexCast v6692
  ![4, v6693.toNat]
def k0_off814 (v6694 : BitVec 32) : Fin 2 → Nat :=
  let v6695 : Index := Scalar.indexCast v6694
  let c0_2269 : Index := 0#32
  ![v6695.toNat, 0]

def k0_chk276 (i : grid0.Coords) (v6694 : BitVec 32) : Prop :=
  (∀ (k0_h2 : k0_cond2 i = 1#1), ∀ a, (k0_off814 v6694) a + S1x32.size a ≤ S15360x128.size a)
theorem k0_off814_inb : ∀ (i : grid0.Coords) (v6694 : BitVec 32) (k0_hw276 : k0_chk276 i v6694), ∀ (k0_h2 : k0_cond2 i = 1#1), ∀ a, (k0_off814 v6694) a + S1x32.size a ≤ S15360x128.size a := fun i v6694 k0_hw276 k0_h2 => k0_hw276 k0_h2

def k0_off815 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2267 : BitVec 32 := 32#32
  let v6691 : BitVec 32 := Scalar.muli arg13 c32_i32_2267
  let c14_i32 : BitVec 32 := 14#32
  let v6692 : BitVec 32 := Scalar.addi v6691 c14_i32
  let v6697 : Index := Scalar.indexCast v6692
  let c0_2270 : Index := 0#32
  ![v6697.toNat, 0]
def k0_off816 (v5259 : BitVec 32) (k0_t9 : Fin (k0_t9_loop v5259).trips) : Fin 2 → Nat :=
  let c4_2272 : Index := 4#32
  let c0_i32_1624 : BitVec 32 := 0#32
  let c1_i32_1627 : BitVec 32 := 1#32
  let arg13 : BitVec 32 := Scf.iv c0_i32_1624 c1_i32_1627 k0_t9
  let c32_i32_2271 : BitVec 32 := 32#32
  let v6701 : BitVec 32 := Scalar.muli arg13 c32_i32_2271
  let c15_i32 : BitVec 32 := 15#32
  let v6702 : BitVec 32 := Scalar.addi v6701 c15_i32
  let v6703 : Index := Scalar.indexCast v6702
  ![4, v6703.toNat]
def k0_off817 (v6704 : BitVec 32) : Fin 2 → Nat :=
  let v6705 : Index := Scalar.indexCast v6704
  let c0_2273 : Index := 0#32
  ![v6705.toNat, 0]

def k0_chk277 (i : grid0.Coords) (v6704 : BitVec 32) : Prop :=
  (∀ (k0_h2 : k0_cond2 i = 1#1), ∀ a, (k0_off817 v6704) a + S1x32.size a ≤ S15360x128.size a)
theorem k0_off817_inb : ∀ (i : grid0.Coords) (v6704 : BitVec 32) (k0_hw277 : k0_chk277 i v6704), ∀ (k0_h2 : k0_cond2 i = 1#1), ∀ a, (k0_off817 v6704) a + S1x32.size a ≤ S15360x128.size a := fun i v6704 k0_hw277 k0_h2 => k0_hw277 k0_h2

def k0_off818 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2271 : BitVec 32 := 32#32
  let v6701 : BitVec 32 := Scalar.muli arg13 c32_i32_2271
  let c15_i32 : BitVec 32 := 15#32
  let v6702 : BitVec 32 := Scalar.addi v6701 c15_i32
  let v6707 : Index := Scalar.indexCast v6702
  let c0_2274 : Index := 0#32
  ![v6707.toNat, 0]
def k0_off819 (v5259 : BitVec 32) (k0_t9 : Fin (k0_t9_loop v5259).trips) : Fin 2 → Nat :=
  let c4_2276 : Index := 4#32
  let c0_i32_1624 : BitVec 32 := 0#32
  let c1_i32_1627 : BitVec 32 := 1#32
  let arg13 : BitVec 32 := Scf.iv c0_i32_1624 c1_i32_1627 k0_t9
  let c32_i32_2275 : BitVec 32 := 32#32
  let v6711 : BitVec 32 := Scalar.muli arg13 c32_i32_2275
  let c16_i32 : BitVec 32 := 16#32
  let v6712 : BitVec 32 := Scalar.addi v6711 c16_i32
  let v6713 : Index := Scalar.indexCast v6712
  ![4, v6713.toNat]
def k0_off820 (v6714 : BitVec 32) : Fin 2 → Nat :=
  let v6715 : Index := Scalar.indexCast v6714
  let c0_2277 : Index := 0#32
  ![v6715.toNat, 0]

def k0_chk278 (i : grid0.Coords) (v6714 : BitVec 32) : Prop :=
  (∀ (k0_h2 : k0_cond2 i = 1#1), ∀ a, (k0_off820 v6714) a + S1x32.size a ≤ S15360x128.size a)
theorem k0_off820_inb : ∀ (i : grid0.Coords) (v6714 : BitVec 32) (k0_hw278 : k0_chk278 i v6714), ∀ (k0_h2 : k0_cond2 i = 1#1), ∀ a, (k0_off820 v6714) a + S1x32.size a ≤ S15360x128.size a := fun i v6714 k0_hw278 k0_h2 => k0_hw278 k0_h2

def k0_off821 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2275 : BitVec 32 := 32#32
  let v6711 : BitVec 32 := Scalar.muli arg13 c32_i32_2275
  let c16_i32 : BitVec 32 := 16#32
  let v6712 : BitVec 32 := Scalar.addi v6711 c16_i32
  let v6717 : Index := Scalar.indexCast v6712
  let c0_2278 : Index := 0#32
  ![v6717.toNat, 0]
def k0_off822 (v5259 : BitVec 32) (k0_t9 : Fin (k0_t9_loop v5259).trips) : Fin 2 → Nat :=
  let c4_2280 : Index := 4#32
  let c0_i32_1624 : BitVec 32 := 0#32
  let c1_i32_1627 : BitVec 32 := 1#32
  let arg13 : BitVec 32 := Scf.iv c0_i32_1624 c1_i32_1627 k0_t9
  let c32_i32_2279 : BitVec 32 := 32#32
  let v6721 : BitVec 32 := Scalar.muli arg13 c32_i32_2279
  let c17_i32 : BitVec 32 := 17#32
  let v6722 : BitVec 32 := Scalar.addi v6721 c17_i32
  let v6723 : Index := Scalar.indexCast v6722
  ![4, v6723.toNat]
def k0_off823 (v6724 : BitVec 32) : Fin 2 → Nat :=
  let v6725 : Index := Scalar.indexCast v6724
  let c0_2281 : Index := 0#32
  ![v6725.toNat, 0]

def k0_chk279 (i : grid0.Coords) (v6724 : BitVec 32) : Prop :=
  (∀ (k0_h2 : k0_cond2 i = 1#1), ∀ a, (k0_off823 v6724) a + S1x32.size a ≤ S15360x128.size a)
theorem k0_off823_inb : ∀ (i : grid0.Coords) (v6724 : BitVec 32) (k0_hw279 : k0_chk279 i v6724), ∀ (k0_h2 : k0_cond2 i = 1#1), ∀ a, (k0_off823 v6724) a + S1x32.size a ≤ S15360x128.size a := fun i v6724 k0_hw279 k0_h2 => k0_hw279 k0_h2

def k0_off824 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2279 : BitVec 32 := 32#32
  let v6721 : BitVec 32 := Scalar.muli arg13 c32_i32_2279
  let c17_i32 : BitVec 32 := 17#32
  let v6722 : BitVec 32 := Scalar.addi v6721 c17_i32
  let v6727 : Index := Scalar.indexCast v6722
  let c0_2282 : Index := 0#32
  ![v6727.toNat, 0]
def k0_off825 (v5259 : BitVec 32) (k0_t9 : Fin (k0_t9_loop v5259).trips) : Fin 2 → Nat :=
  let c4_2284 : Index := 4#32
  let c0_i32_1624 : BitVec 32 := 0#32
  let c1_i32_1627 : BitVec 32 := 1#32
  let arg13 : BitVec 32 := Scf.iv c0_i32_1624 c1_i32_1627 k0_t9
  let c32_i32_2283 : BitVec 32 := 32#32
  let v6731 : BitVec 32 := Scalar.muli arg13 c32_i32_2283
  let c18_i32 : BitVec 32 := 18#32
  let v6732 : BitVec 32 := Scalar.addi v6731 c18_i32
  let v6733 : Index := Scalar.indexCast v6732
  ![4, v6733.toNat]
def k0_off826 (v6734 : BitVec 32) : Fin 2 → Nat :=
  let v6735 : Index := Scalar.indexCast v6734
  let c0_2285 : Index := 0#32
  ![v6735.toNat, 0]

def k0_chk280 (i : grid0.Coords) (v6734 : BitVec 32) : Prop :=
  (∀ (k0_h2 : k0_cond2 i = 1#1), ∀ a, (k0_off826 v6734) a + S1x32.size a ≤ S15360x128.size a)
theorem k0_off826_inb : ∀ (i : grid0.Coords) (v6734 : BitVec 32) (k0_hw280 : k0_chk280 i v6734), ∀ (k0_h2 : k0_cond2 i = 1#1), ∀ a, (k0_off826 v6734) a + S1x32.size a ≤ S15360x128.size a := fun i v6734 k0_hw280 k0_h2 => k0_hw280 k0_h2

def k0_off827 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2283 : BitVec 32 := 32#32
  let v6731 : BitVec 32 := Scalar.muli arg13 c32_i32_2283
  let c18_i32 : BitVec 32 := 18#32
  let v6732 : BitVec 32 := Scalar.addi v6731 c18_i32
  let v6737 : Index := Scalar.indexCast v6732
  let c0_2286 : Index := 0#32
  ![v6737.toNat, 0]
def k0_off828 (v5259 : BitVec 32) (k0_t9 : Fin (k0_t9_loop v5259).trips) : Fin 2 → Nat :=
  let c4_2288 : Index := 4#32
  let c0_i32_1624 : BitVec 32 := 0#32
  let c1_i32_1627 : BitVec 32 := 1#32
  let arg13 : BitVec 32 := Scf.iv c0_i32_1624 c1_i32_1627 k0_t9
  let c32_i32_2287 : BitVec 32 := 32#32
  let v6741 : BitVec 32 := Scalar.muli arg13 c32_i32_2287
  let c19_i32 : BitVec 32 := 19#32
  let v6742 : BitVec 32 := Scalar.addi v6741 c19_i32
  let v6743 : Index := Scalar.indexCast v6742
  ![4, v6743.toNat]
def k0_off829 (v6744 : BitVec 32) : Fin 2 → Nat :=
  let v6745 : Index := Scalar.indexCast v6744
  let c0_2289 : Index := 0#32
  ![v6745.toNat, 0]

def k0_chk281 (i : grid0.Coords) (v6744 : BitVec 32) : Prop :=
  (∀ (k0_h2 : k0_cond2 i = 1#1), ∀ a, (k0_off829 v6744) a + S1x32.size a ≤ S15360x128.size a)
theorem k0_off829_inb : ∀ (i : grid0.Coords) (v6744 : BitVec 32) (k0_hw281 : k0_chk281 i v6744), ∀ (k0_h2 : k0_cond2 i = 1#1), ∀ a, (k0_off829 v6744) a + S1x32.size a ≤ S15360x128.size a := fun i v6744 k0_hw281 k0_h2 => k0_hw281 k0_h2

def k0_off830 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2287 : BitVec 32 := 32#32
  let v6741 : BitVec 32 := Scalar.muli arg13 c32_i32_2287
  let c19_i32 : BitVec 32 := 19#32
  let v6742 : BitVec 32 := Scalar.addi v6741 c19_i32
  let v6747 : Index := Scalar.indexCast v6742
  let c0_2290 : Index := 0#32
  ![v6747.toNat, 0]
def k0_off831 (v5259 : BitVec 32) (k0_t9 : Fin (k0_t9_loop v5259).trips) : Fin 2 → Nat :=
  let c4_2292 : Index := 4#32
  let c0_i32_1624 : BitVec 32 := 0#32
  let c1_i32_1627 : BitVec 32 := 1#32
  let arg13 : BitVec 32 := Scf.iv c0_i32_1624 c1_i32_1627 k0_t9
  let c32_i32_2291 : BitVec 32 := 32#32
  let v6751 : BitVec 32 := Scalar.muli arg13 c32_i32_2291
  let c20_i32 : BitVec 32 := 20#32
  let v6752 : BitVec 32 := Scalar.addi v6751 c20_i32
  let v6753 : Index := Scalar.indexCast v6752
  ![4, v6753.toNat]
def k0_off832 (v6754 : BitVec 32) : Fin 2 → Nat :=
  let v6755 : Index := Scalar.indexCast v6754
  let c0_2293 : Index := 0#32
  ![v6755.toNat, 0]

def k0_chk282 (i : grid0.Coords) (v6754 : BitVec 32) : Prop :=
  (∀ (k0_h2 : k0_cond2 i = 1#1), ∀ a, (k0_off832 v6754) a + S1x32.size a ≤ S15360x128.size a)
theorem k0_off832_inb : ∀ (i : grid0.Coords) (v6754 : BitVec 32) (k0_hw282 : k0_chk282 i v6754), ∀ (k0_h2 : k0_cond2 i = 1#1), ∀ a, (k0_off832 v6754) a + S1x32.size a ≤ S15360x128.size a := fun i v6754 k0_hw282 k0_h2 => k0_hw282 k0_h2

def k0_off833 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2291 : BitVec 32 := 32#32
  let v6751 : BitVec 32 := Scalar.muli arg13 c32_i32_2291
  let c20_i32 : BitVec 32 := 20#32
  let v6752 : BitVec 32 := Scalar.addi v6751 c20_i32
  let v6757 : Index := Scalar.indexCast v6752
  let c0_2294 : Index := 0#32
  ![v6757.toNat, 0]
def k0_off834 (v5259 : BitVec 32) (k0_t9 : Fin (k0_t9_loop v5259).trips) : Fin 2 → Nat :=
  let c4_2296 : Index := 4#32
  let c0_i32_1624 : BitVec 32 := 0#32
  let c1_i32_1627 : BitVec 32 := 1#32
  let arg13 : BitVec 32 := Scf.iv c0_i32_1624 c1_i32_1627 k0_t9
  let c32_i32_2295 : BitVec 32 := 32#32
  let v6761 : BitVec 32 := Scalar.muli arg13 c32_i32_2295
  let c21_i32 : BitVec 32 := 21#32
  let v6762 : BitVec 32 := Scalar.addi v6761 c21_i32
  let v6763 : Index := Scalar.indexCast v6762
  ![4, v6763.toNat]
def k0_off835 (v6764 : BitVec 32) : Fin 2 → Nat :=
  let v6765 : Index := Scalar.indexCast v6764
  let c0_2297 : Index := 0#32
  ![v6765.toNat, 0]

def k0_chk283 (i : grid0.Coords) (v6764 : BitVec 32) : Prop :=
  (∀ (k0_h2 : k0_cond2 i = 1#1), ∀ a, (k0_off835 v6764) a + S1x32.size a ≤ S15360x128.size a)
theorem k0_off835_inb : ∀ (i : grid0.Coords) (v6764 : BitVec 32) (k0_hw283 : k0_chk283 i v6764), ∀ (k0_h2 : k0_cond2 i = 1#1), ∀ a, (k0_off835 v6764) a + S1x32.size a ≤ S15360x128.size a := fun i v6764 k0_hw283 k0_h2 => k0_hw283 k0_h2

def k0_off836 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2295 : BitVec 32 := 32#32
  let v6761 : BitVec 32 := Scalar.muli arg13 c32_i32_2295
  let c21_i32 : BitVec 32 := 21#32
  let v6762 : BitVec 32 := Scalar.addi v6761 c21_i32
  let v6767 : Index := Scalar.indexCast v6762
  let c0_2298 : Index := 0#32
  ![v6767.toNat, 0]
def k0_off837 (v5259 : BitVec 32) (k0_t9 : Fin (k0_t9_loop v5259).trips) : Fin 2 → Nat :=
  let c4_2300 : Index := 4#32
  let c0_i32_1624 : BitVec 32 := 0#32
  let c1_i32_1627 : BitVec 32 := 1#32
  let arg13 : BitVec 32 := Scf.iv c0_i32_1624 c1_i32_1627 k0_t9
  let c32_i32_2299 : BitVec 32 := 32#32
  let v6771 : BitVec 32 := Scalar.muli arg13 c32_i32_2299
  let c22_i32 : BitVec 32 := 22#32
  let v6772 : BitVec 32 := Scalar.addi v6771 c22_i32
  let v6773 : Index := Scalar.indexCast v6772
  ![4, v6773.toNat]
def k0_off838 (v6774 : BitVec 32) : Fin 2 → Nat :=
  let v6775 : Index := Scalar.indexCast v6774
  let c0_2301 : Index := 0#32
  ![v6775.toNat, 0]

def k0_chk284 (i : grid0.Coords) (v6774 : BitVec 32) : Prop :=
  (∀ (k0_h2 : k0_cond2 i = 1#1), ∀ a, (k0_off838 v6774) a + S1x32.size a ≤ S15360x128.size a)
theorem k0_off838_inb : ∀ (i : grid0.Coords) (v6774 : BitVec 32) (k0_hw284 : k0_chk284 i v6774), ∀ (k0_h2 : k0_cond2 i = 1#1), ∀ a, (k0_off838 v6774) a + S1x32.size a ≤ S15360x128.size a := fun i v6774 k0_hw284 k0_h2 => k0_hw284 k0_h2

def k0_off839 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2299 : BitVec 32 := 32#32
  let v6771 : BitVec 32 := Scalar.muli arg13 c32_i32_2299
  let c22_i32 : BitVec 32 := 22#32
  let v6772 : BitVec 32 := Scalar.addi v6771 c22_i32
  let v6777 : Index := Scalar.indexCast v6772
  let c0_2302 : Index := 0#32
  ![v6777.toNat, 0]
def k0_off840 (v5259 : BitVec 32) (k0_t9 : Fin (k0_t9_loop v5259).trips) : Fin 2 → Nat :=
  let c4_2304 : Index := 4#32
  let c0_i32_1624 : BitVec 32 := 0#32
  let c1_i32_1627 : BitVec 32 := 1#32
  let arg13 : BitVec 32 := Scf.iv c0_i32_1624 c1_i32_1627 k0_t9
  let c32_i32_2303 : BitVec 32 := 32#32
  let v6781 : BitVec 32 := Scalar.muli arg13 c32_i32_2303
  let c23_i32 : BitVec 32 := 23#32
  let v6782 : BitVec 32 := Scalar.addi v6781 c23_i32
  let v6783 : Index := Scalar.indexCast v6782
  ![4, v6783.toNat]
def k0_off841 (v6784 : BitVec 32) : Fin 2 → Nat :=
  let v6785 : Index := Scalar.indexCast v6784
  let c0_2305 : Index := 0#32
  ![v6785.toNat, 0]

def k0_chk285 (i : grid0.Coords) (v6784 : BitVec 32) : Prop :=
  (∀ (k0_h2 : k0_cond2 i = 1#1), ∀ a, (k0_off841 v6784) a + S1x32.size a ≤ S15360x128.size a)
theorem k0_off841_inb : ∀ (i : grid0.Coords) (v6784 : BitVec 32) (k0_hw285 : k0_chk285 i v6784), ∀ (k0_h2 : k0_cond2 i = 1#1), ∀ a, (k0_off841 v6784) a + S1x32.size a ≤ S15360x128.size a := fun i v6784 k0_hw285 k0_h2 => k0_hw285 k0_h2

def k0_off842 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2303 : BitVec 32 := 32#32
  let v6781 : BitVec 32 := Scalar.muli arg13 c32_i32_2303
  let c23_i32 : BitVec 32 := 23#32
  let v6782 : BitVec 32 := Scalar.addi v6781 c23_i32
  let v6787 : Index := Scalar.indexCast v6782
  let c0_2306 : Index := 0#32
  ![v6787.toNat, 0]
def k0_off843 (v5259 : BitVec 32) (k0_t9 : Fin (k0_t9_loop v5259).trips) : Fin 2 → Nat :=
  let c4_2308 : Index := 4#32
  let c0_i32_1624 : BitVec 32 := 0#32
  let c1_i32_1627 : BitVec 32 := 1#32
  let arg13 : BitVec 32 := Scf.iv c0_i32_1624 c1_i32_1627 k0_t9
  let c32_i32_2307 : BitVec 32 := 32#32
  let v6791 : BitVec 32 := Scalar.muli arg13 c32_i32_2307
  let c24_i32 : BitVec 32 := 24#32
  let v6792 : BitVec 32 := Scalar.addi v6791 c24_i32
  let v6793 : Index := Scalar.indexCast v6792
  ![4, v6793.toNat]
def k0_off844 (v6794 : BitVec 32) : Fin 2 → Nat :=
  let v6795 : Index := Scalar.indexCast v6794
  let c0_2309 : Index := 0#32
  ![v6795.toNat, 0]

def k0_chk286 (i : grid0.Coords) (v6794 : BitVec 32) : Prop :=
  (∀ (k0_h2 : k0_cond2 i = 1#1), ∀ a, (k0_off844 v6794) a + S1x32.size a ≤ S15360x128.size a)
theorem k0_off844_inb : ∀ (i : grid0.Coords) (v6794 : BitVec 32) (k0_hw286 : k0_chk286 i v6794), ∀ (k0_h2 : k0_cond2 i = 1#1), ∀ a, (k0_off844 v6794) a + S1x32.size a ≤ S15360x128.size a := fun i v6794 k0_hw286 k0_h2 => k0_hw286 k0_h2

def k0_off845 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2307 : BitVec 32 := 32#32
  let v6791 : BitVec 32 := Scalar.muli arg13 c32_i32_2307
  let c24_i32 : BitVec 32 := 24#32
  let v6792 : BitVec 32 := Scalar.addi v6791 c24_i32
  let v6797 : Index := Scalar.indexCast v6792
  let c0_2310 : Index := 0#32
  ![v6797.toNat, 0]
def k0_off846 (v5259 : BitVec 32) (k0_t9 : Fin (k0_t9_loop v5259).trips) : Fin 2 → Nat :=
  let c4_2312 : Index := 4#32
  let c0_i32_1624 : BitVec 32 := 0#32
  let c1_i32_1627 : BitVec 32 := 1#32
  let arg13 : BitVec 32 := Scf.iv c0_i32_1624 c1_i32_1627 k0_t9
  let c32_i32_2311 : BitVec 32 := 32#32
  let v6801 : BitVec 32 := Scalar.muli arg13 c32_i32_2311
  let c25_i32 : BitVec 32 := 25#32
  let v6802 : BitVec 32 := Scalar.addi v6801 c25_i32
  let v6803 : Index := Scalar.indexCast v6802
  ![4, v6803.toNat]
def k0_off847 (v6804 : BitVec 32) : Fin 2 → Nat :=
  let v6805 : Index := Scalar.indexCast v6804
  let c0_2313 : Index := 0#32
  ![v6805.toNat, 0]

def k0_chk287 (i : grid0.Coords) (v6804 : BitVec 32) : Prop :=
  (∀ (k0_h2 : k0_cond2 i = 1#1), ∀ a, (k0_off847 v6804) a + S1x32.size a ≤ S15360x128.size a)
theorem k0_off847_inb : ∀ (i : grid0.Coords) (v6804 : BitVec 32) (k0_hw287 : k0_chk287 i v6804), ∀ (k0_h2 : k0_cond2 i = 1#1), ∀ a, (k0_off847 v6804) a + S1x32.size a ≤ S15360x128.size a := fun i v6804 k0_hw287 k0_h2 => k0_hw287 k0_h2

def k0_off848 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2311 : BitVec 32 := 32#32
  let v6801 : BitVec 32 := Scalar.muli arg13 c32_i32_2311
  let c25_i32 : BitVec 32 := 25#32
  let v6802 : BitVec 32 := Scalar.addi v6801 c25_i32
  let v6807 : Index := Scalar.indexCast v6802
  let c0_2314 : Index := 0#32
  ![v6807.toNat, 0]
def k0_off849 (v5259 : BitVec 32) (k0_t9 : Fin (k0_t9_loop v5259).trips) : Fin 2 → Nat :=
  let c4_2316 : Index := 4#32
  let c0_i32_1624 : BitVec 32 := 0#32
  let c1_i32_1627 : BitVec 32 := 1#32
  let arg13 : BitVec 32 := Scf.iv c0_i32_1624 c1_i32_1627 k0_t9
  let c32_i32_2315 : BitVec 32 := 32#32
  let v6811 : BitVec 32 := Scalar.muli arg13 c32_i32_2315
  let c26_i32 : BitVec 32 := 26#32
  let v6812 : BitVec 32 := Scalar.addi v6811 c26_i32
  let v6813 : Index := Scalar.indexCast v6812
  ![4, v6813.toNat]
def k0_off850 (v6814 : BitVec 32) : Fin 2 → Nat :=
  let v6815 : Index := Scalar.indexCast v6814
  let c0_2317 : Index := 0#32
  ![v6815.toNat, 0]

def k0_chk288 (i : grid0.Coords) (v6814 : BitVec 32) : Prop :=
  (∀ (k0_h2 : k0_cond2 i = 1#1), ∀ a, (k0_off850 v6814) a + S1x32.size a ≤ S15360x128.size a)
theorem k0_off850_inb : ∀ (i : grid0.Coords) (v6814 : BitVec 32) (k0_hw288 : k0_chk288 i v6814), ∀ (k0_h2 : k0_cond2 i = 1#1), ∀ a, (k0_off850 v6814) a + S1x32.size a ≤ S15360x128.size a := fun i v6814 k0_hw288 k0_h2 => k0_hw288 k0_h2

def k0_off851 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2315 : BitVec 32 := 32#32
  let v6811 : BitVec 32 := Scalar.muli arg13 c32_i32_2315
  let c26_i32 : BitVec 32 := 26#32
  let v6812 : BitVec 32 := Scalar.addi v6811 c26_i32
  let v6817 : Index := Scalar.indexCast v6812
  let c0_2318 : Index := 0#32
  ![v6817.toNat, 0]
def k0_off852 (v5259 : BitVec 32) (k0_t9 : Fin (k0_t9_loop v5259).trips) : Fin 2 → Nat :=
  let c4_2320 : Index := 4#32
  let c0_i32_1624 : BitVec 32 := 0#32
  let c1_i32_1627 : BitVec 32 := 1#32
  let arg13 : BitVec 32 := Scf.iv c0_i32_1624 c1_i32_1627 k0_t9
  let c32_i32_2319 : BitVec 32 := 32#32
  let v6821 : BitVec 32 := Scalar.muli arg13 c32_i32_2319
  let c27_i32 : BitVec 32 := 27#32
  let v6822 : BitVec 32 := Scalar.addi v6821 c27_i32
  let v6823 : Index := Scalar.indexCast v6822
  ![4, v6823.toNat]
def k0_off853 (v6824 : BitVec 32) : Fin 2 → Nat :=
  let v6825 : Index := Scalar.indexCast v6824
  let c0_2321 : Index := 0#32
  ![v6825.toNat, 0]

def k0_chk289 (i : grid0.Coords) (v6824 : BitVec 32) : Prop :=
  (∀ (k0_h2 : k0_cond2 i = 1#1), ∀ a, (k0_off853 v6824) a + S1x32.size a ≤ S15360x128.size a)
theorem k0_off853_inb : ∀ (i : grid0.Coords) (v6824 : BitVec 32) (k0_hw289 : k0_chk289 i v6824), ∀ (k0_h2 : k0_cond2 i = 1#1), ∀ a, (k0_off853 v6824) a + S1x32.size a ≤ S15360x128.size a := fun i v6824 k0_hw289 k0_h2 => k0_hw289 k0_h2

def k0_off854 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2319 : BitVec 32 := 32#32
  let v6821 : BitVec 32 := Scalar.muli arg13 c32_i32_2319
  let c27_i32 : BitVec 32 := 27#32
  let v6822 : BitVec 32 := Scalar.addi v6821 c27_i32
  let v6827 : Index := Scalar.indexCast v6822
  let c0_2322 : Index := 0#32
  ![v6827.toNat, 0]
def k0_off855 (v5259 : BitVec 32) (k0_t9 : Fin (k0_t9_loop v5259).trips) : Fin 2 → Nat :=
  let c4_2324 : Index := 4#32
  let c0_i32_1624 : BitVec 32 := 0#32
  let c1_i32_1627 : BitVec 32 := 1#32
  let arg13 : BitVec 32 := Scf.iv c0_i32_1624 c1_i32_1627 k0_t9
  let c32_i32_2323 : BitVec 32 := 32#32
  let v6831 : BitVec 32 := Scalar.muli arg13 c32_i32_2323
  let c28_i32 : BitVec 32 := 28#32
  let v6832 : BitVec 32 := Scalar.addi v6831 c28_i32
  let v6833 : Index := Scalar.indexCast v6832
  ![4, v6833.toNat]
def k0_off856 (v6834 : BitVec 32) : Fin 2 → Nat :=
  let v6835 : Index := Scalar.indexCast v6834
  let c0_2325 : Index := 0#32
  ![v6835.toNat, 0]

def k0_chk290 (i : grid0.Coords) (v6834 : BitVec 32) : Prop :=
  (∀ (k0_h2 : k0_cond2 i = 1#1), ∀ a, (k0_off856 v6834) a + S1x32.size a ≤ S15360x128.size a)
theorem k0_off856_inb : ∀ (i : grid0.Coords) (v6834 : BitVec 32) (k0_hw290 : k0_chk290 i v6834), ∀ (k0_h2 : k0_cond2 i = 1#1), ∀ a, (k0_off856 v6834) a + S1x32.size a ≤ S15360x128.size a := fun i v6834 k0_hw290 k0_h2 => k0_hw290 k0_h2

def k0_off857 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2323 : BitVec 32 := 32#32
  let v6831 : BitVec 32 := Scalar.muli arg13 c32_i32_2323
  let c28_i32 : BitVec 32 := 28#32
  let v6832 : BitVec 32 := Scalar.addi v6831 c28_i32
  let v6837 : Index := Scalar.indexCast v6832
  let c0_2326 : Index := 0#32
  ![v6837.toNat, 0]
def k0_off858 (v5259 : BitVec 32) (k0_t9 : Fin (k0_t9_loop v5259).trips) : Fin 2 → Nat :=
  let c4_2329 : Index := 4#32
  let c0_i32_1624 : BitVec 32 := 0#32
  let c1_i32_1627 : BitVec 32 := 1#32
  let arg13 : BitVec 32 := Scf.iv c0_i32_1624 c1_i32_1627 k0_t9
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6843 : Index := Scalar.indexCast v6842
  ![4, v6843.toNat]
def k0_off859 (v6844 : BitVec 32) : Fin 2 → Nat :=
  let v6845 : Index := Scalar.indexCast v6844
  let c0_2330 : Index := 0#32
  ![v6845.toNat, 0]

def k0_chk291 (i : grid0.Coords) (v6844 : BitVec 32) : Prop :=
  (∀ (k0_h2 : k0_cond2 i = 1#1), ∀ a, (k0_off859 v6844) a + S1x32.size a ≤ S15360x128.size a)
theorem k0_off859_inb : ∀ (i : grid0.Coords) (v6844 : BitVec 32) (k0_hw291 : k0_chk291 i v6844), ∀ (k0_h2 : k0_cond2 i = 1#1), ∀ a, (k0_off859 v6844) a + S1x32.size a ≤ S15360x128.size a := fun i v6844 k0_hw291 k0_h2 => k0_hw291 k0_h2

def k0_off860 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6847 : Index := Scalar.indexCast v6842
  let c0_2331 : Index := 0#32
  ![v6847.toNat, 0]
def k0_off861 (v5259 : BitVec 32) (k0_t9 : Fin (k0_t9_loop v5259).trips) : Fin 2 → Nat :=
  let c4_2333 : Index := 4#32
  let c0_i32_1624 : BitVec 32 := 0#32
  let c1_i32_1627 : BitVec 32 := 1#32
  let arg13 : BitVec 32 := Scf.iv c0_i32_1624 c1_i32_1627 k0_t9
  let c32_i32_2332 : BitVec 32 := 32#32
  let v6851 : BitVec 32 := Scalar.muli arg13 c32_i32_2332
  let c30_i32 : BitVec 32 := 30#32
  let v6852 : BitVec 32 := Scalar.addi v6851 c30_i32
  let v6853 : Index := Scalar.indexCast v6852
  ![4, v6853.toNat]
def k0_off862 (v6854 : BitVec 32) : Fin 2 → Nat :=
  let v6855 : Index := Scalar.indexCast v6854
  let c0_2334 : Index := 0#32
  ![v6855.toNat, 0]

def k0_chk292 (i : grid0.Coords) (v6854 : BitVec 32) : Prop :=
  (∀ (k0_h2 : k0_cond2 i = 1#1), ∀ a, (k0_off862 v6854) a + S1x32.size a ≤ S15360x128.size a)
theorem k0_off862_inb : ∀ (i : grid0.Coords) (v6854 : BitVec 32) (k0_hw292 : k0_chk292 i v6854), ∀ (k0_h2 : k0_cond2 i = 1#1), ∀ a, (k0_off862 v6854) a + S1x32.size a ≤ S15360x128.size a := fun i v6854 k0_hw292 k0_h2 => k0_hw292 k0_h2

def k0_off863 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2332 : BitVec 32 := 32#32
  let v6851 : BitVec 32 := Scalar.muli arg13 c32_i32_2332
  let c30_i32 : BitVec 32 := 30#32
  let v6852 : BitVec 32 := Scalar.addi v6851 c30_i32
  let v6857 : Index := Scalar.indexCast v6852
  let c0_2335 : Index := 0#32
  ![v6857.toNat, 0]
def k0_off864 (v5259 : BitVec 32) (k0_t9 : Fin (k0_t9_loop v5259).trips) : Fin 2 → Nat :=
  let c4_2337 : Index := 4#32
  let c0_i32_1624 : BitVec 32 := 0#32
  let c1_i32_1627 : BitVec 32 := 1#32
  let arg13 : BitVec 32 := Scf.iv c0_i32_1624 c1_i32_1627 k0_t9
  let c32_i32_2336 : BitVec 32 := 32#32
  let v6861 : BitVec 32 := Scalar.muli arg13 c32_i32_2336
  let c31_i32 : BitVec 32 := 31#32
  let v6862 : BitVec 32 := Scalar.addi v6861 c31_i32
  let v6863 : Index := Scalar.indexCast v6862
  ![4, v6863.toNat]
def k0_off865 (v6864 : BitVec 32) : Fin 2 → Nat :=
  let v6865 : Index := Scalar.indexCast v6864
  let c0_2338 : Index := 0#32
  ![v6865.toNat, 0]

def k0_chk293 (i : grid0.Coords) (v6864 : BitVec 32) : Prop :=
  (∀ (k0_h2 : k0_cond2 i = 1#1), ∀ a, (k0_off865 v6864) a + S1x32.size a ≤ S15360x128.size a)
theorem k0_off865_inb : ∀ (i : grid0.Coords) (v6864 : BitVec 32) (k0_hw293 : k0_chk293 i v6864), ∀ (k0_h2 : k0_cond2 i = 1#1), ∀ a, (k0_off865 v6864) a + S1x32.size a ≤ S15360x128.size a := fun i v6864 k0_hw293 k0_h2 => k0_hw293 k0_h2

def k0_off866 (v5259 : BitVec 32) (k0_t9 : Fin (k0_t9_loop v5259).trips) : Fin 2 → Nat :=
  let c0_i32_1624 : BitVec 32 := 0#32
  let c1_i32_1627 : BitVec 32 := 1#32
  let arg13 : BitVec 32 := Scf.iv c0_i32_1624 c1_i32_1627 k0_t9
  let c32_i32_2336 : BitVec 32 := 32#32
  let v6861 : BitVec 32 := Scalar.muli arg13 c32_i32_2336
  let c31_i32 : BitVec 32 := 31#32
  let v6862 : BitVec 32 := Scalar.addi v6861 c31_i32
  let v6867 : Index := Scalar.indexCast v6862
  let c0_2339 : Index := 0#32
  ![v6867.toNat, 0]
@[reducible] def k0_t10_loop (v5259 : BitVec 32) : Scf.Loop 32 :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let v5299 : BitVec 32 := Scalar.addi c0_i32_1624 v5298
  let c1_i32_1628 : BitVec 32 := 1#32
  ⟨v5302, v5299, c1_i32_1628⟩
def k0_off867 (v5259 : BitVec 32) (k0_t10 : Fin (k0_t10_loop v5259).trips) : Fin 2 → Nat :=
  let c4_2208 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![4, v6553.toNat]
def k0_off868 (v6554 : BitVec 32) : Fin 2 → Nat :=
  let v6555 : Index := Scalar.indexCast v6554
  let c0_2209 : Index := 0#32
  ![v6555.toNat, 0]

def k0_chk294 (i : grid0.Coords) (v6554 : BitVec 32) : Prop :=
  (∀ (k0_h2 : k0_cond2 i = 1#1), ∀ a, (k0_off868 v6554) a + S1x32.size a ≤ S15360x128.size a)
theorem k0_off868_inb : ∀ (i : grid0.Coords) (v6554 : BitVec 32) (k0_hw294 : k0_chk294 i v6554), ∀ (k0_h2 : k0_cond2 i = 1#1), ∀ a, (k0_off868 v6554) a + S1x32.size a ≤ S15360x128.size a := fun i v6554 k0_hw294 k0_h2 => k0_hw294 k0_h2

def k0_off869 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c0_2210 : Index := 0#32
  ![v6557.toNat, 0]
def k0_off870 (v5259 : BitVec 32) (k0_t10 : Fin (k0_t10_loop v5259).trips) : Fin 2 → Nat :=
  let c4_2213 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6563 : Index := Scalar.indexCast v6562
  ![4, v6563.toNat]
def k0_off871 (v6564 : BitVec 32) : Fin 2 → Nat :=
  let v6565 : Index := Scalar.indexCast v6564
  let c0_2214 : Index := 0#32
  ![v6565.toNat, 0]

def k0_chk295 (i : grid0.Coords) (v6564 : BitVec 32) : Prop :=
  (∀ (k0_h2 : k0_cond2 i = 1#1), ∀ a, (k0_off871 v6564) a + S1x32.size a ≤ S15360x128.size a)
theorem k0_off871_inb : ∀ (i : grid0.Coords) (v6564 : BitVec 32) (k0_hw295 : k0_chk295 i v6564), ∀ (k0_h2 : k0_cond2 i = 1#1), ∀ a, (k0_off871 v6564) a + S1x32.size a ≤ S15360x128.size a := fun i v6564 k0_hw295 k0_h2 => k0_hw295 k0_h2

def k0_off872 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2211 : BitVec 32 := 32#32
  let v6561 : BitVec 32 := Scalar.muli arg13 c32_i32_2211
  let c1_i32_2212 : BitVec 32 := 1#32
  let v6562 : BitVec 32 := Scalar.addi v6561 c1_i32_2212
  let v6567 : Index := Scalar.indexCast v6562
  let c0_2215 : Index := 0#32
  ![v6567.toNat, 0]
def k0_off873 (v5259 : BitVec 32) (k0_t10 : Fin (k0_t10_loop v5259).trips) : Fin 2 → Nat :=
  let c4_2218 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6573 : Index := Scalar.indexCast v6572
  ![4, v6573.toNat]
def k0_off874 (v6574 : BitVec 32) : Fin 2 → Nat :=
  let v6575 : Index := Scalar.indexCast v6574
  let c0_2219 : Index := 0#32
  ![v6575.toNat, 0]

def k0_chk296 (i : grid0.Coords) (v6574 : BitVec 32) : Prop :=
  (∀ (k0_h2 : k0_cond2 i = 1#1), ∀ a, (k0_off874 v6574) a + S1x32.size a ≤ S15360x128.size a)
theorem k0_off874_inb : ∀ (i : grid0.Coords) (v6574 : BitVec 32) (k0_hw296 : k0_chk296 i v6574), ∀ (k0_h2 : k0_cond2 i = 1#1), ∀ a, (k0_off874 v6574) a + S1x32.size a ≤ S15360x128.size a := fun i v6574 k0_hw296 k0_h2 => k0_hw296 k0_h2

def k0_off875 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2216 : BitVec 32 := 32#32
  let v6571 : BitVec 32 := Scalar.muli arg13 c32_i32_2216
  let c2_i32_2217 : BitVec 32 := 2#32
  let v6572 : BitVec 32 := Scalar.addi v6571 c2_i32_2217
  let v6577 : Index := Scalar.indexCast v6572
  let c0_2220 : Index := 0#32
  ![v6577.toNat, 0]
def k0_off876 (v5259 : BitVec 32) (k0_t10 : Fin (k0_t10_loop v5259).trips) : Fin 2 → Nat :=
  let c4_2223 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6583 : Index := Scalar.indexCast v6582
  ![4, v6583.toNat]
def k0_off877 (v6584 : BitVec 32) : Fin 2 → Nat :=
  let v6585 : Index := Scalar.indexCast v6584
  let c0_2224 : Index := 0#32
  ![v6585.toNat, 0]

def k0_chk297 (i : grid0.Coords) (v6584 : BitVec 32) : Prop :=
  (∀ (k0_h2 : k0_cond2 i = 1#1), ∀ a, (k0_off877 v6584) a + S1x32.size a ≤ S15360x128.size a)
theorem k0_off877_inb : ∀ (i : grid0.Coords) (v6584 : BitVec 32) (k0_hw297 : k0_chk297 i v6584), ∀ (k0_h2 : k0_cond2 i = 1#1), ∀ a, (k0_off877 v6584) a + S1x32.size a ≤ S15360x128.size a := fun i v6584 k0_hw297 k0_h2 => k0_hw297 k0_h2

def k0_off878 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2221 : BitVec 32 := 32#32
  let v6581 : BitVec 32 := Scalar.muli arg13 c32_i32_2221
  let c3_i32_2222 : BitVec 32 := 3#32
  let v6582 : BitVec 32 := Scalar.addi v6581 c3_i32_2222
  let v6587 : Index := Scalar.indexCast v6582
  let c0_2225 : Index := 0#32
  ![v6587.toNat, 0]
def k0_off879 (v5259 : BitVec 32) (k0_t10 : Fin (k0_t10_loop v5259).trips) : Fin 2 → Nat :=
  let c4_2228 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6593 : Index := Scalar.indexCast v6592
  ![4, v6593.toNat]
def k0_off880 (v6594 : BitVec 32) : Fin 2 → Nat :=
  let v6595 : Index := Scalar.indexCast v6594
  let c0_2229 : Index := 0#32
  ![v6595.toNat, 0]

def k0_chk298 (i : grid0.Coords) (v6594 : BitVec 32) : Prop :=
  (∀ (k0_h2 : k0_cond2 i = 1#1), ∀ a, (k0_off880 v6594) a + S1x32.size a ≤ S15360x128.size a)
theorem k0_off880_inb : ∀ (i : grid0.Coords) (v6594 : BitVec 32) (k0_hw298 : k0_chk298 i v6594), ∀ (k0_h2 : k0_cond2 i = 1#1), ∀ a, (k0_off880 v6594) a + S1x32.size a ≤ S15360x128.size a := fun i v6594 k0_hw298 k0_h2 => k0_hw298 k0_h2

def k0_off881 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2226 : BitVec 32 := 32#32
  let v6591 : BitVec 32 := Scalar.muli arg13 c32_i32_2226
  let c4_i32_2227 : BitVec 32 := 4#32
  let v6592 : BitVec 32 := Scalar.addi v6591 c4_i32_2227
  let v6597 : Index := Scalar.indexCast v6592
  let c0_2230 : Index := 0#32
  ![v6597.toNat, 0]
def k0_off882 (v5259 : BitVec 32) (k0_t10 : Fin (k0_t10_loop v5259).trips) : Fin 2 → Nat :=
  let c4_2232 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2231 : BitVec 32 := 32#32
  let v6601 : BitVec 32 := Scalar.muli arg13 c32_i32_2231
  let c5_i32 : BitVec 32 := 5#32
  let v6602 : BitVec 32 := Scalar.addi v6601 c5_i32
  let v6603 : Index := Scalar.indexCast v6602
  ![4, v6603.toNat]
def k0_off883 (v6604 : BitVec 32) : Fin 2 → Nat :=
  let v6605 : Index := Scalar.indexCast v6604
  let c0_2233 : Index := 0#32
  ![v6605.toNat, 0]

def k0_chk299 (i : grid0.Coords) (v6604 : BitVec 32) : Prop :=
  (∀ (k0_h2 : k0_cond2 i = 1#1), ∀ a, (k0_off883 v6604) a + S1x32.size a ≤ S15360x128.size a)
theorem k0_off883_inb : ∀ (i : grid0.Coords) (v6604 : BitVec 32) (k0_hw299 : k0_chk299 i v6604), ∀ (k0_h2 : k0_cond2 i = 1#1), ∀ a, (k0_off883 v6604) a + S1x32.size a ≤ S15360x128.size a := fun i v6604 k0_hw299 k0_h2 => k0_hw299 k0_h2

def k0_off884 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2231 : BitVec 32 := 32#32
  let v6601 : BitVec 32 := Scalar.muli arg13 c32_i32_2231
  let c5_i32 : BitVec 32 := 5#32
  let v6602 : BitVec 32 := Scalar.addi v6601 c5_i32
  let v6607 : Index := Scalar.indexCast v6602
  let c0_2234 : Index := 0#32
  ![v6607.toNat, 0]
def k0_off885 (v5259 : BitVec 32) (k0_t10 : Fin (k0_t10_loop v5259).trips) : Fin 2 → Nat :=
  let c4_2236 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2235 : BitVec 32 := 32#32
  let v6611 : BitVec 32 := Scalar.muli arg13 c32_i32_2235
  let c6_i32 : BitVec 32 := 6#32
  let v6612 : BitVec 32 := Scalar.addi v6611 c6_i32
  let v6613 : Index := Scalar.indexCast v6612
  ![4, v6613.toNat]
def k0_off886 (v6614 : BitVec 32) : Fin 2 → Nat :=
  let v6615 : Index := Scalar.indexCast v6614
  let c0_2237 : Index := 0#32
  ![v6615.toNat, 0]

def k0_chk300 (i : grid0.Coords) (v6614 : BitVec 32) : Prop :=
  (∀ (k0_h2 : k0_cond2 i = 1#1), ∀ a, (k0_off886 v6614) a + S1x32.size a ≤ S15360x128.size a)
theorem k0_off886_inb : ∀ (i : grid0.Coords) (v6614 : BitVec 32) (k0_hw300 : k0_chk300 i v6614), ∀ (k0_h2 : k0_cond2 i = 1#1), ∀ a, (k0_off886 v6614) a + S1x32.size a ≤ S15360x128.size a := fun i v6614 k0_hw300 k0_h2 => k0_hw300 k0_h2

def k0_off887 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2235 : BitVec 32 := 32#32
  let v6611 : BitVec 32 := Scalar.muli arg13 c32_i32_2235
  let c6_i32 : BitVec 32 := 6#32
  let v6612 : BitVec 32 := Scalar.addi v6611 c6_i32
  let v6617 : Index := Scalar.indexCast v6612
  let c0_2238 : Index := 0#32
  ![v6617.toNat, 0]
def k0_off888 (v5259 : BitVec 32) (k0_t10 : Fin (k0_t10_loop v5259).trips) : Fin 2 → Nat :=
  let c4_2240 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2239 : BitVec 32 := 32#32
  let v6621 : BitVec 32 := Scalar.muli arg13 c32_i32_2239
  let c7_i32 : BitVec 32 := 7#32
  let v6622 : BitVec 32 := Scalar.addi v6621 c7_i32
  let v6623 : Index := Scalar.indexCast v6622
  ![4, v6623.toNat]
def k0_off889 (v6624 : BitVec 32) : Fin 2 → Nat :=
  let v6625 : Index := Scalar.indexCast v6624
  let c0_2241 : Index := 0#32
  ![v6625.toNat, 0]

def k0_chk301 (i : grid0.Coords) (v6624 : BitVec 32) : Prop :=
  (∀ (k0_h2 : k0_cond2 i = 1#1), ∀ a, (k0_off889 v6624) a + S1x32.size a ≤ S15360x128.size a)
theorem k0_off889_inb : ∀ (i : grid0.Coords) (v6624 : BitVec 32) (k0_hw301 : k0_chk301 i v6624), ∀ (k0_h2 : k0_cond2 i = 1#1), ∀ a, (k0_off889 v6624) a + S1x32.size a ≤ S15360x128.size a := fun i v6624 k0_hw301 k0_h2 => k0_hw301 k0_h2

def k0_off890 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2239 : BitVec 32 := 32#32
  let v6621 : BitVec 32 := Scalar.muli arg13 c32_i32_2239
  let c7_i32 : BitVec 32 := 7#32
  let v6622 : BitVec 32 := Scalar.addi v6621 c7_i32
  let v6627 : Index := Scalar.indexCast v6622
  let c0_2242 : Index := 0#32
  ![v6627.toNat, 0]
def k0_off891 (v5259 : BitVec 32) (k0_t10 : Fin (k0_t10_loop v5259).trips) : Fin 2 → Nat :=
  let c4_2244 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2243 : BitVec 32 := 32#32
  let v6631 : BitVec 32 := Scalar.muli arg13 c32_i32_2243
  let c8_i32 : BitVec 32 := 8#32
  let v6632 : BitVec 32 := Scalar.addi v6631 c8_i32
  let v6633 : Index := Scalar.indexCast v6632
  ![4, v6633.toNat]
def k0_off892 (v6634 : BitVec 32) : Fin 2 → Nat :=
  let v6635 : Index := Scalar.indexCast v6634
  let c0_2245 : Index := 0#32
  ![v6635.toNat, 0]

def k0_chk302 (i : grid0.Coords) (v6634 : BitVec 32) : Prop :=
  (∀ (k0_h2 : k0_cond2 i = 1#1), ∀ a, (k0_off892 v6634) a + S1x32.size a ≤ S15360x128.size a)
theorem k0_off892_inb : ∀ (i : grid0.Coords) (v6634 : BitVec 32) (k0_hw302 : k0_chk302 i v6634), ∀ (k0_h2 : k0_cond2 i = 1#1), ∀ a, (k0_off892 v6634) a + S1x32.size a ≤ S15360x128.size a := fun i v6634 k0_hw302 k0_h2 => k0_hw302 k0_h2

def k0_off893 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2243 : BitVec 32 := 32#32
  let v6631 : BitVec 32 := Scalar.muli arg13 c32_i32_2243
  let c8_i32 : BitVec 32 := 8#32
  let v6632 : BitVec 32 := Scalar.addi v6631 c8_i32
  let v6637 : Index := Scalar.indexCast v6632
  let c0_2246 : Index := 0#32
  ![v6637.toNat, 0]
def k0_off894 (v5259 : BitVec 32) (k0_t10 : Fin (k0_t10_loop v5259).trips) : Fin 2 → Nat :=
  let c4_2248 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2247 : BitVec 32 := 32#32
  let v6641 : BitVec 32 := Scalar.muli arg13 c32_i32_2247
  let c9_i32 : BitVec 32 := 9#32
  let v6642 : BitVec 32 := Scalar.addi v6641 c9_i32
  let v6643 : Index := Scalar.indexCast v6642
  ![4, v6643.toNat]
def k0_off895 (v6644 : BitVec 32) : Fin 2 → Nat :=
  let v6645 : Index := Scalar.indexCast v6644
  let c0_2249 : Index := 0#32
  ![v6645.toNat, 0]

def k0_chk303 (i : grid0.Coords) (v6644 : BitVec 32) : Prop :=
  (∀ (k0_h2 : k0_cond2 i = 1#1), ∀ a, (k0_off895 v6644) a + S1x32.size a ≤ S15360x128.size a)
theorem k0_off895_inb : ∀ (i : grid0.Coords) (v6644 : BitVec 32) (k0_hw303 : k0_chk303 i v6644), ∀ (k0_h2 : k0_cond2 i = 1#1), ∀ a, (k0_off895 v6644) a + S1x32.size a ≤ S15360x128.size a := fun i v6644 k0_hw303 k0_h2 => k0_hw303 k0_h2

def k0_off896 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2247 : BitVec 32 := 32#32
  let v6641 : BitVec 32 := Scalar.muli arg13 c32_i32_2247
  let c9_i32 : BitVec 32 := 9#32
  let v6642 : BitVec 32 := Scalar.addi v6641 c9_i32
  let v6647 : Index := Scalar.indexCast v6642
  let c0_2250 : Index := 0#32
  ![v6647.toNat, 0]
def k0_off897 (v5259 : BitVec 32) (k0_t10 : Fin (k0_t10_loop v5259).trips) : Fin 2 → Nat :=
  let c4_2252 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2251 : BitVec 32 := 32#32
  let v6651 : BitVec 32 := Scalar.muli arg13 c32_i32_2251
  let c10_i32 : BitVec 32 := 10#32
  let v6652 : BitVec 32 := Scalar.addi v6651 c10_i32
  let v6653 : Index := Scalar.indexCast v6652
  ![4, v6653.toNat]
def k0_off898 (v6654 : BitVec 32) : Fin 2 → Nat :=
  let v6655 : Index := Scalar.indexCast v6654
  let c0_2253 : Index := 0#32
  ![v6655.toNat, 0]

def k0_chk304 (i : grid0.Coords) (v6654 : BitVec 32) : Prop :=
  (∀ (k0_h2 : k0_cond2 i = 1#1), ∀ a, (k0_off898 v6654) a + S1x32.size a ≤ S15360x128.size a)
theorem k0_off898_inb : ∀ (i : grid0.Coords) (v6654 : BitVec 32) (k0_hw304 : k0_chk304 i v6654), ∀ (k0_h2 : k0_cond2 i = 1#1), ∀ a, (k0_off898 v6654) a + S1x32.size a ≤ S15360x128.size a := fun i v6654 k0_hw304 k0_h2 => k0_hw304 k0_h2

def k0_off899 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2251 : BitVec 32 := 32#32
  let v6651 : BitVec 32 := Scalar.muli arg13 c32_i32_2251
  let c10_i32 : BitVec 32 := 10#32
  let v6652 : BitVec 32 := Scalar.addi v6651 c10_i32
  let v6657 : Index := Scalar.indexCast v6652
  let c0_2254 : Index := 0#32
  ![v6657.toNat, 0]
def k0_off900 (v5259 : BitVec 32) (k0_t10 : Fin (k0_t10_loop v5259).trips) : Fin 2 → Nat :=
  let c4_2256 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2255 : BitVec 32 := 32#32
  let v6661 : BitVec 32 := Scalar.muli arg13 c32_i32_2255
  let c11_i32 : BitVec 32 := 11#32
  let v6662 : BitVec 32 := Scalar.addi v6661 c11_i32
  let v6663 : Index := Scalar.indexCast v6662
  ![4, v6663.toNat]
def k0_off901 (v6664 : BitVec 32) : Fin 2 → Nat :=
  let v6665 : Index := Scalar.indexCast v6664
  let c0_2257 : Index := 0#32
  ![v6665.toNat, 0]

def k0_chk305 (i : grid0.Coords) (v6664 : BitVec 32) : Prop :=
  (∀ (k0_h2 : k0_cond2 i = 1#1), ∀ a, (k0_off901 v6664) a + S1x32.size a ≤ S15360x128.size a)
theorem k0_off901_inb : ∀ (i : grid0.Coords) (v6664 : BitVec 32) (k0_hw305 : k0_chk305 i v6664), ∀ (k0_h2 : k0_cond2 i = 1#1), ∀ a, (k0_off901 v6664) a + S1x32.size a ≤ S15360x128.size a := fun i v6664 k0_hw305 k0_h2 => k0_hw305 k0_h2

def k0_off902 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2255 : BitVec 32 := 32#32
  let v6661 : BitVec 32 := Scalar.muli arg13 c32_i32_2255
  let c11_i32 : BitVec 32 := 11#32
  let v6662 : BitVec 32 := Scalar.addi v6661 c11_i32
  let v6667 : Index := Scalar.indexCast v6662
  let c0_2258 : Index := 0#32
  ![v6667.toNat, 0]
def k0_off903 (v5259 : BitVec 32) (k0_t10 : Fin (k0_t10_loop v5259).trips) : Fin 2 → Nat :=
  let c4_2260 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2259 : BitVec 32 := 32#32
  let v6671 : BitVec 32 := Scalar.muli arg13 c32_i32_2259
  let c12_i32 : BitVec 32 := 12#32
  let v6672 : BitVec 32 := Scalar.addi v6671 c12_i32
  let v6673 : Index := Scalar.indexCast v6672
  ![4, v6673.toNat]
def k0_off904 (v6674 : BitVec 32) : Fin 2 → Nat :=
  let v6675 : Index := Scalar.indexCast v6674
  let c0_2261 : Index := 0#32
  ![v6675.toNat, 0]

def k0_chk306 (i : grid0.Coords) (v6674 : BitVec 32) : Prop :=
  (∀ (k0_h2 : k0_cond2 i = 1#1), ∀ a, (k0_off904 v6674) a + S1x32.size a ≤ S15360x128.size a)
theorem k0_off904_inb : ∀ (i : grid0.Coords) (v6674 : BitVec 32) (k0_hw306 : k0_chk306 i v6674), ∀ (k0_h2 : k0_cond2 i = 1#1), ∀ a, (k0_off904 v6674) a + S1x32.size a ≤ S15360x128.size a := fun i v6674 k0_hw306 k0_h2 => k0_hw306 k0_h2

def k0_off905 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2259 : BitVec 32 := 32#32
  let v6671 : BitVec 32 := Scalar.muli arg13 c32_i32_2259
  let c12_i32 : BitVec 32 := 12#32
  let v6672 : BitVec 32 := Scalar.addi v6671 c12_i32
  let v6677 : Index := Scalar.indexCast v6672
  let c0_2262 : Index := 0#32
  ![v6677.toNat, 0]
def k0_off906 (v5259 : BitVec 32) (k0_t10 : Fin (k0_t10_loop v5259).trips) : Fin 2 → Nat :=
  let c4_2264 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2263 : BitVec 32 := 32#32
  let v6681 : BitVec 32 := Scalar.muli arg13 c32_i32_2263
  let c13_i32 : BitVec 32 := 13#32
  let v6682 : BitVec 32 := Scalar.addi v6681 c13_i32
  let v6683 : Index := Scalar.indexCast v6682
  ![4, v6683.toNat]
def k0_off907 (v6684 : BitVec 32) : Fin 2 → Nat :=
  let v6685 : Index := Scalar.indexCast v6684
  let c0_2265 : Index := 0#32
  ![v6685.toNat, 0]

def k0_chk307 (i : grid0.Coords) (v6684 : BitVec 32) : Prop :=
  (∀ (k0_h2 : k0_cond2 i = 1#1), ∀ a, (k0_off907 v6684) a + S1x32.size a ≤ S15360x128.size a)
theorem k0_off907_inb : ∀ (i : grid0.Coords) (v6684 : BitVec 32) (k0_hw307 : k0_chk307 i v6684), ∀ (k0_h2 : k0_cond2 i = 1#1), ∀ a, (k0_off907 v6684) a + S1x32.size a ≤ S15360x128.size a := fun i v6684 k0_hw307 k0_h2 => k0_hw307 k0_h2

def k0_off908 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2263 : BitVec 32 := 32#32
  let v6681 : BitVec 32 := Scalar.muli arg13 c32_i32_2263
  let c13_i32 : BitVec 32 := 13#32
  let v6682 : BitVec 32 := Scalar.addi v6681 c13_i32
  let v6687 : Index := Scalar.indexCast v6682
  let c0_2266 : Index := 0#32
  ![v6687.toNat, 0]
def k0_off909 (v5259 : BitVec 32) (k0_t10 : Fin (k0_t10_loop v5259).trips) : Fin 2 → Nat :=
  let c4_2268 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2267 : BitVec 32 := 32#32
  let v6691 : BitVec 32 := Scalar.muli arg13 c32_i32_2267
  let c14_i32 : BitVec 32 := 14#32
  let v6692 : BitVec 32 := Scalar.addi v6691 c14_i32
  let v6693 : Index := Scalar.indexCast v6692
  ![4, v6693.toNat]
def k0_off910 (v6694 : BitVec 32) : Fin 2 → Nat :=
  let v6695 : Index := Scalar.indexCast v6694
  let c0_2269 : Index := 0#32
  ![v6695.toNat, 0]

def k0_chk308 (i : grid0.Coords) (v6694 : BitVec 32) : Prop :=
  (∀ (k0_h2 : k0_cond2 i = 1#1), ∀ a, (k0_off910 v6694) a + S1x32.size a ≤ S15360x128.size a)
theorem k0_off910_inb : ∀ (i : grid0.Coords) (v6694 : BitVec 32) (k0_hw308 : k0_chk308 i v6694), ∀ (k0_h2 : k0_cond2 i = 1#1), ∀ a, (k0_off910 v6694) a + S1x32.size a ≤ S15360x128.size a := fun i v6694 k0_hw308 k0_h2 => k0_hw308 k0_h2

def k0_off911 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2267 : BitVec 32 := 32#32
  let v6691 : BitVec 32 := Scalar.muli arg13 c32_i32_2267
  let c14_i32 : BitVec 32 := 14#32
  let v6692 : BitVec 32 := Scalar.addi v6691 c14_i32
  let v6697 : Index := Scalar.indexCast v6692
  let c0_2270 : Index := 0#32
  ![v6697.toNat, 0]
def k0_off912 (v5259 : BitVec 32) (k0_t10 : Fin (k0_t10_loop v5259).trips) : Fin 2 → Nat :=
  let c4_2272 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2271 : BitVec 32 := 32#32
  let v6701 : BitVec 32 := Scalar.muli arg13 c32_i32_2271
  let c15_i32 : BitVec 32 := 15#32
  let v6702 : BitVec 32 := Scalar.addi v6701 c15_i32
  let v6703 : Index := Scalar.indexCast v6702
  ![4, v6703.toNat]
def k0_off913 (v6704 : BitVec 32) : Fin 2 → Nat :=
  let v6705 : Index := Scalar.indexCast v6704
  let c0_2273 : Index := 0#32
  ![v6705.toNat, 0]

def k0_chk309 (i : grid0.Coords) (v6704 : BitVec 32) : Prop :=
  (∀ (k0_h2 : k0_cond2 i = 1#1), ∀ a, (k0_off913 v6704) a + S1x32.size a ≤ S15360x128.size a)
theorem k0_off913_inb : ∀ (i : grid0.Coords) (v6704 : BitVec 32) (k0_hw309 : k0_chk309 i v6704), ∀ (k0_h2 : k0_cond2 i = 1#1), ∀ a, (k0_off913 v6704) a + S1x32.size a ≤ S15360x128.size a := fun i v6704 k0_hw309 k0_h2 => k0_hw309 k0_h2

def k0_off914 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2271 : BitVec 32 := 32#32
  let v6701 : BitVec 32 := Scalar.muli arg13 c32_i32_2271
  let c15_i32 : BitVec 32 := 15#32
  let v6702 : BitVec 32 := Scalar.addi v6701 c15_i32
  let v6707 : Index := Scalar.indexCast v6702
  let c0_2274 : Index := 0#32
  ![v6707.toNat, 0]
def k0_off915 (v5259 : BitVec 32) (k0_t10 : Fin (k0_t10_loop v5259).trips) : Fin 2 → Nat :=
  let c4_2276 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2275 : BitVec 32 := 32#32
  let v6711 : BitVec 32 := Scalar.muli arg13 c32_i32_2275
  let c16_i32 : BitVec 32 := 16#32
  let v6712 : BitVec 32 := Scalar.addi v6711 c16_i32
  let v6713 : Index := Scalar.indexCast v6712
  ![4, v6713.toNat]
def k0_off916 (v6714 : BitVec 32) : Fin 2 → Nat :=
  let v6715 : Index := Scalar.indexCast v6714
  let c0_2277 : Index := 0#32
  ![v6715.toNat, 0]

def k0_chk310 (i : grid0.Coords) (v6714 : BitVec 32) : Prop :=
  (∀ (k0_h2 : k0_cond2 i = 1#1), ∀ a, (k0_off916 v6714) a + S1x32.size a ≤ S15360x128.size a)
theorem k0_off916_inb : ∀ (i : grid0.Coords) (v6714 : BitVec 32) (k0_hw310 : k0_chk310 i v6714), ∀ (k0_h2 : k0_cond2 i = 1#1), ∀ a, (k0_off916 v6714) a + S1x32.size a ≤ S15360x128.size a := fun i v6714 k0_hw310 k0_h2 => k0_hw310 k0_h2

def k0_off917 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2275 : BitVec 32 := 32#32
  let v6711 : BitVec 32 := Scalar.muli arg13 c32_i32_2275
  let c16_i32 : BitVec 32 := 16#32
  let v6712 : BitVec 32 := Scalar.addi v6711 c16_i32
  let v6717 : Index := Scalar.indexCast v6712
  let c0_2278 : Index := 0#32
  ![v6717.toNat, 0]
def k0_off918 (v5259 : BitVec 32) (k0_t10 : Fin (k0_t10_loop v5259).trips) : Fin 2 → Nat :=
  let c4_2280 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2279 : BitVec 32 := 32#32
  let v6721 : BitVec 32 := Scalar.muli arg13 c32_i32_2279
  let c17_i32 : BitVec 32 := 17#32
  let v6722 : BitVec 32 := Scalar.addi v6721 c17_i32
  let v6723 : Index := Scalar.indexCast v6722
  ![4, v6723.toNat]
def k0_off919 (v6724 : BitVec 32) : Fin 2 → Nat :=
  let v6725 : Index := Scalar.indexCast v6724
  let c0_2281 : Index := 0#32
  ![v6725.toNat, 0]

def k0_chk311 (i : grid0.Coords) (v6724 : BitVec 32) : Prop :=
  (∀ (k0_h2 : k0_cond2 i = 1#1), ∀ a, (k0_off919 v6724) a + S1x32.size a ≤ S15360x128.size a)
theorem k0_off919_inb : ∀ (i : grid0.Coords) (v6724 : BitVec 32) (k0_hw311 : k0_chk311 i v6724), ∀ (k0_h2 : k0_cond2 i = 1#1), ∀ a, (k0_off919 v6724) a + S1x32.size a ≤ S15360x128.size a := fun i v6724 k0_hw311 k0_h2 => k0_hw311 k0_h2

def k0_off920 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2279 : BitVec 32 := 32#32
  let v6721 : BitVec 32 := Scalar.muli arg13 c32_i32_2279
  let c17_i32 : BitVec 32 := 17#32
  let v6722 : BitVec 32 := Scalar.addi v6721 c17_i32
  let v6727 : Index := Scalar.indexCast v6722
  let c0_2282 : Index := 0#32
  ![v6727.toNat, 0]
def k0_off921 (v5259 : BitVec 32) (k0_t10 : Fin (k0_t10_loop v5259).trips) : Fin 2 → Nat :=
  let c4_2284 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2283 : BitVec 32 := 32#32
  let v6731 : BitVec 32 := Scalar.muli arg13 c32_i32_2283
  let c18_i32 : BitVec 32 := 18#32
  let v6732 : BitVec 32 := Scalar.addi v6731 c18_i32
  let v6733 : Index := Scalar.indexCast v6732
  ![4, v6733.toNat]
def k0_off922 (v6734 : BitVec 32) : Fin 2 → Nat :=
  let v6735 : Index := Scalar.indexCast v6734
  let c0_2285 : Index := 0#32
  ![v6735.toNat, 0]

def k0_chk312 (i : grid0.Coords) (v6734 : BitVec 32) : Prop :=
  (∀ (k0_h2 : k0_cond2 i = 1#1), ∀ a, (k0_off922 v6734) a + S1x32.size a ≤ S15360x128.size a)
theorem k0_off922_inb : ∀ (i : grid0.Coords) (v6734 : BitVec 32) (k0_hw312 : k0_chk312 i v6734), ∀ (k0_h2 : k0_cond2 i = 1#1), ∀ a, (k0_off922 v6734) a + S1x32.size a ≤ S15360x128.size a := fun i v6734 k0_hw312 k0_h2 => k0_hw312 k0_h2

def k0_off923 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2283 : BitVec 32 := 32#32
  let v6731 : BitVec 32 := Scalar.muli arg13 c32_i32_2283
  let c18_i32 : BitVec 32 := 18#32
  let v6732 : BitVec 32 := Scalar.addi v6731 c18_i32
  let v6737 : Index := Scalar.indexCast v6732
  let c0_2286 : Index := 0#32
  ![v6737.toNat, 0]
def k0_off924 (v5259 : BitVec 32) (k0_t10 : Fin (k0_t10_loop v5259).trips) : Fin 2 → Nat :=
  let c4_2288 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2287 : BitVec 32 := 32#32
  let v6741 : BitVec 32 := Scalar.muli arg13 c32_i32_2287
  let c19_i32 : BitVec 32 := 19#32
  let v6742 : BitVec 32 := Scalar.addi v6741 c19_i32
  let v6743 : Index := Scalar.indexCast v6742
  ![4, v6743.toNat]
def k0_off925 (v6744 : BitVec 32) : Fin 2 → Nat :=
  let v6745 : Index := Scalar.indexCast v6744
  let c0_2289 : Index := 0#32
  ![v6745.toNat, 0]

def k0_chk313 (i : grid0.Coords) (v6744 : BitVec 32) : Prop :=
  (∀ (k0_h2 : k0_cond2 i = 1#1), ∀ a, (k0_off925 v6744) a + S1x32.size a ≤ S15360x128.size a)
theorem k0_off925_inb : ∀ (i : grid0.Coords) (v6744 : BitVec 32) (k0_hw313 : k0_chk313 i v6744), ∀ (k0_h2 : k0_cond2 i = 1#1), ∀ a, (k0_off925 v6744) a + S1x32.size a ≤ S15360x128.size a := fun i v6744 k0_hw313 k0_h2 => k0_hw313 k0_h2

def k0_off926 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2287 : BitVec 32 := 32#32
  let v6741 : BitVec 32 := Scalar.muli arg13 c32_i32_2287
  let c19_i32 : BitVec 32 := 19#32
  let v6742 : BitVec 32 := Scalar.addi v6741 c19_i32
  let v6747 : Index := Scalar.indexCast v6742
  let c0_2290 : Index := 0#32
  ![v6747.toNat, 0]
def k0_off927 (v5259 : BitVec 32) (k0_t10 : Fin (k0_t10_loop v5259).trips) : Fin 2 → Nat :=
  let c4_2292 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2291 : BitVec 32 := 32#32
  let v6751 : BitVec 32 := Scalar.muli arg13 c32_i32_2291
  let c20_i32 : BitVec 32 := 20#32
  let v6752 : BitVec 32 := Scalar.addi v6751 c20_i32
  let v6753 : Index := Scalar.indexCast v6752
  ![4, v6753.toNat]
def k0_off928 (v6754 : BitVec 32) : Fin 2 → Nat :=
  let v6755 : Index := Scalar.indexCast v6754
  let c0_2293 : Index := 0#32
  ![v6755.toNat, 0]

def k0_chk314 (i : grid0.Coords) (v6754 : BitVec 32) : Prop :=
  (∀ (k0_h2 : k0_cond2 i = 1#1), ∀ a, (k0_off928 v6754) a + S1x32.size a ≤ S15360x128.size a)
theorem k0_off928_inb : ∀ (i : grid0.Coords) (v6754 : BitVec 32) (k0_hw314 : k0_chk314 i v6754), ∀ (k0_h2 : k0_cond2 i = 1#1), ∀ a, (k0_off928 v6754) a + S1x32.size a ≤ S15360x128.size a := fun i v6754 k0_hw314 k0_h2 => k0_hw314 k0_h2

def k0_off929 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2291 : BitVec 32 := 32#32
  let v6751 : BitVec 32 := Scalar.muli arg13 c32_i32_2291
  let c20_i32 : BitVec 32 := 20#32
  let v6752 : BitVec 32 := Scalar.addi v6751 c20_i32
  let v6757 : Index := Scalar.indexCast v6752
  let c0_2294 : Index := 0#32
  ![v6757.toNat, 0]

variable {F : FTy → Type} [FloatOps F]

def k0_off930 (v5259 : BitVec 32) (k0_t10 : Fin (k0_t10_loop v5259).trips) : Fin 2 → Nat :=
  let c4_2296 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2295 : BitVec 32 := 32#32
  let v6761 : BitVec 32 := Scalar.muli arg13 c32_i32_2295
  let c21_i32 : BitVec 32 := 21#32
  let v6762 : BitVec 32 := Scalar.addi v6761 c21_i32
  let v6763 : Index := Scalar.indexCast v6762
  ![4, v6763.toNat]
def k0_off931 (v6764 : BitVec 32) : Fin 2 → Nat :=
  let v6765 : Index := Scalar.indexCast v6764
  let c0_2297 : Index := 0#32
  ![v6765.toNat, 0]

def k0_chk315 (i : grid0.Coords) (v6764 : BitVec 32) : Prop :=
  (∀ (k0_h2 : k0_cond2 i = 1#1), ∀ a, (k0_off931 v6764) a + S1x32.size a ≤ S15360x128.size a)
theorem k0_off931_inb : ∀ (i : grid0.Coords) (v6764 : BitVec 32) (k0_hw315 : k0_chk315 i v6764), ∀ (k0_h2 : k0_cond2 i = 1#1), ∀ a, (k0_off931 v6764) a + S1x32.size a ≤ S15360x128.size a := fun i v6764 k0_hw315 k0_h2 => k0_hw315 k0_h2

def k0_off932 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2295 : BitVec 32 := 32#32
  let v6761 : BitVec 32 := Scalar.muli arg13 c32_i32_2295
  let c21_i32 : BitVec 32 := 21#32
  let v6762 : BitVec 32 := Scalar.addi v6761 c21_i32
  let v6767 : Index := Scalar.indexCast v6762
  let c0_2298 : Index := 0#32
  ![v6767.toNat, 0]
def k0_off933 (v5259 : BitVec 32) (k0_t10 : Fin (k0_t10_loop v5259).trips) : Fin 2 → Nat :=
  let c4_2300 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2299 : BitVec 32 := 32#32
  let v6771 : BitVec 32 := Scalar.muli arg13 c32_i32_2299
  let c22_i32 : BitVec 32 := 22#32
  let v6772 : BitVec 32 := Scalar.addi v6771 c22_i32
  let v6773 : Index := Scalar.indexCast v6772
  ![4, v6773.toNat]
def k0_off934 (v6774 : BitVec 32) : Fin 2 → Nat :=
  let v6775 : Index := Scalar.indexCast v6774
  let c0_2301 : Index := 0#32
  ![v6775.toNat, 0]

def k0_chk316 (i : grid0.Coords) (v6774 : BitVec 32) : Prop :=
  (∀ (k0_h2 : k0_cond2 i = 1#1), ∀ a, (k0_off934 v6774) a + S1x32.size a ≤ S15360x128.size a)
theorem k0_off934_inb : ∀ (i : grid0.Coords) (v6774 : BitVec 32) (k0_hw316 : k0_chk316 i v6774), ∀ (k0_h2 : k0_cond2 i = 1#1), ∀ a, (k0_off934 v6774) a + S1x32.size a ≤ S15360x128.size a := fun i v6774 k0_hw316 k0_h2 => k0_hw316 k0_h2

def k0_off935 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2299 : BitVec 32 := 32#32
  let v6771 : BitVec 32 := Scalar.muli arg13 c32_i32_2299
  let c22_i32 : BitVec 32 := 22#32
  let v6772 : BitVec 32 := Scalar.addi v6771 c22_i32
  let v6777 : Index := Scalar.indexCast v6772
  let c0_2302 : Index := 0#32
  ![v6777.toNat, 0]
def k0_off936 (v5259 : BitVec 32) (k0_t10 : Fin (k0_t10_loop v5259).trips) : Fin 2 → Nat :=
  let c4_2304 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2303 : BitVec 32 := 32#32
  let v6781 : BitVec 32 := Scalar.muli arg13 c32_i32_2303
  let c23_i32 : BitVec 32 := 23#32
  let v6782 : BitVec 32 := Scalar.addi v6781 c23_i32
  let v6783 : Index := Scalar.indexCast v6782
  ![4, v6783.toNat]
def k0_off937 (v6784 : BitVec 32) : Fin 2 → Nat :=
  let v6785 : Index := Scalar.indexCast v6784
  let c0_2305 : Index := 0#32
  ![v6785.toNat, 0]

def k0_chk317 (i : grid0.Coords) (v6784 : BitVec 32) : Prop :=
  (∀ (k0_h2 : k0_cond2 i = 1#1), ∀ a, (k0_off937 v6784) a + S1x32.size a ≤ S15360x128.size a)
theorem k0_off937_inb : ∀ (i : grid0.Coords) (v6784 : BitVec 32) (k0_hw317 : k0_chk317 i v6784), ∀ (k0_h2 : k0_cond2 i = 1#1), ∀ a, (k0_off937 v6784) a + S1x32.size a ≤ S15360x128.size a := fun i v6784 k0_hw317 k0_h2 => k0_hw317 k0_h2

def k0_off938 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2303 : BitVec 32 := 32#32
  let v6781 : BitVec 32 := Scalar.muli arg13 c32_i32_2303
  let c23_i32 : BitVec 32 := 23#32
  let v6782 : BitVec 32 := Scalar.addi v6781 c23_i32
  let v6787 : Index := Scalar.indexCast v6782
  let c0_2306 : Index := 0#32
  ![v6787.toNat, 0]
def k0_off939 (v5259 : BitVec 32) (k0_t10 : Fin (k0_t10_loop v5259).trips) : Fin 2 → Nat :=
  let c4_2308 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2307 : BitVec 32 := 32#32
  let v6791 : BitVec 32 := Scalar.muli arg13 c32_i32_2307
  let c24_i32 : BitVec 32 := 24#32
  let v6792 : BitVec 32 := Scalar.addi v6791 c24_i32
  let v6793 : Index := Scalar.indexCast v6792
  ![4, v6793.toNat]
def k0_off940 (v6794 : BitVec 32) : Fin 2 → Nat :=
  let v6795 : Index := Scalar.indexCast v6794
  let c0_2309 : Index := 0#32
  ![v6795.toNat, 0]

def k0_chk318 (i : grid0.Coords) (v6794 : BitVec 32) : Prop :=
  (∀ (k0_h2 : k0_cond2 i = 1#1), ∀ a, (k0_off940 v6794) a + S1x32.size a ≤ S15360x128.size a)
theorem k0_off940_inb : ∀ (i : grid0.Coords) (v6794 : BitVec 32) (k0_hw318 : k0_chk318 i v6794), ∀ (k0_h2 : k0_cond2 i = 1#1), ∀ a, (k0_off940 v6794) a + S1x32.size a ≤ S15360x128.size a := fun i v6794 k0_hw318 k0_h2 => k0_hw318 k0_h2

def k0_off941 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2307 : BitVec 32 := 32#32
  let v6791 : BitVec 32 := Scalar.muli arg13 c32_i32_2307
  let c24_i32 : BitVec 32 := 24#32
  let v6792 : BitVec 32 := Scalar.addi v6791 c24_i32
  let v6797 : Index := Scalar.indexCast v6792
  let c0_2310 : Index := 0#32
  ![v6797.toNat, 0]
def k0_off942 (v5259 : BitVec 32) (k0_t10 : Fin (k0_t10_loop v5259).trips) : Fin 2 → Nat :=
  let c4_2312 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2311 : BitVec 32 := 32#32
  let v6801 : BitVec 32 := Scalar.muli arg13 c32_i32_2311
  let c25_i32 : BitVec 32 := 25#32
  let v6802 : BitVec 32 := Scalar.addi v6801 c25_i32
  let v6803 : Index := Scalar.indexCast v6802
  ![4, v6803.toNat]
def k0_off943 (v6804 : BitVec 32) : Fin 2 → Nat :=
  let v6805 : Index := Scalar.indexCast v6804
  let c0_2313 : Index := 0#32
  ![v6805.toNat, 0]

def k0_chk319 (i : grid0.Coords) (v6804 : BitVec 32) : Prop :=
  (∀ (k0_h2 : k0_cond2 i = 1#1), ∀ a, (k0_off943 v6804) a + S1x32.size a ≤ S15360x128.size a)
theorem k0_off943_inb : ∀ (i : grid0.Coords) (v6804 : BitVec 32) (k0_hw319 : k0_chk319 i v6804), ∀ (k0_h2 : k0_cond2 i = 1#1), ∀ a, (k0_off943 v6804) a + S1x32.size a ≤ S15360x128.size a := fun i v6804 k0_hw319 k0_h2 => k0_hw319 k0_h2

def k0_off944 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2311 : BitVec 32 := 32#32
  let v6801 : BitVec 32 := Scalar.muli arg13 c32_i32_2311
  let c25_i32 : BitVec 32 := 25#32
  let v6802 : BitVec 32 := Scalar.addi v6801 c25_i32
  let v6807 : Index := Scalar.indexCast v6802
  let c0_2314 : Index := 0#32
  ![v6807.toNat, 0]
def k0_off945 (v5259 : BitVec 32) (k0_t10 : Fin (k0_t10_loop v5259).trips) : Fin 2 → Nat :=
  let c4_2316 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2315 : BitVec 32 := 32#32
  let v6811 : BitVec 32 := Scalar.muli arg13 c32_i32_2315
  let c26_i32 : BitVec 32 := 26#32
  let v6812 : BitVec 32 := Scalar.addi v6811 c26_i32
  let v6813 : Index := Scalar.indexCast v6812
  ![4, v6813.toNat]
def k0_off946 (v6814 : BitVec 32) : Fin 2 → Nat :=
  let v6815 : Index := Scalar.indexCast v6814
  let c0_2317 : Index := 0#32
  ![v6815.toNat, 0]

def k0_chk320 (i : grid0.Coords) (v6814 : BitVec 32) : Prop :=
  (∀ (k0_h2 : k0_cond2 i = 1#1), ∀ a, (k0_off946 v6814) a + S1x32.size a ≤ S15360x128.size a)
theorem k0_off946_inb : ∀ (i : grid0.Coords) (v6814 : BitVec 32) (k0_hw320 : k0_chk320 i v6814), ∀ (k0_h2 : k0_cond2 i = 1#1), ∀ a, (k0_off946 v6814) a + S1x32.size a ≤ S15360x128.size a := fun i v6814 k0_hw320 k0_h2 => k0_hw320 k0_h2

def k0_off947 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2315 : BitVec 32 := 32#32
  let v6811 : BitVec 32 := Scalar.muli arg13 c32_i32_2315
  let c26_i32 : BitVec 32 := 26#32
  let v6812 : BitVec 32 := Scalar.addi v6811 c26_i32
  let v6817 : Index := Scalar.indexCast v6812
  let c0_2318 : Index := 0#32
  ![v6817.toNat, 0]
def k0_off948 (v5259 : BitVec 32) (k0_t10 : Fin (k0_t10_loop v5259).trips) : Fin 2 → Nat :=
  let c4_2320 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2319 : BitVec 32 := 32#32
  let v6821 : BitVec 32 := Scalar.muli arg13 c32_i32_2319
  let c27_i32 : BitVec 32 := 27#32
  let v6822 : BitVec 32 := Scalar.addi v6821 c27_i32
  let v6823 : Index := Scalar.indexCast v6822
  ![4, v6823.toNat]
def k0_off949 (v6824 : BitVec 32) : Fin 2 → Nat :=
  let v6825 : Index := Scalar.indexCast v6824
  let c0_2321 : Index := 0#32
  ![v6825.toNat, 0]

def k0_chk321 (i : grid0.Coords) (v6824 : BitVec 32) : Prop :=
  (∀ (k0_h2 : k0_cond2 i = 1#1), ∀ a, (k0_off949 v6824) a + S1x32.size a ≤ S15360x128.size a)
theorem k0_off949_inb : ∀ (i : grid0.Coords) (v6824 : BitVec 32) (k0_hw321 : k0_chk321 i v6824), ∀ (k0_h2 : k0_cond2 i = 1#1), ∀ a, (k0_off949 v6824) a + S1x32.size a ≤ S15360x128.size a := fun i v6824 k0_hw321 k0_h2 => k0_hw321 k0_h2

def k0_off950 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2319 : BitVec 32 := 32#32
  let v6821 : BitVec 32 := Scalar.muli arg13 c32_i32_2319
  let c27_i32 : BitVec 32 := 27#32
  let v6822 : BitVec 32 := Scalar.addi v6821 c27_i32
  let v6827 : Index := Scalar.indexCast v6822
  let c0_2322 : Index := 0#32
  ![v6827.toNat, 0]
def k0_off951 (v5259 : BitVec 32) (k0_t10 : Fin (k0_t10_loop v5259).trips) : Fin 2 → Nat :=
  let c4_2324 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2323 : BitVec 32 := 32#32
  let v6831 : BitVec 32 := Scalar.muli arg13 c32_i32_2323
  let c28_i32 : BitVec 32 := 28#32
  let v6832 : BitVec 32 := Scalar.addi v6831 c28_i32
  let v6833 : Index := Scalar.indexCast v6832
  ![4, v6833.toNat]
def k0_off952 (v6834 : BitVec 32) : Fin 2 → Nat :=
  let v6835 : Index := Scalar.indexCast v6834
  let c0_2325 : Index := 0#32
  ![v6835.toNat, 0]

def k0_chk322 (i : grid0.Coords) (v6834 : BitVec 32) : Prop :=
  (∀ (k0_h2 : k0_cond2 i = 1#1), ∀ a, (k0_off952 v6834) a + S1x32.size a ≤ S15360x128.size a)
theorem k0_off952_inb : ∀ (i : grid0.Coords) (v6834 : BitVec 32) (k0_hw322 : k0_chk322 i v6834), ∀ (k0_h2 : k0_cond2 i = 1#1), ∀ a, (k0_off952 v6834) a + S1x32.size a ≤ S15360x128.size a := fun i v6834 k0_hw322 k0_h2 => k0_hw322 k0_h2

def k0_off953 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2323 : BitVec 32 := 32#32
  let v6831 : BitVec 32 := Scalar.muli arg13 c32_i32_2323
  let c28_i32 : BitVec 32 := 28#32
  let v6832 : BitVec 32 := Scalar.addi v6831 c28_i32
  let v6837 : Index := Scalar.indexCast v6832
  let c0_2326 : Index := 0#32
  ![v6837.toNat, 0]
def k0_off954 (v5259 : BitVec 32) (k0_t10 : Fin (k0_t10_loop v5259).trips) : Fin 2 → Nat :=
  let c4_2329 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6843 : Index := Scalar.indexCast v6842
  ![4, v6843.toNat]
def k0_off955 (v6844 : BitVec 32) : Fin 2 → Nat :=
  let v6845 : Index := Scalar.indexCast v6844
  let c0_2330 : Index := 0#32
  ![v6845.toNat, 0]

def k0_chk323 (i : grid0.Coords) (v6844 : BitVec 32) : Prop :=
  (∀ (k0_h2 : k0_cond2 i = 1#1), ∀ a, (k0_off955 v6844) a + S1x32.size a ≤ S15360x128.size a)
theorem k0_off955_inb : ∀ (i : grid0.Coords) (v6844 : BitVec 32) (k0_hw323 : k0_chk323 i v6844), ∀ (k0_h2 : k0_cond2 i = 1#1), ∀ a, (k0_off955 v6844) a + S1x32.size a ≤ S15360x128.size a := fun i v6844 k0_hw323 k0_h2 => k0_hw323 k0_h2

def k0_off956 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2327 : BitVec 32 := 32#32
  let v6841 : BitVec 32 := Scalar.muli arg13 c32_i32_2327
  let c29_i32_2328 : BitVec 32 := 29#32
  let v6842 : BitVec 32 := Scalar.addi v6841 c29_i32_2328
  let v6847 : Index := Scalar.indexCast v6842
  let c0_2331 : Index := 0#32
  ![v6847.toNat, 0]
def k0_off957 (v5259 : BitVec 32) (k0_t10 : Fin (k0_t10_loop v5259).trips) : Fin 2 → Nat :=
  let c4_2333 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2332 : BitVec 32 := 32#32
  let v6851 : BitVec 32 := Scalar.muli arg13 c32_i32_2332
  let c30_i32 : BitVec 32 := 30#32
  let v6852 : BitVec 32 := Scalar.addi v6851 c30_i32
  let v6853 : Index := Scalar.indexCast v6852
  ![4, v6853.toNat]
def k0_off958 (v6854 : BitVec 32) : Fin 2 → Nat :=
  let v6855 : Index := Scalar.indexCast v6854
  let c0_2334 : Index := 0#32
  ![v6855.toNat, 0]

def k0_chk324 (i : grid0.Coords) (v6854 : BitVec 32) : Prop :=
  (∀ (k0_h2 : k0_cond2 i = 1#1), ∀ a, (k0_off958 v6854) a + S1x32.size a ≤ S15360x128.size a)
theorem k0_off958_inb : ∀ (i : grid0.Coords) (v6854 : BitVec 32) (k0_hw324 : k0_chk324 i v6854), ∀ (k0_h2 : k0_cond2 i = 1#1), ∀ a, (k0_off958 v6854) a + S1x32.size a ≤ S15360x128.size a := fun i v6854 k0_hw324 k0_h2 => k0_hw324 k0_h2

def k0_off959 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2332 : BitVec 32 := 32#32
  let v6851 : BitVec 32 := Scalar.muli arg13 c32_i32_2332
  let c30_i32 : BitVec 32 := 30#32
  let v6852 : BitVec 32 := Scalar.addi v6851 c30_i32
  let v6857 : Index := Scalar.indexCast v6852
  let c0_2335 : Index := 0#32
  ![v6857.toNat, 0]
def k0_off960 (v5259 : BitVec 32) (k0_t10 : Fin (k0_t10_loop v5259).trips) : Fin 2 → Nat :=
  let c4_2337 : Index := 4#32
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2336 : BitVec 32 := 32#32
  let v6861 : BitVec 32 := Scalar.muli arg13 c32_i32_2336
  let c31_i32 : BitVec 32 := 31#32
  let v6862 : BitVec 32 := Scalar.addi v6861 c31_i32
  let v6863 : Index := Scalar.indexCast v6862
  ![4, v6863.toNat]
def k0_off961 (v6864 : BitVec 32) : Fin 2 → Nat :=
  let v6865 : Index := Scalar.indexCast v6864
  let c0_2338 : Index := 0#32
  ![v6865.toNat, 0]

def k0_chk325 (i : grid0.Coords) (v6864 : BitVec 32) : Prop :=
  (∀ (k0_h2 : k0_cond2 i = 1#1), ∀ a, (k0_off961 v6864) a + S1x32.size a ≤ S15360x128.size a)
theorem k0_off961_inb : ∀ (i : grid0.Coords) (v6864 : BitVec 32) (k0_hw325 : k0_chk325 i v6864), ∀ (k0_h2 : k0_cond2 i = 1#1), ∀ a, (k0_off961 v6864) a + S1x32.size a ≤ S15360x128.size a := fun i v6864 k0_hw325 k0_h2 => k0_hw325 k0_h2

def k0_off962 (v5259 : BitVec 32) (k0_t10 : Fin (k0_t10_loop v5259).trips) : Fin 2 → Nat :=
  let c0_i32_1624 : BitVec 32 := 0#32
  let c64_i32_1606 : BitVec 32 := 64#32
  let v5260 : BitVec 32 := Scalar.addi v5259 c64_i32_1606
  let c1_i32_1607 : BitVec 32 := 1#32
  let v5261 : BitVec 32 := Scalar.subi v5260 c1_i32_1607
  let c0_i32_1609 : BitVec 32 := 0#32
  let v5263 : BitVec 1 := Scalar.cmpi .sgt v5261 c0_i32_1609
  let v5264 : BitVec 32 := Scalar.extui v5263
  let c0_i32_1610 : BitVec 32 := 0#32
  let v5265 : BitVec 1 := Scalar.cmpi .slt v5261 c0_i32_1610
  let v5266 : BitVec 32 := Scalar.extui v5265
  let v5267 : BitVec 32 := Scalar.subi v5264 v5266
  let c64_i32_1608 : BitVec 32 := 64#32
  let c0_i32_1611 : BitVec 32 := 0#32
  let v5268 : BitVec 1 := Scalar.cmpi .sgt c64_i32_1608 c0_i32_1611
  let v5269 : BitVec 32 := Scalar.extui v5268
  let c0_i32_1612 : BitVec 32 := 0#32
  let v5270 : BitVec 1 := Scalar.cmpi .slt c64_i32_1608 c0_i32_1612
  let v5271 : BitVec 32 := Scalar.extui v5270
  let v5272 : BitVec 32 := Scalar.subi v5269 v5271
  let v5273 : BitVec 1 := Scalar.cmpi .ne v5267 v5272
  let v5274 : BitVec 32 := Scalar.remsi v5261 c64_i32_1608
  let c0_i32_1613 : BitVec 32 := 0#32
  let v5275 : BitVec 1 := Scalar.cmpi .ne v5274 c0_i32_1613
  let v5276 : BitVec 1 := Scalar.andi v5273 v5275
  let v5262 : BitVec 32 := Scalar.divsi v5261 c64_i32_1608
  let c1_i32_1614 : BitVec 32 := 1#32
  let v5277 : BitVec 32 := Scalar.subi v5262 c1_i32_1614
  let v5278 : BitVec 32 := Scalar.select v5276 v5277 v5262
  let c32_i32_1615 : BitVec 32 := 32#32
  let v5279 : BitVec 32 := Scalar.addi v5278 c32_i32_1615
  let c1_i32_1616 : BitVec 32 := 1#32
  let v5280 : BitVec 32 := Scalar.subi v5279 c1_i32_1616
  let c0_i32_1618 : BitVec 32 := 0#32
  let v5282 : BitVec 1 := Scalar.cmpi .sgt v5280 c0_i32_1618
  let v5283 : BitVec 32 := Scalar.extui v5282
  let c0_i32_1619 : BitVec 32 := 0#32
  let v5284 : BitVec 1 := Scalar.cmpi .slt v5280 c0_i32_1619
  let v5285 : BitVec 32 := Scalar.extui v5284
  let v5286 : BitVec 32 := Scalar.subi v5283 v5285
  let c32_i32_1617 : BitVec 32 := 32#32
  let c0_i32_1620 : BitVec 32 := 0#32
  let v5287 : BitVec 1 := Scalar.cmpi .sgt c32_i32_1617 c0_i32_1620
  let v5288 : BitVec 32 := Scalar.extui v5287
  let c0_i32_1621 : BitVec 32 := 0#32
  let v5289 : BitVec 1 := Scalar.cmpi .slt c32_i32_1617 c0_i32_1621
  let v5290 : BitVec 32 := Scalar.extui v5289
  let v5291 : BitVec 32 := Scalar.subi v5288 v5290
  let v5292 : BitVec 1 := Scalar.cmpi .ne v5286 v5291
  let v5293 : BitVec 32 := Scalar.remsi v5280 c32_i32_1617
  let c0_i32_1622 : BitVec 32 := 0#32
  let v5294 : BitVec 1 := Scalar.cmpi .ne v5293 c0_i32_1622
  let v5295 : BitVec 1 := Scalar.andi v5292 v5294
  let v5281 : BitVec 32 := Scalar.divsi v5280 c32_i32_1617
  let c1_i32_1623 : BitVec 32 := 1#32
  let v5296 : BitVec 32 := Scalar.subi v5281 c1_i32_1623
  let v5297 : BitVec 32 := Scalar.select v5295 v5296 v5281
  let v5298 : BitVec 32 := Scalar.subi v5297 c0_i32_1624
  let c1_i32_1626 : BitVec 32 := 1#32
  let v5300 : BitVec 32 := Scalar.divsi v5298 c1_i32_1626
  let v5301 : BitVec 32 := Scalar.muli v5300 c1_i32_1626
  let v5302 : BitVec 32 := Scalar.addi c0_i32_1624 v5301
  let c1_i32_1628 : BitVec 32 := 1#32
  let arg13 : BitVec 32 := Scf.iv v5302 c1_i32_1628 k0_t10
  let c32_i32_2336 : BitVec 32 := 32#32
  let v6861 : BitVec 32 := Scalar.muli arg13 c32_i32_2336
  let c31_i32 : BitVec 32 := 31#32
  let v6862 : BitVec 32 := Scalar.addi v6861 c31_i32
  let v6867 : Index := Scalar.indexCast v6862
  let c0_2339 : Index := 0#32
  ![v6867.toNat, 0]

def k0_chk261_0 (i : grid0.Coords) (v5259 : BitVec 32) : Prop :=
  (∀ (k0_h2 : k0_cond2 i = 1#1), (k0_t9_loop v5259).OK) ∧
  (∀ k0_t9 : Fin (k0_t9_loop v5259).trips, ∀ (k0_h2 : k0_cond2 i = 1#1), ∀ a, (k0_off771 v5259 k0_t9) a + S1x1.size a ≤ S6x2048.size a) ∧
  (∀ k0_t9 : Fin (k0_t9_loop v5259).trips, ∀ (k0_h2 : k0_cond2 i = 1#1), ∀ a, (k0_off773 v5259 k0_t9) a + S1x32.size a ≤ S2048x128.size a) ∧
  (∀ k0_t9 : Fin (k0_t9_loop v5259).trips, ∀ (k0_h2 : k0_cond2 i = 1#1), ∀ a, (k0_off774 v5259 k0_t9) a + S1x1.size a ≤ S6x2048.size a) ∧
  (∀ k0_t9 : Fin (k0_t9_loop v5259).trips, ∀ (k0_h2 : k0_cond2 i = 1#1), ∀ a, (k0_off776 v5259 k0_t9) a + S1x32.size a ≤ S2048x128.size a) ∧
  (∀ k0_t9 : Fin (k0_t9_loop v5259).trips, ∀ (k0_h2 : k0_cond2 i = 1#1), ∀ a, (k0_off777 v5259 k0_t9) a + S1x1.size a ≤ S6x2048.size a) ∧
  (∀ k0_t9 : Fin (k0_t9_loop v5259).trips, ∀ (k0_h2 : k0_cond2 i = 1#1), ∀ a, (k0_off779 v5259 k0_t9) a + S1x32.size a ≤ S2048x128.size a) ∧
  (∀ k0_t9 : Fin (k0_t9_loop v5259).trips, ∀ (k0_h2 : k0_cond2 i = 1#1), ∀ a, (k0_off780 v5259 k0_t9) a + S1x1.size a ≤ S6x2048.size a) ∧
  (∀ k0_t9 : Fin (k0_t9_loop v5259).trips, ∀ (k0_h2 : k0_cond2 i = 1#1), ∀ a, (k0_off782 v5259 k0_t9) a + S1x32.size a ≤ S2048x128.size a) ∧
  (∀ k0_t9 : Fin (k0_t9_loop v5259).trips, ∀ (k0_h2 : k0_cond2 i = 1#1), ∀ a, (k0_off783 v5259 k0_t9) a + S1x1.size a ≤ S6x2048.size a) ∧
  (∀ k0_t9 : Fin (k0_t9_loop v5259).trips, ∀ (k0_h2 : k0_cond2 i = 1#1), ∀ a, (k0_off785 v5259 k0_t9) a + S1x32.size a ≤ S2048x128.size a) ∧
  (∀ k0_t9 : Fin (k0_t9_loop v5259).trips, ∀ (k0_h2 : k0_cond2 i = 1#1), ∀ a, (k0_off786 v5259 k0_t9) a + S1x1.size a ≤ S6x2048.size a) ∧
  (∀ k0_t9 : Fin (k0_t9_loop v5259).trips, ∀ (k0_h2 : k0_cond2 i = 1#1), ∀ a, (k0_off788 v5259 k0_t9) a + S1x32.size a ≤ S2048x128.size a) ∧
  (∀ k0_t9 : Fin (k0_t9_loop v5259).trips, ∀ (k0_h2 : k0_cond2 i = 1#1), ∀ a, (k0_off789 v5259 k0_t9) a + S1x1.size a ≤ S6x2048.size a) ∧
  (∀ k0_t9 : Fin (k0_t9_loop v5259).trips, ∀ (k0_h2 : k0_cond2 i = 1#1), ∀ a, (k0_off791 v5259 k0_t9) a + S1x32.size a ≤ S2048x128.size a) ∧
  (∀ k0_t9 : Fin (k0_t9_loop v5259).trips, ∀ (k0_h2 : k0_cond2 i = 1#1), ∀ a, (k0_off792 v5259 k0_t9) a + S1x1.size a ≤ S6x2048.size a) ∧
  (∀ k0_t9 : Fin (k0_t9_loop v5259).trips, ∀ (k0_h2 : k0_cond2 i = 1#1), ∀ a, (k0_off794 v5259 k0_t9) a + S1x32.size a ≤ S2048x128.size a) ∧
  (∀ k0_t9 : Fin (k0_t9_loop v5259).trips, ∀ (k0_h2 : k0_cond2 i = 1#1), ∀ a, (k0_off795 v5259 k0_t9) a + S1x1.size a ≤ S6x2048.size a) ∧
  (∀ k0_t9 : Fin (k0_t9_loop v5259).trips, ∀ (k0_h2 : k0_cond2 i = 1#1), ∀ a, (k0_off797 v5259 k0_t9) a + S1x32.size a ≤ S2048x128.size a) ∧
  (∀ k0_t9 : Fin (k0_t9_loop v5259).trips, ∀ (k0_h2 : k0_cond2 i = 1#1), ∀ a, (k0_off798 v5259 k0_t9) a + S1x1.size a ≤ S6x2048.size a) ∧
  (∀ k0_t9 : Fin (k0_t9_loop v5259).trips, ∀ (k0_h2 : k0_cond2 i = 1#1), ∀ a, (k0_off800 v5259 k0_t9) a + S1x32.size a ≤ S2048x128.size a) ∧
  (∀ k0_t9 : Fin (k0_t9_loop v5259).trips, ∀ (k0_h2 : k0_cond2 i = 1#1), ∀ a, (k0_off801 v5259 k0_t9) a + S1x1.size a ≤ S6x2048.size a) ∧
  (∀ k0_t9 : Fin (k0_t9_loop v5259).trips, ∀ (k0_h2 : k0_cond2 i = 1#1), ∀ a, (k0_off803 v5259 k0_t9) a + S1x32.size a ≤ S2048x128.size a) ∧
  (∀ k0_t9 : Fin (k0_t9_loop v5259).trips, ∀ (k0_h2 : k0_cond2 i = 1#1), ∀ a, (k0_off804 v5259 k0_t9) a + S1x1.size a ≤ S6x2048.size a) ∧
  (∀ k0_t9 : Fin (k0_t9_loop v5259).trips, ∀ (k0_h2 : k0_cond2 i = 1#1), ∀ a, (k0_off806 v5259 k0_t9) a + S1x32.size a ≤ S2048x128.size a) ∧
  (∀ k0_t9 : Fin (k0_t9_loop v5259).trips, ∀ (k0_h2 : k0_cond2 i = 1#1), ∀ a, (k0_off807 v5259 k0_t9) a + S1x1.size a ≤ S6x2048.size a) ∧
  (∀ k0_t9 : Fin (k0_t9_loop v5259).trips, ∀ (k0_h2 : k0_cond2 i = 1#1), ∀ a, (k0_off809 v5259 k0_t9) a + S1x32.size a ≤ S2048x128.size a) ∧
  (∀ k0_t9 : Fin (k0_t9_loop v5259).trips, ∀ (k0_h2 : k0_cond2 i = 1#1), ∀ a, (k0_off810 v5259 k0_t9) a + S1x1.size a ≤ S6x2048.size a) ∧
  (∀ k0_t9 : Fin (k0_t9_loop v5259).trips, ∀ (k0_h2 : k0_cond2 i = 1#1), ∀ a, (k0_off812 v5259 k0_t9) a + S1x32.size a ≤ S2048x128.size a) ∧
  (∀ k0_t9 : Fin (k0_t9_loop v5259).trips, ∀ (k0_h2 : k0_cond2 i = 1#1), ∀ a, (k0_off813 v5259 k0_t9) a + S1x1.size a ≤ S6x2048.size a) ∧
  (∀ k0_t9 : Fin (k0_t9_loop v5259).trips, ∀ (k0_h2 : k0_cond2 i = 1#1), ∀ a, (k0_off815 v5259 k0_t9) a + S1x32.size a ≤ S2048x128.size a) ∧
  (∀ k0_t9 : Fin (k0_t9_loop v5259).trips, ∀ (k0_h2 : k0_cond2 i = 1#1), ∀ a, (k0_off816 v5259 k0_t9) a + S1x1.size a ≤ S6x2048.size a)
def k0_chk261_1 (i : grid0.Coords) (v5259 : BitVec 32) : Prop :=
  (∀ k0_t9 : Fin (k0_t9_loop v5259).trips, ∀ (k0_h2 : k0_cond2 i = 1#1), ∀ a, (k0_off818 v5259 k0_t9) a + S1x32.size a ≤ S2048x128.size a) ∧
  (∀ k0_t9 : Fin (k0_t9_loop v5259).trips, ∀ (k0_h2 : k0_cond2 i = 1#1), ∀ a, (k0_off819 v5259 k0_t9) a + S1x1.size a ≤ S6x2048.size a) ∧
  (∀ k0_t9 : Fin (k0_t9_loop v5259).trips, ∀ (k0_h2 : k0_cond2 i = 1#1), ∀ a, (k0_off821 v5259 k0_t9) a + S1x32.size a ≤ S2048x128.size a) ∧
  (∀ k0_t9 : Fin (k0_t9_loop v5259).trips, ∀ (k0_h2 : k0_cond2 i = 1#1), ∀ a, (k0_off822 v5259 k0_t9) a + S1x1.size a ≤ S6x2048.size a) ∧
  (∀ k0_t9 : Fin (k0_t9_loop v5259).trips, ∀ (k0_h2 : k0_cond2 i = 1#1), ∀ a, (k0_off824 v5259 k0_t9) a + S1x32.size a ≤ S2048x128.size a) ∧
  (∀ k0_t9 : Fin (k0_t9_loop v5259).trips, ∀ (k0_h2 : k0_cond2 i = 1#1), ∀ a, (k0_off825 v5259 k0_t9) a + S1x1.size a ≤ S6x2048.size a) ∧
  (∀ k0_t9 : Fin (k0_t9_loop v5259).trips, ∀ (k0_h2 : k0_cond2 i = 1#1), ∀ a, (k0_off827 v5259 k0_t9) a + S1x32.size a ≤ S2048x128.size a) ∧
  (∀ k0_t9 : Fin (k0_t9_loop v5259).trips, ∀ (k0_h2 : k0_cond2 i = 1#1), ∀ a, (k0_off828 v5259 k0_t9) a + S1x1.size a ≤ S6x2048.size a) ∧
  (∀ k0_t9 : Fin (k0_t9_loop v5259).trips, ∀ (k0_h2 : k0_cond2 i = 1#1), ∀ a, (k0_off830 v5259 k0_t9) a + S1x32.size a ≤ S2048x128.size a) ∧
  (∀ k0_t9 : Fin (k0_t9_loop v5259).trips, ∀ (k0_h2 : k0_cond2 i = 1#1), ∀ a, (k0_off831 v5259 k0_t9) a + S1x1.size a ≤ S6x2048.size a) ∧
  (∀ k0_t9 : Fin (k0_t9_loop v5259).trips, ∀ (k0_h2 : k0_cond2 i = 1#1), ∀ a, (k0_off833 v5259 k0_t9) a + S1x32.size a ≤ S2048x128.size a) ∧
  (∀ k0_t9 : Fin (k0_t9_loop v5259).trips, ∀ (k0_h2 : k0_cond2 i = 1#1), ∀ a, (k0_off834 v5259 k0_t9) a + S1x1.size a ≤ S6x2048.size a) ∧
  (∀ k0_t9 : Fin (k0_t9_loop v5259).trips, ∀ (k0_h2 : k0_cond2 i = 1#1), ∀ a, (k0_off836 v5259 k0_t9) a + S1x32.size a ≤ S2048x128.size a) ∧
  (∀ k0_t9 : Fin (k0_t9_loop v5259).trips, ∀ (k0_h2 : k0_cond2 i = 1#1), ∀ a, (k0_off837 v5259 k0_t9) a + S1x1.size a ≤ S6x2048.size a) ∧
  (∀ k0_t9 : Fin (k0_t9_loop v5259).trips, ∀ (k0_h2 : k0_cond2 i = 1#1), ∀ a, (k0_off839 v5259 k0_t9) a + S1x32.size a ≤ S2048x128.size a) ∧
  (∀ k0_t9 : Fin (k0_t9_loop v5259).trips, ∀ (k0_h2 : k0_cond2 i = 1#1), ∀ a, (k0_off840 v5259 k0_t9) a + S1x1.size a ≤ S6x2048.size a) ∧
  (∀ k0_t9 : Fin (k0_t9_loop v5259).trips, ∀ (k0_h2 : k0_cond2 i = 1#1), ∀ a, (k0_off842 v5259 k0_t9) a + S1x32.size a ≤ S2048x128.size a) ∧
  (∀ k0_t9 : Fin (k0_t9_loop v5259).trips, ∀ (k0_h2 : k0_cond2 i = 1#1), ∀ a, (k0_off843 v5259 k0_t9) a + S1x1.size a ≤ S6x2048.size a) ∧
  (∀ k0_t9 : Fin (k0_t9_loop v5259).trips, ∀ (k0_h2 : k0_cond2 i = 1#1), ∀ a, (k0_off845 v5259 k0_t9) a + S1x32.size a ≤ S2048x128.size a) ∧
  (∀ k0_t9 : Fin (k0_t9_loop v5259).trips, ∀ (k0_h2 : k0_cond2 i = 1#1), ∀ a, (k0_off846 v5259 k0_t9) a + S1x1.size a ≤ S6x2048.size a) ∧
  (∀ k0_t9 : Fin (k0_t9_loop v5259).trips, ∀ (k0_h2 : k0_cond2 i = 1#1), ∀ a, (k0_off848 v5259 k0_t9) a + S1x32.size a ≤ S2048x128.size a) ∧
  (∀ k0_t9 : Fin (k0_t9_loop v5259).trips, ∀ (k0_h2 : k0_cond2 i = 1#1), ∀ a, (k0_off849 v5259 k0_t9) a + S1x1.size a ≤ S6x2048.size a) ∧
  (∀ k0_t9 : Fin (k0_t9_loop v5259).trips, ∀ (k0_h2 : k0_cond2 i = 1#1), ∀ a, (k0_off851 v5259 k0_t9) a + S1x32.size a ≤ S2048x128.size a) ∧
  (∀ k0_t9 : Fin (k0_t9_loop v5259).trips, ∀ (k0_h2 : k0_cond2 i = 1#1), ∀ a, (k0_off852 v5259 k0_t9) a + S1x1.size a ≤ S6x2048.size a) ∧
  (∀ k0_t9 : Fin (k0_t9_loop v5259).trips, ∀ (k0_h2 : k0_cond2 i = 1#1), ∀ a, (k0_off854 v5259 k0_t9) a + S1x32.size a ≤ S2048x128.size a) ∧
  (∀ k0_t9 : Fin (k0_t9_loop v5259).trips, ∀ (k0_h2 : k0_cond2 i = 1#1), ∀ a, (k0_off855 v5259 k0_t9) a + S1x1.size a ≤ S6x2048.size a) ∧
  (∀ k0_t9 : Fin (k0_t9_loop v5259).trips, ∀ (k0_h2 : k0_cond2 i = 1#1), ∀ a, (k0_off857 v5259 k0_t9) a + S1x32.size a ≤ S2048x128.size a) ∧
  (∀ k0_t9 : Fin (k0_t9_loop v5259).trips, ∀ (k0_h2 : k0_cond2 i = 1#1), ∀ a, (k0_off858 v5259 k0_t9) a + S1x1.size a ≤ S6x2048.size a) ∧
  (∀ k0_t9 : Fin (k0_t9_loop v5259).trips, ∀ (k0_h2 : k0_cond2 i = 1#1), ∀ a, (k0_off860 v5259 k0_t9) a + S1x32.size a ≤ S2048x128.size a) ∧
  (∀ k0_t9 : Fin (k0_t9_loop v5259).trips, ∀ (k0_h2 : k0_cond2 i = 1#1), ∀ a, (k0_off861 v5259 k0_t9) a + S1x1.size a ≤ S6x2048.size a) ∧
  (∀ k0_t9 : Fin (k0_t9_loop v5259).trips, ∀ (k0_h2 : k0_cond2 i = 1#1), ∀ a, (k0_off863 v5259 k0_t9) a + S1x32.size a ≤ S2048x128.size a) ∧
  (∀ k0_t9 : Fin (k0_t9_loop v5259).trips, ∀ (k0_h2 : k0_cond2 i = 1#1), ∀ a, (k0_off864 v5259 k0_t9) a + S1x1.size a ≤ S6x2048.size a)
def k0_chk261_2 (i : grid0.Coords) (v5259 : BitVec 32) : Prop :=
  (∀ k0_t9 : Fin (k0_t9_loop v5259).trips, ∀ (k0_h2 : k0_cond2 i = 1#1), ∀ a, (k0_off866 v5259 k0_t9) a + S1x32.size a ≤ S2048x128.size a) ∧
  (∀ (k0_h2 : k0_cond2 i = 1#1), (k0_t10_loop v5259).OK) ∧
  (∀ k0_t10 : Fin (k0_t10_loop v5259).trips, ∀ (k0_h2 : k0_cond2 i = 1#1), ∀ a, (k0_off867 v5259 k0_t10) a + S1x1.size a ≤ S6x2048.size a) ∧
  (∀ k0_t10 : Fin (k0_t10_loop v5259).trips, ∀ (k0_h2 : k0_cond2 i = 1#1), ∀ a, (k0_off869 v5259 k0_t10) a + S1x32.size a ≤ S2048x128.size a) ∧
  (∀ k0_t10 : Fin (k0_t10_loop v5259).trips, ∀ (k0_h2 : k0_cond2 i = 1#1), ∀ a, (k0_off870 v5259 k0_t10) a + S1x1.size a ≤ S6x2048.size a) ∧
  (∀ k0_t10 : Fin (k0_t10_loop v5259).trips, ∀ (k0_h2 : k0_cond2 i = 1#1), ∀ a, (k0_off872 v5259 k0_t10) a + S1x32.size a ≤ S2048x128.size a) ∧
  (∀ k0_t10 : Fin (k0_t10_loop v5259).trips, ∀ (k0_h2 : k0_cond2 i = 1#1), ∀ a, (k0_off873 v5259 k0_t10) a + S1x1.size a ≤ S6x2048.size a) ∧
  (∀ k0_t10 : Fin (k0_t10_loop v5259).trips, ∀ (k0_h2 : k0_cond2 i = 1#1), ∀ a, (k0_off875 v5259 k0_t10) a + S1x32.size a ≤ S2048x128.size a) ∧
  (∀ k0_t10 : Fin (k0_t10_loop v5259).trips, ∀ (k0_h2 : k0_cond2 i = 1#1), ∀ a, (k0_off876 v5259 k0_t10) a + S1x1.size a ≤ S6x2048.size a) ∧
  (∀ k0_t10 : Fin (k0_t10_loop v5259).trips, ∀ (k0_h2 : k0_cond2 i = 1#1), ∀ a, (k0_off878 v5259 k0_t10) a + S1x32.size a ≤ S2048x128.size a) ∧
  (∀ k0_t10 : Fin (k0_t10_loop v5259).trips, ∀ (k0_h2 : k0_cond2 i = 1#1), ∀ a, (k0_off879 v5259 k0_t10) a + S1x1.size a ≤ S6x2048.size a) ∧
  (∀ k0_t10 : Fin (k0_t10_loop v5259).trips, ∀ (k0_h2 : k0_cond2 i = 1#1), ∀ a, (k0_off881 v5259 k0_t10) a + S1x32.size a ≤ S2048x128.size a) ∧
  (∀ k0_t10 : Fin (k0_t10_loop v5259).trips, ∀ (k0_h2 : k0_cond2 i = 1#1), ∀ a, (k0_off882 v5259 k0_t10) a + S1x1.size a ≤ S6x2048.size a) ∧
  (∀ k0_t10 : Fin (k0_t10_loop v5259).trips, ∀ (k0_h2 : k0_cond2 i = 1#1), ∀ a, (k0_off884 v5259 k0_t10) a + S1x32.size a ≤ S2048x128.size a) ∧
  (∀ k0_t10 : Fin (k0_t10_loop v5259).trips, ∀ (k0_h2 : k0_cond2 i = 1#1), ∀ a, (k0_off885 v5259 k0_t10) a + S1x1.size a ≤ S6x2048.size a) ∧
  (∀ k0_t10 : Fin (k0_t10_loop v5259).trips, ∀ (k0_h2 : k0_cond2 i = 1#1), ∀ a, (k0_off887 v5259 k0_t10) a + S1x32.size a ≤ S2048x128.size a) ∧
  (∀ k0_t10 : Fin (k0_t10_loop v5259).trips, ∀ (k0_h2 : k0_cond2 i = 1#1), ∀ a, (k0_off888 v5259 k0_t10) a + S1x1.size a ≤ S6x2048.size a) ∧
  (∀ k0_t10 : Fin (k0_t10_loop v5259).trips, ∀ (k0_h2 : k0_cond2 i = 1#1), ∀ a, (k0_off890 v5259 k0_t10) a + S1x32.size a ≤ S2048x128.size a) ∧
  (∀ k0_t10 : Fin (k0_t10_loop v5259).trips, ∀ (k0_h2 : k0_cond2 i = 1#1), ∀ a, (k0_off891 v5259 k0_t10) a + S1x1.size a ≤ S6x2048.size a) ∧
  (∀ k0_t10 : Fin (k0_t10_loop v5259).trips, ∀ (k0_h2 : k0_cond2 i = 1#1), ∀ a, (k0_off893 v5259 k0_t10) a + S1x32.size a ≤ S2048x128.size a) ∧
  (∀ k0_t10 : Fin (k0_t10_loop v5259).trips, ∀ (k0_h2 : k0_cond2 i = 1#1), ∀ a, (k0_off894 v5259 k0_t10) a + S1x1.size a ≤ S6x2048.size a) ∧
  (∀ k0_t10 : Fin (k0_t10_loop v5259).trips, ∀ (k0_h2 : k0_cond2 i = 1#1), ∀ a, (k0_off896 v5259 k0_t10) a + S1x32.size a ≤ S2048x128.size a) ∧
  (∀ k0_t10 : Fin (k0_t10_loop v5259).trips, ∀ (k0_h2 : k0_cond2 i = 1#1), ∀ a, (k0_off897 v5259 k0_t10) a + S1x1.size a ≤ S6x2048.size a) ∧
  (∀ k0_t10 : Fin (k0_t10_loop v5259).trips, ∀ (k0_h2 : k0_cond2 i = 1#1), ∀ a, (k0_off899 v5259 k0_t10) a + S1x32.size a ≤ S2048x128.size a) ∧
  (∀ k0_t10 : Fin (k0_t10_loop v5259).trips, ∀ (k0_h2 : k0_cond2 i = 1#1), ∀ a, (k0_off900 v5259 k0_t10) a + S1x1.size a ≤ S6x2048.size a) ∧
  (∀ k0_t10 : Fin (k0_t10_loop v5259).trips, ∀ (k0_h2 : k0_cond2 i = 1#1), ∀ a, (k0_off902 v5259 k0_t10) a + S1x32.size a ≤ S2048x128.size a) ∧
  (∀ k0_t10 : Fin (k0_t10_loop v5259).trips, ∀ (k0_h2 : k0_cond2 i = 1#1), ∀ a, (k0_off903 v5259 k0_t10) a + S1x1.size a ≤ S6x2048.size a) ∧
  (∀ k0_t10 : Fin (k0_t10_loop v5259).trips, ∀ (k0_h2 : k0_cond2 i = 1#1), ∀ a, (k0_off905 v5259 k0_t10) a + S1x32.size a ≤ S2048x128.size a) ∧
  (∀ k0_t10 : Fin (k0_t10_loop v5259).trips, ∀ (k0_h2 : k0_cond2 i = 1#1), ∀ a, (k0_off906 v5259 k0_t10) a + S1x1.size a ≤ S6x2048.size a) ∧
  (∀ k0_t10 : Fin (k0_t10_loop v5259).trips, ∀ (k0_h2 : k0_cond2 i = 1#1), ∀ a, (k0_off908 v5259 k0_t10) a + S1x32.size a ≤ S2048x128.size a) ∧
  (∀ k0_t10 : Fin (k0_t10_loop v5259).trips, ∀ (k0_h2 : k0_cond2 i = 1#1), ∀ a, (k0_off909 v5259 k0_t10) a + S1x1.size a ≤ S6x2048.size a) ∧
  (∀ k0_t10 : Fin (k0_t10_loop v5259).trips, ∀ (k0_h2 : k0_cond2 i = 1#1), ∀ a, (k0_off911 v5259 k0_t10) a + S1x32.size a ≤ S2048x128.size a)
def k0_chk261_3 (i : grid0.Coords) (v5259 : BitVec 32) : Prop :=
  (∀ k0_t10 : Fin (k0_t10_loop v5259).trips, ∀ (k0_h2 : k0_cond2 i = 1#1), ∀ a, (k0_off912 v5259 k0_t10) a + S1x1.size a ≤ S6x2048.size a) ∧
  (∀ k0_t10 : Fin (k0_t10_loop v5259).trips, ∀ (k0_h2 : k0_cond2 i = 1#1), ∀ a, (k0_off914 v5259 k0_t10) a + S1x32.size a ≤ S2048x128.size a) ∧
  (∀ k0_t10 : Fin (k0_t10_loop v5259).trips, ∀ (k0_h2 : k0_cond2 i = 1#1), ∀ a, (k0_off915 v5259 k0_t10) a + S1x1.size a ≤ S6x2048.size a) ∧
  (∀ k0_t10 : Fin (k0_t10_loop v5259).trips, ∀ (k0_h2 : k0_cond2 i = 1#1), ∀ a, (k0_off917 v5259 k0_t10) a + S1x32.size a ≤ S2048x128.size a) ∧
  (∀ k0_t10 : Fin (k0_t10_loop v5259).trips, ∀ (k0_h2 : k0_cond2 i = 1#1), ∀ a, (k0_off918 v5259 k0_t10) a + S1x1.size a ≤ S6x2048.size a) ∧
  (∀ k0_t10 : Fin (k0_t10_loop v5259).trips, ∀ (k0_h2 : k0_cond2 i = 1#1), ∀ a, (k0_off920 v5259 k0_t10) a + S1x32.size a ≤ S2048x128.size a) ∧
  (∀ k0_t10 : Fin (k0_t10_loop v5259).trips, ∀ (k0_h2 : k0_cond2 i = 1#1), ∀ a, (k0_off921 v5259 k0_t10) a + S1x1.size a ≤ S6x2048.size a) ∧
  (∀ k0_t10 : Fin (k0_t10_loop v5259).trips, ∀ (k0_h2 : k0_cond2 i = 1#1), ∀ a, (k0_off923 v5259 k0_t10) a + S1x32.size a ≤ S2048x128.size a) ∧
  (∀ k0_t10 : Fin (k0_t10_loop v5259).trips, ∀ (k0_h2 : k0_cond2 i = 1#1), ∀ a, (k0_off924 v5259 k0_t10) a + S1x1.size a ≤ S6x2048.size a) ∧
  (∀ k0_t10 : Fin (k0_t10_loop v5259).trips, ∀ (k0_h2 : k0_cond2 i = 1#1), ∀ a, (k0_off926 v5259 k0_t10) a + S1x32.size a ≤ S2048x128.size a) ∧
  (∀ k0_t10 : Fin (k0_t10_loop v5259).trips, ∀ (k0_h2 : k0_cond2 i = 1#1), ∀ a, (k0_off927 v5259 k0_t10) a + S1x1.size a ≤ S6x2048.size a) ∧
  (∀ k0_t10 : Fin (k0_t10_loop v5259).trips, ∀ (k0_h2 : k0_cond2 i = 1#1), ∀ a, (k0_off929 v5259 k0_t10) a + S1x32.size a ≤ S2048x128.size a) ∧
  (∀ k0_t10 : Fin (k0_t10_loop v5259).trips, ∀ (k0_h2 : k0_cond2 i = 1#1), ∀ a, (k0_off930 v5259 k0_t10) a + S1x1.size a ≤ S6x2048.size a) ∧
  (∀ k0_t10 : Fin (k0_t10_loop v5259).trips, ∀ (k0_h2 : k0_cond2 i = 1#1), ∀ a, (k0_off932 v5259 k0_t10) a + S1x32.size a ≤ S2048x128.size a) ∧
  (∀ k0_t10 : Fin (k0_t10_loop v5259).trips, ∀ (k0_h2 : k0_cond2 i = 1#1), ∀ a, (k0_off933 v5259 k0_t10) a + S1x1.size a ≤ S6x2048.size a) ∧
  (∀ k0_t10 : Fin (k0_t10_loop v5259).trips, ∀ (k0_h2 : k0_cond2 i = 1#1), ∀ a, (k0_off935 v5259 k0_t10) a + S1x32.size a ≤ S2048x128.size a) ∧
  (∀ k0_t10 : Fin (k0_t10_loop v5259).trips, ∀ (k0_h2 : k0_cond2 i = 1#1), ∀ a, (k0_off936 v5259 k0_t10) a + S1x1.size a ≤ S6x2048.size a) ∧
  (∀ k0_t10 : Fin (k0_t10_loop v5259).trips, ∀ (k0_h2 : k0_cond2 i = 1#1), ∀ a, (k0_off938 v5259 k0_t10) a + S1x32.size a ≤ S2048x128.size a) ∧
  (∀ k0_t10 : Fin (k0_t10_loop v5259).trips, ∀ (k0_h2 : k0_cond2 i = 1#1), ∀ a, (k0_off939 v5259 k0_t10) a + S1x1.size a ≤ S6x2048.size a) ∧
  (∀ k0_t10 : Fin (k0_t10_loop v5259).trips, ∀ (k0_h2 : k0_cond2 i = 1#1), ∀ a, (k0_off941 v5259 k0_t10) a + S1x32.size a ≤ S2048x128.size a) ∧
  (∀ k0_t10 : Fin (k0_t10_loop v5259).trips, ∀ (k0_h2 : k0_cond2 i = 1#1), ∀ a, (k0_off942 v5259 k0_t10) a + S1x1.size a ≤ S6x2048.size a) ∧
  (∀ k0_t10 : Fin (k0_t10_loop v5259).trips, ∀ (k0_h2 : k0_cond2 i = 1#1), ∀ a, (k0_off944 v5259 k0_t10) a + S1x32.size a ≤ S2048x128.size a) ∧
  (∀ k0_t10 : Fin (k0_t10_loop v5259).trips, ∀ (k0_h2 : k0_cond2 i = 1#1), ∀ a, (k0_off945 v5259 k0_t10) a + S1x1.size a ≤ S6x2048.size a) ∧
  (∀ k0_t10 : Fin (k0_t10_loop v5259).trips, ∀ (k0_h2 : k0_cond2 i = 1#1), ∀ a, (k0_off947 v5259 k0_t10) a + S1x32.size a ≤ S2048x128.size a) ∧
  (∀ k0_t10 : Fin (k0_t10_loop v5259).trips, ∀ (k0_h2 : k0_cond2 i = 1#1), ∀ a, (k0_off948 v5259 k0_t10) a + S1x1.size a ≤ S6x2048.size a) ∧
  (∀ k0_t10 : Fin (k0_t10_loop v5259).trips, ∀ (k0_h2 : k0_cond2 i = 1#1), ∀ a, (k0_off950 v5259 k0_t10) a + S1x32.size a ≤ S2048x128.size a) ∧
  (∀ k0_t10 : Fin (k0_t10_loop v5259).trips, ∀ (k0_h2 : k0_cond2 i = 1#1), ∀ a, (k0_off951 v5259 k0_t10) a + S1x1.size a ≤ S6x2048.size a) ∧
  (∀ k0_t10 : Fin (k0_t10_loop v5259).trips, ∀ (k0_h2 : k0_cond2 i = 1#1), ∀ a, (k0_off953 v5259 k0_t10) a + S1x32.size a ≤ S2048x128.size a) ∧
  (∀ k0_t10 : Fin (k0_t10_loop v5259).trips, ∀ (k0_h2 : k0_cond2 i = 1#1), ∀ a, (k0_off954 v5259 k0_t10) a + S1x1.size a ≤ S6x2048.size a) ∧
  (∀ k0_t10 : Fin (k0_t10_loop v5259).trips, ∀ (k0_h2 : k0_cond2 i = 1#1), ∀ a, (k0_off956 v5259 k0_t10) a + S1x32.size a ≤ S2048x128.size a) ∧
  (∀ k0_t10 : Fin (k0_t10_loop v5259).trips, ∀ (k0_h2 : k0_cond2 i = 1#1), ∀ a, (k0_off957 v5259 k0_t10) a + S1x1.size a ≤ S6x2048.size a) ∧
  (∀ k0_t10 : Fin (k0_t10_loop v5259).trips, ∀ (k0_h2 : k0_cond2 i = 1#1), ∀ a, (k0_off959 v5259 k0_t10) a + S1x32.size a ≤ S2048x128.size a)
def k0_chk261_4 (i : grid0.Coords) (v5259 : BitVec 32) : Prop :=
  (∀ k0_t10 : Fin (k0_t10_loop v5259).trips, ∀ (k0_h2 : k0_cond2 i = 1#1), ∀ a, (k0_off960 v5259 k0_t10) a + S1x1.size a ≤ S6x2048.size a) ∧
  (∀ k0_t10 : Fin (k0_t10_loop v5259).trips, ∀ (k0_h2 : k0_cond2 i = 1#1), ∀ a, (k0_off962 v5259 k0_t10) a + S1x32.size a ≤ S2048x128.size a)
def k0_chk261 (i : grid0.Coords) (v5259 : BitVec 32) : Prop :=
  k0_chk261_0 i v5259 ∧
  k0_chk261_1 i v5259 ∧
  k0_chk261_2 i v5259 ∧
  k0_chk261_3 i v5259 ∧
  k0_chk261_4 i v5259
theorem k0_t9_ok : ∀ (i : grid0.Coords) (v5259 : BitVec 32) (k0_hw261 : k0_chk261 i v5259), ∀ (k0_h2 : k0_cond2 i = 1#1), (k0_t9_loop v5259).OK := fun i v5259 k0_hw261 k0_h2 => k0_hw261.1.1 k0_h2
theorem k0_off771_inb : ∀ (i : grid0.Coords) (v5259 : BitVec 32) (k0_hw261 : k0_chk261 i v5259) (k0_t9 : Fin (k0_t9_loop v5259).trips), ∀ (k0_h2 : k0_cond2 i = 1#1), ∀ a, (k0_off771 v5259 k0_t9) a + S1x1.size a ≤ S6x2048.size a := fun i v5259 k0_hw261 k0_t9 k0_h2 => k0_hw261.1.2.1 k0_t9 k0_h2
theorem k0_off773_inb : ∀ (i : grid0.Coords) (v5259 : BitVec 32) (k0_hw261 : k0_chk261 i v5259) (k0_t9 : Fin (k0_t9_loop v5259).trips), ∀ (k0_h2 : k0_cond2 i = 1#1), ∀ a, (k0_off773 v5259 k0_t9) a + S1x32.size a ≤ S2048x128.size a := fun i v5259 k0_hw261 k0_t9 k0_h2 => k0_hw261.1.2.2.1 k0_t9 k0_h2
theorem k0_off774_inb : ∀ (i : grid0.Coords) (v5259 : BitVec 32) (k0_hw261 : k0_chk261 i v5259) (k0_t9 : Fin (k0_t9_loop v5259).trips), ∀ (k0_h2 : k0_cond2 i = 1#1), ∀ a, (k0_off774 v5259 k0_t9) a + S1x1.size a ≤ S6x2048.size a := fun i v5259 k0_hw261 k0_t9 k0_h2 => k0_hw261.1.2.2.2.1 k0_t9 k0_h2
theorem k0_off776_inb : ∀ (i : grid0.Coords) (v5259 : BitVec 32) (k0_hw261 : k0_chk261 i v5259) (k0_t9 : Fin (k0_t9_loop v5259).trips), ∀ (k0_h2 : k0_cond2 i = 1#1), ∀ a, (k0_off776 v5259 k0_t9) a + S1x32.size a ≤ S2048x128.size a := fun i v5259 k0_hw261 k0_t9 k0_h2 => k0_hw261.1.2.2.2.2.1 k0_t9 k0_h2
theorem k0_off777_inb : ∀ (i : grid0.Coords) (v5259 : BitVec 32) (k0_hw261 : k0_chk261 i v5259) (k0_t9 : Fin (k0_t9_loop v5259).trips), ∀ (k0_h2 : k0_cond2 i = 1#1), ∀ a, (k0_off777 v5259 k0_t9) a + S1x1.size a ≤ S6x2048.size a := fun i v5259 k0_hw261 k0_t9 k0_h2 => k0_hw261.1.2.2.2.2.2.1 k0_t9 k0_h2
theorem k0_off779_inb : ∀ (i : grid0.Coords) (v5259 : BitVec 32) (k0_hw261 : k0_chk261 i v5259) (k0_t9 : Fin (k0_t9_loop v5259).trips), ∀ (k0_h2 : k0_cond2 i = 1#1), ∀ a, (k0_off779 v5259 k0_t9) a + S1x32.size a ≤ S2048x128.size a := fun i v5259 k0_hw261 k0_t9 k0_h2 => k0_hw261.1.2.2.2.2.2.2.1 k0_t9 k0_h2
theorem k0_off780_inb : ∀ (i : grid0.Coords) (v5259 : BitVec 32) (k0_hw261 : k0_chk261 i v5259) (k0_t9 : Fin (k0_t9_loop v5259).trips), ∀ (k0_h2 : k0_cond2 i = 1#1), ∀ a, (k0_off780 v5259 k0_t9) a + S1x1.size a ≤ S6x2048.size a := fun i v5259 k0_hw261 k0_t9 k0_h2 => k0_hw261.1.2.2.2.2.2.2.2.1 k0_t9 k0_h2
theorem k0_off782_inb : ∀ (i : grid0.Coords) (v5259 : BitVec 32) (k0_hw261 : k0_chk261 i v5259) (k0_t9 : Fin (k0_t9_loop v5259).trips), ∀ (k0_h2 : k0_cond2 i = 1#1), ∀ a, (k0_off782 v5259 k0_t9) a + S1x32.size a ≤ S2048x128.size a := fun i v5259 k0_hw261 k0_t9 k0_h2 => k0_hw261.1.2.2.2.2.2.2.2.2.1 k0_t9 k0_h2
theorem k0_off783_inb : ∀ (i : grid0.Coords) (v5259 : BitVec 32) (k0_hw261 : k0_chk261 i v5259) (k0_t9 : Fin (k0_t9_loop v5259).trips), ∀ (k0_h2 : k0_cond2 i = 1#1), ∀ a, (k0_off783 v5259 k0_t9) a + S1x1.size a ≤ S6x2048.size a := fun i v5259 k0_hw261 k0_t9 k0_h2 => k0_hw261.1.2.2.2.2.2.2.2.2.2.1 k0_t9 k0_h2
theorem k0_off785_inb : ∀ (i : grid0.Coords) (v5259 : BitVec 32) (k0_hw261 : k0_chk261 i v5259) (k0_t9 : Fin (k0_t9_loop v5259).trips), ∀ (k0_h2 : k0_cond2 i = 1#1), ∀ a, (k0_off785 v5259 k0_t9) a + S1x32.size a ≤ S2048x128.size a := fun i v5259 k0_hw261 k0_t9 k0_h2 => k0_hw261.1.2.2.2.2.2.2.2.2.2.2.1 k0_t9 k0_h2
theorem k0_off786_inb : ∀ (i : grid0.Coords) (v5259 : BitVec 32) (k0_hw261 : k0_chk261 i v5259) (k0_t9 : Fin (k0_t9_loop v5259).trips), ∀ (k0_h2 : k0_cond2 i = 1#1), ∀ a, (k0_off786 v5259 k0_t9) a + S1x1.size a ≤ S6x2048.size a := fun i v5259 k0_hw261 k0_t9 k0_h2 => k0_hw261.1.2.2.2.2.2.2.2.2.2.2.2.1 k0_t9 k0_h2
theorem k0_off788_inb : ∀ (i : grid0.Coords) (v5259 : BitVec 32) (k0_hw261 : k0_chk261 i v5259) (k0_t9 : Fin (k0_t9_loop v5259).trips), ∀ (k0_h2 : k0_cond2 i = 1#1), ∀ a, (k0_off788 v5259 k0_t9) a + S1x32.size a ≤ S2048x128.size a := fun i v5259 k0_hw261 k0_t9 k0_h2 => k0_hw261.1.2.2.2.2.2.2.2.2.2.2.2.2.1 k0_t9 k0_h2
theorem k0_off789_inb : ∀ (i : grid0.Coords) (v5259 : BitVec 32) (k0_hw261 : k0_chk261 i v5259) (k0_t9 : Fin (k0_t9_loop v5259).trips), ∀ (k0_h2 : k0_cond2 i = 1#1), ∀ a, (k0_off789 v5259 k0_t9) a + S1x1.size a ≤ S6x2048.size a := fun i v5259 k0_hw261 k0_t9 k0_h2 => k0_hw261.1.2.2.2.2.2.2.2.2.2.2.2.2.2.1 k0_t9 k0_h2
theorem k0_off791_inb : ∀ (i : grid0.Coords) (v5259 : BitVec 32) (k0_hw261 : k0_chk261 i v5259) (k0_t9 : Fin (k0_t9_loop v5259).trips), ∀ (k0_h2 : k0_cond2 i = 1#1), ∀ a, (k0_off791 v5259 k0_t9) a + S1x32.size a ≤ S2048x128.size a := fun i v5259 k0_hw261 k0_t9 k0_h2 => k0_hw261.1.2.2.2.2.2.2.2.2.2.2.2.2.2.2.1 k0_t9 k0_h2
theorem k0_off792_inb : ∀ (i : grid0.Coords) (v5259 : BitVec 32) (k0_hw261 : k0_chk261 i v5259) (k0_t9 : Fin (k0_t9_loop v5259).trips), ∀ (k0_h2 : k0_cond2 i = 1#1), ∀ a, (k0_off792 v5259 k0_t9) a + S1x1.size a ≤ S6x2048.size a := fun i v5259 k0_hw261 k0_t9 k0_h2 => k0_hw261.1.2.2.2.2.2.2.2.2.2.2.2.2.2.2.2.1 k0_t9 k0_h2
theorem k0_off794_inb : ∀ (i : grid0.Coords) (v5259 : BitVec 32) (k0_hw261 : k0_chk261 i v5259) (k0_t9 : Fin (k0_t9_loop v5259).trips), ∀ (k0_h2 : k0_cond2 i = 1#1), ∀ a, (k0_off794 v5259 k0_t9) a + S1x32.size a ≤ S2048x128.size a := fun i v5259 k0_hw261 k0_t9 k0_h2 => k0_hw261.1.2.2.2.2.2.2.2.2.2.2.2.2.2.2.2.2.1 k0_t9 k0_h2
theorem k0_off795_inb : ∀ (i : grid0.Coords) (v5259 : BitVec 32) (k0_hw261 : k0_chk261 i v5259) (k0_t9 : Fin (k0_t9_loop v5259).trips), ∀ (k0_h2 : k0_cond2 i = 1#1), ∀ a, (k0_off795 v5259 k0_t9) a + S1x1.size a ≤ S6x2048.size a := fun i v5259 k0_hw261 k0_t9 k0_h2 => k0_hw261.1.2.2.2.2.2.2.2.2.2.2.2.2.2.2.2.2.2.1 k0_t9 k0_h2
theorem k0_off797_inb : ∀ (i : grid0.Coords) (v5259 : BitVec 32) (k0_hw261 : k0_chk261 i v5259) (k0_t9 : Fin (k0_t9_loop v5259).trips), ∀ (k0_h2 : k0_cond2 i = 1#1), ∀ a, (k0_off797 v5259 k0_t9) a + S1x32.size a ≤ S2048x128.size a := fun i v5259 k0_hw261 k0_t9 k0_h2 => k0_hw261.1.2.2.2.2.2.2.2.2.2.2.2.2.2.2.2.2.2.2.1 k0_t9 k0_h2
theorem k0_off798_inb : ∀ (i : grid0.Coords) (v5259 : BitVec 32) (k0_hw261 : k0_chk261 i v5259) (k0_t9 : Fin (k0_t9_loop v5259).trips), ∀ (k0_h2 : k0_cond2 i = 1#1), ∀ a, (k0_off798 v5259 k0_t9) a + S1x1.size a ≤ S6x2048.size a := fun i v5259 k0_hw261 k0_t9 k0_h2 => k0_hw261.1.2.2.2.2.2.2.2.2.2.2.2.2.2.2.2.2.2.2.2.1 k0_t9 k0_h2
theorem k0_off800_inb : ∀ (i : grid0.Coords) (v5259 : BitVec 32) (k0_hw261 : k0_chk261 i v5259) (k0_t9 : Fin (k0_t9_loop v5259).trips), ∀ (k0_h2 : k0_cond2 i = 1#1), ∀ a, (k0_off800 v5259 k0_t9) a + S1x32.size a ≤ S2048x128.size a := fun i v5259 k0_hw261 k0_t9 k0_h2 => k0_hw261.1.2.2.2.2.2.2.2.2.2.2.2.2.2.2.2.2.2.2.2.2.1 k0_t9 k0_h2
theorem k0_off801_inb : ∀ (i : grid0.Coords) (v5259 : BitVec 32) (k0_hw261 : k0_chk261 i v5259) (k0_t9 : Fin (k0_t9_loop v5259).trips), ∀ (k0_h2 : k0_cond2 i = 1#1), ∀ a, (k0_off801 v5259 k0_t9) a + S1x1.size a ≤ S6x2048.size a := fun i v5259 k0_hw261 k0_t9 k0_h2 => k0_hw261.1.2.2.2.2.2.2.2.2.2.2.2.2.2.2.2.2.2.2.2.2.2.1 k0_t9 k0_h2
theorem k0_off803_inb : ∀ (i : grid0.Coords) (v5259 : BitVec 32) (k0_hw261 : k0_chk261 i v5259) (k0_t9 : Fin (k0_t9_loop v5259).trips), ∀ (k0_h2 : k0_cond2 i = 1#1), ∀ a, (k0_off803 v5259 k0_t9) a + S1x32.size a ≤ S2048x128.size a := fun i v5259 k0_hw261 k0_t9 k0_h2 => k0_hw261.1.2.2.2.2.2.2.2.2.2.2.2.2.2.2.2.2.2.2.2.2.2.2.1 k0_t9 k0_h2
theorem k0_off804_inb : ∀ (i : grid0.Coords) (v5259 : BitVec 32) (k0_hw261 : k0_chk261 i v5259) (k0_t9 : Fin (k0_t9_loop v5259).trips), ∀ (k0_h2 : k0_cond2 i = 1#1), ∀ a, (k0_off804 v5259 k0_t9) a + S1x1.size a ≤ S6x2048.size a := fun i v5259 k0_hw261 k0_t9 k0_h2 => k0_hw261.1.2.2.2.2.2.2.2.2.2.2.2.2.2.2.2.2.2.2.2.2.2.2.2.1 k0_t9 k0_h2
theorem k0_off806_inb : ∀ (i : grid0.Coords) (v5259 : BitVec 32) (k0_hw261 : k0_chk261 i v5259) (k0_t9 : Fin (k0_t9_loop v5259).trips), ∀ (k0_h2 : k0_cond2 i = 1#1), ∀ a, (k0_off806 v5259 k0_t9) a + S1x32.size a ≤ S2048x128.size a := fun i v5259 k0_hw261 k0_t9 k0_h2 => k0_hw261.1.2.2.2.2.2.2.2.2.2.2.2.2.2.2.2.2.2.2.2.2.2.2.2.2.1 k0_t9 k0_h2
theorem k0_off807_inb : ∀ (i : grid0.Coords) (v5259 : BitVec 32) (k0_hw261 : k0_chk261 i v5259) (k0_t9 : Fin (k0_t9_loop v5259).trips), ∀ (k0_h2 : k0_cond2 i = 1#1), ∀ a, (k0_off807 v5259 k0_t9) a + S1x1.size a ≤ S6x2048.size a := fun i v5259 k0_hw261 k0_t9 k0_h2 => k0_hw261.1.2.2.2.2.2.2.2.2.2.2.2.2.2.2.2.2.2.2.2.2.2.2.2.2.2.1 k0_t9 k0_h2
theorem k0_off809_inb : ∀ (i : grid0.Coords) (v5259 : BitVec 32) (k0_hw261 : k0_chk261 i v5259) (k0_t9 : Fin (k0_t9_loop v5259).trips), ∀ (k0_h2 : k0_cond2 i = 1#1), ∀ a, (k0_off809 v5259 k0_t9) a + S1x32.size a ≤ S2048x128.size a := fun i v5259 k0_hw261 k0_t9 k0_h2 => k0_hw261.1.2.2.2.2.2.2.2.2.2.2.2.2.2.2.2.2.2.2.2.2.2.2.2.2.2.2.1 k0_t9 k0_h2
theorem k0_off810_inb : ∀ (i : grid0.Coords) (v5259 : BitVec 32) (k0_hw261 : k0_chk261 i v5259) (k0_t9 : Fin (k0_t9_loop v5259).trips), ∀ (k0_h2 : k0_cond2 i = 1#1), ∀ a, (k0_off810 v5259 k0_t9) a + S1x1.size a ≤ S6x2048.size a := fun i v5259 k0_hw261 k0_t9 k0_h2 => k0_hw261.1.2.2.2.2.2.2.2.2.2.2.2.2.2.2.2.2.2.2.2.2.2.2.2.2.2.2.2.1 k0_t9 k0_h2
theorem k0_off812_inb : ∀ (i : grid0.Coords) (v5259 : BitVec 32) (k0_hw261 : k0_chk261 i v5259) (k0_t9 : Fin (k0_t9_loop v5259).trips), ∀ (k0_h2 : k0_cond2 i = 1#1), ∀ a, (k0_off812 v5259 k0_t9) a + S1x32.size a ≤ S2048x128.size a := fun i v5259 k0_hw261 k0_t9 k0_h2 => k0_hw261.1.2.2.2.2.2.2.2.2.2.2.2.2.2.2.2.2.2.2.2.2.2.2.2.2.2.2.2.2.1 k0_t9 k0_h2
theorem k0_off813_inb : ∀ (i : grid0.Coords) (v5259 : BitVec 32) (k0_hw261 : k0_chk261 i v5259) (k0_t9 : Fin (k0_t9_loop v5259).trips), ∀ (k0_h2 : k0_cond2 i = 1#1), ∀ a, (k0_off813 v5259 k0_t9) a + S1x1.size a ≤ S6x2048.size a := fun i v5259 k0_hw261 k0_t9 k0_h2 => k0_hw261.1.2.2.2.2.2.2.2.2.2.2.2.2.2.2.2.2.2.2.2.2.2.2.2.2.2.2.2.2.2.1 k0_t9 k0_h2
theorem k0_off815_inb : ∀ (i : grid0.Coords) (v5259 : BitVec 32) (k0_hw261 : k0_chk261 i v5259) (k0_t9 : Fin (k0_t9_loop v5259).trips), ∀ (k0_h2 : k0_cond2 i = 1#1), ∀ a, (k0_off815 v5259 k0_t9) a + S1x32.size a ≤ S2048x128.size a := fun i v5259 k0_hw261 k0_t9 k0_h2 => k0_hw261.1.2.2.2.2.2.2.2.2.2.2.2.2.2.2.2.2.2.2.2.2.2.2.2.2.2.2.2.2.2.2.1 k0_t9 k0_h2
theorem k0_off816_inb : ∀ (i : grid0.Coords) (v5259 : BitVec 32) (k0_hw261 : k0_chk261 i v5259) (k0_t9 : Fin (k0_t9_loop v5259).trips), ∀ (k0_h2 : k0_cond2 i = 1#1), ∀ a, (k0_off816 v5259 k0_t9) a + S1x1.size a ≤ S6x2048.size a := fun i v5259 k0_hw261 k0_t9 k0_h2 => k0_hw261.1.2.2.2.2.2.2.2.2.2.2.2.2.2.2.2.2.2.2.2.2.2.2.2.2.2.2.2.2.2.2.2 k0_t9 k0_h2
theorem k0_off818_inb : ∀ (i : grid0.Coords) (v5259 : BitVec 32) (k0_hw261 : k0_chk261 i v5259) (k0_t9 : Fin (k0_t9_loop v5259).trips), ∀ (k0_h2 : k0_cond2 i = 1#1), ∀ a, (k0_off818 v5259 k0_t9) a + S1x32.size a ≤ S2048x128.size a := fun i v5259 k0_hw261 k0_t9 k0_h2 => k0_hw261.2.1.1 k0_t9 k0_h2
theorem k0_off819_inb : ∀ (i : grid0.Coords) (v5259 : BitVec 32) (k0_hw261 : k0_chk261 i v5259) (k0_t9 : Fin (k0_t9_loop v5259).trips), ∀ (k0_h2 : k0_cond2 i = 1#1), ∀ a, (k0_off819 v5259 k0_t9) a + S1x1.size a ≤ S6x2048.size a := fun i v5259 k0_hw261 k0_t9 k0_h2 => k0_hw261.2.1.2.1 k0_t9 k0_h2
theorem k0_off821_inb : ∀ (i : grid0.Coords) (v5259 : BitVec 32) (k0_hw261 : k0_chk261 i v5259) (k0_t9 : Fin (k0_t9_loop v5259).trips), ∀ (k0_h2 : k0_cond2 i = 1#1), ∀ a, (k0_off821 v5259 k0_t9) a + S1x32.size a ≤ S2048x128.size a := fun i v5259 k0_hw261 k0_t9 k0_h2 => k0_hw261.2.1.2.2.1 k0_t9 k0_h2
theorem k0_off822_inb : ∀ (i : grid0.Coords) (v5259 : BitVec 32) (k0_hw261 : k0_chk261 i v5259) (k0_t9 : Fin (k0_t9_loop v5259).trips), ∀ (k0_h2 : k0_cond2 i = 1#1), ∀ a, (k0_off822 v5259 k0_t9) a + S1x1.size a ≤ S6x2048.size a := fun i v5259 k0_hw261 k0_t9 k0_h2 => k0_hw261.2.1.2.2.2.1 k0_t9 k0_h2
theorem k0_off824_inb : ∀ (i : grid0.Coords) (v5259 : BitVec 32) (k0_hw261 : k0_chk261 i v5259) (k0_t9 : Fin (k0_t9_loop v5259).trips), ∀ (k0_h2 : k0_cond2 i = 1#1), ∀ a, (k0_off824 v5259 k0_t9) a + S1x32.size a ≤ S2048x128.size a := fun i v5259 k0_hw261 k0_t9 k0_h2 => k0_hw261.2.1.2.2.2.2.1 k0_t9 k0_h2
theorem k0_off825_inb : ∀ (i : grid0.Coords) (v5259 : BitVec 32) (k0_hw261 : k0_chk261 i v5259) (k0_t9 : Fin (k0_t9_loop v5259).trips), ∀ (k0_h2 : k0_cond2 i = 1#1), ∀ a, (k0_off825 v5259 k0_t9) a + S1x1.size a ≤ S6x2048.size a := fun i v5259 k0_hw261 k0_t9 k0_h2 => k0_hw261.2.1.2.2.2.2.2.1 k0_t9 k0_h2
theorem k0_off827_inb : ∀ (i : grid0.Coords) (v5259 : BitVec 32) (k0_hw261 : k0_chk261 i v5259) (k0_t9 : Fin (k0_t9_loop v5259).trips), ∀ (k0_h2 : k0_cond2 i = 1#1), ∀ a, (k0_off827 v5259 k0_t9) a + S1x32.size a ≤ S2048x128.size a := fun i v5259 k0_hw261 k0_t9 k0_h2 => k0_hw261.2.1.2.2.2.2.2.2.1 k0_t9 k0_h2
theorem k0_off828_inb : ∀ (i : grid0.Coords) (v5259 : BitVec 32) (k0_hw261 : k0_chk261 i v5259) (k0_t9 : Fin (k0_t9_loop v5259).trips), ∀ (k0_h2 : k0_cond2 i = 1#1), ∀ a, (k0_off828 v5259 k0_t9) a + S1x1.size a ≤ S6x2048.size a := fun i v5259 k0_hw261 k0_t9 k0_h2 => k0_hw261.2.1.2.2.2.2.2.2.2.1 k0_t9 k0_h2
theorem k0_off830_inb : ∀ (i : grid0.Coords) (v5259 : BitVec 32) (k0_hw261 : k0_chk261 i v5259) (k0_t9 : Fin (k0_t9_loop v5259).trips), ∀ (k0_h2 : k0_cond2 i = 1#1), ∀ a, (k0_off830 v5259 k0_t9) a + S1x32.size a ≤ S2048x128.size a := fun i v5259 k0_hw261 k0_t9 k0_h2 => k0_hw261.2.1.2.2.2.2.2.2.2.2.1 k0_t9 k0_h2
theorem k0_off831_inb : ∀ (i : grid0.Coords) (v5259 : BitVec 32) (k0_hw261 : k0_chk261 i v5259) (k0_t9 : Fin (k0_t9_loop v5259).trips), ∀ (k0_h2 : k0_cond2 i = 1#1), ∀ a, (k0_off831 v5259 k0_t9) a + S1x1.size a ≤ S6x2048.size a := fun i v5259 k0_hw261 k0_t9 k0_h2 => k0_hw261.2.1.2.2.2.2.2.2.2.2.2.1 k0_t9 k0_h2
theorem k0_off833_inb : ∀ (i : grid0.Coords) (v5259 : BitVec 32) (k0_hw261 : k0_chk261 i v5259) (k0_t9 : Fin (k0_t9_loop v5259).trips), ∀ (k0_h2 : k0_cond2 i = 1#1), ∀ a, (k0_off833 v5259 k0_t9) a + S1x32.size a ≤ S2048x128.size a := fun i v5259 k0_hw261 k0_t9 k0_h2 => k0_hw261.2.1.2.2.2.2.2.2.2.2.2.2.1 k0_t9 k0_h2
theorem k0_off834_inb : ∀ (i : grid0.Coords) (v5259 : BitVec 32) (k0_hw261 : k0_chk261 i v5259) (k0_t9 : Fin (k0_t9_loop v5259).trips), ∀ (k0_h2 : k0_cond2 i = 1#1), ∀ a, (k0_off834 v5259 k0_t9) a + S1x1.size a ≤ S6x2048.size a := fun i v5259 k0_hw261 k0_t9 k0_h2 => k0_hw261.2.1.2.2.2.2.2.2.2.2.2.2.2.1 k0_t9 k0_h2
theorem k0_off836_inb : ∀ (i : grid0.Coords) (v5259 : BitVec 32) (k0_hw261 : k0_chk261 i v5259) (k0_t9 : Fin (k0_t9_loop v5259).trips), ∀ (k0_h2 : k0_cond2 i = 1#1), ∀ a, (k0_off836 v5259 k0_t9) a + S1x32.size a ≤ S2048x128.size a := fun i v5259 k0_hw261 k0_t9 k0_h2 => k0_hw261.2.1.2.2.2.2.2.2.2.2.2.2.2.2.1 k0_t9 k0_h2
theorem k0_off837_inb : ∀ (i : grid0.Coords) (v5259 : BitVec 32) (k0_hw261 : k0_chk261 i v5259) (k0_t9 : Fin (k0_t9_loop v5259).trips), ∀ (k0_h2 : k0_cond2 i = 1#1), ∀ a, (k0_off837 v5259 k0_t9) a + S1x1.size a ≤ S6x2048.size a := fun i v5259 k0_hw261 k0_t9 k0_h2 => k0_hw261.2.1.2.2.2.2.2.2.2.2.2.2.2.2.2.1 k0_t9 k0_h2
theorem k0_off839_inb : ∀ (i : grid0.Coords) (v5259 : BitVec 32) (k0_hw261 : k0_chk261 i v5259) (k0_t9 : Fin (k0_t9_loop v5259).trips), ∀ (k0_h2 : k0_cond2 i = 1#1), ∀ a, (k0_off839 v5259 k0_t9) a + S1x32.size a ≤ S2048x128.size a := fun i v5259 k0_hw261 k0_t9 k0_h2 => k0_hw261.2.1.2.2.2.2.2.2.2.2.2.2.2.2.2.2.1 k0_t9 k0_h2
theorem k0_off840_inb : ∀ (i : grid0.Coords) (v5259 : BitVec 32) (k0_hw261 : k0_chk261 i v5259) (k0_t9 : Fin (k0_t9_loop v5259).trips), ∀ (k0_h2 : k0_cond2 i = 1#1), ∀ a, (k0_off840 v5259 k0_t9) a + S1x1.size a ≤ S6x2048.size a := fun i v5259 k0_hw261 k0_t9 k0_h2 => k0_hw261.2.1.2.2.2.2.2.2.2.2.2.2.2.2.2.2.2.1 k0_t9 k0_h2
theorem k0_off842_inb : ∀ (i : grid0.Coords) (v5259 : BitVec 32) (k0_hw261 : k0_chk261 i v5259) (k0_t9 : Fin (k0_t9_loop v5259).trips), ∀ (k0_h2 : k0_cond2 i = 1#1), ∀ a, (k0_off842 v5259 k0_t9) a + S1x32.size a ≤ S2048x128.size a := fun i v5259 k0_hw261 k0_t9 k0_h2 => k0_hw261.2.1.2.2.2.2.2.2.2.2.2.2.2.2.2.2.2.2.1 k0_t9 k0_h2
theorem k0_off843_inb : ∀ (i : grid0.Coords) (v5259 : BitVec 32) (k0_hw261 : k0_chk261 i v5259) (k0_t9 : Fin (k0_t9_loop v5259).trips), ∀ (k0_h2 : k0_cond2 i = 1#1), ∀ a, (k0_off843 v5259 k0_t9) a + S1x1.size a ≤ S6x2048.size a := fun i v5259 k0_hw261 k0_t9 k0_h2 => k0_hw261.2.1.2.2.2.2.2.2.2.2.2.2.2.2.2.2.2.2.2.1 k0_t9 k0_h2
theorem k0_off845_inb : ∀ (i : grid0.Coords) (v5259 : BitVec 32) (k0_hw261 : k0_chk261 i v5259) (k0_t9 : Fin (k0_t9_loop v5259).trips), ∀ (k0_h2 : k0_cond2 i = 1#1), ∀ a, (k0_off845 v5259 k0_t9) a + S1x32.size a ≤ S2048x128.size a := fun i v5259 k0_hw261 k0_t9 k0_h2 => k0_hw261.2.1.2.2.2.2.2.2.2.2.2.2.2.2.2.2.2.2.2.2.1 k0_t9 k0_h2
theorem k0_off846_inb : ∀ (i : grid0.Coords) (v5259 : BitVec 32) (k0_hw261 : k0_chk261 i v5259) (k0_t9 : Fin (k0_t9_loop v5259).trips), ∀ (k0_h2 : k0_cond2 i = 1#1), ∀ a, (k0_off846 v5259 k0_t9) a + S1x1.size a ≤ S6x2048.size a := fun i v5259 k0_hw261 k0_t9 k0_h2 => k0_hw261.2.1.2.2.2.2.2.2.2.2.2.2.2.2.2.2.2.2.2.2.2.1 k0_t9 k0_h2
theorem k0_off848_inb : ∀ (i : grid0.Coords) (v5259 : BitVec 32) (k0_hw261 : k0_chk261 i v5259) (k0_t9 : Fin (k0_t9_loop v5259).trips), ∀ (k0_h2 : k0_cond2 i = 1#1), ∀ a, (k0_off848 v5259 k0_t9) a + S1x32.size a ≤ S2048x128.size a := fun i v5259 k0_hw261 k0_t9 k0_h2 => k0_hw261.2.1.2.2.2.2.2.2.2.2.2.2.2.2.2.2.2.2.2.2.2.2.1 k0_t9 k0_h2
theorem k0_off849_inb : ∀ (i : grid0.Coords) (v5259 : BitVec 32) (k0_hw261 : k0_chk261 i v5259) (k0_t9 : Fin (k0_t9_loop v5259).trips), ∀ (k0_h2 : k0_cond2 i = 1#1), ∀ a, (k0_off849 v5259 k0_t9) a + S1x1.size a ≤ S6x2048.size a := fun i v5259 k0_hw261 k0_t9 k0_h2 => k0_hw261.2.1.2.2.2.2.2.2.2.2.2.2.2.2.2.2.2.2.2.2.2.2.2.1 k0_t9 k0_h2
theorem k0_off851_inb : ∀ (i : grid0.Coords) (v5259 : BitVec 32) (k0_hw261 : k0_chk261 i v5259) (k0_t9 : Fin (k0_t9_loop v5259).trips), ∀ (k0_h2 : k0_cond2 i = 1#1), ∀ a, (k0_off851 v5259 k0_t9) a + S1x32.size a ≤ S2048x128.size a := fun i v5259 k0_hw261 k0_t9 k0_h2 => k0_hw261.2.1.2.2.2.2.2.2.2.2.2.2.2.2.2.2.2.2.2.2.2.2.2.2.1 k0_t9 k0_h2
theorem k0_off852_inb : ∀ (i : grid0.Coords) (v5259 : BitVec 32) (k0_hw261 : k0_chk261 i v5259) (k0_t9 : Fin (k0_t9_loop v5259).trips), ∀ (k0_h2 : k0_cond2 i = 1#1), ∀ a, (k0_off852 v5259 k0_t9) a + S1x1.size a ≤ S6x2048.size a := fun i v5259 k0_hw261 k0_t9 k0_h2 => k0_hw261.2.1.2.2.2.2.2.2.2.2.2.2.2.2.2.2.2.2.2.2.2.2.2.2.2.1 k0_t9 k0_h2
theorem k0_off854_inb : ∀ (i : grid0.Coords) (v5259 : BitVec 32) (k0_hw261 : k0_chk261 i v5259) (k0_t9 : Fin (k0_t9_loop v5259).trips), ∀ (k0_h2 : k0_cond2 i = 1#1), ∀ a, (k0_off854 v5259 k0_t9) a + S1x32.size a ≤ S2048x128.size a := fun i v5259 k0_hw261 k0_t9 k0_h2 => k0_hw261.2.1.2.2.2.2.2.2.2.2.2.2.2.2.2.2.2.2.2.2.2.2.2.2.2.2.1 k0_t9 k0_h2
theorem k0_off855_inb : ∀ (i : grid0.Coords) (v5259 : BitVec 32) (k0_hw261 : k0_chk261 i v5259) (k0_t9 : Fin (k0_t9_loop v5259).trips), ∀ (k0_h2 : k0_cond2 i = 1#1), ∀ a, (k0_off855 v5259 k0_t9) a + S1x1.size a ≤ S6x2048.size a := fun i v5259 k0_hw261 k0_t9 k0_h2 => k0_hw261.2.1.2.2.2.2.2.2.2.2.2.2.2.2.2.2.2.2.2.2.2.2.2.2.2.2.2.1 k0_t9 k0_h2
theorem k0_off857_inb : ∀ (i : grid0.Coords) (v5259 : BitVec 32) (k0_hw261 : k0_chk261 i v5259) (k0_t9 : Fin (k0_t9_loop v5259).trips), ∀ (k0_h2 : k0_cond2 i = 1#1), ∀ a, (k0_off857 v5259 k0_t9) a + S1x32.size a ≤ S2048x128.size a := fun i v5259 k0_hw261 k0_t9 k0_h2 => k0_hw261.2.1.2.2.2.2.2.2.2.2.2.2.2.2.2.2.2.2.2.2.2.2.2.2.2.2.2.2.1 k0_t9 k0_h2
theorem k0_off858_inb : ∀ (i : grid0.Coords) (v5259 : BitVec 32) (k0_hw261 : k0_chk261 i v5259) (k0_t9 : Fin (k0_t9_loop v5259).trips), ∀ (k0_h2 : k0_cond2 i = 1#1), ∀ a, (k0_off858 v5259 k0_t9) a + S1x1.size a ≤ S6x2048.size a := fun i v5259 k0_hw261 k0_t9 k0_h2 => k0_hw261.2.1.2.2.2.2.2.2.2.2.2.2.2.2.2.2.2.2.2.2.2.2.2.2.2.2.2.2.2.1 k0_t9 k0_h2
theorem k0_off860_inb : ∀ (i : grid0.Coords) (v5259 : BitVec 32) (k0_hw261 : k0_chk261 i v5259) (k0_t9 : Fin (k0_t9_loop v5259).trips), ∀ (k0_h2 : k0_cond2 i = 1#1), ∀ a, (k0_off860 v5259 k0_t9) a + S1x32.size a ≤ S2048x128.size a := fun i v5259 k0_hw261 k0_t9 k0_h2 => k0_hw261.2.1.2.2.2.2.2.2.2.2.2.2.2.2.2.2.2.2.2.2.2.2.2.2.2.2.2.2.2.2.1 k0_t9 k0_h2
theorem k0_off861_inb : ∀ (i : grid0.Coords) (v5259 : BitVec 32) (k0_hw261 : k0_chk261 i v5259) (k0_t9 : Fin (k0_t9_loop v5259).trips), ∀ (k0_h2 : k0_cond2 i = 1#1), ∀ a, (k0_off861 v5259 k0_t9) a + S1x1.size a ≤ S6x2048.size a := fun i v5259 k0_hw261 k0_t9 k0_h2 => k0_hw261.2.1.2.2.2.2.2.2.2.2.2.2.2.2.2.2.2.2.2.2.2.2.2.2.2.2.2.2.2.2.2.1 k0_t9 k0_h2
theorem k0_off863_inb : ∀ (i : grid0.Coords) (v5259 : BitVec 32) (k0_hw261 : k0_chk261 i v5259) (k0_t9 : Fin (k0_t9_loop v5259).trips), ∀ (k0_h2 : k0_cond2 i = 1#1), ∀ a, (k0_off863 v5259 k0_t9) a + S1x32.size a ≤ S2048x128.size a := fun i v5259 k0_hw261 k0_t9 k0_h2 => k0_hw261.2.1.2.2.2.2.2.2.2.2.2.2.2.2.2.2.2.2.2.2.2.2.2.2.2.2.2.2.2.2.2.2.1 k0_t9 k0_h2
theorem k0_off864_inb : ∀ (i : grid0.Coords) (v5259 : BitVec 32) (k0_hw261 : k0_chk261 i v5259) (k0_t9 : Fin (k0_t9_loop v5259).trips), ∀ (k0_h2 : k0_cond2 i = 1#1), ∀ a, (k0_off864 v5259 k0_t9) a + S1x1.size a ≤ S6x2048.size a := fun i v5259 k0_hw261 k0_t9 k0_h2 => k0_hw261.2.1.2.2.2.2.2.2.2.2.2.2.2.2.2.2.2.2.2.2.2.2.2.2.2.2.2.2.2.2.2.2.2 k0_t9 k0_h2
theorem k0_off866_inb : ∀ (i : grid0.Coords) (v5259 : BitVec 32) (k0_hw261 : k0_chk261 i v5259) (k0_t9 : Fin (k0_t9_loop v5259).trips), ∀ (k0_h2 : k0_cond2 i = 1#1), ∀ a, (k0_off866 v5259 k0_t9) a + S1x32.size a ≤ S2048x128.size a := fun i v5259 k0_hw261 k0_t9 k0_h2 => k0_hw261.2.2.1.1 k0_t9 k0_h2
theorem k0_t10_ok : ∀ (i : grid0.Coords) (v5259 : BitVec 32) (k0_hw261 : k0_chk261 i v5259), ∀ (k0_h2 : k0_cond2 i = 1#1), (k0_t10_loop v5259).OK := fun i v5259 k0_hw261 k0_h2 => k0_hw261.2.2.1.2.1 k0_h2
theorem k0_off867_inb : ∀ (i : grid0.Coords) (v5259 : BitVec 32) (k0_hw261 : k0_chk261 i v5259) (k0_t10 : Fin (k0_t10_loop v5259).trips), ∀ (k0_h2 : k0_cond2 i = 1#1), ∀ a, (k0_off867 v5259 k0_t10) a + S1x1.size a ≤ S6x2048.size a := fun i v5259 k0_hw261 k0_t10 k0_h2 => k0_hw261.2.2.1.2.2.1 k0_t10 k0_h2
theorem k0_off869_inb : ∀ (i : grid0.Coords) (v5259 : BitVec 32) (k0_hw261 : k0_chk261 i v5259) (k0_t10 : Fin (k0_t10_loop v5259).trips), ∀ (k0_h2 : k0_cond2 i = 1#1), ∀ a, (k0_off869 v5259 k0_t10) a + S1x32.size a ≤ S2048x128.size a := fun i v5259 k0_hw261 k0_t10 k0_h2 => k0_hw261.2.2.1.2.2.2.1 k0_t10 k0_h2
theorem k0_off870_inb : ∀ (i : grid0.Coords) (v5259 : BitVec 32) (k0_hw261 : k0_chk261 i v5259) (k0_t10 : Fin (k0_t10_loop v5259).trips), ∀ (k0_h2 : k0_cond2 i = 1#1), ∀ a, (k0_off870 v5259 k0_t10) a + S1x1.size a ≤ S6x2048.size a := fun i v5259 k0_hw261 k0_t10 k0_h2 => k0_hw261.2.2.1.2.2.2.2.1 k0_t10 k0_h2
theorem k0_off872_inb : ∀ (i : grid0.Coords) (v5259 : BitVec 32) (k0_hw261 : k0_chk261 i v5259) (k0_t10 : Fin (k0_t10_loop v5259).trips), ∀ (k0_h2 : k0_cond2 i = 1#1), ∀ a, (k0_off872 v5259 k0_t10) a + S1x32.size a ≤ S2048x128.size a := fun i v5259 k0_hw261 k0_t10 k0_h2 => k0_hw261.2.2.1.2.2.2.2.2.1 k0_t10 k0_h2
theorem k0_off873_inb : ∀ (i : grid0.Coords) (v5259 : BitVec 32) (k0_hw261 : k0_chk261 i v5259) (k0_t10 : Fin (k0_t10_loop v5259).trips), ∀ (k0_h2 : k0_cond2 i = 1#1), ∀ a, (k0_off873 v5259 k0_t10) a + S1x1.size a ≤ S6x2048.size a := fun i v5259 k0_hw261 k0_t10 k0_h2 => k0_hw261.2.2.1.2.2.2.2.2.2.1 k0_t10 k0_h2
theorem k0_off875_inb : ∀ (i : grid0.Coords) (v5259 : BitVec 32) (k0_hw261 : k0_chk261 i v5259) (k0_t10 : Fin (k0_t10_loop v5259).trips), ∀ (k0_h2 : k0_cond2 i = 1#1), ∀ a, (k0_off875 v5259 k0_t10) a + S1x32.size a ≤ S2048x128.size a := fun i v5259 k0_hw261 k0_t10 k0_h2 => k0_hw261.2.2.1.2.2.2.2.2.2.2.1 k0_t10 k0_h2
theorem k0_off876_inb : ∀ (i : grid0.Coords) (v5259 : BitVec 32) (k0_hw261 : k0_chk261 i v5259) (k0_t10 : Fin (k0_t10_loop v5259).trips), ∀ (k0_h2 : k0_cond2 i = 1#1), ∀ a, (k0_off876 v5259 k0_t10) a + S1x1.size a ≤ S6x2048.size a := fun i v5259 k0_hw261 k0_t10 k0_h2 => k0_hw261.2.2.1.2.2.2.2.2.2.2.2.1 k0_t10 k0_h2
theorem k0_off878_inb : ∀ (i : grid0.Coords) (v5259 : BitVec 32) (k0_hw261 : k0_chk261 i v5259) (k0_t10 : Fin (k0_t10_loop v5259).trips), ∀ (k0_h2 : k0_cond2 i = 1#1), ∀ a, (k0_off878 v5259 k0_t10) a + S1x32.size a ≤ S2048x128.size a := fun i v5259 k0_hw261 k0_t10 k0_h2 => k0_hw261.2.2.1.2.2.2.2.2.2.2.2.2.1 k0_t10 k0_h2
theorem k0_off879_inb : ∀ (i : grid0.Coords) (v5259 : BitVec 32) (k0_hw261 : k0_chk261 i v5259) (k0_t10 : Fin (k0_t10_loop v5259).trips), ∀ (k0_h2 : k0_cond2 i = 1#1), ∀ a, (k0_off879 v5259 k0_t10) a + S1x1.size a ≤ S6x2048.size a := fun i v5259 k0_hw261 k0_t10 k0_h2 => k0_hw261.2.2.1.2.2.2.2.2.2.2.2.2.2.1 k0_t10 k0_h2
theorem k0_off881_inb : ∀ (i : grid0.Coords) (v5259 : BitVec 32) (k0_hw261 : k0_chk261 i v5259) (k0_t10 : Fin (k0_t10_loop v5259).trips), ∀ (k0_h2 : k0_cond2 i = 1#1), ∀ a, (k0_off881 v5259 k0_t10) a + S1x32.size a ≤ S2048x128.size a := fun i v5259 k0_hw261 k0_t10 k0_h2 => k0_hw261.2.2.1.2.2.2.2.2.2.2.2.2.2.2.1 k0_t10 k0_h2
theorem k0_off882_inb : ∀ (i : grid0.Coords) (v5259 : BitVec 32) (k0_hw261 : k0_chk261 i v5259) (k0_t10 : Fin (k0_t10_loop v5259).trips), ∀ (k0_h2 : k0_cond2 i = 1#1), ∀ a, (k0_off882 v5259 k0_t10) a + S1x1.size a ≤ S6x2048.size a := fun i v5259 k0_hw261 k0_t10 k0_h2 => k0_hw261.2.2.1.2.2.2.2.2.2.2.2.2.2.2.2.1 k0_t10 k0_h2
theorem k0_off884_inb : ∀ (i : grid0.Coords) (v5259 : BitVec 32) (k0_hw261 : k0_chk261 i v5259) (k0_t10 : Fin (k0_t10_loop v5259).trips), ∀ (k0_h2 : k0_cond2 i = 1#1), ∀ a, (k0_off884 v5259 k0_t10) a + S1x32.size a ≤ S2048x128.size a := fun i v5259 k0_hw261 k0_t10 k0_h2 => k0_hw261.2.2.1.2.2.2.2.2.2.2.2.2.2.2.2.2.1 k0_t10 k0_h2
theorem k0_off885_inb : ∀ (i : grid0.Coords) (v5259 : BitVec 32) (k0_hw261 : k0_chk261 i v5259) (k0_t10 : Fin (k0_t10_loop v5259).trips), ∀ (k0_h2 : k0_cond2 i = 1#1), ∀ a, (k0_off885 v5259 k0_t10) a + S1x1.size a ≤ S6x2048.size a := fun i v5259 k0_hw261 k0_t10 k0_h2 => k0_hw261.2.2.1.2.2.2.2.2.2.2.2.2.2.2.2.2.2.1 k0_t10 k0_h2
theorem k0_off887_inb : ∀ (i : grid0.Coords) (v5259 : BitVec 32) (k0_hw261 : k0_chk261 i v5259) (k0_t10 : Fin (k0_t10_loop v5259).trips), ∀ (k0_h2 : k0_cond2 i = 1#1), ∀ a, (k0_off887 v5259 k0_t10) a + S1x32.size a ≤ S2048x128.size a := fun i v5259 k0_hw261 k0_t10 k0_h2 => k0_hw261.2.2.1.2.2.2.2.2.2.2.2.2.2.2.2.2.2.2.1 k0_t10 k0_h2
theorem k0_off888_inb : ∀ (i : grid0.Coords) (v5259 : BitVec 32) (k0_hw261 : k0_chk261 i v5259) (k0_t10 : Fin (k0_t10_loop v5259).trips), ∀ (k0_h2 : k0_cond2 i = 1#1), ∀ a, (k0_off888 v5259 k0_t10) a + S1x1.size a ≤ S6x2048.size a := fun i v5259 k0_hw261 k0_t10 k0_h2 => k0_hw261.2.2.1.2.2.2.2.2.2.2.2.2.2.2.2.2.2.2.2.1 k0_t10 k0_h2
theorem k0_off890_inb : ∀ (i : grid0.Coords) (v5259 : BitVec 32) (k0_hw261 : k0_chk261 i v5259) (k0_t10 : Fin (k0_t10_loop v5259).trips), ∀ (k0_h2 : k0_cond2 i = 1#1), ∀ a, (k0_off890 v5259 k0_t10) a + S1x32.size a ≤ S2048x128.size a := fun i v5259 k0_hw261 k0_t10 k0_h2 => k0_hw261.2.2.1.2.2.2.2.2.2.2.2.2.2.2.2.2.2.2.2.2.1 k0_t10 k0_h2
theorem k0_off891_inb : ∀ (i : grid0.Coords) (v5259 : BitVec 32) (k0_hw261 : k0_chk261 i v5259) (k0_t10 : Fin (k0_t10_loop v5259).trips), ∀ (k0_h2 : k0_cond2 i = 1#1), ∀ a, (k0_off891 v5259 k0_t10) a + S1x1.size a ≤ S6x2048.size a := fun i v5259 k0_hw261 k0_t10 k0_h2 => k0_hw261.2.2.1.2.2.2.2.2.2.2.2.2.2.2.2.2.2.2.2.2.2.1 k0_t10 k0_h2
theorem k0_off893_inb : ∀ (i : grid0.Coords) (v5259 : BitVec 32) (k0_hw261 : k0_chk261 i v5259) (k0_t10 : Fin (k0_t10_loop v5259).trips), ∀ (k0_h2 : k0_cond2 i = 1#1), ∀ a, (k0_off893 v5259 k0_t10) a + S1x32.size a ≤ S2048x128.size a := fun i v5259 k0_hw261 k0_t10 k0_h2 => k0_hw261.2.2.1.2.2.2.2.2.2.2.2.2.2.2.2.2.2.2.2.2.2.2.1 k0_t10 k0_h2
theorem k0_off894_inb : ∀ (i : grid0.Coords) (v5259 : BitVec 32) (k0_hw261 : k0_chk261 i v5259) (k0_t10 : Fin (k0_t10_loop v5259).trips), ∀ (k0_h2 : k0_cond2 i = 1#1), ∀ a, (k0_off894 v5259 k0_t10) a + S1x1.size a ≤ S6x2048.size a := fun i v5259 k0_hw261 k0_t10 k0_h2 => k0_hw261.2.2.1.2.2.2.2.2.2.2.2.2.2.2.2.2.2.2.2.2.2.2.2.1 k0_t10 k0_h2
theorem k0_off896_inb : ∀ (i : grid0.Coords) (v5259 : BitVec 32) (k0_hw261 : k0_chk261 i v5259) (k0_t10 : Fin (k0_t10_loop v5259).trips), ∀ (k0_h2 : k0_cond2 i = 1#1), ∀ a, (k0_off896 v5259 k0_t10) a + S1x32.size a ≤ S2048x128.size a := fun i v5259 k0_hw261 k0_t10 k0_h2 => k0_hw261.2.2.1.2.2.2.2.2.2.2.2.2.2.2.2.2.2.2.2.2.2.2.2.2.1 k0_t10 k0_h2
theorem k0_off897_inb : ∀ (i : grid0.Coords) (v5259 : BitVec 32) (k0_hw261 : k0_chk261 i v5259) (k0_t10 : Fin (k0_t10_loop v5259).trips), ∀ (k0_h2 : k0_cond2 i = 1#1), ∀ a, (k0_off897 v5259 k0_t10) a + S1x1.size a ≤ S6x2048.size a := fun i v5259 k0_hw261 k0_t10 k0_h2 => k0_hw261.2.2.1.2.2.2.2.2.2.2.2.2.2.2.2.2.2.2.2.2.2.2.2.2.2.1 k0_t10 k0_h2
theorem k0_off899_inb : ∀ (i : grid0.Coords) (v5259 : BitVec 32) (k0_hw261 : k0_chk261 i v5259) (k0_t10 : Fin (k0_t10_loop v5259).trips), ∀ (k0_h2 : k0_cond2 i = 1#1), ∀ a, (k0_off899 v5259 k0_t10) a + S1x32.size a ≤ S2048x128.size a := fun i v5259 k0_hw261 k0_t10 k0_h2 => k0_hw261.2.2.1.2.2.2.2.2.2.2.2.2.2.2.2.2.2.2.2.2.2.2.2.2.2.2.1 k0_t10 k0_h2
theorem k0_off900_inb : ∀ (i : grid0.Coords) (v5259 : BitVec 32) (k0_hw261 : k0_chk261 i v5259) (k0_t10 : Fin (k0_t10_loop v5259).trips), ∀ (k0_h2 : k0_cond2 i = 1#1), ∀ a, (k0_off900 v5259 k0_t10) a + S1x1.size a ≤ S6x2048.size a := fun i v5259 k0_hw261 k0_t10 k0_h2 => k0_hw261.2.2.1.2.2.2.2.2.2.2.2.2.2.2.2.2.2.2.2.2.2.2.2.2.2.2.2.1 k0_t10 k0_h2
theorem k0_off902_inb : ∀ (i : grid0.Coords) (v5259 : BitVec 32) (k0_hw261 : k0_chk261 i v5259) (k0_t10 : Fin (k0_t10_loop v5259).trips), ∀ (k0_h2 : k0_cond2 i = 1#1), ∀ a, (k0_off902 v5259 k0_t10) a + S1x32.size a ≤ S2048x128.size a := fun i v5259 k0_hw261 k0_t10 k0_h2 => k0_hw261.2.2.1.2.2.2.2.2.2.2.2.2.2.2.2.2.2.2.2.2.2.2.2.2.2.2.2.2.1 k0_t10 k0_h2
theorem k0_off903_inb : ∀ (i : grid0.Coords) (v5259 : BitVec 32) (k0_hw261 : k0_chk261 i v5259) (k0_t10 : Fin (k0_t10_loop v5259).trips), ∀ (k0_h2 : k0_cond2 i = 1#1), ∀ a, (k0_off903 v5259 k0_t10) a + S1x1.size a ≤ S6x2048.size a := fun i v5259 k0_hw261 k0_t10 k0_h2 => k0_hw261.2.2.1.2.2.2.2.2.2.2.2.2.2.2.2.2.2.2.2.2.2.2.2.2.2.2.2.2.2.1 k0_t10 k0_h2
theorem k0_off905_inb : ∀ (i : grid0.Coords) (v5259 : BitVec 32) (k0_hw261 : k0_chk261 i v5259) (k0_t10 : Fin (k0_t10_loop v5259).trips), ∀ (k0_h2 : k0_cond2 i = 1#1), ∀ a, (k0_off905 v5259 k0_t10) a + S1x32.size a ≤ S2048x128.size a := fun i v5259 k0_hw261 k0_t10 k0_h2 => k0_hw261.2.2.1.2.2.2.2.2.2.2.2.2.2.2.2.2.2.2.2.2.2.2.2.2.2.2.2.2.2.2.1 k0_t10 k0_h2
theorem k0_off906_inb : ∀ (i : grid0.Coords) (v5259 : BitVec 32) (k0_hw261 : k0_chk261 i v5259) (k0_t10 : Fin (k0_t10_loop v5259).trips), ∀ (k0_h2 : k0_cond2 i = 1#1), ∀ a, (k0_off906 v5259 k0_t10) a + S1x1.size a ≤ S6x2048.size a := fun i v5259 k0_hw261 k0_t10 k0_h2 => k0_hw261.2.2.1.2.2.2.2.2.2.2.2.2.2.2.2.2.2.2.2.2.2.2.2.2.2.2.2.2.2.2.2.1 k0_t10 k0_h2
theorem k0_off908_inb : ∀ (i : grid0.Coords) (v5259 : BitVec 32) (k0_hw261 : k0_chk261 i v5259) (k0_t10 : Fin (k0_t10_loop v5259).trips), ∀ (k0_h2 : k0_cond2 i = 1#1), ∀ a, (k0_off908 v5259 k0_t10) a + S1x32.size a ≤ S2048x128.size a := fun i v5259 k0_hw261 k0_t10 k0_h2 => k0_hw261.2.2.1.2.2.2.2.2.2.2.2.2.2.2.2.2.2.2.2.2.2.2.2.2.2.2.2.2.2.2.2.2.1 k0_t10 k0_h2
theorem k0_off909_inb : ∀ (i : grid0.Coords) (v5259 : BitVec 32) (k0_hw261 : k0_chk261 i v5259) (k0_t10 : Fin (k0_t10_loop v5259).trips), ∀ (k0_h2 : k0_cond2 i = 1#1), ∀ a, (k0_off909 v5259 k0_t10) a + S1x1.size a ≤ S6x2048.size a := fun i v5259 k0_hw261 k0_t10 k0_h2 => k0_hw261.2.2.1.2.2.2.2.2.2.2.2.2.2.2.2.2.2.2.2.2.2.2.2.2.2.2.2.2.2.2.2.2.2.1 k0_t10 k0_h2
theorem k0_off911_inb : ∀ (i : grid0.Coords) (v5259 : BitVec 32) (k0_hw261 : k0_chk261 i v5259) (k0_t10 : Fin (k0_t10_loop v5259).trips), ∀ (k0_h2 : k0_cond2 i = 1#1), ∀ a, (k0_off911 v5259 k0_t10) a + S1x32.size a ≤ S2048x128.size a := fun i v5259 k0_hw261 k0_t10 k0_h2 => k0_hw261.2.2.1.2.2.2.2.2.2.2.2.2.2.2.2.2.2.2.2.2.2.2.2.2.2.2.2.2.2.2.2.2.2.2 k0_t10 k0_h2
theorem k0_off912_inb : ∀ (i : grid0.Coords) (v5259 : BitVec 32) (k0_hw261 : k0_chk261 i v5259) (k0_t10 : Fin (k0_t10_loop v5259).trips), ∀ (k0_h2 : k0_cond2 i = 1#1), ∀ a, (k0_off912 v5259 k0_t10) a + S1x1.size a ≤ S6x2048.size a := fun i v5259 k0_hw261 k0_t10 k0_h2 => k0_hw261.2.2.2.1.1 k0_t10 k0_h2
theorem k0_off914_inb : ∀ (i : grid0.Coords) (v5259 : BitVec 32) (k0_hw261 : k0_chk261 i v5259) (k0_t10 : Fin (k0_t10_loop v5259).trips), ∀ (k0_h2 : k0_cond2 i = 1#1), ∀ a, (k0_off914 v5259 k0_t10) a + S1x32.size a ≤ S2048x128.size a := fun i v5259 k0_hw261 k0_t10 k0_h2 => k0_hw261.2.2.2.1.2.1 k0_t10 k0_h2
theorem k0_off915_inb : ∀ (i : grid0.Coords) (v5259 : BitVec 32) (k0_hw261 : k0_chk261 i v5259) (k0_t10 : Fin (k0_t10_loop v5259).trips), ∀ (k0_h2 : k0_cond2 i = 1#1), ∀ a, (k0_off915 v5259 k0_t10) a + S1x1.size a ≤ S6x2048.size a := fun i v5259 k0_hw261 k0_t10 k0_h2 => k0_hw261.2.2.2.1.2.2.1 k0_t10 k0_h2
theorem k0_off917_inb : ∀ (i : grid0.Coords) (v5259 : BitVec 32) (k0_hw261 : k0_chk261 i v5259) (k0_t10 : Fin (k0_t10_loop v5259).trips), ∀ (k0_h2 : k0_cond2 i = 1#1), ∀ a, (k0_off917 v5259 k0_t10) a + S1x32.size a ≤ S2048x128.size a := fun i v5259 k0_hw261 k0_t10 k0_h2 => k0_hw261.2.2.2.1.2.2.2.1 k0_t10 k0_h2
theorem k0_off918_inb : ∀ (i : grid0.Coords) (v5259 : BitVec 32) (k0_hw261 : k0_chk261 i v5259) (k0_t10 : Fin (k0_t10_loop v5259).trips), ∀ (k0_h2 : k0_cond2 i = 1#1), ∀ a, (k0_off918 v5259 k0_t10) a + S1x1.size a ≤ S6x2048.size a := fun i v5259 k0_hw261 k0_t10 k0_h2 => k0_hw261.2.2.2.1.2.2.2.2.1 k0_t10 k0_h2
theorem k0_off920_inb : ∀ (i : grid0.Coords) (v5259 : BitVec 32) (k0_hw261 : k0_chk261 i v5259) (k0_t10 : Fin (k0_t10_loop v5259).trips), ∀ (k0_h2 : k0_cond2 i = 1#1), ∀ a, (k0_off920 v5259 k0_t10) a + S1x32.size a ≤ S2048x128.size a := fun i v5259 k0_hw261 k0_t10 k0_h2 => k0_hw261.2.2.2.1.2.2.2.2.2.1 k0_t10 k0_h2
theorem k0_off921_inb : ∀ (i : grid0.Coords) (v5259 : BitVec 32) (k0_hw261 : k0_chk261 i v5259) (k0_t10 : Fin (k0_t10_loop v5259).trips), ∀ (k0_h2 : k0_cond2 i = 1#1), ∀ a, (k0_off921 v5259 k0_t10) a + S1x1.size a ≤ S6x2048.size a := fun i v5259 k0_hw261 k0_t10 k0_h2 => k0_hw261.2.2.2.1.2.2.2.2.2.2.1 k0_t10 k0_h2
theorem k0_off923_inb : ∀ (i : grid0.Coords) (v5259 : BitVec 32) (k0_hw261 : k0_chk261 i v5259) (k0_t10 : Fin (k0_t10_loop v5259).trips), ∀ (k0_h2 : k0_cond2 i = 1#1), ∀ a, (k0_off923 v5259 k0_t10) a + S1x32.size a ≤ S2048x128.size a := fun i v5259 k0_hw261 k0_t10 k0_h2 => k0_hw261.2.2.2.1.2.2.2.2.2.2.2.1 k0_t10 k0_h2
theorem k0_off924_inb : ∀ (i : grid0.Coords) (v5259 : BitVec 32) (k0_hw261 : k0_chk261 i v5259) (k0_t10 : Fin (k0_t10_loop v5259).trips), ∀ (k0_h2 : k0_cond2 i = 1#1), ∀ a, (k0_off924 v5259 k0_t10) a + S1x1.size a ≤ S6x2048.size a := fun i v5259 k0_hw261 k0_t10 k0_h2 => k0_hw261.2.2.2.1.2.2.2.2.2.2.2.2.1 k0_t10 k0_h2
theorem k0_off926_inb : ∀ (i : grid0.Coords) (v5259 : BitVec 32) (k0_hw261 : k0_chk261 i v5259) (k0_t10 : Fin (k0_t10_loop v5259).trips), ∀ (k0_h2 : k0_cond2 i = 1#1), ∀ a, (k0_off926 v5259 k0_t10) a + S1x32.size a ≤ S2048x128.size a := fun i v5259 k0_hw261 k0_t10 k0_h2 => k0_hw261.2.2.2.1.2.2.2.2.2.2.2.2.2.1 k0_t10 k0_h2
theorem k0_off927_inb : ∀ (i : grid0.Coords) (v5259 : BitVec 32) (k0_hw261 : k0_chk261 i v5259) (k0_t10 : Fin (k0_t10_loop v5259).trips), ∀ (k0_h2 : k0_cond2 i = 1#1), ∀ a, (k0_off927 v5259 k0_t10) a + S1x1.size a ≤ S6x2048.size a := fun i v5259 k0_hw261 k0_t10 k0_h2 => k0_hw261.2.2.2.1.2.2.2.2.2.2.2.2.2.2.1 k0_t10 k0_h2
theorem k0_off929_inb : ∀ (i : grid0.Coords) (v5259 : BitVec 32) (k0_hw261 : k0_chk261 i v5259) (k0_t10 : Fin (k0_t10_loop v5259).trips), ∀ (k0_h2 : k0_cond2 i = 1#1), ∀ a, (k0_off929 v5259 k0_t10) a + S1x32.size a ≤ S2048x128.size a := fun i v5259 k0_hw261 k0_t10 k0_h2 => k0_hw261.2.2.2.1.2.2.2.2.2.2.2.2.2.2.2.1 k0_t10 k0_h2
theorem k0_off930_inb : ∀ (i : grid0.Coords) (v5259 : BitVec 32) (k0_hw261 : k0_chk261 i v5259) (k0_t10 : Fin (k0_t10_loop v5259).trips), ∀ (k0_h2 : k0_cond2 i = 1#1), ∀ a, (k0_off930 v5259 k0_t10) a + S1x1.size a ≤ S6x2048.size a := fun i v5259 k0_hw261 k0_t10 k0_h2 => k0_hw261.2.2.2.1.2.2.2.2.2.2.2.2.2.2.2.2.1 k0_t10 k0_h2
theorem k0_off932_inb : ∀ (i : grid0.Coords) (v5259 : BitVec 32) (k0_hw261 : k0_chk261 i v5259) (k0_t10 : Fin (k0_t10_loop v5259).trips), ∀ (k0_h2 : k0_cond2 i = 1#1), ∀ a, (k0_off932 v5259 k0_t10) a + S1x32.size a ≤ S2048x128.size a := fun i v5259 k0_hw261 k0_t10 k0_h2 => k0_hw261.2.2.2.1.2.2.2.2.2.2.2.2.2.2.2.2.2.1 k0_t10 k0_h2
theorem k0_off933_inb : ∀ (i : grid0.Coords) (v5259 : BitVec 32) (k0_hw261 : k0_chk261 i v5259) (k0_t10 : Fin (k0_t10_loop v5259).trips), ∀ (k0_h2 : k0_cond2 i = 1#1), ∀ a, (k0_off933 v5259 k0_t10) a + S1x1.size a ≤ S6x2048.size a := fun i v5259 k0_hw261 k0_t10 k0_h2 => k0_hw261.2.2.2.1.2.2.2.2.2.2.2.2.2.2.2.2.2.2.1 k0_t10 k0_h2
theorem k0_off935_inb : ∀ (i : grid0.Coords) (v5259 : BitVec 32) (k0_hw261 : k0_chk261 i v5259) (k0_t10 : Fin (k0_t10_loop v5259).trips), ∀ (k0_h2 : k0_cond2 i = 1#1), ∀ a, (k0_off935 v5259 k0_t10) a + S1x32.size a ≤ S2048x128.size a := fun i v5259 k0_hw261 k0_t10 k0_h2 => k0_hw261.2.2.2.1.2.2.2.2.2.2.2.2.2.2.2.2.2.2.2.1 k0_t10 k0_h2
theorem k0_off936_inb : ∀ (i : grid0.Coords) (v5259 : BitVec 32) (k0_hw261 : k0_chk261 i v5259) (k0_t10 : Fin (k0_t10_loop v5259).trips), ∀ (k0_h2 : k0_cond2 i = 1#1), ∀ a, (k0_off936 v5259 k0_t10) a + S1x1.size a ≤ S6x2048.size a := fun i v5259 k0_hw261 k0_t10 k0_h2 => k0_hw261.2.2.2.1.2.2.2.2.2.2.2.2.2.2.2.2.2.2.2.2.1 k0_t10 k0_h2
theorem k0_off938_inb : ∀ (i : grid0.Coords) (v5259 : BitVec 32) (k0_hw261 : k0_chk261 i v5259) (k0_t10 : Fin (k0_t10_loop v5259).trips), ∀ (k0_h2 : k0_cond2 i = 1#1), ∀ a, (k0_off938 v5259 k0_t10) a + S1x32.size a ≤ S2048x128.size a := fun i v5259 k0_hw261 k0_t10 k0_h2 => k0_hw261.2.2.2.1.2.2.2.2.2.2.2.2.2.2.2.2.2.2.2.2.2.1 k0_t10 k0_h2
theorem k0_off939_inb : ∀ (i : grid0.Coords) (v5259 : BitVec 32) (k0_hw261 : k0_chk261 i v5259) (k0_t10 : Fin (k0_t10_loop v5259).trips), ∀ (k0_h2 : k0_cond2 i = 1#1), ∀ a, (k0_off939 v5259 k0_t10) a + S1x1.size a ≤ S6x2048.size a := fun i v5259 k0_hw261 k0_t10 k0_h2 => k0_hw261.2.2.2.1.2.2.2.2.2.2.2.2.2.2.2.2.2.2.2.2.2.2.1 k0_t10 k0_h2
theorem k0_off941_inb : ∀ (i : grid0.Coords) (v5259 : BitVec 32) (k0_hw261 : k0_chk261 i v5259) (k0_t10 : Fin (k0_t10_loop v5259).trips), ∀ (k0_h2 : k0_cond2 i = 1#1), ∀ a, (k0_off941 v5259 k0_t10) a + S1x32.size a ≤ S2048x128.size a := fun i v5259 k0_hw261 k0_t10 k0_h2 => k0_hw261.2.2.2.1.2.2.2.2.2.2.2.2.2.2.2.2.2.2.2.2.2.2.2.1 k0_t10 k0_h2
theorem k0_off942_inb : ∀ (i : grid0.Coords) (v5259 : BitVec 32) (k0_hw261 : k0_chk261 i v5259) (k0_t10 : Fin (k0_t10_loop v5259).trips), ∀ (k0_h2 : k0_cond2 i = 1#1), ∀ a, (k0_off942 v5259 k0_t10) a + S1x1.size a ≤ S6x2048.size a := fun i v5259 k0_hw261 k0_t10 k0_h2 => k0_hw261.2.2.2.1.2.2.2.2.2.2.2.2.2.2.2.2.2.2.2.2.2.2.2.2.1 k0_t10 k0_h2
theorem k0_off944_inb : ∀ (i : grid0.Coords) (v5259 : BitVec 32) (k0_hw261 : k0_chk261 i v5259) (k0_t10 : Fin (k0_t10_loop v5259).trips), ∀ (k0_h2 : k0_cond2 i = 1#1), ∀ a, (k0_off944 v5259 k0_t10) a + S1x32.size a ≤ S2048x128.size a := fun i v5259 k0_hw261 k0_t10 k0_h2 => k0_hw261.2.2.2.1.2.2.2.2.2.2.2.2.2.2.2.2.2.2.2.2.2.2.2.2.2.1 k0_t10 k0_h2
theorem k0_off945_inb : ∀ (i : grid0.Coords) (v5259 : BitVec 32) (k0_hw261 : k0_chk261 i v5259) (k0_t10 : Fin (k0_t10_loop v5259).trips), ∀ (k0_h2 : k0_cond2 i = 1#1), ∀ a, (k0_off945 v5259 k0_t10) a + S1x1.size a ≤ S6x2048.size a := fun i v5259 k0_hw261 k0_t10 k0_h2 => k0_hw261.2.2.2.1.2.2.2.2.2.2.2.2.2.2.2.2.2.2.2.2.2.2.2.2.2.2.1 k0_t10 k0_h2
theorem k0_off947_inb : ∀ (i : grid0.Coords) (v5259 : BitVec 32) (k0_hw261 : k0_chk261 i v5259) (k0_t10 : Fin (k0_t10_loop v5259).trips), ∀ (k0_h2 : k0_cond2 i = 1#1), ∀ a, (k0_off947 v5259 k0_t10) a + S1x32.size a ≤ S2048x128.size a := fun i v5259 k0_hw261 k0_t10 k0_h2 => k0_hw261.2.2.2.1.2.2.2.2.2.2.2.2.2.2.2.2.2.2.2.2.2.2.2.2.2.2.2.1 k0_t10 k0_h2
theorem k0_off948_inb : ∀ (i : grid0.Coords) (v5259 : BitVec 32) (k0_hw261 : k0_chk261 i v5259) (k0_t10 : Fin (k0_t10_loop v5259).trips), ∀ (k0_h2 : k0_cond2 i = 1#1), ∀ a, (k0_off948 v5259 k0_t10) a + S1x1.size a ≤ S6x2048.size a := fun i v5259 k0_hw261 k0_t10 k0_h2 => k0_hw261.2.2.2.1.2.2.2.2.2.2.2.2.2.2.2.2.2.2.2.2.2.2.2.2.2.2.2.2.1 k0_t10 k0_h2
theorem k0_off950_inb : ∀ (i : grid0.Coords) (v5259 : BitVec 32) (k0_hw261 : k0_chk261 i v5259) (k0_t10 : Fin (k0_t10_loop v5259).trips), ∀ (k0_h2 : k0_cond2 i = 1#1), ∀ a, (k0_off950 v5259 k0_t10) a + S1x32.size a ≤ S2048x128.size a := fun i v5259 k0_hw261 k0_t10 k0_h2 => k0_hw261.2.2.2.1.2.2.2.2.2.2.2.2.2.2.2.2.2.2.2.2.2.2.2.2.2.2.2.2.2.1 k0_t10 k0_h2
theorem k0_off951_inb : ∀ (i : grid0.Coords) (v5259 : BitVec 32) (k0_hw261 : k0_chk261 i v5259) (k0_t10 : Fin (k0_t10_loop v5259).trips), ∀ (k0_h2 : k0_cond2 i = 1#1), ∀ a, (k0_off951 v5259 k0_t10) a + S1x1.size a ≤ S6x2048.size a := fun i v5259 k0_hw261 k0_t10 k0_h2 => k0_hw261.2.2.2.1.2.2.2.2.2.2.2.2.2.2.2.2.2.2.2.2.2.2.2.2.2.2.2.2.2.2.1 k0_t10 k0_h2
theorem k0_off953_inb : ∀ (i : grid0.Coords) (v5259 : BitVec 32) (k0_hw261 : k0_chk261 i v5259) (k0_t10 : Fin (k0_t10_loop v5259).trips), ∀ (k0_h2 : k0_cond2 i = 1#1), ∀ a, (k0_off953 v5259 k0_t10) a + S1x32.size a ≤ S2048x128.size a := fun i v5259 k0_hw261 k0_t10 k0_h2 => k0_hw261.2.2.2.1.2.2.2.2.2.2.2.2.2.2.2.2.2.2.2.2.2.2.2.2.2.2.2.2.2.2.2.1 k0_t10 k0_h2
theorem k0_off954_inb : ∀ (i : grid0.Coords) (v5259 : BitVec 32) (k0_hw261 : k0_chk261 i v5259) (k0_t10 : Fin (k0_t10_loop v5259).trips), ∀ (k0_h2 : k0_cond2 i = 1#1), ∀ a, (k0_off954 v5259 k0_t10) a + S1x1.size a ≤ S6x2048.size a := fun i v5259 k0_hw261 k0_t10 k0_h2 => k0_hw261.2.2.2.1.2.2.2.2.2.2.2.2.2.2.2.2.2.2.2.2.2.2.2.2.2.2.2.2.2.2.2.2.1 k0_t10 k0_h2
theorem k0_off956_inb : ∀ (i : grid0.Coords) (v5259 : BitVec 32) (k0_hw261 : k0_chk261 i v5259) (k0_t10 : Fin (k0_t10_loop v5259).trips), ∀ (k0_h2 : k0_cond2 i = 1#1), ∀ a, (k0_off956 v5259 k0_t10) a + S1x32.size a ≤ S2048x128.size a := fun i v5259 k0_hw261 k0_t10 k0_h2 => k0_hw261.2.2.2.1.2.2.2.2.2.2.2.2.2.2.2.2.2.2.2.2.2.2.2.2.2.2.2.2.2.2.2.2.2.1 k0_t10 k0_h2
theorem k0_off957_inb : ∀ (i : grid0.Coords) (v5259 : BitVec 32) (k0_hw261 : k0_chk261 i v5259) (k0_t10 : Fin (k0_t10_loop v5259).trips), ∀ (k0_h2 : k0_cond2 i = 1#1), ∀ a, (k0_off957 v5259 k0_t10) a + S1x1.size a ≤ S6x2048.size a := fun i v5259 k0_hw261 k0_t10 k0_h2 => k0_hw261.2.2.2.1.2.2.2.2.2.2.2.2.2.2.2.2.2.2.2.2.2.2.2.2.2.2.2.2.2.2.2.2.2.2.1 k0_t10 k0_h2
theorem k0_off959_inb : ∀ (i : grid0.Coords) (v5259 : BitVec 32) (k0_hw261 : k0_chk261 i v5259) (k0_t10 : Fin (k0_t10_loop v5259).trips), ∀ (k0_h2 : k0_cond2 i = 1#1), ∀ a, (k0_off959 v5259 k0_t10) a + S1x32.size a ≤ S2048x128.size a := fun i v5259 k0_hw261 k0_t10 k0_h2 => k0_hw261.2.2.2.1.2.2.2.2.2.2.2.2.2.2.2.2.2.2.2.2.2.2.2.2.2.2.2.2.2.2.2.2.2.2.2 k0_t10 k0_h2
theorem k0_off960_inb : ∀ (i : grid0.Coords) (v5259 : BitVec 32) (k0_hw261 : k0_chk261 i v5259) (k0_t10 : Fin (k0_t10_loop v5259).trips), ∀ (k0_h2 : k0_cond2 i = 1#1), ∀ a, (k0_off960 v5259 k0_t10) a + S1x1.size a ≤ S6x2048.size a := fun i v5259 k0_hw261 k0_t10 k0_h2 => k0_hw261.2.2.2.2.1 k0_t10 k0_h2
theorem k0_off962_inb : ∀ (i : grid0.Coords) (v5259 : BitVec 32) (k0_hw261 : k0_chk261 i v5259) (k0_t10 : Fin (k0_t10_loop v5259).trips), ∀ (k0_h2 : k0_cond2 i = 1#1), ∀ a, (k0_off962 v5259 k0_t10) a + S1x32.size a ≤ S2048x128.size a := fun i v5259 k0_hw261 k0_t10 k0_h2 => k0_hw261.2.2.2.2.2 k0_t10 k0_h2

@[reducible] def k0_t11_loop (v5305 : BitVec 32) : Scf.Loop 32 :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1651 : BitVec 32 := 1#32
  ⟨c0_i32_1648, v5348, c1_i32_1651⟩

def k0_off963 (v5305 : BitVec 32) (k0_t11 : Fin (k0_t11_loop v5305).trips) : Fin 2 → Nat :=
  let c5_2208 : Index := 5#32
  let c0_i32_1648 : BitVec 32 := 0#32
  let c1_i32_1651 : BitVec 32 := 1#32
  let arg13 : BitVec 32 := Scf.iv c0_i32_1648 c1_i32_1651 k0_t11
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![5, v6553.toNat]
def k0_off964 (v6554 : BitVec 32) : Fin 2 → Nat :=
  let v6555 : Index := Scalar.indexCast v6554
  let c32 : Index := 32#32
  ![v6555.toNat, 32]

def k0_chk327 (i : grid0.Coords) (v6554 : BitVec 32) : Prop :=
  (∀ (k0_h2 : k0_cond2 i = 1#1), ∀ a, (k0_off964 v6554) a + S1x32.size a ≤ S15360x128.size a)
theorem k0_off964_inb : ∀ (i : grid0.Coords) (v6554 : BitVec 32) (k0_hw327 : k0_chk327 i v6554), ∀ (k0_h2 : k0_cond2 i = 1#1), ∀ a, (k0_off964 v6554) a + S1x32.size a ≤ S15360x128.size a := fun i v6554 k0_hw327 k0_h2 => k0_hw327 k0_h2

def k0_off965 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c32_2209 : Index := 32#32
  ![v6557.toNat, 32]
def k0_off966 (v5305 : BitVec 32) (k0_t11 : Fin (k0_t11_loop v5305).trips) : Fin 2 → Nat :=
  let c5_2212 : Index := 5#32
  let c0_i32_1648 : BitVec 32 := 0#32
  let c1_i32_1651 : BitVec 32 := 1#32
  let arg13 : BitVec 32 := Scf.iv c0_i32_1648 c1_i32_1651 k0_t11
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6563 : Index := Scalar.indexCast v6562
  ![5, v6563.toNat]
def k0_off967 (v6564 : BitVec 32) : Fin 2 → Nat :=
  let v6565 : Index := Scalar.indexCast v6564
  let c32_2213 : Index := 32#32
  ![v6565.toNat, 32]

def k0_chk328 (i : grid0.Coords) (v6564 : BitVec 32) : Prop :=
  (∀ (k0_h2 : k0_cond2 i = 1#1), ∀ a, (k0_off967 v6564) a + S1x32.size a ≤ S15360x128.size a)
theorem k0_off967_inb : ∀ (i : grid0.Coords) (v6564 : BitVec 32) (k0_hw328 : k0_chk328 i v6564), ∀ (k0_h2 : k0_cond2 i = 1#1), ∀ a, (k0_off967 v6564) a + S1x32.size a ≤ S15360x128.size a := fun i v6564 k0_hw328 k0_h2 => k0_hw328 k0_h2

def k0_off968 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6567 : Index := Scalar.indexCast v6562
  let c32_2214 : Index := 32#32
  ![v6567.toNat, 32]
def k0_off969 (v5305 : BitVec 32) (k0_t11 : Fin (k0_t11_loop v5305).trips) : Fin 2 → Nat :=
  let c5_2217 : Index := 5#32
  let c0_i32_1648 : BitVec 32 := 0#32
  let c1_i32_1651 : BitVec 32 := 1#32
  let arg13 : BitVec 32 := Scf.iv c0_i32_1648 c1_i32_1651 k0_t11
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6573 : Index := Scalar.indexCast v6572
  ![5, v6573.toNat]
def k0_off970 (v6574 : BitVec 32) : Fin 2 → Nat :=
  let v6575 : Index := Scalar.indexCast v6574
  let c32_2218 : Index := 32#32
  ![v6575.toNat, 32]

def k0_chk329 (i : grid0.Coords) (v6574 : BitVec 32) : Prop :=
  (∀ (k0_h2 : k0_cond2 i = 1#1), ∀ a, (k0_off970 v6574) a + S1x32.size a ≤ S15360x128.size a)
theorem k0_off970_inb : ∀ (i : grid0.Coords) (v6574 : BitVec 32) (k0_hw329 : k0_chk329 i v6574), ∀ (k0_h2 : k0_cond2 i = 1#1), ∀ a, (k0_off970 v6574) a + S1x32.size a ≤ S15360x128.size a := fun i v6574 k0_hw329 k0_h2 => k0_hw329 k0_h2

def k0_off971 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6577 : Index := Scalar.indexCast v6572
  let c32_2219 : Index := 32#32
  ![v6577.toNat, 32]
def k0_off972 (v5305 : BitVec 32) (k0_t11 : Fin (k0_t11_loop v5305).trips) : Fin 2 → Nat :=
  let c5_2222 : Index := 5#32
  let c0_i32_1648 : BitVec 32 := 0#32
  let c1_i32_1651 : BitVec 32 := 1#32
  let arg13 : BitVec 32 := Scf.iv c0_i32_1648 c1_i32_1651 k0_t11
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6583 : Index := Scalar.indexCast v6582
  ![5, v6583.toNat]
def k0_off973 (v6584 : BitVec 32) : Fin 2 → Nat :=
  let v6585 : Index := Scalar.indexCast v6584
  let c32_2223 : Index := 32#32
  ![v6585.toNat, 32]

def k0_chk330 (i : grid0.Coords) (v6584 : BitVec 32) : Prop :=
  (∀ (k0_h2 : k0_cond2 i = 1#1), ∀ a, (k0_off973 v6584) a + S1x32.size a ≤ S15360x128.size a)
theorem k0_off973_inb : ∀ (i : grid0.Coords) (v6584 : BitVec 32) (k0_hw330 : k0_chk330 i v6584), ∀ (k0_h2 : k0_cond2 i = 1#1), ∀ a, (k0_off973 v6584) a + S1x32.size a ≤ S15360x128.size a := fun i v6584 k0_hw330 k0_h2 => k0_hw330 k0_h2

def k0_off974 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6587 : Index := Scalar.indexCast v6582
  let c32_2224 : Index := 32#32
  ![v6587.toNat, 32]
def k0_off975 (v5305 : BitVec 32) (k0_t11 : Fin (k0_t11_loop v5305).trips) : Fin 2 → Nat :=
  let c5_2227 : Index := 5#32
  let c0_i32_1648 : BitVec 32 := 0#32
  let c1_i32_1651 : BitVec 32 := 1#32
  let arg13 : BitVec 32 := Scf.iv c0_i32_1648 c1_i32_1651 k0_t11
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6593 : Index := Scalar.indexCast v6592
  ![5, v6593.toNat]
def k0_off976 (v6594 : BitVec 32) : Fin 2 → Nat :=
  let v6595 : Index := Scalar.indexCast v6594
  let c32_2228 : Index := 32#32
  ![v6595.toNat, 32]

def k0_chk331 (i : grid0.Coords) (v6594 : BitVec 32) : Prop :=
  (∀ (k0_h2 : k0_cond2 i = 1#1), ∀ a, (k0_off976 v6594) a + S1x32.size a ≤ S15360x128.size a)
theorem k0_off976_inb : ∀ (i : grid0.Coords) (v6594 : BitVec 32) (k0_hw331 : k0_chk331 i v6594), ∀ (k0_h2 : k0_cond2 i = 1#1), ∀ a, (k0_off976 v6594) a + S1x32.size a ≤ S15360x128.size a := fun i v6594 k0_hw331 k0_h2 => k0_hw331 k0_h2

def k0_off977 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6597 : Index := Scalar.indexCast v6592
  let c32_2229 : Index := 32#32
  ![v6597.toNat, 32]
def k0_off978 (v5305 : BitVec 32) (k0_t11 : Fin (k0_t11_loop v5305).trips) : Fin 2 → Nat :=
  let c5_2231 : Index := 5#32
  let c0_i32_1648 : BitVec 32 := 0#32
  let c1_i32_1651 : BitVec 32 := 1#32
  let arg13 : BitVec 32 := Scf.iv c0_i32_1648 c1_i32_1651 k0_t11
  let c32_i32_2230 : BitVec 32 := 32#32
  let v6601 : BitVec 32 := Scalar.muli arg13 c32_i32_2230
  let c5_i32 : BitVec 32 := 5#32
  let v6602 : BitVec 32 := Scalar.addi v6601 c5_i32
  let v6603 : Index := Scalar.indexCast v6602
  ![5, v6603.toNat]
def k0_off979 (v6604 : BitVec 32) : Fin 2 → Nat :=
  let v6605 : Index := Scalar.indexCast v6604
  let c32_2232 : Index := 32#32
  ![v6605.toNat, 32]

def k0_chk332 (i : grid0.Coords) (v6604 : BitVec 32) : Prop :=
  (∀ (k0_h2 : k0_cond2 i = 1#1), ∀ a, (k0_off979 v6604) a + S1x32.size a ≤ S15360x128.size a)
theorem k0_off979_inb : ∀ (i : grid0.Coords) (v6604 : BitVec 32) (k0_hw332 : k0_chk332 i v6604), ∀ (k0_h2 : k0_cond2 i = 1#1), ∀ a, (k0_off979 v6604) a + S1x32.size a ≤ S15360x128.size a := fun i v6604 k0_hw332 k0_h2 => k0_hw332 k0_h2

def k0_off980 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2230 : BitVec 32 := 32#32
  let v6601 : BitVec 32 := Scalar.muli arg13 c32_i32_2230
  let c5_i32 : BitVec 32 := 5#32
  let v6602 : BitVec 32 := Scalar.addi v6601 c5_i32
  let v6607 : Index := Scalar.indexCast v6602
  let c32_2233 : Index := 32#32
  ![v6607.toNat, 32]
def k0_off981 (v5305 : BitVec 32) (k0_t11 : Fin (k0_t11_loop v5305).trips) : Fin 2 → Nat :=
  let c5_2235 : Index := 5#32
  let c0_i32_1648 : BitVec 32 := 0#32
  let c1_i32_1651 : BitVec 32 := 1#32
  let arg13 : BitVec 32 := Scf.iv c0_i32_1648 c1_i32_1651 k0_t11
  let c32_i32_2234 : BitVec 32 := 32#32
  let v6611 : BitVec 32 := Scalar.muli arg13 c32_i32_2234
  let c6_i32 : BitVec 32 := 6#32
  let v6612 : BitVec 32 := Scalar.addi v6611 c6_i32
  let v6613 : Index := Scalar.indexCast v6612
  ![5, v6613.toNat]
def k0_off982 (v6614 : BitVec 32) : Fin 2 → Nat :=
  let v6615 : Index := Scalar.indexCast v6614
  let c32_2236 : Index := 32#32
  ![v6615.toNat, 32]

def k0_chk333 (i : grid0.Coords) (v6614 : BitVec 32) : Prop :=
  (∀ (k0_h2 : k0_cond2 i = 1#1), ∀ a, (k0_off982 v6614) a + S1x32.size a ≤ S15360x128.size a)
theorem k0_off982_inb : ∀ (i : grid0.Coords) (v6614 : BitVec 32) (k0_hw333 : k0_chk333 i v6614), ∀ (k0_h2 : k0_cond2 i = 1#1), ∀ a, (k0_off982 v6614) a + S1x32.size a ≤ S15360x128.size a := fun i v6614 k0_hw333 k0_h2 => k0_hw333 k0_h2

def k0_off983 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2234 : BitVec 32 := 32#32
  let v6611 : BitVec 32 := Scalar.muli arg13 c32_i32_2234
  let c6_i32 : BitVec 32 := 6#32
  let v6612 : BitVec 32 := Scalar.addi v6611 c6_i32
  let v6617 : Index := Scalar.indexCast v6612
  let c32_2237 : Index := 32#32
  ![v6617.toNat, 32]
def k0_off984 (v5305 : BitVec 32) (k0_t11 : Fin (k0_t11_loop v5305).trips) : Fin 2 → Nat :=
  let c5_2239 : Index := 5#32
  let c0_i32_1648 : BitVec 32 := 0#32
  let c1_i32_1651 : BitVec 32 := 1#32
  let arg13 : BitVec 32 := Scf.iv c0_i32_1648 c1_i32_1651 k0_t11
  let c32_i32_2238 : BitVec 32 := 32#32
  let v6621 : BitVec 32 := Scalar.muli arg13 c32_i32_2238
  let c7_i32 : BitVec 32 := 7#32
  let v6622 : BitVec 32 := Scalar.addi v6621 c7_i32
  let v6623 : Index := Scalar.indexCast v6622
  ![5, v6623.toNat]
def k0_off985 (v6624 : BitVec 32) : Fin 2 → Nat :=
  let v6625 : Index := Scalar.indexCast v6624
  let c32_2240 : Index := 32#32
  ![v6625.toNat, 32]

def k0_chk334 (i : grid0.Coords) (v6624 : BitVec 32) : Prop :=
  (∀ (k0_h2 : k0_cond2 i = 1#1), ∀ a, (k0_off985 v6624) a + S1x32.size a ≤ S15360x128.size a)
theorem k0_off985_inb : ∀ (i : grid0.Coords) (v6624 : BitVec 32) (k0_hw334 : k0_chk334 i v6624), ∀ (k0_h2 : k0_cond2 i = 1#1), ∀ a, (k0_off985 v6624) a + S1x32.size a ≤ S15360x128.size a := fun i v6624 k0_hw334 k0_h2 => k0_hw334 k0_h2

def k0_off986 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2238 : BitVec 32 := 32#32
  let v6621 : BitVec 32 := Scalar.muli arg13 c32_i32_2238
  let c7_i32 : BitVec 32 := 7#32
  let v6622 : BitVec 32 := Scalar.addi v6621 c7_i32
  let v6627 : Index := Scalar.indexCast v6622
  let c32_2241 : Index := 32#32
  ![v6627.toNat, 32]
def k0_off987 (v5305 : BitVec 32) (k0_t11 : Fin (k0_t11_loop v5305).trips) : Fin 2 → Nat :=
  let c5_2243 : Index := 5#32
  let c0_i32_1648 : BitVec 32 := 0#32
  let c1_i32_1651 : BitVec 32 := 1#32
  let arg13 : BitVec 32 := Scf.iv c0_i32_1648 c1_i32_1651 k0_t11
  let c32_i32_2242 : BitVec 32 := 32#32
  let v6631 : BitVec 32 := Scalar.muli arg13 c32_i32_2242
  let c8_i32 : BitVec 32 := 8#32
  let v6632 : BitVec 32 := Scalar.addi v6631 c8_i32
  let v6633 : Index := Scalar.indexCast v6632
  ![5, v6633.toNat]
def k0_off988 (v6634 : BitVec 32) : Fin 2 → Nat :=
  let v6635 : Index := Scalar.indexCast v6634
  let c32_2244 : Index := 32#32
  ![v6635.toNat, 32]

def k0_chk335 (i : grid0.Coords) (v6634 : BitVec 32) : Prop :=
  (∀ (k0_h2 : k0_cond2 i = 1#1), ∀ a, (k0_off988 v6634) a + S1x32.size a ≤ S15360x128.size a)
theorem k0_off988_inb : ∀ (i : grid0.Coords) (v6634 : BitVec 32) (k0_hw335 : k0_chk335 i v6634), ∀ (k0_h2 : k0_cond2 i = 1#1), ∀ a, (k0_off988 v6634) a + S1x32.size a ≤ S15360x128.size a := fun i v6634 k0_hw335 k0_h2 => k0_hw335 k0_h2

def k0_off989 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2242 : BitVec 32 := 32#32
  let v6631 : BitVec 32 := Scalar.muli arg13 c32_i32_2242
  let c8_i32 : BitVec 32 := 8#32
  let v6632 : BitVec 32 := Scalar.addi v6631 c8_i32
  let v6637 : Index := Scalar.indexCast v6632
  let c32_2245 : Index := 32#32
  ![v6637.toNat, 32]
def k0_off990 (v5305 : BitVec 32) (k0_t11 : Fin (k0_t11_loop v5305).trips) : Fin 2 → Nat :=
  let c5_2247 : Index := 5#32
  let c0_i32_1648 : BitVec 32 := 0#32
  let c1_i32_1651 : BitVec 32 := 1#32
  let arg13 : BitVec 32 := Scf.iv c0_i32_1648 c1_i32_1651 k0_t11
  let c32_i32_2246 : BitVec 32 := 32#32
  let v6641 : BitVec 32 := Scalar.muli arg13 c32_i32_2246
  let c9_i32 : BitVec 32 := 9#32
  let v6642 : BitVec 32 := Scalar.addi v6641 c9_i32
  let v6643 : Index := Scalar.indexCast v6642
  ![5, v6643.toNat]
def k0_off991 (v6644 : BitVec 32) : Fin 2 → Nat :=
  let v6645 : Index := Scalar.indexCast v6644
  let c32_2248 : Index := 32#32
  ![v6645.toNat, 32]

def k0_chk336 (i : grid0.Coords) (v6644 : BitVec 32) : Prop :=
  (∀ (k0_h2 : k0_cond2 i = 1#1), ∀ a, (k0_off991 v6644) a + S1x32.size a ≤ S15360x128.size a)
theorem k0_off991_inb : ∀ (i : grid0.Coords) (v6644 : BitVec 32) (k0_hw336 : k0_chk336 i v6644), ∀ (k0_h2 : k0_cond2 i = 1#1), ∀ a, (k0_off991 v6644) a + S1x32.size a ≤ S15360x128.size a := fun i v6644 k0_hw336 k0_h2 => k0_hw336 k0_h2

def k0_off992 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2246 : BitVec 32 := 32#32
  let v6641 : BitVec 32 := Scalar.muli arg13 c32_i32_2246
  let c9_i32 : BitVec 32 := 9#32
  let v6642 : BitVec 32 := Scalar.addi v6641 c9_i32
  let v6647 : Index := Scalar.indexCast v6642
  let c32_2249 : Index := 32#32
  ![v6647.toNat, 32]
def k0_off993 (v5305 : BitVec 32) (k0_t11 : Fin (k0_t11_loop v5305).trips) : Fin 2 → Nat :=
  let c5_2251 : Index := 5#32
  let c0_i32_1648 : BitVec 32 := 0#32
  let c1_i32_1651 : BitVec 32 := 1#32
  let arg13 : BitVec 32 := Scf.iv c0_i32_1648 c1_i32_1651 k0_t11
  let c32_i32_2250 : BitVec 32 := 32#32
  let v6651 : BitVec 32 := Scalar.muli arg13 c32_i32_2250
  let c10_i32 : BitVec 32 := 10#32
  let v6652 : BitVec 32 := Scalar.addi v6651 c10_i32
  let v6653 : Index := Scalar.indexCast v6652
  ![5, v6653.toNat]
def k0_off994 (v6654 : BitVec 32) : Fin 2 → Nat :=
  let v6655 : Index := Scalar.indexCast v6654
  let c32_2252 : Index := 32#32
  ![v6655.toNat, 32]

def k0_chk337 (i : grid0.Coords) (v6654 : BitVec 32) : Prop :=
  (∀ (k0_h2 : k0_cond2 i = 1#1), ∀ a, (k0_off994 v6654) a + S1x32.size a ≤ S15360x128.size a)
theorem k0_off994_inb : ∀ (i : grid0.Coords) (v6654 : BitVec 32) (k0_hw337 : k0_chk337 i v6654), ∀ (k0_h2 : k0_cond2 i = 1#1), ∀ a, (k0_off994 v6654) a + S1x32.size a ≤ S15360x128.size a := fun i v6654 k0_hw337 k0_h2 => k0_hw337 k0_h2

def k0_off995 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2250 : BitVec 32 := 32#32
  let v6651 : BitVec 32 := Scalar.muli arg13 c32_i32_2250
  let c10_i32 : BitVec 32 := 10#32
  let v6652 : BitVec 32 := Scalar.addi v6651 c10_i32
  let v6657 : Index := Scalar.indexCast v6652
  let c32_2253 : Index := 32#32
  ![v6657.toNat, 32]
def k0_off996 (v5305 : BitVec 32) (k0_t11 : Fin (k0_t11_loop v5305).trips) : Fin 2 → Nat :=
  let c5_2255 : Index := 5#32
  let c0_i32_1648 : BitVec 32 := 0#32
  let c1_i32_1651 : BitVec 32 := 1#32
  let arg13 : BitVec 32 := Scf.iv c0_i32_1648 c1_i32_1651 k0_t11
  let c32_i32_2254 : BitVec 32 := 32#32
  let v6661 : BitVec 32 := Scalar.muli arg13 c32_i32_2254
  let c11_i32 : BitVec 32 := 11#32
  let v6662 : BitVec 32 := Scalar.addi v6661 c11_i32
  let v6663 : Index := Scalar.indexCast v6662
  ![5, v6663.toNat]
def k0_off997 (v6664 : BitVec 32) : Fin 2 → Nat :=
  let v6665 : Index := Scalar.indexCast v6664
  let c32_2256 : Index := 32#32
  ![v6665.toNat, 32]

def k0_chk338 (i : grid0.Coords) (v6664 : BitVec 32) : Prop :=
  (∀ (k0_h2 : k0_cond2 i = 1#1), ∀ a, (k0_off997 v6664) a + S1x32.size a ≤ S15360x128.size a)
theorem k0_off997_inb : ∀ (i : grid0.Coords) (v6664 : BitVec 32) (k0_hw338 : k0_chk338 i v6664), ∀ (k0_h2 : k0_cond2 i = 1#1), ∀ a, (k0_off997 v6664) a + S1x32.size a ≤ S15360x128.size a := fun i v6664 k0_hw338 k0_h2 => k0_hw338 k0_h2

def k0_off998 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2254 : BitVec 32 := 32#32
  let v6661 : BitVec 32 := Scalar.muli arg13 c32_i32_2254
  let c11_i32 : BitVec 32 := 11#32
  let v6662 : BitVec 32 := Scalar.addi v6661 c11_i32
  let v6667 : Index := Scalar.indexCast v6662
  let c32_2257 : Index := 32#32
  ![v6667.toNat, 32]
def k0_off999 (v5305 : BitVec 32) (k0_t11 : Fin (k0_t11_loop v5305).trips) : Fin 2 → Nat :=
  let c5_2259 : Index := 5#32
  let c0_i32_1648 : BitVec 32 := 0#32
  let c1_i32_1651 : BitVec 32 := 1#32
  let arg13 : BitVec 32 := Scf.iv c0_i32_1648 c1_i32_1651 k0_t11
  let c32_i32_2258 : BitVec 32 := 32#32
  let v6671 : BitVec 32 := Scalar.muli arg13 c32_i32_2258
  let c12_i32 : BitVec 32 := 12#32
  let v6672 : BitVec 32 := Scalar.addi v6671 c12_i32
  let v6673 : Index := Scalar.indexCast v6672
  ![5, v6673.toNat]
def k0_off1000 (v6674 : BitVec 32) : Fin 2 → Nat :=
  let v6675 : Index := Scalar.indexCast v6674
  let c32_2260 : Index := 32#32
  ![v6675.toNat, 32]

def k0_chk339 (i : grid0.Coords) (v6674 : BitVec 32) : Prop :=
  (∀ (k0_h2 : k0_cond2 i = 1#1), ∀ a, (k0_off1000 v6674) a + S1x32.size a ≤ S15360x128.size a)
theorem k0_off1000_inb : ∀ (i : grid0.Coords) (v6674 : BitVec 32) (k0_hw339 : k0_chk339 i v6674), ∀ (k0_h2 : k0_cond2 i = 1#1), ∀ a, (k0_off1000 v6674) a + S1x32.size a ≤ S15360x128.size a := fun i v6674 k0_hw339 k0_h2 => k0_hw339 k0_h2

def k0_off1001 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2258 : BitVec 32 := 32#32
  let v6671 : BitVec 32 := Scalar.muli arg13 c32_i32_2258
  let c12_i32 : BitVec 32 := 12#32
  let v6672 : BitVec 32 := Scalar.addi v6671 c12_i32
  let v6677 : Index := Scalar.indexCast v6672
  let c32_2261 : Index := 32#32
  ![v6677.toNat, 32]
def k0_off1002 (v5305 : BitVec 32) (k0_t11 : Fin (k0_t11_loop v5305).trips) : Fin 2 → Nat :=
  let c5_2263 : Index := 5#32
  let c0_i32_1648 : BitVec 32 := 0#32
  let c1_i32_1651 : BitVec 32 := 1#32
  let arg13 : BitVec 32 := Scf.iv c0_i32_1648 c1_i32_1651 k0_t11
  let c32_i32_2262 : BitVec 32 := 32#32
  let v6681 : BitVec 32 := Scalar.muli arg13 c32_i32_2262
  let c13_i32 : BitVec 32 := 13#32
  let v6682 : BitVec 32 := Scalar.addi v6681 c13_i32
  let v6683 : Index := Scalar.indexCast v6682
  ![5, v6683.toNat]
def k0_off1003 (v6684 : BitVec 32) : Fin 2 → Nat :=
  let v6685 : Index := Scalar.indexCast v6684
  let c32_2264 : Index := 32#32
  ![v6685.toNat, 32]

def k0_chk340 (i : grid0.Coords) (v6684 : BitVec 32) : Prop :=
  (∀ (k0_h2 : k0_cond2 i = 1#1), ∀ a, (k0_off1003 v6684) a + S1x32.size a ≤ S15360x128.size a)
theorem k0_off1003_inb : ∀ (i : grid0.Coords) (v6684 : BitVec 32) (k0_hw340 : k0_chk340 i v6684), ∀ (k0_h2 : k0_cond2 i = 1#1), ∀ a, (k0_off1003 v6684) a + S1x32.size a ≤ S15360x128.size a := fun i v6684 k0_hw340 k0_h2 => k0_hw340 k0_h2

def k0_off1004 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2262 : BitVec 32 := 32#32
  let v6681 : BitVec 32 := Scalar.muli arg13 c32_i32_2262
  let c13_i32 : BitVec 32 := 13#32
  let v6682 : BitVec 32 := Scalar.addi v6681 c13_i32
  let v6687 : Index := Scalar.indexCast v6682
  let c32_2265 : Index := 32#32
  ![v6687.toNat, 32]
def k0_off1005 (v5305 : BitVec 32) (k0_t11 : Fin (k0_t11_loop v5305).trips) : Fin 2 → Nat :=
  let c5_2267 : Index := 5#32
  let c0_i32_1648 : BitVec 32 := 0#32
  let c1_i32_1651 : BitVec 32 := 1#32
  let arg13 : BitVec 32 := Scf.iv c0_i32_1648 c1_i32_1651 k0_t11
  let c32_i32_2266 : BitVec 32 := 32#32
  let v6691 : BitVec 32 := Scalar.muli arg13 c32_i32_2266
  let c14_i32 : BitVec 32 := 14#32
  let v6692 : BitVec 32 := Scalar.addi v6691 c14_i32
  let v6693 : Index := Scalar.indexCast v6692
  ![5, v6693.toNat]
def k0_off1006 (v6694 : BitVec 32) : Fin 2 → Nat :=
  let v6695 : Index := Scalar.indexCast v6694
  let c32_2268 : Index := 32#32
  ![v6695.toNat, 32]

def k0_chk341 (i : grid0.Coords) (v6694 : BitVec 32) : Prop :=
  (∀ (k0_h2 : k0_cond2 i = 1#1), ∀ a, (k0_off1006 v6694) a + S1x32.size a ≤ S15360x128.size a)
theorem k0_off1006_inb : ∀ (i : grid0.Coords) (v6694 : BitVec 32) (k0_hw341 : k0_chk341 i v6694), ∀ (k0_h2 : k0_cond2 i = 1#1), ∀ a, (k0_off1006 v6694) a + S1x32.size a ≤ S15360x128.size a := fun i v6694 k0_hw341 k0_h2 => k0_hw341 k0_h2

def k0_off1007 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2266 : BitVec 32 := 32#32
  let v6691 : BitVec 32 := Scalar.muli arg13 c32_i32_2266
  let c14_i32 : BitVec 32 := 14#32
  let v6692 : BitVec 32 := Scalar.addi v6691 c14_i32
  let v6697 : Index := Scalar.indexCast v6692
  let c32_2269 : Index := 32#32
  ![v6697.toNat, 32]
def k0_off1008 (v5305 : BitVec 32) (k0_t11 : Fin (k0_t11_loop v5305).trips) : Fin 2 → Nat :=
  let c5_2271 : Index := 5#32
  let c0_i32_1648 : BitVec 32 := 0#32
  let c1_i32_1651 : BitVec 32 := 1#32
  let arg13 : BitVec 32 := Scf.iv c0_i32_1648 c1_i32_1651 k0_t11
  let c32_i32_2270 : BitVec 32 := 32#32
  let v6701 : BitVec 32 := Scalar.muli arg13 c32_i32_2270
  let c15_i32 : BitVec 32 := 15#32
  let v6702 : BitVec 32 := Scalar.addi v6701 c15_i32
  let v6703 : Index := Scalar.indexCast v6702
  ![5, v6703.toNat]
def k0_off1009 (v6704 : BitVec 32) : Fin 2 → Nat :=
  let v6705 : Index := Scalar.indexCast v6704
  let c32_2272 : Index := 32#32
  ![v6705.toNat, 32]

def k0_chk342 (i : grid0.Coords) (v6704 : BitVec 32) : Prop :=
  (∀ (k0_h2 : k0_cond2 i = 1#1), ∀ a, (k0_off1009 v6704) a + S1x32.size a ≤ S15360x128.size a)
theorem k0_off1009_inb : ∀ (i : grid0.Coords) (v6704 : BitVec 32) (k0_hw342 : k0_chk342 i v6704), ∀ (k0_h2 : k0_cond2 i = 1#1), ∀ a, (k0_off1009 v6704) a + S1x32.size a ≤ S15360x128.size a := fun i v6704 k0_hw342 k0_h2 => k0_hw342 k0_h2

def k0_off1010 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2270 : BitVec 32 := 32#32
  let v6701 : BitVec 32 := Scalar.muli arg13 c32_i32_2270
  let c15_i32 : BitVec 32 := 15#32
  let v6702 : BitVec 32 := Scalar.addi v6701 c15_i32
  let v6707 : Index := Scalar.indexCast v6702
  let c32_2273 : Index := 32#32
  ![v6707.toNat, 32]
def k0_off1011 (v5305 : BitVec 32) (k0_t11 : Fin (k0_t11_loop v5305).trips) : Fin 2 → Nat :=
  let c5_2275 : Index := 5#32
  let c0_i32_1648 : BitVec 32 := 0#32
  let c1_i32_1651 : BitVec 32 := 1#32
  let arg13 : BitVec 32 := Scf.iv c0_i32_1648 c1_i32_1651 k0_t11
  let c32_i32_2274 : BitVec 32 := 32#32
  let v6711 : BitVec 32 := Scalar.muli arg13 c32_i32_2274
  let c16_i32 : BitVec 32 := 16#32
  let v6712 : BitVec 32 := Scalar.addi v6711 c16_i32
  let v6713 : Index := Scalar.indexCast v6712
  ![5, v6713.toNat]
def k0_off1012 (v6714 : BitVec 32) : Fin 2 → Nat :=
  let v6715 : Index := Scalar.indexCast v6714
  let c32_2276 : Index := 32#32
  ![v6715.toNat, 32]

def k0_chk343 (i : grid0.Coords) (v6714 : BitVec 32) : Prop :=
  (∀ (k0_h2 : k0_cond2 i = 1#1), ∀ a, (k0_off1012 v6714) a + S1x32.size a ≤ S15360x128.size a)
theorem k0_off1012_inb : ∀ (i : grid0.Coords) (v6714 : BitVec 32) (k0_hw343 : k0_chk343 i v6714), ∀ (k0_h2 : k0_cond2 i = 1#1), ∀ a, (k0_off1012 v6714) a + S1x32.size a ≤ S15360x128.size a := fun i v6714 k0_hw343 k0_h2 => k0_hw343 k0_h2

def k0_off1013 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2274 : BitVec 32 := 32#32
  let v6711 : BitVec 32 := Scalar.muli arg13 c32_i32_2274
  let c16_i32 : BitVec 32 := 16#32
  let v6712 : BitVec 32 := Scalar.addi v6711 c16_i32
  let v6717 : Index := Scalar.indexCast v6712
  let c32_2277 : Index := 32#32
  ![v6717.toNat, 32]
def k0_off1014 (v5305 : BitVec 32) (k0_t11 : Fin (k0_t11_loop v5305).trips) : Fin 2 → Nat :=
  let c5_2279 : Index := 5#32
  let c0_i32_1648 : BitVec 32 := 0#32
  let c1_i32_1651 : BitVec 32 := 1#32
  let arg13 : BitVec 32 := Scf.iv c0_i32_1648 c1_i32_1651 k0_t11
  let c32_i32_2278 : BitVec 32 := 32#32
  let v6721 : BitVec 32 := Scalar.muli arg13 c32_i32_2278
  let c17_i32 : BitVec 32 := 17#32
  let v6722 : BitVec 32 := Scalar.addi v6721 c17_i32
  let v6723 : Index := Scalar.indexCast v6722
  ![5, v6723.toNat]
def k0_off1015 (v6724 : BitVec 32) : Fin 2 → Nat :=
  let v6725 : Index := Scalar.indexCast v6724
  let c32_2280 : Index := 32#32
  ![v6725.toNat, 32]

def k0_chk344 (i : grid0.Coords) (v6724 : BitVec 32) : Prop :=
  (∀ (k0_h2 : k0_cond2 i = 1#1), ∀ a, (k0_off1015 v6724) a + S1x32.size a ≤ S15360x128.size a)
theorem k0_off1015_inb : ∀ (i : grid0.Coords) (v6724 : BitVec 32) (k0_hw344 : k0_chk344 i v6724), ∀ (k0_h2 : k0_cond2 i = 1#1), ∀ a, (k0_off1015 v6724) a + S1x32.size a ≤ S15360x128.size a := fun i v6724 k0_hw344 k0_h2 => k0_hw344 k0_h2

def k0_off1016 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2278 : BitVec 32 := 32#32
  let v6721 : BitVec 32 := Scalar.muli arg13 c32_i32_2278
  let c17_i32 : BitVec 32 := 17#32
  let v6722 : BitVec 32 := Scalar.addi v6721 c17_i32
  let v6727 : Index := Scalar.indexCast v6722
  let c32_2281 : Index := 32#32
  ![v6727.toNat, 32]
def k0_off1017 (v5305 : BitVec 32) (k0_t11 : Fin (k0_t11_loop v5305).trips) : Fin 2 → Nat :=
  let c5_2283 : Index := 5#32
  let c0_i32_1648 : BitVec 32 := 0#32
  let c1_i32_1651 : BitVec 32 := 1#32
  let arg13 : BitVec 32 := Scf.iv c0_i32_1648 c1_i32_1651 k0_t11
  let c32_i32_2282 : BitVec 32 := 32#32
  let v6731 : BitVec 32 := Scalar.muli arg13 c32_i32_2282
  let c18_i32 : BitVec 32 := 18#32
  let v6732 : BitVec 32 := Scalar.addi v6731 c18_i32
  let v6733 : Index := Scalar.indexCast v6732
  ![5, v6733.toNat]
def k0_off1018 (v6734 : BitVec 32) : Fin 2 → Nat :=
  let v6735 : Index := Scalar.indexCast v6734
  let c32_2284 : Index := 32#32
  ![v6735.toNat, 32]

def k0_chk345 (i : grid0.Coords) (v6734 : BitVec 32) : Prop :=
  (∀ (k0_h2 : k0_cond2 i = 1#1), ∀ a, (k0_off1018 v6734) a + S1x32.size a ≤ S15360x128.size a)
theorem k0_off1018_inb : ∀ (i : grid0.Coords) (v6734 : BitVec 32) (k0_hw345 : k0_chk345 i v6734), ∀ (k0_h2 : k0_cond2 i = 1#1), ∀ a, (k0_off1018 v6734) a + S1x32.size a ≤ S15360x128.size a := fun i v6734 k0_hw345 k0_h2 => k0_hw345 k0_h2

def k0_off1019 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2282 : BitVec 32 := 32#32
  let v6731 : BitVec 32 := Scalar.muli arg13 c32_i32_2282
  let c18_i32 : BitVec 32 := 18#32
  let v6732 : BitVec 32 := Scalar.addi v6731 c18_i32
  let v6737 : Index := Scalar.indexCast v6732
  let c32_2285 : Index := 32#32
  ![v6737.toNat, 32]
def k0_off1020 (v5305 : BitVec 32) (k0_t11 : Fin (k0_t11_loop v5305).trips) : Fin 2 → Nat :=
  let c5_2287 : Index := 5#32
  let c0_i32_1648 : BitVec 32 := 0#32
  let c1_i32_1651 : BitVec 32 := 1#32
  let arg13 : BitVec 32 := Scf.iv c0_i32_1648 c1_i32_1651 k0_t11
  let c32_i32_2286 : BitVec 32 := 32#32
  let v6741 : BitVec 32 := Scalar.muli arg13 c32_i32_2286
  let c19_i32 : BitVec 32 := 19#32
  let v6742 : BitVec 32 := Scalar.addi v6741 c19_i32
  let v6743 : Index := Scalar.indexCast v6742
  ![5, v6743.toNat]
def k0_off1021 (v6744 : BitVec 32) : Fin 2 → Nat :=
  let v6745 : Index := Scalar.indexCast v6744
  let c32_2288 : Index := 32#32
  ![v6745.toNat, 32]

def k0_chk346 (i : grid0.Coords) (v6744 : BitVec 32) : Prop :=
  (∀ (k0_h2 : k0_cond2 i = 1#1), ∀ a, (k0_off1021 v6744) a + S1x32.size a ≤ S15360x128.size a)
theorem k0_off1021_inb : ∀ (i : grid0.Coords) (v6744 : BitVec 32) (k0_hw346 : k0_chk346 i v6744), ∀ (k0_h2 : k0_cond2 i = 1#1), ∀ a, (k0_off1021 v6744) a + S1x32.size a ≤ S15360x128.size a := fun i v6744 k0_hw346 k0_h2 => k0_hw346 k0_h2

def k0_off1022 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2286 : BitVec 32 := 32#32
  let v6741 : BitVec 32 := Scalar.muli arg13 c32_i32_2286
  let c19_i32 : BitVec 32 := 19#32
  let v6742 : BitVec 32 := Scalar.addi v6741 c19_i32
  let v6747 : Index := Scalar.indexCast v6742
  let c32_2289 : Index := 32#32
  ![v6747.toNat, 32]
def k0_off1023 (v5305 : BitVec 32) (k0_t11 : Fin (k0_t11_loop v5305).trips) : Fin 2 → Nat :=
  let c5_2291 : Index := 5#32
  let c0_i32_1648 : BitVec 32 := 0#32
  let c1_i32_1651 : BitVec 32 := 1#32
  let arg13 : BitVec 32 := Scf.iv c0_i32_1648 c1_i32_1651 k0_t11
  let c32_i32_2290 : BitVec 32 := 32#32
  let v6751 : BitVec 32 := Scalar.muli arg13 c32_i32_2290
  let c20_i32 : BitVec 32 := 20#32
  let v6752 : BitVec 32 := Scalar.addi v6751 c20_i32
  let v6753 : Index := Scalar.indexCast v6752
  ![5, v6753.toNat]
def k0_off1024 (v6754 : BitVec 32) : Fin 2 → Nat :=
  let v6755 : Index := Scalar.indexCast v6754
  let c32_2292 : Index := 32#32
  ![v6755.toNat, 32]

def k0_chk347 (i : grid0.Coords) (v6754 : BitVec 32) : Prop :=
  (∀ (k0_h2 : k0_cond2 i = 1#1), ∀ a, (k0_off1024 v6754) a + S1x32.size a ≤ S15360x128.size a)
theorem k0_off1024_inb : ∀ (i : grid0.Coords) (v6754 : BitVec 32) (k0_hw347 : k0_chk347 i v6754), ∀ (k0_h2 : k0_cond2 i = 1#1), ∀ a, (k0_off1024 v6754) a + S1x32.size a ≤ S15360x128.size a := fun i v6754 k0_hw347 k0_h2 => k0_hw347 k0_h2

def k0_off1025 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2290 : BitVec 32 := 32#32
  let v6751 : BitVec 32 := Scalar.muli arg13 c32_i32_2290
  let c20_i32 : BitVec 32 := 20#32
  let v6752 : BitVec 32 := Scalar.addi v6751 c20_i32
  let v6757 : Index := Scalar.indexCast v6752
  let c32_2293 : Index := 32#32
  ![v6757.toNat, 32]
def k0_off1026 (v5305 : BitVec 32) (k0_t11 : Fin (k0_t11_loop v5305).trips) : Fin 2 → Nat :=
  let c5_2295 : Index := 5#32
  let c0_i32_1648 : BitVec 32 := 0#32
  let c1_i32_1651 : BitVec 32 := 1#32
  let arg13 : BitVec 32 := Scf.iv c0_i32_1648 c1_i32_1651 k0_t11
  let c32_i32_2294 : BitVec 32 := 32#32
  let v6761 : BitVec 32 := Scalar.muli arg13 c32_i32_2294
  let c21_i32 : BitVec 32 := 21#32
  let v6762 : BitVec 32 := Scalar.addi v6761 c21_i32
  let v6763 : Index := Scalar.indexCast v6762
  ![5, v6763.toNat]
def k0_off1027 (v6764 : BitVec 32) : Fin 2 → Nat :=
  let v6765 : Index := Scalar.indexCast v6764
  let c32_2296 : Index := 32#32
  ![v6765.toNat, 32]

def k0_chk348 (i : grid0.Coords) (v6764 : BitVec 32) : Prop :=
  (∀ (k0_h2 : k0_cond2 i = 1#1), ∀ a, (k0_off1027 v6764) a + S1x32.size a ≤ S15360x128.size a)
theorem k0_off1027_inb : ∀ (i : grid0.Coords) (v6764 : BitVec 32) (k0_hw348 : k0_chk348 i v6764), ∀ (k0_h2 : k0_cond2 i = 1#1), ∀ a, (k0_off1027 v6764) a + S1x32.size a ≤ S15360x128.size a := fun i v6764 k0_hw348 k0_h2 => k0_hw348 k0_h2

def k0_off1028 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2294 : BitVec 32 := 32#32
  let v6761 : BitVec 32 := Scalar.muli arg13 c32_i32_2294
  let c21_i32 : BitVec 32 := 21#32
  let v6762 : BitVec 32 := Scalar.addi v6761 c21_i32
  let v6767 : Index := Scalar.indexCast v6762
  let c32_2297 : Index := 32#32
  ![v6767.toNat, 32]
def k0_off1029 (v5305 : BitVec 32) (k0_t11 : Fin (k0_t11_loop v5305).trips) : Fin 2 → Nat :=
  let c5_2299 : Index := 5#32
  let c0_i32_1648 : BitVec 32 := 0#32
  let c1_i32_1651 : BitVec 32 := 1#32
  let arg13 : BitVec 32 := Scf.iv c0_i32_1648 c1_i32_1651 k0_t11
  let c32_i32_2298 : BitVec 32 := 32#32
  let v6771 : BitVec 32 := Scalar.muli arg13 c32_i32_2298
  let c22_i32 : BitVec 32 := 22#32
  let v6772 : BitVec 32 := Scalar.addi v6771 c22_i32
  let v6773 : Index := Scalar.indexCast v6772
  ![5, v6773.toNat]
def k0_off1030 (v6774 : BitVec 32) : Fin 2 → Nat :=
  let v6775 : Index := Scalar.indexCast v6774
  let c32_2300 : Index := 32#32
  ![v6775.toNat, 32]

def k0_chk349 (i : grid0.Coords) (v6774 : BitVec 32) : Prop :=
  (∀ (k0_h2 : k0_cond2 i = 1#1), ∀ a, (k0_off1030 v6774) a + S1x32.size a ≤ S15360x128.size a)
theorem k0_off1030_inb : ∀ (i : grid0.Coords) (v6774 : BitVec 32) (k0_hw349 : k0_chk349 i v6774), ∀ (k0_h2 : k0_cond2 i = 1#1), ∀ a, (k0_off1030 v6774) a + S1x32.size a ≤ S15360x128.size a := fun i v6774 k0_hw349 k0_h2 => k0_hw349 k0_h2

def k0_off1031 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2298 : BitVec 32 := 32#32
  let v6771 : BitVec 32 := Scalar.muli arg13 c32_i32_2298
  let c22_i32 : BitVec 32 := 22#32
  let v6772 : BitVec 32 := Scalar.addi v6771 c22_i32
  let v6777 : Index := Scalar.indexCast v6772
  let c32_2301 : Index := 32#32
  ![v6777.toNat, 32]
def k0_off1032 (v5305 : BitVec 32) (k0_t11 : Fin (k0_t11_loop v5305).trips) : Fin 2 → Nat :=
  let c5_2303 : Index := 5#32
  let c0_i32_1648 : BitVec 32 := 0#32
  let c1_i32_1651 : BitVec 32 := 1#32
  let arg13 : BitVec 32 := Scf.iv c0_i32_1648 c1_i32_1651 k0_t11
  let c32_i32_2302 : BitVec 32 := 32#32
  let v6781 : BitVec 32 := Scalar.muli arg13 c32_i32_2302
  let c23_i32 : BitVec 32 := 23#32
  let v6782 : BitVec 32 := Scalar.addi v6781 c23_i32
  let v6783 : Index := Scalar.indexCast v6782
  ![5, v6783.toNat]
def k0_off1033 (v6784 : BitVec 32) : Fin 2 → Nat :=
  let v6785 : Index := Scalar.indexCast v6784
  let c32_2304 : Index := 32#32
  ![v6785.toNat, 32]

def k0_chk350 (i : grid0.Coords) (v6784 : BitVec 32) : Prop :=
  (∀ (k0_h2 : k0_cond2 i = 1#1), ∀ a, (k0_off1033 v6784) a + S1x32.size a ≤ S15360x128.size a)
theorem k0_off1033_inb : ∀ (i : grid0.Coords) (v6784 : BitVec 32) (k0_hw350 : k0_chk350 i v6784), ∀ (k0_h2 : k0_cond2 i = 1#1), ∀ a, (k0_off1033 v6784) a + S1x32.size a ≤ S15360x128.size a := fun i v6784 k0_hw350 k0_h2 => k0_hw350 k0_h2

def k0_off1034 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2302 : BitVec 32 := 32#32
  let v6781 : BitVec 32 := Scalar.muli arg13 c32_i32_2302
  let c23_i32 : BitVec 32 := 23#32
  let v6782 : BitVec 32 := Scalar.addi v6781 c23_i32
  let v6787 : Index := Scalar.indexCast v6782
  let c32_2305 : Index := 32#32
  ![v6787.toNat, 32]
def k0_off1035 (v5305 : BitVec 32) (k0_t11 : Fin (k0_t11_loop v5305).trips) : Fin 2 → Nat :=
  let c5_2307 : Index := 5#32
  let c0_i32_1648 : BitVec 32 := 0#32
  let c1_i32_1651 : BitVec 32 := 1#32
  let arg13 : BitVec 32 := Scf.iv c0_i32_1648 c1_i32_1651 k0_t11
  let c32_i32_2306 : BitVec 32 := 32#32
  let v6791 : BitVec 32 := Scalar.muli arg13 c32_i32_2306
  let c24_i32 : BitVec 32 := 24#32
  let v6792 : BitVec 32 := Scalar.addi v6791 c24_i32
  let v6793 : Index := Scalar.indexCast v6792
  ![5, v6793.toNat]
def k0_off1036 (v6794 : BitVec 32) : Fin 2 → Nat :=
  let v6795 : Index := Scalar.indexCast v6794
  let c32_2308 : Index := 32#32
  ![v6795.toNat, 32]

def k0_chk351 (i : grid0.Coords) (v6794 : BitVec 32) : Prop :=
  (∀ (k0_h2 : k0_cond2 i = 1#1), ∀ a, (k0_off1036 v6794) a + S1x32.size a ≤ S15360x128.size a)
theorem k0_off1036_inb : ∀ (i : grid0.Coords) (v6794 : BitVec 32) (k0_hw351 : k0_chk351 i v6794), ∀ (k0_h2 : k0_cond2 i = 1#1), ∀ a, (k0_off1036 v6794) a + S1x32.size a ≤ S15360x128.size a := fun i v6794 k0_hw351 k0_h2 => k0_hw351 k0_h2

def k0_off1037 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2306 : BitVec 32 := 32#32
  let v6791 : BitVec 32 := Scalar.muli arg13 c32_i32_2306
  let c24_i32 : BitVec 32 := 24#32
  let v6792 : BitVec 32 := Scalar.addi v6791 c24_i32
  let v6797 : Index := Scalar.indexCast v6792
  let c32_2309 : Index := 32#32
  ![v6797.toNat, 32]
def k0_off1038 (v5305 : BitVec 32) (k0_t11 : Fin (k0_t11_loop v5305).trips) : Fin 2 → Nat :=
  let c5_2311 : Index := 5#32
  let c0_i32_1648 : BitVec 32 := 0#32
  let c1_i32_1651 : BitVec 32 := 1#32
  let arg13 : BitVec 32 := Scf.iv c0_i32_1648 c1_i32_1651 k0_t11
  let c32_i32_2310 : BitVec 32 := 32#32
  let v6801 : BitVec 32 := Scalar.muli arg13 c32_i32_2310
  let c25_i32 : BitVec 32 := 25#32
  let v6802 : BitVec 32 := Scalar.addi v6801 c25_i32
  let v6803 : Index := Scalar.indexCast v6802
  ![5, v6803.toNat]
def k0_off1039 (v6804 : BitVec 32) : Fin 2 → Nat :=
  let v6805 : Index := Scalar.indexCast v6804
  let c32_2312 : Index := 32#32
  ![v6805.toNat, 32]

def k0_chk352 (i : grid0.Coords) (v6804 : BitVec 32) : Prop :=
  (∀ (k0_h2 : k0_cond2 i = 1#1), ∀ a, (k0_off1039 v6804) a + S1x32.size a ≤ S15360x128.size a)
theorem k0_off1039_inb : ∀ (i : grid0.Coords) (v6804 : BitVec 32) (k0_hw352 : k0_chk352 i v6804), ∀ (k0_h2 : k0_cond2 i = 1#1), ∀ a, (k0_off1039 v6804) a + S1x32.size a ≤ S15360x128.size a := fun i v6804 k0_hw352 k0_h2 => k0_hw352 k0_h2

def k0_off1040 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2310 : BitVec 32 := 32#32
  let v6801 : BitVec 32 := Scalar.muli arg13 c32_i32_2310
  let c25_i32 : BitVec 32 := 25#32
  let v6802 : BitVec 32 := Scalar.addi v6801 c25_i32
  let v6807 : Index := Scalar.indexCast v6802
  let c32_2313 : Index := 32#32
  ![v6807.toNat, 32]
def k0_off1041 (v5305 : BitVec 32) (k0_t11 : Fin (k0_t11_loop v5305).trips) : Fin 2 → Nat :=
  let c5_2315 : Index := 5#32
  let c0_i32_1648 : BitVec 32 := 0#32
  let c1_i32_1651 : BitVec 32 := 1#32
  let arg13 : BitVec 32 := Scf.iv c0_i32_1648 c1_i32_1651 k0_t11
  let c32_i32_2314 : BitVec 32 := 32#32
  let v6811 : BitVec 32 := Scalar.muli arg13 c32_i32_2314
  let c26_i32 : BitVec 32 := 26#32
  let v6812 : BitVec 32 := Scalar.addi v6811 c26_i32
  let v6813 : Index := Scalar.indexCast v6812
  ![5, v6813.toNat]
def k0_off1042 (v6814 : BitVec 32) : Fin 2 → Nat :=
  let v6815 : Index := Scalar.indexCast v6814
  let c32_2316 : Index := 32#32
  ![v6815.toNat, 32]

def k0_chk353 (i : grid0.Coords) (v6814 : BitVec 32) : Prop :=
  (∀ (k0_h2 : k0_cond2 i = 1#1), ∀ a, (k0_off1042 v6814) a + S1x32.size a ≤ S15360x128.size a)
theorem k0_off1042_inb : ∀ (i : grid0.Coords) (v6814 : BitVec 32) (k0_hw353 : k0_chk353 i v6814), ∀ (k0_h2 : k0_cond2 i = 1#1), ∀ a, (k0_off1042 v6814) a + S1x32.size a ≤ S15360x128.size a := fun i v6814 k0_hw353 k0_h2 => k0_hw353 k0_h2

def k0_off1043 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2314 : BitVec 32 := 32#32
  let v6811 : BitVec 32 := Scalar.muli arg13 c32_i32_2314
  let c26_i32 : BitVec 32 := 26#32
  let v6812 : BitVec 32 := Scalar.addi v6811 c26_i32
  let v6817 : Index := Scalar.indexCast v6812
  let c32_2317 : Index := 32#32
  ![v6817.toNat, 32]
def k0_off1044 (v5305 : BitVec 32) (k0_t11 : Fin (k0_t11_loop v5305).trips) : Fin 2 → Nat :=
  let c5_2319 : Index := 5#32
  let c0_i32_1648 : BitVec 32 := 0#32
  let c1_i32_1651 : BitVec 32 := 1#32
  let arg13 : BitVec 32 := Scf.iv c0_i32_1648 c1_i32_1651 k0_t11
  let c32_i32_2318 : BitVec 32 := 32#32
  let v6821 : BitVec 32 := Scalar.muli arg13 c32_i32_2318
  let c27_i32 : BitVec 32 := 27#32
  let v6822 : BitVec 32 := Scalar.addi v6821 c27_i32
  let v6823 : Index := Scalar.indexCast v6822
  ![5, v6823.toNat]
def k0_off1045 (v6824 : BitVec 32) : Fin 2 → Nat :=
  let v6825 : Index := Scalar.indexCast v6824
  let c32_2320 : Index := 32#32
  ![v6825.toNat, 32]

def k0_chk354 (i : grid0.Coords) (v6824 : BitVec 32) : Prop :=
  (∀ (k0_h2 : k0_cond2 i = 1#1), ∀ a, (k0_off1045 v6824) a + S1x32.size a ≤ S15360x128.size a)
theorem k0_off1045_inb : ∀ (i : grid0.Coords) (v6824 : BitVec 32) (k0_hw354 : k0_chk354 i v6824), ∀ (k0_h2 : k0_cond2 i = 1#1), ∀ a, (k0_off1045 v6824) a + S1x32.size a ≤ S15360x128.size a := fun i v6824 k0_hw354 k0_h2 => k0_hw354 k0_h2

def k0_off1046 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2318 : BitVec 32 := 32#32
  let v6821 : BitVec 32 := Scalar.muli arg13 c32_i32_2318
  let c27_i32 : BitVec 32 := 27#32
  let v6822 : BitVec 32 := Scalar.addi v6821 c27_i32
  let v6827 : Index := Scalar.indexCast v6822
  let c32_2321 : Index := 32#32
  ![v6827.toNat, 32]
def k0_off1047 (v5305 : BitVec 32) (k0_t11 : Fin (k0_t11_loop v5305).trips) : Fin 2 → Nat :=
  let c5_2323 : Index := 5#32
  let c0_i32_1648 : BitVec 32 := 0#32
  let c1_i32_1651 : BitVec 32 := 1#32
  let arg13 : BitVec 32 := Scf.iv c0_i32_1648 c1_i32_1651 k0_t11
  let c32_i32_2322 : BitVec 32 := 32#32
  let v6831 : BitVec 32 := Scalar.muli arg13 c32_i32_2322
  let c28_i32 : BitVec 32 := 28#32
  let v6832 : BitVec 32 := Scalar.addi v6831 c28_i32
  let v6833 : Index := Scalar.indexCast v6832
  ![5, v6833.toNat]
def k0_off1048 (v6834 : BitVec 32) : Fin 2 → Nat :=
  let v6835 : Index := Scalar.indexCast v6834
  let c32_2324 : Index := 32#32
  ![v6835.toNat, 32]

def k0_chk355 (i : grid0.Coords) (v6834 : BitVec 32) : Prop :=
  (∀ (k0_h2 : k0_cond2 i = 1#1), ∀ a, (k0_off1048 v6834) a + S1x32.size a ≤ S15360x128.size a)
theorem k0_off1048_inb : ∀ (i : grid0.Coords) (v6834 : BitVec 32) (k0_hw355 : k0_chk355 i v6834), ∀ (k0_h2 : k0_cond2 i = 1#1), ∀ a, (k0_off1048 v6834) a + S1x32.size a ≤ S15360x128.size a := fun i v6834 k0_hw355 k0_h2 => k0_hw355 k0_h2

def k0_off1049 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2322 : BitVec 32 := 32#32
  let v6831 : BitVec 32 := Scalar.muli arg13 c32_i32_2322
  let c28_i32 : BitVec 32 := 28#32
  let v6832 : BitVec 32 := Scalar.addi v6831 c28_i32
  let v6837 : Index := Scalar.indexCast v6832
  let c32_2325 : Index := 32#32
  ![v6837.toNat, 32]
def k0_off1050 (v5305 : BitVec 32) (k0_t11 : Fin (k0_t11_loop v5305).trips) : Fin 2 → Nat :=
  let c5_2328 : Index := 5#32
  let c0_i32_1648 : BitVec 32 := 0#32
  let c1_i32_1651 : BitVec 32 := 1#32
  let arg13 : BitVec 32 := Scf.iv c0_i32_1648 c1_i32_1651 k0_t11
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6843 : Index := Scalar.indexCast v6842
  ![5, v6843.toNat]
def k0_off1051 (v6844 : BitVec 32) : Fin 2 → Nat :=
  let v6845 : Index := Scalar.indexCast v6844
  let c32_2329 : Index := 32#32
  ![v6845.toNat, 32]

def k0_chk356 (i : grid0.Coords) (v6844 : BitVec 32) : Prop :=
  (∀ (k0_h2 : k0_cond2 i = 1#1), ∀ a, (k0_off1051 v6844) a + S1x32.size a ≤ S15360x128.size a)
theorem k0_off1051_inb : ∀ (i : grid0.Coords) (v6844 : BitVec 32) (k0_hw356 : k0_chk356 i v6844), ∀ (k0_h2 : k0_cond2 i = 1#1), ∀ a, (k0_off1051 v6844) a + S1x32.size a ≤ S15360x128.size a := fun i v6844 k0_hw356 k0_h2 => k0_hw356 k0_h2

def k0_off1052 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6847 : Index := Scalar.indexCast v6842
  let c32_2330 : Index := 32#32
  ![v6847.toNat, 32]
def k0_off1053 (v5305 : BitVec 32) (k0_t11 : Fin (k0_t11_loop v5305).trips) : Fin 2 → Nat :=
  let c5_2332 : Index := 5#32
  let c0_i32_1648 : BitVec 32 := 0#32
  let c1_i32_1651 : BitVec 32 := 1#32
  let arg13 : BitVec 32 := Scf.iv c0_i32_1648 c1_i32_1651 k0_t11
  let c32_i32_2331 : BitVec 32 := 32#32
  let v6851 : BitVec 32 := Scalar.muli arg13 c32_i32_2331
  let c30_i32 : BitVec 32 := 30#32
  let v6852 : BitVec 32 := Scalar.addi v6851 c30_i32
  let v6853 : Index := Scalar.indexCast v6852
  ![5, v6853.toNat]
def k0_off1054 (v6854 : BitVec 32) : Fin 2 → Nat :=
  let v6855 : Index := Scalar.indexCast v6854
  let c32_2333 : Index := 32#32
  ![v6855.toNat, 32]

def k0_chk357 (i : grid0.Coords) (v6854 : BitVec 32) : Prop :=
  (∀ (k0_h2 : k0_cond2 i = 1#1), ∀ a, (k0_off1054 v6854) a + S1x32.size a ≤ S15360x128.size a)
theorem k0_off1054_inb : ∀ (i : grid0.Coords) (v6854 : BitVec 32) (k0_hw357 : k0_chk357 i v6854), ∀ (k0_h2 : k0_cond2 i = 1#1), ∀ a, (k0_off1054 v6854) a + S1x32.size a ≤ S15360x128.size a := fun i v6854 k0_hw357 k0_h2 => k0_hw357 k0_h2

def k0_off1055 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2331 : BitVec 32 := 32#32
  let v6851 : BitVec 32 := Scalar.muli arg13 c32_i32_2331
  let c30_i32 : BitVec 32 := 30#32
  let v6852 : BitVec 32 := Scalar.addi v6851 c30_i32
  let v6857 : Index := Scalar.indexCast v6852
  let c32_2334 : Index := 32#32
  ![v6857.toNat, 32]
def k0_off1056 (v5305 : BitVec 32) (k0_t11 : Fin (k0_t11_loop v5305).trips) : Fin 2 → Nat :=
  let c5_2336 : Index := 5#32
  let c0_i32_1648 : BitVec 32 := 0#32
  let c1_i32_1651 : BitVec 32 := 1#32
  let arg13 : BitVec 32 := Scf.iv c0_i32_1648 c1_i32_1651 k0_t11
  let c32_i32_2335 : BitVec 32 := 32#32
  let v6861 : BitVec 32 := Scalar.muli arg13 c32_i32_2335
  let c31_i32 : BitVec 32 := 31#32
  let v6862 : BitVec 32 := Scalar.addi v6861 c31_i32
  let v6863 : Index := Scalar.indexCast v6862
  ![5, v6863.toNat]
def k0_off1057 (v6864 : BitVec 32) : Fin 2 → Nat :=
  let v6865 : Index := Scalar.indexCast v6864
  let c32_2337 : Index := 32#32
  ![v6865.toNat, 32]

def k0_chk358 (i : grid0.Coords) (v6864 : BitVec 32) : Prop :=
  (∀ (k0_h2 : k0_cond2 i = 1#1), ∀ a, (k0_off1057 v6864) a + S1x32.size a ≤ S15360x128.size a)
theorem k0_off1057_inb : ∀ (i : grid0.Coords) (v6864 : BitVec 32) (k0_hw358 : k0_chk358 i v6864), ∀ (k0_h2 : k0_cond2 i = 1#1), ∀ a, (k0_off1057 v6864) a + S1x32.size a ≤ S15360x128.size a := fun i v6864 k0_hw358 k0_h2 => k0_hw358 k0_h2

def k0_off1058 (v5305 : BitVec 32) (k0_t11 : Fin (k0_t11_loop v5305).trips) : Fin 2 → Nat :=
  let c0_i32_1648 : BitVec 32 := 0#32
  let c1_i32_1651 : BitVec 32 := 1#32
  let arg13 : BitVec 32 := Scf.iv c0_i32_1648 c1_i32_1651 k0_t11
  let c32_i32_2335 : BitVec 32 := 32#32
  let v6861 : BitVec 32 := Scalar.muli arg13 c32_i32_2335
  let c31_i32 : BitVec 32 := 31#32
  let v6862 : BitVec 32 := Scalar.addi v6861 c31_i32
  let v6867 : Index := Scalar.indexCast v6862
  let c32_2338 : Index := 32#32
  ![v6867.toNat, 32]
@[reducible] def k0_t12_loop (v5305 : BitVec 32) : Scf.Loop 32 :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let v5345 : BitVec 32 := Scalar.addi c0_i32_1648 v5344
  let c1_i32_1652 : BitVec 32 := 1#32
  ⟨v5348, v5345, c1_i32_1652⟩
def k0_off1059 (v5305 : BitVec 32) (k0_t12 : Fin (k0_t12_loop v5305).trips) : Fin 2 → Nat :=
  let c5_2208 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6553 : Index := Scalar.indexCast v6552
  ![5, v6553.toNat]
def k0_off1060 (v6554 : BitVec 32) : Fin 2 → Nat :=
  let v6555 : Index := Scalar.indexCast v6554
  let c32 : Index := 32#32
  ![v6555.toNat, 32]

def k0_chk359 (i : grid0.Coords) (v6554 : BitVec 32) : Prop :=
  (∀ (k0_h2 : k0_cond2 i = 1#1), ∀ a, (k0_off1060 v6554) a + S1x32.size a ≤ S15360x128.size a)
theorem k0_off1060_inb : ∀ (i : grid0.Coords) (v6554 : BitVec 32) (k0_hw359 : k0_chk359 i v6554), ∀ (k0_h2 : k0_cond2 i = 1#1), ∀ a, (k0_off1060 v6554) a + S1x32.size a ≤ S15360x128.size a := fun i v6554 k0_hw359 k0_h2 => k0_hw359 k0_h2

def k0_off1061 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2206 : BitVec 32 := 32#32
  let v6551 : BitVec 32 := Scalar.muli arg13 c32_i32_2206
  let c0_i32_2207 : BitVec 32 := 0#32
  let v6552 : BitVec 32 := Scalar.addi v6551 c0_i32_2207
  let v6557 : Index := Scalar.indexCast v6552
  let c32_2209 : Index := 32#32
  ![v6557.toNat, 32]
def k0_off1062 (v5305 : BitVec 32) (k0_t12 : Fin (k0_t12_loop v5305).trips) : Fin 2 → Nat :=
  let c5_2212 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6563 : Index := Scalar.indexCast v6562
  ![5, v6563.toNat]
def k0_off1063 (v6564 : BitVec 32) : Fin 2 → Nat :=
  let v6565 : Index := Scalar.indexCast v6564
  let c32_2213 : Index := 32#32
  ![v6565.toNat, 32]

def k0_chk360 (i : grid0.Coords) (v6564 : BitVec 32) : Prop :=
  (∀ (k0_h2 : k0_cond2 i = 1#1), ∀ a, (k0_off1063 v6564) a + S1x32.size a ≤ S15360x128.size a)
theorem k0_off1063_inb : ∀ (i : grid0.Coords) (v6564 : BitVec 32) (k0_hw360 : k0_chk360 i v6564), ∀ (k0_h2 : k0_cond2 i = 1#1), ∀ a, (k0_off1063 v6564) a + S1x32.size a ≤ S15360x128.size a := fun i v6564 k0_hw360 k0_h2 => k0_hw360 k0_h2

def k0_off1064 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2210 : BitVec 32 := 32#32
  let v6561 : BitVec 32 := Scalar.muli arg13 c32_i32_2210
  let c1_i32_2211 : BitVec 32 := 1#32
  let v6562 : BitVec 32 := Scalar.addi v6561 c1_i32_2211
  let v6567 : Index := Scalar.indexCast v6562
  let c32_2214 : Index := 32#32
  ![v6567.toNat, 32]
def k0_off1065 (v5305 : BitVec 32) (k0_t12 : Fin (k0_t12_loop v5305).trips) : Fin 2 → Nat :=
  let c5_2217 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6573 : Index := Scalar.indexCast v6572
  ![5, v6573.toNat]
def k0_off1066 (v6574 : BitVec 32) : Fin 2 → Nat :=
  let v6575 : Index := Scalar.indexCast v6574
  let c32_2218 : Index := 32#32
  ![v6575.toNat, 32]

def k0_chk361 (i : grid0.Coords) (v6574 : BitVec 32) : Prop :=
  (∀ (k0_h2 : k0_cond2 i = 1#1), ∀ a, (k0_off1066 v6574) a + S1x32.size a ≤ S15360x128.size a)
theorem k0_off1066_inb : ∀ (i : grid0.Coords) (v6574 : BitVec 32) (k0_hw361 : k0_chk361 i v6574), ∀ (k0_h2 : k0_cond2 i = 1#1), ∀ a, (k0_off1066 v6574) a + S1x32.size a ≤ S15360x128.size a := fun i v6574 k0_hw361 k0_h2 => k0_hw361 k0_h2

def k0_off1067 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2215 : BitVec 32 := 32#32
  let v6571 : BitVec 32 := Scalar.muli arg13 c32_i32_2215
  let c2_i32_2216 : BitVec 32 := 2#32
  let v6572 : BitVec 32 := Scalar.addi v6571 c2_i32_2216
  let v6577 : Index := Scalar.indexCast v6572
  let c32_2219 : Index := 32#32
  ![v6577.toNat, 32]
def k0_off1068 (v5305 : BitVec 32) (k0_t12 : Fin (k0_t12_loop v5305).trips) : Fin 2 → Nat :=
  let c5_2222 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6583 : Index := Scalar.indexCast v6582
  ![5, v6583.toNat]
def k0_off1069 (v6584 : BitVec 32) : Fin 2 → Nat :=
  let v6585 : Index := Scalar.indexCast v6584
  let c32_2223 : Index := 32#32
  ![v6585.toNat, 32]

def k0_chk362 (i : grid0.Coords) (v6584 : BitVec 32) : Prop :=
  (∀ (k0_h2 : k0_cond2 i = 1#1), ∀ a, (k0_off1069 v6584) a + S1x32.size a ≤ S15360x128.size a)
theorem k0_off1069_inb : ∀ (i : grid0.Coords) (v6584 : BitVec 32) (k0_hw362 : k0_chk362 i v6584), ∀ (k0_h2 : k0_cond2 i = 1#1), ∀ a, (k0_off1069 v6584) a + S1x32.size a ≤ S15360x128.size a := fun i v6584 k0_hw362 k0_h2 => k0_hw362 k0_h2

def k0_off1070 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2220 : BitVec 32 := 32#32
  let v6581 : BitVec 32 := Scalar.muli arg13 c32_i32_2220
  let c3_i32_2221 : BitVec 32 := 3#32
  let v6582 : BitVec 32 := Scalar.addi v6581 c3_i32_2221
  let v6587 : Index := Scalar.indexCast v6582
  let c32_2224 : Index := 32#32
  ![v6587.toNat, 32]
def k0_off1071 (v5305 : BitVec 32) (k0_t12 : Fin (k0_t12_loop v5305).trips) : Fin 2 → Nat :=
  let c5_2227 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6593 : Index := Scalar.indexCast v6592
  ![5, v6593.toNat]
def k0_off1072 (v6594 : BitVec 32) : Fin 2 → Nat :=
  let v6595 : Index := Scalar.indexCast v6594
  let c32_2228 : Index := 32#32
  ![v6595.toNat, 32]

def k0_chk363 (i : grid0.Coords) (v6594 : BitVec 32) : Prop :=
  (∀ (k0_h2 : k0_cond2 i = 1#1), ∀ a, (k0_off1072 v6594) a + S1x32.size a ≤ S15360x128.size a)
theorem k0_off1072_inb : ∀ (i : grid0.Coords) (v6594 : BitVec 32) (k0_hw363 : k0_chk363 i v6594), ∀ (k0_h2 : k0_cond2 i = 1#1), ∀ a, (k0_off1072 v6594) a + S1x32.size a ≤ S15360x128.size a := fun i v6594 k0_hw363 k0_h2 => k0_hw363 k0_h2

def k0_off1073 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2225 : BitVec 32 := 32#32
  let v6591 : BitVec 32 := Scalar.muli arg13 c32_i32_2225
  let c4_i32_2226 : BitVec 32 := 4#32
  let v6592 : BitVec 32 := Scalar.addi v6591 c4_i32_2226
  let v6597 : Index := Scalar.indexCast v6592
  let c32_2229 : Index := 32#32
  ![v6597.toNat, 32]
def k0_off1074 (v5305 : BitVec 32) (k0_t12 : Fin (k0_t12_loop v5305).trips) : Fin 2 → Nat :=
  let c5_2231 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2230 : BitVec 32 := 32#32
  let v6601 : BitVec 32 := Scalar.muli arg13 c32_i32_2230
  let c5_i32 : BitVec 32 := 5#32
  let v6602 : BitVec 32 := Scalar.addi v6601 c5_i32
  let v6603 : Index := Scalar.indexCast v6602
  ![5, v6603.toNat]
def k0_off1075 (v6604 : BitVec 32) : Fin 2 → Nat :=
  let v6605 : Index := Scalar.indexCast v6604
  let c32_2232 : Index := 32#32
  ![v6605.toNat, 32]

def k0_chk364 (i : grid0.Coords) (v6604 : BitVec 32) : Prop :=
  (∀ (k0_h2 : k0_cond2 i = 1#1), ∀ a, (k0_off1075 v6604) a + S1x32.size a ≤ S15360x128.size a)
theorem k0_off1075_inb : ∀ (i : grid0.Coords) (v6604 : BitVec 32) (k0_hw364 : k0_chk364 i v6604), ∀ (k0_h2 : k0_cond2 i = 1#1), ∀ a, (k0_off1075 v6604) a + S1x32.size a ≤ S15360x128.size a := fun i v6604 k0_hw364 k0_h2 => k0_hw364 k0_h2

def k0_off1076 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2230 : BitVec 32 := 32#32
  let v6601 : BitVec 32 := Scalar.muli arg13 c32_i32_2230
  let c5_i32 : BitVec 32 := 5#32
  let v6602 : BitVec 32 := Scalar.addi v6601 c5_i32
  let v6607 : Index := Scalar.indexCast v6602
  let c32_2233 : Index := 32#32
  ![v6607.toNat, 32]
def k0_off1077 (v5305 : BitVec 32) (k0_t12 : Fin (k0_t12_loop v5305).trips) : Fin 2 → Nat :=
  let c5_2235 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2234 : BitVec 32 := 32#32
  let v6611 : BitVec 32 := Scalar.muli arg13 c32_i32_2234
  let c6_i32 : BitVec 32 := 6#32
  let v6612 : BitVec 32 := Scalar.addi v6611 c6_i32
  let v6613 : Index := Scalar.indexCast v6612
  ![5, v6613.toNat]
def k0_off1078 (v6614 : BitVec 32) : Fin 2 → Nat :=
  let v6615 : Index := Scalar.indexCast v6614
  let c32_2236 : Index := 32#32
  ![v6615.toNat, 32]

def k0_chk365 (i : grid0.Coords) (v6614 : BitVec 32) : Prop :=
  (∀ (k0_h2 : k0_cond2 i = 1#1), ∀ a, (k0_off1078 v6614) a + S1x32.size a ≤ S15360x128.size a)
theorem k0_off1078_inb : ∀ (i : grid0.Coords) (v6614 : BitVec 32) (k0_hw365 : k0_chk365 i v6614), ∀ (k0_h2 : k0_cond2 i = 1#1), ∀ a, (k0_off1078 v6614) a + S1x32.size a ≤ S15360x128.size a := fun i v6614 k0_hw365 k0_h2 => k0_hw365 k0_h2

def k0_off1079 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2234 : BitVec 32 := 32#32
  let v6611 : BitVec 32 := Scalar.muli arg13 c32_i32_2234
  let c6_i32 : BitVec 32 := 6#32
  let v6612 : BitVec 32 := Scalar.addi v6611 c6_i32
  let v6617 : Index := Scalar.indexCast v6612
  let c32_2237 : Index := 32#32
  ![v6617.toNat, 32]
def k0_off1080 (v5305 : BitVec 32) (k0_t12 : Fin (k0_t12_loop v5305).trips) : Fin 2 → Nat :=
  let c5_2239 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2238 : BitVec 32 := 32#32
  let v6621 : BitVec 32 := Scalar.muli arg13 c32_i32_2238
  let c7_i32 : BitVec 32 := 7#32
  let v6622 : BitVec 32 := Scalar.addi v6621 c7_i32
  let v6623 : Index := Scalar.indexCast v6622
  ![5, v6623.toNat]
def k0_off1081 (v6624 : BitVec 32) : Fin 2 → Nat :=
  let v6625 : Index := Scalar.indexCast v6624
  let c32_2240 : Index := 32#32
  ![v6625.toNat, 32]

def k0_chk366 (i : grid0.Coords) (v6624 : BitVec 32) : Prop :=
  (∀ (k0_h2 : k0_cond2 i = 1#1), ∀ a, (k0_off1081 v6624) a + S1x32.size a ≤ S15360x128.size a)
theorem k0_off1081_inb : ∀ (i : grid0.Coords) (v6624 : BitVec 32) (k0_hw366 : k0_chk366 i v6624), ∀ (k0_h2 : k0_cond2 i = 1#1), ∀ a, (k0_off1081 v6624) a + S1x32.size a ≤ S15360x128.size a := fun i v6624 k0_hw366 k0_h2 => k0_hw366 k0_h2

def k0_off1082 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2238 : BitVec 32 := 32#32
  let v6621 : BitVec 32 := Scalar.muli arg13 c32_i32_2238
  let c7_i32 : BitVec 32 := 7#32
  let v6622 : BitVec 32 := Scalar.addi v6621 c7_i32
  let v6627 : Index := Scalar.indexCast v6622
  let c32_2241 : Index := 32#32
  ![v6627.toNat, 32]
def k0_off1083 (v5305 : BitVec 32) (k0_t12 : Fin (k0_t12_loop v5305).trips) : Fin 2 → Nat :=
  let c5_2243 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2242 : BitVec 32 := 32#32
  let v6631 : BitVec 32 := Scalar.muli arg13 c32_i32_2242
  let c8_i32 : BitVec 32 := 8#32
  let v6632 : BitVec 32 := Scalar.addi v6631 c8_i32
  let v6633 : Index := Scalar.indexCast v6632
  ![5, v6633.toNat]
def k0_off1084 (v6634 : BitVec 32) : Fin 2 → Nat :=
  let v6635 : Index := Scalar.indexCast v6634
  let c32_2244 : Index := 32#32
  ![v6635.toNat, 32]

def k0_chk367 (i : grid0.Coords) (v6634 : BitVec 32) : Prop :=
  (∀ (k0_h2 : k0_cond2 i = 1#1), ∀ a, (k0_off1084 v6634) a + S1x32.size a ≤ S15360x128.size a)
theorem k0_off1084_inb : ∀ (i : grid0.Coords) (v6634 : BitVec 32) (k0_hw367 : k0_chk367 i v6634), ∀ (k0_h2 : k0_cond2 i = 1#1), ∀ a, (k0_off1084 v6634) a + S1x32.size a ≤ S15360x128.size a := fun i v6634 k0_hw367 k0_h2 => k0_hw367 k0_h2

def k0_off1085 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2242 : BitVec 32 := 32#32
  let v6631 : BitVec 32 := Scalar.muli arg13 c32_i32_2242
  let c8_i32 : BitVec 32 := 8#32
  let v6632 : BitVec 32 := Scalar.addi v6631 c8_i32
  let v6637 : Index := Scalar.indexCast v6632
  let c32_2245 : Index := 32#32
  ![v6637.toNat, 32]
def k0_off1086 (v5305 : BitVec 32) (k0_t12 : Fin (k0_t12_loop v5305).trips) : Fin 2 → Nat :=
  let c5_2247 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2246 : BitVec 32 := 32#32
  let v6641 : BitVec 32 := Scalar.muli arg13 c32_i32_2246
  let c9_i32 : BitVec 32 := 9#32
  let v6642 : BitVec 32 := Scalar.addi v6641 c9_i32
  let v6643 : Index := Scalar.indexCast v6642
  ![5, v6643.toNat]
def k0_off1087 (v6644 : BitVec 32) : Fin 2 → Nat :=
  let v6645 : Index := Scalar.indexCast v6644
  let c32_2248 : Index := 32#32
  ![v6645.toNat, 32]

def k0_chk368 (i : grid0.Coords) (v6644 : BitVec 32) : Prop :=
  (∀ (k0_h2 : k0_cond2 i = 1#1), ∀ a, (k0_off1087 v6644) a + S1x32.size a ≤ S15360x128.size a)
theorem k0_off1087_inb : ∀ (i : grid0.Coords) (v6644 : BitVec 32) (k0_hw368 : k0_chk368 i v6644), ∀ (k0_h2 : k0_cond2 i = 1#1), ∀ a, (k0_off1087 v6644) a + S1x32.size a ≤ S15360x128.size a := fun i v6644 k0_hw368 k0_h2 => k0_hw368 k0_h2

def k0_off1088 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2246 : BitVec 32 := 32#32
  let v6641 : BitVec 32 := Scalar.muli arg13 c32_i32_2246
  let c9_i32 : BitVec 32 := 9#32
  let v6642 : BitVec 32 := Scalar.addi v6641 c9_i32
  let v6647 : Index := Scalar.indexCast v6642
  let c32_2249 : Index := 32#32
  ![v6647.toNat, 32]
def k0_off1089 (v5305 : BitVec 32) (k0_t12 : Fin (k0_t12_loop v5305).trips) : Fin 2 → Nat :=
  let c5_2251 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2250 : BitVec 32 := 32#32
  let v6651 : BitVec 32 := Scalar.muli arg13 c32_i32_2250
  let c10_i32 : BitVec 32 := 10#32
  let v6652 : BitVec 32 := Scalar.addi v6651 c10_i32
  let v6653 : Index := Scalar.indexCast v6652
  ![5, v6653.toNat]
def k0_off1090 (v6654 : BitVec 32) : Fin 2 → Nat :=
  let v6655 : Index := Scalar.indexCast v6654
  let c32_2252 : Index := 32#32
  ![v6655.toNat, 32]

def k0_chk369 (i : grid0.Coords) (v6654 : BitVec 32) : Prop :=
  (∀ (k0_h2 : k0_cond2 i = 1#1), ∀ a, (k0_off1090 v6654) a + S1x32.size a ≤ S15360x128.size a)
theorem k0_off1090_inb : ∀ (i : grid0.Coords) (v6654 : BitVec 32) (k0_hw369 : k0_chk369 i v6654), ∀ (k0_h2 : k0_cond2 i = 1#1), ∀ a, (k0_off1090 v6654) a + S1x32.size a ≤ S15360x128.size a := fun i v6654 k0_hw369 k0_h2 => k0_hw369 k0_h2

def k0_off1091 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2250 : BitVec 32 := 32#32
  let v6651 : BitVec 32 := Scalar.muli arg13 c32_i32_2250
  let c10_i32 : BitVec 32 := 10#32
  let v6652 : BitVec 32 := Scalar.addi v6651 c10_i32
  let v6657 : Index := Scalar.indexCast v6652
  let c32_2253 : Index := 32#32
  ![v6657.toNat, 32]
def k0_off1092 (v5305 : BitVec 32) (k0_t12 : Fin (k0_t12_loop v5305).trips) : Fin 2 → Nat :=
  let c5_2255 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2254 : BitVec 32 := 32#32
  let v6661 : BitVec 32 := Scalar.muli arg13 c32_i32_2254
  let c11_i32 : BitVec 32 := 11#32
  let v6662 : BitVec 32 := Scalar.addi v6661 c11_i32
  let v6663 : Index := Scalar.indexCast v6662
  ![5, v6663.toNat]
def k0_off1093 (v6664 : BitVec 32) : Fin 2 → Nat :=
  let v6665 : Index := Scalar.indexCast v6664
  let c32_2256 : Index := 32#32
  ![v6665.toNat, 32]

def k0_chk370 (i : grid0.Coords) (v6664 : BitVec 32) : Prop :=
  (∀ (k0_h2 : k0_cond2 i = 1#1), ∀ a, (k0_off1093 v6664) a + S1x32.size a ≤ S15360x128.size a)
theorem k0_off1093_inb : ∀ (i : grid0.Coords) (v6664 : BitVec 32) (k0_hw370 : k0_chk370 i v6664), ∀ (k0_h2 : k0_cond2 i = 1#1), ∀ a, (k0_off1093 v6664) a + S1x32.size a ≤ S15360x128.size a := fun i v6664 k0_hw370 k0_h2 => k0_hw370 k0_h2

def k0_off1094 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2254 : BitVec 32 := 32#32
  let v6661 : BitVec 32 := Scalar.muli arg13 c32_i32_2254
  let c11_i32 : BitVec 32 := 11#32
  let v6662 : BitVec 32 := Scalar.addi v6661 c11_i32
  let v6667 : Index := Scalar.indexCast v6662
  let c32_2257 : Index := 32#32
  ![v6667.toNat, 32]
def k0_off1095 (v5305 : BitVec 32) (k0_t12 : Fin (k0_t12_loop v5305).trips) : Fin 2 → Nat :=
  let c5_2259 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2258 : BitVec 32 := 32#32
  let v6671 : BitVec 32 := Scalar.muli arg13 c32_i32_2258
  let c12_i32 : BitVec 32 := 12#32
  let v6672 : BitVec 32 := Scalar.addi v6671 c12_i32
  let v6673 : Index := Scalar.indexCast v6672
  ![5, v6673.toNat]
def k0_off1096 (v6674 : BitVec 32) : Fin 2 → Nat :=
  let v6675 : Index := Scalar.indexCast v6674
  let c32_2260 : Index := 32#32
  ![v6675.toNat, 32]

def k0_chk371 (i : grid0.Coords) (v6674 : BitVec 32) : Prop :=
  (∀ (k0_h2 : k0_cond2 i = 1#1), ∀ a, (k0_off1096 v6674) a + S1x32.size a ≤ S15360x128.size a)
theorem k0_off1096_inb : ∀ (i : grid0.Coords) (v6674 : BitVec 32) (k0_hw371 : k0_chk371 i v6674), ∀ (k0_h2 : k0_cond2 i = 1#1), ∀ a, (k0_off1096 v6674) a + S1x32.size a ≤ S15360x128.size a := fun i v6674 k0_hw371 k0_h2 => k0_hw371 k0_h2

def k0_off1097 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2258 : BitVec 32 := 32#32
  let v6671 : BitVec 32 := Scalar.muli arg13 c32_i32_2258
  let c12_i32 : BitVec 32 := 12#32
  let v6672 : BitVec 32 := Scalar.addi v6671 c12_i32
  let v6677 : Index := Scalar.indexCast v6672
  let c32_2261 : Index := 32#32
  ![v6677.toNat, 32]
def k0_off1098 (v5305 : BitVec 32) (k0_t12 : Fin (k0_t12_loop v5305).trips) : Fin 2 → Nat :=
  let c5_2263 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2262 : BitVec 32 := 32#32
  let v6681 : BitVec 32 := Scalar.muli arg13 c32_i32_2262
  let c13_i32 : BitVec 32 := 13#32
  let v6682 : BitVec 32 := Scalar.addi v6681 c13_i32
  let v6683 : Index := Scalar.indexCast v6682
  ![5, v6683.toNat]
def k0_off1099 (v6684 : BitVec 32) : Fin 2 → Nat :=
  let v6685 : Index := Scalar.indexCast v6684
  let c32_2264 : Index := 32#32
  ![v6685.toNat, 32]

def k0_chk372 (i : grid0.Coords) (v6684 : BitVec 32) : Prop :=
  (∀ (k0_h2 : k0_cond2 i = 1#1), ∀ a, (k0_off1099 v6684) a + S1x32.size a ≤ S15360x128.size a)
theorem k0_off1099_inb : ∀ (i : grid0.Coords) (v6684 : BitVec 32) (k0_hw372 : k0_chk372 i v6684), ∀ (k0_h2 : k0_cond2 i = 1#1), ∀ a, (k0_off1099 v6684) a + S1x32.size a ≤ S15360x128.size a := fun i v6684 k0_hw372 k0_h2 => k0_hw372 k0_h2

def k0_off1100 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2262 : BitVec 32 := 32#32
  let v6681 : BitVec 32 := Scalar.muli arg13 c32_i32_2262
  let c13_i32 : BitVec 32 := 13#32
  let v6682 : BitVec 32 := Scalar.addi v6681 c13_i32
  let v6687 : Index := Scalar.indexCast v6682
  let c32_2265 : Index := 32#32
  ![v6687.toNat, 32]
def k0_off1101 (v5305 : BitVec 32) (k0_t12 : Fin (k0_t12_loop v5305).trips) : Fin 2 → Nat :=
  let c5_2267 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2266 : BitVec 32 := 32#32
  let v6691 : BitVec 32 := Scalar.muli arg13 c32_i32_2266
  let c14_i32 : BitVec 32 := 14#32
  let v6692 : BitVec 32 := Scalar.addi v6691 c14_i32
  let v6693 : Index := Scalar.indexCast v6692
  ![5, v6693.toNat]
def k0_off1102 (v6694 : BitVec 32) : Fin 2 → Nat :=
  let v6695 : Index := Scalar.indexCast v6694
  let c32_2268 : Index := 32#32
  ![v6695.toNat, 32]

def k0_chk373 (i : grid0.Coords) (v6694 : BitVec 32) : Prop :=
  (∀ (k0_h2 : k0_cond2 i = 1#1), ∀ a, (k0_off1102 v6694) a + S1x32.size a ≤ S15360x128.size a)
theorem k0_off1102_inb : ∀ (i : grid0.Coords) (v6694 : BitVec 32) (k0_hw373 : k0_chk373 i v6694), ∀ (k0_h2 : k0_cond2 i = 1#1), ∀ a, (k0_off1102 v6694) a + S1x32.size a ≤ S15360x128.size a := fun i v6694 k0_hw373 k0_h2 => k0_hw373 k0_h2

def k0_off1103 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2266 : BitVec 32 := 32#32
  let v6691 : BitVec 32 := Scalar.muli arg13 c32_i32_2266
  let c14_i32 : BitVec 32 := 14#32
  let v6692 : BitVec 32 := Scalar.addi v6691 c14_i32
  let v6697 : Index := Scalar.indexCast v6692
  let c32_2269 : Index := 32#32
  ![v6697.toNat, 32]
def k0_off1104 (v5305 : BitVec 32) (k0_t12 : Fin (k0_t12_loop v5305).trips) : Fin 2 → Nat :=
  let c5_2271 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2270 : BitVec 32 := 32#32
  let v6701 : BitVec 32 := Scalar.muli arg13 c32_i32_2270
  let c15_i32 : BitVec 32 := 15#32
  let v6702 : BitVec 32 := Scalar.addi v6701 c15_i32
  let v6703 : Index := Scalar.indexCast v6702
  ![5, v6703.toNat]
def k0_off1105 (v6704 : BitVec 32) : Fin 2 → Nat :=
  let v6705 : Index := Scalar.indexCast v6704
  let c32_2272 : Index := 32#32
  ![v6705.toNat, 32]

def k0_chk374 (i : grid0.Coords) (v6704 : BitVec 32) : Prop :=
  (∀ (k0_h2 : k0_cond2 i = 1#1), ∀ a, (k0_off1105 v6704) a + S1x32.size a ≤ S15360x128.size a)
theorem k0_off1105_inb : ∀ (i : grid0.Coords) (v6704 : BitVec 32) (k0_hw374 : k0_chk374 i v6704), ∀ (k0_h2 : k0_cond2 i = 1#1), ∀ a, (k0_off1105 v6704) a + S1x32.size a ≤ S15360x128.size a := fun i v6704 k0_hw374 k0_h2 => k0_hw374 k0_h2

def k0_off1106 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2270 : BitVec 32 := 32#32
  let v6701 : BitVec 32 := Scalar.muli arg13 c32_i32_2270
  let c15_i32 : BitVec 32 := 15#32
  let v6702 : BitVec 32 := Scalar.addi v6701 c15_i32
  let v6707 : Index := Scalar.indexCast v6702
  let c32_2273 : Index := 32#32
  ![v6707.toNat, 32]
def k0_off1107 (v5305 : BitVec 32) (k0_t12 : Fin (k0_t12_loop v5305).trips) : Fin 2 → Nat :=
  let c5_2275 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2274 : BitVec 32 := 32#32
  let v6711 : BitVec 32 := Scalar.muli arg13 c32_i32_2274
  let c16_i32 : BitVec 32 := 16#32
  let v6712 : BitVec 32 := Scalar.addi v6711 c16_i32
  let v6713 : Index := Scalar.indexCast v6712
  ![5, v6713.toNat]
def k0_off1108 (v6714 : BitVec 32) : Fin 2 → Nat :=
  let v6715 : Index := Scalar.indexCast v6714
  let c32_2276 : Index := 32#32
  ![v6715.toNat, 32]

def k0_chk375 (i : grid0.Coords) (v6714 : BitVec 32) : Prop :=
  (∀ (k0_h2 : k0_cond2 i = 1#1), ∀ a, (k0_off1108 v6714) a + S1x32.size a ≤ S15360x128.size a)
theorem k0_off1108_inb : ∀ (i : grid0.Coords) (v6714 : BitVec 32) (k0_hw375 : k0_chk375 i v6714), ∀ (k0_h2 : k0_cond2 i = 1#1), ∀ a, (k0_off1108 v6714) a + S1x32.size a ≤ S15360x128.size a := fun i v6714 k0_hw375 k0_h2 => k0_hw375 k0_h2

def k0_off1109 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2274 : BitVec 32 := 32#32
  let v6711 : BitVec 32 := Scalar.muli arg13 c32_i32_2274
  let c16_i32 : BitVec 32 := 16#32
  let v6712 : BitVec 32 := Scalar.addi v6711 c16_i32
  let v6717 : Index := Scalar.indexCast v6712
  let c32_2277 : Index := 32#32
  ![v6717.toNat, 32]
def k0_off1110 (v5305 : BitVec 32) (k0_t12 : Fin (k0_t12_loop v5305).trips) : Fin 2 → Nat :=
  let c5_2279 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2278 : BitVec 32 := 32#32
  let v6721 : BitVec 32 := Scalar.muli arg13 c32_i32_2278
  let c17_i32 : BitVec 32 := 17#32
  let v6722 : BitVec 32 := Scalar.addi v6721 c17_i32
  let v6723 : Index := Scalar.indexCast v6722
  ![5, v6723.toNat]
def k0_off1111 (v6724 : BitVec 32) : Fin 2 → Nat :=
  let v6725 : Index := Scalar.indexCast v6724
  let c32_2280 : Index := 32#32
  ![v6725.toNat, 32]

def k0_chk376 (i : grid0.Coords) (v6724 : BitVec 32) : Prop :=
  (∀ (k0_h2 : k0_cond2 i = 1#1), ∀ a, (k0_off1111 v6724) a + S1x32.size a ≤ S15360x128.size a)
theorem k0_off1111_inb : ∀ (i : grid0.Coords) (v6724 : BitVec 32) (k0_hw376 : k0_chk376 i v6724), ∀ (k0_h2 : k0_cond2 i = 1#1), ∀ a, (k0_off1111 v6724) a + S1x32.size a ≤ S15360x128.size a := fun i v6724 k0_hw376 k0_h2 => k0_hw376 k0_h2

def k0_off1112 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2278 : BitVec 32 := 32#32
  let v6721 : BitVec 32 := Scalar.muli arg13 c32_i32_2278
  let c17_i32 : BitVec 32 := 17#32
  let v6722 : BitVec 32 := Scalar.addi v6721 c17_i32
  let v6727 : Index := Scalar.indexCast v6722
  let c32_2281 : Index := 32#32
  ![v6727.toNat, 32]
def k0_off1113 (v5305 : BitVec 32) (k0_t12 : Fin (k0_t12_loop v5305).trips) : Fin 2 → Nat :=
  let c5_2283 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2282 : BitVec 32 := 32#32
  let v6731 : BitVec 32 := Scalar.muli arg13 c32_i32_2282
  let c18_i32 : BitVec 32 := 18#32
  let v6732 : BitVec 32 := Scalar.addi v6731 c18_i32
  let v6733 : Index := Scalar.indexCast v6732
  ![5, v6733.toNat]
def k0_off1114 (v6734 : BitVec 32) : Fin 2 → Nat :=
  let v6735 : Index := Scalar.indexCast v6734
  let c32_2284 : Index := 32#32
  ![v6735.toNat, 32]

def k0_chk377 (i : grid0.Coords) (v6734 : BitVec 32) : Prop :=
  (∀ (k0_h2 : k0_cond2 i = 1#1), ∀ a, (k0_off1114 v6734) a + S1x32.size a ≤ S15360x128.size a)
theorem k0_off1114_inb : ∀ (i : grid0.Coords) (v6734 : BitVec 32) (k0_hw377 : k0_chk377 i v6734), ∀ (k0_h2 : k0_cond2 i = 1#1), ∀ a, (k0_off1114 v6734) a + S1x32.size a ≤ S15360x128.size a := fun i v6734 k0_hw377 k0_h2 => k0_hw377 k0_h2

def k0_off1115 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2282 : BitVec 32 := 32#32
  let v6731 : BitVec 32 := Scalar.muli arg13 c32_i32_2282
  let c18_i32 : BitVec 32 := 18#32
  let v6732 : BitVec 32 := Scalar.addi v6731 c18_i32
  let v6737 : Index := Scalar.indexCast v6732
  let c32_2285 : Index := 32#32
  ![v6737.toNat, 32]
def k0_off1116 (v5305 : BitVec 32) (k0_t12 : Fin (k0_t12_loop v5305).trips) : Fin 2 → Nat :=
  let c5_2287 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2286 : BitVec 32 := 32#32
  let v6741 : BitVec 32 := Scalar.muli arg13 c32_i32_2286
  let c19_i32 : BitVec 32 := 19#32
  let v6742 : BitVec 32 := Scalar.addi v6741 c19_i32
  let v6743 : Index := Scalar.indexCast v6742
  ![5, v6743.toNat]
def k0_off1117 (v6744 : BitVec 32) : Fin 2 → Nat :=
  let v6745 : Index := Scalar.indexCast v6744
  let c32_2288 : Index := 32#32
  ![v6745.toNat, 32]

def k0_chk378 (i : grid0.Coords) (v6744 : BitVec 32) : Prop :=
  (∀ (k0_h2 : k0_cond2 i = 1#1), ∀ a, (k0_off1117 v6744) a + S1x32.size a ≤ S15360x128.size a)
theorem k0_off1117_inb : ∀ (i : grid0.Coords) (v6744 : BitVec 32) (k0_hw378 : k0_chk378 i v6744), ∀ (k0_h2 : k0_cond2 i = 1#1), ∀ a, (k0_off1117 v6744) a + S1x32.size a ≤ S15360x128.size a := fun i v6744 k0_hw378 k0_h2 => k0_hw378 k0_h2

def k0_off1118 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2286 : BitVec 32 := 32#32
  let v6741 : BitVec 32 := Scalar.muli arg13 c32_i32_2286
  let c19_i32 : BitVec 32 := 19#32
  let v6742 : BitVec 32 := Scalar.addi v6741 c19_i32
  let v6747 : Index := Scalar.indexCast v6742
  let c32_2289 : Index := 32#32
  ![v6747.toNat, 32]
def k0_off1119 (v5305 : BitVec 32) (k0_t12 : Fin (k0_t12_loop v5305).trips) : Fin 2 → Nat :=
  let c5_2291 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2290 : BitVec 32 := 32#32
  let v6751 : BitVec 32 := Scalar.muli arg13 c32_i32_2290
  let c20_i32 : BitVec 32 := 20#32
  let v6752 : BitVec 32 := Scalar.addi v6751 c20_i32
  let v6753 : Index := Scalar.indexCast v6752
  ![5, v6753.toNat]
def k0_off1120 (v6754 : BitVec 32) : Fin 2 → Nat :=
  let v6755 : Index := Scalar.indexCast v6754
  let c32_2292 : Index := 32#32
  ![v6755.toNat, 32]

def k0_chk379 (i : grid0.Coords) (v6754 : BitVec 32) : Prop :=
  (∀ (k0_h2 : k0_cond2 i = 1#1), ∀ a, (k0_off1120 v6754) a + S1x32.size a ≤ S15360x128.size a)
theorem k0_off1120_inb : ∀ (i : grid0.Coords) (v6754 : BitVec 32) (k0_hw379 : k0_chk379 i v6754), ∀ (k0_h2 : k0_cond2 i = 1#1), ∀ a, (k0_off1120 v6754) a + S1x32.size a ≤ S15360x128.size a := fun i v6754 k0_hw379 k0_h2 => k0_hw379 k0_h2

def k0_off1121 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2290 : BitVec 32 := 32#32
  let v6751 : BitVec 32 := Scalar.muli arg13 c32_i32_2290
  let c20_i32 : BitVec 32 := 20#32
  let v6752 : BitVec 32 := Scalar.addi v6751 c20_i32
  let v6757 : Index := Scalar.indexCast v6752
  let c32_2293 : Index := 32#32
  ![v6757.toNat, 32]
def k0_off1122 (v5305 : BitVec 32) (k0_t12 : Fin (k0_t12_loop v5305).trips) : Fin 2 → Nat :=
  let c5_2295 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2294 : BitVec 32 := 32#32
  let v6761 : BitVec 32 := Scalar.muli arg13 c32_i32_2294
  let c21_i32 : BitVec 32 := 21#32
  let v6762 : BitVec 32 := Scalar.addi v6761 c21_i32
  let v6763 : Index := Scalar.indexCast v6762
  ![5, v6763.toNat]
def k0_off1123 (v6764 : BitVec 32) : Fin 2 → Nat :=
  let v6765 : Index := Scalar.indexCast v6764
  let c32_2296 : Index := 32#32
  ![v6765.toNat, 32]

def k0_chk380 (i : grid0.Coords) (v6764 : BitVec 32) : Prop :=
  (∀ (k0_h2 : k0_cond2 i = 1#1), ∀ a, (k0_off1123 v6764) a + S1x32.size a ≤ S15360x128.size a)
theorem k0_off1123_inb : ∀ (i : grid0.Coords) (v6764 : BitVec 32) (k0_hw380 : k0_chk380 i v6764), ∀ (k0_h2 : k0_cond2 i = 1#1), ∀ a, (k0_off1123 v6764) a + S1x32.size a ≤ S15360x128.size a := fun i v6764 k0_hw380 k0_h2 => k0_hw380 k0_h2

def k0_off1124 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2294 : BitVec 32 := 32#32
  let v6761 : BitVec 32 := Scalar.muli arg13 c32_i32_2294
  let c21_i32 : BitVec 32 := 21#32
  let v6762 : BitVec 32 := Scalar.addi v6761 c21_i32
  let v6767 : Index := Scalar.indexCast v6762
  let c32_2297 : Index := 32#32
  ![v6767.toNat, 32]
def k0_off1125 (v5305 : BitVec 32) (k0_t12 : Fin (k0_t12_loop v5305).trips) : Fin 2 → Nat :=
  let c5_2299 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2298 : BitVec 32 := 32#32
  let v6771 : BitVec 32 := Scalar.muli arg13 c32_i32_2298
  let c22_i32 : BitVec 32 := 22#32
  let v6772 : BitVec 32 := Scalar.addi v6771 c22_i32
  let v6773 : Index := Scalar.indexCast v6772
  ![5, v6773.toNat]
def k0_off1126 (v6774 : BitVec 32) : Fin 2 → Nat :=
  let v6775 : Index := Scalar.indexCast v6774
  let c32_2300 : Index := 32#32
  ![v6775.toNat, 32]

def k0_chk381 (i : grid0.Coords) (v6774 : BitVec 32) : Prop :=
  (∀ (k0_h2 : k0_cond2 i = 1#1), ∀ a, (k0_off1126 v6774) a + S1x32.size a ≤ S15360x128.size a)
theorem k0_off1126_inb : ∀ (i : grid0.Coords) (v6774 : BitVec 32) (k0_hw381 : k0_chk381 i v6774), ∀ (k0_h2 : k0_cond2 i = 1#1), ∀ a, (k0_off1126 v6774) a + S1x32.size a ≤ S15360x128.size a := fun i v6774 k0_hw381 k0_h2 => k0_hw381 k0_h2

def k0_off1127 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2298 : BitVec 32 := 32#32
  let v6771 : BitVec 32 := Scalar.muli arg13 c32_i32_2298
  let c22_i32 : BitVec 32 := 22#32
  let v6772 : BitVec 32 := Scalar.addi v6771 c22_i32
  let v6777 : Index := Scalar.indexCast v6772
  let c32_2301 : Index := 32#32
  ![v6777.toNat, 32]
def k0_off1128 (v5305 : BitVec 32) (k0_t12 : Fin (k0_t12_loop v5305).trips) : Fin 2 → Nat :=
  let c5_2303 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2302 : BitVec 32 := 32#32
  let v6781 : BitVec 32 := Scalar.muli arg13 c32_i32_2302
  let c23_i32 : BitVec 32 := 23#32
  let v6782 : BitVec 32 := Scalar.addi v6781 c23_i32
  let v6783 : Index := Scalar.indexCast v6782
  ![5, v6783.toNat]
def k0_off1129 (v6784 : BitVec 32) : Fin 2 → Nat :=
  let v6785 : Index := Scalar.indexCast v6784
  let c32_2304 : Index := 32#32
  ![v6785.toNat, 32]

def k0_chk382 (i : grid0.Coords) (v6784 : BitVec 32) : Prop :=
  (∀ (k0_h2 : k0_cond2 i = 1#1), ∀ a, (k0_off1129 v6784) a + S1x32.size a ≤ S15360x128.size a)
theorem k0_off1129_inb : ∀ (i : grid0.Coords) (v6784 : BitVec 32) (k0_hw382 : k0_chk382 i v6784), ∀ (k0_h2 : k0_cond2 i = 1#1), ∀ a, (k0_off1129 v6784) a + S1x32.size a ≤ S15360x128.size a := fun i v6784 k0_hw382 k0_h2 => k0_hw382 k0_h2

def k0_off1130 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2302 : BitVec 32 := 32#32
  let v6781 : BitVec 32 := Scalar.muli arg13 c32_i32_2302
  let c23_i32 : BitVec 32 := 23#32
  let v6782 : BitVec 32 := Scalar.addi v6781 c23_i32
  let v6787 : Index := Scalar.indexCast v6782
  let c32_2305 : Index := 32#32
  ![v6787.toNat, 32]
def k0_off1131 (v5305 : BitVec 32) (k0_t12 : Fin (k0_t12_loop v5305).trips) : Fin 2 → Nat :=
  let c5_2307 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2306 : BitVec 32 := 32#32
  let v6791 : BitVec 32 := Scalar.muli arg13 c32_i32_2306
  let c24_i32 : BitVec 32 := 24#32
  let v6792 : BitVec 32 := Scalar.addi v6791 c24_i32
  let v6793 : Index := Scalar.indexCast v6792
  ![5, v6793.toNat]
def k0_off1132 (v6794 : BitVec 32) : Fin 2 → Nat :=
  let v6795 : Index := Scalar.indexCast v6794
  let c32_2308 : Index := 32#32
  ![v6795.toNat, 32]

def k0_chk383 (i : grid0.Coords) (v6794 : BitVec 32) : Prop :=
  (∀ (k0_h2 : k0_cond2 i = 1#1), ∀ a, (k0_off1132 v6794) a + S1x32.size a ≤ S15360x128.size a)
theorem k0_off1132_inb : ∀ (i : grid0.Coords) (v6794 : BitVec 32) (k0_hw383 : k0_chk383 i v6794), ∀ (k0_h2 : k0_cond2 i = 1#1), ∀ a, (k0_off1132 v6794) a + S1x32.size a ≤ S15360x128.size a := fun i v6794 k0_hw383 k0_h2 => k0_hw383 k0_h2

def k0_off1133 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2306 : BitVec 32 := 32#32
  let v6791 : BitVec 32 := Scalar.muli arg13 c32_i32_2306
  let c24_i32 : BitVec 32 := 24#32
  let v6792 : BitVec 32 := Scalar.addi v6791 c24_i32
  let v6797 : Index := Scalar.indexCast v6792
  let c32_2309 : Index := 32#32
  ![v6797.toNat, 32]
def k0_off1134 (v5305 : BitVec 32) (k0_t12 : Fin (k0_t12_loop v5305).trips) : Fin 2 → Nat :=
  let c5_2311 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2310 : BitVec 32 := 32#32
  let v6801 : BitVec 32 := Scalar.muli arg13 c32_i32_2310
  let c25_i32 : BitVec 32 := 25#32
  let v6802 : BitVec 32 := Scalar.addi v6801 c25_i32
  let v6803 : Index := Scalar.indexCast v6802
  ![5, v6803.toNat]
def k0_off1135 (v6804 : BitVec 32) : Fin 2 → Nat :=
  let v6805 : Index := Scalar.indexCast v6804
  let c32_2312 : Index := 32#32
  ![v6805.toNat, 32]

def k0_chk384 (i : grid0.Coords) (v6804 : BitVec 32) : Prop :=
  (∀ (k0_h2 : k0_cond2 i = 1#1), ∀ a, (k0_off1135 v6804) a + S1x32.size a ≤ S15360x128.size a)
theorem k0_off1135_inb : ∀ (i : grid0.Coords) (v6804 : BitVec 32) (k0_hw384 : k0_chk384 i v6804), ∀ (k0_h2 : k0_cond2 i = 1#1), ∀ a, (k0_off1135 v6804) a + S1x32.size a ≤ S15360x128.size a := fun i v6804 k0_hw384 k0_h2 => k0_hw384 k0_h2

def k0_off1136 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2310 : BitVec 32 := 32#32
  let v6801 : BitVec 32 := Scalar.muli arg13 c32_i32_2310
  let c25_i32 : BitVec 32 := 25#32
  let v6802 : BitVec 32 := Scalar.addi v6801 c25_i32
  let v6807 : Index := Scalar.indexCast v6802
  let c32_2313 : Index := 32#32
  ![v6807.toNat, 32]
def k0_off1137 (v5305 : BitVec 32) (k0_t12 : Fin (k0_t12_loop v5305).trips) : Fin 2 → Nat :=
  let c5_2315 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2314 : BitVec 32 := 32#32
  let v6811 : BitVec 32 := Scalar.muli arg13 c32_i32_2314
  let c26_i32 : BitVec 32 := 26#32
  let v6812 : BitVec 32 := Scalar.addi v6811 c26_i32
  let v6813 : Index := Scalar.indexCast v6812
  ![5, v6813.toNat]
def k0_off1138 (v6814 : BitVec 32) : Fin 2 → Nat :=
  let v6815 : Index := Scalar.indexCast v6814
  let c32_2316 : Index := 32#32
  ![v6815.toNat, 32]

def k0_chk385 (i : grid0.Coords) (v6814 : BitVec 32) : Prop :=
  (∀ (k0_h2 : k0_cond2 i = 1#1), ∀ a, (k0_off1138 v6814) a + S1x32.size a ≤ S15360x128.size a)
theorem k0_off1138_inb : ∀ (i : grid0.Coords) (v6814 : BitVec 32) (k0_hw385 : k0_chk385 i v6814), ∀ (k0_h2 : k0_cond2 i = 1#1), ∀ a, (k0_off1138 v6814) a + S1x32.size a ≤ S15360x128.size a := fun i v6814 k0_hw385 k0_h2 => k0_hw385 k0_h2

def k0_off1139 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2314 : BitVec 32 := 32#32
  let v6811 : BitVec 32 := Scalar.muli arg13 c32_i32_2314
  let c26_i32 : BitVec 32 := 26#32
  let v6812 : BitVec 32 := Scalar.addi v6811 c26_i32
  let v6817 : Index := Scalar.indexCast v6812
  let c32_2317 : Index := 32#32
  ![v6817.toNat, 32]
def k0_off1140 (v5305 : BitVec 32) (k0_t12 : Fin (k0_t12_loop v5305).trips) : Fin 2 → Nat :=
  let c5_2319 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2318 : BitVec 32 := 32#32
  let v6821 : BitVec 32 := Scalar.muli arg13 c32_i32_2318
  let c27_i32 : BitVec 32 := 27#32
  let v6822 : BitVec 32 := Scalar.addi v6821 c27_i32
  let v6823 : Index := Scalar.indexCast v6822
  ![5, v6823.toNat]
def k0_off1141 (v6824 : BitVec 32) : Fin 2 → Nat :=
  let v6825 : Index := Scalar.indexCast v6824
  let c32_2320 : Index := 32#32
  ![v6825.toNat, 32]

def k0_chk386 (i : grid0.Coords) (v6824 : BitVec 32) : Prop :=
  (∀ (k0_h2 : k0_cond2 i = 1#1), ∀ a, (k0_off1141 v6824) a + S1x32.size a ≤ S15360x128.size a)
theorem k0_off1141_inb : ∀ (i : grid0.Coords) (v6824 : BitVec 32) (k0_hw386 : k0_chk386 i v6824), ∀ (k0_h2 : k0_cond2 i = 1#1), ∀ a, (k0_off1141 v6824) a + S1x32.size a ≤ S15360x128.size a := fun i v6824 k0_hw386 k0_h2 => k0_hw386 k0_h2

def k0_off1142 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2318 : BitVec 32 := 32#32
  let v6821 : BitVec 32 := Scalar.muli arg13 c32_i32_2318
  let c27_i32 : BitVec 32 := 27#32
  let v6822 : BitVec 32 := Scalar.addi v6821 c27_i32
  let v6827 : Index := Scalar.indexCast v6822
  let c32_2321 : Index := 32#32
  ![v6827.toNat, 32]
def k0_off1143 (v5305 : BitVec 32) (k0_t12 : Fin (k0_t12_loop v5305).trips) : Fin 2 → Nat :=
  let c5_2323 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2322 : BitVec 32 := 32#32
  let v6831 : BitVec 32 := Scalar.muli arg13 c32_i32_2322
  let c28_i32 : BitVec 32 := 28#32
  let v6832 : BitVec 32 := Scalar.addi v6831 c28_i32
  let v6833 : Index := Scalar.indexCast v6832
  ![5, v6833.toNat]
def k0_off1144 (v6834 : BitVec 32) : Fin 2 → Nat :=
  let v6835 : Index := Scalar.indexCast v6834
  let c32_2324 : Index := 32#32
  ![v6835.toNat, 32]

def k0_chk387 (i : grid0.Coords) (v6834 : BitVec 32) : Prop :=
  (∀ (k0_h2 : k0_cond2 i = 1#1), ∀ a, (k0_off1144 v6834) a + S1x32.size a ≤ S15360x128.size a)
theorem k0_off1144_inb : ∀ (i : grid0.Coords) (v6834 : BitVec 32) (k0_hw387 : k0_chk387 i v6834), ∀ (k0_h2 : k0_cond2 i = 1#1), ∀ a, (k0_off1144 v6834) a + S1x32.size a ≤ S15360x128.size a := fun i v6834 k0_hw387 k0_h2 => k0_hw387 k0_h2

def k0_off1145 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2322 : BitVec 32 := 32#32
  let v6831 : BitVec 32 := Scalar.muli arg13 c32_i32_2322
  let c28_i32 : BitVec 32 := 28#32
  let v6832 : BitVec 32 := Scalar.addi v6831 c28_i32
  let v6837 : Index := Scalar.indexCast v6832
  let c32_2325 : Index := 32#32
  ![v6837.toNat, 32]
def k0_off1146 (v5305 : BitVec 32) (k0_t12 : Fin (k0_t12_loop v5305).trips) : Fin 2 → Nat :=
  let c5_2328 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6843 : Index := Scalar.indexCast v6842
  ![5, v6843.toNat]
def k0_off1147 (v6844 : BitVec 32) : Fin 2 → Nat :=
  let v6845 : Index := Scalar.indexCast v6844
  let c32_2329 : Index := 32#32
  ![v6845.toNat, 32]

def k0_chk388 (i : grid0.Coords) (v6844 : BitVec 32) : Prop :=
  (∀ (k0_h2 : k0_cond2 i = 1#1), ∀ a, (k0_off1147 v6844) a + S1x32.size a ≤ S15360x128.size a)
theorem k0_off1147_inb : ∀ (i : grid0.Coords) (v6844 : BitVec 32) (k0_hw388 : k0_chk388 i v6844), ∀ (k0_h2 : k0_cond2 i = 1#1), ∀ a, (k0_off1147 v6844) a + S1x32.size a ≤ S15360x128.size a := fun i v6844 k0_hw388 k0_h2 => k0_hw388 k0_h2

def k0_off1148 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2326 : BitVec 32 := 32#32
  let v6841 : BitVec 32 := Scalar.muli arg13 c32_i32_2326
  let c29_i32_2327 : BitVec 32 := 29#32
  let v6842 : BitVec 32 := Scalar.addi v6841 c29_i32_2327
  let v6847 : Index := Scalar.indexCast v6842
  let c32_2330 : Index := 32#32
  ![v6847.toNat, 32]
def k0_off1149 (v5305 : BitVec 32) (k0_t12 : Fin (k0_t12_loop v5305).trips) : Fin 2 → Nat :=
  let c5_2332 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2331 : BitVec 32 := 32#32
  let v6851 : BitVec 32 := Scalar.muli arg13 c32_i32_2331
  let c30_i32 : BitVec 32 := 30#32
  let v6852 : BitVec 32 := Scalar.addi v6851 c30_i32
  let v6853 : Index := Scalar.indexCast v6852
  ![5, v6853.toNat]
def k0_off1150 (v6854 : BitVec 32) : Fin 2 → Nat :=
  let v6855 : Index := Scalar.indexCast v6854
  let c32_2333 : Index := 32#32
  ![v6855.toNat, 32]

def k0_chk389 (i : grid0.Coords) (v6854 : BitVec 32) : Prop :=
  (∀ (k0_h2 : k0_cond2 i = 1#1), ∀ a, (k0_off1150 v6854) a + S1x32.size a ≤ S15360x128.size a)
theorem k0_off1150_inb : ∀ (i : grid0.Coords) (v6854 : BitVec 32) (k0_hw389 : k0_chk389 i v6854), ∀ (k0_h2 : k0_cond2 i = 1#1), ∀ a, (k0_off1150 v6854) a + S1x32.size a ≤ S15360x128.size a := fun i v6854 k0_hw389 k0_h2 => k0_hw389 k0_h2

def k0_off1151 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2331 : BitVec 32 := 32#32
  let v6851 : BitVec 32 := Scalar.muli arg13 c32_i32_2331
  let c30_i32 : BitVec 32 := 30#32
  let v6852 : BitVec 32 := Scalar.addi v6851 c30_i32
  let v6857 : Index := Scalar.indexCast v6852
  let c32_2334 : Index := 32#32
  ![v6857.toNat, 32]
def k0_off1152 (v5305 : BitVec 32) (k0_t12 : Fin (k0_t12_loop v5305).trips) : Fin 2 → Nat :=
  let c5_2336 : Index := 5#32
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2335 : BitVec 32 := 32#32
  let v6861 : BitVec 32 := Scalar.muli arg13 c32_i32_2335
  let c31_i32 : BitVec 32 := 31#32
  let v6862 : BitVec 32 := Scalar.addi v6861 c31_i32
  let v6863 : Index := Scalar.indexCast v6862
  ![5, v6863.toNat]
def k0_off1153 (v6864 : BitVec 32) : Fin 2 → Nat :=
  let v6865 : Index := Scalar.indexCast v6864
  let c32_2337 : Index := 32#32
  ![v6865.toNat, 32]

def k0_chk390 (i : grid0.Coords) (v6864 : BitVec 32) : Prop :=
  (∀ (k0_h2 : k0_cond2 i = 1#1), ∀ a, (k0_off1153 v6864) a + S1x32.size a ≤ S15360x128.size a)
theorem k0_off1153_inb : ∀ (i : grid0.Coords) (v6864 : BitVec 32) (k0_hw390 : k0_chk390 i v6864), ∀ (k0_h2 : k0_cond2 i = 1#1), ∀ a, (k0_off1153 v6864) a + S1x32.size a ≤ S15360x128.size a := fun i v6864 k0_hw390 k0_h2 => k0_hw390 k0_h2

def k0_off1154 (v5305 : BitVec 32) (k0_t12 : Fin (k0_t12_loop v5305).trips) : Fin 2 → Nat :=
  let c0_i32_1648 : BitVec 32 := 0#32
  let c64_i32_1630 : BitVec 32 := 64#32
  let v5306 : BitVec 32 := Scalar.addi v5305 c64_i32_1630
  let c1_i32_1631 : BitVec 32 := 1#32
  let v5307 : BitVec 32 := Scalar.subi v5306 c1_i32_1631
  let c0_i32_1633 : BitVec 32 := 0#32
  let v5309 : BitVec 1 := Scalar.cmpi .sgt v5307 c0_i32_1633
  let v5310 : BitVec 32 := Scalar.extui v5309
  let c0_i32_1634 : BitVec 32 := 0#32
  let v5311 : BitVec 1 := Scalar.cmpi .slt v5307 c0_i32_1634
  let v5312 : BitVec 32 := Scalar.extui v5311
  let v5313 : BitVec 32 := Scalar.subi v5310 v5312
  let c64_i32_1632 : BitVec 32 := 64#32
  let c0_i32_1635 : BitVec 32 := 0#32
  let v5314 : BitVec 1 := Scalar.cmpi .sgt c64_i32_1632 c0_i32_1635
  let v5315 : BitVec 32 := Scalar.extui v5314
  let c0_i32_1636 : BitVec 32 := 0#32
  let v5316 : BitVec 1 := Scalar.cmpi .slt c64_i32_1632 c0_i32_1636
  let v5317 : BitVec 32 := Scalar.extui v5316
  let v5318 : BitVec 32 := Scalar.subi v5315 v5317
  let v5319 : BitVec 1 := Scalar.cmpi .ne v5313 v5318
  let v5320 : BitVec 32 := Scalar.remsi v5307 c64_i32_1632
  let c0_i32_1637 : BitVec 32 := 0#32
  let v5321 : BitVec 1 := Scalar.cmpi .ne v5320 c0_i32_1637
  let v5322 : BitVec 1 := Scalar.andi v5319 v5321
  let v5308 : BitVec 32 := Scalar.divsi v5307 c64_i32_1632
  let c1_i32_1638 : BitVec 32 := 1#32
  let v5323 : BitVec 32 := Scalar.subi v5308 c1_i32_1638
  let v5324 : BitVec 32 := Scalar.select v5322 v5323 v5308
  let c32_i32_1639 : BitVec 32 := 32#32
  let v5325 : BitVec 32 := Scalar.addi v5324 c32_i32_1639
  let c1_i32_1640 : BitVec 32 := 1#32
  let v5326 : BitVec 32 := Scalar.subi v5325 c1_i32_1640
  let c0_i32_1642 : BitVec 32 := 0#32
  let v5328 : BitVec 1 := Scalar.cmpi .sgt v5326 c0_i32_1642
  let v5329 : BitVec 32 := Scalar.extui v5328
  let c0_i32_1643 : BitVec 32 := 0#32
  let v5330 : BitVec 1 := Scalar.cmpi .slt v5326 c0_i32_1643
  let v5331 : BitVec 32 := Scalar.extui v5330
  let v5332 : BitVec 32 := Scalar.subi v5329 v5331
  let c32_i32_1641 : BitVec 32 := 32#32
  let c0_i32_1644 : BitVec 32 := 0#32
  let v5333 : BitVec 1 := Scalar.cmpi .sgt c32_i32_1641 c0_i32_1644
  let v5334 : BitVec 32 := Scalar.extui v5333
  let c0_i32_1645 : BitVec 32 := 0#32
  let v5335 : BitVec 1 := Scalar.cmpi .slt c32_i32_1641 c0_i32_1645
  let v5336 : BitVec 32 := Scalar.extui v5335
  let v5337 : BitVec 32 := Scalar.subi v5334 v5336
  let v5338 : BitVec 1 := Scalar.cmpi .ne v5332 v5337
  let v5339 : BitVec 32 := Scalar.remsi v5326 c32_i32_1641
  let c0_i32_1646 : BitVec 32 := 0#32
  let v5340 : BitVec 1 := Scalar.cmpi .ne v5339 c0_i32_1646
  let v5341 : BitVec 1 := Scalar.andi v5338 v5340
  let v5327 : BitVec 32 := Scalar.divsi v5326 c32_i32_1641
  let c1_i32_1647 : BitVec 32 := 1#32
  let v5342 : BitVec 32 := Scalar.subi v5327 c1_i32_1647
  let v5343 : BitVec 32 := Scalar.select v5341 v5342 v5327
  let v5344 : BitVec 32 := Scalar.subi v5343 c0_i32_1648
  let c1_i32_1650 : BitVec 32 := 1#32
  let v5346 : BitVec 32 := Scalar.divsi v5344 c1_i32_1650
  let v5347 : BitVec 32 := Scalar.muli v5346 c1_i32_1650
  let v5348 : BitVec 32 := Scalar.addi c0_i32_1648 v5347
  let c1_i32_1652 : BitVec 32 := 1#32
  let arg13 : BitVec 32 := Scf.iv v5348 c1_i32_1652 k0_t12
  let c32_i32_2335 : BitVec 32 := 32#32
  let v6861 : BitVec 32 := Scalar.muli arg13 c32_i32_2335
  let c31_i32 : BitVec 32 := 31#32
  let v6862 : BitVec 32 := Scalar.addi v6861 c31_i32
  let v6867 : Index := Scalar.indexCast v6862
  let c32_2338 : Index := 32#32
  ![v6867.toNat, 32]

def k0_chk326_0 (i : grid0.Coords) (v5305 : BitVec 32) : Prop :=
  (∀ (k0_h2 : k0_cond2 i = 1#1), (k0_t11_loop v5305).OK) ∧
  (∀ k0_t11 : Fin (k0_t11_loop v5305).trips, ∀ (k0_h2 : k0_cond2 i = 1#1), ∀ a, (k0_off963 v5305 k0_t11) a + S1x1.size a ≤ S6x2048.size a) ∧
  (∀ k0_t11 : Fin (k0_t11_loop v5305).trips, ∀ (k0_h2 : k0_cond2 i = 1#1), ∀ a, (k0_off965 v5305 k0_t11) a + S1x32.size a ≤ S2048x128.size a) ∧
  (∀ k0_t11 : Fin (k0_t11_loop v5305).trips, ∀ (k0_h2 : k0_cond2 i = 1#1), ∀ a, (k0_off966 v5305 k0_t11) a + S1x1.size a ≤ S6x2048.size a) ∧
  (∀ k0_t11 : Fin (k0_t11_loop v5305).trips, ∀ (k0_h2 : k0_cond2 i = 1#1), ∀ a, (k0_off968 v5305 k0_t11) a + S1x32.size a ≤ S2048x128.size a) ∧
  (∀ k0_t11 : Fin (k0_t11_loop v5305).trips, ∀ (k0_h2 : k0_cond2 i = 1#1), ∀ a, (k0_off969 v5305 k0_t11) a + S1x1.size a ≤ S6x2048.size a) ∧
  (∀ k0_t11 : Fin (k0_t11_loop v5305).trips, ∀ (k0_h2 : k0_cond2 i = 1#1), ∀ a, (k0_off971 v5305 k0_t11) a + S1x32.size a ≤ S2048x128.size a) ∧
  (∀ k0_t11 : Fin (k0_t11_loop v5305).trips, ∀ (k0_h2 : k0_cond2 i = 1#1), ∀ a, (k0_off972 v5305 k0_t11) a + S1x1.size a ≤ S6x2048.size a) ∧
  (∀ k0_t11 : Fin (k0_t11_loop v5305).trips, ∀ (k0_h2 : k0_cond2 i = 1#1), ∀ a, (k0_off974 v5305 k0_t11) a + S1x32.size a ≤ S2048x128.size a) ∧
  (∀ k0_t11 : Fin (k0_t11_loop v5305).trips, ∀ (k0_h2 : k0_cond2 i = 1#1), ∀ a, (k0_off975 v5305 k0_t11) a + S1x1.size a ≤ S6x2048.size a) ∧
  (∀ k0_t11 : Fin (k0_t11_loop v5305).trips, ∀ (k0_h2 : k0_cond2 i = 1#1), ∀ a, (k0_off977 v5305 k0_t11) a + S1x32.size a ≤ S2048x128.size a) ∧
  (∀ k0_t11 : Fin (k0_t11_loop v5305).trips, ∀ (k0_h2 : k0_cond2 i = 1#1), ∀ a, (k0_off978 v5305 k0_t11) a + S1x1.size a ≤ S6x2048.size a) ∧
  (∀ k0_t11 : Fin (k0_t11_loop v5305).trips, ∀ (k0_h2 : k0_cond2 i = 1#1), ∀ a, (k0_off980 v5305 k0_t11) a + S1x32.size a ≤ S2048x128.size a) ∧
  (∀ k0_t11 : Fin (k0_t11_loop v5305).trips, ∀ (k0_h2 : k0_cond2 i = 1#1), ∀ a, (k0_off981 v5305 k0_t11) a + S1x1.size a ≤ S6x2048.size a) ∧
  (∀ k0_t11 : Fin (k0_t11_loop v5305).trips, ∀ (k0_h2 : k0_cond2 i = 1#1), ∀ a, (k0_off983 v5305 k0_t11) a + S1x32.size a ≤ S2048x128.size a) ∧
  (∀ k0_t11 : Fin (k0_t11_loop v5305).trips, ∀ (k0_h2 : k0_cond2 i = 1#1), ∀ a, (k0_off984 v5305 k0_t11) a + S1x1.size a ≤ S6x2048.size a) ∧
  (∀ k0_t11 : Fin (k0_t11_loop v5305).trips, ∀ (k0_h2 : k0_cond2 i = 1#1), ∀ a, (k0_off986 v5305 k0_t11) a + S1x32.size a ≤ S2048x128.size a) ∧
  (∀ k0_t11 : Fin (k0_t11_loop v5305).trips, ∀ (k0_h2 : k0_cond2 i = 1#1), ∀ a, (k0_off987 v5305 k0_t11) a + S1x1.size a ≤ S6x2048.size a) ∧
  (∀ k0_t11 : Fin (k0_t11_loop v5305).trips, ∀ (k0_h2 : k0_cond2 i = 1#1), ∀ a, (k0_off989 v5305 k0_t11) a + S1x32.size a ≤ S2048x128.size a) ∧
  (∀ k0_t11 : Fin (k0_t11_loop v5305).trips, ∀ (k0_h2 : k0_cond2 i = 1#1), ∀ a, (k0_off990 v5305 k0_t11) a + S1x1.size a ≤ S6x2048.size a) ∧
  (∀ k0_t11 : Fin (k0_t11_loop v5305).trips, ∀ (k0_h2 : k0_cond2 i = 1#1), ∀ a, (k0_off992 v5305 k0_t11) a + S1x32.size a ≤ S2048x128.size a) ∧
  (∀ k0_t11 : Fin (k0_t11_loop v5305).trips, ∀ (k0_h2 : k0_cond2 i = 1#1), ∀ a, (k0_off993 v5305 k0_t11) a + S1x1.size a ≤ S6x2048.size a) ∧
  (∀ k0_t11 : Fin (k0_t11_loop v5305).trips, ∀ (k0_h2 : k0_cond2 i = 1#1), ∀ a, (k0_off995 v5305 k0_t11) a + S1x32.size a ≤ S2048x128.size a) ∧
  (∀ k0_t11 : Fin (k0_t11_loop v5305).trips, ∀ (k0_h2 : k0_cond2 i = 1#1), ∀ a, (k0_off996 v5305 k0_t11) a + S1x1.size a ≤ S6x2048.size a) ∧
  (∀ k0_t11 : Fin (k0_t11_loop v5305).trips, ∀ (k0_h2 : k0_cond2 i = 1#1), ∀ a, (k0_off998 v5305 k0_t11) a + S1x32.size a ≤ S2048x128.size a) ∧
  (∀ k0_t11 : Fin (k0_t11_loop v5305).trips, ∀ (k0_h2 : k0_cond2 i = 1#1), ∀ a, (k0_off999 v5305 k0_t11) a + S1x1.size a ≤ S6x2048.size a) ∧
  (∀ k0_t11 : Fin (k0_t11_loop v5305).trips, ∀ (k0_h2 : k0_cond2 i = 1#1), ∀ a, (k0_off1001 v5305 k0_t11) a + S1x32.size a ≤ S2048x128.size a) ∧
  (∀ k0_t11 : Fin (k0_t11_loop v5305).trips, ∀ (k0_h2 : k0_cond2 i = 1#1), ∀ a, (k0_off1002 v5305 k0_t11) a + S1x1.size a ≤ S6x2048.size a) ∧
  (∀ k0_t11 : Fin (k0_t11_loop v5305).trips, ∀ (k0_h2 : k0_cond2 i = 1#1), ∀ a, (k0_off1004 v5305 k0_t11) a + S1x32.size a ≤ S2048x128.size a) ∧
  (∀ k0_t11 : Fin (k0_t11_loop v5305).trips, ∀ (k0_h2 : k0_cond2 i = 1#1), ∀ a, (k0_off1005 v5305 k0_t11) a + S1x1.size a ≤ S6x2048.size a) ∧
  (∀ k0_t11 : Fin (k0_t11_loop v5305).trips, ∀ (k0_h2 : k0_cond2 i = 1#1), ∀ a, (k0_off1007 v5305 k0_t11) a + S1x32.size a ≤ S2048x128.size a) ∧
  (∀ k0_t11 : Fin (k0_t11_loop v5305).trips, ∀ (k0_h2 : k0_cond2 i = 1#1), ∀ a, (k0_off1008 v5305 k0_t11) a + S1x1.size a ≤ S6x2048.size a)
def k0_chk326_1 (i : grid0.Coords) (v5305 : BitVec 32) : Prop :=
  (∀ k0_t11 : Fin (k0_t11_loop v5305).trips, ∀ (k0_h2 : k0_cond2 i = 1#1), ∀ a, (k0_off1010 v5305 k0_t11) a + S1x32.size a ≤ S2048x128.size a) ∧
  (∀ k0_t11 : Fin (k0_t11_loop v5305).trips, ∀ (k0_h2 : k0_cond2 i = 1#1), ∀ a, (k0_off1011 v5305 k0_t11) a + S1x1.size a ≤ S6x2048.size a) ∧
  (∀ k0_t11 : Fin (k0_t11_loop v5305).trips, ∀ (k0_h2 : k0_cond2 i = 1#1), ∀ a, (k0_off1013 v5305 k0_t11) a + S1x32.size a ≤ S2048x128.size a) ∧
  (∀ k0_t11 : Fin (k0_t11_loop v5305).trips, ∀ (k0_h2 : k0_cond2 i = 1#1), ∀ a, (k0_off1014 v5305 k0_t11) a + S1x1.size a ≤ S6x2048.size a) ∧
  (∀ k0_t11 : Fin (k0_t11_loop v5305).trips, ∀ (k0_h2 : k0_cond2 i = 1#1), ∀ a, (k0_off1016 v5305 k0_t11) a + S1x32.size a ≤ S2048x128.size a) ∧
  (∀ k0_t11 : Fin (k0_t11_loop v5305).trips, ∀ (k0_h2 : k0_cond2 i = 1#1), ∀ a, (k0_off1017 v5305 k0_t11) a + S1x1.size a ≤ S6x2048.size a) ∧
  (∀ k0_t11 : Fin (k0_t11_loop v5305).trips, ∀ (k0_h2 : k0_cond2 i = 1#1), ∀ a, (k0_off1019 v5305 k0_t11) a + S1x32.size a ≤ S2048x128.size a) ∧
  (∀ k0_t11 : Fin (k0_t11_loop v5305).trips, ∀ (k0_h2 : k0_cond2 i = 1#1), ∀ a, (k0_off1020 v5305 k0_t11) a + S1x1.size a ≤ S6x2048.size a) ∧
  (∀ k0_t11 : Fin (k0_t11_loop v5305).trips, ∀ (k0_h2 : k0_cond2 i = 1#1), ∀ a, (k0_off1022 v5305 k0_t11) a + S1x32.size a ≤ S2048x128.size a) ∧
  (∀ k0_t11 : Fin (k0_t11_loop v5305).trips, ∀ (k0_h2 : k0_cond2 i = 1#1), ∀ a, (k0_off1023 v5305 k0_t11) a + S1x1.size a ≤ S6x2048.size a) ∧
  (∀ k0_t11 : Fin (k0_t11_loop v5305).trips, ∀ (k0_h2 : k0_cond2 i = 1#1), ∀ a, (k0_off1025 v5305 k0_t11) a + S1x32.size a ≤ S2048x128.size a) ∧
  (∀ k0_t11 : Fin (k0_t11_loop v5305).trips, ∀ (k0_h2 : k0_cond2 i = 1#1), ∀ a, (k0_off1026 v5305 k0_t11) a + S1x1.size a ≤ S6x2048.size a) ∧
  (∀ k0_t11 : Fin (k0_t11_loop v5305).trips, ∀ (k0_h2 : k0_cond2 i = 1#1), ∀ a, (k0_off1028 v5305 k0_t11) a + S1x32.size a ≤ S2048x128.size a) ∧
  (∀ k0_t11 : Fin (k0_t11_loop v5305).trips, ∀ (k0_h2 : k0_cond2 i = 1#1), ∀ a, (k0_off1029 v5305 k0_t11) a + S1x1.size a ≤ S6x2048.size a) ∧
  (∀ k0_t11 : Fin (k0_t11_loop v5305).trips, ∀ (k0_h2 : k0_cond2 i = 1#1), ∀ a, (k0_off1031 v5305 k0_t11) a + S1x32.size a ≤ S2048x128.size a) ∧
  (∀ k0_t11 : Fin (k0_t11_loop v5305).trips, ∀ (k0_h2 : k0_cond2 i = 1#1), ∀ a, (k0_off1032 v5305 k0_t11) a + S1x1.size a ≤ S6x2048.size a) ∧
  (∀ k0_t11 : Fin (k0_t11_loop v5305).trips, ∀ (k0_h2 : k0_cond2 i = 1#1), ∀ a, (k0_off1034 v5305 k0_t11) a + S1x32.size a ≤ S2048x128.size a) ∧
  (∀ k0_t11 : Fin (k0_t11_loop v5305).trips, ∀ (k0_h2 : k0_cond2 i = 1#1), ∀ a, (k0_off1035 v5305 k0_t11) a + S1x1.size a ≤ S6x2048.size a) ∧
  (∀ k0_t11 : Fin (k0_t11_loop v5305).trips, ∀ (k0_h2 : k0_cond2 i = 1#1), ∀ a, (k0_off1037 v5305 k0_t11) a + S1x32.size a ≤ S2048x128.size a) ∧
  (∀ k0_t11 : Fin (k0_t11_loop v5305).trips, ∀ (k0_h2 : k0_cond2 i = 1#1), ∀ a, (k0_off1038 v5305 k0_t11) a + S1x1.size a ≤ S6x2048.size a) ∧
  (∀ k0_t11 : Fin (k0_t11_loop v5305).trips, ∀ (k0_h2 : k0_cond2 i = 1#1), ∀ a, (k0_off1040 v5305 k0_t11) a + S1x32.size a ≤ S2048x128.size a) ∧
  (∀ k0_t11 : Fin (k0_t11_loop v5305).trips, ∀ (k0_h2 : k0_cond2 i = 1#1), ∀ a, (k0_off1041 v5305 k0_t11) a + S1x1.size a ≤ S6x2048.size a) ∧
  (∀ k0_t11 : Fin (k0_t11_loop v5305).trips, ∀ (k0_h2 : k0_cond2 i = 1#1), ∀ a, (k0_off1043 v5305 k0_t11) a + S1x32.size a ≤ S2048x128.size a) ∧
  (∀ k0_t11 : Fin (k0_t11_loop v5305).trips, ∀ (k0_h2 : k0_cond2 i = 1#1), ∀ a, (k0_off1044 v5305 k0_t11) a + S1x1.size a ≤ S6x2048.size a) ∧
  (∀ k0_t11 : Fin (k0_t11_loop v5305).trips, ∀ (k0_h2 : k0_cond2 i = 1#1), ∀ a, (k0_off1046 v5305 k0_t11) a + S1x32.size a ≤ S2048x128.size a) ∧
  (∀ k0_t11 : Fin (k0_t11_loop v5305).trips, ∀ (k0_h2 : k0_cond2 i = 1#1), ∀ a, (k0_off1047 v5305 k0_t11) a + S1x1.size a ≤ S6x2048.size a) ∧
  (∀ k0_t11 : Fin (k0_t11_loop v5305).trips, ∀ (k0_h2 : k0_cond2 i = 1#1), ∀ a, (k0_off1049 v5305 k0_t11) a + S1x32.size a ≤ S2048x128.size a) ∧
  (∀ k0_t11 : Fin (k0_t11_loop v5305).trips, ∀ (k0_h2 : k0_cond2 i = 1#1), ∀ a, (k0_off1050 v5305 k0_t11) a + S1x1.size a ≤ S6x2048.size a) ∧
  (∀ k0_t11 : Fin (k0_t11_loop v5305).trips, ∀ (k0_h2 : k0_cond2 i = 1#1), ∀ a, (k0_off1052 v5305 k0_t11) a + S1x32.size a ≤ S2048x128.size a) ∧
  (∀ k0_t11 : Fin (k0_t11_loop v5305).trips, ∀ (k0_h2 : k0_cond2 i = 1#1), ∀ a, (k0_off1053 v5305 k0_t11) a + S1x1.size a ≤ S6x2048.size a) ∧
  (∀ k0_t11 : Fin (k0_t11_loop v5305).trips, ∀ (k0_h2 : k0_cond2 i = 1#1), ∀ a, (k0_off1055 v5305 k0_t11) a + S1x32.size a ≤ S2048x128.size a) ∧
  (∀ k0_t11 : Fin (k0_t11_loop v5305).trips, ∀ (k0_h2 : k0_cond2 i = 1#1), ∀ a, (k0_off1056 v5305 k0_t11) a + S1x1.size a ≤ S6x2048.size a)
def k0_chk326_2 (i : grid0.Coords) (v5305 : BitVec 32) : Prop :=
  (∀ k0_t11 : Fin (k0_t11_loop v5305).trips, ∀ (k0_h2 : k0_cond2 i = 1#1), ∀ a, (k0_off1058 v5305 k0_t11) a + S1x32.size a ≤ S2048x128.size a) ∧
  (∀ (k0_h2 : k0_cond2 i = 1#1), (k0_t12_loop v5305).OK) ∧
  (∀ k0_t12 : Fin (k0_t12_loop v5305).trips, ∀ (k0_h2 : k0_cond2 i = 1#1), ∀ a, (k0_off1059 v5305 k0_t12) a + S1x1.size a ≤ S6x2048.size a) ∧
  (∀ k0_t12 : Fin (k0_t12_loop v5305).trips, ∀ (k0_h2 : k0_cond2 i = 1#1), ∀ a, (k0_off1061 v5305 k0_t12) a + S1x32.size a ≤ S2048x128.size a) ∧
  (∀ k0_t12 : Fin (k0_t12_loop v5305).trips, ∀ (k0_h2 : k0_cond2 i = 1#1), ∀ a, (k0_off1062 v5305 k0_t12) a + S1x1.size a ≤ S6x2048.size a) ∧
  (∀ k0_t12 : Fin (k0_t12_loop v5305).trips, ∀ (k0_h2 : k0_cond2 i = 1#1), ∀ a, (k0_off1064 v5305 k0_t12) a + S1x32.size a ≤ S2048x128.size a) ∧
  (∀ k0_t12 : Fin (k0_t12_loop v5305).trips, ∀ (k0_h2 : k0_cond2 i = 1#1), ∀ a, (k0_off1065 v5305 k0_t12) a + S1x1.size a ≤ S6x2048.size a) ∧
  (∀ k0_t12 : Fin (k0_t12_loop v5305).trips, ∀ (k0_h2 : k0_cond2 i = 1#1), ∀ a, (k0_off1067 v5305 k0_t12) a + S1x32.size a ≤ S2048x128.size a) ∧
  (∀ k0_t12 : Fin (k0_t12_loop v5305).trips, ∀ (k0_h2 : k0_cond2 i = 1#1), ∀ a, (k0_off1068 v5305 k0_t12) a + S1x1.size a ≤ S6x2048.size a) ∧
  (∀ k0_t12 : Fin (k0_t12_loop v5305).trips, ∀ (k0_h2 : k0_cond2 i = 1#1), ∀ a, (k0_off1070 v5305 k0_t12) a + S1x32.size a ≤ S2048x128.size a) ∧
  (∀ k0_t12 : Fin (k0_t12_loop v5305).trips, ∀ (k0_h2 : k0_cond2 i = 1#1), ∀ a, (k0_off1071 v5305 k0_t12) a + S1x1.size a ≤ S6x2048.size a) ∧
  (∀ k0_t12 : Fin (k0_t12_loop v5305).trips, ∀ (k0_h2 : k0_cond2 i = 1#1), ∀ a, (k0_off1073 v5305 k0_t12) a + S1x32.size a ≤ S2048x128.size a) ∧
  (∀ k0_t12 : Fin (k0_t12_loop v5305).trips, ∀ (k0_h2 : k0_cond2 i = 1#1), ∀ a, (k0_off1074 v5305 k0_t12) a + S1x1.size a ≤ S6x2048.size a) ∧
  (∀ k0_t12 : Fin (k0_t12_loop v5305).trips, ∀ (k0_h2 : k0_cond2 i = 1#1), ∀ a, (k0_off1076 v5305 k0_t12) a + S1x32.size a ≤ S2048x128.size a) ∧
  (∀ k0_t12 : Fin (k0_t12_loop v5305).trips, ∀ (k0_h2 : k0_cond2 i = 1#1), ∀ a, (k0_off1077 v5305 k0_t12) a + S1x1.size a ≤ S6x2048.size a) ∧
  (∀ k0_t12 : Fin (k0_t12_loop v5305).trips, ∀ (k0_h2 : k0_cond2 i = 1#1), ∀ a, (k0_off1079 v5305 k0_t12) a + S1x32.size a ≤ S2048x128.size a) ∧
  (∀ k0_t12 : Fin (k0_t12_loop v5305).trips, ∀ (k0_h2 : k0_cond2 i = 1#1), ∀ a, (k0_off1080 v5305 k0_t12) a + S1x1.size a ≤ S6x2048.size a) ∧
  (∀ k0_t12 : Fin (k0_t12_loop v5305).trips, ∀ (k0_h2 : k0_cond2 i = 1#1), ∀ a, (k0_off1082 v5305 k0_t12) a + S1x32.size a ≤ S2048x128.size a) ∧
  (∀ k0_t12 : Fin (k0_t12_loop v5305).trips, ∀ (k0_h2 : k0_cond2 i = 1#1), ∀ a, (k0_off1083 v5305 k0_t12) a + S1x1.size a ≤ S6x2048.size a) ∧
  (∀ k0_t12 : Fin (k0_t12_loop v5305).trips, ∀ (k0_h2 : k0_cond2 i = 1#1), ∀ a, (k0_off1085 v5305 k0_t12) a + S1x32.size a ≤ S2048x128.size a) ∧
  (∀ k0_t12 : Fin (k0_t12_loop v5305).trips, ∀ (k0_h2 : k0_cond2 i = 1#1), ∀ a, (k0_off1086 v5305 k0_t12) a + S1x1.size a ≤ S6x2048.size a) ∧
  (∀ k0_t12 : Fin (k0_t12_loop v5305).trips, ∀ (k0_h2 : k0_cond2 i = 1#1), ∀ a, (k0_off1088 v5305 k0_t12) a + S1x32.size a ≤ S2048x128.size a) ∧
  (∀ k0_t12 : Fin (k0_t12_loop v5305).trips, ∀ (k0_h2 : k0_cond2 i = 1#1), ∀ a, (k0_off1089 v5305 k0_t12) a + S1x1.size a ≤ S6x2048.size a) ∧
  (∀ k0_t12 : Fin (k0_t12_loop v5305).trips, ∀ (k0_h2 : k0_cond2 i = 1#1), ∀ a, (k0_off1091 v5305 k0_t12) a + S1x32.size a ≤ S2048x128.size a) ∧
  (∀ k0_t12 : Fin (k0_t12_loop v5305).trips, ∀ (k0_h2 : k0_cond2 i = 1#1), ∀ a, (k0_off1092 v5305 k0_t12) a + S1x1.size a ≤ S6x2048.size a) ∧
  (∀ k0_t12 : Fin (k0_t12_loop v5305).trips, ∀ (k0_h2 : k0_cond2 i = 1#1), ∀ a, (k0_off1094 v5305 k0_t12) a + S1x32.size a ≤ S2048x128.size a) ∧
  (∀ k0_t12 : Fin (k0_t12_loop v5305).trips, ∀ (k0_h2 : k0_cond2 i = 1#1), ∀ a, (k0_off1095 v5305 k0_t12) a + S1x1.size a ≤ S6x2048.size a) ∧
  (∀ k0_t12 : Fin (k0_t12_loop v5305).trips, ∀ (k0_h2 : k0_cond2 i = 1#1), ∀ a, (k0_off1097 v5305 k0_t12) a + S1x32.size a ≤ S2048x128.size a) ∧
  (∀ k0_t12 : Fin (k0_t12_loop v5305).trips, ∀ (k0_h2 : k0_cond2 i = 1#1), ∀ a, (k0_off1098 v5305 k0_t12) a + S1x1.size a ≤ S6x2048.size a) ∧
  (∀ k0_t12 : Fin (k0_t12_loop v5305).trips, ∀ (k0_h2 : k0_cond2 i = 1#1), ∀ a, (k0_off1100 v5305 k0_t12) a + S1x32.size a ≤ S2048x128.size a) ∧
  (∀ k0_t12 : Fin (k0_t12_loop v5305).trips, ∀ (k0_h2 : k0_cond2 i = 1#1), ∀ a, (k0_off1101 v5305 k0_t12) a + S1x1.size a ≤ S6x2048.size a) ∧
  (∀ k0_t12 : Fin (k0_t12_loop v5305).trips, ∀ (k0_h2 : k0_cond2 i = 1#1), ∀ a, (k0_off1103 v5305 k0_t12) a + S1x32.size a ≤ S2048x128.size a)
def k0_chk326_3 (i : grid0.Coords) (v5305 : BitVec 32) : Prop :=
  (∀ k0_t12 : Fin (k0_t12_loop v5305).trips, ∀ (k0_h2 : k0_cond2 i = 1#1), ∀ a, (k0_off1104 v5305 k0_t12) a + S1x1.size a ≤ S6x2048.size a) ∧
  (∀ k0_t12 : Fin (k0_t12_loop v5305).trips, ∀ (k0_h2 : k0_cond2 i = 1#1), ∀ a, (k0_off1106 v5305 k0_t12) a + S1x32.size a ≤ S2048x128.size a) ∧
  (∀ k0_t12 : Fin (k0_t12_loop v5305).trips, ∀ (k0_h2 : k0_cond2 i = 1#1), ∀ a, (k0_off1107 v5305 k0_t12) a + S1x1.size a ≤ S6x2048.size a) ∧
  (∀ k0_t12 : Fin (k0_t12_loop v5305).trips, ∀ (k0_h2 : k0_cond2 i = 1#1), ∀ a, (k0_off1109 v5305 k0_t12) a + S1x32.size a ≤ S2048x128.size a) ∧
  (∀ k0_t12 : Fin (k0_t12_loop v5305).trips, ∀ (k0_h2 : k0_cond2 i = 1#1), ∀ a, (k0_off1110 v5305 k0_t12) a + S1x1.size a ≤ S6x2048.size a) ∧
  (∀ k0_t12 : Fin (k0_t12_loop v5305).trips, ∀ (k0_h2 : k0_cond2 i = 1#1), ∀ a, (k0_off1112 v5305 k0_t12) a + S1x32.size a ≤ S2048x128.size a) ∧
  (∀ k0_t12 : Fin (k0_t12_loop v5305).trips, ∀ (k0_h2 : k0_cond2 i = 1#1), ∀ a, (k0_off1113 v5305 k0_t12) a + S1x1.size a ≤ S6x2048.size a) ∧
  (∀ k0_t12 : Fin (k0_t12_loop v5305).trips, ∀ (k0_h2 : k0_cond2 i = 1#1), ∀ a, (k0_off1115 v5305 k0_t12) a + S1x32.size a ≤ S2048x128.size a) ∧
  (∀ k0_t12 : Fin (k0_t12_loop v5305).trips, ∀ (k0_h2 : k0_cond2 i = 1#1), ∀ a, (k0_off1116 v5305 k0_t12) a + S1x1.size a ≤ S6x2048.size a) ∧
  (∀ k0_t12 : Fin (k0_t12_loop v5305).trips, ∀ (k0_h2 : k0_cond2 i = 1#1), ∀ a, (k0_off1118 v5305 k0_t12) a + S1x32.size a ≤ S2048x128.size a) ∧
  (∀ k0_t12 : Fin (k0_t12_loop v5305).trips, ∀ (k0_h2 : k0_cond2 i = 1#1), ∀ a, (k0_off1119 v5305 k0_t12) a + S1x1.size a ≤ S6x2048.size a) ∧
  (∀ k0_t12 : Fin (k0_t12_loop v5305).trips, ∀ (k0_h2 : k0_cond2 i = 1#1), ∀ a, (k0_off1121 v5305 k0_t12) a + S1x32.size a ≤ S2048x128.size a) ∧
  (∀ k0_t12 : Fin (k0_t12_loop v5305).trips, ∀ (k0_h2 : k0_cond2 i = 1#1), ∀ a, (k0_off1122 v5305 k0_t12) a + S1x1.size a ≤ S6x2048.size a) ∧
  (∀ k0_t12 : Fin (k0_t12_loop v5305).trips, ∀ (k0_h2 : k0_cond2 i = 1#1), ∀ a, (k0_off1124 v5305 k0_t12) a + S1x32.size a ≤ S2048x128.size a) ∧
  (∀ k0_t12 : Fin (k0_t12_loop v5305).trips, ∀ (k0_h2 : k0_cond2 i = 1#1), ∀ a, (k0_off1125 v5305 k0_t12) a + S1x1.size a ≤ S6x2048.size a) ∧
  (∀ k0_t12 : Fin (k0_t12_loop v5305).trips, ∀ (k0_h2 : k0_cond2 i = 1#1), ∀ a, (k0_off1127 v5305 k0_t12) a + S1x32.size a ≤ S2048x128.size a) ∧
  (∀ k0_t12 : Fin (k0_t12_loop v5305).trips, ∀ (k0_h2 : k0_cond2 i = 1#1), ∀ a, (k0_off1128 v5305 k0_t12) a + S1x1.size a ≤ S6x2048.size a) ∧
  (∀ k0_t12 : Fin (k0_t12_loop v5305).trips, ∀ (k0_h2 : k0_cond2 i = 1#1), ∀ a, (k0_off1130 v5305 k0_t12) a + S1x32.size a ≤ S2048x128.size a) ∧
  (∀ k0_t12 : Fin (k0_t12_loop v5305).trips, ∀ (k0_h2 : k0_cond2 i = 1#1), ∀ a, (k0_off1131 v5305 k0_t12) a + S1x1.size a ≤ S6x2048.size a) ∧
  (∀ k0_t12 : Fin (k0_t12_loop v5305).trips, ∀ (k0_h2 : k0_cond2 i = 1#1), ∀ a, (k0_off1133 v5305 k0_t12) a + S1x32.size a ≤ S2048x128.size a) ∧
  (∀ k0_t12 : Fin (k0_t12_loop v5305).trips, ∀ (k0_h2 : k0_cond2 i = 1#1), ∀ a, (k0_off1134 v5305 k0_t12) a + S1x1.size a ≤ S6x2048.size a) ∧
  (∀ k0_t12 : Fin (k0_t12_loop v5305).trips, ∀ (k0_h2 : k0_cond2 i = 1#1), ∀ a, (k0_off1136 v5305 k0_t12) a + S1x32.size a ≤ S2048x128.size a) ∧
  (∀ k0_t12 : Fin (k0_t12_loop v5305).trips, ∀ (k0_h2 : k0_cond2 i = 1#1), ∀ a, (k0_off1137 v5305 k0_t12) a + S1x1.size a ≤ S6x2048.size a) ∧
  (∀ k0_t12 : Fin (k0_t12_loop v5305).trips, ∀ (k0_h2 : k0_cond2 i = 1#1), ∀ a, (k0_off1139 v5305 k0_t12) a + S1x32.size a ≤ S2048x128.size a) ∧
  (∀ k0_t12 : Fin (k0_t12_loop v5305).trips, ∀ (k0_h2 : k0_cond2 i = 1#1), ∀ a, (k0_off1140 v5305 k0_t12) a + S1x1.size a ≤ S6x2048.size a) ∧
  (∀ k0_t12 : Fin (k0_t12_loop v5305).trips, ∀ (k0_h2 : k0_cond2 i = 1#1), ∀ a, (k0_off1142 v5305 k0_t12) a + S1x32.size a ≤ S2048x128.size a) ∧
  (∀ k0_t12 : Fin (k0_t12_loop v5305).trips, ∀ (k0_h2 : k0_cond2 i = 1#1), ∀ a, (k0_off1143 v5305 k0_t12) a + S1x1.size a ≤ S6x2048.size a) ∧
  (∀ k0_t12 : Fin (k0_t12_loop v5305).trips, ∀ (k0_h2 : k0_cond2 i = 1#1), ∀ a, (k0_off1145 v5305 k0_t12) a + S1x32.size a ≤ S2048x128.size a) ∧
  (∀ k0_t12 : Fin (k0_t12_loop v5305).trips, ∀ (k0_h2 : k0_cond2 i = 1#1), ∀ a, (k0_off1146 v5305 k0_t12) a + S1x1.size a ≤ S6x2048.size a) ∧
  (∀ k0_t12 : Fin (k0_t12_loop v5305).trips, ∀ (k0_h2 : k0_cond2 i = 1#1), ∀ a, (k0_off1148 v5305 k0_t12) a + S1x32.size a ≤ S2048x128.size a) ∧
  (∀ k0_t12 : Fin (k0_t12_loop v5305).trips, ∀ (k0_h2 : k0_cond2 i = 1#1), ∀ a, (k0_off1149 v5305 k0_t12) a + S1x1.size a ≤ S6x2048.size a) ∧
  (∀ k0_t12 : Fin (k0_t12_loop v5305).trips, ∀ (k0_h2 : k0_cond2 i = 1#1), ∀ a, (k0_off1151 v5305 k0_t12) a + S1x32.size a ≤ S2048x128.size a)
def k0_chk326_4 (i : grid0.Coords) (v5305 : BitVec 32) : Prop :=
  (∀ k0_t12 : Fin (k0_t12_loop v5305).trips, ∀ (k0_h2 : k0_cond2 i = 1#1), ∀ a, (k0_off1152 v5305 k0_t12) a + S1x1.size a ≤ S6x2048.size a) ∧
  (∀ k0_t12 : Fin (k0_t12_loop v5305).trips, ∀ (k0_h2 : k0_cond2 i = 1#1), ∀ a, (k0_off1154 v5305 k0_t12) a + S1x32.size a ≤ S2048x128.size a)
def k0_chk326 (i : grid0.Coords) (v5305 : BitVec 32) : Prop :=
  k0_chk326_0 i v5305 ∧
  k0_chk326_1 i v5305 ∧
  k0_chk326_2 i v5305 ∧
  k0_chk326_3 i v5305 ∧
  k0_chk326_4 i v5305
theorem k0_t11_ok : ∀ (i : grid0.Coords) (v5305 : BitVec 32) (k0_hw326 : k0_chk326 i v5305), ∀ (k0_h2 : k0_cond2 i = 1#1), (k0_t11_loop v5305).OK := fun i v5305 k0_hw326 k0_h2 => k0_hw326.1.1 k0_h2
theorem k0_off963_inb : ∀ (i : grid0.Coords) (v5305 : BitVec 32) (k0_hw326 : k0_chk326 i v5305) (k0_t11 : Fin (k0_t11_loop v5305).trips), ∀ (k0_h2 : k0_cond2 i = 1#1), ∀ a, (k0_off963 v5305 k0_t11) a + S1x1.size a ≤ S6x2048.size a := fun i v5305 k0_hw326 k0_t11 k0_h2 => k0_hw326.1.2.1 k0_t11 k0_h2
theorem k0_off965_inb : ∀ (i : grid0.Coords) (v5305 : BitVec 32) (k0_hw326 : k0_chk326 i v5305) (k0_t11 : Fin (k0_t11_loop v5305).trips), ∀ (k0_h2 : k0_cond2 i = 1#1), ∀ a, (k0_off965 v5305 k0_t11) a + S1x32.size a ≤ S2048x128.size a := fun i v5305 k0_hw326 k0_t11 k0_h2 => k0_hw326.1.2.2.1 k0_t11 k0_h2
theorem k0_off966_inb : ∀ (i : grid0.Coords) (v5305 : BitVec 32) (k0_hw326 : k0_chk326 i v5305) (k0_t11 : Fin (k0_t11_loop v5305).trips), ∀ (k0_h2 : k0_cond2 i = 1#1), ∀ a, (k0_off966 v5305 k0_t11) a + S1x1.size a ≤ S6x2048.size a := fun i v5305 k0_hw326 k0_t11 k0_h2 => k0_hw326.1.2.2.2.1 k0_t11 k0_h2
theorem k0_off968_inb : ∀ (i : grid0.Coords) (v5305 : BitVec 32) (k0_hw326 : k0_chk326 i v5305) (k0_t11 : Fin (k0_t11_loop v5305).trips), ∀ (k0_h2 : k0_cond2 i = 1#1), ∀ a, (k0_off968 v5305 k0_t11) a + S1x32.size a ≤ S2048x128.size a := fun i v5305 k0_hw326 k0_t11 k0_h2 => k0_hw326.1.2.2.2.2.1 k0_t11 k0_h2
theorem k0_off969_inb : ∀ (i : grid0.Coords) (v5305 : BitVec 32) (k0_hw326 : k0_chk326 i v5305) (k0_t11 : Fin (k0_t11_loop v5305).trips), ∀ (k0_h2 : k0_cond2 i = 1#1), ∀ a, (k0_off969 v5305 k0_t11) a + S1x1.size a ≤ S6x2048.size a := fun i v5305 k0_hw326 k0_t11 k0_h2 => k0_hw326.1.2.2.2.2.2.1 k0_t11 k0_h2
theorem k0_off971_inb : ∀ (i : grid0.Coords) (v5305 : BitVec 32) (k0_hw326 : k0_chk326 i v5305) (k0_t11 : Fin (k0_t11_loop v5305).trips), ∀ (k0_h2 : k0_cond2 i = 1#1), ∀ a, (k0_off971 v5305 k0_t11) a + S1x32.size a ≤ S2048x128.size a := fun i v5305 k0_hw326 k0_t11 k0_h2 => k0_hw326.1.2.2.2.2.2.2.1 k0_t11 k0_h2
theorem k0_off972_inb : ∀ (i : grid0.Coords) (v5305 : BitVec 32) (k0_hw326 : k0_chk326 i v5305) (k0_t11 : Fin (k0_t11_loop v5305).trips), ∀ (k0_h2 : k0_cond2 i = 1#1), ∀ a, (k0_off972 v5305 k0_t11) a + S1x1.size a ≤ S6x2048.size a := fun i v5305 k0_hw326 k0_t11 k0_h2 => k0_hw326.1.2.2.2.2.2.2.2.1 k0_t11 k0_h2
theorem k0_off974_inb : ∀ (i : grid0.Coords) (v5305 : BitVec 32) (k0_hw326 : k0_chk326 i v5305) (k0_t11 : Fin (k0_t11_loop v5305).trips), ∀ (k0_h2 : k0_cond2 i = 1#1), ∀ a, (k0_off974 v5305 k0_t11) a + S1x32.size a ≤ S2048x128.size a := fun i v5305 k0_hw326 k0_t11 k0_h2 => k0_hw326.1.2.2.2.2.2.2.2.2.1 k0_t11 k0_h2
theorem k0_off975_inb : ∀ (i : grid0.Coords) (v5305 : BitVec 32) (k0_hw326 : k0_chk326 i v5305) (k0_t11 : Fin (k0_t11_loop v5305).trips), ∀ (k0_h2 : k0_cond2 i = 1#1), ∀ a, (k0_off975 v5305 k0_t11) a + S1x1.size a ≤ S6x2048.size a := fun i v5305 k0_hw326 k0_t11 k0_h2 => k0_hw326.1.2.2.2.2.2.2.2.2.2.1 k0_t11 k0_h2
theorem k0_off977_inb : ∀ (i : grid0.Coords) (v5305 : BitVec 32) (k0_hw326 : k0_chk326 i v5305) (k0_t11 : Fin (k0_t11_loop v5305).trips), ∀ (k0_h2 : k0_cond2 i = 1#1), ∀ a, (k0_off977 v5305 k0_t11) a + S1x32.size a ≤ S2048x128.size a := fun i v5305 k0_hw326 k0_t11 k0_h2 => k0_hw326.1.2.2.2.2.2.2.2.2.2.2.1 k0_t11 k0_h2
theorem k0_off978_inb : ∀ (i : grid0.Coords) (v5305 : BitVec 32) (k0_hw326 : k0_chk326 i v5305) (k0_t11 : Fin (k0_t11_loop v5305).trips), ∀ (k0_h2 : k0_cond2 i = 1#1), ∀ a, (k0_off978 v5305 k0_t11) a + S1x1.size a ≤ S6x2048.size a := fun i v5305 k0_hw326 k0_t11 k0_h2 => k0_hw326.1.2.2.2.2.2.2.2.2.2.2.2.1 k0_t11 k0_h2
theorem k0_off980_inb : ∀ (i : grid0.Coords) (v5305 : BitVec 32) (k0_hw326 : k0_chk326 i v5305) (k0_t11 : Fin (k0_t11_loop v5305).trips), ∀ (k0_h2 : k0_cond2 i = 1#1), ∀ a, (k0_off980 v5305 k0_t11) a + S1x32.size a ≤ S2048x128.size a := fun i v5305 k0_hw326 k0_t11 k0_h2 => k0_hw326.1.2.2.2.2.2.2.2.2.2.2.2.2.1 k0_t11 k0_h2
theorem k0_off981_inb : ∀ (i : grid0.Coords) (v5305 : BitVec 32) (k0_hw326 : k0_chk326 i v5305) (k0_t11 : Fin (k0_t11_loop v5305).trips), ∀ (k0_h2 : k0_cond2 i = 1#1), ∀ a, (k0_off981 v5305 k0_t11) a + S1x1.size a ≤ S6x2048.size a := fun i v5305 k0_hw326 k0_t11 k0_h2 => k0_hw326.1.2.2.2.2.2.2.2.2.2.2.2.2.2.1 k0_t11 k0_h2
theorem k0_off983_inb : ∀ (i : grid0.Coords) (v5305 : BitVec 32) (k0_hw326 : k0_chk326 i v5305) (k0_t11 : Fin (k0_t11_loop v5305).trips), ∀ (k0_h2 : k0_cond2 i = 1#1), ∀ a, (k0_off983 v5305 k0_t11) a + S1x32.size a ≤ S2048x128.size a := fun i v5305 k0_hw326 k0_t11 k0_h2 => k0_hw326.1.2.2.2.2.2.2.2.2.2.2.2.2.2.2.1 k0_t11 k0_h2
theorem k0_off984_inb : ∀ (i : grid0.Coords) (v5305 : BitVec 32) (k0_hw326 : k0_chk326 i v5305) (k0_t11 : Fin (k0_t11_loop v5305).trips), ∀ (k0_h2 : k0_cond2 i = 1#1), ∀ a, (k0_off984 v5305 k0_t11) a + S1x1.size a ≤ S6x2048.size a := fun i v5305 k0_hw326 k0_t11 k0_h2 => k0_hw326.1.2.2.2.2.2.2.2.2.2.2.2.2.2.2.2.1 k0_t11 k0_h2
theorem k0_off986_inb : ∀ (i : grid0.Coords) (v5305 : BitVec 32) (k0_hw326 : k0_chk326 i v5305) (k0_t11 : Fin (k0_t11_loop v5305).trips), ∀ (k0_h2 : k0_cond2 i = 1#1), ∀ a, (k0_off986 v5305 k0_t11) a + S1x32.size a ≤ S2048x128.size a := fun i v5305 k0_hw326 k0_t11 k0_h2 => k0_hw326.1.2.2.2.2.2.2.2.2.2.2.2.2.2.2.2.2.1 k0_t11 k0_h2
theorem k0_off987_inb : ∀ (i : grid0.Coords) (v5305 : BitVec 32) (k0_hw326 : k0_chk326 i v5305) (k0_t11 : Fin (k0_t11_loop v5305).trips), ∀ (k0_h2 : k0_cond2 i = 1#1), ∀ a, (k0_off987 v5305 k0_t11) a + S1x1.size a ≤ S6x2048.size a := fun i v5305 k0_hw326 k0_t11 k0_h2 => k0_hw326.1.2.2.2.2.2.2.2.2.2.2.2.2.2.2.2.2.2.1 k0_t11 k0_h2
theorem k0_off989_inb : ∀ (i : grid0.Coords) (v5305 : BitVec 32) (k0_hw326 : k0_chk326 i v5305) (k0_t11 : Fin (k0_t11_loop v5305).trips), ∀ (k0_h2 : k0_cond2 i = 1#1), ∀ a, (k0_off989 v5305 k0_t11) a + S1x32.size a ≤ S2048x128.size a := fun i v5305 k0_hw326 k0_t11 k0_h2 => k0_hw326.1.2.2.2.2.2.2.2.2.2.2.2.2.2.2.2.2.2.2.1 k0_t11 k0_h2
theorem k0_off990_inb : ∀ (i : grid0.Coords) (v5305 : BitVec 32) (k0_hw326 : k0_chk326 i v5305) (k0_t11 : Fin (k0_t11_loop v5305).trips), ∀ (k0_h2 : k0_cond2 i = 1#1), ∀ a, (k0_off990 v5305 k0_t11) a + S1x1.size a ≤ S6x2048.size a := fun i v5305 k0_hw326 k0_t11 k0_h2 => k0_hw326.1.2.2.2.2.2.2.2.2.2.2.2.2.2.2.2.2.2.2.2.1 k0_t11 k0_h2
theorem k0_off992_inb : ∀ (i : grid0.Coords) (v5305 : BitVec 32) (k0_hw326 : k0_chk326 i v5305) (k0_t11 : Fin (k0_t11_loop v5305).trips), ∀ (k0_h2 : k0_cond2 i = 1#1), ∀ a, (k0_off992 v5305 k0_t11) a + S1x32.size a ≤ S2048x128.size a := fun i v5305 k0_hw326 k0_t11 k0_h2 => k0_hw326.1.2.2.2.2.2.2.2.2.2.2.2.2.2.2.2.2.2.2.2.2.1 k0_t11 k0_h2
theorem k0_off993_inb : ∀ (i : grid0.Coords) (v5305 : BitVec 32) (k0_hw326 : k0_chk326 i v5305) (k0_t11 : Fin (k0_t11_loop v5305).trips), ∀ (k0_h2 : k0_cond2 i = 1#1), ∀ a, (k0_off993 v5305 k0_t11) a + S1x1.size a ≤ S6x2048.size a := fun i v5305 k0_hw326 k0_t11 k0_h2 => k0_hw326.1.2.2.2.2.2.2.2.2.2.2.2.2.2.2.2.2.2.2.2.2.2.1 k0_t11 k0_h2
theorem k0_off995_inb : ∀ (i : grid0.Coords) (v5305 : BitVec 32) (k0_hw326 : k0_chk326 i v5305) (k0_t11 : Fin (k0_t11_loop v5305).trips), ∀ (k0_h2 : k0_cond2 i = 1#1), ∀ a, (k0_off995 v5305 k0_t11) a + S1x32.size a ≤ S2048x128.size a := fun i v5305 k0_hw326 k0_t11 k0_h2 => k0_hw326.1.2.2.2.2.2.2.2.2.2.2.2.2.2.2.2.2.2.2.2.2.2.2.1 k0_t11 k0_h2
theorem k0_off996_inb : ∀ (i : grid0.Coords) (v5305 : BitVec 32) (k0_hw326 : k0_chk326 i v5305) (k0_t11 : Fin (k0_t11_loop v5305).trips), ∀ (k0_h2 : k0_cond2 i = 1#1), ∀ a, (k0_off996 v5305 k0_t11) a + S1x1.size a ≤ S6x2048.size a := fun i v5305 k0_hw326 k0_t11 k0_h2 => k0_hw326.1.2.2.2.2.2.2.2.2.2.2.2.2.2.2.2.2.2.2.2.2.2.2.2.1 k0_t11 k0_h2
theorem k0_off998_inb : ∀ (i : grid0.Coords) (v5305 : BitVec 32) (k0_hw326 : k0_chk326 i v5305) (k0_t11 : Fin (k0_t11_loop v5305).trips), ∀ (k0_h2 : k0_cond2 i = 1#1), ∀ a, (k0_off998 v5305 k0_t11) a + S1x32.size a ≤ S2048x128.size a := fun i v5305 k0_hw326 k0_t11 k0_h2 => k0_hw326.1.2.2.2.2.2.2.2.2.2.2.2.2.2.2.2.2.2.2.2.2.2.2.2.2.1 k0_t11 k0_h2
theorem k0_off999_inb : ∀ (i : grid0.Coords) (v5305 : BitVec 32) (k0_hw326 : k0_chk326 i v5305) (k0_t11 : Fin (k0_t11_loop v5305).trips), ∀ (k0_h2 : k0_cond2 i = 1#1), ∀ a, (k0_off999 v5305 k0_t11) a + S1x1.size a ≤ S6x2048.size a := fun i v5305 k0_hw326 k0_t11 k0_h2 => k0_hw326.1.2.2.2.2.2.2.2.2.2.2.2.2.2.2.2.2.2.2.2.2.2.2.2.2.2.1 k0_t11 k0_h2
theorem k0_off1001_inb : ∀ (i : grid0.Coords) (v5305 : BitVec 32) (k0_hw326 : k0_chk326 i v5305) (k0_t11 : Fin (k0_t11_loop v5305).trips), ∀ (k0_h2 : k0_cond2 i = 1#1), ∀ a, (k0_off1001 v5305 k0_t11) a + S1x32.size a ≤ S2048x128.size a := fun i v5305 k0_hw326 k0_t11 k0_h2 => k0_hw326.1.2.2.2.2.2.2.2.2.2.2.2.2.2.2.2.2.2.2.2.2.2.2.2.2.2.2.1 k0_t11 k0_h2
theorem k0_off1002_inb : ∀ (i : grid0.Coords) (v5305 : BitVec 32) (k0_hw326 : k0_chk326 i v5305) (k0_t11 : Fin (k0_t11_loop v5305).trips), ∀ (k0_h2 : k0_cond2 i = 1#1), ∀ a, (k0_off1002 v5305 k0_t11) a + S1x1.size a ≤ S6x2048.size a := fun i v5305 k0_hw326 k0_t11 k0_h2 => k0_hw326.1.2.2.2.2.2.2.2.2.2.2.2.2.2.2.2.2.2.2.2.2.2.2.2.2.2.2.2.1 k0_t11 k0_h2
theorem k0_off1004_inb : ∀ (i : grid0.Coords) (v5305 : BitVec 32) (k0_hw326 : k0_chk326 i v5305) (k0_t11 : Fin (k0_t11_loop v5305).trips), ∀ (k0_h2 : k0_cond2 i = 1#1), ∀ a, (k0_off1004 v5305 k0_t11) a + S1x32.size a ≤ S2048x128.size a := fun i v5305 k0_hw326 k0_t11 k0_h2 => k0_hw326.1.2.2.2.2.2.2.2.2.2.2.2.2.2.2.2.2.2.2.2.2.2.2.2.2.2.2.2.2.1 k0_t11 k0_h2
theorem k0_off1005_inb : ∀ (i : grid0.Coords) (v5305 : BitVec 32) (k0_hw326 : k0_chk326 i v5305) (k0_t11 : Fin (k0_t11_loop v5305).trips), ∀ (k0_h2 : k0_cond2 i = 1#1), ∀ a, (k0_off1005 v5305 k0_t11) a + S1x1.size a ≤ S6x2048.size a := fun i v5305 k0_hw326 k0_t11 k0_h2 => k0_hw326.1.2.2.2.2.2.2.2.2.2.2.2.2.2.2.2.2.2.2.2.2.2.2.2.2.2.2.2.2.2.1 k0_t11 k0_h2
theorem k0_off1007_inb : ∀ (i : grid0.Coords) (v5305 : BitVec 32) (k0_hw326 : k0_chk326 i v5305) (k0_t11 : Fin (k0_t11_loop v5305).trips), ∀ (k0_h2 : k0_cond2 i = 1#1), ∀ a, (k0_off1007 v5305 k0_t11) a + S1x32.size a ≤ S2048x128.size a := fun i v5305 k0_hw326 k0_t11 k0_h2 => k0_hw326.1.2.2.2.2.2.2.2.2.2.2.2.2.2.2.2.2.2.2.2.2.2.2.2.2.2.2.2.2.2.2.1 k0_t11 k0_h2
theorem k0_off1008_inb : ∀ (i : grid0.Coords) (v5305 : BitVec 32) (k0_hw326 : k0_chk326 i v5305) (k0_t11 : Fin (k0_t11_loop v5305).trips), ∀ (k0_h2 : k0_cond2 i = 1#1), ∀ a, (k0_off1008 v5305 k0_t11) a + S1x1.size a ≤ S6x2048.size a := fun i v5305 k0_hw326 k0_t11 k0_h2 => k0_hw326.1.2.2.2.2.2.2.2.2.2.2.2.2.2.2.2.2.2.2.2.2.2.2.2.2.2.2.2.2.2.2.2 k0_t11 k0_h2
theorem k0_off1010_inb : ∀ (i : grid0.Coords) (v5305 : BitVec 32) (k0_hw326 : k0_chk326 i v5305) (k0_t11 : Fin (k0_t11_loop v5305).trips), ∀ (k0_h2 : k0_cond2 i = 1#1), ∀ a, (k0_off1010 v5305 k0_t11) a + S1x32.size a ≤ S2048x128.size a := fun i v5305 k0_hw326 k0_t11 k0_h2 => k0_hw326.2.1.1 k0_t11 k0_h2
theorem k0_off1011_inb : ∀ (i : grid0.Coords) (v5305 : BitVec 32) (k0_hw326 : k0_chk326 i v5305) (k0_t11 : Fin (k0_t11_loop v5305).trips), ∀ (k0_h2 : k0_cond2 i = 1#1), ∀ a, (k0_off1011 v5305 k0_t11) a + S1x1.size a ≤ S6x2048.size a := fun i v5305 k0_hw326 k0_t11 k0_h2 => k0_hw326.2.1.2.1 k0_t11 k0_h2
theorem k0_off1013_inb : ∀ (i : grid0.Coords) (v5305 : BitVec 32) (k0_hw326 : k0_chk326 i v5305) (k0_t11 : Fin (k0_t11_loop v5305).trips), ∀ (k0_h2 : k0_cond2 i = 1#1), ∀ a, (k0_off1013 v5305 k0_t11) a + S1x32.size a ≤ S2048x128.size a := fun i v5305 k0_hw326 k0_t11 k0_h2 => k0_hw326.2.1.2.2.1 k0_t11 k0_h2
theorem k0_off1014_inb : ∀ (i : grid0.Coords) (v5305 : BitVec 32) (k0_hw326 : k0_chk326 i v5305) (k0_t11 : Fin (k0_t11_loop v5305).trips), ∀ (k0_h2 : k0_cond2 i = 1#1), ∀ a, (k0_off1014 v5305 k0_t11) a + S1x1.size a ≤ S6x2048.size a := fun i v5305 k0_hw326 k0_t11 k0_h2 => k0_hw326.2.1.2.2.2.1 k0_t11 k0_h2
theorem k0_off1016_inb : ∀ (i : grid0.Coords) (v5305 : BitVec 32) (k0_hw326 : k0_chk326 i v5305) (k0_t11 : Fin (k0_t11_loop v5305).trips), ∀ (k0_h2 : k0_cond2 i = 1#1), ∀ a, (k0_off1016 v5305 k0_t11) a + S1x32.size a ≤ S2048x128.size a := fun i v5305 k0_hw326 k0_t11 k0_h2 => k0_hw326.2.1.2.2.2.2.1 k0_t11 k0_h2
theorem k0_off1017_inb : ∀ (i : grid0.Coords) (v5305 : BitVec 32) (k0_hw326 : k0_chk326 i v5305) (k0_t11 : Fin (k0_t11_loop v5305).trips), ∀ (k0_h2 : k0_cond2 i = 1#1), ∀ a, (k0_off1017 v5305 k0_t11) a + S1x1.size a ≤ S6x2048.size a := fun i v5305 k0_hw326 k0_t11 k0_h2 => k0_hw326.2.1.2.2.2.2.2.1 k0_t11 k0_h2
theorem k0_off1019_inb : ∀ (i : grid0.Coords) (v5305 : BitVec 32) (k0_hw326 : k0_chk326 i v5305) (k0_t11 : Fin (k0_t11_loop v5305).trips), ∀ (k0_h2 : k0_cond2 i = 1#1), ∀ a, (k0_off1019 v5305 k0_t11) a + S1x32.size a ≤ S2048x128.size a := fun i v5305 k0_hw326 k0_t11 k0_h2 => k0_hw326.2.1.2.2.2.2.2.2.1 k0_t11 k0_h2
theorem k0_off1020_inb : ∀ (i : grid0.Coords) (v5305 : BitVec 32) (k0_hw326 : k0_chk326 i v5305) (k0_t11 : Fin (k0_t11_loop v5305).trips), ∀ (k0_h2 : k0_cond2 i = 1#1), ∀ a, (k0_off1020 v5305 k0_t11) a + S1x1.size a ≤ S6x2048.size a := fun i v5305 k0_hw326 k0_t11 k0_h2 => k0_hw326.2.1.2.2.2.2.2.2.2.1 k0_t11 k0_h2
theorem k0_off1022_inb : ∀ (i : grid0.Coords) (v5305 : BitVec 32) (k0_hw326 : k0_chk326 i v5305) (k0_t11 : Fin (k0_t11_loop v5305).trips), ∀ (k0_h2 : k0_cond2 i = 1#1), ∀ a, (k0_off1022 v5305 k0_t11) a + S1x32.size a ≤ S2048x128.size a := fun i v5305 k0_hw326 k0_t11 k0_h2 => k0_hw326.2.1.2.2.2.2.2.2.2.2.1 k0_t11 k0_h2
theorem k0_off1023_inb : ∀ (i : grid0.Coords) (v5305 : BitVec 32) (k0_hw326 : k0_chk326 i v5305) (k0_t11 : Fin (k0_t11_loop v5305).trips), ∀ (k0_h2 : k0_cond2 i = 1#1), ∀ a, (k0_off1023 v5305 k0_t11) a + S1x1.size a ≤ S6x2048.size a := fun i v5305 k0_hw326 k0_t11 k0_h2 => k0_hw326.2.1.2.2.2.2.2.2.2.2.2.1 k0_t11 k0_h2
theorem k0_off1025_inb : ∀ (i : grid0.Coords) (v5305 : BitVec 32) (k0_hw326 : k0_chk326 i v5305) (k0_t11 : Fin (k0_t11_loop v5305).trips), ∀ (k0_h2 : k0_cond2 i = 1#1), ∀ a, (k0_off1025 v5305 k0_t11) a + S1x32.size a ≤ S2048x128.size a := fun i v5305 k0_hw326 k0_t11 k0_h2 => k0_hw326.2.1.2.2.2.2.2.2.2.2.2.2.1 k0_t11 k0_h2
theorem k0_off1026_inb : ∀ (i : grid0.Coords) (v5305 : BitVec 32) (k0_hw326 : k0_chk326 i v5305) (k0_t11 : Fin (k0_t11_loop v5305).trips), ∀ (k0_h2 : k0_cond2 i = 1#1), ∀ a, (k0_off1026 v5305 k0_t11) a + S1x1.size a ≤ S6x2048.size a := fun i v5305 k0_hw326 k0_t11 k0_h2 => k0_hw326.2.1.2.2.2.2.2.2.2.2.2.2.2.1 k0_t11 k0_h2
theorem k0_off1028_inb : ∀ (i : grid0.Coords) (v5305 : BitVec 32) (k0_hw326 : k0_chk326 i v5305) (k0_t11 : Fin (k0_t11_loop v5305).trips), ∀ (k0_h2 : k0_cond2 i = 1#1), ∀ a, (k0_off1028 v5305 k0_t11) a + S1x32.size a ≤ S2048x128.size a := fun i v5305 k0_hw326 k0_t11 k0_h2 => k0_hw326.2.1.2.2.2.2.2.2.2.2.2.2.2.2.1 k0_t11 k0_h2
theorem k0_off1029_inb : ∀ (i : grid0.Coords) (v5305 : BitVec 32) (k0_hw326 : k0_chk326 i v5305) (k0_t11 : Fin (k0_t11_loop v5305).trips), ∀ (k0_h2 : k0_cond2 i = 1#1), ∀ a, (k0_off1029 v5305 k0_t11) a + S1x1.size a ≤ S6x2048.size a := fun i v5305 k0_hw326 k0_t11 k0_h2 => k0_hw326.2.1.2.2.2.2.2.2.2.2.2.2.2.2.2.1 k0_t11 k0_h2
theorem k0_off1031_inb : ∀ (i : grid0.Coords) (v5305 : BitVec 32) (k0_hw326 : k0_chk326 i v5305) (k0_t11 : Fin (k0_t11_loop v5305).trips), ∀ (k0_h2 : k0_cond2 i = 1#1), ∀ a, (k0_off1031 v5305 k0_t11) a + S1x32.size a ≤ S2048x128.size a := fun i v5305 k0_hw326 k0_t11 k0_h2 => k0_hw326.2.1.2.2.2.2.2.2.2.2.2.2.2.2.2.2.1 k0_t11 k0_h2
theorem k0_off1032_inb : ∀ (i : grid0.Coords) (v5305 : BitVec 32) (k0_hw326 : k0_chk326 i v5305) (k0_t11 : Fin (k0_t11_loop v5305).trips), ∀ (k0_h2 : k0_cond2 i = 1#1), ∀ a, (k0_off1032 v5305 k0_t11) a + S1x1.size a ≤ S6x2048.size a := fun i v5305 k0_hw326 k0_t11 k0_h2 => k0_hw326.2.1.2.2.2.2.2.2.2.2.2.2.2.2.2.2.2.1 k0_t11 k0_h2
theorem k0_off1034_inb : ∀ (i : grid0.Coords) (v5305 : BitVec 32) (k0_hw326 : k0_chk326 i v5305) (k0_t11 : Fin (k0_t11_loop v5305).trips), ∀ (k0_h2 : k0_cond2 i = 1#1), ∀ a, (k0_off1034 v5305 k0_t11) a + S1x32.size a ≤ S2048x128.size a := fun i v5305 k0_hw326 k0_t11 k0_h2 => k0_hw326.2.1.2.2.2.2.2.2.2.2.2.2.2.2.2.2.2.2.1 k0_t11 k0_h2
theorem k0_off1035_inb : ∀ (i : grid0.Coords) (v5305 : BitVec 32) (k0_hw326 : k0_chk326 i v5305) (k0_t11 : Fin (k0_t11_loop v5305).trips), ∀ (k0_h2 : k0_cond2 i = 1#1), ∀ a, (k0_off1035 v5305 k0_t11) a + S1x1.size a ≤ S6x2048.size a := fun i v5305 k0_hw326 k0_t11 k0_h2 => k0_hw326.2.1.2.2.2.2.2.2.2.2.2.2.2.2.2.2.2.2.2.1 k0_t11 k0_h2
theorem k0_off1037_inb : ∀ (i : grid0.Coords) (v5305 : BitVec 32) (k0_hw326 : k0_chk326 i v5305) (k0_t11 : Fin (k0_t11_loop v5305).trips), ∀ (k0_h2 : k0_cond2 i = 1#1), ∀ a, (k0_off1037 v5305 k0_t11) a + S1x32.size a ≤ S2048x128.size a := fun i v5305 k0_hw326 k0_t11 k0_h2 => k0_hw326.2.1.2.2.2.2.2.2.2.2.2.2.2.2.2.2.2.2.2.2.1 k0_t11 k0_h2
theorem k0_off1038_inb : ∀ (i : grid0.Coords) (v5305 : BitVec 32) (k0_hw326 : k0_chk326 i v5305) (k0_t11 : Fin (k0_t11_loop v5305).trips), ∀ (k0_h2 : k0_cond2 i = 1#1), ∀ a, (k0_off1038 v5305 k0_t11) a + S1x1.size a ≤ S6x2048.size a := fun i v5305 k0_hw326 k0_t11 k0_h2 => k0_hw326.2.1.2.2.2.2.2.2.2.2.2.2.2.2.2.2.2.2.2.2.2.1 k0_t11 k0_h2
theorem k0_off1040_inb : ∀ (i : grid0.Coords) (v5305 : BitVec 32) (k0_hw326 : k0_chk326 i v5305) (k0_t11 : Fin (k0_t11_loop v5305).trips), ∀ (k0_h2 : k0_cond2 i = 1#1), ∀ a, (k0_off1040 v5305 k0_t11) a + S1x32.size a ≤ S2048x128.size a := fun i v5305 k0_hw326 k0_t11 k0_h2 => k0_hw326.2.1.2.2.2.2.2.2.2.2.2.2.2.2.2.2.2.2.2.2.2.2.1 k0_t11 k0_h2
theorem k0_off1041_inb : ∀ (i : grid0.Coords) (v5305 : BitVec 32) (k0_hw326 : k0_chk326 i v5305) (k0_t11 : Fin (k0_t11_loop v5305).trips), ∀ (k0_h2 : k0_cond2 i = 1#1), ∀ a, (k0_off1041 v5305 k0_t11) a + S1x1.size a ≤ S6x2048.size a := fun i v5305 k0_hw326 k0_t11 k0_h2 => k0_hw326.2.1.2.2.2.2.2.2.2.2.2.2.2.2.2.2.2.2.2.2.2.2.2.1 k0_t11 k0_h2
theorem k0_off1043_inb : ∀ (i : grid0.Coords) (v5305 : BitVec 32) (k0_hw326 : k0_chk326 i v5305) (k0_t11 : Fin (k0_t11_loop v5305).trips), ∀ (k0_h2 : k0_cond2 i = 1#1), ∀ a, (k0_off1043 v5305 k0_t11) a + S1x32.size a ≤ S2048x128.size a := fun i v5305 k0_hw326 k0_t11 k0_h2 => k0_hw326.2.1.2.2.2.2.2.2.2.2.2.2.2.2.2.2.2.2.2.2.2.2.2.2.1 k0_t11 k0_h2
theorem k0_off1044_inb : ∀ (i : grid0.Coords) (v5305 : BitVec 32) (k0_hw326 : k0_chk326 i v5305) (k0_t11 : Fin (k0_t11_loop v5305).trips), ∀ (k0_h2 : k0_cond2 i = 1#1), ∀ a, (k0_off1044 v5305 k0_t11) a + S1x1.size a ≤ S6x2048.size a := fun i v5305 k0_hw326 k0_t11 k0_h2 => k0_hw326.2.1.2.2.2.2.2.2.2.2.2.2.2.2.2.2.2.2.2.2.2.2.2.2.2.1 k0_t11 k0_h2
theorem k0_off1046_inb : ∀ (i : grid0.Coords) (v5305 : BitVec 32) (k0_hw326 : k0_chk326 i v5305) (k0_t11 : Fin (k0_t11_loop v5305).trips), ∀ (k0_h2 : k0_cond2 i = 1#1), ∀ a, (k0_off1046 v5305 k0_t11) a + S1x32.size a ≤ S2048x128.size a := fun i v5305 k0_hw326 k0_t11 k0_h2 => k0_hw326.2.1.2.2.2.2.2.2.2.2.2.2.2.2.2.2.2.2.2.2.2.2.2.2.2.2.1 k0_t11 k0_h2
theorem k0_off1047_inb : ∀ (i : grid0.Coords) (v5305 : BitVec 32) (k0_hw326 : k0_chk326 i v5305) (k0_t11 : Fin (k0_t11_loop v5305).trips), ∀ (k0_h2 : k0_cond2 i = 1#1), ∀ a, (k0_off1047 v5305 k0_t11) a + S1x1.size a ≤ S6x2048.size a := fun i v5305 k0_hw326 k0_t11 k0_h2 => k0_hw326.2.1.2.2.2.2.2.2.2.2.2.2.2.2.2.2.2.2.2.2.2.2.2.2.2.2.2.1 k0_t11 k0_h2
theorem k0_off1049_inb : ∀ (i : grid0.Coords) (v5305 : BitVec 32) (k0_hw326 : k0_chk326 i v5305) (k0_t11 : Fin (k0_t11_loop v5305).trips), ∀ (k0_h2 : k0_cond2 i = 1#1), ∀ a, (k0_off1049 v5305 k0_t11) a + S1x32.size a ≤ S2048x128.size a := fun i v5305 k0_hw326 k0_t11 k0_h2 => k0_hw326.2.1.2.2.2.2.2.2.2.2.2.2.2.2.2.2.2.2.2.2.2.2.2.2.2.2.2.2.1 k0_t11 k0_h2
theorem k0_off1050_inb : ∀ (i : grid0.Coords) (v5305 : BitVec 32) (k0_hw326 : k0_chk326 i v5305) (k0_t11 : Fin (k0_t11_loop v5305).trips), ∀ (k0_h2 : k0_cond2 i = 1#1), ∀ a, (k0_off1050 v5305 k0_t11) a + S1x1.size a ≤ S6x2048.size a := fun i v5305 k0_hw326 k0_t11 k0_h2 => k0_hw326.2.1.2.2.2.2.2.2.2.2.2.2.2.2.2.2.2.2.2.2.2.2.2.2.2.2.2.2.2.1 k0_t11 k0_h2
theorem k0_off1052_inb : ∀ (i : grid0.Coords) (v5305 : BitVec 32) (k0_hw326 : k0_chk326 i v5305) (k0_t11 : Fin (k0_t11_loop v5305).trips), ∀ (k0_h2 : k0_cond2 i = 1#1), ∀ a, (k0_off1052 v5305 k0_t11) a + S1x32.size a ≤ S2048x128.size a := fun i v5305 k0_hw326 k0_t11 k0_h2 => k0_hw326.2.1.2.2.2.2.2.2.2.2.2.2.2.2.2.2.2.2.2.2.2.2.2.2.2.2.2.2.2.2.1 k0_t11 k0_h2
theorem k0_off1053_inb : ∀ (i : grid0.Coords) (v5305 : BitVec 32) (k0_hw326 : k0_chk326 i v5305) (k0_t11 : Fin (k0_t11_loop v5305).trips), ∀ (k0_h2 : k0_cond2 i = 1#1), ∀ a, (k0_off1053 v5305 k0_t11) a + S1x1.size a ≤ S6x2048.size a := fun i v5305 k0_hw326 k0_t11 k0_h2 => k0_hw326.2.1.2.2.2.2.2.2.2.2.2.2.2.2.2.2.2.2.2.2.2.2.2.2.2.2.2.2.2.2.2.1 k0_t11 k0_h2
theorem k0_off1055_inb : ∀ (i : grid0.Coords) (v5305 : BitVec 32) (k0_hw326 : k0_chk326 i v5305) (k0_t11 : Fin (k0_t11_loop v5305).trips), ∀ (k0_h2 : k0_cond2 i = 1#1), ∀ a, (k0_off1055 v5305 k0_t11) a + S1x32.size a ≤ S2048x128.size a := fun i v5305 k0_hw326 k0_t11 k0_h2 => k0_hw326.2.1.2.2.2.2.2.2.2.2.2.2.2.2.2.2.2.2.2.2.2.2.2.2.2.2.2.2.2.2.2.2.1 k0_t11 k0_h2
theorem k0_off1056_inb : ∀ (i : grid0.Coords) (v5305 : BitVec 32) (k0_hw326 : k0_chk326 i v5305) (k0_t11 : Fin (k0_t11_loop v5305).trips), ∀ (k0_h2 : k0_cond2 i = 1#1), ∀ a, (k0_off1056 v5305 k0_t11) a + S1x1.size a ≤ S6x2048.size a := fun i v5305 k0_hw326 k0_t11 k0_h2 => k0_hw326.2.1.2.2.2.2.2.2.2.2.2.2.2.2.2.2.2.2.2.2.2.2.2.2.2.2.2.2.2.2.2.2.2 k0_t11 k0_h2
theorem k0_off1058_inb : ∀ (i : grid0.Coords) (v5305 : BitVec 32) (k0_hw326 : k0_chk326 i v5305) (k0_t11 : Fin (k0_t11_loop v5305).trips), ∀ (k0_h2 : k0_cond2 i = 1#1), ∀ a, (k0_off1058 v5305 k0_t11) a + S1x32.size a ≤ S2048x128.size a := fun i v5305 k0_hw326 k0_t11 k0_h2 => k0_hw326.2.2.1.1 k0_t11 k0_h2
theorem k0_t12_ok : ∀ (i : grid0.Coords) (v5305 : BitVec 32) (k0_hw326 : k0_chk326 i v5305), ∀ (k0_h2 : k0_cond2 i = 1#1), (k0_t12_loop v5305).OK := fun i v5305 k0_hw326 k0_h2 => k0_hw326.2.2.1.2.1 k0_h2
theorem k0_off1059_inb : ∀ (i : grid0.Coords) (v5305 : BitVec 32) (k0_hw326 : k0_chk326 i v5305) (k0_t12 : Fin (k0_t12_loop v5305).trips), ∀ (k0_h2 : k0_cond2 i = 1#1), ∀ a, (k0_off1059 v5305 k0_t12) a + S1x1.size a ≤ S6x2048.size a := fun i v5305 k0_hw326 k0_t12 k0_h2 => k0_hw326.2.2.1.2.2.1 k0_t12 k0_h2
theorem k0_off1061_inb : ∀ (i : grid0.Coords) (v5305 : BitVec 32) (k0_hw326 : k0_chk326 i v5305) (k0_t12 : Fin (k0_t12_loop v5305).trips), ∀ (k0_h2 : k0_cond2 i = 1#1), ∀ a, (k0_off1061 v5305 k0_t12) a + S1x32.size a ≤ S2048x128.size a := fun i v5305 k0_hw326 k0_t12 k0_h2 => k0_hw326.2.2.1.2.2.2.1 k0_t12 k0_h2
theorem k0_off1062_inb : ∀ (i : grid0.Coords) (v5305 : BitVec 32) (k0_hw326 : k0_chk326 i v5305) (k0_t12 : Fin (k0_t12_loop v5305).trips), ∀ (k0_h2 : k0_cond2 i = 1#1), ∀ a, (k0_off1062 v5305 k0_t12) a + S1x1.size a ≤ S6x2048.size a := fun i v5305 k0_hw326 k0_t12 k0_h2 => k0_hw326.2.2.1.2.2.2.2.1 k0_t12 k0_h2
theorem k0_off1064_inb : ∀ (i : grid0.Coords) (v5305 : BitVec 32) (k0_hw326 : k0_chk326 i v5305) (k0_t12 : Fin (k0_t12_loop v5305).trips), ∀ (k0_h2 : k0_cond2 i = 1#1), ∀ a, (k0_off1064 v5305 k0_t12) a + S1x32.size a ≤ S2048x128.size a := fun i v5305 k0_hw326 k0_t12 k0_h2 => k0_hw326.2.2.1.2.2.2.2.2.1 k0_t12 k0_h2
theorem k0_off1065_inb : ∀ (i : grid0.Coords) (v5305 : BitVec 32) (k0_hw326 : k0_chk326 i v5305) (k0_t12 : Fin (k0_t12_loop v5305).trips), ∀ (k0_h2 : k0_cond2 i = 1#1), ∀ a, (k0_off1065 v5305 k0_t12) a + S1x1.size a ≤ S6x2048.size a := fun i v5305 k0_hw326 k0_t12 k0_h2 => k0_hw326.2.2.1.2.2.2.2.2.2.1 k0_t12 k0_h2
theorem k0_off1067_inb : ∀ (i : grid0.Coords) (v5305 : BitVec 32) (k0_hw326 : k0_chk326 i v5305) (k0_t12 : Fin (k0_t12_loop v5305).trips), ∀ (k0_h2 : k0_cond2 i = 1#1), ∀ a, (k0_off1067 v5305 k0_t12) a + S1x32.size a ≤ S2048x128.size a := fun i v5305 k0_hw326 k0_t12 k0_h2 => k0_hw326.2.2.1.2.2.2.2.2.2.2.1 k0_t12 k0_h2
theorem k0_off1068_inb : ∀ (i : grid0.Coords) (v5305 : BitVec 32) (k0_hw326 : k0_chk326 i v5305) (k0_t12 : Fin (k0_t12_loop v5305).trips), ∀ (k0_h2 : k0_cond2 i = 1#1), ∀ a, (k0_off1068 v5305 k0_t12) a + S1x1.size a ≤ S6x2048.size a := fun i v5305 k0_hw326 k0_t12 k0_h2 => k0_hw326.2.2.1.2.2.2.2.2.2.2.2.1 k0_t12 k0_h2
theorem k0_off1070_inb : ∀ (i : grid0.Coords) (v5305 : BitVec 32) (k0_hw326 : k0_chk326 i v5305) (k0_t12 : Fin (k0_t12_loop v5305).trips), ∀ (k0_h2 : k0_cond2 i = 1#1), ∀ a, (k0_off1070 v5305 k0_t12) a + S1x32.size a ≤ S2048x128.size a := fun i v5305 k0_hw326 k0_t12 k0_h2 => k0_hw326.2.2.1.2.2.2.2.2.2.2.2.2.1 k0_t12 k0_h2
theorem k0_off1071_inb : ∀ (i : grid0.Coords) (v5305 : BitVec 32) (k0_hw326 : k0_chk326 i v5305) (k0_t12 : Fin (k0_t12_loop v5305).trips), ∀ (k0_h2 : k0_cond2 i = 1#1), ∀ a, (k0_off1071 v5305 k0_t12) a + S1x1.size a ≤ S6x2048.size a := fun i v5305 k0_hw326 k0_t12 k0_h2 => k0_hw326.2.2.1.2.2.2.2.2.2.2.2.2.2.1 k0_t12 k0_h2
theorem k0_off1073_inb : ∀ (i : grid0.Coords) (v5305 : BitVec 32) (k0_hw326 : k0_chk326 i v5305) (k0_t12 : Fin (k0_t12_loop v5305).trips), ∀ (k0_h2 : k0_cond2 i = 1#1), ∀ a, (k0_off1073 v5305 k0_t12) a + S1x32.size a ≤ S2048x128.size a := fun i v5305 k0_hw326 k0_t12 k0_h2 => k0_hw326.2.2.1.2.2.2.2.2.2.2.2.2.2.2.1 k0_t12 k0_h2
theorem k0_off1074_inb : ∀ (i : grid0.Coords) (v5305 : BitVec 32) (k0_hw326 : k0_chk326 i v5305) (k0_t12 : Fin (k0_t12_loop v5305).trips), ∀ (k0_h2 : k0_cond2 i = 1#1), ∀ a, (k0_off1074 v5305 k0_t12) a + S1x1.size a ≤ S6x2048.size a := fun i v5305 k0_hw326 k0_t12 k0_h2 => k0_hw326.2.2.1.2.2.2.2.2.2.2.2.2.2.2.2.1 k0_t12 k0_h2
theorem k0_off1076_inb : ∀ (i : grid0.Coords) (v5305 : BitVec 32) (k0_hw326 : k0_chk326 i v5305) (k0_t12 : Fin (k0_t12_loop v5305).trips), ∀ (k0_h2 : k0_cond2 i = 1#1), ∀ a, (k0_off1076 v5305 k0_t12) a + S1x32.size a ≤ S2048x128.size a := fun i v5305 k0_hw326 k0_t12 k0_h2 => k0_hw326.2.2.1.2.2.2.2.2.2.2.2.2.2.2.2.2.1 k0_t12 k0_h2
theorem k0_off1077_inb : ∀ (i : grid0.Coords) (v5305 : BitVec 32) (k0_hw326 : k0_chk326 i v5305) (k0_t12 : Fin (k0_t12_loop v5305).trips), ∀ (k0_h2 : k0_cond2 i = 1#1), ∀ a, (k0_off1077 v5305 k0_t12) a + S1x1.size a ≤ S6x2048.size a := fun i v5305 k0_hw326 k0_t12 k0_h2 => k0_hw326.2.2.1.2.2.2.2.2.2.2.2.2.2.2.2.2.2.1 k0_t12 k0_h2
theorem k0_off1079_inb : ∀ (i : grid0.Coords) (v5305 : BitVec 32) (k0_hw326 : k0_chk326 i v5305) (k0_t12 : Fin (k0_t12_loop v5305).trips), ∀ (k0_h2 : k0_cond2 i = 1#1), ∀ a, (k0_off1079 v5305 k0_t12) a + S1x32.size a ≤ S2048x128.size a := fun i v5305 k0_hw326 k0_t12 k0_h2 => k0_hw326.2.2.1.2.2.2.2.2.2.2.2.2.2.2.2.2.2.2.1 k0_t12 k0_h2
theorem k0_off1080_inb : ∀ (i : grid0.Coords) (v5305 : BitVec 32) (k0_hw326 : k0_chk326 i v5305) (k0_t12 : Fin (k0_t12_loop v5305).trips), ∀ (k0_h2 : k0_cond2 i = 1#1), ∀ a, (k0_off1080 v5305 k0_t12) a + S1x1.size a ≤ S6x2048.size a := fun i v5305 k0_hw326 k0_t12 k0_h2 => k0_hw326.2.2.1.2.2.2.2.2.2.2.2.2.2.2.2.2.2.2.2.1 k0_t12 k0_h2
theorem k0_off1082_inb : ∀ (i : grid0.Coords) (v5305 : BitVec 32) (k0_hw326 : k0_chk326 i v5305) (k0_t12 : Fin (k0_t12_loop v5305).trips), ∀ (k0_h2 : k0_cond2 i = 1#1), ∀ a, (k0_off1082 v5305 k0_t12) a + S1x32.size a ≤ S2048x128.size a := fun i v5305 k0_hw326 k0_t12 k0_h2 => k0_hw326.2.2.1.2.2.2.2.2.2.2.2.2.2.2.2.2.2.2.2.2.1 k0_t12 k0_h2
theorem k0_off1083_inb : ∀ (i : grid0.Coords) (v5305 : BitVec 32) (k0_hw326 : k0_chk326 i v5305) (k0_t12 : Fin (k0_t12_loop v5305).trips), ∀ (k0_h2 : k0_cond2 i = 1#1), ∀ a, (k0_off1083 v5305 k0_t12) a + S1x1.size a ≤ S6x2048.size a := fun i v5305 k0_hw326 k0_t12 k0_h2 => k0_hw326.2.2.1.2.2.2.2.2.2.2.2.2.2.2.2.2.2.2.2.2.2.1 k0_t12 k0_h2
theorem k0_off1085_inb : ∀ (i : grid0.Coords) (v5305 : BitVec 32) (k0_hw326 : k0_chk326 i v5305) (k0_t12 : Fin (k0_t12_loop v5305).trips), ∀ (k0_h2 : k0_cond2 i = 1#1), ∀ a, (k0_off1085 v5305 k0_t12) a + S1x32.size a ≤ S2048x128.size a := fun i v5305 k0_hw326 k0_t12 k0_h2 => k0_hw326.2.2.1.2.2.2.2.2.2.2.2.2.2.2.2.2.2.2.2.2.2.2.1 k0_t12 k0_h2
theorem k0_off1086_inb : ∀ (i : grid0.Coords) (v5305 : BitVec 32) (k0_hw326 : k0_chk326 i v5305) (k0_t12 : Fin (k0_t12_loop v5305).trips), ∀ (k0_h2 : k0_cond2 i = 1#1), ∀ a, (k0_off1086 v5305 k0_t12) a + S1x1.size a ≤ S6x2048.size a := fun i v5305 k0_hw326 k0_t12 k0_h2 => k0_hw326.2.2.1.2.2.2.2.2.2.2.2.2.2.2.2.2.2.2.2.2.2.2.2.1 k0_t12 k0_h2
theorem k0_off1088_inb : ∀ (i : grid0.Coords) (v5305 : BitVec 32) (k0_hw326 : k0_chk326 i v5305) (k0_t12 : Fin (k0_t12_loop v5305).trips), ∀ (k0_h2 : k0_cond2 i = 1#1), ∀ a, (k0_off1088 v5305 k0_t12) a + S1x32.size a ≤ S2048x128.size a := fun i v5305 k0_hw326 k0_t12 k0_h2 => k0_hw326.2.2.1.2.2.2.2.2.2.2.2.2.2.2.2.2.2.2.2.2.2.2.2.2.1 k0_t12 k0_h2
theorem k0_off1089_inb : ∀ (i : grid0.Coords) (v5305 : BitVec 32) (k0_hw326 : k0_chk326 i v5305) (k0_t12 : Fin (k0_t12_loop v5305).trips), ∀ (k0_h2 : k0_cond2 i = 1#1), ∀ a, (k0_off1089 v5305 k0_t12) a + S1x1.size a ≤ S6x2048.size a := fun i v5305 k0_hw326 k0_t12 k0_h2 => k0_hw326.2.2.1.2.2.2.2.2.2.2.2.2.2.2.2.2.2.2.2.2.2.2.2.2.2.1 k0_t12 k0_h2
theorem k0_off1091_inb : ∀ (i : grid0.Coords) (v5305 : BitVec 32) (k0_hw326 : k0_chk326 i v5305) (k0_t12 : Fin (k0_t12_loop v5305).trips), ∀ (k0_h2 : k0_cond2 i = 1#1), ∀ a, (k0_off1091 v5305 k0_t12) a + S1x32.size a ≤ S2048x128.size a := fun i v5305 k0_hw326 k0_t12 k0_h2 => k0_hw326.2.2.1.2.2.2.2.2.2.2.2.2.2.2.2.2.2.2.2.2.2.2.2.2.2.2.1 k0_t12 k0_h2
theorem k0_off1092_inb : ∀ (i : grid0.Coords) (v5305 : BitVec 32) (k0_hw326 : k0_chk326 i v5305) (k0_t12 : Fin (k0_t12_loop v5305).trips), ∀ (k0_h2 : k0_cond2 i = 1#1), ∀ a, (k0_off1092 v5305 k0_t12) a + S1x1.size a ≤ S6x2048.size a := fun i v5305 k0_hw326 k0_t12 k0_h2 => k0_hw326.2.2.1.2.2.2.2.2.2.2.2.2.2.2.2.2.2.2.2.2.2.2.2.2.2.2.2.1 k0_t12 k0_h2
theorem k0_off1094_inb : ∀ (i : grid0.Coords) (v5305 : BitVec 32) (k0_hw326 : k0_chk326 i v5305) (k0_t12 : Fin (k0_t12_loop v5305).trips), ∀ (k0_h2 : k0_cond2 i = 1#1), ∀ a, (k0_off1094 v5305 k0_t12) a + S1x32.size a ≤ S2048x128.size a := fun i v5305 k0_hw326 k0_t12 k0_h2 => k0_hw326.2.2.1.2.2.2.2.2.2.2.2.2.2.2.2.2.2.2.2.2.2.2.2.2.2.2.2.2.1 k0_t12 k0_h2
theorem k0_off1095_inb : ∀ (i : grid0.Coords) (v5305 : BitVec 32) (k0_hw326 : k0_chk326 i v5305) (k0_t12 : Fin (k0_t12_loop v5305).trips), ∀ (k0_h2 : k0_cond2 i = 1#1), ∀ a, (k0_off1095 v5305 k0_t12) a + S1x1.size a ≤ S6x2048.size a := fun i v5305 k0_hw326 k0_t12 k0_h2 => k0_hw326.2.2.1.2.2.2.2.2.2.2.2.2.2.2.2.2.2.2.2.2.2.2.2.2.2.2.2.2.2.1 k0_t12 k0_h2
theorem k0_off1097_inb : ∀ (i : grid0.Coords) (v5305 : BitVec 32) (k0_hw326 : k0_chk326 i v5305) (k0_t12 : Fin (k0_t12_loop v5305).trips), ∀ (k0_h2 : k0_cond2 i = 1#1), ∀ a, (k0_off1097 v5305 k0_t12) a + S1x32.size a ≤ S2048x128.size a := fun i v5305 k0_hw326 k0_t12 k0_h2 => k0_hw326.2.2.1.2.2.2.2.2.2.2.2.2.2.2.2.2.2.2.2.2.2.2.2.2.2.2.2.2.2.2.1 k0_t12 k0_h2
theorem k0_off1098_inb : ∀ (i : grid0.Coords) (v5305 : BitVec 32) (k0_hw326 : k0_chk326 i v5305) (k0_t12 : Fin (k0_t12_loop v5305).trips), ∀ (k0_h2 : k0_cond2 i = 1#1), ∀ a, (k0_off1098 v5305 k0_t12) a + S1x1.size a ≤ S6x2048.size a := fun i v5305 k0_hw326 k0_t12 k0_h2 => k0_hw326.2.2.1.2.2.2.2.2.2.2.2.2.2.2.2.2.2.2.2.2.2.2.2.2.2.2.2.2.2.2.2.1 k0_t12 k0_h2
theorem k0_off1100_inb : ∀ (i : grid0.Coords) (v5305 : BitVec 32) (k0_hw326 : k0_chk326 i v5305) (k0_t12 : Fin (k0_t12_loop v5305).trips), ∀ (k0_h2 : k0_cond2 i = 1#1), ∀ a, (k0_off1100 v5305 k0_t12) a + S1x32.size a ≤ S2048x128.size a := fun i v5305 k0_hw326 k0_t12 k0_h2 => k0_hw326.2.2.1.2.2.2.2.2.2.2.2.2.2.2.2.2.2.2.2.2.2.2.2.2.2.2.2.2.2.2.2.2.1 k0_t12 k0_h2
theorem k0_off1101_inb : ∀ (i : grid0.Coords) (v5305 : BitVec 32) (k0_hw326 : k0_chk326 i v5305) (k0_t12 : Fin (k0_t12_loop v5305).trips), ∀ (k0_h2 : k0_cond2 i = 1#1), ∀ a, (k0_off1101 v5305 k0_t12) a + S1x1.size a ≤ S6x2048.size a := fun i v5305 k0_hw326 k0_t12 k0_h2 => k0_hw326.2.2.1.2.2.2.2.2.2.2.2.2.2.2.2.2.2.2.2.2.2.2.2.2.2.2.2.2.2.2.2.2.2.1 k0_t12 k0_h2
theorem k0_off1103_inb : ∀ (i : grid0.Coords) (v5305 : BitVec 32) (k0_hw326 : k0_chk326 i v5305) (k0_t12 : Fin (k0_t12_loop v5305).trips), ∀ (k0_h2 : k0_cond2 i = 1#1), ∀ a, (k0_off1103 v5305 k0_t12) a + S1x32.size a ≤ S2048x128.size a := fun i v5305 k0_hw326 k0_t12 k0_h2 => k0_hw326.2.2.1.2.2.2.2.2.2.2.2.2.2.2.2.2.2.2.2.2.2.2.2.2.2.2.2.2.2.2.2.2.2.2 k0_t12 k0_h2
theorem k0_off1104_inb : ∀ (i : grid0.Coords) (v5305 : BitVec 32) (k0_hw326 : k0_chk326 i v5305) (k0_t12 : Fin (k0_t12_loop v5305).trips), ∀ (k0_h2 : k0_cond2 i = 1#1), ∀ a, (k0_off1104 v5305 k0_t12) a + S1x1.size a ≤ S6x2048.size a := fun i v5305 k0_hw326 k0_t12 k0_h2 => k0_hw326.2.2.2.1.1 k0_t12 k0_h2
theorem k0_off1106_inb : ∀ (i : grid0.Coords) (v5305 : BitVec 32) (k0_hw326 : k0_chk326 i v5305) (k0_t12 : Fin (k0_t12_loop v5305).trips), ∀ (k0_h2 : k0_cond2 i = 1#1), ∀ a, (k0_off1106 v5305 k0_t12) a + S1x32.size a ≤ S2048x128.size a := fun i v5305 k0_hw326 k0_t12 k0_h2 => k0_hw326.2.2.2.1.2.1 k0_t12 k0_h2
theorem k0_off1107_inb : ∀ (i : grid0.Coords) (v5305 : BitVec 32) (k0_hw326 : k0_chk326 i v5305) (k0_t12 : Fin (k0_t12_loop v5305).trips), ∀ (k0_h2 : k0_cond2 i = 1#1), ∀ a, (k0_off1107 v5305 k0_t12) a + S1x1.size a ≤ S6x2048.size a := fun i v5305 k0_hw326 k0_t12 k0_h2 => k0_hw326.2.2.2.1.2.2.1 k0_t12 k0_h2
theorem k0_off1109_inb : ∀ (i : grid0.Coords) (v5305 : BitVec 32) (k0_hw326 : k0_chk326 i v5305) (k0_t12 : Fin (k0_t12_loop v5305).trips), ∀ (k0_h2 : k0_cond2 i = 1#1), ∀ a, (k0_off1109 v5305 k0_t12) a + S1x32.size a ≤ S2048x128.size a := fun i v5305 k0_hw326 k0_t12 k0_h2 => k0_hw326.2.2.2.1.2.2.2.1 k0_t12 k0_h2
theorem k0_off1110_inb : ∀ (i : grid0.Coords) (v5305 : BitVec 32) (k0_hw326 : k0_chk326 i v5305) (k0_t12 : Fin (k0_t12_loop v5305).trips), ∀ (k0_h2 : k0_cond2 i = 1#1), ∀ a, (k0_off1110 v5305 k0_t12) a + S1x1.size a ≤ S6x2048.size a := fun i v5305 k0_hw326 k0_t12 k0_h2 => k0_hw326.2.2.2.1.2.2.2.2.1 k0_t12 k0_h2
theorem k0_off1112_inb : ∀ (i : grid0.Coords) (v5305 : BitVec 32) (k0_hw326 : k0_chk326 i v5305) (k0_t12 : Fin (k0_t12_loop v5305).trips), ∀ (k0_h2 : k0_cond2 i = 1#1), ∀ a, (k0_off1112 v5305 k0_t12) a + S1x32.size a ≤ S2048x128.size a := fun i v5305 k0_hw326 k0_t12 k0_h2 => k0_hw326.2.2.2.1.2.2.2.2.2.1 k0_t12 k0_h2
theorem k0_off1113_inb : ∀ (i : grid0.Coords) (v5305 : BitVec 32) (k0_hw326 : k0_chk326 i v5305) (k0_t12 : Fin (k0_t12_loop v5305).trips), ∀ (k0_h2 : k0_cond2 i = 1#1), ∀ a, (k0_off1113 v5305 k0_t12) a + S1x1.size a ≤ S6x2048.size a := fun i v5305 k0_hw326 k0_t12 k0_h2 => k0_hw326.2.2.2.1.2.2.2.2.2.2.1 k0_t12 k0_h2
theorem k0_off1115_inb : ∀ (i : grid0.Coords) (v5305 : BitVec 32) (k0_hw326 : k0_chk326 i v5305) (k0_t12 : Fin (k0_t12_loop v5305).trips), ∀ (k0_h2 : k0_cond2 i = 1#1), ∀ a, (k0_off1115 v5305 k0_t12) a + S1x32.size a ≤ S2048x128.size a := fun i v5305 k0_hw326 k0_t12 k0_h2 => k0_hw326.2.2.2.1.2.2.2.2.2.2.2.1 k0_t12 k0_h2
theorem k0_off1116_inb : ∀ (i : grid0.Coords) (v5305 : BitVec 32) (k0_hw326 : k0_chk326 i v5305) (k0_t12 : Fin (k0_t12_loop v5305).trips), ∀ (k0_h2 : k0_cond2 i = 1#1), ∀ a, (k0_off1116 v5305 k0_t12) a + S1x1.size a ≤ S6x2048.size a := fun i v5305 k0_hw326 k0_t12 k0_h2 => k0_hw326.2.2.2.1.2.2.2.2.2.2.2.2.1 k0_t12 k0_h2
theorem k0_off1118_inb : ∀ (i : grid0.Coords) (v5305 : BitVec 32) (k0_hw326 : k0_chk326 i v5305) (k0_t12 : Fin (k0_t12_loop v5305).trips), ∀ (k0_h2 : k0_cond2 i = 1#1), ∀ a, (k0_off1118 v5305 k0_t12) a + S1x32.size a ≤ S2048x128.size a := fun i v5305 k0_hw326 k0_t12 k0_h2 => k0_hw326.2.2.2.1.2.2.2.2.2.2.2.2.2.1 k0_t12 k0_h2
theorem k0_off1119_inb : ∀ (i : grid0.Coords) (v5305 : BitVec 32) (k0_hw326 : k0_chk326 i v5305) (k0_t12 : Fin (k0_t12_loop v5305).trips), ∀ (k0_h2 : k0_cond2 i = 1#1), ∀ a, (k0_off1119 v5305 k0_t12) a + S1x1.size a ≤ S6x2048.size a := fun i v5305 k0_hw326 k0_t12 k0_h2 => k0_hw326.2.2.2.1.2.2.2.2.2.2.2.2.2.2.1 k0_t12 k0_h2
theorem k0_off1121_inb : ∀ (i : grid0.Coords) (v5305 : BitVec 32) (k0_hw326 : k0_chk326 i v5305) (k0_t12 : Fin (k0_t12_loop v5305).trips), ∀ (k0_h2 : k0_cond2 i = 1#1), ∀ a, (k0_off1121 v5305 k0_t12) a + S1x32.size a ≤ S2048x128.size a := fun i v5305 k0_hw326 k0_t12 k0_h2 => k0_hw326.2.2.2.1.2.2.2.2.2.2.2.2.2.2.2.1 k0_t12 k0_h2
theorem k0_off1122_inb : ∀ (i : grid0.Coords) (v5305 : BitVec 32) (k0_hw326 : k0_chk326 i v5305) (k0_t12 : Fin (k0_t12_loop v5305).trips), ∀ (k0_h2 : k0_cond2 i = 1#1), ∀ a, (k0_off1122 v5305 k0_t12) a + S1x1.size a ≤ S6x2048.size a := fun i v5305 k0_hw326 k0_t12 k0_h2 => k0_hw326.2.2.2.1.2.2.2.2.2.2.2.2.2.2.2.2.1 k0_t12 k0_h2
theorem k0_off1124_inb : ∀ (i : grid0.Coords) (v5305 : BitVec 32) (k0_hw326 : k0_chk326 i v5305) (k0_t12 : Fin (k0_t12_loop v5305).trips), ∀ (k0_h2 : k0_cond2 i = 1#1), ∀ a, (k0_off1124 v5305 k0_t12) a + S1x32.size a ≤ S2048x128.size a := fun i v5305 k0_hw326 k0_t12 k0_h2 => k0_hw326.2.2.2.1.2.2.2.2.2.2.2.2.2.2.2.2.2.1 k0_t12 k0_h2
theorem k0_off1125_inb : ∀ (i : grid0.Coords) (v5305 : BitVec 32) (k0_hw326 : k0_chk326 i v5305) (k0_t12 : Fin (k0_t12_loop v5305).trips), ∀ (k0_h2 : k0_cond2 i = 1#1), ∀ a, (k0_off1125 v5305 k0_t12) a + S1x1.size a ≤ S6x2048.size a := fun i v5305 k0_hw326 k0_t12 k0_h2 => k0_hw326.2.2.2.1.2.2.2.2.2.2.2.2.2.2.2.2.2.2.1 k0_t12 k0_h2
theorem k0_off1127_inb : ∀ (i : grid0.Coords) (v5305 : BitVec 32) (k0_hw326 : k0_chk326 i v5305) (k0_t12 : Fin (k0_t12_loop v5305).trips), ∀ (k0_h2 : k0_cond2 i = 1#1), ∀ a, (k0_off1127 v5305 k0_t12) a + S1x32.size a ≤ S2048x128.size a := fun i v5305 k0_hw326 k0_t12 k0_h2 => k0_hw326.2.2.2.1.2.2.2.2.2.2.2.2.2.2.2.2.2.2.2.1 k0_t12 k0_h2
theorem k0_off1128_inb : ∀ (i : grid0.Coords) (v5305 : BitVec 32) (k0_hw326 : k0_chk326 i v5305) (k0_t12 : Fin (k0_t12_loop v5305).trips), ∀ (k0_h2 : k0_cond2 i = 1#1), ∀ a, (k0_off1128 v5305 k0_t12) a + S1x1.size a ≤ S6x2048.size a := fun i v5305 k0_hw326 k0_t12 k0_h2 => k0_hw326.2.2.2.1.2.2.2.2.2.2.2.2.2.2.2.2.2.2.2.2.1 k0_t12 k0_h2
theorem k0_off1130_inb : ∀ (i : grid0.Coords) (v5305 : BitVec 32) (k0_hw326 : k0_chk326 i v5305) (k0_t12 : Fin (k0_t12_loop v5305).trips), ∀ (k0_h2 : k0_cond2 i = 1#1), ∀ a, (k0_off1130 v5305 k0_t12) a + S1x32.size a ≤ S2048x128.size a := fun i v5305 k0_hw326 k0_t12 k0_h2 => k0_hw326.2.2.2.1.2.2.2.2.2.2.2.2.2.2.2.2.2.2.2.2.2.1 k0_t12 k0_h2
theorem k0_off1131_inb : ∀ (i : grid0.Coords) (v5305 : BitVec 32) (k0_hw326 : k0_chk326 i v5305) (k0_t12 : Fin (k0_t12_loop v5305).trips), ∀ (k0_h2 : k0_cond2 i = 1#1), ∀ a, (k0_off1131 v5305 k0_t12) a + S1x1.size a ≤ S6x2048.size a := fun i v5305 k0_hw326 k0_t12 k0_h2 => k0_hw326.2.2.2.1.2.2.2.2.2.2.2.2.2.2.2.2.2.2.2.2.2.2.1 k0_t12 k0_h2
theorem k0_off1133_inb : ∀ (i : grid0.Coords) (v5305 : BitVec 32) (k0_hw326 : k0_chk326 i v5305) (k0_t12 : Fin (k0_t12_loop v5305).trips), ∀ (k0_h2 : k0_cond2 i = 1#1), ∀ a, (k0_off1133 v5305 k0_t12) a + S1x32.size a ≤ S2048x128.size a := fun i v5305 k0_hw326 k0_t12 k0_h2 => k0_hw326.2.2.2.1.2.2.2.2.2.2.2.2.2.2.2.2.2.2.2.2.2.2.2.1 k0_t12 k0_h2
theorem k0_off1134_inb : ∀ (i : grid0.Coords) (v5305 : BitVec 32) (k0_hw326 : k0_chk326 i v5305) (k0_t12 : Fin (k0_t12_loop v5305).trips), ∀ (k0_h2 : k0_cond2 i = 1#1), ∀ a, (k0_off1134 v5305 k0_t12) a + S1x1.size a ≤ S6x2048.size a := fun i v5305 k0_hw326 k0_t12 k0_h2 => k0_hw326.2.2.2.1.2.2.2.2.2.2.2.2.2.2.2.2.2.2.2.2.2.2.2.2.1 k0_t12 k0_h2
theorem k0_off1136_inb : ∀ (i : grid0.Coords) (v5305 : BitVec 32) (k0_hw326 : k0_chk326 i v5305) (k0_t12 : Fin (k0_t12_loop v5305).trips), ∀ (k0_h2 : k0_cond2 i = 1#1), ∀ a, (k0_off1136 v5305 k0_t12) a + S1x32.size a ≤ S2048x128.size a := fun i v5305 k0_hw326 k0_t12 k0_h2 => k0_hw326.2.2.2.1.2.2.2.2.2.2.2.2.2.2.2.2.2.2.2.2.2.2.2.2.2.1 k0_t12 k0_h2
theorem k0_off1137_inb : ∀ (i : grid0.Coords) (v5305 : BitVec 32) (k0_hw326 : k0_chk326 i v5305) (k0_t12 : Fin (k0_t12_loop v5305).trips), ∀ (k0_h2 : k0_cond2 i = 1#1), ∀ a, (k0_off1137 v5305 k0_t12) a + S1x1.size a ≤ S6x2048.size a := fun i v5305 k0_hw326 k0_t12 k0_h2 => k0_hw326.2.2.2.1.2.2.2.2.2.2.2.2.2.2.2.2.2.2.2.2.2.2.2.2.2.2.1 k0_t12 k0_h2
theorem k0_off1139_inb : ∀ (i : grid0.Coords) (v5305 : BitVec 32) (k0_hw326 : k0_chk326 i v5305) (k0_t12 : Fin (k0_t12_loop v5305).trips), ∀ (k0_h2 : k0_cond2 i = 1#1), ∀ a, (k0_off1139 v5305 k0_t12) a + S1x32.size a ≤ S2048x128.size a := fun i v5305 k0_hw326 k0_t12 k0_h2 => k0_hw326.2.2.2.1.2.2.2.2.2.2.2.2.2.2.2.2.2.2.2.2.2.2.2.2.2.2.2.1 k0_t12 k0_h2
theorem k0_off1140_inb : ∀ (i : grid0.Coords) (v5305 : BitVec 32) (k0_hw326 : k0_chk326 i v5305) (k0_t12 : Fin (k0_t12_loop v5305).trips), ∀ (k0_h2 : k0_cond2 i = 1#1), ∀ a, (k0_off1140 v5305 k0_t12) a + S1x1.size a ≤ S6x2048.size a := fun i v5305 k0_hw326 k0_t12 k0_h2 => k0_hw326.2.2.2.1.2.2.2.2.2.2.2.2.2.2.2.2.2.2.2.2.2.2.2.2.2.2.2.2.1 k0_t12 k0_h2
theorem k0_off1142_inb : ∀ (i : grid0.Coords) (v5305 : BitVec 32) (k0_hw326 : k0_chk326 i v5305) (k0_t12 : Fin (k0_t12_loop v5305).trips), ∀ (k0_h2 : k0_cond2 i = 1#1), ∀ a, (k0_off1142 v5305 k0_t12) a + S1x32.size a ≤ S2048x128.size a := fun i v5305 k0_hw326 k0_t12 k0_h2 => k0_hw326.2.2.2.1.2.2.2.2.2.2.2.2.2.2.2.2.2.2.2.2.2.2.2.2.2.2.2.2.2.1 k0_t12 k0_h2
theorem k0_off1143_inb : ∀ (i : grid0.Coords) (v5305 : BitVec 32) (k0_hw326 : k0_chk326 i v5305) (k0_t12 : Fin (k0_t12_loop v5305).trips), ∀ (k0_h2 : k0_cond2 i = 1#1), ∀ a, (k0_off1143 v5305 k0_t12) a + S1x1.size a ≤ S6x2048.size a := fun i v5305 k0_hw326 k0_t12 k0_h2 => k0_hw326.2.2.2.1.2.2.2.2.2.2.2.2.2.2.2.2.2.2.2.2.2.2.2.2.2.2.2.2.2.2.1 k0_t12 k0_h2
theorem k0_off1145_inb : ∀ (i : grid0.Coords) (v5305 : BitVec 32) (k0_hw326 : k0_chk326 i v5305) (k0_t12 : Fin (k0_t12_loop v5305).trips), ∀ (k0_h2 : k0_cond2 i = 1#1), ∀ a, (k0_off1145 v5305 k0_t12) a + S1x32.size a ≤ S2048x128.size a := fun i v5305 k0_hw326 k0_t12 k0_h2 => k0_hw326.2.2.2.1.2.2.2.2.2.2.2.2.2.2.2.2.2.2.2.2.2.2.2.2.2.2.2.2.2.2.2.1 k0_t12 k0_h2
theorem k0_off1146_inb : ∀ (i : grid0.Coords) (v5305 : BitVec 32) (k0_hw326 : k0_chk326 i v5305) (k0_t12 : Fin (k0_t12_loop v5305).trips), ∀ (k0_h2 : k0_cond2 i = 1#1), ∀ a, (k0_off1146 v5305 k0_t12) a + S1x1.size a ≤ S6x2048.size a := fun i v5305 k0_hw326 k0_t12 k0_h2 => k0_hw326.2.2.2.1.2.2.2.2.2.2.2.2.2.2.2.2.2.2.2.2.2.2.2.2.2.2.2.2.2.2.2.2.1 k0_t12 k0_h2
theorem k0_off1148_inb : ∀ (i : grid0.Coords) (v5305 : BitVec 32) (k0_hw326 : k0_chk326 i v5305) (k0_t12 : Fin (k0_t12_loop v5305).trips), ∀ (k0_h2 : k0_cond2 i = 1#1), ∀ a, (k0_off1148 v5305 k0_t12) a + S1x32.size a ≤ S2048x128.size a := fun i v5305 k0_hw326 k0_t12 k0_h2 => k0_hw326.2.2.2.1.2.2.2.2.2.2.2.2.2.2.2.2.2.2.2.2.2.2.2.2.2.2.2.2.2.2.2.2.2.1 k0_t12 k0_h2
theorem k0_off1149_inb : ∀ (i : grid0.Coords) (v5305 : BitVec 32) (k0_hw326 : k0_chk326 i v5305) (k0_t12 : Fin (k0_t12_loop v5305).trips), ∀ (k0_h2 : k0_cond2 i = 1#1), ∀ a, (k0_off1149 v5305 k0_t12) a + S1x1.size a ≤ S6x2048.size a := fun i v5305 k0_hw326 k0_t12 k0_h2 => k0_hw326.2.2.2.1.2.2.2.2.2.2.2.2.2.2.2.2.2.2.2.2.2.2.2.2.2.2.2.2.2.2.2.2.2.2.1 k0_t12 k0_h2
theorem k0_off1151_inb : ∀ (i : grid0.Coords) (v5305 : BitVec 32) (k0_hw326 : k0_chk326 i v5305) (k0_t12 : Fin (k0_t12_loop v5305).trips), ∀ (k0_h2 : k0_cond2 i = 1#1), ∀ a, (k0_off1151 v5305 k0_t12) a + S1x32.size a ≤ S2048x128.size a := fun i v5305 k0_hw326 k0_t12 k0_h2 => k0_hw326.2.2.2.1.2.2.2.2.2.2.2.2.2.2.2.2.2.2.2.2.2.2.2.2.2.2.2.2.2.2.2.2.2.2.2 k0_t12 k0_h2
theorem k0_off1152_inb : ∀ (i : grid0.Coords) (v5305 : BitVec 32) (k0_hw326 : k0_chk326 i v5305) (k0_t12 : Fin (k0_t12_loop v5305).trips), ∀ (k0_h2 : k0_cond2 i = 1#1), ∀ a, (k0_off1152 v5305 k0_t12) a + S1x1.size a ≤ S6x2048.size a := fun i v5305 k0_hw326 k0_t12 k0_h2 => k0_hw326.2.2.2.2.1 k0_t12 k0_h2
theorem k0_off1154_inb : ∀ (i : grid0.Coords) (v5305 : BitVec 32) (k0_hw326 : k0_chk326 i v5305) (k0_t12 : Fin (k0_t12_loop v5305).trips), ∀ (k0_h2 : k0_cond2 i = 1#1), ∀ a, (k0_off1154 v5305 k0_t12) a + S1x32.size a ≤ S2048x128.size a := fun i v5305 k0_hw326 k0_t12 k0_h2 => k0_hw326.2.2.2.2.2 k0_t12 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S6x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S6 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x16x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x16x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S6x32x128 : Shape := ⟨3, ![6, 32, 128]⟩
abbrev S15360x16x128 : Shape := ⟨3, ![15360, 16, 128]⟩
abbrev S15360x16 : Shape := ⟨2, ![15360, 16]⟩
abbrev S6x2048 : Shape := ⟨2, ![6, 2048]⟩
abbrev S6 : Shape := ⟨1, ![6]⟩
abbrev S6x16x2x128 : Shape := ⟨4, ![6, 16, 2, 128]⟩
abbrev S_ : Shape := ⟨0, ![]⟩
abbrev S6x2048x1 : Shape := ⟨3, ![6, 2048, 1]⟩
abbrev S6x2048x16x128 : Shape := ⟨4, ![6, 2048, 16, 128]⟩
abbrev S6x2048x16 : Shape := ⟨3, ![6, 2048, 16]⟩
abbrev S6x16x2048x2 : Shape := ⟨4, ![6, 16, 2048, 2]⟩
abbrev S6x2048x16x2 : Shape := ⟨4, ![6, 2048, 16, 2]⟩
abbrev S6x2048x16x1 : Shape := ⟨4, ![6, 2048, 16, 1]⟩
abbrev S6x2048x32 : Shape := ⟨3, ![6, 2048, 32]⟩
abbrev S2048 : Shape := ⟨1, ![2048]⟩
abbrev S1x2048 : Shape := ⟨2, ![1, 2048]⟩
abbrev S6x1 : Shape := ⟨2, ![6, 1]⟩

abbrev nBuf : Space → Nat
  | .hbm => 66
  | .vmem => 4
  | .smem => 0
  | _ => 0

abbrev bufTy : (tb : Table) → Fin (tcTables nBuf tb) → BufTy
  | .hbm, ⟨0, _⟩ => ⟨S6x32x128, .bf16⟩
  | .hbm, ⟨1, _⟩ => ⟨S15360x16x128, .fp8e4m3⟩
  | .hbm, ⟨2, _⟩ => ⟨S15360x16x128, .fp8e4m3⟩
  | .hbm, ⟨3, _⟩ => ⟨S15360x16, .f32⟩
  | .hbm, ⟨4, _⟩ => ⟨S6x2048, .i32⟩
  | .hbm, ⟨5, _⟩ => ⟨S6, .i32⟩
  | .hbm, ⟨6, _⟩ => ⟨S15360x16x128, .bf16⟩
  | .hbm, ⟨7, _⟩ => ⟨S15360x16x128, .bf16⟩
  | .hbm, ⟨8, _⟩ => ⟨S6x16x2x128, .bf16⟩
  | .hbm, ⟨9, _⟩ => ⟨S_, .bf16⟩
  | .hbm, ⟨10, _⟩ => ⟨S6x16x2x128, .bf16⟩
  | .hbm, ⟨11, _⟩ => ⟨S6x16x2x128, .bf16⟩
  | .hbm, ⟨12, _⟩ => ⟨S_, .bf16⟩
  | .hbm, ⟨13, _⟩ => ⟨S6x16x2x128, .bf16⟩
  | .hbm, ⟨14, _⟩ => ⟨S6x16x2x128, .bf16⟩
  | .hbm, ⟨15, _⟩ => ⟨S_, .i32⟩
  | .hbm, ⟨16, _⟩ => ⟨S6x2048, .i32⟩
  | .hbm, ⟨17, _⟩ => ⟨S6x2048, .i1⟩
  | .hbm, ⟨18, _⟩ => ⟨S_, .i32⟩
  | .hbm, ⟨19, _⟩ => ⟨S6x2048, .i32⟩
  | .hbm, ⟨20, _⟩ => ⟨S6x2048, .i32⟩
  | .hbm, ⟨21, _⟩ => ⟨S6x2048, .i32⟩
  | .hbm, ⟨22, _⟩ => ⟨S6x2048x1, .i32⟩
  | .hbm, ⟨23, _⟩ => ⟨S6x2048x16x128, .bf16⟩
  | .hbm, ⟨24, _⟩ => ⟨S_, .i32⟩
  | .hbm, ⟨25, _⟩ => ⟨S6x2048, .i32⟩
  | .hbm, ⟨26, _⟩ => ⟨S6x2048, .i1⟩
  | .hbm, ⟨27, _⟩ => ⟨S_, .i32⟩
  | .hbm, ⟨28, _⟩ => ⟨S6x2048, .i32⟩
  | .hbm, ⟨29, _⟩ => ⟨S6x2048, .i32⟩
  | .hbm, ⟨30, _⟩ => ⟨S6x2048, .i32⟩
  | .hbm, ⟨31, _⟩ => ⟨S6x2048x1, .i32⟩
  | .hbm, ⟨32, _⟩ => ⟨S6x2048x16x128, .bf16⟩
  | .hbm, ⟨33, _⟩ => ⟨S_, .i32⟩
  | .hbm, ⟨34, _⟩ => ⟨S6x2048, .i32⟩
  | .hbm, ⟨35, _⟩ => ⟨S6x2048, .i1⟩
  | .hbm, ⟨36, _⟩ => ⟨S_, .i32⟩
  | .hbm, ⟨37, _⟩ => ⟨S6x2048, .i32⟩
  | .hbm, ⟨38, _⟩ => ⟨S6x2048, .i32⟩
  | .hbm, ⟨39, _⟩ => ⟨S6x2048, .i32⟩
  | .hbm, ⟨40, _⟩ => ⟨S6x2048x1, .i32⟩
  | .hbm, ⟨41, _⟩ => ⟨S6x2048x16, .f32⟩
  | .hbm, ⟨42, _⟩ => ⟨S6x16x2048x2, .f32⟩
  | .hbm, ⟨43, _⟩ => ⟨S6x2048x16x2, .f32⟩
  | .hbm, ⟨44, _⟩ => ⟨S6x16x2048x2, .f32⟩
  | .hbm, ⟨45, _⟩ => ⟨S6x2048x16x2, .f32⟩
  | .hbm, ⟨46, _⟩ => ⟨S6x2048x16x2, .f32⟩
  | .hbm, ⟨47, _⟩ => ⟨S6x2048x16x1, .f32⟩
  | .hbm, ⟨48, _⟩ => ⟨S6x2048x16x2, .f32⟩
  | .hbm, ⟨49, _⟩ => ⟨S6x2048x16x2, .f32⟩
  | .hbm, ⟨50, _⟩ => ⟨S6x2048x32, .f32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S1x2048, .i32⟩
  | .hbm, ⟨56, _⟩ => ⟨S6x1, .i32⟩
  | .hbm, ⟨57, _⟩ => ⟨S6x2048, .i32⟩
  | .hbm, ⟨58, _⟩ => ⟨S6x2048, .i32⟩
  | .hbm, ⟨59, _⟩ => ⟨S6x2048, .i1⟩
  | .hbm, ⟨60, _⟩ => ⟨S6x2048x1, .i1⟩
  | .hbm, ⟨61, _⟩ => ⟨S_, .f32⟩
  | .hbm, ⟨62, _⟩ => ⟨S_, .f32⟩
  | .hbm, ⟨63, _⟩ => ⟨S6x2048x32, .i1⟩
  | .hbm, ⟨64, _⟩ => ⟨S6x2048x32, .f32⟩
  | .hbm, ⟨65, _⟩ => ⟨S6x2048x32, .f32⟩
  | .local _ .vmem, ⟨0, _⟩ => ⟨S15360x16x128, .fp8e4m3⟩
  | .local _ .vmem, ⟨1, _⟩ => ⟨S15360x16x128, .fp8e4m3⟩
  | .local _ .vmem, ⟨2, _⟩ => ⟨S15360x16x128, .bf16⟩
  | .local _ .vmem, ⟨3, _⟩ => ⟨S15360x16x128, .bf16⟩
  | _, _ => ⟨S6x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v45 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S15360x16x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x16x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x16x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S15360x16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelIdeal.Base.lean ====
/-
  Shared notions of the kernel's proof: the resource algebra, the trivial variants, and a memref's own elements held
  whole at some contents.
-/
module

public import proofs.«01_k».proof.Proof.Gen.KernelIdeal.Skeleton
public import proofs.«01_k».proof.Proof.Gen.KernelIdeal.Loops
public import Idealize.ShloMosaic.Lib.Tactic
public import Idealize.ShloMosaic.Lib.Affine

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the proofs work in. -/
abbrev UU (nD : Nat) (τ : Topo) : Type := UR sig nD τ
/-- No loop variants are needed. -/
abbrev 𝒱₀ : Variants := Variants.none

/-- Core `c` holds the elements of `M` whole, at contents `f`. -/
abbrev Pt (c : Dev nD) {sp : Space} {S : Shape} {e : EltTy} (M : Memref sig .tc sp S e) (f : Buf (Elt F) (M.view.loc (c : Thread nD τ))) :
    sProp (MT nD τ sig Unit (Elt F) ℕ (UU nD τ) ℕ) :=
  M.view.loc (c : Thread nD τ) ↦[M.view.set]{fullShare} f

end Cert.KernelIdeal.Hand

end
-- ==== Proof.KernelIdeal.Chunk.lean ====
/-
  What the main phase computes at one grid point, written as the kernel's source writes it: for each chunk of 128 pages and
  each group of four heads, two products of the queries' block with 64 pages' bounds, whose columns are put into page order
  and scaled, and the rows of the four groups laid one under another and transposed.
-/
module

public import proofs.«01_k».proof.Proof.KernelIdeal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-! ## The lane order -/

/-- Row `r`, lane `n`: column `4 (n % 32) + r / 2` of the product. -/
def permV : IVec S8x128 32 := k0_pay585 k0_pay581 k0_pay582 k0_pay583 k0_pay584

/-- Lane `n`: which quarter of the 128 pages, `n / 32`. -/
def quarterV : IVec S8x128 32 := k0_pay586 (iota .tc S8x128 32 [1] iota_S8x128_d1_w32)

/-- The lane order as the gather takes it. -/
def permIdx : IVec S8x128 32 :=
  shapeCast S8x128 (shapeCast S8x128x1 (select (cmpi .slt permV (broadcast S8x128 0#32)) (addi permV (broadcast S8x128 128#32)) permV)
    shapeCasts_S8x128_S8x128x1) shapeCasts_S8x128x1_S8x128

/-! ## One chunk -/

/-- A sequence's rows are a slice of a product's block. -/
theorem rows_slice (b : Fin 6) (o : Fin 2) : S48x256.Slices ![8 * b.val, 128 * o.val] S8x128 := by
  revert b o; decide

/-- The product of a block of queries with 64 pages' upper and lower bounds. -/
def prodV (l : Vec F S1x48x256 .bf16) (x n : Vec F S64x4x128 .fp8e4m3) : FVec F S48x256 .f32 := k0_pay592 x n l

/-- The scales of four heads, two rows a head. -/
def scaleV (s : Fin 4 → Vec F S1x128 .f32) : FVec F S8x128 .f32 :=
  k0_pay591 (k0_pay587 (s 0)) (k0_pay588 (s 1)) (k0_pay589 (s 2)) (k0_pay590 (s 3))

/-- Half `o` of sequence `b`'s rows of a product, its lanes put in order. -/
def orderedV (p : FVec F S48x256 .f32) (b : Fin 6) (o : Fin 2) : FVec F S8x128 .f32 :=
  dynamicGather 1 (extractStridedSlice S8x128 ![8 * b.val, 128 * o.val] p (rows_slice b o)) permIdx

/-- Sequence `b`'s rows for four heads over a chunk's 128 pages. -/
def rowsV (p0 p1 : FVec F S48x256 .f32) (s : FVec F S8x128 .f32) (b : Fin 6) : FVec F S8x128 .f32 :=
  mulf (select (cmpi .eq quarterV (broadcast S8x128 3#32)) (orderedV p1 b 1)
    (select (cmpi .eq quarterV (broadcast S8x128 2#32)) (orderedV p1 b 0)
      (select (cmpi .eq quarterV (broadcast S8x128 1#32)) (orderedV p0 b 1) (orderedV p0 b 0)))) s

/-- Sequences 0 to 3 over a chunk's pages: page by row. -/
def tileA (a : Fin 4 → Fin 6 → FVec F S8x128 .f32) : FVec F S128x128 .f32 :=
  transpose S128x128 [1, 0] (concatenate S128x128 0 [⟨S8x128, a 0 0⟩, ⟨S8x128, a 1 0⟩, ⟨S8x128, a 2 0⟩, ⟨S8x128, a 3 0⟩,
    ⟨S8x128, a 0 1⟩, ⟨S8x128, a 1 1⟩, ⟨S8x128, a 2 1⟩, ⟨S8x128, a 3 1⟩, ⟨S8x128, a 0 2⟩, ⟨S8x128, a 1 2⟩, ⟨S8x128, a 2 2⟩, ⟨S8x128, a 3 2⟩,
    ⟨S8x128, a 0 3⟩, ⟨S8x128, a 1 3⟩, ⟨S8x128, a 2 3⟩, ⟨S8x128, a 3 3⟩]
    concatenates_S8x128_S8x128_S8x128_S8x128_S8x128_S8x128_S8x128_S8x128_S8x128_S8x128_S8x128_S8x128_S8x128_S8x128_S8x128_S8x128_S128x128_d0)
    transposes_S128x128_p1_0_S128x128

/-- Sequences 4 and 5 over a chunk's pages: page by row. -/
def tileB (a : Fin 4 → Fin 6 → FVec F S8x128 .f32) : FVec F S128x64 .f32 :=
  transpose S128x64 [1, 0] (concatenate S64x128 0 [⟨S8x128, a 0 4⟩, ⟨S8x128, a 1 4⟩, ⟨S8x128, a 2 4⟩, ⟨S8x128, a 3 4⟩,
    ⟨S8x128, a 0 5⟩, ⟨S8x128, a 1 5⟩, ⟨S8x128, a 2 5⟩, ⟨S8x128, a 3 5⟩]
    concatenates_S8x128_S8x128_S8x128_S8x128_S8x128_S8x128_S8x128_S8x128_S64x128_d0)
    transposes_S64x128_p1_0_S128x64

/-! ## The chunks of a grid point, from the buffers -/

/-- The rows of bounds a product reads lie inside the block. -/
theorem block_inb (n : Fin 4) (h : Fin 2) (j : Fin 4) :
    ∀ a, (![128 * n.val + 64 * h.val, 4 * j.val, 0] : Fin 3 → Nat) a + S64x4x128.size a ≤ S512x16x128.size a := by
  revert n h j; decide

/-- The scales a chunk reads lie inside the block. -/
theorem scale_inb (n : Fin 4) (r : Fin 16) : ∀ a, (![r.val, 128 * n.val] : Fin 2 → Nat) a + S1x128.size a ≤ S16x512.size a := by
  revert n r; decide

/-- The staged queries a product reads lie inside the scratch. -/
theorem query_inb (j : Fin 4) : ∀ a, (![j.val, 0, 0] : Fin 3 → Nat) a + S1x48x256.size a ≤ S4x48x256.size a := by
  revert j; decide

section Buffers

variable (c : Dev nD) (i : grid0.Coords) (lo hi : Memref sig .tc .vmem S512x16x128 .fp8e4m3) (sc : Memref sig .tc .vmem S16x512 .f32)
  (qs : Memref sig .tc .vmem S4x48x256 .bf16)
  (f4 : Buf (Elt F) (lo.view.loc (c : Thread nD τ))) (f5 : Buf (Elt F) (hi.view.loc (c : Thread nD τ)))
  (f6 : Buf (Elt F) (sc.view.loc (c : Thread nD τ))) (f8 : Buf (Elt F) (qs.view.loc (c : Thread nD τ)))

/-- Group `j`'s block of queries. -/
def queryAt (j : Fin 4) : Vec F S1x48x256 .bf16 :=
  qs.view.readAt (Elt F) (Rect.unit (s := S4x48x256) ![j.val, 0, 0] S1x48x256.size (query_inb j)).toLoadRect f8

/-- 64 pages' bounds at the four heads of group `j`. -/
def blockAt (m : Memref sig .tc .vmem S512x16x128 .fp8e4m3) (f : Buf (Elt F) (m.view.loc (c : Thread nD τ))) (n : Fin 4) (h : Fin 2) (j : Fin 4) :
    Vec F S64x4x128 .fp8e4m3 :=
  m.view.readAt (Elt F) (Rect.unit (s := S512x16x128) ![128 * n.val + 64 * h.val, 4 * j.val, 0] S64x4x128.size (block_inb n h j)).toLoadRect f

/-- Head `r`'s scales over chunk `n`. -/
def scaleAt (n : Fin 4) (r : Fin 16) : Vec F S1x128 .f32 :=
  sc.view.readAt (Elt F) (Rect.unit (s := S16x512) ![r.val, 128 * n.val] S1x128.size (scale_inb n r)).toLoadRect f6

/-- Sequence `b`'s rows for group `j` over chunk `n`. -/
def accAt (n : Fin 4) (j : Fin 4) (b : Fin 6) : FVec F S8x128 .f32 :=
  rowsV (prodV (queryAt c qs f8 j) (blockAt c hi f5 n 0 j) (blockAt c lo f4 n 0 j))
    (prodV (queryAt c qs f8 j) (blockAt c hi f5 n 1 j) (blockAt c lo f4 n 1 j))
    (scaleV fun r => scaleAt c sc f6 n ⟨4 * j.val + r.val, by omega⟩) b

/-- Chunk `n`'s store of sequences 0 to 3. -/
def storeA (n : Fin 4) : View.Piece (Elt F) S15360x128 .f32 :=
  ⟨Rect.unit (s := S15360x128) (k0_off1 i (BitVec.ofNat 32 (128 * n.val))) S128x128.size (k0_off1_inb i n),
    shapeCast S128x128 (tileA (accAt c lo hi sc qs f4 f5 f6 f8 n)) shapeCasts_S128x128_S128x128⟩

/-- Chunk `n`'s store of sequences 4 and 5. -/
def storeB (n : Fin 4) : View.Piece (Elt F) S15360x128 .f32 :=
  ⟨Rect.unit (s := S15360x128) (k0_off2 i (BitVec.ofNat 32 (128 * n.val))) S128x64.size (k0_off2_inb i n),
    shapeCast S128x64 (tileB (accAt c lo hi sc qs f4 f5 f6 f8 n)) shapeCasts_S128x64_S128x64⟩

/-- The stores of sequences 0 to 3, the last one first. -/
def storesA : List (View.Piece (Elt F) S15360x128 .f32) :=
  [storeA c i lo hi sc qs f4 f5 f6 f8 3, storeA c i lo hi sc qs f4 f5 f6 f8 2, storeA c i lo hi sc qs f4 f5 f6 f8 1, storeA c i lo hi sc qs f4 f5 f6 f8 0]

/-- The stores of sequences 4 and 5, the last one first. -/
def storesB : List (View.Piece (Elt F) S15360x128 .f32) :=
  [storeB c i lo hi sc qs f4 f5 f6 f8 3, storeB c i lo hi sc qs f4 f5 f6 f8 2, storeB c i lo hi sc qs f4 f5 f6 f8 1, storeB c i lo hi sc qs f4 f5 f6 f8 0]

end Buffers

end Cert.KernelIdeal.Hand
-- ==== Proof.Words.lean ====
/-
  The word arithmetic of the gathering loops. For a length `n` of one sequence the kernel computes the number of pages
  `⌊(n + 63) / 64⌋` and from it the number of trips `⌊(pages + 31) / 32⌋`, both as floor divisions of signed words. For
  every length at most 131072 (negative ones included) that number is at most 64, it is enough for every page that
  begins below the length, and the loop of the remaining trips is empty.
-/
module

public import Idealize.ShloMosaic.Lib.Affine
public import Idealize.ShloMosaic.Lib.Scf

@[expose] public section

namespace Cert.Words

open Idealize.ShloMosaic Idealize.ShloMosaic.Affine

/-- The floor division of signed words, as the kernel spells it: the truncated quotient, one less where the signs
    differ and the remainder is not zero. -/
def fdivW (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- The pages of a sequence of length `v`. -/
def pagesW (v : BitVec 32) : BitVec 32 := fdivW (Scalar.subi (Scalar.addi v 64#32) 1#32) 64#32
/-- The trips of the gathering loop, 32 pages a trip. -/
def tripsW (v : BitVec 32) : BitVec 32 := fdivW (Scalar.subi (Scalar.addi (pagesW v) 32#32) 1#32) 32#32

/-- The gathering loop's bounds and step. -/
def loopW (v : BitVec 32) : Scf.Loop 32 :=
  ⟨0#32, Scalar.addi 0#32 (Scalar.muli (Scalar.divsi (Scalar.subi (tripsW v) 0#32) 1#32) 1#32), 1#32⟩
/-- The bounds and step of the loop of the remaining trips. -/
def restW (v : BitVec 32) : Scf.Loop 32 :=
  ⟨Scalar.addi 0#32 (Scalar.muli (Scalar.divsi (Scalar.subi (tripsW v) 0#32) 1#32) 1#32),
    Scalar.addi 0#32 (Scalar.subi (tripsW v) 0#32), 1#32⟩

/-- The floor division of a nonnegative word by a word above one, as the kernel computes it. -/
theorem fdivW_nonneg {x d : BitVec 32} {e k : Int} (hx : IsInt x e) (hd : IsInt d k) (h0 : 0 ≤ e) (hk : 1 < k) :
    IsInt (fdivW x d) (e / k) := by
  have z0 : IsInt 0#32 0 := ofNat 0 (by omega)
  have hq : IsInt (Scalar.divsi x d) (e / k) := divsi hx hd ⟨rfl, h0, by omega⟩
  have hr : IsInt (Scalar.remsi x d) (e % k) := remsi hx hd ⟨rfl, h0, by omega⟩
  have one : IsInt 1#32 1 := ofNat 1 (by omega)
  have hd1 : IsInt (Scalar.subi (Scalar.extui (Scalar.cmpi .sgt d 0#32)) (Scalar.extui (Scalar.cmpi .slt d 0#32))) 1 :=
    subi (extui_holds (sgt_holds hd z0 (by omega)) rfl) (extui_fails (slt_fails hd z0 (by omega)) rfl) (by omega)
  have hxl := extui_fails (e := 0) (slt_fails hx z0 (by omega)) rfl
  unfold fdivW
  rcases Int.lt_or_eq_of_le h0 with h | h
  · have hs := subi (e := 1) (extui_holds (e := 1) (sgt_holds hx z0 h) rfl) hxl (by omega)
    have c := andi_fails_left (ne_fails hs hd1 rfl) (d := Scalar.cmpi .ne (Scalar.remsi x d) 0#32) trivial
    have hq1 := word (Scalar.subi (Scalar.divsi x d) 1#32)
    exact select_fails c hq1 hq rfl
  · have c := andi_fails_right (c := Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32)))) trivial
        (ne_fails hr z0 (by rw [← h]; exact Int.zero_emod _))
    exact select_fails c (word _) hq rfl

/-- A word that stands for an integer has that integer as its value. -/
theorem toInt_word {x : BitVec 32} {e : Int} (h : IsInt x e) : x.toInt = e := (unique h (word x)).symm
/-- A word stands for its own value. -/
theorem word_of {x : BitVec 32} {e : Int} (h : x.toInt = e) : IsInt x e := h ▸ word x

/-- The floor division of a negative word by a word above one, as the kernel computes it. -/
theorem fdivW_neg {x d : BitVec 32} {e k : Int} (hx : IsInt x e) (hd : IsInt d k) (h0 : e < 0) (hk : 1 < k) :
    ∃ e', IsInt (fdivW x d) e' ∧ e' ≤ 0 ∧ -2 ^ 30 - 1 ≤ e' := by
  have hxr := word_range x
  have ex := toInt_word hx
  have ed := toInt_word hd
  have hq : IsInt (Scalar.divsi x d) (e.tdiv k) := by
    apply word_of
    have nc : ¬IntOp.SDivCorner x d := IntOp.not_corner_of_pos (by omega)
    have hb : e.natAbs / k.natAbs ≤ e.natAbs / 2 := Nat.div_le_div_left (by omega) (by omega)
    have ha : (e.tdiv k).natAbs = e.natAbs / k.natAbs := Int.natAbs_tdiv e k
    rw [Scalar.divsi, IntOp.divsi, if_neg nc, BitVec.toInt_sdiv, ex, ed]
    exact Int.bmod_eq_of_le (by omega) (by omega)
  have hb : e.natAbs / k.natAbs ≤ e.natAbs / 2 := Nat.div_le_div_left (by omega) (by omega)
  have ha : (e.tdiv k).natAbs = e.natAbs / k.natAbs := Int.natAbs_tdiv e k
  have hs : e.tdiv k ≤ 0 := by
    have := Int.tdiv_nonneg (a := -e) (b := k) (by omega) (by omega)
    rw [Int.neg_tdiv] at this; omega
  have hq1 : IsInt (Scalar.subi (Scalar.divsi x d) 1#32) (e.tdiv k - 1) := subi hq (ofNat 1 (e := 1) (by omega)) (by omega)
  unfold fdivW
  rw [Scalar.select]
  split
  · exact ⟨_, hq1, by omega, by omega⟩
  · exact ⟨_, hq, by omega, by omega⟩

/-- The trip count: at most 64, and enough for every page that begins below the length. -/
theorem tripsW_spec {v : BitVec 32} (hv : v.toInt ≤ 131072) :
    ∃ e, IsInt (tripsW v) e ∧ -2 ^ 30 - 1 ≤ e ∧ e ≤ 64 ∧ ∀ p : Nat, 64 * (p : Int) < v.toInt → (p : Int) < 32 * e := by
  have hr := word_range v
  have n64 : IsInt 64#32 64 := ofNat 64 (by omega)
  have n32 : IsInt 32#32 32 := ofNat 32 (by omega)
  have n1 : IsInt 1#32 1 := ofNat 1 (by omega)
  have h1 : IsInt (Scalar.subi (Scalar.addi v 64#32) 1#32) (v.toInt + 63) := subi (e := v.toInt + 63) (addi (e := v.toInt + 64) (word v) n64 (by omega)) n1 (by omega)
  have second : ∀ x : BitVec 32, ∀ e, IsInt x e → -2 ^ 30 - 1 ≤ e → e ≤ 2048 →
      ∃ e', IsInt (fdivW (Scalar.subi (Scalar.addi x 32#32) 1#32) 32#32) e' ∧ -2 ^ 30 - 1 ≤ e' ∧ e' ≤ 64 ∧ (0 ≤ e → e' = (e + 31) / 32) := by
    intro x e hx hl hu
    have h2 : IsInt (Scalar.subi (Scalar.addi x 32#32) 1#32) (e + 31) := subi (e := e + 31) (addi (e := e + 32) hx n32 (by omega)) n1 (by omega)
    by_cases h : 0 ≤ e + 31
    · exact ⟨_, fdivW_nonneg h2 n32 h (by omega), by omega, by omega, fun _ => rfl⟩
    · obtain ⟨e', he, ha, hb⟩ := fdivW_neg h2 n32 (by omega) (by omega)
      exact ⟨e', he, hb, by omega, fun h' => by omega⟩
  unfold tripsW pagesW
  by_cases h : 0 ≤ v.toInt + 63
  · obtain ⟨e', he, ha, hb, hc⟩ := second _ _ (fdivW_nonneg h1 n64 h (by omega)) (by omega) (by omega)
    refine ⟨e', he, ha, hb, fun p hp => ?_⟩
    have := hc (by omega)
    omega
  · obtain ⟨e1, he1, ha1, hb1⟩ := fdivW_neg h1 n64 (by omega) (by omega)
    obtain ⟨e', he, ha, hb, hc⟩ := second _ _ he1 (by omega) (by omega)
    exact ⟨e', he, ha, hb, fun p hp => by omega⟩

/-- The bound of the loops over chunks, as the kernel spells it, stands for the same integer as the word it starts from. -/
theorem ubW {x : BitVec 32} {e : Int} (h : IsInt x e) :
    IsInt (Scalar.addi 0#32 (Scalar.muli (Scalar.divsi (Scalar.subi x 0#32) 1#32) 1#32)) e := by
  have z0 : IsInt 0#32 0 := ofNat 0 (by omega)
  have n1 : IsInt 1#32 1 := ofNat 1 (by omega)
  have hr := word_range x
  have := toInt_word h
  exact addi z0 (muli (e := e) (divsi_one (e := e) (subi (e := e) h z0 (by omega)) n1 (by omega)) n1 (by omega)) (by omega)

/-- The bound where the chunk loops end, zero plus the word minus zero, stands for the same integer as the word. -/
theorem ubW' {x : BitVec 32} {e : Int} (h : IsInt x e) : IsInt (Scalar.addi 0#32 (Scalar.subi x 0#32)) e := by
  have z0 : IsInt 0#32 0 := ofNat 0 (by omega)
  have hr := word_range x
  have := toInt_word h
  exact addi z0 (subi (e := e) h z0 (by omega)) (by omega)

variable {v : BitVec 32}

/-- The gather loop is well formed for a length in range. -/
theorem loop_ok (hv : v.toInt ≤ 131072) : (loopW v).OK := by
  obtain ⟨e, he, h1, h2, -⟩ := tripsW_spec hv
  exact ok (ofNat 0 (e := 0) (by omega)) (ubW he) (ofNat 1 (e := 1) (by omega)) (by omega)

/-- The gather loop makes at most 64 trips for a length in range. -/
theorem loop_trips_le (hv : v.toInt ≤ 131072) : (loopW v).trips ≤ 64 := by
  obtain ⟨e, he, h1, h2, -⟩ := tripsW_spec hv
  exact trips_le (ofNat 0 (e := 0) (by omega)) (ubW he) (ofNat 1 (e := 1) (by omega)) 64 (by omega)

/-- Every page that begins below the length is reached by some trip. -/
theorem loop_trips_reach (hv : v.toInt ≤ 131072) (p : Nat) (hp : 64 * (p : Int) < v.toInt) : p < 32 * (loopW v).trips := by
  obtain ⟨e, he, h1, h2, h3⟩ := tripsW_spec hv
  have h := h3 p hp
  have : (loopW v).trips = e.toNat := trips_eq (ofNat 0 (e := 0) (by omega)) (ubW he) (ofNat 1 (e := 1) (by omega)) _ (by omega)
  omega

/-- The loop over what is left is well formed. -/
theorem rest_ok (v : BitVec 32) : (restW v).OK := by
  have h := word (tripsW v)
  have hr := word_range (tripsW v)
  exact ok (ubW h) (ubW' h) (ofNat 1 (e := 1) (by omega)) (by omega)

/-- No trip remains. -/
theorem rest_trips (v : BitVec 32) : (restW v).trips = 0 := by
  have h := word (tripsW v)
  exact trips_eq (ubW h) (ubW' h) (ofNat 1 (e := 1) (by omega)) _ (by omega)

/-- The row of trip `k`'s `u`-th copy, as the kernel computes it. -/
def rowW (k u : Nat) : BitVec 32 := Scalar.addi (Scalar.muli (Scf.iv 0#32 1#32 k) 32#32) (BitVec.ofNat 32 u)

/-- The row that trip `k` copies in its place `u` is row `32 * k + u`. -/
theorem rowW_toNat {k u : Nat} (hk : k < 64) (hu : u < 32) : (rowW k u).toNat = 32 * k + u := by
  refine nat_eq (ea := 32 * k + u) (addi (ea := 32 * k) (eb := u) (muli (ea := k) (eb := 32) (iv (ofNat 0 (e := 0) (by omega)) (ofNat 1 (e := 1) (by omega)) k (by omega)) (ofNat 32 (by omega)) (by omega)) (ofNat u (by omega)) (by omega)) _ (by omega)

end Cert.Words
-- ==== Proof.KernelIdeal.Checks.lean ====
/-
  The side conditions the kernel assumes of the words it reads: a length at most 131072 keeps every row of the gathering
  loops within bounds, and so does a page number below 15360 for the row it names.
-/
module

public import proofs.«01_k».proof.Proof.KernelIdeal.Base
public import proofs.«01_k».proof.Proof.Words

@[expose] public section

namespace Cert.KernelIdeal.Hand

open Cert.KernelIdeal Cert.KernelIdeal.Gen Cert.Words
open Idealize.ShloMosaic Idealize.ShloMosaic.TcCoe

/-- The box of one row of 32 lanes, at the row a page number below 15360 names. -/
theorem row_inb {w : BitVec 32} {l : Nat} (h : w.toNat < 15360) (hl : l + 32 ≤ 128) :
    ∀ a, (![w.toNat, l] : Fin 2 → Nat) a + S1x32.size a ≤ S15360x128.size a := by
  intro a; fin_cases a
  · show w.toNat + 1 ≤ 15360; omega
  · show l + 32 ≤ 128; omega

/-- The box of one gathered row. -/
theorem dst_inb {k u l : Nat} (hk : k < 64) (hu : u < 32) (hl : l + 32 ≤ 128) :
    ∀ a, (![(rowW k u).toNat, l] : Fin 2 → Nat) a + S1x32.size a ≤ S2048x128.size a := by
  have := rowW_toNat hk hu
  intro a; fin_cases a
  · show (rowW k u).toNat + 1 ≤ 2048; omega
  · show l + 32 ≤ 128; omega

/-- The box of one word of the page table. -/
theorem tab_inb {k u b : Nat} (hk : k < 64) (hu : u < 32) (hb : b < 6) :
    ∀ a, (![b, (rowW k u).toNat] : Fin 2 → Nat) a + S1x1.size a ≤ S6x2048.size a := by
  have := rowW_toNat hk hu
  intro a; fin_cases a
  · show b + 1 ≤ 6; omega
  · show (rowW k u).toNat + 1 ≤ 2048; omega

/-- Every entry of the page table that a loop reads lies inside the table. -/
theorem tab_all {L : Scf.Loop 32} (hL : L.trips ≤ 64) {b : Nat} (u : Nat) (hu : u < 32) (hb : b < 6) (k : Fin L.trips) :
    ∀ a, (![b, (rowW k u).toNat] : Fin 2 → Nat) a + S1x1.size a ≤ S6x2048.size a :=
  tab_inb (lt_of_lt_of_le k.isLt hL) hu hb

/-- Every row that a loop writes lies inside the gathered buffer. -/
theorem dst_all {L : Scf.Loop 32} (hL : L.trips ≤ 64) {l : Nat} (u : Nat) (hu : u < 32) (hl : l + 32 ≤ 128) (k : Fin L.trips) :
    ∀ a, (![(rowW k u).toNat, l] : Fin 2 → Nat) a + S1x32.size a ≤ S2048x128.size a :=
  dst_inb (lt_of_lt_of_le k.isLt hL) hu hl

variable {v : BitVec 32} (hv : v.toInt ≤ 131072)
include hv

/-- The rows the loops of sequence 0 touch. -/
theorem chk1_of (i : grid0.Coords) : k0_chk1 i v := by
  have h1 : (k0_t1_loop v).trips ≤ 64 := loop_trips_le hv
  have h2 : (k0_t2_loop v).trips = 0 := rest_trips v
  unfold k0_chk1 k0_chk1_0 k0_chk1_1 k0_chk1_2 k0_chk1_3 k0_chk1_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 1 touch. -/
theorem chk66_of (i : grid0.Coords) : k0_chk66 i v := by
  have h1 : (k0_t3_loop v).trips ≤ 64 := loop_trips_le hv
  have h2 : (k0_t4_loop v).trips = 0 := rest_trips v
  unfold k0_chk66 k0_chk66_0 k0_chk66_1 k0_chk66_2 k0_chk66_3 k0_chk66_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 2 touch. -/
theorem chk131_of (i : grid0.Coords) : k0_chk131 i v := by
  have h1 : (k0_t5_loop v).trips ≤ 64 := loop_trips_le hv
  have h2 : (k0_t6_loop v).trips = 0 := rest_trips v
  unfold k0_chk131 k0_chk131_0 k0_chk131_1 k0_chk131_2 k0_chk131_3 k0_chk131_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 3 touch. -/
theorem chk196_of (i : grid0.Coords) : k0_chk196 i v := by
  have h1 : (k0_t7_loop v).trips ≤ 64 := loop_trips_le hv
  have h2 : (k0_t8_loop v).trips = 0 := rest_trips v
  unfold k0_chk196 k0_chk196_0 k0_chk196_1 k0_chk196_2 k0_chk196_3 k0_chk196_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 4 touch. -/
theorem chk261_of (i : grid0.Coords) : k0_chk261 i v := by
  have h1 : (k0_t9_loop v).trips ≤ 64 := loop_trips_le hv
  have h2 : (k0_t10_loop v).trips = 0 := rest_trips v
  unfold k0_chk261 k0_chk261_0 k0_chk261_1 k0_chk261_2 k0_chk261_3 k0_chk261_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 5 touch. -/
theorem chk326_of (i : grid0.Coords) : k0_chk326 i v := by
  have h1 : (k0_t11_loop v).trips ≤ 64 := loop_trips_le hv
  have h2 : (k0_t12_loop v).trips = 0 := rest_trips v
  unfold k0_chk326 k0_chk326_0 k0_chk326_1 k0_chk326_2 k0_chk326_3 k0_chk326_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

end Cert.KernelIdeal.Hand
-- ==== Proof.KernelIdeal.Gather.lean ====
/-
  The gathering loops. Trip `k` of the loop of one sequence copies 32 rows: row `32 k + u` of the destination, 32 lanes of
  it, becomes the same lanes of the source's row that the page table names at place `32 k + u`.
-/
module

public import proofs.«01_k».proof.Proof.KernelIdeal.Checks

@[expose] public section

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## One trip's copies -/

section Pieces

variable (c : Dev nD) (tab : Memref sig .tc .smem S6x2048 .i32) (src : Memref sig .tc .vmem S15360x128 .f32) (dst : Memref sig .tc .vmem S2048x128 .f32)
  (ft : Buf (Elt F) (tab.view.loc (c : Thread nD τ))) (fs : Buf (Elt F) (src.view.loc (c : Thread nD τ)))

/-- Every word the table holds is a page number. -/
def TabOK : Prop := ∀ r j, BitVec.toNat (tab.view.readAt (Elt F) r ft j) < 15360

variable {b l : Nat} (hb : b < 6) (hl : l + 32 ≤ 128)

/-- The page number at place `32 k + u` of sequence `b`. -/
def pageAt (k : Nat) (hk : k < 64) (u : Nat) (hu : u < 32) : BitVec 32 :=
  tab.view.readAt (Elt F) (Rect.unit (s := S6x2048) ![b, (rowW k u).toNat] S1x1.size (tab_inb hk hu hb)).toLoadRect ft
    (Shape.Idx.first (numel1_S1x1.symm ▸ Nat.one_pos))

/-- The copy of trip `k` at `u`. -/
def copyAt (hp : TabOK c tab ft) (k : Nat) (hk : k < 64) (u : Nat) (hu : u < 32) : View.Piece (Elt F) S2048x128 .f32 :=
  ⟨Rect.unit (s := S2048x128) ![(rowW k u).toNat, l] S1x32.size (dst_inb hk hu hl),
    shapeCast S1x32 (src.view.readAt (Elt F) (Rect.unit (s := S15360x128) ![(pageAt c tab ft hb k hk u hu).toNat, l] S1x32.size (row_inb (hp _ _) hl)).toLoadRect fs)
      shapeCasts_S1x32_S1x32⟩

/-- The first `n` copies of trip `k`, the last one first. -/
def copies (hp : TabOK c tab ft) (k : Nat) (hk : k < 64) : (n : Nat) → n ≤ 32 → List (View.Piece (Elt F) S2048x128 .f32)
  | 0, _ => []
  | n + 1, h => copyAt c tab src ft fs hb hl hp k hk n h :: copies hp k hk n (Nat.le_of_succ_le h)

/-- The destination before trip `k`, from its contents `f` at the loop's entry. -/
def gathered (f : Buf (Elt F) (dst.view.loc (c : Thread nD τ))) : Nat → Buf (Elt F) (dst.view.loc (c : Thread nD τ))
  | 0 => f
  | k + 1 =>
    open Classical in
    if h : k < 64 ∧ TabOK c tab ft then
      dst.view.writes (Elt F) (gathered f k) (copies c tab src ft fs hb hl h.2 k h.1 32 le_rfl)
    else gathered f k

/-- What a loop has gathered after one trip more: the trip's copies on top of the earlier ones. -/
theorem gathered_succ (f : Buf (Elt F) (dst.view.loc (c : Thread nD τ))) {k : Nat} (hk : k < 64) (hp : TabOK c tab ft) :
    gathered c tab src dst ft fs hb hl f (k + 1)
      = dst.view.writes (Elt F) (gathered c tab src dst ft fs hb hl f k) (copies c tab src ft fs hb hl hp k hk 32 le_rfl) :=
  dif_pos (c := k < 64 ∧ TabOK c tab ft) ⟨hk, hp⟩

/-- What a gathering loop holds before trip `k`: the table, whose words are page numbers, the source, and the destination
    with the rows of the trips before `k`. -/
abbrev gathInv (v : BitVec 32) (f : Buf (Elt F) (dst.view.loc (c : Thread nD τ))) (k : Nat) : sProp 𝕄 :=
  iprop(⌜TabOK c tab ft ∧ v.toInt ≤ 131072⌝ ∗ Pt c tab ft ∗ Pt c src fs ∗ Pt c dst (gathered c tab src dst ft fs hb hl f k))

/-- One trip's copies bring the invariant to the next trip. -/
theorem gathInv_succ (v : BitVec 32) (f : Buf (Elt F) (dst.view.loc (c : Thread nD τ))) {k : Nat} (hk : k < 64) (hp : TabOK c tab ft)
    (hv : v.toInt ≤ 131072) :
    iprop(Pt c tab ft ∗ Pt c src fs
      ∗ Pt c dst (dst.view.writes (Elt F) (gathered c tab src dst ft fs hb hl f k) (copies c tab src ft fs hb hl hp k hk 32 le_rfl)))
      ⊢ gathInv c tab src dst ft fs hb hl v f (k + 1) := by
  unfold gathInv
  rw [gathered_succ c tab src dst ft fs hb hl f hk hp]
  iintro ⟨H1, H2, H3⟩
  isplitr; · ipureintro; exact ⟨hp, hv⟩
  isplitl [H1]; · iexact H1
  isplitl [H2]; · iexact H2
  iexact H3

end Pieces

end Cert.KernelIdeal.Hand
-- ==== Proof.KernelIdeal.Ends.lean ====
/-
  What the first grid point stores before its chunks, and what the last one stores after them.
-/
module

public import proofs.«01_k».proof.Proof.KernelIdeal.Gather

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

section Buffers

variable (c : Dev nD)

/-! ## The first grid point -/

section First

variable (q : Memref sig .tc .vmem S6x32x128 .bf16) (f3 : Buf (Elt F) (q.view.loc (c : Thread nD τ)))

/-- A group of eight heads is a slice of the queries. -/
theorem heads_slice (j : Fin 4) : S6x32x128.Slices ![0, 8 * j.val, 0] S6x8x128 := by
  revert j; decide

/-- One half of a staged group lies inside the scratch. -/
theorem half_inb (j : Fin 4) (o : Fin 2) : ∀ a, (![j.val, 0, 128 * o.val] : Fin 3 → Nat) a + S1x48x128.size a ≤ S4x48x256.size a := by
  revert j o; decide

/-- The queries. -/
def queries : Vec F S6x32x128 .bf16 :=
  q.view.readAt (Elt F) (Rect.unit (s := S6x32x128) ![0, 0, 0] S6x32x128.size inb_S6x32x128_S6x32x128_0_0_0).toLoadRect f3

/-- Group `j`'s rows of `x`, for all sequences. -/
def groupV (x : FVec F S6x32x128 .bf16) (j : Fin 4) : FVec F S1x48x128 .bf16 :=
  shapeCast S1x48x128 (shapeCast S48x128 (extractStridedSlice S6x8x128 ![0, 8 * j.val, 0] x (heads_slice j)) shapeCasts_S6x8x128_S48x128)
    shapeCasts_S48x128_S1x48x128

/-- The store of group `j`'s positive parts (`o = 0`) or negative parts (`o = 1`). -/
def queryStore (x : FVec F S6x32x128 .bf16) (j : Fin 4) (o : Fin 2) : View.Piece (Elt F) S4x48x256 .bf16 :=
  ⟨Rect.unit (s := S4x48x256) ![j.val, 0, 128 * o.val] S1x48x128.size (half_inb j o), groupV x j⟩

/-- The stores of the queries' parts, the last one first. -/
def queryStores : List (View.Piece (Elt F) S4x48x256 .bf16) :=
  [queryStore (k0_pay6 (queries c q f3)) 3 1, queryStore (k0_pay5 (queries c q f3)) 3 0,
    queryStore (k0_pay6 (queries c q f3)) 2 1, queryStore (k0_pay5 (queries c q f3)) 2 0,
    queryStore (k0_pay6 (queries c q f3)) 1 1, queryStore (k0_pay5 (queries c q f3)) 1 0,
    queryStore (k0_pay6 (queries c q f3)) 0 1, queryStore (k0_pay5 (queries c q f3)) 0 0]

end First

/-- The store of zeros over a gathered table. -/
def clearStores : List (View.Piece (Elt F) S2048x128 .f32) :=
  [⟨Rect.unit (s := S2048x128) ![0, 0] S2048x128.size inb_S2048x128_S2048x128_0_0, k0_pay579 (F := F)⟩]

/-! ## The last grid point -/

section Last

variable (tab : Memref sig .tc .smem S6x2048 .i32) (len : Memref sig .tc .smem S6 .i32) (ra rb : Memref sig .tc .vmem S15360x128 .f32)
  (ga gb : Memref sig .tc .vmem S2048x128 .f32)
  (f1 : Buf (Elt F) (tab.view.loc (c : Thread nD τ))) (f2 : Buf (Elt F) (len.view.loc (c : Thread nD τ)))
  (f9 : Buf (Elt F) (ra.view.loc (c : Thread nD τ))) (f10 : Buf (Elt F) (rb.view.loc (c : Thread nD τ)))
  (f11 : Buf (Elt F) (ga.view.loc (c : Thread nD τ))) (f12 : Buf (Elt F) (gb.view.loc (c : Thread nD τ)))

/-- A sequence's length lies inside the array of lengths. -/
theorem len_inb (b : Fin 6) : ∀ a, (![b.val] : Fin 1 → Nat) a + S1.size a ≤ S6.size a := by
  revert b; decide

/-- Sequence `b`'s length. -/
def lenAt (b : Fin 6) : BitVec 32 :=
  len.view.readAt (Elt F) (Rect.unit (s := S6) ![b.val] S1.size (len_inb b)).toLoadRect f2 (Shape.Idx.first (numel1_S1.symm ▸ Nat.one_pos))

/-- The gathered rows of the first `n` of sequences 0 to 3. -/
def gatherA : (n : Nat) → n ≤ 4 → Buf (Elt F) (ga.view.loc (c : Thread nD τ))
  | 0, _ => f11
  | n + 1, h => gathered c tab ra ga f1 f9 (b := n) (l := 32 * n) (by omega) (by omega) (gatherA n (by omega))
      (Cert.Words.loopW (lenAt c len f2 ⟨n, by omega⟩)).trips

/-- The gathered rows of the first `n` of sequences 4 and 5. -/
def gatherB : (n : Nat) → n ≤ 2 → Buf (Elt F) (gb.view.loc (c : Thread nD τ))
  | 0, _ => f12
  | n + 1, h => gathered c tab rb gb f1 f10 (b := n + 4) (l := 32 * n) (by omega) (by omega) (gatherB n (by omega))
      (Cert.Words.loopW (lenAt c len f2 ⟨n + 4, by omega⟩)).trips

end Last

/-! ### The output's stores -/

section Out

variable (len : Memref sig .tc .smem S6 .i32) (ga gb : Memref sig .tc .vmem S2048x128 .f32)
  (f2 : Buf (Elt F) (len.view.loc (c : Thread nD τ)))
  (g11 : Buf (Elt F) (ga.view.loc (c : Thread nD τ))) (g12 : Buf (Elt F) (gb.view.loc (c : Thread nD τ)))

/-- A tile of the first gathered buffer lies inside it. -/
theorem tileA_inb (t : Fin 16) : ∀ a, (![128 * t.val, 0] : Fin 2 → Nat) a + S128x128.size a ≤ S2048x128.size a := by
  revert t; decide

/-- A tile of the second gathered buffer lies inside it. -/
theorem tileB_inb (t : Fin 16) : ∀ a, (![128 * t.val, 0] : Fin 2 → Nat) a + S128x64.size a ≤ S2048x128.size a := by
  revert t; decide

/-- The part of the output that one sequence and tile fill lies inside it. -/
theorem out_inb (b : Fin 6) (t : Fin 16) : ∀ a, (![b.val, 0, 128 * t.val] : Fin 3 → Nat) a + S1x32x128.size a ≤ S6x32x2048.size a := by
  revert b t; decide

/-- A sequence's rows are a slice of a tile of the first buffer. -/
theorem seqA_slice (b : Fin 4) : S128x128.Slices ![32 * b.val, 0] S32x128 := by
  revert b; decide

/-- A sequence's rows are a slice of a tile of the second buffer. -/
theorem seqB_slice (b : Fin 2) : S64x128.Slices ![32 * b.val, 0] S32x128 := by
  revert b; decide

/-- Positions `64 (128 t + n)` over the lanes `n`. -/
def posV (t : Fin 16) : IVec S1x128 32 :=
  muli (addi (broadcast S1x128 (BitVec.ofNat 32 (128 * t.val))) (iota .tc S1x128 32 [1] iota_S1x128_d1_w32)) (broadcast S1x128 64#32)

/-- A sequence's bounds over one tile of pages, zero past its length. -/
def keptV (t : Fin 16) (n : BitVec 32) (x : FVec F S32x128 .f32) : FVec F S1x32x128 .f32 :=
  shapeCast S1x32x128 (select (broadcastTo S32x128 (shapeCast S1x128 (cmpi .slt (posV t) (broadcast S1x128 n)) shapeCasts_S1x128_S1x128)
    broadcasts_S1x128_S32x128) x (broadcast S32x128 (Scalar.ofBits .f32 0x00000000#32 : F .f32))) shapeCasts_S32x128_S1x32x128

/-- The rows of sequence `b` (0 to 3) over tile `t`. -/
def tileRowsA (t : Fin 16) (b : Fin 4) : FVec F S32x128 .f32 :=
  extractStridedSlice S32x128 ![32 * b.val, 0] (transpose S128x128 [1, 0]
    (ga.view.readAt (Elt F) (Rect.unit (s := S2048x128) ![128 * t.val, 0] S128x128.size (tileA_inb t)).toLoadRect g11 : Vec F S128x128 .f32)
    transposes_S128x128_p1_0_S128x128) (seqA_slice b)

/-- The rows of sequence `4 + b` over tile `t`. -/
def tileRowsB (t : Fin 16) (b : Fin 2) : FVec F S32x128 .f32 :=
  extractStridedSlice S32x128 ![32 * b.val, 0] (transpose S64x128 [1, 0]
    (gb.view.readAt (Elt F) (Rect.unit (s := S2048x128) ![128 * t.val, 0] S128x64.size (tileB_inb t)).toLoadRect g12 : Vec F S128x64 .f32)
    transposes_S128x64_p1_0_S64x128) (seqB_slice b)

/-- The store of `x` as sequence `b`'s tile `t`. -/
def outStore (t : Fin 16) (b : Fin 6) (x : FVec F S32x128 .f32) : View.Piece (Elt F) S6x32x2048 .f32 :=
  ⟨Rect.unit (s := S6x32x2048) ![b.val, 0, 128 * t.val] S1x32x128.size (out_inb b t), keptV t (lenAt c len f2 b) x⟩

/-- The stores of the first `n` tiles, the last one first. -/
def outStores : (n : Nat) → n ≤ 16 → List (View.Piece (Elt F) S6x32x2048 .f32)
  | 0, _ => []
  | n + 1, h =>
    outStore c len f2 ⟨n, h⟩ 5 (tileRowsB c gb g12 ⟨n, h⟩ 1) :: outStore c len f2 ⟨n, h⟩ 4 (tileRowsB c gb g12 ⟨n, h⟩ 0)
      :: outStore c len f2 ⟨n, h⟩ 3 (tileRowsA c ga g11 ⟨n, h⟩ 3) :: outStore c len f2 ⟨n, h⟩ 2 (tileRowsA c ga g11 ⟨n, h⟩ 2)
      :: outStore c len f2 ⟨n, h⟩ 1 (tileRowsA c ga g11 ⟨n, h⟩ 1) :: outStore c len f2 ⟨n, h⟩ 0 (tileRowsA c ga g11 ⟨n, h⟩ 0)
      :: outStores n (Nat.le_of_succ_le h)

end Out

end Buffers

end Cert.KernelIdeal.Hand
-- ==== Proof.KernelIdeal.RunA.lean ====
module

public import proofs.«01_k».proof.Proof.KernelIdeal.Chunk
public import proofs.«01_k».proof.Proof.KernelIdeal.Ends

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

/-- The body at the first grid point, where the queries are staged and the gathered bounds cleared. -/
theorem runA
    (h1 : Scalar.cmpi .ne (Scalar.extui (Scalar.cmpi .eq (BitVec.ofNat 32 (i 0).val) 0#32)) 0#32 = 1#1)
    (h2 : ¬ k0_cond2 i = 1#1)
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ))) :
    iprop(Pt c arg3 f3 ∗ Pt c arg4 f4 ∗ Pt c arg5 f5 ∗ Pt c arg6 f6 ∗ Pt c arg8 f8 ∗ Pt c arg9 f9 ∗ Pt c arg10 f10 ∗ Pt c arg11 f11 ∗ Pt c arg12 f12)
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12)
        (fun _ => iprop(Pt c arg3 f3 ∗ Pt c arg4 f4 ∗ Pt c arg5 f5 ∗ Pt c arg6 f6 ∗ Pt c arg8 (arg8.view.writes (Elt F) f8 (queryStores c arg3 f3)) ∗ Pt c arg9 (arg9.view.writes (Elt F) f9 (storesA c i arg4 arg5 arg6 arg8 f4 f5 f6 (arg8.view.writes (Elt F) f8 (queryStores c arg3 f3))))
          ∗ Pt c arg10 (arg10.view.writes (Elt F) f10 (storesB c i arg4 arg5 arg6 arg8 f4 f5 f6 (arg8.view.writes (Elt F) f8 (queryStores c arg3 f3))))
          ∗ Pt c arg11 (arg11.view.writes (Elt F) f11 clearStores) ∗ Pt c arg12 (arg12.view.writes (Elt F) f12 clearStores))) := by
  iintro ⟨H3, H4, H5, H6, H8, H9, H10, H11, H12⟩
  simp only [cc0_page_bound_eq_skeleton]
  unfold cc0_page_bound_skel
  (set_option sl_exec.stopBefore "k0_part149" in sl_exec_parts)
  obtain ⟨g8, h8⟩ : ∃ g, g = arg8.view.writes (Elt F) f8 (queryStores c arg3 f3) := ⟨_, rfl⟩
  rw [← h8]
  ihave G8 := (show Pt c arg8 (arg8.view.writes (Elt F) f8 (queryStores c arg3 f3)) ⊢ Pt c arg8 g8 from h8 ▸ .rfl) $$ [H8]
  · iexact H8
  clear h8
  sl_exec_parts
  sl_step
  isplitl [H3]; · iexact H3
  isplitl [H4]; · iexact H4
  isplitl [H5]; · iexact H5
  isplitl [H6]; · iexact H6
  isplitl [G8]; · iexact G8
  isplitl [H9]; · iexact H9
  isplitl [H10]; · iexact H10
  isplitl [H11]; · iexact H11
  iexact H12

end Cert.KernelIdeal.Hand
-- ==== Proof.KernelIdeal.RunB.lean ====
module

public import proofs.«01_k».proof.Proof.KernelIdeal.Chunk

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

/-- The body at the points between the first and the last runs, and leaves its stores. -/
theorem runB
    (h1 : ¬ Scalar.cmpi .ne (Scalar.extui (Scalar.cmpi .eq (BitVec.ofNat 32 (i 0).val) 0#32)) 0#32 = 1#1)
    (h2 : ¬ k0_cond2 i = 1#1)
    (f4 : Buf (Elt F) (arg4.view.loc (c : Thread nD τ)))
    (f5 : Buf (Elt F) (arg5.view.loc (c : Thread nD τ)))
    (f6 : Buf (Elt F) (arg6.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ))) :
    iprop(Pt c arg4 f4 ∗ Pt c arg5 f5 ∗ Pt c arg6 f6 ∗ Pt c arg8 f8 ∗ Pt c arg9 f9 ∗ Pt c arg10 f10)
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12)
        (fun _ => iprop(Pt c arg4 f4 ∗ Pt c arg5 f5 ∗ Pt c arg6 f6 ∗ Pt c arg8 f8 ∗ Pt c arg9 (arg9.view.writes (Elt F) f9 (storesA c i arg4 arg5 arg6 arg8 f4 f5 f6 f8))
          ∗ Pt c arg10 (arg10.view.writes (Elt F) f10 (storesB c i arg4 arg5 arg6 arg8 f4 f5 f6 f8)))) := by
  iintro ⟨H4, H5, H6, H8, H9, H10⟩
  simp only [cc0_page_bound_eq_skeleton]
  unfold cc0_page_bound_skel
  sl_exec_parts
  sl_step
  isplitl [H4]; · iexact H4
  isplitl [H5]; · iexact H5
  isplitl [H6]; · iexact H6
  isplitl [H8]; · iexact H8
  isplitl [H9]; · iexact H9
  iexact H10

end Cert.KernelIdeal.Hand
-- ==== Proof.KernelIdeal.Loop0.lean ====
/-
  The gathering loops of sequences 0 and 1: what each holds before a trip, and one trip of it.
-/
module

public import proofs.«01_k».proof.Proof.KernelIdeal.Gather

@[expose] public section

set_option warn.classDefReducibility false

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)
  (k0_h2 : k0_cond2 i = 1#1)
  (ft : Buf (Elt F) (arg1.view.loc (c : Thread nD τ)))

/-- The gathering loop of sequence 0. -/
@[sl_loop] def loopInv_k0_t1 (v5075 : Elt F .i32) (k0_hw1 : k0_chk1 i v5075) (init : BitVec 32)
    (fs : Buf (Elt F) (arg9.view.loc (c : Thread nD τ))) (fd : Buf (Elt F) (arg11.view.loc (c : Thread nD τ))) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5075 k0_hw1 0#32 0#32 init where
  inv k _ := gathInv c arg1 arg9 arg11 ft fs (b := 0) (l := 0) (by decide) (by decide) v5075 fd k
  step k acc := by
    iintro ⟨%h, H1, H2, H3⟩
    have hk : k.val < 64 := Nat.lt_of_lt_of_le k.isLt (loop_trips_le h.2)
    have hp := h.1
    unfold k0_t1_body
    sl_exec_parts (disch := exact fun _ => row_inb (hp _ _) (by decide))
    sl_step
    iapply gathInv_succ c arg1 arg9 arg11 ft fs (b := 0) (l := 0) _ _ v5075 fd hk h.1 h.2
    isplitl [H1]; · iexact H1
    isplitl [H2]; · iexact H2
    iexact H3

/-- The gathering loop of sequence 1. -/
@[sl_loop] def loopInv_k0_t3 (v5121 : Elt F .i32) (k0_hw66 : k0_chk66 i v5121) (init : BitVec 32)
    (fs : Buf (Elt F) (arg9.view.loc (c : Thread nD τ))) (fd : Buf (Elt F) (arg11.view.loc (c : Thread nD τ))) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5121 k0_hw66 0#32 0#32 0#32 0#32 0#32 0#1 init where
  inv k _ := gathInv c arg1 arg9 arg11 ft fs (b := 1) (l := 32) (by decide) (by decide) v5121 fd k
  step k acc := by
    iintro ⟨%h, H1, H2, H3⟩
    have hk : k.val < 64 := Nat.lt_of_lt_of_le k.isLt (loop_trips_le h.2)
    have hp := h.1
    unfold k0_t3_body
    sl_exec_parts (disch := exact fun _ => row_inb (hp _ _) (by decide))
    sl_step
    iapply gathInv_succ c arg1 arg9 arg11 ft fs (b := 1) (l := 32) _ _ v5121 fd hk h.1 h.2
    isplitl [H1]; · iexact H1
    isplitl [H2]; · iexact H2
    iexact H3

end Cert.KernelIdeal.Hand
-- ==== Proof.KernelIdeal.Loop1.lean ====
/-
  The gathering loops of sequences 2 and 3: what each holds before a trip, and one trip of it.
-/
module

public import proofs.«01_k».proof.Proof.KernelIdeal.Gather

@[expose] public section

set_option warn.classDefReducibility false

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)
  (k0_h2 : k0_cond2 i = 1#1)
  (ft : Buf (Elt F) (arg1.view.loc (c : Thread nD τ)))

/-- The gathering loop of sequence 2. -/
@[sl_loop] def loopInv_k0_t5 (v5167 : Elt F .i32) (k0_hw131 : k0_chk131 i v5167) (init : BitVec 32)
    (fs : Buf (Elt F) (arg9.view.loc (c : Thread nD τ))) (fd : Buf (Elt F) (arg11.view.loc (c : Thread nD τ))) :
    LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5167 k0_hw131 0#32 0#32 0#32 0#32 init where
  inv k _ := gathInv c arg1 arg9 arg11 ft fs (b := 2) (l := 64) (by decide) (by decide) v5167 fd k
  step k acc := by
    iintro ⟨%h, H1, H2, H3⟩
    have hk : k.val < 64 := Nat.lt_of_lt_of_le k.isLt (loop_trips_le h.2)
    have hp := h.1
    unfold k0_t5_body
    sl_exec_parts (disch := exact fun _ => row_inb (hp _ _) (by decide))
    sl_step
    iapply gathInv_succ c arg1 arg9 arg11 ft fs (b := 2) (l := 64) _ _ v5167 fd hk h.1 h.2
    isplitl [H1]; · iexact H1
    isplitl [H2]; · iexact H2
    iexact H3

/-- The gathering loop of sequence 3. -/
@[sl_loop] def loopInv_k0_t7 (v5213 : Elt F .i32) (k0_hw196 : k0_chk196 i v5213) (init : BitVec 32)
    (fs : Buf (Elt F) (arg9.view.loc (c : Thread nD τ))) (fd : Buf (Elt F) (arg11.view.loc (c : Thread nD τ))) :
    LoopInvTy_k0_t7 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5213 k0_hw196 0#32 0#1 0#1 init where
  inv k _ := gathInv c arg1 arg9 arg11 ft fs (b := 3) (l := 96) (by decide) (by decide) v5213 fd k
  step k acc := by
    iintro ⟨%h, H1, H2, H3⟩
    have hk : k.val < 64 := Nat.lt_of_lt_of_le k.isLt (loop_trips_le h.2)
    have hp := h.1
    unfold k0_t7_body
    sl_exec_parts (disch := exact fun _ => row_inb (hp _ _) (by decide))
    sl_step
    iapply gathInv_succ c arg1 arg9 arg11 ft fs (b := 3) (l := 96) _ _ v5213 fd hk h.1 h.2
    isplitl [H1]; · iexact H1
    isplitl [H2]; · iexact H2
    iexact H3

end Cert.KernelIdeal.Hand
-- ==== Proof.KernelIdeal.Loop2.lean ====
/-
  The gathering loops of sequences 4 and 5: what each holds before a trip, and one trip of it.
-/
module

public import proofs.«01_k».proof.Proof.KernelIdeal.Gather

@[expose] public section

set_option warn.classDefReducibility false

noncomputable section

namespace Cert.KernelIdeal.Hand

open Cert.KernelIdeal Cert.KernelIdeal.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)
  (k0_h2 : k0_cond2 i = 1#1)
  (ft : Buf (Elt F) (arg1.view.loc (c : Thread nD τ)))

/-- The gathering loop of sequence 4. -/
@[sl_loop] def loopInv_k0_t9 (v5259 : Elt F .i32) (k0_hw261 : k0_chk261 i v5259) (init : BitVec 32)
    (fs : Buf (Elt F) (arg10.view.loc (c : Thread nD τ))) (fd : Buf (Elt F) (arg12.view.loc (c : Thread nD τ))) :
    LoopInvTy_k0_t9 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5259 k0_hw261 0#32 0#32 0#32 0#32 init where
  inv k _ := gathInv c arg1 arg10 arg12 ft fs (b := 4) (l := 0) (by decide) (by decide) v5259 fd k
  step k acc := by
    iintro ⟨%h, H1, H2, H3⟩
    have hk : k.val < 64 := Nat.lt_of_lt_of_le k.isLt (loop_trips_le h.2)
    have hp := h.1
    unfold k0_t9_body
    sl_exec_parts (disch := exact fun _ => row_inb (hp _ _) (by decide))
    sl_step
    iapply gathInv_succ c arg1 arg10 arg12 ft fs (b := 4) (l := 0) _ _ v5259 fd hk h.1 h.2
    isplitl [H1]; · iexact H1
    isplitl [H2]; · iexact H2
    iexact H3

/-- The gathering loop of sequence 5. -/
@[sl_loop] def loopInv_k0_t11 (v5305 : Elt F .i32) (k0_hw326 : k0_chk326 i v5305) (init : BitVec 32)
    (fs : Buf (Elt F) (arg10.view.loc (c : Thread nD τ))) (fd : Buf (Elt F) (arg12.view.loc (c : Thread nD τ))) :
    LoopInvTy_k0_t11 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5305 k0_hw326 0#32 0#32 0#32 0#32 init where
  inv k _ := gathInv c arg1 arg10 arg12 ft fs (b := 5) (l := 32) (by decide) (by decide) v5305 fd k
  step k acc := by
    iintro ⟨%h, H1, H2, H3⟩
    have hk : k.val < 64 := Nat.lt_of_lt_of_le k.isLt (loop_trips_le h.2)
    have hp := h.1
    unfold k0_t11_body
    sl_exec_parts (disch := exact fun _ => row_inb (hp _ _) (by decide))
    sl_step
    iapply gathInv_succ c arg1 arg10 arg12 ft fs (b := 5) (l := 32) _ _ v5305 fd hk h.1 h.2
    isplitl [H1]; · iexact H1
    isplitl [H2]; · iexact H2
    iexact H3

end Cert.KernelIdeal.Hand
-- ==== Proof.KernelIdeal.RunC.lean ====
module

public import proofs.«01_k».proof.Proof.KernelIdeal.Chunk
public import proofs.«01_k».proof.Proof.KernelIdeal.Ends
public import proofs.«01_k».proof.Proof.KernelIdeal.Loop0
public import proofs.«01_k».proof.Proof.KernelIdeal.Loop1
public import proofs.«01_k».proof.Proof.KernelIdeal.Loop2
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A memref held at contents `f` is held at any contents equal to it. -/
theorem pt_eq (c : Dev nD) {sp : Space} {S : Shape} {e : EltTy} (M : Memref sig .tc sp S e) {f g : Buf (Elt F) (M.view.loc (c : Thread nD τ))}
    (h : g = f) : (Pt c M f : sProp 𝕄) ⊢ Pt c M g := by
  rw [h]

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

set_option maxHeartbeats 4000000 in
/-- The last grid point. -/
theorem runC
    (h1 : ¬ Scalar.cmpi .ne (Scalar.extui (Scalar.cmpi .eq (BitVec.ofNat 32 (i 0).val) 0#32)) 0#32 = 1#1)
    (h2 : k0_cond2 i = 1#1)
    (f1 : Buf (Elt F) (arg1.view.loc (c : Thread nD τ))) (hp : TabOK c arg1 f1)
    (f2 : Buf (Elt F) (arg2.view.loc (c : Thread nD τ))) (hlen : ∀ r j, BitVec.toInt (arg2.view.readAt (Elt F) r f2 j) ≤ 131072)
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ))) :
    iprop(Pt c arg1 f1 ∗ Pt c arg2 f2 ∗ Pt c arg4 f4 ∗ Pt c arg5 f5 ∗ Pt c arg6 f6 ∗ Pt c arg7 f7 ∗ Pt c arg8 f8 ∗ Pt c arg9 f9 ∗ Pt c arg10 f10 ∗ Pt c arg11 f11 ∗ Pt c arg12 f12)
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12)
        (fun _ => iprop(Pt c arg1 f1 ∗ Pt c arg2 f2 ∗ Pt c arg4 f4 ∗ Pt c arg5 f5 ∗ Pt c arg6 f6
          ∗ Pt c arg7 (arg7.view.writes (Elt F) f7 (outStores c arg2 arg11 arg12 f2 (gatherA c arg1 arg2 arg9 arg11 f1 f2 (arg9.view.writes (Elt F) f9 (storesA c i arg4 arg5 arg6 arg8 f4 f5 f6 f8)) f11 4 le_rfl) (gatherB c arg1 arg2 arg10 arg12 f1 f2 (arg10.view.writes (Elt F) f10 (storesB c i arg4 arg5 arg6 arg8 f4 f5 f6 f8)) f12 2 le_rfl) 16 le_rfl))
          ∗ Pt c arg8 f8 ∗ Pt c arg9 (arg9.view.writes (Elt F) f9 (storesA c i arg4 arg5 arg6 arg8 f4 f5 f6 f8)) ∗ Pt c arg10 (arg10.view.writes (Elt F) f10 (storesB c i arg4 arg5 arg6 arg8 f4 f5 f6 f8))
          ∗ Pt c arg11 (gatherA c arg1 arg2 arg9 arg11 f1 f2 (arg9.view.writes (Elt F) f9 (storesA c i arg4 arg5 arg6 arg8 f4 f5 f6 f8)) f11 4 le_rfl) ∗ Pt c arg12 (gatherB c arg1 arg2 arg10 arg12 f1 f2 (arg10.view.writes (Elt F) f10 (storesB c i arg4 arg5 arg6 arg8 f4 f5 f6 f8)) f12 2 le_rfl))) := by
  iintro ⟨H1, H2, H4, H5, H6, H7, H8, H9, H10, H11, H12⟩
  simp only [cc0_page_bound_eq_skeleton]
  unfold cc0_page_bound_skel
  (set_option sl_exec.stopBefore "k0_part110" in sl_exec_parts)
  obtain ⟨gA, egA⟩ : ∃ g, g = arg9.view.writes (Elt F) f9 (storesA c i arg4 arg5 arg6 arg8 f4 f5 f6 f8) := ⟨_, rfl⟩
  ihave HA := (pt_eq c arg9 egA) $$ [H9]
  · iexact H9
  obtain ⟨gB, egB⟩ : ∃ g, g = arg10.view.writes (Elt F) f10 (storesB c i arg4 arg5 arg6 arg8 f4 f5 f6 f8) := ⟨_, rfl⟩
  ihave HB := (pt_eq c arg10 egB) $$ [H10]
  · iexact H10
  (set_option sl_exec.stopBefore "k0_part111" in sl_exec_parts (disch := (with_reducible refine chk1_of ?_ i); exact hlen _ _))
  have l : TabOK c arg1 f1 ∧ BitVec.toInt (lenAt c arg2 f2 0) ≤ 131072 := ⟨hp, hlen _ _⟩
  (set_option sl_exec.stopBefore "k0_part112" in sl_exec_parts (disch := (with_reducible refine chk66_of ?_ i); exact hlen _ _))
  obtain ⟨a1, ea1⟩ : ∃ g, g = gathered c arg1 arg9 arg11 f1 gA (b := 0) (l := 0) (by omega) (by omega) f11 (Cert.Words.loopW (lenAt c arg2 f2 0)).trips := ⟨_, rfl⟩
  ihave GA1 := (pt_eq c arg11 ea1) $$ [H11]
  · iexact H11
  clear l
  rename_i hL
  clear hL
  have l : TabOK c arg1 f1 ∧ BitVec.toInt (lenAt c arg2 f2 1) ≤ 131072 := ⟨hp, hlen _ _⟩
  (set_option sl_exec.stopBefore "k0_part113" in sl_exec_parts (disch := (with_reducible refine chk131_of ?_ i); exact hlen _ _))
  obtain ⟨a2, ea2⟩ : ∃ g, g = gathered c arg1 arg9 arg11 f1 gA (b := 1) (l := 32) (by omega) (by omega) a1 (Cert.Words.loopW (lenAt c arg2 f2 1)).trips := ⟨_, rfl⟩
  ihave GA2 := (pt_eq c arg11 ea2) $$ [GA1]
  · iexact GA1
  clear l
  rename_i hL
  clear hL
  have l : TabOK c arg1 f1 ∧ BitVec.toInt (lenAt c arg2 f2 2) ≤ 131072 := ⟨hp, hlen _ _⟩
  (set_option sl_exec.stopBefore "k0_part114" in sl_exec_parts (disch := (with_reducible refine chk196_of ?_ i); exact hlen _ _))
  obtain ⟨a3, ea3⟩ : ∃ g, g = gathered c arg1 arg9 arg11 f1 gA (b := 2) (l := 64) (by omega) (by omega) a2 (Cert.Words.loopW (lenAt c arg2 f2 2)).trips := ⟨_, rfl⟩
  ihave GA3 := (pt_eq c arg11 ea3) $$ [GA2]
  · iexact GA2
  clear l
  rename_i hL
  clear hL
  have l : TabOK c arg1 f1 ∧ BitVec.toInt (lenAt c arg2 f2 3) ≤ 131072 := ⟨hp, hlen _ _⟩
  (set_option sl_exec.stopBefore "k0_part115" in sl_exec_parts (disch := (with_reducible refine chk261_of ?_ i); exact hlen _ _))
  obtain ⟨a4, ea4⟩ : ∃ g, g = gathered c arg1 arg9 arg11 f1 gA (b := 3) (l := 96) (by omega) (by omega) a3 (Cert.Words.loopW (lenAt c arg2 f2 3)).trips := ⟨_, rfl⟩
  ihave GA4 := (pt_eq c arg11 ea4) $$ [GA3]
  · iexact GA3
  clear l
  rename_i hL
  clear hL
  have l : TabOK c arg1 f1 ∧ BitVec.toInt (lenAt c arg2 f2 4) ≤ 131072 := ⟨hp, hlen _ _⟩
  (set_option sl_exec.stopBefore "k0_part117" in sl_exec_parts (disch := (with_reducible refine chk326_of ?_ i); exact hlen _ _))
  obtain ⟨b1, eb1⟩ : ∃ g, g = gathered c arg1 arg10 arg12 f1 gB (b := 4) (l := 0) (by omega) (by omega) f12 (Cert.Words.loopW (lenAt c arg2 f2 4)).trips := ⟨_, rfl⟩
  ihave GB1 := (pt_eq c arg12 eb1) $$ [H12]
  · iexact H12
  clear l
  rename_i hL
  clear hL
  have l : TabOK c arg1 f1 ∧ BitVec.toInt (lenAt c arg2 f2 5) ≤ 131072 := ⟨hp, hlen _ _⟩
  (set_option sl_exec.stopBefore "k0_part118" in sl_exec_parts)
  sl_exec_parts
  sl_step
  have eA : gatherA c arg1 arg2 arg9 arg11 f1 f2 (arg9.view.writes (Elt F) f9 (storesA c i arg4 arg5 arg6 arg8 f4 f5 f6 f8)) f11 4 le_rfl = a4 := by
    rw [ea4, ea3, ea2, ea1, egA]; rfl
  have eB : gatherB c arg1 arg2 arg10 arg12 f1 f2 (arg10.view.writes (Elt F) f10 (storesB c i arg4 arg5 arg6 arg8 f4 f5 f6 f8)) f12 2 le_rfl
      = gathered c arg1 arg10 arg12 f1 gB (b := 5) (l := 32) (by omega) (by omega) b1 (Cert.Words.loopW (lenAt c arg2 f2 5)).trips := by
    rw [eb1, egB]; rfl
  rw [eA, eB, ← egA, ← egB]
  clear eA eB ea4 ea3 ea2 ea1 egA egB eb1
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [HA]; · iexact HA
  isplitl [HB]; · iexact HB
  isplitl [GA4]; · iexact GA4
  iexact GB1

end Cert.KernelIdeal.Hand
-- ==== Proof.KernelIdeal.BodyF.lean ====
/-
  The kernel body at every grid point, from any contents of the scratch, and the run of the whole program in which nothing is
  said of the output: the arguments end as they began.
-/
module

public import proofs.«01_k».proof.Proof.KernelIdeal.RunA
public import proofs.«01_k».proof.Proof.KernelIdeal.RunB
public import proofs.«01_k».proof.Proof.KernelIdeal.RunC
public import proofs.«01_k».proof.Proof.Gen.KernelIdeal.Frame
public import proofs.«01_k».proof.Proof.Gen.KernelIdeal.Points
public import Idealize.ShloMosaic.Lib.Pipeline.Frame
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

/-- The grid point is the first one, as the body tests it. -/
abbrev isFirst (i : grid0.Coords) : Prop :=
  Scalar.cmpi .ne (Scalar.extui (Scalar.cmpi .eq (BitVec.ofNat 32 (i 0).val) 0#32)) 0#32 = 1#1

/-- The grid point is the last one, as the body tests it. -/
abbrev isLast (i : grid0.Coords) : Prop := k0_cond2 i = 1#1

/-- The first point of the grid is not the last one. -/
theorem not_first_last : ∀ t : Fin grid0.N, ¬ (isFirst (grid0.coords t) ∧ isLast (grid0.coords t)) := by decide

/-- The memref is held at some contents. -/
abbrev Held (c : Dev nD) {sp : Space} {S : Shape} {e : EltTy} (M : Memref sig .tc sp S e) : sProp 𝕄 :=
  iprop(∃ d, owns (c : Thread nD τ) M fullShare d)

/-- A memref held whole at contents `f` is held at some contents. -/
theorem held_of (c : Dev nD) {sp : Space} {S : Shape} {e : EltTy} (M : Memref sig .tc sp S e) (f : Buf (Elt F) (M.view.loc (c : Thread nD τ))) :
    (Pt c M f : sProp 𝕄) ⊢ Held c M := by
  unfold Held owns
  iintro H
  iexists _, f
  isplitr; · ipureintro; rfl
  iexact H

section
variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

/-- The body at any grid point, the inputs at contents whose page numbers and lengths are in range: it runs to its end and
    leaves the inputs as they were. -/
theorem bodyF (hne : ¬ (isFirst i ∧ isLast i))
    (d1 : S6x2048.Idx → Elt F .i32) (hp : ∀ x, BitVec.toNat (d1 x) < 15360)
    (d2 : S6.Idx → Elt F .i32) (hlen : ∀ x, BitVec.toInt (d2 x) ≤ 131072)
    (d3 : S6x32x128.Idx → Elt F .bf16) (d4 d5 : S512x16x128.Idx → Elt F .fp8e4m3) (d6 : S16x512.Idx → Elt F .f32)
    (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4 ∗ owns (c : Thread nD τ) arg5 fullShare d5 ∗ owns (c : Thread nD τ) arg6 fullShare d6
        ∗ Held c arg7 ∗ Held c arg8 ∗ Held c arg9 ∗ Held c arg10 ∗ Held c arg11 ∗ Held c arg12
        ∗ (iprop(owns (c : Thread nD τ) arg1 fullShare d1 ∗ owns (c : Thread nD τ) arg2 fullShare d2 ∗ owns (c : Thread nD τ) arg3 fullShare d3
        ∗ owns (c : Thread nD τ) arg4 fullShare d4 ∗ owns (c : Thread nD τ) arg5 fullShare d5 ∗ owns (c : Thread nD τ) arg6 fullShare d6
        ∗ Held c arg7 ∗ Held c arg8 ∗ Held c arg9 ∗ Held c arg10 ∗ Held c arg11 ∗ Held c arg12) -∗ K ⟨⟩))
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12) K := by
  unfold Held owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, HK⟩
  subst e1 e2 e3 e4 e5 e6
  by_cases h1 : isFirst i
  · have h2 : ¬ isLast i := fun h => hne ⟨h1, h⟩
    iapply (wp_wand_r Idealize.ShloMosaic.frame (wpE (defs₀ (F := F)) 𝒱₀ (c : Thread nD τ) none) Set.univ)
    isplitl [H3 H4 H5 H6 H8 H9 H10 H11 H12]
    · iapply (runA c i arg1 harg1 arg2 harg2 arg3 harg3 arg4 harg4 arg5 harg5 arg6 harg6 arg7 harg7 arg8 harg8 arg9 harg9 arg10 harg10 arg11 harg11 arg12 harg12 h1 h2 f3 f4 f5 f6 f8 f9 f10 f11 f12)
      isplitl [H3]; · iexact H3
      isplitl [H4]; · iexact H4
      isplitl [H5]; · iexact H5
      isplitl [H6]; · iexact H6
      isplitl [H8]; · iexact H8
      isplitl [H9]; · iexact H9
      isplitl [H10]; · iexact H10
      isplitl [H11]; · iexact H11
      iexact H12
    iintro %_ ⟨H3, H4, H5, H6, H8, H9, H10, H11, H12⟩
    iapply HK
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]; · iapply held_of; iexact H7
    isplitl [H8]; · iapply held_of; iexact H8
    isplitl [H9]; · iapply held_of; iexact H9
    isplitl [H10]; · iapply held_of; iexact H10
    isplitl [H11]; · iapply held_of; iexact H11
    iapply held_of; iexact H12
  · by_cases h2 : isLast i
    · have hp' : TabOK c arg1 f1 := fun r j => by rw [View.readAt_apply]; exact hp _
      have hl' : ∀ r j, BitVec.toInt (arg2.view.readAt (Elt F) r f2 j) ≤ 131072 := fun r j => by rw [View.readAt_apply]; exact hlen _
      iapply (wp_wand_r Idealize.ShloMosaic.frame (wpE (defs₀ (F := F)) 𝒱₀ (c : Thread nD τ) none) Set.univ)
      isplitl [H1 H2 H4 H5 H6 H7 H8 H9 H10 H11 H12]
      · iapply (runC c i arg1 harg1 arg2 harg2 arg3 harg3 arg4 harg4 arg5 harg5 arg6 harg6 arg7 harg7 arg8 harg8 arg9 harg9 arg10 harg10 arg11 harg11 arg12 harg12 h1 h2 f1 hp' f2 hl' f4 f5 f6 f7 f8 f9 f10 f11 f12)
        isplitl [H1]; · iexact H1
        isplitl [H2]; · iexact H2
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      iintro %_ ⟨H1, H2, H4, H5, H6, H7, H8, H9, H10, H11, H12⟩
      iapply HK
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]; · iapply held_of; iexact H7
      isplitl [H8]; · iapply held_of; iexact H8
      isplitl [H9]; · iapply held_of; iexact H9
      isplitl [H10]; · iapply held_of; iexact H10
      isplitl [H11]; · iapply held_of; iexact H11
      iapply held_of; iexact H12
    · skip
      iapply (wp_wand_r Idealize.ShloMosaic.frame (wpE (defs₀ (F := F)) 𝒱₀ (c : Thread nD τ) none) Set.univ)
      isplitl [H4 H5 H6 H8 H9 H10]
      · iapply (runB c i arg1 harg1 arg2 harg2 arg3 harg3 arg4 harg4 arg5 harg5 arg6 harg6 arg7 harg7 arg8 harg8 arg9 harg9 arg10 harg10 arg11 harg11 arg12 harg12 h1 h2 f4 f5 f6 f8 f9 f10)
        isplitl [H4]; · iexact H4
        isplitl [H5]; · iexact H5
        isplitl [H6]; · iexact H6
        isplitl [H8]; · iexact H8
        isplitl [H9]; · iexact H9
        iexact H10
      iintro %_ ⟨H4, H5, H6, H8, H9, H10⟩
      iapply HK
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]; · iapply held_of; iexact H7
      isplitl [H8]; · iapply held_of; iexact H8
      isplitl [H9]; · iapply held_of; iexact H9
      isplitl [H10]; · iapply held_of; iexact H10
      isplitl [H11]; · iapply held_of; iexact H11
      iapply held_of; iexact H12

end

/-! ## The proof data and the body obligation -/

variable (m : (ℓ : Loc nD τ sig) → Buf (Elt F) ℓ) (ρ : Dev nD → PrngReg)

/-- The page table and the lengths a core is launched with are in range. -/
abbrev InRange : Prop :=
  (∀ (c : Dev nD) (x), BitVec.toNat (m ((c : Thread nD τ).loc main_arg4) x) < 15360) ∧ ∀ (c : Dev nD) (x), BitVec.toInt (m ((c : Thread nD τ).loc main_arg5) x) ≤ 131072

/-- Only the output window is left unnamed. -/
def forgets : Fin 7 → Bool := ![false, false, false, false, false, false, true]

/-- The proof data of a run in which nothing is said of the output. -/
def datsF (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Pipeline.Dat.unnamed (cfg := cfg0) 6 t
  Φ _ := Pipeline.ΦA spec0 c
  q _ := fullShare
  owed _ := 0

/-- The arrays the region starts from are those the host operations left. -/
theorem A_eqF (c : Dev nD) (w : Fin cfg0.W) : (datsF m 0 c).A w = V m c (Pipeline.arrRef spec0 w) := by dsimp only [datsF]

/-- Every word of the page table's block is a page number. -/
theorem table_ok (h : InRange m) (c : Dev nD) (t : Fin cfg0.N) (x) : BitVec.toNat (iblk m c 0 t x) < 15360 := by
  unfold iblk; rw [View.read_apply, cast_eq, show V m c (Pipeline.arrRef spec0 0) = m ((c : Thread nD τ).loc main_arg4) from V_main_arg4 m c]; exact h.1 c _

/-- Every length of the lengths' block is in range. -/
theorem lens_ok (h : InRange m) (c : Dev nD) (t : Fin cfg0.N) (x) : BitVec.toInt (iblk m c 1 t x) ≤ 131072 := by
  unfold iblk; rw [View.read_apply, cast_eq, show V m c (Pipeline.arrRef spec0 1) = m ((c : Thread nD τ).loc main_arg5) from V_main_arg5 m c]; exact h.2 c _

/-- The scratch and the generator register, each at some contents. -/
theorem PhiA_eq (c : Dev nD) :
    (Pipeline.ΦA spec0 c : sProp 𝕄)
      = iprop(iprop(Held c (Memref.whole cc0_scratch0) ∗ Held c (Memref.whole cc0_scratch1) ∗ Held c (Memref.whole cc0_scratch2) ∗ Held c (Memref.whole cc0_scratch3) ∗ Held c (Memref.whole cc0_scratch4)) ∗ (∃ r, prngReg c r)) := by
  unfold Pipeline.ΦA
  rw [scopedRest0_eq]; simp only [Held, owns_whole]; try rfl

/-- What the body is called with at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d)) ∗ (∃ d, owns (c : Thread nD τ) (st0_1 t) fullShare ((datsF m 0 c).before 1 t d))
    ∗ (∃ d, owns (c : Thread nD τ) (st0_2 t) fullShare ((datsF m 0 c).before 2 t d)) ∗ (∃ d, owns (c : Thread nD τ) (st0_3 t) fullShare ((datsF m 0 c).before 3 t d))
    ∗ (∃ d, owns (c : Thread nD τ) (st0_4 t) fullShare ((datsF m 0 c).before 4 t d)) ∗ (∃ d, owns (c : Thread nD τ) (st0_5 t) fullShare ((datsF m 0 c).before 5 t d))
    ∗ (∃ X, owns (c : Thread nD τ) (st0_6 t) fullShare X))

/-- What the body returns at point `t`. -/
def bodyPostF (c : Dev nD) (t : Fin cfg0.N) : sProp 𝕄 :=
  iprop((datsF m 0 c).Φ t.succ ∗ (datsF m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ (∃ X, owns (c : Thread nD τ) (st0_6 t) fullShare X))

/-- The body at every point of the grid. -/
theorem sound_bodyF (h : InRange m) (c : Dev nD) (t : Fin cfg0.N) :
    bodyPreF m c t ⊢ wp frame (wpE (defs₀ (F := F)) 𝒱₀ c none) Set.univ (bodyAt0 t) (fun _ => bodyPostF m c t) := by
  unfold bodyPreF bodyPostF
  rw [show (datsF m 0 c).Φ t.succ = Pipeline.ΦA spec0 c from rfl,
    show (datsF m 0 c).owesAt () t.succ = (datsF m 0 c).owesAt () t.castSucc from rfl,
    show (datsF m 0 c).Φ t.castSucc = Pipeline.ΦA spec0 c from rfl, PhiA_eq]
  simp only [before0_0_of m (datsF m 0 c) (A_eqF m c 0) (fun _ => rfl), before0_1_of m (datsF m 0 c) (A_eqF m c 1) (fun _ => rfl),
    before0_2_of m (datsF m 0 c) (A_eqF m c 2) (fun _ => rfl), before0_3_of m (datsF m 0 c) (A_eqF m c 3) (fun _ => rfl),
    before0_4_of m (datsF m 0 c) (A_eqF m c 4) (fun _ => rfl), before0_5_of m (datsF m 0 c) (A_eqF m c 5) (fun _ => rfl)]
  unfold Dat.owesAt Pipeline.owesWithin
  rw [show (datsF m 0 c).owed t.castSucc = 0 from rfl]
  iintro ⟨⟨⟨H8, H9, H10, H11, H12⟩, Hg⟩, ⟨%W, %hW, HO⟩, ⟨%_, H1⟩, ⟨%_, H2⟩, ⟨%_, H3⟩, ⟨%_, H4⟩, ⟨%_, H5⟩, ⟨%_, H6⟩, H7⟩
  iapply (bodyF c (grid0.coords t) (st0_0 t) _ (st0_1 t) _ (st0_2 t) _ (st0_3 t) _ (st0_4 t) _ (st0_5 t) _ (st0_6 t) _ (Memref.whole cc0_scratch0) _ (Memref.whole cc0_scratch1) _
    (Memref.whole cc0_scratch2) _ (Memref.whole cc0_scratch3) _ (Memref.whole cc0_scratch4) _ (not_first_last t) (iblk m c 0 t) (table_ok m h c t) (iblk m c 1 t) (lens_ok m h c t)
    (iblk m c 2 t) (iblk m c 3 t) (iblk m c 4 t) (iblk m c 5 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  isplitl [H8 H9 H10 H11 H12 Hg]
  · isplitr [Hg]
    · isplitl [H8]; · iexact H8
      isplitl [H9]; · iexact H9
      isplitl [H10]; · iexact H10
      isplitl [H11]; · iexact H11
      iexact H12
    · iexact Hg
  isplitl [HO]
  · iexists W; isplitr; · ipureintro; exact fun _ _ => Or.inl trivial
    iexact HO
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation with the output unnamed. -/
theorem body_obligationF (h : InRange m) (c : Dev nD) :
    BodyObligation (datsF (F := F) m 0 c) (defs₀ (F := F)) 𝒱₀ () Set.univ forgets := fun t => by
  rw [bigSep_W0, bigSep_W0, defs₀_row]
  exact triple_restated (sound_bodyF m h c t) rfl .rfl fun _ => .rfl

/-! ## The run of the program -/

/-- The operation after the region writes the result only. -/
theorem sfx_only : ∀ ops ∈ [(hostOps1 : List (HloOp τ sig (Elt F)))], ∀ op ∈ ops, ∀ b : Ref sig .tc, Proc.devRef .tc b ∈ op.writes → b ∈ ({main_v2} : Finset (Ref sig .tc)) := by
  intro ops ho op hop b hb
  simp only [List.mem_singleton] at ho
  subst ho
  simp only [hostOps1, List.mem_singleton] at hop
  subst hop
  simp only [StableHlo.unary_writes, Finset.mem_singleton] at hb ⊢
  by_contra hne
  exact StableHlo.devRef_ne_of_ne hne hb

set_option backward.isDefEq.respectTransparency.types false in
/-- From any memory whose page table and lengths are in range, with every counter at zero, every execution of the program
    ends, its arguments as they began and every counter at zero. -/
theorem run_frame (h : InRange m) :
    θ_run defs (onTc (τ := τ) (main (F := F))) (s₀ m ρ)
      (fun r => Pipeline.RDat.FramePostR (cfgs 0) (fun c => (datsF m 0 c).toRForget forgets) {main_v2} (V m) r ∧ r.2.sem = fun _ => 0) :=
  Pipeline.θ_run_frame_around_T_track_forget (Q' := _) cfgs (datsF m) (0 : Fin 1) launch0 defs₀ 𝒱₀ forgets {main_v2} m ρ main
    (hbody := fun c => (body_obligationF m h c).loose) (hshare := fun c => (datsF m 0 c).share_full fun _ => rfl)
    (howed := fun _ _ => rfl) (V₀ := V0 m) (opss := [hostOps1]) (hsub := sfx_sub) (hfresh := sfx_fresh) (hkeep := sfx_keeps) (hT := sfx_only)
    (hmain := hmain m 𝒱₀) (hA := A_eqF m) (hin := fun _ => .rfl) (hout := fun _ => .rfl) (hQ' := fun _ h => h)

/-- The arguments end as they began, and every counter at zero. -/
theorem frame_claim (h : InRange m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1.arr_in c 2 rfl).trans ((A_eqF m c 2).trans (V_main_arg0 m c)),
      (h.1.arr_in c 3 rfl).trans ((A_eqF m c 3).trans (V_main_arg1 m c)),
      (h.1.arr_in c 4 rfl).trans ((A_eqF m c 4).trans (V_main_arg2 m c)),
      ((h.1 c).2 main_arg3 (by decide)).trans (V_main_arg3 m c),
      (h.1.arr_in c 0 rfl).trans ((A_eqF m c 0).trans (V_main_arg4 m c)),
      (h.1.arr_in c 1 rfl).trans ((A_eqF m c 1).trans (V_main_arg5 m c))⟩, h.2⟩) (run_frame m ρ h)

end Cert.KernelIdeal.Hand

end
-- ==== Proof.Kernel.Base.lean ====
/-
  Shared notions of the kernel's proof: the resource algebra, the trivial variants, and a memref's own elements held
  whole at some contents.
-/
module

public import proofs.«01_k».proof.Proof.Gen.Kernel.Skeleton
public import proofs.«01_k».proof.Proof.Gen.Kernel.Loops
public import Idealize.ShloMosaic.Lib.Tactic
public import Idealize.ShloMosaic.Lib.Affine

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the proofs work in. -/
abbrev UU (nD : Nat) (τ : Topo) : Type := UR sig nD τ
/-- No loop variants are needed. -/
abbrev 𝒱₀ : Variants := Variants.none

/-- Core `c` holds the elements of `M` whole, at contents `f`. -/
abbrev Pt (c : Dev nD) {sp : Space} {S : Shape} {e : EltTy} (M : Memref sig .tc sp S e) (f : Buf (Elt F) (M.view.loc (c : Thread nD τ))) :
    sProp (MT nD τ sig Unit (Elt F) ℕ (UU nD τ) ℕ) :=
  M.view.loc (c : Thread nD τ) ↦[M.view.set]{fullShare} f

end Cert.Kernel.Hand

end
-- ==== Proof.Kernel.Chunk.lean ====
/-
  What the main phase computes at one grid point, written as the kernel's source writes it: for each chunk of 128 pages and
  each group of four heads, two products of the queries' block with 64 pages' bounds, whose columns are put into page order
  and scaled, and the rows of the four groups laid one under another and transposed.
-/
module

public import proofs.«01_k».proof.Proof.Kernel.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI

variable {F : FTy → Type} [FloatOps F]

/-! ## The lane order -/

/-- Row `r`, lane `n`: column `4 (n % 32) + r / 2` of the product. -/
def permV : IVec S8x128 32 := k0_pay585 k0_pay581 k0_pay582 k0_pay583 k0_pay584

/-- Lane `n`: which quarter of the 128 pages, `n / 32`. -/
def quarterV : IVec S8x128 32 := k0_pay586 (iota .tc S8x128 32 [1] iota_S8x128_d1_w32)

/-- The lane order as the gather takes it. -/
def permIdx : IVec S8x128 32 :=
  shapeCast S8x128 (shapeCast S8x128x1 (select (cmpi .slt permV (broadcast S8x128 0#32)) (addi permV (broadcast S8x128 128#32)) permV)
    shapeCasts_S8x128_S8x128x1) shapeCasts_S8x128x1_S8x128

/-! ## One chunk -/

/-- A sequence's rows are a slice of a product's block. -/
theorem rows_slice (b : Fin 6) (o : Fin 2) : S48x256.Slices ![8 * b.val, 128 * o.val] S8x128 := by
  revert b o; decide

/-- The product of a block of queries with 64 pages' upper and lower bounds. -/
def prodV (l : Vec F S1x48x256 .bf16) (x n : Vec F S64x4x128 .fp8e4m3) : FVec F S48x256 .f32 := k0_pay592 x n l

/-- The scales of four heads, two rows a head. -/
def scaleV (s : Fin 4 → Vec F S1x128 .f32) : FVec F S8x128 .f32 :=
  k0_pay591 (k0_pay587 (s 0)) (k0_pay588 (s 1)) (k0_pay589 (s 2)) (k0_pay590 (s 3))

/-- Half `o` of sequence `b`'s rows of a product, its lanes put in order. -/
def orderedV (p : FVec F S48x256 .f32) (b : Fin 6) (o : Fin 2) : FVec F S8x128 .f32 :=
  dynamicGather 1 (extractStridedSlice S8x128 ![8 * b.val, 128 * o.val] p (rows_slice b o)) permIdx

/-- Sequence `b`'s rows for four heads over a chunk's 128 pages. -/
def rowsV (p0 p1 : FVec F S48x256 .f32) (s : FVec F S8x128 .f32) (b : Fin 6) : FVec F S8x128 .f32 :=
  mulf (select (cmpi .eq quarterV (broadcast S8x128 3#32)) (orderedV p1 b 1)
    (select (cmpi .eq quarterV (broadcast S8x128 2#32)) (orderedV p1 b 0)
      (select (cmpi .eq quarterV (broadcast S8x128 1#32)) (orderedV p0 b 1) (orderedV p0 b 0)))) s

/-- Sequences 0 to 3 over a chunk's pages: page by row. -/
def tileA (a : Fin 4 → Fin 6 → FVec F S8x128 .f32) : FVec F S128x128 .f32 :=
  transpose S128x128 [1, 0] (concatenate S128x128 0 [⟨S8x128, a 0 0⟩, ⟨S8x128, a 1 0⟩, ⟨S8x128, a 2 0⟩, ⟨S8x128, a 3 0⟩,
    ⟨S8x128, a 0 1⟩, ⟨S8x128, a 1 1⟩, ⟨S8x128, a 2 1⟩, ⟨S8x128, a 3 1⟩, ⟨S8x128, a 0 2⟩, ⟨S8x128, a 1 2⟩, ⟨S8x128, a 2 2⟩, ⟨S8x128, a 3 2⟩,
    ⟨S8x128, a 0 3⟩, ⟨S8x128, a 1 3⟩, ⟨S8x128, a 2 3⟩, ⟨S8x128, a 3 3⟩]
    concatenates_S8x128_S8x128_S8x128_S8x128_S8x128_S8x128_S8x128_S8x128_S8x128_S8x128_S8x128_S8x128_S8x128_S8x128_S8x128_S8x128_S128x128_d0)
    transposes_S128x128_p1_0_S128x128

/-- Sequences 4 and 5 over a chunk's pages: page by row. -/
def tileB (a : Fin 4 → Fin 6 → FVec F S8x128 .f32) : FVec F S128x64 .f32 :=
  transpose S128x64 [1, 0] (concatenate S64x128 0 [⟨S8x128, a 0 4⟩, ⟨S8x128, a 1 4⟩, ⟨S8x128, a 2 4⟩, ⟨S8x128, a 3 4⟩,
    ⟨S8x128, a 0 5⟩, ⟨S8x128, a 1 5⟩, ⟨S8x128, a 2 5⟩, ⟨S8x128, a 3 5⟩]
    concatenates_S8x128_S8x128_S8x128_S8x128_S8x128_S8x128_S8x128_S8x128_S64x128_d0)
    transposes_S64x128_p1_0_S128x64

/-! ## The chunks of a grid point, from the buffers -/

/-- The rows of bounds a product reads lie inside the block. -/
theorem block_inb (n : Fin 4) (h : Fin 2) (j : Fin 4) :
    ∀ a, (![128 * n.val + 64 * h.val, 4 * j.val, 0] : Fin 3 → Nat) a + S64x4x128.size a ≤ S512x16x128.size a := by
  revert n h j; decide

/-- The scales a chunk reads lie inside the block. -/
theorem scale_inb (n : Fin 4) (r : Fin 16) : ∀ a, (![r.val, 128 * n.val] : Fin 2 → Nat) a + S1x128.size a ≤ S16x512.size a := by
  revert n r; decide

/-- The staged queries a product reads lie inside the scratch. -/
theorem query_inb (j : Fin 4) : ∀ a, (![j.val, 0, 0] : Fin 3 → Nat) a + S1x48x256.size a ≤ S4x48x256.size a := by
  revert j; decide

section Buffers

variable (c : Dev nD) (i : grid0.Coords) (lo hi : Memref sig .tc .vmem S512x16x128 .fp8e4m3) (sc : Memref sig .tc .vmem S16x512 .f32)
  (qs : Memref sig .tc .vmem S4x48x256 .bf16)
  (f4 : Buf (Elt F) (lo.view.loc (c : Thread nD τ))) (f5 : Buf (Elt F) (hi.view.loc (c : Thread nD τ)))
  (f6 : Buf (Elt F) (sc.view.loc (c : Thread nD τ))) (f8 : Buf (Elt F) (qs.view.loc (c : Thread nD τ)))

/-- Group `j`'s block of queries. -/
def queryAt (j : Fin 4) : Vec F S1x48x256 .bf16 :=
  qs.view.readAt (Elt F) (Rect.unit (s := S4x48x256) ![j.val, 0, 0] S1x48x256.size (query_inb j)).toLoadRect f8

/-- 64 pages' bounds at the four heads of group `j`. -/
def blockAt (m : Memref sig .tc .vmem S512x16x128 .fp8e4m3) (f : Buf (Elt F) (m.view.loc (c : Thread nD τ))) (n : Fin 4) (h : Fin 2) (j : Fin 4) :
    Vec F S64x4x128 .fp8e4m3 :=
  m.view.readAt (Elt F) (Rect.unit (s := S512x16x128) ![128 * n.val + 64 * h.val, 4 * j.val, 0] S64x4x128.size (block_inb n h j)).toLoadRect f

/-- Head `r`'s scales over chunk `n`. -/
def scaleAt (n : Fin 4) (r : Fin 16) : Vec F S1x128 .f32 :=
  sc.view.readAt (Elt F) (Rect.unit (s := S16x512) ![r.val, 128 * n.val] S1x128.size (scale_inb n r)).toLoadRect f6

/-- Sequence `b`'s rows for group `j` over chunk `n`. -/
def accAt (n : Fin 4) (j : Fin 4) (b : Fin 6) : FVec F S8x128 .f32 :=
  rowsV (prodV (queryAt c qs f8 j) (blockAt c hi f5 n 0 j) (blockAt c lo f4 n 0 j))
    (prodV (queryAt c qs f8 j) (blockAt c hi f5 n 1 j) (blockAt c lo f4 n 1 j))
    (scaleV fun r => scaleAt c sc f6 n ⟨4 * j.val + r.val, by omega⟩) b

/-- Chunk `n`'s store of sequences 0 to 3. -/
def storeA (n : Fin 4) : View.Piece (Elt F) S15360x128 .f32 :=
  ⟨Rect.unit (s := S15360x128) (k0_off1 i (BitVec.ofNat 32 (128 * n.val))) S128x128.size (k0_off1_inb i n),
    shapeCast S128x128 (tileA (accAt c lo hi sc qs f4 f5 f6 f8 n)) shapeCasts_S128x128_S128x128⟩

/-- Chunk `n`'s store of sequences 4 and 5. -/
def storeB (n : Fin 4) : View.Piece (Elt F) S15360x128 .f32 :=
  ⟨Rect.unit (s := S15360x128) (k0_off2 i (BitVec.ofNat 32 (128 * n.val))) S128x64.size (k0_off2_inb i n),
    shapeCast S128x64 (tileB (accAt c lo hi sc qs f4 f5 f6 f8 n)) shapeCasts_S128x64_S128x64⟩

/-- The stores of sequences 0 to 3, the last one first. -/
def storesA : List (View.Piece (Elt F) S15360x128 .f32) :=
  [storeA c i lo hi sc qs f4 f5 f6 f8 3, storeA c i lo hi sc qs f4 f5 f6 f8 2, storeA c i lo hi sc qs f4 f5 f6 f8 1, storeA c i lo hi sc qs f4 f5 f6 f8 0]

/-- The stores of sequences 4 and 5, the last one first. -/
def storesB : List (View.Piece (Elt F) S15360x128 .f32) :=
  [storeB c i lo hi sc qs f4 f5 f6 f8 3, storeB c i lo hi sc qs f4 f5 f6 f8 2, storeB c i lo hi sc qs f4 f5 f6 f8 1, storeB c i lo hi sc qs f4 f5 f6 f8 0]

end Buffers

end Cert.Kernel.Hand
-- ==== Proof.Kernel.Checks.lean ====
/-
  The side conditions the kernel assumes of the words it reads: a length at most 131072 keeps every row of the gathering
  loops within bounds, and so does a page number below 15360 for the row it names.
-/
module

public import proofs.«01_k».proof.Proof.Kernel.Base
public import proofs.«01_k».proof.Proof.Words

@[expose] public section

namespace Cert.Kernel.Hand

open Cert.Kernel Cert.Kernel.Gen Cert.Words
open Idealize.ShloMosaic Idealize.ShloMosaic.TcCoe

/-- The box of one row of 32 lanes, at the row a page number below 15360 names. -/
theorem row_inb {w : BitVec 32} {l : Nat} (h : w.toNat < 15360) (hl : l + 32 ≤ 128) :
    ∀ a, (![w.toNat, l] : Fin 2 → Nat) a + S1x32.size a ≤ S15360x128.size a := by
  intro a; fin_cases a
  · show w.toNat + 1 ≤ 15360; omega
  · show l + 32 ≤ 128; omega

/-- The box of one gathered row. -/
theorem dst_inb {k u l : Nat} (hk : k < 64) (hu : u < 32) (hl : l + 32 ≤ 128) :
    ∀ a, (![(rowW k u).toNat, l] : Fin 2 → Nat) a + S1x32.size a ≤ S2048x128.size a := by
  have := rowW_toNat hk hu
  intro a; fin_cases a
  · show (rowW k u).toNat + 1 ≤ 2048; omega
  · show l + 32 ≤ 128; omega

/-- The box of one word of the page table. -/
theorem tab_inb {k u b : Nat} (hk : k < 64) (hu : u < 32) (hb : b < 6) :
    ∀ a, (![b, (rowW k u).toNat] : Fin 2 → Nat) a + S1x1.size a ≤ S6x2048.size a := by
  have := rowW_toNat hk hu
  intro a; fin_cases a
  · show b + 1 ≤ 6; omega
  · show (rowW k u).toNat + 1 ≤ 2048; omega

/-- Every entry of the page table that a loop reads lies inside the table. -/
theorem tab_all {L : Scf.Loop 32} (hL : L.trips ≤ 64) {b : Nat} (u : Nat) (hu : u < 32) (hb : b < 6) (k : Fin L.trips) :
    ∀ a, (![b, (rowW k u).toNat] : Fin 2 → Nat) a + S1x1.size a ≤ S6x2048.size a :=
  tab_inb (lt_of_lt_of_le k.isLt hL) hu hb

/-- Every row that a loop writes lies inside the gathered buffer. -/
theorem dst_all {L : Scf.Loop 32} (hL : L.trips ≤ 64) {l : Nat} (u : Nat) (hu : u < 32) (hl : l + 32 ≤ 128) (k : Fin L.trips) :
    ∀ a, (![(rowW k u).toNat, l] : Fin 2 → Nat) a + S1x32.size a ≤ S2048x128.size a :=
  dst_inb (lt_of_lt_of_le k.isLt hL) hu hl

variable {v : BitVec 32} (hv : v.toInt ≤ 131072)
include hv

/-- The rows the loops of sequence 0 touch. -/
theorem chk1_of (i : grid0.Coords) : k0_chk1 i v := by
  have h1 : (k0_t1_loop v).trips ≤ 64 := loop_trips_le hv
  have h2 : (k0_t2_loop v).trips = 0 := rest_trips v
  unfold k0_chk1 k0_chk1_0 k0_chk1_1 k0_chk1_2 k0_chk1_3 k0_chk1_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 1 touch. -/
theorem chk66_of (i : grid0.Coords) : k0_chk66 i v := by
  have h1 : (k0_t3_loop v).trips ≤ 64 := loop_trips_le hv
  have h2 : (k0_t4_loop v).trips = 0 := rest_trips v
  unfold k0_chk66 k0_chk66_0 k0_chk66_1 k0_chk66_2 k0_chk66_3 k0_chk66_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 2 touch. -/
theorem chk131_of (i : grid0.Coords) : k0_chk131 i v := by
  have h1 : (k0_t5_loop v).trips ≤ 64 := loop_trips_le hv
  have h2 : (k0_t6_loop v).trips = 0 := rest_trips v
  unfold k0_chk131 k0_chk131_0 k0_chk131_1 k0_chk131_2 k0_chk131_3 k0_chk131_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 3 touch. -/
theorem chk196_of (i : grid0.Coords) : k0_chk196 i v := by
  have h1 : (k0_t7_loop v).trips ≤ 64 := loop_trips_le hv
  have h2 : (k0_t8_loop v).trips = 0 := rest_trips v
  unfold k0_chk196 k0_chk196_0 k0_chk196_1 k0_chk196_2 k0_chk196_3 k0_chk196_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 4 touch. -/
theorem chk261_of (i : grid0.Coords) : k0_chk261 i v := by
  have h1 : (k0_t9_loop v).trips ≤ 64 := loop_trips_le hv
  have h2 : (k0_t10_loop v).trips = 0 := rest_trips v
  unfold k0_chk261 k0_chk261_0 k0_chk261_1 k0_chk261_2 k0_chk261_3 k0_chk261_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

/-- The rows the loops of sequence 5 touch. -/
theorem chk326_of (i : grid0.Coords) : k0_chk326 i v := by
  have h1 : (k0_t11_loop v).trips ≤ 64 := loop_trips_le hv
  have h2 : (k0_t12_loop v).trips = 0 := rest_trips v
  unfold k0_chk326 k0_chk326_0 k0_chk326_1 k0_chk326_2 k0_chk326_3 k0_chk326_4
  and_intros
  · exact fun _ => loop_ok hv
  iterate 32
    · exact fun k _ => tab_all h1 _ (by decide) (by decide) k
    · exact fun k _ => dst_all h1 _ (by decide) (by decide) k
  · exact fun _ => rest_ok v
  all_goals exact fun k => (k.cast h2).elim0

end Cert.Kernel.Hand
-- ==== Proof.Kernel.Gather.lean ====
/-
  The gathering loops. Trip `k` of the loop of one sequence copies 32 rows: row `32 k + u` of the destination, 32 lanes of
  it, becomes the same lanes of the source's row that the page table names at place `32 k + u`.
-/
module

public import proofs.«01_k».proof.Proof.Kernel.Checks

@[expose] public section

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## One trip's copies -/

section Pieces

variable (c : Dev nD) (tab : Memref sig .tc .smem S6x2048 .i32) (src : Memref sig .tc .vmem S15360x128 .f32) (dst : Memref sig .tc .vmem S2048x128 .f32)
  (ft : Buf (Elt F) (tab.view.loc (c : Thread nD τ))) (fs : Buf (Elt F) (src.view.loc (c : Thread nD τ)))

/-- Every word the table holds is a page number. -/
def TabOK : Prop := ∀ r j, BitVec.toNat (tab.view.readAt (Elt F) r ft j) < 15360

variable {b l : Nat} (hb : b < 6) (hl : l + 32 ≤ 128)

/-- The page number at place `32 k + u` of sequence `b`. -/
def pageAt (k : Nat) (hk : k < 64) (u : Nat) (hu : u < 32) : BitVec 32 :=
  tab.view.readAt (Elt F) (Rect.unit (s := S6x2048) ![b, (rowW k u).toNat] S1x1.size (tab_inb hk hu hb)).toLoadRect ft
    (Shape.Idx.first (numel1_S1x1.symm ▸ Nat.one_pos))

/-- The copy of trip `k` at `u`. -/
def copyAt (hp : TabOK c tab ft) (k : Nat) (hk : k < 64) (u : Nat) (hu : u < 32) : View.Piece (Elt F) S2048x128 .f32 :=
  ⟨Rect.unit (s := S2048x128) ![(rowW k u).toNat, l] S1x32.size (dst_inb hk hu hl),
    shapeCast S1x32 (src.view.readAt (Elt F) (Rect.unit (s := S15360x128) ![(pageAt c tab ft hb k hk u hu).toNat, l] S1x32.size (row_inb (hp _ _) hl)).toLoadRect fs)
      shapeCasts_S1x32_S1x32⟩

/-- The first `n` copies of trip `k`, the last one first. -/
def copies (hp : TabOK c tab ft) (k : Nat) (hk : k < 64) : (n : Nat) → n ≤ 32 → List (View.Piece (Elt F) S2048x128 .f32)
  | 0, _ => []
  | n + 1, h => copyAt c tab src ft fs hb hl hp k hk n h :: copies hp k hk n (Nat.le_of_succ_le h)

/-- The destination before trip `k`, from its contents `f` at the loop's entry. -/
def gathered (f : Buf (Elt F) (dst.view.loc (c : Thread nD τ))) : Nat → Buf (Elt F) (dst.view.loc (c : Thread nD τ))
  | 0 => f
  | k + 1 =>
    open Classical in
    if h : k < 64 ∧ TabOK c tab ft then
      dst.view.writes (Elt F) (gathered f k) (copies c tab src ft fs hb hl h.2 k h.1 32 le_rfl)
    else gathered f k

/-- What a loop has gathered after one trip more: the trip's copies on top of the earlier ones. -/
theorem gathered_succ (f : Buf (Elt F) (dst.view.loc (c : Thread nD τ))) {k : Nat} (hk : k < 64) (hp : TabOK c tab ft) :
    gathered c tab src dst ft fs hb hl f (k + 1)
      = dst.view.writes (Elt F) (gathered c tab src dst ft fs hb hl f k) (copies c tab src ft fs hb hl hp k hk 32 le_rfl) :=
  dif_pos (c := k < 64 ∧ TabOK c tab ft) ⟨hk, hp⟩

/-- What a gathering loop holds before trip `k`: the table, whose words are page numbers, the source, and the destination
    with the rows of the trips before `k`. -/
abbrev gathInv (v : BitVec 32) (f : Buf (Elt F) (dst.view.loc (c : Thread nD τ))) (k : Nat) : sProp 𝕄 :=
  iprop(⌜TabOK c tab ft ∧ v.toInt ≤ 131072⌝ ∗ Pt c tab ft ∗ Pt c src fs ∗ Pt c dst (gathered c tab src dst ft fs hb hl f k))

/-- One trip's copies bring the invariant to the next trip. -/
theorem gathInv_succ (v : BitVec 32) (f : Buf (Elt F) (dst.view.loc (c : Thread nD τ))) {k : Nat} (hk : k < 64) (hp : TabOK c tab ft)
    (hv : v.toInt ≤ 131072) :
    iprop(Pt c tab ft ∗ Pt c src fs
      ∗ Pt c dst (dst.view.writes (Elt F) (gathered c tab src dst ft fs hb hl f k) (copies c tab src ft fs hb hl hp k hk 32 le_rfl)))
      ⊢ gathInv c tab src dst ft fs hb hl v f (k + 1) := by
  unfold gathInv
  rw [gathered_succ c tab src dst ft fs hb hl f hk hp]
  iintro ⟨H1, H2, H3⟩
  isplitr; · ipureintro; exact ⟨hp, hv⟩
  isplitl [H1]; · iexact H1
  isplitl [H2]; · iexact H2
  iexact H3

end Pieces

end Cert.Kernel.Hand
-- ==== Proof.Kernel.Ends.lean ====
/-
  What the first grid point stores before its chunks, and what the last one stores after them.
-/
module

public import proofs.«01_k».proof.Proof.Kernel.Gather

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI

variable {F : FTy → Type} [FloatOps F]

section Buffers

variable (c : Dev nD)

/-! ## The first grid point -/

section First

variable (q : Memref sig .tc .vmem S6x32x128 .bf16) (f3 : Buf (Elt F) (q.view.loc (c : Thread nD τ)))

/-- A group of eight heads is a slice of the queries. -/
theorem heads_slice (j : Fin 4) : S6x32x128.Slices ![0, 8 * j.val, 0] S6x8x128 := by
  revert j; decide

/-- One half of a staged group lies inside the scratch. -/
theorem half_inb (j : Fin 4) (o : Fin 2) : ∀ a, (![j.val, 0, 128 * o.val] : Fin 3 → Nat) a + S1x48x128.size a ≤ S4x48x256.size a := by
  revert j o; decide

/-- The queries. -/
def queries : Vec F S6x32x128 .bf16 :=
  q.view.readAt (Elt F) (Rect.unit (s := S6x32x128) ![0, 0, 0] S6x32x128.size inb_S6x32x128_S6x32x128_0_0_0).toLoadRect f3

/-- Group `j`'s rows of `x`, for all sequences. -/
def groupV (x : FVec F S6x32x128 .bf16) (j : Fin 4) : FVec F S1x48x128 .bf16 :=
  shapeCast S1x48x128 (shapeCast S48x128 (extractStridedSlice S6x8x128 ![0, 8 * j.val, 0] x (heads_slice j)) shapeCasts_S6x8x128_S48x128)
    shapeCasts_S48x128_S1x48x128

/-- The store of group `j`'s positive parts (`o = 0`) or negative parts (`o = 1`). -/
def queryStore (x : FVec F S6x32x128 .bf16) (j : Fin 4) (o : Fin 2) : View.Piece (Elt F) S4x48x256 .bf16 :=
  ⟨Rect.unit (s := S4x48x256) ![j.val, 0, 128 * o.val] S1x48x128.size (half_inb j o), groupV x j⟩

/-- The stores of the queries' parts, the last one first. -/
def queryStores : List (View.Piece (Elt F) S4x48x256 .bf16) :=
  [queryStore (k0_pay6 (queries c q f3)) 3 1, queryStore (k0_pay5 (queries c q f3)) 3 0,
    queryStore (k0_pay6 (queries c q f3)) 2 1, queryStore (k0_pay5 (queries c q f3)) 2 0,
    queryStore (k0_pay6 (queries c q f3)) 1 1, queryStore (k0_pay5 (queries c q f3)) 1 0,
    queryStore (k0_pay6 (queries c q f3)) 0 1, queryStore (k0_pay5 (queries c q f3)) 0 0]

end First

/-- The store of zeros over a gathered table. -/
def clearStores : List (View.Piece (Elt F) S2048x128 .f32) :=
  [⟨Rect.unit (s := S2048x128) ![0, 0] S2048x128.size inb_S2048x128_S2048x128_0_0, k0_pay579 (F := F)⟩]

/-! ## The last grid point -/

section Last

variable (tab : Memref sig .tc .smem S6x2048 .i32) (len : Memref sig .tc .smem S6 .i32) (ra rb : Memref sig .tc .vmem S15360x128 .f32)
  (ga gb : Memref sig .tc .vmem S2048x128 .f32)
  (f1 : Buf (Elt F) (tab.view.loc (c : Thread nD τ))) (f2 : Buf (Elt F) (len.view.loc (c : Thread nD τ)))
  (f9 : Buf (Elt F) (ra.view.loc (c : Thread nD τ))) (f10 : Buf (Elt F) (rb.view.loc (c : Thread nD τ)))
  (f11 : Buf (Elt F) (ga.view.loc (c : Thread nD τ))) (f12 : Buf (Elt F) (gb.view.loc (c : Thread nD τ)))

/-- A sequence's length lies inside the array of lengths. -/
theorem len_inb (b : Fin 6) : ∀ a, (![b.val] : Fin 1 → Nat) a + S1.size a ≤ S6.size a := by
  revert b; decide

/-- Sequence `b`'s length. -/
def lenAt (b : Fin 6) : BitVec 32 :=
  len.view.readAt (Elt F) (Rect.unit (s := S6) ![b.val] S1.size (len_inb b)).toLoadRect f2 (Shape.Idx.first (numel1_S1.symm ▸ Nat.one_pos))

/-- The gathered rows of the first `n` of sequences 0 to 3. -/
def gatherA : (n : Nat) → n ≤ 4 → Buf (Elt F) (ga.view.loc (c : Thread nD τ))
  | 0, _ => f11
  | n + 1, h => gathered c tab ra ga f1 f9 (b := n) (l := 32 * n) (by omega) (by omega) (gatherA n (by omega))
      (Cert.Words.loopW (lenAt c len f2 ⟨n, by omega⟩)).trips

/-- The gathered rows of the first `n` of sequences 4 and 5. -/
def gatherB : (n : Nat) → n ≤ 2 → Buf (Elt F) (gb.view.loc (c : Thread nD τ))
  | 0, _ => f12
  | n + 1, h => gathered c tab rb gb f1 f10 (b := n + 4) (l := 32 * n) (by omega) (by omega) (gatherB n (by omega))
      (Cert.Words.loopW (lenAt c len f2 ⟨n + 4, by omega⟩)).trips

end Last

/-! ### The output's stores -/

section Out

variable (len : Memref sig .tc .smem S6 .i32) (ga gb : Memref sig .tc .vmem S2048x128 .f32)
  (f2 : Buf (Elt F) (len.view.loc (c : Thread nD τ)))
  (g11 : Buf (Elt F) (ga.view.loc (c : Thread nD τ))) (g12 : Buf (Elt F) (gb.view.loc (c : Thread nD τ)))

/-- A tile of the first gathered buffer lies inside it. -/
theorem tileA_inb (t : Fin 16) : ∀ a, (![128 * t.val, 0] : Fin 2 → Nat) a + S128x128.size a ≤ S2048x128.size a := by
  revert t; decide

/-- A tile of the second gathered buffer lies inside it. -/
theorem tileB_inb (t : Fin 16) : ∀ a, (![128 * t.val, 0] : Fin 2 → Nat) a + S128x64.size a ≤ S2048x128.size a := by
  revert t; decide

/-- The part of the output that one sequence and tile fill lies inside it. -/
theorem out_inb (b : Fin 6) (t : Fin 16) : ∀ a, (![b.val, 0, 128 * t.val] : Fin 3 → Nat) a + S1x32x128.size a ≤ S6x32x2048.size a := by
  revert b t; decide

/-- A sequence's rows are a slice of a tile of the first buffer. -/
theorem seqA_slice (b : Fin 4) : S128x128.Slices ![32 * b.val, 0] S32x128 := by
  revert b; decide

/-- A sequence's rows are a slice of a tile of the second buffer. -/
theorem seqB_slice (b : Fin 2) : S64x128.Slices ![32 * b.val, 0] S32x128 := by
  revert b; decide

/-- Positions `64 (128 t + n)` over the lanes `n`. -/
def posV (t : Fin 16) : IVec S1x128 32 :=
  muli (addi (broadcast S1x128 (BitVec.ofNat 32 (128 * t.val))) (iota .tc S1x128 32 [1] iota_S1x128_d1_w32)) (broadcast S1x128 64#32)

/-- A sequence's bounds over one tile of pages, zero past its length. -/
def keptV (t : Fin 16) (n : BitVec 32) (x : FVec F S32x128 .f32) : FVec F S1x32x128 .f32 :=
  shapeCast S1x32x128 (select (broadcastTo S32x128 (shapeCast S1x128 (cmpi .slt (posV t) (broadcast S1x128 n)) shapeCasts_S1x128_S1x128)
    broadcasts_S1x128_S32x128) x (broadcast S32x128 (Scalar.ofBits .f32 0x00000000#32 : F .f32))) shapeCasts_S32x128_S1x32x128

/-- The rows of sequence `b` (0 to 3) over tile `t`. -/
def tileRowsA (t : Fin 16) (b : Fin 4) : FVec F S32x128 .f32 :=
  extractStridedSlice S32x128 ![32 * b.val, 0] (transpose S128x128 [1, 0]
    (ga.view.readAt (Elt F) (Rect.unit (s := S2048x128) ![128 * t.val, 0] S128x128.size (tileA_inb t)).toLoadRect g11 : Vec F S128x128 .f32)
    transposes_S128x128_p1_0_S128x128) (seqA_slice b)

/-- The rows of sequence `4 + b` over tile `t`. -/
def tileRowsB (t : Fin 16) (b : Fin 2) : FVec F S32x128 .f32 :=
  extractStridedSlice S32x128 ![32 * b.val, 0] (transpose S64x128 [1, 0]
    (gb.view.readAt (Elt F) (Rect.unit (s := S2048x128) ![128 * t.val, 0] S128x64.size (tileB_inb t)).toLoadRect g12 : Vec F S128x64 .f32)
    transposes_S128x64_p1_0_S64x128) (seqB_slice b)

/-- The store of `x` as sequence `b`'s tile `t`. -/
def outStore (t : Fin 16) (b : Fin 6) (x : FVec F S32x128 .f32) : View.Piece (Elt F) S6x32x2048 .f32 :=
  ⟨Rect.unit (s := S6x32x2048) ![b.val, 0, 128 * t.val] S1x32x128.size (out_inb b t), keptV t (lenAt c len f2 b) x⟩

/-- The stores of the first `n` tiles, the last one first. -/
def outStores : (n : Nat) → n ≤ 16 → List (View.Piece (Elt F) S6x32x2048 .f32)
  | 0, _ => []
  | n + 1, h =>
    outStore c len f2 ⟨n, h⟩ 5 (tileRowsB c gb g12 ⟨n, h⟩ 1) :: outStore c len f2 ⟨n, h⟩ 4 (tileRowsB c gb g12 ⟨n, h⟩ 0)
      :: outStore c len f2 ⟨n, h⟩ 3 (tileRowsA c ga g11 ⟨n, h⟩ 3) :: outStore c len f2 ⟨n, h⟩ 2 (tileRowsA c ga g11 ⟨n, h⟩ 2)
      :: outStore c len f2 ⟨n, h⟩ 1 (tileRowsA c ga g11 ⟨n, h⟩ 1) :: outStore c len f2 ⟨n, h⟩ 0 (tileRowsA c ga g11 ⟨n, h⟩ 0)
      :: outStores n (Nat.le_of_succ_le h)

end Out

end Buffers

end Cert.Kernel.Hand
-- ==== Proof.Kernel.RunA.lean ====
module

public import proofs.«01_k».proof.Proof.Kernel.Chunk
public import proofs.«01_k».proof.Proof.Kernel.Ends

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

/-- The body at the first grid point, where the queries are staged and the gathered bounds cleared. -/
theorem runA
    (h1 : Scalar.cmpi .ne (Scalar.extui (Scalar.cmpi .eq (BitVec.ofNat 32 (i 0).val) 0#32)) 0#32 = 1#1)
    (h2 : ¬ k0_cond2 i = 1#1)
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ))) :
    iprop(Pt c arg3 f3 ∗ Pt c arg4 f4 ∗ Pt c arg5 f5 ∗ Pt c arg6 f6 ∗ Pt c arg8 f8 ∗ Pt c arg9 f9 ∗ Pt c arg10 f10 ∗ Pt c arg11 f11 ∗ Pt c arg12 f12)
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12)
        (fun _ => iprop(Pt c arg3 f3 ∗ Pt c arg4 f4 ∗ Pt c arg5 f5 ∗ Pt c arg6 f6 ∗ Pt c arg8 (arg8.view.writes (Elt F) f8 (queryStores c arg3 f3)) ∗ Pt c arg9 (arg9.view.writes (Elt F) f9 (storesA c i arg4 arg5 arg6 arg8 f4 f5 f6 (arg8.view.writes (Elt F) f8 (queryStores c arg3 f3))))
          ∗ Pt c arg10 (arg10.view.writes (Elt F) f10 (storesB c i arg4 arg5 arg6 arg8 f4 f5 f6 (arg8.view.writes (Elt F) f8 (queryStores c arg3 f3))))
          ∗ Pt c arg11 (arg11.view.writes (Elt F) f11 clearStores) ∗ Pt c arg12 (arg12.view.writes (Elt F) f12 clearStores))) := by
  iintro ⟨H3, H4, H5, H6, H8, H9, H10, H11, H12⟩
  simp only [cc0_page_bound_eq_skeleton]
  unfold cc0_page_bound_skel
  (set_option sl_exec.stopBefore "k0_part149" in sl_exec_parts)
  obtain ⟨g8, h8⟩ : ∃ g, g = arg8.view.writes (Elt F) f8 (queryStores c arg3 f3) := ⟨_, rfl⟩
  rw [← h8]
  ihave G8 := (show Pt c arg8 (arg8.view.writes (Elt F) f8 (queryStores c arg3 f3)) ⊢ Pt c arg8 g8 from h8 ▸ .rfl) $$ [H8]
  · iexact H8
  clear h8
  sl_exec_parts
  sl_step
  isplitl [H3]; · iexact H3
  isplitl [H4]; · iexact H4
  isplitl [H5]; · iexact H5
  isplitl [H6]; · iexact H6
  isplitl [G8]; · iexact G8
  isplitl [H9]; · iexact H9
  isplitl [H10]; · iexact H10
  isplitl [H11]; · iexact H11
  iexact H12

end Cert.Kernel.Hand
-- ==== Proof.Kernel.RunB.lean ====
module

public import proofs.«01_k».proof.Proof.Kernel.Chunk

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

/-- The body at the points between the first and the last runs, and leaves its stores. -/
theorem runB
    (h1 : ¬ Scalar.cmpi .ne (Scalar.extui (Scalar.cmpi .eq (BitVec.ofNat 32 (i 0).val) 0#32)) 0#32 = 1#1)
    (h2 : ¬ k0_cond2 i = 1#1)
    (f4 : Buf (Elt F) (arg4.view.loc (c : Thread nD τ)))
    (f5 : Buf (Elt F) (arg5.view.loc (c : Thread nD τ)))
    (f6 : Buf (Elt F) (arg6.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ))) :
    iprop(Pt c arg4 f4 ∗ Pt c arg5 f5 ∗ Pt c arg6 f6 ∗ Pt c arg8 f8 ∗ Pt c arg9 f9 ∗ Pt c arg10 f10)
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12)
        (fun _ => iprop(Pt c arg4 f4 ∗ Pt c arg5 f5 ∗ Pt c arg6 f6 ∗ Pt c arg8 f8 ∗ Pt c arg9 (arg9.view.writes (Elt F) f9 (storesA c i arg4 arg5 arg6 arg8 f4 f5 f6 f8))
          ∗ Pt c arg10 (arg10.view.writes (Elt F) f10 (storesB c i arg4 arg5 arg6 arg8 f4 f5 f6 f8)))) := by
  iintro ⟨H4, H5, H6, H8, H9, H10⟩
  simp only [cc0_page_bound_eq_skeleton]
  unfold cc0_page_bound_skel
  sl_exec_parts
  sl_step
  isplitl [H4]; · iexact H4
  isplitl [H5]; · iexact H5
  isplitl [H6]; · iexact H6
  isplitl [H8]; · iexact H8
  isplitl [H9]; · iexact H9
  iexact H10

end Cert.Kernel.Hand
-- ==== Proof.Kernel.Loop0.lean ====
/-
  The gathering loops of sequences 0 and 1: what each holds before a trip, and one trip of it.
-/
module

public import proofs.«01_k».proof.Proof.Kernel.Gather

@[expose] public section

set_option warn.classDefReducibility false

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)
  (k0_h2 : k0_cond2 i = 1#1)
  (ft : Buf (Elt F) (arg1.view.loc (c : Thread nD τ)))

/-- The gathering loop of sequence 0. -/
@[sl_loop] def loopInv_k0_t1 (v5075 : Elt F .i32) (k0_hw1 : k0_chk1 i v5075) (init : BitVec 32)
    (fs : Buf (Elt F) (arg9.view.loc (c : Thread nD τ))) (fd : Buf (Elt F) (arg11.view.loc (c : Thread nD τ))) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5075 k0_hw1 0#32 0#32 init where
  inv k _ := gathInv c arg1 arg9 arg11 ft fs (b := 0) (l := 0) (by decide) (by decide) v5075 fd k
  step k acc := by
    iintro ⟨%h, H1, H2, H3⟩
    have hk : k.val < 64 := Nat.lt_of_lt_of_le k.isLt (loop_trips_le h.2)
    have hp := h.1
    unfold k0_t1_body
    sl_exec_parts (disch := exact fun _ => row_inb (hp _ _) (by decide))
    sl_step
    iapply gathInv_succ c arg1 arg9 arg11 ft fs (b := 0) (l := 0) _ _ v5075 fd hk h.1 h.2
    isplitl [H1]; · iexact H1
    isplitl [H2]; · iexact H2
    iexact H3

/-- The gathering loop of sequence 1. -/
@[sl_loop] def loopInv_k0_t3 (v5121 : Elt F .i32) (k0_hw66 : k0_chk66 i v5121) (init : BitVec 32)
    (fs : Buf (Elt F) (arg9.view.loc (c : Thread nD τ))) (fd : Buf (Elt F) (arg11.view.loc (c : Thread nD τ))) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5121 k0_hw66 0#32 0#32 0#32 0#32 0#32 0#1 init where
  inv k _ := gathInv c arg1 arg9 arg11 ft fs (b := 1) (l := 32) (by decide) (by decide) v5121 fd k
  step k acc := by
    iintro ⟨%h, H1, H2, H3⟩
    have hk : k.val < 64 := Nat.lt_of_lt_of_le k.isLt (loop_trips_le h.2)
    have hp := h.1
    unfold k0_t3_body
    sl_exec_parts (disch := exact fun _ => row_inb (hp _ _) (by decide))
    sl_step
    iapply gathInv_succ c arg1 arg9 arg11 ft fs (b := 1) (l := 32) _ _ v5121 fd hk h.1 h.2
    isplitl [H1]; · iexact H1
    isplitl [H2]; · iexact H2
    iexact H3

end Cert.Kernel.Hand
-- ==== Proof.Kernel.Loop1.lean ====
/-
  The gathering loops of sequences 2 and 3: what each holds before a trip, and one trip of it.
-/
module

public import proofs.«01_k».proof.Proof.Kernel.Gather

@[expose] public section

set_option warn.classDefReducibility false

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)
  (k0_h2 : k0_cond2 i = 1#1)
  (ft : Buf (Elt F) (arg1.view.loc (c : Thread nD τ)))

/-- The gathering loop of sequence 2. -/
@[sl_loop] def loopInv_k0_t5 (v5167 : Elt F .i32) (k0_hw131 : k0_chk131 i v5167) (init : BitVec 32)
    (fs : Buf (Elt F) (arg9.view.loc (c : Thread nD τ))) (fd : Buf (Elt F) (arg11.view.loc (c : Thread nD τ))) :
    LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5167 k0_hw131 0#32 0#32 0#32 0#32 init where
  inv k _ := gathInv c arg1 arg9 arg11 ft fs (b := 2) (l := 64) (by decide) (by decide) v5167 fd k
  step k acc := by
    iintro ⟨%h, H1, H2, H3⟩
    have hk : k.val < 64 := Nat.lt_of_lt_of_le k.isLt (loop_trips_le h.2)
    have hp := h.1
    unfold k0_t5_body
    sl_exec_parts (disch := exact fun _ => row_inb (hp _ _) (by decide))
    sl_step
    iapply gathInv_succ c arg1 arg9 arg11 ft fs (b := 2) (l := 64) _ _ v5167 fd hk h.1 h.2
    isplitl [H1]; · iexact H1
    isplitl [H2]; · iexact H2
    iexact H3

/-- The gathering loop of sequence 3. -/
@[sl_loop] def loopInv_k0_t7 (v5213 : Elt F .i32) (k0_hw196 : k0_chk196 i v5213) (init : BitVec 32)
    (fs : Buf (Elt F) (arg9.view.loc (c : Thread nD τ))) (fd : Buf (Elt F) (arg11.view.loc (c : Thread nD τ))) :
    LoopInvTy_k0_t7 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5213 k0_hw196 0#32 0#1 0#1 init where
  inv k _ := gathInv c arg1 arg9 arg11 ft fs (b := 3) (l := 96) (by decide) (by decide) v5213 fd k
  step k acc := by
    iintro ⟨%h, H1, H2, H3⟩
    have hk : k.val < 64 := Nat.lt_of_lt_of_le k.isLt (loop_trips_le h.2)
    have hp := h.1
    unfold k0_t7_body
    sl_exec_parts (disch := exact fun _ => row_inb (hp _ _) (by decide))
    sl_step
    iapply gathInv_succ c arg1 arg9 arg11 ft fs (b := 3) (l := 96) _ _ v5213 fd hk h.1 h.2
    isplitl [H1]; · iexact H1
    isplitl [H2]; · iexact H2
    iexact H3

end Cert.Kernel.Hand
-- ==== Proof.Kernel.Loop2.lean ====
/-
  The gathering loops of sequences 4 and 5: what each holds before a trip, and one trip of it.
-/
module

public import proofs.«01_k».proof.Proof.Kernel.Gather

@[expose] public section

set_option warn.classDefReducibility false

noncomputable section

namespace Cert.Kernel.Hand

open Cert.Kernel Cert.Kernel.Gen Cert.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)
  (k0_h2 : k0_cond2 i = 1#1)
  (ft : Buf (Elt F) (arg1.view.loc (c : Thread nD τ)))

/-- The gathering loop of sequence 4. -/
@[sl_loop] def loopInv_k0_t9 (v5259 : Elt F .i32) (k0_hw261 : k0_chk261 i v5259) (init : BitVec 32)
    (fs : Buf (Elt F) (arg10.view.loc (c : Thread nD τ))) (fd : Buf (Elt F) (arg12.view.loc (c : Thread nD τ))) :
    LoopInvTy_k0_t9 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5259 k0_hw261 0#32 0#32 0#32 0#32 init where
  inv k _ := gathInv c arg1 arg10 arg12 ft fs (b := 4) (l := 0) (by decide) (by decide) v5259 fd k
  step k acc := by
    iintro ⟨%h, H1, H2, H3⟩
    have hk : k.val < 64 := Nat.lt_of_lt_of_le k.isLt (loop_trips_le h.2)
    have hp := h.1
    unfold k0_t9_body
    sl_exec_parts (disch := exact fun _ => row_inb (hp _ _) (by decide))
    sl_step
    iapply gathInv_succ c arg1 arg10 arg12 ft fs (b := 4) (l := 0) _ _ v5259 fd hk h.1 h.2
    isplitl [H1]; · iexact H1
    isplitl [H2]; · iexact H2
    iexact H3

/-- The gathering loop of sequence 5. -/
@[sl_loop] def loopInv_k0_t11 (v5305 : Elt F .i32) (k0_hw326 : k0_chk326 i v5305) (init : BitVec 32)
    (fs : Buf (Elt F) (arg10.view.loc (c : Thread nD τ))) (fd : Buf (Elt F) (arg12.view.loc (c : Thread nD τ))) :
    LoopInvTy_k0_t11 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 k0_h2 v5305 k0_hw326 0#32 0#32 0#32 0#32 init where
  inv k _ := gathInv c arg1 arg10 arg12 ft fs (b := 5) (l := 32) (by decide) (by decide) v5305 fd k
  step k acc := by
    iintro ⟨%h, H1, H2, H3⟩
    have hk : k.val < 64 := Nat.lt_of_lt_of_le k.isLt (loop_trips_le h.2)
    have hp := h.1
    unfold k0_t11_body
    sl_exec_parts (disch := exact fun _ => row_inb (hp _ _) (by decide))
    sl_step
    iapply gathInv_succ c arg1 arg10 arg12 ft fs (b := 5) (l := 32) _ _ v5305 fd hk h.1 h.2
    isplitl [H1]; · iexact H1
    isplitl [H2]; · iexact H2
    iexact H3

end Cert.Kernel.Hand
-- ==== Proof.Kernel.RunC.lean ====
module

public import proofs.«01_k».proof.Proof.Kernel.Chunk
public import proofs.«01_k».proof.Proof.Kernel.Ends
public import proofs.«01_k».proof.Proof.Kernel.Loop0
public import proofs.«01_k».proof.Proof.Kernel.Loop1
public import proofs.«01_k».proof.Proof.Kernel.Loop2
public import Idealize.ShloMosaic.Lib.LoopRemainder

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A memref held at contents `f` is held at any contents equal to it. -/
theorem pt_eq (c : Dev nD) {sp : Space} {S : Shape} {e : EltTy} (M : Memref sig .tc sp S e) {f g : Buf (Elt F) (M.view.loc (c : Thread nD τ))}
    (h : g = f) : (Pt c M f : sProp 𝕄) ⊢ Pt c M g := by
  rw [h]

variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

set_option maxHeartbeats 4000000 in
/-- The last grid point. -/
theorem runC
    (h1 : ¬ Scalar.cmpi .ne (Scalar.extui (Scalar.cmpi .eq (BitVec.ofNat 32 (i 0).val) 0#32)) 0#32 = 1#1)
    (h2 : k0_cond2 i = 1#1)
    (f1 : Buf (Elt F) (arg1.view.loc (c : Thread nD τ))) (hp : TabOK c arg1 f1)
    (f2 : Buf (Elt F) (arg2.view.loc (c : Thread nD τ))) (hlen : ∀ r j, BitVec.toInt (arg2.view.readAt (Elt F) r f2 j) ≤ 131072)
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f10 : Buf (Elt F) (arg10.view.loc (c : Thread nD τ)))
    (f11 : Buf (Elt F) (arg11.view.loc (c : Thread nD τ)))
    (f12 : Buf (Elt F) (arg12.view.loc (c : Thread nD τ))) :
    iprop(Pt c arg1 f1 ∗ Pt c arg2 f2 ∗ Pt c arg4 f4 ∗ Pt c arg5 f5 ∗ Pt c arg6 f6 ∗ Pt c arg7 f7 ∗ Pt c arg8 f8 ∗ Pt c arg9 f9 ∗ Pt c arg10 f10 ∗ Pt c arg11 f11 ∗ Pt c arg12 f12)
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12)
        (fun _ => iprop(Pt c arg1 f1 ∗ Pt c arg2 f2 ∗ Pt c arg4 f4 ∗ Pt c arg5 f5 ∗ Pt c arg6 f6
          ∗ Pt c arg7 (arg7.view.writes (Elt F) f7 (outStores c arg2 arg11 arg12 f2 (gatherA c arg1 arg2 arg9 arg11 f1 f2 (arg9.view.writes (Elt F) f9 (storesA c i arg4 arg5 arg6 arg8 f4 f5 f6 f8)) f11 4 le_rfl) (gatherB c arg1 arg2 arg10 arg12 f1 f2 (arg10.view.writes (Elt F) f10 (storesB c i arg4 arg5 arg6 arg8 f4 f5 f6 f8)) f12 2 le_rfl) 16 le_rfl))
          ∗ Pt c arg8 f8 ∗ Pt c arg9 (arg9.view.writes (Elt F) f9 (storesA c i arg4 arg5 arg6 arg8 f4 f5 f6 f8)) ∗ Pt c arg10 (arg10.view.writes (Elt F) f10 (storesB c i arg4 arg5 arg6 arg8 f4 f5 f6 f8))
          ∗ Pt c arg11 (gatherA c arg1 arg2 arg9 arg11 f1 f2 (arg9.view.writes (Elt F) f9 (storesA c i arg4 arg5 arg6 arg8 f4 f5 f6 f8)) f11 4 le_rfl) ∗ Pt c arg12 (gatherB c arg1 arg2 arg10 arg12 f1 f2 (arg10.view.writes (Elt F) f10 (storesB c i arg4 arg5 arg6 arg8 f4 f5 f6 f8)) f12 2 le_rfl))) := by
  iintro ⟨H1, H2, H4, H5, H6, H7, H8, H9, H10, H11, H12⟩
  simp only [cc0_page_bound_eq_skeleton]
  unfold cc0_page_bound_skel
  (set_option sl_exec.stopBefore "k0_part110" in sl_exec_parts)
  obtain ⟨gA, egA⟩ : ∃ g, g = arg9.view.writes (Elt F) f9 (storesA c i arg4 arg5 arg6 arg8 f4 f5 f6 f8) := ⟨_, rfl⟩
  ihave HA := (pt_eq c arg9 egA) $$ [H9]
  · iexact H9
  obtain ⟨gB, egB⟩ : ∃ g, g = arg10.view.writes (Elt F) f10 (storesB c i arg4 arg5 arg6 arg8 f4 f5 f6 f8) := ⟨_, rfl⟩
  ihave HB := (pt_eq c arg10 egB) $$ [H10]
  · iexact H10
  (set_option sl_exec.stopBefore "k0_part111" in sl_exec_parts (disch := (with_reducible refine chk1_of ?_ i); exact hlen _ _))
  have l : TabOK c arg1 f1 ∧ BitVec.toInt (lenAt c arg2 f2 0) ≤ 131072 := ⟨hp, hlen _ _⟩
  (set_option sl_exec.stopBefore "k0_part112" in sl_exec_parts (disch := (with_reducible refine chk66_of ?_ i); exact hlen _ _))
  obtain ⟨a1, ea1⟩ : ∃ g, g = gathered c arg1 arg9 arg11 f1 gA (b := 0) (l := 0) (by omega) (by omega) f11 (Cert.Words.loopW (lenAt c arg2 f2 0)).trips := ⟨_, rfl⟩
  ihave GA1 := (pt_eq c arg11 ea1) $$ [H11]
  · iexact H11
  clear l
  rename_i hL
  clear hL
  have l : TabOK c arg1 f1 ∧ BitVec.toInt (lenAt c arg2 f2 1) ≤ 131072 := ⟨hp, hlen _ _⟩
  (set_option sl_exec.stopBefore "k0_part113" in sl_exec_parts (disch := (with_reducible refine chk131_of ?_ i); exact hlen _ _))
  obtain ⟨a2, ea2⟩ : ∃ g, g = gathered c arg1 arg9 arg11 f1 gA (b := 1) (l := 32) (by omega) (by omega) a1 (Cert.Words.loopW (lenAt c arg2 f2 1)).trips := ⟨_, rfl⟩
  ihave GA2 := (pt_eq c arg11 ea2) $$ [GA1]
  · iexact GA1
  clear l
  rename_i hL
  clear hL
  have l : TabOK c arg1 f1 ∧ BitVec.toInt (lenAt c arg2 f2 2) ≤ 131072 := ⟨hp, hlen _ _⟩
  (set_option sl_exec.stopBefore "k0_part114" in sl_exec_parts (disch := (with_reducible refine chk196_of ?_ i); exact hlen _ _))
  obtain ⟨a3, ea3⟩ : ∃ g, g = gathered c arg1 arg9 arg11 f1 gA (b := 2) (l := 64) (by omega) (by omega) a2 (Cert.Words.loopW (lenAt c arg2 f2 2)).trips := ⟨_, rfl⟩
  ihave GA3 := (pt_eq c arg11 ea3) $$ [GA2]
  · iexact GA2
  clear l
  rename_i hL
  clear hL
  have l : TabOK c arg1 f1 ∧ BitVec.toInt (lenAt c arg2 f2 3) ≤ 131072 := ⟨hp, hlen _ _⟩
  (set_option sl_exec.stopBefore "k0_part115" in sl_exec_parts (disch := (with_reducible refine chk261_of ?_ i); exact hlen _ _))
  obtain ⟨a4, ea4⟩ : ∃ g, g = gathered c arg1 arg9 arg11 f1 gA (b := 3) (l := 96) (by omega) (by omega) a3 (Cert.Words.loopW (lenAt c arg2 f2 3)).trips := ⟨_, rfl⟩
  ihave GA4 := (pt_eq c arg11 ea4) $$ [GA3]
  · iexact GA3
  clear l
  rename_i hL
  clear hL
  have l : TabOK c arg1 f1 ∧ BitVec.toInt (lenAt c arg2 f2 4) ≤ 131072 := ⟨hp, hlen _ _⟩
  (set_option sl_exec.stopBefore "k0_part117" in sl_exec_parts (disch := (with_reducible refine chk326_of ?_ i); exact hlen _ _))
  obtain ⟨b1, eb1⟩ : ∃ g, g = gathered c arg1 arg10 arg12 f1 gB (b := 4) (l := 0) (by omega) (by omega) f12 (Cert.Words.loopW (lenAt c arg2 f2 4)).trips := ⟨_, rfl⟩
  ihave GB1 := (pt_eq c arg12 eb1) $$ [H12]
  · iexact H12
  clear l
  rename_i hL
  clear hL
  have l : TabOK c arg1 f1 ∧ BitVec.toInt (lenAt c arg2 f2 5) ≤ 131072 := ⟨hp, hlen _ _⟩
  (set_option sl_exec.stopBefore "k0_part118" in sl_exec_parts)
  sl_exec_parts
  sl_step
  have eA : gatherA c arg1 arg2 arg9 arg11 f1 f2 (arg9.view.writes (Elt F) f9 (storesA c i arg4 arg5 arg6 arg8 f4 f5 f6 f8)) f11 4 le_rfl = a4 := by
    rw [ea4, ea3, ea2, ea1, egA]; rfl
  have eB : gatherB c arg1 arg2 arg10 arg12 f1 f2 (arg10.view.writes (Elt F) f10 (storesB c i arg4 arg5 arg6 arg8 f4 f5 f6 f8)) f12 2 le_rfl
      = gathered c arg1 arg10 arg12 f1 gB (b := 5) (l := 32) (by omega) (by omega) b1 (Cert.Words.loopW (lenAt c arg2 f2 5)).trips := by
    rw [eb1, egB]; rfl
  rw [eA, eB, ← egA, ← egB]
  clear eA eB ea4 ea3 ea2 ea1 egA egB eb1
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [HA]; · iexact HA
  isplitl [HB]; · iexact HB
  isplitl [GA4]; · iexact GA4
  iexact GB1

end Cert.Kernel.Hand
-- ==== Proof.Kernel.BodyF.lean ====
/-
  The kernel body at every grid point, from any contents of the scratch, and the run of the whole program in which nothing is
  said of the output: the arguments end as they began.
-/
module

public import proofs.«01_k».proof.Proof.Kernel.RunA
public import proofs.«01_k».proof.Proof.Kernel.RunB
public import proofs.«01_k».proof.Proof.Kernel.RunC
public import proofs.«01_k».proof.Proof.Gen.Kernel.Frame
public import proofs.«01_k».proof.Proof.Gen.Kernel.Points
public import Idealize.ShloMosaic.Lib.Pipeline.Frame
public import Idealize.ShloMosaic.Lib.Pipeline.FrameSuffix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UU nD τ) ℕ

/-- The grid point is the first one, as the body tests it. -/
abbrev isFirst (i : grid0.Coords) : Prop :=
  Scalar.cmpi .ne (Scalar.extui (Scalar.cmpi .eq (BitVec.ofNat 32 (i 0).val) 0#32)) 0#32 = 1#1

/-- The grid point is the last one, as the body tests it. -/
abbrev isLast (i : grid0.Coords) : Prop := k0_cond2 i = 1#1

/-- The first point of the grid is not the last one. -/
theorem not_first_last : ∀ t : Fin grid0.N, ¬ (isFirst (grid0.coords t) ∧ isLast (grid0.coords t)) := by decide

/-- The memref is held at some contents. -/
abbrev Held (c : Dev nD) {sp : Space} {S : Shape} {e : EltTy} (M : Memref sig .tc sp S e) : sProp 𝕄 :=
  iprop(∃ d, owns (c : Thread nD τ) M fullShare d)

/-- A memref held whole at contents `f` is held at some contents. -/
theorem held_of (c : Dev nD) {sp : Space} {S : Shape} {e : EltTy} (M : Memref sig .tc sp S e) (f : Buf (Elt F) (M.view.loc (c : Thread nD τ))) :
    (Pt c M f : sProp 𝕄) ⊢ Held c M := by
  unfold Held owns
  iintro H
  iexists _, f
  isplitr; · ipureintro; rfl
  iexact H

section
variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

/-- The body at any grid point, the inputs at contents whose page numbers and lengths are in range: it runs to its end and
    leaves the inputs as they were. -/
theorem bodyF (hne : ¬ (isFirst i ∧ isLast i))
    (d1 : S6x2048.Idx → Elt F .i32) (hp : ∀ x, BitVec.toNat (d1 x) < 15360)
    (d2 : S6.Idx → Elt F .i32) (hlen : ∀ x, BitVec.toInt (d2 x) ≤ 131072)
    (d3 : S6x32x128.Idx → Elt F .bf16) (d4 d5 : S512x16x128.Idx → Elt F .fp8e4m3) (d6 : S16x512.Idx → Elt F .f32)
    (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4 ∗ owns (c : Thread nD τ) arg5 fullShare d5 ∗ owns (c : Thread nD τ) arg6 fullShare d6
        ∗ Held c arg7 ∗ Held c arg8 ∗ Held c arg9 ∗ Held c arg10 ∗ Held c arg11 ∗ Held c arg12
        ∗ (iprop(owns (c : Thread nD τ) arg1 fullShare d1 ∗ owns (c : Thread nD τ) arg2 fullShare d2 ∗ owns (c : Thread nD τ) arg3 fullShare d3
        ∗ owns (c : Thread nD τ) arg4 fullShare d4 ∗ owns (c : Thread nD τ) arg5 fullShare d5 ∗ owns (c : Thread nD τ) arg6 fullShare d6
        ∗ Held c arg7 ∗ Held c arg8 ∗ Held c arg9 ∗ Held c arg10 ∗ Held c arg11 ∗ Held c arg12) -∗ K ⟨⟩))
      ⊢ wp frame (wpE (defs₀ (F := F)) 𝒱₀ c none) Set.univ
        (cc0_page_bound (F := F) i arg1 harg1 arg2 harg2 arg3 harg3 arg4 harg4 arg5 harg5 arg6 harg6 arg7 harg7 arg8 harg8 arg9 harg9 arg10 harg10 arg11 harg11 arg12 harg12) K := by
  unfold Held owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, HK⟩
  subst e1 e2 e3 e4 e5 e6
  by_cases h1 : isFirst i
  · have h2 : ¬ isLast i := fun h => hne ⟨h1, h⟩
    iapply (wp_wand_r Idealize.ShloMosaic.frame (wpE (defs₀ (F := F)) 𝒱₀ (c : Thread nD τ) none) Set.univ)
    isplitl [H3 H4 H5 H6 H8 H9 H10 H11 H12]
    · iapply (runA c i arg1 harg1 arg2 harg2 arg3 harg3 arg4 harg4 arg5 harg5 arg6 harg6 arg7 harg7 arg8 harg8 arg9 harg9 arg10 harg10 arg11 harg11 arg12 harg12 h1 h2 f3 f4 f5 f6 f8 f9 f10 f11 f12)
      isplitl [H3]; · iexact H3
      isplitl [H4]; · iexact H4
      isplitl [H5]; · iexact H5
      isplitl [H6]; · iexact H6
      isplitl [H8]; · iexact H8
      isplitl [H9]; · iexact H9
      isplitl [H10]; · iexact H10
      isplitl [H11]; · iexact H11
      iexact H12
    iintro %_ ⟨H3, H4, H5, H6, H8, H9, H10, H11, H12⟩
    iapply HK
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]; · iapply held_of; iexact H7
    isplitl [H8]; · iapply held_of; iexact H8
    isplitl [H9]; · iapply held_of; iexact H9
    isplitl [H10]; · iapply held_of; iexact H10
    isplitl [H11]; · iapply held_of; iexact H11
    iapply held_of; iexact H12
  · by_cases h2 : isLast i
    · have hp' : TabOK c arg1 f1 := fun r j => by rw [View.readAt_apply]; exact hp _
      have hl' : ∀ r j, BitVec.toInt (arg2.view.readAt (Elt F) r f2 j) ≤ 131072 := fun r j => by rw [View.readAt_apply]; exact hlen _
      iapply (wp_wand_r Idealize.ShloMosaic.frame (wpE (defs₀ (F := F)) 𝒱₀ (c : Thread nD τ) none) Set.univ)
      isplitl [H1 H2 H4 H5 H6 H7 H8 H9 H10 H11 H12]
      · iapply (runC c i arg1 harg1 arg2 harg2 arg3 harg3 arg4 harg4 arg5 harg5 arg6 harg6 arg7 harg7 arg8 harg8 arg9 harg9 arg10 harg10 arg11 harg11 arg12 harg12 h1 h2 f1 hp' f2 hl' f4 f5 f6 f7 f8 f9 f10 f11 f12)
        isplitl [H1]; · iexact H1
        isplitl [H2]; · iexact H2
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      iintro %_ ⟨H1, H2, H4, H5, H6, H7, H8, H9, H10, H11, H12⟩
      iapply HK
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]; · iapply held_of; iexact H7
      isplitl [H8]; · iapply held_of; iexact H8
      isplitl [H9]; · iapply held_of; iexact H9
      isplitl [H10]; · iapply held_of; iexact H10
      isplitl [H11]; · iapply held_of; iexact H11
      iapply held_of; iexact H12
    · skip
      iapply (wp_wand_r Idealize.ShloMosaic.frame (wpE (defs₀ (F := F)) 𝒱₀ (c : Thread nD τ) none) Set.univ)
      isplitl [H4 H5 H6 H8 H9 H10]
      · iapply (runB c i arg1 harg1 arg2 harg2 arg3 harg3 arg4 harg4 arg5 harg5 arg6 harg6 arg7 harg7 arg8 harg8 arg9 harg9 arg10 harg10 arg11 harg11 arg12 harg12 h1 h2 f4 f5 f6 f8 f9 f10)
        isplitl [H4]; · iexact H4
        isplitl [H5]; · iexact H5
        isplitl [H6]; · iexact H6
        isplitl [H8]; · iexact H8
        isplitl [H9]; · iexact H9
        iexact H10
      iintro %_ ⟨H4, H5, H6, H8, H9, H10⟩
      iapply HK
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]; · iapply held_of; iexact H7
      isplitl [H8]; · iapply held_of; iexact H8
      isplitl [H9]; · iapply held_of; iexact H9
      isplitl [H10]; · iapply held_of; iexact H10
      isplitl [H11]; · iapply held_of; iexact H11
      iapply held_of; iexact H12

end

/-! ## The proof data and the body obligation -/

variable (m : (ℓ : Loc nD τ sig) → Buf (Elt F) ℓ) (ρ : Dev nD → PrngReg)

/-- The page table and the lengths a core is launched with are in range. -/
abbrev InRange : Prop :=
  (∀ (c : Dev nD) (x), BitVec.toNat (m ((c : Thread nD τ).loc main_arg4) x) < 15360) ∧ ∀ (c : Dev nD) (x), BitVec.toInt (m ((c : Thread nD τ).loc main_arg5) x) ≤ 131072

/-- Only the output window is left unnamed. -/
def forgets : Fin 7 → Bool := ![false, false, false, false, false, false, true]

/-- The proof data of a run in which nothing is said of the output. -/
def datsF (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Pipeline.Dat.unnamed (cfg := cfg0) 6 t
  Φ _ := Pipeline.ΦA spec0 c
  q _ := fullShare
  owed _ := 0

/-- The arrays the region starts from are those the host operations left. -/
theorem A_eqF (c : Dev nD) (w : Fin cfg0.W) : (datsF m 0 c).A w = V m c (Pipeline.arrRef spec0 w) := by dsimp only [datsF]

/-- Every word of the page table's block is a page number. -/
theorem table_ok (h : InRange m) (c : Dev nD) (t : Fin cfg0.N) (x) : BitVec.toNat (iblk m c 0 t x) < 15360 := by
  unfold iblk; rw [View.read_apply, cast_eq, show V m c (Pipeline.arrRef spec0 0) = m ((c : Thread nD τ).loc main_arg4) from V_main_arg4 m c]; exact h.1 c _

/-- Every length of the lengths' block is in range. -/
theorem lens_ok (h : InRange m) (c : Dev nD) (t : Fin cfg0.N) (x) : BitVec.toInt (iblk m c 1 t x) ≤ 131072 := by
  unfold iblk; rw [View.read_apply, cast_eq, show V m c (Pipeline.arrRef spec0 1) = m ((c : Thread nD τ).loc main_arg5) from V_main_arg5 m c]; exact h.2 c _

/-- The scratch and the generator register, each at some contents. -/
theorem PhiA_eq (c : Dev nD) :
    (Pipeline.ΦA spec0 c : sProp 𝕄)
      = iprop(iprop(Held c (Memref.whole cc0_scratch0) ∗ Held c (Memref.whole cc0_scratch1) ∗ Held c (Memref.whole cc0_scratch2) ∗ Held c (Memref.whole cc0_scratch3) ∗ Held c (Memref.whole cc0_scratch4)) ∗ (∃ r, prngReg c r)) := by
  unfold Pipeline.ΦA
  rw [scopedRest0_eq]; simp only [Held, owns_whole]; try rfl

/-- What the body is called with at point `t`. -/
def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d)) ∗ (∃ d, owns (c : Thread nD τ) (st0_1 t) fullShare ((datsF m 0 c).before 1 t d))
    ∗ (∃ d, owns (c : Thread nD τ) (st0_2 t) fullShare ((datsF m 0 c).before 2 t d)) ∗ (∃ d, owns (c : Thread nD τ) (st0_3 t) fullShare ((datsF m 0 c).before 3 t d))
    ∗ (∃ d, owns (c : Thread nD τ) (st0_4 t) fullShare ((datsF m 0 c).before 4 t d)) ∗ (∃ d, owns (c : Thread nD τ) (st0_5 t) fullShare ((datsF m 0 c).before 5 t d))
    ∗ (∃ X, owns (c : Thread nD τ) (st0_6 t) fullShare X))

/-- What the body returns at point `t`. -/
def bodyPostF (c : Dev nD) (t : Fin cfg0.N) : sProp 𝕄 :=
  iprop((datsF m 0 c).Φ t.succ ∗ (datsF m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ (∃ X, owns (c : Thread nD τ) (st0_6 t) fullShare X))

/-- The body at every point of the grid. -/
theorem sound_bodyF (h : InRange m) (c : Dev nD) (t : Fin cfg0.N) :
    bodyPreF m c t ⊢ wp frame (wpE (defs₀ (F := F)) 𝒱₀ c none) Set.univ (bodyAt0 t) (fun _ => bodyPostF m c t) := by
  unfold bodyPreF bodyPostF
  rw [show (datsF m 0 c).Φ t.succ = Pipeline.ΦA spec0 c from rfl,
    show (datsF m 0 c).owesAt () t.succ = (datsF m 0 c).owesAt () t.castSucc from rfl,
    show (datsF m 0 c).Φ t.castSucc = Pipeline.ΦA spec0 c from rfl, PhiA_eq]
  simp only [before0_0_of m (datsF m 0 c) (A_eqF m c 0) (fun _ => rfl), before0_1_of m (datsF m 0 c) (A_eqF m c 1) (fun _ => rfl),
    before0_2_of m (datsF m 0 c) (A_eqF m c 2) (fun _ => rfl), before0_3_of m (datsF m 0 c) (A_eqF m c 3) (fun _ => rfl),
    before0_4_of m (datsF m 0 c) (A_eqF m c 4) (fun _ => rfl), before0_5_of m (datsF m 0 c) (A_eqF m c 5) (fun _ => rfl)]
  unfold Dat.owesAt Pipeline.owesWithin
  rw [show (datsF m 0 c).owed t.castSucc = 0 from rfl]
  iintro ⟨⟨⟨H8, H9, H10, H11, H12⟩, Hg⟩, ⟨%W, %hW, HO⟩, ⟨%_, H1⟩, ⟨%_, H2⟩, ⟨%_, H3⟩, ⟨%_, H4⟩, ⟨%_, H5⟩, ⟨%_, H6⟩, H7⟩
  iapply (bodyF c (grid0.coords t) (st0_0 t) _ (st0_1 t) _ (st0_2 t) _ (st0_3 t) _ (st0_4 t) _ (st0_5 t) _ (st0_6 t) _ (Memref.whole cc0_scratch0) _ (Memref.whole cc0_scratch1) _
    (Memref.whole cc0_scratch2) _ (Memref.whole cc0_scratch3) _ (Memref.whole cc0_scratch4) _ (not_first_last t) (iblk m c 0 t) (table_ok m h c t) (iblk m c 1 t) (lens_ok m h c t)
    (iblk m c 2 t) (iblk m c 3 t) (iblk m c 4 t) (iblk m c 5 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  isplitl [H8 H9 H10 H11 H12 Hg]
  · isplitr [Hg]
    · isplitl [H8]; · iexact H8
      isplitl [H9]; · iexact H9
      isplitl [H10]; · iexact H10
      isplitl [H11]; · iexact H11
      iexact H12
    · iexact Hg
  isplitl [HO]
  · iexists W; isplitr; · ipureintro; exact fun _ _ => Or.inl trivial
    iexact HO
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation with the output unnamed. -/
theorem body_obligationF (h : InRange m) (c : Dev nD) :
    BodyObligation (datsF (F := F) m 0 c) (defs₀ (F := F)) 𝒱₀ () Set.univ forgets := fun t => by
  rw [bigSep_W0, bigSep_W0, defs₀_row]
  exact triple_restated (sound_bodyF m h c t) rfl .rfl fun _ => .rfl

/-! ## The run of the program -/

/-- The operation after the region writes the result only. -/
theorem sfx_only : ∀ ops ∈ [(hostOps1 : List (HloOp τ sig (Elt F)))], ∀ op ∈ ops, ∀ b : Ref sig .tc, Proc.devRef .tc b ∈ op.writes → b ∈ ({main_v2} : Finset (Ref sig .tc)) := by
  intro ops ho op hop b hb
  simp only [List.mem_singleton] at ho
  subst ho
  simp only [hostOps1, List.mem_singleton] at hop
  subst hop
  simp only [StableHlo.unary_writes, Finset.mem_singleton] at hb ⊢
  by_contra hne
  exact StableHlo.devRef_ne_of_ne hne hb

set_option backward.isDefEq.respectTransparency.types false in
/-- From any memory whose page table and lengths are in range, with every counter at zero, every execution of the program
    ends, its arguments as they began and every counter at zero. -/
theorem run_frame (h : InRange m) :
    θ_run defs (onTc (τ := τ) (main (F := F))) (s₀ m ρ)
      (fun r => Pipeline.RDat.FramePostR (cfgs 0) (fun c => (datsF m 0 c).toRForget forgets) {main_v2} (V m) r ∧ r.2.sem = fun _ => 0) :=
  Pipeline.θ_run_frame_around_T_track_forget (Q' := _) cfgs (datsF m) (0 : Fin 1) launch0 defs₀ 𝒱₀ forgets {main_v2} m ρ main
    (hbody := fun c => (body_obligationF m h c).loose) (hshare := fun c => (datsF m 0 c).share_full fun _ => rfl)
    (howed := fun _ _ => rfl) (V₀ := V0 m) (opss := [hostOps1]) (hsub := sfx_sub) (hfresh := sfx_fresh) (hkeep := sfx_keeps) (hT := sfx_only)
    (hmain := hmain m 𝒱₀) (hA := A_eqF m) (hin := fun _ => .rfl) (hout := fun _ => .rfl) (hQ' := fun _ h => h)

/-- The arguments end as they began, and every counter at zero. -/
theorem frame_claim (h : InRange m) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1.arr_in c 2 rfl).trans ((A_eqF m c 2).trans (V_main_arg0 m c)),
      (h.1.arr_in c 3 rfl).trans ((A_eqF m c 3).trans (V_main_arg1 m c)),
      (h.1.arr_in c 4 rfl).trans ((A_eqF m c 4).trans (V_main_arg2 m c)),
      ((h.1 c).2 main_arg3 (by decide)).trans (V_main_arg3 m c),
      (h.1.arr_in c 0 rfl).trans ((A_eqF m c 0).trans (V_main_arg4 m c)),
      (h.1.arr_in c 1 rfl).trans ((A_eqF m c 1).trans (V_main_arg5 m c))⟩, h.2⟩) (run_frame m ρ h)

end Cert.Kernel.Hand

end
-- ==== Proof.Hyps.lean ====
/-
  What the precondition says: every page-table word is a page number and every length is at most 131072.
-/
module

public import proofs.«01_k».proof.Pre_in_range

@[expose] public section

namespace Cert.Hyps

open Idealize.ShloMosaic
open Cert.Pre_in_range

variable {F : FTy → Type} [FloatOps F]

/-- The and of two one-bit truth values is the truth value of the conjunction. -/
theorem andi_ofBool (a b : Bool) : IntOp.andi (BitVec.ofBool a) (BitVec.ofBool b) = BitVec.ofBool (a && b) := by
  cases a <;> cases b <;> rfl

/-- A one-bit truth value is one exactly when the truth value is true. -/
theorem ofBool_eq_one (a : Bool) : BitVec.ofBool a = 1#1 ↔ a = true := by cases a <;> decide

variable [Cert.Pre_in_range.Facts]

/-- Where the precondition's array is all ones, the page table names pages and the lengths are in range. -/
theorem of_pre {a0 a1 a2 a3} {pt : IVec S6x2048 32} {len : IVec S6 32}
    (h : fn (F := F) a0 a1 a2 a3 pt len = fun _ => 1#1) :
    (∀ x, (pt x).toNat < 15360) ∧ ∀ x, (len x).toInt ≤ 131072 := by
  refine ⟨fun y => ?_, fun x => ?_⟩
  · have e := congrFun h y
    simp only [fn, andi, cmpi, broadcastInDim, constantI, IntOp.cmpi, andi_ofBool, ofBool_eq_one, Bool.and_eq_true] at e
    obtain ⟨⟨hge, hlt⟩, -⟩ := e
    simp only [BitVec.sle, BitVec.slt, decide_eq_true_eq, BitVec.toInt, BitVec.toNat_ofNat] at hge hlt
    omega
  · have e := congrFun h (fun d => match d with | 0 => ⟨(x 0).val, (x 0).isLt⟩ | 1 => ⟨0, by decide⟩)
    simp only [fn, andi, cmpi, broadcastInDim, constantI, IntOp.cmpi, andi_ofBool, ofBool_eq_one, Bool.and_eq_true] at e
    obtain ⟨-, hle⟩ := e
    simp only [BitVec.sle, decide_eq_true_eq, show (131072#32).toInt = 131072 from rfl] at hle
    refine le_of_eq_of_le (congrArg (fun z => (len z).toInt) ?_) hle
    funext d
    fin_cases d
    rfl

end Cert.Hyps
-- ==== Proof.Frames.lean ====
/-
  The frames of the program, at the machine's own floats and at the ideal floats, from the precondition.
-/
module

public import proofs.«01_k».proof.Proof.KernelIdeal.BodyF
public import proofs.«01_k».proof.Proof.Kernel.BodyF
public import proofs.«01_k».proof.Proof.Hyps
public import proofs.«01_k».proof.Proof.Gen.Pre_in_range
public import proofs.«01_k».proof.Defs

@[expose] public section

noncomputable section

namespace Cert.Frames

open Idealize.ShloMosaic Idealize.ShloMosaic.TcCoe

/-- The frame of the program at the ideal floats. -/
theorem frame_ideal : Cert.quiescent_KernelIdeal := fun m g h =>
  Cert.KernelIdeal.Hand.frame_claim m g ⟨fun c => (Cert.Hyps.of_pre (h c)).1, fun c => (Cert.Hyps.of_pre (h c)).2⟩

/-- The frame of the program at the machine's floats. -/
theorem frame_bits : Cert.quiescent_Kernel := fun m g h =>
  Cert.Kernel.Hand.frame_claim m g ⟨fun c => (Cert.Hyps.of_pre (h c)).1, fun c => (Cert.Hyps.of_pre (h c)).2⟩

end Cert.Frames

end
-- ==== Proof.KernelIdeal.Rows.lean ====
/-
  A chunk's rows at the ideal floats, element by element: the sum over the query's positive parts times the upper bounds and
  its negative parts times the lower bounds, times the scale.
-/
module

public import proofs.«01_k».proof.Proof.KernelIdeal.Chunk
public import Idealize.ShloMosaic.Lib.Pointwise
public import Idealize.ShloMosaic.Lib.Pipeline.Value

@[expose] public section

noncomputable section

namespace Cert.KernelIdeal.Hand

open Cert.KernelIdeal Cert.KernelIdeal.Gen
open Idealize.ShloMosaic Idealize.ShloMosaic.TcCoe

/-! ## The lane order -/

/-- The lane order's entry. -/
theorem permIdx_apply : ∀ (rr : Fin 8) (r : Fin 128), (permIdx (ix2 rr r)).toNat = 4 * (r.val % 32) + rr.val / 2 := by
  decide +kernel

/-- The quarter a lane lies in. -/
theorem quarterV_apply : ∀ (rr : Fin 8) (r : Fin 128), quarterV (ix2 rr r) = BitVec.ofNat 32 (r.val / 32) := by
  decide +kernel

/-! ## Rows -/

/-- Indices with equal coordinates are equal. -/
theorem ix3_eq {a b d : Nat} {x x' : Fin a} {y y' : Fin b} {z z' : Fin d} (hx : x.val = x'.val) (hy : y.val = y'.val) (hz : z.val = z'.val) :
    ix3 x y z = ix3 x' y' z' := by
  cases Fin.ext hx; cases Fin.ext hy; cases Fin.ext hz; rfl

/-- Indices with equal coordinates are equal. -/
theorem ix2_eq {a b : Nat} {x x' : Fin a} {y y' : Fin b} (hx : x.val = x'.val) (hy : y.val = y'.val) : ix2 x y = ix2 x' y' := by
  cases Fin.ext hx; cases Fin.ext hy; rfl

/-- One of two, by its number. -/
theorem pick_two {α : Type} (f : Fin 2 → α) (h : Fin 2) : (if h = 0 then f 0 else f 1) = f h := by
  fin_cases h <;> rfl

/-- The product's entry at a query row and a lane. -/
theorem prodV_apply (l : Vec Ideal S1x48x256 .bf16) (x n : Vec Ideal S64x4x128 .fp8e4m3) (i : Fin 48) (p : Fin 64) (q : Fin 4) (w : Fin 256)
    (hw : w.val = 4 * p.val + q.val) :
    prodV l x n (ix2 i w)
      = (∑ k : Fin 128, l (ix3 0 i ⟨k.val, by omega⟩) * x (ix3 p q k))
        + ∑ k : Fin 128, l (ix3 0 i ⟨128 + k.val, by omega⟩) * n (ix3 p q k) := by
  unfold prodV k0_pay592
  pointwise
  have e : ∀ (y : Vec Ideal S64x4x128 .fp8e4m3) (k : Fin 128), y (ix3 ⟨w.val / 4, by omega⟩ ⟨w.val % 4, by omega⟩ k) = y (ix3 p q k) := fun y k =>
    congrArg y (ix3_eq (by show w.val / 4 = p.val; omega) (by show w.val % 4 = q.val; omega) rfl)
  exact congrArg₂ (· + ·) (Finset.sum_congr rfl fun k _ => congrArg (l _ * ·) (e x k)) (Finset.sum_congr rfl fun k _ => congrArg (l _ * ·) (e n k))

/-- Half `o` of sequence `b`'s rows, in lane order. -/
theorem orderedV_apply (p : FVec Ideal S48x256 .f32) (b : Fin 6) (o : Fin 2) (rr : Fin 8) (r : Fin 128) :
    orderedV p b o (ix2 rr r) = p (ix2 ⟨8 * b.val + rr.val, by omega⟩ ⟨128 * o.val + (4 * (r.val % 32) + rr.val / 2), by omega⟩) := by
  have h := permIdx_apply rr r
  unfold orderedV
  generalize permIdx = P at h ⊢
  pointwise
  exact congrArg p (ix2_eq rfl (by show 128 * o.val + (P (ix2 rr r)).toNat % 128 = 128 * o.val + (4 * (r.val % 32) + rr.val / 2); rw [h]; omega))

/-- The scales of four heads. -/
theorem scaleV_apply (s : Fin 4 → Vec Ideal S1x128 .f32) (rr : Fin 8) (r : Fin 128) :
    scaleV s (ix2 rr r) = s ⟨rr.val / 2, by omega⟩ (ix2 0 r) := by
  unfold scaleV k0_pay591 k0_pay587 k0_pay588 k0_pay589 k0_pay590
  pointwise
  fin_cases rr <;> rfl

/-- The half of the chunk and the half of the product's lanes that hold a page's entries. -/
theorem rowsV_apply (p0 p1 : FVec Ideal S48x256 .f32) (s : FVec Ideal S8x128 .f32) (b : Fin 6) (rr : Fin 8) (r : Fin 128) (h o : Fin 2)
    (hr : r.val / 32 = 2 * h.val + o.val) :
    rowsV p0 p1 s b (ix2 rr r)
      = (if h = 0 then p0 else p1) (ix2 ⟨8 * b.val + rr.val, by omega⟩ ⟨128 * o.val + (4 * (r.val % 32) + rr.val / 2), by omega⟩) * s (ix2 rr r) := by
  have hq := quarterV_apply rr r
  rw [hr] at hq
  rw [show (if h = 0 then p0 else p1) (ix2 ⟨8 * b.val + rr.val, by omega⟩ ⟨128 * o.val + (4 * (r.val % 32) + rr.val / 2), by omega⟩)
    = orderedV (if h = 0 then p0 else p1) b o (ix2 rr r) from (orderedV_apply _ b o rr r).symm]
  unfold rowsV
  generalize quarterV = Q at hq ⊢
  pointwise
  rw [hq]
  fin_cases h <;> fin_cases o <;> rfl

section Buffers

variable (c : Dev nD) (i : grid0.Coords) (lo hi : Memref sig .tc .vmem S512x16x128 .fp8e4m3) (sc : Memref sig .tc .vmem S16x512 .f32)
  (qs : Memref sig .tc .vmem S4x48x256 .bf16)
  (f4 : Buf (Elt Ideal) (lo.view.loc (c : Thread nD τ))) (f5 : Buf (Elt Ideal) (hi.view.loc (c : Thread nD τ)))
  (f6 : Buf (Elt Ideal) (sc.view.loc (c : Thread nD τ))) (f8 : Buf (Elt Ideal) (qs.view.loc (c : Thread nD τ)))

/-- A block of 64 pages' bounds, read. -/
theorem blockAt_apply (m : Memref sig .tc .vmem S512x16x128 .fp8e4m3) (f : Buf (Elt Ideal) (m.view.loc (c : Thread nD τ))) (n : Fin 4) (h : Fin 2)
    (j : Fin 4) (p : Fin 64) (q : Fin 4) (k : Fin 128) :
    blockAt c m f n h j (ix3 p q k) = m.view.read (Elt Ideal) f (ix3 ⟨128 * n.val + 64 * h.val + p.val, by omega⟩ ⟨4 * j.val + q.val, by omega⟩ k) := by
  unfold blockAt
  rw [View.readAt_apply]
  congr 1
  funext a
  refine Fin.ext ?_
  fin_cases a
  · show 128 * n.val + 64 * h.val + 1 * p.val = 128 * n.val + 64 * h.val + p.val; omega
  · show 4 * j.val + 1 * q.val = 4 * j.val + q.val; omega
  · show 0 + 1 * k.val = k.val; omega

/-- A head's scales, read. -/
theorem scaleAt_apply (n : Fin 4) (r : Fin 16) (p : Fin 128) :
    scaleAt c sc f6 n r (ix2 0 p) = sc.view.read (Elt Ideal) f6 (ix2 r ⟨128 * n.val + p.val, by omega⟩) := by
  unfold scaleAt
  rw [View.readAt_apply]
  congr 1
  funext a
  refine Fin.ext ?_
  fin_cases a
  · show r.val + 1 * 0 = r.val; omega
  · show 128 * n.val + 1 * p.val = 128 * n.val + p.val; omega

/-- A group's queries, read. -/
theorem queryAt_apply (j : Fin 4) (x : Fin 48) (k : Fin 256) :
    queryAt c qs f8 j (ix3 0 x k) = qs.view.read (Elt Ideal) f8 (ix3 j x k) := by
  unfold queryAt
  rw [View.readAt_apply]
  congr 1
  funext a
  refine Fin.ext ?_
  fin_cases a
  · show j.val + 1 * 0 = j.val; omega
  · show 0 + 1 * x.val = x.val; omega
  · show 0 + 1 * k.val = k.val; omega

/-- The staged queries are the positive and the negative parts of `Q`. -/
def Staged (Q : Fin 6 → Fin 32 → Fin 128 → EReal) : Prop :=
  ∀ (j : Fin 4) (b : Fin 6) (rr : Fin 8) (k : Fin 128),
    qs.view.read (Elt Ideal) f8 (ix3 j ⟨8 * b.val + rr.val, by omega⟩ ⟨k.val, by omega⟩) = max (Q b ⟨8 * j.val + rr.val, by omega⟩ k) 0
    ∧ qs.view.read (Elt Ideal) f8 (ix3 j ⟨8 * b.val + rr.val, by omega⟩ ⟨128 + k.val, by omega⟩) = min (Q b ⟨8 * j.val + rr.val, by omega⟩ k) 0

/-- The bound of head `h` of sequence `b` at a page of the block. -/
def bndAt (Q : Fin 6 → Fin 32 → Fin 128 → EReal) (b : Fin 6) (h : Fin 32) (p : Fin 512) : EReal :=
  ((∑ k : Fin 128, max (Q b h k) 0 * hi.view.read (Elt Ideal) f5 (ix3 p ⟨h.val / 2, by omega⟩ k))
    + ∑ k : Fin 128, min (Q b h k) 0 * lo.view.read (Elt Ideal) f4 (ix3 p ⟨h.val / 2, by omega⟩ k))
    * sc.view.read (Elt Ideal) f6 (ix2 ⟨h.val / 2, by omega⟩ p)

variable {qs f8} in
/-- A group's row over a chunk is the bound. -/
theorem accAt_apply {Q : Fin 6 → Fin 32 → Fin 128 → EReal} (hQ : Staged c qs f8 Q) (n j : Fin 4) (b : Fin 6) (rr : Fin 8) (r : Fin 128) :
    accAt c lo hi sc qs f4 f5 f6 f8 n j b (ix2 rr r)
      = bndAt c lo hi sc f4 f5 f6 Q b ⟨8 * j.val + rr.val, by omega⟩ ⟨128 * n.val + r.val, by omega⟩ := by
  have hh : (⟨4 * j.val + rr.val / 2, by omega⟩ : Fin 16) = ⟨(8 * j.val + rr.val) / 2, by omega⟩ := Fin.ext (by show 4 * j.val + rr.val / 2 = (8 * j.val + rr.val) / 2; omega)
  have main : ∀ h o : Fin 2, r.val / 32 = 2 * h.val + o.val →
      prodV (queryAt c qs f8 j) (blockAt c hi f5 n h j) (blockAt c lo f4 n h j)
        (ix2 ⟨8 * b.val + rr.val, by omega⟩ ⟨128 * o.val + (4 * (r.val % 32) + rr.val / 2), by omega⟩)
      = (∑ k : Fin 128, max (Q b ⟨8 * j.val + rr.val, by omega⟩ k) 0 * hi.view.read (Elt Ideal) f5 (ix3 ⟨128 * n.val + r.val, by omega⟩ ⟨(8 * j.val + rr.val) / 2, by omega⟩ k))
        + ∑ k : Fin 128, min (Q b ⟨8 * j.val + rr.val, by omega⟩ k) 0 * lo.view.read (Elt Ideal) f4 (ix3 ⟨128 * n.val + r.val, by omega⟩ ⟨(8 * j.val + rr.val) / 2, by omega⟩ k) := by
    intro h o hr
    rw [prodV_apply _ _ _ _ ⟨32 * o.val + r.val % 32, by omega⟩ ⟨rr.val / 2, by omega⟩ _ (by show 128 * o.val + (4 * (r.val % 32) + rr.val / 2) = 4 * (32 * o.val + r.val % 32) + rr.val / 2; omega)]
    have hp : (⟨128 * n.val + 64 * h.val + (32 * o.val + r.val % 32), by omega⟩ : Fin 512) = ⟨128 * n.val + r.val, by omega⟩ :=
      Fin.ext (by show 128 * n.val + 64 * h.val + (32 * o.val + r.val % 32) = 128 * n.val + r.val; omega)
    congr 1
    · refine Finset.sum_congr rfl fun k _ => ?_
      rw [queryAt_apply, blockAt_apply, (hQ j b rr k).1, hp, hh]
    · refine Finset.sum_congr rfl fun k _ => ?_
      rw [queryAt_apply, blockAt_apply, (hQ j b rr k).2, hp, hh]
  unfold accAt bndAt
  rw [rowsV_apply _ _ _ _ _ _ ⟨r.val / 64, by omega⟩ ⟨r.val / 32 % 2, by omega⟩ (by show r.val / 32 = 2 * (r.val / 64) + r.val / 32 % 2; omega),
    scaleV_apply, scaleAt_apply, ← main ⟨r.val / 64, by omega⟩ ⟨r.val / 32 % 2, by omega⟩ (by show r.val / 32 = 2 * (r.val / 64) + r.val / 32 % 2; omega)]
  congr 1
  · exact congrFun (pick_two (fun h => prodV (queryAt c qs f8 j) (blockAt c hi f5 n h j) (blockAt c lo f4 n h j)) ⟨r.val / 64, by omega⟩) _
  · rw [hh]

end Buffers

/-! ## Tiles -/

/-- A place of a family of rows, told by a lane. -/
theorem fam_at (a : Fin 4 → Fin 6 → FVec Ideal S8x128 .f32) (r : Fin 128) (l b : Nat) (hl : b < 6) {J : Fin 4} {B : Fin 6} {x : Nat} {hx : x < 8}
    (ej : J.val = l % 32 / 8) (eb : B.val = b) (ex : x = l % 8) :
    a J B (ix2 ⟨x, hx⟩ r) = a ⟨l % 32 / 8, by omega⟩ ⟨b, hl⟩ (ix2 ⟨l % 8, by omega⟩ r) := by
  subst ex
  obtain ⟨J, hJ⟩ := J
  obtain ⟨B, hB⟩ := B
  simp only at ej eb
  subst ej; subst eb; rfl

/-- The sixteen blocks of rows of sequences 0 to 3, one after the other. -/
def blocksA (a : Fin 4 → Fin 6 → FVec Ideal S8x128 .f32) : List ((s : Shape) × (s.Idx → Elt Ideal .f32)) :=
  List.ofFn fun n : Fin 16 => ⟨S8x128, a ⟨n.val % 4, by omega⟩ ⟨n.val / 4, by omega⟩⟩

/-- The blocks of the four sequences fit together along the rows. -/
theorem blocksA_fit (a : Fin 4 → Fin 6 → FVec Ideal S8x128 .f32) : Shape.Concatenates ((blocksA a).map (·.1)) S128x128 0 :=
  concatenates_S8x128_S8x128_S8x128_S8x128_S8x128_S8x128_S8x128_S8x128_S8x128_S8x128_S8x128_S8x128_S8x128_S8x128_S8x128_S8x128_S128x128_d0

/-- The tile of sequences 0 to 3 at a page and a lane. -/
theorem tileA_apply (a : Fin 4 → Fin 6 → FVec Ideal S8x128 .f32) (r l : Fin 128) :
    tileA a (ix2 r l) = a ⟨l.val % 32 / 8, by omega⟩ ⟨l.val / 32, by omega⟩ (ix2 ⟨l.val % 8, by omega⟩ r) := by
  have e : tileA a = transpose S128x128 [1, 0] (concatenate S128x128 0 (blocksA a) (blocksA_fit a)) transposes_S128x128_p1_0_S128x128 := rfl
  have ht : ∀ X : FVec Ideal S128x128 .f32, transpose S128x128 [1, 0] X transposes_S128x128_p1_0_S128x128 (ix2 r l) = X (ix2 l r) := by
    intro X; pointwise
  rw [e, ht]
  refine (concatenate_ofFn_apply (t := S128x128) (s₁ := S8x128) (0 : Fin 2) (fun n : Fin 16 => a ⟨n.val % 4, by omega⟩ ⟨n.val / 4, by omega⟩) (blocksA_fit a) rfl 8 rfl
    (ix2 l r) ⟨l.val / 8, by omega⟩ rfl (ix2 ⟨l.val % 8, by omega⟩ r) rfl (fun b hb => ?_)).trans ?_
  · fin_cases b
    · exact absurd rfl hb
    · rfl
  · exact fam_at a r l.val (l.val / 32) (by omega) (by show l.val / 8 % 4 = l.val % 32 / 8; omega) (by show l.val / 8 / 4 = l.val / 32; omega) rfl

/-- The tile of sequences 4 and 5 at a page and a lane. -/
theorem tileB_apply (a : Fin 4 → Fin 6 → FVec Ideal S8x128 .f32) (r : Fin 128) (l : Fin 64) :
    tileB a (ix2 r l) = a ⟨l.val % 32 / 8, by omega⟩ ⟨4 + l.val / 32, by omega⟩ (ix2 ⟨l.val % 8, by omega⟩ r) := by
  unfold tileB
  pointwise
  split_ifs <;> exact fam_at a r l.val (4 + l.val / 32) (by omega) (by simp only [Fin.isValue, Fin.coe_ofNat_eq_mod, Nat.reduceMod]; omega)
    (by simp only [Fin.isValue, Fin.coe_ofNat_eq_mod, Nat.reduceMod]; omega) (by omega)

end Cert.KernelIdeal.Hand

end
-- ==== Proof.KernelIdeal.Stores.lean ====
/-
  What the buffers hold, at the ideal floats, after the body's stores: the staged queries, the bounds of the pages passed so
  far, the gathered bounds, and the output.
-/
module

public import proofs.«01_k».proof.Proof.KernelIdeal.Rows
public import proofs.«01_k».proof.Proof.KernelIdeal.Ends
public import Idealize.ShloMosaic.Lib.Writes

@[expose] public section

noncomputable section

namespace Cert.KernelIdeal.Hand

open Cert.KernelIdeal Cert.KernelIdeal.Gen
open Idealize.ShloMosaic Idealize.ShloMosaic.TcCoe

/-! ## Writes that agree with one function -/

/-- Where writes all agree with `G`, an element that is covered, or that agreed with `G` before, agrees with it after. -/
theorem read_writes_agree {κ : Kind} {sp : Space} {s : Shape} {e : EltTy} {Val : EltTy → Type} (v : View sig κ sp s e) (f : v.ty.Contents Val) (G : s.Idx → Val e) :
    ∀ L : List (View.Piece Val s e), (∀ p ∈ L, ∀ x : p.1.shape.Idx, p.2 x = G (p.1.emb x)) →
      ∀ y : s.Idx, (v.read Val f y = G y ∨ ∃ p ∈ L, ∃ x : p.1.shape.Idx, p.1.emb x = y) → v.read Val (v.writes Val f L) y = G y
  | [], _, y, h => by
    rcases h with h | ⟨_, hm, _⟩
    · exact h
    · exact absurd hm List.not_mem_nil
  | p :: L, hG, y, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · rw [View.read_writes_cons_miss v f p L y hy]
      refine read_writes_agree v f G L (fun q hq => hG q (List.mem_cons_of_mem p hq)) y ?_
      rcases h with h | ⟨q, hq, x, rfl⟩
      · exact .inl h
      · rcases List.mem_cons.1 hq with rfl | hq
        · exact absurd (by rw [← Rect.map_emb_univ]; exact Finset.mem_map_of_mem _ (Finset.mem_univ x)) hy
        · exact .inr ⟨q, hq, x, rfl⟩

/-! ## The bounds of the pages -/

/-- What the table of sequences 0 to 3 should hold. -/
def tgtA (V : Fin 6 → Fin 32 → Fin 15360 → EReal) (y : S15360x128.Idx) : EReal :=
  V ⟨(y 1).val / 32, by have : (y 1).val < 128 := (y 1).isLt; omega⟩ ⟨(y 1).val % 32, by omega⟩ ⟨(y 0).val, (y 0).isLt⟩

/-- What the table of sequences 4 and 5 should hold, in its first 64 lanes. -/
def tgtB (V : Fin 6 → Fin 32 → Fin 15360 → EReal) (y : S15360x128.Idx) : EReal :=
  V ⟨(4 + (y 1).val / 32) % 6, by omega⟩ ⟨(y 1).val % 32, by omega⟩ ⟨(y 0).val, (y 0).isLt⟩

/-- The grid's point number `t`. -/
def gridAt (t : Fin 30) : grid0.Coords := fun a => ⟨t.val, by have : a = 0 := Subsingleton.elim _ _; subst this; exact t.isLt⟩

/-- The rows a chunk's stores of sequences 0 to 3 start at. -/
theorem off1_val : ∀ (t : Fin 30) (n : Fin 4), (k0_off1 (gridAt t) (BitVec.ofNat 32 (128 * n.val))) = ![512 * t.val + 128 * n.val, 0] := by
  decide +kernel

/-- The rows a chunk's stores of sequences 4 and 5 start at. -/
theorem off2_val : ∀ (t : Fin 30) (n : Fin 4), (k0_off2 (gridAt t) (BitVec.ofNat 32 (128 * n.val))) = ![512 * t.val + 128 * n.val, 0] := by
  decide +kernel

section Pages

variable (c : Dev nD) (i : grid0.Coords) (lo hi : Memref sig .tc .vmem S512x16x128 .fp8e4m3) (sc : Memref sig .tc .vmem S16x512 .f32)
  (qs : Memref sig .tc .vmem S4x48x256 .bf16)
  (f4 : Buf (Elt Ideal) (lo.view.loc (c : Thread nD τ))) (f5 : Buf (Elt Ideal) (hi.view.loc (c : Thread nD τ)))
  (f6 : Buf (Elt Ideal) (sc.view.loc (c : Thread nD τ))) (f8 : Buf (Elt Ideal) (qs.view.loc (c : Thread nD τ)))
  (Q : Fin 6 → Fin 32 → Fin 128 → EReal) (V : Fin 6 → Fin 32 → Fin 15360 → EReal)

/-- At grid point `i` the bounds of the block's pages are `V`'s. -/
def Agrees : Prop :=
  ∀ (b : Fin 6) (h : Fin 32) (p : Fin 512) (P : Fin 15360), P.val = 512 * (i 0).val + p.val → bndAt c lo hi sc f4 f5 f6 Q b h p = V b h P

/-- The grid's coordinate is below 30. -/
theorem i0_lt : (i 0).val < 30 := (i 0).isLt

/-- A grid index is the one its coordinate names. -/
theorem i_eq : i = gridAt ⟨(i 0).val, i0_lt i⟩ := by
  funext a; have : a = 0 := Subsingleton.elim _ _; subst this; rfl

variable {c i lo hi sc qs f4 f5 f6 f8 Q V}

/-- A chunk stores the bounds of its 128 pages for the first four sequences. -/
theorem storeA_agrees (hQ : Staged c qs f8 Q) (hV : Agrees c i lo hi sc f4 f5 f6 Q V) (n : Fin 4) :
    ∀ x, (storeA c i lo hi sc qs f4 f5 f6 f8 n).2 x = tgtA V ((storeA c i lo hi sc qs f4 f5 f6 f8 n).1.emb x) := by
  intro x
  obtain ⟨r, l, rfl⟩ : ∃ (r : Fin 128) (l : Fin 128), x = ix2 r l := ⟨x 0, x 1, eq_ix2 x⟩
  have ho := off1_val ⟨(i 0).val, i0_lt i⟩ n
  rw [← i_eq i] at ho
  have hi0 := i0_lt i
  have e0 : ((storeA c i lo hi sc qs f4 f5 f6 f8 n).1.emb (ix2 r l) 0).val = 512 * (i 0).val + 128 * n.val + r.val := by
    show k0_off1 i (BitVec.ofNat 32 (128 * n.val)) 0 + 1 * r.val = _
    rw [ho]; show 512 * (i 0).val + 128 * n.val + 1 * r.val = _; omega
  have e1 : ((storeA c i lo hi sc qs f4 f5 f6 f8 n).1.emb (ix2 r l) 1).val = l.val := by
    show k0_off1 i (BitVec.ofNat 32 (128 * n.val)) 1 + 1 * l.val = _
    rw [ho]; show 0 + 1 * l.val = _; omega
  have e : tgtA V ((storeA c i lo hi sc qs f4 f5 f6 f8 n).1.emb (ix2 r l)) = V ⟨l.val / 32, by omega⟩ ⟨l.val % 32, by omega⟩ ⟨512 * (i 0).val + 128 * n.val + r.val, by omega⟩ := by
    unfold tgtA; simp only [e0, e1]
  rw [e]
  unfold storeA
  show shapeCast S128x128 (tileA (accAt c lo hi sc qs f4 f5 f6 f8 n)) shapeCasts_S128x128_S128x128 (ix2 r l) = _
  rw [show shapeCast S128x128 (tileA (accAt c lo hi sc qs f4 f5 f6 f8 n)) shapeCasts_S128x128_S128x128 (ix2 r l) = tileA (accAt c lo hi sc qs f4 f5 f6 f8 n) (ix2 r l) by pointwise,
    tileA_apply, accAt_apply c lo hi sc f4 f5 f6 hQ, hV _ _ _ ⟨512 * (i 0).val + 128 * n.val + r.val, by omega⟩ (by show 512 * (i 0).val + 128 * n.val + r.val = 512 * (i 0).val + (128 * n.val + r.val); omega)]
  congr 1
  exact Fin.ext (by show 8 * (l.val % 32 / 8) + l.val % 8 = l.val % 32; omega)

/-- A chunk stores the bounds of its 128 pages for the last two sequences. -/
theorem storeB_agrees (hQ : Staged c qs f8 Q) (hV : Agrees c i lo hi sc f4 f5 f6 Q V) (n : Fin 4) :
    ∀ x, (storeB c i lo hi sc qs f4 f5 f6 f8 n).2 x = tgtB V ((storeB c i lo hi sc qs f4 f5 f6 f8 n).1.emb x) := by
  intro x
  obtain ⟨r, l, rfl⟩ : ∃ (r : Fin 128) (l : Fin 64), x = ix2 r l := ⟨x 0, x 1, eq_ix2 x⟩
  have ho := off2_val ⟨(i 0).val, i0_lt i⟩ n
  rw [← i_eq i] at ho
  have hi0 := i0_lt i
  have e0 : ((storeB c i lo hi sc qs f4 f5 f6 f8 n).1.emb (ix2 r l) 0).val = 512 * (i 0).val + 128 * n.val + r.val := by
    show k0_off2 i (BitVec.ofNat 32 (128 * n.val)) 0 + 1 * r.val = _
    rw [ho]; show 512 * (i 0).val + 128 * n.val + 1 * r.val = _; omega
  have e1 : ((storeB c i lo hi sc qs f4 f5 f6 f8 n).1.emb (ix2 r l) 1).val = l.val := by
    show k0_off2 i (BitVec.ofNat 32 (128 * n.val)) 1 + 1 * l.val = _
    rw [ho]; show 0 + 1 * l.val = _; omega
  have e : tgtB V ((storeB c i lo hi sc qs f4 f5 f6 f8 n).1.emb (ix2 r l)) = V ⟨4 + l.val / 32, by omega⟩ ⟨l.val % 32, by omega⟩ ⟨512 * (i 0).val + 128 * n.val + r.val, by omega⟩ := by
    unfold tgtB; simp only [e0, e1]; congr 1; exact Fin.ext (by show (4 + l.val / 32) % 6 = 4 + l.val / 32; omega)
  rw [e]
  unfold storeB
  show shapeCast S128x64 (tileB (accAt c lo hi sc qs f4 f5 f6 f8 n)) shapeCasts_S128x64_S128x64 (ix2 r l) = _
  rw [show shapeCast S128x64 (tileB (accAt c lo hi sc qs f4 f5 f6 f8 n)) shapeCasts_S128x64_S128x64 (ix2 r l) = tileB (accAt c lo hi sc qs f4 f5 f6 f8 n) (ix2 r l) by pointwise,
    tileB_apply, accAt_apply c lo hi sc f4 f5 f6 hQ, hV _ _ _ ⟨512 * (i 0).val + 128 * n.val + r.val, by omega⟩ (by show 512 * (i 0).val + 128 * n.val + r.val = 512 * (i 0).val + (128 * n.val + r.val); omega)]
  congr 1
  exact Fin.ext (by show 8 * (l.val % 32 / 8) + l.val % 8 = l.val % 32; omega)

/-- The first `n` rows of the table of sequences 0 to 3 hold the bounds. -/
def RowsA (ra : Memref sig .tc .vmem S15360x128 .f32) (f : Buf (Elt Ideal) (ra.view.loc (c : Thread nD τ))) (V : Fin 6 → Fin 32 → Fin 15360 → EReal) (n : Nat) : Prop :=
  ∀ y : S15360x128.Idx, (y 0).val < n → ra.view.read (Elt Ideal) f y = tgtA V y

/-- The first `n` rows of the table of sequences 4 and 5 hold the bounds. -/
def RowsB (rb : Memref sig .tc .vmem S15360x128 .f32) (f : Buf (Elt Ideal) (rb.view.loc (c : Thread nD τ))) (V : Fin 6 → Fin 32 → Fin 15360 → EReal) (n : Nat) : Prop :=
  ∀ y : S15360x128.Idx, (y 0).val < n → (y 1).val < 64 → rb.view.read (Elt Ideal) f y = tgtB V y

/-- After the chunks of one point, the rows of the first buffer hold the bounds of the pages seen so far. -/
theorem storesA_rows (hQ : Staged c qs f8 Q) (hV : Agrees c i lo hi sc f4 f5 f6 Q V) (ra : Memref sig .tc .vmem S15360x128 .f32)
    (f9 : Buf (Elt Ideal) (ra.view.loc (c : Thread nD τ))) (h : RowsA ra f9 V (512 * (i 0).val)) :
    RowsA (c := c) ra (ra.view.writes (Elt Ideal) f9 (storesA c i lo hi sc qs f4 f5 f6 f8)) V (512 * ((i 0).val + 1)) := by
  intro y hy
  have hm : ∀ p ∈ storesA c i lo hi sc qs f4 f5 f6 f8, ∃ n, p = storeA c i lo hi sc qs f4 f5 f6 f8 n := by
    intro p hp
    simp only [storesA, List.mem_cons, List.not_mem_nil, or_false] at hp
    rcases hp with rfl | rfl | rfl | rfl <;> exact ⟨_, rfl⟩
  have hm' : ∀ n, storeA c i lo hi sc qs f4 f5 f6 f8 n ∈ storesA c i lo hi sc qs f4 f5 f6 f8 := by
    intro n; fin_cases n <;> simp [storesA]
  refine read_writes_agree ra.view f9 (tgtA V) _ (fun p hp x => ?_) y ?_
  · obtain ⟨n, rfl⟩ := hm p hp
    exact storeA_agrees hQ hV n x
  · by_cases hlt : (y 0).val < 512 * (i 0).val
    · exact .inl (h y hlt)
    · refine .inr ⟨_, hm' ⟨((y 0).val - 512 * (i 0).val) / 128, by omega⟩, ix2 ⟨((y 0).val - 512 * (i 0).val) % 128, by omega⟩ ⟨(y 1).val, (y 1).isLt⟩, ?_⟩
      have ho := off1_val ⟨(i 0).val, i0_lt i⟩ ⟨((y 0).val - 512 * (i 0).val) / 128, by omega⟩
      rw [← i_eq i] at ho
      refine Rect.emb_eq_of_coords _ _ _ fun a => ?_
      fin_cases a
      · show (y 0).val = k0_off1 i (BitVec.ofNat 32 (128 * (((y 0).val - 512 * (i 0).val) / 128))) 0 + 1 * (((y 0).val - 512 * (i 0).val) % 128)
        rw [ho]; show (y 0).val = 512 * (i 0).val + 128 * (((y 0).val - 512 * (i 0).val) / 128) + 1 * (((y 0).val - 512 * (i 0).val) % 128); omega
      · show (y 1).val = k0_off1 i (BitVec.ofNat 32 (128 * (((y 0).val - 512 * (i 0).val) / 128))) 1 + 1 * (y 1).val
        rw [ho]; show (y 1).val = 0 + 1 * (y 1).val; omega

/-- After the chunks of one point, the rows of the second buffer hold the bounds of the pages seen so far. -/
theorem storesB_rows (hQ : Staged c qs f8 Q) (hV : Agrees c i lo hi sc f4 f5 f6 Q V) (rb : Memref sig .tc .vmem S15360x128 .f32)
    (f10 : Buf (Elt Ideal) (rb.view.loc (c : Thread nD τ))) (h : RowsB rb f10 V (512 * (i 0).val)) :
    RowsB (c := c) rb (rb.view.writes (Elt Ideal) f10 (storesB c i lo hi sc qs f4 f5 f6 f8)) V (512 * ((i 0).val + 1)) := by
  intro y hy hy1
  have hm : ∀ p ∈ storesB c i lo hi sc qs f4 f5 f6 f8, ∃ n, p = storeB c i lo hi sc qs f4 f5 f6 f8 n := by
    intro p hp
    simp only [storesB, List.mem_cons, List.not_mem_nil, or_false] at hp
    rcases hp with rfl | rfl | rfl | rfl <;> exact ⟨_, rfl⟩
  have hm' : ∀ n, storeB c i lo hi sc qs f4 f5 f6 f8 n ∈ storesB c i lo hi sc qs f4 f5 f6 f8 := by
    intro n; fin_cases n <;> simp [storesB]
  refine read_writes_agree rb.view f10 (tgtB V) _ (fun p hp x => ?_) y ?_
  · obtain ⟨n, rfl⟩ := hm p hp
    exact storeB_agrees hQ hV n x
  · by_cases hlt : (y 0).val < 512 * (i 0).val
    · exact .inl (h y hlt hy1)
    · refine .inr ⟨_, hm' ⟨((y 0).val - 512 * (i 0).val) / 128, by omega⟩, ix2 ⟨((y 0).val - 512 * (i 0).val) % 128, by omega⟩ ⟨(y 1).val, hy1⟩, ?_⟩
      have ho := off2_val ⟨(i 0).val, i0_lt i⟩ ⟨((y 0).val - 512 * (i 0).val) / 128, by omega⟩
      rw [← i_eq i] at ho
      refine Rect.emb_eq_of_coords _ _ _ fun a => ?_
      fin_cases a
      · show (y 0).val = k0_off2 i (BitVec.ofNat 32 (128 * (((y 0).val - 512 * (i 0).val) / 128))) 0 + 1 * (((y 0).val - 512 * (i 0).val) % 128)
        rw [ho]; show (y 0).val = 512 * (i 0).val + 128 * (((y 0).val - 512 * (i 0).val) / 128) + 1 * (((y 0).val - 512 * (i 0).val) % 128); omega
      · show (y 1).val = k0_off2 i (BitVec.ofNat 32 (128 * (((y 0).val - 512 * (i 0).val) / 128))) 1 + 1 * (y 1).val
        rw [ho]; show (y 1).val = 0 + 1 * (y 1).val; omega

end Pages

/-! ## The staged queries -/

section First

variable (c : Dev nD) (q : Memref sig .tc .vmem S6x32x128 .bf16) (f3 : Buf (Elt Ideal) (q.view.loc (c : Thread nD τ)))

/-- What the staged queries should hold. -/
def tgtQ (Q : Fin 6 → Fin 32 → Fin 128 → EReal) (y : S4x48x256.Idx) : EReal :=
  (if (y 2).val < 128 then (max · 0) else (min · 0))
    (Q ⟨(y 1).val / 8, by have : (y 1).val < 48 := (y 1).isLt; omega⟩ ⟨8 * (y 0).val + (y 1).val % 8, by have : (y 0).val < 4 := (y 0).isLt; omega⟩ ⟨(y 2).val % 128, by omega⟩)

/-- The staged queries' target at row `w` of group `j`, half `o`. -/
theorem tgtQ_at (Q : Fin 6 → Fin 32 → Fin 128 → EReal) (y : S4x48x256.Idx) (j : Fin 4) (w : Fin 48) (k : Fin 128) (o : Fin 2)
    (h0 : (y 0).val = j.val) (h1 : (y 1).val = w.val) (h2 : (y 2).val = 128 * o.val + k.val) :
    tgtQ Q y = (if o = 0 then (max · 0) else (min · 0)) (Q ⟨w.val / 8, by omega⟩ ⟨8 * j.val + w.val % 8, by omega⟩ k) := by
  have hk : (⟨(128 * o.val + k.val) % 128, by omega⟩ : Fin 128) = k := Fin.ext (by show (128 * o.val + k.val) % 128 = k.val; omega)
  have ho : ((128 * o.val + k.val) < 128) = (o = 0) := by
    apply propext; constructor
    · intro h; exact Fin.ext (by show o.val = 0; omega)
    · rintro rfl; show 128 * 0 + k.val < 128; omega
  unfold tgtQ
  simp only [h0, h1, h2, hk]
  rw [if_congr (iff_of_eq ho) rfl rfl]

/-- A group's rows, element by element. -/
theorem groupV_apply (x : FVec Ideal S6x32x128 .bf16) (j : Fin 4) (w : Fin 48) (k : Fin 128) :
    groupV x j (ix3 0 w k) = x (ix3 ⟨w.val / 8, by omega⟩ ⟨8 * j.val + w.val % 8, by omega⟩ k) := by
  unfold groupV
  pointwise

/-- The stores of the first point stage the positive and the negative parts of the queries. -/
theorem queryStores_staged (Q : Fin 6 → Fin 32 → Fin 128 → EReal) (hq : ∀ b h k, q.view.read (Elt Ideal) f3 (ix3 b h k) = Q b h k)
    (qs : Memref sig .tc .vmem S4x48x256 .bf16) (f8 : Buf (Elt Ideal) (qs.view.loc (c : Thread nD τ))) :
    Staged c qs (qs.view.writes (Elt Ideal) f8 (queryStores c q f3)) Q := by
  have hr : ∀ b h k, queries c q f3 (ix3 b h k) = Q b h k := by
    intro b h k
    rw [← hq]; unfold queries; rw [View.readAt_apply]
    congr 1
    funext a; refine Fin.ext ?_
    fin_cases a
    · show 0 + 1 * b.val = b.val; omega
    · show 0 + 1 * h.val = h.val; omega
    · show 0 + 1 * k.val = k.val; omega
  have h5 : ∀ b h k, k0_pay5 (queries c q f3) (ix3 b h k) = max (Q b h k) 0 := by
    intro b h k; rw [← hr]; generalize queries c q f3 = X; unfold k0_pay5 k0_pay4; pointwise
  have h6 : ∀ b h k, k0_pay6 (queries c q f3) (ix3 b h k) = min (Q b h k) 0 := by
    intro b h k; rw [← hr]; generalize queries c q f3 = X; unfold k0_pay6 k0_pay4; pointwise
  have key : ∀ y, qs.view.read (Elt Ideal) (qs.view.writes (Elt Ideal) f8 (queryStores c q f3)) y = tgtQ Q y := by
    have hm : ∀ p ∈ queryStores c q f3, ∃ j, p = queryStore (k0_pay6 (queries c q f3)) j 1 ∨ p = queryStore (k0_pay5 (queries c q f3)) j 0 := by
      intro p hp
      simp only [queryStores, List.mem_cons, List.not_mem_nil, or_false] at hp
      rcases hp with rfl | rfl | rfl | rfl | rfl | rfl | rfl | rfl
      all_goals first | exact ⟨_, .inl rfl⟩ | exact ⟨_, .inr rfl⟩
    have hm1 : ∀ j, queryStore (k0_pay6 (queries c q f3)) j 1 ∈ queryStores c q f3 := by
      intro j; fin_cases j <;> simp [queryStores]
    have hm0 : ∀ j, queryStore (k0_pay5 (queries c q f3)) j 0 ∈ queryStores c q f3 := by
      intro j; fin_cases j <;> simp [queryStores]
    intro y
    refine read_writes_agree qs.view f8 (tgtQ Q) _ (fun p hp x => ?_) y ?_
    · obtain ⟨j, rfl | rfl⟩ := hm p hp
      all_goals
        obtain ⟨w, k, rfl⟩ : ∃ (w : Fin 48) (k : Fin 128), x = ix3 0 w k := ⟨x 1, x 2, by
          rw [eq_ix3 x]; exact ix3_eq (by have : (x 0).val < 1 := (x 0).isLt; show (x 0).val = 0; omega) rfl rfl⟩
      · refine (groupV_apply (k0_pay6 (queries c q f3)) j w k).trans ?_
        rw [h6]
        exact (tgtQ_at Q _ j w k 1 (by show j.val + 1 * 0 = j.val; omega) (by show 0 + 1 * w.val = w.val; omega)
          (by show 128 * 1 + 1 * k.val = _; show _ = 128 * 1 + k.val; omega)).symm
      · refine (groupV_apply (k0_pay5 (queries c q f3)) j w k).trans ?_
        rw [h5]
        exact (tgtQ_at Q _ j w k 0 (by show j.val + 1 * 0 = j.val; omega) (by show 0 + 1 * w.val = w.val; omega)
          (by show 128 * 0 + 1 * k.val = _; show _ = 128 * 0 + k.val; omega)).symm
    · right
      have b0 : (y 0).val < 4 := (y 0).isLt
      have b1 : (y 1).val < 48 := (y 1).isLt
      have b2 : (y 2).val < 256 := (y 2).isLt
      by_cases hk : (y 2).val < 128
      · refine ⟨_, hm0 ⟨(y 0).val, b0⟩, ix3 0 ⟨(y 1).val, b1⟩ ⟨(y 2).val, hk⟩, Rect.emb_eq_of_coords _ _ _ fun a => ?_⟩
        fin_cases a
        · show (y 0).val = (y 0).val + 1 * 0; omega
        · show (y 1).val = 0 + 1 * (y 1).val; omega
        · show (y 2).val = 128 * 0 + 1 * (y 2).val; omega
      · refine ⟨_, hm1 ⟨(y 0).val, b0⟩, ix3 0 ⟨(y 1).val, b1⟩ ⟨(y 2).val - 128, by omega⟩, Rect.emb_eq_of_coords _ _ _ fun a => ?_⟩
        fin_cases a
        · show (y 0).val = (y 0).val + 1 * 0; omega
        · show (y 1).val = 0 + 1 * (y 1).val; omega
        · show (y 2).val = 128 * 1 + 1 * ((y 2).val - 128); omega
  intro j b rr k
  have hw : ∀ h h', (Q ⟨(8 * b.val + rr.val) / 8, h⟩ ⟨8 * j.val + (8 * b.val + rr.val) % 8, h'⟩ k) = Q b ⟨8 * j.val + rr.val, by omega⟩ k := by
    intro h h'
    exact congrArg₂ (fun b' h'' => Q b' h'' k) (Fin.ext (by show (8 * b.val + rr.val) / 8 = b.val; omega))
      (Fin.ext (by show 8 * j.val + (8 * b.val + rr.val) % 8 = 8 * j.val + rr.val; omega))
  constructor
  · rw [key, tgtQ_at Q _ j ⟨8 * b.val + rr.val, by omega⟩ k 0 rfl rfl (by show k.val = 128 * 0 + k.val; omega)]
    exact congrArg (max · 0) (hw _ _)
  · rw [key, tgtQ_at Q _ j ⟨8 * b.val + rr.val, by omega⟩ k 1 rfl rfl (by show 128 + k.val = 128 * 1 + k.val; omega)]
    exact congrArg (min · 0) (hw _ _)

end First

end Cert.KernelIdeal.Hand

end
-- ==== Proof.KernelIdeal.Out.lean ====
/-
  What the last grid point leaves, at the ideal floats: the gathered bounds, and from them the output.
-/
module

public import proofs.«01_k».proof.Proof.KernelIdeal.Stores

@[expose] public section

noncomputable section

namespace Cert.KernelIdeal.Hand

open Cert.KernelIdeal Cert.KernelIdeal.Gen Cert.Words
open Idealize.ShloMosaic Idealize.ShloMosaic.TcCoe

/-! ## The gathered bounds -/

section Gathered

variable (c : Dev nD) (tab : Memref sig .tc .smem S6x2048 .i32) (src : Memref sig .tc .vmem S15360x128 .f32) (dst : Memref sig .tc .vmem S2048x128 .f32)
  (ft : Buf (Elt Ideal) (tab.view.loc (c : Thread nD τ))) (fs : Buf (Elt Ideal) (src.view.loc (c : Thread nD τ)))
  {b l : Nat} (hb : b < 6) (hl : l + 32 ≤ 128)

/-- The page number a copy reads is the table's word at its place. -/
theorem pageAt_eq (k : Nat) (hk : k < 64) (u : Nat) (hu : u < 32) :
    pageAt c tab ft hb k hk u hu = tab.view.read (Elt Ideal) ft (ix2 ⟨b, hb⟩ ⟨32 * k + u, by omega⟩) := by
  unfold pageAt
  rw [View.readAt_apply]
  refine congrArg _ (funext fun a => Fin.ext ?_)
  have hr := rowW_toNat hk hu
  fin_cases a
  · have : ((Shape.Idx.first (numel1_S1x1.symm ▸ Nat.one_pos) : S1x1.Idx) 0).val < 1 := Fin.isLt _
    show b + 1 * ((Shape.Idx.first (numel1_S1x1.symm ▸ Nat.one_pos) : S1x1.Idx) 0).val = b
    omega
  · have : ((Shape.Idx.first (numel1_S1x1.symm ▸ Nat.one_pos) : S1x1.Idx) 1).val < 1 := Fin.isLt _
    show (rowW k u).toNat + 1 * ((Shape.Idx.first (numel1_S1x1.symm ▸ Nat.one_pos) : S1x1.Idx) 1).val = 32 * k + u
    omega

/-- `G` holds, in the lanes from `l` to `l + 32`, the source's rows the table names for sequence `b`. -/
def Names (G : S2048x128.Idx → EReal) : Prop :=
  ∀ (r : Fin 2048) (n : Fin 128) (P : Fin 15360), P.val = BitVec.toNat (tab.view.read (Elt Ideal) ft (ix2 ⟨b, hb⟩ r)) → l ≤ n.val → n.val < l + 32 →
    src.view.read (Elt Ideal) fs (ix2 P n) = G (ix2 r n)

variable {c tab src dst ft fs}

/-- A copy agrees with what the table names. -/
theorem copyAt_agrees {G : S2048x128.Idx → EReal} (hG : Names c tab src ft fs (l := l) hb G) (hp : TabOK c tab ft) (k : Nat) (hk : k < 64) (u : Nat) (hu : u < 32) :
    ∀ x, (copyAt c tab src ft fs hb hl hp k hk u hu).2 x = G ((copyAt c tab src ft fs hb hl hp k hk u hu).1.emb x) := by
  intro x
  obtain ⟨n, rfl⟩ : ∃ n : Fin 32, x = (ix2 (0 : Fin 1) n : S1x32.Idx) := ⟨x 1, by
    rw [eq_ix2 x]; exact ix2_eq (by have : (x 0).val < 1 := (x 0).isLt; show (x 0).val = 0; omega) rfl⟩
  have hr := rowW_toNat hk hu
  have e : (copyAt c tab src ft fs hb hl hp k hk u hu).1.emb (ix2 (0 : Fin 1) n : S1x32.Idx) = (ix2 (⟨32 * k + u, by omega⟩ : Fin 2048) (⟨l + n.val, by omega⟩ : Fin 128) : S2048x128.Idx) := by
    refine Rect.emb_eq_of_coords _ _ _ fun a => ?_
    fin_cases a
    · show 32 * k + u = (rowW k u).toNat + 1 * 0; omega
    · show l + n.val = l + 1 * n.val; omega
  obtain ⟨P, hP⟩ : ∃ P : Fin 15360, P.val = (pageAt c tab ft hb k hk u hu).toNat := ⟨⟨_, hp _ _⟩, rfl⟩
  have hs : ∀ X : FVec Ideal S1x32 .f32, shapeCast S1x32 X shapeCasts_S1x32_S1x32 (ix2 (0 : Fin 1) n : S1x32.Idx) = X (ix2 (0 : Fin 1) n : S1x32.Idx) := fun X => by pointwise
  have hq : P.val = BitVec.toNat (tab.view.read (Elt Ideal) ft (ix2 ⟨b, hb⟩ (⟨32 * k + u, by omega⟩ : Fin 2048))) := by rw [hP, pageAt_eq (l := l)]
  rw [e]
  refine Eq.trans ?_ (hG (⟨32 * k + u, by omega⟩ : Fin 2048) (⟨l + n.val, by omega⟩ : Fin 128) P hq (by show l ≤ l + n.val; omega) (by show l + n.val < l + 32; omega))
  unfold copyAt
  dsimp only
  erw [hs]
  rw [View.readAt_apply]
  refine congrArg _ (funext fun a => Fin.ext ?_)
  fin_cases a
  · show (pageAt c tab ft hb k hk u hu).toNat + 1 * 0 = P.val; omega
  · show l + 1 * n.val = l + n.val; omega

/-- The copies of a trip are copies at its places. -/
theorem mem_copies (hp : TabOK c tab ft) (k : Nat) (hk : k < 64) : ∀ (n : Nat) (hn : n ≤ 32) (p),
    p ∈ copies c tab src ft fs hb hl hp k hk n hn → ∃ u, ∃ hu : u < 32, p = copyAt c tab src ft fs hb hl hp k hk u hu
  | 0, _, p, h => absurd h List.not_mem_nil
  | n + 1, hn, p, h => by
    rcases List.mem_cons.1 h with rfl | h
    · exact ⟨n, hn, rfl⟩
    · exact mem_copies hp k hk n _ p h

/-- Every place of a trip has its copy. -/
theorem copies_mem (hp : TabOK c tab ft) (k : Nat) (hk : k < 64) : ∀ (n : Nat) (hn : n ≤ 32) (u : Nat) (hu : u < n),
    copyAt c tab src ft fs hb hl hp k hk u (by omega) ∈ copies c tab src ft fs hb hl hp k hk n hn
  | n + 1, hn, u, hu => by
    by_cases h : u = n
    · subst h; exact List.mem_cons_self
    · exact List.mem_cons_of_mem _ (copies_mem hp k hk n _ u (by omega))

/-- After `k` trips the first `32 k` rows hold, in the loop's lanes, what the table names; what agreed with it before still
    does. -/
theorem gathered_read {G : S2048x128.Idx → EReal} (hG : Names c tab src ft fs (l := l) hb G) (hp : TabOK c tab ft) (f : Buf (Elt Ideal) (dst.view.loc (c : Thread nD τ))) :
    ∀ k ≤ 64, ∀ y : S2048x128.Idx, (dst.view.read (Elt Ideal) f y = G y ∨ ((y 0).val < 32 * k ∧ l ≤ (y 1).val ∧ (y 1).val < l + 32)) →
      dst.view.read (Elt Ideal) (gathered c tab src dst ft fs hb hl f k) y = G y
  | 0, _, y, h => h.resolve_right fun h => by omega
  | k + 1, hk, y, h => by
    rw [gathered_succ c tab src dst ft fs hb hl f (by omega) hp]
    refine read_writes_agree (Val := Elt Ideal) dst.view _ G _ (fun p hm x => ?_) y ?_
    · obtain ⟨u, hu, rfl⟩ := mem_copies hb hl hp k (by omega) 32 le_rfl p hm
      exact copyAt_agrees hb hl hG hp k (by omega) u hu x
    · rcases h with h | ⟨h0, h1, h2⟩
      · exact .inl (gathered_read hG hp f k (by omega) y (.inl h))
      · by_cases hy : (y 0).val < 32 * k
        · exact .inl (gathered_read hG hp f k (by omega) y (.inr ⟨hy, h1, h2⟩))
        · refine .inr ⟨_, copies_mem hb hl hp k (by omega) 32 le_rfl ((y 0).val - 32 * k) (by omega), ix2 0 ⟨(y 1).val - l, by omega⟩, Rect.emb_eq_of_coords _ _ _ fun a => ?_⟩
          have hr := rowW_toNat (k := k) (u := (y 0).val - 32 * k) (by omega) (by omega)
          fin_cases a
          · show (y 0).val = (rowW k ((y 0).val - 32 * k)).toNat + 1 * 0; omega
          · show (y 1).val = l + 1 * ((y 1).val - l); omega

end Gathered

section Last

variable (V : Fin 6 → Fin 32 → Fin 15360 → EReal) (Pg : Fin 6 → Fin 2048 → Fin 15360)

/-- What the gathered table of sequences 0 to 3 should hold. -/
def gtA (y : S2048x128.Idx) : EReal :=
  V ⟨(y 1).val / 32, by have : (y 1).val < 128 := (y 1).isLt; omega⟩ ⟨(y 1).val % 32, by omega⟩
    (Pg ⟨(y 1).val / 32, by have : (y 1).val < 128 := (y 1).isLt; omega⟩ ⟨(y 0).val, (y 0).isLt⟩)

/-- What the gathered table of sequences 4 and 5 should hold, in its first 64 lanes. -/
def gtB (y : S2048x128.Idx) : EReal :=
  V ⟨(4 + (y 1).val / 32) % 6, by omega⟩ ⟨(y 1).val % 32, by omega⟩ (Pg ⟨(4 + (y 1).val / 32) % 6, by omega⟩ ⟨(y 0).val, (y 0).isLt⟩)

variable {V Pg} {c : Dev nD} {tab : Memref sig .tc .smem S6x2048 .i32} {len : Memref sig .tc .smem S6 .i32} {ra rb : Memref sig .tc .vmem S15360x128 .f32}
  {ga gb : Memref sig .tc .vmem S2048x128 .f32}
  {f1 : Buf (Elt Ideal) (tab.view.loc (c : Thread nD τ))} {f2 : Buf (Elt Ideal) (len.view.loc (c : Thread nD τ))}
  {f9 : Buf (Elt Ideal) (ra.view.loc (c : Thread nD τ))} {f10 : Buf (Elt Ideal) (rb.view.loc (c : Thread nD τ))}
  {f11 : Buf (Elt Ideal) (ga.view.loc (c : Thread nD τ))} {f12 : Buf (Elt Ideal) (gb.view.loc (c : Thread nD τ))}

variable (c tab f1 Pg) in
/-- `Pg` is the page table. -/
def IsTable : Prop := ∀ b p, (Pg b p).val = BitVec.toNat (tab.view.read (Elt Ideal) f1 (ix2 b p))

/-- A table of pages in range satisfies what the gather needs. -/
theorem tabOK_of (hT : IsTable Pg c tab f1) : TabOK c tab f1 := by
  intro r j
  rw [View.readAt_apply]
  obtain ⟨b, p, e⟩ : ∃ (b : Fin 6) (p : Fin 2048), r.idx j = ix2 b p := ⟨_, _, eq_ix2 _⟩
  rw [e]
  exact lt_of_eq_of_lt (hT b p).symm (Pg b p).isLt

variable (c len f2) in
/-- The lengths are at most the positions there are. -/
def LensOK : Prop := ∀ b, (lenAt c len f2 b).toInt ≤ 131072

/-- The gathered rows of sequences 0 to 3. -/
theorem gatherA_read (hT : IsTable Pg c tab f1) (hL : LensOK c len f2) (hR : RowsA ra f9 V 15360) :
    ∀ (n : Nat) (hn : n ≤ 4) (y : S2048x128.Idx), (y 1).val < 32 * n → (∀ b : Fin 6, b.val = (y 1).val / 32 → (y 0).val < 32 * (loopW (lenAt c len f2 b)).trips) →
      ga.view.read (Elt Ideal) (gatherA c tab len ra ga f1 f2 f9 f11 n hn) y = gtA V Pg y
  | 0, _, y, h, _ => by omega
  | n + 1, hn, y, h, ht => by
    unfold gatherA
    refine gathered_read (b := n) (l := 32 * n) (by omega) (by omega) (G := gtA V Pg) (fun r k P hP h1 h2 => ?_) (tabOK_of hT) _ _ (loop_trips_le (hL _)) y ?_
    · rw [hR (ix2 P k) P.isLt]
      have hd : k.val / 32 = n := by omega
      have hPg : P = Pg ⟨n, by omega⟩ r := Fin.ext (hP.trans (hT _ _).symm)
      show V ⟨k.val / 32, _⟩ ⟨k.val % 32, _⟩ ⟨P.val, _⟩ = V ⟨k.val / 32, _⟩ ⟨k.val % 32, _⟩ (Pg ⟨k.val / 32, _⟩ ⟨r.val, _⟩)
      rw [hPg]
      refine congrArg _ (Fin.ext ?_)
      show (Pg ⟨n, _⟩ r).val = (Pg ⟨k.val / 32, _⟩ r).val
      simp only [hd]
    · by_cases hy : (y 1).val < 32 * n
      · exact .inl (gatherA_read hT hL hR n _ y hy ht)
      · exact .inr ⟨ht ⟨n, by omega⟩ (by show n = (y 1).val / 32; omega), by omega, by omega⟩

/-- The gathered rows of sequences 4 and 5. -/
theorem gatherB_read (hT : IsTable Pg c tab f1) (hL : LensOK c len f2) (hR : RowsB rb f10 V 15360) :
    ∀ (n : Nat) (hn : n ≤ 2) (y : S2048x128.Idx), (y 1).val < 32 * n → (∀ b : Fin 6, b.val = 4 + (y 1).val / 32 → (y 0).val < 32 * (loopW (lenAt c len f2 b)).trips) →
      gb.view.read (Elt Ideal) (gatherB c tab len rb gb f1 f2 f10 f12 n hn) y = gtB V Pg y
  | 0, _, y, h, _ => by omega
  | n + 1, hn, y, h, ht => by
    unfold gatherB
    refine gathered_read (b := n + 4) (l := 32 * n) (by omega) (by omega) (G := gtB V Pg) (fun r k P hP h1 h2 => ?_) (tabOK_of hT) _ _ (loop_trips_le (hL _)) y ?_
    · rw [hR (ix2 P k) P.isLt (by show k.val < 64; omega)]
      have hd : (4 + k.val / 32) % 6 = n + 4 := by omega
      have hPg : P = Pg ⟨n + 4, by omega⟩ r := Fin.ext (hP.trans (hT _ _).symm)
      show V ⟨(4 + k.val / 32) % 6, _⟩ ⟨k.val % 32, _⟩ ⟨P.val, _⟩ = V ⟨(4 + k.val / 32) % 6, _⟩ ⟨k.val % 32, _⟩ (Pg ⟨(4 + k.val / 32) % 6, _⟩ ⟨r.val, _⟩)
      rw [hPg]
      refine congrArg _ (Fin.ext ?_)
      show (Pg ⟨n + 4, _⟩ r).val = (Pg ⟨(4 + k.val / 32) % 6, _⟩ r).val
      simp only [hd]
    · by_cases hy : (y 1).val < 32 * n
      · exact .inl (gatherB_read hT hL hR n _ y hy ht)
      · exact .inr ⟨ht ⟨n + 4, by omega⟩ (by show n + 4 = 4 + (y 1).val / 32; omega), by omega, by omega⟩

/-! ## The output -/

/-- The positions of a tile. -/
theorem posV_toInt : ∀ (t : Fin 16) (r : Fin 128), (posV t (ix2 0 r)).toInt = 64 * (128 * t.val + r.val) := by
  decide +kernel

/-- A sequence's bounds over one tile, element by element. -/
theorem keptV_apply (t : Fin 16) (n : BitVec 32) (x : FVec Ideal S32x128 .f32) (h : Fin 32) (r : Fin 128) :
    keptV t n x (ix3 0 h r) = if (64 * (128 * t.val + r.val) : Int) < n.toInt then x (ix2 h r) else 0 := by
  rw [← posV_toInt t r]
  unfold keptV
  generalize posV t = P
  pointwise
  unfold Scalar.select
  by_cases hlt : (P (ix2 0 r)).toInt < n.toInt
  · rw [if_pos hlt]
    simp [IntOp.cmpi, BitVec.slt, hlt]
  · rw [if_neg hlt]
    simp [IntOp.cmpi, BitVec.slt, hlt]

/-- A sequence's rows of a tile of the first gathered buffer, at an index. -/
theorem tileRowsA_apply (g11 : Buf (Elt Ideal) (ga.view.loc (c : Thread nD τ))) (t : Fin 16) (b : Fin 4) (h : Fin 32) (r : Fin 128) :
    tileRowsA c ga g11 t b (ix2 h r) = ga.view.read (Elt Ideal) g11 (ix2 ⟨128 * t.val + r.val, by omega⟩ ⟨32 * b.val + h.val, by omega⟩) := by
  unfold tileRowsA
  generalize hX : ga.view.readAt (Elt Ideal) (Rect.unit (s := S2048x128) ![128 * t.val, 0] S128x128.size (tileA_inb t)).toLoadRect g11 = X
  refine (show _ = X (ix2 r ⟨32 * b.val + h.val, by omega⟩) by pointwise).trans ?_
  rw [← hX, View.readAt_apply]
  refine congrArg _ (funext fun a => Fin.ext ?_)
  fin_cases a
  · show 128 * t.val + 1 * r.val = 128 * t.val + r.val; omega
  · show 0 + 1 * (32 * b.val + h.val) = 32 * b.val + h.val; omega

/-- A sequence's rows of a tile of the second gathered buffer, at an index. -/
theorem tileRowsB_apply (g12 : Buf (Elt Ideal) (gb.view.loc (c : Thread nD τ))) (t : Fin 16) (b : Fin 2) (h : Fin 32) (r : Fin 128) :
    tileRowsB c gb g12 t b (ix2 h r) = gb.view.read (Elt Ideal) g12 (ix2 ⟨128 * t.val + r.val, by omega⟩ ⟨32 * b.val + h.val, by omega⟩) := by
  unfold tileRowsB
  generalize hX : gb.view.readAt (Elt Ideal) (Rect.unit (s := S2048x128) ![128 * t.val, 0] S128x64.size (tileB_inb t)).toLoadRect g12 = X
  refine (show _ = X (ix2 r ⟨32 * b.val + h.val, by omega⟩) by pointwise).trans ?_
  rw [← hX, View.readAt_apply]
  refine congrArg _ (funext fun a => Fin.ext ?_)
  fin_cases a
  · show 128 * t.val + 1 * r.val = 128 * t.val + r.val; omega
  · show 0 + 1 * (32 * b.val + h.val) = 32 * b.val + h.val; omega

variable (V Pg) in
/-- What the output should hold, for lengths `L`. -/
def outV (L : Fin 6 → BitVec 32) (y : S6x32x2048.Idx) : EReal :=
  if (64 * (y 2).val : Int) < (L ⟨(y 0).val, (y 0).isLt⟩).toInt then V ⟨(y 0).val, (y 0).isLt⟩ ⟨(y 1).val, (y 1).isLt⟩ (Pg ⟨(y 0).val, (y 0).isLt⟩ ⟨(y 2).val, (y 2).isLt⟩) else 0

variable (V Pg) in
/-- `x` holds sequence `b`'s bounds over tile `t`, up to its length. -/
def TileOK (L : Fin 6 → BitVec 32) (t : Fin 16) (b : Fin 6) (x : FVec Ideal S32x128 .f32) : Prop :=
  ∀ h r, (64 * (128 * t.val + r.val) : Int) < (L b).toInt → x (ix2 h r) = V b h (Pg b ⟨128 * t.val + r.val, by omega⟩)

/-- A store of one sequence and tile of the output writes the result there. -/
theorem outStore_agrees (t : Fin 16) (b : Fin 6) (x : FVec Ideal S32x128 .f32) (hx : TileOK V Pg (lenAt c len f2) t b x) :
    ∀ z, (outStore c len f2 t b x).2 z = outV V Pg (lenAt c len f2) ((outStore c len f2 t b x).1.emb z) := by
  intro z
  obtain ⟨h, r, rfl⟩ : ∃ (h : Fin 32) (r : Fin 128), z = ix3 0 h r := ⟨z 1, z 2, by
    rw [eq_ix3 z]; exact ix3_eq (by have : (z 0).val < 1 := (z 0).isLt; show (z 0).val = 0; omega) rfl rfl⟩
  have e : (outStore c len f2 t b x).1.emb (ix3 0 h r) = ix3 b h ⟨128 * t.val + r.val, by omega⟩ := by
    refine Rect.emb_eq_of_coords _ _ _ fun a => ?_
    fin_cases a
    · show b.val = b.val + 1 * 0; omega
    · show h.val = 0 + 1 * h.val; omega
    · show 128 * t.val + r.val = 128 * t.val + 1 * r.val; omega
  rw [e]
  refine (keptV_apply t (lenAt c len f2 b) x h r).trans ?_
  show _ = if (64 * ((128 * t.val + r.val : Nat) : Int)) < (lenAt c len f2 b).toInt then V b h (Pg b ⟨128 * t.val + r.val, _⟩) else 0
  push_cast
  split_ifs with hlt
  · exact hx h r hlt
  · rfl

/-- A tile of one of the first four sequences holds the result's values. -/
theorem tileA_ok (hL : LensOK c len f2) (g11 : Buf (Elt Ideal) (ga.view.loc (c : Thread nD τ)))
    (hg : ∀ y : S2048x128.Idx, (∀ b : Fin 6, b.val = (y 1).val / 32 → (y 0).val < 32 * (loopW (lenAt c len f2 b)).trips) → ga.view.read (Elt Ideal) g11 y = gtA V Pg y)
    (t : Fin 16) (b : Fin 4) : TileOK V Pg (lenAt c len f2) t ⟨b.val, by omega⟩ (tileRowsA c ga g11 t b) := by
  intro h r hlt
  have hd : (32 * b.val + h.val) / 32 = b.val := by omega
  have hm : (32 * b.val + h.val) % 32 = h.val := by omega
  rw [tileRowsA_apply, hg]
  · show V ⟨(32 * b.val + h.val) / 32, _⟩ ⟨(32 * b.val + h.val) % 32, _⟩ (Pg ⟨(32 * b.val + h.val) / 32, _⟩ ⟨128 * t.val + r.val, _⟩) = _
    simp only [hd, hm]
  · intro b' hb'
    have : b' = ⟨b.val, by omega⟩ := Fin.ext (hb'.trans hd)
    rw [this]
    exact loop_trips_reach (hL _) _ (by push_cast; exact hlt)

/-- A tile of one of the last two sequences holds the result's values. -/
theorem tileB_ok (hL : LensOK c len f2) (g12 : Buf (Elt Ideal) (gb.view.loc (c : Thread nD τ)))
    (hg : ∀ y : S2048x128.Idx, (y 1).val < 64 → (∀ b : Fin 6, b.val = 4 + (y 1).val / 32 → (y 0).val < 32 * (loopW (lenAt c len f2 b)).trips) → gb.view.read (Elt Ideal) g12 y = gtB V Pg y)
    (t : Fin 16) (b : Fin 2) : TileOK V Pg (lenAt c len f2) t ⟨4 + b.val, by omega⟩ (tileRowsB c gb g12 t b) := by
  intro h r hlt
  have hd : (4 + (32 * b.val + h.val) / 32) % 6 = 4 + b.val := by omega
  have hd' : 4 + (32 * b.val + h.val) / 32 = 4 + b.val := by omega
  have hm : (32 * b.val + h.val) % 32 = h.val := by omega
  rw [tileRowsB_apply, hg]
  · show V ⟨(4 + (32 * b.val + h.val) / 32) % 6, _⟩ ⟨(32 * b.val + h.val) % 32, _⟩ (Pg ⟨(4 + (32 * b.val + h.val) / 32) % 6, _⟩ ⟨128 * t.val + r.val, _⟩) = _
    simp only [hd, hm]
  · show 32 * b.val + h.val < 64; omega
  · intro b' hb'
    have : b' = ⟨4 + b.val, by omega⟩ := Fin.ext (hb'.trans hd')
    rw [this]
    exact loop_trips_reach (hL _) _ (by push_cast; exact hlt)

/-- Every store of the first `n` tiles is a tile's rows. -/
theorem mem_outStores (hL : LensOK c len f2) (g11 : Buf (Elt Ideal) (ga.view.loc (c : Thread nD τ))) (g12 : Buf (Elt Ideal) (gb.view.loc (c : Thread nD τ)))
    (hA : ∀ t b, TileOK V Pg (lenAt c len f2) t ⟨b.val, by omega⟩ (tileRowsA c ga g11 t b))
    (hB : ∀ t b, TileOK V Pg (lenAt c len f2) t ⟨4 + b.val, by omega⟩ (tileRowsB c gb g12 t b)) :
    ∀ (n : Nat) (hn : n ≤ 16), (∀ p ∈ outStores c len ga gb f2 g11 g12 n hn, ∃ t b x, p = outStore c len f2 t b x ∧ TileOK V Pg (lenAt c len f2) t b x)
      ∧ ∀ (t : Fin 16) (b : Fin 6), t.val < n → ∃ x, outStore c len f2 t b x ∈ outStores c len ga gb f2 g11 g12 n hn
  | 0, _ => ⟨fun p h => absurd h List.not_mem_nil, fun t b h => absurd h (Nat.not_lt_zero _)⟩
  | n + 1, hn => by
    obtain ⟨h1, h2⟩ := mem_outStores hL g11 g12 hA hB n (by omega)
    constructor
    · intro p hp
      simp only [outStores, List.mem_cons] at hp
      rcases hp with rfl | rfl | rfl | rfl | rfl | rfl | hp
      · exact ⟨_, _, _, rfl, hB ⟨n, hn⟩ 1⟩
      · exact ⟨_, _, _, rfl, hB ⟨n, hn⟩ 0⟩
      · exact ⟨_, _, _, rfl, hA ⟨n, hn⟩ 3⟩
      · exact ⟨_, _, _, rfl, hA ⟨n, hn⟩ 2⟩
      · exact ⟨_, _, _, rfl, hA ⟨n, hn⟩ 1⟩
      · exact ⟨_, _, _, rfl, hA ⟨n, hn⟩ 0⟩
      · exact h1 p hp
    · intro t b ht
      by_cases h : t.val = n
      · have : t = ⟨n, hn⟩ := Fin.ext h
        subst this
        fin_cases b
        all_goals simp only [outStores, List.mem_cons]
        · exact ⟨_, .inr (.inr (.inr (.inr (.inr (.inl rfl)))))⟩
        · exact ⟨_, .inr (.inr (.inr (.inr (.inl rfl))))⟩
        · exact ⟨_, .inr (.inr (.inr (.inl rfl)))⟩
        · exact ⟨_, .inr (.inr (.inl rfl))⟩
        · exact ⟨_, .inr (.inl rfl)⟩
        · exact ⟨_, .inl rfl⟩
      · obtain ⟨x, hx⟩ := h2 t b (by omega)
        refine ⟨x, ?_⟩
        simp only [outStores, List.mem_cons]
        exact .inr (.inr (.inr (.inr (.inr (.inr hx)))))

/-- The output after the last grid point's stores. -/
theorem outStores_read (hT : IsTable Pg c tab f1) (hL : LensOK c len f2) (hRA : RowsA ra f9 V 15360) (hRB : RowsB rb f10 V 15360)
    (out : Memref sig .tc .vmem S6x32x2048 .f32) (f7 : Buf (Elt Ideal) (out.view.loc (c : Thread nD τ))) :
    out.view.read (Elt Ideal) (out.view.writes (Elt Ideal) f7
      (outStores c len ga gb f2 (gatherA c tab len ra ga f1 f2 f9 f11 4 le_rfl) (gatherB c tab len rb gb f1 f2 f10 f12 2 le_rfl) 16 le_rfl)) = outV V Pg (lenAt c len f2) := by
  funext y
  have hA : ∀ t b, TileOK V Pg (lenAt c len f2) t ⟨b.val, by omega⟩ (tileRowsA c ga (gatherA c tab len ra ga f1 f2 f9 f11 4 le_rfl) t b) :=
    tileA_ok hL _ fun y hy => gatherA_read hT hL hRA 4 le_rfl y (y 1).isLt hy
  have hB : ∀ t b, TileOK V Pg (lenAt c len f2) t ⟨4 + b.val, by omega⟩ (tileRowsB c gb (gatherB c tab len rb gb f1 f2 f10 f12 2 le_rfl) t b) :=
    tileB_ok hL _ fun y h64 hy => gatherB_read hT hL hRB 2 le_rfl y h64 hy
  obtain ⟨h1, h2⟩ := mem_outStores hL _ _ hA hB 16 le_rfl
  refine read_writes_agree out.view f7 _ _ (fun p hp x => ?_) y ?_
  · obtain ⟨t, b, x', rfl, hx'⟩ := h1 p hp
    exact outStore_agrees t b x' hx' x
  · have b0 : (y 0).val < 6 := (y 0).isLt
    have b1 : (y 1).val < 32 := (y 1).isLt
    have b2 : (y 2).val < 2048 := (y 2).isLt
    obtain ⟨x, hx⟩ := h2 ⟨(y 2).val / 128, by omega⟩ ⟨(y 0).val, b0⟩ (by show (y 2).val / 128 < 16; omega)
    refine .inr ⟨_, hx, ix3 0 ⟨(y 1).val, b1⟩ ⟨(y 2).val % 128, by omega⟩, Rect.emb_eq_of_coords _ _ _ fun a => ?_⟩
    fin_cases a
    · show (y 0).val = (y 0).val + 1 * 0; omega
    · show (y 1).val = 0 + 1 * (y 1).val; omega
    · show (y 2).val = 128 * ((y 2).val / 128) + 1 * ((y 2).val % 128); omega

end Last

end Cert.KernelIdeal.Hand

end
-- ==== Proof.KernelIdeal.Exact.lean ====
/-
  The kernel body at every grid point, at the ideal floats, with what it leaves: the staged queries, the bounds of the pages
  passed so far, and at the last point the output.
-/
module

public import proofs.«01_k».proof.Proof.KernelIdeal.Out
public import proofs.«01_k».proof.Proof.KernelIdeal.BodyF

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UU nD τ) ℕ

/-- Before point `n` the staged queries are held, as `Q` once a point has run. -/
def HasQ (c : Dev nD) (qs : Memref sig .tc .vmem S4x48x256 .bf16) (Q : Fin 6 → Fin 32 → Fin 128 → EReal) (n : Nat) : sProp 𝕄 :=
  iprop(∃ f, ⌜0 < n → Staged c qs f Q⌝ ∗ Pt c qs f)

/-- Before point `n` the table of sequences 0 to 3 is held, its first `512 n` rows as `V`. -/
def HasA (c : Dev nD) (ra : Memref sig .tc .vmem S15360x128 .f32) (V : Fin 6 → Fin 32 → Fin 15360 → EReal) (n : Nat) : sProp 𝕄 :=
  iprop(∃ f, ⌜RowsA ra f V (512 * n)⌝ ∗ Pt c ra f)

/-- Before point `n` the table of sequences 4 and 5 is held, its first `512 n` rows as `V`. -/
def HasB (c : Dev nD) (rb : Memref sig .tc .vmem S15360x128 .f32) (V : Fin 6 → Fin 32 → Fin 15360 → EReal) (n : Nat) : sProp 𝕄 :=
  iprop(∃ f, ⌜RowsB rb f V (512 * n)⌝ ∗ Pt c rb f)

/-- A sequence's length is the word of the lengths at it. -/
theorem lenAt_eq (c : Dev nD) (len : Memref sig .tc .smem S6 .i32) (f2 : Buf (Elt Ideal) (len.view.loc (c : Thread nD τ))) (b : Fin 6) :
    lenAt c len f2 b = len.view.read (Elt Ideal) f2 (ix1 b) := by
  unfold lenAt
  rw [View.readAt_apply]
  refine congrArg _ (funext fun a => Fin.ext ?_)
  fin_cases a
  have : ((Shape.Idx.first (numel1_S1.symm ▸ Nat.one_pos) : S1.Idx) 0).val < 1 := Fin.isLt _
  show b.val + 1 * ((Shape.Idx.first (numel1_S1.symm ▸ Nat.one_pos) : S1.Idx) 0).val = b.val
  omega

section
variable (c : Dev nD) (i : grid0.Coords) (arg1 : Memref sig .tc .smem S6x2048 .i32) (harg1 : arg1.IsWhole) (arg2 : Memref sig .tc .smem S6 .i32) (harg2 : arg2.IsWhole) (arg3 : Memref sig .tc .vmem S6x32x128 .bf16) (harg3 : arg3.IsWhole) (arg4 : Memref sig .tc .vmem S512x16x128 .fp8e4m3) (harg4 : arg4.IsWhole) (arg5 : Memref sig .tc .vmem S512x16x128 .fp8e4m3) (harg5 : arg5.IsWhole) (arg6 : Memref sig .tc .vmem S16x512 .f32) (harg6 : arg6.IsWhole) (arg7 : Memref sig .tc .vmem S6x32x2048 .f32) (harg7 : arg7.IsWhole) (arg8 : Memref sig .tc .vmem S4x48x256 .bf16) (harg8 : arg8.IsWhole) (arg9 : Memref sig .tc .vmem S15360x128 .f32) (harg9 : arg9.IsWhole) (arg10 : Memref sig .tc .vmem S15360x128 .f32) (harg10 : arg10.IsWhole) (arg11 : Memref sig .tc .vmem S2048x128 .f32) (harg11 : arg11.IsWhole) (arg12 : Memref sig .tc .vmem S2048x128 .f32) (harg12 : arg12.IsWhole)

/-- The body at any grid point, from scratch that holds what the points before left: it leaves the inputs as they were, the
    scratch with this point's bounds added, and at the last point the output. -/
theorem bodyV (hf : isFirst i ↔ (i 0).val = 0) (hl : isLast i ↔ (i 0).val = 29)
    (d1 : S6x2048.Idx → Elt Ideal .i32) (d2 : S6.Idx → Elt Ideal .i32) (hlen : ∀ x, BitVec.toInt (d2 x) ≤ 131072)
    (d3 : S6x32x128.Idx → Elt Ideal .bf16) (d4 d5 : S512x16x128.Idx → Elt Ideal .fp8e4m3) (d6 : S16x512.Idx → Elt Ideal .f32) (X : S6x32x2048.Idx → Elt Ideal .f32)
    (Q : Fin 6 → Fin 32 → Fin 128 → EReal) (V : Fin 6 → Fin 32 → Fin 15360 → EReal) (Pg : Fin 6 → Fin 2048 → Fin 15360)
    (hPg : ∀ b p, (Pg b p).val = BitVec.toNat (d1 (ix2 b p))) (hq : ∀ b h k, d3 (ix3 b h k) = Q b h k)
    (hv : ∀ (b : Fin 6) (h : Fin 32) (p : Fin 512) (P : Fin 15360), P.val = 512 * (i 0).val + p.val →
      ((∑ k : Fin 128, max (Q b h k) 0 * d5 (ix3 p ⟨h.val / 2, by omega⟩ k)) + ∑ k : Fin 128, min (Q b h k) 0 * d4 (ix3 p ⟨h.val / 2, by omega⟩ k))
        * d6 (ix2 ⟨h.val / 2, by omega⟩ p) = V b h P)
    (K : PUnit → sProp 𝕄) :
    iprop(owns (c : Thread nD τ) arg1 fullShare d1 ∗ owns (c : Thread nD τ) arg2 fullShare d2 ∗ owns (c : Thread nD τ) arg3 fullShare d3
        ∗ owns (c : Thread nD τ) arg4 fullShare d4 ∗ owns (c : Thread nD τ) arg5 fullShare d5 ∗ owns (c : Thread nD τ) arg6 fullShare d6
        ∗ owns (c : Thread nD τ) arg7 fullShare X ∗ HasQ c arg8 Q (i 0).val ∗ HasA c arg9 V (i 0).val ∗ HasB c arg10 V (i 0).val ∗ Held c arg11 ∗ Held c arg12
        ∗ (iprop(owns (c : Thread nD τ) arg1 fullShare d1 ∗ owns (c : Thread nD τ) arg2 fullShare d2 ∗ owns (c : Thread nD τ) arg3 fullShare d3
        ∗ owns (c : Thread nD τ) arg4 fullShare d4 ∗ owns (c : Thread nD τ) arg5 fullShare d5 ∗ owns (c : Thread nD τ) arg6 fullShare d6
        ∗ (∃ X', ⌜(isLast i → X' = outV V Pg fun b => d2 (ix1 b)) ∧ (¬ isLast i → X' = X)⌝ ∗ owns (c : Thread nD τ) arg7 fullShare X')
        ∗ HasQ c arg8 Q ((i 0).val + 1) ∗ HasA c arg9 V ((i 0).val + 1) ∗ HasB c arg10 V ((i 0).val + 1) ∗ Held c arg11 ∗ Held c arg12) -∗ K ⟨⟩))
      ⊢ wp frame (wpE (defs₀ (F := Ideal)) 𝒱₀ c none) Set.univ
        (cc0_page_bound (F := Ideal) i arg1 harg1 arg2 harg2 arg3 harg3 arg4 harg4 arg5 harg5 arg6 harg6 arg7 harg7 arg8 harg8 arg9 harg9 arg10 harg10 arg11 harg11 arg12 harg12) K := by
  unfold HasQ HasA HasB owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, H11, H12, HK⟩
  unfold Held owns
  icases H11 with ⟨%d11, %f11, -, H11⟩
  icases H12 with ⟨%d12, %f12, -, H12⟩
  subst e1 e2 e3 e4 e5 e6 e7
  have hV : Agrees c i arg4 arg5 arg6 f4 f5 f6 Q V := fun b h p P hP => hv b h p P hP
  by_cases h1 : isFirst i
  · have h2 : ¬ isLast i := fun h => by have := hf.1 h1; have := hl.1 h; omega
    have hS := queryStores_staged c arg3 f3 Q hq arg8 f8
    iapply (wp_wand_r Idealize.ShloMosaic.frame (wpE (defs₀ (F := Ideal)) 𝒱₀ (c : Thread nD τ) none) Set.univ)
    isplitl [H3 H4 H5 H6 H8 H9 H10 H11 H12]
    · iapply (runA c i arg1 harg1 arg2 harg2 arg3 harg3 arg4 harg4 arg5 harg5 arg6 harg6 arg7 harg7 arg8 harg8 arg9 harg9 arg10 harg10 arg11 harg11 arg12 harg12 h1 h2 f3 f4 f5 f6 f8 f9 f10 f11 f12)
      isplitl [H3]; · iexact H3
      isplitl [H4]; · iexact H4
      isplitl [H5]; · iexact H5
      isplitl [H6]; · iexact H6
      isplitl [H8]; · iexact H8
      isplitl [H9]; · iexact H9
      isplitl [H10]; · iexact H10
      isplitl [H11]; · iexact H11
      iexact H12
    iintro %_ ⟨H3, H4, H5, H6, H8, H9, H10, H11, H12⟩
    iapply HK
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists _; isplitr; · ipureintro; exact ⟨fun h => absurd h h2, fun _ => rfl⟩
      iexists f7; isplitr; · ipureintro; rfl
      iexact H7
    isplitl [H8]
    · iexists _; isplitr; · ipureintro; exact fun _ => hS
      iexact H8
    isplitl [H9]
    · iexists _; isplitr; · ipureintro; exact storesA_rows hS hV arg9 f9 e9
      iexact H9
    isplitl [H10]
    · iexists _; isplitr; · ipureintro; exact storesB_rows hS hV arg10 f10 e10
      iexact H10
    isplitl [H11]; · iapply held_of; iexact H11
    iapply held_of; iexact H12
  · have hS : Staged c arg8 f8 Q := e8 (Nat.pos_of_ne_zero fun h => h1 (hf.2 h))
    by_cases h2 : isLast i
    · have h29 := hl.1 h2
      have hT : IsTable Pg c arg1 f1 := hPg
      have hl' : ∀ r j, BitVec.toInt (arg2.view.readAt (Elt Ideal) r f2 j) ≤ 131072 := fun r j => by rw [View.readAt_apply]; exact hlen _
      have hL : LensOK c arg2 f2 := fun b => hl' _ _
      have hN : 512 * ((i 0).val + 1) = 15360 := by omega
      have hA := storesA_rows (c := c) hS hV arg9 f9 e9
      have hB := storesB_rows (c := c) hS hV arg10 f10 e10
      rw [hN] at hA hB
      have hO : ∀ f7' f11' f12', _ := fun f7' f11' f12' => (outStores_read (f11 := f11') (f12 := f12') (ga := arg11) (gb := arg12) hT hL hA hB arg7 f7').trans
        (congrArg (outV V Pg) (funext fun b => lenAt_eq c arg2 f2 b))
      iapply (wp_wand_r Idealize.ShloMosaic.frame (wpE (defs₀ (F := Ideal)) 𝒱₀ (c : Thread nD τ) none) Set.univ)
      isplitl [H1 H2 H4 H5 H6 H7 H8 H9 H10 H11 H12]
      · iapply (runC c i arg1 harg1 arg2 harg2 arg3 harg3 arg4 harg4 arg5 harg5 arg6 harg6 arg7 harg7 arg8 harg8 arg9 harg9 arg10 harg10 arg11 harg11 arg12 harg12 h1 h2 f1 (tabOK_of hT) f2 hl' f4 f5 f6 f7 f8 f9 f10 f11 f12)
        isplitl [H1]; · iexact H1
        isplitl [H2]; · iexact H2
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      iintro %_ ⟨H1, H2, H4, H5, H6, H7, H8, H9, H10, H11, H12⟩
      iapply HK
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists _; isplitr; · ipureintro; exact ⟨fun _ => rfl, fun h => absurd h2 h⟩
        iexists _; isplitr; · ipureintro; exact hO f7 f11 f12
        iexact H7
      isplitl [H8]
      · iexists _; isplitr; · ipureintro; exact fun _ => hS
        iexact H8
      isplitl [H9]
      · iexists _; isplitr; · ipureintro; exact storesA_rows hS hV arg9 f9 e9
        iexact H9
      isplitl [H10]
      · iexists _; isplitr; · ipureintro; exact storesB_rows hS hV arg10 f10 e10
        iexact H10
      isplitl [H11]; · iapply held_of; iexact H11
      iapply held_of; iexact H12
    · skip
      iapply (wp_wand_r Idealize.ShloMosaic.frame (wpE (defs₀ (F := Ideal)) 𝒱₀ (c : Thread nD τ) none) Set.univ)
      isplitl [H4 H5 H6 H8 H9 H10]
      · iapply (runB c i arg1 harg1 arg2 harg2 arg3 harg3 arg4 harg4 arg5 harg5 arg6 harg6 arg7 harg7 arg8 harg8 arg9 harg9 arg10 harg10 arg11 harg11 arg12 harg12 h1 h2 f4 f5 f6 f8 f9 f10)
        isplitl [H4]; · iexact H4
        isplitl [H5]; · iexact H5
        isplitl [H6]; · iexact H6
        isplitl [H8]; · iexact H8
        isplitl [H9]; · iexact H9
        iexact H10
      iintro %_ ⟨H4, H5, H6, H8, H9, H10⟩
      iapply HK
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists _; isplitr; · ipureintro; exact ⟨fun h => absurd h h2, fun _ => rfl⟩
        iexists f7; isplitr; · ipureintro; rfl
        iexact H7
      isplitl [H8]
      · iexists _; isplitr; · ipureintro; exact fun _ => hS
        iexact H8
      isplitl [H9]
      · iexists _; isplitr; · ipureintro; exact storesA_rows hS hV arg9 f9 e9
        iexact H9
      isplitl [H10]
      · iexists _; isplitr; · ipureintro; exact storesB_rows hS hV arg10 f10 e10
        iexact H10
      isplitl [H11]; · iapply held_of; iexact H11
      iapply held_of; iexact H12

end

end Cert.KernelIdeal.Hand

end
-- ==== Proof.KernelIdeal.ValueRun.lean ====
/-
  The run of the whole program at the ideal floats, with its result: every page's bound where the page lies in the sequence,
  zero elsewhere.
-/
module

public import proofs.«01_k».proof.Proof.KernelIdeal.Exact
public import Idealize.ShloMosaic.Lib.Pipeline.ValueKit
public import Idealize.ShloMosaic.Lib.Claim
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UU nD τ) ℕ

variable (m : (ℓ : Loc nD τ sig) → Buf (Elt Ideal) ℓ) (ρ : Dev nD → PrngReg)

/-! ## The result -/

/-- The query's element. -/
def qOf (c : Dev nD) (b : Fin 6) (h : Fin 32) (k : Fin 128) : EReal := m ((c : Thread nD τ).loc main_arg0) (ix3 b h k)

/-- The bound of page `P` for head `h` of sequence `b`. -/
def bndOf (c : Dev nD) (b : Fin 6) (h : Fin 32) (P : Fin 15360) : EReal :=
  ((∑ k : Fin 128, max (qOf m c b h k) 0 * (m ((c : Thread nD τ).loc main_arg2) (ix3 P ⟨h.val / 2, by omega⟩ k) : EReal))
    + ∑ k : Fin 128, min (qOf m c b h k) 0 * (m ((c : Thread nD τ).loc main_arg1) (ix3 P ⟨h.val / 2, by omega⟩ k) : EReal))
    * (m ((c : Thread nD τ).loc main_arg3) (ix2 P ⟨h.val / 2, by omega⟩) : EReal)

/-- The page at place `p` of sequence `b`. -/
def pageOf (c : Dev nD) (b : Fin 6) (p : Fin 2048) : Fin 15360 :=
  ⟨BitVec.toNat (m ((c : Thread nD τ).loc main_arg4) (ix2 b p)) % 15360, Nat.mod_lt _ (by decide)⟩

/-- What the output window ends as. -/
def outOf (c : Dev nD) : S6x32x2048.Idx → EReal :=
  outV (bndOf m c) (pageOf m c) fun b => m ((c : Thread nD τ).loc main_arg5) (ix1 b)

/-! ## The grid's points and the windows' blocks -/

/-- The grid's coordinate at a point is the point. -/
theorem coords_val : ∀ t : Fin grid0.N, ((grid0.coords t) 0).val = t.val := by decide +kernel

/-- The body's test of the first point. -/
theorem isFirst_iff : ∀ t : Fin grid0.N, isFirst (grid0.coords t) ↔ ((grid0.coords t) 0).val = 0 := by decide +kernel

/-- The body's test of the last point. -/
theorem isLast_iff : ∀ t : Fin grid0.N, isLast (grid0.coords t) ↔ ((grid0.coords t) 0).val = 29 := by decide +kernel

/-- The output window is idle at every point but the last. -/
theorem idle_iff : ∀ t : Fin grid0.N, cfg0.idle 6 (grid0.coords t) = !decide (isLast (grid0.coords t)) := by decide +kernel

/-- The output window is written back at the last point. -/
theorem flush_iff : ∀ t : Fin grid0.N, win0_6.flush t = decide (isLast (grid0.coords t)) := by decide +kernel

/-- Every window's block index at every point. -/
theorem idx : ∀ t : Fin cfg0.N, win0_0.index t = ![0, 0] ∧ win0_1.index t = ![0] ∧ win0_2.index t = ![0, 0, 0]
    ∧ win0_3.index t = ![t.val, 0, 0] ∧ win0_4.index t = ![t.val, 0, 0] ∧ win0_5.index t = ![0, t.val] ∧ win0_6.index t = ![0, 0, 0] :=
  (by decide +kernel : ∀ t : Fin grid0.N, _)

/-- The page table's block is the whole table. -/
theorem iblk_0 (c : Dev nD) (t : Fin cfg0.N) : iblk m c 0 t = m ((c : Thread nD τ).loc main_arg4) := by
  blk_ext! [iblk, V, idx t]

/-- The lengths' block is all the lengths. -/
theorem iblk_1 (c : Dev nD) (t : Fin cfg0.N) : iblk m c 1 t = m ((c : Thread nD τ).loc main_arg5) := by
  blk_ext! [iblk, V, idx t]

/-- The queries' block is all the queries. -/
theorem iblk_2 (c : Dev nD) (t : Fin cfg0.N) : iblk m c 2 t = m ((c : Thread nD τ).loc main_arg0) := by
  blk_ext! [iblk, V, idx t]

/-- A block of the lower bounds holds its 512 pages' bounds. -/
theorem iblk_3 (c : Dev nD) (t : Fin cfg0.N) (p : Fin 512) (g : Fin 16) (k : Fin 128) (P : Fin 15360) (hP : P.val = 512 * t.val + p.val) :
    iblk m c 3 t (ix3 p g k) = m ((c : Thread nD τ).loc main_arg1) (ix3 P g k) := by
  blk_ext! [iblk, V, idx t]

/-- A block of the upper bounds holds its 512 pages' bounds. -/
theorem iblk_4 (c : Dev nD) (t : Fin cfg0.N) (p : Fin 512) (g : Fin 16) (k : Fin 128) (P : Fin 15360) (hP : P.val = 512 * t.val + p.val) :
    iblk m c 4 t (ix3 p g k) = m ((c : Thread nD τ).loc main_arg2) (ix3 P g k) := by
  blk_ext! [iblk, V, idx t]

/-- A block of the scales holds its 512 pages' scales. -/
theorem iblk_5 (c : Dev nD) (t : Fin cfg0.N) (g : Fin 16) (p : Fin 512) (P : Fin 15360) (hP : P.val = 512 * t.val + p.val) :
    iblk m c 5 t (ix2 g p) = m ((c : Thread nD τ).loc main_arg3) (ix2 P g) := by
  have hi : ((cfg0.win 5).blk t).view.emb (ix2 g p) = (ix2 g P : S16x15360.Idx) := by
    blk_ext! [idx t]
  have e : V m c main_v0 = transpose S16x15360 [1, 0] (m ((c : Thread nD τ).loc main_arg3)) transposes_S15360x16_S16x15360_1_0 := by
    simp only [V, V0, hostOps0, List.flatten_cons, List.flatten_nil, List.append_nil]
    after_results
  unfold iblk
  rw [View.read_apply, cast_eq, hi]
  refine (congrFun e (ix2 g P)).trans ?_
  pointwise

/-! ## The proof data and the body obligation -/

/-- The proof data of the run: the scratch holds what the points before left, the output window ends as the result. -/
def datsV (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => outOf m c
  Φ t := iprop(iprop(HasQ c (Memref.whole cc0_scratch0) (qOf m c) t.val ∗ HasA c (Memref.whole cc0_scratch1) (bndOf m c) t.val
    ∗ HasB c (Memref.whole cc0_scratch2) (bndOf m c) t.val ∗ Held c (Memref.whole cc0_scratch3) ∗ Held c (Memref.whole cc0_scratch4)) ∗ (∃ r, prngReg c r))
  q _ := fullShare
  owed _ := 0

/-- The arrays the region starts from are those the host operations left. -/
theorem A_eqV (c : Dev nD) (w : Fin cfg0.W) : (datsV m 0 c).A w = V m c (Pipeline.arrRef spec0 w) := by dsimp only [datsV]

/-- What the output window holds after a point, at the last of them: the result. -/
theorem after_6 (c : Dev nD) (t : Fin cfg0.N) : (datsV m 0 c).after 6 t = outOf m c := by dsimp only [datsV]

/-- What the body is called with at point `t`. -/
def bodyPreV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d)) ∗ (∃ d, owns (c : Thread nD τ) (st0_1 t) fullShare ((datsV m 0 c).before 1 t d))
    ∗ (∃ d, owns (c : Thread nD τ) (st0_2 t) fullShare ((datsV m 0 c).before 2 t d)) ∗ (∃ d, owns (c : Thread nD τ) (st0_3 t) fullShare ((datsV m 0 c).before 3 t d))
    ∗ (∃ d, owns (c : Thread nD τ) (st0_4 t) fullShare ((datsV m 0 c).before 4 t d)) ∗ (∃ d, owns (c : Thread nD τ) (st0_5 t) fullShare ((datsV m 0 c).before 5 t d))
    ∗ (∃ d, owns (c : Thread nD τ) (st0_6 t) fullShare ((datsV m 0 c).before 6 t d)))

/-- What the body returns at point `t`, the output window's buffer apart. -/
def bodyPostV (c : Dev nD) (t : Fin cfg0.N) (O : sProp 𝕄) : sProp 𝕄 :=
  iprop((datsV m 0 c).Φ t.succ ∗ (datsV m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t) ∗ O)

/-- The page at a place is the page table's word there. -/
theorem pageOf_val (h : InRange m) (c : Dev nD) (b : Fin 6) (p : Fin 2048) :
    (pageOf m c b p).val = BitVec.toNat (m ((c : Thread nD τ).loc main_arg4) (ix2 b p)) := Nat.mod_eq_of_lt (h.1 c _)

/-- The body at every point of the grid. -/
theorem sound_bodyV (h : InRange m) (c : Dev nD) (t : Fin cfg0.N) (O : sProp 𝕄)
    (hO : ∀ X, ((isLast (grid0.coords t) → X = outOf m c) ∧ (¬ isLast (grid0.coords t) → ∃ d, X = (datsV m 0 c).before 6 t d))
      → (owns (c : Thread nD τ) (st0_6 t) fullShare X ⊢ O)) :
    bodyPreV m c t ⊢ wp frame (wpE (defs₀ (F := Ideal)) 𝒱₀ c none) Set.univ (bodyAt0 t) (fun _ => bodyPostV m c t O) := by
  have hc : ((grid0.coords t) 0).val = t.val := coords_val t
  have hlast : ∀ X', (isLast (grid0.coords t) → X' = outV (bndOf m c) (pageOf m c) fun b => iblk m c 1 t (ix1 b)) → isLast (grid0.coords t) → X' = outOf m c :=
    fun X' hX hl => (hX hl).trans (by rw [iblk_1]; rfl)
  unfold bodyPreV bodyPostV
  rw [show (datsV m 0 c).Φ t.succ = iprop(iprop(HasQ c (Memref.whole cc0_scratch0) (qOf m c) (t.val + 1) ∗ HasA c (Memref.whole cc0_scratch1) (bndOf m c) (t.val + 1)
      ∗ HasB c (Memref.whole cc0_scratch2) (bndOf m c) (t.val + 1) ∗ Held c (Memref.whole cc0_scratch3) ∗ Held c (Memref.whole cc0_scratch4)) ∗ (∃ r, prngReg c r)) from rfl,
    show (datsV m 0 c).owesAt () t.succ = (datsV m 0 c).owesAt () t.castSucc from rfl,
    show (datsV m 0 c).Φ t.castSucc = iprop(iprop(HasQ c (Memref.whole cc0_scratch0) (qOf m c) t.val ∗ HasA c (Memref.whole cc0_scratch1) (bndOf m c) t.val
      ∗ HasB c (Memref.whole cc0_scratch2) (bndOf m c) t.val ∗ Held c (Memref.whole cc0_scratch3) ∗ Held c (Memref.whole cc0_scratch4)) ∗ (∃ r, prngReg c r)) from rfl]
  simp only [before0_0_of m (datsV m 0 c) (A_eqV m c 0) (fun _ => rfl), before0_1_of m (datsV m 0 c) (A_eqV m c 1) (fun _ => rfl),
    before0_2_of m (datsV m 0 c) (A_eqV m c 2) (fun _ => rfl), before0_3_of m (datsV m 0 c) (A_eqV m c 3) (fun _ => rfl),
    before0_4_of m (datsV m 0 c) (A_eqV m c 4) (fun _ => rfl), before0_5_of m (datsV m 0 c) (A_eqV m c 5) (fun _ => rfl)]
  unfold Dat.owesAt Pipeline.owesWithin
  rw [show (datsV m 0 c).owed t.castSucc = 0 from rfl]
  iintro ⟨⟨⟨H8, H9, H10, H11, H12⟩, Hg⟩, ⟨%W, %hW, HO⟩, ⟨%_, H1⟩, ⟨%_, H2⟩, ⟨%_, H3⟩, ⟨%_, H4⟩, ⟨%_, H5⟩, ⟨%_, H6⟩, ⟨%d7, H7⟩⟩
  rw [← hc]
  iapply (bodyV c (grid0.coords t) (st0_0 t) _ (st0_1 t) _ (st0_2 t) _ (st0_3 t) _ (st0_4 t) _ (st0_5 t) _ (st0_6 t) _ (Memref.whole cc0_scratch0) _ (Memref.whole cc0_scratch1) _
    (Memref.whole cc0_scratch2) _ (Memref.whole cc0_scratch3) _ (Memref.whole cc0_scratch4) _ (isFirst_iff t) (isLast_iff t) (iblk m c 0 t) (iblk m c 1 t) (lens_ok m h c t)
    (iblk m c 2 t) (iblk m c 3 t) (iblk m c 4 t) (iblk m c 5 t) ((datsV m 0 c).before 6 t d7) (qOf m c) (bndOf m c) (pageOf m c)
    (fun b p => by rw [iblk_0]; exact pageOf_val m h c b p) (fun b h k => by rw [iblk_2]; rfl)
    (fun b g p P hP => by
      rw [hc] at hP
      rw [iblk_5 m c t _ p P hP, bndOf]
      simp only [iblk_4 m c t p _ _ P hP, iblk_3 m c t p _ _ P hP]) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, ⟨%X', %hX, H7⟩, H8, H9, H10, H11, H12⟩
  isplitl [H8 H9 H10 H11 H12 Hg]
  · isplitr [Hg]
    · isplitl [H8]; · iexact H8
      isplitl [H9]; · iexact H9
      isplitl [H10]; · iexact H10
      isplitl [H11]; · iexact H11
      iexact H12
    · iexact Hg
  isplitl [HO]
  · iexists W; isplitr; · ipureintro; exact fun _ _ => Or.inl trivial
    iexact HO
  isplitl [H1]; · iexact H1
  isplitl [H2]; · iexact H2
  isplitl [H3]; · iexact H3
  isplitl [H4]; · iexact H4
  isplitl [H5]; · iexact H5
  isplitl [H6]; · iexact H6
  iapply (hO X' ⟨hlast X' hX.1, fun hn => ⟨d7, hX.2 hn⟩⟩)
  iexact H7

/-- The body obligation of the run. -/
theorem body_obligationV (h : InRange m) (c : Dev nD) :
    BodyObligation (datsV m 0 c) (defs₀ (F := Ideal)) 𝒱₀ () Set.univ := fun t => by
  rw [bigSep_W0, bigSep_W0, defs₀_row]
  have hi : idle0 6 (grid0.coords t) = !decide (isLast (grid0.coords t)) := idle_iff t
  have hf : (cfg0.win 6).flush t = decide (isLast (grid0.coords t)) := flush_iff t
  by_cases hl : isLast (grid0.coords t)
  · rw [decide_eq_true hl] at hi hf
    refine triple_restated (sound_bodyV m h c t (owns (c : Thread nD τ) (st0_6 t) fullShare (outOf m c)) fun X hX => by rw [hX.1 hl]) rfl .rfl fun _ => ?_
    simp only [hi, hf, Bool.not_true, Bool.not_false]
    exact .rfl
  · rw [decide_eq_false hl] at hi hf
    refine triple_restated (sound_bodyV m h c t (iprop(∃ d, owns (c : Thread nD τ) (st0_6 t) fullShare ((datsV m 0 c).before 6 t d))) fun X hX => by
      obtain ⟨d, rfl⟩ := hX.2 hl
      iintro H
      iexists d
      iexact H) rfl .rfl fun _ => ?_
    simp only [hi, hf, Bool.not_true, Bool.not_false]
    exact .rfl

/-- The scratch at any contents is the scratch before the first point. -/
theorem in_V (c : Dev nD) : (Pipeline.ΦA spec0 c : sProp 𝕄) ⊢ (datsV m 0 c).Φ 0 := by
  rw [PhiA_eq]
  show _ ⊢ iprop(iprop(HasQ c (Memref.whole cc0_scratch0) (qOf m c) 0 ∗ HasA c (Memref.whole cc0_scratch1) (bndOf m c) 0
      ∗ HasB c (Memref.whole cc0_scratch2) (bndOf m c) 0 ∗ Held c (Memref.whole cc0_scratch3) ∗ Held c (Memref.whole cc0_scratch4)) ∗ (∃ r, prngReg c r))
  unfold HasQ HasA HasB Held owns
  iintro ⟨⟨⟨%_, %f8, -, H8⟩, ⟨%_, %f9, -, H9⟩, ⟨%_, %f10, -, H10⟩, H11, H12⟩, Hg⟩
  isplitr [Hg]
  · isplitl [H8]
    · iexists f8; isplitr; · ipureintro; exact fun h => absurd h (Nat.lt_irrefl _)
      iexact H8
    isplitl [H9]
    · iexists f9; isplitr; · ipureintro; exact fun y h => absurd h (Nat.not_lt_zero _)
      iexact H9
    isplitl [H10]
    · iexists f10; isplitr; · ipureintro; exact fun y h _ => absurd h (Nat.not_lt_zero _)
      iexact H10
    isplitl [H11]; · iexact H11
    iexact H12
  · iexact Hg

/-- The scratch after the last point is the scratch at some contents. -/
theorem out_V (c : Dev nD) : (datsV m 0 c).Φ (Fin.last cfg0.N) ⊢ (Pipeline.ΦA spec0 c : sProp 𝕄) := by
  rw [PhiA_eq]
  show iprop(iprop(HasQ c (Memref.whole cc0_scratch0) (qOf m c) cfg0.N ∗ HasA c (Memref.whole cc0_scratch1) (bndOf m c) cfg0.N
      ∗ HasB c (Memref.whole cc0_scratch2) (bndOf m c) cfg0.N ∗ Held c (Memref.whole cc0_scratch3) ∗ Held c (Memref.whole cc0_scratch4)) ∗ (∃ r, prngReg c r)) ⊢ _
  unfold HasQ HasA HasB
  iintro ⟨⟨⟨%f8, -, H8⟩, ⟨%f9, -, H9⟩, ⟨%f10, -, H10⟩, H11, H12⟩, Hg⟩
  isplitr [Hg]
  · isplitl [H8]; · iapply held_of; iexact H8
    isplitl [H9]; · iapply held_of; iexact H9
    isplitl [H10]; · iapply held_of; iexact H10
    isplitl [H11]; · iexact H11
    iexact H12
  · iexact Hg

/-! ## The run of the program -/

set_option backward.isDefEq.respectTransparency.types false in
/-- From any memory whose page table and lengths are in range, with every counter at zero, every execution of the program
    ends, its arguments as they began and its result array as the operation after the region leaves it. -/
theorem run_value (h : InRange m) :
    θ_run defs (onTc (τ := τ) (main (F := Ideal))) (s₀ m ρ)
      (Pipeline.FramePost cfgs (datsV m) 0 (Pipeline.afterTail₀ cfgs (datsV m) 0 (V0 m) [hostOps1])) :=
  Pipeline.θ_run_frame_around_track cfgs (datsV m) (0 : Fin 1) launch0 defs₀ 𝒱₀ m ρ main
    (hbody := fun c => (body_obligationV m h c).loose) (hshare := fun c => (datsV m 0 c).share_full fun _ => rfl)
    (howed := fun _ _ => rfl) (V₀ := V0 m) (opss := [hostOps1]) (hsub := sfx_sub) (hfresh := sfx_fresh) (hkeep := sfx_keeps)
    (hmain := hmain m 𝒱₀) (hA := A_eqV m) (hin := in_V m) (hout := out_V m)

/-- The output window's array ends as the result. -/
theorem final_6 (c : Dev nD) : (datsV m 0 c).arrAt 6 cfg0.N = outOf m c := by
  refine (datsV m 0 c).arrAt_eq_of_after_last 6 (⟨29, by decide⟩ : Fin grid0.N) (by decide +kernel) _ fun j => ?_
  blk_simp
  exact congrArg (outOf m c) (funext fun a => rfl)

end Cert.KernelIdeal.Hand

end
-- ==== Proof.RefValue.lean ====
/-
  The reference's result at an index, at the ideal floats.
-/
module

public import proofs.«01_k».proof.Proof.Gen.ReferenceIdeal.Frame
public import Idealize.ShloMosaic.Lib.Pipeline.ValueKit
public import Idealize.ShloMosaic.Lib.Claim
public import Idealize.ShloMosaic.Lib.Pointwise
public import Idealize.ShloMosaic.Lib.WordCmp
public import Idealize.ShloMosaic.Lib.StableHlo.ReadAt
public import Idealize.ShloMosaic.Lib.Tactic.WordOmega

@[expose] public section

noncomputable section

namespace Cert.ReferenceIdeal.Hand

open Cert.ReferenceIdeal Cert.ReferenceIdeal.Gen
open Idealize.ShloMosaic Idealize.ShloMosaic.TcCoe Idealize.SL.Sem

/-! ## The gathers -/

/-- The gather of pages out of a table of bounds, at an index: the table's row the index word names, clamped. -/
theorem gather3_apply (x : S15360x16x128.Idx → EReal) (i : IVec S6x2048x1 32) (b : Fin 6) (p : Fin 2048) (g : Fin 16) (k : Fin 128) (P : Fin 15360)
    (hP : min (i (ix3 b p 0)).toInt.toNat 15359 = P.val) :
    Host.gather gather_S15360x16x128_S6x2048x1_S6x2048x16x128_23_0_n_n_0_2_116128 x i (ix4 b p g k) = x (ix3 P g k) := by
  unfold Host.gather
  refine congrArg x (funext fun a => Fin.ext ?_)
  show GatherDims.start _ _ i a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl : (⟨0, _⟩ : Fin _) ∈ GatherDims.startIndexMap _)).trans (Eq.trans ?_ hP)
    refine congrArg (fun z => min (i z).toInt.toNat 15359) (funext fun d => Fin.ext ?_)
    match d with
    | ⟨0, _⟩ => rfl
    | ⟨1, _⟩ => rfl
    | ⟨2, _⟩ => rfl
  | ⟨1, h1⟩ =>
    have hn : (⟨1, h1⟩ : Fin 3) ∉ gather_S15360x16x128_S6x2048x1_S6x2048x16x128_23_0_n_n_0_2_116128.startIndexMap := by
      show (1 : Fin 3) ∉ [(0 : Fin 3)]
      decide
    unfold GatherDims.start
    rw [dif_neg hn, Nat.zero_add]
    rfl
  | ⟨2, h2⟩ =>
    have hn : (⟨2, h2⟩ : Fin 3) ∉ gather_S15360x16x128_S6x2048x1_S6x2048x16x128_23_0_n_n_0_2_116128.startIndexMap := by
      show (2 : Fin 3) ∉ [(0 : Fin 3)]
      decide
    unfold GatherDims.start
    rw [dif_neg hn, Nat.zero_add]
    rfl

/-- The gather of pages out of the table of scales, at an index. -/
theorem gather2_apply (x : S15360x16.Idx → EReal) (i : IVec S6x2048x1 32) (b : Fin 6) (p : Fin 2048) (g : Fin 16) (P : Fin 15360)
    (hP : min (i (ix3 b p 0)).toInt.toNat 15359 = P.val) :
    Host.gather gather_S15360x16_S6x2048x1_S6x2048x16_2_0_n_n_0_2_116 x i (ix3 b p g) = x (ix2 P g) := by
  unfold Host.gather
  refine congrArg x (funext fun a => Fin.ext ?_)
  show GatherDims.start _ _ i a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl : (⟨0, _⟩ : Fin _) ∈ GatherDims.startIndexMap _)).trans (Eq.trans ?_ hP)
    refine congrArg (fun z => min (i z).toInt.toNat 15359) (funext fun d => Fin.ext ?_)
    match d with
    | ⟨0, _⟩ => rfl
    | ⟨1, _⟩ => rfl
    | ⟨2, _⟩ => rfl
  | ⟨1, h1⟩ =>
    have hn : (⟨1, h1⟩ : Fin 2) ∉ gather_S15360x16_S6x2048x1_S6x2048x16_2_0_n_n_0_2_116.startIndexMap := by
      show (1 : Fin 2) ∉ [(0 : Fin 2)]
      decide
    unfold GatherDims.start
    rw [dif_neg hn, Nat.zero_add]
    rfl

/-- A page number is not negative, so the reference leaves it as it is, and it is below the bound of the clamp. -/
theorem wrapped (w : BitVec 32) (hw : w.toNat < 15360) :
    min (Scalar.select (IntOp.cmpi .slt w 0#32) (IntOp.addi w 15360#32) w).toInt.toNat 15359 = w.toNat := by
  have e : Scalar.select (IntOp.cmpi .slt w 0#32) (IntOp.addi w 15360#32) w = w := by
    rw [WordCmp.cmpi_slt_eq, WordCmp.select_ofBool, if_neg]
    simp only [BitVec.toInt, BitVec.toNat_ofNat]
    simp
    omega
  rw [e, BitVec.toInt_eq_toNat_of_lt (by omega)]
  omega

/-- The index words the gathers read, from the page table. -/
def idxV (pt : IVec S6x2048 32) : IVec S6x2048x1 32 :=
  broadcastInDim S6x2048x1 ![0, 1] bcast_S6x2048_S6x2048x1_0_1
    (select (cmpi .slt pt (broadcastInDim S6x2048 ![] bcast_S_S6x2048 (constantI S_ 32 0#32)))
      (addi pt (broadcastInDim S6x2048 ![] bcast_S_S6x2048 (constantI S_ 32 15360#32))) pt)

/-- The index words name the page table's pages. -/
theorem idxV_apply (pt : IVec S6x2048 32) (b : Fin 6) (p : Fin 2048) (hw : (pt (ix2 b p)).toNat < 15360) :
    min (idxV pt (ix3 b p 0)).toInt.toNat 15359 = (pt (ix2 b p)).toNat := by
  have e : idxV pt (ix3 b p 0) = Scalar.select (IntOp.cmpi .slt (pt (ix2 b p)) 0#32) (IntOp.addi (pt (ix2 b p)) 15360#32) (pt (ix2 b p)) := by
    unfold idxV
    pointwise
  rw [e]
  exact wrapped _ hw

/-! ## The widened bounds -/

variable (m : (ℓ : Loc nD τ sig) → Buf (Elt Ideal) ℓ)

/-- Every window's block index at the one point. -/
theorem idx : ∀ t : Fin cfg0.N, win0_0.index t = ![0, 0, 0] ∧ win0_1.index t = ![0, 0, 0] ∧ win0_2.index t = ![0, 0, 0] ∧ win0_3.index t = ![0, 0, 0] :=
  (by decide +kernel : ∀ t : Fin grid0.N, _)

/-- The first input's block is its whole array. -/
theorem iblk_0 (c : Dev nD) : iblk m c 0 t0_0 = m ((c : Thread nD τ).loc main_arg1) := by
  blk_ext! [iblk, V, idx t0_0]

/-- The second input's block is its whole array. -/
theorem iblk_1 (c : Dev nD) : iblk m c 1 t0_0 = m ((c : Thread nD τ).loc main_arg2) := by
  blk_ext! [iblk, V, idx t0_0]

/-- The lower bounds widened are the lower bounds. -/
theorem final_2 (c : Dev nD) : (dats m 0 c).arrAt 2 cfg0.N = (m ((c : Thread nD τ).loc main_arg1) : S15360x16x128.Idx → EReal) := by
  refine (dats m 0 c).arrAt_eq_of_after_last 2 t0_0 (by decide +kernel) _ fun j => ?_
  blk_simp
  rw [after0_2]
  unfold out0_2
  frame_out
  rw [iblk_0]
  rfl

/-- The upper bounds widened are the upper bounds. -/
theorem final_3 (c : Dev nD) : (dats m 0 c).arrAt 3 cfg0.N = (m ((c : Thread nD τ).loc main_arg2) : S15360x16x128.Idx → EReal) := by
  refine (dats m 0 c).arrAt_eq_of_after_last 3 t0_0 (by decide +kernel) _ fun j => ?_
  blk_simp
  rw [after0_3]
  unfold out0_3
  frame_out
  rw [iblk_1]
  rfl

/-! ## The result -/

/-- A page's first position is inside the length exactly when the words say so. -/
theorem inside (p : Fin 2048) : (IntOp.muli (BitVec.ofNat 32 p.val) 64#32).toInt = 64 * p.val := by
  have h : (IntOp.muli (BitVec.ofNat 32 p.val) 64#32).toNat = 64 * p.val := by
    show (BitVec.ofNat 32 p.val * 64#32).toNat = _
    rw [BitVec.toNat_mul, BitVec.toNat_ofNat, BitVec.toNat_ofNat]
    omega
  rw [BitVec.toInt_eq_toNat_of_lt (by omega), h]
  omega

/-- The reference's masked bound at one sequence, page and head, from the gathers. -/
theorem masked_apply (q : S6x32x128.Idx → EReal) (lo hi : S15360x16x128.Idx → EReal) (sc : S15360x16.Idx → EReal)
    (pt : IVec S6x2048 32) (len : BitVec 32) (b : Fin 6) (p : Fin 2048) (h h' : Fin 32) (g : Fin 16) (P : Fin 15360)
    (hP : P.val = (pt (ix2 b p)).toNat) (hh : h' = h) :
    Scalar.select (IntOp.cmpi .slt (IntOp.muli (BitVec.ofNat 32 p.val) 64#32) len)
      ((∑ k : Fin 128, Host.gather gather_S15360x16x128_S6x2048x1_S6x2048x16x128_23_0_n_n_0_2_116128 hi (idxV pt) (ix4 b p g k) * max (q (ix3 b h' k)) 0
          + ∑ k : Fin 128, Host.gather gather_S15360x16x128_S6x2048x1_S6x2048x16x128_23_0_n_n_0_2_116128 lo (idxV pt) (ix4 b p g k) * min (q (ix3 b h' k)) 0)
        * Host.gather gather_S15360x16_S6x2048x1_S6x2048x16_2_0_n_n_0_2_116 sc (idxV pt) (ix3 b p g))
      (id (constant (F := Ideal) S_ .f32 0#32) ix0)
      = if (64 * p.val : Int) < len.toInt then
          ((∑ k : Fin 128, max (q (ix3 b h k)) 0 * hi (ix3 P g k)) + ∑ k : Fin 128, min (q (ix3 b h k)) 0 * lo (ix3 P g k)) * sc (ix2 P g)
        else 0 := by
  subst hh
  have hi' := idxV_apply pt b p (hP ▸ P.isLt)
  rw [← hP] at hi'
  have hz : (id (constant (F := Ideal) S_ .f32 0#32) ix0 : EReal) = 0 := by
    show (constant (F := Ideal) S_ .f32 0#32 ix0 : EReal) = 0
    pointwise
  rw [hz, WordCmp.cmpi_slt_eq, WordCmp.select_ofBool, inside, gather2_apply sc _ b p g P hi']
  simp only [decide_eq_true_eq, gather3_apply _ _ b p g _ P hi', mul_comm (hi _), mul_comm (lo _)]

/-- The bound of one head of one sequence against one page, zero when the page starts past the sequence's length. -/
def maskedV (q : S6x32x128.Idx → EReal) (lo hi : S15360x16x128.Idx → EReal) (sc : S15360x16.Idx → EReal) (len : IVec S6 32)
    (b : Fin 6) (p : Fin 2048) (h : Fin 32) (P : Fin 15360) : EReal :=
  if (64 * p.val : Int) < (len (ix1 b)).toInt then
    ((∑ k : Fin 128, max (q (ix3 b h k)) 0 * hi (ix3 P ⟨h.val / 2, by omega⟩ k)) + ∑ k : Fin 128, min (q (ix3 b h k)) 0 * lo (ix3 P ⟨h.val / 2, by omega⟩ k))
      * sc (ix2 P ⟨h.val / 2, by omega⟩)
  else 0

/-- The result of the operations after the region, at an index, from any buffers. -/
theorem tail_apply (W : Valuation τ sig (Elt Ideal)) (q : S6x32x128.Idx → EReal) (lo hi : S15360x16x128.Idx → EReal) (sc : S15360x16.Idx → EReal)
    (pt : IVec S6x2048 32) (len : IVec S6 32)
    (h0 : W (Proc.devRef .tc main_arg0) = q) (h1 : W (Proc.devRef .tc main_v0_0) = lo) (h2 : W (Proc.devRef .tc main_v0_1) = hi)
    (h3 : W (Proc.devRef .tc main_arg3) = sc) (h4 : W (Proc.devRef .tc main_arg4) = pt) (h5 : W (Proc.devRef .tc main_arg5) = len)
    (b : Fin 6) (p : Fin 2048) (h : Fin 32) (P : Fin 15360) (hP : P.val = (pt (ix2 b p)).toNat) :
    (StableHlo.after (List.flatten [hostOps1, hostOps1_1]) W (Proc.devRef .tc main_v45) : S6x2048x32.Idx → EReal) (ix3 b p h)
      = maskedV q lo hi sc len b p h P := by
  subst h0 h1 h2 h3 h4 h5
  simp only [hostOps1, hostOps1_1, List.flatten_cons, List.flatten_nil, List.append_nil, List.cons_append, List.nil_append]
  after_reads_at
  exact masked_apply _ _ _ _ _ _ b p h _ _ P hP (Fin.ext (by show h.val / 2 * 2 + h.val % 2 = h.val; omega))

/-- The reference's result at one sequence, page and head. -/
theorem out_apply (c : Dev nD) (b : Fin 6) (p : Fin 2048) (h : Fin 32) (P : Fin 15360)
    (hP : P.val = ((m ((c : Thread nD τ).loc main_arg4) : IVec S6x2048 32) (ix2 b p)).toNat) :
    (Pipeline.afterTail₀ cfgs (dats m) 0 (V0 m) [hostOps1, hostOps1_1] c main_v45 : S6x2048x32.Idx → EReal) (ix3 b p h)
      = maskedV (m ((c : Thread nD τ).loc main_arg0)) (m ((c : Thread nD τ).loc main_arg1)) (m ((c : Thread nD τ).loc main_arg2))
          (m ((c : Thread nD τ).loc main_arg3)) (m ((c : Thread nD τ).loc main_arg5)) b p h P := by
  unfold Pipeline.afterTail₀
  refine tail_apply _ _ _ _ _ _ _ ?_ ?_ ?_ ?_ ?_ ?_ b p h P hP
  · exact Pipeline.withArrays_of_ne _ c (V0 m c) _ main_arg0 (by exact (by decide : ∀ w, Pipeline.arrRef spec0 w ≠ main_arg0))
  · exact (Pipeline.withArrays_arr spec0 winFacts0.arr_inj c (V0 m c) _ 2).trans (final_2 m c)
  · exact (Pipeline.withArrays_arr spec0 winFacts0.arr_inj c (V0 m c) _ 3).trans (final_3 m c)
  · exact Pipeline.withArrays_of_ne _ c (V0 m c) _ main_arg3 (by exact (by decide : ∀ w, Pipeline.arrRef spec0 w ≠ main_arg3))
  · exact Pipeline.withArrays_of_ne _ c (V0 m c) _ main_arg4 (by exact (by decide : ∀ w, Pipeline.arrRef spec0 w ≠ main_arg4))
  · exact Pipeline.withArrays_of_ne _ c (V0 m c) _ main_arg5 (by exact (by decide : ∀ w, Pipeline.arrRef spec0 w ≠ main_arg5))

end Cert.ReferenceIdeal.Hand

end
-- ==== Proof.Algebraic.lean ====
/-
  At the ideal floats the kernel and the reference compute the same result.
-/
module

public import proofs.«01_k».proof.Proof.KernelIdeal.ValueRun
public import proofs.«01_k».proof.Proof.RefValue
public import proofs.«01_k».proof.Proof.Gen.Pre_in_range
public import proofs.«01_k».proof.Proof.Hyps
public import proofs.«01_k».proof.Defs
public import Idealize.ShloMosaic.Lib.Claim
public import Idealize.ShloMosaic.Lib.StableHlo.ReadAt

@[expose] public section

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The kernel's result is the region's output with its last two axes exchanged. -/
theorem out_apply (c : Dev nD) (b : Fin 6) (p : Fin 2048) (h : Fin 32) :
    (Pipeline.afterTail₀ cfgs (datsV m) 0 (V0 m) [hostOps1] c main_v2 : S6x2048x32.Idx → EReal) (ix3 b p h) = outOf m c (ix3 b h p) := by
  unfold Pipeline.afterTail₀
  simp only [hostOps1, List.flatten_cons, List.flatten_nil, List.append_nil, List.cons_append, List.nil_append]
  after_reads_at
  exact congrFun ((Pipeline.withArrays_arr spec0 winFacts0.arr_inj c (V0 m c) _ 6).trans (final_6 m c)) (ix3 b h p)

/-- The kernel's result at one sequence, page and head. -/
theorem out_masked (c : Dev nD) (b : Fin 6) (p : Fin 2048) (h : Fin 32) :
    (Pipeline.afterTail₀ cfgs (datsV m) 0 (V0 m) [hostOps1] c main_v2 : S6x2048x32.Idx → EReal) (ix3 b p h)
      = Cert.ReferenceIdeal.Hand.maskedV (m ((c : Thread nD τ).loc main_arg0)) (m ((c : Thread nD τ).loc main_arg1)) (m ((c : Thread nD τ).loc main_arg2))
          (m ((c : Thread nD τ).loc main_arg3)) (m ((c : Thread nD τ).loc main_arg5)) b p h (pageOf m c b p) :=
  (out_apply m c b p h).trans rfl

end Cert.KernelIdeal.Hand

namespace Cert.Algebraic

open Idealize.ShloMosaic Idealize.ShloMosaic.TcCoe Idealize.SL.Sem

/-- The masked bound depends on the arrays only. -/
theorem maskedV_congr {q q' : Cert.ReferenceIdeal.S6x32x128.Idx → EReal} {lo lo' hi hi' : Cert.ReferenceIdeal.S15360x16x128.Idx → EReal}
    {sc sc' : Cert.ReferenceIdeal.S15360x16.Idx → EReal} {len len' : IVec Cert.ReferenceIdeal.S6 32}
    (h0 : q = q') (h1 : lo = lo') (h2 : hi = hi') (h3 : sc = sc') (h5 : len = len') (b : Fin 6) (p : Fin 2048) (h : Fin 32) (P : Fin 15360) :
    Cert.ReferenceIdeal.Hand.maskedV q lo hi sc len b p h P = Cert.ReferenceIdeal.Hand.maskedV q' lo' hi' sc' len' b p h P := by
  subst h0 h1 h2 h3 h5
  rfl

/-- From memories that agree on the arguments, with the page table and the lengths in range, the kernel and the reference both run to the end and
    leave the same result. -/
theorem algebraic : Cert.algebraic_KernelIdeal_ReferenceIdeal := by
  pair_intro
  · run_from Cert.KernelIdeal.Hand.run_value m g ⟨fun c => (Cert.Hyps.of_pre (hpre c)).1, fun c => (Cert.Hyps.of_pre (hpre c)).2⟩
    exact Cert.KernelIdeal.Gen.W_main_arg3 m _ c
  · run_from Cert.ReferenceIdeal.Gen.run_main m' g'
    · obtain ⟨a0, a1, a2, a3, a4, a5⟩ := hagree c
      refine funext fun (x : Cert.ReferenceIdeal.S6x2048x32.Idx) => ?_
      rw [show x = ix3 (x 0) (x 1) (x 2) from eq_ix3 x]
      have hP : (Cert.KernelIdeal.Hand.pageOf m c (x 0) (x 1)).val
          = BitVec.toNat (m' ((c : Thread Cert.ReferenceIdeal.nD Cert.ReferenceIdeal.τ).loc Cert.ReferenceIdeal.main_arg4) (ix2 (x 0) (x 1))) :=
        (Cert.KernelIdeal.Hand.pageOf_val m ⟨fun c => (Cert.Hyps.of_pre (hpre c)).1, fun c => (Cert.Hyps.of_pre (hpre c)).2⟩ c (x 0) (x 1)).trans
          (congrArg (fun z : IVec Cert.ReferenceIdeal.S6x2048 32 => (z (ix2 (x 0) (x 1))).toNat) a4.symm)
      exact ((Cert.ReferenceIdeal.Hand.out_apply m' c (x 0) (x 1) (x 2) _ hP).trans (maskedV_congr a0 a1 a2 a3 a5 _ _ _ _)).trans
        (Cert.KernelIdeal.Hand.out_masked m c (x 0) (x 1) (x 2)).symm
    · exact (Cert.ReferenceIdeal.Gen.W_main_arg0 m' _ c).trans (hagree c).1
    · exact (Cert.ReferenceIdeal.Gen.W_main_arg3 m' _ c).trans (hagree c).2.2.2.1
    · exact (Cert.ReferenceIdeal.Gen.W_main_arg4 m' _ c).trans (hagree c).2.2.2.2.1
    · exact (Cert.ReferenceIdeal.Gen.W_main_arg5 m' _ c).trans (hagree c).2.2.2.2.2

end Cert.Algebraic

end
-- ==== Proof.lean ====
/-
  The proof of `Cert.Claim`. The frames of the two programs come from one hand-written body obligation
  (`Proof/KernelIdeal/BodyF.lean`), the reference's from the generated frame kit; the equality of the results
  from `Proof/Algebraic.lean`.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range

@[expose] public section

noncomputable section

namespace Cert.Proof

open Idealize.ShloMosaic

/-- The frames of the kernel at both instances and of the reference, and the equality of the kernel's and the reference's results at the ideal
    floats. -/
theorem claim : Cert.Claim :=
  ⟨inferInstance, inferInstance, inferInstance, inferInstance, Cert.Frames.frame_bits, Cert.Frames.frame_ideal,
    fun m g _ => Cert.ReferenceIdeal.Gen.frame m g, fun m g _ => Cert.ReferenceIdeal.Gen.frame m g, trivial, Cert.Algebraic.algebraic⟩

end Cert.Proof

end
